-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_no_readout [hPre_no_readout : Cert.Pre_no_readout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_readout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def Pre_KernelAtIdeal (m : (ℓ : Loc Cert.KernelAtIdeal.nD Cert.KernelAtIdeal.τ Cert.KernelAtIdeal.sig) → Buf (Elt Ideal) ℓ) : Prop :=
  True

def Pre_ReferenceAtIdeal (m : (ℓ : Loc Cert.ReferenceAtIdeal.nD Cert.ReferenceAtIdeal.τ Cert.ReferenceAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_no_readout [hReferenceIdeal : Cert.ReferenceIdeal.Facts] [hPre_no_readout : Cert.Pre_no_readout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_readout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def holds_KernelIdeal_is_zero [hKernelIdeal : Cert.KernelIdeal.Facts] [hPost_is_zero : Cert.Post_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ (Cert.Post_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (r.2.mem ((c.tc : Thread Cert.KernelIdeal.nD Cert.KernelIdeal.τ).loc Cert.KernelIdeal.main_v1))) = (fun _ => 1#1))

def holds_ReferenceIdeal_is_positive_pre_no_readout [hReferenceIdeal : Cert.ReferenceIdeal.Facts] [hPre_no_readout : Cert.Pre_no_readout.Facts] [hPost_is_positive : Cert.Post_is_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_readout m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ (Cert.Post_is_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (r.2.mem ((c.tc : Thread Cert.ReferenceIdeal.nD Cert.ReferenceIdeal.τ).loc Cert.ReferenceIdeal.main_v556))) = (fun _ => 1#1))

def disproves_algebraic_KernelAtIdeal_ReferenceAtIdeal [hKernelAtIdeal : Cert.KernelAtIdeal.Facts] [hReferenceAtIdeal : Cert.ReferenceAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.ReferenceAtIdeal.nD Cert.ReferenceAtIdeal.τ Cert.ReferenceAtIdeal.sig) → Buf (Elt Ideal) ℓ) (g' : Dev Cert.ReferenceAtIdeal.nD → PrngReg),
    (∀ c : Dev Cert.KernelAtIdeal.nD,
      m ((c.tc : Thread Cert.KernelAtIdeal.nD Cert.KernelAtIdeal.τ).loc Cert.KernelAtIdeal.main_arg0) = Cert.Cx_KernelAtIdeal.arg0 (F := Ideal)
      ∧ m ((c.tc : Thread Cert.KernelAtIdeal.nD Cert.KernelAtIdeal.τ).loc Cert.KernelAtIdeal.main_arg1) = Cert.Cx_KernelAtIdeal.arg1 (F := Ideal)
      ∧ m ((c.tc : Thread Cert.KernelAtIdeal.nD Cert.KernelAtIdeal.τ).loc Cert.KernelAtIdeal.main_arg2) = Cert.Cx_KernelAtIdeal.arg2 (F := Ideal)
      ∧ m ((c.tc : Thread Cert.KernelAtIdeal.nD Cert.KernelAtIdeal.τ).loc Cert.KernelAtIdeal.main_arg3) = Cert.Cx_KernelAtIdeal.arg3
      ∧ m ((c.tc : Thread Cert.KernelAtIdeal.nD Cert.KernelAtIdeal.τ).loc Cert.KernelAtIdeal.main_arg4) = Cert.Cx_KernelAtIdeal.arg4 (F := Ideal)
      ∧ m ((c.tc : Thread Cert.KernelAtIdeal.nD Cert.KernelAtIdeal.τ).loc Cert.KernelAtIdeal.main_arg5) = Cert.Cx_KernelAtIdeal.arg5 (F := Ideal)
      ∧ m ((c.tc : Thread Cert.KernelAtIdeal.nD Cert.KernelAtIdeal.τ).loc Cert.KernelAtIdeal.main_arg6) = Cert.Cx_KernelAtIdeal.arg6 (F := Ideal)
      ∧ m ((c.tc : Thread Cert.KernelAtIdeal.nD Cert.KernelAtIdeal.τ).loc Cert.KernelAtIdeal.main_arg7) = Cert.Cx_KernelAtIdeal.arg7 (F := Ideal)
      ∧ m ((c.tc : Thread Cert.KernelAtIdeal.nD Cert.KernelAtIdeal.τ).loc Cert.KernelAtIdeal.main_arg8) = Cert.Cx_KernelAtIdeal.arg8 (F := Ideal)
      ∧ m ((c.tc : Thread Cert.KernelAtIdeal.nD Cert.KernelAtIdeal.τ).loc Cert.KernelAtIdeal.main_arg9) = Cert.Cx_KernelAtIdeal.arg9 (F := Ideal)
      ∧ m ((c.tc : Thread Cert.KernelAtIdeal.nD Cert.KernelAtIdeal.τ).loc Cert.KernelAtIdeal.main_arg10) = Cert.Cx_KernelAtIdeal.arg10 (F := Ideal)
      ∧ m ((c.tc : Thread Cert.KernelAtIdeal.nD Cert.KernelAtIdeal.τ).loc Cert.KernelAtIdeal.main_arg11) = Cert.Cx_KernelAtIdeal.arg11 (F := Ideal)
      ∧ m ((c.tc : Thread Cert.KernelAtIdeal.nD Cert.KernelAtIdeal.τ).loc Cert.KernelAtIdeal.main_arg12) = Cert.Cx_KernelAtIdeal.arg12 (F := Ideal)
      ∧ m ((c.tc : Thread Cert.KernelAtIdeal.nD Cert.KernelAtIdeal.τ).loc Cert.KernelAtIdeal.main_arg13) = Cert.Cx_KernelAtIdeal.arg13 (F := Ideal)
      ∧ m ((c.tc : Thread Cert.KernelAtIdeal.nD Cert.KernelAtIdeal.τ).loc Cert.KernelAtIdeal.main_arg14) = Cert.Cx_KernelAtIdeal.arg14 (F := Ideal)
      ∧ m ((c.tc : Thread Cert.KernelAtIdeal.nD Cert.KernelAtIdeal.τ).loc Cert.KernelAtIdeal.main_arg15) = Cert.Cx_KernelAtIdeal.arg15 (F := Ideal)
      ∧ m ((c.tc : Thread Cert.KernelAtIdeal.nD Cert.KernelAtIdeal.τ).loc Cert.KernelAtIdeal.main_arg16) = Cert.Cx_KernelAtIdeal.arg16 (F := Ideal)) →
    (∀ c : Dev Cert.KernelAtIdeal.nD,
      m' ((c.tc : Thread Cert.ReferenceAtIdeal.nD Cert.ReferenceAtIdeal.τ).loc Cert.ReferenceAtIdeal.main_arg0) = m ((c.tc : Thread Cert.KernelAtIdeal.nD Cert.KernelAtIdeal.τ).loc Cert.KernelAtIdeal.main_arg0)
      ∧ m' ((c.tc : Thread Cert.ReferenceAtIdeal.nD Cert.ReferenceAtIdeal.τ).loc Cert.ReferenceAtIdeal.main_arg1) = m ((c.tc : Thread Cert.KernelAtIdeal.nD Cert.KernelAtIdeal.τ).loc Cert.KernelAtIdeal.main_arg1)
      ∧ m' ((c.tc : Thread Cert.ReferenceAtIdeal.nD Cert.ReferenceAtIdeal.τ).loc Cert.ReferenceAtIdeal.main_arg2) = m ((c.tc : Thread Cert.KernelAtIdeal.nD Cert.KernelAtIdeal.τ).loc Cert.KernelAtIdeal.main_arg2)
      ∧ m' ((c.tc : Thread Cert.ReferenceAtIdeal.nD Cert.ReferenceAtIdeal.τ).loc Cert.ReferenceAtIdeal.main_arg3) = m ((c.tc : Thread Cert.KernelAtIdeal.nD Cert.KernelAtIdeal.τ).loc Cert.KernelAtIdeal.main_arg3)
      ∧ m' ((c.tc : Thread Cert.ReferenceAtIdeal.nD Cert.ReferenceAtIdeal.τ).loc Cert.ReferenceAtIdeal.main_arg4) = m ((c.tc : Thread Cert.KernelAtIdeal.nD Cert.KernelAtIdeal.τ).loc Cert.KernelAtIdeal.main_arg4)
      ∧ m' ((c.tc : Thread Cert.ReferenceAtIdeal.nD Cert.ReferenceAtIdeal.τ).loc Cert.ReferenceAtIdeal.main_arg5) = m ((c.tc : Thread Cert.KernelAtIdeal.nD Cert.KernelAtIdeal.τ).loc Cert.KernelAtIdeal.main_arg5)
      ∧ m' ((c.tc : Thread Cert.ReferenceAtIdeal.nD Cert.ReferenceAtIdeal.τ).loc Cert.ReferenceAtIdeal.main_arg6) = m ((c.tc : Thread Cert.KernelAtIdeal.nD Cert.KernelAtIdeal.τ).loc Cert.KernelAtIdeal.main_arg6)
      ∧ m' ((c.tc : Thread Cert.ReferenceAtIdeal.nD Cert.ReferenceAtIdeal.τ).loc Cert.ReferenceAtIdeal.main_arg7) = m ((c.tc : Thread Cert.KernelAtIdeal.nD Cert.KernelAtIdeal.τ).loc Cert.KernelAtIdeal.main_arg7)
      ∧ m' ((c.tc : Thread Cert.ReferenceAtIdeal.nD Cert.ReferenceAtIdeal.τ).loc Cert.ReferenceAtIdeal.main_arg8) = m ((c.tc : Thread Cert.KernelAtIdeal.nD Cert.KernelAtIdeal.τ).loc Cert.KernelAtIdeal.main_arg8)
      ∧ m' ((c.tc : Thread Cert.ReferenceAtIdeal.nD Cert.ReferenceAtIdeal.τ).loc Cert.ReferenceAtIdeal.main_arg9) = m ((c.tc : Thread Cert.KernelAtIdeal.nD Cert.KernelAtIdeal.τ).loc Cert.KernelAtIdeal.main_arg9)
      ∧ m' ((c.tc : Thread Cert.ReferenceAtIdeal.nD Cert.ReferenceAtIdeal.τ).loc Cert.ReferenceAtIdeal.main_arg10) = m ((c.tc : Thread Cert.KernelAtIdeal.nD Cert.KernelAtIdeal.τ).loc Cert.KernelAtIdeal.main_arg10)
      ∧ m' ((c.tc : Thread Cert.ReferenceAtIdeal.nD Cert.ReferenceAtIdeal.τ).loc Cert.ReferenceAtIdeal.main_arg11) = m ((c.tc : Thread Cert.KernelAtIdeal.nD Cert.KernelAtIdeal.τ).loc Cert.KernelAtIdeal.main_arg11)
      ∧ m' ((c.tc : Thread Cert.ReferenceAtIdeal.nD Cert.ReferenceAtIdeal.τ).loc Cert.ReferenceAtIdeal.main_arg12) = m ((c.tc : Thread Cert.KernelAtIdeal.nD Cert.KernelAtIdeal.τ).loc Cert.KernelAtIdeal.main_arg12)
      ∧ m' ((c.tc : Thread Cert.ReferenceAtIdeal.nD Cert.ReferenceAtIdeal.τ).loc Cert.ReferenceAtIdeal.main_arg13) = m ((c.tc : Thread Cert.KernelAtIdeal.nD Cert.KernelAtIdeal.τ).loc Cert.KernelAtIdeal.main_arg13)
      ∧ m' ((c.tc : Thread Cert.ReferenceAtIdeal.nD Cert.ReferenceAtIdeal.τ).loc Cert.ReferenceAtIdeal.main_arg14) = m ((c.tc : Thread Cert.KernelAtIdeal.nD Cert.KernelAtIdeal.τ).loc Cert.KernelAtIdeal.main_arg14)
      ∧ m' ((c.tc : Thread Cert.ReferenceAtIdeal.nD Cert.ReferenceAtIdeal.τ).loc Cert.ReferenceAtIdeal.main_arg15) = m ((c.tc : Thread Cert.KernelAtIdeal.nD Cert.KernelAtIdeal.τ).loc Cert.KernelAtIdeal.main_arg15)
      ∧ m' ((c.tc : Thread Cert.ReferenceAtIdeal.nD Cert.ReferenceAtIdeal.τ).loc Cert.ReferenceAtIdeal.main_arg16) = m ((c.tc : Thread Cert.KernelAtIdeal.nD Cert.KernelAtIdeal.τ).loc Cert.KernelAtIdeal.main_arg16)) →
    Pre_KernelAtIdeal m
    ∧ ∃ (v0 : (c : Dev Cert.KernelAtIdeal.nD) → Buf (Elt Ideal) ((c.tc : Thread Cert.KernelAtIdeal.nD Cert.KernelAtIdeal.τ).loc Cert.KernelAtIdeal.main_v25)),
      θ_run (Cert.KernelAtIdeal.defs (F := Ideal)) (onTc (τ := Cert.KernelAtIdeal.τ) (Cert.KernelAtIdeal.main (F := Ideal))) ⟨m, fun _ => 0, g⟩ (fun r => ¬ (∀ c : Dev Cert.KernelAtIdeal.nD,
          r.2.mem ((c.tc : Thread Cert.KernelAtIdeal.nD Cert.KernelAtIdeal.τ).loc Cert.KernelAtIdeal.main_v25) = v0 c))
      ∧ θ_run (Cert.ReferenceAtIdeal.defs (F := Ideal)) (onTc (τ := Cert.ReferenceAtIdeal.τ) (Cert.ReferenceAtIdeal.main (F := Ideal))) ⟨m', fun _ => 0, g'⟩ (fun r => ∀ c : Dev Cert.ReferenceAtIdeal.nD,
          r.2.mem ((c.tc : Thread Cert.ReferenceAtIdeal.nD Cert.ReferenceAtIdeal.τ).loc Cert.ReferenceAtIdeal.main_v580) = v0 c)

def Claim : Prop :=
  ∃ (hKernel : Cert.Kernel.Facts) (hKernelIdeal : Cert.KernelIdeal.Facts) (hReferenceIdeal : Cert.ReferenceIdeal.Facts) (hKernelAtIdeal : Cert.KernelAtIdeal.Facts) (hReferenceAtIdeal : Cert.ReferenceAtIdeal.Facts) (hPre_no_readout : Cert.Pre_no_readout.Facts) (hPost_is_zero : Cert.Post_is_zero.Facts) (hPost_is_positive : Cert.Post_is_positive.Facts),
    quiescent_Kernel (hKernel := hKernel)
    ∧ quiescent_KernelIdeal (hKernelIdeal := hKernelIdeal)
    ∧ quiescent_ReferenceIdeal (hReferenceIdeal := hReferenceIdeal)
    ∧ quiescent_ReferenceIdeal_pre_no_readout (hReferenceIdeal := hReferenceIdeal) (hPre_no_readout := hPre_no_readout)
    ∧ preserves_Kernel_KernelIdeal
    ∧ holds_KernelIdeal_is_zero (hKernelIdeal := hKernelIdeal) (hPost_is_zero := hPost_is_zero)
    ∧ holds_ReferenceIdeal_is_positive_pre_no_readout (hReferenceIdeal := hReferenceIdeal) (hPre_no_readout := hPre_no_readout) (hPost_is_positive := hPost_is_positive)
    ∧ disproves_algebraic_KernelAtIdeal_ReferenceAtIdeal (hKernelAtIdeal := hKernelAtIdeal) (hReferenceAtIdeal := hReferenceAtIdeal)
-- ==== Cx_KernelAtIdeal.lean ====
noncomputable def arg0_words : Fin 128 → BitVec 32 :=
  ![0x3F57AC3B#32, 0x3E3B97CE#32, 0x3E696BF8#32, 0x3DF90BFF#32, 0x3E453E9D#32, 0x3F38E832#32, 0x3F44039D#32, 0x3E1D11B8#32,
    0x3F73A630#32, 0x3CF8102F#32, 0x3DCC0149#32, 0x3F0DB815#32, 0x3E005495#32, 0x3F184FCA#32, 0x3F75A3D8#32, 0x3F318B71#32,
    0x3F39706F#32, 0x3EA33FCE#32, 0x3F51FBFF#32, 0x3F2431D3#32, 0x3E8706CE#32, 0x3E4573A7#32, 0x3F46AF74#32, 0x3F5B3137#32,
    0x3F517E87#32, 0x3E9FB5FA#32, 0x3F5023FC#32, 0x3F733A1A#32, 0x3BE31DCF#32, 0x3F2BC701#32, 0x3F7727BA#32, 0x3DF851BE#32,
    0x3E8EB805#32, 0x3F7BEF33#32, 0x3F49F55D#32, 0x3ED83993#32, 0x3D2BA544#32, 0x3E537439#32, 0x3C24DDC1#32, 0x3F70972D#32,
    0x3F6B8DD1#32, 0x3F232873#32, 0x3F067F2D#32, 0x3F5FDB7D#32, 0x3ED53A40#32, 0x3EBC4106#32, 0x3F4139C4#32, 0x3EBC5688#32,
    0x3F305F42#32, 0x3F158E6F#32, 0x3D1317AE#32, 0x3F7862E1#32, 0x3F4D1AFD#32, 0x3F744E43#32, 0x3F733F7D#32, 0x3E6241E6#32,
    0x3F62FFAF#32, 0x3E2A8EBB#32, 0x3F5BA902#32, 0x3EDC4991#32, 0x3F4E6B53#32, 0x3F285D95#32, 0x3E89408C#32, 0x3F176D98#32,
    0x3BF5D204#32, 0x3E73CACF#32, 0x3EDA3B97#32, 0x3F7DD0AD#32, 0x3D186732#32, 0x3E1A7FC9#32, 0x3DD38BCB#32, 0x3D8A87C1#32,
    0x3F08CFD9#32, 0x3F76D75D#32, 0x3F664093#32, 0x3F30639F#32, 0x3F33BA63#32, 0x3F4164C9#32, 0x3F4D4FF3#32, 0x3EE62646#32,
    0x3E815178#32, 0x3F6E9375#32, 0x3EDED721#32, 0x3D1B99A0#32, 0x3E8B1E3D#32, 0x3F78787A#32, 0x3EB5E663#32, 0x3F7F150C#32,
    0x3E99FBB2#32, 0x3F6A48CB#32, 0x3E546623#32, 0x3F61540E#32, 0x3F216D1E#32, 0x3F0ECABF#32, 0x3F77D89B#32, 0x3EB0A530#32,
    0x3D9EA0EA#32, 0x3F403DED#32, 0x3EC0D1B3#32, 0x3DD99D0D#32, 0x3B88680D#32, 0x3F22A107#32, 0x3E9C1269#32, 0x3F7C32CB#32,
    0x3E1D920F#32, 0x3F639000#32, 0x3E6FB004#32, 0x3DD607C8#32, 0x3F120EC8#32, 0x3E85A2C1#32, 0x3F4DE655#32, 0x3F47EC47#32,
    0x3ED703D2#32, 0x3F737F98#32, 0x3D416890#32, 0x3F3C271F#32, 0x3F5DF15A#32, 0x3F2CC5C6#32, 0x3F6268D5#32, 0x3EC73E19#32,
    0x3D480EDC#32, 0x3F0357D0#32, 0x3E6A9A9A#32, 0x3F671140#32, 0x3F564B40#32, 0x3ECB32DA#32, 0x3F540555#32, 0x3EBF611D#32]
noncomputable def arg0 {F : FTy → Type} [FloatOps F] : FVec F (⟨1, ![128]⟩ : Shape) .f32 := fun i => FloatOps.ofBits .f32 (arg0_words (i 0))

noncomputable def arg1_words : Fin 10000 → Fin 3 → BitVec 32 :=
  ![
    ![0xC01C5132#32, 0xC0024897#32, 0x3E527A30#32],
    ![0xBEB50488#32, 0xBF4310BB#32, 0xBF96DAC9#32],
    ![0xBF92F8DC#32, 0x3E98261D#32, 0xBFA7BFA4#32],
    ![0x4008553D#32, 0xBE421F41#32, 0x3F76C981#32],
    ![0xBFA68A73#32, 0xBF3FAA66#32, 0xBEBEF9A5#32],
    ![0x3EE2B576#32, 0xBF985BBC#32, 0xBD8DD5E6#32],
    ![0xBF74C046#32, 0xBFFAB8C6#32, 0xBF8D9138#32],
    ![0xBEA4DDDE#32, 0x3FAA4840#32, 0x3F4FEEC1#32],
    ![0xBF945457#32, 0xBF0B11DD#32, 0x3F4ECDF9#32],
    ![0x3FD3CA13#32, 0xBED19110#32, 0x3D5CBA22#32],
    ![0xBF25FCC4#32, 0xBFE24093#32, 0xBE589B60#32],
    ![0x3F6C246D#32, 0xBFA641A5#32, 0xBF370236#32],
    ![0xC019C18A#32, 0xBFD6AB06#32, 0xBEF08E51#32],
    ![0xBFDB83C9#32, 0xBFFE8EB2#32, 0xBFD34ADF#32],
    ![0xBE8C849D#32, 0xBF380E71#32, 0x3EC93E3F#32],
    ![0xBF70EA0C#32, 0x3FF55434#32, 0x3F0E83EF#32],
    ![0xBDA208BC#32, 0x3F445F56#32, 0x3F6A7C65#32],
    ![0xBF90EA1C#32, 0x3F30BD4E#32, 0xBFAFD1DF#32],
    ![0x3E3E745F#32, 0xBFCD5672#32, 0xBEF2CBC5#32],
    ![0x3F000B95#32, 0xBF3FB65F#32, 0x3F77D870#32],
    ![0xBE9E1505#32, 0x3C9C2F4C#32, 0x3F8730BF#32],
    ![0x3F6EFDA5#32, 0x3FDA2C5F#32, 0x3F43B882#32],
    ![0x3FB5AE95#32, 0xBF9073DA#32, 0x3F1C4D35#32],
    ![0x3F258E5C#32, 0xBF9DBC2B#32, 0x3FA29486#32],
    ![0xBB845C11#32, 0xBDD9BE64#32, 0x3C919A6D#32],
    ![0x3F34B333#32, 0x3F1131CC#32, 0xBE560A5E#32],
    ![0xBED3FDF7#32, 0x3F37DE0E#32, 0xBFD0E082#32],
    ![0x3F113126#32, 0xBF77A829#32, 0xBBC79E50#32],
    ![0xBF151E1B#32, 0x3FB32451#32, 0xBFD632D6#32],
    ![0x3F8D0854#32, 0xBF36902C#32, 0x3EBD82EA#32],
    ![0xBF3FC761#32, 0x3DB5CE49#32, 0x3D88DE5F#32],
    ![0x3DB97774#32, 0xBE292DE6#32, 0x3F305A18#32],
    ![0xBF2BA67E#32, 0x3E5437D0#32, 0xBFA6AC3A#32],
    ![0x3F5299F8#32, 0x3F0034BC#32, 0x3F19691C#32],
    ![0xBF7007B5#32, 0x3EC98C52#32, 0xBF6E3F8E#32],
    ![0xBD56FDD6#32, 0x3F1EA9E5#32, 0x3FA8ECE1#32],
    ![0x3F22B5BE#32, 0xBF96AD2C#32, 0xC0058281#32],
    ![0x3EE89E54#32, 0xBF795AB6#32, 0x3BB518F4#32],
    ![0xBF1C4CBF#32, 0xBE38297E#32, 0xBDCCF2D7#32],
    ![0x3FBDE4B1#32, 0xBEA8802E#32, 0xBF9F201B#32],
    ![0xBF0F23AC#32, 0xBDCEB6BE#32, 0x3F931F05#32],
    ![0xBEBCAF5C#32, 0xBF01F6DB#32, 0xBF50F61A#32],
    ![0x3F3A78AB#32, 0x3DF13F41#32, 0xBE09B882#32],
    ![0x3F00509E#32, 0xBF49EB63#32, 0x3FB0F014#32],
    ![0xBFE5515D#32, 0x3EE1931F#32, 0x3D67D084#32],
    ![0x3FB5D0D3#32, 0xBFBBE0ED#32, 0x3F010F83#32],
    ![0xBE44E191#32, 0x3F302D5E#32, 0x3E4516FC#32],
    ![0x3F47FC7A#32, 0x3FAD8545#32, 0x3DD33081#32],
    ![0xBF9E96ED#32, 0xBF3D0FFC#32, 0xBFB8A97F#32],
    ![0x3F670183#32, 0xBE0580AB#32, 0xBD11CF1C#32],
    ![0xBFD2B41F#32, 0xBD963B78#32, 0xBF9ED945#32],
    ![0x3F2C2C0D#32, 0xBE7AEC9A#32, 0xBD418DA4#32],
    ![0xBE95583D#32, 0xBEEE9263#32, 0x3F070BFE#32],
    ![0xBD8EFA00#32, 0x3BFFEA86#32, 0x3F21B252#32],
    ![0xBF6B7762#32, 0x3F0BA956#32, 0x3F1A2E84#32],
    ![0xBF12A2BE#32, 0xC03C9A93#32, 0x3F6BEB6C#32],
    ![0x3F3B68A9#32, 0xBF1DEDB0#32, 0x3EE4A95C#32],
    ![0xBE801CDC#32, 0xBF935C51#32, 0x3E4B064B#32],
    ![0xBEDBC2E9#32, 0x3E0C9D55#32, 0x3FEFF095#32],
    ![0xBFC4CADC#32, 0xBF982249#32, 0x3F28FF27#32],
    ![0xBFB5AC1A#32, 0x3F8BACDB#32, 0x3E089C90#32],
    ![0x3FDBA92B#32, 0x3ECA8F4E#32, 0xBDFAAA7C#32],
    ![0x3F8D88DA#32, 0xBE377A71#32, 0xBF949FAC#32],
    ![0x3DB08BA0#32, 0x3F81C0FD#32, 0x3F3E1110#32],
    ![0x3F87653E#32, 0x3E9DAFB7#32, 0xBF510F62#32],
    ![0xBEE037D5#32, 0x3F1103B6#32, 0xBEE47A90#32],
    ![0x3E9FB0E3#32, 0xBE90B201#32, 0xBF1C0C36#32],
    ![0xBFD06687#32, 0x3FB7F6B3#32, 0xBFB4CF44#32],
    ![0xBF1D8042#32, 0xBC89FE2C#32, 0xBE75680B#32],
    ![0xBFD58526#32, 0xBE89D4F1#32, 0xC0110F78#32],
    ![0xC02BE292#32, 0x4066078F#32, 0x3E64E741#32],
    ![0xBE5191FF#32, 0x3FCD6747#32, 0x3F242B62#32],
    ![0x3E29BA7F#32, 0xBF0F6CD4#32, 0xBF1BC2BC#32],
    ![0xBF47A650#32, 0x3F0425D2#32, 0xBF054AD2#32],
    ![0x3FCDAA50#32, 0x3F70BEEC#32, 0xBDF365EE#32],
    ![0x3D026437#32, 0xC005FB8F#32, 0x3F95AF8B#32],
    ![0xBFF107A6#32, 0x3F7D487D#32, 0x3D0FE359#32],
    ![0x3FD078CC#32, 0xBEBC8DFE#32, 0x3F5C0C3F#32],
    ![0xC010C5FE#32, 0xBF74C8E5#32, 0x3E7471FE#32],
    ![0x3ED0D513#32, 0x3F28B4A4#32, 0xBF9F30F9#32],
    ![0x3F46D74D#32, 0x3F397A2A#32, 0x3D6BCAED#32],
    ![0x3EA62B7F#32, 0xBDA3CE26#32, 0xBF5BA36A#32],
    ![0x3F047189#32, 0x3F2EF5AC#32, 0x3F5BC8BB#32],
    ![0x401EAD69#32, 0xBF760BCA#32, 0xBEA35BBF#32],
    ![0x3E79DC53#32, 0xBECB01A8#32, 0x3EA631C6#32],
    ![0x3F54F48E#32, 0x3DE4781F#32, 0x3F4D5B21#32],
    ![0x3F070067#32, 0xBF4ECC70#32, 0x3E692371#32],
    ![0x3F760AB9#32, 0x3F06E193#32, 0xBF2E585A#32],
    ![0xBF8BB990#32, 0xBF0B37D7#32, 0xBFB0167A#32],
    ![0x3E93D68C#32, 0xBEEDDD0C#32, 0xBFF3199B#32],
    ![0xBF467408#32, 0x3F96A341#32, 0xBF8F5494#32],
    ![0xBA89DAD3#32, 0xBF8BEC19#32, 0xBFEEA3C8#32],
    ![0xBF84F52C#32, 0x3DEEC9B1#32, 0xBFCA2418#32],
    ![0xBF503BBF#32, 0xBEED6D61#32, 0x3FC16C06#32],
    ![0x3FA3F33D#32, 0xBF8E159F#32, 0x3FFDFCDD#32],
    ![0xBF933EFD#32, 0xBEC8098A#32, 0xBEF8168F#32],
    ![0xBF850FE8#32, 0xBD861785#32, 0xBE751784#32],
    ![0xBF491171#32, 0xBF2602BC#32, 0xBE2517F3#32],
    ![0xBE748779#32, 0x3F1B4A6B#32, 0x3FE961AD#32],
    ![0x3FB504C4#32, 0x3EE83DD0#32, 0xBF4B5D40#32],
    ![0xBE4F0B1F#32, 0xBEDCE239#32, 0x3DAC0BBD#32],
    ![0x3F06C0C2#32, 0x3F511B6D#32, 0xBF00EA4E#32],
    ![0xBDE0450B#32, 0xBC32C058#32, 0xBF8CCFA7#32],
    ![0xBFCD39F6#32, 0xBFEA01E4#32, 0xBF4994B4#32],
    ![0xBF2D7876#32, 0x3E000361#32, 0x3F1745E9#32],
    ![0xBE4A1FCE#32, 0x3F05E806#32, 0xBF315551#32],
    ![0xBF0CA490#32, 0xBFFAF1D1#32, 0xBEC9B0BE#32],
    ![0x3FE95290#32, 0x3E2DD533#32, 0x3E425096#32],
    ![0x3C20E865#32, 0x3ED876E4#32, 0x3F54F735#32],
    ![0xBF0EDB6A#32, 0x3FE15B1B#32, 0x3EEF6D6F#32],
    ![0xBEDF2FA8#32, 0x3E4C9D11#32, 0xBE22BC66#32],
    ![0xBF5E1A12#32, 0xBF4591F3#32, 0x3FC26AC1#32],
    ![0xC02C70E1#32, 0x3F8A813A#32, 0x3FEE24F3#32],
    ![0xBF09F16F#32, 0xBFCDC157#32, 0x3EA1AE09#32],
    ![0xBFA9D867#32, 0x3E7E2EF6#32, 0x3E4AEB4A#32],
    ![0x3F9A2C30#32, 0x402719F9#32, 0x3EA962D8#32],
    ![0x3F62A0DF#32, 0x3C82F7BC#32, 0xBED63F5E#32],
    ![0xBF9B6F97#32, 0x3FFD37BF#32, 0xBFB2C9A4#32],
    ![0x3E8CBD7E#32, 0x3F12B721#32, 0x3EBF1CF0#32],
    ![0x3F7C9875#32, 0x3F901BF6#32, 0xBF685086#32],
    ![0xBF2A2C54#32, 0x3CB0F454#32, 0xBED7DBD5#32],
    ![0x3FE5ACA5#32, 0xBFAABBA9#32, 0xBFCDCAC1#32],
    ![0xC003DABA#32, 0x3E8F5507#32, 0xBDAEC701#32],
    ![0xBEB9BB49#32, 0x3F6A8952#32, 0xBFB97449#32],
    ![0x3F366B1F#32, 0x3E7F9086#32, 0x3F93B10F#32],
    ![0x3FD99AF1#32, 0xBFA894EE#32, 0xBE808A39#32],
    ![0x3FC0AB02#32, 0x3EDBCDEF#32, 0x3F5A1E3E#32],
    ![0x3E66AEE4#32, 0x3DEFAAF1#32, 0x3ED5A64B#32],
    ![0x3E1DED04#32, 0xBFACD035#32, 0xBFA580DD#32],
    ![0x401C220D#32, 0x3F89E47A#32, 0xBE45CA6D#32],
    ![0x4022FE00#32, 0x3F5BEB87#32, 0xBFD3A7A4#32],
    ![0x3F8F0983#32, 0x3EF8D6AF#32, 0x3ED3EC05#32],
    ![0xBF827785#32, 0xBED4E53D#32, 0xB8A7C994#32],
    ![0xBEDA7DD2#32, 0xBFD8032B#32, 0x3E5F5C14#32],
    ![0x3F9E6CBC#32, 0xBFD071E1#32, 0x3F0F5125#32],
    ![0xBF86CC4B#32, 0xBE905661#32, 0x3E1161AE#32],
    ![0x3F408589#32, 0xBE8BEA0F#32, 0xBEE23E03#32],
    ![0xBFC4CD94#32, 0x3EED6F5D#32, 0xBF3C7DB1#32],
    ![0x3EC07152#32, 0xBFFE06B8#32, 0xBFF0AE76#32],
    ![0xBD00A7DA#32, 0xBF2E2301#32, 0xBF3379A1#32],
    ![0xC015E750#32, 0xBAE5E526#32, 0x3DCC2BC1#32],
    ![0x3D9F1D1C#32, 0x3F813BDE#32, 0x3F4340B7#32],
    ![0x3EB7CC77#32, 0xBD8B1573#32, 0x3EFDDC10#32],
    ![0x3F82D605#32, 0xBEF15D92#32, 0x3FE002EE#32],
    ![0x3FA96355#32, 0xBF6077F3#32, 0x3FB0E7E1#32],
    ![0xBFE087D5#32, 0xBF0D32CC#32, 0xBE51767B#32],
    ![0xBFD70291#32, 0x3FC1E122#32, 0xBE2FC50C#32],
    ![0xBF562683#32, 0xBFBA5BA9#32, 0x3E42EC85#32],
    ![0x3F8EFD66#32, 0xBF1B039A#32, 0x3F86E328#32],
    ![0xBDF5E6DB#32, 0x3EC9F151#32, 0xBFA98DBB#32],
    ![0x3FB09A60#32, 0xBF7CC10C#32, 0xBFA22A4C#32],
    ![0xBFB0F3C1#32, 0x3F74F86A#32, 0x4012BCE1#32],
    ![0xBFC88CEB#32, 0x3E9D6077#32, 0x3F13F8BE#32],
    ![0x3FA53012#32, 0xBEB4B5B3#32, 0x3EBD173A#32],
    ![0x3FA4E78E#32, 0xBFAE3D10#32, 0x3E4526F3#32],
    ![0x3F34CB33#32, 0xBF5AADE3#32, 0x3F5019E1#32],
    ![0x3EA398CE#32, 0xBF9C9684#32, 0xBF417D63#32],
    ![0xBEDAD635#32, 0xBFB3F195#32, 0xBF35E5D2#32],
    ![0xC02E0319#32, 0xC01B8D14#32, 0x3F43A8BE#32],
    ![0x3ED32756#32, 0xBF8F22F2#32, 0xBF5B2033#32],
    ![0x3F944719#32, 0x3ED1D773#32, 0xBEFF4CE9#32],
    ![0x3EFF57E5#32, 0xBFF1C0AA#32, 0xBF54A1FE#32],
    ![0xBF4075E1#32, 0xBFA73A2B#32, 0xBF3F6C65#32],
    ![0xBFF5DFAE#32, 0x3F3BA7FF#32, 0xBEFD35F5#32],
    ![0xBD19F0B1#32, 0xBF58146C#32, 0x3F4C4E17#32],
    ![0xBF829DDA#32, 0x3D97C445#32, 0x3FAAF520#32],
    ![0xBF893510#32, 0x3E035E6A#32, 0x3F436C3C#32],
    ![0xBFBA960E#32, 0xBE0A721C#32, 0xBF91C882#32],
    ![0xBFEB4999#32, 0x3F7E0005#32, 0x3EACC1C1#32],
    ![0x4001E0DD#32, 0x3DCF8C5A#32, 0x3F8C1687#32],
    ![0xBE2907B4#32, 0xBE155A86#32, 0xBD59D112#32],
    ![0x4000A622#32, 0x3F39E60E#32, 0x402E1137#32],
    ![0x3F6AF286#32, 0x3E88A657#32, 0xBF0F322B#32],
    ![0x3EFCB0CC#32, 0xBD2EC06F#32, 0x3E42B53E#32],
    ![0xBFBB73AC#32, 0x3F4D0506#32, 0xBEC9CD45#32],
    ![0x3F9E80C6#32, 0xBF933DD9#32, 0x3E5A7C9D#32],
    ![0xBF782A7C#32, 0xBFBCE5F3#32, 0xBF704B06#32],
    ![0xBF5666B9#32, 0x3F14F49D#32, 0x3E146A8A#32],
    ![0x4007F94C#32, 0x3FC631DB#32, 0x3F898E14#32],
    ![0xBF9D7D4F#32, 0xBF263B33#32, 0xBF29C335#32],
    ![0x3EE12058#32, 0x3F2AC795#32, 0x3F2447B8#32],
    ![0xBFA3EDCD#32, 0x3FE238B6#32, 0x3DF482CC#32],
    ![0x3F49D591#32, 0xBEE8D077#32, 0xBE8B9670#32],
    ![0xBF8C555F#32, 0x3F027353#32, 0x3FB247FA#32],
    ![0x3EE1D125#32, 0xBF08A505#32, 0xBEB6C027#32],
    ![0xBEF4F5C6#32, 0xBF0E0D20#32, 0xBE979D5A#32],
    ![0xBEBBD65F#32, 0xBFD8EA29#32, 0x3F8BA9FF#32],
    ![0x3F8068F8#32, 0xBFB99471#32, 0x3F6FF7AD#32],
    ![0x3E71282B#32, 0x3F93FEE2#32, 0x3D0B92D4#32],
    ![0xBE238717#32, 0x3FC8E52A#32, 0x3F94EE8C#32],
    ![0xBE227C8A#32, 0x3F4B764B#32, 0xBE88228D#32],
    ![0xBF3EE0F6#32, 0x3F42F4C3#32, 0x3DFF2156#32],
    ![0xBF67F08C#32, 0x3F1B2984#32, 0xBFC04889#32],
    ![0xBD2087A4#32, 0x3F9F90F0#32, 0x3F642FCF#32],
    ![0xBE9A7762#32, 0x3F2F404D#32, 0x3EDC01A5#32],
    ![0x3DAFC2FA#32, 0xBFF6E385#32, 0x3FD37C85#32],
    ![0x3E082183#32, 0x3F5E9B4E#32, 0xBF18009C#32],
    ![0xBFB75A6C#32, 0x3FE842E7#32, 0xBFF55301#32],
    ![0x3F942C51#32, 0xBF6A49EF#32, 0xBF76FFB4#32],
    ![0x3D258640#32, 0xBFB66A30#32, 0x3F07C512#32],
    ![0xBFB85BBB#32, 0xBED43A70#32, 0x3F21AD54#32],
    ![0x3FE3D2C5#32, 0xBF93B1BD#32, 0x404BFADD#32],
    ![0xBF4CC259#32, 0xBEC072A6#32, 0xBED20718#32],
    ![0xC00FC5A9#32, 0x3FA4F45C#32, 0x3F9B4C65#32],
    ![0x3FECD7A0#32, 0xC00852B6#32, 0xBD9F6C8C#32],
    ![0xBEB62A09#32, 0x3F0A3BBD#32, 0xBF5530F5#32],
    ![0xBE60C1DD#32, 0xBE70A79A#32, 0xBEBA8FB7#32],
    ![0xBFA24668#32, 0xBFD4C94D#32, 0x3FDB1112#32],
    ![0x3F0EDA41#32, 0x3EB877D1#32, 0x3F0262AA#32],
    ![0x3D2DB656#32, 0xBE3178A9#32, 0x3EE039D7#32],
    ![0xBFA26751#32, 0x3F4A9BF2#32, 0x402EBBE6#32],
    ![0x3E88D54D#32, 0xBD31E801#32, 0x3E2E2AB6#32],
    ![0xBFA22D43#32, 0xBF67988A#32, 0x3F2ED48F#32],
    ![0xBF23D53F#32, 0xBFB23FF5#32, 0x3FB76666#32],
    ![0x3F4A90B8#32, 0x3EDED485#32, 0x3EE69369#32],
    ![0x3F9A8B83#32, 0xBF750D2C#32, 0xBF53FAAC#32],
    ![0xBE87A585#32, 0x3CCB0946#32, 0xBF4FDFBC#32],
    ![0x3F4739C1#32, 0x3F838551#32, 0xBF8D78FD#32],
    ![0xBDA2C737#32, 0x3EE5C48D#32, 0xBF8504D5#32],
    ![0x4004FAAD#32, 0x3F829256#32, 0x3F22289B#32],
    ![0xBEFE7569#32, 0xBFD4BA19#32, 0x3F316E66#32],
    ![0xBF53A2D6#32, 0xBFBCADB9#32, 0xBEEFD4AC#32],
    ![0xBEB05B56#32, 0x3F06FC8E#32, 0x3FF080A9#32],
    ![0xBFCBAB48#32, 0xBF7133D8#32, 0x3F5F3163#32],
    ![0x3F216BBA#32, 0x3FB9DEFA#32, 0xBEC980F7#32],
    ![0x3FEDAF57#32, 0xBDE3033C#32, 0xBF67BB83#32],
    ![0xC0047787#32, 0xBD2B8614#32, 0xBD8A1BC8#32],
    ![0x3F0C34FE#32, 0xBEBF73DA#32, 0xBF253B91#32],
    ![0xBF5CE358#32, 0x3F875C98#32, 0x3FB12097#32],
    ![0x3F84E55A#32, 0xBF98FABA#32, 0xBEF471D7#32],
    ![0xBFD6D076#32, 0x3EF23389#32, 0x3F35EE68#32],
    ![0x3EEE00FA#32, 0xBFEAAC0A#32, 0x3F813C07#32],
    ![0xBFE4D919#32, 0x3EF257EF#32, 0x3F5306C5#32],
    ![0x3F265725#32, 0xBEE0802F#32, 0x3FAD0DAE#32],
    ![0xBF48C7AE#32, 0xC00329F1#32, 0xBE2A3F16#32],
    ![0x3DB94750#32, 0x3F8C3E88#32, 0xBFE37E5E#32],
    ![0x3E6B7E32#32, 0x3FA720CF#32, 0x3FC653A6#32],
    ![0xBF783BF6#32, 0xBF0872B7#32, 0x3FA3E5E0#32],
    ![0x40115090#32, 0x3F83AB30#32, 0x3FC5D7F0#32],
    ![0xBFAED78D#32, 0xBFABDD0E#32, 0x3F921366#32],
    ![0xBF886CAF#32, 0xBEB45501#32, 0x3E9E7C68#32],
    ![0xBDC9D5BA#32, 0x3F2E70F7#32, 0x3EB7A7F6#32],
    ![0xBEB43F0C#32, 0x3C44BCB2#32, 0x3FE24E4A#32],
    ![0xBE2124C8#32, 0xBF47DF3D#32, 0x3D0F0EC8#32],
    ![0x3F758C98#32, 0xBFB2160F#32, 0xBFF318D3#32],
    ![0xBEC2AE62#32, 0xBEC65811#32, 0xBFC7B031#32],
    ![0xBEB25928#32, 0x3F802A84#32, 0x3F224AB2#32],
    ![0xBF16874B#32, 0x3E961A04#32, 0x3E4E76B3#32],
    ![0xBFBD262F#32, 0x3CC4E7AA#32, 0xBD83D27C#32],
    ![0xBF315F72#32, 0xBF0AFC8D#32, 0x3FACD150#32],
    ![0xBE798B1A#32, 0xBF7D3FF6#32, 0x3F10E2A7#32],
    ![0xBEA35FD4#32, 0xBE0BA124#32, 0x3E6CFCC8#32],
    ![0xBFB89C55#32, 0x3FA60DAC#32, 0xBD769347#32],
    ![0x3FDA509C#32, 0x3F915CBA#32, 0x3E8D16D3#32],
    ![0x3F85C0CB#32, 0x3EE1F6E0#32, 0x3F2BE291#32],
    ![0x3E8ABFD5#32, 0xBF988AB3#32, 0xBFB91DBE#32],
    ![0xBF97278C#32, 0xC01E92D6#32, 0x3F4286F0#32],
    ![0x3F480472#32, 0xBCCDF60F#32, 0x3DC46ABE#32],
    ![0x3EFDE882#32, 0x3FC0F9C1#32, 0xBF08B91E#32],
    ![0xBE857D35#32, 0xBCC33453#32, 0x3FA998E8#32],
    ![0x402EBDBD#32, 0xBF775E2F#32, 0x3D277F20#32],
    ![0xBF729B78#32, 0x3FDFBF38#32, 0xBF4C92E1#32],
    ![0xBF44E11E#32, 0xBEAFCE1A#32, 0x3F1E9337#32],
    ![0x3F365AB5#32, 0x3F9EB95E#32, 0xBF28D4B5#32],
    ![0x3E8FF4F7#32, 0x3F5B07CA#32, 0x3F8D0BB0#32],
    ![0xBF0BAD9D#32, 0xBE80E58A#32, 0x3F275F23#32],
    ![0x3F344743#32, 0xBF82766F#32, 0x3F67FE24#32],
    ![0xBFBB9FE0#32, 0x3F8FE73F#32, 0xBEE54E4D#32],
    ![0xBF1B07DC#32, 0x3F2EDE1A#32, 0x3F75342F#32],
    ![0x3F320894#32, 0x3FDB5E2F#32, 0xBF1F9DBA#32],
    ![0x3EBA67B9#32, 0x3E10DFC3#32, 0x3E6BDC74#32],
    ![0x3EE0170F#32, 0xC003CEAE#32, 0xBF0979FC#32],
    ![0x3D6D1105#32, 0xBFF1564B#32, 0x3F8C0EFD#32],
    ![0xBDECEC30#32, 0x3FD0E603#32, 0xBD0B7997#32],
    ![0x40057EA6#32, 0x3FCF4318#32, 0xBF0339C3#32],
    ![0xBD93C47B#32, 0x3EFC1125#32, 0xBF3A3AFD#32],
    ![0xBFB1F85E#32, 0x40230D32#32, 0xBF953DE1#32],
    ![0x3E7A3E9F#32, 0x3FF80A5F#32, 0xBFBA7F83#32],
    ![0x3F1EECEE#32, 0xC0189965#32, 0x3E50E212#32],
    ![0x3FFCF9DB#32, 0x3F110399#32, 0x3F897240#32],
    ![0xBFCD8DF1#32, 0xBF80F6AC#32, 0x3F441306#32],
    ![0xBEF82479#32, 0x3F14E12E#32, 0xBEBB31B0#32],
    ![0xBF69AFEE#32, 0xBAA1148C#32, 0x3FF43842#32],
    ![0x4003EB49#32, 0xBFE519BF#32, 0x3F3DB401#32],
    ![0x3E0D8ED6#32, 0xBFA44890#32, 0xBF9B89A8#32],
    ![0xBF743E00#32, 0xBDD16FE2#32, 0xBFB1535E#32],
    ![0xBE9072FD#32, 0xBF3A13BA#32, 0xBEEF53AE#32],
    ![0xBFAE541F#32, 0xBED0297A#32, 0x3F7ED73D#32],
    ![0x3EF64FCC#32, 0x3FAE7C3F#32, 0xBE6552AF#32],
    ![0x3F0C02D5#32, 0xC0085F72#32, 0x40016E6C#32],
    ![0x40102332#32, 0xBF5DCF4C#32, 0xC02EA91D#32],
    ![0xBE95EBB7#32, 0x3E892851#32, 0xBE0E2E65#32],
    ![0xBCD66459#32, 0x3FC79342#32, 0x3F0E6B78#32],
    ![0xBF9A7DC5#32, 0xBEF90A1A#32, 0x3FC9A007#32],
    ![0xBF8CD79D#32, 0x3F1EDB8D#32, 0xBDCEDA56#32],
    ![0xBDB20360#32, 0xBEFEAA76#32, 0xBE674D38#32],
    ![0x3FC39512#32, 0xBF8353CC#32, 0x3F233A12#32],
    ![0xBFE171E1#32, 0x3E10F6B5#32, 0xBF195F35#32],
    ![0xBF88E76B#32, 0x3FBF9DC5#32, 0xBDABBA89#32],
    ![0x4004E795#32, 0x3E1E9C72#32, 0xBE972290#32],
    ![0x3FCE88CF#32, 0x3FE97EF6#32, 0x3F9C74A2#32],
    ![0xBF0792F0#32, 0xBC77219F#32, 0x3D1579AB#32],
    ![0x3FDBB9C9#32, 0x3EECE302#32, 0xBD494B3D#32],
    ![0xBF6E00F6#32, 0x3F3DD279#32, 0x3F469160#32],
    ![0x3F8E7888#32, 0xBF5B9CB5#32, 0x3EEA9CE3#32],
    ![0x3F89B994#32, 0x3F8D9344#32, 0xBF3F9354#32],
    ![0xBE5416B8#32, 0x3E82B4FB#32, 0x3F72253E#32],
    ![0x3EF0BD7E#32, 0x3F343EC8#32, 0xBE263384#32],
    ![0x3F69B68B#32, 0x3F4862E9#32, 0x3F54C7ED#32],
    ![0xBFB0652E#32, 0xBF4A4CAF#32, 0x3C481ECC#32],
    ![0xBFAAA6B0#32, 0x3F42A14A#32, 0xBF79F3F5#32],
    ![0x3DBA5725#32, 0xBE064B51#32, 0x3EE9F180#32],
    ![0xBF87A664#32, 0xBF0837D1#32, 0xBFC20792#32],
    ![0x3F20A665#32, 0x3F7C583A#32, 0xBEA717F0#32],
    ![0xBFA09414#32, 0xBFAF9FDF#32, 0x3FBF0754#32],
    ![0xBFB5609A#32, 0x40084D93#32, 0xBFB60982#32],
    ![0xBFF1A48A#32, 0xBF7C0C0A#32, 0x3F5DE3CF#32],
    ![0x3F57C11D#32, 0xBFD13E9A#32, 0x3F9C088E#32],
    ![0x3E1CE6BB#32, 0xBE2A524E#32, 0xBF9340CA#32],
    ![0x3FF4BE9B#32, 0x3E091253#32, 0xBFDFFA65#32],
    ![0x3FE0E276#32, 0xBFA16E17#32, 0x3FE493F9#32],
    ![0x3BE66B16#32, 0x3D805B76#32, 0xBFDF96A1#32],
    ![0x3F578588#32, 0xBF3F1D4F#32, 0xBDA61958#32],
    ![0xBEAC327A#32, 0x3DFC98CC#32, 0x3F121C44#32],
    ![0x4028C767#32, 0x3F83CD1C#32, 0x3F18FBEF#32],
    ![0xBE35CFC4#32, 0xBFE75D6E#32, 0xBD0F801E#32],
    ![0xBF6C2C79#32, 0x3E9B5C25#32, 0xBFEED74D#32],
    ![0xBF249228#32, 0xBEA9C9C3#32, 0xBF032AAF#32],
    ![0x3F062967#32, 0xBEAE80E5#32, 0xBE7F8D55#32],
    ![0x3F4E1326#32, 0x3ECB5679#32, 0x3F8C5C3E#32],
    ![0x3F89752E#32, 0x3F84F1E6#32, 0x3C819641#32],
    ![0xBD9379DF#32, 0xBFAB3C49#32, 0xBD06CED3#32],
    ![0x3F2F4A01#32, 0x3FA9D736#32, 0xBF281B24#32],
    ![0xBEC77661#32, 0xBF7CCB66#32, 0xBE99CA08#32],
    ![0x3E341BF4#32, 0xBED03648#32, 0x3DC2DDAC#32],
    ![0x3FD2FC8A#32, 0xBE627E01#32, 0x3F7725E0#32],
    ![0x3E88730B#32, 0xBF89D997#32, 0x3ECA5F1B#32],
    ![0x3E13CFB7#32, 0x3E51EA45#32, 0x40006D00#32],
    ![0xBF03CF1E#32, 0x3ED517A8#32, 0xBD814F52#32],
    ![0xBEA6943A#32, 0x3D53F9D8#32, 0xBE6A189C#32],
    ![0x3F231EBF#32, 0x3FAC0FE9#32, 0x401E56DE#32],
    ![0x3FBCC480#32, 0x3F2CD258#32, 0xBE966C83#32],
    ![0xBEEF2D3D#32, 0x3F0820AF#32, 0xBE0D44EF#32],
    ![0x3F6F2A6A#32, 0xBF70C6AF#32, 0x3F8597BF#32],
    ![0x3F9E1EA1#32, 0x3E088AF0#32, 0x3F6C4294#32],
    ![0xBDFE19C2#32, 0x3E4F6146#32, 0x3F443560#32],
    ![0x3F6FB7B5#32, 0x3F8DB353#32, 0x3DD3C076#32],
    ![0xBF753314#32, 0xBF9D5FE9#32, 0x3FD721C3#32],
    ![0x3ECDD43A#32, 0xBDC67742#32, 0xBF8D3704#32],
    ![0x3F167E70#32, 0xBEAF227A#32, 0xBD055D37#32],
    ![0xBF3EB574#32, 0x3F8835DC#32, 0x3E4FFCCB#32],
    ![0xBF5DB4CB#32, 0x4003AEC3#32, 0x3F9DB0B1#32],
    ![0xBEFD0D4B#32, 0x3F07B914#32, 0xBF3AFFC6#32],
    ![0xBF75A714#32, 0x3F57F5A0#32, 0x3F09EF5E#32],
    ![0x3F6A4358#32, 0x3F0C83CF#32, 0x3FBB7208#32],
    ![0x3E899D5E#32, 0xBEAB81B5#32, 0x3E48C912#32],
    ![0x3F8C2D83#32, 0xBFC35BC6#32, 0xC017BD3A#32],
    ![0x3F9ADA22#32, 0xBF5A7521#32, 0xBF730780#32],
    ![0x3F1C2081#32, 0xBEF9BE56#32, 0x3DF281B7#32],
    ![0xBE208287#32, 0xC0658AA2#32, 0xBF119633#32],
    ![0xC0150BBC#32, 0xBF37D78D#32, 0x3E034275#32],
    ![0xBFAECC7F#32, 0x3FDBB493#32, 0xBFC72C38#32],
    ![0xBCF877C3#32, 0x3F272723#32, 0x3F8157B8#32],
    ![0xBF549D51#32, 0x3F2EC5C5#32, 0xBFC97DE0#32],
    ![0x3F5594E5#32, 0xBDD26CF9#32, 0xBF8EB3D6#32],
    ![0x3E850386#32, 0xBCC3E799#32, 0x3ED4BFB0#32],
    ![0x3F11A597#32, 0x3F288118#32, 0x3EF14912#32],
    ![0xBF21283F#32, 0x4010D750#32, 0x3D9648E6#32],
    ![0x3F388E32#32, 0xBF85C2A0#32, 0x3FCF0BEC#32],
    ![0xBF5CF78C#32, 0xBF7A6D60#32, 0x3F8C980D#32],
    ![0x3F034C43#32, 0xBF448213#32, 0xBE57A2C0#32],
    ![0xBEDCFAFD#32, 0x3DACD871#32, 0xBF154E20#32],
    ![0xBEE07AF7#32, 0x3F72393E#32, 0xBF709084#32],
    ![0x3F07E41D#32, 0xBF196EEE#32, 0x3F37E44A#32],
    ![0xBF29697D#32, 0xBF0409F4#32, 0xBF8EB02C#32],
    ![0xBEFD5A4F#32, 0xBF820B58#32, 0x3F7A2A3F#32],
    ![0x400BEAC6#32, 0x3EB87F35#32, 0x3F810031#32],
    ![0x3F2C87F2#32, 0xBFCE03B5#32, 0x3FA4562B#32],
    ![0x3E27BF08#32, 0xBFDF40D7#32, 0xBE8347D3#32],
    ![0xBF921BAC#32, 0x3F8D0B8C#32, 0x3FC587D8#32],
    ![0xC0077ADC#32, 0xBDA7AAA3#32, 0xBF64B11C#32],
    ![0xBEF08E73#32, 0x3F2F1AB4#32, 0x3F77073D#32],
    ![0x4022F960#32, 0xBCCA67DE#32, 0x3E908ADA#32],
    ![0x3E6C68AC#32, 0x3E80DF75#32, 0xBE9C35DE#32],
    ![0xBF8D2803#32, 0xBF9436B6#32, 0xBE77EC95#32],
    ![0x3FE2366D#32, 0x3F9B27A0#32, 0xBFA8AA73#32],
    ![0xBF18627A#32, 0x3FB17406#32, 0xBDE08531#32],
    ![0x3FE2FB98#32, 0xBEEBBA77#32, 0xBF9C3287#32],
    ![0x3F1F7E8A#32, 0xBF65D3DA#32, 0xBF94F211#32],
    ![0xBF6B70C5#32, 0x3DA4F49A#32, 0x3FA1AE29#32],
    ![0x3F2BCD01#32, 0x3ED1616D#32, 0xBF5C94AB#32],
    ![0xBF9753C4#32, 0x3E4C409B#32, 0xBF87A7A9#32],
    ![0x3E5CF4E2#32, 0xBFC99945#32, 0x3EB5A5AF#32],
    ![0x3ECEC246#32, 0x3F809D95#32, 0x3F473211#32],
    ![0xBFF355EB#32, 0x3EE7222E#32, 0x3FFC8761#32],
    ![0x3F68BCD7#32, 0x40020CCF#32, 0x3EFB2DFC#32],
    ![0x3E7BFC61#32, 0x3A2E771A#32, 0x3E12607B#32],
    ![0xBF23447B#32, 0xBE6F314E#32, 0x3C8F3616#32],
    ![0x3E0E63AA#32, 0x3C7E5898#32, 0x3EBE8CFA#32],
    ![0xBF163474#32, 0x3E0C833B#32, 0xC000D5EA#32],
    ![0x3E0A406D#32, 0x3F17AA40#32, 0x3F1EAFBC#32],
    ![0xBEE4A25F#32, 0x3F93B62B#32, 0x3E818722#32],
    ![0xBF8331DA#32, 0x4029E7F9#32, 0xBE16A81A#32],
    ![0x3DEDF23B#32, 0xBFCE0EB9#32, 0x3F59E2F4#32],
    ![0x3EA6802E#32, 0x3FDAF306#32, 0xBFAE13CD#32],
    ![0x3ECEA981#32, 0xBE57DA2C#32, 0xBF908525#32],
    ![0xBE2B9A1E#32, 0x3FEC5FA1#32, 0x3F10DFBC#32],
    ![0xBF760ADC#32, 0x3F975008#32, 0x3F40555A#32],
    ![0x3F564C62#32, 0xBE9C7A31#32, 0xBF00362A#32],
    ![0x3F963D58#32, 0xBD868A72#32, 0xBEE3A7A1#32],
    ![0x3D95207C#32, 0xBF4505A3#32, 0xBF048F7B#32],
    ![0xBF92D891#32, 0xBF2F3E55#32, 0x3F35E4C0#32],
    ![0x3F2083FE#32, 0x3E856376#32, 0x3FBF6317#32],
    ![0x3E5CA55A#32, 0x3E396100#32, 0x3EDB4640#32],
    ![0xBCAF9965#32, 0x3ED21A77#32, 0x3B19BB5A#32],
    ![0xBD48695E#32, 0x3FC65D9A#32, 0x3F4D9FC0#32],
    ![0x3F4F5CF5#32, 0x4016AC45#32, 0xBECA1880#32],
    ![0x3E40012B#32, 0x3FB6F0BF#32, 0x3E1D9978#32],
    ![0xBF037978#32, 0x3FBA9C6A#32, 0x3EBC59C0#32],
    ![0x3F0DDBB2#32, 0xBEC7D194#32, 0x40023BF2#32],
    ![0x3FB869A0#32, 0x3F60F365#32, 0xC0086424#32],
    ![0x3D8CE799#32, 0x3EB12AEC#32, 0x3F4EA51C#32],
    ![0xBE0AFFEF#32, 0x3FAFD7EA#32, 0xBF23019C#32],
    ![0xBDC4AB31#32, 0xBEECAB8B#32, 0x3F943670#32],
    ![0xBF80CE31#32, 0x3F5AA866#32, 0xBEBB3CA8#32],
    ![0xBF1308FD#32, 0x3ED0D5D6#32, 0x3F75CBB8#32],
    ![0xBFA7C56B#32, 0x3F7573B9#32, 0xBEC4B93B#32],
    ![0x3FAECBC4#32, 0x3E8918AF#32, 0x3FF871BE#32],
    ![0xBEFAF8C8#32, 0xBDCF9BDB#32, 0xBFF8F101#32],
    ![0x3F487516#32, 0xBF99418A#32, 0x3F6892BA#32],
    ![0xBD7031D5#32, 0x40188710#32, 0xBEEF4EF5#32],
    ![0xBEF4A69B#32, 0xBFCA73CE#32, 0xBF470E54#32],
    ![0x3F6EFAA5#32, 0xBF5F8999#32, 0xBE86D3F6#32],
    ![0x3ED5536A#32, 0x3EB03FAE#32, 0x3FC6BD36#32],
    ![0xBF71690A#32, 0x3FB50B9D#32, 0x3F89BD3C#32],
    ![0x3F70333A#32, 0x3F3727EE#32, 0x3F8110AF#32],
    ![0x3F9B9B31#32, 0xC00E9EBC#32, 0x3DD9BCE5#32],
    ![0x3EAB2B9E#32, 0x3ED78789#32, 0x3F91AF82#32],
    ![0xBFB2B44E#32, 0xBD13248B#32, 0xBEDFBC2F#32],
    ![0xBF69EEDF#32, 0x3E3DBBB9#32, 0x3F62EB24#32],
    ![0xBF88F7B7#32, 0x400FAC46#32, 0xBFE0EF6B#32],
    ![0xBF3C8EB1#32, 0x3E8D580B#32, 0x3F8544DE#32],
    ![0x3D1425CB#32, 0xBCED6F6F#32, 0xBF1CFA33#32],
    ![0x3E15AE03#32, 0x3E535F43#32, 0xBEDB09A9#32],
    ![0xBB3EC5F5#32, 0x3F24D4E9#32, 0x3E34DC40#32],
    ![0xBD1F44AA#32, 0x3F2BD46A#32, 0x3EBFC819#32],
    ![0x3F328696#32, 0xBF0D8788#32, 0x3EFB1284#32],
    ![0x3FC8D72E#32, 0x3E0BB2CF#32, 0x3F035EF6#32],
    ![0x3F23200A#32, 0x3F0FEA11#32, 0xBF462B8C#32],
    ![0xBD7EC027#32, 0xBF60A399#32, 0x3F7F26E6#32],
    ![0xBF876571#32, 0x3F65FBD8#32, 0xBE4AF5E1#32],
    ![0xBF62AD24#32, 0x3FC23638#32, 0xBF65A709#32],
    ![0x400BE383#32, 0x3FEC6ED5#32, 0x3F967291#32],
    ![0xC00FCAC9#32, 0x3EB8C48E#32, 0x3EBDB968#32],
    ![0x40392E4E#32, 0xBF861066#32, 0xBF935815#32],
    ![0x3FB1C655#32, 0x3D44A447#32, 0xBC1F9CE1#32],
    ![0x3FA9E7A1#32, 0xBF86EB08#32, 0x3F1DEF0C#32],
    ![0xBF60F9EC#32, 0xC02A95D8#32, 0x3F7FDA09#32],
    ![0x3FE43960#32, 0xBFAAEE74#32, 0x3F4414D6#32],
    ![0xBEF3A97D#32, 0x3E4D6940#32, 0x3EE5EBD7#32],
    ![0xBF8054A0#32, 0xBF837D81#32, 0xBE8F7F7E#32],
    ![0xBC7551D8#32, 0xBE93AE1A#32, 0x3F9735D0#32],
    ![0x3EB4A5CD#32, 0xBEA1E41D#32, 0x3F06FE17#32],
    ![0x3FB2C48B#32, 0x3F9C2AAF#32, 0x3E8F6121#32],
    ![0xBEAAB4E9#32, 0xBEC46812#32, 0x3E5C8817#32],
    ![0xBF821D4B#32, 0xBFE466C4#32, 0x3B0FF5BB#32],
    ![0xBED2CD02#32, 0xBDDD400C#32, 0xBE4906D5#32],
    ![0xBF5C6E9E#32, 0x3EA94E7E#32, 0xBD918617#32],
    ![0x3F8C4D58#32, 0xBF9FEC88#32, 0xBF4876AA#32],
    ![0xBFDB4B76#32, 0x3D909515#32, 0xBF7454E1#32],
    ![0x3F465B8F#32, 0xBFAD0AA4#32, 0x3E1DC930#32],
    ![0xBE437AF2#32, 0x3F809B8A#32, 0x3FF8C146#32],
    ![0x3F6A64FD#32, 0xBFEC15B0#32, 0xC02B0DE7#32],
    ![0x3E217F79#32, 0x3ED042E6#32, 0x40272F00#32],
    ![0x3F42BBA5#32, 0x3F3BD095#32, 0x3E4EAEFB#32],
    ![0xBFA2E4BA#32, 0xBF10DA5F#32, 0xBFC20676#32],
    ![0xBF2E85F8#32, 0xBF907027#32, 0xBF676D17#32],
    ![0xBF479C4D#32, 0x3E254222#32, 0x3F4A0430#32],
    ![0x3F4BAB89#32, 0xBED4FC79#32, 0x3E805503#32],
    ![0xBFB73F49#32, 0x3F6B1BF2#32, 0xBE9E06E4#32],
    ![0x3BA3F64A#32, 0x401F14AA#32, 0x3F84E57D#32],
    ![0xBEB30428#32, 0x3F316A18#32, 0x3E13F66B#32],
    ![0xBFF43F9A#32, 0x3FC350EF#32, 0x3F2E3251#32],
    ![0xBFF07FD5#32, 0x3E7276D6#32, 0xBE147BAE#32],
    ![0x3F386BEC#32, 0xBEBECB01#32, 0x3E896EC1#32],
    ![0x3F268B47#32, 0x3FCBDCDF#32, 0x3F8BF447#32],
    ![0xC009BED3#32, 0xBF63984D#32, 0xBEC13BE0#32],
    ![0xBFA57F0E#32, 0xBFB03888#32, 0x3EBBB38A#32],
    ![0xBF503359#32, 0xBE89ABD8#32, 0x3F4957FD#32],
    ![0x3F3A63FD#32, 0xBCD312F0#32, 0x3EFD2E26#32],
    ![0x3E25C2B3#32, 0xBEE45197#32, 0x3FDDD9D5#32],
    ![0xBD9778F2#32, 0xBF3A2687#32, 0xBFA9C7FA#32],
    ![0x3ECBCA1B#32, 0xBF6D776F#32, 0xBEDC7988#32],
    ![0x3E8B1985#32, 0x400BBD65#32, 0x3EE6F317#32],
    ![0xBF8988B2#32, 0xBFE4CB73#32, 0xBF268765#32],
    ![0x3FB99947#32, 0xBECE22CF#32, 0xBF897444#32],
    ![0x3F987590#32, 0x3F56BDCE#32, 0xBFFE3097#32],
    ![0xC03FABCC#32, 0xBF2FFFE7#32, 0x3F88C81D#32],
    ![0xBFA1548F#32, 0x3E3D8F69#32, 0x3F914112#32],
    ![0x4051291D#32, 0x3E335975#32, 0xC040FAF7#32],
    ![0xBF24E393#32, 0x3E72260A#32, 0xC0210F8E#32],
    ![0xBF208F90#32, 0x3FBEEB3A#32, 0x3F972DB5#32],
    ![0xBFB58B9C#32, 0x3DA72156#32, 0x4001D483#32],
    ![0xBF6D89D6#32, 0x3F7D8F61#32, 0x3FBBE0E9#32],
    ![0xBF157AF5#32, 0x3F92C45A#32, 0x3F5EEB14#32],
    ![0x3F773EF0#32, 0xBF1CC4B4#32, 0xBF710845#32],
    ![0x3F29BF32#32, 0xBF9C145D#32, 0x3F041F4F#32],
    ![0xBF577251#32, 0x3DCA4453#32, 0x3F33B7E3#32],
    ![0x3F8AB196#32, 0xBFF64489#32, 0xBF6E2FCB#32],
    ![0xBE8D9AB6#32, 0xBF456D1C#32, 0x3E804CCF#32],
    ![0x3FC7C623#32, 0x3EA9CA9B#32, 0xBA7BD177#32],
    ![0x3D278243#32, 0x3FA1402F#32, 0xBF1EAA81#32],
    ![0x3F82EBB8#32, 0xBF8C661D#32, 0x3F5F6ADA#32],
    ![0x3F9A5C49#32, 0xBEF453C7#32, 0x3FC68752#32],
    ![0xBF004D4C#32, 0x3EA53007#32, 0xBED759C4#32],
    ![0x3F9ED7E8#32, 0x3EEED7D5#32, 0xBF24502F#32],
    ![0xBF47F5C5#32, 0x3F15A61B#32, 0x3F31B5F0#32],
    ![0xBEC66A0C#32, 0x401D711B#32, 0x3C522ACC#32],
    ![0xBDC4E9FD#32, 0x3E699E70#32, 0x3FA84CC9#32],
    ![0xBECD600D#32, 0xBE944261#32, 0x3F491C76#32],
    ![0xBF00B7A7#32, 0x3E237D88#32, 0x3E0A2DEE#32],
    ![0xBEDA6C1A#32, 0x3F2CF72B#32, 0x3DFB6AFB#32],
    ![0x3F3A7645#32, 0xBE3AA24A#32, 0x3EFA31D3#32],
    ![0xBF8610F9#32, 0xBF598C10#32, 0xBF288C84#32],
    ![0xBF65EEAC#32, 0x3E8A80F1#32, 0xBE86B915#32],
    ![0xBFEDA9C5#32, 0x3ECECB32#32, 0xBF86F16E#32],
    ![0xBF0C3F21#32, 0xBDDB493A#32, 0x3F097847#32],
    ![0x3F917A9D#32, 0xBEBB264D#32, 0xBE1629BA#32],
    ![0xBE709AB8#32, 0xBE1CC2F3#32, 0xC0096A89#32],
    ![0x3F1B8AF5#32, 0xBF567F17#32, 0xBFDB1A07#32],
    ![0x3DBA5C57#32, 0xBF869946#32, 0x3F119E45#32],
    ![0xBE8A95B9#32, 0xC046E0F4#32, 0x3ED544AD#32],
    ![0x3F9D1658#32, 0xBDDE8094#32, 0x3F2793C0#32],
    ![0xBE12BD82#32, 0xBE9BDA95#32, 0x3F257A54#32],
    ![0xBD9CBC27#32, 0x3D7FDC6C#32, 0xBFF6A4A8#32],
    ![0xBF0AB31F#32, 0xBF5FF184#32, 0x3FBC868A#32],
    ![0x40103782#32, 0xBFF827F0#32, 0xBEE1C733#32],
    ![0xBFC598F1#32, 0x3E4C7D56#32, 0x3F22651A#32],
    ![0xBF936A9C#32, 0xBE0C6A49#32, 0xBEB9AD1B#32],
    ![0xBFF0BE04#32, 0x3EADCB5B#32, 0xBF0A89D3#32],
    ![0x3EAF1F4D#32, 0x3ED668A5#32, 0x3EFDEC30#32],
    ![0x3F18242D#32, 0xBF9282B4#32, 0xBFF0C174#32],
    ![0xBE741F58#32, 0x3F4346B7#32, 0x4014B9C5#32],
    ![0x3ECBD3A5#32, 0x3DCC6EFA#32, 0xBE6D1A70#32],
    ![0x3FAF36D4#32, 0x3F30332C#32, 0xBD755C35#32],
    ![0x3FD7382A#32, 0x3E2EE778#32, 0x3DE67BCD#32],
    ![0x3FA2A452#32, 0x3FBB5E64#32, 0x3FA5FF6F#32],
    ![0xBF45B396#32, 0x3E3389D2#32, 0xBDE979D9#32],
    ![0x3F0C41A4#32, 0xBF97BFEC#32, 0x3EADB669#32],
    ![0x3FAED44E#32, 0xBF2D60B7#32, 0x3E10AEDD#32],
    ![0xBE5987DD#32, 0xBF454FF3#32, 0xBF9F080D#32],
    ![0x3FCAB150#32, 0x3DF71AF7#32, 0xBEDE4861#32],
    ![0x3F89FC6B#32, 0x3F8CAA55#32, 0xBFC4A9B8#32],
    ![0xBF850EB6#32, 0x3F952461#32, 0xBF1EC2A9#32],
    ![0x3EAD8CAC#32, 0xBF0726FE#32, 0x3DE5763E#32],
    ![0xBF0948A9#32, 0x3F0D64B4#32, 0x3E98FF34#32],
    ![0xBFD544A9#32, 0x3F8107C8#32, 0xBFB51FC9#32],
    ![0x3EDAAEA0#32, 0xBFAD79CD#32, 0xC041845C#32],
    ![0xBFA2A32C#32, 0xBF7DE366#32, 0xBE9642ED#32],
    ![0x3FB5FDF3#32, 0x3F14C29E#32, 0xBEC929CA#32],
    ![0x400EA7F9#32, 0x3FD08871#32, 0x401217B3#32],
    ![0x3F0EB7BB#32, 0xBF7D64E0#32, 0xBF1965BF#32],
    ![0x3FB9E460#32, 0xBE8B169C#32, 0x3E88CFDD#32],
    ![0xBF31AE80#32, 0x3E068688#32, 0xBFC6E69D#32],
    ![0xBF5BE354#32, 0x3D86221E#32, 0x3CD68D68#32],
    ![0x3FA3BA37#32, 0xBF778345#32, 0xBFA3AE8F#32],
    ![0xBF2C0F2C#32, 0xBF292287#32, 0x3F81479F#32],
    ![0xBF8E982D#32, 0xBF001998#32, 0xBFC068E3#32],
    ![0x3F11E015#32, 0xBDF43E8F#32, 0xBF6F2840#32],
    ![0xBEA25DA2#32, 0xBF9125BE#32, 0xBFBAAAEB#32],
    ![0x3E686639#32, 0x3F44B3FB#32, 0x3F3F703F#32],
    ![0x400A456E#32, 0x3EDEA864#32, 0xBE32F584#32],
    ![0xBF91AAA6#32, 0xBF47A1FD#32, 0x3FC42B59#32],
    ![0x3EBC4B35#32, 0xBFD9D01F#32, 0x3FFDF1ED#32],
    ![0x3ECC0CAC#32, 0xBF0753C2#32, 0xBEE7FFB8#32],
    ![0x3F8624D5#32, 0x3FD4F1FE#32, 0xBF024B6E#32],
    ![0xBF922668#32, 0x3FBFE766#32, 0x3FAE9050#32],
    ![0x3EC0A03C#32, 0xBE29DA4D#32, 0x3F68728B#32],
    ![0x3F0A04E6#32, 0x3F481427#32, 0xBC06A377#32],
    ![0x3F659951#32, 0xC007BBC7#32, 0x3E6F3602#32],
    ![0xBE34E1B2#32, 0xBD677377#32, 0xBF16A0B8#32],
    ![0xBDF5E17D#32, 0x3E5DB69C#32, 0xBF73B20D#32],
    ![0x3D62A393#32, 0xBD90FCD2#32, 0xC0005BA0#32],
    ![0x3FEE0201#32, 0xBEAC73E1#32, 0xBF26B598#32],
    ![0x3F4EC5C1#32, 0x3E424410#32, 0x3E3E2989#32],
    ![0xBF74A81F#32, 0x3EDA58DE#32, 0x3F4BB68E#32],
    ![0x3FBC4119#32, 0xBD84EFE5#32, 0x3EE0192B#32],
    ![0x3EF60489#32, 0x3F35B7C5#32, 0x3F3E0B48#32],
    ![0xBD2F47EA#32, 0x3F54A52F#32, 0xBF49E1BD#32],
    ![0xBF72F639#32, 0xBF8365B0#32, 0x3F80368E#32],
    ![0xBEAF44A7#32, 0x3F4789A3#32, 0x3F74CA00#32],
    ![0x3FD67EC8#32, 0x3E029973#32, 0xBDE2B6F1#32],
    ![0xC0114333#32, 0x3EA76E43#32, 0x3F893148#32],
    ![0x3FE7DF6C#32, 0xBF75CF00#32, 0x3FDB363F#32],
    ![0xBEEBEBC2#32, 0xBEA34D28#32, 0xBFD8E1CF#32],
    ![0x3FE679EE#32, 0xBF53359C#32, 0x3FF2540A#32],
    ![0x3F84ABF3#32, 0xBE9138C7#32, 0xBFF7A448#32],
    ![0xBF143A27#32, 0x3E7E6EC8#32, 0x3FE175B1#32],
    ![0x3D925F3A#32, 0xBFD7439F#32, 0x3E9980B8#32],
    ![0xBE200891#32, 0x3EF30247#32, 0xBEC73FCA#32],
    ![0xBEF9ECEC#32, 0x3F786179#32, 0xBDCDD296#32],
    ![0xBF99352F#32, 0x3F1D24FF#32, 0x3FD3D803#32],
    ![0xBF88C0EE#32, 0xBE90AC61#32, 0x3DC32F09#32],
    ![0x3EA19BAC#32, 0x3FA1DE10#32, 0x3F8E46F3#32],
    ![0x3FA55269#32, 0x3D01DEAB#32, 0x3F586220#32],
    ![0x3FB99051#32, 0x3CC0156D#32, 0x3D127983#32],
    ![0x3F0F76EC#32, 0x3E2B82F7#32, 0x4012B55B#32],
    ![0x3F443CBA#32, 0xBF16A7D8#32, 0xBEA9BBB0#32],
    ![0x3F4DF112#32, 0xBEF40E9D#32, 0xBE491DD6#32],
    ![0xBFBC38B5#32, 0xBF81AEE6#32, 0x3E0493CD#32],
    ![0xBEA76F70#32, 0xBE63FC7B#32, 0x3FAA9772#32],
    ![0xBDA235D7#32, 0xC00CF98D#32, 0x3E50798C#32],
    ![0xBFDB8E67#32, 0xBF9E5F15#32, 0x3F6619D8#32],
    ![0xBF1602A9#32, 0x3F8B127F#32, 0xBF00DC86#32],
    ![0xBF6422A6#32, 0xBF00A2C4#32, 0x4003653B#32],
    ![0xBF02C414#32, 0xBEC991E4#32, 0xBF2BF7BB#32],
    ![0x3E6444CC#32, 0x3F3F96C4#32, 0x3F147CFE#32],
    ![0xBEDC2336#32, 0xBE4E5FE3#32, 0x3E6880BD#32],
    ![0x3F9629F8#32, 0xC05C9C15#32, 0x40412D39#32],
    ![0xBF167CE4#32, 0xBF56AE3A#32, 0x3F046FE1#32],
    ![0x3D843FD4#32, 0xBF942EBB#32, 0x3F6B5283#32],
    ![0xBFC39DFE#32, 0xBF758B58#32, 0x3FC54A39#32],
    ![0xBF5F6CBB#32, 0xBFF33FCD#32, 0xBEF6E152#32],
    ![0x3FB953A8#32, 0xBF0EBC2F#32, 0x3F75BEFE#32],
    ![0x3F7E1610#32, 0x3F754CD9#32, 0xBF86420A#32],
    ![0x3EE0C168#32, 0xBF834C63#32, 0x3EAFEB1E#32],
    ![0x3F74C263#32, 0x3F249B27#32, 0x3FD3DD06#32],
    ![0x3EA29561#32, 0xBFAE3313#32, 0x3E8D4E70#32],
    ![0x3F9C13C1#32, 0xBFD63909#32, 0x3E478937#32],
    ![0x3ED85C20#32, 0x3DC1F811#32, 0x3DA88976#32],
    ![0xBE8AFA3F#32, 0xBDBD5C2A#32, 0x3F096570#32],
    ![0x3CFB0D81#32, 0xBE996017#32, 0xBF0A71DD#32],
    ![0x3FA55797#32, 0xBEF4620A#32, 0xBF0870AF#32],
    ![0xBE99011B#32, 0x40344C91#32, 0x3E9E1612#32],
    ![0x3FD04B9F#32, 0xBF693CD3#32, 0x3EF6B23A#32],
    ![0x3E6194A3#32, 0xBF12EF25#32, 0xBFF4F00D#32],
    ![0xBF51CEC1#32, 0x3EE5F704#32, 0xBF0A9313#32],
    ![0x402147BB#32, 0xBDB11341#32, 0xBF0C9985#32],
    ![0x3E882363#32, 0x3D42C6DB#32, 0x3E620059#32],
    ![0xBF2A470D#32, 0x3E7C0D93#32, 0x3F4F9728#32],
    ![0xBE8F1ED7#32, 0xBE2699E9#32, 0x3EACD44A#32],
    ![0xBDF46EAF#32, 0x3F316C2F#32, 0xBEBC5BBE#32],
    ![0x3EAEE58B#32, 0xBFE2CDB9#32, 0xBE4A6B5D#32],
    ![0xBF610725#32, 0x3FFA2E4A#32, 0x3EFB9BDF#32],
    ![0x3F82DA98#32, 0xBE3A6491#32, 0xBF932658#32],
    ![0xBE446901#32, 0xBFC3DA14#32, 0x3FDA3C89#32],
    ![0x3EA43ED2#32, 0xBEA2E8C9#32, 0x3BA3C92B#32],
    ![0x3FE1AA26#32, 0xBEE0D419#32, 0xBE3849D1#32],
    ![0x3F820C63#32, 0x3F483FA5#32, 0x3D33B582#32],
    ![0x3CB6B554#32, 0xBF973EEF#32, 0xBFAC92AD#32],
    ![0xBF7A5390#32, 0xBFABCBB7#32, 0xBF0CE3E9#32],
    ![0xBF1862BB#32, 0x3ED6AA48#32, 0xBFA991D3#32],
    ![0xBFCCAF02#32, 0x3FEA7354#32, 0x3F449D39#32],
    ![0x3BE559DB#32, 0xBDD43386#32, 0xBF56D8BE#32],
    ![0x3E8E72A8#32, 0xBCD37BA0#32, 0xBFBA4986#32],
    ![0x3E42B4EB#32, 0xBFA21FBF#32, 0xBFFFA140#32],
    ![0xBF01FA2E#32, 0x3DA2F944#32, 0x3EEC46F4#32],
    ![0xBE78FF98#32, 0x3FAD963C#32, 0x3FED4CC9#32],
    ![0xBFAC80BA#32, 0xBF2D5E80#32, 0x3F25F29B#32],
    ![0x3F2D017A#32, 0x3F949D35#32, 0x3F0A6F51#32],
    ![0x3CE51AFE#32, 0x3EC5A1EC#32, 0x3F98CED6#32],
    ![0xBF61CD96#32, 0x3F84C8FB#32, 0xBE9AA036#32],
    ![0xBCCB6159#32, 0xBF94F443#32, 0x3F1DAAB5#32],
    ![0x3F3249B8#32, 0x3F051D4C#32, 0xBEB7FA65#32],
    ![0x3EF1AF3C#32, 0x3EF7CE00#32, 0x3CA3F4B0#32],
    ![0xBF1C7753#32, 0x3F5C518F#32, 0xBF2D96DE#32],
    ![0x3FA13078#32, 0xBFB2B418#32, 0xBF27C4D5#32],
    ![0xBF94E67D#32, 0xBFD94080#32, 0xBFCE1A0F#32],
    ![0xBF40D588#32, 0xBEE89195#32, 0x3E9CBE81#32],
    ![0x3F955C4D#32, 0x3F2298CB#32, 0xBED3E522#32],
    ![0xBEF0B77A#32, 0x3F8C814B#32, 0xBE3AE89D#32],
    ![0x3EB97BDB#32, 0xBF892BCC#32, 0x3ED311AD#32],
    ![0x3EB1F3FC#32, 0xBD65C172#32, 0x3F848E28#32],
    ![0xBC9F47DA#32, 0x3DAA213D#32, 0xBF3326EA#32],
    ![0xBF5BD31A#32, 0xBFE5D506#32, 0xBF26897A#32],
    ![0xBF8BABA8#32, 0xBFDA8027#32, 0x3F83342F#32],
    ![0xC02FDBFE#32, 0xBE90D83D#32, 0xBF89E801#32],
    ![0xBE5A7C02#32, 0xBDB7736D#32, 0x3F0DCA5D#32],
    ![0x3F67ABF3#32, 0x3FE9BA77#32, 0xBEB3600E#32],
    ![0xBF2BBFF9#32, 0xBF51D27B#32, 0xBF08B84E#32],
    ![0xC021AAB6#32, 0xBFC02E89#32, 0xBF1FE022#32],
    ![0xBDD659E2#32, 0x3EC61B16#32, 0xBEAC7A98#32],
    ![0xBF331D22#32, 0xBBFA2252#32, 0x3FE913B5#32],
    ![0xBEC0408C#32, 0x3E87B458#32, 0x3FD1902E#32],
    ![0x3F4C3ADE#32, 0xBEEF86CC#32, 0xBF92916D#32],
    ![0xBE0F7355#32, 0x3E30DD69#32, 0xBFC5EC1B#32],
    ![0xBF9DF761#32, 0x4002E310#32, 0x3F1D4EC1#32],
    ![0xBF06AF3A#32, 0x401EA7B0#32, 0xBF2DF1A1#32],
    ![0x3FBD6131#32, 0x3B802775#32, 0xBF726D1D#32],
    ![0xBF514442#32, 0x3F18B41C#32, 0xBFB78DF1#32],
    ![0x3F8EABC5#32, 0x3FA0BE2D#32, 0x3D949253#32],
    ![0xBEFCF735#32, 0xBDDB9C96#32, 0x3E16CE26#32],
    ![0xBFCF8851#32, 0xBF64D2CC#32, 0x3EFB5931#32],
    ![0xBF16D6D9#32, 0xBF07EEC4#32, 0xBFB99B89#32],
    ![0xBE5C19D2#32, 0xBE61CBE5#32, 0x40303E07#32],
    ![0x3F3D995C#32, 0x3FA87637#32, 0x3F14E49C#32],
    ![0xC04022B9#32, 0xBEA409B1#32, 0x3F4F8ED5#32],
    ![0xBD6009D5#32, 0xBF844763#32, 0xBF631ECF#32],
    ![0xBEF30918#32, 0xC0033C64#32, 0xBF87C86B#32],
    ![0xBE1B2837#32, 0x3FB9E40F#32, 0xBE8EB881#32],
    ![0xBFAEE7EE#32, 0xBF898980#32, 0x3F6ED99F#32],
    ![0xBF47403C#32, 0xBF49BE8C#32, 0x3FB4AAA2#32],
    ![0x3FF7C9F8#32, 0xBE70BEA1#32, 0x3F9C11D2#32],
    ![0x3FB3668F#32, 0x3FE84669#32, 0xBF3D1E9F#32],
    ![0x3FCC9DCD#32, 0x3F437B05#32, 0x3E34D027#32],
    ![0xBF3634E6#32, 0x3F143CD4#32, 0xBEBAF3F8#32],
    ![0xBF8B77CC#32, 0xBFB913EA#32, 0x3F1F9F56#32],
    ![0xBED9F5F2#32, 0x3F44BD74#32, 0xBF275F90#32],
    ![0x3FA1FD89#32, 0x3ED98953#32, 0x3FBEAF4B#32],
    ![0xC0018A3B#32, 0xBE7A9057#32, 0xBEE57B29#32],
    ![0x3EBC899C#32, 0x3FA4A499#32, 0xBF5C1065#32],
    ![0xBE2FCF76#32, 0xBD7512C1#32, 0x3FC55317#32],
    ![0x3FABDEEC#32, 0xBF8D744C#32, 0x40011799#32],
    ![0x3D96A868#32, 0x3E0A54AA#32, 0x3F795427#32],
    ![0xBED784FD#32, 0x3F99FF64#32, 0x3F174E85#32],
    ![0x3F62A3F9#32, 0x400A242A#32, 0xBDAC5C50#32],
    ![0xBE2D136E#32, 0xBF260209#32, 0x3E48405E#32],
    ![0xBE4786F1#32, 0x406FA847#32, 0x400C6286#32],
    ![0xBE683AC6#32, 0x3E046CB3#32, 0x3EE5C398#32],
    ![0x3E8732AC#32, 0x3FC974A1#32, 0x3E3DBFF3#32],
    ![0xC0341336#32, 0xBF3C9E77#32, 0xBF1D5C8E#32],
    ![0x3D54B3E5#32, 0x3EE3B621#32, 0xBF086C4F#32],
    ![0xBE98008F#32, 0xBEA854E5#32, 0x3FAED1DD#32],
    ![0x3DE6FEF9#32, 0x3E905C1B#32, 0xBFA6C8CB#32],
    ![0x3E8149E9#32, 0x3C4FA54B#32, 0x3EC6952E#32],
    ![0x3F6C5781#32, 0x3FCBFB3E#32, 0x3E938C51#32],
    ![0x3D921103#32, 0x3FF0D419#32, 0xBEFCA990#32],
    ![0x3E51E33B#32, 0x40101C46#32, 0x3DC78A52#32],
    ![0xBEB4CC60#32, 0x3F7F1774#32, 0x3F9BEA7F#32],
    ![0xBD01CCF5#32, 0x3F9FBB49#32, 0x400837E6#32],
    ![0xBFDDB3A2#32, 0x3F18B2A3#32, 0x3F3F7A3E#32],
    ![0x3E314592#32, 0x3F9DC184#32, 0x3F211429#32],
    ![0xBFA63560#32, 0xBFE4075D#32, 0x3F92CD46#32],
    ![0x3F555512#32, 0x3F02B64D#32, 0x3F7B249A#32],
    ![0xBF8D3E4D#32, 0x3F40149C#32, 0x3F8A6785#32],
    ![0xBFF36359#32, 0xBF8AE1C8#32, 0xBE1E3596#32],
    ![0x4013B4CD#32, 0xBF727CE2#32, 0x3F62A964#32],
    ![0xBF14FC94#32, 0xBF4FC687#32, 0x3DAE4974#32],
    ![0x3F46923A#32, 0x3EEE2469#32, 0xBE8709F0#32],
    ![0x3F8C3769#32, 0xBFA6AEF9#32, 0xC0198FFA#32],
    ![0xBFFC208F#32, 0xBF193AB5#32, 0xBF2C6488#32],
    ![0x3E8C5CDD#32, 0xBF355F44#32, 0x3F8176DC#32],
    ![0x3F5B66EC#32, 0xBFD5D9E1#32, 0x3F494E47#32],
    ![0x3F1C84FA#32, 0x3FCDC340#32, 0xBDBB77C0#32],
    ![0xBB624207#32, 0xBDC0A91E#32, 0x3F81018C#32],
    ![0xBFA3CFDF#32, 0xBF8A4BE7#32, 0xBEFA75F5#32],
    ![0x3E42A373#32, 0xBFD0CB74#32, 0x3F889BD9#32],
    ![0xBF76E642#32, 0x3F5D57DD#32, 0x3F6AAEDA#32],
    ![0x3FDB5D14#32, 0xBEC7AF38#32, 0xBE10578F#32],
    ![0x4021E17D#32, 0xBF8BAAAE#32, 0xBE26778A#32],
    ![0x3F47D7BD#32, 0x3F1677BC#32, 0x3F416890#32],
    ![0xBF22EEE1#32, 0x3DE815BB#32, 0x3D4004C2#32],
    ![0x3E4FBCD2#32, 0xBED08EDF#32, 0x403D2078#32],
    ![0x3EF3B072#32, 0xBF1F295D#32, 0xBC87A51F#32],
    ![0xBE82134B#32, 0xBE733866#32, 0x3DA9EF3E#32],
    ![0xBFF0E3E4#32, 0x3FD05BC0#32, 0x3F56F79E#32],
    ![0xBF8F4F92#32, 0x3E84D650#32, 0x3E924C59#32],
    ![0x3EC40FC8#32, 0xBED22AED#32, 0xBF4276C6#32],
    ![0xBF25F10B#32, 0xBE9B4FB2#32, 0xBE996D1E#32],
    ![0xBF301DB2#32, 0x3FB94D83#32, 0x3FC041A9#32],
    ![0x3F0C95A8#32, 0x3D154EB6#32, 0xBE71F2DA#32],
    ![0xBFA376E8#32, 0x3E1F4E0A#32, 0x3DB45A02#32],
    ![0xBF9AB7E3#32, 0x3F3699C0#32, 0xBE42D4C9#32],
    ![0x3F5D2573#32, 0xBF25611A#32, 0x3F5AA0ED#32],
    ![0xBF00C140#32, 0x3FC8496B#32, 0xBE20507D#32],
    ![0xBE588FEB#32, 0x3DBC3425#32, 0xBFEF58DE#32],
    ![0x3F2C2324#32, 0x3F6CA308#32, 0xBE3F3DFC#32],
    ![0xBF9EE41F#32, 0x3F62D844#32, 0xBF9240A1#32],
    ![0xBF0B7F95#32, 0xBB09E620#32, 0x3F76B834#32],
    ![0x3FCEE101#32, 0xBFACCDC5#32, 0x3FD62875#32],
    ![0xBE5D2DB1#32, 0x3F63B187#32, 0xBEB40257#32],
    ![0x3E808774#32, 0x3FE4EAE6#32, 0xBE57ED66#32],
    ![0xBF8990B4#32, 0x40100F9F#32, 0xBE93A3C5#32],
    ![0xC0016136#32, 0xBF3A7082#32, 0x40132617#32],
    ![0xBEC6F9EC#32, 0x3FAC15C8#32, 0x3FC1DAD0#32],
    ![0xBF83F1B1#32, 0x3F191ABA#32, 0xC016C617#32],
    ![0x3FE785F9#32, 0x3F1B47C2#32, 0x4040B493#32],
    ![0xBFEF5600#32, 0xBF29D2D9#32, 0xBE7E0F03#32],
    ![0x3DC5F13B#32, 0x3EB8BADA#32, 0x3F0DDFAB#32],
    ![0x3EF77404#32, 0xBF3F73E8#32, 0x3F3C150B#32],
    ![0xBF2079D8#32, 0x3F04F71A#32, 0xBF433C12#32],
    ![0x3F315C53#32, 0xBF172993#32, 0x3E55B3A0#32],
    ![0x3E83D89B#32, 0x3FDFB817#32, 0xC04B635B#32],
    ![0x3ED10AD6#32, 0xBE29A19A#32, 0x3EDD99C4#32],
    ![0xBF3335ED#32, 0x3F8771C9#32, 0xC0307CFC#32],
    ![0xBE4A4B2D#32, 0xBF028144#32, 0x3EA8BEAE#32],
    ![0x3EFF631C#32, 0xBF60F79F#32, 0xBC5E2910#32],
    ![0xBF67FA1C#32, 0xBE33A737#32, 0x3FFE3D6F#32],
    ![0x3F64548E#32, 0xBF4AF5CB#32, 0xBF581096#32],
    ![0x3E12159F#32, 0x3EC3A874#32, 0x3D2A9BF9#32],
    ![0xBF086210#32, 0x3F7E3583#32, 0xBF626ECE#32],
    ![0xBF8298CE#32, 0xBFAE19E6#32, 0xBF3B8A94#32],
    ![0xBFBB2EA2#32, 0x3E3EAEDF#32, 0xBDF72484#32],
    ![0x3E97464C#32, 0xBF100969#32, 0xBFD7AE82#32],
    ![0x3E31C4B8#32, 0xBA421662#32, 0x3F224CBB#32],
    ![0x3F789632#32, 0x3F20CB4F#32, 0xBEC3CC41#32],
    ![0x3E54B3B5#32, 0x3F7CE5DD#32, 0x3E37EF06#32],
    ![0xBF9D84C8#32, 0x3E26E7D2#32, 0x400A2F4A#32],
    ![0xBFED50CD#32, 0x402FAD1D#32, 0x3EEA210F#32],
    ![0xBF4CB4D1#32, 0xBE018987#32, 0xC025B4B3#32],
    ![0xBF43CACE#32, 0xBDA2488B#32, 0xBF0E87E6#32],
    ![0x3E12F1C8#32, 0x3F12CE13#32, 0x3ED1F8AD#32],
    ![0xBF636963#32, 0xBDE4E59B#32, 0x3FF0BF3E#32],
    ![0xBE3AD89A#32, 0x3F042424#32, 0xBF5984A4#32],
    ![0xBFA0D3F3#32, 0xC020241D#32, 0xBE951C7E#32],
    ![0xBF0AEFEA#32, 0x3FCCD918#32, 0x3F6F1392#32],
    ![0x3F505C58#32, 0x3F9DAFE6#32, 0x3F210D80#32],
    ![0xBFA4DFC7#32, 0x3E6FE546#32, 0xBF0DEACC#32],
    ![0x3E0E33F9#32, 0xBFC8DBCA#32, 0x3F0AB03A#32],
    ![0x3E8D92A2#32, 0xBF8008C2#32, 0xBF66D239#32],
    ![0xBDA80671#32, 0x3EF6635E#32, 0x3CBD285E#32],
    ![0x3F59F9AE#32, 0x3FB262CD#32, 0xC00B52BA#32],
    ![0xC006E6F6#32, 0x3F95FDB2#32, 0xBF4F917C#32],
    ![0x3F4EBC4E#32, 0xBFB7E83F#32, 0x3D5740D3#32],
    ![0xBFF4209E#32, 0x3F0C6028#32, 0x3FB54D7D#32],
    ![0xBFB93623#32, 0x3E6B2919#32, 0xBECE2DDC#32],
    ![0x3F0266ED#32, 0xBE1AE059#32, 0xBE60D11C#32],
    ![0xBEF28BBF#32, 0x3EBEDAA4#32, 0xBD87C9CC#32],
    ![0x3F47B538#32, 0x3F4BC40D#32, 0x3F7B72A0#32],
    ![0xBF1446C0#32, 0x3E53DF8B#32, 0x3F7C214D#32],
    ![0xBF57C15C#32, 0xBF98FFFD#32, 0xBE4A974B#32],
    ![0x3F912F7E#32, 0xBFDED23E#32, 0xBF856483#32],
    ![0x3FCA3363#32, 0xC010FBE0#32, 0xBE54CD99#32],
    ![0x3F90E8E9#32, 0xBFDE4FF9#32, 0xBFC989F9#32],
    ![0xBEF4180C#32, 0xBF0E9FBB#32, 0xBE99022B#32],
    ![0xBF558BC9#32, 0x3E95621B#32, 0xBF5E7965#32],
    ![0x3FF5D985#32, 0x3F3ADE31#32, 0xBE9D14A7#32],
    ![0xBF9FC97C#32, 0x3F123FB8#32, 0x3E098AF1#32],
    ![0xC005C28F#32, 0x3EB8FC92#32, 0xBFEDF02A#32],
    ![0x3E9E5759#32, 0xBDF904C1#32, 0x3DF8BAF8#32],
    ![0x3D0909DF#32, 0x3EDB16B1#32, 0xBE5BC17D#32],
    ![0xBDB17A19#32, 0xBEEDED69#32, 0x3FCEE635#32],
    ![0x3E06FFFA#32, 0x3FAF013E#32, 0x3F163E4E#32],
    ![0xBDEF34E1#32, 0x3E95E747#32, 0xBFC72AC7#32],
    ![0x3F4E0EAE#32, 0x3F9F02EF#32, 0x4000DB36#32],
    ![0xBE213D87#32, 0xBEB0AAAE#32, 0xBF3FB95A#32],
    ![0xBF07C52C#32, 0xBF66ECD8#32, 0xBF3FF135#32],
    ![0x3FB3F69E#32, 0xBD7135B8#32, 0xBF5BC606#32],
    ![0x3F9703ED#32, 0x3E924F5E#32, 0xBF9AEDBF#32],
    ![0xBF041C42#32, 0xBEFD3FD6#32, 0x3F8A287F#32],
    ![0x3EA51942#32, 0xBE07E99A#32, 0x3F02A822#32],
    ![0x3E10B43E#32, 0xBF4898BC#32, 0xBE8F2A87#32],
    ![0xBE22A391#32, 0x3E199539#32, 0x3F95C421#32],
    ![0xBF15EA29#32, 0x3FB68468#32, 0xBEA4EC4F#32],
    ![0xBF86BC94#32, 0xC036D07F#32, 0xBD17CBAB#32],
    ![0x3EC547EE#32, 0x3F66BBED#32, 0xBEE0812D#32],
    ![0xBFCA814A#32, 0x3F20854D#32, 0x3FAE92B1#32],
    ![0xBF0E5381#32, 0x3EA6C8B1#32, 0xBD3E37D3#32],
    ![0x3F5AE6BA#32, 0xBFA7263E#32, 0x3F61A420#32],
    ![0x3EE19AF9#32, 0x3F6F0817#32, 0xBDF5D8D0#32],
    ![0x3F546498#32, 0x3E6BF61D#32, 0xC0016DA7#32],
    ![0xBF80FFF5#32, 0x3F1764AD#32, 0x3FA2B61C#32],
    ![0xBEB04F33#32, 0xBDE25FEE#32, 0x3E5606A5#32],
    ![0xBF89F846#32, 0x3FA67DCA#32, 0xBE8C12B7#32],
    ![0xBFE4E266#32, 0xBF56D3C2#32, 0x3FAE06F5#32],
    ![0x3E9D26E5#32, 0xBFB17CBD#32, 0x3F9297A5#32],
    ![0xBE408EB7#32, 0x3DDAA365#32, 0x3F1CD54C#32],
    ![0xBFE7DC1C#32, 0x3EEF4CE3#32, 0x3FAE742A#32],
    ![0x3F0EED58#32, 0xBFDA477D#32, 0x3EBBEE71#32],
    ![0xBECE702C#32, 0x3F570AB4#32, 0xBF2487EC#32],
    ![0xBD9F6C3C#32, 0x3F608A99#32, 0x3E56D4FC#32],
    ![0xBFB24B23#32, 0xBEBCD804#32, 0xBEFBD1DC#32],
    ![0x3DB33DAB#32, 0xB9ABD24F#32, 0xBF497970#32],
    ![0xBFA0FCAC#32, 0x3F03263B#32, 0xBEC23A49#32],
    ![0xBEECF2F2#32, 0x3FAAA1E4#32, 0x3DDDA89B#32],
    ![0x3E218058#32, 0x40082F2E#32, 0x3D2CB70F#32],
    ![0xBEC7BC5C#32, 0xBF49E2D5#32, 0xBF5542F6#32],
    ![0xBF1E14D3#32, 0xBE88DD13#32, 0xBF921CAB#32],
    ![0xBE8A2C06#32, 0xBF5A963A#32, 0xBE84ED2E#32],
    ![0x4017E30B#32, 0x3E33F8B6#32, 0xBB78CC51#32],
    ![0xBF186464#32, 0x3EE5859E#32, 0xC01D5C33#32],
    ![0xBE2465CF#32, 0xBE278033#32, 0xBE38423F#32],
    ![0xBF93C50A#32, 0xBA0C31E7#32, 0x3ECDEBC1#32],
    ![0xC00E64FA#32, 0x3E11BC84#32, 0xBEF0F5C6#32],
    ![0x3F004E11#32, 0x3EF59D84#32, 0x3F1EC542#32],
    ![0x3FB40B26#32, 0xBF9A4026#32, 0xBF80E0A3#32],
    ![0xBE0680BA#32, 0x3F1AA34E#32, 0x3FC5674F#32],
    ![0xBFD19583#32, 0xBE2B43EE#32, 0x3EAC202D#32],
    ![0xBD201E49#32, 0xBF162E14#32, 0x3E8F5E27#32],
    ![0xBF579308#32, 0x3E1D9008#32, 0x3F7C2FA6#32],
    ![0xBE6CE6F1#32, 0xBF6B0CF9#32, 0xBD35FB25#32],
    ![0xBE9DF4B2#32, 0x3F085B47#32, 0x3F9AD015#32],
    ![0xBED81FDB#32, 0xBEBFF34F#32, 0x3FB9FFC5#32],
    ![0x3F047B57#32, 0x3FB17270#32, 0x3EFDC5DF#32],
    ![0x3FF153E4#32, 0x3FC840F6#32, 0x3FB87483#32],
    ![0xBFAB052C#32, 0x3F838A94#32, 0xBE8F4D83#32],
    ![0xBFA39D6B#32, 0x3E270293#32, 0xC001C2B2#32],
    ![0xBE0905F4#32, 0xBF9B2D16#32, 0x3F068BD1#32],
    ![0x3FA58A29#32, 0xBE116C2A#32, 0xBD9307AE#32],
    ![0x3F2E71CE#32, 0xBED19DA0#32, 0xBE8DE327#32],
    ![0xBDAE596A#32, 0x3DE187C1#32, 0xBE92C526#32],
    ![0xBDFAA08B#32, 0x3F9419E4#32, 0x3E98DF18#32],
    ![0xBF4AD92E#32, 0x3ECE017F#32, 0x3F6E4E76#32],
    ![0x3FADF2BB#32, 0xBE8895D7#32, 0x3F98C1E0#32],
    ![0xBF85E24D#32, 0xBF93111E#32, 0x3F5454C3#32],
    ![0x3E9A4B38#32, 0x3F013658#32, 0x3F3524A0#32],
    ![0xBF299E6D#32, 0x3EF6D6C9#32, 0x3F0645CE#32],
    ![0xBF0FBE0D#32, 0xBCE9D8FF#32, 0x3EF7916C#32],
    ![0x3FB39A9E#32, 0x3F5B5654#32, 0xBEC542CF#32],
    ![0xBF24549C#32, 0x3FD34D9B#32, 0x3F25C35B#32],
    ![0xBF490E21#32, 0xBEC78A95#32, 0x3E32119E#32],
    ![0x3E412325#32, 0xBD2BAC56#32, 0x3F86141D#32],
    ![0xBDC9DBDF#32, 0xBFA4F367#32, 0xBED242E1#32],
    ![0xBF10C12F#32, 0x3DA5743B#32, 0x3F8BFE88#32],
    ![0x3F47C00D#32, 0x3EAC95BA#32, 0x3FEFF16D#32],
    ![0x3F65E152#32, 0xBEDDBCA0#32, 0x3F20BC0C#32],
    ![0x3D3DD34B#32, 0x3E3CE67E#32, 0xBF09AF28#32],
    ![0x3F9668B5#32, 0x3F8ABA73#32, 0x3E48848E#32],
    ![0xBECD6759#32, 0x3EFC21E6#32, 0xBFE0B031#32],
    ![0x3F3683B6#32, 0x3D8CE8B1#32, 0x3ECC46FB#32],
    ![0x3E866C8F#32, 0xBCBE5EF5#32, 0x3F4D7486#32],
    ![0xBEC88925#32, 0x3EA89B89#32, 0x3F93B31D#32],
    ![0xC0203EB6#32, 0x3E80BEE0#32, 0x3DDAF3E9#32],
    ![0xBFBB0348#32, 0xBE24CE27#32, 0xBF48D19D#32],
    ![0x400958AA#32, 0xBF1937F7#32, 0x3EAF5BAF#32],
    ![0xBEF6FB03#32, 0x3DFF6471#32, 0x3EE87116#32],
    ![0x3FC1445B#32, 0xBE81CD9A#32, 0xBFC319E1#32],
    ![0x3F9C505D#32, 0xBF7E392F#32, 0x3E137FB1#32],
    ![0xBDF77D0C#32, 0x3DD11683#32, 0x3FB0BE77#32],
    ![0xBF93DAFF#32, 0xBE975E37#32, 0x3ED48BDB#32],
    ![0xBED0B320#32, 0x3F965036#32, 0xBD67D9C6#32],
    ![0xBF941510#32, 0x3CAA1C6E#32, 0xBF3F2482#32],
    ![0x3F52F2F0#32, 0x3EBD5391#32, 0xBC0B43E3#32],
    ![0x3DE2BD7A#32, 0xBF95457A#32, 0xBE811C28#32],
    ![0x3EDE20DA#32, 0x3F94410B#32, 0xBE5C896A#32],
    ![0xBF28C86A#32, 0x3F19238E#32, 0xBD998D83#32],
    ![0x3F5D2217#32, 0xBE32D7EE#32, 0x3ED460EA#32],
    ![0xBF30D790#32, 0xC0187204#32, 0xBF9227B8#32],
    ![0x3F38F319#32, 0x400E8E12#32, 0xBE41CACE#32],
    ![0x3F1DFE29#32, 0x3F4C3EB1#32, 0xBF8FAA76#32],
    ![0x3EADD1B4#32, 0x3E30C74F#32, 0xBE17AB87#32],
    ![0x3FC1C93F#32, 0xBE52E68F#32, 0xBFA57494#32],
    ![0x3D1D5423#32, 0xBF1ACA09#32, 0x3F57883D#32],
    ![0x3E952F45#32, 0xBF8BA595#32, 0xC01C8729#32],
    ![0xBF633C5D#32, 0x3C9834CD#32, 0x3F9B3B4B#32],
    ![0xBF80B474#32, 0x3F543FB0#32, 0xBF03637C#32],
    ![0x3EAA3095#32, 0xBED180AB#32, 0x3BE12B80#32],
    ![0xBE729488#32, 0xBFFF8EED#32, 0xBF36E12B#32],
    ![0xBF81D0F5#32, 0xBFA43910#32, 0x3D34A8E2#32],
    ![0x3E8987CF#32, 0x3F7F5F1C#32, 0xBEC8CB29#32],
    ![0x3ED724E9#32, 0xBFD085FD#32, 0x3FCFEB21#32],
    ![0xBFFAD756#32, 0xBEB74E25#32, 0x3FBC1299#32],
    ![0x3FAC973B#32, 0xBF73472D#32, 0xBFA25F87#32],
    ![0xBEAF7B9A#32, 0x3EDA4CE5#32, 0xBF93B4DC#32],
    ![0x3F3370A1#32, 0x3F7F2D90#32, 0xBFDC75B7#32],
    ![0x3EA9CA7C#32, 0xBFF3FD18#32, 0xBF695EBD#32],
    ![0x3F9E215C#32, 0x3E5EA11B#32, 0x3FB6B7C0#32],
    ![0xBF969828#32, 0xBF2048B0#32, 0x3E9600C0#32],
    ![0x3F5145D5#32, 0xBF46EEC9#32, 0xBF33F910#32],
    ![0x3E0AE65C#32, 0x3F1729C5#32, 0x4011A113#32],
    ![0xBF416035#32, 0xBEEE1B02#32, 0xBFA1F564#32],
    ![0xBFFC7EFD#32, 0x3F0DEA66#32, 0xBF6C73FC#32],
    ![0xBEEB82B1#32, 0xBE50611D#32, 0xBF3495CC#32],
    ![0xBF2441AC#32, 0x3D8BB94F#32, 0x3FDB5488#32],
    ![0x3EDD3DFE#32, 0xBF167918#32, 0x3F5C5A2D#32],
    ![0x3FA71F6A#32, 0xBF65ABE5#32, 0x3FFC4FAA#32],
    ![0xBF92A664#32, 0x3E1E573D#32, 0xBFB8BDE0#32],
    ![0xBE9956FF#32, 0x3FFDEDDF#32, 0x3FC1E8F7#32],
    ![0x3FD49382#32, 0x3EBA9F44#32, 0x40187D83#32],
    ![0xBF1C8076#32, 0x3EC9141C#32, 0x3F442A64#32],
    ![0x3FC311FC#32, 0xBFCECB98#32, 0x3E8303EE#32],
    ![0x3FB3D3F3#32, 0xBE8F274F#32, 0x3E8D9405#32],
    ![0xBE088B9C#32, 0x3DC791E1#32, 0x3F829F0F#32],
    ![0xBD21F312#32, 0x4007B398#32, 0xBEE69138#32],
    ![0xBE84DEA3#32, 0x3E9AF316#32, 0xBF5B7A47#32],
    ![0x3F3509D8#32, 0xBEFC61BB#32, 0x3FB4236A#32],
    ![0xBF9507A9#32, 0x3DC57287#32, 0x3F56143E#32],
    ![0xBF03B99C#32, 0x3FB5A94D#32, 0x3AAA39BE#32],
    ![0x3E936A84#32, 0xBE19B5E7#32, 0x3F303626#32],
    ![0x3F37D3AA#32, 0x40336B8B#32, 0xBFA8F699#32],
    ![0x3E869912#32, 0xBEC57DD3#32, 0xBF58CFE9#32],
    ![0xBD229F89#32, 0xBEACBFBF#32, 0xBFD93371#32],
    ![0x3E19FA13#32, 0xBF87CA22#32, 0xBF1B2557#32],
    ![0x3FB5E127#32, 0xBE83E2F2#32, 0x3B8B4C06#32],
    ![0x3F672DAA#32, 0xBF2E7FD9#32, 0x3F3EB72C#32],
    ![0xBEC7BAE1#32, 0x3F9876E0#32, 0xBE703B61#32],
    ![0xBFC559EB#32, 0x3F8ED824#32, 0x3DEBB1C9#32],
    ![0x3F001DA0#32, 0x3F0071F3#32, 0x3F1CBD76#32],
    ![0x3F59A016#32, 0xBEC2D3B0#32, 0xBFB719F0#32],
    ![0x3FB51E62#32, 0x3FEA9CED#32, 0x3EAF0E5B#32],
    ![0xBEC5D391#32, 0xBF1EB1CF#32, 0xBF43CC02#32],
    ![0xBF075510#32, 0xBFB8AD27#32, 0xBFB0E4F1#32],
    ![0x3F475036#32, 0x3EA8563E#32, 0xBE6B9311#32],
    ![0x3D5E0991#32, 0xBEB87C43#32, 0xBDCD7C24#32],
    ![0xBF6A84E6#32, 0x3EFE78B7#32, 0x3FED6DBE#32],
    ![0x3F8209CF#32, 0xBF1F2ADD#32, 0x3FDCA64D#32],
    ![0xBF8A2C34#32, 0x3EB5442E#32, 0x3D88834E#32],
    ![0x3FE6F430#32, 0x3F2249D5#32, 0x3F8984BF#32],
    ![0xBEC62A6D#32, 0xBFC1A07E#32, 0x3DD6234C#32],
    ![0xBF308D8F#32, 0x3F54306B#32, 0x3F6D3C5B#32],
    ![0xBEB85EC2#32, 0x3EE347E6#32, 0xBF6C9818#32],
    ![0xBEB3BDBA#32, 0x3F45154B#32, 0xBEA0DE9E#32],
    ![0x3F8A09E2#32, 0x3F4F598E#32, 0x3EF4F814#32],
    ![0xBD2D917D#32, 0xBE5989A0#32, 0xBECA6F64#32],
    ![0xBEFAFBC9#32, 0x3FD1AFD0#32, 0x3F0168B7#32],
    ![0xBDA9A456#32, 0xBE046042#32, 0xBF7042E2#32],
    ![0x3F5C3E21#32, 0xC003F211#32, 0x3F164485#32],
    ![0xBFA5162D#32, 0x3EC54309#32, 0xBF829842#32],
    ![0x3E41F84D#32, 0x3F46F82C#32, 0xBF0C9689#32],
    ![0xBE21C0A1#32, 0x3F0DEB33#32, 0xBFC0794A#32],
    ![0xBF01E9D4#32, 0xBF33458A#32, 0xBEF8DCB2#32],
    ![0x3EEA22E5#32, 0x3E4C70DF#32, 0xBFC48636#32],
    ![0xBE875E7E#32, 0xBE75A5F4#32, 0x3F43A181#32],
    ![0xBFC6B6A2#32, 0xBF1F22A4#32, 0xBF15C681#32],
    ![0x3F8AD02D#32, 0x3F32D0FC#32, 0xBEE8F762#32],
    ![0x3E84E2FD#32, 0xBE9C6E35#32, 0x3DA9018F#32],
    ![0x3F825A71#32, 0x3E77970A#32, 0x3FB8C21B#32],
    ![0xBE94C8DA#32, 0xBF70B466#32, 0x3F1CC676#32],
    ![0xBE6FA89B#32, 0x3DBDE5E9#32, 0xBE9BD9B8#32],
    ![0x3FAE1364#32, 0xBFBC896C#32, 0xBEB70388#32],
    ![0x3E27E814#32, 0x3F030C33#32, 0x40554428#32],
    ![0xBFC319A8#32, 0x3E8B37B6#32, 0x402F5643#32],
    ![0x3FBAF55B#32, 0x3FA104AC#32, 0xBF8CF8AD#32],
    ![0x3F63A42D#32, 0x3F0BC4F2#32, 0xC0153C40#32],
    ![0x3EF9C2E6#32, 0xBF2567C3#32, 0xBEABF559#32],
    ![0x3FA8F6A2#32, 0xBF23A422#32, 0xBF3B7F8A#32],
    ![0xBE75BD80#32, 0x3E1CACE0#32, 0xBEC55677#32],
    ![0xBE91F7C2#32, 0x3FB03B86#32, 0x3DAB7C0B#32],
    ![0x3FFC12B2#32, 0xBE8F785D#32, 0x3FC40E06#32],
    ![0x3EC701A1#32, 0x3FB2C552#32, 0x3E2583C3#32],
    ![0xBFAAA18C#32, 0x3EF82402#32, 0xBF197765#32],
    ![0x3ED653E8#32, 0xBFD1CCEB#32, 0x3E930404#32],
    ![0xBEB3750B#32, 0x3F39D373#32, 0x3F3D9247#32],
    ![0xBDECF648#32, 0x3F69330F#32, 0x3F4BCB77#32],
    ![0x3F3B116E#32, 0xBF86BB04#32, 0xBF82C6BE#32],
    ![0xBDE56092#32, 0x3FA39971#32, 0x3F58059C#32],
    ![0xBF4B6F6E#32, 0xBF886950#32, 0x3FA9F6DB#32],
    ![0xBFC4B45E#32, 0x3F2339D5#32, 0x3F5AD9C5#32],
    ![0x3F886C28#32, 0xBFD66654#32, 0xBFB3CFB4#32],
    ![0x3F3EF59C#32, 0xBFB599E2#32, 0xC029A527#32],
    ![0xBEBF43C3#32, 0xBFBF62DF#32, 0xBFE61EB2#32],
    ![0xBFCF9D5B#32, 0xBF4992DD#32, 0xBEE6131C#32],
    ![0x3FDA3DAA#32, 0x3F1D2A19#32, 0x3AE0B4A3#32],
    ![0x3FB2D098#32, 0x3E751537#32, 0x3D8847CC#32],
    ![0x3EB5D652#32, 0x3FD25075#32, 0x3F5A2C53#32],
    ![0xBDAC745E#32, 0xBF0C8CAD#32, 0xBEF2B0C7#32],
    ![0x3FE74271#32, 0x3C0828A1#32, 0xBF6BB00D#32],
    ![0x3F05CD04#32, 0xC01F8F8E#32, 0x3F9B0E0B#32],
    ![0x3DDDA708#32, 0x3F2C03E4#32, 0xBF8F09B0#32],
    ![0xC019918C#32, 0x3F05018B#32, 0x3F52B300#32],
    ![0x3EB919E2#32, 0xBF4A1CE7#32, 0xBE8327B0#32],
    ![0xBF73A5C3#32, 0xBEA10388#32, 0x3F8DE1AD#32],
    ![0x3F6B89F6#32, 0x3F667BD7#32, 0x3F969735#32],
    ![0x3F36DCE2#32, 0xBF601A17#32, 0x3F6C9E67#32],
    ![0x3E9E3DE0#32, 0xBE86F54B#32, 0x3EBCD013#32],
    ![0xBF4EEDA9#32, 0x400C4F71#32, 0xBD5F847A#32],
    ![0xBFAFBC7A#32, 0xBFB3671E#32, 0x3F878CB5#32],
    ![0x3F293D7C#32, 0xBE46E4F9#32, 0x3FBCE9FA#32],
    ![0x3F5B28C6#32, 0xBF1AD649#32, 0x3DFEDB66#32],
    ![0xBFB9A08D#32, 0x3F7F9F0C#32, 0xBF5B1158#32],
    ![0xBF414F3A#32, 0xBEF0911E#32, 0xBC930FA9#32],
    ![0xBF7827EA#32, 0x3FF2C36A#32, 0xBC4FC681#32],
    ![0x3F04FE3A#32, 0xBE42FC83#32, 0xBE8D71FA#32],
    ![0x3E9205C7#32, 0x3F083803#32, 0xBE63F047#32],
    ![0x3F8D9DD9#32, 0x3F084379#32, 0xBE370C1F#32],
    ![0x3EF8AA1F#32, 0x3F8D0BF5#32, 0x3E60E924#32],
    ![0xBE6229F7#32, 0x3F33B7EF#32, 0x3FCA743C#32],
    ![0x3EA06D20#32, 0x3F95EF71#32, 0xBE0AABE6#32],
    ![0xBF23D310#32, 0xBE89A7F3#32, 0xBF651891#32],
    ![0x3BB892D2#32, 0xBF5658A7#32, 0xBE459E9C#32],
    ![0xBF393512#32, 0x3F97D7D5#32, 0x3F33A59F#32],
    ![0x3FAD71AC#32, 0x3DF5E2FE#32, 0x3E52BA6F#32],
    ![0xBECE0E42#32, 0xBEC72760#32, 0xBF8ED625#32],
    ![0xBF872452#32, 0xBF8A34F9#32, 0x3F523265#32],
    ![0x3F5BAC98#32, 0xBF06B683#32, 0x3E73CA0D#32],
    ![0xBF3C538A#32, 0x3EB9D9D8#32, 0x3F21BD52#32],
    ![0x3EA6E472#32, 0xBEC691C7#32, 0x3F56D974#32],
    ![0x3E09BC1A#32, 0x3FC3F97E#32, 0xBF297063#32],
    ![0x3F45B69C#32, 0x401758DC#32, 0xBEE4A5EB#32],
    ![0xBF35D405#32, 0xBF3464D0#32, 0x3F0D1312#32],
    ![0xBFA6BDD1#32, 0x3EAE8624#32, 0x3E97AC45#32],
    ![0x3F255D2E#32, 0x3F029DBD#32, 0xBF7495E0#32],
    ![0x3ECC50E7#32, 0xBFC8E6E4#32, 0xBF9FB172#32],
    ![0xBEA67101#32, 0xBFBC7674#32, 0x3EF12F62#32],
    ![0xBF19F963#32, 0x3F3401BA#32, 0x3F4FD7C5#32],
    ![0x3FD2A59C#32, 0x3FA51207#32, 0xBF78FC46#32],
    ![0x3F48E87C#32, 0x3F143F66#32, 0xBF9FF360#32],
    ![0x3F8391AB#32, 0xBEEE8B66#32, 0x3F16BF96#32],
    ![0x3E11F188#32, 0xBDC22691#32, 0xBB35C3DA#32],
    ![0xBE83EE9B#32, 0x3F0CCF4E#32, 0xC023C092#32],
    ![0x3F942CFB#32, 0x3F2569E0#32, 0xBF41C598#32],
    ![0xBFC245A0#32, 0x3D18EE7C#32, 0xBDFA302A#32],
    ![0x3E5031A6#32, 0x3FE0A26A#32, 0x3EEBF02F#32],
    ![0xBF58399E#32, 0xBFBAC368#32, 0xBE6BE771#32],
    ![0xBF8019BB#32, 0x3F8142B7#32, 0xC013B619#32],
    ![0xBF12E867#32, 0x3F77A774#32, 0x3E7CCD06#32],
    ![0x3F9601E6#32, 0x3F0A4121#32, 0xBF14D6B5#32],
    ![0xBEC0F9B9#32, 0xBF0EA56C#32, 0xBFA8FD63#32],
    ![0xBF9081DF#32, 0xBEDAAE6F#32, 0x3F521C7B#32],
    ![0xBF071EB1#32, 0x3F3C1DB6#32, 0x3FB4C047#32],
    ![0x3F42B454#32, 0x4010BB17#32, 0xBF91FB11#32],
    ![0xBF82A710#32, 0x3EDEAA7F#32, 0x3F36C3D0#32],
    ![0x3EA453C5#32, 0xBFDA9CD8#32, 0xBFD66BE9#32],
    ![0xBEF6F0B8#32, 0x3F9F72AC#32, 0x3DB0B01B#32],
    ![0xC004EEB6#32, 0xBF7548C7#32, 0xC0122EC4#32],
    ![0xBDA78033#32, 0x3F865D74#32, 0x3EB63452#32],
    ![0x4003B0A1#32, 0x3F2F649F#32, 0x3E6063F2#32],
    ![0xBF3CBD82#32, 0xBF010F47#32, 0x3F879605#32],
    ![0x3E9297F4#32, 0x3ED95790#32, 0xBFC19FE0#32],
    ![0x3EC24F19#32, 0xBE3C11D0#32, 0xBF934F37#32],
    ![0xBFF39675#32, 0x3F51E34B#32, 0x3F36C4E7#32],
    ![0xBF7A1875#32, 0x3FBB2D13#32, 0xBDD62FFA#32],
    ![0x3F1002E9#32, 0xBF8FE476#32, 0x3E9B46E8#32],
    ![0x3EE444B9#32, 0xBE18D540#32, 0x3EB7C6B2#32],
    ![0xBF0DD7F6#32, 0x3FC68D5B#32, 0xBD54940E#32],
    ![0x3EE98544#32, 0xB9BEC724#32, 0x3F9ECC68#32],
    ![0xBF529906#32, 0xBFB5B45E#32, 0xBE84EA24#32],
    ![0x3F35DE4A#32, 0xBE215739#32, 0x3FD3F76E#32],
    ![0xBF22B229#32, 0xBF2C4C0A#32, 0xBF773447#32],
    ![0x3E132195#32, 0xBFC60343#32, 0x3F5A8882#32],
    ![0x3ED52623#32, 0x3E6F98DE#32, 0xBF546879#32],
    ![0x3F68A674#32, 0x3F1A0034#32, 0xBF415D72#32],
    ![0xBE00B587#32, 0xBFAA6C65#32, 0x3E527F3A#32],
    ![0xBEA6FFBC#32, 0x3F51060C#32, 0xBF15B1D3#32],
    ![0x404F8B90#32, 0xBD81C536#32, 0x3F3AE283#32],
    ![0xBE391EF3#32, 0x3F14D449#32, 0x402AF70A#32],
    ![0x3F01E663#32, 0xC012F5A1#32, 0xBF41B50A#32],
    ![0xBEF32AB8#32, 0x3F4297E2#32, 0xBFC1A5D7#32],
    ![0xBDE3B34F#32, 0x3DC95DDA#32, 0x3EF8508C#32],
    ![0x3F16FDFF#32, 0x3F424D3A#32, 0x3E2D3B98#32],
    ![0x3E030CD4#32, 0x3F27AD08#32, 0x3F467C61#32],
    ![0x3FAA3671#32, 0xBEFB6C65#32, 0xBF61A629#32],
    ![0x3EB57298#32, 0x3F49D063#32, 0x3DF524B1#32],
    ![0xBFBDC00B#32, 0xBCDCF784#32, 0x3F34ED68#32],
    ![0xBEA2743F#32, 0xBF109098#32, 0x3F4F6DE5#32],
    ![0xBF2CAB94#32, 0x3E8ED5E2#32, 0xBE8233BC#32],
    ![0x3FCF4001#32, 0xBCCA8051#32, 0xBE631A76#32],
    ![0xBF84A6F6#32, 0x3F487A2B#32, 0x40327438#32],
    ![0xBF9E4A81#32, 0x40000BD8#32, 0xBF9F84E0#32],
    ![0xBF171108#32, 0xBD62D872#32, 0x3EF2ED8A#32],
    ![0x3DEC8D7B#32, 0x3F4EEFE0#32, 0xBF79E28C#32],
    ![0x3F6D5FE1#32, 0xBBC45192#32, 0xBE11CFDE#32],
    ![0x3E289922#32, 0x3F0306C6#32, 0xBE8EC5A8#32],
    ![0x3EF8EFB7#32, 0x3E4DCBA4#32, 0xBE993DE3#32],
    ![0x3FD15F03#32, 0xBEC41B87#32, 0x3E516DCD#32],
    ![0x3FCCE578#32, 0x3F55F086#32, 0xBF0CE630#32],
    ![0xBE3EBC9E#32, 0x3F1D2093#32, 0xBF81BCE0#32],
    ![0x3FB3F884#32, 0xBFF85E24#32, 0xBFD82258#32],
    ![0x3ED5F7A9#32, 0x3F2A284F#32, 0x3F96FABC#32],
    ![0xBE175023#32, 0xBDA6268C#32, 0xBF39290C#32],
    ![0x3E5F7948#32, 0xBE9BC540#32, 0x3EA8907F#32],
    ![0x3EC1FA20#32, 0x3F8981DA#32, 0xBECA9344#32],
    ![0xBF0E141F#32, 0x3E813C15#32, 0xBFCCD103#32],
    ![0xBE95A348#32, 0xBF47F477#32, 0x3FB5D98D#32],
    ![0x401ADECE#32, 0x3EDF5EE4#32, 0xBF0AEE0D#32],
    ![0xBF18148E#32, 0xBF765586#32, 0x3F065ED1#32],
    ![0xBECCA755#32, 0x3EADC46E#32, 0xBFAD0CB8#32],
    ![0xBF2DA980#32, 0xBFFDBA25#32, 0xBFA3930D#32],
    ![0xBFED11BD#32, 0xBED88B15#32, 0xBF9E6C03#32],
    ![0x3F7D7530#32, 0xBF8E6223#32, 0xBEB4256C#32],
    ![0xBD1E7B5B#32, 0x40001A50#32, 0x3F3591A8#32],
    ![0x3FE2F491#32, 0xBF4DF647#32, 0xBE67C75D#32],
    ![0x3F59A9B3#32, 0xBEBBE290#32, 0x4031CB6B#32],
    ![0x3ED5ADE7#32, 0xBF124C8C#32, 0x3F49826D#32],
    ![0x3ED27E79#32, 0x3E8F52A0#32, 0x3FAB841D#32],
    ![0xBF129488#32, 0x3C7B8557#32, 0x3E74644C#32],
    ![0x3F03934F#32, 0xBF82186B#32, 0x3E8A99A5#32],
    ![0xBED4C16B#32, 0x3EDC1777#32, 0xBE4D7C12#32],
    ![0xBC845CAA#32, 0xBFFA02BB#32, 0x3E4FEB34#32],
    ![0xBFA803EE#32, 0xBEA1CD4E#32, 0x3CE0D46E#32],
    ![0xBE778B25#32, 0xBFDA44DA#32, 0x3FD89704#32],
    ![0x3EF0C5E4#32, 0x3E67A9E9#32, 0xBF80655D#32],
    ![0xBF01AED6#32, 0x3F26B539#32, 0xBFB42EC5#32],
    ![0xBD00B877#32, 0x3D04F1D7#32, 0x3F0A7F8B#32],
    ![0xBE88C06B#32, 0x3E1C8344#32, 0x3F2B052E#32],
    ![0x3EC3C81A#32, 0xBE291838#32, 0x401CA018#32],
    ![0x3EDBEB17#32, 0x3F0C4365#32, 0x4002FF9C#32],
    ![0x3CD3ACD4#32, 0xBE9CE7D2#32, 0xBEF3DCFD#32],
    ![0xBE87AF8A#32, 0xBF6F116F#32, 0xBF9E1338#32],
    ![0xBEE6DD9A#32, 0xBE3EC562#32, 0x3EF4A167#32],
    ![0x3EDB771C#32, 0xBF96336A#32, 0xBF44487D#32],
    ![0xBF68E87A#32, 0xBE9A2A9D#32, 0x4011DDF3#32],
    ![0xBEAFBE10#32, 0x3FFA5F1A#32, 0x3CF4675C#32],
    ![0xC048641E#32, 0x3F767A22#32, 0x3E85B859#32],
    ![0x3E8E1011#32, 0xBF2B605D#32, 0x3F22DF24#32],
    ![0x3F052768#32, 0xBECD83B6#32, 0xBFAF8327#32],
    ![0xBEF438D4#32, 0xBFADA53C#32, 0x3F03DD0F#32],
    ![0x3FB6BAC9#32, 0xBF61C27A#32, 0xBF7032F7#32],
    ![0xBD28C65C#32, 0x3E0CF5BC#32, 0xBFDEBF8A#32],
    ![0x3EEE4D2C#32, 0xBE362924#32, 0xBEB64E97#32],
    ![0x3FD516F2#32, 0x3F3DFCF7#32, 0x3F398AD8#32],
    ![0xBFBDC227#32, 0xBFD205EA#32, 0xBFD1640A#32],
    ![0x3FDDABCE#32, 0xBF211024#32, 0xBEB6463F#32],
    ![0xBFD50610#32, 0xBF3472F8#32, 0x40019D11#32],
    ![0x3F2F4ADF#32, 0xBF4E6235#32, 0xBE3C0FFA#32],
    ![0xBECE1B8D#32, 0x3F732117#32, 0x3F9C02F5#32],
    ![0xBFCFBC5B#32, 0xBD33300E#32, 0x3DDB9478#32],
    ![0xBF1CA073#32, 0xBEAEED2A#32, 0x3FDECF26#32],
    ![0x3F7D62DF#32, 0xBE94AD33#32, 0xBF713AB7#32],
    ![0xBED58E59#32, 0xBE3EE3FE#32, 0xBF8836CE#32],
    ![0x3E310727#32, 0xBF02EEB9#32, 0xBF252BD2#32],
    ![0x3F8E3BA2#32, 0x3E7F8589#32, 0xBFD5BF4B#32],
    ![0xBFDFB257#32, 0x3F0F6439#32, 0x3EB31D49#32],
    ![0xBE961AE6#32, 0x3F91BF8D#32, 0xBF99EAEF#32],
    ![0xBDC19204#32, 0xBF98AB6C#32, 0x3FD2180B#32],
    ![0xBEA48DA5#32, 0xBFFC1658#32, 0xBEB47E2F#32],
    ![0x3F326865#32, 0x3CD8B32B#32, 0xC01A91CD#32],
    ![0x3B638562#32, 0xBFED7996#32, 0x3FB8E3DB#32],
    ![0xBF6F73A2#32, 0x3F10B86B#32, 0x3EA30F5E#32],
    ![0x3F86C04E#32, 0x3E29D926#32, 0xBF09217B#32],
    ![0xBF4C20CE#32, 0x3EA0C1E1#32, 0x3F0DEE19#32],
    ![0xBE093CBB#32, 0x401266DC#32, 0xC0217C9D#32],
    ![0x3E86134C#32, 0x3EBAD0C9#32, 0xBE389CC5#32],
    ![0xBFE7DAB2#32, 0x400B2F58#32, 0x3DC02AFE#32],
    ![0x40226059#32, 0xBFFCFEC8#32, 0x3DA7F6CC#32],
    ![0xBF3464C9#32, 0x3EB47E5F#32, 0xBF70212C#32],
    ![0xBEAA489C#32, 0x3F81BC8E#32, 0xBE82EB82#32],
    ![0x3E4712D5#32, 0xBF4F7672#32, 0xBE81AFA2#32],
    ![0xBEF6F84A#32, 0x3F492276#32, 0x3FB294F7#32],
    ![0xBFE207D6#32, 0xBFBBA794#32, 0xBEFFAC1B#32],
    ![0x3EAD0522#32, 0x3EB35F69#32, 0x3F458670#32],
    ![0x3F06B69D#32, 0xBD08DB00#32, 0x3F1FF5CE#32],
    ![0x3FA54AF2#32, 0xBE90023B#32, 0xBECC4B3E#32],
    ![0xBED6E888#32, 0xBF182CFF#32, 0x40133046#32],
    ![0xC0498322#32, 0xC059E666#32, 0xBF7B2AA3#32],
    ![0x3F349B36#32, 0x3EBD0A44#32, 0x3EEB15A0#32],
    ![0xBFEFEB81#32, 0xBF6C11DD#32, 0xBFC021F7#32],
    ![0x3E2F29AF#32, 0x3F003A98#32, 0xBF06FC74#32],
    ![0xBED9F419#32, 0x3F30437A#32, 0x3ED9CA67#32],
    ![0xBF1E85F1#32, 0xC008845D#32, 0xBF367CAD#32],
    ![0xBED1E5E9#32, 0xBDC33EB1#32, 0xBE70DD13#32],
    ![0xBFEB48B2#32, 0xBE2321A0#32, 0x3EAC7782#32],
    ![0x3F238088#32, 0x3FA5737C#32, 0xBF3FF85D#32],
    ![0xBF661FFE#32, 0xBFAA50B5#32, 0xBF87861C#32],
    ![0x3F61EF73#32, 0x3DF2AD1A#32, 0xC013A64F#32],
    ![0x3F20207F#32, 0xBF005A11#32, 0xBF932685#32],
    ![0xBF0DC185#32, 0xBF45B64D#32, 0xBF33AEBB#32],
    ![0xC00BE71E#32, 0xC02AA567#32, 0xBF27C605#32],
    ![0x3F4A239B#32, 0x3FF8800C#32, 0xBFA10C49#32],
    ![0x3FB79E3A#32, 0xBF8D91B0#32, 0xBF023C3F#32],
    ![0x3F9B889A#32, 0x3F079194#32, 0x3FB528B4#32],
    ![0xC0284DFF#32, 0xBF900890#32, 0x3DC18EF1#32],
    ![0xBF2D1BD8#32, 0xBF842511#32, 0x3F9685A4#32],
    ![0xBFDE7ACF#32, 0x3FCF8992#32, 0xBF59A3BA#32],
    ![0x3FCFF9A5#32, 0x3F2CE8EC#32, 0xBFEB281C#32],
    ![0x3F2232A3#32, 0x3F2C7144#32, 0x3EAEF016#32],
    ![0x3F667ED1#32, 0x3F304334#32, 0xBF7DA42F#32],
    ![0xBF560D25#32, 0xBD48A90E#32, 0xBE066485#32],
    ![0xBF8C56AD#32, 0x3E831DB6#32, 0xBCF88C73#32],
    ![0x4009AA7C#32, 0xBF0482CF#32, 0xBF5E53AC#32],
    ![0x3E804048#32, 0x39DDE031#32, 0x3E2275D6#32],
    ![0x3F2B02C7#32, 0xBE794FF6#32, 0xBF16DD34#32],
    ![0xBFFAB93E#32, 0xBD5EC14D#32, 0x3F526EB8#32],
    ![0xBF341876#32, 0x3F872370#32, 0xBE564374#32],
    ![0x3EDA0C17#32, 0x3F564EA1#32, 0xBF5E0C52#32],
    ![0xBE0D9B22#32, 0xBF8FCC34#32, 0xBF92F2F0#32],
    ![0xBF1F917B#32, 0xBF0E912F#32, 0xBED17C27#32],
    ![0x3E775027#32, 0x3FD167AD#32, 0x3F53389F#32],
    ![0xBD2390FE#32, 0xBE0620F8#32, 0xBF59CC35#32],
    ![0xBE116D1D#32, 0x3FA9E4F7#32, 0xBF450373#32],
    ![0x3F987BA8#32, 0xC0171A25#32, 0x3EFD1806#32],
    ![0xBF2CDE9B#32, 0xBD67E604#32, 0x4017E39F#32],
    ![0x3EB5501A#32, 0xC00F066D#32, 0xBF82891B#32],
    ![0x3E9EF472#32, 0x3E2A27F0#32, 0xBF2DBCDA#32],
    ![0xBF2CC826#32, 0xBF2F5EAA#32, 0x3F1CC812#32],
    ![0xBF630118#32, 0x3E1896E0#32, 0x3CE93650#32],
    ![0xBD08515F#32, 0x3EC44E56#32, 0x3F413FCC#32],
    ![0x3FAA0443#32, 0xBF01A52D#32, 0xBEDA3B56#32],
    ![0xBF0FE7B8#32, 0xBFA9CD37#32, 0xBFD2C7CB#32],
    ![0xBF8FC22E#32, 0xBF63A028#32, 0x3F9E871F#32],
    ![0xBEF48792#32, 0x3F4DD4DE#32, 0x3F54C4B7#32],
    ![0xBF15DF47#32, 0x3EA7C650#32, 0x3C0E8881#32],
    ![0xBF61A7AB#32, 0x3F0B06FB#32, 0x3E40EA5F#32],
    ![0xBF4575F1#32, 0x3D97F0BB#32, 0x3E95B7D2#32],
    ![0xBF3EB2CA#32, 0x3FFBCDCE#32, 0x3E658718#32],
    ![0xBC855A7E#32, 0xC009525F#32, 0x3EFAB77E#32],
    ![0x4010CD3C#32, 0xBF42B3AF#32, 0x3F4BAACF#32],
    ![0xBECCA4DF#32, 0x3F9DE440#32, 0x3F2355AC#32],
    ![0x3E53BF0C#32, 0x3FC67E6C#32, 0x3FC0903E#32],
    ![0xBE56B01B#32, 0x3EE3B934#32, 0x3D7BD5CB#32],
    ![0x3E1FC0D9#32, 0x3F765DF9#32, 0x3F67D38C#32],
    ![0xBF146193#32, 0xBF949B46#32, 0x3E5DA198#32],
    ![0x3EE2A2AB#32, 0xBDFA5726#32, 0x3F47419F#32],
    ![0x3DB212DF#32, 0x4012A040#32, 0xBE1EFB25#32],
    ![0xBE335B2B#32, 0x3EF9177B#32, 0xBFC0B369#32],
    ![0xBF535EE7#32, 0x40068278#32, 0x3E8ABC96#32],
    ![0xBE869675#32, 0xBEA52D0A#32, 0xBF24E202#32],
    ![0xBE1CBA78#32, 0x3F60AE52#32, 0xC0480AA6#32],
    ![0x4007DF0F#32, 0xBF14D797#32, 0x3F60B3A5#32],
    ![0x3F18BF03#32, 0x3EE3E642#32, 0xBEC85755#32],
    ![0x3FAC7AF7#32, 0xBF54BDEC#32, 0xBF453B73#32],
    ![0x3F92614A#32, 0x3EF2D616#32, 0x3C048CE8#32],
    ![0xBF3BDFF3#32, 0x3F064F33#32, 0x3FB65ED3#32],
    ![0x3F00EE68#32, 0xBF899736#32, 0x3F81BF2C#32],
    ![0x3ED61E0B#32, 0xBE890B64#32, 0x3DFE03E6#32],
    ![0x3FA3D1E6#32, 0x3FD4326C#32, 0xBFA9A8F6#32],
    ![0x3EF4B9DC#32, 0xBECEECE2#32, 0xBE17763B#32],
    ![0x3E4844FF#32, 0xBD15B4C5#32, 0xBFEC8307#32],
    ![0x3F8C9E3E#32, 0x3FCA66D5#32, 0xC0076891#32],
    ![0xBEDE6466#32, 0x3EEFCD23#32, 0xBFBB0018#32],
    ![0xBDF5882E#32, 0x3EA4F9C6#32, 0xBF895E12#32],
    ![0xBF806C37#32, 0xBC1A7A17#32, 0x3F51CC40#32],
    ![0xBDCB5A6F#32, 0x3C76A627#32, 0xBEC7306B#32],
    ![0xBF67B122#32, 0x3F6A057D#32, 0x3EF80355#32],
    ![0xBF54ED0A#32, 0x3EFB53E5#32, 0x3F62F544#32],
    ![0x3B90ED5A#32, 0xBF07C1F9#32, 0x3EAA5153#32],
    ![0x3FAD63A0#32, 0xBFB78AB5#32, 0xBE0F6359#32],
    ![0xBCC7570E#32, 0xBFB448AE#32, 0xBF45F867#32],
    ![0xBE6EEA11#32, 0x3F953FDD#32, 0x3F1CF2E1#32],
    ![0x3FC01FBD#32, 0xBF19BD7F#32, 0x3EB77943#32],
    ![0x3FC76A54#32, 0xBED15794#32, 0x402752E3#32],
    ![0xBDA8760C#32, 0x3F15575B#32, 0xBFF4E06B#32],
    ![0x3E6899FB#32, 0xBF6AB648#32, 0x3F429ECF#32],
    ![0xBF7E73B8#32, 0xC0023C6F#32, 0x3F33F71F#32],
    ![0xBF5D0F48#32, 0xBF91F44B#32, 0x3BF45296#32],
    ![0x3F401688#32, 0xBF6A6535#32, 0x3FB32D23#32],
    ![0x3E92CC07#32, 0xBF73D99F#32, 0x3F484320#32],
    ![0x3F84B08E#32, 0xBF98F3A1#32, 0xBE83959E#32],
    ![0xBF255250#32, 0xBDF34C0D#32, 0x3F547A41#32],
    ![0xBFCA4546#32, 0x3F0BA6DB#32, 0x3F9A93B6#32],
    ![0xBD971A88#32, 0x400AD635#32, 0x3EA0BDC3#32],
    ![0xBDC87869#32, 0xBF417E25#32, 0xBF78F0F4#32],
    ![0xBF8688EE#32, 0x3FB3AE63#32, 0xBF8916C8#32],
    ![0x3E620B06#32, 0x3F03DA05#32, 0xBE621B46#32],
    ![0x3F6A351D#32, 0xBD8C34A8#32, 0x3EA528AF#32],
    ![0xBE4B8A13#32, 0x3F642CD6#32, 0x3F83E64A#32],
    ![0xBE2A9CBA#32, 0x3F82283D#32, 0x3EE02BB4#32],
    ![0xBFBCFCF1#32, 0xBE1BFA9B#32, 0x3ED60DEE#32],
    ![0xBF87AF6C#32, 0xBF69F7A5#32, 0xBE8DA929#32],
    ![0xBF635AD5#32, 0xBF0CFD0B#32, 0xBDC14E08#32],
    ![0xBF962858#32, 0xBEC9021C#32, 0x3F65846A#32],
    ![0xBFB66D1B#32, 0x3D71512F#32, 0x3CCE9637#32],
    ![0x406DE798#32, 0xBE4DB5B3#32, 0x3EDDD82E#32],
    ![0xBD719341#32, 0x3FE9687F#32, 0xC0147A7C#32],
    ![0x3FA3141D#32, 0x3E30412F#32, 0xC00618DF#32],
    ![0x3E51CE84#32, 0xBD372CA0#32, 0x3E7DBDF3#32],
    ![0x3F628DB1#32, 0xC009AAF3#32, 0x3E29E1E4#32],
    ![0xBF180AE8#32, 0x40028CDB#32, 0xBF92B3A4#32],
    ![0xBF889FF1#32, 0xC004DEBA#32, 0x3ED3B393#32],
    ![0xBED32910#32, 0x3F9E8822#32, 0x3FAC4F6E#32],
    ![0xBF33694F#32, 0xBF6E5C4F#32, 0x3F9AB22A#32],
    ![0xBFDD107C#32, 0x3F42C643#32, 0x3E6888B3#32],
    ![0xBF813D21#32, 0xBF0EC88F#32, 0xBF87BDE2#32],
    ![0xBE118330#32, 0xBECF92E0#32, 0xBF8147BE#32],
    ![0xBE680661#32, 0x3EA97F59#32, 0x40013BFE#32],
    ![0x3F71CA5C#32, 0xBF4B933C#32, 0xBF8E0A0E#32],
    ![0x3DED33DE#32, 0x3ECF93D6#32, 0x3F9FF1B2#32],
    ![0x3E4B5DEF#32, 0xBF901CA7#32, 0x3DC08020#32],
    ![0xBF49F1BA#32, 0xBFB72FD1#32, 0xBF15BA0D#32],
    ![0x3FC6A3BD#32, 0xBF935153#32, 0x3E88D647#32],
    ![0x3BDFB883#32, 0x3FEFBE9C#32, 0x3F1BA381#32],
    ![0x3FE16C74#32, 0x3EC7666E#32, 0x4004F280#32],
    ![0x40121245#32, 0x3F007FFD#32, 0x3FB638EC#32],
    ![0xC03CE0A4#32, 0xBE659650#32, 0x3EF91226#32],
    ![0xBF5DD1DC#32, 0x3F9C8DA1#32, 0x3FA1E377#32],
    ![0xBF39F887#32, 0x3F877233#32, 0xBE75DF08#32],
    ![0xBF8235C3#32, 0x3F050D6C#32, 0x3EE20AC7#32],
    ![0x3FAA7D97#32, 0xBDDBEB87#32, 0x3F7FB309#32],
    ![0x3F8F1261#32, 0x3FD99BB2#32, 0xBEC5291E#32],
    ![0xBEE203B8#32, 0x3EA640B7#32, 0x3F244E01#32],
    ![0xBD114396#32, 0x3F87A3F5#32, 0x3E827E32#32],
    ![0xBFA67676#32, 0x3F9B18D0#32, 0xBEAB09F7#32],
    ![0x3F16A965#32, 0x3F0C3E41#32, 0xBF178C4D#32],
    ![0x3EF9F5B9#32, 0x3FB5990A#32, 0x3E483FF7#32],
    ![0xBF307F0E#32, 0x3E10B2D2#32, 0xBD6A7FAA#32],
    ![0x3F6AFCA9#32, 0xBC17270D#32, 0xBE63C768#32],
    ![0x3F600B7E#32, 0xBF29FA20#32, 0xBF3E8F56#32],
    ![0xBF14D15A#32, 0xBD86E145#32, 0x3C57D501#32],
    ![0xBC8FE4A3#32, 0xBF8F3E6C#32, 0xBF4B5201#32],
    ![0xBF1F9A72#32, 0x3EB0A318#32, 0xBF2E109E#32],
    ![0x3F1F523A#32, 0xBECC8C7A#32, 0xBF0559CE#32],
    ![0x3F7D350F#32, 0x3D9F482B#32, 0xBE9250BC#32],
    ![0xBF5CCF0F#32, 0xBDD3F5EE#32, 0xBDDB75FB#32],
    ![0x3FAE317A#32, 0x3F7264E4#32, 0x3F986D0C#32],
    ![0xBEEBA04C#32, 0xBEDE040D#32, 0xBE31D4FC#32],
    ![0xBF8D621C#32, 0xBF3028BD#32, 0xBE39BD40#32],
    ![0xBED7F86E#32, 0xC0078A79#32, 0xBEF2A9CD#32],
    ![0xBFEEA390#32, 0xBF932B20#32, 0xBF5FC6C8#32],
    ![0xBF2997FC#32, 0xBF1D0E7A#32, 0xBEE191B7#32],
    ![0x3DF90FE2#32, 0xBECF3763#32, 0xBE1FD5E5#32],
    ![0x3FDA8563#32, 0xBF969DB1#32, 0xBFA87ECC#32],
    ![0x3E169839#32, 0x3F7C09A3#32, 0xBFF34CCB#32],
    ![0xBF74583F#32, 0x3F3E3FAA#32, 0xBF966692#32],
    ![0x3E2509DE#32, 0xBFC56179#32, 0xBFCFF6EB#32],
    ![0x3F17125E#32, 0x3DD7BB9D#32, 0xBDDD3D5E#32],
    ![0x3FC3AB44#32, 0x3FAE9391#32, 0x3DE43BBF#32],
    ![0x3FEF2CEB#32, 0x3EC2A5A6#32, 0xBE4EA212#32],
    ![0xBF1E3F28#32, 0x3E681D8F#32, 0x3F01B27A#32],
    ![0xBE275881#32, 0x3EF9AF72#32, 0x3E45EF93#32],
    ![0xBDA69300#32, 0x4004EAB6#32, 0x3E3B413A#32],
    ![0x3F72B8CC#32, 0xBF76B8C1#32, 0x3F9CC4CB#32],
    ![0xBCBC8474#32, 0x3E54604F#32, 0xBFA75C83#32],
    ![0x3E2CECC5#32, 0xBE4A6F33#32, 0xBD663B35#32],
    ![0xBE9B92E1#32, 0xBF98FB67#32, 0xBF814D2C#32],
    ![0xBDC3BBA7#32, 0xBD2B398F#32, 0xBF5EB696#32],
    ![0x3F889BBE#32, 0x3FC9306E#32, 0xBF967D99#32],
    ![0x3F99A6DA#32, 0xBEC08C2A#32, 0xBFFB5982#32],
    ![0x3F975412#32, 0x3F97822C#32, 0x3F611C58#32],
    ![0xBED9DF01#32, 0xBD95AB44#32, 0x3EA18D63#32],
    ![0x3F28F8D2#32, 0x3FDC9E9A#32, 0xBFA3507E#32],
    ![0x400B7D53#32, 0x3E8952E7#32, 0xBFAB2E9D#32],
    ![0x3F439372#32, 0x3F2410B0#32, 0x3DA807C7#32],
    ![0xBF5E0056#32, 0xBF2C195C#32, 0x3EF5BAB1#32],
    ![0xBE0E4F60#32, 0xBEC3ABC4#32, 0xBED6AE1B#32],
    ![0x3FAE2A24#32, 0xBE42D5E7#32, 0xBECE5BC5#32],
    ![0x3EB6DF5B#32, 0xBFA5CD43#32, 0xBF8B7594#32],
    ![0xBF18295A#32, 0xBF8D1C6D#32, 0x3F0E65C7#32],
    ![0x3FEBC2E9#32, 0x402B9123#32, 0xBEE30506#32],
    ![0xBD977DF9#32, 0xC0040EFB#32, 0x3F086021#32],
    ![0x3FF09B1C#32, 0x3ECA80F2#32, 0x3F9CD4C8#32],
    ![0x3F06FE6D#32, 0xBF6D98C6#32, 0xBF80CD12#32],
    ![0x3E402E37#32, 0xBF5B3813#32, 0xBF37E613#32],
    ![0xBEC5D175#32, 0x3F103C34#32, 0x3F41ACD0#32],
    ![0x3F863C71#32, 0xBE9A5AC6#32, 0x3F835C31#32],
    ![0xBF831837#32, 0xBE46EF44#32, 0x3EC155E3#32],
    ![0x3F0938C7#32, 0x3F935551#32, 0x3F5EC70A#32],
    ![0xBDC35B05#32, 0x3F0A12B1#32, 0xBF084485#32],
    ![0xBE74313E#32, 0xBE9765C9#32, 0x402468C3#32],
    ![0xBEA970B9#32, 0x3EBF4E3D#32, 0x3F93BF20#32],
    ![0x3FC127E6#32, 0x3F5AC1B4#32, 0x3E34A268#32],
    ![0x3FCB3C4E#32, 0x3F341EF2#32, 0x3F73EA39#32],
    ![0xBF7BBFCE#32, 0x3FA98F28#32, 0xBE1B1598#32],
    ![0xBEA40ACF#32, 0x3E901187#32, 0x3F3A9057#32],
    ![0xBF52B431#32, 0x3F6C1B7E#32, 0x3EA76844#32],
    ![0x3F49B39C#32, 0xBF050911#32, 0x3EF958D2#32],
    ![0xBFC34D18#32, 0x3F7A025B#32, 0x3FF90622#32],
    ![0xBEC4494B#32, 0x3D093D49#32, 0x3E5A5D33#32],
    ![0xBF9C86C6#32, 0x3F64A90B#32, 0xBF9AE6F3#32],
    ![0x3F7744A0#32, 0x3F147966#32, 0xBE97D8BC#32],
    ![0x3F30DF56#32, 0x3DE6E86D#32, 0xBE96F729#32],
    ![0x3F97FD56#32, 0xBDAA244D#32, 0x3F2748F4#32],
    ![0x3F7A994B#32, 0xBFDC6A94#32, 0x3E83CA06#32],
    ![0x3FC90257#32, 0xBF891CF4#32, 0xBFB98899#32],
    ![0xBFA74CC5#32, 0xBF5D491C#32, 0x3F3371CF#32],
    ![0xBF63DF91#32, 0xBE99CB43#32, 0x3DCF5A6E#32],
    ![0x3F20E809#32, 0x3C7F0592#32, 0x3EA742B7#32],
    ![0xBE0149F7#32, 0xBE852127#32, 0x3F857715#32],
    ![0x3F71F833#32, 0x3D635AD6#32, 0x3DAFE6AD#32],
    ![0xBD36D1AB#32, 0x3F033706#32, 0x3F4F54AA#32],
    ![0x3F837F20#32, 0x3FCC0BE9#32, 0x3F7E61AC#32],
    ![0x3F4650D2#32, 0xBE66B853#32, 0xC0178EC3#32],
    ![0x3F560EB0#32, 0xBF3B8B5E#32, 0x3F38321C#32],
    ![0x4000AD86#32, 0xBE14FC01#32, 0x3C2C69D5#32],
    ![0xBE29F970#32, 0x3D0B4E7C#32, 0xBEE549F9#32],
    ![0xBF4196D2#32, 0xBF486F37#32, 0xBFB4773E#32],
    ![0xBE9E980A#32, 0xBE0DBB52#32, 0xBEC11AFD#32],
    ![0xC00AB639#32, 0xBFDD36F0#32, 0x3FD0648E#32],
    ![0xBD321E43#32, 0x3F581C4B#32, 0xBF3FCE75#32],
    ![0xBF02A3AF#32, 0x3E451896#32, 0xBF1528D4#32],
    ![0x3F3B879E#32, 0x3D949AA7#32, 0xBFFCC32A#32],
    ![0xBE0DDE0B#32, 0x3F8EC264#32, 0x3F4E6417#32],
    ![0x3F7D0776#32, 0xBEB8293C#32, 0xC01CA4F0#32],
    ![0x3F6355FF#32, 0xBE91A589#32, 0x3F22B550#32],
    ![0x3F8887CC#32, 0xBD34527B#32, 0xBF1A1FAA#32],
    ![0x3F5C257F#32, 0x3F01362B#32, 0xBE6616D7#32],
    ![0x3ED044F0#32, 0xC00B6E1A#32, 0x3EC95FAE#32],
    ![0x3F3F5F34#32, 0xBF2C927B#32, 0xBD8C112B#32],
    ![0xBF1840A0#32, 0x3F7EB002#32, 0xBEC1D1F8#32],
    ![0x3E63F883#32, 0xBF0EF8DE#32, 0xBF90588A#32],
    ![0x3E6FFD96#32, 0x3DCB0281#32, 0xBFB57521#32],
    ![0xBFE5D40A#32, 0xBFEA4054#32, 0x3EA0D35E#32],
    ![0x3F126E8D#32, 0x3F967940#32, 0xBEE36161#32],
    ![0xBFBFB520#32, 0xBF1C4F27#32, 0xBFA36673#32],
    ![0xBE466622#32, 0x3F890543#32, 0x3F56F37F#32],
    ![0xBFA2063F#32, 0x3F2246D6#32, 0x3FA229C8#32],
    ![0xBF0193E1#32, 0xBF9A1571#32, 0xBF419326#32],
    ![0x3EF529D7#32, 0xBE8A8F1A#32, 0xBFA6182E#32],
    ![0x3FC7D090#32, 0xBF14A127#32, 0x3F135B91#32],
    ![0xBE96C797#32, 0xC00068E1#32, 0x3F0CE147#32],
    ![0xBFF3C3DB#32, 0x3E9FEA2B#32, 0xBF547FCC#32],
    ![0x3F0D755B#32, 0x3E57EFD7#32, 0x3FAEE36A#32],
    ![0x3F1CE643#32, 0x3FE25C09#32, 0x3F6C421A#32],
    ![0xBF11EE37#32, 0x3F6541C5#32, 0xBFDDAAFE#32],
    ![0xBF2E2B84#32, 0x3CBA09CC#32, 0x402672A8#32],
    ![0xBE32D773#32, 0x3DB3BD0D#32, 0xBE2CD4A7#32],
    ![0x3FD859CD#32, 0x3CF9B9B3#32, 0x3DE5E5DE#32],
    ![0x3E80D227#32, 0xBF4C9226#32, 0x3F4DD4CA#32],
    ![0x3F27F8A2#32, 0x3E9F01F7#32, 0xBF4391EA#32],
    ![0x3F57F933#32, 0x3F2164D9#32, 0x3E977158#32],
    ![0x3ED8BF72#32, 0xBF0DE4FA#32, 0x3F9FEA79#32],
    ![0x3FE6E0D8#32, 0x3EF28FAA#32, 0x3F3B9125#32],
    ![0x3F85A3FD#32, 0xBEA2EF4B#32, 0x3F1BB544#32],
    ![0x3ECBA31B#32, 0x3F81FF4F#32, 0x3E92C6B8#32],
    ![0x3F9676BC#32, 0x3FAEAE74#32, 0x3E8A4A77#32],
    ![0xC0013596#32, 0xBF8EB518#32, 0xBF44CD2D#32],
    ![0x3F332594#32, 0x3F748F87#32, 0xBD60966C#32],
    ![0xBEFBF7BE#32, 0xBE900AFE#32, 0x3FD894CE#32],
    ![0x3EAE18A8#32, 0xC00B89F1#32, 0x3E98B740#32],
    ![0x3DD754E6#32, 0x3EA056FF#32, 0x3EB773D5#32],
    ![0x3E748594#32, 0xBF5EC5B0#32, 0xBF5F3358#32],
    ![0x3E556940#32, 0xBFAF298D#32, 0x3DEEDF9F#32],
    ![0x3F167533#32, 0x3EC6BC88#32, 0x3F1187CD#32],
    ![0xBF470D08#32, 0xBFCA232C#32, 0x3FA4B5BD#32],
    ![0x3FC993B5#32, 0xBFB27A4E#32, 0x3F30E7B0#32],
    ![0xBFC6DED3#32, 0x3F9F7FDC#32, 0xBE59854D#32],
    ![0xBF51E5BF#32, 0xBFC6109C#32, 0x3E6AF630#32],
    ![0x3FC49C19#32, 0x3ED9ACD2#32, 0xBEA675CA#32],
    ![0x3FA8E2BA#32, 0xBF112162#32, 0xBE2D1199#32],
    ![0xC0021791#32, 0x3F910799#32, 0xBFF4A6A7#32],
    ![0x3ECB9930#32, 0xBE9EF515#32, 0xBF5CBC74#32],
    ![0xBFE2BD66#32, 0xBF756230#32, 0x3EF8C588#32],
    ![0x3F831431#32, 0xBF691239#32, 0xBF302CBB#32],
    ![0xBF5693CA#32, 0xBF6C49BA#32, 0xBF744C13#32],
    ![0xBF856E34#32, 0x400FA309#32, 0xBC06660D#32],
    ![0x3D66D15F#32, 0xBF762D17#32, 0x3F8B1523#32],
    ![0x3FC256E8#32, 0x3E976DC9#32, 0x3F30E140#32],
    ![0x3DBFDC00#32, 0xBE425FC7#32, 0x3F8179B0#32],
    ![0xBFFF69C0#32, 0xBF5BC2E1#32, 0xBF909C02#32],
    ![0x3F09B1F9#32, 0x3ED35E90#32, 0xBF9AC053#32],
    ![0xBF19B2A8#32, 0xBF84C28D#32, 0x40018FF1#32],
    ![0x400C90A3#32, 0x3F77F1A9#32, 0xBF147771#32],
    ![0x3F0C2FB6#32, 0xBFB9E9BA#32, 0x3ECF56C7#32],
    ![0x3F1203E8#32, 0xBE54678E#32, 0xBD4CA03A#32],
    ![0xBFAD208D#32, 0xBE6A2646#32, 0x3FAC863B#32],
    ![0x3FB9BA87#32, 0x3ECA15BA#32, 0xBEC33EFF#32],
    ![0x3FF04BFF#32, 0xBFAEB015#32, 0xBF2E9B2C#32],
    ![0x3F8EF468#32, 0xBFD4C2CA#32, 0x3EBC9894#32],
    ![0x3E675D16#32, 0x3FB86C71#32, 0x3FB56B7E#32],
    ![0xC02471BB#32, 0xBF14A717#32, 0xBF54AF43#32],
    ![0x3FC759A1#32, 0x3F804588#32, 0x3F142873#32],
    ![0xBF7DEBE2#32, 0x3D670ACD#32, 0x3F1B958E#32],
    ![0x3F4F4C1A#32, 0x3F0CA507#32, 0x3F299BA1#32],
    ![0xBE8EC8C0#32, 0x3E1EA3BD#32, 0x3D60845F#32],
    ![0x3E5B7BCB#32, 0x3E88F658#32, 0x3F1BFCA9#32],
    ![0x3EAB6136#32, 0x3FB34E91#32, 0xBED45A52#32],
    ![0xBF97628E#32, 0x3E566A3F#32, 0xBF859F9B#32],
    ![0xBF60B5BA#32, 0x3FF44BAC#32, 0xBE126F29#32],
    ![0x3F37C0E3#32, 0x3EDE9C4B#32, 0x3F4FD128#32],
    ![0x3EA4E809#32, 0x3EDBC842#32, 0xBF8BF04D#32],
    ![0xBF81C015#32, 0xBF949E8B#32, 0x3E87B851#32],
    ![0xBEAD1569#32, 0x3FA41521#32, 0x3B876661#32],
    ![0x3F2D26C4#32, 0x3F7C13D0#32, 0xBF3D0DA6#32],
    ![0x400CF732#32, 0x3FEC97F6#32, 0x3F7009C1#32],
    ![0xBF3885A6#32, 0x3E2B59BC#32, 0x3E1B61DC#32],
    ![0x3FE297B7#32, 0x3F8B835D#32, 0x3F56ABBC#32],
    ![0xBF84C6D8#32, 0xBF69149E#32, 0x3C7619C3#32],
    ![0xBF83E515#32, 0xBF84A96D#32, 0xBFC21EE8#32],
    ![0x3ED0C5E0#32, 0xBF1E941A#32, 0x3F37576B#32],
    ![0x3F7667DE#32, 0x3F636163#32, 0x3F8FB604#32],
    ![0x3EC1ECF6#32, 0x4005F8F4#32, 0xBE3D7645#32],
    ![0xBF20853E#32, 0xBFEFCCBA#32, 0x3D34B019#32],
    ![0xBF57C9B6#32, 0x3FD6D835#32, 0x3ED13CAE#32],
    ![0x3F0954DC#32, 0xBF9F2F00#32, 0xBF96BFA4#32],
    ![0x3DD27607#32, 0x3F0438DC#32, 0xBF8A847E#32],
    ![0x3E7D45C3#32, 0xBF59D104#32, 0xBDF9DB17#32],
    ![0x3D8B83EB#32, 0x3F52B1E6#32, 0xBF1F74DA#32],
    ![0xBFCF49CB#32, 0x3F397C5A#32, 0xBFBF580F#32],
    ![0xBF80C4B9#32, 0xC0337460#32, 0xBF48EA3C#32],
    ![0xBF68DC6A#32, 0xBF8DF484#32, 0xBEF682A9#32],
    ![0xBE1030CB#32, 0x4015563D#32, 0xBFC7D26F#32],
    ![0x3FAE3CB3#32, 0x3E70DFC5#32, 0x3F267536#32],
    ![0xBF04961C#32, 0xBE59F363#32, 0x3FD74846#32],
    ![0xBDCD6E20#32, 0xBE9A386E#32, 0xBEE1CB82#32],
    ![0xBF8B0242#32, 0x3F34880E#32, 0x3FDD2CA1#32],
    ![0xBF09567A#32, 0xC0076942#32, 0x3E94AD0E#32],
    ![0x401BAAC2#32, 0xBEA93340#32, 0x3F2ADFBB#32],
    ![0xBFD3EF6D#32, 0x3DC35312#32, 0x3D860290#32],
    ![0x3F7A2F5B#32, 0x3F9B7B4A#32, 0x3E47C7A7#32],
    ![0xBFC60EED#32, 0x3EE95982#32, 0x3EEF550E#32],
    ![0x3F045593#32, 0x3F84D982#32, 0x3F8355DC#32],
    ![0xBF27A1DC#32, 0x3F1EFA8A#32, 0xBEBB9F35#32],
    ![0x3F1D7612#32, 0xBC4AFB6A#32, 0xBF1F9C9D#32],
    ![0x3F72CF2D#32, 0xBF9C817B#32, 0xBFA01FE5#32],
    ![0xBEB596E7#32, 0x3F26D614#32, 0xBF82D90D#32],
    ![0xBEE009C2#32, 0x3EF8EAB0#32, 0x3FA03EC2#32],
    ![0xBEC8F986#32, 0x3F9865FC#32, 0xBEA4BA90#32],
    ![0xBF60250A#32, 0xBDFA5D9E#32, 0xBDE04534#32],
    ![0x3F9A6D5A#32, 0xBF93CAB0#32, 0x3EB441DC#32],
    ![0x3E923832#32, 0xBF313101#32, 0xBFA49C2D#32],
    ![0xBF49B636#32, 0x3F38AA64#32, 0x3E341706#32],
    ![0xBDE31378#32, 0x3FBFA3B1#32, 0xBF58E1A2#32],
    ![0x3F2DDA88#32, 0xBF6CD28B#32, 0x3FB1BA99#32],
    ![0xBF933BF8#32, 0xBDD3FD7F#32, 0x3DB3A250#32],
    ![0x3FBD9462#32, 0xBF8446B8#32, 0x3F85CFD3#32],
    ![0x3F679D91#32, 0x3EE9EE68#32, 0xBE913860#32],
    ![0xBFBBF357#32, 0xBF38D982#32, 0x3E41BEF6#32],
    ![0x3FDA5441#32, 0x3E9EA313#32, 0xBD27612E#32],
    ![0x3FAA5D73#32, 0xC0076C0E#32, 0x3F76D5A8#32],
    ![0x3F9C0712#32, 0x3FC0D67D#32, 0x3E3048A7#32],
    ![0xBFD0604D#32, 0xBF4C173F#32, 0x3E9F6A16#32],
    ![0x3F134770#32, 0xBFE66C88#32, 0xBF134E8C#32],
    ![0x3ED3E3CA#32, 0xBEF8767F#32, 0x3E8894C5#32],
    ![0xBE397134#32, 0x3F828A49#32, 0xBE0117D4#32],
    ![0x3E4FA45B#32, 0xBF0FADBA#32, 0x3B539491#32],
    ![0x3F1D240C#32, 0x3F85545D#32, 0xBFD0F0AD#32],
    ![0xBF88D439#32, 0xBF6C72AA#32, 0x3FB5093C#32],
    ![0x3F38F88F#32, 0x3FEE037D#32, 0xBF238636#32],
    ![0x3CEE121E#32, 0xBB870FE6#32, 0x3E0BB8D2#32],
    ![0xBFA484C5#32, 0xBF3FA174#32, 0xBFD19B47#32],
    ![0x3F49ADB6#32, 0x3B62D5EB#32, 0xBE726D22#32],
    ![0x3F0B69C9#32, 0xBF9DE620#32, 0x3FC5E39D#32],
    ![0xBF400C58#32, 0x3F838096#32, 0x3F5D66BF#32],
    ![0xBF919E6A#32, 0xBED9AFAC#32, 0x3F918EC2#32],
    ![0xBF4525AA#32, 0xBE22BE10#32, 0x3FBA0BD8#32],
    ![0x3F7F23A7#32, 0x3D801E8F#32, 0x3FEC83DE#32],
    ![0xBFA30937#32, 0x3E929377#32, 0xBF4DEB81#32],
    ![0x3E85E083#32, 0x3E059DF0#32, 0xBE9E9123#32],
    ![0x3FE991FF#32, 0x3EF0DA30#32, 0x3E9497A5#32],
    ![0x3F13D3EE#32, 0xBDA65746#32, 0xC0086B97#32],
    ![0x3F9993DD#32, 0x3EA38925#32, 0xBF6C2A48#32],
    ![0x3F090F2F#32, 0xBFD05B36#32, 0x3F85367C#32],
    ![0x3F91967B#32, 0x3F531CFE#32, 0x3F639BB1#32],
    ![0x3E34FDD2#32, 0x3F9EC5EA#32, 0x3FD01058#32],
    ![0xBE4A2D8B#32, 0x3F3286A3#32, 0x3F25BA22#32],
    ![0xBF548E01#32, 0x3F9D81B9#32, 0xBE3A9100#32],
    ![0xBED2E7C9#32, 0x3F640A52#32, 0xBE9C4DC0#32],
    ![0x3F0094D9#32, 0xBF8499EA#32, 0x40098F9B#32],
    ![0xBE8DB3BD#32, 0xBF35D1DC#32, 0x3EBF4270#32],
    ![0x3EA9F163#32, 0xBF1FFE6F#32, 0xBF90C196#32],
    ![0x3E874D70#32, 0xBECBE82F#32, 0x3F2611C8#32],
    ![0x3E93C822#32, 0x3F96A736#32, 0xBFCABEE1#32],
    ![0x3F53143E#32, 0x3FEB30D2#32, 0x3FA49404#32],
    ![0x3F936E2C#32, 0x3F0DCAFC#32, 0xBFD3B1C9#32],
    ![0x3F968225#32, 0x3E8B88F5#32, 0x3FCEFBA2#32],
    ![0xBF45A613#32, 0x3F0A79DA#32, 0xC013E05C#32],
    ![0x3CD9326E#32, 0xBD8DA37E#32, 0xBE8ADF8D#32],
    ![0x3F166517#32, 0xBF95B06D#32, 0xBECF6E92#32],
    ![0x3FB8F23B#32, 0x3F089303#32, 0x3F6A0668#32],
    ![0xBF913A84#32, 0x3F55984D#32, 0xBEF0D4BF#32],
    ![0x3FC9AAA1#32, 0xBD9DCD65#32, 0xBFEB24AC#32],
    ![0xBF47590E#32, 0x3F95E836#32, 0xBF9A7AD9#32],
    ![0xBF866967#32, 0xBF79E00E#32, 0x3DE993CA#32],
    ![0x3F673880#32, 0x3F4EE472#32, 0x3F6F264A#32],
    ![0x3FC0A095#32, 0xBD004B5F#32, 0xBE47FDBD#32],
    ![0x3F6E525C#32, 0x3E590751#32, 0xBFA5F3B1#32],
    ![0xBF126F82#32, 0x3E04DAA8#32, 0xBF217F7F#32],
    ![0x3F01DAB2#32, 0xBF9D3205#32, 0xBFEC8740#32],
    ![0xC024CDAB#32, 0x3F8D8F0F#32, 0x3ECFD02D#32],
    ![0x3FEA9E8F#32, 0xBEB72C32#32, 0x3FDA7140#32],
    ![0xBF111745#32, 0xBF0EF880#32, 0xBF86335B#32],
    ![0x3D446DB3#32, 0xBF7D25D0#32, 0x3F18C7ED#32],
    ![0xBF95FA7F#32, 0xBF2AAA18#32, 0xBBA8C14D#32],
    ![0x3F8FC487#32, 0xBFA3D65B#32, 0xBFB6DFE2#32],
    ![0xBFE20493#32, 0x3E88F732#32, 0xBEDD7E23#32],
    ![0xBE90E079#32, 0x3E181A36#32, 0x3E04A5D0#32],
    ![0x3DBBB7DB#32, 0xBFA7A8A8#32, 0xBF2BDE9C#32],
    ![0x3EC3F6C0#32, 0x3F69E378#32, 0xBD07FC1A#32],
    ![0xBEAB0726#32, 0xBF21DD97#32, 0xBFF4B61C#32],
    ![0x3E2DD955#32, 0x3F6A3AA6#32, 0x3F5831E9#32],
    ![0x3E0FE404#32, 0xBBE03C1C#32, 0x3F20F093#32],
    ![0xBD7F7EB8#32, 0xBF8F40F7#32, 0xBEDA7227#32],
    ![0x3F0206CC#32, 0xBFB6CBC9#32, 0xBF3FF643#32],
    ![0xBFC78C69#32, 0xBEA7CBB5#32, 0xBFD20471#32],
    ![0x3F8A226E#32, 0x3F995797#32, 0xC00176A8#32],
    ![0xBF0D8A61#32, 0x3F28DAA8#32, 0xBDC91BCF#32],
    ![0x3E867DA0#32, 0x3EAEE3D7#32, 0xBBB8465D#32],
    ![0x3EB325C7#32, 0xBF90AD16#32, 0xBF9AB90B#32],
    ![0xBF24B133#32, 0x3E4FEBFF#32, 0x3F695A63#32],
    ![0xC02463EB#32, 0x3DB3D95D#32, 0x3FC31A95#32],
    ![0xBE53FCA1#32, 0x3F417100#32, 0x3F71AAF3#32],
    ![0xBFE3C9EB#32, 0xBE7D65CA#32, 0x3E2147B8#32],
    ![0xBF306757#32, 0xBF93CCB5#32, 0xBEC73E91#32],
    ![0xBFB0889C#32, 0xBEBDCF07#32, 0x3F835174#32],
    ![0xBE548E4B#32, 0xBFAF8F49#32, 0xBFB0C7C1#32],
    ![0xBF9D184E#32, 0x3F126A0E#32, 0xBE8FA5B4#32],
    ![0x3CD4D235#32, 0xBEB76789#32, 0xBF30F469#32],
    ![0x3EDE92BC#32, 0xBF3FCC75#32, 0xBF5C1D2E#32],
    ![0x3DC54A8C#32, 0xBFB18E2A#32, 0x3CA8650C#32],
    ![0x3F0DE1D0#32, 0x3DAFD28D#32, 0x3FA2206F#32],
    ![0xBDDEA183#32, 0x3E9DF498#32, 0xBF2F79CE#32],
    ![0xBFB05077#32, 0xBF37EDC8#32, 0x3E6BA43C#32],
    ![0x3E0A0F19#32, 0xBF00BF57#32, 0xBF14CB41#32],
    ![0x3F3B9E1B#32, 0x3F14A305#32, 0xBF8879F9#32],
    ![0x3F7BCCB7#32, 0x3F47C17D#32, 0x3FBA021A#32],
    ![0xBE3C6BEA#32, 0xBE7F38BA#32, 0x3F031021#32],
    ![0xBE76AF3A#32, 0xBFA05136#32, 0xBF295E15#32],
    ![0xBEB9175A#32, 0x3F8994C2#32, 0x3E5140C5#32],
    ![0xBFC89B64#32, 0xBEDDDFA5#32, 0xBF9E74AB#32],
    ![0xBF03D0BA#32, 0xBED0DA95#32, 0xBD935404#32],
    ![0x3F0279B9#32, 0xBF34EFEF#32, 0x3D0CC29F#32],
    ![0x3E83C99F#32, 0xBFBEC06C#32, 0xBC74C937#32],
    ![0xBF24AB52#32, 0xBFA1DD87#32, 0x4012EF1A#32],
    ![0xBE839982#32, 0xBDF7F54D#32, 0xBE87318E#32],
    ![0xBEAC9AE3#32, 0xBDDF7EC7#32, 0x3F5AA777#32],
    ![0xBF8655AA#32, 0x3E885D2B#32, 0x3E702B52#32],
    ![0x3F7B326B#32, 0xBF93272A#32, 0x3F695F50#32],
    ![0x3FC89C72#32, 0x3F3C4E98#32, 0x3DFD0D4D#32],
    ![0x3F82CB64#32, 0xBF470393#32, 0xBEFF987F#32],
    ![0x400CA90A#32, 0xBF2823EF#32, 0xBF1FB883#32],
    ![0xBF841A2D#32, 0xBF1BAA89#32, 0x3E20DBDC#32],
    ![0x3F4E0F2A#32, 0xBF814250#32, 0xBFECD912#32],
    ![0x3E38232A#32, 0x3F8F6515#32, 0x3F4F7D96#32],
    ![0x3E23E288#32, 0x3FE302AB#32, 0xC028262F#32],
    ![0x3FE82E24#32, 0x3EA3FE7F#32, 0xBD8F17AF#32],
    ![0x3FBE97FE#32, 0xBD886860#32, 0x3F0610C9#32],
    ![0x3F9E08C1#32, 0x3FD774FE#32, 0x3FA38C3D#32],
    ![0xBC2AC7D5#32, 0xBEFF47AE#32, 0xBF348CF6#32],
    ![0xBF7F6DD2#32, 0xBED82CC0#32, 0x3D7098A0#32],
    ![0xBF6DCD07#32, 0x3F1E75C6#32, 0x3EBCE00D#32],
    ![0x3EFFE6A7#32, 0x401FA51D#32, 0x3EA5692D#32],
    ![0xBF8AAC8F#32, 0x3F046747#32, 0xBF1E8287#32],
    ![0xBF619CC7#32, 0xBF0D2708#32, 0xBE816EED#32],
    ![0xC003BAA9#32, 0xBFF62932#32, 0x3FE78909#32],
    ![0xBEF2C9B5#32, 0x3FF588A5#32, 0x3EFBEBDF#32],
    ![0xC01D0F7B#32, 0x3F5E14FA#32, 0xBE053EA0#32],
    ![0x3F7B55F4#32, 0x3F29E056#32, 0xBF6FEB71#32],
    ![0xBF9FCE97#32, 0xBD8312A5#32, 0x3F1F90D3#32],
    ![0x3F4324FA#32, 0xBF0728AA#32, 0x4004623B#32],
    ![0xBE4D4DA3#32, 0x3ED0EC4F#32, 0x3F33E73A#32],
    ![0xBE1F3B71#32, 0x3AC5F485#32, 0xBE7B1AB1#32],
    ![0xBF0F6FB1#32, 0x3FD3CFD9#32, 0x3FDF8961#32],
    ![0x3E39418C#32, 0xBF9BA64A#32, 0x3DEDF059#32],
    ![0xBF5069F1#32, 0xBFA4E76A#32, 0x3EE5F8C0#32],
    ![0xBC74304B#32, 0xBE1ACE86#32, 0x3FA30B25#32],
    ![0x40731938#32, 0xBE8C07FB#32, 0x3F8A88E5#32],
    ![0x3F83B7A3#32, 0x3FF3FA1E#32, 0x3F8376B7#32],
    ![0xBEDB145A#32, 0xBEB669B6#32, 0xBF46A3CE#32],
    ![0xBF025E2C#32, 0xBF5B4B2C#32, 0xBEC6E693#32],
    ![0x3FC9B319#32, 0x3F9D40E6#32, 0x3E5D2D92#32],
    ![0x3F14A906#32, 0x3FC3999B#32, 0xBF8CB7B0#32],
    ![0xBE0C2B1C#32, 0xC01C0F20#32, 0xBF110731#32],
    ![0xBE8044A0#32, 0xBE960E24#32, 0xBF4101EA#32],
    ![0x3F945753#32, 0x3FD15801#32, 0x3F7076AD#32],
    ![0xBEA20406#32, 0xBF7F6359#32, 0xBE7E81A5#32],
    ![0x3EA17A5F#32, 0xBF4A8A1E#32, 0x3EA52B7D#32],
    ![0xBE4A679B#32, 0xBED70120#32, 0xBFA414E0#32],
    ![0x3F14FA52#32, 0xBEB26F2D#32, 0xBF4A2B3D#32],
    ![0x3E6FB55E#32, 0xBFD795B6#32, 0xBF4BAE95#32],
    ![0x3D03B5D8#32, 0xBEE717B5#32, 0x3F5AC044#32],
    ![0x3FA628DB#32, 0xBE9B9F25#32, 0xBFB73104#32],
    ![0x3E985DA0#32, 0x3F9C2CE8#32, 0xBF814EB1#32],
    ![0x3C9F4004#32, 0x3FCF4DB5#32, 0x3FA0E0C5#32],
    ![0x3FB7C1D7#32, 0xBE9FC26C#32, 0xBFC46C8A#32],
    ![0x3E52C21D#32, 0x3F41B7FE#32, 0xBE88B434#32],
    ![0x3FC69652#32, 0x3F8827E9#32, 0xBF265876#32],
    ![0xBF21001F#32, 0x3EF43D0E#32, 0x3F181B23#32],
    ![0x3ED7D5D1#32, 0xBF83D225#32, 0xBFFEB2F3#32],
    ![0xBA948C10#32, 0xBF88D7A3#32, 0xBE859F3F#32],
    ![0xBF3BCB79#32, 0xBF233843#32, 0xBDEE5B0D#32],
    ![0xBD21A960#32, 0x3FADE9E2#32, 0x3DCB1E0D#32],
    ![0xC01841FD#32, 0xBE5FEAFF#32, 0xBEC42F8A#32],
    ![0x3FA23ACD#32, 0xBD2FC0F9#32, 0x3EA371D0#32],
    ![0x3F328D2E#32, 0xBEB944CD#32, 0xBE48D3BC#32],
    ![0xBF881833#32, 0x3F73E9C1#32, 0x3FEA906F#32],
    ![0x3ED80625#32, 0xBF4EC632#32, 0x3DD69ADC#32],
    ![0x3F380DEA#32, 0x3DBD3B33#32, 0xBE82BDBE#32],
    ![0x3F04F209#32, 0x3FBF8B95#32, 0x3F51B2CD#32],
    ![0x3F74DED2#32, 0x3E8270CD#32, 0xBEE33193#32],
    ![0xBF937E04#32, 0xBF47D97A#32, 0x3FCB7700#32],
    ![0xBF7CB7AC#32, 0x3FAB7B39#32, 0xBEF3043A#32],
    ![0xBE90ECFD#32, 0xBEE7F7D2#32, 0x3D7A35D9#32],
    ![0xBF9AEE61#32, 0x3D9C0E4C#32, 0xBD71D398#32],
    ![0x3DCB364C#32, 0xBF084B3F#32, 0x3FE09366#32],
    ![0x402A97CE#32, 0xBF5DEFBE#32, 0x3F21D054#32],
    ![0xBF0E71FF#32, 0x3F646824#32, 0xBF8F937D#32],
    ![0xBF46FC0D#32, 0x3FF32F1A#32, 0xBF391BBE#32],
    ![0xBD324394#32, 0xBE1E8B1F#32, 0x3DCD4A4F#32],
    ![0x3FD1C97D#32, 0xBEFEA42B#32, 0xBFBE9BED#32],
    ![0x3E463EFC#32, 0xBF6F3DE9#32, 0x3E0513B1#32],
    ![0x3FA9C1FE#32, 0x3F27C5A5#32, 0x3C483F64#32],
    ![0x3FD17A47#32, 0x3ECE304D#32, 0xBFBA55B9#32],
    ![0x3B5E7CF8#32, 0xBF7EB9FC#32, 0xBE0FF6CE#32],
    ![0x3F34A7F9#32, 0x3E1089C2#32, 0xBD95D830#32],
    ![0x3FE7F1F7#32, 0xBF1B3C8B#32, 0xBE94539E#32],
    ![0x3E3E5205#32, 0xBF33C27F#32, 0xBFC01FE9#32],
    ![0xBEFDEE8D#32, 0xBFF2D25C#32, 0xBF23E806#32],
    ![0x3DCC4CD1#32, 0x3F9665AE#32, 0x3F3E5864#32],
    ![0x3E0E560F#32, 0xBE276839#32, 0xBFC7F43E#32],
    ![0x3FA6BA60#32, 0xBFCD6C56#32, 0xBF021382#32],
    ![0x3CEBE92C#32, 0xBF432655#32, 0x3F38203B#32],
    ![0x3E23AAEA#32, 0xBFF495E0#32, 0x3FBDF6EC#32],
    ![0xBF075E74#32, 0x3F72AB78#32, 0xBE1A4FAD#32],
    ![0x3E19B0A3#32, 0xBEB249AE#32, 0x3F198278#32],
    ![0xBE829CC4#32, 0x3F83AF57#32, 0xBFC6DC0B#32],
    ![0x3FCA704D#32, 0xBE22B5A8#32, 0x3F049635#32],
    ![0x3E9B056B#32, 0xBF8E7C6B#32, 0x3FEC53C7#32],
    ![0xBF24CA08#32, 0x3F73E2B3#32, 0xBFA3D7EF#32],
    ![0x3F17932C#32, 0x3E813568#32, 0x3F6A4FF6#32],
    ![0x3F3ECC57#32, 0x3FB0E395#32, 0xBEC8B5D9#32],
    ![0xBF60EFF5#32, 0xBF93E8B3#32, 0x3F349123#32],
    ![0x3FBA46FE#32, 0x401719B6#32, 0x3ECF1A82#32],
    ![0xC01D3F7E#32, 0xBFA85A4A#32, 0x3EF3AABD#32],
    ![0xBF0644DE#32, 0x404E6498#32, 0x3F051323#32],
    ![0xBEA54161#32, 0x3F2F942E#32, 0xBF8DF2D4#32],
    ![0xBECF2388#32, 0xBEC98759#32, 0x3F9445DF#32],
    ![0xBF89E461#32, 0x3FA9E2B8#32, 0xBFE0CD2F#32],
    ![0x400D45CB#32, 0x3FBE144C#32, 0xBEF8DBBB#32],
    ![0xBF8CF378#32, 0x3F52D3E5#32, 0xBEA80362#32],
    ![0x3E0E16DE#32, 0xBF350E01#32, 0x3D53310B#32],
    ![0xBFB41354#32, 0x3E8D068D#32, 0xBE793D67#32],
    ![0x3F606A86#32, 0xBF35A3CE#32, 0xBF5A548F#32],
    ![0xBE989126#32, 0xBBE5448C#32, 0xBF82C36E#32],
    ![0xBF81ECF1#32, 0x3E6FB384#32, 0x3E960FA1#32],
    ![0x3F2778AD#32, 0x3F7215AF#32, 0xBE55D27D#32],
    ![0x3F31E6D0#32, 0x3BB23F82#32, 0x40057634#32],
    ![0x3F739DA5#32, 0x3C5BF1E2#32, 0x3E2915A3#32],
    ![0xBDB688BF#32, 0x3FE68B2B#32, 0x3F0F5CBC#32],
    ![0x3F535801#32, 0xBF74B6DD#32, 0xBDB98A68#32],
    ![0xBEBB065B#32, 0xBF2B388F#32, 0xBF699C54#32],
    ![0x3FE15E91#32, 0xBF478D64#32, 0x3FB9718F#32],
    ![0x3F26A24B#32, 0xBF33F73B#32, 0xBDF818F7#32],
    ![0xBE1172E4#32, 0xBF573C88#32, 0xBFA1E46A#32],
    ![0x3F8ECECC#32, 0xBF1C77AD#32, 0xBFB18B15#32],
    ![0x3E9A6A53#32, 0x3FA77F2A#32, 0xC0170113#32],
    ![0x3FEB68BA#32, 0x3EC4FFA2#32, 0xBE9B6ACF#32],
    ![0x3B927966#32, 0xBF83AF51#32, 0x3F11CFB5#32],
    ![0xBFB8BF35#32, 0x3DFF5D2E#32, 0x3E95AE8B#32],
    ![0xC00E0034#32, 0x400CFC21#32, 0x3F83CA1D#32],
    ![0xBF0C8B89#32, 0x3F52B136#32, 0x3EE657DB#32],
    ![0x3EEB5A5C#32, 0x3F8A5452#32, 0xBF6F0E6F#32],
    ![0x3EAD4D8B#32, 0xBF9242BD#32, 0x40022A6C#32],
    ![0xBD88C230#32, 0xBF1089D8#32, 0x3F8F0512#32],
    ![0xBE8F6737#32, 0x3F72C009#32, 0x3F3D5DC5#32],
    ![0x3FF928E0#32, 0xBD3BDCF7#32, 0xBE01E2C2#32],
    ![0x3FC4ABDF#32, 0x3E5E0B0E#32, 0xBF7EF097#32],
    ![0x3E0ABF9F#32, 0x3F2AD852#32, 0xBF9221E9#32],
    ![0x3D2BB4A6#32, 0x3CA80D4D#32, 0xBEF55090#32],
    ![0xBF2C06BA#32, 0xBF080DE2#32, 0xBFAAFBA9#32],
    ![0x3F9050C5#32, 0xBE83884E#32, 0xBD8B42FD#32],
    ![0xBED1A2D2#32, 0x3D83CD62#32, 0x3F3D4F82#32],
    ![0xBEADBCDC#32, 0xBF676868#32, 0x4031D4F0#32],
    ![0xBF2044A9#32, 0x3FFA07C6#32, 0x3FBBC82C#32],
    ![0xBF8D1786#32, 0x3EB2BF27#32, 0x3F0551DF#32],
    ![0xBFB53419#32, 0xBF9DCFA6#32, 0xBF827022#32],
    ![0xBF204CD6#32, 0x3F8D78CD#32, 0x3F8D1256#32],
    ![0xBE2E78F4#32, 0x3F8E8340#32, 0xBF94FDB1#32],
    ![0x3E94FA3B#32, 0x3F8ECCFA#32, 0xBE5899B2#32],
    ![0xBFE6EF87#32, 0x3F26E33A#32, 0xBFBCF2B9#32],
    ![0x3FCD9500#32, 0xBEE86509#32, 0x3FDEA196#32],
    ![0x3F8D032C#32, 0x3F953C26#32, 0xBE7F4BA3#32],
    ![0x3F4271AA#32, 0x3E9882D6#32, 0x3D47B254#32],
    ![0xBF42B6BF#32, 0xBED0D943#32, 0xBEB854FB#32],
    ![0x3F3103C3#32, 0x3F9EFA20#32, 0xBED74FAB#32],
    ![0xBE87E84B#32, 0xBF56B567#32, 0x3F134F75#32],
    ![0xC02575F6#32, 0xBEA17D66#32, 0xBF3087AD#32],
    ![0x3F461CD7#32, 0x3F6ECDF1#32, 0xBE58FE8A#32],
    ![0xBF9E779F#32, 0x3EADB747#32, 0x3F226E9D#32],
    ![0x3F7903A3#32, 0xBE4D0D75#32, 0xBF885BC6#32],
    ![0x3D8D23E5#32, 0xBF8A2E72#32, 0x3F9AFE1F#32],
    ![0xBFCD552C#32, 0xBFA1E4F5#32, 0xBE814AF1#32],
    ![0x3F8F17AF#32, 0xBEB318AE#32, 0x3D1C2D15#32],
    ![0x3F198DA1#32, 0xBF9C260A#32, 0xBEC614A6#32],
    ![0x3F2DB54C#32, 0xBF9C499B#32, 0x3ED74E89#32],
    ![0x3ED35A42#32, 0xBEFAA226#32, 0xBF60410F#32],
    ![0xBFB3F5CC#32, 0xBECF65EF#32, 0x3F950E44#32],
    ![0xBF303A29#32, 0xBE72DB43#32, 0x3E8FB605#32],
    ![0xBF2FA211#32, 0x3E8B113A#32, 0xBC766A9D#32],
    ![0x3F29A617#32, 0x3F7C1018#32, 0x400734FB#32],
    ![0x3F64B707#32, 0xBF7599DD#32, 0x3ED6CB35#32],
    ![0x3F898BD3#32, 0xBE83A1BA#32, 0xBF10388B#32],
    ![0xC0404DEC#32, 0x3F27D343#32, 0x3F21F048#32],
    ![0xBF1BCE06#32, 0xBF7BF335#32, 0x40147AD0#32],
    ![0x3FBE2CA5#32, 0xBFA56AD9#32, 0xBECA90C3#32],
    ![0xBEF849F6#32, 0xBE262BA9#32, 0x3EC3FD34#32],
    ![0xBF00E242#32, 0x3D640F99#32, 0xBEE6A7EF#32],
    ![0x3FD646C3#32, 0x3F3A2EBB#32, 0x401FB70F#32],
    ![0xC01455B0#32, 0x3DA949B6#32, 0x3F1DEF5B#32],
    ![0xBFBA2B31#32, 0xBF465F90#32, 0x3E8173CD#32],
    ![0x3FD49869#32, 0x3ED8EE5D#32, 0xBFF7B8CA#32],
    ![0xBEA2A6BF#32, 0xBDEF6EC5#32, 0x3EE86C17#32],
    ![0xBE9CFA74#32, 0x3DC9A0EA#32, 0xBFB3DE0D#32],
    ![0xBF3FB755#32, 0xBF215858#32, 0x3FE89E6B#32],
    ![0x3FB7A3D7#32, 0xBF4F141D#32, 0x3E63212B#32],
    ![0x3F137904#32, 0x3F4F7589#32, 0xC0485A3C#32],
    ![0x3F3FA8BF#32, 0x3DBB0482#32, 0x3EEE4A1E#32],
    ![0xBE9FB976#32, 0x3F324E5D#32, 0xBFF640FA#32],
    ![0x3FAA7FD9#32, 0xBF06F449#32, 0x3D8AAE0D#32],
    ![0xBF309C84#32, 0xBFF4F80E#32, 0x4000C10E#32],
    ![0x3D20DF9A#32, 0x3ED4FFBE#32, 0xBF25AB64#32],
    ![0xBE3CDA56#32, 0xBE81FCED#32, 0xBFA538E9#32],
    ![0xBF1B3E4F#32, 0xBE32E2D3#32, 0xBE598EE9#32],
    ![0xBFE4736B#32, 0xBF23276B#32, 0x3E9E7069#32],
    ![0xBF8108BF#32, 0x3F112D49#32, 0xBECDAF4F#32],
    ![0x3DE47599#32, 0x3F61314E#32, 0x4016BB12#32],
    ![0xBDDD9FDC#32, 0x3F196515#32, 0xBF96E60B#32],
    ![0xBF4EF855#32, 0x3F025EEC#32, 0xBF47CADF#32],
    ![0xBC45ECA6#32, 0x3ECDDD66#32, 0xBF8BCA49#32],
    ![0xBF10FD5A#32, 0x3D516DE3#32, 0x3F87A425#32],
    ![0x3FA54555#32, 0xBF93D5C5#32, 0xBD9DB50A#32],
    ![0x403C6FA7#32, 0x3EB8994B#32, 0x3E9CE26C#32],
    ![0xBE6357A3#32, 0x3F6E66AF#32, 0x3F83407C#32],
    ![0xBE988494#32, 0xBF08DAA3#32, 0xBFA79A4D#32],
    ![0xBE1E1BD2#32, 0xBEBF6DA3#32, 0x3F0EBE5E#32],
    ![0x3FB824AC#32, 0xBF3B5346#32, 0xBEB78565#32],
    ![0xBF01E25E#32, 0xBF549301#32, 0xBF87A70A#32],
    ![0xBEC39463#32, 0x3FDDCF1B#32, 0x3E9F67E8#32],
    ![0xC04D74F9#32, 0x3D23885E#32, 0x3FD0C708#32],
    ![0x3FA60973#32, 0xBE1F6D65#32, 0xBF7482C8#32],
    ![0xBFBDB111#32, 0x3F09C83E#32, 0x3F7AD985#32],
    ![0x3DEBC48D#32, 0x3F64714C#32, 0xBCAA030B#32],
    ![0xC00B876A#32, 0xBF654303#32, 0x3F896F77#32],
    ![0x3EDC05BA#32, 0xBFCF0088#32, 0x3F80038C#32],
    ![0xBF895BBC#32, 0x3F45961B#32, 0xBD3A40D3#32],
    ![0x3F8DE6A8#32, 0xBF8C573F#32, 0x3D590223#32],
    ![0xBFC0D927#32, 0x3EBAD6D0#32, 0xBF1F0859#32],
    ![0x3E3589C9#32, 0x3F266EFF#32, 0x3E7C4032#32],
    ![0xBF8E8648#32, 0x3F09E21F#32, 0xBF84375C#32],
    ![0xBFB7984B#32, 0xBF97B84B#32, 0xBE402C94#32],
    ![0x3EEC4D51#32, 0xBF45BF18#32, 0x3F9A9BE0#32],
    ![0x3F8C7DC5#32, 0xBF83EB21#32, 0xBD9882E9#32],
    ![0x3C47AA3C#32, 0xBF3506B6#32, 0xBF75E05C#32],
    ![0x3FA845C6#32, 0x3CFB5A9F#32, 0xBEEFC84E#32],
    ![0x3E772E1D#32, 0x3F236D33#32, 0x3FC67FD3#32],
    ![0xBF862C5A#32, 0x3EC99D36#32, 0x3F3F2F84#32],
    ![0xBE1BE730#32, 0xBECDA1B9#32, 0xBED57570#32],
    ![0x3E0DC3FB#32, 0xBF21F3A4#32, 0xBFBB6C4D#32],
    ![0xC01B71A0#32, 0xBE62D12C#32, 0xBF82ED2A#32],
    ![0xBFC9EFF6#32, 0x3F36A4DE#32, 0x3E03D3DC#32],
    ![0xBEE516ED#32, 0xBE730174#32, 0xBFDD62EE#32],
    ![0xBE41C208#32, 0x3FCE5BC4#32, 0x3FA03202#32],
    ![0x3F6CE9AB#32, 0xBE5FA868#32, 0x3F9EEB7F#32],
    ![0xBF3C4EF7#32, 0x3FBB2A5C#32, 0xBFB1C6C2#32],
    ![0xBEC7FFC6#32, 0x3F5DEFD7#32, 0x3F886E13#32],
    ![0x3F2CACDE#32, 0x3FD16BBF#32, 0xBF188282#32],
    ![0x3EC7B4D0#32, 0xBED7294C#32, 0x3F2C7B44#32],
    ![0x3FA326C6#32, 0xBF284A9F#32, 0x3DEFA3B0#32],
    ![0xBF398B57#32, 0x3D4334F4#32, 0xBFDCC48C#32],
    ![0x3FA6E178#32, 0x3EFC67B8#32, 0x3E9A0453#32],
    ![0x3EEC7B69#32, 0x3E0FA706#32, 0x3DF2FBAB#32],
    ![0x3F48A389#32, 0xBF58C80A#32, 0xBDBB4E87#32],
    ![0x3FB0FCDD#32, 0x3ED1F2E2#32, 0xBF70ADB3#32],
    ![0x3DF10A3F#32, 0x4007DCF5#32, 0xBEFB5D60#32],
    ![0x3F08E68E#32, 0xBFA491FE#32, 0xBF5E83A0#32],
    ![0x3E4AD766#32, 0xBF45BFAD#32, 0xBE988FA2#32],
    ![0x3ED66E08#32, 0xBFAAF3E0#32, 0x3F18B49F#32],
    ![0xBEC26686#32, 0xBF03AED0#32, 0xBE80F055#32],
    ![0xBBB27064#32, 0x3EE90D9A#32, 0x3E5F2F29#32],
    ![0xBF1902DA#32, 0xBF17A5C2#32, 0xBF5C13C5#32],
    ![0xBD825320#32, 0x3E870747#32, 0xBE2CA87A#32],
    ![0x3F65671F#32, 0x3BEB61FB#32, 0xBF1593B2#32],
    ![0xBFE97BFF#32, 0x3B207CEE#32, 0x3F04D77B#32],
    ![0xBF43F1C6#32, 0xBC9F4417#32, 0xBF74A50F#32],
    ![0x3F44A316#32, 0x3F888921#32, 0x3E5BF093#32],
    ![0xBEE6A9D7#32, 0x3F21BC9B#32, 0x3FC00832#32],
    ![0x3E8C5F62#32, 0xBF637E93#32, 0xBF84403E#32],
    ![0x3F862C3A#32, 0x3FF65F82#32, 0x3E821AA3#32],
    ![0xBF70E423#32, 0xBF851AE7#32, 0xBEC64EB1#32],
    ![0x3F58373B#32, 0x3F9B7CED#32, 0x3F2415E8#32],
    ![0x3F019E55#32, 0x3EB51305#32, 0xBDDA5AAF#32],
    ![0x3F69809C#32, 0x3FCE8923#32, 0x3F2FFC3E#32],
    ![0xBF6E027F#32, 0x3E25CD18#32, 0xBEC3ADBF#32],
    ![0xBBEF0537#32, 0x3FD4586B#32, 0x3F1D19B7#32],
    ![0x3E43AE5B#32, 0x3E2CC7E7#32, 0x3D759F39#32],
    ![0x3ED3F241#32, 0x3E3DF050#32, 0x3F6AE22B#32],
    ![0x3E2AAF1E#32, 0x3E56A6B3#32, 0xBF794DFE#32],
    ![0x3F106057#32, 0x3FCD7749#32, 0x3EA3615F#32],
    ![0x3F1C219D#32, 0xBFE1B98D#32, 0xBF376940#32],
    ![0x3EE04C61#32, 0xBDD154A5#32, 0x3FEAE90B#32],
    ![0xBEF5C7DB#32, 0xBEA2FE55#32, 0x3E8F3D3E#32],
    ![0x3DF93C13#32, 0x3F4E3F92#32, 0x3F2762D9#32],
    ![0x3E91F01E#32, 0x3FDD24A9#32, 0xBF11315E#32],
    ![0xBE4D3B7F#32, 0x3FA877EB#32, 0x3E9CE09E#32],
    ![0x3F477D1D#32, 0xBF9E3E2D#32, 0x3EEBF51B#32],
    ![0xBFA498E7#32, 0x3F4026E0#32, 0xBFCC6793#32],
    ![0xBFBFEBDE#32, 0xBF70594C#32, 0xBFE0AA61#32],
    ![0x3F5ABE2D#32, 0x3F2E3BC0#32, 0x3D4CE97A#32],
    ![0xBE6A5242#32, 0x3FBDAB0E#32, 0x3F983738#32],
    ![0x3FEEDF5F#32, 0xBF95EE58#32, 0x3FF2844D#32],
    ![0xBEB0517D#32, 0xBF1B9A59#32, 0x3EA948B3#32],
    ![0xBF13A90D#32, 0x3F5F24B3#32, 0xBF2024D7#32],
    ![0xBF98EC5F#32, 0x3F96198D#32, 0xBFA5981E#32],
    ![0xBFDF685D#32, 0x3F8FAF49#32, 0xBF17297B#32],
    ![0xBD79DFFE#32, 0x3F670B29#32, 0x3E20D26C#32],
    ![0x3E2FCDAB#32, 0x3D0AD8EB#32, 0xBF223D53#32],
    ![0x3EDEECE3#32, 0x3D1C807D#32, 0xBEB5DF05#32],
    ![0xBF999ABB#32, 0x3F835A7C#32, 0xBF12A335#32],
    ![0xBF2D9D7A#32, 0xBF75F04A#32, 0xBF555E57#32],
    ![0xBE030B36#32, 0x3FA24D16#32, 0x3F10EB0B#32],
    ![0x3EB67149#32, 0x3F7CC226#32, 0xBF2C9CF3#32],
    ![0xBD434C54#32, 0x3E67F2B9#32, 0x3FDDEDCD#32],
    ![0x3EA5360E#32, 0x3EF844EB#32, 0xBF058245#32],
    ![0xBE5EC917#32, 0x3EB5C699#32, 0xBE0CF732#32],
    ![0x3E18BB13#32, 0xBF816EB0#32, 0xBFC7712B#32],
    ![0x3E327C30#32, 0x3FE69F03#32, 0xBEA0B13C#32],
    ![0xBEE9ED59#32, 0x3E8583AB#32, 0xBEF94FCF#32],
    ![0x3FCD6B01#32, 0xBF698F71#32, 0x3E411839#32],
    ![0x3EB2A02F#32, 0x3F1428F6#32, 0xBFFF5F49#32],
    ![0x3E27C74B#32, 0xC0216D64#32, 0xBFBA4277#32],
    ![0x3D976901#32, 0xBFA52B7D#32, 0x3F93836D#32],
    ![0x3F11F92C#32, 0xBEA9EF6A#32, 0x400B2BA6#32],
    ![0xBF2C4187#32, 0x3FD97D79#32, 0xBF89C56E#32],
    ![0xBF420F32#32, 0x3F9835CA#32, 0x3F940FD1#32],
    ![0x3FFF2675#32, 0x3FD122FF#32, 0xC030FE7B#32],
    ![0xBF867977#32, 0xBF028AE2#32, 0x401F0C9C#32],
    ![0xBD72EA02#32, 0xBF97CF97#32, 0xBFD1DEAD#32],
    ![0xBEC9CC41#32, 0x3F11607F#32, 0x3F1B00A1#32],
    ![0x3E51E06D#32, 0x3F477681#32, 0xBFDF5F40#32],
    ![0xBE73545C#32, 0xBEA824D1#32, 0x3FC350A6#32],
    ![0xBEC920BC#32, 0x3E4ED2E1#32, 0x3E957E30#32],
    ![0xBFA630C3#32, 0xBF4C1A27#32, 0x3F972E6B#32],
    ![0xBE9B0454#32, 0xBF15AA8D#32, 0xC0068A12#32],
    ![0xBEFB14F6#32, 0x3F043ADB#32, 0x3F60B8E0#32],
    ![0xBD8F9439#32, 0x4004A4EB#32, 0x3EFD5553#32],
    ![0xBECB8F6A#32, 0x3F008274#32, 0x4001605C#32],
    ![0xBF97471B#32, 0xBF33A0AD#32, 0xBF886565#32],
    ![0xBFA8147C#32, 0x3F354C54#32, 0x3EDC445D#32],
    ![0xBF1BA3C0#32, 0x3EEA7C37#32, 0x3F07AEB0#32],
    ![0xBDD4213F#32, 0x3DC0D930#32, 0x3FA82B8D#32],
    ![0x3F57CB18#32, 0x3D5612FD#32, 0xBF12D094#32],
    ![0xBF4945AD#32, 0xBE97182D#32, 0xBF845D93#32],
    ![0x3CEE0957#32, 0x3F03F4A6#32, 0x3CD2AC73#32],
    ![0xBF4B0E38#32, 0x3FF36CA1#32, 0x3FC6A658#32],
    ![0x3EAA9EE7#32, 0x3D84443A#32, 0x3E72C790#32],
    ![0x3F50C71B#32, 0x3BB971E9#32, 0xBF5332E3#32],
    ![0xBF19E8F0#32, 0xBED7539C#32, 0xBF0D674C#32],
    ![0xBF119066#32, 0xBECD21C9#32, 0xBF1B4DE4#32],
    ![0xBE89B4D2#32, 0xBF38BDAF#32, 0xBF332484#32],
    ![0x3F3A3910#32, 0xBEAAA91C#32, 0x3EBF9045#32],
    ![0x3F9AE510#32, 0xC017B70C#32, 0x3F7936F4#32],
    ![0x3FC1CA0C#32, 0xBEEDE7FF#32, 0xBE897CF2#32],
    ![0x3FA6E125#32, 0xBF835F59#32, 0xBEB0429B#32],
    ![0x3F38E642#32, 0x3F011F65#32, 0x3F6125C6#32],
    ![0x3F48BFFF#32, 0x3FA6C64A#32, 0xBF806299#32],
    ![0xBF90E971#32, 0x3F1CCE8B#32, 0x3F6B708D#32],
    ![0xBF3F5C3E#32, 0xBCDA9950#32, 0x3E5BD4EC#32],
    ![0x3FFF5C98#32, 0xBFB4A89C#32, 0xBEF10E19#32],
    ![0xBEF4F29C#32, 0x3FFC66EA#32, 0x3EA11F0A#32],
    ![0x3EBDCE8C#32, 0xBE92EC88#32, 0x3F9DC30A#32],
    ![0x3F314019#32, 0xC033966D#32, 0x3FC6180F#32],
    ![0x3F41F327#32, 0x3FC338A3#32, 0x3E3510C1#32],
    ![0xBEDA35C3#32, 0x3EBFC180#32, 0xBEA5FAF8#32],
    ![0xBEEBD11D#32, 0xBEE3D71B#32, 0xBF5F0363#32],
    ![0x3E8D1888#32, 0xBEE2C477#32, 0x3E3A0004#32],
    ![0xBE5CD33F#32, 0xBF18FF8D#32, 0xBF419690#32],
    ![0xBF36409B#32, 0x3FB9FA14#32, 0x3F560338#32],
    ![0xBF432527#32, 0xBE8B2ED4#32, 0x3C88EC98#32],
    ![0x3F1C5E20#32, 0xBF9D8422#32, 0xBF84F1F9#32],
    ![0xBFBACBCF#32, 0x400723FD#32, 0x3FD6DB17#32],
    ![0xBF6543F2#32, 0x3EE83858#32, 0x3D8678A0#32],
    ![0x3FD401ED#32, 0x4000A748#32, 0x3EF6BE3C#32],
    ![0xBFBEEE0A#32, 0x3FA84D11#32, 0x3F728838#32],
    ![0x3F42F15C#32, 0xBF984175#32, 0x3F840872#32],
    ![0xBF9BECFF#32, 0xBE42F5BA#32, 0xBE57100A#32],
    ![0xBF20333A#32, 0x3FB9D6BD#32, 0x3FACFCB1#32],
    ![0x3EB97560#32, 0x3F71CA0D#32, 0x3F7D2A7C#32],
    ![0xBF037161#32, 0xBF878884#32, 0x3EAC1A17#32],
    ![0xBE7435EB#32, 0x3F606E44#32, 0xBFDC7A54#32],
    ![0xBF64538B#32, 0xBF8BE1C7#32, 0x3F132A88#32],
    ![0xBF599CC7#32, 0x3F908A07#32, 0x3FF3BCBD#32],
    ![0xBE1773EF#32, 0x3F5CA659#32, 0x3F1CF94F#32],
    ![0xBE44B0BB#32, 0x3DE64659#32, 0x3DDD549C#32],
    ![0x3DFA0C92#32, 0x3FF471D7#32, 0x3DCCB1BD#32],
    ![0x3F6D0794#32, 0x3FEBA8DE#32, 0xBE17AAE5#32],
    ![0xBE09A8C7#32, 0x3EF2DEFD#32, 0xBFE77821#32],
    ![0x3FA37415#32, 0xBEAC2774#32, 0x3F2EC9AD#32],
    ![0x3F05C6CC#32, 0x3FBEFCBE#32, 0xC001FB10#32],
    ![0x3F0C4B9C#32, 0x3FF596F3#32, 0xBF52F65B#32],
    ![0xBFBC0D3A#32, 0xBEFF4DCD#32, 0x3D6A7B6D#32],
    ![0xBF15B1D9#32, 0xBF0EB665#32, 0x402CEC0D#32],
    ![0x3F03AD0F#32, 0xBF4623A6#32, 0x3E3BCB1D#32],
    ![0xBF4EA66E#32, 0x3DF70A8D#32, 0x3EC1EFC7#32],
    ![0xBF3C1656#32, 0xBDAC8B02#32, 0xBF615EFB#32],
    ![0x3FD38985#32, 0x3F6219A4#32, 0x3F9923C9#32],
    ![0x3B8E6E27#32, 0x3E798E35#32, 0xBF07DBEB#32],
    ![0xBE960CAB#32, 0xBF3AB007#32, 0x3E869627#32],
    ![0x3F8901BD#32, 0xBF521D26#32, 0xBEA8BB9A#32],
    ![0xBFBED0BF#32, 0xBFCD6730#32, 0xBF09B59B#32],
    ![0x3FE8464F#32, 0x3F4310D2#32, 0xBF6ED77D#32],
    ![0x3F8FD513#32, 0x3D7090C7#32, 0xBF54AEC5#32],
    ![0xBF250B69#32, 0x3F6368CA#32, 0x3F5E0CD1#32],
    ![0x4010BD9F#32, 0x3FD69E76#32, 0xBF3FAF10#32],
    ![0x3E0B4C58#32, 0xBC2D470F#32, 0x3F3F7EBF#32],
    ![0x3F74A18D#32, 0x3F2735AE#32, 0xBED726D0#32],
    ![0xBEEDFA31#32, 0x3DCF6AF8#32, 0xBF6524E6#32],
    ![0x3F84B986#32, 0xBFBE4128#32, 0x3EC7510D#32],
    ![0x3F78AC61#32, 0xBFFA9613#32, 0x3EE1953C#32],
    ![0xBB628332#32, 0xBF6A217E#32, 0xBFD0D288#32],
    ![0x3EE8509B#32, 0xBF08380B#32, 0xBEEAF65D#32],
    ![0x3F0212E0#32, 0xBE792667#32, 0xBF485563#32],
    ![0x3EB40BB1#32, 0xBF02101F#32, 0x3E841051#32],
    ![0x3FB513A6#32, 0x3FAD355F#32, 0xBE91D760#32],
    ![0xBF2AC665#32, 0x3F367776#32, 0xBF84F11C#32],
    ![0x3F9335FC#32, 0x3DF4ADB9#32, 0x3F56EF6E#32],
    ![0x3FE248BA#32, 0x3E79552A#32, 0x3F484D87#32],
    ![0xBEE27575#32, 0xBE644BBD#32, 0xBD1BC3E2#32],
    ![0x3F8EA330#32, 0x3F2C214D#32, 0x3EA62352#32],
    ![0xBF7A90CF#32, 0xBF35A380#32, 0xBF2BFA2F#32],
    ![0x3EEAF579#32, 0x3EB62A8F#32, 0x3EF23D42#32],
    ![0x3F31AD05#32, 0x3FD014F7#32, 0x3F8BF07D#32],
    ![0x3F80B8CD#32, 0xBF19BC41#32, 0xBF0BBA69#32],
    ![0xBF352D52#32, 0x3F9CCD01#32, 0x3FE284F5#32],
    ![0x3EC63BD8#32, 0x3D34E88D#32, 0xBEC9933E#32],
    ![0xBE776718#32, 0x3E005867#32, 0x3F0694BA#32],
    ![0x3F6975B0#32, 0x3E597F69#32, 0x3F2FC5D7#32],
    ![0xBEAB89D5#32, 0xBFFAE7A7#32, 0x3D83DA41#32],
    ![0xBF934A5F#32, 0x3F83D87E#32, 0x3ED90280#32],
    ![0xBDE58C3E#32, 0xBEF42B17#32, 0xBF945C4C#32],
    ![0xBF3A67E1#32, 0xBFFFAA76#32, 0x3DF5F916#32],
    ![0x3E248661#32, 0x3F2F30D4#32, 0xBF5FFCF2#32],
    ![0x3FFA47B4#32, 0xBE977224#32, 0x3F1E5964#32],
    ![0x3F8625BB#32, 0x3F4065C4#32, 0x3F2D20F5#32],
    ![0x3F6381CB#32, 0x3ED7B875#32, 0x3F432F90#32],
    ![0xBF6F46B1#32, 0xBE485B29#32, 0xBE387DB9#32],
    ![0xBFBA751B#32, 0x3FEB8793#32, 0x3E78C1D5#32],
    ![0x3FB15CFA#32, 0xBDEA06AA#32, 0xBF179BBF#32],
    ![0x3EC8C41E#32, 0xBF70B73D#32, 0x3F73B019#32],
    ![0xBF240AE1#32, 0x3F8251C6#32, 0xBF4AEFA7#32],
    ![0xBEFEC00B#32, 0xBFA7693E#32, 0x3FA6C661#32],
    ![0xBEDCBB8B#32, 0x3F83336E#32, 0xBEB8FFB0#32],
    ![0xBD5DA693#32, 0xBF0DE754#32, 0xBF842099#32],
    ![0xBF8C451F#32, 0xBFE49FC5#32, 0xBF1EBADA#32],
    ![0xBBA63F99#32, 0xBF914985#32, 0x3FBC562F#32],
    ![0x3F7C0F85#32, 0xBF04A87F#32, 0xBEB85CED#32],
    ![0x3F5E1343#32, 0xBFAC969D#32, 0xBE779889#32],
    ![0xC0056925#32, 0xBED86BF4#32, 0x3CE32E40#32],
    ![0x3F0A2555#32, 0xBFFF5EB6#32, 0xBF3E63CB#32],
    ![0x3EE37D11#32, 0xBF46D642#32, 0x3DA26CC4#32],
    ![0xBF67DBF1#32, 0xBF452173#32, 0x3F678B23#32],
    ![0xBFD8DDF2#32, 0xBFB5501E#32, 0xBF3196BB#32],
    ![0x3F4D57FE#32, 0x3B0734CD#32, 0x3F9725C9#32],
    ![0xBEE1143E#32, 0xBF8864B8#32, 0x401845C4#32],
    ![0x3F2FC41B#32, 0x3DBA45AF#32, 0xBF010363#32],
    ![0x3F657DF3#32, 0xBF73CE67#32, 0xBF194F7C#32],
    ![0xBFD99591#32, 0xBFE3D099#32, 0x3F67F8E2#32],
    ![0x3F29FBFE#32, 0xBFDBF820#32, 0x3F0EA421#32],
    ![0xBFB6E6E6#32, 0x3F524D7B#32, 0xBFA54C7D#32],
    ![0x3EF74E56#32, 0x3E672446#32, 0x3EB8BAE4#32],
    ![0x3F02B933#32, 0x3F9E4F2F#32, 0x3F8AE512#32],
    ![0xBDF56F8F#32, 0xBFA5E41B#32, 0x3E622142#32],
    ![0x3F8CC38B#32, 0xBEFE1044#32, 0xBF38D2D3#32],
    ![0xBF3F5A72#32, 0x3E63D114#32, 0x3EBBB502#32],
    ![0xBD9A3228#32, 0x3E81E5C4#32, 0xBF364F92#32],
    ![0xBFA26A36#32, 0xBEC49B61#32, 0x3E58251B#32],
    ![0xBFA144E5#32, 0xBF10ED08#32, 0xBE955A73#32],
    ![0xBEAE1DCA#32, 0xBFAF944E#32, 0x3E6497FE#32],
    ![0xBF52ED9E#32, 0x3EEC151E#32, 0x3F3E7229#32],
    ![0xC013416E#32, 0x3F9E7109#32, 0xBF977C6D#32],
    ![0xBFA38FC5#32, 0x3EFEB867#32, 0xBF8051BA#32],
    ![0x3E27DA06#32, 0xBF935CF7#32, 0x3EA1DE69#32],
    ![0xBFD19124#32, 0xBF4D44FE#32, 0x3F7ADE75#32],
    ![0xBD7315A2#32, 0x3F16802A#32, 0x3F2B49BE#32],
    ![0xBFAB2529#32, 0xBF74A6A2#32, 0xBF35EAE3#32],
    ![0x3E9577E4#32, 0x3EA40903#32, 0x3FDDB00D#32],
    ![0xBF01B060#32, 0xBD59515D#32, 0x3EB2CC2E#32],
    ![0x3E742410#32, 0xBFB74E4C#32, 0xBFCCD9DA#32],
    ![0x3FEA65CF#32, 0xC00F71D6#32, 0xBF24B2AB#32],
    ![0xBEB56B12#32, 0x3FCE8ACB#32, 0xBF014727#32],
    ![0xBE4914FA#32, 0xBF90BCD5#32, 0xBE8D07EA#32],
    ![0x4003CD79#32, 0x3E510FA8#32, 0xBF058BF6#32],
    ![0x3F462263#32, 0xBF60A4EB#32, 0x3F3C5516#32],
    ![0x3F48765D#32, 0xBF9612AA#32, 0x4019A795#32],
    ![0x3EF93CA6#32, 0xBED043C4#32, 0xBCA1D4F4#32],
    ![0xBEB41137#32, 0x3F5EA1DF#32, 0x3F629965#32],
    ![0xBDCCEC3B#32, 0xBEA93989#32, 0x3FA03179#32],
    ![0x3FBA8743#32, 0x3C28316B#32, 0xBF5D235B#32],
    ![0xBE12E40C#32, 0x3E29C864#32, 0xBEF848FE#32],
    ![0x3FDC454C#32, 0xBFDB5B39#32, 0x3FAB256F#32],
    ![0xBFB893AA#32, 0x3F6F2189#32, 0x3DFFB963#32],
    ![0xBE5977AD#32, 0x3FB92084#32, 0xBECA086A#32],
    ![0xC000B431#32, 0x3EB32372#32, 0xBE27241C#32],
    ![0xBF1620A9#32, 0xBF159575#32, 0xC0058348#32],
    ![0xBCEAD323#32, 0xBFBAA750#32, 0x3EC3A772#32],
    ![0x3F632EAD#32, 0xBF640137#32, 0x3D3D96C1#32],
    ![0x3E98B28B#32, 0x3F6E2FB8#32, 0xBED93DFF#32],
    ![0x3EC6592F#32, 0x3F49D2BC#32, 0x3F591EB4#32],
    ![0x3F2F283E#32, 0x3E05EAA7#32, 0xBF5F6437#32],
    ![0x3F0951F8#32, 0x4019B7DA#32, 0x3E61841A#32],
    ![0xBF5D9236#32, 0xBFBE2B02#32, 0x3F538705#32],
    ![0x3F5DDBAF#32, 0x3F0EAABD#32, 0x3DD841FF#32],
    ![0x3E9C55E5#32, 0xBE4D7798#32, 0xBE978E6B#32],
    ![0x3F0997ED#32, 0xBF967F53#32, 0x3F8C0B00#32],
    ![0xBF7C7544#32, 0xC00D6731#32, 0x3F371D81#32],
    ![0xBED92E1B#32, 0xBF33B337#32, 0x3F27E719#32],
    ![0xBF4E5BD7#32, 0xBEDCF263#32, 0x3F63B5A1#32],
    ![0x3F00B0DD#32, 0x3E24B2A8#32, 0x3E2F26E6#32],
    ![0xBF2C8F8D#32, 0x3EBC6FAB#32, 0x3E1D1FA4#32],
    ![0xBEA31991#32, 0xBF6D320F#32, 0x3EE63844#32],
    ![0x3E9F3616#32, 0x3F9A8FFB#32, 0x3F0A5330#32],
    ![0x3ECE27A3#32, 0x3F85E94A#32, 0x3ED3D48F#32],
    ![0xBE40B54F#32, 0xBEC2D217#32, 0xBF0C380D#32],
    ![0xBF565B4C#32, 0x3FA52222#32, 0xBEF61F1C#32],
    ![0x3D528BB5#32, 0x3FB40218#32, 0xBF84F343#32],
    ![0x3F5AD89E#32, 0xBF682919#32, 0x3E389B74#32],
    ![0xBDDA0DCC#32, 0xBF84032F#32, 0x3F3FFB8B#32],
    ![0xBF762324#32, 0x3F17E813#32, 0xBE9BB7C2#32],
    ![0xBF4B9903#32, 0x3F9AA816#32, 0xBEA71365#32],
    ![0xBE5C0DA3#32, 0x3F852272#32, 0x3E802465#32],
    ![0xBF7A9305#32, 0x3F9FE6B1#32, 0xBF1A1586#32],
    ![0x3FC62D81#32, 0xBD441424#32, 0x3EDB7027#32],
    ![0x3F49BFAA#32, 0x3FC396BE#32, 0xBF27D8AA#32],
    ![0xBE3E7058#32, 0xBF206A6D#32, 0x3E749F9E#32],
    ![0x3ED71514#32, 0x3FF19214#32, 0xBF1346A5#32],
    ![0xBF944E61#32, 0x3E8142EA#32, 0x3FDBC19C#32],
    ![0x3FB5CB29#32, 0x3F2E7F96#32, 0xBDDBC4C3#32],
    ![0x3D7AA317#32, 0xBE16A8BC#32, 0x3EE8ECEF#32],
    ![0x3F1269A4#32, 0x3F847DC1#32, 0x3EFE6C36#32],
    ![0x3F8CCEC4#32, 0x3E74F372#32, 0x3F39743B#32],
    ![0x3D2171B8#32, 0x3E65A455#32, 0x3E7A07FB#32],
    ![0xBF552818#32, 0xBED43ABB#32, 0xBF3EB5BC#32],
    ![0x3EFDC1D8#32, 0xBFF335F9#32, 0xBF9DAFA2#32],
    ![0x3E04EAB1#32, 0x3EDD94DD#32, 0xBEFBFDEE#32],
    ![0x3F10ACEE#32, 0xBE83E8BC#32, 0x3BA888E7#32],
    ![0xBF9DAD2C#32, 0xC02061E9#32, 0xBFE76BA0#32],
    ![0x3EF15E2A#32, 0x3F111CC0#32, 0x3F352C59#32],
    ![0xBFC3BF14#32, 0x3E9EDF5D#32, 0xBEBA7BE1#32],
    ![0xBF2B07A9#32, 0xBF824A7C#32, 0x3FFC6DE4#32],
    ![0x3E977E12#32, 0xBE31B44D#32, 0x3DAAA1D4#32],
    ![0x3F4D12BC#32, 0xBF589253#32, 0xBDB9199E#32],
    ![0xBFA51DA6#32, 0xBF45416F#32, 0xBFB8E190#32],
    ![0x3F98D725#32, 0x3F1188A1#32, 0x3EADAC54#32],
    ![0x3F3392D6#32, 0x3F2AA67E#32, 0x3F296998#32],
    ![0xBD75E23E#32, 0x3F657541#32, 0xBE3975FA#32],
    ![0x3F364721#32, 0xBF5154F3#32, 0xBF8140BF#32],
    ![0x3F21B366#32, 0xBF4E75A5#32, 0x3CED429C#32],
    ![0xBF4ABF6D#32, 0x3EE3C643#32, 0x3F8BCB4A#32],
    ![0xBEC5D557#32, 0x3DF1D2E9#32, 0xBEA5C4E5#32],
    ![0xBF4CE410#32, 0x3FEA19E4#32, 0x3F2FC4E6#32],
    ![0x3F965133#32, 0x3FAE07D8#32, 0xBEDEC8BE#32],
    ![0xBD74802B#32, 0x3F38A51B#32, 0xBF976E53#32],
    ![0x3F4518CC#32, 0x3F728ED0#32, 0x3F5EB25E#32],
    ![0xBF261682#32, 0xBFC49B10#32, 0xBFFD41C3#32],
    ![0xBD8BE583#32, 0xBF07C66F#32, 0xBED3C84A#32],
    ![0x3F19C10C#32, 0x3FB9E816#32, 0x3EE5428B#32],
    ![0xBF641A60#32, 0x3E4E03FF#32, 0x3EE15801#32],
    ![0x40375841#32, 0x3FA203F2#32, 0xBE33CDF5#32],
    ![0x3DB4A3C5#32, 0x3CC42D7E#32, 0xBFB6361B#32],
    ![0x3EDC3D2E#32, 0xBF4573D5#32, 0x3FA26DFC#32],
    ![0xBED0A74C#32, 0xBF80282A#32, 0x3F8E8983#32],
    ![0x3F6C535D#32, 0x400C983D#32, 0xBFFE5536#32],
    ![0xBF1FFD8D#32, 0xBF059C40#32, 0xBEA03ACD#32],
    ![0xBF11C43A#32, 0x3FC351C9#32, 0xBF58B4B2#32],
    ![0xBE9AF350#32, 0xBF6A3803#32, 0xBF8E2927#32],
    ![0xBF9CC5ED#32, 0xBEEDE33F#32, 0xBEE3EB6E#32],
    ![0x3F39AE24#32, 0xBEAE1A62#32, 0x3F9BC78C#32],
    ![0xBF6D97B7#32, 0x3FC0F94C#32, 0xBEC2400F#32],
    ![0x40040E82#32, 0xBEEE2788#32, 0xBF87E13F#32],
    ![0xBE40B87F#32, 0x3E0C050A#32, 0xBF1E5F78#32],
    ![0xBF8EC7BF#32, 0x3E7D1EFE#32, 0x3F3D6496#32],
    ![0x3F82AC54#32, 0xBF3D2831#32, 0xBEF1F3E0#32],
    ![0x3F11E107#32, 0xBF744360#32, 0xBF0BF005#32],
    ![0xBF4AB164#32, 0xBFE39249#32, 0x3F464B46#32],
    ![0x3FDCE3F7#32, 0xBFC28E35#32, 0x3F33995F#32],
    ![0x3F0D8822#32, 0xBECAF288#32, 0xBEC99FC6#32],
    ![0xBE9617C0#32, 0xBE9FB99F#32, 0x3E0654AE#32],
    ![0xBEAC0F94#32, 0xBDF9C4D5#32, 0x3F09A41A#32],
    ![0x3FF8AC75#32, 0xBF876954#32, 0x3F751A69#32],
    ![0xBF8B7858#32, 0x3DF5E534#32, 0xBF486E35#32],
    ![0x3F1E40C8#32, 0x3E988C80#32, 0x3F0BAED5#32],
    ![0xBEC12FC3#32, 0x3F6A5597#32, 0x3F192E48#32],
    ![0xBFCCA048#32, 0x3EA51884#32, 0x3E66291E#32],
    ![0xBF1E6374#32, 0xBF4CC79C#32, 0xBF12C6B3#32],
    ![0xBDDF21F4#32, 0x3C6C4758#32, 0xBF789A32#32],
    ![0xBF47544F#32, 0xBF0F9307#32, 0x3D80C51C#32],
    ![0x3E4A37F6#32, 0x3E0F9EDF#32, 0x3F1C0099#32],
    ![0x3F01AD4A#32, 0x40142FC2#32, 0xBF4D995B#32],
    ![0x3F64DF66#32, 0xBFA12EF3#32, 0x3F25D2E2#32],
    ![0x3F4009DD#32, 0xBE0C2371#32, 0x3F8EB100#32],
    ![0x3E25736B#32, 0xBF44E26F#32, 0xBE8FF203#32],
    ![0xBEB38575#32, 0xBE7A9F84#32, 0xBEE43FE7#32],
    ![0x40044CE2#32, 0xBDCED68D#32, 0x3F0EB20A#32],
    ![0x3F1E9647#32, 0x3F9524B9#32, 0xC0179FE9#32],
    ![0xBDA03E54#32, 0x3F85B093#32, 0x3F6023F7#32],
    ![0x3EFF28EC#32, 0xBF2EC958#32, 0xBED95CAF#32],
    ![0xBF067D7D#32, 0x3E28AE69#32, 0x3F0F5FE0#32],
    ![0x3F6B96D2#32, 0xBFB8CB41#32, 0x3FD4D57D#32],
    ![0xBF8C66EE#32, 0xBF8F92E6#32, 0x3F6BFA46#32],
    ![0x3DF74634#32, 0x3EA00434#32, 0xBF8A6B2E#32],
    ![0xBFCC6C06#32, 0x3F4F23CC#32, 0x3CDE0100#32],
    ![0x3F29F19D#32, 0x3DBFD0AC#32, 0xBEA5D954#32],
    ![0xBF8FA346#32, 0xBF919882#32, 0xBFBC4442#32],
    ![0x3DB72E4B#32, 0xBF2738AD#32, 0xBF6C789B#32],
    ![0x3F2326DB#32, 0xBE74D814#32, 0xBE943640#32],
    ![0xC02116A5#32, 0x3F29348A#32, 0xBFA52764#32],
    ![0x3F828E16#32, 0x3F5F7A0B#32, 0xBEE7E2E8#32],
    ![0xBF0C7D32#32, 0xBEAFCB91#32, 0xBEF2862E#32],
    ![0x3E629DE9#32, 0xBECBFC89#32, 0xBF5D6367#32],
    ![0xBEA60476#32, 0xBDD858C3#32, 0x3FA24E4A#32],
    ![0x3F9A852F#32, 0x3F111B70#32, 0xBFF5F8EA#32],
    ![0xBFD22B46#32, 0x3F4ECB7A#32, 0xBF0EDEFB#32],
    ![0xBEB908C3#32, 0x3FB4372B#32, 0xBEC5A3C1#32],
    ![0xBE114A4C#32, 0xBF3C8579#32, 0xBF483FD8#32],
    ![0xBF6F2DEF#32, 0x3EC61E1F#32, 0x4033B8CD#32],
    ![0x3E4CCF2A#32, 0xBDBC9F0D#32, 0xBFFA9943#32],
    ![0x3F0BBC72#32, 0x3EFC5829#32, 0xBF43C2A5#32],
    ![0xBF2EE024#32, 0xBF5DB1EA#32, 0xBF147A5D#32],
    ![0xBFEA3FF6#32, 0x3F71379D#32, 0xBEA19E7E#32],
    ![0xBEF2F05E#32, 0xBFA2780E#32, 0x3E3D32D2#32],
    ![0xBE2A0269#32, 0x3FDEFD71#32, 0xBF8DEEC1#32],
    ![0x3F8DF597#32, 0x3E8E00D8#32, 0xBE648C62#32],
    ![0xBE9CF722#32, 0x3C86B383#32, 0x3FA39EAC#32],
    ![0x3F81B381#32, 0x3FC8C6EB#32, 0x3EC90D8D#32],
    ![0xBF371539#32, 0x3E889950#32, 0xBFB79311#32],
    ![0x3F1BF1EF#32, 0xBFB0A02B#32, 0x3F4F070A#32],
    ![0x3F2D7DFE#32, 0x3F1E26FC#32, 0x3E38CDB2#32],
    ![0xBF73D5EC#32, 0x3D8A18B8#32, 0x3FB5E8A0#32],
    ![0x3F854111#32, 0xBF028EBD#32, 0x3F778242#32],
    ![0x3F0A98DE#32, 0x3DF95C1C#32, 0x3E27CFA0#32],
    ![0x40093EC2#32, 0x3E4F8D7D#32, 0xBE514988#32],
    ![0x3F73E5F7#32, 0x3EF17DF2#32, 0xBF128762#32],
    ![0x3E416B4E#32, 0x3F8217F0#32, 0x3F8A76D3#32],
    ![0x3DA57280#32, 0x3FE537B8#32, 0xBE16B8A6#32],
    ![0xBD85D4F4#32, 0x3F4A9F05#32, 0xBE2812E9#32],
    ![0x3F78923D#32, 0x3F0BB7C4#32, 0xBF64E23F#32],
    ![0xBF9A5F75#32, 0xBF887B45#32, 0xBF0DE164#32],
    ![0xBF5BF07F#32, 0x3FF854C8#32, 0xBF604ABE#32],
    ![0x40036C7C#32, 0x3EE34294#32, 0xBE48A36B#32],
    ![0x3FEFE5F9#32, 0x3F34B6F8#32, 0x3E259FC7#32],
    ![0xBE86F560#32, 0x3E4DC72B#32, 0xBFE7B24B#32],
    ![0x3FB716A1#32, 0xBEC9E3B6#32, 0x3FA93759#32],
    ![0x3FA417DE#32, 0xBF34158D#32, 0x3F250EC7#32],
    ![0xBF10E196#32, 0xBFE3D584#32, 0x3FBDEA76#32],
    ![0xBE2F352B#32, 0xBD8500D9#32, 0x3F6FB28C#32],
    ![0x3F6AFA56#32, 0x3E2063F5#32, 0xBF31D9B0#32],
    ![0xBF88BBFE#32, 0xBFCA2FAE#32, 0x3F8A7454#32],
    ![0x3E42D79F#32, 0x3AE12CF5#32, 0xBEF31890#32],
    ![0x3F118A20#32, 0xBE87EDEF#32, 0x3FA5C465#32],
    ![0x3EA51898#32, 0xBEA85DFD#32, 0xBF048C75#32],
    ![0x3E55E289#32, 0x3EAE2863#32, 0xBE10A763#32],
    ![0x3D981E21#32, 0xBF482D86#32, 0x3E8BB19B#32],
    ![0xBEA72508#32, 0x3F412D35#32, 0x3E743CA5#32],
    ![0x3EA170F1#32, 0x3EE3FDB4#32, 0xBF39C76F#32],
    ![0x3DFD5272#32, 0x3FB1CB5F#32, 0x3D41CA56#32],
    ![0xBD405033#32, 0xBE9AC90B#32, 0x3D02A9CF#32],
    ![0x3F0622C1#32, 0xBFD71621#32, 0x3EEAD9F9#32],
    ![0xBFBF1D2E#32, 0xBEAA5F4C#32, 0x3FE04486#32],
    ![0xBF6C05FA#32, 0xC00F82B2#32, 0x3F5B97E2#32],
    ![0x3F410520#32, 0x3E0B2F17#32, 0x3FFB8DBC#32],
    ![0x3F1C09D1#32, 0xBFE5C2A1#32, 0x3F951DAE#32],
    ![0x3D676C17#32, 0x3F877AB3#32, 0xBE7F07D9#32],
    ![0xBF8DD224#32, 0x3FECB9B6#32, 0xBE81029B#32],
    ![0xBFA45D14#32, 0x3F008DC3#32, 0x3F4C8E11#32],
    ![0xBF0127B9#32, 0xBE6C3F87#32, 0x3F4750F5#32],
    ![0xBEAA2FE6#32, 0xC01AC200#32, 0x3FA6B778#32],
    ![0xBF695648#32, 0xBF7FDE59#32, 0xBF93E700#32],
    ![0x3FCFC7B5#32, 0x3F5FEC0C#32, 0x3FEDB376#32],
    ![0x3C8D41F1#32, 0x3F748265#32, 0xBEA916E1#32],
    ![0x3F83685D#32, 0x3D981DD1#32, 0xBF8670BF#32],
    ![0x3E777123#32, 0xC00AB6FE#32, 0x3E8BD7F1#32],
    ![0xBF0AC14B#32, 0xBF744DF5#32, 0x3F08B007#32],
    ![0x3FA872F5#32, 0xBD5DE413#32, 0x3D900FE7#32],
    ![0x3DFD697E#32, 0x3F9324EF#32, 0xBF227029#32],
    ![0x3F7DA78F#32, 0xBDF4390A#32, 0xBDF503CA#32],
    ![0x3E089B24#32, 0x3F2A9F0E#32, 0x3DE5D01B#32],
    ![0xBF403086#32, 0xBF9AF394#32, 0xBFD9C6A1#32],
    ![0xBFB0AD5D#32, 0xBFB5E480#32, 0x3E0886D4#32],
    ![0xBFB6F4ED#32, 0x3F0C0CA4#32, 0xBF231FEF#32],
    ![0xBE005EAE#32, 0xBFA5D162#32, 0x3EDE1B16#32],
    ![0x3F94DFBD#32, 0x3F24B888#32, 0x3ECC942E#32],
    ![0xBF2D7940#32, 0xBD8D6189#32, 0xBFA69752#32],
    ![0x3C7AD21A#32, 0x3F90DE3A#32, 0x3F27890D#32],
    ![0x3F9D0E46#32, 0xBE426628#32, 0x3F06C066#32],
    ![0x3F3E701F#32, 0xBFED7538#32, 0x3F78184C#32],
    ![0x3F2195DB#32, 0x3F05E2CA#32, 0xBF2EE1AD#32],
    ![0xBF724AA3#32, 0x3F7A9040#32, 0xBF598A36#32],
    ![0x3E9BF318#32, 0xBF706B3A#32, 0xBF6F5A7F#32],
    ![0x3F98DD6F#32, 0xBF0EF72C#32, 0xBE895FC1#32],
    ![0x3EE7982B#32, 0xBD4BC6D2#32, 0x3E6425E0#32],
    ![0xBFB89826#32, 0xBEE6F82F#32, 0x3D46F7AC#32],
    ![0x3EDC33DC#32, 0xC00138D0#32, 0xBF093B07#32],
    ![0xBFC1B644#32, 0x3E5143F9#32, 0xBE1463DA#32],
    ![0x3F01C71E#32, 0xBF65827F#32, 0xBF8585DD#32],
    ![0x3F453C3B#32, 0xBDD6EE1E#32, 0xBEAAE487#32],
    ![0x3F968668#32, 0xBEDFF096#32, 0xBDCAEF38#32],
    ![0x3F50221C#32, 0x3F824F71#32, 0x3FB09B48#32],
    ![0xBFC898A5#32, 0xBE31BA58#32, 0x3E8CF2C8#32],
    ![0xBF0BEFF9#32, 0xBE8BFA08#32, 0xBF7CBC44#32],
    ![0xC05A28EF#32, 0x3FBCD3D0#32, 0x3F5AEEC5#32],
    ![0xBF1AF6F9#32, 0xBFCF2261#32, 0x3F9165A5#32],
    ![0x3F950327#32, 0xBFA99AD3#32, 0xBFF0DD0B#32],
    ![0xBFB3DF42#32, 0xBDB17835#32, 0x3DAB2D1F#32],
    ![0x3EAFBAE3#32, 0x3E09D186#32, 0xC00B2D49#32],
    ![0x3E6080FE#32, 0xBE62B5B7#32, 0x3F09FF03#32],
    ![0x3E335355#32, 0x40071907#32, 0xBF112B3A#32],
    ![0xBF9CC13D#32, 0xBF3C54BD#32, 0xBE9DCE41#32],
    ![0x3ECD3093#32, 0xBEA41148#32, 0xBC2D7BB2#32],
    ![0x3F0D6154#32, 0xBE4940E5#32, 0xBFB82FFC#32],
    ![0xBF56FED9#32, 0xBFC16D9C#32, 0xBEE818AE#32],
    ![0xBD896D2D#32, 0xBF8C662F#32, 0xBFC6572D#32],
    ![0xBF4F8E0F#32, 0xBE7588F0#32, 0xBD32A1AB#32],
    ![0xBF40937A#32, 0xBDA56E56#32, 0xBD89DB90#32],
    ![0xBEAF76A9#32, 0x3F8541FE#32, 0xBDFD1B6E#32],
    ![0xBC97DD5E#32, 0xBEB9368B#32, 0x3FB24E3A#32],
    ![0xBF00B19B#32, 0xBD37FBF1#32, 0xBF66AE12#32],
    ![0x3E669FDD#32, 0x3E0F4425#32, 0x3FD958CE#32],
    ![0xBEA70142#32, 0x3E09B8DD#32, 0x3E877E3B#32],
    ![0xBE85BDD8#32, 0x3F42FF6A#32, 0x3E171B1F#32],
    ![0x3E9E9CC9#32, 0x3E124635#32, 0x3D294082#32],
    ![0xBE81DDB4#32, 0xBF9C85CD#32, 0xBFE4EFDD#32],
    ![0xBEC7DD54#32, 0x3F71C0E0#32, 0x3E7CB20E#32],
    ![0xBE797B9B#32, 0xBF45DEC4#32, 0x3F76A7E9#32],
    ![0x3FD3461C#32, 0xBF267B77#32, 0x3DFE5F9F#32],
    ![0x3DA7827A#32, 0x3F92F67C#32, 0xBE4B6752#32],
    ![0x3F0CBEE8#32, 0x3EE22119#32, 0x3F961253#32],
    ![0x3EB1D054#32, 0x3FA98576#32, 0xBE8F91D3#32],
    ![0x3F93448F#32, 0xBF7B8480#32, 0xBD751594#32],
    ![0xBDD4234C#32, 0x3EC932D3#32, 0x3CB3B6BC#32],
    ![0xBFBD9A95#32, 0x3F288118#32, 0x402E045D#32],
    ![0xBE4E7045#32, 0x3F23A64F#32, 0xBE385CFF#32],
    ![0x3D541756#32, 0x3D9FA235#32, 0x3EEDDC54#32],
    ![0x3EF15809#32, 0xBFF4568A#32, 0x3E861694#32],
    ![0xBF286829#32, 0xBE3C803B#32, 0x3EC0A9C8#32],
    ![0x3F4AE0F8#32, 0xBEFD04AA#32, 0x3F036097#32],
    ![0xBEEA82FC#32, 0xC00F5E30#32, 0xBFA6AC6F#32],
    ![0xBF0196A4#32, 0x3F5A2D9E#32, 0xBEB18BE2#32],
    ![0x3F42A27E#32, 0x3F4A6EA4#32, 0xBF090B7D#32],
    ![0xBE332CB8#32, 0xBE06D152#32, 0x3EDE2F04#32],
    ![0xBFD28263#32, 0xBED09A51#32, 0x3F938554#32],
    ![0xBF439E01#32, 0xBD85F0E6#32, 0x3E4558D3#32],
    ![0x3FE595F0#32, 0xBEC24439#32, 0xBFB7339D#32],
    ![0xBF3F738C#32, 0x3FB8FE3E#32, 0x404C2E37#32],
    ![0x3FABBF41#32, 0x3F83F45C#32, 0x3EBEDA4E#32],
    ![0x3EDE98EF#32, 0xBE74A39A#32, 0xBECC6047#32],
    ![0xBE086A6B#32, 0xBF2698AC#32, 0xBE917485#32],
    ![0xC061ED5E#32, 0x3E7C5097#32, 0xBEB5196C#32],
    ![0x3EAA502B#32, 0x3FE46AE3#32, 0x3F8ACF5D#32],
    ![0x3EEAEDE5#32, 0xBDC8946E#32, 0x3D0EC92E#32],
    ![0x3E681736#32, 0x3F041C44#32, 0x3F164FDF#32],
    ![0xBE3DAE9B#32, 0x3FA2A9BA#32, 0xBF81E449#32],
    ![0x3F553131#32, 0x3DFE4633#32, 0x3F80CC98#32],
    ![0x3E2260F9#32, 0x3F188863#32, 0x3DA0EEBA#32],
    ![0x3F0C01E7#32, 0x3F411BCC#32, 0xBFAF05B7#32],
    ![0xBFAEB698#32, 0x3F3A8B49#32, 0x3F9868D9#32],
    ![0xBF3A3630#32, 0x3F8D3473#32, 0x3F9F051D#32],
    ![0xBDE9EAE9#32, 0xBD642386#32, 0x3FA3B1A2#32],
    ![0x3E78AEB8#32, 0xBF2E1574#32, 0x3FE2DED7#32],
    ![0x3F23F976#32, 0xBF0C9000#32, 0x3E3226DB#32],
    ![0xBE8DC1BD#32, 0xBF06082C#32, 0x3FA68255#32],
    ![0x3FAC14EF#32, 0x3F2288A0#32, 0xC00B53EE#32],
    ![0xBFB69311#32, 0x3ED02E6F#32, 0x3EDD1223#32],
    ![0xC0053F2A#32, 0x3FBA0A5A#32, 0x3E55F95B#32],
    ![0xBED5A8CC#32, 0x3F98907B#32, 0xBF5FFA6A#32],
    ![0xBDFC9DEE#32, 0x3E6347A0#32, 0xBE9AECAC#32],
    ![0x3D459946#32, 0x3EDDFE42#32, 0x3FEB6EAF#32],
    ![0x3F5A3DFB#32, 0x4010625A#32, 0x3FBB986F#32],
    ![0x3F8A979B#32, 0x3F577518#32, 0x3F96CFFE#32],
    ![0x3F00DC0C#32, 0x3F5E988F#32, 0xBEFFB556#32],
    ![0xBDE274E5#32, 0x3E14DEAC#32, 0x3DE8F7D5#32],
    ![0xBF180720#32, 0xBDADBE11#32, 0xBFB9434F#32],
    ![0xBE895AB9#32, 0x3FC4EE89#32, 0x3E4B50E9#32],
    ![0x3E8BED35#32, 0xBDE4594D#32, 0x3F6BC416#32],
    ![0x3FAFE114#32, 0xBB096DCE#32, 0x3D08B085#32],
    ![0xBD53A4FB#32, 0x3E85F6C3#32, 0x3F4EC759#32],
    ![0xBFDE0149#32, 0xBF993362#32, 0x3F2FE9AB#32],
    ![0x3C14EAE5#32, 0xBD4C8D66#32, 0xBFC44FA4#32],
    ![0x3E80B6C9#32, 0xBED4D2D6#32, 0x3E863066#32],
    ![0x3FBDD630#32, 0xBF0E27F9#32, 0x3F895EF7#32],
    ![0xBE98578B#32, 0xBF7DBD98#32, 0x3F1F82C6#32],
    ![0x3F5C81BB#32, 0x3FE45350#32, 0x3EA0DBD7#32],
    ![0xBE88CF08#32, 0x3EF133C2#32, 0xBE312BD9#32],
    ![0xBF9E1206#32, 0x3F0BECBB#32, 0xBE9536B0#32],
    ![0x3F24B863#32, 0x3F571073#32, 0x3E97D269#32],
    ![0x3D9F5B56#32, 0x3F1EC14C#32, 0x3F06F03A#32],
    ![0x3DFBDC7A#32, 0xBF45C271#32, 0xBF809C5B#32],
    ![0xBF0585AE#32, 0xBF83DA5E#32, 0x3F26621A#32],
    ![0x3FDF2338#32, 0xBF71B4A7#32, 0x3EA47F7B#32],
    ![0xBEF6BB67#32, 0x3EAAE418#32, 0x3E61A167#32],
    ![0xBF766188#32, 0xBAA2EBCC#32, 0x3F4BEAB0#32],
    ![0xBFDD8955#32, 0xBF02FB28#32, 0xBFE0426A#32],
    ![0xBFBE7DC4#32, 0xBF09FF17#32, 0xBE84785E#32],
    ![0x3E999366#32, 0xBE12E31A#32, 0xBE4387A0#32],
    ![0x3FD141CA#32, 0xBED58597#32, 0xBFEA44B8#32],
    ![0x3EECBCF6#32, 0xBF391DA6#32, 0xC014F221#32],
    ![0xC002A45B#32, 0xBF2F6079#32, 0xC0280784#32],
    ![0x3F261880#32, 0xBCBC1945#32, 0x3F1A716B#32],
    ![0x3EEA0C5F#32, 0x3E9A313C#32, 0x3E8BBE36#32],
    ![0x3F6883DF#32, 0x3F11F71F#32, 0x3EB6CC28#32],
    ![0x3F897300#32, 0xBECF2D5B#32, 0xBC5C8A2D#32],
    ![0x3E4EF49E#32, 0x3E1F0AB9#32, 0xBEDBFB44#32],
    ![0x3F7A070E#32, 0x3EFC1842#32, 0xBF494154#32],
    ![0xBF79BA19#32, 0xBDBD155C#32, 0x3FB606F0#32],
    ![0xBF3720C9#32, 0xBFDC284A#32, 0xBFBA24BB#32],
    ![0x3EAD5A50#32, 0xBF0ED9E7#32, 0x3F77CBDC#32],
    ![0xBE54075A#32, 0x3F1952BB#32, 0xBF454197#32],
    ![0x3FA84C41#32, 0xBF00FC9A#32, 0x3F740671#32],
    ![0xBEE2C3E8#32, 0xBEBD5849#32, 0x3FA978D2#32],
    ![0x3B292ED2#32, 0xBF44E86A#32, 0xBF65747B#32],
    ![0x3DF4B68E#32, 0x3F24EC05#32, 0x3F5792A7#32],
    ![0xBF782156#32, 0xBF0529E8#32, 0xBF784144#32],
    ![0x3FB4A6BC#32, 0x3DD92256#32, 0xBFB13040#32],
    ![0x3FD040A0#32, 0x3EC149F2#32, 0xBF80D6EB#32],
    ![0x3F3341B9#32, 0xBEDC3963#32, 0xBFEF3F94#32],
    ![0xBF72ABFB#32, 0x3EDDC4D3#32, 0x3DF30C8D#32],
    ![0xBF4A6390#32, 0x3F8F7E9A#32, 0x3FAAF200#32],
    ![0xBF5138AA#32, 0x3EF2393B#32, 0x3D315B58#32],
    ![0xBE0BC8D5#32, 0xBFC1DA3F#32, 0xBE90BA31#32],
    ![0xBE946648#32, 0x3F13F191#32, 0x401E1EB2#32],
    ![0xBFC2D680#32, 0x3EED4909#32, 0xBFB385B4#32],
    ![0xBFD777F6#32, 0x3F12B9F8#32, 0x3F425A1B#32],
    ![0xBE9636E7#32, 0x3FBEB244#32, 0x3F9A4E89#32],
    ![0xBF843BCC#32, 0xBFCF2261#32, 0xBFB0C16D#32],
    ![0xBF9260EC#32, 0x3F90156E#32, 0xBEE154A9#32],
    ![0xBEDBD389#32, 0xBFAEC148#32, 0x3D1EA5D9#32],
    ![0xBDC8254D#32, 0x3F537F7A#32, 0x3F51E4AA#32],
    ![0x3E376234#32, 0xBDE3E3DC#32, 0xBEF56ED5#32],
    ![0xBDF2895E#32, 0xBF15F016#32, 0x3F55110A#32],
    ![0xBF5DFF83#32, 0xBD2CB919#32, 0xBFBCF70F#32],
    ![0xBF3C1EBA#32, 0xBE091119#32, 0x3F066BE6#32],
    ![0xBEDBD3B5#32, 0xBFA2487B#32, 0xBF13ED64#32],
    ![0x3FDE7AB3#32, 0x3EE78E2E#32, 0x3F75A58A#32],
    ![0x3E3073AB#32, 0x3D17A5E3#32, 0x3E5A999F#32],
    ![0x3F84C186#32, 0xBF465E59#32, 0x3EB06A9C#32],
    ![0xBF3A8346#32, 0x3F653576#32, 0x3FBC2E65#32],
    ![0xBF5AB2B4#32, 0xBF92A24F#32, 0xBF280F7A#32],
    ![0x3E9B772C#32, 0xBF814395#32, 0xBE8C0429#32],
    ![0x3FE53A59#32, 0xBE977ABB#32, 0x3F5C091A#32],
    ![0x3F955156#32, 0x400B4B60#32, 0x3F85B3C3#32],
    ![0xBFA65396#32, 0x3EFF9B5D#32, 0xBF7D5178#32],
    ![0xBF0C0358#32, 0xBF16477C#32, 0x3FBE7B0E#32],
    ![0xBF563CB8#32, 0x3F89A324#32, 0xBF58EB5C#32],
    ![0x3EBAA799#32, 0xBF3852AD#32, 0xC0047ED4#32],
    ![0xBEBB40AE#32, 0x3EF18FD9#32, 0xBF8D355D#32],
    ![0xBF694222#32, 0x3F0C8302#32, 0x3F1DB8C5#32],
    ![0x3EA90BC5#32, 0xBE3A42CB#32, 0x3D44C448#32],
    ![0xBE1AC14A#32, 0x3FDE28BF#32, 0x3F20CCEF#32],
    ![0x3F1DC957#32, 0x3F9A5252#32, 0xBF059B55#32],
    ![0x3F9E0546#32, 0x400C2B26#32, 0xBE3A0923#32],
    ![0x3FD25AB2#32, 0x3F999C8D#32, 0xBD7621F5#32],
    ![0xBF986E36#32, 0x3FB40141#32, 0xBDC4F021#32],
    ![0xBF2CE3B2#32, 0xBEB675F0#32, 0xBE98DF3D#32],
    ![0xBFA2130F#32, 0xBE89D140#32, 0xBF39BCBB#32],
    ![0x3F5118F7#32, 0x3EAEB031#32, 0xBE82B916#32],
    ![0xBF046D7E#32, 0x3FF8E868#32, 0xBED93EAF#32],
    ![0xBFB855A0#32, 0xBFC760A1#32, 0x40135D13#32],
    ![0x3FEDDBED#32, 0x3ECAD31F#32, 0xBE2C880F#32],
    ![0x3F6F66D1#32, 0x3FEEEFAF#32, 0x3E1B23A9#32],
    ![0x3FEA2FE6#32, 0x3FA7CB00#32, 0x3EB3AA41#32],
    ![0xBF1476D1#32, 0x3FBBA1F3#32, 0xBF93418C#32],
    ![0x3FA5FEEA#32, 0x3EEE6A4A#32, 0x3F43B273#32],
    ![0x3EC39E17#32, 0x3F86BF85#32, 0x3FAE59D4#32],
    ![0xBF411CA3#32, 0x3F21B234#32, 0x3DC5164B#32],
    ![0xBD62B40C#32, 0x3F5ACFB2#32, 0xBF6D9F56#32],
    ![0x3F154F87#32, 0xBB208472#32, 0x3F30D110#32],
    ![0xBF885D64#32, 0x3E9FE058#32, 0x3F1ED19A#32],
    ![0xBDF654FF#32, 0x3FA85AEC#32, 0xBECDCE22#32],
    ![0x3E3BADF4#32, 0xBF898529#32, 0x3EA9E7C8#32],
    ![0xBEED9071#32, 0xBE969A99#32, 0x3E9687AF#32],
    ![0x3F858B5C#32, 0xBFF3A805#32, 0x3EBF8E76#32],
    ![0xBF253674#32, 0xBF60C7D6#32, 0x3FEEF445#32],
    ![0x3FF8715B#32, 0x39BC597F#32, 0x4002A3D2#32],
    ![0xBFB81193#32, 0x3D92C347#32, 0x3D9C2C77#32],
    ![0x40042693#32, 0xBF784A61#32, 0x3FE5C57F#32],
    ![0xBEBD7F2A#32, 0xBFCB97FC#32, 0xBD4A1B8A#32],
    ![0x3D2F849A#32, 0x3F4F0A4B#32, 0x3FC0146D#32],
    ![0x3D9FD018#32, 0x3F59AA02#32, 0xBF4B542C#32],
    ![0xBEB74A62#32, 0xBF8D25F1#32, 0xBF5A1C8B#32],
    ![0xBDF70D00#32, 0xBE79302B#32, 0x3E63A9BD#32],
    ![0xBF8049AC#32, 0xBF1E3168#32, 0xBEB0FA4B#32],
    ![0xBFA838DE#32, 0x3FD7C7A8#32, 0xBF934FD2#32],
    ![0xBCAD3B47#32, 0x3FF1F922#32, 0x3E417202#32],
    ![0x3EEA804E#32, 0xBF59639B#32, 0xBFEFC5A7#32],
    ![0xBD6FA305#32, 0xBFB304C7#32, 0xBF532680#32],
    ![0xBFBF8B35#32, 0x3F601E47#32, 0xBF78A923#32],
    ![0xBF8694BC#32, 0xBF882BAA#32, 0xBF0C844C#32],
    ![0xBF478582#32, 0xBFBCB1D1#32, 0x3E4999D1#32],
    ![0x3FF142C3#32, 0xBF73F221#32, 0x3EDA330A#32],
    ![0x3F8DEB45#32, 0x3FF97783#32, 0x3F618732#32],
    ![0xBDACBA04#32, 0x3F4647E3#32, 0xBF75F6A2#32],
    ![0xBE6F79D6#32, 0xBF81C452#32, 0xBFB1656D#32],
    ![0x3EAC611F#32, 0xBD8033D4#32, 0x3F108A6D#32],
    ![0x3EBCE386#32, 0x3F4FA815#32, 0xBFF2193B#32],
    ![0x3F9701B5#32, 0x3FB504DE#32, 0xBDDB57B9#32],
    ![0x3ED53F14#32, 0xBE009ECA#32, 0xBE541ECD#32],
    ![0x3D14729C#32, 0xBFC64370#32, 0xBE466C49#32],
    ![0x3F84B65F#32, 0xBF106343#32, 0x3E864F2B#32],
    ![0x3D919BD8#32, 0xBFDE8EB0#32, 0xBE1DEAD5#32],
    ![0xBEE55B4A#32, 0x3F148222#32, 0x3F357290#32],
    ![0xBF9D19DE#32, 0xBF47B14D#32, 0xBE6DB758#32],
    ![0xBC50DA42#32, 0x3DC4E64B#32, 0xBF8D4EC2#32],
    ![0x3D0ACE41#32, 0x3F924C7D#32, 0x3F346BFB#32],
    ![0x3E039484#32, 0xBDCB5358#32, 0xC0028223#32],
    ![0xBE961919#32, 0x3D6C3968#32, 0xBECFA975#32],
    ![0xBFD824F3#32, 0x3F576571#32, 0x3F160FE2#32],
    ![0x3F4458E5#32, 0xBC8BC712#32, 0x3FA47313#32],
    ![0xBDE72FED#32, 0xBEC6D518#32, 0xBF9D45C2#32],
    ![0xBF32DB1F#32, 0xBED6B0AD#32, 0xBFF56DDE#32],
    ![0xBF3E0BE2#32, 0x3D030377#32, 0xBF7B8CF1#32],
    ![0x3F262ED0#32, 0xBDD6D9CB#32, 0x3FDD706B#32],
    ![0x3F2D9452#32, 0xBEB9B739#32, 0xBEFEA4BE#32],
    ![0x3D8AD252#32, 0x3DD64A36#32, 0xBFD8B993#32],
    ![0xBFB0DA01#32, 0xBFBCA070#32, 0xBEA6EAEA#32],
    ![0xBF0A6EBD#32, 0xBF9049F1#32, 0x3F0F4168#32],
    ![0xBF70EC8C#32, 0x3DAB555E#32, 0xBEE5B0B1#32],
    ![0xBF5C7615#32, 0xBF4032CE#32, 0xBFEE7F30#32],
    ![0x3F90C650#32, 0xBF5A21EB#32, 0x3E4C9C06#32],
    ![0x3F1511A3#32, 0xBEF107B6#32, 0x3F9115E3#32],
    ![0x3D9CC8F5#32, 0x3F92EA30#32, 0xBF092443#32],
    ![0xBF4A1B5A#32, 0xBE4A9406#32, 0xBEDA3212#32],
    ![0x40027C03#32, 0x3F432C50#32, 0xBF7116EA#32],
    ![0xBE63D5C9#32, 0x3F0AE2AC#32, 0x3E4C570F#32],
    ![0xBEB798C6#32, 0xC008BD3F#32, 0x3EDEC840#32],
    ![0xBE89AE91#32, 0x400C84DA#32, 0x3E8DCE17#32],
    ![0x3941B720#32, 0x3ED6589D#32, 0xBD9460C4#32],
    ![0x3F3E7DDD#32, 0x3F6B8D41#32, 0x3FAADBDD#32],
    ![0xBF93FB6F#32, 0x3F9FED0A#32, 0x3EBCBAA8#32],
    ![0x3F0F113C#32, 0xBDE7B877#32, 0xBF452925#32],
    ![0x3FE55349#32, 0xBFA3BD8E#32, 0x3EBD20C8#32],
    ![0xBEB4BE89#32, 0x3FA1F281#32, 0xBFBD054D#32],
    ![0x3DACA8CD#32, 0xBFC18830#32, 0xBED4E92C#32],
    ![0x3DE8B6DF#32, 0x3DA4950B#32, 0xBF21A2C6#32],
    ![0x3FBDA745#32, 0x3F8D9A2E#32, 0x3ED3FBDB#32],
    ![0x3F0839EE#32, 0x402D38A5#32, 0x3EB66EBD#32],
    ![0xBF4078EB#32, 0x3DBEE7A4#32, 0x3F5CFF03#32],
    ![0x3BAE09A5#32, 0x3F3FE092#32, 0xBECD3718#32],
    ![0x4022E0FD#32, 0x3E963238#32, 0xBEDBA9C0#32],
    ![0xBFCC2ED0#32, 0xBD3CDE7B#32, 0x3F2A8FC6#32],
    ![0xBEF26466#32, 0xBD0D1128#32, 0xC0199CFA#32],
    ![0xBE4064DC#32, 0xBF20D689#32, 0xC0374289#32],
    ![0xBE87F2D8#32, 0xBE0ECBCA#32, 0x3EC4E2B4#32],
    ![0x3F1113CE#32, 0xBF0E09E1#32, 0x3F172DAA#32],
    ![0xBF5830B9#32, 0xBF0FEFB9#32, 0x3FC29EEB#32],
    ![0x3E91C810#32, 0xBF385FD3#32, 0xBD8FAF64#32],
    ![0xBF1CB59C#32, 0x3F9C81F1#32, 0xBF115A1C#32],
    ![0x3D30E51C#32, 0xBF8542A0#32, 0x3F995CE9#32],
    ![0xBE696D32#32, 0x3E81234C#32, 0xBF550575#32],
    ![0xBEA74727#32, 0x3FA010CB#32, 0x3FE5884C#32],
    ![0xBF3F4BE5#32, 0x3FBC3517#32, 0x3F5C22C8#32],
    ![0xBF05C87E#32, 0x3E99CB33#32, 0x3F186FEE#32],
    ![0xBFBD021F#32, 0xBF964F8F#32, 0x3F0B0EC4#32],
    ![0xBF6867A3#32, 0x3F83981D#32, 0xBDF1CFD5#32],
    ![0xBEE55E05#32, 0x3E08BEDD#32, 0x3F033644#32],
    ![0x3F603475#32, 0x3ED9CDE0#32, 0xBD08FC8C#32],
    ![0x3FD661D2#32, 0x3FEBA4EB#32, 0xBF5B05F7#32],
    ![0xBDC976A5#32, 0x3D680038#32, 0x3EAC5E98#32],
    ![0xBF8A4833#32, 0x3EB0DFB5#32, 0x3F7FDC54#32],
    ![0xBF0EDC25#32, 0x3F5E2ACF#32, 0x3EB3DC5D#32],
    ![0x3EADC146#32, 0xBF6FB32B#32, 0xBF3C5D50#32],
    ![0x4028907C#32, 0xBFD0C13C#32, 0x3F8A7D73#32],
    ![0xBF5C81D3#32, 0xBDB319BB#32, 0x3F2A0FD6#32],
    ![0xBF873AB2#32, 0x3F50FE18#32, 0xBD3691B0#32],
    ![0x3F20B302#32, 0xBFA1B23E#32, 0xBED7207B#32],
    ![0x3F02ECFE#32, 0xBF88EDDF#32, 0x3F2AA607#32],
    ![0xBFFE9850#32, 0x3ED0928D#32, 0xBE2E9D6F#32],
    ![0x40094679#32, 0xBF4C4F21#32, 0xBFA04D3E#32],
    ![0xBF747520#32, 0x3EDDE1DC#32, 0xBD28D6AB#32],
    ![0xBFDBBF47#32, 0x3F31970B#32, 0xBECB309C#32],
    ![0xBFFDB81F#32, 0x3F86E425#32, 0x3FDFA7BA#32],
    ![0xBF91136C#32, 0x3EDE37F6#32, 0x3EFC2394#32],
    ![0x4001CA40#32, 0x3F23E557#32, 0x3F9EF557#32],
    ![0xBF11FF4B#32, 0x3FD73F88#32, 0x3ECE89E3#32],
    ![0xC006781C#32, 0xBEA6B807#32, 0xBF0246D0#32],
    ![0xBF1D4DF1#32, 0xBFA372B3#32, 0x3DE27AA7#32],
    ![0xBEE7C03B#32, 0x3FF147AF#32, 0xBE2CDB2B#32],
    ![0x3F880AB8#32, 0xBFCBD041#32, 0xBFA92EC7#32],
    ![0xBF34AA45#32, 0x3F18B52F#32, 0x3F1C05FF#32],
    ![0xBFBC828E#32, 0x3F3455FE#32, 0x3FB7851D#32],
    ![0x3E06CA7C#32, 0x3FCE133F#32, 0x3EF20007#32],
    ![0x3EB91DB0#32, 0x3E81B0A0#32, 0xBFB9393D#32],
    ![0xBECAF7DE#32, 0x3FBAC8C9#32, 0xBFE1F3D3#32],
    ![0x3FED30E9#32, 0xBF32A678#32, 0xC0127ECB#32],
    ![0xBEAB0593#32, 0x3FC2A317#32, 0xBF9EC8F8#32],
    ![0xBF9C177E#32, 0x3E89857E#32, 0xBE98D386#32],
    ![0x3F019288#32, 0xBFB47FC3#32, 0x3FB05AAA#32],
    ![0x3FC920C6#32, 0xBF165896#32, 0x3FBB3907#32],
    ![0xBF48DD42#32, 0x3F3CEC6E#32, 0x3F703DA8#32],
    ![0x3E08F0F8#32, 0x3F4836CB#32, 0xBF2395F1#32],
    ![0x3F668D53#32, 0x3F64F17C#32, 0xBF898927#32],
    ![0x3EF0195E#32, 0xBFCD76D7#32, 0xBF6DF2E6#32],
    ![0xBEA69209#32, 0xBEFF4DCD#32, 0xC003B804#32],
    ![0xBF394612#32, 0xBF40BB88#32, 0xBFAB5EBE#32],
    ![0xBD21927D#32, 0xBEC2DE43#32, 0xBFC47C0E#32],
    ![0x3F90B62B#32, 0xBE4090A4#32, 0xBFBE31B6#32],
    ![0xBFC798F4#32, 0xBF10A812#32, 0xBEE15D07#32],
    ![0xBF790644#32, 0x3F4C2ED0#32, 0x3FA5C29F#32],
    ![0x3F0941C0#32, 0x3A902E1A#32, 0xBF856D4B#32],
    ![0xBF6E5318#32, 0xBF31C395#32, 0xBEB3CCEF#32],
    ![0x3F1FA6E6#32, 0xBF053EA0#32, 0x3F8D5683#32],
    ![0xC03B080B#32, 0xBE5E5010#32, 0x3FB9F657#32],
    ![0x3F9374CA#32, 0xBFECE713#32, 0xBF70ACC1#32],
    ![0x3CCE4CDF#32, 0xBEDD2F44#32, 0xBF6F41FF#32],
    ![0x3EC1B996#32, 0x3D5EFAE0#32, 0x3CBE8301#32],
    ![0xBE1BCB9C#32, 0xBF20FEAB#32, 0xBC708E3B#32],
    ![0x3F86AD54#32, 0x3E807D8D#32, 0x3E38F333#32],
    ![0x3F31D5DD#32, 0x3EA931F2#32, 0xBFC64E44#32],
    ![0xBF4C99C0#32, 0x3F43B11D#32, 0x3F6513C9#32],
    ![0xBECEE66B#32, 0xBECF8F2C#32, 0xBEBDD385#32],
    ![0x3E5DE94A#32, 0x3E8B38CF#32, 0xBF5552C2#32],
    ![0xBFBF6138#32, 0x40134EAB#32, 0x3F862DB3#32],
    ![0x3FB78BB5#32, 0xBE9C940C#32, 0x3E9D3EEB#32],
    ![0xBE98FEE4#32, 0xBEADA1EF#32, 0x3E884CEF#32],
    ![0x3FB9A74B#32, 0xBC74354E#32, 0xBEC63887#32],
    ![0xBF63CF21#32, 0xBF077763#32, 0x3DD187BE#32],
    ![0xBF3FC80D#32, 0xBF889EA0#32, 0xBF766D84#32],
    ![0x3F6E1116#32, 0xBF20CAEB#32, 0x3FCBA34F#32],
    ![0x3FFAE077#32, 0xBDA0E356#32, 0x3EDB5ED8#32],
    ![0xBF42E717#32, 0x400E7C04#32, 0x3F9DB269#32],
    ![0xBF656E37#32, 0xBE922EFF#32, 0xBE1E3791#32],
    ![0xBF425FE3#32, 0x3E81943C#32, 0x3F433A4D#32],
    ![0xC05847A0#32, 0x3F92FFFD#32, 0x3F9CFF4B#32],
    ![0x3F495CA3#32, 0x3E98302F#32, 0x3F77B26E#32],
    ![0x3FACCFAE#32, 0xBDA197E6#32, 0xBFF28C4A#32],
    ![0x400F021E#32, 0xBEDDAD46#32, 0xC001D4D7#32],
    ![0xBF6A1DD4#32, 0xC0045673#32, 0x3E6832B3#32],
    ![0xBECBC75F#32, 0xBCC03292#32, 0x3D87006F#32],
    ![0x3F19EAAA#32, 0xBE9DBC8D#32, 0x3E147E7C#32],
    ![0xBFCD45CA#32, 0xBEFD5542#32, 0xBF749263#32],
    ![0xBF4A52D6#32, 0xBE66EBE9#32, 0xBEE39344#32],
    ![0xBF48D197#32, 0xBEE4844C#32, 0xBD575B05#32],
    ![0xBF1C5C89#32, 0x3F0BD1D6#32, 0xBF1A3682#32],
    ![0xBFB5FD96#32, 0x3FC528B8#32, 0x3E6087A6#32],
    ![0x3E815018#32, 0x3EAEFC8C#32, 0xBE954A77#32],
    ![0xBFCBB216#32, 0x3EFB3881#32, 0x3D6AFE4D#32],
    ![0xC0121B40#32, 0x401CC13B#32, 0xC00701E0#32],
    ![0xBFA56187#32, 0xBCA1061E#32, 0x3E0A36A0#32],
    ![0xBFF026A7#32, 0xBCA5799B#32, 0xBD0D3D5D#32],
    ![0xBF09B708#32, 0xBF85CF4F#32, 0x3FE7B911#32],
    ![0x404B3625#32, 0xBFF1FCD8#32, 0x3F8B7057#32],
    ![0xC00EFF3B#32, 0x3F6FA880#32, 0x3E95AE4C#32],
    ![0xBEB9CB78#32, 0xBF85CCD2#32, 0x3DB36B1D#32],
    ![0x3F787C41#32, 0xBC06225F#32, 0x3FCCE012#32],
    ![0x3C8C85EA#32, 0xBF8CF35C#32, 0xBFBE49BC#32],
    ![0x3F86DD75#32, 0x3EA4FA85#32, 0xBEF8561E#32],
    ![0x3FC4A5E0#32, 0xBF71CB53#32, 0x3DECC186#32],
    ![0xBF213EBE#32, 0xBF14931C#32, 0x3EC52259#32],
    ![0x3F0201B8#32, 0xBFC25537#32, 0xBEF30E86#32],
    ![0xBFB94619#32, 0xBF655435#32, 0xBF9AC92C#32],
    ![0xC00759F0#32, 0x3F05BD97#32, 0xBFBAF2AA#32],
    ![0x400C4D2C#32, 0x3F9F1BEB#32, 0x3E3BA626#32],
    ![0xBF686ABF#32, 0xC0004D42#32, 0x3F2CF348#32],
    ![0xBDB55D70#32, 0xBF17F916#32, 0x3EB4D13B#32],
    ![0x3F3E16FE#32, 0x3FA422B2#32, 0x3EB0BEFD#32],
    ![0x3F7C7E23#32, 0xBEC4F1DD#32, 0xBED2AC71#32],
    ![0xBE517000#32, 0x3F4D70B1#32, 0xBF41EE9A#32],
    ![0x3DFA741C#32, 0xBF845B1E#32, 0xBF4F894C#32],
    ![0x3CA4A6B1#32, 0xC0409BCC#32, 0x3F3549D1#32],
    ![0x3F1BC294#32, 0xBF272260#32, 0x4006D14D#32],
    ![0xBF5B2163#32, 0x3DCD034B#32, 0x3F59AFA9#32],
    ![0xBEB97196#32, 0xBDEDAE06#32, 0xBE6D1C9C#32],
    ![0xBED79B49#32, 0x3F80A727#32, 0xBFBDA2AE#32],
    ![0x3F8AAF28#32, 0xBFF009D1#32, 0x3F3FA5CC#32],
    ![0xBF4CF654#32, 0xBF85A08D#32, 0x3FB54AC4#32],
    ![0x3F0D3EBB#32, 0x3FBA2D03#32, 0xBCACF333#32],
    ![0x3EF8A955#32, 0xBF0DAE82#32, 0xBF5DCFCE#32],
    ![0x3CBD62A9#32, 0x3E1C4E2B#32, 0x3FE6D176#32],
    ![0xBF993765#32, 0x3F0E2780#32, 0x3F18B338#32],
    ![0xBFE82DD1#32, 0x3C77EFCF#32, 0x40099BD9#32],
    ![0x3F340E84#32, 0xBF8DBD12#32, 0xBF7EEB9A#32],
    ![0xBF070C2A#32, 0x3DCBAA2D#32, 0xBBEE82DE#32],
    ![0xBE358376#32, 0xBFA9208C#32, 0x3FB1D1AB#32],
    ![0x3EE8D00D#32, 0xBE58DE80#32, 0x3F7AEDDE#32],
    ![0x3F843BDC#32, 0x3DE5B84D#32, 0xBE6EDFEB#32],
    ![0x4049149B#32, 0x3EF79F28#32, 0x3DE554AB#32],
    ![0x3E0AEE81#32, 0x3FC3AE52#32, 0x3F8BA147#32],
    ![0xBFD68064#32, 0xBEFA3D32#32, 0xBEF576BD#32],
    ![0x3F6CC80C#32, 0x3DD23873#32, 0x3EF2D77F#32],
    ![0xBF517DC7#32, 0x3FA64E5B#32, 0x3FB2CBF8#32],
    ![0x3EBDFE96#32, 0x3E6EF808#32, 0xBF99FEE5#32],
    ![0x3EA0B0AD#32, 0xBFFF707C#32, 0xBF1AB24A#32],
    ![0x3FD967EC#32, 0x4000190A#32, 0x3EA4B1EC#32],
    ![0x3F8A533B#32, 0xBE5C1E8E#32, 0xC01DF018#32],
    ![0x3F82CD52#32, 0x3FC507D9#32, 0xBFAF37F7#32],
    ![0x3F941DDD#32, 0xBFAFE15E#32, 0x3DAACC1F#32],
    ![0x3ECC4621#32, 0x3FE96F4E#32, 0xBE9044F0#32],
    ![0xBF05B63E#32, 0xBF9940DB#32, 0x3E29C6A5#32],
    ![0xBEC0674C#32, 0xBF25DA00#32, 0xBF94C5C2#32],
    ![0x3F4D6812#32, 0xBF99604A#32, 0x3F845841#32],
    ![0x3F38D54E#32, 0x3FBD2520#32, 0xBE8AEE57#32],
    ![0x3F3986E6#32, 0xBF9FD811#32, 0xBE81B379#32],
    ![0x3FD4C24D#32, 0xBE6E7BE0#32, 0xBEC2777D#32],
    ![0x3E4AC0E0#32, 0x3F9B00F9#32, 0x3D0E8F2D#32],
    ![0xBF93D6AB#32, 0x3EAA8202#32, 0xBD7825B3#32],
    ![0xBEC1399B#32, 0xBF7DC093#32, 0xBDE19A6E#32],
    ![0xBF5A9F46#32, 0x3F9656FB#32, 0xBF054AFA#32],
    ![0x3FB2EB07#32, 0x3EB9E089#32, 0x3E2EC87A#32],
    ![0x3FBEFCA8#32, 0xBF0CCA70#32, 0x3F35279F#32],
    ![0xBF17496C#32, 0x3F8A150F#32, 0xBF34F1AB#32],
    ![0xBF802FA2#32, 0xBE9D543F#32, 0x3F682B10#32],
    ![0x3ED088CE#32, 0x3EDB79F0#32, 0x3EF963B8#32],
    ![0x3EA16D1E#32, 0x3F91A7F2#32, 0x3EB21B2D#32],
    ![0xBFDE385C#32, 0x3F983D5B#32, 0xBEA0C2A4#32],
    ![0xBFF4A3E9#32, 0xBE9C2EA6#32, 0xBF44BB04#32],
    ![0xBF48263D#32, 0xBFC1EC69#32, 0x3E5A0373#32],
    ![0xBE087F20#32, 0x3F54CF08#32, 0x3FE68B20#32],
    ![0x3E301669#32, 0x3EB1CA8C#32, 0x3F1D0330#32],
    ![0xBF529CDE#32, 0xBF8F5CA4#32, 0xBFE2F186#32],
    ![0x3FE5361E#32, 0x3F1EDF35#32, 0x3F57C4A4#32],
    ![0x3E836139#32, 0xBE65258B#32, 0xC0014AD8#32],
    ![0xBF839992#32, 0x3EF62F7B#32, 0x3EB39D02#32],
    ![0xBF695058#32, 0xBF61E2E3#32, 0x3F50B56A#32],
    ![0x3F0E1E4B#32, 0xBFF5D5E4#32, 0xBF49EEC9#32],
    ![0xBEF3066A#32, 0x3EEE9230#32, 0xBFDE01FE#32],
    ![0xBF8577D5#32, 0x3F801ED4#32, 0x3F59FBBD#32],
    ![0x3F9D76A8#32, 0xBF60CFFC#32, 0x3FCCF533#32],
    ![0x3F8D9C42#32, 0x3F2671F8#32, 0xBFEB3E84#32],
    ![0xBE813182#32, 0x3DD725CD#32, 0xBF808F34#32],
    ![0x4010AECA#32, 0x3FDF33F6#32, 0x3FF87284#32],
    ![0xBED14BA7#32, 0x3F825CB6#32, 0x3FBD04F8#32],
    ![0xBF46B6F8#32, 0x3F7C3CE1#32, 0x4006D705#32],
    ![0xBED27892#32, 0xBFB547C2#32, 0x3F967A54#32],
    ![0xBD44CDD8#32, 0x3FBA6F93#32, 0xBE9386FD#32],
    ![0xBDBE4945#32, 0x3F2C92A9#32, 0x3FAE309E#32],
    ![0xBEC88E22#32, 0xBF09B9E8#32, 0xBC80A869#32],
    ![0xBEA8E819#32, 0x3FBA2B2C#32, 0x3F60990B#32],
    ![0x3EE48BD8#32, 0xBE7C2EF7#32, 0x3E9391F3#32],
    ![0xBE831FB6#32, 0x400DAFB2#32, 0xBFB3BC8A#32],
    ![0x3F6BE90D#32, 0x3EC30B36#32, 0x3F07149D#32],
    ![0xBF8DA000#32, 0x3DBC8072#32, 0xBF3B6609#32],
    ![0x3FAB0BEF#32, 0xBF98EC45#32, 0x3F090307#32],
    ![0xBE844EDB#32, 0xBF575A14#32, 0xBF40DA58#32],
    ![0x3FBAFC4B#32, 0x3F71A7EC#32, 0xBF920DE9#32],
    ![0xBF73A14C#32, 0x3EB90096#32, 0xBF7E1567#32],
    ![0xBF3130B5#32, 0x3DCBDE9A#32, 0x3FCA828A#32],
    ![0xBEBF1EFA#32, 0xBF18B932#32, 0xBE3FA617#32],
    ![0xBEB05BA1#32, 0x4001F1A7#32, 0x401ADA3B#32],
    ![0xBF66B2D4#32, 0xBE116FF6#32, 0xBF0175F7#32],
    ![0x3FF3CA3E#32, 0x3F864552#32, 0x3F46E54A#32],
    ![0xBE18022C#32, 0x3E2D747D#32, 0x3E87CC71#32],
    ![0x3E6CB7D6#32, 0xBE8D7E45#32, 0xBF661B53#32],
    ![0x3ED07C56#32, 0xBF68A5E1#32, 0xBF1480D4#32],
    ![0xBF96F8B4#32, 0xC005795E#32, 0x3DB3A6E0#32],
    ![0x3FDC9E0B#32, 0x3FFA03D3#32, 0xC006958C#32],
    ![0x3EBD3F30#32, 0x3FF7B85E#32, 0x3FDE6FEC#32],
    ![0xBFBBF87D#32, 0xBEC23490#32, 0x3F070304#32],
    ![0xBFDF6BD3#32, 0x3FA01D50#32, 0xBEE27653#32],
    ![0x3CDACD0A#32, 0xC001C331#32, 0x3F94C15E#32],
    ![0xBEFE8ABA#32, 0x3F28ABCF#32, 0xBF8784CF#32],
    ![0x3E09416E#32, 0x3F95F6FC#32, 0xBF9678B3#32],
    ![0xBDECEC81#32, 0x3F3E9A6F#32, 0xBFC4BB09#32],
    ![0x3EC71EE7#32, 0x3EEFA697#32, 0xBD9DEA9F#32],
    ![0xBEBEBEBE#32, 0x3FD04986#32, 0x3F6413D7#32],
    ![0x3F02EE9F#32, 0xBE7EBC38#32, 0x3F9D63B3#32],
    ![0xBEE1344B#32, 0xBF918571#32, 0x3E17FCD3#32],
    ![0x3DFBFF5D#32, 0xBE5F46C8#32, 0xBF82875C#32],
    ![0xBFAB5A73#32, 0xBF783ACD#32, 0x3F992809#32],
    ![0xBEC04751#32, 0x3F0A9736#32, 0x3F204E77#32],
    ![0x3EA3A1AA#32, 0x3F26E9DE#32, 0xBE3E5790#32],
    ![0xBD209A24#32, 0x3E167C5A#32, 0xBF720FAB#32],
    ![0x3E8C4E1A#32, 0x3F907B4E#32, 0xBE90DB4B#32],
    ![0x3E647BA4#32, 0x3F6A7491#32, 0x3F34DC63#32],
    ![0x3FD982DD#32, 0xBF772F39#32, 0xBFB2E7DE#32],
    ![0x3FE0241B#32, 0x3FA09952#32, 0xBE0B9547#32],
    ![0x3F53F8D5#32, 0x3F280594#32, 0x3FABDC3F#32],
    ![0xBF916131#32, 0xBF90ED20#32, 0x3FD027E2#32],
    ![0xBE0844A4#32, 0x3F213098#32, 0xBF83E0F5#32],
    ![0x3F60D323#32, 0x3F06E5EC#32, 0x3F10678B#32],
    ![0xBF7B1538#32, 0xBF1EB91F#32, 0xBF6FDB1A#32],
    ![0x3D6E9633#32, 0xBF8EF8BA#32, 0x3F78B2A2#32],
    ![0x3E4ED066#32, 0x3EB5D1FC#32, 0xBFA1CF33#32],
    ![0x3FE17B3B#32, 0xBF1D582F#32, 0x3FF266DD#32],
    ![0x3E657D89#32, 0x3F87F123#32, 0xBF39CC04#32],
    ![0xBF9EAB45#32, 0xBF92F644#32, 0x3FABC971#32],
    ![0xBFBE5805#32, 0x3E17E6CE#32, 0xBEC619CC#32],
    ![0x3F918C45#32, 0xBE9232BF#32, 0xBD9FA9AC#32],
    ![0xBFBE0513#32, 0xBF6932DC#32, 0x3F136987#32],
    ![0xBE9A1194#32, 0x3FF41E5A#32, 0xBF658853#32],
    ![0x3E1E69CA#32, 0x40090DDF#32, 0x3D43DD66#32],
    ![0x3F68C307#32, 0xC010C680#32, 0xBE9E9D03#32],
    ![0x3FC01F33#32, 0x3F85FB6A#32, 0xBEEBBD61#32],
    ![0xBFD0EFFA#32, 0xC0267A5E#32, 0xBF4A90C3#32],
    ![0x3DACB926#32, 0x3F5F7ED5#32, 0x3F9A8312#32],
    ![0xBE39F0EE#32, 0x3F799EAB#32, 0xBF68AC10#32],
    ![0xBF12D50E#32, 0xBFC33C2B#32, 0x3FB11D9C#32],
    ![0xBF388684#32, 0x40100260#32, 0x3F6B4416#32],
    ![0xBF9255F2#32, 0xBF07177C#32, 0x3FEAF6A8#32],
    ![0xBE47FFFA#32, 0xBF9C70CC#32, 0x3F6CC514#32],
    ![0xBEB60948#32, 0xBF243CEF#32, 0x3E141378#32],
    ![0xBFC0E660#32, 0x3F3A5DB6#32, 0xBF8F32A6#32],
    ![0x3F54A157#32, 0x3ED06F9D#32, 0xBEE88A34#32],
    ![0xC00FE49C#32, 0x3FB44356#32, 0xBE379B51#32],
    ![0xBE34C9D3#32, 0xBEE89080#32, 0xBF503265#32],
    ![0x3EA4DEB8#32, 0x3E540DCC#32, 0xBFC1F1DE#32],
    ![0xC004F1B8#32, 0xBFE95C49#32, 0x3F2E30CA#32],
    ![0xBF899CB1#32, 0xBF0C751C#32, 0xBCA604C0#32],
    ![0x4001E2B4#32, 0x3F23E44F#32, 0xBF459942#32],
    ![0xBEEECA5C#32, 0xBF2665C4#32, 0xBFDC1B22#32],
    ![0x3EBAD3CD#32, 0x3D5BE00D#32, 0x3F95AD6C#32],
    ![0x3F87FEFA#32, 0xBFB97EAB#32, 0xBF66F88D#32],
    ![0x3FA35ADE#32, 0xBF7B5565#32, 0xBFC32D31#32],
    ![0xBFD3FE8B#32, 0x3E5AB6B5#32, 0x3F197F36#32],
    ![0x3D4BBD8F#32, 0xBEC1703D#32, 0xBE4EAAC9#32],
    ![0x3FC53EC4#32, 0x3E366675#32, 0xBEF47A9E#32],
    ![0xBE98C2BC#32, 0x3F308848#32, 0x3F7C1377#32],
    ![0xBFA9B91C#32, 0xBEB51CA2#32, 0x3FAD52E4#32],
    ![0x405D41F3#32, 0xBFC7F7AA#32, 0x3E96D0C6#32],
    ![0xBE010FDA#32, 0xBFBE120B#32, 0x3ECFAEA9#32],
    ![0xC00C4EC4#32, 0x3F8E52DD#32, 0x3E24FEC2#32],
    ![0x3FFB8F16#32, 0x3F801EAF#32, 0x3F713574#32],
    ![0xBDD502F5#32, 0x3F01F130#32, 0x3F1F51D3#32],
    ![0xBEDB1996#32, 0x3F8456FB#32, 0xBFB3E4DC#32],
    ![0x3FC8E31E#32, 0x3ED12449#32, 0x3DB76E78#32],
    ![0xBF5F0A83#32, 0x3FA0A0D9#32, 0x3F85F515#32],
    ![0xBF0D6FA4#32, 0xBEDE7D3C#32, 0xBF9D3825#32],
    ![0xBEC15DDB#32, 0x3DEFD7BE#32, 0xBEBB1C20#32],
    ![0x3F3F3117#32, 0x3EC81AE4#32, 0xBE38A4E5#32],
    ![0x3F8A3635#32, 0x3EB2229F#32, 0x3FA7150E#32],
    ![0xBF89AEFC#32, 0xBF05D807#32, 0xBFB43604#32],
    ![0x3E7AD200#32, 0x3E74FADA#32, 0xBCEFC301#32],
    ![0xBDC60E6E#32, 0x3EC73468#32, 0x3E852BCA#32],
    ![0xBF4BB766#32, 0x3F13D591#32, 0xBEEF78A3#32],
    ![0x3F580BA6#32, 0x3F44C3AF#32, 0xBDD66FF0#32],
    ![0x400638D6#32, 0xBF53D379#32, 0x3E0B37DE#32],
    ![0x3DADB712#32, 0x3F8366AC#32, 0x40018B02#32],
    ![0xBEDC4B6D#32, 0x3F00E206#32, 0x3E8DA6B2#32],
    ![0x3F4BDEDB#32, 0xBEE4952C#32, 0xBEDCDA94#32],
    ![0xC0097596#32, 0x3EEDA849#32, 0x3EA09E3F#32],
    ![0x3FE4B31C#32, 0xBDB5938B#32, 0x3E408290#32],
    ![0x3E20472C#32, 0x3F9CBFA3#32, 0x3F4C9C6E#32],
    ![0x3F588B90#32, 0xBF385E68#32, 0xBE87E396#32],
    ![0xBF5EEF31#32, 0xBFC17CB5#32, 0xBF81898E#32],
    ![0x3F63634D#32, 0xBF38AD46#32, 0x3F809B44#32],
    ![0x3F702415#32, 0x3FA6C09E#32, 0xC00B30D3#32],
    ![0xBF7ACC27#32, 0xBEC257EC#32, 0xBF87B38B#32],
    ![0xBF2FF0DF#32, 0xBF4D5D77#32, 0xBDBF629B#32],
    ![0x3F13ED32#32, 0xBFA09EBA#32, 0xBD9BC2CD#32],
    ![0x3FDC9160#32, 0x3F027C88#32, 0x3FEE64D9#32],
    ![0x3DD32E25#32, 0x3FDD5BD6#32, 0x3FA8BD70#32],
    ![0xBD76E2B0#32, 0x3F582C9F#32, 0xBF3B0709#32],
    ![0x3F18E128#32, 0x3E9F2AB3#32, 0x3CF2B765#32],
    ![0x3E478209#32, 0x3F6FF46D#32, 0x3FE3A188#32],
    ![0x3F66D681#32, 0xBFCB3D49#32, 0xBF1885E6#32],
    ![0x3EFC6C25#32, 0xBF4028E9#32, 0x3EE6DC5F#32],
    ![0xBF9D5FDA#32, 0xBDA5FD86#32, 0x3F896DD7#32],
    ![0xBF34FAAB#32, 0x3B9C3C89#32, 0xBE8A58AA#32],
    ![0xBF12EEEA#32, 0x3F7A0562#32, 0xBFABBAED#32],
    ![0x3FC321B1#32, 0x3D3BF273#32, 0x3FE97057#32],
    ![0x3F001165#32, 0xBF28CBCD#32, 0xBD240CDB#32],
    ![0xBEBFFA13#32, 0x3D82F50D#32, 0xBF443876#32],
    ![0xBF25B745#32, 0xBF6ED7F3#32, 0x3E133D5D#32],
    ![0xBFAECE7D#32, 0x3ECCE754#32, 0x4009D07C#32],
    ![0x3F9857AB#32, 0x3F956F7B#32, 0x3DF58750#32],
    ![0x3F8C8784#32, 0xBF39C30C#32, 0xBE4BCB30#32],
    ![0xBF0020AD#32, 0xBFBDA7D8#32, 0x3F3FAD29#32],
    ![0x3FBA6B37#32, 0xBF075784#32, 0xBF5C3A01#32],
    ![0x3F42AE5E#32, 0x3FCA1376#32, 0xBF929D25#32],
    ![0xBE9B44CB#32, 0xBF186584#32, 0xBE86B900#32],
    ![0xBDF10C61#32, 0xBF250532#32, 0xBE901557#32],
    ![0x3FD16C58#32, 0x3F7DDC05#32, 0xBF9D2D1C#32],
    ![0xBEA3ADED#32, 0x3F09C9B7#32, 0x3FC32C05#32],
    ![0x3F26635B#32, 0xBF40E4DA#32, 0xBF609E86#32],
    ![0xBD37FD33#32, 0x3F5AA41D#32, 0xBFB6B08D#32],
    ![0x3F9229E8#32, 0x3E98A18C#32, 0x3FE8B604#32],
    ![0xBEDE33F0#32, 0xBF5D7111#32, 0x3F06194C#32],
    ![0x3EB873CD#32, 0xBE85D0EE#32, 0x3DA86DF3#32],
    ![0xBE9C2E52#32, 0x3EEA2D32#32, 0x3EB2BD52#32],
    ![0x3F55D74A#32, 0x3E54B750#32, 0x3FBCB2FE#32],
    ![0xBFEEA1E5#32, 0x3F8C985F#32, 0x3F6CFC6D#32],
    ![0x3F277300#32, 0xBFF1B01E#32, 0xBFB580D3#32],
    ![0x3ED0C0B9#32, 0x3DAC6715#32, 0x3F968077#32],
    ![0xBFAD0C6C#32, 0x3F0A3962#32, 0xBEEB6BCA#32],
    ![0x3FAB8E79#32, 0xBE4973C4#32, 0x3CD23FFF#32],
    ![0xBE6920AB#32, 0x3F9D928D#32, 0xBF651561#32],
    ![0x3D312C4D#32, 0x3E6E05ED#32, 0xBF52CF1A#32],
    ![0x3FA9D5A1#32, 0x3E0DFF88#32, 0x3F0EA7CB#32],
    ![0xBFE52E8E#32, 0xBEB1BD17#32, 0xBF1174F7#32],
    ![0xBF3AF4EE#32, 0x400BC0CC#32, 0xBF7A5BDF#32],
    ![0xBEDD6896#32, 0x3FA754A0#32, 0x3DE543F5#32],
    ![0x3E9E95A2#32, 0x3E957241#32, 0x3EA7BB53#32],
    ![0xBF0878F9#32, 0xBF4BE43F#32, 0x3FD9CC1A#32],
    ![0xBF04A391#32, 0x3E0EF928#32, 0x3F895915#32],
    ![0xBED30042#32, 0x3E5B68CA#32, 0x3E84704A#32],
    ![0x3EFAF0BA#32, 0xBF145260#32, 0x3E7D9027#32],
    ![0x3EEFA5EE#32, 0xBF3CB1EB#32, 0xBF15E67C#32],
    ![0x3F5C1168#32, 0xBEC1F70A#32, 0x3F17292A#32],
    ![0x3FE9E54C#32, 0xBFC1B329#32, 0xBF399068#32],
    ![0xBFE7DD5F#32, 0xBF2A28AF#32, 0x3F3B5086#32],
    ![0x3EB267D5#32, 0xBF242248#32, 0x3EAB89E4#32],
    ![0xBFA1A41C#32, 0x3FA76332#32, 0xBF2468EB#32],
    ![0xBFD5E37E#32, 0xBF3C6547#32, 0xBCC59C82#32],
    ![0xBF145948#32, 0x3DB4A027#32, 0x3F6B8E89#32],
    ![0xBEBCC040#32, 0x3F922410#32, 0xBEC41D7F#32],
    ![0xBE20F01F#32, 0xBE84FD2E#32, 0x3E5119D2#32],
    ![0x3FA9B615#32, 0xBEB9394E#32, 0x3F8FA164#32],
    ![0x3E67C26E#32, 0xBF5BB325#32, 0x3F8F57B3#32],
    ![0x3ECC8A61#32, 0x3F62CF4E#32, 0xBF4C0137#32],
    ![0x3E5917A9#32, 0xBE75AD22#32, 0xBD09B8A6#32],
    ![0xBE97DBCE#32, 0xBE91A5D2#32, 0xBFD7D257#32],
    ![0x404798E8#32, 0x3F5997B5#32, 0x3E66565A#32],
    ![0xBEEB63F3#32, 0xBEF7B982#32, 0x3F630E1B#32],
    ![0xBEE76070#32, 0xBF617AD4#32, 0xBFCF2140#32],
    ![0x3F6253CC#32, 0x3F736CD1#32, 0xBF76E5F8#32],
    ![0xBE89EA63#32, 0xBEF7B059#32, 0xBF28D711#32],
    ![0xBF1F6199#32, 0xBE90A514#32, 0x3F331385#32],
    ![0x3F0BCC84#32, 0x3E9D352E#32, 0xBF3292D5#32],
    ![0x3F14A860#32, 0x3EF8BFFB#32, 0xBFBED752#32],
    ![0xBEE4851F#32, 0x3F640D3A#32, 0xBFEE75A3#32],
    ![0xBC81201D#32, 0xBF0C03D9#32, 0x3F5C1ADE#32],
    ![0xBF039AF7#32, 0x3DAB8255#32, 0x3F6B8E3E#32],
    ![0xBF9621E0#32, 0x3E1F5880#32, 0x3F03CC3E#32],
    ![0x3FD65193#32, 0xBEFE5450#32, 0xBFB2B394#32],
    ![0xBDC848DF#32, 0xBDF060E6#32, 0x3E8AD1E0#32],
    ![0xBCC48630#32, 0xBF7290AB#32, 0x3EB18BB2#32],
    ![0x3EBF9376#32, 0x3F57184F#32, 0xBF852DBD#32],
    ![0x3DFFC7C0#32, 0x401D86A1#32, 0xBF0BA5DE#32],
    ![0xBE27FF75#32, 0xBFDE468D#32, 0xBF99EBF7#32],
    ![0x3EBCC1FC#32, 0x3DEC0653#32, 0xBDA7AF5B#32],
    ![0xBF421625#32, 0x3FA0D878#32, 0xBF776020#32],
    ![0xBEB43DF6#32, 0x3F37837D#32, 0x3E50E55A#32],
    ![0xBE515D34#32, 0x3F0F503B#32, 0x3F6B6243#32],
    ![0xBF64E890#32, 0xBE1C8406#32, 0x3F74A601#32],
    ![0x3F3FF049#32, 0x3E97C2FB#32, 0xBDAC1E36#32],
    ![0xBF28E0E0#32, 0x3FC5E76F#32, 0xBE874934#32],
    ![0xBFAC0D1D#32, 0x3E5EB41D#32, 0xBD976049#32],
    ![0x3F03CAB4#32, 0x3DE4B912#32, 0x3EF1DFB6#32],
    ![0xBEC79F29#32, 0xBF6A9AF4#32, 0x40052144#32],
    ![0xBF921ED9#32, 0xBFC21890#32, 0xBF79BD20#32],
    ![0xC02A0930#32, 0x3F2F2358#32, 0xBF003F1C#32],
    ![0xBF4B1DAC#32, 0x3E120EA8#32, 0xBCA5F797#32],
    ![0xBF0BBD9E#32, 0x3E846E62#32, 0xC0002AC1#32],
    ![0x3F86858C#32, 0x3F33FA1C#32, 0x3F70710E#32],
    ![0x3EA60393#32, 0x3EAEC36A#32, 0x3F208AFA#32],
    ![0x3EC18730#32, 0x3EEF774E#32, 0xBCF9BFA8#32],
    ![0x3F8C7791#32, 0xBF93790E#32, 0x3F424B56#32],
    ![0x3F84421F#32, 0xBF5D5871#32, 0xBFBC1B24#32],
    ![0xBF3A237F#32, 0xBF1DFD3A#32, 0x3FCA33A8#32],
    ![0xBD699DB3#32, 0xBF4BEC5E#32, 0xBFD2E12F#32],
    ![0x3DD30921#32, 0x3F27BEEC#32, 0xBFA7C326#32],
    ![0x3FA6C87C#32, 0xBD0D8579#32, 0x3F087EAB#32],
    ![0xBF13FCDF#32, 0xBD8CED54#32, 0x3F5BF756#32],
    ![0xBF67AB1F#32, 0x3F28FBD7#32, 0x3EC1AA5B#32],
    ![0x3E29BD32#32, 0x3F5F4F76#32, 0xBFB7F0B0#32],
    ![0xBFC60705#32, 0xBE616B97#32, 0xBF3F98ED#32],
    ![0xBF2BBC38#32, 0x3E1282FB#32, 0x3EA06FA3#32],
    ![0xBFDE1F96#32, 0x3F3F26CA#32, 0x3F3CE290#32],
    ![0xBF155687#32, 0x400F12C7#32, 0xBFCC5D33#32],
    ![0x3FC4E1E1#32, 0x3F20F6FE#32, 0x3F54D663#32],
    ![0x3FC80D27#32, 0xBFD6A8F2#32, 0x3FBC52D6#32],
    ![0x3F095BFC#32, 0x3FF23C15#32, 0xBFE4DE78#32],
    ![0xBE65F52E#32, 0xC01209B2#32, 0x3F1014AB#32],
    ![0xBF00C2F1#32, 0x3F4E731B#32, 0x3FAC4F74#32],
    ![0x3FB17D03#32, 0x3F3148EF#32, 0xBEE5F62B#32],
    ![0x3F5DD40B#32, 0x3E85F33D#32, 0x3EEC4FC0#32],
    ![0x3E1B734B#32, 0x3E803BE0#32, 0xBFAE44BB#32],
    ![0x3FE2A885#32, 0xBFAB67AC#32, 0x3FBE8819#32],
    ![0xBE506AB5#32, 0xBD1BC0C0#32, 0x3F8668C8#32],
    ![0x3F9432A1#32, 0x3DDE7435#32, 0xBE11A810#32],
    ![0xBFB81827#32, 0x3E86F5C2#32, 0x3F5B14EB#32],
    ![0xBF024243#32, 0xBFAFF5DD#32, 0x3DE50ABB#32],
    ![0x3ECF98BA#32, 0xBFC1E2B1#32, 0xBF0D3E33#32],
    ![0xBE2558C9#32, 0x3F0E3694#32, 0x3F0EBAC0#32],
    ![0xBF6000DA#32, 0xBEEC907B#32, 0xBFD5AC84#32],
    ![0xC01C6CE7#32, 0x3F07C03F#32, 0xBFC642A9#32],
    ![0xBF225F71#32, 0x3FCDA074#32, 0xBF1DA059#32],
    ![0x3F60877D#32, 0x3ED1458B#32, 0xBEB88CD0#32],
    ![0xBEBE438D#32, 0x3EEB6C08#32, 0xBF75E123#32],
    ![0x3F1E89DD#32, 0xBFCB82CB#32, 0xC002645B#32],
    ![0xBF30D8B5#32, 0x3E8FA906#32, 0xBFF37AE2#32],
    ![0x3EC0C72A#32, 0x3CC3F976#32, 0x3EF8546C#32],
    ![0x3F75732A#32, 0xBF79DC25#32, 0x3FD35E68#32],
    ![0xBF975AB7#32, 0x3F82246E#32, 0x3DEBFD2D#32],
    ![0x3F0A5D06#32, 0xBF5FF10F#32, 0xBE41CFBE#32],
    ![0x3EC947A5#32, 0xBF6D9496#32, 0xBECA68BF#32],
    ![0x3FCA4DB0#32, 0xBED6FF75#32, 0xBED7C39B#32],
    ![0xBFA4F270#32, 0xBE5111B4#32, 0x3FE0B7D9#32],
    ![0x3DC32B42#32, 0x3F95B161#32, 0x3FD28B59#32],
    ![0xBDDC2326#32, 0x3FD5EF61#32, 0x3E49E124#32],
    ![0x3C054164#32, 0xBF1C7B44#32, 0x3FAEF70B#32],
    ![0x3FAF48E0#32, 0x3ED8DDA7#32, 0xBF856102#32],
    ![0xBF30E96A#32, 0x3E5DA6BC#32, 0xBE36E4E3#32],
    ![0xBF43BADB#32, 0x3F050E6F#32, 0x3F2ACF37#32],
    ![0xBF9B2B70#32, 0x3E1773BC#32, 0x3F9FB4CE#32],
    ![0x3EEB2B7B#32, 0xBEFDDD47#32, 0xBEC452B2#32],
    ![0xBE0E09B3#32, 0x3FA61B6B#32, 0x3FED1CD0#32],
    ![0x3FD69D75#32, 0x3E8E5F52#32, 0xBF98D061#32],
    ![0xBE8C0863#32, 0x3F17CA7D#32, 0x3F9C031F#32],
    ![0xBF0054B1#32, 0x3F94AC5E#32, 0xBF70E8F2#32],
    ![0x3D5B52DA#32, 0x3F214BCB#32, 0x3F2614F8#32],
    ![0xBF871094#32, 0xBFAD528E#32, 0xBF5003B7#32],
    ![0x3F6FE673#32, 0xBFA37E85#32, 0x3F00D92E#32],
    ![0xBF93EB9F#32, 0x3BD6408B#32, 0xBFE6E9A4#32],
    ![0x3ED939BD#32, 0xBF3AA68C#32, 0xBF13783E#32],
    ![0xBF31B5E0#32, 0x3FE6DD1C#32, 0x3EBFD18E#32],
    ![0x3F9E5892#32, 0x3ED513B0#32, 0xBDBA0B66#32],
    ![0xBF5B2977#32, 0xBF315DB4#32, 0xBFA8EAC8#32],
    ![0xBEC6CC5A#32, 0x3E369DC4#32, 0x3E5A303E#32],
    ![0xBF472547#32, 0xBFA40244#32, 0x3F40C639#32],
    ![0xBF22F65D#32, 0xBF3B3BB4#32, 0x3EAC16E5#32],
    ![0xBEC810FB#32, 0x3BB7891D#32, 0xBE914C46#32],
    ![0xBFBE9249#32, 0xBF756FF5#32, 0x3DBC429E#32],
    ![0xBFAD4F66#32, 0xBF93465F#32, 0xC012FC89#32],
    ![0x3F5B65EF#32, 0x3F0E5F72#32, 0xBE24EDA8#32],
    ![0xBEBB0989#32, 0x3D3FA568#32, 0x3F889937#32],
    ![0xBECCA580#32, 0x3F416B65#32, 0x3E9F85AD#32],
    ![0xBF38052F#32, 0x3FA1B8BC#32, 0xBFD88931#32],
    ![0xBE42967F#32, 0xBE594F9F#32, 0xBFA1ED16#32],
    ![0x3E9F1D37#32, 0x3EFC0781#32, 0xBFEAFE15#32],
    ![0x3F954E4D#32, 0xBF4C2909#32, 0xBE45D983#32],
    ![0xBEA94B68#32, 0xBE004727#32, 0x402635B9#32],
    ![0xBF72FB15#32, 0xBF6315F6#32, 0xBE98DC4A#32],
    ![0xBF8DE50D#32, 0xBFE3C7BA#32, 0xBF6128AC#32],
    ![0x3F579B80#32, 0x3E458DA7#32, 0x3F8B88AF#32],
    ![0xBF065AF0#32, 0x3F9B3AE8#32, 0xBF5A1094#32],
    ![0x3E65209A#32, 0xBE56383F#32, 0xC009EB12#32],
    ![0xBEBA7590#32, 0x3EF69510#32, 0x3FCBD51C#32],
    ![0x3F162F1E#32, 0x3F1D771D#32, 0x3CD59FD2#32],
    ![0xBF09EB4D#32, 0x3F4950CB#32, 0xBFB7FCB4#32],
    ![0xBF0564DC#32, 0x3F83967D#32, 0x3F4C93FF#32],
    ![0xBECD8791#32, 0xBFCB7DB4#32, 0x3FE87D92#32],
    ![0xBF0C9FEA#32, 0xBF8549D8#32, 0x3EFFA5C9#32],
    ![0x3F863751#32, 0xBE5792E6#32, 0x3F5FDD59#32],
    ![0xBF860C50#32, 0xBF613C06#32, 0x3F23675D#32],
    ![0x3C1895AA#32, 0x3E3BBE0C#32, 0xBFE3F7BA#32],
    ![0xBF353D6B#32, 0x3D5916D9#32, 0x4007ADD9#32],
    ![0x40055D91#32, 0x3EE78953#32, 0x3B8E8C3C#32],
    ![0x401C8860#32, 0x3F0FF4B6#32, 0xBE2899A6#32],
    ![0x3E1332D7#32, 0xBF16C6C5#32, 0xBF1AE761#32],
    ![0x3E8E515B#32, 0xBF9CCB7B#32, 0xBF9B4A71#32],
    ![0x3F68346F#32, 0x3FC12BB9#32, 0x3A952779#32],
    ![0x3F35B6C9#32, 0xBEA278D2#32, 0xBF0A658F#32],
    ![0xC0090576#32, 0x3E68282B#32, 0xBE0F6E1B#32],
    ![0xBDAE91DD#32, 0x3D74C19F#32, 0x3EAD9152#32],
    ![0x3ED0BE2D#32, 0xBFBF1B6A#32, 0x3D1DA469#32],
    ![0xBF96FA6E#32, 0x3E2C9E30#32, 0x3FB764A7#32],
    ![0x3DA81043#32, 0xBEE3E746#32, 0x3FA6F386#32],
    ![0xBF65D8B9#32, 0x3F3477AE#32, 0x3F0BF66B#32],
    ![0xBF0F9A2D#32, 0xBC3D240B#32, 0x3F91A2DC#32],
    ![0xBDF00E16#32, 0x3F6CB285#32, 0xC01059B8#32],
    ![0xBF85FAF8#32, 0xBE39045C#32, 0x3E20FB6C#32],
    ![0xBF517A5A#32, 0x3E9A2602#32, 0x3F8FCA03#32],
    ![0x3F93E8CA#32, 0xBF063E4F#32, 0xBE333E89#32],
    ![0x3ED49A6B#32, 0xBFEB99DC#32, 0x3EF6162A#32],
    ![0x3FD9B477#32, 0xBEC2DC07#32, 0xBF159A27#32],
    ![0x3F0BEB58#32, 0x3D48401F#32, 0xBE2B86D1#32],
    ![0x3F969FC1#32, 0x3F12B226#32, 0xBF99AD3F#32],
    ![0xBE80F387#32, 0x3F8DC20E#32, 0x3FC23095#32],
    ![0x3F18741D#32, 0xBEA5B5E0#32, 0xBE82473C#32],
    ![0x3F22F8F8#32, 0x3FA784E7#32, 0x3F1A5E71#32],
    ![0xBF03A1DF#32, 0x3F817377#32, 0x3B4801B8#32],
    ![0x3FB2B1F4#32, 0x3F03D9D7#32, 0x3F9DB631#32],
    ![0x3E908C5C#32, 0xBFF82F80#32, 0xBE5FFE2C#32],
    ![0x3FBE678A#32, 0x3F2141BD#32, 0x3F7A9D38#32],
    ![0xBDCB0244#32, 0x3EE3E4CA#32, 0x3F7EDC7A#32],
    ![0xBE499CFA#32, 0x3F056898#32, 0xBE62D117#32],
    ![0x3FF31A28#32, 0x3F4FD190#32, 0xBFAE80EC#32],
    ![0xBF887A4E#32, 0xBF005C33#32, 0x3FA27F62#32],
    ![0x3E19A959#32, 0x3F12D680#32, 0xC032B1CC#32],
    ![0xBFDC5D39#32, 0xBFBFF635#32, 0x3FAE3B2B#32],
    ![0x3F87CB42#32, 0xBEDFDCA4#32, 0x3EE1D871#32],
    ![0xBE4F9F70#32, 0xBF91AE2B#32, 0x3E95155D#32],
    ![0xBFA90122#32, 0xBC51BBE0#32, 0xC009219C#32],
    ![0xBF958F21#32, 0x3F31AF75#32, 0x4009BE28#32],
    ![0xBF525B6F#32, 0xBF4A40C0#32, 0x3BAB1C27#32],
    ![0xBD6E979D#32, 0x3EC25E76#32, 0x3EA525EB#32],
    ![0x3FA8D06D#32, 0x3E007C53#32, 0xBF9A8866#32],
    ![0x3D9B4557#32, 0x400090F9#32, 0x3F78B42B#32],
    ![0xBF82E7D5#32, 0xBE8FF058#32, 0x4006AEA0#32],
    ![0x3F6A01AF#32, 0xBEBB8FC9#32, 0xBF03A73C#32],
    ![0xBF846F58#32, 0x3F9F1B12#32, 0x3EAD6471#32],
    ![0x3F26C1AA#32, 0xBDD3AB97#32, 0x40128AAA#32],
    ![0x3F5180FE#32, 0x3F9000AF#32, 0x3E20E785#32],
    ![0x3D591092#32, 0xBF36F1ED#32, 0x3EE33EA7#32],
    ![0xBFC653CC#32, 0x3F1CB091#32, 0x3E0FE93D#32],
    ![0x3E473E7F#32, 0x3E87A3FF#32, 0xBD6BAED7#32],
    ![0xBF415D1C#32, 0x3F2AF94E#32, 0xBE326A2C#32],
    ![0x3F7D3F27#32, 0x3ED6939D#32, 0xBE0467EB#32],
    ![0x3CC74B74#32, 0x3EA89A0C#32, 0xBEAE6B5A#32],
    ![0x3F63134D#32, 0x3E97799D#32, 0xBF545B29#32],
    ![0xBF6D3DFF#32, 0x3E82614F#32, 0xBD619EF3#32],
    ![0xC006E1D1#32, 0xBF1186D2#32, 0x3B8D43DD#32],
    ![0x3E85A42C#32, 0xBECBC492#32, 0xBF816337#32],
    ![0xBFAC6647#32, 0xBF84BA27#32, 0xBEED78CE#32],
    ![0x3F8D507B#32, 0xBF11D84E#32, 0xBFD5EA04#32],
    ![0xC0109ACE#32, 0x3E93D404#32, 0xC004520C#32],
    ![0x3EA31E9D#32, 0x3FF7D9D8#32, 0x3F5B0E06#32],
    ![0xBE48C252#32, 0x3F2BB505#32, 0xBF69EB27#32],
    ![0xBD9F622C#32, 0xBF6E44AA#32, 0x3DBDC43E#32],
    ![0xBF7F1ADB#32, 0xBCACE88B#32, 0x3DBF749F#32],
    ![0x3F25374F#32, 0xBF234449#32, 0x3F02EAB1#32],
    ![0xBF82FD11#32, 0xBF009AD5#32, 0xC01B01B5#32],
    ![0x3FB7F68F#32, 0xBD8BE419#32, 0x3FA1E048#32],
    ![0xC01513C5#32, 0xBF9B6AD8#32, 0xB8A4A774#32],
    ![0x40352387#32, 0xBFCCCC1C#32, 0x3F9FBC13#32],
    ![0x3EB3D248#32, 0x3F000315#32, 0xBCDF619F#32],
    ![0x3F779B03#32, 0xBF8959FA#32, 0xBE668B41#32],
    ![0x3CF27DB9#32, 0xBF1BE9DB#32, 0x3FD7CFAF#32],
    ![0xBFE314AE#32, 0xBF9F588D#32, 0xBEFF342A#32],
    ![0x3EDD3353#32, 0x3F92D7B9#32, 0xBF021AD1#32],
    ![0xBFD83000#32, 0xBF72E91D#32, 0x3F2733B7#32],
    ![0xBF3A5EB1#32, 0xBC7D47F8#32, 0xBF1400C9#32],
    ![0x3F023C59#32, 0xBF3BB297#32, 0x3F19F94E#32],
    ![0xBE90050B#32, 0xBEA80705#32, 0x3F5D182B#32],
    ![0xBDB6E1C5#32, 0xBC702270#32, 0xBE749CFF#32],
    ![0xBDCCC7B4#32, 0xBE90C62E#32, 0x3FB2D41A#32],
    ![0xBFC0CAEE#32, 0x3EB977D7#32, 0x3F666C14#32],
    ![0x3F891DF3#32, 0xBFCD2DE4#32, 0xC023F777#32],
    ![0xBE95EE21#32, 0x3F2EE3EA#32, 0xBDC05D45#32],
    ![0xBFC40DB8#32, 0x3F92E96E#32, 0x3F9D4E50#32],
    ![0x3E60DB96#32, 0xBFB0F823#32, 0x3F7ECA72#32],
    ![0xBDCE18A8#32, 0x3E8A17DB#32, 0x3F2445FD#32],
    ![0x3EE72B54#32, 0xBE8CFC33#32, 0xBF3668E2#32],
    ![0x3F2F43D7#32, 0x3FE4DF5F#32, 0xBFB21A85#32],
    ![0xBF5E75D4#32, 0xBFFD99A2#32, 0x3F9901DC#32],
    ![0x3F7B92D5#32, 0x3E31F694#32, 0x3F7EAB9C#32],
    ![0xBE955FF6#32, 0xBF5E682C#32, 0x3F212364#32],
    ![0x3EA43790#32, 0x3FAE94BA#32, 0xBFD01A33#32],
    ![0x3E69FC6E#32, 0x3F356B90#32, 0x3F864FA4#32],
    ![0x3F9A67B7#32, 0x3E9BFE60#32, 0xBEAAD4D6#32],
    ![0x3FAB646B#32, 0xBEBC500C#32, 0xBF02D884#32],
    ![0xBC6244B0#32, 0xBFB9383B#32, 0xBD9BA726#32],
    ![0xBD5D09AE#32, 0x3F086170#32, 0xC0608ADA#32],
    ![0xBF31FA14#32, 0x3FD2E04B#32, 0x3E90B083#32],
    ![0xBE2138ED#32, 0x3F4F1D72#32, 0x3FB19404#32],
    ![0xBF9DE12E#32, 0x3F9CACED#32, 0xBE7140EE#32],
    ![0xBD7B8545#32, 0x3B26B222#32, 0xBE47C2A8#32],
    ![0xBF8114BE#32, 0xBEC3D9FC#32, 0xBEE6493A#32],
    ![0xBF9CD3DD#32, 0x3FB851AA#32, 0xBF806EC6#32],
    ![0x3F931FE9#32, 0xBE4122C9#32, 0x3FBED1A0#32],
    ![0xBEE6E1FC#32, 0xBFD60E38#32, 0xBF9611C5#32],
    ![0xBFC1349C#32, 0xBECAC3AE#32, 0xBEA69B49#32],
    ![0xBFCF4DDE#32, 0xBFB74D27#32, 0xBF6BDC41#32],
    ![0xBE62DD23#32, 0x3F352460#32, 0x3EA2EF31#32],
    ![0x3E48BC9D#32, 0x3EADCFA1#32, 0xBE99D8C9#32],
    ![0xBF4AAE7F#32, 0x3EDD95C3#32, 0xBF971E44#32],
    ![0x3E065BB6#32, 0x3F89553C#32, 0xBDA15CCF#32],
    ![0x401EAA57#32, 0xBF80A129#32, 0xBEEEE824#32],
    ![0xBE9E8336#32, 0xBE1DACED#32, 0xBE195FA3#32],
    ![0xC008E874#32, 0x3FF2D9D8#32, 0x3E8E8EA0#32],
    ![0x3E529EEA#32, 0xBEB4E1CD#32, 0xBF1B7D61#32],
    ![0x3D8B9DAC#32, 0xBF031E51#32, 0xBE96F185#32],
    ![0xBD90A466#32, 0x3E18FD0E#32, 0xBF40B868#32],
    ![0xBFBB71A5#32, 0xBF0BE804#32, 0x3CECC215#32],
    ![0xBFB12588#32, 0x3E910886#32, 0x3EEE16D7#32],
    ![0x3F469F2A#32, 0x3E8E876C#32, 0x3F6E93E6#32],
    ![0x3F1D2A26#32, 0xBF99EDF5#32, 0xBF6BD3EE#32],
    ![0x3F884363#32, 0xC014C0A8#32, 0xBFB884E2#32],
    ![0x3F7EB122#32, 0xBF54B8BF#32, 0x3F00FD8C#32],
    ![0xBCDE1E27#32, 0xBD902CE0#32, 0xBE5CA65A#32],
    ![0xBF8FB2DC#32, 0xBF667007#32, 0x3FDC7E06#32],
    ![0xBD530779#32, 0x40547721#32, 0xBFBE6AE6#32],
    ![0xBEA1AC7E#32, 0xBC335F86#32, 0xBE16C8A5#32],
    ![0x3E157BE6#32, 0x3F019032#32, 0xBF4063C0#32],
    ![0xBF265A78#32, 0xBF00A7B2#32, 0x3E3E2D99#32],
    ![0x3F481164#32, 0x3D2FD4E3#32, 0xBF3F5E49#32],
    ![0x3F690AD5#32, 0x3FA33F73#32, 0x3F6A8A46#32],
    ![0x3D93DEF2#32, 0xBFC9BFC2#32, 0xBF2F7E24#32],
    ![0xBF583F4C#32, 0x3ECDADC1#32, 0xBF3951CE#32],
    ![0xBF2EBC5E#32, 0x3E367F9B#32, 0xBFFF5766#32],
    ![0xBF044636#32, 0xBF699CF4#32, 0xBFFE1CA0#32],
    ![0xBEFC4195#32, 0xBEBF070A#32, 0xBEFF5760#32],
    ![0xBF304953#32, 0xBE4E2040#32, 0xBE000D0C#32],
    ![0xBECD06CC#32, 0x3F5AEE09#32, 0x3E581EEF#32],
    ![0x3ED271BB#32, 0x3FA84A36#32, 0x3E86A3C7#32],
    ![0xBF836E18#32, 0xBFF77A59#32, 0x3EE0CD2D#32],
    ![0x3F96DE02#32, 0x3F66839A#32, 0xBF4A0E3F#32],
    ![0xBF3C8841#32, 0xBFD7940C#32, 0xBFA3BB3A#32],
    ![0x3F71E765#32, 0x3F3230B1#32, 0xBF99FBAA#32],
    ![0xBFD07125#32, 0xBEB49266#32, 0x3DA684C7#32],
    ![0x3EC60910#32, 0x3FE54BE2#32, 0x3F2F7DC9#32],
    ![0x3FAC119F#32, 0xBF8FBC0E#32, 0x3F42BA6B#32],
    ![0xBDDB1905#32, 0xBF87234B#32, 0xBF25F8F3#32],
    ![0x3F951ABA#32, 0xBDAC04BE#32, 0x3FD42118#32],
    ![0x3F559297#32, 0x3E915273#32, 0x3F1023BE#32],
    ![0x3F156CF1#32, 0xBF5882B9#32, 0xBF62377B#32],
    ![0x3F1790DD#32, 0x3F240C6F#32, 0x3E389503#32],
    ![0x3F700BCA#32, 0xBE37A89D#32, 0xBF5E6393#32],
    ![0x3FFE4576#32, 0xBFE26CCF#32, 0xBDCF1929#32],
    ![0x400AE1CE#32, 0xBF393729#32, 0x3D834932#32],
    ![0xBF8749E7#32, 0x3F3D57DF#32, 0xBF4EEDEE#32],
    ![0x3F609954#32, 0xBFBA53C7#32, 0xBF1E54D3#32],
    ![0xBF47C4C3#32, 0x3C93CD41#32, 0xBFAB38B8#32],
    ![0x400392E1#32, 0xBF3F8175#32, 0x3FA10ED3#32],
    ![0x3E9A976C#32, 0xBD740E8C#32, 0x3FA15F2A#32],
    ![0x3F1A60A6#32, 0x3FEC818C#32, 0x3E60C277#32],
    ![0x3E9DBC52#32, 0x3E37F563#32, 0xBEBC82C3#32],
    ![0x3D9D0B43#32, 0xBF69120B#32, 0xBEC717C9#32],
    ![0x3E250C03#32, 0xBFE5D0DA#32, 0xBF45C119#32],
    ![0x3F2FAEBE#32, 0xBF96A3C2#32, 0x3FB07A55#32],
    ![0xBF44C82C#32, 0x3F8665B1#32, 0xBFE5666F#32],
    ![0x3F01EB0A#32, 0x3F7601FD#32, 0xBED0B6C8#32],
    ![0x3F91707E#32, 0xBF2713B7#32, 0x3EFA1C12#32],
    ![0x3EFC4178#32, 0xBF8A5AB8#32, 0xBE2FFA4F#32],
    ![0xBD9AE107#32, 0xBF993EF8#32, 0xBF93A2F5#32],
    ![0xBF34369D#32, 0x3C07FA41#32, 0x3E33C712#32],
    ![0xBEFA2C05#32, 0x3D13FC68#32, 0xBE49884A#32],
    ![0xBF4F5836#32, 0xBFB82F37#32, 0x3F1A5379#32],
    ![0x3F13A562#32, 0x3FD9845C#32, 0x400AFACD#32],
    ![0x3E685DB2#32, 0x3F0E31AB#32, 0x3D14847B#32],
    ![0xBF41FF1E#32, 0x3F813495#32, 0x3EA67586#32],
    ![0xC010E93C#32, 0x401B4FA0#32, 0x400FE9DA#32],
    ![0x3F0E1B70#32, 0xBF340305#32, 0xBFAFD917#32],
    ![0xBF01938B#32, 0xBD7CF530#32, 0x40082D03#32],
    ![0x3F24CA55#32, 0x3FDBE191#32, 0xBF3E10BC#32],
    ![0xBFCDFC96#32, 0xBEDCC158#32, 0xBE70B882#32],
    ![0xBF2E6487#32, 0xC008F2D7#32, 0xBF31E6DA#32],
    ![0xBE893A51#32, 0x3E96FAB3#32, 0x3E77F22F#32],
    ![0x3F19FDAB#32, 0x3E971EF2#32, 0xBEAC1AA5#32],
    ![0x3E84D945#32, 0xBF9DA20B#32, 0xBF6A6B9C#32],
    ![0x3F810605#32, 0x3F5A17C5#32, 0x3DEC3395#32],
    ![0x3F37F2A3#32, 0xBF911C0F#32, 0xBEFA414B#32],
    ![0xBFFD441F#32, 0x3F2622DE#32, 0x3F1C9A8E#32],
    ![0xBE7D7644#32, 0xBF3B0FA7#32, 0x3F98D957#32],
    ![0xBFBB9A57#32, 0xC034A526#32, 0x3EF2889D#32],
    ![0x3F4DA852#32, 0xBECF1361#32, 0xBD894D76#32],
    ![0xBDCD24C1#32, 0x3EA14511#32, 0xBF8B368F#32],
    ![0xBF216575#32, 0xBF93CD5C#32, 0x3FB63A75#32],
    ![0x3F8D312D#32, 0x3F3CF7C0#32, 0xBF326669#32],
    ![0xBFDAFB2A#32, 0x3EAE8C5F#32, 0x3DAE93FB#32],
    ![0x3F2A5F0E#32, 0xBE6D208C#32, 0xBFF1DDC4#32],
    ![0x3EA83EF8#32, 0xBF6CEA88#32, 0xBF759ED4#32],
    ![0x3F8A8F1C#32, 0x3E82070F#32, 0xBE9FAC39#32],
    ![0x3FD01F24#32, 0xBE84E9BC#32, 0x3F95DA78#32],
    ![0xBFD3FBB0#32, 0x3D9136B2#32, 0xBCAB2A44#32],
    ![0x3CF60C08#32, 0xBE8EA23B#32, 0x3E59196C#32],
    ![0xC009E721#32, 0x3FBCDA4C#32, 0x3E43C2C7#32],
    ![0x3F5E7E43#32, 0xBF3ACEB0#32, 0x3F5DAA10#32],
    ![0xBEB78223#32, 0x3F228012#32, 0x3D8890F7#32],
    ![0xBFBFFE97#32, 0x3F1BEF88#32, 0xBF1324CB#32],
    ![0xBF42F02C#32, 0x3E9CDE08#32, 0xBF8B41EE#32],
    ![0x3FBDA430#32, 0x3F7ADCD0#32, 0xC0422D18#32],
    ![0x3EA5E74D#32, 0xBF899965#32, 0x3F83C9D9#32],
    ![0xBFB20FB2#32, 0x3EC6012B#32, 0x3FDE8E4E#32],
    ![0x3EEBFBCF#32, 0xC001C929#32, 0xBE0C8BD0#32],
    ![0x3F56F6FA#32, 0xBF649F93#32, 0xBF1882E2#32],
    ![0x3E17A7C3#32, 0xBFE91D7F#32, 0x3F375744#32],
    ![0xBFA0895F#32, 0x3F89114C#32, 0x3FB55AE5#32],
    ![0xBF4E6CFF#32, 0xBF58B380#32, 0x3DA244B0#32],
    ![0x3E5AFAD4#32, 0x3DC7E75B#32, 0x3EA4EB17#32],
    ![0xBD9A9821#32, 0xBFFC37AC#32, 0x401DA52D#32],
    ![0x3F6880E9#32, 0xBC2E185F#32, 0xBFCF2824#32],
    ![0x3D4C1295#32, 0xBF842562#32, 0xBFC6F281#32],
    ![0x3F8EC28E#32, 0xBFB486DB#32, 0x3F226A97#32],
    ![0xBFA4BBF5#32, 0x3F309238#32, 0x3D6FCB5A#32],
    ![0x3F93CFDE#32, 0x3F261D74#32, 0x3F457903#32],
    ![0x3FEC4BDD#32, 0x3F6F4D0C#32, 0x3FBF6335#32],
    ![0x3F543221#32, 0x3F2465E0#32, 0x3ED9844F#32],
    ![0xBF175E52#32, 0xBEBF0C80#32, 0x400203D2#32],
    ![0x3E5C3867#32, 0x3F0CDD62#32, 0xBF5C2ED7#32],
    ![0xBFB8E27B#32, 0xBE79F35E#32, 0xBF4AD40A#32],
    ![0xBFBD4FFA#32, 0xBED5E315#32, 0xC009C4A2#32],
    ![0x3E9DDB55#32, 0x3F1471D3#32, 0x3CA953DB#32],
    ![0x3EDB09C5#32, 0x3D9D6BBE#32, 0xBF50F68A#32],
    ![0xBF53E271#32, 0xBEDD7FCF#32, 0xBD9B022D#32],
    ![0xBF4359C0#32, 0xBEEF182E#32, 0x3D3DEF86#32],
    ![0xBF84AD62#32, 0xBE2B820D#32, 0xC006A98A#32],
    ![0x3F1AA106#32, 0xBF006DB2#32, 0xBF844229#32],
    ![0xBF9B40D7#32, 0xBF4F281D#32, 0xBF4D3240#32],
    ![0xBF0ED2ED#32, 0x3F3A52A2#32, 0xBE456C56#32],
    ![0xBF177CA5#32, 0xBF8CFCEE#32, 0x3E489BF4#32],
    ![0x3F1FC073#32, 0xBFBFE6DE#32, 0xBFB2A571#32],
    ![0xBEE3BE54#32, 0x3FA9D4B6#32, 0xBF2F8F16#32],
    ![0xBF8F8449#32, 0x3FD1B7A5#32, 0x3D957C38#32],
    ![0x3FADE62F#32, 0x3EB2A6EE#32, 0xBCBFB716#32],
    ![0xBFD38AF4#32, 0x3FD6E2AA#32, 0xBF2031DE#32],
    ![0x3F222BC4#32, 0x3DDE0153#32, 0xBF7C9041#32],
    ![0x3F9AF907#32, 0x3D994489#32, 0xBFFE6B02#32],
    ![0x3FD0856A#32, 0x3F0F361E#32, 0x3F83D98A#32],
    ![0xC0096611#32, 0xBE79019C#32, 0xBD64F3E6#32],
    ![0xBF2DF960#32, 0x3FFA308A#32, 0x3E944AB1#32],
    ![0xBE8148E1#32, 0x3E66D74D#32, 0x3E3677F7#32],
    ![0x40169FC4#32, 0xBF5FBD81#32, 0xBF3B8254#32],
    ![0xBE6FBBEE#32, 0xBE8F813E#32, 0xBF9F579E#32],
    ![0x3E0D5E0A#32, 0x3CB99717#32, 0xBED15256#32],
    ![0xBE1481B2#32, 0x3EA61E29#32, 0x3FCD6F5F#32],
    ![0x3EA8B635#32, 0xBFFD287B#32, 0x3FFD87A0#32],
    ![0xBE018035#32, 0xBCAEE1BE#32, 0x3E74E540#32],
    ![0x3FB88E1B#32, 0x3F5F5068#32, 0x3FCF5FF5#32],
    ![0x40108FA8#32, 0x3FEE4B2F#32, 0xBF3F6CDD#32],
    ![0x3DD83657#32, 0xBF26E578#32, 0xBFF6E5E7#32],
    ![0x40050FC8#32, 0xBE9426BA#32, 0xBEACC5C1#32],
    ![0xBF1EF062#32, 0x3F92738A#32, 0xBF5B946A#32],
    ![0x3EAF0CF3#32, 0x3F38EF35#32, 0xBE86DE8C#32],
    ![0x3E53F6D4#32, 0xC00033E2#32, 0xBF783955#32],
    ![0x3F85C39D#32, 0x3FB68398#32, 0xBFA73B50#32],
    ![0xBE3A8312#32, 0x3B122C3A#32, 0x3F017D4C#32],
    ![0x3F4909BF#32, 0x3E511475#32, 0xBF00F560#32],
    ![0x3F5629F1#32, 0x3E689994#32, 0x3C12F1C9#32],
    ![0xBFE236E9#32, 0xBFD9A62F#32, 0xBEB1E7E6#32],
    ![0x3F87D526#32, 0x3F1246BA#32, 0xBF6FB96D#32],
    ![0xBF8FF8F1#32, 0xBDEB5574#32, 0x3F91797E#32],
    ![0x3F51083D#32, 0xBF85BD40#32, 0xBF750092#32],
    ![0x3E968527#32, 0xBFABDED6#32, 0x3F35FF1E#32],
    ![0xBEB76929#32, 0xBF15C065#32, 0xBF0B517A#32],
    ![0x3EBC1E5E#32, 0x3F90FB78#32, 0x3EB50E8E#32],
    ![0xBF4753E8#32, 0xBEF2D5AC#32, 0x3F051F33#32],
    ![0xBF23E284#32, 0xBEDA6EFA#32, 0x3F51D2E8#32],
    ![0x3F19D1B9#32, 0x3E4108FE#32, 0xBFA9A98D#32],
    ![0x3FE6D76F#32, 0xBE3817FB#32, 0xBF0C6734#32],
    ![0xBF18870B#32, 0xBFD8466D#32, 0x3F48C774#32],
    ![0x3F12B584#32, 0x3DE1E32D#32, 0xC01AB1B5#32],
    ![0x3F3124B4#32, 0xBF87260B#32, 0x3F58447D#32],
    ![0xBE6C2697#32, 0xBE0F31E9#32, 0x3F250B79#32],
    ![0xBF4F9B0E#32, 0x3F1D82DF#32, 0xBF609F88#32],
    ![0x3F606FF2#32, 0xBE7F6731#32, 0x3E314E14#32],
    ![0xBF0A6F5F#32, 0xBDD1AD4E#32, 0x3D685A49#32],
    ![0x3F028988#32, 0x3F0F4151#32, 0x3CD4EDCA#32],
    ![0xBF20A229#32, 0xBFB0CC8E#32, 0xBF41DA1A#32],
    ![0xBEACEA7E#32, 0xBF84A11B#32, 0x3F20E9B4#32],
    ![0x3FAA10C8#32, 0xBE03C365#32, 0xBFD00510#32],
    ![0x3FD279E4#32, 0x3F507790#32, 0xBF9D5B43#32],
    ![0x3F842BB3#32, 0xBEBA4771#32, 0x3F3C5D5B#32],
    ![0x3F6A05B1#32, 0xBF45B38F#32, 0xBF8B4B99#32],
    ![0xBF9798BF#32, 0x3F6EDBFC#32, 0x3FB96722#32],
    ![0x3D02E831#32, 0xBDE6CE2C#32, 0xBE989A91#32],
    ![0xBD7BD18E#32, 0xC0455D75#32, 0x3D8B19C4#32],
    ![0xBFA05926#32, 0xBE54A1E6#32, 0xBF000CA8#32],
    ![0xBEF5718D#32, 0xBFA71511#32, 0x3EB59295#32],
    ![0xBDA37E9F#32, 0xBF95AAEE#32, 0x401BEC6C#32],
    ![0x3E6643F3#32, 0x3E0D066C#32, 0xBEE7D106#32],
    ![0x3E4853C5#32, 0xBE301F47#32, 0x3F9AB52C#32],
    ![0xBEC8A839#32, 0xBF44B68B#32, 0x3EAEB2C5#32],
    ![0xBEF6EA1D#32, 0xBF9D4592#32, 0x3E8D4137#32],
    ![0xBEBBDC26#32, 0xBFAEA2B8#32, 0x3F90CB7D#32],
    ![0xBFC39E06#32, 0xBEE0BD08#32, 0xBCBF0DD7#32],
    ![0x3E126D61#32, 0xBFF24934#32, 0xBF9BE671#32],
    ![0xBDE07F83#32, 0x3F32CF23#32, 0xBFC2A91D#32],
    ![0x3F17558F#32, 0x3FA0E492#32, 0xBFB9FEC3#32],
    ![0x3F81F019#32, 0xBF858773#32, 0x3EB4341B#32],
    ![0xBFF9A7F5#32, 0xBF814592#32, 0x3F45B225#32],
    ![0x3F4C9B70#32, 0x3F81C450#32, 0x3FC03262#32],
    ![0x3F02C242#32, 0x3F9E4A12#32, 0x3D518B60#32],
    ![0x3FAFFFCD#32, 0xBF3C7F15#32, 0xBFB733DB#32],
    ![0xBE991E1A#32, 0x3F94CB38#32, 0x3F10472D#32],
    ![0xC019B2A4#32, 0x3F74AF50#32, 0x3EFB164F#32],
    ![0x3F4DBC2C#32, 0x3E8E89BE#32, 0x3F216F8D#32],
    ![0x3FE179E5#32, 0x3EC9A1D2#32, 0x3FDAD6A9#32],
    ![0xBF63E415#32, 0xBEF7E04C#32, 0xBECA570A#32],
    ![0x40001B00#32, 0x3EDF1E54#32, 0xBFC1A665#32],
    ![0xBFE33CEC#32, 0xBF8D49BD#32, 0xBF17E5E9#32],
    ![0x3E82F3DD#32, 0x3F59D59E#32, 0x3F976E6F#32],
    ![0xBECA6ED7#32, 0xBFF4FE2B#32, 0x3F4232B0#32],
    ![0x3F5634B3#32, 0xBFC8451C#32, 0xBE9DECEF#32],
    ![0xBFB5CF33#32, 0xBFD6B42D#32, 0x40129B97#32],
    ![0xBF251BB6#32, 0x3F969189#32, 0xBF163C2E#32],
    ![0x3F78C30D#32, 0xBFDC5FE4#32, 0xBFC18375#32],
    ![0x3F9CA75B#32, 0xBDCC2B0A#32, 0x3EECDBD2#32],
    ![0x3F885633#32, 0x3FF73B58#32, 0xBF1AEE81#32],
    ![0x3FA7AD79#32, 0xBE22345A#32, 0x3F82ED0B#32],
    ![0x3EA0298B#32, 0x3E933F49#32, 0xBEA1E996#32],
    ![0x3F16AAC4#32, 0xBF543273#32, 0x3FDB2FC2#32],
    ![0x3F004BB1#32, 0xBF48AA39#32, 0xBF80C035#32],
    ![0xBE787D24#32, 0xBDA7BA33#32, 0x3E61026C#32],
    ![0x3C15556D#32, 0xC027A0EF#32, 0xBD80EF91#32],
    ![0xBF32CBBA#32, 0x3F44A8D9#32, 0xBF28A18E#32],
    ![0xBEF775ED#32, 0xBFF34212#32, 0xBF03EA88#32],
    ![0x3F35F15B#32, 0x3F8B1C49#32, 0x3DE63F41#32],
    ![0x3F5E12CF#32, 0x3E0DEAA8#32, 0x3F008DA1#32],
    ![0x3FCDD892#32, 0xBEA4E712#32, 0xBF8A315B#32],
    ![0x3FAFC522#32, 0x3F8FF7DE#32, 0xBD3142B9#32],
    ![0x3F8D21E8#32, 0xBF8DA3A7#32, 0x3FC98BB1#32],
    ![0xBE9C6355#32, 0x3FC3D977#32, 0xBF350C2B#32],
    ![0x3F198506#32, 0xBEBB7370#32, 0x3FA3D291#32],
    ![0xBD34C636#32, 0xBDEAAD59#32, 0x3E392336#32],
    ![0x3F8AA1AB#32, 0xBF01C073#32, 0xBF04C75D#32],
    ![0x3E0C6BE8#32, 0x3E92907D#32, 0xBF446D69#32],
    ![0x3F01D3ED#32, 0xBF865080#32, 0x3F92CFAB#32],
    ![0x3E784426#32, 0xBFEFC73D#32, 0x3F53AAEE#32],
    ![0x3D9B71CE#32, 0x40021D57#32, 0xBF81BA41#32],
    ![0x3EF5CED3#32, 0x3F9E08CC#32, 0x3D155D73#32],
    ![0x3F2A57A1#32, 0xBF54D32B#32, 0xBFAF8279#32],
    ![0x3F06E6D8#32, 0x3E9A0799#32, 0xBFD8F474#32],
    ![0x3F8E81AF#32, 0xBE33EE7D#32, 0xBF3BA90E#32],
    ![0x3F25CF82#32, 0xBFA40AA7#32, 0xBF406BD3#32],
    ![0xBF4EDB56#32, 0x3FBFB427#32, 0xBF62AC19#32],
    ![0xBEB00610#32, 0xBF3C7A8F#32, 0x3F60D90B#32],
    ![0xBF5DA6F8#32, 0xBCEA24DB#32, 0xBF5CBB5F#32],
    ![0xBF80B900#32, 0x3EF3819B#32, 0xBE668BBD#32],
    ![0xBF850EAE#32, 0xBEC0335A#32, 0x3F50D73E#32],
    ![0x3F4FA281#32, 0xBE9DD454#32, 0xBF9ECEBE#32],
    ![0x3FD99FE3#32, 0xBFBB78BD#32, 0xBFACCA31#32],
    ![0xBF5C2E53#32, 0x3E1639C3#32, 0x3E2AB447#32],
    ![0xBD1B2B7F#32, 0xBF96CAED#32, 0xBCCF8CE2#32],
    ![0xBF090B8F#32, 0xBF6C26FD#32, 0x3F49E817#32],
    ![0xBDCE6C1B#32, 0xBE11C479#32, 0x3FCD0B70#32],
    ![0xBF815A1C#32, 0xBE4707B2#32, 0x3F01EB77#32],
    ![0xBF088922#32, 0x3E2CA4C9#32, 0xBF03CA94#32],
    ![0xBFB322EC#32, 0x3F52D74D#32, 0x3CC68CE7#32],
    ![0x3F90ABDF#32, 0xBF5952A6#32, 0xBFA63C4B#32],
    ![0x3F943621#32, 0xC010BB70#32, 0x3EB8A474#32],
    ![0x3FB1EAFF#32, 0x4012BF30#32, 0xBCEC5915#32],
    ![0x3E0C7C1E#32, 0x3F771A7D#32, 0xBE328DA6#32],
    ![0xBEC0CAB7#32, 0xBF23B5D1#32, 0x3F532C35#32],
    ![0x3F8427EF#32, 0x3FC12D10#32, 0xBF34065B#32],
    ![0xBF90764C#32, 0x3F8C3B3F#32, 0xBFAAB977#32],
    ![0x3E4BE6A2#32, 0xBF3E5235#32, 0x3F20423F#32],
    ![0xBF3C538A#32, 0x3E916BEE#32, 0xBEEB4924#32],
    ![0x3FF68140#32, 0xBF30A1B5#32, 0x3FEB1B62#32],
    ![0x3FDD4565#32, 0x3F6BBA5A#32, 0xBF6B76C8#32],
    ![0xBEA4BD09#32, 0xBE91597C#32, 0xBE358E99#32],
    ![0xBEA8F4C1#32, 0x3EAAF395#32, 0xBE55E5DB#32],
    ![0x3F0DDEF6#32, 0x3E7F3087#32, 0x3F915941#32],
    ![0x3EE63725#32, 0x3F8D2B7E#32, 0xBED37FAE#32],
    ![0xBFFC8225#32, 0x3F8DB891#32, 0xBF5F3E59#32],
    ![0x3FF78BD5#32, 0x3F18D1C1#32, 0x3DBD17A4#32],
    ![0x3F196723#32, 0xBE1A441C#32, 0xBF86CCBD#32],
    ![0xBF2AFDD9#32, 0x3F98B156#32, 0xBFD899CA#32],
    ![0x3FC576A7#32, 0xBEEA08EA#32, 0x3F144809#32],
    ![0x3F07706B#32, 0xBF4B9F83#32, 0xBF5C3BF0#32],
    ![0xBF16F6B2#32, 0xBEEA3A87#32, 0xBFC30BBE#32],
    ![0x3FD3E275#32, 0x3E91DADD#32, 0xBEE8DBA0#32],
    ![0xBE989659#32, 0x3E0159B7#32, 0xBF164FFA#32],
    ![0xBF2621A6#32, 0xBF94AAFF#32, 0x3E139A85#32],
    ![0xBE33A483#32, 0xBF385E60#32, 0x3F777A68#32],
    ![0xBE6C9037#32, 0x3F2462B9#32, 0x3F537D75#32],
    ![0xBE611446#32, 0xBF703FDC#32, 0x3F38084B#32],
    ![0xBFA2BA18#32, 0xBF11537B#32, 0xBF4349CA#32],
    ![0x3EC74047#32, 0x3EC8286D#32, 0x3FA2F7EF#32],
    ![0x3E41A91D#32, 0x3FD219BD#32, 0x4028B324#32],
    ![0x3FB673E0#32, 0xBFE51DFA#32, 0xBF65CEF6#32],
    ![0xBF843B6B#32, 0x3C889258#32, 0x3E37604B#32],
    ![0xBF7DAEAD#32, 0x3DD54E2D#32, 0xBFBF6465#32],
    ![0xBFC95516#32, 0x3E03CE7D#32, 0x3F65F4B9#32],
    ![0xBE515416#32, 0xBF3C7285#32, 0x3FBA6EB2#32],
    ![0x3CEFAB80#32, 0x3F4CEEEB#32, 0x3F9EBD2B#32],
    ![0xBE211066#32, 0x3F0C9178#32, 0xBE31CF80#32],
    ![0xBFAB6FC1#32, 0xBF588C55#32, 0x3E9E7B37#32],
    ![0x3EA1ECC7#32, 0x3F060CD5#32, 0x3F8F372E#32],
    ![0x3F2F821F#32, 0xBF03C1B4#32, 0xBF11E9F5#32],
    ![0x3DC0D519#32, 0xBED13CF6#32, 0xBFED67FA#32],
    ![0xBEEF5B74#32, 0xBF004066#32, 0x3E18AAFF#32],
    ![0xBE4AC2AB#32, 0x3F8844E8#32, 0x3F419329#32],
    ![0x40414D7A#32, 0x3FA21E8D#32, 0x3EDD6A8A#32],
    ![0x3F91ADBF#32, 0xBDF1A930#32, 0x3F989CB4#32],
    ![0xBE513A7D#32, 0x3E52026D#32, 0xBF357A7A#32],
    ![0x3FF12EDF#32, 0xBEE00EC3#32, 0xBEAB2AD9#32],
    ![0x3E73A403#32, 0xBE8241BC#32, 0x3DAE6599#32],
    ![0x3E6A2F01#32, 0x3EBA4DA8#32, 0xBE21792B#32],
    ![0xC0217292#32, 0x3F3825B5#32, 0x3F4DA506#32],
    ![0xBF803FEE#32, 0xBDD93EF0#32, 0xBF3BD709#32],
    ![0x3E44A6A5#32, 0x3EDD462A#32, 0xBF08D699#32],
    ![0x3EA3BCBF#32, 0xBE21D461#32, 0x3EDF9EA7#32],
    ![0x3D548DEF#32, 0xBF2DD3DC#32, 0x3F9415F3#32],
    ![0xBE46237E#32, 0x3F1AE758#32, 0xBEA171DE#32],
    ![0xC02B65CB#32, 0xBF09C202#32, 0x3F82EEF9#32],
    ![0x3F9FB53B#32, 0x3ECD2C4A#32, 0xBF40C279#32],
    ![0xBF98F1E8#32, 0xBF666521#32, 0x3F35D4BF#32],
    ![0xBFA583CC#32, 0x3FB5E612#32, 0x3F5475A4#32],
    ![0x3FC1674E#32, 0xBE400BBB#32, 0x3EA13486#32],
    ![0xBFA8EBCF#32, 0xBE164951#32, 0xBF86D8A8#32],
    ![0x3ED4D959#32, 0xBD7576E3#32, 0xBE86819F#32],
    ![0xBE047C4D#32, 0x3F781D90#32, 0xBFABC13C#32],
    ![0x3F2A523A#32, 0xBF1642C3#32, 0x3F28A21B#32],
    ![0x3E9F1DF5#32, 0xBEAAE7F7#32, 0x3FF73CEB#32],
    ![0x3FB391B6#32, 0xBF61BABA#32, 0xBE9F2CE5#32],
    ![0xBF20774C#32, 0x3D420CD6#32, 0xBE83E3EA#32],
    ![0x3F5AB343#32, 0x3F88A1D6#32, 0xBE5938B4#32],
    ![0xBE2B0729#32, 0x3F0BEA24#32, 0x3EF32D54#32],
    ![0x3FD3EE55#32, 0xBEE6819E#32, 0xBD3F4362#32],
    ![0xBF6DE911#32, 0xBFA373F0#32, 0xBFC03E58#32],
    ![0x3FA951D4#32, 0x3E6DF771#32, 0x3E2BDDEC#32],
    ![0x3DC2ABF1#32, 0xBF5CF4C2#32, 0x3F3ED5DA#32],
    ![0xBF7C0101#32, 0xBF406505#32, 0x3F93D4EC#32],
    ![0xBE75B962#32, 0xBF3BA47F#32, 0xBF7D93C7#32],
    ![0xBF41940F#32, 0x3F9DCFAF#32, 0xBF8B8AE9#32],
    ![0x3FC65B00#32, 0x3FFC8D12#32, 0xBD7D4B85#32],
    ![0x3F20560B#32, 0x3F582169#32, 0xBEDEA09E#32],
    ![0xBFDAD8F8#32, 0x3F4FE9CD#32, 0xBF1627FD#32],
    ![0xBFDCCC58#32, 0xBC228F69#32, 0x4000F0DE#32],
    ![0x3FB1BA4A#32, 0x3EC27BA1#32, 0x3FF16B6B#32],
    ![0x3EDF1A1C#32, 0xBED4F424#32, 0x3F1C91BA#32],
    ![0xBE5D2E2C#32, 0xBF3AE57D#32, 0xBECE5112#32],
    ![0x3E34C621#32, 0x40208108#32, 0x400E754E#32],
    ![0x3FB7D3FD#32, 0x3E6ADDFC#32, 0x3F1365D5#32],
    ![0xBFB6A932#32, 0xBE088F16#32, 0x3FCE166E#32],
    ![0x3FDA8395#32, 0xBE2F4D55#32, 0x3F81C002#32],
    ![0xBFA62001#32, 0xBEA37DB4#32, 0x3E8D9784#32],
    ![0xBE411843#32, 0xBF9BA56E#32, 0xBDC4B95B#32],
    ![0x3EDA5447#32, 0x3F124F2A#32, 0x3FCFFADA#32],
    ![0xBE3CC350#32, 0xBF2FDEB8#32, 0x3EB2CD59#32],
    ![0x3E2D7244#32, 0x3F9093A4#32, 0xBF47B80C#32],
    ![0xBF940845#32, 0x3EF9A2EB#32, 0x3C47382B#32],
    ![0xBF524214#32, 0xBF5B5666#32, 0xBCBD43A3#32],
    ![0xBF58B535#32, 0x3D06D450#32, 0x3DD97B0A#32],
    ![0x3D076254#32, 0x3E3434DB#32, 0x3F5FADA2#32],
    ![0x3D80AA43#32, 0xBF9557E7#32, 0x3E198CAC#32],
    ![0x3FE926BC#32, 0xBE3D4860#32, 0xBEBA519C#32],
    ![0x3FBA10D2#32, 0x3D82E20E#32, 0x3F4E690D#32],
    ![0x3F5A255F#32, 0xBFD89C7D#32, 0xBFAF1AB9#32],
    ![0xBEC2B26D#32, 0x3F6D460D#32, 0x3F69E1BF#32],
    ![0xBEF5949D#32, 0x3F83EE38#32, 0xBF6C4957#32],
    ![0x3F1C028E#32, 0x3F1AAC1E#32, 0xBDFD8626#32],
    ![0x3D990886#32, 0xBEF88809#32, 0x3F0A5C4C#32],
    ![0x3F9521C1#32, 0xBF50FB28#32, 0x3F9E4864#32],
    ![0xBFFE1A96#32, 0x40196EEB#32, 0xBCE6AAA4#32],
    ![0x3F31C7AE#32, 0x3FE0A67B#32, 0x3FABD8E5#32],
    ![0xBD23ECDF#32, 0xC02AB244#32, 0x3F3DF4B6#32],
    ![0x3FDCD1CA#32, 0xBF1B1EAF#32, 0xBE470DC3#32],
    ![0x3EEEC371#32, 0x3FB76717#32, 0xBF64A7C6#32],
    ![0x3EB35700#32, 0xBFEBE8AD#32, 0xBE450D9E#32],
    ![0xBEF72140#32, 0xBDF219FB#32, 0x3F83D3D9#32],
    ![0xBEBA08CD#32, 0x3EE5EB02#32, 0xBE38BA13#32],
    ![0xBEF97986#32, 0xBE50C528#32, 0xBF106B47#32],
    ![0xBFB12315#32, 0xBFFDE7E1#32, 0x3F9E07F5#32],
    ![0xBFD57E10#32, 0xBFA0C6DE#32, 0xBF8F7133#32],
    ![0x3F32F68F#32, 0x3E681BCA#32, 0xBD5DA1DC#32],
    ![0x3F4EDD94#32, 0x3EEF2F01#32, 0x3D60FAAE#32],
    ![0xBF9A0AF4#32, 0x3EE91599#32, 0x3F083854#32],
    ![0xBFF29ECE#32, 0x3E9C8A4D#32, 0x3F72ACC4#32],
    ![0xBF2C3278#32, 0x3F79AB5F#32, 0xBF47EFAE#32],
    ![0xBFC58DC2#32, 0x3F6424E2#32, 0xBE94D7A5#32],
    ![0x3D2BA366#32, 0xBF1A97B0#32, 0x3ECC5E7A#32],
    ![0x3F53ABD0#32, 0xBEB49A1B#32, 0xC0067744#32],
    ![0xBE577D59#32, 0xBECFF25A#32, 0x3FA5F00D#32],
    ![0xBF04E26E#32, 0xBECD522D#32, 0x3DFB01DA#32],
    ![0xBF526EAD#32, 0xBF99177B#32, 0xBFA7DC39#32],
    ![0xBF67114C#32, 0x3FBA5A3B#32, 0xBECCF42B#32],
    ![0xBE833C5E#32, 0x3DD431DD#32, 0x3E0CFEAB#32],
    ![0xBF9C793C#32, 0x3FFC3324#32, 0x3E739F18#32],
    ![0x3E0C3ACE#32, 0xBF163533#32, 0x3F3AE89F#32],
    ![0xBFC1B351#32, 0xBFA812D0#32, 0x3F96D74E#32],
    ![0x3C5758EC#32, 0xBF8E7740#32, 0xBF1A8B5F#32],
    ![0xBFA11F18#32, 0x3EF9BA41#32, 0xBEDD72F4#32],
    ![0xBF1D5FE5#32, 0x3FC8BDD7#32, 0x3DBEE066#32],
    ![0xBF86093B#32, 0x3F0F1C50#32, 0xBF2067A4#32],
    ![0xBE583CEE#32, 0x3FB86892#32, 0x3E6BBBA5#32],
    ![0x3F984AEE#32, 0xBEB63D90#32, 0x3EA69CD6#32],
    ![0x3FFDF4F1#32, 0x404B0C9F#32, 0xBE28DBCB#32],
    ![0x3F17CA95#32, 0xBFA910F5#32, 0x3F527C6B#32],
    ![0x3F478593#32, 0x3D6D27EF#32, 0x3FA5D66C#32],
    ![0xBE5E25CC#32, 0x3EB2EC9D#32, 0xBF81DCE2#32],
    ![0xBF1104FD#32, 0x3FCB83B6#32, 0x3EB06C65#32],
    ![0x3F007B4E#32, 0x3F128CEE#32, 0x3F12819A#32],
    ![0xBE3F4697#32, 0x3F3F06A9#32, 0xBE468228#32],
    ![0xBE348502#32, 0x3F3D93DA#32, 0xC00D337F#32],
    ![0xBDF0B732#32, 0x3EE3A8F2#32, 0x3DB6CD67#32],
    ![0xBD8B0660#32, 0xBFC49E48#32, 0xBF7B7CBB#32],
    ![0xBF64268E#32, 0xBF9A8010#32, 0xBF88B946#32],
    ![0xBE8B85B0#32, 0x3F9B8381#32, 0x3D708AD0#32],
    ![0xBEEB0BC5#32, 0xBF07D2C3#32, 0x3EF8F0F3#32],
    ![0xBF3FE620#32, 0x3F7D7560#32, 0xBEE035FC#32],
    ![0xBF1DB0D4#32, 0xBF8B3E29#32, 0x3B7CFFAC#32],
    ![0x3FAFE38B#32, 0x3FE6D60A#32, 0x3D5D893A#32],
    ![0x3E46B2E1#32, 0xBF810565#32, 0x3FECC7F6#32],
    ![0x3F1CB4AE#32, 0x3FF7810B#32, 0xBF88F6E1#32],
    ![0x3F38EB16#32, 0xBF131760#32, 0xBF68A1DD#32],
    ![0xBF192EAB#32, 0xBDFF1F0D#32, 0xBF982BE0#32],
    ![0x3F032FDB#32, 0xBF8F5647#32, 0x3F76A8DA#32],
    ![0x3EFB7A6D#32, 0xC014C175#32, 0xBF1DC73A#32],
    ![0xC0124FF3#32, 0xBEACC834#32, 0x3E33D12D#32],
    ![0xBFFD6635#32, 0x3E525A59#32, 0xBF9291CE#32],
    ![0xBF7D1BE8#32, 0x3EF4B4D9#32, 0xC0260A6D#32],
    ![0x3FC3F023#32, 0x3D105B1D#32, 0x3F8721D5#32],
    ![0x3F5897E3#32, 0xBF1512BD#32, 0x3EBF5F2A#32],
    ![0x3EDD4240#32, 0xBF6C9DF1#32, 0xBF83D283#32],
    ![0xBED268AC#32, 0x3D87BFFC#32, 0xBF84C397#32],
    ![0x3FBE3814#32, 0xBFAB56C8#32, 0xBFBAE0D5#32],
    ![0x3F9AA810#32, 0xBF8891ED#32, 0xBF6F4619#32],
    ![0xBF84D41C#32, 0x3E17C577#32, 0xBFCA6742#32],
    ![0x3F4530A9#32, 0xBF00D959#32, 0xBFFAE7A7#32],
    ![0xBCF9FBD8#32, 0xC0043E13#32, 0x3D1D7651#32],
    ![0xBE9B1F84#32, 0xBF961A25#32, 0x3E8265CC#32],
    ![0x3F9E49B1#32, 0xBF14CB1D#32, 0xBEC74983#32],
    ![0xBF97E2D2#32, 0x3FCC30AE#32, 0x3F390797#32],
    ![0x3EC34A99#32, 0x3FE2144B#32, 0xBFAA9258#32],
    ![0xBF000766#32, 0x3E136174#32, 0xBF01C721#32],
    ![0x3F975B51#32, 0xBE4285D1#32, 0x3E55DD40#32],
    ![0x3EA45D8A#32, 0x3E3E9ADD#32, 0x3F6CCE6B#32],
    ![0x3F593AB0#32, 0xBF233B55#32, 0x3FB00D1C#32],
    ![0x3EE526B4#32, 0x3E99CACA#32, 0xBEF756C4#32],
    ![0xBFA0C29F#32, 0x3F8425CF#32, 0xBF39EEC8#32],
    ![0x3E17911E#32, 0x3FF1CBE2#32, 0xBA9173F7#32],
    ![0x3F63184C#32, 0x3F6A9216#32, 0xBEBEE569#32],
    ![0xBE6C53CC#32, 0x3F47E9C5#32, 0xBFC77CAD#32],
    ![0xBECD7C52#32, 0xBF49F339#32, 0xBF9FDD1C#32],
    ![0x3F6C14AA#32, 0xBF80EE5B#32, 0x3ED90665#32],
    ![0xBF4D2B11#32, 0x3F389AF2#32, 0x3F7A13D5#32],
    ![0xBE3C331D#32, 0x3EBD32DC#32, 0xBF8AB2A7#32],
    ![0x3FC28214#32, 0x3F737522#32, 0x3EB46B5E#32],
    ![0xBF8064F6#32, 0x3CABD1EF#32, 0x3DEC5BF4#32],
    ![0xBF4B7A4D#32, 0x3E618765#32, 0xBF835A7E#32],
    ![0xBE663079#32, 0xBF7118B7#32, 0xBF87B72F#32],
    ![0xBF2ED4B1#32, 0x3FA2073D#32, 0x3D9AE16B#32],
    ![0x3FB85D7B#32, 0x3F3B9885#32, 0xBEF556E3#32],
    ![0xBF8B686A#32, 0x3FF73D4C#32, 0xBDFB710E#32],
    ![0x3E137250#32, 0xBE7F1BF8#32, 0x3F36AEED#32],
    ![0x3F887B6F#32, 0xBFD74D34#32, 0x3E610885#32],
    ![0xBBA474E0#32, 0x3C844ACD#32, 0x3F11C099#32],
    ![0xBE03E4A5#32, 0x3F0378A1#32, 0xBF515673#32],
    ![0x3E4FC3B4#32, 0xBE308FB1#32, 0xBFDB033F#32],
    ![0xBED9FC4B#32, 0x3EDDCB5D#32, 0x3E280E2F#32],
    ![0xBF964E4E#32, 0x3F967904#32, 0xBF30B41F#32],
    ![0x3F8E18FC#32, 0xBF485B14#32, 0x3F70F307#32],
    ![0xBE9176A3#32, 0xBFE507B0#32, 0x3F097B8F#32],
    ![0xBE50CBB8#32, 0xBF7DEA60#32, 0xBEFC772F#32],
    ![0x400F94C6#32, 0xBF7F9B09#32, 0xBE400384#32],
    ![0x3FE970DC#32, 0x3F1EA161#32, 0xBF94BC8D#32],
    ![0xBD0EC220#32, 0xBE4CC4FB#32, 0x3EBF6414#32],
    ![0x3ED8D167#32, 0x3FD24C88#32, 0x3E7FAD22#32],
    ![0x3D71E877#32, 0x3F4DD3F3#32, 0x3EB6B186#32],
    ![0xBF2E5247#32, 0xBE9FFE17#32, 0x3F9056AB#32],
    ![0x3FD42546#32, 0xBEB331E0#32, 0xC0084BCD#32],
    ![0x3D129D41#32, 0x4015B0E3#32, 0xC00447F9#32],
    ![0xBEB9F135#32, 0x3F5F0F3A#32, 0xBECBB61D#32],
    ![0xBD5D87D0#32, 0x3FE00503#32, 0xBEC1D596#32],
    ![0x3EF13374#32, 0xBEB4BBE9#32, 0x3EF930BF#32],
    ![0x3DDC4E68#32, 0xBF6AE7AD#32, 0x3F6AC04B#32],
    ![0xBF523F2B#32, 0x3FA8ACC5#32, 0x3FA0DA0B#32],
    ![0xBED2E5FE#32, 0x3FF46AAF#32, 0x3EB65629#32],
    ![0x3EF861F2#32, 0xBF3A3982#32, 0xBF39A4F5#32],
    ![0x3F875176#32, 0xBEE36368#32, 0xBFB83AE2#32],
    ![0x3DEBC73C#32, 0x3F82C4CE#32, 0xBEF7CAB8#32],
    ![0xBEAD80AA#32, 0xBF2EF7A9#32, 0xBF11ABCB#32],
    ![0xBF581487#32, 0xBF9EB26D#32, 0xBE526B6D#32],
    ![0x3F837442#32, 0x3F088509#32, 0x3EAA6547#32],
    ![0x3E61F800#32, 0x3E843484#32, 0x3E7A9038#32],
    ![0x3E798BCA#32, 0x3D7FC441#32, 0xBF2E1502#32],
    ![0x3FB993AD#32, 0x3F01C695#32, 0xBCB3B7AE#32],
    ![0xBFD0A9BF#32, 0xBF24E592#32, 0xBFAD2A22#32],
    ![0x3FAA8E5B#32, 0x3FCEABD2#32, 0x3FA8C566#32],
    ![0x401BD292#32, 0x3F6D14A9#32, 0xBE6974EA#32],
    ![0xBEB5296E#32, 0x3ED17C22#32, 0x3F67AF8D#32],
    ![0xBEA82CE1#32, 0x3DA73135#32, 0xBD9ADFED#32],
    ![0x3FA62D6D#32, 0xBFD572D0#32, 0x3F4F93E4#32],
    ![0x3F0BC944#32, 0x3E49E38A#32, 0x3ED25B05#32],
    ![0xBF58A039#32, 0x3EE55D38#32, 0x3FB65D3A#32],
    ![0xBF44E605#32, 0x3EB06C9A#32, 0xBFA0BB04#32],
    ![0xBF4C5D0D#32, 0xBE526863#32, 0xBE3DB5A1#32],
    ![0xBFB25069#32, 0xBE3CC6D2#32, 0x3F921C43#32],
    ![0x3F308DCC#32, 0xBFD968E5#32, 0xBD8A656D#32],
    ![0x3FB7908F#32, 0xBF584AB7#32, 0xBFCC1564#32],
    ![0xBF8F39F9#32, 0xBF43ED06#32, 0x3F107644#32],
    ![0xBF50950C#32, 0x3F936277#32, 0xBE7A3957#32],
    ![0xBF9A6B0D#32, 0x3F0AC201#32, 0x3F213FA2#32],
    ![0x3E3F4D7C#32, 0xBF3D8216#32, 0x3D48B985#32],
    ![0xBF8C46D6#32, 0xBF7E4AB1#32, 0xBE99EFB0#32],
    ![0x3E978FF3#32, 0x3F8CF31E#32, 0x3FA4E83B#32],
    ![0x3FB8CEA1#32, 0xBF0B2A78#32, 0x3FA02A04#32],
    ![0x3F9C37C2#32, 0xBEE17956#32, 0x3F0D95AA#32],
    ![0xBFAD1D2D#32, 0xBFADFE7A#32, 0xBF41D4CC#32],
    ![0x3ED71F64#32, 0x3F46A279#32, 0xBD764BB5#32],
    ![0x3F8FFD1F#32, 0xBF9032C0#32, 0xBF70AC0D#32],
    ![0x3F1B9461#32, 0xBEC1D219#32, 0xBD518C79#32],
    ![0xBF258326#32, 0xBECF18B2#32, 0x3F66CEF4#32],
    ![0xBFD5E9C7#32, 0xBFC7A505#32, 0x3FA25A80#32],
    ![0x3F08DDFE#32, 0xBE0F9A69#32, 0x3EA023FE#32],
    ![0x4001E10D#32, 0xBF604157#32, 0xC0274EC8#32],
    ![0xBF10B507#32, 0xBDE14787#32, 0x40036531#32],
    ![0x3F6045AE#32, 0x3F26F4FB#32, 0xBEAA07AB#32],
    ![0x3E067D73#32, 0x3F3C7EA1#32, 0x3F007487#32],
    ![0xBEBD02A9#32, 0xBF81FDA5#32, 0x3F812C8C#32],
    ![0x3ED05200#32, 0xBF978363#32, 0x3E072E0B#32],
    ![0xC0448F14#32, 0xBD4EA26B#32, 0xBEBCFD80#32],
    ![0xBF476EB2#32, 0x3E2EE44A#32, 0x3FB6D968#32],
    ![0xBD5BCC71#32, 0x3F67E29A#32, 0x3E58C311#32],
    ![0x3F88BCA5#32, 0x3F3BED45#32, 0x3FA87CBC#32],
    ![0xBF5DADBA#32, 0xBDD8CCB5#32, 0xBF13710E#32],
    ![0xBE964C2A#32, 0xBED45B59#32, 0x3F712E07#32],
    ![0xBE8B097D#32, 0xBE75AB1D#32, 0x3F23FCCD#32],
    ![0x3F268130#32, 0x3F883509#32, 0x3FAC0F22#32],
    ![0xBE7C6089#32, 0x3DD82944#32, 0xBF3E9058#32],
    ![0x3F7195A3#32, 0x3E52841C#32, 0x3D705848#32],
    ![0x3DFF57D0#32, 0x3E964F7F#32, 0xBFA22790#32],
    ![0x3F2A7810#32, 0xBFBD7BCE#32, 0xBDDD97AA#32],
    ![0xBFFC4056#32, 0x3E92D2C1#32, 0xBFE8316B#32],
    ![0x3FD8EC1F#32, 0xBF96B076#32, 0xBEE929C6#32],
    ![0x3F985524#32, 0x3F40BAA8#32, 0x3EF7A968#32],
    ![0xBFA056C5#32, 0xBFA24DB0#32, 0xBFD18CD6#32],
    ![0x3F000B67#32, 0x3F4BC3A4#32, 0xBFD3F03C#32],
    ![0x3F8F9522#32, 0xBFBD6696#32, 0x3FA3DEB7#32],
    ![0x3EA9C08E#32, 0xBDF2DA75#32, 0x3F50107B#32],
    ![0xBF0CA355#32, 0xBDE8FF2B#32, 0x3F8B2D2C#32],
    ![0xC00F8FB6#32, 0x3E88F9C0#32, 0x3F88E0F9#32],
    ![0xBE32D66B#32, 0x3F270512#32, 0xBDE8E641#32],
    ![0xBFE210F6#32, 0xBF50706E#32, 0xBDB74DAD#32],
    ![0xBF820CBD#32, 0xBF2149AD#32, 0x3FB47CDD#32],
    ![0x3FC6ECD2#32, 0x3D3370D2#32, 0x3EA0402B#32],
    ![0xBFA2BC1D#32, 0xBF39BB6E#32, 0xBF757CAB#32],
    ![0xBF0011BD#32, 0xBF5043A0#32, 0x3FA6A2F7#32],
    ![0x3F881D9F#32, 0x3F23F0F3#32, 0xBF3BCE6A#32],
    ![0xBE4E01F5#32, 0x3EB4E673#32, 0x3F590A49#32],
    ![0xBF2FD461#32, 0x3F9BBE34#32, 0xBFC5AE74#32],
    ![0xBEC6C345#32, 0xBF85C941#32, 0x3E6326A2#32],
    ![0xBFAFB93D#32, 0xBEAE0781#32, 0xBF796149#32],
    ![0x3F452FDF#32, 0x3F8D5B8F#32, 0x3FBF978E#32],
    ![0xBFA8D719#32, 0x3FD7E07D#32, 0xBF7A1E1C#32],
    ![0x3F173A11#32, 0x3DA2DC81#32, 0x3DC9CFD3#32],
    ![0xBEC087D5#32, 0x405D30A0#32, 0x3F88506A#32],
    ![0x3FED1709#32, 0xBF18D08D#32, 0xBEEC4224#32],
    ![0xBE75EC05#32, 0x3EBD031A#32, 0x3F1ABF59#32],
    ![0x3E02DC7F#32, 0xBE99789F#32, 0xBFAB6B0E#32],
    ![0x3F959473#32, 0xBEB00F8A#32, 0x3F302985#32],
    ![0xBFC5646F#32, 0x3D3E698A#32, 0xBFBCE49D#32],
    ![0x3EE4E0CB#32, 0xBEE72D17#32, 0xBFC6DE01#32],
    ![0x3FB51CDD#32, 0x3E74704F#32, 0xBE512BEE#32],
    ![0xBFDAC578#32, 0x3DEC9327#32, 0xBDC79594#32],
    ![0xBF90AED4#32, 0xBFB5960D#32, 0x3F30039C#32],
    ![0x3F9469BF#32, 0x40229178#32, 0x3F8F309B#32],
    ![0x3F8F0634#32, 0xC027E77D#32, 0xBF50A2C0#32],
    ![0xBEF7C034#32, 0xBF4B83A0#32, 0x3E96D7A4#32],
    ![0xBF19240F#32, 0x3FEA62C5#32, 0x3FB9517A#32],
    ![0xBFDBE02E#32, 0x3FF9073E#32, 0xBE9FFE81#32],
    ![0xC01BE24B#32, 0x3FD356FB#32, 0xBEE1CAC8#32],
    ![0x3EE417DF#32, 0xBF14673A#32, 0x3F01852E#32],
    ![0xBFD66C79#32, 0xC004385D#32, 0xBC9245D8#32],
    ![0x3D30493D#32, 0x3E9E46DF#32, 0xBF1EB931#32],
    ![0xBF81816D#32, 0x3FA3F53D#32, 0xBE54956B#32],
    ![0xBF8E8F70#32, 0x3F5F8B38#32, 0xBE7664CC#32],
    ![0x3FFE2B7F#32, 0x3F0A67AD#32, 0xBE4ED73D#32],
    ![0x3F0764D7#32, 0xBF044BF6#32, 0x3E82512B#32],
    ![0xBFC7A89E#32, 0xBF3CC1ED#32, 0xBFA1710B#32],
    ![0x4014536C#32, 0x3F7B66CB#32, 0xBEA835A4#32],
    ![0x3F371D34#32, 0xBFC7A5D8#32, 0x3FCA2CC5#32],
    ![0xBF9C2CC7#32, 0xBDCCC5A7#32, 0x3EFD3AF1#32],
    ![0xBF10604E#32, 0xBE94CA15#32, 0x3EC3DD4B#32],
    ![0x3F858CEE#32, 0x4033EB40#32, 0x3F0869BF#32],
    ![0x3ECE379A#32, 0x3F58D7E3#32, 0xBE3088B2#32],
    ![0xBDCEFFA7#32, 0x3D38C989#32, 0x3EB71D86#32],
    ![0xBEE0C714#32, 0x3F8447DD#32, 0xBF741B08#32],
    ![0x3EC1244D#32, 0xBF3EB6B8#32, 0xBF5291B7#32],
    ![0x3F57F2BF#32, 0xBF41013C#32, 0x3F750DFE#32],
    ![0x401E20AB#32, 0x3FAB8B53#32, 0xBF1D2827#32],
    ![0xBE90C405#32, 0x3E02CD05#32, 0xBF54DC59#32],
    ![0xBE993A48#32, 0x3F61DCAB#32, 0xBEC2C237#32],
    ![0xBF09226E#32, 0xBF2691EC#32, 0xBE0AAE31#32],
    ![0xBEF5D970#32, 0xBF3F6BE7#32, 0x3F6C7773#32],
    ![0xBF159041#32, 0xBF270A81#32, 0x3EB8939C#32],
    ![0xBE5444BC#32, 0xBCBEB2F3#32, 0xBE9979E5#32],
    ![0xBC2E19A1#32, 0xBF847AB9#32, 0x3DF73BF3#32],
    ![0x3F2658FC#32, 0xBF50782D#32, 0x3FC1E285#32],
    ![0x3F2ADBEA#32, 0x3F7C5CAD#32, 0xBDFA466A#32],
    ![0x3EC327E5#32, 0x3F84B2A2#32, 0x3EFBC1D6#32],
    ![0x3F2E01E0#32, 0xC006C7CA#32, 0x3E1C2C55#32],
    ![0xBE8B05E9#32, 0xBF2BDA76#32, 0x3F2AA6E2#32],
    ![0xBF56FA5D#32, 0xBDDD3256#32, 0x3EE9A7FC#32],
    ![0xBEAF091B#32, 0x3D98B401#32, 0xBF8D94B4#32],
    ![0xBF41AF1F#32, 0xBFB73744#32, 0x3F4C47A2#32],
    ![0xBFA32D3A#32, 0x3F546532#32, 0xBF082A1A#32],
    ![0x3F66A8B5#32, 0xBCF7D422#32, 0xBFCD8EE6#32],
    ![0x40030425#32, 0xBF584447#32, 0xBFB54A6F#32],
    ![0xBF907C09#32, 0x3F654519#32, 0xBF81A55E#32],
    ![0xBFB91538#32, 0xBED27AF5#32, 0xBF93703B#32],
    ![0xBFDF0234#32, 0x3EFE0557#32, 0xBF2425AC#32],
    ![0x3D3E6344#32, 0x3B887A1C#32, 0x3E0F5C59#32],
    ![0x3EF0EBE8#32, 0x3F0E6B49#32, 0x3F06AAF1#32],
    ![0xBF7B3C4A#32, 0x3FB0D675#32, 0xC0073FC5#32],
    ![0x3F3F8649#32, 0xBFAA5F18#32, 0x3F248EA7#32],
    ![0x3EEDCD5D#32, 0xBEF6865B#32, 0xBD1D5950#32],
    ![0xBE45BF17#32, 0xBFD2115C#32, 0x3F80DCB6#32],
    ![0xC0129BC3#32, 0x3F9004B3#32, 0x3F313B84#32],
    ![0x3F07322C#32, 0x4004A170#32, 0xBD32806D#32],
    ![0x3EE19B52#32, 0xBF553C5F#32, 0xBEE682C9#32],
    ![0x3EFBA6C9#32, 0xBFAAC2B0#32, 0xBFD13CF8#32],
    ![0x3F4897EC#32, 0xBEFDEEAF#32, 0x3F24000D#32],
    ![0xBFB34BD7#32, 0x3EA335DA#32, 0xBF083309#32],
    ![0xBE82B890#32, 0xBF109313#32, 0xBF8E3A9C#32],
    ![0xBF19E042#32, 0x3FE3974E#32, 0x3F92929B#32],
    ![0xBF988E07#32, 0xBF5218AF#32, 0xC016C5A0#32],
    ![0xBFD35479#32, 0xBF405E3F#32, 0x3D67A9EB#32],
    ![0xBF2DE9CF#32, 0x3DDB8C70#32, 0x3FDA29E8#32],
    ![0xBE4E5673#32, 0xC00CD343#32, 0x3F1FC67E#32],
    ![0x3F67453E#32, 0x3E69E853#32, 0xBFA9B85C#32],
    ![0x3ED5FA5B#32, 0xBF044CB4#32, 0x3F36CE5A#32],
    ![0xBEB9A24F#32, 0x3E0B4054#32, 0xBE31BAE7#32],
    ![0xBF51D378#32, 0x3ECCB37C#32, 0x3F377C4D#32],
    ![0x3F01FD93#32, 0xBF9632D9#32, 0x3D18E0B0#32],
    ![0xBE4C0466#32, 0xBF092DC7#32, 0xBF0066AE#32],
    ![0xBFD58192#32, 0xBF9AD3DA#32, 0x3FB9F7FF#32],
    ![0x3EC8DB4D#32, 0xBEC79720#32, 0x3F4C4F24#32],
    ![0x3EA6B4AA#32, 0xBF994FB2#32, 0xBE398639#32],
    ![0xBD86F7E1#32, 0xBFBC9D82#32, 0xBF7E3F3D#32],
    ![0x3FD4CFF2#32, 0xBE21A479#32, 0xBFA2339F#32],
    ![0x3F66293F#32, 0x3F13151F#32, 0x402F8275#32],
    ![0xBEFD764A#32, 0xBF2DB7D9#32, 0xBFB6EAA5#32],
    ![0xBFB2E19A#32, 0xBF86DFC5#32, 0x3F9F0FD6#32],
    ![0xBF4DC6B5#32, 0xBE827374#32, 0x3EB82246#32],
    ![0x3EEF4BCB#32, 0xBF68E4CC#32, 0x3F9C3E9A#32],
    ![0x3F433D35#32, 0xBFC78CE0#32, 0xBEB3B95B#32],
    ![0x3E6CFEE0#32, 0xBF59E68A#32, 0xBFA32DFF#32],
    ![0x3FEF20AE#32, 0xBD445ECD#32, 0xBFB2CE80#32],
    ![0x3FE8D1E7#32, 0x3E5E6039#32, 0xBE52CD84#32],
    ![0x3F0BE770#32, 0x3F4F4A8E#32, 0x3F32CCB1#32],
    ![0xBFB34CC0#32, 0xBFD86927#32, 0x3F922897#32],
    ![0x3F185A72#32, 0xBED8F666#32, 0x3FE4607D#32],
    ![0xBF2037CC#32, 0xBE90DF16#32, 0x3F384830#32],
    ![0xBD5E9E26#32, 0x3F3726D0#32, 0xBE3221A5#32],
    ![0xC02CAAF3#32, 0xBF91ACF8#32, 0x3FB48686#32],
    ![0x3F118B42#32, 0xBF8F9588#32, 0xC00A3C44#32],
    ![0xBF54414E#32, 0xBFBBAB15#32, 0xBF934283#32],
    ![0x3ECF624D#32, 0x3F746FDB#32, 0x3F31E6B0#32],
    ![0x3F41CFF7#32, 0xBF492AA3#32, 0x3EBC046F#32],
    ![0xBE60870C#32, 0x3EE52260#32, 0x3E8AC354#32],
    ![0x3F5CEE69#32, 0xBF4C20CE#32, 0x3FDB5645#32],
    ![0x3F8AC9C3#32, 0xBDAD0114#32, 0xBF91DFF7#32],
    ![0x3F0BE3C6#32, 0x3FDA6FF4#32, 0x3F6DB68E#32],
    ![0x3FA585B5#32, 0xBF296452#32, 0xC042D228#32],
    ![0x3DD809E9#32, 0xBFF2D975#32, 0xBB418DD8#32],
    ![0x3FDEC018#32, 0x3F051635#32, 0x3EDC8C3E#32],
    ![0xBFBEF0E6#32, 0x3EA3EF2A#32, 0xBF9E69E8#32],
    ![0xBF2297C7#32, 0x3FA4502A#32, 0xBE72A23A#32],
    ![0xBEE92485#32, 0x3E92E2B7#32, 0x3F86C682#32],
    ![0x3EB297B1#32, 0xBEC6E9EA#32, 0xBFF0D46A#32],
    ![0xBF2D7DA9#32, 0xBE71D724#32, 0xBF80D8DA#32],
    ![0x3D64C369#32, 0xBE833F0A#32, 0x3F971F0A#32],
    ![0xBF41F166#32, 0xBDC75EF5#32, 0x3F0632A3#32],
    ![0xBF510FF5#32, 0x3FBF37C6#32, 0x3F859613#32],
    ![0xBE5BF463#32, 0x3DC8F645#32, 0x3DA51870#32],
    ![0x3F0D6137#32, 0xBFB39FBE#32, 0x3DCE7850#32],
    ![0x3FED60CA#32, 0x3F568997#32, 0x3E4428FA#32],
    ![0xBF30AF92#32, 0xBF09FE29#32, 0xBF15DB72#32],
    ![0xBF208018#32, 0xBF5B7C08#32, 0x3FF033C6#32],
    ![0x3FDD3701#32, 0xBEBDD1F8#32, 0xBEB78650#32],
    ![0xBF5AA6DC#32, 0x3E738A25#32, 0x3D343F81#32],
    ![0xBEA86177#32, 0x3E958E54#32, 0xBF4C0836#32],
    ![0x3C8C9958#32, 0x406DD406#32, 0xBE9561A3#32],
    ![0x4026F223#32, 0x3FD52487#32, 0x3F9053C4#32],
    ![0xBF34CADC#32, 0x3E66BFC3#32, 0x3F355D04#32],
    ![0x3BD914F9#32, 0xBFAB5B5B#32, 0xBFA50173#32],
    ![0xBF0C2A7D#32, 0xBD900393#32, 0x3F7D740A#32],
    ![0x3F2614D3#32, 0x3F9905B3#32, 0xBF8181A2#32],
    ![0x3EFE9116#32, 0x3F7BA2C5#32, 0x3FED984C#32],
    ![0xBE558230#32, 0x3F6BDD69#32, 0x3F4A16E7#32],
    ![0xC0103917#32, 0xBF98A3ED#32, 0xBEA8AA86#32],
    ![0xBF650A5C#32, 0x3FF74575#32, 0xBE77C16D#32],
    ![0x3C7EE278#32, 0x3F34BD68#32, 0x3F5E01C7#32],
    ![0xBED4FA35#32, 0xBE8C4CF2#32, 0x3F80DEB6#32],
    ![0x3ECEC71E#32, 0xBF1B1800#32, 0x3F90F97A#32],
    ![0xC0012E72#32, 0xBE8492B1#32, 0x3E832A7F#32],
    ![0xBF1A61DC#32, 0xBF3EC87A#32, 0x3D69E386#32],
    ![0xBFEA28AE#32, 0x3F802EAB#32, 0xBD4D1630#32],
    ![0xC020226D#32, 0xBEE53F45#32, 0xBF9928D4#32],
    ![0x3F5B6760#32, 0xBDD539C7#32, 0x3FA97AC0#32],
    ![0xBD8015B1#32, 0xBF1B1302#32, 0xBF6A7B11#32],
    ![0xBFEE5DF2#32, 0xBF34EA87#32, 0xBFC249EF#32],
    ![0xBFDCD6E2#32, 0x3F443467#32, 0xBF97C292#32],
    ![0x40436A1C#32, 0x3F8019B2#32, 0x3F6022E8#32],
    ![0x3FB1E8C1#32, 0x3F8D1D03#32, 0xBDB5A40E#32],
    ![0xBE7B1F74#32, 0x3F360996#32, 0x3E9DF419#32],
    ![0xBE70BA73#32, 0x3FAF4EA7#32, 0xC01D942B#32],
    ![0xBF68D420#32, 0xBF1EB354#32, 0x3F442D3B#32],
    ![0x3E819988#32, 0x3F2EAA4F#32, 0xBEE880D3#32],
    ![0xBB0D7B8D#32, 0x3FB59DF9#32, 0xBF081D4A#32],
    ![0x3F8326E7#32, 0x3D99A112#32, 0xBD76F02F#32],
    ![0xBE1ECC9B#32, 0x3FF8CA58#32, 0x3F447B54#32],
    ![0x3FE4792E#32, 0x3D871643#32, 0xBF7F9A39#32],
    ![0xBE6CFF00#32, 0x3F061FB9#32, 0xBF8EDD0F#32],
    ![0xBE105112#32, 0x3EEBDB52#32, 0x3F2158ED#32],
    ![0x3F59FB49#32, 0x3F4B376A#32, 0x3F496274#32],
    ![0xBFEBFAA9#32, 0xBF085E74#32, 0x3C9F7E12#32],
    ![0xBF1F476D#32, 0xBE0EBD29#32, 0x3FC35F76#32],
    ![0xBFB888F9#32, 0x3EEB0566#32, 0xBF751BFF#32],
    ![0x3E10591B#32, 0x4009AE4B#32, 0x3E9782B1#32],
    ![0x3FA63CFC#32, 0x3F15FFDC#32, 0xBF471B36#32],
    ![0x3C97133B#32, 0x3F45C800#32, 0xBE516C00#32],
    ![0x3E2FC960#32, 0x3FAC5D1F#32, 0x3F0AC904#32],
    ![0x3EA1C41A#32, 0xBD5F67EB#32, 0x3E7E244B#32],
    ![0x3F97E093#32, 0xBE61AAFD#32, 0xBE22F9E0#32],
    ![0x3EB45FC7#32, 0x3FC539B9#32, 0x3D06A408#32],
    ![0xBF15D802#32, 0xBEDAD4EC#32, 0xBCFDE0B4#32],
    ![0x3F4EC8FB#32, 0x3EE00248#32, 0x3F02E5BD#32],
    ![0xBEAE58F7#32, 0xBF5C869F#32, 0x40214F94#32],
    ![0x3FA14484#32, 0xBF6039E6#32, 0xBE830C7D#32],
    ![0xBF92FBDA#32, 0xC010E007#32, 0xBEBB1C35#32],
    ![0xBF048132#32, 0x3FDA7FB5#32, 0xBEFD8689#32],
    ![0xBD4793BD#32, 0x3F369303#32, 0x4015E941#32],
    ![0xBE64C861#32, 0x3FE27FFD#32, 0xBF79CDDD#32],
    ![0x3F3C5760#32, 0x3F18A8D4#32, 0x3FCF11AE#32],
    ![0x3EDEE235#32, 0x40129FEA#32, 0xBDC58F69#32],
    ![0xBEC1353B#32, 0x3FF0A962#32, 0x3EB6DF86#32],
    ![0xBE9ECBB2#32, 0x3EC25467#32, 0xBEBF5486#32],
    ![0x3E5FB370#32, 0x3F8C7D77#32, 0x3F8FAEE0#32],
    ![0x3EF1B9BE#32, 0x3FB68C03#32, 0xBDBC622A#32],
    ![0xBDB57BF3#32, 0xBEF58FEA#32, 0xBFBDB66F#32],
    ![0x3FD6C0FE#32, 0xBF67EB8F#32, 0x3F07531E#32],
    ![0xBEA9C58A#32, 0xBE698FC4#32, 0xC041EF66#32],
    ![0x3EAB40F2#32, 0x3F09AE4F#32, 0x3F289ADA#32],
    ![0xBDBAEF81#32, 0x3EF33CC1#32, 0xBF62890B#32],
    ![0xBF1F229E#32, 0x3ECCE1BC#32, 0xBEBCEB98#32],
    ![0x3EFD2D89#32, 0x3F842398#32, 0x3EDBE6EE#32],
    ![0xBEEF2F8D#32, 0x3E8AF2AB#32, 0xBE33B232#32],
    ![0xBF44B4FD#32, 0x3FF13A7D#32, 0xBFF1F4D6#32],
    ![0x3EE85CBA#32, 0xBFBF9AEE#32, 0x3E8E529F#32],
    ![0xBF0F469F#32, 0xBEA84B79#32, 0xBD3B72F3#32],
    ![0xBF669E1D#32, 0xBF75C1AE#32, 0xBF108E2F#32],
    ![0x3F86F0FE#32, 0x3FA30F34#32, 0x4016283A#32],
    ![0x3F96DD7F#32, 0x3FAD7527#32, 0x3F84CF75#32],
    ![0x3E8248F5#32, 0xBE3F7E28#32, 0xBF675030#32],
    ![0xBE75258A#32, 0x3FD151AB#32, 0xBE0ED4A7#32],
    ![0xBFA0C794#32, 0xBE8EEB29#32, 0xBD529F50#32],
    ![0xBEFEBEF0#32, 0x3F4A8841#32, 0xBF0E5030#32],
    ![0x3E8BC752#32, 0x3E5DDB56#32, 0x3FBDC8B3#32],
    ![0xBFE8932A#32, 0x3FA85CB6#32, 0x3DD11CA8#32],
    ![0xBF1157D5#32, 0x3F172E45#32, 0x3F0ECA44#32],
    ![0x3F303385#32, 0x3DED2119#32, 0x3DD32B78#32],
    ![0xBF35A13D#32, 0x3EFC6AAE#32, 0x3FE93197#32],
    ![0xBF3A3758#32, 0x3F6C4A6F#32, 0xBD4F0810#32],
    ![0xBF327299#32, 0x3F5C6783#32, 0x3FBE4F5D#32],
    ![0x3ED59B91#32, 0x3EB65CCC#32, 0x3F5209F9#32],
    ![0x3F24C2D2#32, 0x3FE59AAE#32, 0xBFA1566B#32],
    ![0xBC96C675#32, 0xBE0C890C#32, 0x3FC36730#32],
    ![0x3F9F454C#32, 0xBB47B403#32, 0xBFAF42B0#32],
    ![0x401C977E#32, 0x3F388138#32, 0xBFD0D288#32],
    ![0x3EFC3AB4#32, 0xBFEFFF89#32, 0xBF684BB5#32],
    ![0xBF4B0E85#32, 0x3EC2DD7B#32, 0x3E3952AA#32],
    ![0xBF5B4432#32, 0x3F821B17#32, 0x3DF261AF#32],
    ![0x3B09EDA5#32, 0xBF9C1748#32, 0xBF7E28B3#32],
    ![0x3FC36056#32, 0xBF6F705B#32, 0xBF8A2BA0#32],
    ![0x3DCAE979#32, 0x3ECFB921#32, 0xBDC9DE3B#32],
    ![0x400E408E#32, 0xBBEC08AD#32, 0xBF869423#32],
    ![0x3D6CD290#32, 0xBF3D7D45#32, 0x400385D9#32],
    ![0xBF72B1F7#32, 0x3F54D3A6#32, 0xBE15B60C#32],
    ![0xC057ECC6#32, 0xBD4834AB#32, 0x3EBB14C7#32],
    ![0x3F63F9FC#32, 0xBFCE3DF7#32, 0xBF36CD82#32],
    ![0x3F2522AA#32, 0xBFCEFEA6#32, 0xBF90F7FB#32],
    ![0x3F427287#32, 0x3FA48C5D#32, 0x3EE55598#32],
    ![0xBD7250D6#32, 0x3F192CF2#32, 0x3F7B6DFF#32],
    ![0xBF805FC0#32, 0xBFEE34E6#32, 0x3F40E46C#32],
    ![0xBFB269F3#32, 0x3F552F0F#32, 0x3F07E294#32],
    ![0x3EE0D46D#32, 0x3EEE4F88#32, 0xBEAA95D1#32],
    ![0x3EE0F921#32, 0xBF7BBC30#32, 0x3EBCF7D2#32],
    ![0x3F764FB9#32, 0x3FC663FA#32, 0xBFCE80D6#32],
    ![0xBF4A390B#32, 0x3DEC94E3#32, 0xBF12C99C#32],
    ![0x3F0AA995#32, 0x3FCE9E86#32, 0x3FE75379#32],
    ![0xBD57CECC#32, 0xBF07F72E#32, 0x3F2C6EC3#32],
    ![0xBD8EDA98#32, 0x3E790F5D#32, 0x3F79D663#32],
    ![0x3FE8B534#32, 0x3F0713A6#32, 0xBFDAB36C#32],
    ![0x3EAC429E#32, 0x3F6254FC#32, 0x3F987535#32],
    ![0xBF28C521#32, 0xBEDCA1A1#32, 0xBF926CDD#32],
    ![0x3E957D93#32, 0xBF084AD7#32, 0x3F022B24#32],
    ![0x3FAECE9A#32, 0xC03591CF#32, 0xBE040414#32],
    ![0xBF82A5E0#32, 0xBE9A2DA6#32, 0xBFCB7A72#32],
    ![0x3E62882A#32, 0x3F0354C6#32, 0x3F378ADD#32],
    ![0xBDC2CADE#32, 0x3ECC6847#32, 0x3F20907B#32],
    ![0x3FB0C86D#32, 0xBFD3A2F4#32, 0xBD75CFB8#32],
    ![0xBF7464CF#32, 0xBFCF1E05#32, 0x3E503569#32],
    ![0xBEDB318A#32, 0xBE682715#32, 0x3FC9E0E6#32],
    ![0xBFEFF215#32, 0xC016FA1C#32, 0x3FB1F672#32],
    ![0x3FEA4DCC#32, 0xBE57AC85#32, 0x3EB4F896#32],
    ![0x3F2CF7C8#32, 0xBEB75D24#32, 0xBF19628F#32],
    ![0x3CC90E28#32, 0x3F9BD8B8#32, 0xBEF1C8A7#32],
    ![0x3F232CF9#32, 0xBFA04249#32, 0xBF0A465B#32],
    ![0xBE67186D#32, 0x3E5227CA#32, 0x3F41F404#32],
    ![0x3EB3345A#32, 0xBF0C5F3D#32, 0x3FB154FF#32],
    ![0xBF0DA370#32, 0xBFF97B36#32, 0xBCE60B69#32],
    ![0x3F1D336A#32, 0xBF743109#32, 0x3F0653C2#32],
    ![0x3F9583BF#32, 0xBE046F44#32, 0x400A442B#32],
    ![0x400B4B60#32, 0xBFBC93D3#32, 0x3F61A8A9#32],
    ![0xBF9FAF7B#32, 0x3F8B2012#32, 0x3E472B93#32],
    ![0x3E3AC442#32, 0xBED98A60#32, 0x3FA78AC3#32],
    ![0x3F534315#32, 0xBEBA63DC#32, 0xB937883C#32],
    ![0x3EC5168A#32, 0x3F955D71#32, 0xBF9377B4#32],
    ![0x3CA77960#32, 0x402B67A4#32, 0xBF358242#32],
    ![0xBEC9976E#32, 0xBEC661D1#32, 0x3E3538F0#32],
    ![0xBE0DEB7C#32, 0x3E2B12A5#32, 0xBF7717B2#32],
    ![0x3DEC7673#32, 0xBFE4865B#32, 0xBECC609F#32],
    ![0x3E1D3D9A#32, 0x4018B5F9#32, 0x3E151616#32],
    ![0xBF079BEE#32, 0x40048DB8#32, 0xBF08458A#32],
    ![0x3E9AB9BB#32, 0xC01BC0FE#32, 0xBF848EA2#32],
    ![0xBE0CD55A#32, 0xBFFF4FAB#32, 0x3E52EC71#32],
    ![0xBE1BFB3C#32, 0xBFA6F5FC#32, 0xBF61183E#32],
    ![0x3F8870DB#32, 0x3F81900E#32, 0x3E9D094C#32],
    ![0xBFA844E6#32, 0x3F4530A9#32, 0x3E68C052#32],
    ![0x3FDC5DAD#32, 0xBEA25999#32, 0xBE66359C#32],
    ![0x3F47BE24#32, 0x3F879D56#32, 0xC002023A#32],
    ![0xBE9FDF35#32, 0x3DF2E00F#32, 0x3F830D8E#32],
    ![0xBF376CB1#32, 0x3F78EB68#32, 0x3E0CD2DD#32],
    ![0xBEB919DC#32, 0x3F8E4ED1#32, 0x3FA7E652#32],
    ![0x3E13B1B6#32, 0x3F22D39C#32, 0xBF6A64F0#32],
    ![0x3E454413#32, 0xBF22EC0D#32, 0xBFCB6FC7#32],
    ![0xBE3D0E73#32, 0x3EE1A730#32, 0xBC956A9A#32],
    ![0xBF648FF7#32, 0xBF07DE4E#32, 0x3F97B260#32],
    ![0x3F69ABD2#32, 0xBF8519DB#32, 0x3F915C4C#32],
    ![0xBEA036DA#32, 0xBFA74D46#32, 0xBF146C1D#32],
    ![0xBF5B9755#32, 0xBF449C30#32, 0x3EC61BF8#32],
    ![0xBF6CCBB5#32, 0x3EFA52AB#32, 0xBF0FDE28#32],
    ![0xBFE749FA#32, 0x3D9EEDA8#32, 0x3ED894D4#32],
    ![0xC01B461A#32, 0xBF178440#32, 0xBF12FE33#32],
    ![0xBEBDC6CF#32, 0xBFA2340A#32, 0x3F043892#32],
    ![0xBF6D31E9#32, 0x3F566C23#32, 0xBFEE4EA6#32],
    ![0xBF3C0B77#32, 0xBF8E1A6D#32, 0x3FB638AE#32],
    ![0x3F299070#32, 0xBE2ACBE9#32, 0x3E2102B8#32],
    ![0xBE438EE3#32, 0x3F6359A2#32, 0xBF0C6924#32],
    ![0x3F58D5A5#32, 0x3D7AD7D4#32, 0x3FC5EB07#32],
    ![0xBE9BD034#32, 0x3EA00A2A#32, 0xBFB841A4#32],
    ![0x3F0832C7#32, 0x3FA9A059#32, 0x3E312B7E#32],
    ![0x3EC6D3D8#32, 0xBE88E570#32, 0xBE4A76A1#32],
    ![0xBF93FE09#32, 0xBD1E0D4C#32, 0x3F2AB2BE#32],
    ![0x3F6AF85D#32, 0xBF6C862A#32, 0x3F673FB5#32],
    ![0xBF335977#32, 0xBFC3D91A#32, 0x3FF4FEA0#32],
    ![0x3FDAB33C#32, 0xBE892B61#32, 0xBF5A1396#32],
    ![0x3F3B572D#32, 0x3F83724D#32, 0xBDEC82FD#32],
    ![0xBF0125C3#32, 0xC04D293F#32, 0xBD879EEF#32],
    ![0xBEB4B23D#32, 0x3F0B62D6#32, 0xBEA177F7#32],
    ![0xBEA02C09#32, 0xBF963D9C#32, 0x3FC5F981#32],
    ![0xBDAF98EB#32, 0x3EE67993#32, 0x3F0B3C4D#32],
    ![0xC00B1CD8#32, 0x3E8AA31C#32, 0x3F19E38E#32],
    ![0x3F0954E2#32, 0x3EEC959A#32, 0xBE827BDF#32],
    ![0x3F2E77FB#32, 0xBF574E70#32, 0xBF4DF369#32],
    ![0xBE934B63#32, 0xC03CD7E7#32, 0xBF464DE1#32],
    ![0x3E979908#32, 0x3FF42F04#32, 0xBE7907FD#32],
    ![0xBE2A9594#32, 0xBFF8DEF7#32, 0xBF459919#32],
    ![0x3C9A3B22#32, 0x3E9AA570#32, 0xBF5482F9#32],
    ![0xBE69AEA4#32, 0x3ED38B0C#32, 0x3E2E0416#32],
    ![0x3BE3DA55#32, 0xBF3F87EF#32, 0xBFFEE502#32],
    ![0xBF80BF12#32, 0xC0027B54#32, 0x3EF49E81#32],
    ![0xBF12AB42#32, 0x3F4C1A24#32, 0xBFE51A2E#32],
    ![0x3F337E1A#32, 0xBEBD0F52#32, 0xBFCAE76F#32],
    ![0xBE58C580#32, 0xBE910877#32, 0xBFC40C2B#32],
    ![0x3F503592#32, 0xBE5AE7F5#32, 0x3FE39C58#32],
    ![0x3E92DA1B#32, 0xBFB5B49B#32, 0xBE8CDD3E#32],
    ![0xBE735B5F#32, 0x3ECCCA1A#32, 0x3F46BFC5#32],
    ![0xBDA0EA68#32, 0x3E516E5C#32, 0xBF48AE6F#32],
    ![0xBF093B51#32, 0xBF833515#32, 0xBEB9BECC#32],
    ![0xBF150A7B#32, 0xBF62E2F4#32, 0x3E6878C8#32],
    ![0xBF7BE004#32, 0xBF1C37DD#32, 0xBEA39A6E#32],
    ![0x3E82AC0A#32, 0xBF86C114#32, 0xBFC6CC55#32],
    ![0x3FA44B19#32, 0x3F2F3B19#32, 0xBF684B8D#32],
    ![0xBF0DEDDC#32, 0xBF5BCBE9#32, 0xBF950A8E#32],
    ![0xBEF69971#32, 0xBF4C33F0#32, 0x3E36D063#32],
    ![0x3EA24590#32, 0xBD891DE2#32, 0xBCAA78E1#32],
    ![0xBF9084C2#32, 0xBEE0BE05#32, 0x3E4D112D#32],
    ![0x3E5F72C8#32, 0x40344234#32, 0x3F7E422C#32],
    ![0x3FCA51C1#32, 0x3EF82549#32, 0x3F70D8CD#32],
    ![0xBF576BB4#32, 0x3E9489E2#32, 0x3F65DA95#32],
    ![0x3E82C750#32, 0xBE29EB74#32, 0x3EE57DD1#32],
    ![0xBF7A819A#32, 0x3FAC1143#32, 0xBF564F7B#32],
    ![0xBFD1F43E#32, 0x3E8F85BF#32, 0x3F0655A0#32],
    ![0x3E7D45EE#32, 0x3F01AC60#32, 0x3F54C1C8#32],
    ![0xBFD77873#32, 0x3F8C3B52#32, 0xC00BE8B7#32],
    ![0x3ED7CF02#32, 0xBD071149#32, 0x3F614216#32],
    ![0xBF456E4C#32, 0xBF72D40B#32, 0xBC57751E#32],
    ![0x3F11229E#32, 0x3BAC0F4C#32, 0x3D0C7C65#32],
    ![0x3F094054#32, 0xBF9C67B0#32, 0xBEF14238#32],
    ![0x3F4BB1F5#32, 0xBD4A1866#32, 0xBF9124F1#32],
    ![0x3FF4B912#32, 0xBF67107F#32, 0x3E76A8D0#32],
    ![0xBFA23497#32, 0xBF8ED674#32, 0xBEF00216#32],
    ![0xBF927D1F#32, 0x3F1D8DAA#32, 0xBEE70959#32],
    ![0xBE6365B2#32, 0x3EBBDA94#32, 0x401FDC2E#32],
    ![0xBF1FC1EF#32, 0xBFE3A908#32, 0xBFA8855E#32],
    ![0x3C4EB363#32, 0x3FB13875#32, 0xBF283BFD#32],
    ![0xBF5AE26C#32, 0x3F871D97#32, 0xBE220761#32],
    ![0x3EDE8395#32, 0xBDF5E910#32, 0x3F865B95#32],
    ![0xBDE7C905#32, 0x3FF02A9C#32, 0x3CED7564#32],
    ![0xBE189FA1#32, 0xC00963D0#32, 0x3F6C4A41#32],
    ![0x3E5189F6#32, 0xBE8EBA80#32, 0x3E02C492#32],
    ![0xBFBDE153#32, 0xBF0462F3#32, 0x3F160541#32],
    ![0xBF4B7CEA#32, 0x3F446C3E#32, 0x3FDAEE89#32],
    ![0x3E337D55#32, 0x3F9073AD#32, 0x3FC5FFB6#32],
    ![0x3F2B8E87#32, 0xBF154560#32, 0x3F9039F2#32],
    ![0x3E8DFA35#32, 0x3E1954FB#32, 0xBEB2B8B9#32],
    ![0xBF6DD9B0#32, 0x3EF9611E#32, 0xBDE9AE0B#32],
    ![0xBE59F407#32, 0x3F6F1CFD#32, 0x3E1D1635#32],
    ![0x3EB3A12C#32, 0xBF82E163#32, 0x3FB272A8#32],
    ![0xC01689E5#32, 0xBD50EC79#32, 0xBE3960E1#32],
    ![0x3FB55139#32, 0x3E82AC1E#32, 0xBDCBA8AE#32],
    ![0x3F5843C2#32, 0xBE949A53#32, 0xBC32C69C#32],
    ![0x3E1DCE7F#32, 0x3FBF7830#32, 0xBE9B2C79#32],
    ![0xBF90C774#32, 0xBEBF3DF8#32, 0xBDD851D4#32],
    ![0x3F9FC423#32, 0xBE9FA3CA#32, 0xBF36D6E2#32],
    ![0xBF67F545#32, 0x4008D22C#32, 0xBFDD3188#32],
    ![0x3F46E628#32, 0xBF73C2C8#32, 0xBEFB3EE2#32],
    ![0x3F219845#32, 0xBF5F4B2D#32, 0x3F802D9A#32],
    ![0xBF3A628B#32, 0xBF0955D9#32, 0x3F71CE3E#32],
    ![0xBF784EFD#32, 0xC0058B65#32, 0xBFB480D9#32],
    ![0xBEAC5D0A#32, 0xBFAA8299#32, 0xBEA5B00E#32],
    ![0xBF0E014C#32, 0x3E886FCC#32, 0xBF389343#32],
    ![0xBFB6DE5B#32, 0xBF1E65FE#32, 0xBFD90695#32],
    ![0xBF4A97C7#32, 0x3D003BDB#32, 0x3E09352E#32],
    ![0xBAAE97B3#32, 0xBF1DE16B#32, 0x3FF99399#32],
    ![0x3F421B1E#32, 0xBF3AA914#32, 0x3F3F6CC5#32],
    ![0xBE9F7DAE#32, 0x3D82E7DE#32, 0xBE8E0D70#32],
    ![0xBFBA5ABA#32, 0x3FA9DBD8#32, 0xBFAA3F2F#32],
    ![0xBFAA5941#32, 0x3F456149#32, 0xBEB59410#32],
    ![0x3DC3E95F#32, 0xBF8D685D#32, 0x3C619858#32],
    ![0xBE3395CC#32, 0xBE07704D#32, 0x3FD12CD2#32],
    ![0xBF404A0B#32, 0x3FA46779#32, 0xBF8CC614#32],
    ![0x3F74B20F#32, 0x3F4ABBEE#32, 0x3F087ECE#32],
    ![0x400E61AF#32, 0x3C9DDC02#32, 0x3FB604AE#32],
    ![0x3ED75082#32, 0x3F2C5454#32, 0xBF644E87#32],
    ![0x3F0B721F#32, 0x3C93D6A8#32, 0xBF1C2E75#32],
    ![0xBF82ED94#32, 0xBED036D6#32, 0xBFBD9376#32],
    ![0xBF60838A#32, 0xBD7FE46D#32, 0xBE60C2FE#32],
    ![0x3F34759F#32, 0xBF3C7975#32, 0xBE45FFD0#32],
    ![0xBFD20FF8#32, 0xBE29EE8E#32, 0x3F8CBACC#32],
    ![0xBEF8D78B#32, 0xBFDB1772#32, 0x3ED0B10F#32],
    ![0xBE42B0F9#32, 0x3F7BC21C#32, 0xBE96F13B#32],
    ![0x3FC3959B#32, 0x3F1A93F0#32, 0xBF2F5750#32],
    ![0xBF25F688#32, 0x3E4FBC1A#32, 0x3EC95652#32],
    ![0x3F5B8099#32, 0x3E0D23EB#32, 0xBD22699A#32],
    ![0x3F4B6A20#32, 0x3FA08FEB#32, 0x3F4AA979#32],
    ![0x3ED081FE#32, 0x3EA2BE88#32, 0x3FA6FBF5#32],
    ![0xBCDB3387#32, 0x3DD0015B#32, 0xBDDC5633#32],
    ![0xBF40265E#32, 0x3E93AC20#32, 0x3F743375#32],
    ![0xBE9B9821#32, 0x3E764DB2#32, 0xBE5695C4#32],
    ![0x3F45860A#32, 0xBF278F27#32, 0x3F41ED99#32],
    ![0x3FBE750A#32, 0xBF891F9C#32, 0x3FA37D23#32],
    ![0xBE8224BA#32, 0x3F1172AC#32, 0x3F1AC35E#32],
    ![0x3F5782EF#32, 0xBDCD1A5D#32, 0x3E40E426#32],
    ![0xBF710893#32, 0xC025C248#32, 0x3EF9B741#32],
    ![0xBF472C17#32, 0x3E882EAB#32, 0xBFA9F7E8#32],
    ![0x3FB0A67F#32, 0x3F415A27#32, 0xBFEE2541#32],
    ![0xBF25F24E#32, 0x3C164894#32, 0x3F16CDB9#32],
    ![0x3EE9B434#32, 0x3F04364F#32, 0xBD83F879#32],
    ![0xBF8D6CC7#32, 0x3F3508DC#32, 0xBFACA9FD#32],
    ![0x3F7BD06F#32, 0xBF09C505#32, 0xBF2CDCE1#32],
    ![0x3F672656#32, 0x3F7EDA4B#32, 0xBE0B72BA#32],
    ![0x3F222F1E#32, 0xC00C55EA#32, 0xBF3CB6C7#32],
    ![0x3F940728#32, 0x3E9C9FAF#32, 0x3F094A9E#32],
    ![0xBF0184E6#32, 0x3FA79DFB#32, 0xBEB5E97E#32],
    ![0x3EE4772A#32, 0xBE40E6E7#32, 0xC00C41BB#32],
    ![0xBFBB0C1C#32, 0x3ED62BC4#32, 0x3F9CB27A#32],
    ![0x3D14BE2D#32, 0xBF587888#32, 0x3E0A6B97#32],
    ![0x3F513630#32, 0x3FF502E8#32, 0x3EA31A2A#32],
    ![0xBF618D63#32, 0xBF402EB4#32, 0xBC855077#32],
    ![0xC01E8DC7#32, 0x3F88AD9B#32, 0xBD7E1B07#32],
    ![0x3EE6E64C#32, 0x3F2420B5#32, 0x3DD5450A#32],
    ![0x3ED609BE#32, 0x3D8B6138#32, 0x3FC0EF42#32],
    ![0x3FC465EA#32, 0x3F1438F0#32, 0xBEA6DE86#32],
    ![0xBF6D3F61#32, 0xBE616ECD#32, 0x3F4CD60D#32],
    ![0xBF5E07B2#32, 0x3F03BA29#32, 0x3E5163BA#32],
    ![0xBFA5F5F0#32, 0xBEFF079B#32, 0xBF2B3DBA#32],
    ![0x3EF7973C#32, 0xBEA5E194#32, 0x3EF9960A#32],
    ![0x3FD51973#32, 0x3FA992D5#32, 0xBEF1855E#32],
    ![0xBEFE15AB#32, 0x3F155C70#32, 0x3F1DF203#32],
    ![0x3F865A1F#32, 0xBE8D9DC3#32, 0xBEAA7685#32],
    ![0x3E84C0D8#32, 0xBDA9935D#32, 0x3F6566BE#32],
    ![0xBF08CF87#32, 0xBF2EAE4D#32, 0x3FA0E8C7#32],
    ![0x3ED7C2DA#32, 0x3F6972AA#32, 0x3E46149B#32],
    ![0xBFEA5756#32, 0x3E5B5886#32, 0x3F1EBDFF#32],
    ![0xBF58A558#32, 0x3F67C7F4#32, 0x3FD85E61#32],
    ![0xBF146932#32, 0x3E4C2FFD#32, 0x3E50902C#32],
    ![0xC007C4C9#32, 0xBEB2425A#32, 0x3F491C7C#32],
    ![0x3DAA2B74#32, 0xBF4A49B6#32, 0x3F1C88FE#32],
    ![0x3D908510#32, 0x3D939A9F#32, 0xBF36B70A#32],
    ![0x3F890D15#32, 0x3F8F1198#32, 0x3F1359D0#32],
    ![0xBF65F165#32, 0x3F61A85E#32, 0xBF0A6DB2#32],
    ![0xBE4C2EAB#32, 0x3FB710BE#32, 0x3E10A782#32],
    ![0xBF80B4F1#32, 0x3D2D5931#32, 0xBF806ADB#32],
    ![0x3FA7E06B#32, 0xBE3D45AB#32, 0xBF8C15DD#32],
    ![0x3EC613B3#32, 0x3E6E7791#32, 0xBF50E904#32],
    ![0xBFD9054F#32, 0xBF5B7BFB#32, 0xBF78004D#32],
    ![0x3FDB40BB#32, 0x3F3B9879#32, 0xBF07C8B6#32],
    ![0x3F8C712A#32, 0xBE2F65BC#32, 0x40156B0F#32],
    ![0xBEF1D571#32, 0x3F0D2863#32, 0x3F079A63#32],
    ![0xBF878F11#32, 0xBF61B4FA#32, 0x3F663A44#32],
    ![0x3EDEE349#32, 0xBF604D3F#32, 0xBFF443E6#32],
    ![0xC00922AD#32, 0x3E5F5140#32, 0xBFB283BA#32],
    ![0x4001804E#32, 0x3F9D5436#32, 0x3E0DCE06#32],
    ![0x3DA6C28D#32, 0x3F1BD3AA#32, 0xBF21A580#32],
    ![0x3F286CF0#32, 0xBEF35291#32, 0xBE64BEFB#32],
    ![0x3E18946C#32, 0x3F9F8ED9#32, 0x3ED4D5E4#32],
    ![0xBF038B2A#32, 0x3EFCE09E#32, 0xC0297E5C#32],
    ![0xBE959BB8#32, 0x3FFE5EB0#32, 0xBF3E2DA9#32],
    ![0xBF694213#32, 0x3E80EA4A#32, 0xBEFA6C06#32],
    ![0x3FAD7DFC#32, 0x3E3B4E86#32, 0xBEACDB31#32],
    ![0x3E0C4BBA#32, 0x3F4E8428#32, 0xBED3BE18#32],
    ![0xBEB35F83#32, 0xBE8342A4#32, 0x40049CFF#32],
    ![0xBF50E997#32, 0x3F434F99#32, 0x3E8E2039#32],
    ![0xBE1DBB83#32, 0xBCC44C85#32, 0x3ECCC261#32],
    ![0x401B193D#32, 0xBF3F203B#32, 0xBF7DBBBD#32],
    ![0xBF031B31#32, 0x3F2A59FA#32, 0xBF4FF0F3#32],
    ![0x3EC5F2F2#32, 0x3D655C8D#32, 0xBFDC1FB0#32],
    ![0xBF1C5B00#32, 0xBF1F8D76#32, 0xBF0D6B78#32],
    ![0x3F2DEB40#32, 0x3E28D1FC#32, 0xBFAEF02E#32],
    ![0xBF253254#32, 0xBF055590#32, 0x3FADF1F7#32],
    ![0xBF121401#32, 0x3EEC0A25#32, 0x3DABEAE1#32],
    ![0x3EFD843F#32, 0xBEA54FB2#32, 0xBF97E983#32],
    ![0x3F0C906C#32, 0xBF7B2720#32, 0xBD933D66#32],
    ![0xBF08AF9C#32, 0xBE82685F#32, 0xBF853262#32],
    ![0xBFCED6E7#32, 0xBF47DDFE#32, 0x3F83F1AA#32],
    ![0xBD3C33D9#32, 0xBF9217C0#32, 0xBED3A951#32],
    ![0xBFC5EA33#32, 0xBF0EA746#32, 0xBF21F0BF#32],
    ![0x3F097540#32, 0x3F91152A#32, 0xBF29A3B1#32],
    ![0x3EB61FF7#32, 0x3FBAD96E#32, 0x3EB4679D#32],
    ![0x3EAB9573#32, 0x3E9C3E03#32, 0x3EFEF771#32],
    ![0xBEA9587A#32, 0x3F0FB213#32, 0xBF768A87#32],
    ![0x3D5199CF#32, 0x3EC33E4D#32, 0xBE056AB5#32],
    ![0x3F7899E7#32, 0x3FC43E3C#32, 0xBEAD8CA7#32],
    ![0xBD49EBDA#32, 0x3E1E52E0#32, 0xBF20A104#32],
    ![0x3ECB907E#32, 0xBDDFB4AD#32, 0xBDC4D1E9#32],
    ![0x3F6EBAF9#32, 0xBF69547F#32, 0xBFD94175#32],
    ![0x3F100602#32, 0x3FECB5DE#32, 0x3F7DBE82#32],
    ![0x4005735C#32, 0x3F6A134A#32, 0x3F5B8058#32],
    ![0x3E9D93EA#32, 0x3EA73422#32, 0x3F9BB817#32],
    ![0xBECEDD88#32, 0xBEBC9616#32, 0xBEE84AE6#32],
    ![0xBFA3421D#32, 0xBE8A8648#32, 0x3DB151EC#32],
    ![0x3F7A5022#32, 0xBFAE2BE1#32, 0xBF3E3769#32],
    ![0xBECE5E1D#32, 0xBEB8E65A#32, 0xBF5C9553#32],
    ![0xBF9F8E75#32, 0xBEA51B4C#32, 0x3E703EA5#32],
    ![0x3E41E140#32, 0xBE5FD45F#32, 0x3B4DBE9C#32],
    ![0xBFD95928#32, 0x3F132E64#32, 0x3F0F11CE#32],
    ![0x3F594513#32, 0x3E8A1378#32, 0x3E3AE643#32],
    ![0x3F960222#32, 0xBF731799#32, 0x3E97D3CE#32],
    ![0xBD9813FF#32, 0x3EFF8C25#32, 0xBE97A1C6#32],
    ![0x3F80B671#32, 0xBDF6B3D8#32, 0x3FA4421B#32],
    ![0x3FEE4D3D#32, 0xBF7A2556#32, 0x3F3CF12A#32],
    ![0x3FDE4FD2#32, 0x3D54F89B#32, 0x3FDDEBBB#32],
    ![0x3C148921#32, 0xBF844CE6#32, 0x3E139B3C#32],
    ![0xBD70F0AA#32, 0x3EAA7B2D#32, 0xBF024F98#32],
    ![0x3E5A6E45#32, 0x3FC8A8CA#32, 0xBFEB1BF0#32],
    ![0xBF9DC3E4#32, 0x3FC8D4CD#32, 0x3F69DB91#32],
    ![0xBF0E7C43#32, 0xBE7D5E9A#32, 0xBEF5F270#32],
    ![0xBF2831C9#32, 0xBFDF4A1D#32, 0x3ED1AFC0#32],
    ![0xBE2B27A7#32, 0xBEE8FBC5#32, 0x3DB50C0B#32],
    ![0xBFDAEF32#32, 0x3F8B4397#32, 0x3E94C257#32],
    ![0x3F3A648C#32, 0x3FA0C5EE#32, 0xBEB774B0#32],
    ![0x3F6AFD59#32, 0x3E8B4BA0#32, 0x3F6270D7#32],
    ![0x3FDDAD36#32, 0x3F0AFBE2#32, 0x3FA74F15#32],
    ![0x3F032A85#32, 0x3F587D73#32, 0xBF30E405#32],
    ![0xBEED66CA#32, 0xBEE23456#32, 0x3F405E1A#32],
    ![0x3F44AE32#32, 0x3EDD405B#32, 0x3F7444EF#32],
    ![0xBF7D6C4A#32, 0xBFAEB5A0#32, 0xBF1963A9#32],
    ![0xBEDE0529#32, 0x3E4E83D1#32, 0x3ED49C35#32],
    ![0xBF7F3D62#32, 0xBF148C5E#32, 0xBD8880B6#32],
    ![0x3FF99766#32, 0xBD993AE0#32, 0x3DECF44E#32],
    ![0x3D81EE1C#32, 0xBECA764C#32, 0xBF1FF94A#32],
    ![0xBE957C0B#32, 0x3E099365#32, 0x4020194E#32],
    ![0xBE142500#32, 0xBEE6809D#32, 0xBF1C2023#32],
    ![0x3FB57989#32, 0x3FE80EF8#32, 0xBF4A3300#32],
    ![0x3EBA867D#32, 0xBF939D18#32, 0x3E934A44#32],
    ![0x3DD73B8A#32, 0x3E110FDD#32, 0xC000D913#32],
    ![0x3EA432A8#32, 0x3D201468#32, 0x3F8BB4D5#32],
    ![0x3F72CF14#32, 0xBF6EF0A4#32, 0x3EF411A9#32],
    ![0x3F5F086A#32, 0xBF2990CA#32, 0x3FF6BBB3#32],
    ![0xBF52D7F3#32, 0xBF9D5463#32, 0x3E409BFE#32],
    ![0xBE8DE525#32, 0xBDF3A8AB#32, 0x3E21EA8D#32],
    ![0x3EBCFCAE#32, 0xBFE29438#32, 0xBF2200FE#32],
    ![0xBF11849D#32, 0xBE687843#32, 0xC031EE34#32],
    ![0x3DAD399A#32, 0xBFF4F7BF#32, 0xBFFAF528#32],
    ![0x3FF1D06E#32, 0x3F9767E4#32, 0xBE8EC091#32],
    ![0x3EA24B54#32, 0xBE8229BE#32, 0xBF78EFD4#32],
    ![0xBE4D433F#32, 0x3E851947#32, 0x4066C0A5#32],
    ![0x3F6A077A#32, 0x3E942B49#32, 0x3DD0AA2A#32],
    ![0xBF2B1716#32, 0x3FB969AB#32, 0xBF8A4A8D#32],
    ![0xBEA13CE5#32, 0xBEB9D6D0#32, 0x3E620A4C#32],
    ![0x3F4ACA37#32, 0xBF5A104C#32, 0x3F4EBAEC#32],
    ![0x3FD9D964#32, 0x3F816150#32, 0xBEC3FCF7#32],
    ![0xBFB6BDCF#32, 0xBE559B7C#32, 0x3FCFED97#32],
    ![0x3FCB4235#32, 0xBE27E4DD#32, 0xBDA93971#32],
    ![0x3F8A175F#32, 0xBF660836#32, 0x3EDC04FE#32],
    ![0xBDC782B1#32, 0x3EF464BC#32, 0x3F309DDF#32],
    ![0x3F0D2E04#32, 0xBF38B616#32, 0x3F709FE2#32],
    ![0x3F1DB5CF#32, 0x3F844180#32, 0xBE8DB55E#32],
    ![0x3F53835C#32, 0x401F411A#32, 0x3F2ABCE5#32],
    ![0x3FD7E0C5#32, 0x3E6DCAC6#32, 0xBF9779AA#32],
    ![0x3F882853#32, 0x3F5997E1#32, 0xBFA61546#32],
    ![0x4011CBF6#32, 0x3EA90586#32, 0xBE11E865#32],
    ![0x400FC9E7#32, 0x3F8C5DAB#32, 0xBF3A6428#32],
    ![0x3F1A18D3#32, 0xBF929081#32, 0xBF738A72#32],
    ![0xBFD8FDE3#32, 0xBF1698E6#32, 0x3DC35936#32],
    ![0xBEEF672A#32, 0xBC91B14D#32, 0xBFD62B74#32],
    ![0x3F08ADA7#32, 0x3F0BF471#32, 0xBF43E5AD#32],
    ![0x3F57FEEF#32, 0xBD1943ED#32, 0xBDB19483#32],
    ![0xBE6AFF65#32, 0x3F0BDECB#32, 0x3FDB4F43#32],
    ![0x3FF3679D#32, 0xBE97E284#32, 0x3DFEA58F#32],
    ![0xBF480F5B#32, 0xBE627945#32, 0xBE95C2C1#32],
    ![0xBE3F313B#32, 0x3FCF0EAB#32, 0xBECC4282#32],
    ![0xBF28D383#32, 0xBF38147F#32, 0xBFCABDE4#32],
    ![0xBFBF4B7E#32, 0xBE8DD7AD#32, 0xBF69A66D#32],
    ![0xBFB2C70C#32, 0xBE5AA3C3#32, 0xBF84F2BD#32],
    ![0x3D646544#32, 0x3EC346BA#32, 0x3FBC30FE#32],
    ![0xBF2CE194#32, 0x3FB59145#32, 0x3ECDA827#32],
    ![0x3FD77D99#32, 0xBE936F06#32, 0xBEBA2EC1#32],
    ![0xBEC5794E#32, 0x3F0119E6#32, 0x4022244D#32],
    ![0xBDFA2E43#32, 0xBFC6C50B#32, 0xBFEC9B39#32],
    ![0x3FCDD453#32, 0x3EA205F0#32, 0x3D8A3096#32],
    ![0x3F7708C3#32, 0xBD951B61#32, 0x3F8EB08B#32],
    ![0xBFA0FCA0#32, 0xBFAED3C4#32, 0xBEFE3976#32],
    ![0x3FE6B10A#32, 0xBFCE43D0#32, 0x3F3B9DB8#32],
    ![0x3EF0A9C3#32, 0xBEC96D5E#32, 0x3FC46759#32],
    ![0xBDBA22D8#32, 0xBF7B7E38#32, 0x3FAECB6B#32],
    ![0x3F6F6901#32, 0x3F85B31A#32, 0x3F0009B2#32],
    ![0xBF1ECCC6#32, 0xBD26BC3B#32, 0x3E9E4EF7#32],
    ![0xBE97D7D5#32, 0x3F9D2A1A#32, 0x3F194BD8#32],
    ![0x3FC4A770#32, 0xBE8BC24C#32, 0x3E48F99E#32],
    ![0xBEBE5C86#32, 0xC00A7B15#32, 0x3DD12850#32],
    ![0x3FBED181#32, 0xBE0EBF9D#32, 0x3FF373BF#32],
    ![0xBF8F97D8#32, 0x3F891E67#32, 0xBF87B7C9#32],
    ![0xBFA7F9FD#32, 0xBEE2DCD5#32, 0x3E245594#32],
    ![0xBC565EDC#32, 0xBF812CAB#32, 0xBE9E209B#32],
    ![0xBF3AB41D#32, 0x3DF529E5#32, 0xBE88C643#32],
    ![0x3F2DCE4C#32, 0xBF868CF5#32, 0xBED30729#32],
    ![0xBF980182#32, 0xBF09EAB0#32, 0xBF29D93E#32],
    ![0xBF89DB0F#32, 0xBF8E182D#32, 0xBF245D52#32],
    ![0x3F9E70C8#32, 0x3E59FD5D#32, 0x3FD3C157#32],
    ![0x3EA1C09A#32, 0xBFB9861C#32, 0x3F180B09#32],
    ![0x3E1AD0B3#32, 0xBF0C9E19#32, 0x3FE4BF24#32],
    ![0x3F231DEE#32, 0x3EC25764#32, 0x3F836507#32],
    ![0xBF29A5BE#32, 0x3FF42F60#32, 0x3F8E578D#32],
    ![0x3E9B4C3C#32, 0x3E19C016#32, 0x3E802F3A#32],
    ![0x3C88C5BD#32, 0x3EDC70B3#32, 0x3F2DD6A2#32],
    ![0x3F6AB96D#32, 0xBF26EE62#32, 0xBE74C93E#32],
    ![0x3F18DE41#32, 0x3F94DC32#32, 0xBFA1C7C1#32],
    ![0x3E3C967E#32, 0x3DD9E97B#32, 0xBFA2347F#32],
    ![0x3F0AE26C#32, 0x3F217B36#32, 0xBFF588BA#32],
    ![0x3E91F23C#32, 0x3D7C52BA#32, 0x3F780874#32],
    ![0xBEAC2068#32, 0x3ED53DA0#32, 0x3F618D51#32],
    ![0xBE9B4E04#32, 0x3EDC18A0#32, 0xBF075899#32],
    ![0xBFCA07BC#32, 0xBDF3FF73#32, 0xBF35F8E1#32],
    ![0xBF47AB0F#32, 0x3CC00662#32, 0x3E897D9D#32],
    ![0x3F02433C#32, 0xBEB57B95#32, 0x3E74C18C#32],
    ![0xBF442314#32, 0xBDF871D1#32, 0xBF16B082#32],
    ![0x3FE96864#32, 0xBFFD6AA7#32, 0xBF5320C7#32],
    ![0x3B17E91E#32, 0x3FA5F7F2#32, 0xBF97FB76#32],
    ![0xBFCA6C52#32, 0x3F17F795#32, 0x3E93CFEF#32],
    ![0xBEC1C061#32, 0xBF7700BB#32, 0xBF06E690#32],
    ![0xBDF2B76F#32, 0xBE9A5B78#32, 0xBFE16246#32],
    ![0x40030C82#32, 0xBEADE331#32, 0x3BF2DF9A#32],
    ![0x3E25056C#32, 0xBF8A3C56#32, 0x400C2805#32],
    ![0xBE881B94#32, 0xBFBB9E3C#32, 0x40185678#32],
    ![0x3EED9A32#32, 0x3FD6D391#32, 0x3E81AFD1#32],
    ![0x3DAFCB79#32, 0x3F0BEFB0#32, 0x3E9C10AD#32],
    ![0x40286456#32, 0x3ECE8EDD#32, 0x3E110F27#32],
    ![0x3E9DEC6A#32, 0xBF5F6A01#32, 0xBF39E948#32],
    ![0x3FC909CE#32, 0x3F1D55CE#32, 0xBFCB2417#32],
    ![0xBF319365#32, 0xBE4EA63A#32, 0x3F9D7778#32],
    ![0xC00E2C1F#32, 0xBFAF8AFF#32, 0xBF38F705#32],
    ![0xBEE1DEFB#32, 0xBEE1D9EF#32, 0x3E96B3B1#32],
    ![0x3FCC9B34#32, 0xBFC1D8BB#32, 0xBF717951#32],
    ![0xBF80E6C4#32, 0x3E1C525E#32, 0xBF865CB6#32],
    ![0xBF920BEB#32, 0x3FE1EB05#32, 0x3EC9B0CF#32],
    ![0xBFD0DD0F#32, 0xBE544B10#32, 0x402A6982#32],
    ![0x3F7AEA0B#32, 0xBFBD1F90#32, 0xBE25755C#32],
    ![0xBE109E0D#32, 0x3F97A28C#32, 0xBDE93AC6#32],
    ![0x3E574EF2#32, 0x3EFE4A3B#32, 0x3E12A7B4#32],
    ![0x3F5A8439#32, 0xBF12A139#32, 0xBF37F2DA#32],
    ![0xC011F383#32, 0xBFD8D98B#32, 0xBCA16563#32],
    ![0x3F137F88#32, 0xBFCC877D#32, 0xBE9E054A#32],
    ![0x3F5CC209#32, 0x3C9C1318#32, 0x3EE67A45#32],
    ![0x3FAFDD0D#32, 0x3FBBD17B#32, 0xBFB19C2E#32],
    ![0x3E1555A8#32, 0xBF06D57C#32, 0x3F998991#32],
    ![0x3F196443#32, 0x3FA599A4#32, 0xBF96747A#32],
    ![0x3DA8CAB2#32, 0xBF1747C5#32, 0xBF93C38F#32],
    ![0xBF27A70D#32, 0xBF02B9A9#32, 0xBFA9B3C9#32],
    ![0x3F065144#32, 0xBF18CBB5#32, 0xBFCA5E1A#32],
    ![0x3E8A929D#32, 0x3F1B3B9D#32, 0x3E765721#32],
    ![0x3F855BA9#32, 0xBFBDC8BE#32, 0x3F8819A3#32],
    ![0x3EC7F395#32, 0xBF889C11#32, 0x3E10EFFA#32],
    ![0x3F58CA19#32, 0x40060F2E#32, 0x3E54AD63#32],
    ![0x3FB4D01A#32, 0x3F8DDE5C#32, 0xBEB61BE4#32],
    ![0xBF689661#32, 0x3F39EFBE#32, 0x3E5A83AA#32],
    ![0x3F648DE9#32, 0xBFA4C7D2#32, 0x3D645D1B#32],
    ![0x3F1ACB80#32, 0xBF05AAF4#32, 0x3D2A7798#32],
    ![0x3F78F6EA#32, 0xBD734467#32, 0xBF8F43C9#32],
    ![0xBE4A31B1#32, 0x3F4175BE#32, 0xBDC0EBAE#32],
    ![0x3F8B3868#32, 0xBE9CFC05#32, 0xBE1D970C#32],
    ![0xBFD15395#32, 0xBF9069E9#32, 0x3EBFC201#32],
    ![0xBEF948D5#32, 0x3F5434B3#32, 0x3EEBF76A#32],
    ![0x3CCA77D9#32, 0xBF577905#32, 0xBFA35270#32],
    ![0x3F936B0E#32, 0xBF072922#32, 0xBF0C4FA0#32],
    ![0x3E66A569#32, 0xBFA67653#32, 0x3F2886E1#32],
    ![0x3FFC5CA6#32, 0x3D8229C3#32, 0x3F430708#32],
    ![0x3E784289#32, 0xBF01EEC0#32, 0x3FB563DF#32],
    ![0x3E03D950#32, 0xBF1BFEAD#32, 0xBF3FEA34#32],
    ![0x3ED24369#32, 0x3EA92997#32, 0xBF73435B#32],
    ![0xBF51AA60#32, 0xC007E68A#32, 0x3E57F4A5#32],
    ![0xBC3519F8#32, 0x3F9D88F2#32, 0xBF4D2D8E#32],
    ![0x3EFC0079#32, 0x3F9C1C0E#32, 0x3DD642A6#32],
    ![0x4042EDAC#32, 0x3FDF01DD#32, 0xBF58659D#32],
    ![0x3FCFCB1D#32, 0xBEC417BA#32, 0x400E4B64#32],
    ![0x3F74816F#32, 0x3F225021#32, 0x3EFA7A92#32],
    ![0xBE3A32A1#32, 0xBF81B519#32, 0xBEA8D70F#32],
    ![0xBF127D52#32, 0xBF93576B#32, 0xC004C433#32],
    ![0x3F90990E#32, 0xBF0AA589#32, 0x3E100395#32],
    ![0xBDA8AD10#32, 0xBFBB9E96#32, 0x3FD1E208#32],
    ![0xBB390911#32, 0x3EBFE827#32, 0x3EE01B53#32],
    ![0xBDE3D625#32, 0x3FFF0D10#32, 0xBFA0AECE#32],
    ![0x3FB6C43A#32, 0xBF63CE41#32, 0x3EBFC51D#32],
    ![0xBFB4E62A#32, 0xBFC0F4F4#32, 0xBFB186F6#32],
    ![0xBF899D2E#32, 0x3F151AC7#32, 0xBE470972#32],
    ![0xBE119879#32, 0x3F38321C#32, 0xBED7E3D6#32],
    ![0x3C94DA22#32, 0x400938F4#32, 0xBF62B0D9#32],
    ![0xBF2CC59D#32, 0xBF67BFA5#32, 0x3F56B826#32],
    ![0x3F12FA3D#32, 0xBEC1ADA9#32, 0x3F662C27#32],
    ![0xBF6F065B#32, 0xBEBDDE42#32, 0xBF1E1412#32],
    ![0x3F5C5806#32, 0xBF313272#32, 0xBFD7C868#32],
    ![0xBF5B5617#32, 0xBF4B0E46#32, 0xBFFC4E34#32],
    ![0x3E741579#32, 0x3EFB3E1C#32, 0xBE888B6A#32],
    ![0x3F7ACA33#32, 0xBF7E4252#32, 0x3FBF7F3A#32],
    ![0x3F756C96#32, 0xBCDC4C5F#32, 0xBFA9E205#32],
    ![0xBF859B74#32, 0x3F6C4EE7#32, 0x3F70AE1D#32],
    ![0x3F42BBE9#32, 0x3EB4BCC5#32, 0xBE45F269#32],
    ![0x3F90817D#32, 0xBFBFFE0C#32, 0xBFAE7088#32],
    ![0xBFAC35B9#32, 0x3FAB6D53#32, 0x3EDCBBE7#32],
    ![0x3F908C6A#32, 0x3DBB6400#32, 0x3F115E6D#32],
    ![0x3F1C434D#32, 0x3E8D133E#32, 0xBEB3E0B8#32],
    ![0xBE24B159#32, 0xBF2C301E#32, 0x3F13FD8E#32],
    ![0xBE87541D#32, 0xBF088FBA#32, 0x3F392DC9#32],
    ![0x3F8EE42B#32, 0x3E1E06B2#32, 0x3E59DAD3#32],
    ![0x3E4A8A79#32, 0xBF21A257#32, 0x3FF3431C#32],
    ![0x3E8172A1#32, 0xC0081AE3#32, 0x3F3F5BCF#32],
    ![0xBFA51F84#32, 0x3E63170F#32, 0x3F2A666A#32],
    ![0xBEF12CFF#32, 0x3FE4F5DA#32, 0x3F66A054#32],
    ![0x3D873854#32, 0x3DBBAA53#32, 0xBF4540C7#32],
    ![0xBD6B18D1#32, 0xBF3D77BC#32, 0xBE4C2516#32],
    ![0x3EA0804C#32, 0xC0302A38#32, 0x3E87960B#32],
    ![0x3D4A033A#32, 0x3FD4BCCE#32, 0x3F02A6B5#32],
    ![0xBF21618A#32, 0xBF954F9B#32, 0x3F6756D4#32],
    ![0xBFBF9483#32, 0x3E9263F9#32, 0xBFCBDACD#32],
    ![0x3C79E3F2#32, 0xBE3E3DE5#32, 0x3F9141D0#32],
    ![0xBE1D70EC#32, 0x3FF17ACA#32, 0x3EDE3330#32],
    ![0xBF1947F1#32, 0x3FAB2A26#32, 0xBFAE08BF#32],
    ![0xBEF82BD5#32, 0x3F05A9DC#32, 0xBF6DC9C4#32],
    ![0x3EEFA243#32, 0x3CA03475#32, 0x3F3592F8#32],
    ![0x3F2F77C4#32, 0xBE37968B#32, 0xBF81C57F#32],
    ![0xC007F42E#32, 0x3F754522#32, 0xBF2D2483#32],
    ![0x3FC6DE51#32, 0x3F3C30FB#32, 0x3CCAD3FE#32],
    ![0xBEADCC40#32, 0x3EBB88BB#32, 0x3F117A85#32],
    ![0xBF7A1C68#32, 0x3E01828A#32, 0xBFD0F5C4#32],
    ![0x3E2A7C5D#32, 0xBE82BABF#32, 0xC00F669E#32],
    ![0x3CCF8C91#32, 0x3F7B9262#32, 0xBF413B76#32],
    ![0xBF0B9464#32, 0xBDE0DEDF#32, 0x400BE553#32],
    ![0xBF9BB31D#32, 0x3EFF5C48#32, 0x3E587F76#32],
    ![0x400006BD#32, 0x3F82D3F5#32, 0xBEE19FDF#32],
    ![0x3F100F0C#32, 0x3CB76A7A#32, 0x3D4E33D4#32],
    ![0x3ED51897#32, 0x3F9A2D86#32, 0x3F02601A#32],
    ![0xBF6DE31F#32, 0x3F2E4F1B#32, 0x3FC5070C#32],
    ![0x3E7C79C6#32, 0xBE90D1AD#32, 0x3FBE3AD2#32],
    ![0x3DCB41A4#32, 0xBDC63D56#32, 0xBE8F4BC3#32],
    ![0x3FE4604B#32, 0x3E745A8B#32, 0x3EAF2507#32],
    ![0x3FD895BF#32, 0x3EFE2A82#32, 0x3FEF41AD#32],
    ![0xC033B056#32, 0x3E9896D2#32, 0x3E1B8D5E#32],
    ![0x3FCB55FB#32, 0x3ECF2F96#32, 0x3CFBAD62#32],
    ![0xBF1ADB8C#32, 0xBF8C480D#32, 0xBF04C117#32],
    ![0x3FAA5002#32, 0x3D12F5FB#32, 0x3F99ED3E#32],
    ![0xBEBA056A#32, 0x3F266557#32, 0xBFD0719E#32],
    ![0xBE0ECC6D#32, 0x3F39AD60#32, 0x3F54D064#32],
    ![0xBE31A005#32, 0xBF8EFA1D#32, 0x3EA08CA4#32],
    ![0xBF55BC3E#32, 0x3FDF4278#32, 0x3F81F74F#32],
    ![0xBE50F710#32, 0x3E7736BE#32, 0xBFFA0CE5#32],
    ![0x3EF9FAED#32, 0xBFB3FCB7#32, 0xBF81CC31#32],
    ![0xBF10BA27#32, 0x3EE8CEF8#32, 0xBF5ACA4B#32],
    ![0xBF390C26#32, 0x3F78B333#32, 0xBDF316E2#32],
    ![0xBEE6AE42#32, 0x3F49FF88#32, 0xBFE2D564#32],
    ![0xBF3F8550#32, 0x3E41DAE0#32, 0xBF0FA11A#32],
    ![0xBE1F46DC#32, 0x3E39447E#32, 0x3FA93188#32],
    ![0xBF72196F#32, 0x3E8058C5#32, 0x3EB6361E#32],
    ![0x3FA858C9#32, 0xBE998D46#32, 0x3F3117F0#32],
    ![0xBDE5C93F#32, 0x3D3ACA5B#32, 0x3FB31A6A#32],
    ![0xBD90B288#32, 0x3F95280B#32, 0xBE2D385F#32],
    ![0x3DC876EC#32, 0x3E548AA7#32, 0x3EF99583#32],
    ![0xBF38B5A8#32, 0xBFD47735#32, 0x3F737C15#32],
    ![0x3DBCFFBB#32, 0xBF96A8AB#32, 0xBF0B185A#32],
    ![0x3FACD56D#32, 0xBEBB9896#32, 0x3EC813F5#32],
    ![0x3FA9F846#32, 0xBEF3A285#32, 0x3FB4849F#32],
    ![0xBE273B21#32, 0xBFFF0A99#32, 0xBFB62830#32],
    ![0x3FED0639#32, 0xC008BEFB#32, 0xBFB111F2#32],
    ![0xBE0AE8EE#32, 0xBF713CC1#32, 0xC016CACE#32],
    ![0x3DC6181B#32, 0xBF9F6807#32, 0x3FC8F9AD#32],
    ![0xBF6A1C7E#32, 0x3CF52C36#32, 0x3D8610B1#32],
    ![0x4014341D#32, 0xBDAE5644#32, 0xBF41FC54#32],
    ![0x3EFC8B80#32, 0x3E9DFCD9#32, 0xBEA6ED2F#32],
    ![0x3DB2D05E#32, 0xBE552F57#32, 0xBF6CF718#32],
    ![0x3E547370#32, 0x3F296BDD#32, 0x403E53A5#32],
    ![0xBF4476A3#32, 0x3F3874C1#32, 0x3F98E76D#32],
    ![0xBFCF8043#32, 0x3F8EF952#32, 0xBF886D69#32],
    ![0x3F674354#32, 0xBFBCDBBC#32, 0x3EDCDCCA#32],
    ![0x3F4D0652#32, 0xBF9002BC#32, 0x3EB9D04E#32],
    ![0xBFDC6103#32, 0x3EAA9345#32, 0x3F85570A#32],
    ![0x3F2B8244#32, 0x3DBCD44E#32, 0xBF5624E6#32],
    ![0xBF24F700#32, 0x3F092392#32, 0xBEAC34E2#32],
    ![0x3FA6D9D1#32, 0xBEA84DB4#32, 0xBEBD8926#32],
    ![0x3F9BEFEE#32, 0xBE4E4AB2#32, 0xC0096FFC#32],
    ![0xBF6EBF0A#32, 0x3F0343E3#32, 0x3E87B851#32],
    ![0xBEA1A23D#32, 0xBF123411#32, 0x3F242926#32],
    ![0x400A0FB9#32, 0xBF983D26#32, 0x3E559213#32],
    ![0xBF5856AA#32, 0xBFCCE12E#32, 0x3F8DF1E6#32],
    ![0xBE36D26B#32, 0xBFAACB4C#32, 0x3F01604D#32],
    ![0x3ECD6B88#32, 0x3ED74D78#32, 0x3F2E349D#32],
    ![0x3FEA00FC#32, 0x3F8B0596#32, 0x3DA279CF#32],
    ![0xBF1C2297#32, 0x3E21D3F2#32, 0xBF153FC2#32],
    ![0x3F6F1BF5#32, 0xC028445D#32, 0xBF82F7B6#32],
    ![0x3F29F867#32, 0x40167D42#32, 0xBD56D7E0#32],
    ![0xBEA85E7D#32, 0xBF608228#32, 0xBCD1CB16#32],
    ![0x3E7B5CD8#32, 0xBF284D90#32, 0x3F4DAAB3#32],
    ![0x3EA05C43#32, 0xBFEDA98E#32, 0x3F0240F6#32],
    ![0x3FEEE76A#32, 0xBF262C74#32, 0x3E5C7C24#32],
    ![0x3F57C9B2#32, 0xBFFEE3DE#32, 0xBEE05321#32],
    ![0x3F73EB1D#32, 0x404EC477#32, 0x3E8D325D#32],
    ![0xBFD993F3#32, 0x3EB78A62#32, 0x3DEDA6B0#32],
    ![0x3F17C7A4#32, 0xBF83BE94#32, 0x3F83C64E#32],
    ![0x3FAFC4A7#32, 0xBF2200DA#32, 0xBF153F3F#32],
    ![0xBF0D2748#32, 0x3FAA3727#32, 0xBF4FA8CD#32],
    ![0x3F9EA1A3#32, 0x3FCADA35#32, 0xBE7710CE#32],
    ![0x3FA68EB3#32, 0xBF1A173D#32, 0xBF21F8BC#32],
    ![0x3E0FD617#32, 0xBFB87571#32, 0x3E697E48#32],
    ![0x3F6FD341#32, 0xBF843FD3#32, 0x3F177CC0#32],
    ![0xBF0CEE30#32, 0x40007512#32, 0xBF5654AE#32],
    ![0xBFC77434#32, 0xBEF01F60#32, 0xBD37E3CB#32],
    ![0x3C85153D#32, 0x3E518ED6#32, 0xBFCF71C5#32],
    ![0xBFA65B14#32, 0xBDD9E6BA#32, 0xBFA49A17#32],
    ![0xBF3FC62E#32, 0xBE544EFA#32, 0xBE36A9AB#32],
    ![0x3E961110#32, 0x3F549510#32, 0x3E8A9A9E#32],
    ![0x3EDE3D35#32, 0xBFA49BC0#32, 0xBF1EA51D#32],
    ![0xBF45334F#32, 0x3F988B49#32, 0x3E57DC0F#32],
    ![0x3B9ACE90#32, 0xBEE4417F#32, 0x3F9EF110#32],
    ![0x3EB1B894#32, 0xBF9A17A4#32, 0xBF3CEE73#32],
    ![0x3EB9D72A#32, 0x3FC3AC8F#32, 0xBECA9214#32],
    ![0x3DFE3184#32, 0xC00B1E3F#32, 0x3F28153F#32],
    ![0x3D6EFE16#32, 0xC0185CAC#32, 0xBF6A9817#32],
    ![0xC0020A98#32, 0x403AECA8#32, 0xBF4CAC8A#32],
    ![0xBED81372#32, 0x3EAB72FB#32, 0xBE832FF1#32],
    ![0x3F3E000F#32, 0xBF8ADBA1#32, 0xBEB89577#32],
    ![0xBF407D43#32, 0xBF956B7B#32, 0xBFC2E8E2#32],
    ![0xBDDC03F3#32, 0xBF24EE34#32, 0x3FAD4DE4#32],
    ![0xBF09EAC8#32, 0xBF367DD6#32, 0xBFA515CB#32],
    ![0x3FA073A8#32, 0xBFC585C5#32, 0x403E6046#32],
    ![0xBFA642BC#32, 0x3F0E661E#32, 0x3E993817#32],
    ![0x3F6C5270#32, 0x3E4774C8#32, 0x3FA65990#32],
    ![0x3FD84E88#32, 0xBEA0DB7D#32, 0xBF95C562#32],
    ![0xBF95FE99#32, 0x3F4A054F#32, 0x3EB6D4A1#32],
    ![0x3FB7C263#32, 0x3E1DE973#32, 0x3BB46BFE#32],
    ![0xC0719E93#32, 0xC006F166#32, 0x3EFF48AE#32],
    ![0x3F3C169B#32, 0x3F6A3CBB#32, 0x3FE3BA34#32],
    ![0x3EF9BA57#32, 0xBECFDA30#32, 0xBD7E3565#32],
    ![0x3FB57C0C#32, 0xBF35DE82#32, 0xBF2610CD#32],
    ![0x3DD8943B#32, 0x3F222E90#32, 0xBF1B729E#32],
    ![0xBFB8E564#32, 0x3F899107#32, 0x3EC890DD#32],
    ![0xBFD0876B#32, 0x3EA426A8#32, 0xBE20FB25#32],
    ![0x3F03F5BF#32, 0xBFA4F86F#32, 0xBF4F804B#32],
    ![0xBEA038BE#32, 0x3F7FCBD8#32, 0xBF115886#32],
    ![0x3D867B4C#32, 0x3FA48110#32, 0xBF73524E#32],
    ![0xBF3D2D0F#32, 0x3F76996C#32, 0x3FFC194F#32],
    ![0xBF1144C8#32, 0xBF27223B#32, 0x3E7E4892#32],
    ![0x3F7AAC75#32, 0x3EFD05E0#32, 0xBF29E9F0#32],
    ![0xBDD667E7#32, 0xBF0B5F7D#32, 0x3E9D42B1#32],
    ![0xBF2AFD2F#32, 0x3EFA9AE1#32, 0xBE598524#32],
    ![0xBEEAC7A1#32, 0x3E4B7F02#32, 0xBE5BA999#32],
    ![0xBFBC6DBF#32, 0xBE81FD74#32, 0x3F5F9FE4#32],
    ![0x3FDFA816#32, 0x3F2B5407#32, 0x3DEC5BF4#32],
    ![0x3E7409A1#32, 0xBECA3DB8#32, 0xBE1B77B2#32],
    ![0x3E819BD6#32, 0x3E05551A#32, 0xBF969828#32],
    ![0x3F259F1D#32, 0xBFA413D9#32, 0x3DF53BE2#32],
    ![0x3FA4AA39#32, 0xBFD4C92F#32, 0xBD66E54E#32],
    ![0x3F9FD4CF#32, 0x3F20D97B#32, 0x3F3FE4FA#32],
    ![0x3EBC4DEF#32, 0x4015B17E#32, 0x3F85A075#32],
    ![0x3E84B1FA#32, 0xBF25DA25#32, 0xBED6E392#32],
    ![0xBD973AE6#32, 0x3E7361DB#32, 0x3F096C78#32],
    ![0xBFEB78D0#32, 0x3FDFF4FC#32, 0xBDDFB435#32],
    ![0xBECB3900#32, 0xBFCBCC89#32, 0xBEA0B166#32],
    ![0x40089443#32, 0xBF33148E#32, 0x401D6C5C#32],
    ![0xBFE5301B#32, 0x3EF95EB0#32, 0x3F4500C7#32],
    ![0xBEFBF089#32, 0xBF57F4A2#32, 0xBC249B52#32],
    ![0xBF8E6A52#32, 0x3EBD5A5D#32, 0xBEE71918#32],
    ![0x401B1AB7#32, 0xBF964CC4#32, 0xBFAB6F16#32],
    ![0x3BDB39F1#32, 0xBF2A6A7C#32, 0x3F78B43C#32],
    ![0xBF826039#32, 0xBE8E3AAA#32, 0x3FECDD7C#32],
    ![0x3E81FF17#32, 0xBF5A3760#32, 0xBF982D34#32],
    ![0x3F241CB6#32, 0x3EBAF9F1#32, 0x3F807923#32],
    ![0x3EF30289#32, 0x3F18E283#32, 0xC0043F65#32],
    ![0x3EC5F7E2#32, 0xBF158A43#32, 0xBF6DA037#32],
    ![0xBD9B7CBA#32, 0x3E8B98BB#32, 0x3F1D9C93#32],
    ![0xBE0F46F4#32, 0x3F6F0D7C#32, 0x3E8A485B#32],
    ![0x3EF3DA29#32, 0x3F02987F#32, 0x3FB8BB42#32],
    ![0xC00BC351#32, 0xBE8614DB#32, 0x3E99962F#32],
    ![0x3F6E646B#32, 0x3DF30C8D#32, 0x3DEA94AB#32],
    ![0x3F2291F8#32, 0xC012A8CD#32, 0xBE9F2B2C#32],
    ![0xBF5CDE65#32, 0xBD2A4957#32, 0x3FFAE2BC#32],
    ![0xBF85605E#32, 0x3E7AE4E4#32, 0x3F22E38E#32],
    ![0xBD9879A4#32, 0x3E1E18DA#32, 0xBEB4CA76#32],
    ![0x3FC3E836#32, 0xBF43BFE9#32, 0x3F9FE542#32],
    ![0x3BAC992A#32, 0xBF698756#32, 0xBE2A9E7A#32],
    ![0x3F7C01FB#32, 0xBE1A2F82#32, 0x3E573870#32],
    ![0xBFDAA836#32, 0x3D844735#32, 0xBF0DEB59#32],
    ![0xBFC15123#32, 0x3F3D83C0#32, 0xBE250497#32],
    ![0x3ED3DFDD#32, 0xBF1A4553#32, 0x3D68F371#32],
    ![0x3F2E338E#32, 0x3E27CCB0#32, 0x3CD8FA03#32],
    ![0x3F0390AD#32, 0xBF91E00F#32, 0xBF1D7C2A#32],
    ![0xBF29DD58#32, 0x3FB4D2FE#32, 0xBF68FEB9#32],
    ![0xBF02E975#32, 0x3F50E890#32, 0xBFFBF5F7#32],
    ![0x3F3EC4FF#32, 0x3F800F57#32, 0xBFFA9025#32],
    ![0x3F6EC2C0#32, 0x3F84B248#32, 0xBEFE6250#32],
    ![0xBF0DE13C#32, 0x3F48ACFB#32, 0x3E0C1345#32],
    ![0x3FB7E2CB#32, 0x3F87EC7D#32, 0x3F08E677#32],
    ![0xBEB21201#32, 0xBD35A534#32, 0xBE33B602#32],
    ![0x3F664669#32, 0x3E8E2584#32, 0xBF1F5C3E#32],
    ![0xBFA6376C#32, 0x400D1F00#32, 0x3F062529#32],
    ![0x400B5149#32, 0xBF97F64F#32, 0x3F235E88#32],
    ![0x3EC35BB3#32, 0x3FB5719D#32, 0x400514EC#32],
    ![0x3EA55DAA#32, 0xBF811483#32, 0xBE999856#32],
    ![0xBE73BE91#32, 0xBFB746A6#32, 0x3FEC7921#32],
    ![0xBFB0EF12#32, 0x3F2D0805#32, 0x3D38D938#32],
    ![0xBF881A10#32, 0x3E71A45D#32, 0xBFE01DD3#32],
    ![0x3F466CB7#32, 0x40132BAA#32, 0xBF856FCF#32],
    ![0xBF1630EB#32, 0xBF8CAD3E#32, 0xBDAA69A2#32],
    ![0x3F254101#32, 0xBD6FE4A0#32, 0x400927B6#32],
    ![0x3F386344#32, 0x3F9A40E3#32, 0xBF6E83A7#32],
    ![0xBF228AC5#32, 0xBF1A4E15#32, 0x3E03F281#32],
    ![0xBF5BAC36#32, 0x3F9A7C2D#32, 0xBF4B1AC7#32],
    ![0xBF51058B#32, 0x3DE1BF3C#32, 0xBF463EB4#32],
    ![0x3FBAF454#32, 0x3F8BF4B4#32, 0xBF9E349E#32],
    ![0xBF885721#32, 0xBF708039#32, 0xBDA39CF3#32],
    ![0xBEE3072D#32, 0x3FB354D7#32, 0x3EBCD815#32],
    ![0xBEF8CF4B#32, 0xBF0B519C#32, 0xBC6EA060#32],
    ![0xBE6514EB#32, 0xBD5E83CB#32, 0xBEC0052B#32],
    ![0xBFCFBD17#32, 0xBF2502E2#32, 0x3F52BE52#32],
    ![0xBD361E44#32, 0x3F97E4BC#32, 0xBDDB16F8#32],
    ![0xBF06F065#32, 0xBFA1E48B#32, 0xBE4B1E24#32],
    ![0x3F155954#32, 0xBF82C060#32, 0xBE9E11C7#32],
    ![0x3F36288E#32, 0x3CBA4A5C#32, 0xBF854C79#32],
    ![0x3FBF81C7#32, 0xBDF499EB#32, 0x3F14DDDC#32],
    ![0xBF72A0B9#32, 0x3EFB3C65#32, 0xBF74D49E#32],
    ![0x40122470#32, 0x3F60F3B7#32, 0xBE9BB31F#32],
    ![0xBE3C6311#32, 0x3F57D14C#32, 0xBF1BF259#32],
    ![0x3F958D03#32, 0xBF58C218#32, 0xBDF5F600#32],
    ![0xBF88EA82#32, 0xBFAA0066#32, 0xBF4103E3#32],
    ![0x3F4D6CA3#32, 0x3EEC4D66#32, 0x3E5D3037#32],
    ![0x3F9B9044#32, 0xBF61729A#32, 0x3FA005E1#32],
    ![0xBE82EBDF#32, 0x3DEEEBC5#32, 0x3E488BBF#32],
    ![0xBF12920A#32, 0xBFA0F367#32, 0xBF564ED7#32],
    ![0xBF5A1858#32, 0x3FDC0872#32, 0xBF577DA6#32],
    ![0xBF1372B1#32, 0xBFA806D4#32, 0x3FB21249#32],
    ![0x3DCD4637#32, 0x3E3A063B#32, 0xBFF65BBB#32],
    ![0x3FC5C35C#32, 0x3F108D99#32, 0xC031681D#32],
    ![0xBEDEF003#32, 0xBF644383#32, 0xBE3FAE4C#32],
    ![0x3AFF1939#32, 0xBE7361D1#32, 0x3F6BD1EA#32],
    ![0x400BCA79#32, 0xBF677E99#32, 0xBF08AE59#32],
    ![0x3F0B5A29#32, 0x3F582E23#32, 0x3E6C7373#32],
    ![0xBF78F6E4#32, 0x3EB1B500#32, 0xBFEC56D3#32],
    ![0xBBCA15FF#32, 0xBF6C92C6#32, 0xBF436EAF#32],
    ![0xBE7D2580#32, 0x3FB01FC6#32, 0xBF4F6FF2#32],
    ![0xBF5628A7#32, 0xBFB7EFC8#32, 0x3E53572E#32],
    ![0x3E9E64A9#32, 0x3FB7427D#32, 0xBF280250#32],
    ![0x4007B3BC#32, 0xBF0F41C4#32, 0x3DFE6409#32],
    ![0xBF492DBB#32, 0xBEC11800#32, 0x3E876D90#32],
    ![0xBF0F03EB#32, 0xBF9A9E7C#32, 0x3E3CFEB7#32],
    ![0x3FA3E2BE#32, 0xBFA68E14#32, 0x3F8A6275#32],
    ![0xBF141CD1#32, 0x3F9EF702#32, 0xBE836F16#32],
    ![0x3DF136BC#32, 0x3EF3EAC9#32, 0xBE8C9A7F#32],
    ![0x3F5F90C6#32, 0x3E9DAAB5#32, 0x3FE56347#32],
    ![0xBD14AD16#32, 0x3E665832#32, 0x3ECA5AF5#32],
    ![0x3E5DEAE4#32, 0x3E14E15D#32, 0xBE53F8A1#32],
    ![0x40073951#32, 0xBF11EFB6#32, 0xBF42B4DD#32],
    ![0x3F7DCFD2#32, 0xBF7C535C#32, 0xBE4C36BC#32],
    ![0xBEFF596B#32, 0xBF49569F#32, 0x3F4C2B78#32],
    ![0xBF74D6BA#32, 0x3F2AA33D#32, 0x3F8908E5#32],
    ![0xBD202A83#32, 0xBE74C6D4#32, 0xBF39D8A1#32],
    ![0xBF6F5AB4#32, 0xBF6A9041#32, 0x3F9EE801#32],
    ![0x3E53EFC8#32, 0xBEA70754#32, 0xBE483B9E#32],
    ![0xBF92E16B#32, 0xBF3C52BD#32, 0xBF92EE6F#32],
    ![0x3F90AE01#32, 0xBEBA5FE1#32, 0xBFAD73C4#32],
    ![0x3F0BA67D#32, 0xBEFC7773#32, 0x3DAAA1D4#32],
    ![0xC01BDF25#32, 0xBEB894C1#32, 0x3F5350A0#32],
    ![0xBF55C560#32, 0x3EBAE476#32, 0xBED898E0#32],
    ![0xBEA7DDFA#32, 0x3F516EEE#32, 0x3FAC6E19#32],
    ![0x3E80D0A9#32, 0xBEF148D5#32, 0xBEA49E3A#32],
    ![0xBF50168C#32, 0x3FD730AF#32, 0x3F7AE572#32],
    ![0xBDC0D82B#32, 0xBE9BA060#32, 0x3EC5825C#32],
    ![0xBE68F542#32, 0x3D148F24#32, 0xBEE8BCCB#32],
    ![0xBF88A449#32, 0x3F0764D7#32, 0x3E8FED1A#32],
    ![0xBF8D14E5#32, 0x3FD06A0C#32, 0xBEBCD4EB#32],
    ![0xBFA5013F#32, 0x3F06D888#32, 0x3DDE4C2E#32],
    ![0x3F050C14#32, 0xBFE8F635#32, 0x3EA4A064#32],
    ![0x3F318866#32, 0xBF3D5716#32, 0xBF87BB3E#32],
    ![0xC02E3306#32, 0xBD030DA7#32, 0x3D4BD4C6#32],
    ![0x3DA13D76#32, 0x3E841C4C#32, 0x3EB7385D#32],
    ![0xBF40EC8D#32, 0x3E4B7144#32, 0x3F9BBC57#32],
    ![0xBE94D676#32, 0x3F2C4EF9#32, 0xBFEF3729#32],
    ![0x3E446BAD#32, 0x3E2D2848#32, 0x3E7ED2E1#32],
    ![0xBE20EB35#32, 0xBCCC06D5#32, 0x3DACCF01#32],
    ![0xBED9041C#32, 0xBF202D21#32, 0xBFC67F41#32],
    ![0x3F3C26B2#32, 0x3FCAF11E#32, 0x3F83CF96#32],
    ![0xBE3FCFC8#32, 0xC00931C3#32, 0xBE55289D#32],
    ![0x3EDD0DAB#32, 0x3F38B87D#32, 0xBF15B19E#32],
    ![0xBF289FD4#32, 0x3F417791#32, 0x3FA101E8#32],
    ![0x3C6BB4B2#32, 0x3F673A35#32, 0x3DEF174D#32],
    ![0xBF8009A1#32, 0xBFF67426#32, 0xBF527F04#32],
    ![0xBEB441D6#32, 0xBF048239#32, 0xBF6F25EB#32],
    ![0x3F604578#32, 0x3F289647#32, 0xBFB8DED0#32],
    ![0x3F95B84B#32, 0x3E38AC42#32, 0xC01436F0#32],
    ![0xBE68121B#32, 0x3FACBDE3#32, 0xBF83D722#32],
    ![0xBF983F08#32, 0x3DC53873#32, 0x3F7F1B5B#32],
    ![0xBFB8A788#32, 0xBF372EAB#32, 0xBF39103E#32],
    ![0x3D373590#32, 0xBF0CB72B#32, 0x3EEEEA63#32],
    ![0xBE949A3E#32, 0xBF70F79E#32, 0xBDEFBB45#32],
    ![0x3F8B1D3A#32, 0x3F10F4DC#32, 0x3F62199C#32],
    ![0x3F33306F#32, 0xBF95A638#32, 0xBFA0D2AE#32],
    ![0xBE4FFFF4#32, 0xBF349A4C#32, 0xBF911CA7#32],
    ![0x3F31C4B7#32, 0x3F1A8D4F#32, 0xBFAA2022#32],
    ![0x3FCB151A#32, 0x3EB92F5F#32, 0xBE2872FA#32],
    ![0xBE9AB9F5#32, 0xBE6529B9#32, 0x3FBD27B2#32],
    ![0x3F1FBC12#32, 0xBEF24868#32, 0x3F0705E5#32],
    ![0x3DA52E71#32, 0xBF766C6D#32, 0xBF54D6CB#32],
    ![0xBF641BB0#32, 0x3F82C932#32, 0x3EAAAB53#32],
    ![0xBFB75AA4#32, 0x3F918EF7#32, 0x3DCECF8B#32],
    ![0x3F57EA2A#32, 0xBF4E6893#32, 0xBE2FDE67#32],
    ![0x3EF09289#32, 0xBF135D27#32, 0xBF803670#32],
    ![0xBF07CFB9#32, 0xBF268954#32, 0x3FBF872C#32],
    ![0xC02DA903#32, 0xBF7331E4#32, 0xBDA7F7FA#32],
    ![0x3F353E76#32, 0x3F6F3723#32, 0x3B7A82FB#32],
    ![0x3EFD9B31#32, 0xBD628F05#32, 0x3F1B1BAE#32],
    ![0xBFB3E084#32, 0x3F4ADD4C#32, 0x3F73BAE8#32],
    ![0x3DDB25DB#32, 0x3EFB62BD#32, 0xBF000D42#32],
    ![0xBFD7C0FD#32, 0x3F72AA8D#32, 0x3E6327FE#32],
    ![0x3FF464CF#32, 0x3D8C810D#32, 0x3F3E8DAC#32],
    ![0xBF1D1591#32, 0xBEA70256#32, 0x3E5C0342#32],
    ![0x3F0F5879#32, 0xBF6F57D4#32, 0x3EF2EB21#32],
    ![0xBFA8E561#32, 0xBEE064AD#32, 0x3EEBA596#32],
    ![0xBF2AA9E0#32, 0xBEB3C07A#32, 0xBF7E8986#32],
    ![0x3F51DF44#32, 0x3E710B41#32, 0x3CBD9932#32],
    ![0x3EC13719#32, 0x3EBC3D81#32, 0xBEA05B2C#32],
    ![0x3EB6A455#32, 0xBFAE8301#32, 0xBF2A16E9#32],
    ![0x3EC17539#32, 0xBE824223#32, 0xBE6F90F0#32],
    ![0x3F544EA1#32, 0x3EB205AB#32, 0xC03979A8#32],
    ![0xBF4A389D#32, 0xBE700598#32, 0xBEB46118#32],
    ![0x3FF409F6#32, 0xBE6810A8#32, 0x3F8237E8#32],
    ![0x3F0DB968#32, 0xBEFD48F5#32, 0x3D90A7C6#32],
    ![0x3FC26016#32, 0x3C769FE2#32, 0xBFB7B9C2#32],
    ![0xBE391C3E#32, 0xBF85EF64#32, 0xBF883F27#32],
    ![0x3F98A9F1#32, 0xBED9FA94#32, 0x3F42B66C#32],
    ![0xBFD132EA#32, 0xBF2A4A40#32, 0x3F862760#32],
    ![0xBF21110B#32, 0x3E644383#32, 0xBF659FA0#32],
    ![0x3EA4358B#32, 0x3E9C0BAC#32, 0x3F0B6421#32],
    ![0x3EA597CF#32, 0x3EAFBED5#32, 0xBF2C4C5B#32],
    ![0xBDF66035#32, 0x3D5A2733#32, 0x3F317FC1#32],
    ![0xBF29862F#32, 0xBF057C0E#32, 0x3F978F8E#32],
    ![0x3FAB5CAB#32, 0x3FD464CA#32, 0xBF98A1FE#32],
    ![0x3EF7DFF7#32, 0xBEE07761#32, 0x3F363134#32],
    ![0x3FEDD268#32, 0x3F03CF5F#32, 0x3FDC81EA#32],
    ![0xBFA342F4#32, 0x3F1EAC3F#32, 0x3F81A09D#32],
    ![0x403E48AA#32, 0xBE7CB3CA#32, 0x3F44BEC3#32],
    ![0xBFE3F15D#32, 0xBF33D7F9#32, 0x3EBDE885#32],
    ![0x3E8A2839#32, 0x3F30DB2F#32, 0x3F294ACA#32],
    ![0xBFD3C22B#32, 0xBF5C1505#32, 0x3F3AAF94#32],
    ![0xBF44C370#32, 0x3F46AC35#32, 0x3F595221#32],
    ![0xBF114503#32, 0x3F71BF59#32, 0x3D27B23E#32],
    ![0xBE02440B#32, 0xBFFB22BC#32, 0xBF6EB6A1#32],
    ![0xBF85B4B4#32, 0xBDA6E3CC#32, 0xBF8B9297#32],
    ![0xBF939B8D#32, 0x3FCA5E5B#32, 0xC03B5FF7#32],
    ![0xBF90C125#32, 0x3F821117#32, 0xBF461546#32],
    ![0xBF1B01E2#32, 0xBF2A6D76#32, 0xBD46B695#32],
    ![0xBE307F50#32, 0x3F1C1B7B#32, 0xBFC1B4B2#32],
    ![0x3C3E84E1#32, 0x3EB23883#32, 0x3FF22229#32],
    ![0x3EED0832#32, 0xBEC5A55B#32, 0x3EE474A8#32],
    ![0xBFB2BC95#32, 0xBC706760#32, 0x3F09011B#32],
    ![0xBF599382#32, 0x3FB7ADD9#32, 0x3FBE3C82#32],
    ![0x3E76081C#32, 0x3D8D8958#32, 0x3F957133#32],
    ![0x3F6206E7#32, 0xBF9E6792#32, 0xBFCAF777#32],
    ![0x3FDE1A39#32, 0xBF1E914E#32, 0xBFD428DB#32],
    ![0x3ED1EB16#32, 0xBE67D68E#32, 0x3F6CFCA4#32],
    ![0x3FB36BE5#32, 0x3F1D2E79#32, 0xBE998F33#32],
    ![0x3F2968A5#32, 0x3E552418#32, 0xBEF2185B#32],
    ![0x3F7202F9#32, 0xBF9A9CFC#32, 0x3FA17DF6#32],
    ![0x3EFFCB24#32, 0xBEA395BC#32, 0xBF52C9AF#32],
    ![0xBF3ABD8B#32, 0x3F50D16D#32, 0xBF8FC2CA#32],
    ![0x3F3C0C0A#32, 0xBE8F9CC8#32, 0xBF84CAE7#32],
    ![0x3F34501F#32, 0xBDF936F1#32, 0x3F713B76#32],
    ![0x3F189F56#32, 0xBF33A146#32, 0x3FA75C04#32],
    ![0x4009C921#32, 0x3FEBF5ED#32, 0xBF7AE755#32],
    ![0xBE2861C0#32, 0x3FDCC492#32, 0xBE55AC24#32],
    ![0x3E00664C#32, 0x3F8247AF#32, 0x3E2C003E#32],
    ![0xBFD6AEA9#32, 0x3F71953D#32, 0x3F011B52#32],
    ![0xBE7CFB1A#32, 0xBF2FA04E#32, 0x3ED6BFC0#32],
    ![0xBEA4E6D3#32, 0x3EC9F017#32, 0x3E99593A#32],
    ![0xBFB2C481#32, 0xBEEF21C1#32, 0xC0015C6A#32],
    ![0x3F3E725E#32, 0x3F88CB7E#32, 0x40064705#32],
    ![0x3EAF5DAD#32, 0xC04B1E54#32, 0x3D60DBED#32],
    ![0x3FB312B3#32, 0xBF6FB9C9#32, 0x3F9263A4#32],
    ![0xBF067376#32, 0x3F090653#32, 0x3F1AB24D#32],
    ![0xBF54B67B#32, 0xBF885F36#32, 0xC010B531#32],
    ![0x3FF6CA55#32, 0x3F169942#32, 0xBE36BB19#32],
    ![0xBFA996F0#32, 0xBEA580D7#32, 0x3F83AF17#32],
    ![0xBEAADE9C#32, 0xBF4E8876#32, 0xBECED38C#32],
    ![0x40088E97#32, 0xBF0E7B12#32, 0xC01D496B#32],
    ![0xBF2988FD#32, 0x402C927B#32, 0xBD7243A6#32],
    ![0xBD325020#32, 0x3F363701#32, 0x3FAC3749#32],
    ![0xBF35ED95#32, 0x3F8EA125#32, 0xC01023C8#32],
    ![0x3E3A3151#32, 0x3F39C947#32, 0xBE8F4EDC#32],
    ![0x3FC566A2#32, 0xBFCA91A8#32, 0xBF1051B4#32],
    ![0xBF0658B7#32, 0x3E8B63F9#32, 0x3F9A4CB0#32],
    ![0x3E8F5F02#32, 0x3D2BEF4A#32, 0x3E606E4C#32],
    ![0xBD7A1BA4#32, 0xBF7B999B#32, 0xBE02D86E#32],
    ![0x3F1ADBFC#32, 0xBFDEE2DF#32, 0xBFC6C3BC#32],
    ![0xBF97E148#32, 0x3FD4F474#32, 0x3FD2C32D#32],
    ![0x3FDCDDAC#32, 0x3F20C7E6#32, 0x3FBDA755#32],
    ![0x3FB7DC24#32, 0xBFC37F44#32, 0xBF1BEB76#32],
    ![0x3F1C9177#32, 0x3F3AE008#32, 0xC01EBC4B#32],
    ![0xBF020205#32, 0xBEA751DB#32, 0x3F99A08E#32],
    ![0xBFAA30DD#32, 0xBF6C1689#32, 0xBF867250#32],
    ![0xC02B2626#32, 0x3F856639#32, 0x3F93D92D#32],
    ![0x3F68231D#32, 0x3EEA2011#32, 0xBE846026#32],
    ![0xBE2E7F13#32, 0x400CAD95#32, 0xBEDF318F#32],
    ![0x3F50F323#32, 0x3F538B52#32, 0xBEFA2398#32],
    ![0xBEE5E67C#32, 0x3F5BA389#32, 0xBF993DEE#32],
    ![0xBF3B62B4#32, 0xBD09608D#32, 0x3F8BD572#32],
    ![0x3F3C2897#32, 0xBF6EEBF2#32, 0xBE4AB65F#32],
    ![0xBF89CE2C#32, 0xBFA7AA75#32, 0xBF9FE928#32],
    ![0xC0239716#32, 0x401AAF20#32, 0xBFC0865C#32],
    ![0x3EADC172#32, 0xBF85D8B2#32, 0xBF74D237#32],
    ![0x40025E2D#32, 0xBFB35B2C#32, 0xBF42C79D#32],
    ![0xC00113A6#32, 0xBF8AA2AA#32, 0x3F9E52E3#32],
    ![0x3DCF27BA#32, 0xBF5CBDB4#32, 0xBFC4DECB#32],
    ![0x3EDE7176#32, 0x3E209EF5#32, 0x3ECA5C3A#32],
    ![0xBE5B425D#32, 0x3FD3EB03#32, 0xBF06CFF4#32],
    ![0x3EEDA896#32, 0xBFC64462#32, 0xC0011614#32],
    ![0x3F8E15EF#32, 0xBF349A5F#32, 0x3C417128#32],
    ![0xC002F3B5#32, 0x3E6B537B#32, 0x3D4742A5#32],
    ![0x3F0F61FB#32, 0xBFB98505#32, 0x3ED15AA9#32],
    ![0x3FC749C2#32, 0xBEA9108C#32, 0x3F443E5B#32],
    ![0x3F2A177C#32, 0xBF79A10D#32, 0xBE08BE96#32],
    ![0x3EED281C#32, 0x3D9D9265#32, 0x3CC945F3#32],
    ![0x3F04920C#32, 0xBF5D647C#32, 0x3D0503B6#32],
    ![0x3DEDF49A#32, 0x3FBEB7F7#32, 0x3FCF407A#32],
    ![0x3F25757B#32, 0x4001E977#32, 0xBF73023E#32],
    ![0x3E996839#32, 0xBF0847F9#32, 0x3F16016B#32],
    ![0xBFF7B1FA#32, 0xBEE97099#32, 0xBDDC73FB#32],
    ![0x3FC27B9D#32, 0x3F83A331#32, 0x3F17434D#32],
    ![0xBF663C73#32, 0xBFC390DF#32, 0x3F6DD115#32],
    ![0xBD92BFE7#32, 0x3F83C7E2#32, 0xBF527B88#32],
    ![0x3DACFF46#32, 0x3F627415#32, 0xBEE574AA#32],
    ![0x3F881070#32, 0x3F5F1152#32, 0xBF9EECCC#32],
    ![0x3F2899C1#32, 0xC016401A#32, 0x3F2A8C60#32],
    ![0x3EE8E7FC#32, 0xBE3985AA#32, 0x3F51ED0C#32],
    ![0xBF4E47FA#32, 0x3F825ABC#32, 0xBFD6A31B#32],
    ![0x40042AB3#32, 0xBFAA7201#32, 0x400A4A88#32],
    ![0x3E43B618#32, 0x3F6458D5#32, 0x3F7FA8AE#32],
    ![0x3FC18A04#32, 0xBD3A6262#32, 0x3EFCB407#32],
    ![0xBEFA0573#32, 0xBF4D7BD7#32, 0x3F9DFF47#32],
    ![0xBF078B14#32, 0xBF224DE4#32, 0x3F0C586C#32],
    ![0x3F7745B1#32, 0xBEA5AC41#32, 0x3F72F49F#32],
    ![0xBD83E98F#32, 0x3D8644D0#32, 0x3DDD7C2A#32],
    ![0x3ED8EA1F#32, 0xBCF1793B#32, 0x3F5D05CE#32],
    ![0x4013CF2E#32, 0x3DC379A2#32, 0x3FA236EA#32],
    ![0xBF922DCB#32, 0xBB9948C7#32, 0xBFA332A3#32],
    ![0x3F3A7F9D#32, 0x3E87F965#32, 0xBF9014BC#32],
    ![0xBFCD4F6E#32, 0xBF5D2B8D#32, 0x3F865041#32],
    ![0xBF88D96B#32, 0x3F69B78C#32, 0x3F19842E#32],
    ![0x3FC7B249#32, 0x3F45D8A1#32, 0x3EDA62A5#32],
    ![0xBF69D802#32, 0x3E009717#32, 0xBEEE7805#32],
    ![0xC00F1D00#32, 0x3F7A07B0#32, 0xBEAEE2BE#32],
    ![0x3F8D5518#32, 0xBE04994A#32, 0xBE1F87A3#32],
    ![0xBF9BE55E#32, 0x3E3BE65A#32, 0xBE2C32D0#32],
    ![0xBF6E73F8#32, 0xBFA19734#32, 0x3F5041D6#32],
    ![0xBFFD2AE6#32, 0x3ECE8C70#32, 0xBF04031C#32],
    ![0xC00F3357#32, 0xBE9B666C#32, 0x3E23ECAF#32],
    ![0xBFBB5207#32, 0x3F825011#32, 0xBC5EE795#32],
    ![0x3F5EEE24#32, 0x3FF36969#32, 0x3E93484E#32],
    ![0x3E0BE9D6#32, 0x3EC59AE0#32, 0x3F785B7C#32],
    ![0x3EF4696E#32, 0xBFFC8979#32, 0x40236235#32],
    ![0x3E024C23#32, 0xBDF6750A#32, 0x3F9314F9#32],
    ![0x3FA214B4#32, 0x3FA94995#32, 0x3E9F4052#32],
    ![0x3F1EEDC9#32, 0xBE9847C8#32, 0xBF4A4724#32],
    ![0xBF5F64DA#32, 0xBF402EBB#32, 0x3E4A35A5#32],
    ![0x3F8871D3#32, 0x3F8BDE64#32, 0x3F83233A#32],
    ![0xBF47A9A1#32, 0xBE702F23#32, 0xBF066D9E#32],
    ![0xC0193641#32, 0xBF63143F#32, 0xBEB9B13F#32],
    ![0x3FAF8619#32, 0xBEEB4FAB#32, 0x3EFD0E55#32],
    ![0x3FF2E112#32, 0xBF9F4EAC#32, 0xBF304B6F#32],
    ![0xBF4BDB44#32, 0x3F04EF42#32, 0xBED1E9DF#32],
    ![0xBF61807C#32, 0xBECA65E8#32, 0xBFFC07F9#32],
    ![0xBF0829AC#32, 0xBF6167B8#32, 0x3FF167C4#32],
    ![0x3E49862C#32, 0x3EACC7A4#32, 0x3FE9418C#32],
    ![0xBF533232#32, 0xBEE7035F#32, 0x3EE12BBB#32],
    ![0xBF329762#32, 0x3E5201DE#32, 0x3F0591FD#32],
    ![0xBE89A7E9#32, 0xBE9E753D#32, 0xBF69B5D0#32],
    ![0x3F9FEEBA#32, 0x4067BEBE#32, 0x3F3A33A1#32],
    ![0xBD220A46#32, 0xBD6D6D21#32, 0xBFF6D2AA#32],
    ![0xBF8BF3CA#32, 0x3EC17836#32, 0x3E67856E#32],
    ![0x4014454A#32, 0xBEBD5732#32, 0xBD94A92E#32],
    ![0xBF656B17#32, 0xBEAF906A#32, 0x3E83F6E3#32],
    ![0xBD54A31D#32, 0x3C3CBA21#32, 0xBFDEB84A#32],
    ![0xBE9D448F#32, 0xBF04B3C9#32, 0xC000DF6E#32],
    ![0xBF2DFB1A#32, 0x3F26F042#32, 0xBDD6D41E#32],
    ![0xBF3E618B#32, 0xBFAB3970#32, 0xBFA7DBAF#32],
    ![0xBF710AB6#32, 0x3F0ACEBC#32, 0x3F16E966#32],
    ![0xBEC91483#32, 0x3FB91491#32, 0xBE44F0F9#32],
    ![0x3FA6CE00#32, 0xBEF26F23#32, 0x3F850731#32],
    ![0x3E84A3E2#32, 0x3E8469AF#32, 0xBFCAEE13#32],
    ![0x3E705AFC#32, 0xBE03FD5E#32, 0x3FB2AAE6#32],
    ![0xC0243E41#32, 0x3C058F19#32, 0x3E8A28E0#32],
    ![0xBEFD5757#32, 0xBF941304#32, 0xBF1A2529#32],
    ![0x3F7A4671#32, 0x3DCBE6CB#32, 0x3FB8DA52#32],
    ![0x3F621252#32, 0xBE3025F5#32, 0xBE9FDFD3#32],
    ![0xBE725951#32, 0xBB606AC6#32, 0xBF12EBE4#32],
    ![0x3F71CC12#32, 0xBFD2A3CF#32, 0xBF3D0685#32],
    ![0x3F998B6A#32, 0xBF53C4BE#32, 0xBF590690#32],
    ![0xBF93E9B2#32, 0x3FB4E59E#32, 0xBFE05317#32],
    ![0xBFE62DA3#32, 0x3EFFC23A#32, 0x3E767020#32],
    ![0x3F3908EF#32, 0x3E18A9CF#32, 0xBF2F34DA#32],
    ![0x3EF21104#32, 0xBECC8DB5#32, 0xBEE646B6#32],
    ![0xBDD60757#32, 0x38AC7CC2#32, 0xBF52487F#32],
    ![0x40210ECE#32, 0xBFB7DF2E#32, 0xBFA1B28B#32],
    ![0x3F9BE93E#32, 0x3FE0680B#32, 0x3FBACACC#32],
    ![0x3F3CA945#32, 0x3F60125B#32, 0xC004636A#32],
    ![0x3ECC8A61#32, 0x3E8036E8#32, 0x3F662197#32],
    ![0x3F737ACA#32, 0xBF7F6CA6#32, 0x3EB6BF76#32],
    ![0xBF5EED2F#32, 0xBFB5E82E#32, 0xBC8A6817#32],
    ![0x3F895CDB#32, 0xBEAC81A5#32, 0x3D593044#32],
    ![0x3F0871AB#32, 0xBEAB2EB3#32, 0x3E234875#32],
    ![0x3F8CA259#32, 0xBF9D5984#32, 0x402A2AE9#32],
    ![0x3F40DDBE#32, 0xBD92A7DF#32, 0x3FE07D8D#32],
    ![0x3EB738E9#32, 0x3EEF98F4#32, 0xBDB114FB#32],
    ![0x3F6B9D6E#32, 0x3FDE711F#32, 0xBF870E8B#32],
    ![0x3E73622D#32, 0x3F04F361#32, 0x3FE25FF6#32],
    ![0xBFE87411#32, 0xBEEC7C44#32, 0x3EC70CBE#32],
    ![0xBEE23D7E#32, 0xBD1E8C9B#32, 0xBEC507AA#32],
    ![0xBE9D8F56#32, 0x3FB50EB9#32, 0x3EBD3372#32],
    ![0xBF094EB9#32, 0x3D3A7BA2#32, 0xBEF8AE82#32],
    ![0x3F1622E2#32, 0x3E93C146#32, 0x3EFA4A74#32],
    ![0x3F07ECC0#32, 0x3F8447E2#32, 0xBF551C37#32],
    ![0x3E4E4CBC#32, 0xBFE2C752#32, 0x3FD81CDE#32],
    ![0xBF8655BF#32, 0x3F189552#32, 0xBD74029E#32],
    ![0x3E1E527B#32, 0xBE919B42#32, 0x3F54EAD0#32],
    ![0xBF1B81E7#32, 0x3F216A52#32, 0xBE5E2E4C#32],
    ![0xBF0EE953#32, 0xBEA24CDF#32, 0x3EFFE259#32],
    ![0x401245C5#32, 0x3FBC3072#32, 0x3E34D196#32],
    ![0x3F58AF88#32, 0x3ED15FFB#32, 0x3EDCBBB0#32],
    ![0x40136E82#32, 0x3EBAB840#32, 0x3F498488#32],
    ![0xBDB14B65#32, 0xBFA9150F#32, 0x3FF1F8D7#32],
    ![0x3E5F062C#32, 0x3FB6BCAE#32, 0x3EC6BDC3#32],
    ![0x3F70BB1E#32, 0xBF89B27F#32, 0xBD96E81B#32],
    ![0xBF1E94A0#32, 0xBF165973#32, 0x3F0B55F0#32],
    ![0x3D5A8230#32, 0x3EE5B980#32, 0xBE3F12DD#32],
    ![0x3E823D58#32, 0xBE2F51C8#32, 0xBEE6211A#32],
    ![0xBE8BDC99#32, 0xBF9F0338#32, 0x3FEC97E7#32],
    ![0x40016BB3#32, 0xBF012234#32, 0x3F951A4E#32],
    ![0x3FCC27D7#32, 0xBF33B2D0#32, 0x3F852A59#32],
    ![0x3CDD7D5A#32, 0x3E00F46A#32, 0x3F1CC5D9#32],
    ![0x3F7D4BF6#32, 0x3D4E7D8E#32, 0xBF5E8CD3#32],
    ![0x3ED61028#32, 0xBFCB73D5#32, 0xBDDCCD04#32],
    ![0xBD0E0744#32, 0xBF977ECF#32, 0xBF981EEF#32],
    ![0xBFD968A4#32, 0xBFB87BDB#32, 0x3F2E8FD8#32],
    ![0xBFC09FA7#32, 0xBF80BD5E#32, 0x3FF19065#32],
    ![0xBE940500#32, 0xBFA62529#32, 0x3E3A101C#32],
    ![0xBF7C4EA7#32, 0x3F84E0EC#32, 0x3F92183A#32],
    ![0x3F1A5AAF#32, 0x3EC502EC#32, 0xBFA2EF78#32],
    ![0x3F31C655#32, 0x3F46C032#32, 0x3ED99178#32],
    ![0x3F1996B2#32, 0x3F2B818F#32, 0x3F953FC9#32],
    ![0xBF76C16B#32, 0xBF96A6E3#32, 0x3E300BD6#32],
    ![0x3F62FD57#32, 0x3F781D6F#32, 0xBF6E1939#32],
    ![0x3CC5D3FA#32, 0x3F5E3E30#32, 0xBF6CCCFF#32],
    ![0x3F1984B2#32, 0x3EE6AC60#32, 0x3FAF1DBA#32],
    ![0x3F098D1D#32, 0xBF499669#32, 0xBF9F5878#32],
    ![0xBE1D6033#32, 0xBF9B3E3A#32, 0x4000399E#32],
    ![0x3EC2B3C0#32, 0xBE94C4CF#32, 0x4022C2D9#32],
    ![0xBEA2A620#32, 0x3F2AA5AF#32, 0xBF3DF16C#32],
    ![0xBFC96F61#32, 0x3E13560F#32, 0xBFD80FFB#32],
    ![0x3FBA3E45#32, 0xBF4C30BC#32, 0xBC819732#32],
    ![0xBE4291A1#32, 0xBF8B795B#32, 0xBF02FD30#32],
    ![0x3FAFE181#32, 0x3F37472B#32, 0xBE6357CE#32],
    ![0x3FA8F494#32, 0x3EACD593#32, 0xBF2979A0#32],
    ![0xBE258C73#32, 0x3DA9BE33#32, 0x3D96A157#32],
    ![0x3E91630B#32, 0xBFABE16C#32, 0xBF077B93#32],
    ![0x3E84CDEE#32, 0xBEF99B17#32, 0xBF43E944#32],
    ![0x3F184FE6#32, 0xBEFBB6AC#32, 0xBF03ED20#32],
    ![0x3F2E7CFD#32, 0xBFB9723E#32, 0x3F62DD8C#32],
    ![0xBEB461C2#32, 0xBD51312E#32, 0xBF503D45#32],
    ![0x3DA59217#32, 0xBF3C9453#32, 0xBDD3F393#32],
    ![0xBE4F62AA#32, 0x3E4158A7#32, 0x3F0E337A#32],
    ![0x3D73266D#32, 0xBF100724#32, 0xC018B9BA#32],
    ![0x3F5DAD16#32, 0xBFE7DC77#32, 0x3F23FBD8#32],
    ![0x3F01F902#32, 0xC0019DFE#32, 0x3FD07B56#32],
    ![0xBF8BC803#32, 0x3F7E3910#32, 0xBFC9CC60#32],
    ![0x3FD2C465#32, 0x3F115762#32, 0x3EF7964E#32],
    ![0x3FA1FFB7#32, 0xBF78D30D#32, 0xBF8390FB#32],
    ![0xBEEC5F4B#32, 0x3F83F17C#32, 0xBE3B8083#32],
    ![0xBE8ED788#32, 0x3FD1DEFF#32, 0xBF54CC80#32],
    ![0xBE2FC338#32, 0xBDDAC6C4#32, 0x3F9DC29F#32],
    ![0xBF6B6FE1#32, 0xBDBEA6E4#32, 0xBF4B7444#32],
    ![0xBF983146#32, 0xBE594BC5#32, 0x3FC64721#32],
    ![0xBF288EDF#32, 0x3F0FDBB0#32, 0x3FE1FE67#32],
    ![0xBFD84520#32, 0x3F261927#32, 0x3EFB8835#32],
    ![0x3F452734#32, 0x3F51967C#32, 0xBDFBE1EC#32],
    ![0x3D793ECD#32, 0x3F974B90#32, 0xBED2E77B#32],
    ![0x3F45097F#32, 0xBF4653B1#32, 0x3E507007#32],
    ![0x3F4DD7B5#32, 0x3ED88F38#32, 0xBF70C3AA#32],
    ![0x3EF24F01#32, 0x3FB7EB17#32, 0x3D1022AD#32],
    ![0x3FE3232A#32, 0xBF353B3B#32, 0x3FF5605F#32],
    ![0xBF075D4E#32, 0xC00667D7#32, 0x3F808981#32],
    ![0x3F23DFD0#32, 0x3F0E3475#32, 0xBF8E9F8E#32],
    ![0xBF4BC3D9#32, 0xBE8B4D5B#32, 0x3F39FF09#32],
    ![0xBFD6C341#32, 0x3FBD52EA#32, 0x3FD3432C#32],
    ![0x3DF50781#32, 0x3E689C64#32, 0xBF3CDBAE#32],
    ![0xBEA3AA6D#32, 0x3F80E1AB#32, 0xBF29D618#32],
    ![0xBE46FDE1#32, 0x3F734B20#32, 0x3FAEDCB1#32],
    ![0xBF6C46CB#32, 0xBEE8E4EC#32, 0xC0149AB1#32],
    ![0xBF8E7CD6#32, 0xBEE66CFB#32, 0x3DB85951#32],
    ![0xBF9F8B4E#32, 0x3E667D64#32, 0x4001FBBC#32],
    ![0xBE8800C2#32, 0x3FB1002C#32, 0x3FC1BA50#32],
    ![0x3F61CBF6#32, 0xBF3884DD#32, 0x3E386AD0#32],
    ![0xBF45DBF1#32, 0xBFAAC4BD#32, 0x3F02DD09#32],
    ![0xBC904DEF#32, 0xBDD7839D#32, 0xBF085B8F#32],
    ![0x3E233267#32, 0x3F155538#32, 0xBE5DEFD3#32],
    ![0xBFFC3849#32, 0x3F3F2695#32, 0x3F2E7CFD#32],
    ![0x3F4C91EB#32, 0xBE4F1E64#32, 0x3DE8A11E#32],
    ![0xBF130C15#32, 0xBDA69533#32, 0xBF25EDD0#32],
    ![0x3FC6A6BD#32, 0xBCD0B884#32, 0xBFA460C8#32],
    ![0xBF8CCD92#32, 0xBD8C57FD#32, 0xBE4E35FD#32],
    ![0xBD80ADCC#32, 0xBC121853#32, 0x3FA12154#32],
    ![0x3E78EEB2#32, 0x3F745A3C#32, 0xBF080EFE#32],
    ![0x3DA019F4#32, 0xBF43D325#32, 0xBEF35DD6#32],
    ![0xBF874CD4#32, 0x3F2ED92E#32, 0x3C961424#32],
    ![0x3FA64847#32, 0xBCBA7E12#32, 0xBF01EBB3#32],
    ![0x3EF3DE27#32, 0xBE258158#32, 0xBFC5177E#32],
    ![0x3EBEBA7C#32, 0xBE358E33#32, 0xBCCDA8F3#32],
    ![0xBD9E6C1A#32, 0xBF0542F9#32, 0xBE418397#32],
    ![0xBF8A38BF#32, 0xBF31144A#32, 0x3F7BE366#32],
    ![0x3F56BDD4#32, 0x3F4159B6#32, 0x3EBB6C34#32],
    ![0xBF28A99B#32, 0x3E62C661#32, 0xBEF00DB7#32],
    ![0xBD97E20B#32, 0xBE04E2C1#32, 0xBF95C9DA#32],
    ![0x3F1AE667#32, 0x3F84A38F#32, 0xBFEADFD7#32],
    ![0x3F53612D#32, 0x3DBECBC9#32, 0xBF5E938B#32],
    ![0x3F2C92A9#32, 0x3DC0028E#32, 0xBDE7DD34#32],
    ![0xBFC54611#32, 0x3FE2E00F#32, 0xBE6961B3#32],
    ![0x3F877F05#32, 0xBE807592#32, 0x3FC99753#32],
    ![0xBFD4F25C#32, 0x3FADAE24#32, 0xBF859101#32],
    ![0xBE9B91DA#32, 0xBFA23C49#32, 0xBE99E2C8#32],
    ![0x3D73F81A#32, 0xBF352E45#32, 0xBE06CBA1#32],
    ![0xBDC6927C#32, 0xBEDC5C71#32, 0x3FCB8508#32],
    ![0x3F5BA9CA#32, 0x3F88119C#32, 0xBC1BCDC1#32],
    ![0x3F7C878A#32, 0xBD616306#32, 0xBF971484#32],
    ![0xBEF4EE65#32, 0xBEB86DE4#32, 0x3FD22C32#32],
    ![0xBF8FF663#32, 0x3CA160AF#32, 0x3E096BB7#32],
    ![0x3F0676AF#32, 0xBDC5C05C#32, 0xBF590C5F#32],
    ![0x3F5117D8#32, 0x3F11903A#32, 0xBCD17FDC#32],
    ![0x4007D9A7#32, 0x3F06DB97#32, 0x3EF883BD#32],
    ![0x3FB294D6#32, 0x3F8AF7EB#32, 0xBF5BA653#32],
    ![0xBF0C6496#32, 0xBF8266DA#32, 0x3F3B8DDD#32],
    ![0xBD9E7833#32, 0x3F8760D7#32, 0x3FE80D25#32],
    ![0xBFCBF0CF#32, 0xBFA5031C#32, 0xBDB6518B#32],
    ![0xBF389F20#32, 0xBF13354F#32, 0xBDA158BA#32],
    ![0xBD823F58#32, 0x3F7C589A#32, 0xBFDA6C94#32],
    ![0xBE830B6F#32, 0x3FAFF8FF#32, 0x3F7E6999#32],
    ![0x3F48F42F#32, 0x3F81F1F7#32, 0x3F6ECCBA#32],
    ![0xBF18FEE5#32, 0x4010B00C#32, 0xBFD0EE75#32],
    ![0x3F2268A6#32, 0x3FDD19FF#32, 0xBDC9F629#32],
    ![0xBFFA73F8#32, 0x3FDCE346#32, 0xBF9C9EAC#32],
    ![0xBF42FEE0#32, 0xBF590B79#32, 0x3E11CAEB#32],
    ![0xBE8372F9#32, 0xBE13A359#32, 0x3EAEECA4#32],
    ![0x3F819368#32, 0xBF738077#32, 0xBFAE9131#32],
    ![0xBF4E7294#32, 0x3EFAAAD3#32, 0xBF33253E#32],
    ![0xBF17B334#32, 0x3E348CEC#32, 0xBEEA09C8#32],
    ![0xC0093A3F#32, 0x3FA9602E#32, 0xBF45010E#32],
    ![0x3F91F182#32, 0x3E89D48F#32, 0xC0135DD0#32],
    ![0x3F218286#32, 0x3EC6BE5B#32, 0xBDDD8861#32],
    ![0xBFCE2D27#32, 0x3FCBA066#32, 0x3FA6C6D7#32],
    ![0x3F17ADB5#32, 0xBDF8BD43#32, 0xBF2BFFA9#32],
    ![0xBE5A7CCF#32, 0x3F2F6AB0#32, 0xBF4C3FB3#32],
    ![0x3F075F80#32, 0xBD9AB9E7#32, 0xC01FCFB9#32],
    ![0x3F9978ED#32, 0xBE888AF8#32, 0xBF71A42E#32],
    ![0x3F4DF73C#32, 0xBDC665F2#32, 0xBEAFB8E9#32],
    ![0xBF282BCE#32, 0xBEFD075E#32, 0x3F6E1674#32],
    ![0xBF51DEFA#32, 0x3F4D5383#32, 0xBD57D928#32],
    ![0xBFA9F352#32, 0x3E0ABA53#32, 0x3FD49CB0#32],
    ![0xBF7F2867#32, 0x3F37CD53#32, 0x3ECC0CAC#32],
    ![0x3DFA6A7B#32, 0x3EEC791A#32, 0x3F5F711B#32],
    ![0x3EE52C98#32, 0x3F935E36#32, 0xBF37E6D6#32],
    ![0xBEE32324#32, 0xBE7E77F4#32, 0x3ED60243#32],
    ![0x3E384515#32, 0x3C800485#32, 0xBFE1C128#32],
    ![0xBF7ACA2E#32, 0x3FAA89A5#32, 0x3F937A49#32],
    ![0xBE7ADC0D#32, 0xBFCF293B#32, 0xBF54549D#32],
    ![0xBF29AB02#32, 0xBE800D4C#32, 0x3EBAC916#32],
    ![0x3FD15391#32, 0xBDFEEB6B#32, 0x3EFC6840#32],
    ![0x3F866082#32, 0xC010BD55#32, 0x3F886A53#32],
    ![0xBF0A51E9#32, 0x3ED38846#32, 0xC03E23F8#32],
    ![0xBEEB291B#32, 0x3EA93944#32, 0xBF335B7E#32],
    ![0xBF2CB1F2#32, 0xBF1E8D3F#32, 0x3F825B60#32],
    ![0xBF2FCABC#32, 0x3F71B119#32, 0x3F52A9A8#32],
    ![0x3FF6CDFB#32, 0x3FEF8033#32, 0x3F89C204#32],
    ![0x3FA2DF81#32, 0xBF387067#32, 0xBF69A3D7#32],
    ![0xBF322705#32, 0xBFDB6B43#32, 0x3F11217C#32],
    ![0x3EA7EBA3#32, 0x3F080D44#32, 0x3F89FAD3#32],
    ![0x3F0360CB#32, 0xBFA16E8C#32, 0x3EAB2AFF#32],
    ![0xBE8942F8#32, 0xB9536B1D#32, 0x3F163D13#32],
    ![0x3E8F61B2#32, 0xBEF46EF0#32, 0x3EB45E32#32],
    ![0xBE26D4F8#32, 0xBD3FA773#32, 0x3FA570BB#32],
    ![0xBF1B7F2C#32, 0xBF2E4F43#32, 0x3FA529A2#32],
    ![0xBFECB777#32, 0xBE8002FE#32, 0x3EC49DAD#32],
    ![0x3F2DE3FA#32, 0x3F2C38B9#32, 0x3F2846A0#32],
    ![0xBFB63D16#32, 0x3F5EE027#32, 0x3D769784#32],
    ![0xBE4657D8#32, 0x3D0EF513#32, 0x3D25936C#32],
    ![0xBF211C56#32, 0xBE243B0A#32, 0xBD515C28#32],
    ![0x3F5C3F20#32, 0xC0364D6E#32, 0x3F60ECA0#32],
    ![0x3FA0BAC4#32, 0x3F7F4065#32, 0xBFCFC2DD#32],
    ![0xBF05C4BE#32, 0x3F82B320#32, 0x3F9E9D5F#32],
    ![0xBF389F3A#32, 0xBF6E0BB3#32, 0x3EE5B344#32],
    ![0x3F1B1E63#32, 0x3F36D5E2#32, 0xBF8097F7#32],
    ![0xBFCF3B8F#32, 0xBFCBFBFD#32, 0x3F287F8A#32],
    ![0xBBA98C56#32, 0xBF428D77#32, 0x3FBDF5DC#32],
    ![0x3F831A1C#32, 0xBEA18DE7#32, 0x3E10F98D#32],
    ![0x3FB0F678#32, 0xBEA43CD3#32, 0xBF0F309C#32],
    ![0x3E2218CC#32, 0x3F105CBC#32, 0x3FB168BC#32],
    ![0xBEC4A34D#32, 0x3F066EE3#32, 0xBF9FEA4F#32],
    ![0x3D2FD02E#32, 0xBF6159E7#32, 0xBE078215#32],
    ![0x3F40E61E#32, 0x3F307D7A#32, 0xBEEFBB8B#32],
    ![0x3E8BC604#32, 0xBE08C992#32, 0xBF189764#32],
    ![0x3F95C347#32, 0x3F40EA90#32, 0x3E3F031E#32],
    ![0xBFA7149B#32, 0x3FCD7485#32, 0xBF4EF1DF#32],
    ![0x3F8A656D#32, 0x3F012B28#32, 0xBF36DE97#32],
    ![0x3F4921ED#32, 0xBFAB2565#32, 0xBF8C1ED8#32],
    ![0xBFA21177#32, 0x3EB6499A#32, 0xBF3E49F9#32],
    ![0xBFA83DB3#32, 0xC00A7B99#32, 0x3D4FACED#32],
    ![0xBFAAEF43#32, 0x3E5C744A#32, 0x3F969527#32],
    ![0xBF511579#32, 0xBFD9B29C#32, 0xBDDAADB8#32],
    ![0x3ED94FD9#32, 0xBF119D8B#32, 0x3EC2BFEC#32],
    ![0xBF79C96B#32, 0x3F08A298#32, 0x3F9FCE32#32],
    ![0x3F6BCE3B#32, 0xBFA35A54#32, 0x3F527911#32],
    ![0x3EC712E9#32, 0xBE54128F#32, 0xBF80769D#32],
    ![0xBC9C9203#32, 0xBF81F8D8#32, 0xBF8DCDDA#32],
    ![0x3E85D042#32, 0xBE3C8F0D#32, 0xBEB44CB7#32],
    ![0x3FA8C4E9#32, 0x3E4E10C9#32, 0x3E036ED8#32],
    ![0x3FB4C495#32, 0x3FAE2836#32, 0xBEF01A9D#32],
    ![0xBF663FEB#32, 0x3F0D588C#32, 0xBF83E83B#32],
    ![0xBF8B28B5#32, 0x3F1E2B1E#32, 0xBF9FC2F5#32],
    ![0xBF1828BE#32, 0x3EC885F4#32, 0x3FF4556B#32],
    ![0x3F359B20#32, 0xBE7366A7#32, 0x3E4283A1#32],
    ![0xBFB161C4#32, 0x3FAE7F1F#32, 0x3F87A5B6#32],
    ![0x3E4492B2#32, 0x3E849C1C#32, 0xBF3609F3#32],
    ![0xC01EDCF1#32, 0xBFDF904A#32, 0x3F6F5EB1#32],
    ![0x3EC6C4FC#32, 0xBF48B1A7#32, 0xBF6C3231#32],
    ![0xBFBC57D2#32, 0xBF2FFA4B#32, 0xBF0A901C#32],
    ![0xBDD8DF24#32, 0xBEDFB9DD#32, 0xC0245910#32],
    ![0x3E4F7956#32, 0xBE11E91C#32, 0x3E9D7566#32],
    ![0x3D8B19C4#32, 0x3F5FB58B#32, 0xBF808BB4#32],
    ![0xBFF6AACD#32, 0xBF487B76#32, 0xBDB56E94#32],
    ![0xBE407CB2#32, 0x3ED595FA#32, 0x3F1ADE80#32],
    ![0x3F8F29AB#32, 0x3DE9709F#32, 0xC01D72AA#32],
    ![0x3FA5E58C#32, 0x3F97A96C#32, 0x3F21D3A1#32],
    ![0x3F649D3A#32, 0x3F041EAF#32, 0x3E940FC2#32],
    ![0x3F7264C5#32, 0x3F3EA2FC#32, 0x3EC1B18C#32],
    ![0x3F23083F#32, 0x3F00B405#32, 0xBEC587A8#32],
    ![0xBEF1044D#32, 0xBB34BF29#32, 0x3F370AEC#32],
    ![0x3F525C76#32, 0xBFBCCB2C#32, 0xBEDE9681#32],
    ![0x3FBAA0C9#32, 0xBF1223A1#32, 0xBF668749#32],
    ![0xBF522AE4#32, 0xBFEC5F8D#32, 0x3FA90B17#32],
    ![0xBECD1A87#32, 0xBEE91ACA#32, 0x3F1CFD96#32],
    ![0x3D8FC343#32, 0xBF7403BF#32, 0x3DEB55D8#32],
    ![0x3FB0F2CC#32, 0x3E5F9BB2#32, 0xBE821E56#32],
    ![0xBF8BF09F#32, 0x3EE0EA8D#32, 0xBF64D495#32],
    ![0x3FD035F5#32, 0xBF7D8DD2#32, 0x3E849D7C#32],
    ![0x3F9694C7#32, 0x3E31DA97#32, 0x3FBD2110#32],
    ![0x3F06AA33#32, 0xBE41786D#32, 0x3F366D1D#32],
    ![0xBEBC8F4A#32, 0x3FEE6A90#32, 0xBED8FFA6#32],
    ![0x3FDA898E#32, 0xBE87B699#32, 0xC008768F#32],
    ![0xBE7254CD#32, 0xBF0BE208#32, 0xBE8C8831#32],
    ![0x3F95D64B#32, 0xBF962230#32, 0x3ED7EB7B#32],
    ![0xBD7BF8CB#32, 0xBDC8DF0C#32, 0xBF87942D#32],
    ![0xC0025617#32, 0x3E8B6DF8#32, 0x3E4245FB#32],
    ![0xBFC1D492#32, 0x3F5AC09A#32, 0x3F0D4C93#32],
    ![0x3F783992#32, 0xC005F82E#32, 0xBEA75BC5#32],
    ![0x40190123#32, 0xBEBF3546#32, 0x3F509B2E#32],
    ![0xBFE59C06#32, 0xBFF6E445#32, 0x3FA5F6E1#32],
    ![0x3ED2458B#32, 0xBFCF0FA2#32, 0xBF7528ED#32],
    ![0xBFA1D077#32, 0x3F92F182#32, 0x3F91ABBF#32],
    ![0xBF1BEA6D#32, 0x3E037265#32, 0xBDF4568B#32],
    ![0x3EB30123#32, 0xBEF6D81F#32, 0xBFB21EE7#32],
    ![0xBF4A37FA#32, 0x3E6B0204#32, 0xBF5A0FF4#32],
    ![0x3E6EDE1D#32, 0xBEE2C598#32, 0xBFAE2252#32],
    ![0xC00344DA#32, 0xBFE98B0A#32, 0x3E471E54#32],
    ![0xBF709FB7#32, 0xBEC2741E#32, 0x3ED722E5#32],
    ![0x3FF5295C#32, 0x3FB053EB#32, 0x3F1AC703#32],
    ![0x3F43EB18#32, 0x3EC3FF6E#32, 0x3E8E8236#32],
    ![0xBEF3A6BA#32, 0x3EABD107#32, 0x3FF9C958#32],
    ![0x3F002786#32, 0x3F6CEC04#32, 0x3FA4DDE8#32],
    ![0x3FCA9A45#32, 0x3EFB2280#32, 0xBCDA4732#32],
    ![0xBFBE4103#32, 0x3F89B441#32, 0x3F24BCE4#32],
    ![0x3F3DA31F#32, 0xBD8C8A3D#32, 0x4011F73D#32],
    ![0x3E421341#32, 0x3F006D71#32, 0x4019AA1E#32],
    ![0x3F146FF8#32, 0xBF3375F4#32, 0x3F857478#32],
    ![0xBF33DECB#32, 0xBF561F82#32, 0xBF882DC9#32],
    ![0xBDCA2265#32, 0x3F277701#32, 0xBF05D26A#32],
    ![0x3F897115#32, 0x3F9DA5EC#32, 0xC021772D#32],
    ![0x3F59B4DB#32, 0x3EA752DE#32, 0xBF4B8D00#32],
    ![0xBF1B3C55#32, 0x3EEAE45F#32, 0xBF57800D#32],
    ![0x3FD41CA7#32, 0xBEA6B215#32, 0x3E482693#32],
    ![0xBFA66477#32, 0x3F3AA499#32, 0x3F3FF1A9#32],
    ![0x3F6BCDFF#32, 0xBF92AA34#32, 0x3F0C815F#32],
    ![0xBEFF1DBB#32, 0x3E833FA0#32, 0x3EDEB888#32],
    ![0xBF68B777#32, 0xBF061036#32, 0x3E3148E9#32],
    ![0x3DD847FC#32, 0xBE6E9713#32, 0xBFDD31B6#32],
    ![0x3F92483D#32, 0x3E4EEB05#32, 0xBFAEDBEE#32],
    ![0xBF8DFB20#32, 0xBEAC2675#32, 0xBE4344C8#32],
    ![0xBFB62685#32, 0xBF9249C5#32, 0xBF61FE28#32],
    ![0x3F05F5BF#32, 0xBE5DFD9E#32, 0x3F855594#32],
    ![0xBF171A3C#32, 0x3E866ED3#32, 0xBF943398#32],
    ![0xBFBBF24D#32, 0xC0353163#32, 0xBFEB760C#32],
    ![0xBF280C9C#32, 0x3D2123A4#32, 0x3FE5A4B7#32],
    ![0x3F96E213#32, 0xBF807A53#32, 0x4003CAE7#32],
    ![0x3EF875BC#32, 0x3F1FF496#32, 0xBF6E1C15#32],
    ![0xBFB3387E#32, 0x3EF36DDE#32, 0xBF8BFB7F#32],
    ![0xBE3DB33D#32, 0x3EB61C9F#32, 0xBEFE2763#32],
    ![0x3F350E10#32, 0x3F0A53DE#32, 0x3EFDAA99#32],
    ![0x3EFCBCB2#32, 0xBEAE58B7#32, 0x3EB35834#32],
    ![0xBE1C501C#32, 0x3FB9EA4D#32, 0xBD9D67E4#32],
    ![0xBF1227EB#32, 0x3ED7069F#32, 0x3DFB3186#32],
    ![0x4014A34B#32, 0xBF31F6EF#32, 0x3EB9F4A9#32],
    ![0x3F356A1B#32, 0x3FF2FD10#32, 0x3F636E15#32],
    ![0x3F31ECAD#32, 0xBF7DDCC6#32, 0x3F55BB34#32],
    ![0x3EB7097B#32, 0x3F4876DF#32, 0xC0279F94#32],
    ![0x3F4DB0C3#32, 0x3F931BD6#32, 0x3F7B1441#32],
    ![0xC00DD270#32, 0x3F7EFB50#32, 0xBF48625F#32],
    ![0xBE5EB227#32, 0x3F25F2F1#32, 0x3F012DDF#32],
    ![0xBF98396F#32, 0x3D7B082C#32, 0xBF86790F#32],
    ![0xBF1512D4#32, 0xC00614BE#32, 0x3E733B05#32],
    ![0xBF8107DE#32, 0x3F1A4D51#32, 0xBF9E2C70#32],
    ![0x3DCF6F60#32, 0x3FA7710A#32, 0xBFA464EB#32],
    ![0x3F128AF8#32, 0x3F1D7CCB#32, 0x3F85CFE4#32],
    ![0x3FFB465D#32, 0xBF1FE48A#32, 0xBDB93343#32],
    ![0xBF8AD9E2#32, 0x3F90DAD5#32, 0x3E3B5A8D#32],
    ![0xBE5DD23B#32, 0xBFC79ED7#32, 0xBFFDFA2B#32],
    ![0xBFFFCDEA#32, 0xBF14AF22#32, 0x3EA1D524#32],
    ![0xBEEE05B6#32, 0xBEC59846#32, 0xBF8D69A0#32],
    ![0x3F1E012B#32, 0x3ED37DF5#32, 0x3EB42731#32],
    ![0x3FD9B139#32, 0xC005B3E0#32, 0xBF77149B#32],
    ![0x3E27EF25#32, 0x3F07C87F#32, 0x3E48A442#32],
    ![0x3E7C474E#32, 0x3FA52181#32, 0x3F495B02#32],
    ![0xBAE18C35#32, 0xBFC81670#32, 0xBFC28B61#32],
    ![0xBF36F413#32, 0x3E9DBA3B#32, 0xBFAC6C53#32],
    ![0x40175637#32, 0x3F092C35#32, 0x3EF71478#32],
    ![0x3F520AFC#32, 0xBEFAA88C#32, 0x3F172D98#32],
    ![0xBF9B85E4#32, 0xBF023C45#32, 0x3F13C6BD#32],
    ![0xC02426D4#32, 0xBF261026#32, 0x3FF598FA#32],
    ![0x3F004485#32, 0xBF58FB1F#32, 0xBF3A1ECC#32],
    ![0x3D503295#32, 0xBFB10232#32, 0x3F152925#32],
    ![0x3F753136#32, 0xBF6FE284#32, 0x3C32F81F#32],
    ![0xBF1927E5#32, 0x3E0B60D2#32, 0x3E13F1FC#32],
    ![0x3EE5498F#32, 0xC0179442#32, 0x3ED29969#32],
    ![0xBF31FB79#32, 0x3E4DD285#32, 0x3F87D3FF#32],
    ![0x3EA95FA8#32, 0x3EF0998A#32, 0x3F8EF43A#32],
    ![0x3F929083#32, 0x3FC93835#32, 0xBF6A1770#32],
    ![0x3F3F0183#32, 0x3FBB2D6B#32, 0x3CFC0527#32],
    ![0xBEEB5F0A#32, 0x400A5859#32, 0xBF1A54DF#32],
    ![0x3D1CB168#32, 0xBF77F095#32, 0x3FBE6B5B#32],
    ![0xBFE81547#32, 0xBD0B73F3#32, 0x3ED79D7D#32],
    ![0xBF3C1415#32, 0x3F3779F8#32, 0x3E615446#32],
    ![0xBF10EAB0#32, 0xBEE3CBFD#32, 0x3F30639A#32],
    ![0x3F696ACB#32, 0xBF993ACD#32, 0xBF7C3699#32],
    ![0xBF99165B#32, 0x3F010832#32, 0xBF263CE5#32],
    ![0xBF5DF082#32, 0xBFE2873B#32, 0x3EF324D0#32],
    ![0xBDBEC4C8#32, 0xBE44D9E7#32, 0xBFADB8D3#32],
    ![0xBF1191CD#32, 0xBFC4BB9C#32, 0xBDAFA191#32],
    ![0x3F533A5B#32, 0x3FA2B5E2#32, 0x3F58A650#32],
    ![0x3E63A06C#32, 0x4006DB70#32, 0xBF8CDC56#32],
    ![0x3F23635B#32, 0xBF293716#32, 0xBFE62CCC#32],
    ![0xBEEEBE7B#32, 0xBEE0A708#32, 0x3D41ECD7#32],
    ![0xBEE07B7B#32, 0xBF3280EE#32, 0x3F343C78#32],
    ![0xC0111E7F#32, 0xBDC1A99F#32, 0xBF4F222A#32],
    ![0x3F852895#32, 0xBF8F174F#32, 0xBFC2B84E#32],
    ![0xBF796EEB#32, 0xBDD0940A#32, 0xBEB908B8#32],
    ![0xBF38B079#32, 0x3D0A75D9#32, 0x3F65EAB5#32],
    ![0xBF23C749#32, 0x3F1ACAF6#32, 0xBEAC16CB#32],
    ![0x3EABCA9C#32, 0xBE66C543#32, 0x3F293D56#32],
    ![0xBF06583E#32, 0x3F86E39E#32, 0xBEA2ABC6#32],
    ![0x3F543D8F#32, 0x3F9D12B5#32, 0xBFB3566C#32],
    ![0x3CD77D80#32, 0x3ED55C15#32, 0x3E0D14BB#32],
    ![0x3FA049B1#32, 0x3E22AA45#32, 0x3F8FBAD0#32],
    ![0xBF6B0CCC#32, 0x3EF1800A#32, 0x3E225C88#32],
    ![0xC0207FF4#32, 0xBF6D7BC4#32, 0xBC8CED03#32],
    ![0x3F0FF417#32, 0x3F52BF71#32, 0xBEBE7100#32],
    ![0xBF3FDFCD#32, 0xBF41779A#32, 0x3F88EBBB#32],
    ![0xBEF4B3FF#32, 0x3F72F8CA#32, 0xBF58DF5C#32],
    ![0x3F23FC5F#32, 0x3EEFD1E5#32, 0x3E823013#32],
    ![0xBEB555E1#32, 0xBED7A969#32, 0xBF8159C5#32],
    ![0x3FB9C3FC#32, 0xBF9880AE#32, 0xBED047E5#32],
    ![0x3DC38EB9#32, 0xBFEAD9F1#32, 0x3D37F855#32],
    ![0x3E94B067#32, 0x3EA1138E#32, 0xBF156D13#32],
    ![0xBF2762DC#32, 0x3FC874C1#32, 0x3F4F94B5#32],
    ![0xBDE8A6B7#32, 0x3E86665A#32, 0x3F118D12#32],
    ![0xBF1A0627#32, 0xBF3B14CB#32, 0x3F95604E#32],
    ![0xBEC2EF0F#32, 0xBC8516CE#32, 0xBFC00D9C#32],
    ![0x3DE862AD#32, 0x3F965A2D#32, 0xBF9C9A8D#32],
    ![0x3E4EE1D4#32, 0x3FDB13E9#32, 0xBD2D1B41#32],
    ![0x3E1227D2#32, 0xBFB6AE98#32, 0xBE1DF076#32],
    ![0x3E321759#32, 0x3F93B1E6#32, 0x3EF89254#32],
    ![0xBF0243D4#32, 0xBDC3A4AD#32, 0x3ECFCAA6#32],
    ![0xBE9EF951#32, 0x3FCD6A4A#32, 0x3E24EB28#32],
    ![0xBFC97946#32, 0xBC93FD33#32, 0x3FC58390#32],
    ![0xBFED13B0#32, 0x3F7FA974#32, 0x3F5E2DA1#32],
    ![0x3F1C2942#32, 0x3EB126B8#32, 0xBFA32C7A#32],
    ![0xBD03A976#32, 0xBC1EEAE6#32, 0x3F691A36#32],
    ![0x3E8F54FD#32, 0x3FEC81A7#32, 0x3F5E57D2#32],
    ![0x3EBF14C0#32, 0xBEC85E9A#32, 0xBFC989C6#32],
    ![0x3E9DE4DC#32, 0x3F3A2DE4#32, 0x3F092A50#32],
    ![0x3E0F21D0#32, 0xBF0A18A3#32, 0xBF42915C#32],
    ![0x3F0ED946#32, 0xBF8C7A3C#32, 0x3FEF253A#32],
    ![0x3FAC082D#32, 0xBF0688CC#32, 0x3EBA7A6F#32],
    ![0xBFAC1A6F#32, 0x3F10445B#32, 0xBE3D968D#32],
    ![0x3FAD505F#32, 0x3E32B208#32, 0x3FC1BE12#32],
    ![0x3DD5C632#32, 0xBECF4A8E#32, 0x3FF6050B#32],
    ![0xBF25B3CB#32, 0xBE29C809#32, 0xBF95A9A6#32],
    ![0x3F8CADE9#32, 0xBFB0ABCB#32, 0xBED58F34#32],
    ![0x400FE195#32, 0x3F06C502#32, 0x3E677FE2#32],
    ![0x3F22A3BF#32, 0xBF21B50F#32, 0xBF2310A0#32],
    ![0xC01BBF1B#32, 0x3FCF2CA9#32, 0xBF3877BD#32],
    ![0x3F37E899#32, 0x3F31E909#32, 0xBED918C3#32],
    ![0xBF6258B6#32, 0xBDB796D1#32, 0x3F311D16#32],
    ![0xBF11BBEF#32, 0x3F4D392D#32, 0x3EFEBD74#32],
    ![0xBFADD99C#32, 0x3E42C92E#32, 0xBDB77F61#32],
    ![0xBEF26A5A#32, 0x3F2D7C32#32, 0x3ED8C408#32],
    ![0xBEA4E71C#32, 0xBF2683DD#32, 0xBF9E8D34#32],
    ![0x3F0755DD#32, 0xBF806E08#32, 0xBE269E46#32],
    ![0x3F162F5F#32, 0xBE2FB643#32, 0xBFF95B81#32],
    ![0xBF7567FC#32, 0xBC6C5E89#32, 0xBFADD308#32],
    ![0xBFBE2943#32, 0xBF42A9FC#32, 0xBF28CC7B#32],
    ![0xBF92ED38#32, 0x3EC299C7#32, 0x3F2AF362#32],
    ![0x3DFE73AC#32, 0x3EF98C57#32, 0xBFB1098F#32],
    ![0x3F580B3C#32, 0xBF7FDAFC#32, 0xBD881500#32],
    ![0x3F9DB1D8#32, 0x3E9720BF#32, 0x3E10DB2C#32],
    ![0x3FCBA2AF#32, 0xBFD7D88D#32, 0x3E0FC0D0#32],
    ![0xBF417251#32, 0xBE908284#32, 0x3F8DF54D#32],
    ![0xBFDEC71C#32, 0x3E509EE4#32, 0x3ED7C5F0#32],
    ![0xBF9E3EB5#32, 0xBF8D3FBF#32, 0x3ED52FDF#32],
    ![0xBF11DAA9#32, 0x3FF0412A#32, 0x3F0AD61B#32],
    ![0x3DCB60CF#32, 0xBF512643#32, 0xBEA2DD1F#32],
    ![0xBF83D627#32, 0x3EB4D81D#32, 0xBEB4A4D1#32],
    ![0x3EDAF70F#32, 0xBEF866F2#32, 0x3E1BA783#32],
    ![0x3F58C67B#32, 0x3F542E5A#32, 0x3F57EE6A#32],
    ![0xBF601A35#32, 0x3F034F9E#32, 0xBFB9369D#32],
    ![0x3FE0C540#32, 0xC03116BE#32, 0x3EB9FFEA#32],
    ![0xBCA108A0#32, 0x3F237244#32, 0xBFB5288E#32],
    ![0x3F783144#32, 0x3F63B880#32, 0xBF877A9F#32],
    ![0x3EAF6804#32, 0x3E745B82#32, 0xBF9379D0#32],
    ![0x3E81B8C1#32, 0xBDCBDCCA#32, 0x3DF9DC6E#32],
    ![0xBF0DC4FD#32, 0xBF93C8E5#32, 0x3FB80215#32],
    ![0xBF32C94D#32, 0x3F55B069#32, 0xC018EE19#32],
    ![0x3F3B46C6#32, 0x3F50FD31#32, 0xBFAD7867#32],
    ![0x3E8D31A3#32, 0xBF20A35A#32, 0x3FC40695#32],
    ![0xBF46F086#32, 0x3FA02152#32, 0xBE8B703A#32],
    ![0x3F9F0E3A#32, 0x3F194DA0#32, 0x3F4C6FF2#32],
    ![0x3EFBC08E#32, 0xBD001938#32, 0x3F30F11D#32],
    ![0x40126EE9#32, 0xBF44E698#32, 0x3FAB447F#32],
    ![0x3F84E96A#32, 0xBFC8314C#32, 0x401638D3#32],
    ![0x3FD3B288#32, 0xBEEE1D73#32, 0xBF80F22A#32],
    ![0x3D249C51#32, 0xBF70B47E#32, 0xBFA4567E#32],
    ![0x3F11E94D#32, 0x3EF8A55C#32, 0xBEADD20F#32],
    ![0x3E915F16#32, 0xBF603F97#32, 0x3F6657A4#32],
    ![0x3EE87799#32, 0x3E87CC67#32, 0x4013D51A#32],
    ![0x3F7627B0#32, 0xBFCD9FAF#32, 0x3F7C16FF#32],
    ![0xBDA8B0AE#32, 0xBF979A12#32, 0xBF562444#32],
    ![0x3D5F5EFB#32, 0x3F63CECA#32, 0x3DC3FC41#32],
    ![0xBF1947BB#32, 0x3F8A8B80#32, 0x3FA2B86A#32],
    ![0xBE2C0B91#32, 0x4003F255#32, 0x3F1E16AF#32],
    ![0xBF260D3F#32, 0x3EF0B3B1#32, 0xBF08CC34#32],
    ![0xBFC0FB82#32, 0xC00A933D#32, 0xC0140E14#32],
    ![0xC00FD4A0#32, 0x3F2588F5#32, 0x3FB70340#32],
    ![0x3EBCD05F#32, 0x3F53E433#32, 0xC0115C25#32],
    ![0xBF055802#32, 0x3FD707A5#32, 0xBE3F58C4#32],
    ![0x3EA2EA14#32, 0x3E868C0E#32, 0xBA15C05F#32],
    ![0x3F470A6C#32, 0xBE2CF222#32, 0xBDC7E5B3#32],
    ![0x3AB0D839#32, 0x3FDF8C87#32, 0x3FF3CADA#32],
    ![0x3F491DA3#32, 0xBF570488#32, 0xBEEEA2D8#32],
    ![0xBFE59716#32, 0x3CB77C07#32, 0x3F8E80DE#32],
    ![0x3EA4260A#32, 0x3F04EBD4#32, 0xBD00C824#32],
    ![0x3F0EAE7F#32, 0xBFA1B71C#32, 0x3E36E317#32],
    ![0x3E59E1E1#32, 0xBF60321E#32, 0x3FB4D650#32],
    ![0xBF3A400A#32, 0x3FDE000A#32, 0xBF98E865#32],
    ![0xBC8E6F18#32, 0x3FB5AC09#32, 0x3F1E8141#32],
    ![0xBF9AF616#32, 0x4000EDA9#32, 0xBF640D81#32],
    ![0xBE32A018#32, 0xBF9F3557#32, 0x3F2CD308#32],
    ![0xBEFC9C77#32, 0x3E69C734#32, 0xBF37F75E#32],
    ![0xBE8DD391#32, 0xBE8A715D#32, 0x4025BA39#32],
    ![0x3FD3025E#32, 0x3F0863AC#32, 0xBEED504A#32],
    ![0xBF77FC81#32, 0x3E846B06#32, 0x3E172F79#32],
    ![0xBEAB2562#32, 0xBE41EAB4#32, 0xBEC28BE8#32],
    ![0xBEB4AFE7#32, 0xBEEC9E4C#32, 0xBE0B515D#32],
    ![0x3F96FC12#32, 0xBF988DBA#32, 0x3E9D027B#32],
    ![0xBEA49CBE#32, 0x3FB20393#32, 0x3EF7A3E8#32],
    ![0x3F7700E7#32, 0xC01C0373#32, 0x3FCBE504#32],
    ![0xBF9C1FBB#32, 0x3DF15072#32, 0x3FD25F3B#32],
    ![0xBE3ED355#32, 0xBEE46C5F#32, 0x3F50E463#32],
    ![0xBE757CC3#32, 0x3F1C1D34#32, 0x3F823C19#32],
    ![0xBEA9FF8F#32, 0x3F71B755#32, 0x3ECC17DD#32],
    ![0xBF73311F#32, 0x3FB7BDFF#32, 0x3FDA119B#32],
    ![0xC011997C#32, 0xBF80E2B8#32, 0xC0148B8C#32],
    ![0x3DF21CBE#32, 0x3F0BB255#32, 0xBE9469E1#32],
    ![0x3F6756FA#32, 0x3FFA8B9A#32, 0x3DBA3AAD#32],
    ![0x3FDA7FD6#32, 0x3F779E23#32, 0x3EEC2631#32],
    ![0xBFC37C4F#32, 0xBEAB954E#32, 0xBF698E41#32],
    ![0x3D7BB0BF#32, 0x3FB541F4#32, 0xC00C6C38#32],
    ![0x3F63CE5C#32, 0xBD3B4164#32, 0x3F7D6499#32],
    ![0xBEC44D17#32, 0x3F483553#32, 0xBF8BCA64#32],
    ![0x3DED359A#32, 0xBFF3F79F#32, 0xBF496960#32],
    ![0x400AD9EB#32, 0xBF3AAFD9#32, 0x3F6AF9EC#32],
    ![0xBF808629#32, 0xBFE8FB09#32, 0xBED5369B#32],
    ![0xBF507052#32, 0x3FAAA947#32, 0xBF805424#32],
    ![0x3EDDAB24#32, 0xBEB2B52F#32, 0xBF3F17EE#32],
    ![0xBF8A2A81#32, 0x3FA9E599#32, 0x3FCC64B8#32],
    ![0xBEDFE079#32, 0xBF8D9FE9#32, 0x3F31DC78#32],
    ![0xBFBC27CE#32, 0xBEC1B5D1#32, 0x3C04AC3E#32],
    ![0xBE5B56B8#32, 0x3FB49314#32, 0xBE896CB5#32],
    ![0x3E9FBD4D#32, 0x3FCD365D#32, 0xBDD919C1#32],
    ![0x3FB69C8F#32, 0xBE963CCB#32, 0xBFB8C151#32],
    ![0x3E47016E#32, 0x3DC853F8#32, 0xBD55F142#32],
    ![0x3EACE179#32, 0xBF997D32#32, 0xBF769784#32],
    ![0xBE2706A9#32, 0x3FB34649#32, 0x3FD2146D#32],
    ![0x3F0BE9B5#32, 0xBE5AF542#32, 0x3E64CEC3#32],
    ![0x3FA1D090#32, 0xBFBC6CBB#32, 0xBCB1A385#32],
    ![0x3EDF916C#32, 0xBE69EDAC#32, 0x3EC02D48#32],
    ![0x3FDF71A2#32, 0xBE7DECC2#32, 0xBFCEC292#32],
    ![0x3F879342#32, 0x3F426AE6#32, 0x3F705EF0#32],
    ![0xBF2F6D46#32, 0x3DCAF03D#32, 0xBE5459B5#32],
    ![0x3EC9F88F#32, 0xBE0D1475#32, 0xBF1C86CF#32],
    ![0x3E9A151F#32, 0xBF320446#32, 0xBE0369E8#32],
    ![0x3F675C67#32, 0xBD2C76ED#32, 0xBF494295#32],
    ![0xBEF1B0B4#32, 0x4000888B#32, 0xBD462699#32],
    ![0x3F0CB796#32, 0x3D8E7538#32, 0xBE1781DF#32],
    ![0x3ED27B88#32, 0xBDDB1565#32, 0xBFA64A68#32],
    ![0x3FC3AD62#32, 0x3EA4C432#32, 0xBF92BEFF#32],
    ![0x3F0F461A#32, 0x3E54676E#32, 0xC021C4F1#32],
    ![0x4038853B#32, 0xBF8F4943#32, 0xBEDD5338#32],
    ![0xBF54482D#32, 0xBCDA3502#32, 0x40042D18#32],
    ![0x3F71C474#32, 0xBD579794#32, 0x3FA313CF#32],
    ![0xBF4A2D40#32, 0xBF70420F#32, 0xC0043789#32],
    ![0x3E174CDA#32, 0x3EF65CE7#32, 0x3FAB5CEE#32],
    ![0x3EE741E2#32, 0x3E03E74A#32, 0x3EE2EF91#32],
    ![0xBFAF61FC#32, 0xC0068E4F#32, 0xBF1B44B0#32],
    ![0xBE10FD64#32, 0x3E6FEE36#32, 0x3F10429C#32],
    ![0xBFC9CDB2#32, 0xBDF49114#32, 0x3FE3450A#32],
    ![0xBE16C250#32, 0x3F205D3D#32, 0x3FE60B13#32],
    ![0x3E810194#32, 0x3F4A8123#32, 0x4072F818#32],
    ![0xBF99B247#32, 0xBF2F0979#32, 0x398FDB61#32],
    ![0x3EF2B7FB#32, 0x3D151324#32, 0x3DD2B167#32],
    ![0x3F0DE982#32, 0x3FA7F285#32, 0xBEF949DB#32],
    ![0x3F5EA07F#32, 0x3EBD820A#32, 0x3F944BA2#32],
    ![0x3EE356F0#32, 0xBEF66684#32, 0xBEC12433#32],
    ![0xBED71343#32, 0xBF2E3977#32, 0xBE228EF1#32],
    ![0xC0200DD8#32, 0xBECC528A#32, 0xBFEF4F6C#32],
    ![0x3E7F4330#32, 0x3F4C0201#32, 0x3F66B6F6#32],
    ![0xBFB039AA#32, 0x3E161B99#32, 0x3F3734EF#32],
    ![0xBE819B36#32, 0xBEB8B3FB#32, 0x3E80E360#32],
    ![0xBF043CA2#32, 0xBE3F99A7#32, 0x3FB7402C#32],
    ![0x3E332CEB#32, 0x3F6A536A#32, 0x3FC01111#32],
    ![0x3EBA9180#32, 0xBF669098#32, 0x3F0C7548#32],
    ![0xBEE3E6FA#32, 0x3F677E9B#32, 0x3F6D5DAC#32],
    ![0xBF1B4CC9#32, 0x3F216623#32, 0x3EFB8B2A#32],
    ![0xBF456EC5#32, 0xBECA313A#32, 0xBEBB2475#32],
    ![0x3F738E7E#32, 0xBED085CE#32, 0x3EC6A2DC#32],
    ![0x3F6FE5A7#32, 0x3FA2CE2D#32, 0xBFAD3F77#32],
    ![0xBF4A4007#32, 0xBE7067E8#32, 0xBD819A84#32],
    ![0xBFE3C5AD#32, 0xBF4E6FEC#32, 0x3FF0C42F#32],
    ![0x3ED65E63#32, 0xBE8CAE39#32, 0xBE51A03D#32],
    ![0x3E19525D#32, 0xBEB182B1#32, 0xBF80CB61#32],
    ![0xBDF157F1#32, 0xBF7066E6#32, 0xBFB522B1#32],
    ![0xBEFB437B#32, 0x3B1FFA95#32, 0xBF854767#32],
    ![0xBF4A9AB2#32, 0xBEBE0755#32, 0xBE957EC8#32],
    ![0x3FBEA260#32, 0xBF034EFA#32, 0xBF91451F#32],
    ![0xBFD86489#32, 0x3EE1799E#32, 0xBFB40C9D#32],
    ![0x3E85B2C2#32, 0x3FAFD384#32, 0xBF9E6899#32],
    ![0x3EB3502B#32, 0x3E807684#32, 0xBE05E422#32],
    ![0x3EDF669A#32, 0xBEAC260B#32, 0xBFA217C6#32],
    ![0x3F9BE63E#32, 0x3F5FD6BF#32, 0x3FDD18FE#32],
    ![0x3F000FEE#32, 0xBECC9ABB#32, 0xBF967B96#32],
    ![0x3DAEF8ED#32, 0x3E7C3A8C#32, 0x3F1949F2#32],
    ![0x3E854162#32, 0xBE9CFF4D#32, 0x3D33344A#32],
    ![0xBE87A4AB#32, 0x3FB68FC6#32, 0x3F77FCAE#32],
    ![0xBF8C9525#32, 0xBF8A9FDE#32, 0xBFE4D9AE#32],
    ![0x3FCE458C#32, 0xBF5E426E#32, 0x3EC85B89#32],
    ![0xBF70D995#32, 0x3D888052#32, 0x3FBD285D#32],
    ![0xBF1B97AB#32, 0x3F39AC6A#32, 0xBD3C0CF5#32],
    ![0x3F337A78#32, 0x3F0399D1#32, 0xBF437F98#32],
    ![0x3F8BDAB0#32, 0xBE3A9577#32, 0x3F9CBC3C#32],
    ![0xBEBDD94F#32, 0x3EFF07CE#32, 0x3F1FA81C#32],
    ![0x3F165E29#32, 0xBEE2751D#32, 0x3E3874EC#32],
    ![0x3DA46C7D#32, 0xBBA497F8#32, 0x400CA15E#32],
    ![0xBFA0CEC7#32, 0x3E144D91#32, 0x3F026D42#32],
    ![0xBB3DBC41#32, 0x3E3E2A92#32, 0x3F4A343E#32],
    ![0x3F32CD23#32, 0x400D453C#32, 0x3EDA6188#32],
    ![0x3FB75CFB#32, 0x3FF34CC5#32, 0x3E83DF3E#32],
    ![0x3FAA919C#32, 0x3F1FAE4B#32, 0x3F9609D7#32],
    ![0xBFE611D7#32, 0xBE70DB61#32, 0xBEF838BC#32],
    ![0x3F1E33DC#32, 0xBEF3C5C9#32, 0xBF965702#32],
    ![0xBEF400BF#32, 0xBF47B739#32, 0xBE5E4A9B#32],
    ![0x3FDE7B73#32, 0xBEBC185C#32, 0x3F672CCF#32],
    ![0xBE56A5B3#32, 0x3F480D90#32, 0x3F7214B3#32],
    ![0xBF850AEA#32, 0xBD397A48#32, 0xBFD66E57#32],
    ![0x3E85A24E#32, 0xBEC57B4B#32, 0xBF84AA14#32],
    ![0x3CB39443#32, 0xBF9C4B28#32, 0xBF5507EB#32],
    ![0xBF50040A#32, 0xBF5891AF#32, 0xBEB044C4#32],
    ![0x3F1DF15E#32, 0xBF38780B#32, 0xBFF9A577#32],
    ![0xC023AC2E#32, 0xBEDB97B8#32, 0x3E924F3E#32],
    ![0xBF03F9D4#32, 0x3FB85DEE#32, 0x3F99358F#32],
    ![0x3EE00B29#32, 0xBFA3163E#32, 0x3E43B54C#32],
    ![0x3DB32C86#32, 0xBE4AAA39#32, 0xBF9005F1#32],
    ![0xBF5565CE#32, 0xBF69D643#32, 0xBEEB8D5A#32],
    ![0x3F9905A3#32, 0x3F35F856#32, 0x3FA21B0F#32],
    ![0x3F4980EE#32, 0xBCD9E7E8#32, 0xBF6F58EB#32],
    ![0x3D21670F#32, 0x3E02071E#32, 0xBF3088FD#32],
    ![0xBF741EDA#32, 0xBF403958#32, 0x3F123F01#32],
    ![0x3F5B0072#32, 0x3EA2CAFA#32, 0xBCB863A3#32],
    ![0x3F183923#32, 0x3F3D8626#32, 0x3FA55E45#32],
    ![0xBF05F429#32, 0x3D97FFD0#32, 0xBE5D4F9C#32],
    ![0xBDA4F436#32, 0xBF02794F#32, 0x3ECCEFD2#32],
    ![0x3F05B2D1#32, 0xBF5EFEB9#32, 0x3F4DC76C#32],
    ![0xBD9CEEE6#32, 0xBE323244#32, 0xC01609DB#32],
    ![0xBFAE0756#32, 0xBEBCFC49#32, 0xBFFD953E#32],
    ![0xBF65806B#32, 0x3DF84172#32, 0xBDA9AB19#32],
    ![0xBF5F7FB4#32, 0x3FAB6A77#32, 0x3F1364F3#32],
    ![0xC022800D#32, 0xBF47DE12#32, 0x3DB4252A#32],
    ![0xBF9E1BE9#32, 0xBF88710A#32, 0xBF5AA9E9#32],
    ![0x3F4C4A31#32, 0xBF3D79D3#32, 0x3ED619F0#32],
    ![0xBF82AE40#32, 0x3FF46CEC#32, 0x3FC404A9#32],
    ![0x3EEA0553#32, 0xBF13CA15#32, 0xBFC66E16#32],
    ![0xBF908075#32, 0x3E9FF565#32, 0x3ECD4315#32],
    ![0x3EC6D404#32, 0x400B3885#32, 0x3FF727B0#32],
    ![0xC0012BC8#32, 0xBF387887#32, 0x3EF689B7#32],
    ![0x3F08F0F3#32, 0x3F7DE426#32, 0x3F70FD4E#32],
    ![0xBF7E39DC#32, 0x3F161535#32, 0xBEE358E7#32],
    ![0x3FAB015C#32, 0xBEBE442F#32, 0xBE18D15F#32],
    ![0x3EC01947#32, 0x3E252857#32, 0xBFF49BE2#32],
    ![0x3EFCA754#32, 0xBE1371B9#32, 0xBF79D03A#32],
    ![0x3FBA7931#32, 0x3EBB7188#32, 0x3EDF9EBD#32],
    ![0x3FC6355D#32, 0xBF81F4EC#32, 0x3F8AF2CD#32],
    ![0xC0007F3A#32, 0xBC51CAEA#32, 0xBEA1B655#32],
    ![0x3F996654#32, 0x3E5EC90D#32, 0xBF260F0F#32],
    ![0x3F50607D#32, 0x3F19260F#32, 0xBEF8EC6E#32],
    ![0x3EDFCB14#32, 0x3F8D5E4D#32, 0x3F89647D#32],
    ![0xBF85C53B#32, 0xBFAE2626#32, 0xBF303329#32],
    ![0x3FA2FE63#32, 0xBFF3DDC0#32, 0xBF8D222C#32],
    ![0xBED9A0E2#32, 0x3FAA56CC#32, 0xBECD26AA#32],
    ![0xBEAAF287#32, 0x3F40F326#32, 0x3F97DB46#32],
    ![0x3F4C2C71#32, 0x3ED51D00#32, 0x4020C137#32],
    ![0xBF715A9F#32, 0xBF74B435#32, 0x3F147FBF#32],
    ![0xBF5679BF#32, 0x3F901C04#32, 0xBE335B90#32],
    ![0x3F845EF4#32, 0x3F93A408#32, 0x3F8516B1#32],
    ![0x3EBD487F#32, 0xBFD73F50#32, 0xBF7E515D#32],
    ![0x3F032EE6#32, 0x3F69B233#32, 0xBF1477A6#32],
    ![0xBF1A1322#32, 0xBC33A1F4#32, 0xBF1FD3C1#32],
    ![0xBEF79340#32, 0x3FC69953#32, 0xBEC67E46#32],
    ![0x3EE28AF4#32, 0xBFD15C35#32, 0xBF04A443#32],
    ![0x3F680999#32, 0x3FA6E73D#32, 0xBEE2CCA1#32],
    ![0x3E7B7D9E#32, 0xBE14D708#32, 0xBE5FD8CA#32],
    ![0x3DBAAAAF#32, 0x3EB8D7E8#32, 0x3EDF8242#32],
    ![0x3F93B4B3#32, 0x3D8DAB94#32, 0x3F0E29B7#32],
    ![0xBECBB98D#32, 0xBFA4F8E3#32, 0xBE2A9B74#32],
    ![0x3C1EBE68#32, 0xBF86AD51#32, 0xBF0E82C7#32],
    ![0x3E6C5E0C#32, 0x3FDC1CBF#32, 0xC002FBCF#32],
    ![0xBE37C8D9#32, 0xBFDEE172#32, 0x3E80452C#32],
    ![0xBF29E8D7#32, 0xBE1B6B7D#32, 0xBF5E7507#32],
    ![0xBE58AE46#32, 0x3F367B40#32, 0xBF2EE6AB#32],
    ![0xBB57408F#32, 0x3F17E4CE#32, 0xBF3EC66F#32],
    ![0xBF09D9CC#32, 0xBBFA10C5#32, 0x3FDB69D5#32],
    ![0xBE6C9F94#32, 0xBE70A302#32, 0xBECC79D1#32],
    ![0xC009CF9F#32, 0xC00940AF#32, 0x3EBDB908#32],
    ![0x3ECE9836#32, 0xBFAD6471#32, 0x3CE8FAC3#32],
    ![0x3EA14168#32, 0x3F9CC8BD#32, 0xBC5337A9#32],
    ![0x3F4404EC#32, 0xC0060E27#32, 0xBFE28964#32],
    ![0x3F7DADCD#32, 0x3F20809B#32, 0xBE92260F#32],
    ![0x3F0A22A4#32, 0xBF9BA712#32, 0x3FC5224F#32],
    ![0x3D75ACB9#32, 0xBF868F42#32, 0x3FDD7156#32],
    ![0xBFDEE031#32, 0xBF847BED#32, 0x40044E2B#32],
    ![0xBF05C2B9#32, 0x401F3A83#32, 0x3F497AC4#32],
    ![0xBF7A6FAE#32, 0xBEF97719#32, 0x3CD759C3#32],
    ![0xBFC05D38#32, 0xBFAEEDDC#32, 0x3DF58A79#32],
    ![0x3F351149#32, 0xBEA6531C#32, 0xBF073D54#32],
    ![0xBFD3AC85#32, 0x3F410DC4#32, 0xBFA0C784#32],
    ![0xBF4970F6#32, 0x3ECE69F2#32, 0x3EE662B0#32],
    ![0x3D140E48#32, 0xBED6E184#32, 0x3F93B759#32],
    ![0xBE5D33A0#32, 0x3FAC10E0#32, 0x3EF371B9#32],
    ![0xBF54C1FD#32, 0x3F681F12#32, 0x3F8085DC#32],
    ![0xBF7D7887#32, 0xBFE772C2#32, 0x3F80CEBD#32],
    ![0xBEA0937D#32, 0xBE9EFD6C#32, 0x3EADC4C3#32],
    ![0x3F9C5C27#32, 0xBE5F4EF7#32, 0x3FA0D65B#32],
    ![0x3F32996A#32, 0xBE185309#32, 0xBD5EE9C7#32],
    ![0xBEFFD73C#32, 0xBEC5D011#32, 0xBF06BF76#32],
    ![0xBD0292C4#32, 0xBD586013#32, 0x3F3E2591#32],
    ![0x3FBA2E88#32, 0xBECBA137#32, 0x3E90453D#32],
    ![0xBFB34186#32, 0x3EB91B17#32, 0x3FEFAF0D#32],
    ![0x3F2DD65C#32, 0x3E88DF35#32, 0x3F57CE23#32],
    ![0xBC99828D#32, 0x3F5C6ECE#32, 0xBF3AAED4#32],
    ![0x3FCC6509#32, 0xBFBB0522#32, 0xBF65B356#32],
    ![0x3F815492#32, 0x3F635E46#32, 0x3EB83FB1#32],
    ![0xBF9E6C24#32, 0xBFA60A47#32, 0xBF910C41#32],
    ![0xBF5E18D1#32, 0x3EAC831E#32, 0xBE719A41#32],
    ![0xBFBB91E3#32, 0xBED73002#32, 0xC040E87C#32],
    ![0xBDBEAF14#32, 0x3D951E99#32, 0x4016700E#32],
    ![0xBF3F6581#32, 0xBEE6E9F6#32, 0xBF0B0755#32],
    ![0x3F41E065#32, 0xBF0264D1#32, 0x3F989A21#32],
    ![0x3FDBB7E8#32, 0xBF4E7700#32, 0xBF0763C5#32],
    ![0xBF3BF06F#32, 0x3F26C0F0#32, 0x3F1BF21F#32],
    ![0x3F801305#32, 0x4004F890#32, 0xBE13785E#32],
    ![0xBDF66BE1#32, 0xBECDDBAE#32, 0xBDEE719B#32],
    ![0x3F01172A#32, 0x3F9D8E5B#32, 0xBF8883CB#32],
    ![0xBF0194A3#32, 0xBF6A0A51#32, 0xBF467CF1#32],
    ![0xBF0666A1#32, 0xBEB4B3C9#32, 0xBFD11E8E#32],
    ![0x3F55AFC6#32, 0x3EDA3609#32, 0x3E90CEC2#32],
    ![0x3F71E249#32, 0xBFB77CF3#32, 0x3FC0DF3C#32],
    ![0xBEF6A2FD#32, 0xBEB85B55#32, 0x3E81CC01#32],
    ![0x3E719CCB#32, 0x3E893440#32, 0xBFA050D3#32],
    ![0x3F11BBB2#32, 0x3FBB4FD1#32, 0xBF165A7E#32],
    ![0xBEE4C02F#32, 0x3E00E4B3#32, 0xBF1359C7#32],
    ![0xBE5B3F3C#32, 0xBE83B4D5#32, 0xBFD110D6#32],
    ![0xBFF33CD2#32, 0xBEF47360#32, 0x3F8AA38E#32],
    ![0x3F084298#32, 0xBF66C55A#32, 0x3F54718C#32],
    ![0x3EDD70A5#32, 0xBF7B6ED6#32, 0xBE13B643#32],
    ![0xBF09BE2F#32, 0x3F0D9417#32, 0xBF951B6F#32],
    ![0x3F36F91F#32, 0xBE2F7AF6#32, 0xBEAD6634#32],
    ![0x3EEE951C#32, 0x3E9F7D20#32, 0xBD8D3FC6#32],
    ![0xBF7359B1#32, 0x3E955732#32, 0xBFC3E818#32],
    ![0x3F1D43E0#32, 0xBD5D4BE3#32, 0x3EE2DC41#32],
    ![0xBD2B2B21#32, 0xBFC54927#32, 0xBFB4748B#32],
    ![0xBFABFB95#32, 0xBFA7C049#32, 0x3FCA8A95#32],
    ![0x3FF935D6#32, 0x3FF5BAD3#32, 0xC01C77E1#32],
    ![0x3E93633F#32, 0x3F9E79A7#32, 0x3E6679B4#32],
    ![0xBF27E00C#32, 0x3E96838E#32, 0x3F44CE50#32],
    ![0x3C688C3A#32, 0x3EB33BE3#32, 0x3F4E257C#32],
    ![0x3E8B0BF2#32, 0xBF9B7DD7#32, 0xBFCE2214#32],
    ![0xBF41551C#32, 0xBE405168#32, 0xBF1134E9#32],
    ![0x3FD19BDA#32, 0x3F27A8E2#32, 0x3ECBCA04#32],
    ![0xBF397878#32, 0xBF11F54F#32, 0x3EA4C91A#32],
    ![0xBEDCC464#32, 0xBEF750F4#32, 0xBECC72A5#32],
    ![0xBEE93876#32, 0x3F4DD037#32, 0x3FE2155D#32],
    ![0xBF1AA7C9#32, 0xBF331B1B#32, 0xBF874813#32],
    ![0xBFDBAE03#32, 0x3F2F89C5#32, 0x3D10D563#32],
    ![0x3E496D18#32, 0xBF393EFA#32, 0xBF986529#32],
    ![0xBF5B3AA5#32, 0xBE407D7F#32, 0xBF6B17C2#32],
    ![0x3F066E6A#32, 0xBFAF4A1D#32, 0x3FEDAD5C#32],
    ![0xBEEFE53D#32, 0x3E27AADE#32, 0xBF943591#32],
    ![0x3F8C70BC#32, 0x3CC14C56#32, 0x3D4488FD#32],
    ![0xBF287A4C#32, 0xBCDCE373#32, 0x3F5DE278#32],
    ![0x3F99C88C#32, 0x400F08B8#32, 0xBF27C02C#32],
    ![0xBDE8651E#32, 0x3FBBA15F#32, 0xBF903C94#32],
    ![0x3F26F98A#32, 0xBE89350B#32, 0xBF0B175B#32],
    ![0xC00CC24F#32, 0xBDB737F7#32, 0x3FE26618#32],
    ![0xBE850B7B#32, 0x3F75C5D3#32, 0xBEA53F9B#32],
    ![0x3D31850E#32, 0x3FA75B3B#32, 0xBF1F0895#32],
    ![0x3F004396#32, 0x3F41549B#32, 0x3DA7B3AD#32],
    ![0xBE766D1B#32, 0xBE7DA6D0#32, 0xBE836134#32],
    ![0xBDAA751C#32, 0x3FB055B5#32, 0xBF9BC9E6#32],
    ![0xBFA8AE9B#32, 0xBE2B8CDB#32, 0xBCF06ECA#32],
    ![0xBED0B2DF#32, 0xBFB41A94#32, 0x3EBCF87D#32],
    ![0x3FA00360#32, 0xBE9CF178#32, 0x3FCE9622#32],
    ![0x3F4F0B4C#32, 0x3E0F983B#32, 0xBE0EA4A4#32],
    ![0x3E8846EF#32, 0x3FC04BF3#32, 0xBF66392B#32],
    ![0xBFDE86F7#32, 0x3FBE661E#32, 0xBF38B0E7#32],
    ![0x3F772142#32, 0xBEE72BB3#32, 0x3FB33FCA#32],
    ![0xBF46ACE1#32, 0xBDF22116#32, 0x3EF8C44D#32],
    ![0xBF836344#32, 0x3E65074E#32, 0xC0108426#32],
    ![0xBF94DDA1#32, 0x3F8653B3#32, 0x3F3C1D4D#32],
    ![0x3F0AC8B8#32, 0x3E2528D1#32, 0x3EE6EE74#32],
    ![0xBFD2DF2A#32, 0x3FE7285D#32, 0xBEF0EFC8#32],
    ![0xBEDEDA65#32, 0xBEA28F3A#32, 0xBE58ED00#32],
    ![0x3ED2E691#32, 0xBF93ECBB#32, 0x3F0B2702#32],
    ![0x3F6090B3#32, 0x3FD610D0#32, 0xBF646666#32],
    ![0x3F2EE9EC#32, 0xBEB27615#32, 0x3EB9FE73#32],
    ![0xBF60C8A6#32, 0xC02D9C62#32, 0x3E56AFFD#32],
    ![0xBEF67DD2#32, 0x3EADF524#32, 0x3D5BA5B0#32],
    ![0x3D02A56B#32, 0x3ECD44FD#32, 0x3EF200F2#32],
    ![0xBF865DBF#32, 0xC00E79A7#32, 0x3F6DD96F#32],
    ![0xBF15AC46#32, 0x3DFD8898#32, 0x3EFD018B#32],
    ![0x3FACF283#32, 0xBE5E6953#32, 0xBF4E0E3D#32],
    ![0xBF813F09#32, 0x3FD45E46#32, 0xBE111AAA#32],
    ![0xBE7F5F07#32, 0xBF8E2E1B#32, 0xBF250B27#32],
    ![0xBD883A5F#32, 0x3F802F5D#32, 0xBF2EB2E6#32],
    ![0xBFB454E8#32, 0xBED1E68C#32, 0xBEE8EC70#32],
    ![0x3F6A3E18#32, 0x3F0918D0#32, 0xBF543D70#32],
    ![0x3F63DE72#32, 0xBF3CB986#32, 0x3D2AB832#32],
    ![0x3EAB14A2#32, 0x3F9C42E5#32, 0xBF317CC1#32],
    ![0xBDF5C3D3#32, 0xBF9807BA#32, 0x3D3095C4#32],
    ![0xBFED0273#32, 0xBEB4EF85#32, 0xBF69E337#32],
    ![0xC002483E#32, 0x3F2B9DE6#32, 0xBC399C59#32],
    ![0x3FC9C4E5#32, 0x3E8A6AF7#32, 0x3F1C2C9B#32],
    ![0x3FA530A1#32, 0x3EA4150E#32, 0x3FA7C173#32],
    ![0xBF6E7970#32, 0xBED36C72#32, 0x3DA8B021#32],
    ![0xBEE0110B#32, 0xBF0C9F01#32, 0xBFF90084#32],
    ![0xC00E99C0#32, 0xBF85EFCC#32, 0xBE9E4FF9#32],
    ![0xC02385E6#32, 0x3FDB2DEF#32, 0xBFCE964B#32],
    ![0xBFB43EDC#32, 0x3FFAB59B#32, 0x3F1EB884#32],
    ![0xBE17B0EA#32, 0x3FB6E35A#32, 0xBF833525#32],
    ![0x3DA1BF95#32, 0xBF2D8FEC#32, 0x3FA6ED5C#32],
    ![0xBE6E3F6E#32, 0xBF333CD5#32, 0xBEAF1962#32],
    ![0x3E0216FE#32, 0xBEF391FB#32, 0x3ED211FA#32],
    ![0xBD333241#32, 0x3F3B7C8F#32, 0xBFA15180#32],
    ![0xBEACD7F6#32, 0x3E854AC8#32, 0x3AD4E0A0#32],
    ![0xBFA76194#32, 0xBE9484D7#32, 0xBF542245#32],
    ![0x3E4F96D7#32, 0xBE1C0561#32, 0xBFC243B5#32],
    ![0x3F9C0FA9#32, 0x3FB10E6A#32, 0xBFE8062E#32],
    ![0xBF1A5562#32, 0xBF42B5F6#32, 0xBEC4B5D0#32],
    ![0x3EA137DC#32, 0xBEA3C240#32, 0xBEDAEA6C#32],
    ![0x3E116DC9#32, 0xBF73B605#32, 0xBDF3BE99#32],
    ![0xBFA55B64#32, 0xBF8AEA0A#32, 0xBED88FD8#32],
    ![0x3DDDBD68#32, 0xBFA4878B#32, 0x3F51C814#32],
    ![0xBFA6B68B#32, 0xBEB9E76B#32, 0xBE988C71#32],
    ![0x3DEEA90C#32, 0x3EB54A65#32, 0xBE89446E#32],
    ![0x3EB79509#32, 0x3ED811D6#32, 0xBF810CCD#32],
    ![0xBFAC15E4#32, 0xBDCD6BEC#32, 0x3F6D1B36#32],
    ![0x3F85ABFD#32, 0x3EE2253F#32, 0xC018912A#32],
    ![0xBF1609AF#32, 0x3FEF27CD#32, 0x3FA0DED0#32],
    ![0xBF9D0F38#32, 0x3F7E3B4A#32, 0x3F93E0A3#32],
    ![0x3F82D644#32, 0xBF379FE4#32, 0xBF0BE4F2#32],
    ![0xBFCACBA0#32, 0x3E54BEAC#32, 0xBF96D646#32],
    ![0xBED105B4#32, 0xBFA1430D#32, 0x3FC4B3F1#32],
    ![0x3D1D18E1#32, 0x3EDA0DAF#32, 0xBE00B300#32],
    ![0x3F956C12#32, 0xBF696458#32, 0x3F3C4868#32],
    ![0x3F9110D7#32, 0x3EB4B4F9#32, 0xBFB42E07#32],
    ![0x4022E85C#32, 0xBF591E70#32, 0x3F238A04#32],
    ![0x3F0C3220#32, 0xBEAD2E56#32, 0x3E441980#32],
    ![0xBEACF6F9#32, 0xC02E8F67#32, 0xBFA08533#32],
    ![0xBE978DF7#32, 0x3E95CEA1#32, 0x3E3F4FF4#32],
    ![0xBFE1875E#32, 0xBFC11230#32, 0x3F89E291#32],
    ![0x3E8C99DD#32, 0x3DADEBE7#32, 0xBF77BAE2#32],
    ![0xBDFDC98E#32, 0x3F5D9E19#32, 0x3FCF43A4#32],
    ![0xBE3B5FEE#32, 0x3E83A5CB#32, 0x3F5B34E5#32],
    ![0xBF00B329#32, 0xBEAD7E82#32, 0xBF88894A#32],
    ![0xBF41ACE7#32, 0x3B7017EA#32, 0x3F377963#32],
    ![0xBF8DBF91#32, 0xBF7DD91F#32, 0x3FE50284#32],
    ![0xBF935B77#32, 0x3E1D7198#32, 0x3EBFF646#32],
    ![0x3F80CE55#32, 0xBFF3D5EF#32, 0x3F1B99C1#32],
    ![0xC004EF03#32, 0x3F8E15CA#32, 0x3EBF7FCD#32],
    ![0x3EDE0550#32, 0x3F8E2759#32, 0x3F43A8CC#32],
    ![0xBEE7D3F9#32, 0xBEFC7DC5#32, 0x3F4D2F60#32],
    ![0xBDB6A9F0#32, 0xBEDB5B59#32, 0xBF8B0921#32],
    ![0x3F5CF739#32, 0x3F4FAA26#32, 0xBD73C1F5#32],
    ![0xBF83CE8D#32, 0xBF4906E9#32, 0x3E397D45#32],
    ![0x3E00013F#32, 0xC01E6C29#32, 0xBF8A640D#32],
    ![0x3F62739E#32, 0x3FBB3018#32, 0x3E7436EC#32],
    ![0xBFE82752#32, 0x3F4B2F65#32, 0x3F1B605C#32],
    ![0x3D57A71D#32, 0xBFDBE503#32, 0xBE6DCCAB#32],
    ![0xBF7436A7#32, 0xBF0E2CFF#32, 0x3F5C16EE#32],
    ![0xBFD73CC7#32, 0x3F722C78#32, 0x3EA37AE2#32],
    ![0x3F958250#32, 0xBFC10B79#32, 0x3E73F61F#32],
    ![0xBF75ADB9#32, 0xBEB7E5C1#32, 0xC0067BE5#32],
    ![0x3FA06EF4#32, 0x3D96BBE3#32, 0xBF140BD4#32],
    ![0xBE9F20C5#32, 0xBF4311EF#32, 0x3FFBAF78#32],
    ![0xBF1CE884#32, 0x3F0972A6#32, 0xC02435F4#32],
    ![0x3FDAEDA7#32, 0xBED89D1F#32, 0xBF122F22#32],
    ![0x3FDBA4A5#32, 0xBDA145B5#32, 0xBCD576C2#32],
    ![0x3FCE3DA8#32, 0xBF459345#32, 0xBF276CB5#32],
    ![0xBDB68DF1#32, 0xBDB83354#32, 0xBF5177C9#32],
    ![0x3EE0A5B8#32, 0x3DC59733#32, 0x3F97239F#32],
    ![0xBFA11603#32, 0xBF3A4CC0#32, 0xBF7CCC8E#32],
    ![0x3E8C316F#32, 0xBF11D999#32, 0x39D4CA0B#32],
    ![0xBE5AEB15#32, 0xBEEE110F#32, 0xBF9D1252#32],
    ![0xBF9BEA82#32, 0x3EA76A36#32, 0x3F9AF172#32],
    ![0x3F40B207#32, 0x3F8CE308#32, 0x3F73F8FD#32],
    ![0x3E24A2B4#32, 0x3ED4ED0A#32, 0xBEC02801#32],
    ![0xBE85558A#32, 0xBF2FDFD0#32, 0xBE84BE84#32],
    ![0xBE8E2341#32, 0xBED70983#32, 0x3F657423#32],
    ![0x3F6689DB#32, 0xC04FDEA4#32, 0xBE812F3E#32],
    ![0xBD432931#32, 0xBE50BB7C#32, 0xBF2B0B3C#32],
    ![0xBFA3DC66#32, 0x3E266764#32, 0x3F1A6378#32],
    ![0x3F8D141E#32, 0xBE14974E#32, 0x3E86E100#32],
    ![0xBFC2FF95#32, 0x3F3FE04F#32, 0x3FA0F6BE#32],
    ![0x3F1F4515#32, 0x3F7C6DE6#32, 0x40082A91#32],
    ![0xBF03D42C#32, 0x3F2E6BC7#32, 0xC0091C4F#32],
    ![0xBFC3419F#32, 0x3E089708#32, 0x3F0A0A73#32],
    ![0x3D9731B4#32, 0x3F3941DC#32, 0xBC07375D#32],
    ![0xBB1A7256#32, 0xBF603758#32, 0x3EDC4788#32],
    ![0xC02DE29F#32, 0xBF503B10#32, 0x3F530466#32],
    ![0xBF1D3B4E#32, 0x3F4C0004#32, 0x3FE28999#32],
    ![0xBEDA18D9#32, 0xBF361F2F#32, 0xBFA1393F#32],
    ![0xBEB31939#32, 0x3EAD6BB2#32, 0x40454C2E#32],
    ![0xBC38E197#32, 0xBE8D5074#32, 0x3FEE60A2#32],
    ![0x3FCB2ADE#32, 0xBF49679E#32, 0x3E684596#32],
    ![0x3F95D556#32, 0x3E77E98E#32, 0x3E9DA81E#32],
    ![0x3EBD4CF2#32, 0xBF557811#32, 0x3EDADB61#32],
    ![0x3F3EDA76#32, 0x3FE58461#32, 0x3F1C76A0#32],
    ![0xC0325248#32, 0xBFC4587F#32, 0xBB875616#32],
    ![0x3F8C2501#32, 0x3F1A2A56#32, 0x3FCEF570#32],
    ![0xBF9F9AD5#32, 0xBFE394E7#32, 0x3F9F71C2#32],
    ![0xBD9D51E5#32, 0xBE413A64#32, 0x3E0DA12F#32],
    ![0x3F87E199#32, 0x3ED3FF23#32, 0x3EB6EC16#32],
    ![0x3F31BD7D#32, 0xBE930597#32, 0xBF6C7699#32],
    ![0x3F02A09E#32, 0xBF2A182E#32, 0xBD961EE1#32],
    ![0x40020991#32, 0x3F0E52F1#32, 0xBEECC972#32],
    ![0xBF79B4DE#32, 0x3ECE7360#32, 0xBF9292A7#32],
    ![0xBFAD2256#32, 0x3E39D9F5#32, 0xBEF89971#32],
    ![0x3EA527D1#32, 0x3DB7F220#32, 0x3F62D9D5#32],
    ![0xBE255C5C#32, 0x3F776629#32, 0xBF1958C4#32],
    ![0xBBF50853#32, 0x3F9EC6B2#32, 0x3FF4234D#32],
    ![0xBEC414A7#32, 0x3F36D3F6#32, 0xBEECE2D2#32],
    ![0x3F86F4D7#32, 0x4007B2E5#32, 0xBF07CD2C#32],
    ![0xBEB525CD#32, 0x3F723F21#32, 0xBF2EE744#32],
    ![0xBF802393#32, 0x3EB86FF5#32, 0x3CE4249F#32],
    ![0xBF1D6D7F#32, 0x3F717BE2#32, 0xBF88C6ED#32],
    ![0x3FC1FC78#32, 0xBFCA48CA#32, 0x3F6DFC15#32],
    ![0xBD9AE42B#32, 0xBFEFB4CC#32, 0xBF667FA7#32],
    ![0x3EBB7B8A#32, 0xBECD1AFF#32, 0xBE6DC48A#32],
    ![0xBF20FFC4#32, 0x3F4D8C65#32, 0x3F2D0D0B#32],
    ![0xBE47099C#32, 0xBFA1A6BC#32, 0xBF9DFE52#32],
    ![0x3EE23DC6#32, 0x3EA94D0B#32, 0xBF535C89#32],
    ![0xBED4C6EC#32, 0x3FAC95E5#32, 0xBD9FCDF9#32],
    ![0xBE4C77DE#32, 0xC022DFAE#32, 0xBF630451#32],
    ![0x3E443CD8#32, 0xBF998883#32, 0x3F1AF33F#32],
    ![0x3ED2C592#32, 0x3F0E67ED#32, 0xBFD75FC0#32],
    ![0x3F66CF3F#32, 0xBF5E8799#32, 0xBF7647EF#32],
    ![0x3EA504F5#32, 0xBE9FCFE8#32, 0x3FFEBA5D#32],
    ![0x4000B466#32, 0xBFA3E3C1#32, 0x3F900D00#32],
    ![0x402553CA#32, 0xBF0177A2#32, 0xBFD6B3B1#32],
    ![0xBF2F8378#32, 0xBE36674B#32, 0x40069FB6#32],
    ![0xBF0CEFBC#32, 0xBEE50784#32, 0x404536A4#32],
    ![0xBEC6B1D5#32, 0xBFB870EF#32, 0xBED1C39F#32],
    ![0x3E58747C#32, 0xBF50022F#32, 0xBEA99748#32],
    ![0x3E347DCE#32, 0xBFC5AFCF#32, 0xBE0F4234#32],
    ![0x3F69EA30#32, 0x3DB492C9#32, 0x3F9021FE#32],
    ![0xBF0EB636#32, 0xBE30B6E3#32, 0xBF4B2E33#32],
    ![0xBE7CF5B0#32, 0xBFAF8B53#32, 0x3F4D697A#32],
    ![0x3F3917C8#32, 0x3FB39F71#32, 0xBF220197#32],
    ![0x3F5841FF#32, 0xBE8E9A5F#32, 0xBCE58A45#32],
    ![0x3FBA5849#32, 0xBE35C5BF#32, 0xBDE0CCE7#32],
    ![0xC0101987#32, 0x3BAC7612#32, 0x3EFD2F64#32],
    ![0x3F3CD68E#32, 0x3F2CA327#32, 0xBF7E1E5A#32],
    ![0x3E6CE618#32, 0x40435CA1#32, 0xBF8C7E43#32],
    ![0xBF4E2534#32, 0x3EDEAB46#32, 0xBBA18763#32],
    ![0x3F068644#32, 0xBE49BD3D#32, 0xBF31D269#32],
    ![0xBD8FCF6E#32, 0xBEFFB1C9#32, 0xBF0EEEF4#32],
    ![0x3FABFE1B#32, 0x3E82613A#32, 0x3D969BAE#32],
    ![0xBF019201#32, 0x3F6986B1#32, 0x3D9ADC8C#32],
    ![0x3F00E2B6#32, 0xBF12B991#32, 0xBFCC4A68#32],
    ![0xBEAFAA80#32, 0xBF5810D6#32, 0x3F27EB98#32],
    ![0x3DE7DF55#32, 0xBED515C0#32, 0xBE991F20#32],
    ![0x3ED11CB6#32, 0x3FBCDED5#32, 0x3F0AF6B5#32],
    ![0xBE916493#32, 0x3E09CDCE#32, 0xBE95796D#32],
    ![0x3E92C8F7#32, 0x3F652B2B#32, 0x3E3F7309#32],
    ![0xBF298C92#32, 0x40292CDA#32, 0x3FD0A8B9#32],
    ![0x3EA255DF#32, 0x3FA93F6C#32, 0x3F9D35E2#32],
    ![0xBE65EC82#32, 0xBE72EA01#32, 0xBD651074#32],
    ![0x3DA78B98#32, 0x3D4FAFC1#32, 0x3F20C4B4#32],
    ![0x3FA36CC3#32, 0x40032547#32, 0x3F8C0294#32],
    ![0xBACD92AE#32, 0xBF6E6AB0#32, 0xBF7F0BCC#32],
    ![0xBF2687E7#32, 0x3F4DC3DA#32, 0xBF249CA8#32],
    ![0x3EDF1717#32, 0x3F5A19FD#32, 0x3F83C51C#32],
    ![0xBD861320#32, 0x4016B4A5#32, 0x3E3594D8#32],
    ![0x3CFAAE36#32, 0xBEC75713#32, 0x3EA9D81A#32],
    ![0x3CE32257#32, 0xBEE1CBDB#32, 0xBCCF996C#32],
    ![0x401A2D1B#32, 0xBD0D3A3A#32, 0xBEFECF6E#32],
    ![0xBD7A73D8#32, 0x3E620C3A#32, 0x3EC99500#32],
    ![0x3EFF2F94#32, 0xBF1F2B6F#32, 0xBF824E1E#32],
    ![0xBF2F0FC8#32, 0x400BD9E9#32, 0xBF574F88#32],
    ![0xC012DE38#32, 0x3FADAB44#32, 0xBEAB086F#32],
    ![0x3F93FC09#32, 0x3FC667F3#32, 0x3F14A4FD#32],
    ![0x3F9F79B1#32, 0xBFB14616#32, 0xBF01D38F#32],
    ![0xBD92F9B4#32, 0x3FDEA6BD#32, 0xBF9C4111#32],
    ![0x3D97BF90#32, 0xBF244CB1#32, 0x3FBCFF0F#32],
    ![0x3F3A2D4E#32, 0x3F6680B2#32, 0xBE8FD3BD#32],
    ![0x3F3F7AA0#32, 0xBE8A99AA#32, 0x3F89CA1C#32],
    ![0xBF26FC6F#32, 0xBFA26DEF#32, 0x3E38E543#32],
    ![0x3F5AC3F6#32, 0xBF5BA118#32, 0x3F566512#32],
    ![0x3E176C72#32, 0x3F43593D#32, 0x3E282588#32],
    ![0x3FEEF17B#32, 0xBFB00A39#32, 0x3ED75856#32],
    ![0xBF60467D#32, 0x3E91E220#32, 0xBFD98071#32],
    ![0xBEC7C3D7#32, 0xBF10FFF3#32, 0xBF2F41C6#32],
    ![0x3FD1DDE8#32, 0xBFA8FCF7#32, 0xBF040DC8#32],
    ![0xBFE4ADF7#32, 0x3F83B075#32, 0xBF525082#32],
    ![0xBCD20885#32, 0x3F1918F8#32, 0xBF7539BD#32],
    ![0x3ECDDFB2#32, 0x3F68F89A#32, 0xBFB0CB97#32],
    ![0x3B35AD4A#32, 0x3D9D0FFA#32, 0xBCC53653#32],
    ![0xBF87F44B#32, 0x3ED02FA2#32, 0x3EE4133D#32],
    ![0x3EDC987E#32, 0x3F4BB332#32, 0x3F848CEA#32],
    ![0x3FB78339#32, 0xBF177872#32, 0xBFE0B487#32],
    ![0x3DAB5D3B#32, 0x3F1DAD7A#32, 0xBF0EF5A9#32],
    ![0xBF84C0FA#32, 0x3FA7196C#32, 0xBE2D274B#32],
    ![0x3FF1E347#32, 0x3EF47CED#32, 0x3F936EB0#32],
    ![0x4016512E#32, 0xBF86C7FB#32, 0xBF80F42F#32],
    ![0x3E22A2BC#32, 0x3F5BE1E6#32, 0xBEAC7A0E#32],
    ![0x3F8AB60B#32, 0x3ED1E804#32, 0x3F24FE1F#32],
    ![0xBEA807E3#32, 0x3EB99958#32, 0x3F2413CA#32],
    ![0xBD8134A3#32, 0xBDF0601E#32, 0x3FB0E15E#32],
    ![0xBD809577#32, 0x3FC268F5#32, 0xBDA367FC#32],
    ![0x3F94E530#32, 0x3F884DD9#32, 0xBD4E2C74#32],
    ![0xBFE16C63#32, 0xBEED0F73#32, 0xBFF12437#32],
    ![0x3ECD0C3F#32, 0xBE1202E7#32, 0xBFA6F5C2#32],
    ![0x401E1547#32, 0xBDFC9032#32, 0xBE7FD2FE#32],
    ![0x3FC574E1#32, 0x3EACC004#32, 0xBE1E1BFB#32],
    ![0x3EE34A94#32, 0x3E47E625#32, 0x3E2B97B3#32],
    ![0xBEF08BBC#32, 0xBF852DF5#32, 0xBF657097#32],
    ![0x3FAAFA32#32, 0xBFD09855#32, 0x3F689738#32],
    ![0x3FA2E42F#32, 0x402AF4F1#32, 0x3DDBE89C#32],
    ![0x3FFB5BC4#32, 0xBF3172FE#32, 0xBEC6B66F#32],
    ![0x3EF74BD4#32, 0x3EF8E3FD#32, 0xBF937F8F#32],
    ![0xBFD8FB3F#32, 0x3F19C617#32, 0xBF70C3F0#32],
    ![0x3F429D08#32, 0x3E91587C#32, 0x3F484564#32],
    ![0xBF9DC6D1#32, 0x3ECD839B#32, 0x3F5BA527#32],
    ![0xC00564FA#32, 0x3F0D40FD#32, 0x3F4A1B72#32],
    ![0x3FA44939#32, 0xBDEFCB5C#32, 0xBF8D8B39#32],
    ![0x3F71E406#32, 0x3F3231A3#32, 0x3ED38983#32],
    ![0xBFB84DBB#32, 0x3F349697#32, 0xBE15BEAE#32],
    ![0x3F9738A1#32, 0xBFA71C7B#32, 0xBEFB98AA#32],
    ![0xBF586642#32, 0x3F845744#32, 0x3F0FFB0B#32],
    ![0x3FB515A6#32, 0xBF366C11#32, 0xBF78AFE3#32],
    ![0xBFA970D6#32, 0xC008040B#32, 0x3F3AAD90#32],
    ![0xBED415FD#32, 0x3F89C91C#32, 0x3FB37D72#32],
    ![0xBFC3E6FF#32, 0x3F0BF537#32, 0xC007866B#32],
    ![0x3F70AC38#32, 0x3F11C92A#32, 0x3F298857#32],
    ![0xBE74A31F#32, 0x3FD30BEE#32, 0xBEA6A88B#32],
    ![0xBEFA0AB4#32, 0xBDFEEA78#32, 0xBFFF34ED#32],
    ![0x3FA0A660#32, 0xBFE420E6#32, 0xBEEF8C0A#32],
    ![0xBEDBD54C#32, 0xBEFC95CA#32, 0xC004BE64#32],
    ![0xBFC5C86A#32, 0xBFB18B6B#32, 0x3D6F56E9#32],
    ![0xBF0AED13#32, 0x3F03D6E3#32, 0xBEE6C062#32],
    ![0xBF7DEB47#32, 0x3FFAFE08#32, 0x3FBE9F3C#32],
    ![0x3F0D1E49#32, 0x3D86D97F#32, 0xBC9DB576#32],
    ![0x3F7EB31E#32, 0xBF4E7420#32, 0x3E0F09ED#32],
    ![0xBFBD6770#32, 0x3F461EA3#32, 0x3F2DBEA5#32],
    ![0x3F4C93E4#32, 0x3E838DB5#32, 0xBF502401#32],
    ![0xBEDE594B#32, 0xBDF3D4D8#32, 0x3FA18673#32],
    ![0xBF37DE79#32, 0x3ED3E6FD#32, 0xBF3A2CAD#32],
    ![0x3D7E7688#32, 0x3F22D333#32, 0x3F566905#32],
    ![0xBE01C88A#32, 0xBE7728FF#32, 0xBF0F7283#32],
    ![0x3E87E90C#32, 0xBDE53B5E#32, 0xBF3F3005#32],
    ![0xBF1ACE73#32, 0xBF123048#32, 0x3FADC6CA#32],
    ![0x3E268EC2#32, 0x3F5B9030#32, 0x3FD56421#32],
    ![0x401CA73E#32, 0x3F7A51B7#32, 0xBF8FC825#32],
    ![0x3ECAD12C#32, 0xBEEFEB93#32, 0xBEC95C5B#32],
    ![0xBF905566#32, 0xBE66F65B#32, 0xBF8DAC25#32],
    ![0xBE86E42F#32, 0x3E946591#32, 0xBF104C31#32],
    ![0x3EA1DD2C#32, 0x3DDB4EFC#32, 0x3DEF3452#32],
    ![0xBC0E7F1B#32, 0xBF12B546#32, 0xBF20F318#32],
    ![0xBF5F0ACE#32, 0x3E22587D#32, 0xBF93042A#32],
    ![0xBF8DA2B3#32, 0xBE9E1DD0#32, 0xBE5EEF1B#32],
    ![0xBF8A1FD7#32, 0xBD9432E7#32, 0xC035A1FE#32],
    ![0x3F9AE4C2#32, 0xBC3E8BC6#32, 0x3EC9624C#32],
    ![0x3DC81877#32, 0x3FE78909#32, 0x3EE71A07#32],
    ![0xBDFC8226#32, 0x3E81D3DA#32, 0xBE81D129#32],
    ![0xBCFCA739#32, 0xBF59D195#32, 0xBF8D0061#32],
    ![0x3E5296E9#32, 0xBEA124A8#32, 0xBF3B1655#32],
    ![0x3E95F9C2#32, 0x3EE66C2F#32, 0xBE19F5D6#32],
    ![0x3FC25239#32, 0x3FA28F4E#32, 0x3FA1C306#32],
    ![0x3E9396C5#32, 0xBE14721A#32, 0x3E732F18#32],
    ![0xBFB4355C#32, 0x3D88F989#32, 0x3E5F27B2#32],
    ![0x3D98417B#32, 0xC003B0DB#32, 0x3D00EC59#32],
    ![0x3FC8DAC4#32, 0xC02ABD9C#32, 0x3FC99344#32],
    ![0x3F13BB9C#32, 0xBECFB307#32, 0xBE60BDC5#32],
    ![0x3F11CB19#32, 0xBE62432C#32, 0xC02F9229#32],
    ![0x3F402E90#32, 0xC00B66CE#32, 0x3F1F22D2#32],
    ![0xBEDE792F#32, 0x3E1963B7#32, 0xBFAED583#32],
    ![0x3E8538B6#32, 0x3F82256F#32, 0x3F754F3B#32],
    ![0xBEB21A53#32, 0xBEF9FCE4#32, 0xBF7336B8#32],
    ![0xBFA4D27F#32, 0x3DCE493B#32, 0xBF1859F1#32],
    ![0xBE44F96D#32, 0xBD49B403#32, 0x3EFF3E62#32],
    ![0xBF809021#32, 0xBF611033#32, 0xBE3B4106#32],
    ![0xC031F08D#32, 0x3F9AE9D4#32, 0xC0524CBF#32],
    ![0xBD6226D6#32, 0x3EECEED3#32, 0xBFD1D7FD#32],
    ![0xBD969A08#32, 0x3EEB7184#32, 0xBE334034#32],
    ![0xBDBFDAFC#32, 0x3F6B9B31#32, 0xBEA271FB#32],
    ![0x3EEB857F#32, 0xBF170BC8#32, 0x3EC158DF#32],
    ![0x3F326B12#32, 0xBE18C778#32, 0xBF8EBC38#32],
    ![0xBE861B0F#32, 0x3FF25C45#32, 0x3E44F1CE#32],
    ![0x3F40933B#32, 0xBD5280E1#32, 0xBD8E04DB#32],
    ![0x3F944416#32, 0x3E9C9BFD#32, 0xBAA6A450#32],
    ![0x3F97966C#32, 0xBF7D314D#32, 0xBE758AF2#32],
    ![0xBFDBD4CA#32, 0xBE1148B7#32, 0x3F2AB845#32],
    ![0xBEDDFE11#32, 0xC041479C#32, 0xBFF1CD22#32],
    ![0xBF8C3622#32, 0x3EA837D1#32, 0x3F300160#32],
    ![0x3F0C609D#32, 0xBEB39647#32, 0xBF3EC108#32],
    ![0xBF9308A2#32, 0xBF846DF2#32, 0x3E5C3BD9#32],
    ![0xBD58665A#32, 0x3FA121B2#32, 0x3F85DC1A#32],
    ![0xBF326E61#32, 0x3FA03A78#32, 0x3D9BADFC#32],
    ![0x3C82B54E#32, 0xBF211179#32, 0xBD08CC44#32],
    ![0x3F8F2BB0#32, 0xBEF9A3C6#32, 0x3FBE2B5F#32],
    ![0xBFAB7387#32, 0x3E9BEEFE#32, 0xBF298DE9#32],
    ![0xBF5DEC58#32, 0xBF8A0847#32, 0xBE4D4915#32],
    ![0x3F38772A#32, 0xC00A3CDF#32, 0xBF0F1054#32],
    ![0x3F52F0AE#32, 0x3C8CE34D#32, 0x3F6E8385#32],
    ![0xBF03D042#32, 0x3DDF5EDE#32, 0x3EAAF0AE#32],
    ![0xBDCF6199#32, 0xBD6D112C#32, 0x3F396AD0#32],
    ![0xBE80AB16#32, 0x3F8D2AEF#32, 0x3F7FCB73#32],
    ![0x401A581D#32, 0xBED74684#32, 0xBF886FF3#32],
    ![0xBF0E0D96#32, 0x3F7CB3B5#32, 0xBF6EB9C8#32],
    ![0xC0104274#32, 0x3FA09188#32, 0x3F2D6400#32],
    ![0x3EC5DE23#32, 0x3F7D11DE#32, 0xBDE67F59#32],
    ![0x3E9CBF0B#32, 0x3F1D09D4#32, 0xBF5EA7A9#32],
    ![0xBF818558#32, 0x3E7DA458#32, 0xBE509192#32],
    ![0xBF8681E7#32, 0xBFA44111#32, 0xBF0B362E#32],
    ![0x3FBB4381#32, 0xBD1B73ED#32, 0x3F99030A#32],
    ![0x3F39267D#32, 0x3F999BC9#32, 0x3F9728EE#32],
    ![0x3F0EB5AD#32, 0xBF3E28E2#32, 0xBF8713B0#32],
    ![0x3F7D8BFD#32, 0x3E9A5F97#32, 0xBDDEB37C#32],
    ![0xBFC53363#32, 0x3F45CA89#32, 0x3F27CCDA#32],
    ![0x3F767E00#32, 0xC010D581#32, 0x3E857DB7#32],
    ![0xBFA96DDA#32, 0xBFA0C794#32, 0x3FCC196B#32],
    ![0x400426B3#32, 0xBE96FC9A#32, 0x3F3FD7D4#32],
    ![0xBEBC08F1#32, 0x3F58DCF7#32, 0xBF97C104#32],
    ![0x3F9E86E3#32, 0xC00E7AD1#32, 0x40232D32#32],
    ![0xBE710DE0#32, 0x3D579267#32, 0xBF366437#32],
    ![0x3F0F520A#32, 0x3E89C39F#32, 0x3F08D43C#32],
    ![0x3FA9F9DB#32, 0xBE112660#32, 0xBFEA0C77#32],
    ![0x3E9AB3F3#32, 0xBF72C734#32, 0xBFE96754#32],
    ![0x3F085044#32, 0xBE468279#32, 0x3FB984F3#32],
    ![0x3F24E6F6#32, 0xBE5BFFB1#32, 0x3F6DBDA3#32],
    ![0x3E53B668#32, 0x3E7BD143#32, 0x3E835920#32],
    ![0x3F958B2B#32, 0x3E67E833#32, 0xBF98AEDF#32],
    ![0xBC0ABB45#32, 0xBF942B71#32, 0x3D3D33F4#32],
    ![0x3DE63E26#32, 0xBE9E0346#32, 0x3F78FD63#32],
    ![0x3DF5E6C7#32, 0xBE1AE4A1#32, 0x3F442E3B#32],
    ![0x3E5E7A9C#32, 0x3F08B168#32, 0xBF27322D#32],
    ![0x3F309DD8#32, 0xBF868D0F#32, 0xBD4BBDB8#32],
    ![0x3E2A457B#32, 0x3E80BE10#32, 0x3EE9367C#32],
    ![0x3FB6F3A2#32, 0x3E30FC1A#32, 0x3EA7439F#32],
    ![0x3EA5F16A#32, 0xBF065F35#32, 0x3F2517D7#32],
    ![0x3EC96195#32, 0xBF8662D8#32, 0xBE9F6929#32],
    ![0x3F0CBEA7#32, 0x3FAB033A#32, 0x3FF15B40#32],
    ![0x3EC4A286#32, 0x3CBE26DC#32, 0xBE27C3AD#32],
    ![0xBDD3B3A0#32, 0x3F5B359A#32, 0x3F9A775E#32],
    ![0x3DD59BFE#32, 0x3EB0BF07#32, 0xBD4570F7#32],
    ![0x3F80CFDC#32, 0xBE5B9BD0#32, 0xBF0A7AD1#32],
    ![0x3DC0D295#32, 0x3ED79252#32, 0xBEA0D100#32],
    ![0xBC48DDF1#32, 0xBF19E024#32, 0xBE96338D#32],
    ![0x403052B2#32, 0x3F8424E4#32, 0x3E0C3FF1#32],
    ![0xBF07F357#32, 0xBEA0D149#32, 0x3F397B4F#32],
    ![0x3FA00857#32, 0x3F8D5C9A#32, 0x3E33EF2A#32],
    ![0x3FADFD88#32, 0x3E469B7E#32, 0x403B9172#32],
    ![0x3DA2171E#32, 0x3F433D3C#32, 0x3FEF966E#32],
    ![0x3E76607D#32, 0xBE3851DA#32, 0xBF3551FB#32],
    ![0xBF829AD5#32, 0xBFB4E8BF#32, 0x3EDC2515#32],
    ![0x3F925AFB#32, 0x3E83576D#32, 0x3E567240#32],
    ![0xBF8CB544#32, 0x3DD178C9#32, 0x3EB059FC#32],
    ![0x3EEF8817#32, 0x3E8FBD3B#32, 0xBFB5D741#32],
    ![0x3E9F8F17#32, 0x3F0FF2F7#32, 0x3F8CB918#32],
    ![0xBE8F62D2#32, 0x3E854124#32, 0xBE29D1A5#32],
    ![0xBFA1B2D4#32, 0xBEB41BA2#32, 0x3F854CCD#32],
    ![0xBED17C74#32, 0x3FA80BF6#32, 0x3EF41E62#32],
    ![0xBE10C3DE#32, 0x3F66EE98#32, 0xBF509F56#32],
    ![0x3F6E8268#32, 0x3EB3E688#32, 0x3F593AA1#32],
    ![0x3F708FC6#32, 0xBC10EF48#32, 0x3EAD801A#32],
    ![0x3F836FC2#32, 0xBEF26993#32, 0x3F44BC73#32],
    ![0x3F1DE1F9#32, 0x3FAA4387#32, 0x4017B91D#32],
    ![0xBF194F88#32, 0xBEDBCAF3#32, 0x3F9B0381#32],
    ![0x3F117740#32, 0xBE97BFE4#32, 0x3ED72AAF#32],
    ![0x3F945FF7#32, 0xBEB7573F#32, 0x3EDDAAB6#32],
    ![0xBF7C3564#32, 0xBFBB6810#32, 0xBF974138#32],
    ![0x3E8BDCC8#32, 0x3F6B108C#32, 0x3D96C84C#32],
    ![0xBF78117C#32, 0xBE97EDB1#32, 0xBF68A9E8#32],
    ![0xBF8ECEF3#32, 0xBF36F5D9#32, 0x3FB36E16#32],
    ![0xBF852E0B#32, 0xBF2B92B4#32, 0x400D9B4A#32],
    ![0xBF30A615#32, 0xBFD6C2D9#32, 0xBE02D7A4#32],
    ![0xBF2EB5B7#32, 0x3F847308#32, 0x3F44B581#32],
    ![0xBF0BEBE7#32, 0xBFA9FD3A#32, 0x3F599A27#32],
    ![0x400D7BD4#32, 0x3FBF5D13#32, 0xBFD6B60E#32],
    ![0x3E521CE9#32, 0xBFB13C39#32, 0x3F28B5CF#32],
    ![0xBF9C12EB#32, 0x4018FEA7#32, 0xBF9157BC#32],
    ![0xBF45883E#32, 0x3DBB0B1E#32, 0x3FA9FE7D#32],
    ![0x3F2D5155#32, 0x3F0997E2#32, 0xBFDFADA6#32],
    ![0x3E901C4A#32, 0xBF1A4915#32, 0xBFAE3ECB#32],
    ![0xBFD077A3#32, 0xBF6D832C#32, 0x3FEEB952#32],
    ![0xBF1A5F4C#32, 0xBFBF626B#32, 0x3F0E3FA2#32],
    ![0xBF6F1721#32, 0x3E795795#32, 0xC0034315#32],
    ![0x3F17A957#32, 0x3E0C2FF9#32, 0x3EF24BCE#32],
    ![0x3F0130AC#32, 0x3F04D606#32, 0x3FA4D8B2#32],
    ![0x3F057B37#32, 0x3E9FA0A5#32, 0x3FA1E75D#32],
    ![0x3E2D722F#32, 0x3F87003E#32, 0x3F358ADC#32],
    ![0xBF9E5FC2#32, 0xBEA8F845#32, 0xBF32D1FA#32],
    ![0x3F002914#32, 0x3E2964BB#32, 0xBF85ABE3#32],
    ![0x3E0AAE4F#32, 0xBFDA0201#32, 0xBF9E92C0#32],
    ![0xBF06FA35#32, 0x3EAE33AD#32, 0xBF298822#32],
    ![0xBF5751D8#32, 0x3EF898B7#32, 0xBD9BDC91#32],
    ![0xBF203871#32, 0xBDEF014C#32, 0x3F02ECC5#32],
    ![0x403973ED#32, 0xBE3992E3#32, 0x401058E1#32],
    ![0x3F60278E#32, 0x3E978B54#32, 0xBF6E03FA#32],
    ![0x400A565E#32, 0xBF17EBB4#32, 0x3EA38AE0#32],
    ![0x3F8DCD1E#32, 0xBF2A09BF#32, 0x3EBCF3ED#32],
    ![0xBEFBE1AF#32, 0x3F459B7C#32, 0x3F219E81#32],
    ![0xBFA34085#32, 0x3F86ECC3#32, 0x3F265D75#32],
    ![0xBEC84998#32, 0xBEF7BE58#32, 0xBEA5DF06#32],
    ![0x3F99B78B#32, 0xBFB0BB67#32, 0xBF899D95#32],
    ![0xBF361D98#32, 0x3E0FEC8F#32, 0xBFD3C5FA#32],
    ![0x3F23620A#32, 0x3E7752FA#32, 0x3FBA5824#32],
    ![0xBF04C848#32, 0x3F1E42D1#32, 0x3F941D02#32],
    ![0xBE1A8C35#32, 0x3E8C715C#32, 0xBEF7168E#32],
    ![0x3FB9A17C#32, 0xBDD0CB51#32, 0xBE988859#32],
    ![0x3F53FBA5#32, 0xBFA01915#32, 0xBF07E2F3#32],
    ![0xBF15F3E0#32, 0x3F4563C3#32, 0x3F08DDE1#32],
    ![0x3FE8ED6A#32, 0x3FB40434#32, 0x3F14D11C#32],
    ![0x3EAC110C#32, 0xBED5AD33#32, 0xBF093AA4#32],
    ![0x3F80B7A0#32, 0xBF8E3239#32, 0x403F4C15#32],
    ![0x3F903D2E#32, 0x3F2B74DD#32, 0xBF08EA29#32],
    ![0x3F130865#32, 0xBF9FF855#32, 0xBF9839D9#32],
    ![0x3FD3E677#32, 0xBF852B89#32, 0x3FD25A02#32],
    ![0x3FABE8AC#32, 0x3E672080#32, 0x3E9018FD#32],
    ![0xBF8424E3#32, 0xBF96C326#32, 0x3E12688E#32],
    ![0xBEE93CB8#32, 0x3F93EAE4#32, 0xBF946A63#32],
    ![0xC00C2032#32, 0xBF84BF1D#32, 0xBFE5C1F1#32],
    ![0xBFEB3719#32, 0xBEC6F852#32, 0x3F222047#32],
    ![0xBF2FE03C#32, 0x3EC38B4E#32, 0x3F96C096#32],
    ![0x3FED3C6B#32, 0x404AE801#32, 0x3EDC3C10#32],
    ![0x3FB270EC#32, 0xBE8C78BE#32, 0x3EAC202D#32],
    ![0xBE5C1034#32, 0xBEA64396#32, 0x3F6110C3#32],
    ![0x3EF49177#32, 0xBED7C086#32, 0x3F71CA1E#32],
    ![0xBF7B723A#32, 0xBF9C8CC6#32, 0xBF507733#32],
    ![0xBFC7EEC6#32, 0x3F3894AD#32, 0xBFFBCC7E#32],
    ![0x3E43D35F#32, 0xBF3F29A1#32, 0xBED58A1D#32],
    ![0xBF2AE794#32, 0x3F80CD15#32, 0xBFACE4F8#32],
    ![0xBF285D64#32, 0x3E7401F9#32, 0xBFAC5285#32],
    ![0xBE084AF6#32, 0xBF0FD22F#32, 0x3FA326FE#32],
    ![0x3F5F9904#32, 0x3FB13EB0#32, 0xBF1E3B02#32],
    ![0x3BB2A145#32, 0xBF58C971#32, 0x3FB03043#32],
    ![0xBF074E31#32, 0xBED3E1E2#32, 0x3F1E56C8#32],
    ![0x3F50D08E#32, 0x3F1AD41C#32, 0x3F8AF990#32],
    ![0xBD0053D6#32, 0xBF072D12#32, 0xBE6564AD#32],
    ![0xC0245B52#32, 0xBF0D3879#32, 0xBFB4E015#32],
    ![0x3EE0DD86#32, 0xBE9B9393#32, 0x3F099390#32],
    ![0x3FFA13A8#32, 0xBFD6256B#32, 0xBEA5A27A#32],
    ![0xBF730570#32, 0xBFD06673#32, 0xBF299F65#32],
    ![0x3E134297#32, 0xBF4DAADA#32, 0x3DFE1F5D#32],
    ![0xC04A01FA#32, 0x3AD0EBF3#32, 0x3ED97FEF#32],
    ![0x3E6DA4F5#32, 0xBF449DA8#32, 0x3F35AFCF#32],
    ![0x3F183DE1#32, 0xBFB56B22#32, 0xBEF504D6#32],
    ![0xBEAA565B#32, 0xBE53FFD5#32, 0xBE86D346#32],
    ![0x3F53FF75#32, 0x3F4DA120#32, 0x3F70AD42#32],
    ![0x3F1807CB#32, 0xBF0A4987#32, 0xBF93564C#32],
    ![0xBFFAC082#32, 0x3F2AD731#32, 0xBE709FCA#32],
    ![0x3F5A4BE4#32, 0x3FCD3FF7#32, 0xBE8ADD45#32],
    ![0x3F18FF30#32, 0xBFA75445#32, 0x3F160030#32],
    ![0x3EA10FBC#32, 0x3D47AF31#32, 0x3E9B382E#32],
    ![0xBF14F435#32, 0xBF84B858#32, 0xBE8BC0B6#32],
    ![0x3F6FE168#32, 0x3E964B53#32, 0x3EC640D3#32],
    ![0xBFE7012E#32, 0x3F535AFB#32, 0xBF27F0C0#32],
    ![0x3EF1F830#32, 0x3EC83DD1#32, 0x3EC54055#32],
    ![0xBF2D60DC#32, 0xBE15B35C#32, 0xBFAB1C0F#32],
    ![0xBFBF059C#32, 0x3F3F1628#32, 0xBFAE75EF#32],
    ![0xBF3417B6#32, 0xBE474273#32, 0x3E9671EE#32],
    ![0x3FD58AE1#32, 0xBF43D8EB#32, 0x3EB76A4F#32],
    ![0xBE5A369E#32, 0xBFC793A4#32, 0xBF9C0016#32],
    ![0x3F80776F#32, 0x3F81F1B5#32, 0x3F96F8E5#32],
    ![0x3FC03C93#32, 0x3F6C7DA1#32, 0x3D25BA4E#32],
    ![0xBF3B410E#32, 0x3EEFFFA0#32, 0x3F162EF4#32],
    ![0xBF67430E#32, 0x3BFBAD1F#32, 0xBF4EE1CD#32],
    ![0x3FC1FDA5#32, 0x3FC7DB45#32, 0xBF742040#32],
    ![0xBFB5B41E#32, 0x3F8038D3#32, 0x400E408E#32],
    ![0x3DB7204B#32, 0xBFB048A0#32, 0x3E3D4D5C#32],
    ![0xBE8B8B21#32, 0xBE3BEC72#32, 0xBF00BC84#32],
    ![0xBE2B277F#32, 0x3D952441#32, 0xBF67A860#32],
    ![0xBF493C65#32, 0x3FCB6C0E#32, 0xBEA5C119#32],
    ![0x3ECF498F#32, 0xBF1CACFE#32, 0xBF280C78#32],
    ![0x3FBB6DE2#32, 0x3E3706AB#32, 0x3FFE6B9C#32],
    ![0x3EAB5006#32, 0xBE00353B#32, 0xBF357591#32],
    ![0xBFCFA80E#32, 0xBD74CF94#32, 0xBFA03984#32],
    ![0xBFE30BD8#32, 0x3E687246#32, 0x3EECB7BB#32],
    ![0xC04FE463#32, 0x3F7487AD#32, 0xBF2C04E3#32],
    ![0xBD983D29#32, 0xBEA6CEE9#32, 0x3FA6B4AD#32],
    ![0xBEC8BB17#32, 0x3F93684D#32, 0x403755E1#32],
    ![0xBF9542B2#32, 0xBF3EB701#32, 0xBE4C56B3#32],
    ![0x3E7B777B#32, 0xBF85118E#32, 0xBFCE16E0#32],
    ![0x3F6FCD07#32, 0xBFDC61A8#32, 0xC0116F8B#32],
    ![0xBEF14190#32, 0xBF17A8F5#32, 0x3FD252E0#32],
    ![0x3FB81660#32, 0xBF73DD49#32, 0xBFAB7D47#32],
    ![0x3E7C1A7E#32, 0x3F606EB9#32, 0x3F0744F9#32],
    ![0xBD39B44D#32, 0xBF7FB067#32, 0x3EF25088#32],
    ![0x3EE3359F#32, 0xBEFDE9F2#32, 0x3FA58FB8#32],
    ![0x3F5B9F61#32, 0x3F51D9CF#32, 0xBF72B067#32],
    ![0x3E32DF49#32, 0xBF35B3FA#32, 0xBF92595A#32],
    ![0xBFBAE734#32, 0x3F023AB8#32, 0xBF3E3F14#32],
    ![0xC01398BB#32, 0x3D164D4E#32, 0xBED95A33#32],
    ![0x3ED00BE5#32, 0x3E88BC81#32, 0x3F8205C6#32],
    ![0xBEE234E7#32, 0x3F316859#32, 0x3F1E5525#32],
    ![0x3F8C4F06#32, 0xBF3620D3#32, 0x3FF148D6#32],
    ![0x3D41B825#32, 0x3E48B957#32, 0xBE8D2091#32],
    ![0xBF8BB303#32, 0x3DBD0811#32, 0xBFD61DD7#32],
    ![0x3FA948B1#32, 0xBE38671C#32, 0x3F241259#32],
    ![0xBF99FC12#32, 0x3F11CC46#32, 0xBECE520C#32],
    ![0x3F76C0AE#32, 0xBFEEA51E#32, 0xBEA7D29C#32],
    ![0x3E8F45B7#32, 0xBF87AFBB#32, 0x3FD23228#32],
    ![0xBE292B70#32, 0x3F5DEDDE#32, 0x3EE1CBAA#32],
    ![0x40063259#32, 0x3ECCE949#32, 0xBF7C698E#32],
    ![0x3EBE1F71#32, 0xBF59A416#32, 0x3FAAD1AD#32],
    ![0x3F942BA9#32, 0x3F817B9E#32, 0xBFB1C299#32],
    ![0x3EAB2C1C#32, 0x3E638183#32, 0xBDCCE9B6#32],
    ![0xBFDBB60D#32, 0x3FB72FA6#32, 0x3F4A6BEF#32],
    ![0xBF006E41#32, 0xBF5C9EFB#32, 0x3F8F2CAC#32],
    ![0x3FB72810#32, 0xC03E8F4A#32, 0xBF2C051B#32],
    ![0x3F549C17#32, 0xBF0E333C#32, 0x3F8E5A13#32],
    ![0x3E131F0D#32, 0xBFE80A63#32, 0xBD1A04C2#32],
    ![0xBEA53569#32, 0xBFAF5F28#32, 0xBE82FEBB#32],
    ![0xBC0049DD#32, 0x3F420DAC#32, 0x3F638994#32],
    ![0x3F4EEB42#32, 0xBF99EBCD#32, 0x401373DE#32],
    ![0xBE99F6FC#32, 0x3EB20B5E#32, 0xBE91CB77#32],
    ![0xBF02430B#32, 0x3ECE92F1#32, 0xBF8DDD9D#32],
    ![0xBF42913A#32, 0x3F838DD2#32, 0xBF0C1F7B#32],
    ![0xBDA4BD5B#32, 0xBF9E9811#32, 0xBE566A87#32],
    ![0xBE61B394#32, 0x3EFECD68#32, 0xBF2B4CD7#32],
    ![0xBEA0CEF1#32, 0xBE60D228#32, 0x3FE928D8#32],
    ![0x3EF1ADA9#32, 0xBFAA7E70#32, 0xBF9C478C#32],
    ![0x3F762EE7#32, 0xBF298EE4#32, 0x3E802AE6#32],
    ![0xBF44EACF#32, 0x3EFC6D79#32, 0x3FCCE7EE#32],
    ![0xBF9FA82D#32, 0x3F698C5E#32, 0xBF254B57#32],
    ![0x3FE04391#32, 0x3F67B868#32, 0x3DB057BC#32],
    ![0x3F68CF23#32, 0x3F3E51A1#32, 0x3C7BD6D2#32],
    ![0xBE694A4E#32, 0xBF1A9BF5#32, 0xBEC78EAD#32],
    ![0xBF1A4ADE#32, 0x3F4A7C3C#32, 0xBE8E7D62#32],
    ![0x3F1B015B#32, 0x3F594519#32, 0xBF458270#32],
    ![0xBE1BE26F#32, 0x401FB0C4#32, 0xBF095E0E#32],
    ![0x3FEA1CE9#32, 0xBFB437C9#32, 0xBF86D477#32],
    ![0xBF10794F#32, 0x3DE34234#32, 0xBEEB699E#32],
    ![0xBEDEE89B#32, 0xC0135AD3#32, 0xBF3B7F6A#32],
    ![0x3EB20C7E#32, 0xBEA6BD31#32, 0x3E647052#32],
    ![0x3E6DAF1A#32, 0x3E5E7EB3#32, 0x3C892BE6#32],
    ![0xBEB86DB8#32, 0x3F5F79F4#32, 0xBE6A51B2#32],
    ![0xC01834BA#32, 0x3F07DD5F#32, 0xBEFE12BE#32],
    ![0x3F845E7D#32, 0x3E592CBA#32, 0xBF6B9549#32],
    ![0xBF6A63D8#32, 0xBEEBADD7#32, 0x3E97DA3B#32],
    ![0xBD08D41A#32, 0x3F7989C3#32, 0x3FE989F9#32],
    ![0x3F7AFB03#32, 0x3F23F4FD#32, 0x3F38A2AB#32],
    ![0xBD157660#32, 0xBE946DF6#32, 0x3F1C18FB#32],
    ![0xBFBEA23F#32, 0xBF188A94#32, 0xBE31DB06#32],
    ![0x3EB4EB34#32, 0xBE28F6CA#32, 0x3FA0FA3D#32],
    ![0x3F019501#32, 0x3FF405D0#32, 0x4005885A#32],
    ![0x3F61C4CC#32, 0x3F971C68#32, 0xBEB27B54#32],
    ![0xBE830128#32, 0x3F02BA3A#32, 0x40038425#32],
    ![0x3F06B955#32, 0x3F9409E4#32, 0x3FD7053D#32],
    ![0x3F025DC8#32, 0xC032D0C8#32, 0xBE939E24#32],
    ![0xBEE1DE76#32, 0x3F1FF0B5#32, 0x3EDFD9F2#32],
    ![0x3EE55D4E#32, 0xBE8260AE#32, 0xBF189D25#32],
    ![0xBE98777B#32, 0x3E886357#32, 0xBF4761C0#32],
    ![0x3F05001C#32, 0xBD6EDD4A#32, 0x3C1D9F62#32],
    ![0xBF9D3425#32, 0x3E480D59#32, 0x3D67EA41#32],
    ![0xBFFD5A78#32, 0xBED1DCAB#32, 0xBE15282D#32],
    ![0x3E8E408C#32, 0xBEE4134C#32, 0x3F6F1F81#32],
    ![0xBF68B8A5#32, 0x3F46C81C#32, 0xBF06C57E#32],
    ![0x3F88A328#32, 0x3F61E702#32, 0xBF7D8E56#32],
    ![0x3F2B78FC#32, 0x3E7BF341#32, 0xBDDF357F#32],
    ![0xBFB277AA#32, 0xBF21C134#32, 0xBE850DA1#32],
    ![0x3E1D6484#32, 0x3EEF407A#32, 0xBE34A038#32],
    ![0x3F45A88B#32, 0xBD888931#32, 0xBF594A88#32],
    ![0xBE9C83AD#32, 0x3E009768#32, 0xBFA712F5#32],
    ![0xBD58D4CB#32, 0x3FACC678#32, 0xBCFAAAC3#32],
    ![0xBF915BE5#32, 0xBE9BBF82#32, 0x3DD15808#32],
    ![0xBF12D526#32, 0xBE828682#32, 0xBF32E92C#32],
    ![0x3F9964D7#32, 0x3DC320B6#32, 0x3EACE7A6#32],
    ![0x3FD09368#32, 0xC006CB9C#32, 0x3F903F22#32],
    ![0xBD8A79D7#32, 0x3EF43E49#32, 0x3F6AE582#32],
    ![0xBF70F6B5#32, 0x3F04BF83#32, 0xC02634CA#32],
    ![0x3FC06F1D#32, 0xBF37FAA3#32, 0xBF979EB6#32],
    ![0xBF288E37#32, 0x3FD250FB#32, 0x400CDAA1#32],
    ![0x3D49A6B0#32, 0xBE8E0F7A#32, 0x3EE2BADB#32],
    ![0x3EBF63D5#32, 0xBEE2C3F4#32, 0x3F043514#32],
    ![0x3E50A092#32, 0xC008C94E#32, 0x3F8B6BED#32],
    ![0x3F865E7D#32, 0xBEAAE122#32, 0x3FCA9C90#32],
    ![0xBF4B1FA9#32, 0x40514BDE#32, 0x3E3AE0DA#32],
    ![0xBE84A004#32, 0xBF275C63#32, 0xBF35D1A1#32],
    ![0xBE582696#32, 0x3F196A7E#32, 0x3FCFD796#32],
    ![0xBF4930C5#32, 0xBF7FC7B2#32, 0xBF722A67#32],
    ![0x3F0381D1#32, 0xC004AD60#32, 0xBF145539#32],
    ![0xBEC4EE47#32, 0x3E08B4BF#32, 0x3DCF558D#32],
    ![0xBEF5ACDF#32, 0xBECB0FCF#32, 0xBF5D11AC#32],
    ![0xBF4D5C92#32, 0x3CEAD414#32, 0x3F165180#32],
    ![0x3DF24C64#32, 0x3FCE55E9#32, 0xBFCF5697#32],
    ![0xBFB3121D#32, 0x3F02CE04#32, 0xBE35203C#32],
    ![0x3F42DCE6#32, 0x3FCC34F2#32, 0x3ED57B1A#32],
    ![0x3FDFC84A#32, 0x3DFC223F#32, 0xBF0398D8#32],
    ![0xBFC66290#32, 0x40053C1D#32, 0x3FD9A54A#32],
    ![0x3F8040B7#32, 0x3EA80FED#32, 0xBFD754B5#32],
    ![0x3E1952EB#32, 0x3F57EC2D#32, 0x3D8A003A#32],
    ![0xBF757775#32, 0xC02882EA#32, 0xBF0F9353#32],
    ![0xBEB66C61#32, 0x40051A07#32, 0x3F7A00FF#32],
    ![0xBD474B96#32, 0x3E8D7198#32, 0xBF62E00C#32],
    ![0xBFBDA777#32, 0x3E8CEE97#32, 0x3F71107F#32],
    ![0x3F86E21A#32, 0xBEE75B8A#32, 0x3E91DB6F#32],
    ![0x3F82775D#32, 0xBF16640F#32, 0xBEEDEB03#32],
    ![0x3F969D95#32, 0xBF848636#32, 0x3E8E1E1B#32],
    ![0xBFED0E69#32, 0x3E5416C2#32, 0xBF179376#32],
    ![0x3EA7D297#32, 0x3DC4667D#32, 0xBE7AB038#32],
    ![0x3EEA7A00#32, 0x3EC96F4B#32, 0x3F826A59#32],
    ![0x3FB6931B#32, 0xBD6497F2#32, 0x3FAE9A50#32],
    ![0xBF7C914F#32, 0xBE6E5D5F#32, 0xC002BEC8#32],
    ![0x3FB9CD15#32, 0x3FCD088C#32, 0xBF80D921#32],
    ![0x3F051340#32, 0xBE8B219F#32, 0xBE9B5ADB#32],
    ![0x3F9B4625#32, 0x3FE3E9EF#32, 0x3F91B732#32],
    ![0xBD7F249B#32, 0x3EFCEDB8#32, 0xC017B108#32],
    ![0xBF06D0E0#32, 0xBED16974#32, 0x3F36E210#32],
    ![0x3EC4287B#32, 0xBFC125EF#32, 0xBFAC831B#32],
    ![0xBF268A1B#32, 0x3FAE6BEF#32, 0xBE8F96C1#32],
    ![0x3E540684#32, 0x3DC6E1E6#32, 0x40030BB5#32],
    ![0xBDB55C7E#32, 0x3FB0C338#32, 0xBDAEFE32#32],
    ![0x3F64D21E#32, 0x3F1F69B0#32, 0xBCD27597#32],
    ![0x3E132CE6#32, 0xBF569B4C#32, 0x3E8E2ACF#32],
    ![0x3F7A1064#32, 0xBF7A3311#32, 0xBE934415#32],
    ![0xBEB0863B#32, 0x3F8C3A2D#32, 0x3EF07835#32],
    ![0x3EEBDFAD#32, 0x402479C6#32, 0xBF9C3384#32],
    ![0x3F17711B#32, 0xBF7EF38D#32, 0xBF4BB0A2#32],
    ![0x3E0D9853#32, 0x3F28FEF4#32, 0x3E948E2B#32],
    ![0x3F43FF5B#32, 0xBD71B254#32, 0x3FDB9B37#32],
    ![0xBCCCA4CE#32, 0xBF35945D#32, 0xBF5011C6#32],
    ![0x3F9A51C6#32, 0xBEA3CC3A#32, 0x3E192407#32],
    ![0x3EA0EA09#32, 0xBFC7A8E3#32, 0x3E61A152#32],
    ![0x3F314D8F#32, 0xBF3B52BD#32, 0xBEA8F767#32],
    ![0x3F57E15C#32, 0x3F4206C7#32, 0xBEA08536#32],
    ![0x3F49DB35#32, 0x3D5E3D59#32, 0x3F18EC6A#32],
    ![0x3EA61436#32, 0xBE274FB1#32, 0xBF4B2F99#32],
    ![0x3F9F9F1B#32, 0x3FA2F4F1#32, 0xBFD592E5#32],
    ![0xBEDBFB5A#32, 0x3F86BD03#32, 0xBEA3802D#32],
    ![0x3DBD8B71#32, 0xBDC01B7F#32, 0xBD8ED79C#32],
    ![0x3F87CF15#32, 0xBDE5FA6F#32, 0x3F009DFA#32],
    ![0x3FCA62A1#32, 0x3E9B42C3#32, 0x4027DF4D#32],
    ![0xBE8D50DB#32, 0x3F5277CF#32, 0x3F69284B#32],
    ![0xBFD22A08#32, 0x3EC7E11D#32, 0xBD7E41A3#32],
    ![0xBF9781ED#32, 0xBF1054B0#32, 0xBDF98656#32],
    ![0x3F7511A5#32, 0x3E83BFE8#32, 0x3FD3B36B#32],
    ![0xBF9796CA#32, 0x3F85C48C#32, 0xBF001D14#32],
    ![0xBF428E16#32, 0xBF53B1F0#32, 0xBDFF1FFE#32],
    ![0x3F24C4B2#32, 0x3E56524E#32, 0xBDE756DF#32],
    ![0x3F6B44BE#32, 0x3E021FAE#32, 0x3F3727C6#32],
    ![0x3F6F3BDD#32, 0xBCB71E51#32, 0x3E8F7843#32],
    ![0xBD385F0E#32, 0x3FD6884F#32, 0x3F6996CA#32],
    ![0xBBA2B933#32, 0xBF0B7878#32, 0x3FD81303#32],
    ![0xBF33DA7A#32, 0x3E53A39A#32, 0xBE9FD80E#32],
    ![0x3F62530C#32, 0x3F6FB538#32, 0x3D8E9104#32],
    ![0x3ED98032#32, 0x3FC4EDCD#32, 0xBFCEA638#32],
    ![0xBF35544B#32, 0x3F49FAEE#32, 0xBF98FC82#32],
    ![0xBFA9B0E8#32, 0x3F9487D9#32, 0xBF62A5D0#32],
    ![0xBE428E34#32, 0xBFA8E8C6#32, 0x3E656BC9#32],
    ![0x3F71DE6E#32, 0x3D98E87A#32, 0x3F4F86F8#32],
    ![0x3F122284#32, 0xBE171143#32, 0xBEAEE13F#32],
    ![0x3F24CBE7#32, 0x3FBF30B1#32, 0xBF4484E2#32],
    ![0x3E8045E6#32, 0x3F3044F8#32, 0xBFA14B58#32],
    ![0xBED56CE4#32, 0xBEBB6BD0#32, 0xBFD2ACFC#32],
    ![0x3F51A2B2#32, 0xBED9821A#32, 0x3FB63E9D#32],
    ![0xBFB40BC6#32, 0xBF5CB34E#32, 0xBE7B1A48#32],
    ![0x3E89593C#32, 0x3EA7C397#32, 0xBFC126A2#32],
    ![0x3EF5911F#32, 0x3FB1F38A#32, 0xBEE60628#32],
    ![0x3F556A23#32, 0x3F6F067C#32, 0x3FB32430#32],
    ![0x3FF128CF#32, 0xBF0C3F8F#32, 0xBF2E1A24#32],
    ![0xC00895E8#32, 0xBD7933A7#32, 0xC003BBD7#32],
    ![0xBE85BF61#32, 0xBE66BD78#32, 0x3F92C594#32],
    ![0x3E1983E1#32, 0x3F0DD6F2#32, 0xBF480DF3#32],
    ![0xBF1B3321#32, 0xBF83C56B#32, 0x3E3F0F28#32],
    ![0xBEB66700#32, 0xBF822446#32, 0xBE8A13E6#32],
    ![0xBF85BAAA#32, 0x3F94EF43#32, 0xBE38080E#32],
    ![0xBEF41E5E#32, 0xBF02FB44#32, 0xBED635F7#32],
    ![0x3D193A5D#32, 0xBE9EE9FB#32, 0x3DAF7BC0#32],
    ![0xBF9950EB#32, 0xBFC07BA0#32, 0xBE23ED48#32],
    ![0x3F180658#32, 0x3EDAB66F#32, 0xBF9E0C9C#32],
    ![0x3E9E6323#32, 0xBF573F13#32, 0x3F81F721#32],
    ![0xBD173A80#32, 0xBF0A8E4B#32, 0x3FE3D030#32],
    ![0x3F849CD6#32, 0xBEEEDD39#32, 0x3F28BF02#32],
    ![0xC01F5BD7#32, 0xBF33EA80#32, 0xBF2C8719#32],
    ![0x3FB493A2#32, 0xBF07BB4C#32, 0x3F5F3F8E#32],
    ![0x3F8D9C3D#32, 0x3F395CB0#32, 0xBF0FC3F8#32],
    ![0x3F4200C7#32, 0x3E12C108#32, 0x3E97A291#32],
    ![0x3DA403A9#32, 0x3E3522FB#32, 0xBF780718#32],
    ![0x3F612FDE#32, 0x3F9CF553#32, 0xBEB1979D#32],
    ![0x3E14566F#32, 0x3F54276B#32, 0x3FB744A6#32],
    ![0xBFB7B86B#32, 0x3F0A0841#32, 0xBD150E48#32],
    ![0x3F4305B1#32, 0x3CD63A08#32, 0xBF45E665#32],
    ![0xBD7D5CC8#32, 0xBFB884B6#32, 0x3EA114D6#32],
    ![0x3F1B1D84#32, 0xBFA9104E#32, 0x3F9EC0CD#32],
    ![0x3F94C88F#32, 0x3D6FD5B6#32, 0xBF4C08E8#32],
    ![0xBEFB1956#32, 0x3FEDA754#32, 0x3F80AB92#32],
    ![0xBF31318C#32, 0xBF388C2E#32, 0xBFA404B6#32],
    ![0x3EE52260#32, 0x4021A772#32, 0x4044D0DC#32],
    ![0xBF03392E#32, 0x3D38A84B#32, 0x3EB3546A#32],
    ![0x3F983A23#32, 0xBFBD7CFC#32, 0x3FD29215#32],
    ![0x3BCC1E23#32, 0xBE77E1DB#32, 0x3DCE630D#32],
    ![0x3F849597#32, 0xBE788A4A#32, 0x3F0F8C82#32],
    ![0x3D601F55#32, 0xBF5FCC58#32, 0xBDFDDE8E#32],
    ![0x3F5E8FD0#32, 0x3F86857B#32, 0xBD16A813#32],
    ![0xBE8A3FA4#32, 0x3F984B3E#32, 0x400B75C0#32],
    ![0x3EA9974E#32, 0x3E815D28#32, 0x4014FEE2#32],
    ![0xBF1A6E4E#32, 0x3EDD129C#32, 0x3EB3AFA0#32],
    ![0x3E57CA31#32, 0x3F2B952C#32, 0xC00726F8#32],
    ![0xBFE8FB71#32, 0xBD3B9B18#32, 0x3E46DE39#32],
    ![0xBEFFBD6A#32, 0xBF5DD2BF#32, 0x3FBF993C#32],
    ![0x3FADB6D2#32, 0x3FD73356#32, 0x3FFABC7B#32],
    ![0xBF640623#32, 0x3D72C7A3#32, 0x3DC4AC0F#32],
    ![0xBF31192B#32, 0xBE16FC5B#32, 0xBF639F39#32],
    ![0x3EFEFB1F#32, 0x3F76EBCB#32, 0xBE942704#32],
    ![0xBF8B16D7#32, 0xBFC68A88#32, 0x3CC7144C#32],
    ![0xBF5CA99A#32, 0xBF4A7A83#32, 0x3CDFD407#32],
    ![0xBF437316#32, 0x3FDCEF1F#32, 0xBE68BCE8#32],
    ![0x3F985E12#32, 0x3FBBE95E#32, 0x3F1B7D11#32],
    ![0xBF8B255E#32, 0xBEBD3D9D#32, 0x3E33B49E#32],
    ![0xBED61239#32, 0x3EE44596#32, 0x3EB8DD22#32],
    ![0x3F38619D#32, 0x3EBEEF2B#32, 0x3E3B430F#32],
    ![0x3F6BE0F8#32, 0xBE193439#32, 0x3FD51DD5#32],
    ![0xBE58B05C#32, 0xBE1894DB#32, 0x3F65242E#32],
    ![0xBF27F1C5#32, 0x3E923866#32, 0xBF08CD1B#32],
    ![0x3F248A02#32, 0xBECC5D2F#32, 0x3EF6FA81#32],
    ![0x3D5E9C6D#32, 0xBE192CB4#32, 0x3C874269#32],
    ![0xBF963E82#32, 0xBF5178A8#32, 0x3E81F84B#32],
    ![0xBFA985D9#32, 0x3F14BB56#32, 0x40025860#32],
    ![0x3EBBFA77#32, 0x3EB38E6E#32, 0xBF80119F#32],
    ![0xBEDFBA09#32, 0x3FD15E76#32, 0x3EEA4799#32],
    ![0xBF678DB9#32, 0xBF5D3BE0#32, 0x3E5BF258#32],
    ![0xBE67FD0D#32, 0xBF871CBF#32, 0xBF037978#32],
    ![0xBE1E6680#32, 0x3E82AF8E#32, 0xBF323644#32],
    ![0x3EFDA8F5#32, 0x3FBA7ED9#32, 0xC006C881#32],
    ![0x3FE78E12#32, 0x3FA31359#32, 0xBEAD205C#32],
    ![0xBECD4A07#32, 0xBFA93E91#32, 0x3F8DE286#32],
    ![0x3F9EC409#32, 0x3EF60BA8#32, 0xBF46C723#32],
    ![0xBE9D90A5#32, 0xBE479926#32, 0xBE970E85#32],
    ![0xBF21FCE0#32, 0x3FE9C2A8#32, 0xBFD07A53#32],
    ![0xBF610B80#32, 0xBEFEDA55#32, 0xBF003CE5#32],
    ![0x3F016EA2#32, 0x3E33516D#32, 0xBFA87CA2#32],
    ![0xBF9DD87D#32, 0xBE9BBFC0#32, 0xC03DCDC4#32],
    ![0x3F4A7C21#32, 0x3F42BB34#32, 0xBFD2DD4E#32],
    ![0x3F6929B7#32, 0x3E60A519#32, 0xBF0912FE#32],
    ![0xBF1672EE#32, 0xBF818394#32, 0x3EB18714#32],
    ![0xBF251CF1#32, 0x3F9BBFAA#32, 0xBF872F80#32],
    ![0xC00C7B2D#32, 0x3E9C7FA2#32, 0xBF7668C0#32],
    ![0x3F387961#32, 0xBFA1341E#32, 0xBF54C349#32],
    ![0xBF0387ED#32, 0xBEB08053#32, 0x3EFAAF0F#32],
    ![0x401D39EE#32, 0x3FB15B4F#32, 0x3E8DAC1C#32],
    ![0x3E7104F9#32, 0xBF82B808#32, 0xBF457E98#32],
    ![0xBF6647C0#32, 0x3ED41936#32, 0x3FBED88E#32],
    ![0x3F629C7E#32, 0xBECEFE22#32, 0xBF423E44#32],
    ![0x3EC42989#32, 0xBED05562#32, 0x3F6E6C19#32],
    ![0x3F7DF042#32, 0x3F331D0C#32, 0x3F476AE9#32],
    ![0xBF01CE7A#32, 0x402CF7C0#32, 0x3FAFE1E2#32],
    ![0x3DD95BD7#32, 0x3F5CAB6E#32, 0x3F53633D#32],
    ![0x3E511675#32, 0x3EE960C3#32, 0x3DB5DAB6#32],
    ![0xBD8143DD#32, 0x3C6E9E7D#32, 0xBFAA3AAD#32],
    ![0xBF6E1B46#32, 0x40206045#32, 0x3F97C16F#32],
    ![0xBE399055#32, 0x3D4D8294#32, 0xBEEF9BC6#32],
    ![0xBFD58A07#32, 0xBFC7BBDD#32, 0x3D89B787#32],
    ![0x3E2F605E#32, 0xBFC755E4#32, 0xBEE05286#32],
    ![0x3FDE4DBD#32, 0x3F149D05#32, 0xBF6AD2CB#32],
    ![0xBE9643D3#32, 0x3FC4A56F#32, 0x3CF8E7AC#32],
    ![0xBEBD1875#32, 0x3B6EE116#32, 0xBF0D7D20#32],
    ![0xC0092032#32, 0xBFBF3977#32, 0xBF0883A6#32],
    ![0x3FF1D4C0#32, 0x3F300F64#32, 0x3F577FAD#32],
    ![0x401EAF50#32, 0xBE29BE45#32, 0x4024A90A#32],
    ![0xBF5AB387#32, 0xBE08F599#32, 0xBFADED3F#32],
    ![0xBF80DD28#32, 0xBE6A9C67#32, 0xBF37BC3D#32],
    ![0x3FD2CB58#32, 0x3E85DB49#32, 0x3FEFB51B#32],
    ![0xBEEECDB9#32, 0x3E2C3B97#32, 0xBF269A0E#32],
    ![0xBFAC44BC#32, 0xBF8DD2E7#32, 0xBE150FA3#32],
    ![0xBEC812CC#32, 0xBE1A163D#32, 0xBECE0B33#32],
    ![0x3F9BF813#32, 0xBF1316E3#32, 0x3F820158#32],
    ![0x3F6E2CFA#32, 0x40020367#32, 0xC002177C#32],
    ![0x3ECEA500#32, 0x3DF622E6#32, 0xBFE9FCC8#32],
    ![0xBE42A52B#32, 0x3FAD44E3#32, 0xBF0AD956#32],
    ![0xBEBA71AB#32, 0x3DE03288#32, 0xBFE95E59#32],
    ![0xBEF15A8E#32, 0xBE36AA61#32, 0x3F63DD7C#32],
    ![0xBEAE4BA5#32, 0xBEB5DA9A#32, 0xBF28F8A3#32],
    ![0x3F02072E#32, 0xBF287412#32, 0x3F109A5E#32],
    ![0x3F4BE59B#32, 0xBF9C04CC#32, 0xBF807C20#32],
    ![0x3F24FC7B#32, 0xBD8DD51D#32, 0xBFA9E8D3#32],
    ![0xBF38522C#32, 0x3FA0A352#32, 0xBEAA59BF#32],
    ![0xBF8ED796#32, 0xBEED504A#32, 0xBF189F9B#32],
    ![0x3F27777C#32, 0xBFEDF09C#32, 0xBDFF8769#32],
    ![0x3E599BD9#32, 0xBFAA7F8D#32, 0xBFCDE230#32],
    ![0x3F565BD7#32, 0x3EF3CC2A#32, 0x3F311C4A#32],
    ![0xBEA0DE0B#32, 0xC0144D14#32, 0xBF5FC8F5#32],
    ![0xBEB3E957#32, 0x3E866843#32, 0x3F4A0301#32],
    ![0xBF9D81AB#32, 0x3F3EFAF0#32, 0x3E2CE408#32],
    ![0xBF060A09#32, 0xBF18311C#32, 0xBBAE62A1#32],
    ![0x3F364B58#32, 0xBE2AE4C5#32, 0xBF726B38#32],
    ![0xBE84AB84#32, 0xBF9CAF02#32, 0x3F821C5E#32],
    ![0xBE2806C3#32, 0xBD49EF9F#32, 0xBF0C0C66#32],
    ![0xBE88B5C8#32, 0x3E5ACAD4#32, 0xBF385C9B#32],
    ![0xBF84D816#32, 0x3F112EC2#32, 0x3FDA618F#32],
    ![0x3F1362B0#32, 0xBFBF124A#32, 0x3F7593FB#32],
    ![0xBEDB788B#32, 0x3F8E06E8#32, 0x3E2EC71F#32],
    ![0xBECCDE1B#32, 0xBF98BC61#32, 0x3FBBBDB2#32],
    ![0x3FD63048#32, 0xBFE27B9B#32, 0xBF18F594#32],
    ![0x3EDDE6DA#32, 0x3F5B1AE8#32, 0xBF800F51#32],
    ![0xBF9CE06D#32, 0x3E1AF59F#32, 0x3F8CD429#32],
    ![0x3E9E973D#32, 0xBF9754FD#32, 0x3F1F535E#32],
    ![0x3FD8BF82#32, 0x3F971934#32, 0x3FCBF6D2#32],
    ![0xBF49F9DA#32, 0xBE54E5B2#32, 0x3F5A1917#32],
    ![0x3EF976C3#32, 0x3E13E7EE#32, 0xBEF95ED8#32],
    ![0x3FE7E952#32, 0xBFE683B8#32, 0xBF9A4844#32],
    ![0xBE9D9A8C#32, 0x3F89F478#32, 0x3F3A2058#32],
    ![0x3F9C536C#32, 0xBFB8A700#32, 0xBF78DB58#32],
    ![0x3DD9039E#32, 0xBE8E0021#32, 0x3F1BB764#32],
    ![0xBE4D55F4#32, 0x3EA54A1A#32, 0x3CCD57C7#32],
    ![0xBF81C712#32, 0x3FD04F31#32, 0xBEC0250F#32],
    ![0x3F60BBAC#32, 0x3F4B91FC#32, 0x3D178BDD#32],
    ![0xBFE6D552#32, 0x3E3B8FED#32, 0x3F76CB18#32],
    ![0x3DD9E172#32, 0x3FDC049F#32, 0xBF27B084#32],
    ![0xBF6DFE1F#32, 0x3F6CDA05#32, 0x3F98D2BA#32],
    ![0xC019CB33#32, 0x3F05E5B0#32, 0x3F651964#32],
    ![0x3F745D54#32, 0xBE97BFF9#32, 0xBEA25283#32],
    ![0x3E1C256F#32, 0xBD6EC752#32, 0x3F582D78#32],
    ![0x3E8A6FA4#32, 0xBFEAB1EE#32, 0x3FAEBBA7#32],
    ![0xBF695D84#32, 0xBF899B8A#32, 0x3DBB8DDA#32],
    ![0xBEAA38B8#32, 0xBF05786C#32, 0xBF90E1E5#32],
    ![0x3F65BF0B#32, 0x3FB85D76#32, 0x3FF0AEC7#32],
    ![0x3F287671#32, 0x401113F7#32, 0x3D89D8A8#32],
    ![0x3F1AC026#32, 0xBFBF9C1B#32, 0xBF080948#32],
    ![0x3F49B976#32, 0x3F1AB482#32, 0xBF7A0E84#32],
    ![0xBF0DCC0B#32, 0x3FB468D0#32, 0xBEAA5261#32],
    ![0xBFF9F862#32, 0x3FD4EF91#32, 0xBC166B0C#32],
    ![0xBF8D7202#32, 0xC00ED155#32, 0xBF6A95CD#32],
    ![0xBFF73ACD#32, 0x3FF9E9EA#32, 0xBF9F6AC5#32],
    ![0xBFF4D10B#32, 0x3F1720AE#32, 0x3F9CFE6D#32],
    ![0xB93143FE#32, 0x3F0E6D34#32, 0x3EC011C0#32],
    ![0x3F840C50#32, 0xBF30FFCC#32, 0x3F87F188#32],
    ![0xBF745462#32, 0x3E33F259#32, 0x3F827FED#32],
    ![0x3F5C56DD#32, 0xBE0BA160#32, 0xBEB3EC0D#32],
    ![0xBF26C881#32, 0x3EF0EB57#32, 0xBF13EF4A#32],
    ![0xBF72CD60#32, 0x3F9CD5B2#32, 0xBE71BAB5#32],
    ![0xBF67C2AF#32, 0x3EEF858E#32, 0x3F794ED5#32],
    ![0xBF596D5B#32, 0x3E484979#32, 0x3E140C1B#32],
    ![0x3F45D0BC#32, 0xBF014420#32, 0x3E64A0FD#32],
    ![0x3E9E55FD#32, 0xBE3BC3BE#32, 0x3F8160EC#32],
    ![0x3DE9B3F5#32, 0x3ED9CC49#32, 0x3E800133#32],
    ![0x3D7DA200#32, 0x3E63A80E#32, 0x3F0FE6A7#32],
    ![0xBF949891#32, 0xBF25640B#32, 0xBECA9A2A#32],
    ![0x3CA5508D#32, 0xBF31C37B#32, 0x3E5259B6#32],
    ![0xBF439482#32, 0x3EF58EE3#32, 0xBF65778D#32],
    ![0xBF027215#32, 0xBF646A5F#32, 0x3EE25419#32],
    ![0x3E3ABEFF#32, 0xBF22765B#32, 0xBF2A48CF#32],
    ![0xBFA6900F#32, 0x3F7212F5#32, 0x3F171021#32],
    ![0x3FD325C3#32, 0x3F893453#32, 0xBF3CA3F1#32],
    ![0x3D226B53#32, 0x3E7B0595#32, 0x3FB7F098#32],
    ![0x3EF66288#32, 0x3D5DA529#32, 0xBFC37F63#32],
    ![0x3C1235C8#32, 0x3EAC3585#32, 0xBF73A96C#32],
    ![0x3FEF54AE#32, 0xBF997E75#32, 0xBD27B8AB#32],
    ![0xBF8A15AA#32, 0x3F4C39DF#32, 0x3E488AC9#32],
    ![0xBF02EC2E#32, 0x3FA24553#32, 0xBF5C3968#32],
    ![0xBF36B957#32, 0x3EBC122D#32, 0xBFDD55C9#32],
    ![0x3F0D5AB7#32, 0xBFDA182F#32, 0xBECA8595#32],
    ![0xBFBE4002#32, 0xBF5101E8#32, 0xBEE54989#32],
    ![0xBF000EFC#32, 0xBD710DDB#32, 0xBE15A22E#32],
    ![0x3F20BDE8#32, 0x3FE52198#32, 0x3FF91E97#32],
    ![0xBF2C898F#32, 0x3EB5D83E#32, 0x3EDEDAE3#32],
    ![0xBF45F023#32, 0xBF5771E6#32, 0xBF18EB2F#32],
    ![0x3F4E0A6E#32, 0x3ECDD549#32, 0x3FA4EA0C#32],
    ![0xBE015020#32, 0xBF3A89C4#32, 0xBDA3FB68#32],
    ![0x3F749CD1#32, 0x3E8406E1#32, 0xBFE40BC6#32],
    ![0xBF2BD860#32, 0x3E32251A#32, 0xBE96E22D#32],
    ![0xBEA9058B#32, 0x3EE8CEB4#32, 0xBEEACA53#32],
    ![0x3FCD5362#32, 0xBF59B0D9#32, 0x3F82EE19#32],
    ![0x3EF4211B#32, 0x3FD287E5#32, 0x3E90622E#32],
    ![0xC00490A1#32, 0xBF142CD6#32, 0x3F6122F2#32],
    ![0xBFD83E8E#32, 0xBF997565#32, 0xBFB6F6EF#32],
    ![0xBCB09C43#32, 0xBFDCEB10#32, 0x3EFD6CEB#32],
    ![0xBF98A2A6#32, 0xBFAF8CAE#32, 0x3FBE65E1#32],
    ![0x3F45397D#32, 0x3FC011F2#32, 0x3F6123D0#32],
    ![0x3F2554D6#32, 0x3BEF56AE#32, 0xBF638315#32],
    ![0xBF940FB0#32, 0xBC99E635#32, 0x3F1D68DF#32],
    ![0xBDDAD0DB#32, 0xBF287240#32, 0xBF04FA6E#32],
    ![0x3EE81E9A#32, 0x40031069#32, 0x3EEA2CD9#32],
    ![0x3F1CF1B4#32, 0xBF99D15D#32, 0x3DAA3379#32],
    ![0xBE828D83#32, 0x3F301DBC#32, 0x3F77BFB8#32],
    ![0xBEFB2EC2#32, 0xBF9293B5#32, 0xBEB95D03#32],
    ![0x3EC1AEE7#32, 0xBE8736E9#32, 0xBED81C84#32],
    ![0xBE754C12#32, 0x3FD15B70#32, 0xBEC2D657#32],
    ![0xBF0720AB#32, 0xBF849E12#32, 0xBD053ECE#32],
    ![0xBFACB68B#32, 0xBC4C60A3#32, 0xBF8198E7#32],
    ![0x3F98698C#32, 0xBEF7BD6C#32, 0xBEDE652C#32],
    ![0xBF5A53F6#32, 0x3F54594B#32, 0xBF1286F8#32],
    ![0x3EC9E4C0#32, 0x3F3F0727#32, 0xBF1619E5#32],
    ![0xBF134C0C#32, 0xBF1432D5#32, 0x3FD21647#32],
    ![0x3F62373D#32, 0x3ECC48E5#32, 0x3FA45968#32],
    ![0x3DE5589C#32, 0x3FA2D194#32, 0xBFA5B394#32],
    ![0x3FC275AE#32, 0xBEAE9C2A#32, 0xBF416AC2#32],
    ![0x3ED1A910#32, 0x3F99314A#32, 0x3F8C9AF4#32],
    ![0xBE9D0B5F#32, 0xBF7E85DB#32, 0xBF8D56B4#32],
    ![0xBE160238#32, 0xBF2A9588#32, 0x3F9406BC#32],
    ![0xBF007762#32, 0x3FEC8362#32, 0x3D20AB8B#32],
    ![0x3F17A6F0#32, 0x3F049CE7#32, 0xBFEFD8CB#32],
    ![0x3D9A95B1#32, 0xBE3123E5#32, 0x3E8F7195#32],
    ![0xBEBBFC5F#32, 0x3E833EBC#32, 0xBEAE9863#32],
    ![0x3F9DA50C#32, 0x3EF7A488#32, 0x3F571A82#32],
    ![0xBFBA4CBE#32, 0xBF8BF259#32, 0x3FA53930#32],
    ![0x3F97F0BC#32, 0xC005CA85#32, 0xBE1D48E5#32],
    ![0xBF8738CA#32, 0x3F30A842#32, 0xBEC93A2A#32],
    ![0xBF7AD354#32, 0x3EA9DE8E#32, 0xBF80AE8C#32],
    ![0xBFA7211F#32, 0xBE8C5300#32, 0xBE45E17D#32],
    ![0xBDD078CD#32, 0xBDA0086E#32, 0x3FC816EB#32],
    ![0x3F5CF90A#32, 0x3E9F04CD#32, 0xBF97B429#32],
    ![0x3F53FED1#32, 0x4002A5AC#32, 0xBE2B162D#32],
    ![0x3F39C1C9#32, 0x3F958E36#32, 0x3FDEED3C#32],
    ![0xBF56AEBB#32, 0x3F2B6CE6#32, 0xBF6B580F#32],
    ![0xBE7CEB99#32, 0x3F1911E5#32, 0x3D6329E1#32],
    ![0x3F822A06#32, 0x3F265CBC#32, 0x3F3D6288#32],
    ![0xBEAA49FA#32, 0x3E7BE899#32, 0x3FA8F069#32],
    ![0x3F1B1AAB#32, 0xBE571821#32, 0xBF4421AA#32],
    ![0x403E988B#32, 0xBFAFCA4D#32, 0xBFAECED7#32],
    ![0xBE107DDA#32, 0x3F993054#32, 0xBF129942#32],
    ![0x3E367FAF#32, 0x3F0425B0#32, 0x3FC0BB83#32],
    ![0x3F95FA45#32, 0xBE9D050C#32, 0xBFB1A03C#32],
    ![0xBF2EB8FB#32, 0xBFB6F844#32, 0x3EC83FC3#32],
    ![0xBE818B1D#32, 0x3FB1EC76#32, 0xBE32FD64#32],
    ![0x3ED3FCAA#32, 0x3F426310#32, 0x3EA8D430#32],
    ![0x3E9FBBF2#32, 0xBF915885#32, 0x3E1D22BB#32],
    ![0xBEBE2F9E#32, 0x4000B678#32, 0x3F8C7C84#32],
    ![0xBFB51160#32, 0x3FA28381#32, 0x3F02AAC4#32],
    ![0x3E9EAF85#32, 0xBC5ADD81#32, 0x400D1C38#32],
    ![0xBFBB90BD#32, 0xBF02A454#32, 0x3E97D1CC#32],
    ![0xBE5C07B3#32, 0xBEF99047#32, 0xBFA29BD1#32],
    ![0x3F1E397A#32, 0xBF768F32#32, 0xBE687B28#32],
    ![0x3FCEE05A#32, 0x3E34DB88#32, 0xBE853343#32],
    ![0x3F3ABE66#32, 0x3FED62DC#32, 0xBE478382#32],
    ![0xBFAE572A#32, 0xBF227C71#32, 0x3F4670DF#32],
    ![0xBF760E0F#32, 0xBFD3C471#32, 0xBF0B8A2B#32],
    ![0x3FD2784E#32, 0x3EB3962D#32, 0x3F9A13F4#32],
    ![0xBEE46530#32, 0x3DB764E1#32, 0x3E37F5C9#32],
    ![0x3E987E6B#32, 0xBF84FD7E#32, 0x3FCAB454#32],
    ![0xBEC15C6C#32, 0xBF4C8F1B#32, 0xBF7AFAC5#32],
    ![0xBF62184C#32, 0x3E92DD2A#32, 0xBEB477D9#32],
    ![0x3EFB3DB7#32, 0x3F27E7C1#32, 0xBF487A57#32],
    ![0xBF608B32#32, 0xBF681CE6#32, 0xBDF3BA57#32],
    ![0xC01BDA1E#32, 0xBF268FA5#32, 0x3E8344A5#32],
    ![0xBD3CFA65#32, 0xBEA15A68#32, 0xBFDCE711#32],
    ![0x3E059309#32, 0xBF65B2F4#32, 0x3F20DD40#32],
    ![0x3F018A7F#32, 0xBF0D9F3D#32, 0x3F80BD60#32],
    ![0x40172EB8#32, 0xBD963CBA#32, 0xBF81F84A#32],
    ![0x3F30DA2A#32, 0xBE7D920E#32, 0xBF365157#32],
    ![0x3F213363#32, 0xBE07E99A#32, 0xBF134F5A#32],
    ![0x3F8F67E4#32, 0x3F8CD6C8#32, 0xC0173D49#32],
    ![0x3EE0BFDA#32, 0xBE57A7A3#32, 0xBF419363#32],
    ![0xBEFF77CD#32, 0x3F0A13FC#32, 0x3FE1FA21#32],
    ![0x3FA9E4E4#32, 0xBD91B8FA#32, 0xBE064C80#32],
    ![0xBF9D3061#32, 0x3F24CCA6#32, 0x3FC61BC9#32],
    ![0x3FD5BE3F#32, 0x3F5CF9D6#32, 0xBEFF0EC9#32],
    ![0xBD96B0A8#32, 0xBF5A7883#32, 0xBF595B3E#32],
    ![0xBF18D529#32, 0x3F536E11#32, 0xBD94C4D4#32],
    ![0xBED087AD#32, 0xBF6B277E#32, 0x3F802113#32],
    ![0x3ECC9944#32, 0xBEAD7146#32, 0x3F514286#32],
    ![0x3CD4A332#32, 0x400E6B94#32, 0xBF9590CC#32],
    ![0x3FC37498#32, 0xBF2F1CD8#32, 0xBFBE6D71#32],
    ![0xBF0D3B7B#32, 0x3F618D3A#32, 0x3DA11F71#32],
    ![0x3F5EDDEC#32, 0x3F512D1B#32, 0x3F4F6930#32],
    ![0x3F03263B#32, 0xBE8E7CE6#32, 0x3F52F740#32],
    ![0xBEE0F179#32, 0x3F4419AA#32, 0x3FDB7F98#32],
    ![0x3FB60D82#32, 0x3F354F05#32, 0xBFCACE07#32],
    ![0xBE01E76A#32, 0xBF94E6B3#32, 0xBF827565#32],
    ![0x3ED07C20#32, 0xBE27B83E#32, 0xBFFB9739#32],
    ![0x3F09765B#32, 0xBF0A3D9C#32, 0x3F93231D#32],
    ![0x400CC428#32, 0x3FB95E22#32, 0xBF850D56#32],
    ![0xBE936CB3#32, 0x3E1C121A#32, 0xBF0D61D8#32],
    ![0xBD8815CA#32, 0x40006944#32, 0x3EDB2273#32],
    ![0xBF6D8B11#32, 0x3EAA5173#32, 0xC00D4AEB#32],
    ![0xBF64DA5D#32, 0xBF8330E5#32, 0xBECE6B69#32],
    ![0x3F9E75C1#32, 0x3FBB742F#32, 0x3EF841EC#32],
    ![0xBF03ACE4#32, 0xBE91A1B4#32, 0xBEEF90B8#32],
    ![0x3E36184E#32, 0xBFA33390#32, 0x3F43A25F#32],
    ![0xBF9AE5F8#32, 0x3F362540#32, 0xBDB2895D#32],
    ![0x3F53D863#32, 0x401AF0C1#32, 0xBFE051BB#32],
    ![0x3F019667#32, 0xC00D99C9#32, 0xBEB8B9C9#32],
    ![0xBF560888#32, 0x3F1B15F1#32, 0xC000011C#32],
    ![0xBF32804E#32, 0xC003BE68#32, 0x3E8FDDDD#32],
    ![0xBDBA06FF#32, 0x3EE4CFD4#32, 0xBE77B365#32],
    ![0xBE89442F#32, 0xBF8B75CF#32, 0x3F42C1B8#32],
    ![0xC00CC0AA#32, 0x3F9C783B#32, 0xBF31B204#32],
    ![0x4025FF4B#32, 0x3EAF8B33#32, 0xC01A6A63#32],
    ![0xBF0C1BC1#32, 0x3F3305B6#32, 0xC017C8E0#32],
    ![0xBF44C05C#32, 0xBE8D1F6D#32, 0x3E02D9E4#32],
    ![0x3F9C5DEE#32, 0xBFA3E0D2#32, 0xBFC29E58#32],
    ![0xBE277239#32, 0x3F39A9A2#32, 0x3F1C326F#32],
    ![0xBE44030B#32, 0x4014D16A#32, 0xBF11B95C#32],
    ![0x3EEF0EC5#32, 0x400FB29A#32, 0xBDE024BD#32],
    ![0xBF29572E#32, 0x3F7866CC#32, 0xBE5F40D8#32],
    ![0xBE4346C6#32, 0x3E202000#32, 0x3EF702F5#32],
    ![0xBED26A0A#32, 0x3EE014AF#32, 0x400D9C5E#32],
    ![0x3F297402#32, 0x3FC96A67#32, 0xBE73CA69#32],
    ![0xBF7534A1#32, 0xBEDFCB71#32, 0x3F0A2655#32],
    ![0x3DFA7E86#32, 0x3F1151DC#32, 0xBFB5079A#32],
    ![0xBFCD11EC#32, 0xBF943E1F#32, 0xBF7374B6#32],
    ![0x3F9F164D#32, 0xBFD23991#32, 0xBFEE3B45#32],
    ![0xBFC87009#32, 0x3FB3628F#32, 0xBF589512#32],
    ![0x3F7ED1D6#32, 0xBF722522#32, 0x3D7F7706#32],
    ![0x3F86AA4B#32, 0x400908F9#32, 0xBF2FB356#32],
    ![0xBF593D0F#32, 0x3D997EFA#32, 0xBEE24E6B#32],
    ![0xBD846363#32, 0xBE52E6F6#32, 0xBEDC4835#32],
    ![0x3FB0537D#32, 0x3F5200BB#32, 0xBF927379#32],
    ![0x3FAE91D4#32, 0x3EB8A128#32, 0xBF25F50F#32],
    ![0xBE8EB57E#32, 0x3EA11CBD#32, 0x3FA0A1D7#32],
    ![0xBFAA2EB4#32, 0x4004C0C6#32, 0x3F996FE8#32],
    ![0x3F9CD5F2#32, 0xBFB597A1#32, 0xBF8F7FC0#32],
    ![0xBF5F2BD0#32, 0xBF8CBED2#32, 0x3EA33B95#32],
    ![0x3FB26863#32, 0x3F4E21AA#32, 0x3FB595A3#32],
    ![0xBF3969C2#32, 0x3F475984#32, 0xBE23276A#32],
    ![0xBFBA6F32#32, 0x3D7E6868#32, 0x4008C7D5#32],
    ![0xBF7444B2#32, 0xBEC36969#32, 0xC015010D#32],
    ![0xBFD267E7#32, 0xBF1A5823#32, 0xBF1E6893#32],
    ![0x3F87F578#32, 0x3E1481BC#32, 0xBF476CD7#32],
    ![0x3D1FAECF#32, 0xBD9826DA#32, 0xBFD2F3CD#32],
    ![0x3CFA1219#32, 0xBFB2DA81#32, 0x3F523CCC#32],
    ![0xBDEE6916#32, 0xBD46C877#32, 0xBEADC9F8#32],
    ![0x3F18A3FD#32, 0xBF88C2D6#32, 0xBF94D0ED#32],
    ![0xBF96E8F2#32, 0xBF210139#32, 0xBDBE1D0F#32],
    ![0xBDFAA08B#32, 0xBF0A3556#32, 0x3F9670B2#32],
    ![0x3FB147A0#32, 0xBF8C859D#32, 0x3F5F10C6#32],
    ![0x3F66C6D6#32, 0x3EB5C2A1#32, 0x3D846E74#32],
    ![0x3DA79DAB#32, 0xBFC4D2F8#32, 0xBE3AD98F#32],
    ![0x3DAC561B#32, 0xBF6084D5#32, 0x3FE33E69#32],
    ![0x3E19C0A3#32, 0xBF39E9A2#32, 0x3F8160F4#32],
    ![0x3FCA27F8#32, 0x3F5961E2#32, 0xBEC43CFE#32],
    ![0x3EAB5198#32, 0xBE77122D#32, 0x3EE564ED#32],
    ![0x406CD401#32, 0x3ED1CAF8#32, 0xBF290024#32],
    ![0x3FA2F322#32, 0xBFF4E1A4#32, 0x3FBAF7FF#32],
    ![0xBF467677#32, 0x3F238F0A#32, 0xC002588C#32],
    ![0x3F135328#32, 0x3F97B0AD#32, 0xC015B188#32],
    ![0xBFFD3AF8#32, 0xBE9FA168#32, 0x3F9BDDAC#32],
    ![0xBF4AC507#32, 0xBFBDDF4B#32, 0xBF27BAA9#32],
    ![0x3CCA5741#32, 0xBE1514DC#32, 0x3FC48523#32],
    ![0x3FDB10B0#32, 0xBFC251A5#32, 0x3F990D7C#32],
    ![0x3EE7E13B#32, 0x3C903FD5#32, 0x401157FC#32],
    ![0xBF334EBA#32, 0xBEBE789A#32, 0xBECBACCA#32],
    ![0x3FD6ACF6#32, 0x3E944490#32, 0xBEBC1D19#32],
    ![0x3FA2BF1D#32, 0x3F88B8EA#32, 0xBD27A2B7#32],
    ![0x3F252CA0#32, 0x3F49B67E#32, 0xBF91883E#32],
    ![0x3F96CA27#32, 0xBF4982C2#32, 0x3F97A300#32],
    ![0x3F0E720E#32, 0xBF086687#32, 0xBDE20D05#32],
    ![0x3FA923CA#32, 0x3EFAC7B3#32, 0x3E63617A#32],
    ![0xBF952C43#32, 0x3E9BDB4C#32, 0xBFE7D627#32],
    ![0x3FA3E3F6#32, 0x3EA56A4A#32, 0x3E0A6EE9#32],
    ![0xBEFCBFC4#32, 0xBE39A4F6#32, 0x3F590BF0#32],
    ![0x3E1BA221#32, 0x3F17BC6F#32, 0xBFBA25BE#32],
    ![0x3FCC2F0A#32, 0xC002A1EA#32, 0xBEC03C8E#32],
    ![0x3F67ED0C#32, 0xBF2E7D7F#32, 0x40369396#32],
    ![0xBFD948FB#32, 0xBF05C116#32, 0x3E18B97D#32],
    ![0xBFDBAD13#32, 0xBE6062C8#32, 0xBF935FF2#32],
    ![0x3F5FA4DA#32, 0xBF88D8C3#32, 0x3E99ECCC#32],
    ![0x3F9AD8FE#32, 0xBF02B38B#32, 0x3F7EB45F#32],
    ![0x3E05573C#32, 0xBFE6BA9B#32, 0xBFD9F310#32],
    ![0xBF08B37E#32, 0xBF2A5D43#32, 0x3FAFEF20#32],
    ![0xBFAE46A9#32, 0xBE786AAA#32, 0x3FA7AC1C#32],
    ![0xBFA340B8#32, 0x3F66EC79#32, 0xBFF6018B#32],
    ![0x3F22D818#32, 0x3EF00E7C#32, 0x3F5719C0#32],
    ![0xBF666818#32, 0x401379A5#32, 0xBF8A8AB3#32],
    ![0xBEE6201C#32, 0xBF3277DD#32, 0xBEC1AF8E#32],
    ![0xBD099E00#32, 0x3F8E6D91#32, 0x3F655B7A#32],
    ![0xBEE7A10A#32, 0xBECA450B#32, 0xBF2259AB#32],
    ![0xBF8B94D8#32, 0xBEE322C1#32, 0x3F08D529#32],
    ![0xBF6CAB35#32, 0x3FF8DC8B#32, 0x3EB2AD0C#32],
    ![0xBFCE91B8#32, 0xBBDA77AD#32, 0x3DF775DE#32],
    ![0xBDA44610#32, 0xBEC23AAA#32, 0x3F8E4A5D#32],
    ![0xBFB91918#32, 0xBEC25691#32, 0x3EACCC94#32],
    ![0x3F95C467#32, 0x3FD3D603#32, 0x400DA975#32],
    ![0xBD590B64#32, 0x3E4D881A#32, 0xBF94C7C3#32],
    ![0xBEAB262B#32, 0xBFDD18F8#32, 0x3FDAFFE2#32],
    ![0xBED1E675#32, 0x3E91E38D#32, 0x3F7E1D78#32],
    ![0x3F663D9A#32, 0xBF45C588#32, 0x3F54C60B#32],
    ![0x3FB70768#32, 0x3F891860#32, 0x3EECE796#32],
    ![0x3E542A20#32, 0x402BA0D2#32, 0x3E216E2F#32],
    ![0xBFA59401#32, 0xBEA16E16#32, 0xBE592D55#32],
    ![0xBDA883B8#32, 0x3E73A011#32, 0xBFCF51D4#32],
    ![0x3E69631C#32, 0xBE071D40#32, 0xBF79A30A#32],
    ![0xBFAE9F5D#32, 0x3F124869#32, 0xBE109FCB#32],
    ![0xBEA413EB#32, 0xBE913D4E#32, 0xC00EA84B#32],
    ![0xBFE0C06C#32, 0x3EBF22C7#32, 0xBE0136EF#32],
    ![0x3D82362A#32, 0xBFA323C9#32, 0x3E89CDD1#32],
    ![0x3E009883#32, 0xBFBB8A68#32, 0x3F06A253#32],
    ![0xBFED1D54#32, 0x3E6EBDFF#32, 0xBF41DF0D#32],
    ![0xBF420AD0#32, 0xBEBBF4D5#32, 0xBF013B2F#32],
    ![0x3F1643F0#32, 0x3FDFB8C5#32, 0xBDBA8F64#32],
    ![0xBFE0F9C6#32, 0x3E97C987#32, 0x3F8A555B#32],
    ![0xBFB09618#32, 0x3E2244E5#32, 0x3FA0BC36#32],
    ![0x3FB99EF6#32, 0xBE81D85D#32, 0xBE674102#32],
    ![0x3DB77F75#32, 0x3FD94AD2#32, 0x3E081B1D#32],
    ![0xBDD1A3DB#32, 0x3F468E06#32, 0xBF226A50#32],
    ![0xBFEE2CF0#32, 0xBF8E59C7#32, 0xBF0E2E5E#32],
    ![0xBF90ADA4#32, 0xBEF0FB3E#32, 0x3C8007A7#32],
    ![0x3FC0BBCA#32, 0xBE081B4F#32, 0x4005E7AD#32],
    ![0x3EDF5E29#32, 0xBEF56ECA#32, 0x3FD76F1A#32],
    ![0x3F4C8EF5#32, 0xBF19ED3C#32, 0x3F74ABB7#32],
    ![0xBE9E26EF#32, 0x3E508A94#32, 0xBE8D3352#32],
    ![0xBF14B94F#32, 0x3F81FA19#32, 0xBF365738#32],
    ![0xBFA8355D#32, 0x3FAEEBBB#32, 0xBFB5BF8C#32],
    ![0xBFCCAD41#32, 0xBFE98E4C#32, 0xBE8CA94D#32],
    ![0xBF2D2C24#32, 0xBFC9F969#32, 0x3F772B55#32],
    ![0xBE3A5ED3#32, 0xBEB53AC7#32, 0xBE39EFE6#32],
    ![0xBED62C20#32, 0xBEB7D6AE#32, 0x3DE82764#32],
    ![0xBF7BE13A#32, 0xBF1AC3FE#32, 0xBECEA099#32],
    ![0xBF3D0737#32, 0xBF80B8B5#32, 0x3FD5EC04#32],
    ![0xBB33C47F#32, 0x3DD6BD34#32, 0x4023B6AF#32],
    ![0x3E700015#32, 0x3F0F79E6#32, 0x3FA49F51#32],
    ![0x3FCFF1BB#32, 0xBF2435DD#32, 0x3FEBF6AC#32],
    ![0x3EB03F78#32, 0xBF0CB9BE#32, 0x3EB9AB3F#32],
    ![0xBED8E75B#32, 0x3EEFA1C8#32, 0x3F38ECCB#32],
    ![0x3DB6B1E0#32, 0xBF011DB0#32, 0xBFAB3342#32],
    ![0xBCDEC304#32, 0x3F776ADA#32, 0x3FAE3641#32],
    ![0x3F777101#32, 0x3FC3AB14#32, 0x3F08CA1D#32],
    ![0xBFA3CCA1#32, 0xBEAB3A4C#32, 0x3D553F84#32],
    ![0xBF33764D#32, 0xBD8E5338#32, 0x3D4E84C5#32],
    ![0xBF8748B5#32, 0x3CAD7401#32, 0x3EF422F4#32],
    ![0xBF88FFF6#32, 0x3E9477FD#32, 0x3EB2CAA5#32],
    ![0xBF0E9C8D#32, 0x3FC16664#32, 0xBEF07039#32],
    ![0x3F32E089#32, 0xBFBA49FA#32, 0x3F427D60#32],
    ![0x3F611156#32, 0xBE567C76#32, 0x3E1FC614#32],
    ![0xBF14051D#32, 0x3F9BFE29#32, 0x3E8ECA1E#32],
    ![0xBFB5E7EA#32, 0x3E7AD496#32, 0xBF0AD36B#32],
    ![0xB90928D8#32, 0xBF832B10#32, 0xBD8903D2#32],
    ![0x40048B2C#32, 0x3EB127D8#32, 0xBFEE884E#32],
    ![0x3FEF5521#32, 0xBE3BCABF#32, 0xBF2B5741#32],
    ![0xBF0BEC50#32, 0xBE1D639B#32, 0xBF682889#32],
    ![0xBF1DA67A#32, 0xBE717F08#32, 0xBEF5578B#32],
    ![0x4007A83F#32, 0xBFE1A1D4#32, 0x3F37873D#32],
    ![0x3DE19BC5#32, 0xBE19DD6F#32, 0x3FECDC74#32],
    ![0x3FB44B5C#32, 0xBAF599C9#32, 0x3EE11919#32],
    ![0x3F584C85#32, 0xBF06ABA0#32, 0x3DFF3BDD#32],
    ![0xBF48EEA0#32, 0xBE4F7323#32, 0xBF8FED64#32],
    ![0x3EF77FAE#32, 0xBEF7FAE6#32, 0xBEC6C217#32],
    ![0xBF0C915D#32, 0x3F034028#32, 0x3FE5CC50#32],
    ![0x3F03E116#32, 0x408B9FA6#32, 0xC0063A2F#32],
    ![0xBF26FAA9#32, 0x3E9F0D2F#32, 0x3FB967A8#32],
    ![0x40163572#32, 0xBEB10127#32, 0xBE6A8B1D#32],
    ![0xBF9B3503#32, 0x3E3EF8FF#32, 0x3D85C5F6#32],
    ![0x3FADA4CE#32, 0x3F6213BF#32, 0x3EA852EF#32],
    ![0x3FCD80E9#32, 0x3CCF4AC0#32, 0x3F82D5B5#32],
    ![0x3FC2B5C3#32, 0x3F948E56#32, 0x3FBAADF0#32],
    ![0xBF4BF8D2#32, 0xBE433C53#32, 0x3F07BFB5#32],
    ![0xBE2BFA3E#32, 0xBF7D728C#32, 0xBF177FA1#32],
    ![0x3F184AF8#32, 0x3F2EA05F#32, 0xBFB30949#32],
    ![0xBF9A5A79#32, 0xBF0B093C#32, 0x3F782131#32],
    ![0xBCEEE292#32, 0xBFBC43A7#32, 0xBE35D120#32],
    ![0xBE6C9938#32, 0x3FDB9490#32, 0x3D8F2130#32],
    ![0x3FFFCCBA#32, 0xBF418D3B#32, 0xBEAEF74B#32],
    ![0x3F6285FB#32, 0x3F99FC7B#32, 0x3F77E2CB#32],
    ![0xC0180A8E#32, 0x3FAF22D2#32, 0x3F9A6E92#32],
    ![0x400EBF60#32, 0x3F272C34#32, 0xBE3D897B#32],
    ![0x3ECD1031#32, 0xBD35353D#32, 0xBFAB15A0#32],
    ![0x3F073E0A#32, 0x3EF3BF2E#32, 0x3F67BE4D#32],
    ![0x3F0570B1#32, 0x3FE9AF5D#32, 0x3FAD5DA4#32],
    ![0xBF7679D7#32, 0xBC9624C0#32, 0xBE7621F4#32],
    ![0x4005F285#32, 0xBE9823CD#32, 0x3D64E912#32],
    ![0xBF668F02#32, 0xBE7717A8#32, 0x3F41312B#32],
    ![0x3E9424C0#32, 0xBDDBB398#32, 0x3F11645C#32],
    ![0xBEE8EBE1#32, 0x3FB3C0CF#32, 0x3CBDE006#32],
    ![0xBF586554#32, 0x3EC9136F#32, 0xBFD36C1A#32],
    ![0xBF0569E9#32, 0xBF06E7BC#32, 0x3F029C6C#32],
    ![0x3F27BF8D#32, 0xBFCEABE2#32, 0xBEB31565#32],
    ![0x3F64B226#32, 0x3F838C9F#32, 0x3FF16E08#32],
    ![0x3F8C4906#32, 0xBF6D301A#32, 0x40095A3B#32],
    ![0x3F67EA90#32, 0xC003CCE2#32, 0x3FAFBA40#32],
    ![0x3CEB8F86#32, 0xBFB75B14#32, 0x3F7B7067#32],
    ![0x3F92195B#32, 0xBECC93A6#32, 0x3F11B2E0#32],
    ![0x3ECE0F0B#32, 0x3F865845#32, 0x3EC7F23A#32],
    ![0x3F1D53AD#32, 0x3F4720A7#32, 0xBF3E53F7#32],
    ![0xBF84C77F#32, 0x3F03C8AB#32, 0xBDF05BB2#32],
    ![0x3F43360E#32, 0xBE92C6FC#32, 0xC02194FB#32],
    ![0xBFF5E620#32, 0x3C036B62#32, 0x3FF4FDA6#32],
    ![0x3FA616C3#32, 0x3E39E35A#32, 0x3C85FFA3#32],
    ![0x3EA3062E#32, 0x3E6E81F4#32, 0x3FC839E6#32],
    ![0xBE42FF38#32, 0xC001C8A9#32, 0x3F47EECA#32],
    ![0x3E303D49#32, 0x3E3976E5#32, 0x3FA08BF6#32],
    ![0xBECAA4CD#32, 0x3FB82043#32, 0x3F1C8274#32],
    ![0xBE99F5F5#32, 0xBECF000C#32, 0xBF6ADFD3#32],
    ![0xBEC6B5D7#32, 0x3FA9E94F#32, 0x3FBCDCBD#32],
    ![0xBFB64AD3#32, 0x402F636E#32, 0x3EF3DF9A#32],
    ![0xBF9E7E57#32, 0x3E1CFFC6#32, 0x3FA1964D#32],
    ![0xBFCAB980#32, 0x3FE603EF#32, 0xBE1455AF#32],
    ![0x3F1C4AC7#32, 0xBF15FFBD#32, 0xBF7233FE#32],
    ![0x3EBAAB07#32, 0xBE8DC727#32, 0x3EDE3BF6#32],
    ![0xBF9B81D4#32, 0xBF723C63#32, 0xBF2F1B90#32],
    ![0xBDDAA351#32, 0x3E6FFA34#32, 0x3EB069E7#32],
    ![0xBDD20A62#32, 0xBEA2794F#32, 0xBE7DF986#32],
    ![0x3F64E2DA#32, 0xBDF29F23#32, 0xBDF2204B#32],
    ![0x3F532927#32, 0x3F82FB06#32, 0x3E919F32#32],
    ![0x4001A87D#32, 0xBD2D4183#32, 0x3FC62FBD#32],
    ![0x3EF6EBC5#32, 0xBDA4C46D#32, 0x3FA217B3#32],
    ![0xBE980D34#32, 0x3FDF8A47#32, 0x3CFA661D#32],
    ![0xBF6B470E#32, 0x3F86CA8C#32, 0xBE200EFD#32],
    ![0x3ED61C1F#32, 0xBFF9E74F#32, 0x3E8C1F57#32],
    ![0xBE0B969F#32, 0xBF992D5B#32, 0x3F462C4B#32],
    ![0xBE6FF71B#32, 0xBFAABA46#32, 0xBEACD56D#32],
    ![0x3D8B4726#32, 0xBE596B95#32, 0xBE080349#32],
    ![0xBFD7FA78#32, 0xBF637EC7#32, 0x3F7A0706#32],
    ![0x3F0C5187#32, 0x3EDA733F#32, 0xBEB3B8FA#32],
    ![0xBFAFE8FF#32, 0xBEE01D54#32, 0x3F08E469#32],
    ![0xBF830B08#32, 0xC0062EEF#32, 0xBDAD2FEF#32],
    ![0xBEEF6C52#32, 0x3EE60011#32, 0xBF3A8CE1#32],
    ![0x3FA34F60#32, 0x3FD01F2D#32, 0x3F32851D#32],
    ![0x3E6A00ED#32, 0x3E4FCA2C#32, 0x3F56980F#32],
    ![0x3F79DC9A#32, 0xBF9A1897#32, 0x3EEE9E5E#32],
    ![0xBF0EF4B3#32, 0xBF870AC0#32, 0xBE9C20A8#32],
    ![0xBFD4ACAA#32, 0xBD582E80#32, 0x3F83D7C2#32],
    ![0xBFCBCA45#32, 0x3E8EA672#32, 0xBFE2CCF9#32],
    ![0xBDFC2D0F#32, 0x3F3DEF9B#32, 0x3E89E2B1#32],
    ![0xBE8F22AB#32, 0x3F73CCA0#32, 0x3F82998A#32],
    ![0x3FFF8455#32, 0x3C269C94#32, 0xBF28DA99#32],
    ![0x3F2E134B#32, 0xBF624B21#32, 0x3EB9A503#32],
    ![0xBA36E2CC#32, 0xBFC609AD#32, 0xBFC70DB9#32],
    ![0xBF5A64FB#32, 0x3EF616DE#32, 0x3F47F099#32],
    ![0xBEB69373#32, 0x3FA77065#32, 0x3F9094B7#32],
    ![0xBF30427F#32, 0x3F7E83DA#32, 0xBDA25596#32],
    ![0x3F276491#32, 0x3EE4A534#32, 0x3FE25CB1#32],
    ![0x3E9C7C39#32, 0x3EF26AAF#32, 0x3FEFBEAA#32],
    ![0xBFBF1649#32, 0xBF5007B8#32, 0x3E44DC43#32],
    ![0xC0120063#32, 0x40166496#32, 0x3EDBEE51#32],
    ![0xBF1F924A#32, 0xBFACF17A#32, 0x3EE424C1#32],
    ![0x3E7D0909#32, 0x4011798C#32, 0x3FF50451#32],
    ![0xBF48510D#32, 0x3F3D5148#32, 0xBF1229BD#32],
    ![0x3DEA9FDC#32, 0x3F311612#32, 0x3F042FB0#32],
    ![0xBF698390#32, 0x400D50D4#32, 0xC0193056#32],
    ![0x3FFDDB40#32, 0x3E8B79AD#32, 0xBFAB0128#32],
    ![0x3E5B0CB3#32, 0x3EA3325B#32, 0x3F42C7DE#32],
    ![0xBFD2CBAA#32, 0x3F5CA4EC#32, 0xBF65BF0E#32],
    ![0x3F232B2B#32, 0x3F78EC62#32, 0xBF1A9C44#32],
    ![0x3F2C974F#32, 0x3F30EF5F#32, 0x403D9498#32],
    ![0x3D730397#32, 0x3FA4F11A#32, 0x3EAA4551#32],
    ![0xBF7DB7B3#32, 0xBF4AB69E#32, 0xBFE6B786#32],
    ![0xBF41E018#32, 0x3F46254B#32, 0xBF834318#32],
    ![0xBE8AACAD#32, 0xBF851013#32, 0x3F9A4E98#32],
    ![0x4001259C#32, 0x3F3AF7CE#32, 0x3FDA0CAD#32],
    ![0x3F83FA8B#32, 0x3E3C7E98#32, 0x3EA9E39B#32],
    ![0x3EF6C65F#32, 0xBFA3DF9F#32, 0xBFB9BCB4#32],
    ![0x3FA76D14#32, 0xBF2E969A#32, 0x3DEB34E3#32],
    ![0xBF7BC513#32, 0xBEFA1B90#32, 0x3E81A35C#32],
    ![0xBC531993#32, 0x3E8CFE4B#32, 0xBF429A81#32],
    ![0xBEA2DE7B#32, 0x3FAF3B81#32, 0xBF08178F#32],
    ![0xBFB9CB2F#32, 0x3F2CA966#32, 0xBFC73011#32],
    ![0x3E403C29#32, 0x3F20D82A#32, 0x3F0FECB4#32],
    ![0x3E4291D4#32, 0xBE65A1F6#32, 0xBFB3672C#32],
    ![0xBF0D6301#32, 0xBDBF70C5#32, 0x3E422292#32],
    ![0xBF38ACEA#32, 0xBE838769#32, 0x3EA3299E#32],
    ![0x3EC5B02F#32, 0x3DE06F34#32, 0x3F1C5C98#32],
    ![0x4003CAC7#32, 0x3F200428#32, 0xBF9A8781#32],
    ![0x3FC3C43B#32, 0x3EDCA730#32, 0x3E13C85A#32],
    ![0xBFCC3E71#32, 0xBEA40D5D#32, 0x3C7A0C0E#32],
    ![0x3FB7CC59#32, 0xBF3F1BF6#32, 0xC00B0078#32],
    ![0xBF047E2D#32, 0xBED3F023#32, 0x3D3D611E#32],
    ![0x3F0B3E35#32, 0xBFA764B5#32, 0x3D6F14B0#32],
    ![0xBF5F4679#32, 0xBEACE76D#32, 0x3E9EB87B#32],
    ![0xBF2E06A6#32, 0xBF838762#32, 0x3F8830DC#32],
    ![0x3FC75F86#32, 0xBDBD18FA#32, 0xBF96E8D4#32],
    ![0xBE85F941#32, 0x3EFB3A71#32, 0x3F2298C6#32],
    ![0xBEC83BE3#32, 0x3F9C8C83#32, 0xBE41CC51#32],
    ![0xBF981DEC#32, 0xBF8534AC#32, 0xBF2745E2#32],
    ![0xBDFE81F6#32, 0xC0028061#32, 0xBF3B5D49#32],
    ![0x3F48E883#32, 0x3F0E3FBF#32, 0xBF6C48CC#32],
    ![0x3FBD4751#32, 0xBF4725B4#32, 0xBC0FB36E#32],
    ![0xC01E82BC#32, 0x3E55CC70#32, 0x3DA0368C#32],
    ![0x3FDE061D#32, 0x3FC4C650#32, 0x3F265769#32],
    ![0xBFE8F1CD#32, 0xBD8F2B78#32, 0x3ED29304#32],
    ![0x3F784FA9#32, 0xBF5DB09B#32, 0x3E6AFCC8#32],
    ![0x3F7BC0FE#32, 0x3F42F0A7#32, 0x3F34A4C3#32],
    ![0xBF0F7712#32, 0x3F32C57D#32, 0x3F3852A3#32],
    ![0xBEE4168C#32, 0x3F3B4D09#32, 0x3E9ED724#32],
    ![0xBF83F71A#32, 0x3F0A0571#32, 0xBF0B800F#32],
    ![0xBF9CB543#32, 0x3D04F096#32, 0xBF4F83AB#32],
    ![0x3F47E220#32, 0xBC80B8B5#32, 0x3F5AC742#32],
    ![0x401E5D25#32, 0xBFB98010#32, 0xBE29D327#32],
    ![0x40076049#32, 0x3F8E1743#32, 0x3E5EAD4C#32],
    ![0x3E297C14#32, 0x3F28F406#32, 0xBF7AFAAD#32],
    ![0x3EDCB8EF#32, 0x3F3563E4#32, 0xBFBFC3D5#32],
    ![0x3F9FB661#32, 0xBF9256DE#32, 0x3FECC21C#32],
    ![0x3FAF7D25#32, 0xBE44ECF9#32, 0xBED35F19#32],
    ![0xBE0BA267#32, 0xBD03A3D1#32, 0xBE554CF5#32],
    ![0x3E9197A6#32, 0x40554936#32, 0x3F9E1D6E#32],
    ![0xBF8AFBCC#32, 0xBED02F2E#32, 0xBF5D4783#32],
    ![0xBFA9F2BA#32, 0x3D92BE91#32, 0x3F981B46#32],
    ![0x3F328E4D#32, 0x3F1CDFA6#32, 0xBE582FF4#32],
    ![0xBFB35FC0#32, 0xBF92C519#32, 0x3FC0052F#32],
    ![0xBEDB4720#32, 0x3EDFF2DA#32, 0x3EEF8A03#32],
    ![0xBCDFD094#32, 0xBDE8B601#32, 0xBEBB943C#32],
    ![0xBF21D1CD#32, 0xBF51B082#32, 0xBFEA070D#32],
    ![0x4021AE1C#32, 0xC001ECAC#32, 0x3CB55D36#32],
    ![0x3F98C365#32, 0xBF7C1BB6#32, 0xBF8DEAF4#32],
    ![0xBF06C7DA#32, 0xBF580512#32, 0xBFE5A7AD#32],
    ![0x3E2CDB21#32, 0xBF037B69#32, 0xBE24DE80#32],
    ![0xBD71EDA6#32, 0xBDD4615A#32, 0xBE73CB0E#32],
    ![0x3F6115B0#32, 0x3E8A68C5#32, 0xBFC3798B#32],
    ![0x3F7E52EB#32, 0x3ED27AFA#32, 0x4021B85B#32],
    ![0x3D000F57#32, 0x405AFDB8#32, 0x40077D2F#32],
    ![0x3F828129#32, 0x3F5FB48B#32, 0xBFB772FE#32],
    ![0x3E1618BE#32, 0xBE77A8FD#32, 0x3F5CDE8E#32],
    ![0x3EAF164A#32, 0x3DAAEEB5#32, 0x3EC9177E#32],
    ![0xBF33D760#32, 0xBF7C1B0D#32, 0xBEE234FC#32],
    ![0xBF33CA8A#32, 0xBFA1935B#32, 0x3F9F22C5#32],
    ![0x3D7D3DDC#32, 0xBE122122#32, 0xBE50C9B8#32],
    ![0xBF80502D#32, 0x3EC728C9#32, 0xC046E4A2#32],
    ![0xBE84EA82#32, 0x3F07F91B#32, 0xBDD12A98#32],
    ![0xBF19C7AD#32, 0xBF23BBB4#32, 0x3F89987E#32],
    ![0x3E811A8F#32, 0x3F7C2C78#32, 0x3F96C9DC#32],
    ![0xBD33DD2E#32, 0xBF8E38A2#32, 0xBEFC426C#32],
    ![0xBF87D769#32, 0x3F226933#32, 0xBFF239C3#32],
    ![0x3FD2680A#32, 0x3ECEE7D6#32, 0x3FAE89C9#32],
    ![0x3F052C6D#32, 0xBE2D6AFF#32, 0xBFB10AC7#32],
    ![0xBE618851#32, 0x3F2666D7#32, 0xBF581D7A#32],
    ![0x3DAC362F#32, 0x3FABCFB0#32, 0xBFF15ADE#32],
    ![0x3ECC6002#32, 0x3F2569D2#32, 0xBC3936D1#32],
    ![0x3F8EFF0F#32, 0x3F933041#32, 0xBECD243F#32],
    ![0x3E8C97B5#32, 0xBD178C05#32, 0x3FAB3F15#32],
    ![0x3EC910E5#32, 0x3F277C00#32, 0x3F8C2E1E#32],
    ![0xBF52A384#32, 0x3F113F52#32, 0xBE8EEE8A#32],
    ![0x3F3F189D#32, 0xBF87BAFF#32, 0x3F62A223#32],
    ![0x3F7D50C0#32, 0xBD91A0A2#32, 0x3F856AC2#32],
    ![0x3F9531E0#32, 0x3E597EEE#32, 0x3EAA166D#32],
    ![0xBF60B14A#32, 0xBBFDF3ED#32, 0xBC6E4B24#32],
    ![0xBEFEC597#32, 0xBDFD6135#32, 0x3F8CE59A#32],
    ![0x3E00E633#32, 0x3FEDF274#32, 0x3E8485DF#32],
    ![0xBE50A3F8#32, 0x40227C4B#32, 0xBE911235#32],
    ![0xBEC739CB#32, 0xBDD7DBAC#32, 0x3FD108A4#32],
    ![0xBB4C6733#32, 0x3F582553#32, 0xBE12DDF5#32],
    ![0x3F80C534#32, 0xBEFA1DAF#32, 0xBF8F070E#32],
    ![0xBE31B94F#32, 0xBF0ECE6B#32, 0x3EBEC673#32],
    ![0x3E9D5671#32, 0x3FB1C112#32, 0xBCB86081#32],
    ![0xBFEEBE23#32, 0x402D02B6#32, 0xBF857F15#32],
    ![0xBF24B036#32, 0x3F5C5415#32, 0xBD2D7EAB#32],
    ![0xBF56C229#32, 0xBF86224C#32, 0xBFA1D959#32],
    ![0x3F1A6D9D#32, 0x3F1DD091#32, 0x4003A54B#32],
    ![0x3F18B475#32, 0xBE9E1733#32, 0xBEF7BA79#32],
    ![0x3EB0A896#32, 0x3FAA5BE0#32, 0xBF15038B#32],
    ![0xBEB2C560#32, 0xBFD909B7#32, 0x40324DE5#32],
    ![0x3E0BD26F#32, 0x3E287C12#32, 0xC0060410#32],
    ![0xBE8480DF#32, 0xBEDA2508#32, 0x3F4C9EAB#32],
    ![0x3EB57EF1#32, 0x3F9F938E#32, 0x3DAD0568#32],
    ![0x3EBFFB5B#32, 0xBE908C0E#32, 0xBD240F5D#32],
    ![0xBF7FFA09#32, 0x3EC8E81E#32, 0x3FA67CFE#32],
    ![0x3E4FF6E0#32, 0x3F8C5C82#32, 0xBFCA8773#32],
    ![0x3F7D5305#32, 0xBECDA64F#32, 0x3DDC805B#32],
    ![0x3E930DBB#32, 0x40190F79#32, 0xBDD8524E#32],
    ![0x3EB0481E#32, 0x40266016#32, 0xBECC3456#32],
    ![0xBEE78893#32, 0x3FB47378#32, 0x3E76B792#32],
    ![0x3F218292#32, 0x3F167F12#32, 0xBCF2FD4C#32],
    ![0xBF43C886#32, 0x3F61DA8D#32, 0xBFC48666#32],
    ![0xBF962907#32, 0x3F110306#32, 0xBF61FE09#32],
    ![0xBE774DB0#32, 0xBDEDB3DB#32, 0xBF84423A#32],
    ![0xBF86A423#32, 0xBF03E073#32, 0xBD64AB16#32],
    ![0xBE81C2F7#32, 0xBF075D0F#32, 0x3F1E43E9#32],
    ![0xBFB59CD4#32, 0xBF7A628A#32, 0xBED92E0F#32],
    ![0x3F6237D1#32, 0x3F97E819#32, 0x3F1475ED#32],
    ![0x3E5FB384#32, 0xBDFD078B#32, 0x3DA49E78#32],
    ![0xBF44CBEF#32, 0xBFB21826#32, 0x3F513902#32],
    ![0x3F55F4CD#32, 0x3F3CBE6B#32, 0x3D946334#32],
    ![0x3F82D736#32, 0x3E17E051#32, 0xBD153207#32],
    ![0x3F0CEDC4#32, 0x3F3229B4#32, 0x3F1974DA#32],
    ![0xC01EF8D3#32, 0x3F2969E3#32, 0x3FC77C85#32],
    ![0xBECA7764#32, 0x3EF7575B#32, 0xBF0C8977#32],
    ![0x3F80B0E8#32, 0xBF1522D7#32, 0xBF15E641#32],
    ![0xBFF462A8#32, 0x3CC537E6#32, 0xBDBFBA90#32],
    ![0x3FA2F1F2#32, 0xBF18C031#32, 0x3F22F374#32],
    ![0x3E6477B5#32, 0x3E02D53B#32, 0xBF2C7CB4#32],
    ![0x3F5501D8#32, 0xBF3D1AD1#32, 0x3F672497#32],
    ![0xBF66A940#32, 0x3D91B457#32, 0x3FA51AB5#32],
    ![0x3FBCAE3B#32, 0xBFD542DA#32, 0xBEAFB359#32],
    ![0x3F1D99A9#32, 0x3E9D3080#32, 0xBF7B8B9B#32],
    ![0xBED49A43#32, 0x3ECEFD8F#32, 0xBDB060C6#32],
    ![0xBF56121E#32, 0xBE5CCB79#32, 0x3F0A07B5#32],
    ![0x3F271633#32, 0x3EC610FF#32, 0x3EF843C4#32],
    ![0x3DCAD942#32, 0x3F70B9DE#32, 0x3E9CD351#32],
    ![0xBD21C4F9#32, 0xBFB2E3EA#32, 0x3E8BD493#32],
    ![0x3F6823D4#32, 0xBF0E554F#32, 0xBF4D5602#32],
    ![0x3FBBFEFC#32, 0x3F22998A#32, 0x3F3914F0#32],
    ![0xBED589FD#32, 0x3F8EB861#32, 0x3EAE61E8#32],
    ![0x4019E5BE#32, 0xBF4A9FFA#32, 0xBE32FCFE#32],
    ![0xBF035772#32, 0xBEDF6CF4#32, 0xBF3339BB#32],
    ![0x3EB445C7#32, 0xBE45B732#32, 0x407FA832#32],
    ![0x3D27B511#32, 0x3F377612#32, 0x3F5BFC70#32],
    ![0xBF0706C3#32, 0x4000EF7D#32, 0x3F12F991#32],
    ![0xBEA42186#32, 0x3E880336#32, 0xBCB98358#32],
    ![0x3DEA35BB#32, 0xBD55D91A#32, 0x3F06BCC7#32],
    ![0xBF92AED0#32, 0xBFD53A8B#32, 0xBEC081DD#32],
    ![0xBEFDEE3E#32, 0xBE38D2C0#32, 0xBEB47FA4#32],
    ![0x3D9E09CF#32, 0x3E57AE29#32, 0x3F13CC63#32],
    ![0xC01B9A82#32, 0xBF557F4E#32, 0x3E7B366A#32],
    ![0xBD115022#32, 0x3EC0623C#32, 0xBFD5743A#32],
    ![0x3E533B93#32, 0xBEE11862#32, 0x3F1A9969#32],
    ![0xBEFB5BC7#32, 0x3E85CC9D#32, 0xBE721A91#32],
    ![0xBFBE8E9A#32, 0x3FCCC8EC#32, 0xBF670B5C#32],
    ![0xBEBA5A3B#32, 0x3F730449#32, 0x3F9B165E#32],
    ![0x3D90E66F#32, 0x3D63B9EC#32, 0x3F9BCD0E#32],
    ![0x3F2D5AD7#32, 0xBE6E40B7#32, 0x3E9276BD#32],
    ![0x4020D255#32, 0xBF8B3F78#32, 0xBE684C0E#32],
    ![0xBE6F8FE4#32, 0xBF61630D#32, 0xBF22F771#32],
    ![0xBDC45A23#32, 0xBEED14F2#32, 0xBF0FB4CA#32],
    ![0x3F9C94DF#32, 0x3F62502F#32, 0xBDCD2861#32],
    ![0xBEA8ECC6#32, 0x3F1C4B6A#32, 0x3F15C1DF#32],
    ![0x3F71CA04#32, 0x3F395C5A#32, 0x4021C1E8#32],
    ![0x3F2F8960#32, 0xBF1FB5FE#32, 0xBF0FF166#32],
    ![0xBFC6ACC2#32, 0x3ED4E2A8#32, 0xBF71A024#32],
    ![0xBF916698#32, 0x3F0A4CFB#32, 0xBFE87600#32],
    ![0xBF90574E#32, 0x3F3EFA51#32, 0xBFBD6FA9#32],
    ![0xBFDB87D6#32, 0x3F976D50#32, 0x3F83ACCD#32],
    ![0xBF2832CE#32, 0x3F56C9E3#32, 0x3EC8BB1D#32],
    ![0xBF903013#32, 0x3FAC6092#32, 0xBF164293#32],
    ![0x3EA59E68#32, 0x3F840D03#32, 0xBE937B1C#32],
    ![0xBE76D1FC#32, 0xBDF78CAA#32, 0x3E9B6CC2#32],
    ![0x3F80C528#32, 0x3DCF3AC7#32, 0xBE9CB931#32],
    ![0xBEC6CE20#32, 0xBE959AC6#32, 0xBEF24770#32],
    ![0x3ECC7C98#32, 0x3CDEED55#32, 0x3DB36574#32],
    ![0x3F7A5593#32, 0x3FBFA477#32, 0x3F81EA97#32],
    ![0x3E74146E#32, 0x3E3ED26A#32, 0xBFED1238#32],
    ![0xBFA1C2FE#32, 0xBF039708#32, 0xBF279156#32],
    ![0x3E11051A#32, 0x3E139798#32, 0x4038616A#32],
    ![0x3F815A7E#32, 0x3DA18844#32, 0xBFC13276#32],
    ![0x3FBD5CEA#32, 0x3E354F4D#32, 0xBF00C9A7#32],
    ![0xBFCFE759#32, 0xBF80B7D9#32, 0x3FB31CCF#32],
    ![0xBFAA36AB#32, 0x3F70C209#32, 0x3F7D0F1F#32],
    ![0x3F430B66#32, 0xBE889DE1#32, 0xBF02AF9E#32],
    ![0xBF07BB3B#32, 0x3E6D7F37#32, 0x3E3AACD5#32],
    ![0xBF889B06#32, 0x3F828D2B#32, 0x3F5F0275#32],
    ![0xBE94B659#32, 0xBFE00E23#32, 0x3EEC276B#32],
    ![0x3F485310#32, 0x3FBE6846#32, 0x3E4927DB#32],
    ![0x3F744CC7#32, 0x3EAE74C1#32, 0x3CE185D8#32],
    ![0x3F35448D#32, 0x3F015913#32, 0x3F2BD698#32],
    ![0xBE141D16#32, 0x3E2E3DF1#32, 0x3F08610F#32],
    ![0xBFD230A0#32, 0xBF2D5588#32, 0xBF05DE1C#32],
    ![0x3F52060D#32, 0x3FAE0CA2#32, 0x3CDCD69A#32],
    ![0xBE5279FD#32, 0xBF77E3CE#32, 0xBF858D42#32],
    ![0xBE135619#32, 0xBED50C9D#32, 0xC00FC887#32],
    ![0xBFD3B42A#32, 0xBF78CB7B#32, 0xBE01B0EE#32],
    ![0xBF0440D1#32, 0x3D899FF9#32, 0xBE4D8CF1#32],
    ![0xBFCA378F#32, 0x3DD71EDE#32, 0xBEBC0799#32],
    ![0xBF7D4C03#32, 0xBFC3C715#32, 0x3E8B932A#32],
    ![0x3E84F861#32, 0x3E1357E1#32, 0xBFD6E233#32],
    ![0xBFB6E943#32, 0xBF4D7575#32, 0x3F258712#32],
    ![0xBEC71F9A#32, 0xBFE48A68#32, 0xBFA97979#32],
    ![0x3F923A81#32, 0xBE14CA9A#32, 0x3FE978D0#32],
    ![0xBE9E689F#32, 0x3EED5D66#32, 0xBF848428#32],
    ![0x3F1FFBE6#32, 0xBFD795C8#32, 0x3FA155BC#32],
    ![0xBFB5A0B1#32, 0xBEE25358#32, 0xBF996431#32],
    ![0x3ED331FF#32, 0x3C53EA45#32, 0x3F1B430D#32],
    ![0xBE55CBD8#32, 0xBF8E1248#32, 0xBFA3EBBB#32],
    ![0xBF983C79#32, 0x3F22D1F5#32, 0xBD296147#32],
    ![0xBEF31EA9#32, 0xBEB44E98#32, 0xBEE14986#32],
    ![0xBF464809#32, 0x3CECFDA5#32, 0xBDD9AEA2#32],
    ![0xBFC191CE#32, 0xBF374000#32, 0x3EFBC17A#32],
    ![0xBE37ABF4#32, 0xBF122953#32, 0x3F916F98#32],
    ![0xBFAFEC85#32, 0xBDEBD78F#32, 0x3EB13E97#32],
    ![0xBD77330D#32, 0xBF9B5562#32, 0x3FE44026#32],
    ![0x3EC032D3#32, 0xBE453171#32, 0x3DC3E24B#32],
    ![0x3EC2B1C6#32, 0x3D1584F4#32, 0x3F2B8164#32],
    ![0x3EB0E287#32, 0x3F1DC68D#32, 0xBDBDD2F4#32],
    ![0x3D0581BC#32, 0x3EE564B4#32, 0xBF357C51#32],
    ![0x3E8B1B82#32, 0x3E15B142#32, 0xBF98CA02#32],
    ![0xBD592893#32, 0x3C8701DB#32, 0xBE4B54F2#32],
    ![0xBF8116B7#32, 0x3EE53B2F#32, 0x3ED8C4DA#32],
    ![0x3F3D515C#32, 0x3FD9BF1C#32, 0x3F80DE90#32],
    ![0x40019815#32, 0xBE3C443D#32, 0x3F65F8DC#32],
    ![0xBFDA8CA4#32, 0x3FB361F5#32, 0x3DFBBCE8#32],
    ![0x3E9EB3F6#32, 0x3ECFA5D3#32, 0xBCD5E97B#32],
    ![0xBE855D5C#32, 0xBE9E72A6#32, 0x3F557F36#32],
    ![0x3FCB5AA6#32, 0xBB564AE9#32, 0xBE70FB6E#32],
    ![0x3FF5AE97#32, 0x3F1B05BB#32, 0xBFD9054F#32],
    ![0x3EF8480B#32, 0x4002D149#32, 0xBD9B1C1A#32],
    ![0x3DE2607B#32, 0xBF0154A2#32, 0xBD8F3D38#32],
    ![0xBFA2E97B#32, 0xBF43B33E#32, 0x3FA25561#32],
    ![0xBEEDECE2#32, 0x3F890119#32, 0xBF876F08#32],
    ![0x3EABA80D#32, 0xBF548824#32, 0xBFD87116#32],
    ![0xBEEC961A#32, 0xBF5B2A7B#32, 0x3D43D12B#32],
    ![0xBE85CFEA#32, 0xBFF57BA9#32, 0x3FFA0F0A#32],
    ![0x3EF44D4D#32, 0x3F8F6E29#32, 0x3E22347A#32],
    ![0xBEFC781C#32, 0x3ED21E20#32, 0x3D763543#32],
    ![0xBD787C56#32, 0x3F5A54E8#32, 0xBFBE41D0#32],
    ![0x3F8EFB9F#32, 0x3F109C06#32, 0xBF5E9E85#32],
    ![0x3EFFC3DE#32, 0x3F52DDFC#32, 0x3F91CAD2#32],
    ![0xBF7FEA62#32, 0xBEC29AFA#32, 0x3E471EBA#32],
    ![0x3F93F2C0#32, 0xBF2FF7F0#32, 0x3F8CC684#32],
    ![0x3F8DB192#32, 0x3F825EB4#32, 0x3FA2740E#32],
    ![0x3F04E447#32, 0xBD55FCDF#32, 0x3F5C7F2C#32],
    ![0x3F54E456#32, 0x3E463489#32, 0x3FCBA92D#32],
    ![0x3FA7AA5F#32, 0x3DF6277A#32, 0x3EA7A6CA#32],
    ![0x4004B4BE#32, 0xBD638EC7#32, 0xBF0120FB#32],
    ![0xC00B9557#32, 0xBED23463#32, 0x3EF9821A#32],
    ![0xBE68F0D5#32, 0x3F1B23E4#32, 0x3E60FD5E#32],
    ![0x3F1B6541#32, 0x3FD93B1A#32, 0xBF0B7B96#32],
    ![0x3F2975FB#32, 0xBCF8D710#32, 0x40054FB6#32],
    ![0x3E06FFBE#32, 0xBEDE0E4A#32, 0xBF07B55F#32],
    ![0xBFBCA4EF#32, 0x3FD5D866#32, 0x3F0887F8#32],
    ![0x3F1EE492#32, 0xBF123543#32, 0xBFC66D80#32],
    ![0x3F273846#32, 0x3F18358A#32, 0x3D920796#32],
    ![0x3CAA067E#32, 0x3F46DD5E#32, 0x3FE4E52E#32],
    ![0xBF0C8507#32, 0x3F40074B#32, 0x3FB7AD5B#32],
    ![0xBEDDC545#32, 0xBF274561#32, 0xBFEA3B85#32],
    ![0x3F23A9EF#32, 0x3F6E16BA#32, 0x3A8E56DC#32],
    ![0x3F52C361#32, 0x3EE67D20#32, 0x3E943100#32],
    ![0xBFA02A06#32, 0xBF750CD5#32, 0x3F3D48A3#32],
    ![0xBF029227#32, 0x3F1B826F#32, 0x3F374A83#32],
    ![0x3E65FF58#32, 0xBFF46469#32, 0x3F2E73ED#32],
    ![0x4000ECCF#32, 0xBF36C81A#32, 0xBEF798AA#32],
    ![0xBEACF1F4#32, 0x3F579234#32, 0xBF2C2FF2#32],
    ![0xBFA34C23#32, 0xBFDDB48E#32, 0x3FB50451#32],
    ![0x3F1D4C4B#32, 0xBF011838#32, 0x3F862B9D#32],
    ![0x3FD09E85#32, 0x3F87FDAF#32, 0xBEAA7BFC#32],
    ![0x3F0C0550#32, 0xBF14EE9F#32, 0xBE6B375F#32],
    ![0xBF186F79#32, 0xBFA7633C#32, 0x3F226A90#32],
    ![0xBEEAD6D0#32, 0x3EDC07DF#32, 0x3E8C8444#32],
    ![0xBE74FF41#32, 0x3F46BB60#32, 0x3F8EB37F#32],
    ![0x3F826E72#32, 0x3E214767#32, 0x3FA65BAF#32],
    ![0xBFA592F2#32, 0x3E67D14A#32, 0x3F623A89#32],
    ![0x3ED8DE8E#32, 0x3ED18C9C#32, 0xBFDA5036#32],
    ![0x400B6F63#32, 0x3DA03C0D#32, 0xBFA46DA8#32],
    ![0x3E5CDD12#32, 0xBFA73F10#32, 0xBF6622CE#32],
    ![0x3F932084#32, 0x3E3DEF71#32, 0x3DB273BE#32],
    ![0x3EA0F7A8#32, 0xBE30E435#32, 0x3FD45122#32],
    ![0x3F3D824F#32, 0xBF864EF0#32, 0x3E90F4FF#32],
    ![0x3FB4B88F#32, 0x3FE661ED#32, 0x3F28C6AC#32],
    ![0xBF701692#32, 0xBF8474F8#32, 0x40068905#32],
    ![0x3ED9D47A#32, 0x3F6F2C60#32, 0xBFB541D6#32],
    ![0x3FAA192A#32, 0xBF03696D#32, 0xC0335FF9#32],
    ![0x40103F24#32, 0x3EF778AE#32, 0x3D112556#32],
    ![0xBED1B9BC#32, 0xBF9BEA28#32, 0xBE68A1D2#32],
    ![0xBDC1F578#32, 0x3EDDB725#32, 0x3F13A3B9#32],
    ![0xBFC40FA6#32, 0x3DDC55A6#32, 0x3F902929#32],
    ![0x3FAF6F58#32, 0xBE3A3263#32, 0x402074C7#32],
    ![0xBFD0D03D#32, 0x3FFD1DFE#32, 0x3EB37467#32],
    ![0x3FE32E2E#32, 0x3D8DB22D#32, 0xBF25570B#32],
    ![0xBDB0140A#32, 0xBFCFB4A6#32, 0x3F8ACC63#32],
    ![0x3EAEDA0B#32, 0x3DE2816E#32, 0x3E2B4A53#32],
    ![0xBF884ADE#32, 0x3DABA1EF#32, 0xBFB48399#32],
    ![0xBFFF227F#32, 0xBFD8C683#32, 0x3FE507C2#32],
    ![0x3F37EDFF#32, 0xBE1F8A6A#32, 0xC031CE4F#32],
    ![0xBE91178D#32, 0x3F3D79D5#32, 0xBEE77C4B#32],
    ![0x3EB5593D#32, 0x3F2619A3#32, 0xBEAB52A8#32],
    ![0x3EF3300B#32, 0x3E8521E8#32, 0xBF748A99#32],
    ![0x3E78C4A7#32, 0xBE26CF18#32, 0x3F408256#32],
    ![0x3F274840#32, 0x3ED6EBE4#32, 0x3F899AF5#32],
    ![0x3D82A849#32, 0xBFFE5EF0#32, 0x3FB3F4F7#32],
    ![0xBFECABAC#32, 0xBF4EE4BC#32, 0x3F8ED487#32],
    ![0xBFCA2A5E#32, 0x3E50B667#32, 0xBED9F914#32],
    ![0x402B040F#32, 0xBF7D7124#32, 0x3F7D876B#32],
    ![0x3FCF34A4#32, 0xBF7CE493#32, 0xBE33B522#32],
    ![0x3D3F129C#32, 0x3FCE7AFE#32, 0x3F904702#32],
    ![0xBF1F3B2A#32, 0xBFD1DA40#32, 0x3E88E912#32],
    ![0xBF8079E9#32, 0xBDC2B4D4#32, 0x4019ACD4#32],
    ![0x3F71C5CD#32, 0x3DAEEFF6#32, 0x3F17B9BA#32],
    ![0x3F20D88D#32, 0x3EEF461D#32, 0xBE995181#32],
    ![0x3F35102D#32, 0x3E6A49B4#32, 0x3F546F88#32],
    ![0xBEB3F9A1#32, 0xBEA5EC3B#32, 0x3F265561#32],
    ![0x3F451A1D#32, 0xBFF2F737#32, 0x3E406EA0#32],
    ![0xBF0AE6E1#32, 0x3E0A6D17#32, 0xBE4DB5DD#32],
    ![0x3E9A502D#32, 0x3E95C8BE#32, 0xBE82B255#32],
    ![0x3FDCB5EE#32, 0x3F3F5227#32, 0xBF4F6513#32],
    ![0xBF62B01A#32, 0xBFDFFBCC#32, 0xC008B0ED#32],
    ![0x3F8B8228#32, 0xBF38AF6F#32, 0xBF7EA87A#32],
    ![0x3F390C93#32, 0x3EA04564#32, 0x3E0FAE76#32],
    ![0x3F0CF2C8#32, 0xBD1CA827#32, 0x3E1EA6D4#32],
    ![0x4001E153#32, 0x3D10E0AC#32, 0x3F83DFD0#32],
    ![0xBF67CEFC#32, 0xBFC335A5#32, 0xBE6CE795#32],
    ![0xBF089143#32, 0x3FFC7F04#32, 0x3F7FDD85#32],
    ![0x3F6A2CF0#32, 0x3C79550C#32, 0xBE1D46C2#32],
    ![0xBF611219#32, 0x3F78DEF9#32, 0x3FA8B4AF#32],
    ![0x3ED44AA1#32, 0xBF344EF4#32, 0x3FE38B20#32],
    ![0xBEEF1A47#32, 0xBF01354F#32, 0xBF0E7813#32],
    ![0xBE094CEF#32, 0x4017DC6C#32, 0xBF86AFCD#32],
    ![0x3EAF52A1#32, 0xBEDF082C#32, 0xBF3949EA#32],
    ![0xBE778E36#32, 0x3FABCAB8#32, 0x3D71AAF3#32],
    ![0xBF39FA68#32, 0xBE94ABF9#32, 0x3EC9D0A2#32],
    ![0xBF118772#32, 0xBF766129#32, 0x3F131E7F#32],
    ![0xBF1044D9#32, 0xBDFF234F#32, 0xBF5722B1#32],
    ![0xBF88D4EE#32, 0x3F3152C9#32, 0xBF1BB91E#32],
    ![0x3FAABEE8#32, 0x3F0E4378#32, 0xBED51AF7#32],
    ![0x3DD5E97C#32, 0xBEF340C6#32, 0xC0218E5B#32],
    ![0xBF71893F#32, 0xBCBBCCCB#32, 0xBE51AA7A#32],
    ![0xBD89DF55#32, 0xBD706049#32, 0xBE22FBDC#32],
    ![0x3F4DB19F#32, 0xBF82C666#32, 0x3F38C1A9#32],
    ![0xBE78176A#32, 0xBEDCE617#32, 0x3FD611C3#32],
    ![0xBFC6478A#32, 0x3F5D79A6#32, 0xBDD64907#32],
    ![0x4022909D#32, 0xBFA15111#32, 0x400C1F33#32],
    ![0x3F9E838E#32, 0x3F886122#32, 0x3F3783FF#32],
    ![0xBEC7B7F6#32, 0x3F0479FF#32, 0xBF1A6BE4#32],
    ![0x3ECE2831#32, 0x3E79826E#32, 0xBF0CC154#32],
    ![0xC016FC2A#32, 0x3E499ADB#32, 0xBE3C232E#32],
    ![0xBE5EF385#32, 0xBF83562F#32, 0x3E00BFAC#32],
    ![0xBF9AD4F8#32, 0xBE62841C#32, 0x3E9D1F42#32],
    ![0x3FC4F960#32, 0x3DB661FA#32, 0xBC9E844C#32],
    ![0x3FD3DE90#32, 0xBF387950#32, 0x3F3E1CB1#32],
    ![0xBFBB6AAA#32, 0xBDB3D0CB#32, 0x3FF31456#32],
    ![0x3F27F363#32, 0x3F171C40#32, 0xC01D30FA#32],
    ![0xBFA079C4#32, 0x3F4897CA#32, 0x3F9205FF#32],
    ![0xBF659283#32, 0xBE786D40#32, 0xBFB07893#32],
    ![0xBE200B2F#32, 0xBEA36C1B#32, 0x3E22471E#32],
    ![0x3F5FE732#32, 0xBF96D915#32, 0xBE00EF2A#32],
    ![0xBF11513B#32, 0x404B4F21#32, 0xBF4E8372#32],
    ![0xBE2DF93D#32, 0xBF5E5A26#32, 0x3E405348#32],
    ![0x3F8F10E2#32, 0x4001ECF6#32, 0xBF159D68#32],
    ![0xBFAFA525#32, 0x3DA3B1EF#32, 0xBC1C4614#32],
    ![0xC00A2DE6#32, 0xBF3EF7E7#32, 0x3F0B0928#32],
    ![0x3E723AFD#32, 0xBD8B5FBA#32, 0x3F645CCE#32],
    ![0x3FCA637B#32, 0x3E78DC75#32, 0xBEF1552B#32],
    ![0x3F6ED72D#32, 0xBF5ABC0B#32, 0xBF881546#32],
    ![0x3F8D694F#32, 0xBBEB3B20#32, 0xBEE09DB8#32],
    ![0xBEE3E79F#32, 0xBFA6312B#32, 0x3F1F5BEC#32],
    ![0xBF087B06#32, 0x3F0E76C3#32, 0xBDE07960#32],
    ![0x3E30723C#32, 0xBF16F9A1#32, 0x3F7D4076#32],
    ![0x3D754250#32, 0xBF0E4876#32, 0x3F41FD4F#32],
    ![0x3EE818EB#32, 0x3F404147#32, 0xBF90B96C#32],
    ![0x3F65562E#32, 0x3F8BF0CF#32, 0xBE4BFCE4#32],
    ![0xBF5AAA72#32, 0x3EBECE36#32, 0x3F25FB79#32],
    ![0xBE5C30FC#32, 0x3DE5C903#32, 0xC011D6C1#32],
    ![0x3F2A2BE0#32, 0x3F33DBFA#32, 0x4006C036#32],
    ![0x3FE0653A#32, 0x3F0C875C#32, 0x3EC0952D#32],
    ![0x3F85E92F#32, 0x3F896CD4#32, 0x3F9FAE1C#32],
    ![0x3F68FBCE#32, 0xBFA2194D#32, 0xBF995094#32],
    ![0xBFDD7A3C#32, 0x4002C8FC#32, 0x3F2D7244#32],
    ![0xBF6BC1D4#32, 0x3F6E1568#32, 0xBF029BD5#32],
    ![0xBF53D9FB#32, 0xBE9929DB#32, 0xBF52BE87#32],
    ![0xBFA3E143#32, 0xBFBC83C0#32, 0x3F31E62B#32],
    ![0x3FA8957A#32, 0xBF9B53F3#32, 0x3F9631FB#32],
    ![0x3F9FFFFA#32, 0x3FD94D22#32, 0xBF206190#32],
    ![0x3E66159A#32, 0xBF90B47D#32, 0xBFCA9856#32],
    ![0xBF23C057#32, 0x3A8E24BA#32, 0xBEF2F966#32],
    ![0xBE84C200#32, 0x3F97B7AC#32, 0x3FC195F7#32],
    ![0x400DAA15#32, 0xBFA2175C#32, 0x3E9C3526#32],
    ![0x3E9B29A0#32, 0xBF6AAA0E#32, 0xBF4A066B#32],
    ![0x3ED6B6B9#32, 0x3F778DA2#32, 0x3F9CC7D2#32],
    ![0x3FD4085F#32, 0xBF52B9F0#32, 0xBE1CEA93#32],
    ![0xBF94BB9B#32, 0x3EDEA69F#32, 0x3F4A808B#32],
    ![0x3F7A12E4#32, 0x3F9B0BAE#32, 0xBEC29474#32],
    ![0x3EF48253#32, 0x3F275816#32, 0x3F387822#32],
    ![0xBF8F8117#32, 0xBED0C542#32, 0x3F17038C#32],
    ![0x3F7EF7D5#32, 0xBF4DB004#32, 0x3F388EA7#32],
    ![0xBFCFDD63#32, 0x3FB7DF86#32, 0x3F476AD7#32],
    ![0x3ED9E1FC#32, 0x3FBDFD84#32, 0x3F5AA127#32],
    ![0xBF5430D9#32, 0x3F8A9942#32, 0x3FB0EB65#32],
    ![0xBF22186B#32, 0x3FBCBD54#32, 0x3EB286CB#32],
    ![0x3FEC86F2#32, 0xBEED96D0#32, 0x3F87AB0C#32],
    ![0xBF1399E2#32, 0xBF0F5632#32, 0xBF9996A5#32],
    ![0x3FCD6D4F#32, 0x3BD7C293#32, 0x3F2B771F#32],
    ![0x3FC7B696#32, 0x3F6DC748#32, 0xBD932211#32],
    ![0x3C4F089D#32, 0xBE8F16A7#32, 0x3F4F85B2#32],
    ![0x3EB7146B#32, 0x3F7613CB#32, 0x3F8E6267#32],
    ![0x3E01C8BC#32, 0x3F87E72D#32, 0xBFD1E192#32],
    ![0x3F49B12E#32, 0x3F5C5E7C#32, 0xBE458AE7#32],
    ![0xBEA97467#32, 0x3F811085#32, 0xBFCEF6D5#32],
    ![0x3E241A78#32, 0x3FDE10F6#32, 0xBFC7E8CD#32],
    ![0x3FA0C096#32, 0xBEBDC954#32, 0xBF5E0712#32],
    ![0x3F1CD302#32, 0xBFAC5C69#32, 0x3E83337C#32],
    ![0x3FB66441#32, 0xBE183779#32, 0x3F718736#32],
    ![0xBFFEEF1E#32, 0xBFB5B7EE#32, 0x3F31441A#32],
    ![0x3EE2D59A#32, 0x3F7CD2DA#32, 0x3F8E3039#32],
    ![0xBE91A1FD#32, 0xBFA823E8#32, 0xBD79A136#32],
    ![0xBE0DECC0#32, 0x3F568ADF#32, 0xBFCB0EB7#32],
    ![0xBEF3623A#32, 0x3E11E1F2#32, 0xBF9D021C#32],
    ![0xBF95252E#32, 0xBFBC67F5#32, 0xBE60F068#32],
    ![0x3EEF4138#32, 0x3F68EE52#32, 0x3ED31BF3#32],
    ![0x3EF38E7E#32, 0x3E9BC286#32, 0x402970E6#32],
    ![0xBF6A6E77#32, 0x3E64A1DE#32, 0xBE2A25D4#32],
    ![0xBF231356#32, 0x3F13ED37#32, 0xBFB75FB1#32],
    ![0x3EBD8997#32, 0xBE97C41C#32, 0x3D8EB63D#32],
    ![0xBE1F323F#32, 0x3F781361#32, 0xBFDCE498#32],
    ![0xBEEC4996#32, 0x3EAC7801#32, 0x3F81480F#32],
    ![0x3F0DB8A7#32, 0xBF3D4FDB#32, 0x3FB01D1A#32],
    ![0x3F5BAC14#32, 0x3EB29627#32, 0x3F9FF2D9#32],
    ![0x3F48DECA#32, 0x3F18806A#32, 0x3FE18353#32],
    ![0x3E8C1FA0#32, 0xBDA3D8D5#32, 0xC019CF28#32],
    ![0xBCB22364#32, 0xBE0BAAF0#32, 0x3F46B3D6#32],
    ![0x3DCC4E62#32, 0x3EF4BA6D#32, 0x3FB0FA9E#32],
    ![0xBF08A13A#32, 0x3FDD16C5#32, 0xBF1535EA#32],
    ![0x4001BCCA#32, 0xBF46E053#32, 0xBFB8F353#32],
    ![0x3FEBECE1#32, 0xBFA5104F#32, 0xBF134F0E#32],
    ![0x3F27B1C4#32, 0xBFD0EF57#32, 0x3F0DF81A#32],
    ![0xBD2B3166#32, 0x3CCBB3C8#32, 0xC00A011D#32],
    ![0xBEF77D96#32, 0xBF710864#32, 0x3ED3F64D#32],
    ![0x3FDB4EA0#32, 0xBFCFDE85#32, 0x3DD15BA8#32],
    ![0x3F5993EB#32, 0x3FCF0D15#32, 0xBEBB2EC2#32],
    ![0x3ECCD1F2#32, 0x3EE86DA7#32, 0xBF0DA6E2#32],
    ![0x3F470DB6#32, 0x3EC31C25#32, 0x3F53FF5F#32],
    ![0xBE2FF946#32, 0x3F07BBCF#32, 0x3EFAC3D1#32],
    ![0x3EC9A9FE#32, 0x3EC88BE0#32, 0xBF201F69#32],
    ![0x3F5316D5#32, 0x3F9C1E9C#32, 0xBF8E566B#32],
    ![0xBFA51FB2#32, 0xBED20918#32, 0xBFD33BB3#32],
    ![0x3E6F6ED8#32, 0x4029D70D#32, 0x3F5D243A#32],
    ![0x3F2A93E2#32, 0xBDD73528#32, 0xBF48E82F#32],
    ![0xBF960448#32, 0xBF08B04A#32, 0xBDB5B858#32],
    ![0x3C5DF3CA#32, 0x3DB9C6BB#32, 0x3FAF8CF2#32],
    ![0x3F701D10#32, 0xBF937E57#32, 0x3F29DAF1#32],
    ![0x3CAC131E#32, 0x3E06F5B4#32, 0x3F52AA26#32],
    ![0xBF1C0AA8#32, 0xBDBD814B#32, 0xBEF0B561#32],
    ![0xBF60A364#32, 0x3E765479#32, 0x3ED2F5A9#32],
    ![0xBF487991#32, 0xBF8E857A#32, 0x3D3787BD#32],
    ![0x3FD34559#32, 0x3F81E8B9#32, 0xBF40A49B#32],
    ![0xBF86DB49#32, 0x3FA7B9EC#32, 0xBCD22238#32],
    ![0x3FE0197F#32, 0x3F1B6BCE#32, 0x3F8E2D23#32],
    ![0x3E85C2A4#32, 0x3F82D15E#32, 0x3F3353B8#32],
    ![0x3EB37D85#32, 0x3F068ED0#32, 0x3E1B7A81#32],
    ![0xBFBF83A7#32, 0x3EEF5493#32, 0xBF8D61DB#32],
    ![0x3F01455C#32, 0xBD605668#32, 0xBF5ECB4A#32],
    ![0xBEE950EC#32, 0x3F1C7FF4#32, 0x3E1A2057#32],
    ![0xBE2EE8F2#32, 0x4003D42C#32, 0x3F927A52#32],
    ![0xBD46E320#32, 0x3F5AFE37#32, 0x3E84AEFB#32],
    ![0x3FFFE8F5#32, 0xBEC7A208#32, 0xBFA96194#32],
    ![0x3EC0C653#32, 0x384F1C32#32, 0xBF9F6C2C#32],
    ![0xBF86EB6C#32, 0xBF70CEF9#32, 0xBF9EE99A#32],
    ![0x3F215F5B#32, 0x3E116FD8#32, 0xBF05D954#32],
    ![0x3FC9787C#32, 0xBDA6AEAA#32, 0x3F803602#32],
    ![0x3FEB4657#32, 0xBEBA8167#32, 0xBFBB938B#32],
    ![0x3F4DD31C#32, 0xBDF88C7D#32, 0x3E4EA644#32],
    ![0xBE1DE153#32, 0x3F18CFF4#32, 0xBEF20B37#32],
    ![0x3F248F79#32, 0x3BBCF0CA#32, 0x3F13356A#32],
    ![0x3ED89ADF#32, 0x3F20994D#32, 0xBFEA9A04#32],
    ![0xC0010657#32, 0xBF1E716D#32, 0xBD56BA61#32],
    ![0xBE0A58E4#32, 0x3D796E33#32, 0x3EDACCA9#32],
    ![0x3D2D547D#32, 0x3EB9E049#32, 0xBF66D27E#32],
    ![0xBEF32F89#32, 0xBEE442F9#32, 0x3DF791CC#32],
    ![0xBFF7348B#32, 0x3F7FF771#32, 0xBFCFFC73#32],
    ![0xBF655E8A#32, 0x3F880D8B#32, 0xBFC5678C#32],
    ![0xBF8D06C1#32, 0x3FBD93D3#32, 0x3F4A8947#32],
    ![0xBF7044A3#32, 0xBF865631#32, 0xC0064EC9#32],
    ![0xBF2C19B3#32, 0xBEC264D8#32, 0x3E65A252#32],
    ![0x3F56D245#32, 0xBECF52A2#32, 0x3DAE3D30#32],
    ![0xBF0892FA#32, 0x3ED0920A#32, 0xBF72CDB6#32],
    ![0xBECBA748#32, 0xBF79AA48#32, 0x3ECE3440#32],
    ![0x3F1C41A5#32, 0xBDF89E03#32, 0xBFC3E7C9#32],
    ![0xBEDFA8C1#32, 0xBF44BADB#32, 0xBDD37F04#32],
    ![0xBF599F73#32, 0xBF3BA65D#32, 0xBE52BC3C#32],
    ![0x3F9D23A2#32, 0x3F57BF1B#32, 0x3F878D03#32],
    ![0x3FA2CA53#32, 0x3FD5FE08#32, 0x3EC5F0B5#32],
    ![0x3FCBDA9B#32, 0xBE73EF7A#32, 0xBEA7DE0F#32],
    ![0xBD44A8D5#32, 0xBF56E81E#32, 0x3F5966AF#32],
    ![0xC03035E7#32, 0xC01E43D6#32, 0xBEA3B75F#32],
    ![0x3F86CA3E#32, 0x3F6AB4DE#32, 0xBF2C535B#32],
    ![0xBFD26818#32, 0x3F14FF19#32, 0x40004F9E#32],
    ![0xBF99DE30#32, 0xBEF0153C#32, 0x4001A89A#32],
    ![0x3F2E4173#32, 0x3E904ED1#32, 0x3E5E2547#32],
    ![0x3D43DFEA#32, 0x3EA70D23#32, 0x3E59BFD3#32],
    ![0x3ED27D52#32, 0xBE10D8D6#32, 0x3EC6AD8B#32],
    ![0x40063CC5#32, 0xBF3EBF53#32, 0x3E9CC36E#32],
    ![0xBFD482A0#32, 0x3F76A188#32, 0xBF65CF84#32],
    ![0x3FB546AF#32, 0xBF9D10ED#32, 0xBFF3EB28#32],
    ![0x3FACFE53#32, 0x3FA2FA8E#32, 0xBE98D089#32],
    ![0xBFA2F0EC#32, 0xBF456138#32, 0xBE19A978#32],
    ![0x3D60F285#32, 0xBF5F91E8#32, 0x3EA3EB00#32],
    ![0xBE6F6EA4#32, 0x3FB2D2A4#32, 0x3FEFE324#32],
    ![0xBF0AFCEB#32, 0xBECB0B05#32, 0xBEE6E7E1#32],
    ![0xBF212ADA#32, 0xBD9D2E39#32, 0x3F6266BB#32],
    ![0xBF0DBA14#32, 0x3FDBE947#32, 0xBF597713#32],
    ![0xBE9AA8C7#32, 0x3E05F4C4#32, 0xBF306155#32],
    ![0xBF2B0555#32, 0xBF241520#32, 0x3FE513E5#32],
    ![0x3EBCEC56#32, 0x3F43F8A2#32, 0xBDF7B0A5#32],
    ![0xBF1706DE#32, 0xBE97E65D#32, 0x3F55421E#32],
    ![0xBD28FB0B#32, 0xBF817B9C#32, 0x3E64B3DB#32],
    ![0x3E75D090#32, 0x3EC11222#32, 0xBF66EB8D#32],
    ![0xBF56E20C#32, 0xBF3CB72E#32, 0xC000338E#32],
    ![0x3F0EDC3A#32, 0xBFA6819D#32, 0xC0150B26#32],
    ![0xBF96CEC9#32, 0x3EE38A1E#32, 0x4016C581#32],
    ![0x3F960BF1#32, 0xBF44DAB3#32, 0x3F42BD59#32],
    ![0xBE350017#32, 0x3FC81936#32, 0xBEB3FA6D#32],
    ![0xC05E1606#32, 0x3F310C3E#32, 0x3F0DFADE#32],
    ![0xBF5067F9#32, 0x3F0E65F6#32, 0xBED5979E#32],
    ![0x3E4D1142#32, 0x3FA9336D#32, 0x3DAACCE9#32],
    ![0x3FC3A15A#32, 0xBF55B074#32, 0x3F478EF9#32],
    ![0xBEBF82C3#32, 0x3F93CF80#32, 0x3F63CD24#32],
    ![0xBFA0E52A#32, 0x3C11EE56#32, 0xBF1C6092#32],
    ![0xBF8E6669#32, 0xC000677B#32, 0x3F5C26C6#32],
    ![0xBF14BAB3#32, 0xBE14604A#32, 0xBF833C6B#32],
    ![0x3EE0E5E5#32, 0xBE4FB345#32, 0x3EDD1DD5#32],
    ![0x3F6ADE96#32, 0x3E9753CE#32, 0x3F506440#32],
    ![0x3F837393#32, 0xBCEC3F61#32, 0x3F1814D4#32],
    ![0xBF2DA4B3#32, 0x3F6BD245#32, 0xBEF51331#32],
    ![0x3BC28317#32, 0x3E99BA1E#32, 0xBF32F6D8#32],
    ![0x3C5B6A83#32, 0xBE4EB1A9#32, 0xBEA15412#32],
    ![0x3E80BEA1#32, 0xBF683258#32, 0xBF2521F5#32],
    ![0xBEB88838#32, 0xBE8A2F79#32, 0xBFBBAE5A#32],
    ![0xBFAE5E1B#32, 0x3E3B5692#32, 0xBDB0BD65#32],
    ![0xBF88AE08#32, 0xBF339970#32, 0x3FA87851#32],
    ![0xBE6F93AC#32, 0x3F12C0F1#32, 0xBEEAEF5C#32],
    ![0x3F83935D#32, 0x3FB398BB#32, 0x3F759B45#32],
    ![0x3E877009#32, 0x3EF09433#32, 0xBC74046B#32],
    ![0xBFBF5BF3#32, 0xBF7DDE58#32, 0x3F63159F#32],
    ![0x3E535FFB#32, 0xBF17CFC1#32, 0xBECF18D2#32],
    ![0xBF84C94A#32, 0xBE55038D#32, 0x3F87AC14#32],
    ![0xBFA79AD4#32, 0xBF832B08#32, 0xC0035296#32],
    ![0x3F81AC4F#32, 0x3FED1D30#32, 0x3EF43911#32],
    ![0x3D4F4E30#32, 0xBF53F72A#32, 0x3FD74A00#32],
    ![0x3F02764A#32, 0x3F3808A5#32, 0x3F019087#32],
    ![0x3FBE3F67#32, 0xBE121205#32, 0xBE0A6655#32],
    ![0xBE93E5A3#32, 0x3F6032E7#32, 0x3F92AF10#32],
    ![0xBE221912#32, 0xBF8B5D7F#32, 0x3FAA486A#32],
    ![0x3E80F172#32, 0x402D907B#32, 0xBEB740A8#32],
    ![0xBEC399F1#32, 0x3F730E56#32, 0xBDA753B7#32],
    ![0x3C5FDF23#32, 0x3F64977B#32, 0x3FDE0AD5#32],
    ![0xC0006ED2#32, 0xC007A850#32, 0x3F1F33F4#32],
    ![0x3EB403E7#32, 0xBF8B9518#32, 0xBF9706A0#32],
    ![0x3E67BFD9#32, 0x3AE3E0C9#32, 0x3FF0B610#32],
    ![0xC0135356#32, 0xBFC3E541#32, 0xBED06D6D#32],
    ![0x3EF8C36C#32, 0xBFE84774#32, 0x3D5DF118#32],
    ![0xBDF9B835#32, 0x3F10EFC2#32, 0xBDBD19C4#32],
    ![0xBD3D9194#32, 0xBEC21C93#32, 0x3EFEB783#32],
    ![0xBD4F112A#32, 0x3FEC14E7#32, 0xC025D7E4#32],
    ![0xBE5652D4#32, 0x400323F6#32, 0xBFCD0573#32],
    ![0xBFA0E489#32, 0x3ECEE6A6#32, 0x3F51FBA9#32],
    ![0xBB3C6257#32, 0xBFBD4EE5#32, 0xBE7F46DE#32],
    ![0xBF8E6CA0#32, 0xBFB46542#32, 0xBEFBD176#32],
    ![0x3D4F7517#32, 0x3E1767DB#32, 0x3F08A263#32],
    ![0xBF4B5F66#32, 0xBF9BE651#32, 0x3E67E067#32],
    ![0x3EB4BC2E#32, 0x3E88CFC8#32, 0x3EBF2BD8#32],
    ![0xBF7A5B7F#32, 0xBF29EA86#32, 0x3D20B2C2#32],
    ![0x3ED4E356#32, 0x3EF7F56B#32, 0xBE8B18B9#32],
    ![0xBEA01554#32, 0x3F59FEC7#32, 0xBE1DB44C#32],
    ![0x3EC62454#32, 0xBF66AAE5#32, 0xBE8042C3#32],
    ![0xBF7BA287#32, 0x3F21CBFA#32, 0x3F1B8E3B#32],
    ![0xBECBF904#32, 0x4009081A#32, 0xBEFC2230#32],
    ![0xBEEFA33E#32, 0xBFC2C000#32, 0x3F30B2AB#32],
    ![0xBFA14C99#32, 0xBEF20983#32, 0x3EC67306#32],
    ![0x3F89CD84#32, 0x3E82D270#32, 0xC00C80A0#32],
    ![0x3F9F334B#32, 0x3F3A5F5E#32, 0x3F003716#32],
    ![0xBF22ECE4#32, 0x3FD984D1#32, 0x3D7AA0E5#32],
    ![0xBEA48CF2#32, 0xBF7121FD#32, 0xBE86A38D#32],
    ![0x3EFFC782#32, 0x3DC1A6DD#32, 0xBE6BDA91#32],
    ![0xBE58DDB3#32, 0xBFDB68D7#32, 0x3FF49BDA#32],
    ![0xBD9EB4DA#32, 0x3F285D8B#32, 0x3E627240#32],
    ![0xBF72271A#32, 0x3F7A9A1E#32, 0xBE169858#32],
    ![0x3C5767F5#32, 0x3F0EEA23#32, 0xBED0CD21#32],
    ![0x3F79E8DE#32, 0xBFA8F692#32, 0x3FDB0FD8#32],
    ![0xBF02CD89#32, 0xBF8A25C0#32, 0xBF2F2498#32],
    ![0xBF93CEA8#32, 0x3ED9B11B#32, 0xBE52228C#32],
    ![0xBE864561#32, 0x3F8B80EB#32, 0x3E8EA4E6#32],
    ![0xBE1E94B8#32, 0x3F3579E9#32, 0xBF44705B#32],
    ![0x3F9051FD#32, 0x3F4CBBC2#32, 0x3F0CCE18#32],
    ![0x3FAF28EB#32, 0xBE7DE949#32, 0xBF2955E3#32],
    ![0xBF1407E4#32, 0xBEEC045E#32, 0xBF62F7A2#32],
    ![0x3FA9150D#32, 0x3F3DFFEE#32, 0xC004500F#32],
    ![0x3D478A2C#32, 0xBCC6A508#32, 0x3D53EB68#32],
    ![0x3FBA0C59#32, 0x3FB77298#32, 0xBFF6C4B7#32],
    ![0xBF0060F9#32, 0x3FBE8DF0#32, 0x3F4C0C87#32],
    ![0x3C910AE6#32, 0xBF3EFE08#32, 0x3F6F50FD#32],
    ![0x3FB5E772#32, 0xBF71327F#32, 0x3CF7693D#32],
    ![0xBFE7FCA9#32, 0x407111AF#32, 0x3F810ADE#32],
    ![0x3F804A11#32, 0xBED36FDC#32, 0x3EAB51CE#32],
    ![0x3E6763EB#32, 0xC0013A2A#32, 0x3E43E965#32],
    ![0xC0114BB2#32, 0xBF95197C#32, 0x3F2C8131#32],
    ![0xBD521D6D#32, 0xBFE30C6A#32, 0x3F6A8C08#32],
    ![0x3F18CE8D#32, 0xBE4A030B#32, 0xBFA2055B#32],
    ![0xBF391C3F#32, 0xBE4EFA92#32, 0x3EAB4E2A#32],
    ![0xBD93408B#32, 0xBF37720F#32, 0xBF04C65B#32],
    ![0xBF950584#32, 0xBE08C2B1#32, 0xBED5EF9B#32],
    ![0xBED346BE#32, 0xC00816B5#32, 0xBE9A9024#32],
    ![0xBF9CF67F#32, 0x3E544237#32, 0x3F251D25#32],
    ![0xBF3E2B92#32, 0x3E2BF416#32, 0x3EC018FA#32],
    ![0x3E687C90#32, 0xBF4864D1#32, 0xBF31A22B#32],
    ![0xBF23ED61#32, 0x3F410E36#32, 0xBFB7E289#32],
    ![0xBE370D15#32, 0xBF921E44#32, 0x3D0B85F9#32],
    ![0x3F373742#32, 0x3F153E72#32, 0x3F853B12#32],
    ![0x3FA68E97#32, 0x3F204676#32, 0x3FABAE2D#32],
    ![0x401FAB44#32, 0x3EB7E612#32, 0xBFE86B76#32],
    ![0xBEA9A2DE#32, 0xBEEE2847#32, 0xBFBF9638#32],
    ![0x3E9B1B30#32, 0x3E2B2FDF#32, 0x3F840093#32],
    ![0xBECB17BB#32, 0xBEE973DC#32, 0x3DF3AA02#32],
    ![0x3F6BF81D#32, 0x3F0D1532#32, 0x3DF4FF23#32],
    ![0xBF87DDAF#32, 0x3F671870#32, 0xBEE415B9#32],
    ![0xBF1631EB#32, 0xC00460F6#32, 0x3EB1C0E6#32],
    ![0xBD2D2E62#32, 0xBFEFD93E#32, 0xBDF5C3AA#32],
    ![0xBF4C1C7F#32, 0x3F378C2E#32, 0xBC049F15#32],
    ![0x3EAFA9FA#32, 0x3F2E458C#32, 0x3F495F03#32],
    ![0xBF00966F#32, 0x3D63DBD0#32, 0xBF19474F#32],
    ![0xBF89D9B1#32, 0x3EBB3C6E#32, 0xBF901A37#32],
    ![0x3EF01132#32, 0x3FBDF87A#32, 0xBE24EE88#32],
    ![0x3EDFCB8D#32, 0xBE9C56FB#32, 0xC00C5E0B#32],
    ![0xBFA25F53#32, 0xBD94442E#32, 0x3DEEED81#32],
    ![0xBF41A65C#32, 0x3F9B84B0#32, 0x3EE8AA03#32],
    ![0xBFDB0A1A#32, 0xBEEDF70E#32, 0x3E4A2FE5#32],
    ![0xBFE7523F#32, 0xBF4ADCE9#32, 0xBDD76D16#32],
    ![0xBF87A190#32, 0x3EEB0243#32, 0x3F9A756C#32],
    ![0x3E1EC048#32, 0xBF19B6CA#32, 0xBE64A451#32],
    ![0xBF153FD9#32, 0xBECED948#32, 0x3E6DC752#32],
    ![0xBF9DD716#32, 0x3F93EE71#32, 0xBFB91CB7#32],
    ![0xBF41A176#32, 0xBEEA4065#32, 0x3FDBB7C8#32],
    ![0x3E7C8F6A#32, 0xBFBCD9D3#32, 0xBDFC4A94#32],
    ![0x3E33E8CE#32, 0xBEC90B1F#32, 0xBF2664C0#32],
    ![0xBF64399C#32, 0xBE46F12F#32, 0x3F6DD8F4#32],
    ![0xBE0CEE07#32, 0xBF1C9982#32, 0x3E3A1EFF#32],
    ![0xBFD5D48B#32, 0x3F210E18#32, 0xBFCD6EBF#32],
    ![0x3FF8DBA3#32, 0xBF009AB9#32, 0x3F0112D3#32],
    ![0x3F85803D#32, 0xBF9627A9#32, 0xBE312F59#32],
    ![0x3F0958B4#32, 0x3FC08F2E#32, 0xC02CE620#32],
    ![0xBEAAEE8D#32, 0xBF284980#32, 0x3F178354#32],
    ![0xBF1EA2BE#32, 0xBF6B3C9B#32, 0x3FD6FCB0#32],
    ![0x3FDD67AC#32, 0x3EFE5070#32, 0xBF8B6149#32],
    ![0xBFB79284#32, 0xBFAD4948#32, 0xBE0B7BD2#32],
    ![0xBF2D2969#32, 0x3F4A3EEA#32, 0xBD918279#32],
    ![0xBF8B6979#32, 0x3F8F2010#32, 0x3EDE6C4C#32],
    ![0x3FCBE03F#32, 0x3F1B5151#32, 0xBEFB00FF#32],
    ![0x3E5FAAEF#32, 0x3EB1BBA8#32, 0xBEB640FD#32],
    ![0xBDC954CC#32, 0x3E34FDAA#32, 0xBF93FCF1#32],
    ![0xBECD1133#32, 0xBEB740DE#32, 0x3EE145F7#32],
    ![0xBFBB48DC#32, 0xBFC9FD28#32, 0x3F17167E#32],
    ![0x3F0F7E87#32, 0x3F75E27D#32, 0x3D2CF1B3#32],
    ![0xBF79DAE9#32, 0xBFF54812#32, 0x3FB1D391#32],
    ![0x3EFF00FA#32, 0x3CE94CE2#32, 0x3F290BFC#32],
    ![0x3F6F3123#32, 0x3EB3D57E#32, 0x3E9D779E#32],
    ![0x3E51EAFD#32, 0xBED66E02#32, 0x3EBEE941#32],
    ![0x3E085963#32, 0x3FC056E1#32, 0xBF85827A#32],
    ![0x3B5EF046#32, 0x3EA20CD1#32, 0x3F3CB667#32],
    ![0xBEF86640#32, 0xBF2C35F5#32, 0x3EEB41E4#32],
    ![0xBF9E446E#32, 0x3F7174F7#32, 0x3D704BBA#32],
    ![0x3F12B860#32, 0x3FB4361D#32, 0x3FA89100#32],
    ![0x3EFF0B2B#32, 0xBFECAF91#32, 0x3D8B891A#32],
    ![0xBF932B38#32, 0xBE420013#32, 0xBFA494FD#32],
    ![0x3E7FFFA5#32, 0xBDC7FAF3#32, 0x3F6488B7#32],
    ![0xBF87BFD8#32, 0x3EDCB5B7#32, 0xBF284962#32],
    ![0xBF012B09#32, 0xBF888358#32, 0x3F373B7B#32],
    ![0xBE946B1A#32, 0xBF7ADF3B#32, 0xBF0E83AC#32],
    ![0x3E849313#32, 0xBEE93040#32, 0x3F1FBA43#32],
    ![0x3FBA5DF5#32, 0x3E964618#32, 0xBFF2ABAF#32],
    ![0xBF6991C8#32, 0x3FA68D61#32, 0xBF813841#32],
    ![0xBEA89663#32, 0x3F95A5EC#32, 0x3EC42F19#32],
    ![0x3F8A1D7C#32, 0x3F337556#32, 0xBF196511#32],
    ![0xBE39BD68#32, 0x3F01B4BF#32, 0x3F438401#32],
    ![0x3FD27AD7#32, 0xBFFB5B0F#32, 0xBF31E9A5#32],
    ![0xBF3090EB#32, 0x3FA2B417#32, 0xBEB85813#32],
    ![0x3FD42DC7#32, 0x3E8A6745#32, 0x3FBB73BF#32],
    ![0xBF86FAA2#32, 0x3ED5A976#32, 0x3E5FDC08#32],
    ![0x3F945EFC#32, 0xBF1C1DF8#32, 0x3EAF0167#32],
    ![0x3EC7F61E#32, 0xBF6CDC9F#32, 0xBEE66B62#32],
    ![0x3E9EDC28#32, 0x3D8FF3F2#32, 0xBE132FCB#32],
    ![0x3FC972F1#32, 0xBFD078F6#32, 0x3EEB613B#32],
    ![0xBFA4C02C#32, 0xBE8BBC48#32, 0x3F257C30#32],
    ![0xBE3B6054#32, 0x3ECB518E#32, 0xBFC52A15#32],
    ![0x3F1E8184#32, 0xBB96D61D#32, 0x3DE2F755#32],
    ![0xBFBDB91C#32, 0xBFA8F710#32, 0xBE22DD14#32],
    ![0xBE7AF8A1#32, 0xBCA8210B#32, 0x3F056200#32],
    ![0xBF5823F0#32, 0xBE037870#32, 0x3F93313E#32],
    ![0x3F3D42D7#32, 0x3C5BB336#32, 0xBF8C1F81#32],
    ![0xBEAEBE35#32, 0x3F5FD76F#32, 0xBFDF7E4A#32],
    ![0x3F4C34EC#32, 0xBD6D34A5#32, 0x4022574B#32],
    ![0x3F1EC1EA#32, 0xBE872352#32, 0xBED31801#32],
    ![0xBF6854ED#32, 0x3F59E4EB#32, 0xBF7A406D#32],
    ![0x3E1F6913#32, 0x3FAE05A5#32, 0x3F9A36CA#32],
    ![0x3DDAEFF9#32, 0xBF098854#32, 0x3E5F6FE3#32],
    ![0x3EEA9C95#32, 0x3F6C018D#32, 0x3F8FCF63#32],
    ![0xBF4B690A#32, 0x3F612DB4#32, 0xBDF581B6#32],
    ![0xBF766930#32, 0xBE6248DE#32, 0xBF20F27F#32],
    ![0x3FABCC3C#32, 0xBC47531E#32, 0xBE8EA658#32],
    ![0xBEACCA67#32, 0xBF1815B9#32, 0x3F3775D8#32],
    ![0x3D705E8F#32, 0x3DDC1002#32, 0xBF18C37E#32],
    ![0xBEC2BACE#32, 0xBE66D40C#32, 0x3FB6B2C1#32],
    ![0x3DC4F515#32, 0xBF1E9D1F#32, 0xC0344E41#32],
    ![0x3FFADF42#32, 0xBFAACB2E#32, 0xBFB65F30#32],
    ![0x3DDCEAE0#32, 0x3E587D0D#32, 0xBB4D8EFC#32],
    ![0x3ECD0CF9#32, 0xBEC8862F#32, 0xBE8A9298#32],
    ![0x3E13CE0C#32, 0x3E95768B#32, 0xBDD88A63#32],
    ![0xBECAACCE#32, 0x3EC9D520#32, 0xBD9252E5#32],
    ![0xBEF4682F#32, 0xBD8A5400#32, 0x3EEC4514#32],
    ![0x3F665608#32, 0xBEA1335A#32, 0xBDEB126F#32],
    ![0x3EB699E5#32, 0xBFE38180#32, 0xBF6BFF42#32],
    ![0xBF97989F#32, 0xBE2E3F18#32, 0x3F024A97#32],
    ![0x3F42AFB2#32, 0x3F084292#32, 0x3FCD547A#32],
    ![0xBF0FE085#32, 0xBDC8AC0C#32, 0xBC1DE12F#32],
    ![0xBEF61A72#32, 0x3FC58F7C#32, 0xBF52EB15#32],
    ![0xBE35A838#32, 0xBFDE02EC#32, 0x3F2C4D41#32],
    ![0xBF480682#32, 0xBE0E13E7#32, 0x3F09FA75#32],
    ![0x3F01E4A0#32, 0x3F99EDCA#32, 0xBF9595E0#32],
    ![0x3F89A54A#32, 0xBD1A1652#32, 0x4003F40D#32],
    ![0x3FA9B2B0#32, 0xBF0D7778#32, 0xBF733D93#32],
    ![0xBF3E2263#32, 0x4000F97A#32, 0x3DF0CC3F#32],
    ![0xBF9B7ABF#32, 0x3EEF823C#32, 0xBEE7B98D#32],
    ![0xBF7FB3B2#32, 0x3F6FBDB1#32, 0x3F5E61C9#32],
    ![0xBF586EC4#32, 0xBF71A602#32, 0x3F913A5F#32],
    ![0xBD809CB0#32, 0xBFB7DC37#32, 0xBF6D9429#32],
    ![0xBF513FAB#32, 0xBF103CFA#32, 0xBE102307#32],
    ![0xBF88509E#32, 0xBF7424E0#32, 0xBEC90A9D#32],
    ![0xBFA403FA#32, 0xBF2E79EB#32, 0xBFD34460#32],
    ![0xBFB92A2C#32, 0xBFB948AB#32, 0xBEB70996#32],
    ![0x3FD7F926#32, 0xBF78A93A#32, 0xBEBC525A#32],
    ![0xBE87A9F0#32, 0x3FA630F4#32, 0xBF6E6AE0#32],
    ![0x3ED10500#32, 0x3FD86191#32, 0xBF768237#32],
    ![0x3F227AE0#32, 0xBF9E1E02#32, 0xBBC329C9#32],
    ![0x3EC3A2C5#32, 0x3EEE4CBC#32, 0xBD347D23#32],
    ![0xBF1FEA82#32, 0xBC6C610A#32, 0x3F9F462A#32],
    ![0x3EA18C47#32, 0xBF5871E0#32, 0xBF56340B#32],
    ![0xBEA2E797#32, 0xBF035AD7#32, 0x3EBB7CC1#32],
    ![0xBF8ECF10#32, 0x3F63246E#32, 0x3C96B85B#32],
    ![0x3E52A8AD#32, 0x3EE3E0B9#32, 0xBF11BF47#32],
    ![0x3CDB6D84#32, 0xBE610CE5#32, 0x3F287019#32],
    ![0xBFA52720#32, 0xBFA17BE9#32, 0xBF46B0F5#32],
    ![0x3F4C2CD2#32, 0xBDCFA692#32, 0xBE46D1BA#32],
    ![0xBFA2E4C6#32, 0xBF2DD7C2#32, 0xBE4F9E00#32],
    ![0xBE6AB486#32, 0xBF9DD726#32, 0xC006A023#32],
    ![0xBFA51E1E#32, 0x3E8A420F#32, 0xBEEDB2A4#32],
    ![0x3F598FF3#32, 0x3FBA335B#32, 0x3FC62B75#32],
    ![0xBF5A7250#32, 0xBC35DC3F#32, 0x3EB1BBE8#32],
    ![0xBF8AA70D#32, 0x3F0D3FF0#32, 0xBEEA6A3C#32],
    ![0xBF834DA5#32, 0x3EE4E995#32, 0xBE997F8C#32],
    ![0x3EE3462C#32, 0x3EAA05EA#32, 0xBF38C276#32],
    ![0x3FD16AC6#32, 0xBEA50C87#32, 0xBF25C396#32],
    ![0xBF0262FD#32, 0xBE9A72F4#32, 0xBFA24F64#32],
    ![0x3F0EFF84#32, 0x3D884093#32, 0x3F6F8AF1#32],
    ![0xBFB33E2F#32, 0x3F010BEA#32, 0x3E47393A#32],
    ![0x3FA75121#32, 0x3F7FFFCE#32, 0x3D1A9BBB#32],
    ![0x3EE22DB7#32, 0xBEF759D8#32, 0x3F7118F1#32],
    ![0x3F4EEFBD#32, 0x3F18B1DD#32, 0xBF62FE32#32],
    ![0x3EA07958#32, 0xBE9E8DA6#32, 0xBF5E03D1#32],
    ![0xBD70E4BD#32, 0x3F412EF4#32, 0x3F4D6C11#32],
    ![0xBFCDB5D5#32, 0xBF569868#32, 0xBEFD871C#32],
    ![0x3D4406CF#32, 0xBFADCA59#32, 0x3F76277A#32],
    ![0xBDBA7D23#32, 0xBE088AFA#32, 0xBF880783#32],
    ![0x3F08A1D8#32, 0x3E8473EF#32, 0x3E0A66D9#32],
    ![0xBE7DADAD#32, 0x3FADC4CB#32, 0xBE966240#32],
    ![0x3E66C135#32, 0x4001F3D7#32, 0x3EC412C6#32],
    ![0xBEBBC983#32, 0xBF8182DC#32, 0xBF7100EB#32],
    ![0xBFAEF82E#32, 0x3F4EFC48#32, 0xBFB0F47E#32],
    ![0x40341006#32, 0x3D510014#32, 0x3FC03A3F#32],
    ![0x3FC5377B#32, 0x3EF1DA80#32, 0xBD15F41B#32],
    ![0xBE1FB643#32, 0xBEF0A2EA#32, 0x3F479966#32],
    ![0xBECE12F9#32, 0x3F38134B#32, 0x3FA8A3B3#32],
    ![0x3F937565#32, 0x3ECEFDAE#32, 0xBEC3F619#32],
    ![0xBFB7BADC#32, 0xBEEFA21D#32, 0xBF9500D0#32],
    ![0xBF9546AD#32, 0x3FAFABB5#32, 0x3FD5A877#32],
    ![0xBCB5F0D3#32, 0x3DF78ECC#32, 0x3F215A93#32],
    ![0xBF33DB0F#32, 0xBEC0A1AE#32, 0x3FC52117#32],
    ![0x3F9FCFFD#32, 0xBFEDC34F#32, 0xBD5FD752#32],
    ![0x3F47A076#32, 0xBF3E21C3#32, 0x3E8B5518#32],
    ![0x3ECBF914#32, 0xBE9549B1#32, 0xC00CA2D2#32],
    ![0x400AF3C5#32, 0xBEB59D89#32, 0xC0036D31#32],
    ![0x3ED27EBB#32, 0x3F561A1B#32, 0xBE1D1560#32],
    ![0x3EDFA4C6#32, 0x3CA4E7E1#32, 0x3F366E19#32],
    ![0xBF35B6F2#32, 0xBFB2D24C#32, 0x3EE35D77#32],
    ![0x3F9BB20F#32, 0x3ED0EADE#32, 0xBF970007#32],
    ![0x3E89F98E#32, 0x3EBA4488#32, 0xBFFB78E9#32],
    ![0x3F8654BD#32, 0xBFBEDD99#32, 0xBEFAA5CF#32],
    ![0x40126A27#32, 0xBF455F30#32, 0xBF1155DA#32],
    ![0x3FE28350#32, 0x3EF3DB42#32, 0x3E85ECDF#32],
    ![0xBF8CD258#32, 0xBEB94B1F#32, 0x3F4344FC#32],
    ![0x3D255414#32, 0xBE367984#32, 0xBE8B3F89#32],
    ![0xBF11C894#32, 0x3F724D49#32, 0xBEF6C43D#32],
    ![0xBFC9B503#32, 0xBE1864B3#32, 0xBF2A2965#32],
    ![0xBF835FEF#32, 0x3F84DCD8#32, 0x3E62C249#32],
    ![0x3EB2F326#32, 0x3F936953#32, 0x3D7BB1AF#32],
    ![0x3EA3E715#32, 0xBEE97B8E#32, 0xBF0C1BD7#32],
    ![0xBF978AC5#32, 0xBFA492D1#32, 0xBDC7B4BE#32],
    ![0xBE150D6B#32, 0x3FA84CEE#32, 0xBEF52BC1#32],
    ![0xBF1C914A#32, 0xBF19598F#32, 0xBFA6C7ED#32],
    ![0xBE107563#32, 0x3F054159#32, 0x3E346073#32],
    ![0xBE267B0A#32, 0x3F931950#32, 0xBEC87C69#32],
    ![0xBF7DFE36#32, 0x3DC24AB0#32, 0xBEB22F2C#32],
    ![0xBDA91E3F#32, 0x3F2762C6#32, 0xBFB0DF87#32],
    ![0x3F129EE7#32, 0xBF86B448#32, 0xBF5F97D8#32],
    ![0xBFB02D5E#32, 0x3F98483E#32, 0xBF632C40#32],
    ![0xBBF0E3FE#32, 0xBF62E88D#32, 0xBCF66BA3#32],
    ![0xBFD431C0#32, 0xBDEC3864#32, 0xBE8685E0#32],
    ![0x3DCAFFAB#32, 0x3EE902A7#32, 0x3F02AB4D#32],
    ![0xBF4C6A8C#32, 0x3C7A8E69#32, 0xBFA00C6A#32],
    ![0xBE99EB63#32, 0xBF431B4E#32, 0x3F24B2A1#32],
    ![0x3F4939CB#32, 0xBFB795B1#32, 0xBEDCB19E#32],
    ![0x3EF0324B#32, 0x3FCB625D#32, 0xBF4BC644#32],
    ![0xBEC84499#32, 0x3F8414DD#32, 0xBF66C8D9#32],
    ![0xBF320A89#32, 0xBF436F14#32, 0x3F782FDC#32],
    ![0x3E3032B7#32, 0xBEC9C3EB#32, 0xBEFAA4B5#32],
    ![0xBF7BF2CD#32, 0x3E58462F#32, 0x3F2249CF#32],
    ![0xBFBB6695#32, 0xBF57CE35#32, 0xBEE3E030#32],
    ![0x3DE1BEC4#32, 0xBE0D72B8#32, 0x3C78C8A9#32],
    ![0x3EB2AD0C#32, 0xBD7FBB9E#32, 0x3E7E5A6D#32],
    ![0xBE60CD1A#32, 0xBF0E0C65#32, 0x3F893003#32],
    ![0xBF756EAF#32, 0xBFA36DA3#32, 0xBE86E602#32],
    ![0xBFD4FAE2#32, 0xBF9E5849#32, 0xBEF108EF#32],
    ![0x3F75D156#32, 0x4010954D#32, 0x3F7848D5#32],
    ![0x3E980BD6#32, 0xBF904C02#32, 0x3F374A2F#32],
    ![0xBE92636C#32, 0xBEE7DA39#32, 0x3ED43666#32],
    ![0x3FAC0BCD#32, 0xBF7243E5#32, 0xBF451E65#32],
    ![0xBF00072D#32, 0x3EC1C174#32, 0xBF1C351C#32],
    ![0xBF7A03D3#32, 0xBECC1EED#32, 0xBF1FF5A1#32],
    ![0x3E677F52#32, 0xBFB480AA#32, 0x3C6BC13A#32],
    ![0x3EE8D15B#32, 0x3E49CEC4#32, 0x3FA7AD42#32],
    ![0xC0062016#32, 0xBE9F2D7A#32, 0xBF07E1EA#32],
    ![0x3F8A80BD#32, 0x3F0C2050#32, 0x3F91E0C9#32],
    ![0xBFAF0F5E#32, 0xBFAF5D3A#32, 0x3FACF3CF#32],
    ![0xBE36C6CC#32, 0x3E0E1650#32, 0xBE9BFEBA#32],
    ![0x3F946728#32, 0x3F9C3CDE#32, 0xC0057948#32],
    ![0xBF997519#32, 0x3E83F073#32, 0x4005ADB1#32],
    ![0xBF97ECD8#32, 0x3FA601EF#32, 0x3FA5B3D1#32],
    ![0x3F88DA17#32, 0xBF98DFC2#32, 0xBE9D6346#32],
    ![0xBFCD541C#32, 0xBFA822DD#32, 0xBF2D8FF9#32],
    ![0x3F6292E0#32, 0xBD9764FF#32, 0xBFB09D39#32],
    ![0x3E9E1051#32, 0x3F889DDB#32, 0x3ED7FC8E#32],
    ![0x3F61B36F#32, 0x3F1FAABA#32, 0x3E0D0907#32],
    ![0xBF1F8CC5#32, 0xBFE1EC10#32, 0x3FC43E45#32],
    ![0xBEC1BCE3#32, 0x3EC927A7#32, 0x3F177513#32],
    ![0xBF81F1E4#32, 0x3CF885DE#32, 0xBEAB97EB#32],
    ![0xBE2C4108#32, 0xBE1346BE#32, 0x3E7862F7#32],
    ![0xBFD99685#32, 0xBF91193A#32, 0xBFCF64A2#32],
    ![0x3F9051E5#32, 0x3EEC41BA#32, 0x3F2BDEA4#32],
    ![0xBFBADB26#32, 0x3EA70BC5#32, 0xBFA521E6#32],
    ![0x3F22C0E3#32, 0xBE7E4B99#32, 0xBE7EC8E6#32],
    ![0xBEB00D95#32, 0x3FB6359A#32, 0xBF702E03#32],
    ![0xBF025005#32, 0xBFD0B266#32, 0x3F41A2BF#32],
    ![0xBF03362A#32, 0x40310878#32, 0xBF6BAD1F#32],
    ![0xBF2E89C7#32, 0xBF515E80#32, 0xBFBBF84A#32],
    ![0xBF3D272A#32, 0xBEDC22F5#32, 0x3E1291DD#32],
    ![0xBFA202C8#32, 0x3FDE8498#32, 0xBD4D667E#32],
    ![0x3F6AD5F8#32, 0x3F00CBD2#32, 0x4018E90A#32],
    ![0xBFC44C60#32, 0xBE8698F8#32, 0xBDBAD422#32],
    ![0xBF70BEE2#32, 0x3BC8681B#32, 0xBEF81AC8#32],
    ![0x3FA81ADE#32, 0xBF423F50#32, 0xBDCF9476#32],
    ![0x3EDC7004#32, 0xBFD309E4#32, 0x3FF9F955#32],
    ![0x3F913C6D#32, 0x3F231B38#32, 0x3F6CD847#32],
    ![0xBF368A70#32, 0x3F848E52#32, 0xC049437A#32],
    ![0xBFCBAF07#32, 0x3ED2035E#32, 0xC001B036#32],
    ![0xBE817D1F#32, 0x4006B91E#32, 0xBF6D5E4B#32],
    ![0xBCFD775F#32, 0x3FC36AAA#32, 0x3EF39D03#32],
    ![0x3E9CF1B2#32, 0x3FDCDFB6#32, 0x3F0029DB#32],
    ![0x3F932DA8#32, 0x3FD6A74A#32, 0x3CE19443#32],
    ![0xBF3C701C#32, 0xBF610B37#32, 0xBFAFBF44#32],
    ![0x3E3B9109#32, 0x3F356B36#32, 0x4025E49F#32],
    ![0xBE83921A#32, 0x3FF5A494#32, 0xBFBE1B56#32],
    ![0xBFB375F3#32, 0x3F5BF2B2#32, 0xBF2475C0#32],
    ![0xBF602114#32, 0x3F712797#32, 0xBE1FA0EF#32],
    ![0xBF7C2235#32, 0x3FD919BC#32, 0x3EBF556D#32],
    ![0xBFE14C69#32, 0x3DBBB96E#32, 0x3D7B3924#32],
    ![0x4005AFDC#32, 0x3ECB4133#32, 0x3EB47BDF#32],
    ![0xBF8AF0C0#32, 0xBF55EF3B#32, 0x3EB4BEF9#32],
    ![0x3F0A7143#32, 0xBF660A07#32, 0x3E3E18B8#32],
    ![0x3FF90A3B#32, 0xBD582D3E#32, 0x3F06B8B4#32],
    ![0xBF59FDC7#32, 0xBF52E5F2#32, 0x3F873013#32],
    ![0xBECB954E#32, 0x3F1A1D2A#32, 0x3EEBF95E#32],
    ![0x3FFB6EA0#32, 0x3F6CE676#32, 0x3E190690#32],
    ![0xBF0FAA3F#32, 0xBF820B93#32, 0x3FB65BFC#32],
    ![0xBF3939B5#32, 0xBF8E0F13#32, 0xBFDB19F1#32],
    ![0x3DAEB89E#32, 0x3F7EF93A#32, 0x3F7ED1AD#32],
    ![0xBEF7D53E#32, 0x3F98269A#32, 0x3FE1B60E#32],
    ![0x3FE07B21#32, 0xBF32342B#32, 0xBD33FA59#32],
    ![0xBFEDF0F0#32, 0xBF0D4B8F#32, 0xBF83BABD#32],
    ![0x3FF82E83#32, 0x3F25935C#32, 0xBF206496#32],
    ![0x3E480C27#32, 0xBE90D492#32, 0x3FBE8D59#32],
    ![0x3E3393C4#32, 0x3EC7D19A#32, 0x3EF82AAA#32],
    ![0x3EC50CCB#32, 0xBFB85D24#32, 0xBEBBAF0A#32],
    ![0xBF069F36#32, 0x3F137372#32, 0x3E439526#32],
    ![0xBF363ED8#32, 0x3F8AFAFE#32, 0x3F947B43#32],
    ![0xBFA212B6#32, 0x3F386CE9#32, 0xBE71E45B#32],
    ![0x3FB75824#32, 0x3EDC0B2E#32, 0x3F844174#32],
    ![0x3F770B52#32, 0x3FE9C795#32, 0x3FDF2AC8#32],
    ![0xBF4F5CDC#32, 0x3F60D2AC#32, 0xBE6E5E93#32],
    ![0x3F98B562#32, 0xBE387BBA#32, 0x3D7E6A4A#32],
    ![0xBDDD9CDC#32, 0x3F3E7C64#32, 0x3F9390C0#32],
    ![0x3F0C2C3C#32, 0xBE89FC6B#32, 0xBEA0303A#32],
    ![0x3FCDBE14#32, 0x3F111BD4#32, 0xBF5B0285#32],
    ![0xBFA2B651#32, 0x3FE3F31C#32, 0xBEBBC1B9#32],
    ![0xBFEE5669#32, 0xC0497E42#32, 0x3E86707D#32],
    ![0x3E9354CC#32, 0xBFC75403#32, 0x3F1D12D0#32],
    ![0x3F221C23#32, 0xBEB69267#32, 0xBF2758BF#32],
    ![0xC01B70C8#32, 0xBFD9A292#32, 0xBFD5C348#32],
    ![0x3FB782A6#32, 0xBD7EDCB8#32, 0x3EA3FB53#32],
    ![0x3F8812B7#32, 0xBF681AB8#32, 0x3FACDBE9#32],
    ![0x3FE8BAFA#32, 0x3EC6FA89#32, 0xBFAE1E3E#32],
    ![0xBF79047A#32, 0x3FEB6F6D#32, 0xBFB0C411#32],
    ![0xBF984724#32, 0x3FACEDDB#32, 0xBF00B790#32],
    ![0xBF11B4E9#32, 0xBBBCDDFD#32, 0x3E3998BC#32],
    ![0x3E27BC55#32, 0x3FB5FB73#32, 0x3EB3F792#32],
    ![0x3EF49128#32, 0x3F4CC22E#32, 0xBEFA17AC#32],
    ![0x3EA443C4#32, 0x3F138B71#32, 0xBFB31A31#32],
    ![0xBF047C73#32, 0x3F62E67B#32, 0x3DF71E6F#32],
    ![0x3E9F65BB#32, 0x3F6A7660#32, 0xBF87CD67#32],
    ![0x3E167E18#32, 0x3E448588#32, 0xBE3D33FB#32],
    ![0xBF3DE62D#32, 0xBE6C6BB0#32, 0xBE7BD541#32],
    ![0xC0151D85#32, 0x3F1E96D8#32, 0xBF433D88#32],
    ![0xBDC125E8#32, 0x3FB04127#32, 0x402E66A9#32],
    ![0x3FA72CF0#32, 0x3EE9777D#32, 0xBF84CA33#32],
    ![0x4007E543#32, 0x3F45207D#32, 0xBE8A5B78#32],
    ![0xBFAD9945#32, 0xBDF1328D#32, 0xBDDA6C54#32],
    ![0xBFA441BD#32, 0x3E53991D#32, 0xBF9C2EF6#32],
    ![0x3F85B619#32, 0xBFDA59BB#32, 0xBF619460#32],
    ![0x3F528476#32, 0xBFBB314E#32, 0xBF7E1C14#32],
    ![0xBF015218#32, 0x3E42637D#32, 0xBEECF7B2#32],
    ![0xC02A9DB4#32, 0xBEEFEE11#32, 0x3F455BC0#32],
    ![0x3FCC58E1#32, 0x3E2126BA#32, 0x3F73054C#32],
    ![0x3F3E7047#32, 0x3E57B574#32, 0x3FAE5EB5#32],
    ![0x3F1ABFF5#32, 0x3ED93DA2#32, 0xBD88E3F2#32],
    ![0x3F2E486A#32, 0x3F26454B#32, 0xC026CB3B#32],
    ![0x3F84350C#32, 0x3F970B6E#32, 0xBF93E90C#32],
    ![0x3E88F017#32, 0xBF09E3CE#32, 0x3F463A04#32],
    ![0xBFA312FB#32, 0x3F9F9343#32, 0x3F75D2F5#32],
    ![0xC01F1905#32, 0xBF8152BC#32, 0xBF41B1F6#32],
    ![0x3F92689D#32, 0xBF413D99#32, 0x3DB78E17#32],
    ![0x3F1C4145#32, 0xBF2B79CD#32, 0xBFAC3E70#32],
    ![0xBF099F8B#32, 0x3DB7F180#32, 0xBEEB7547#32],
    ![0xBF1DECB7#32, 0x3F841966#32, 0x3E004860#32],
    ![0x3ECAB2E3#32, 0xBED5D22A#32, 0xBF0354DA#32],
    ![0xBEF22B30#32, 0x3FAEE608#32, 0xBF8DB418#32],
    ![0xBF75FA7D#32, 0x40442311#32, 0xBFB02399#32],
    ![0x3F06F9CA#32, 0x3DF4BCDD#32, 0x3F4FE211#32],
    ![0xBEDCDCE4#32, 0xBFD33E91#32, 0x3FDADF53#32],
    ![0xBE8D3977#32, 0xBEB9309A#32, 0xBFD9B07D#32],
    ![0xBF9E3D0B#32, 0x3FE01376#32, 0x3E4E3F4E#32],
    ![0x3F2B11EE#32, 0xBF819107#32, 0xBDFF0643#32],
    ![0x40044193#32, 0x3F4606BA#32, 0x3F59E446#32],
    ![0x3F0F710F#32, 0xBF22F00F#32, 0xBF45F399#32],
    ![0x3ED61589#32, 0xBE94740C#32, 0x3E1E502F#32],
    ![0xBDDF9551#32, 0xBF83C7F6#32, 0x3FCBE94C#32],
    ![0x3F146BB5#32, 0xBF8A598B#32, 0x3E238C0C#32],
    ![0x3F00844C#32, 0x3F7E6719#32, 0x3DD6FEBC#32],
    ![0xBFF9819E#32, 0xBFE60563#32, 0xBE9F2A25#32],
    ![0x3F9D274C#32, 0x3F6EF46A#32, 0xBE85FEA6#32],
    ![0x3F3093A9#32, 0x3F0B2ED7#32, 0xBF704E96#32],
    ![0x3EB387EF#32, 0xBF583CFA#32, 0xBF78100B#32],
    ![0x3F4EB471#32, 0xBEFF2A8C#32, 0x3F4E23E9#32],
    ![0xBE58A310#32, 0x3F58CDF0#32, 0x3E99D922#32],
    ![0x3ED4F6DB#32, 0x3EAA8650#32, 0x3ECEF062#32],
    ![0xBF57748C#32, 0xBF04A857#32, 0x3EEB992E#32],
    ![0x3FA055EC#32, 0x3E8157FB#32, 0x3EBFE73A#32],
    ![0x3F35C069#32, 0x3E03E19A#32, 0xBF0A8C97#32],
    ![0x3F0ED49B#32, 0xBF94AEFE#32, 0xBEBF3898#32],
    ![0x3F916AB4#32, 0x3FD0941B#32, 0x3F8BBEB1#32],
    ![0x3D940819#32, 0xC0295ADF#32, 0x3E997B1B#32],
    ![0xBE69BE50#32, 0xBFB88698#32, 0x3F29C532#32],
    ![0x3F2F4CA1#32, 0xBF7BEF0B#32, 0xBE34B036#32],
    ![0x3F38438A#32, 0x402A4A3A#32, 0xBEF300AC#32],
    ![0x3FAF6D5D#32, 0xBAFD9734#32, 0xBF89BF95#32],
    ![0x3F8E35CE#32, 0x400DCCB4#32, 0x3FC93DCE#32],
    ![0x3E6C5775#32, 0x400C9AB1#32, 0xBF88AFEC#32],
    ![0xBF56701A#32, 0x3F2A766C#32, 0xBDC997B4#32],
    ![0x3F5EF295#32, 0xBEA7FC06#32, 0xBF1EAEBA#32],
    ![0x3F973736#32, 0xBF74892E#32, 0xBFA9A4C5#32],
    ![0xBFBC60F5#32, 0x3F676B13#32, 0x3F7E9550#32],
    ![0x3D59FAF6#32, 0x3F03E5D9#32, 0x3ED1992C#32],
    ![0xC04A8572#32, 0xBF84975B#32, 0x3C19C3BA#32],
    ![0x3F85A900#32, 0x3F30C3AA#32, 0x3FA0BD50#32],
    ![0xBF6B47A7#32, 0x3FE3CC5F#32, 0x3F15DBF2#32],
    ![0x3E1B5674#32, 0xBFB7FB00#32, 0x3F3EED63#32],
    ![0x3F536E81#32, 0xBFCC8D11#32, 0x3ECC9484#32],
    ![0xBFC46175#32, 0x3E9A08E9#32, 0xBFC99958#32],
    ![0x3DD7F247#32, 0x3EB72EE4#32, 0x3F75291E#32],
    ![0x401871D0#32, 0x3FFD9D14#32, 0x3F946ABE#32],
    ![0xBF04CAA2#32, 0xBF8A32BE#32, 0x3F0EEF84#32],
    ![0x3FC865E9#32, 0x4001806B#32, 0xBF1E79A0#32],
    ![0xBF3038B1#32, 0x3FB0A59C#32, 0x3F03A7E5#32],
    ![0x3FCF5F32#32, 0x3FAF5335#32, 0xBF3CAFCE#32],
    ![0xBE209F13#32, 0xBFD479E2#32, 0xBEB9F631#32],
    ![0xC008782E#32, 0xBEEDB1F2#32, 0xBED0FE96#32],
    ![0x3DA66CE3#32, 0xBE975537#32, 0xBEDB34AB#32],
    ![0xBFAC1A3E#32, 0xBEF6A6FD#32, 0xBF48E5C2#32],
    ![0xBF86E90E#32, 0xBF9082D5#32, 0xBF456A2E#32],
    ![0xBF612E62#32, 0xBE332C66#32, 0xBF7F00AA#32],
    ![0xC01808A9#32, 0x3EF9F47D#32, 0x3DBA32CF#32],
    ![0x3F9C63BC#32, 0x3F0DC20E#32, 0xBF03560F#32],
    ![0xBEA2D556#32, 0x3F1101B0#32, 0xBF8803E4#32],
    ![0xBE67672C#32, 0xBFAFCE7A#32, 0x3F4D916C#32],
    ![0xBEF9F6B7#32, 0xBEB4E083#32, 0xBF0D3CF2#32],
    ![0xBFF2CC7F#32, 0xBEC891FC#32, 0x3F771D13#32],
    ![0xBF2CA005#32, 0xBF479D8D#32, 0xBFC92ADB#32],
    ![0xC00E813E#32, 0x3E9FCFC4#32, 0x3F623873#32],
    ![0xBEDA94FD#32, 0x3EE37FDF#32, 0x3F847582#32],
    ![0x3FB23E23#32, 0xBF410546#32, 0x3E289CA1#32],
    ![0x3FF2C9AF#32, 0xBFC785D9#32, 0x3D5A3AF7#32],
    ![0xBECAC2AA#32, 0x40073110#32, 0x3F371145#32],
    ![0xBF5C9B6E#32, 0xBE9CE5C5#32, 0xBF86354B#32],
    ![0x3F90ACE4#32, 0x3EC5000E#32, 0xBF9CA1D7#32],
    ![0x3F1A33FC#32, 0xBED13E69#32, 0xBF7DDED2#32],
    ![0xBF31EF9A#32, 0xBFC0C1BD#32, 0xBFA7B07C#32],
    ![0x3C8E2392#32, 0xBD2A56D3#32, 0xBF10D5DD#32],
    ![0x3EEF2490#32, 0x3F0D5096#32, 0xBF196151#32],
    ![0x3DD3D8B8#32, 0x3F6D5029#32, 0xBF3EB240#32],
    ![0x3F735E6A#32, 0xBED7DF2C#32, 0xBF884DBC#32],
    ![0x3F99B93C#32, 0x3F62BFBD#32, 0x3FC41161#32],
    ![0xBF2DFA37#32, 0xBFE34EB0#32, 0xBF091F2D#32],
    ![0x3F1BE857#32, 0x401342C5#32, 0xBF546A44#32],
    ![0xBEC6289D#32, 0x3E9E5D24#32, 0xBFB14B93#32],
    ![0xBE6C2B41#32, 0x3F8B1B3F#32, 0xBF29F8CF#32],
    ![0xBD2875C5#32, 0x3ED599D2#32, 0xBEE0DCC6#32],
    ![0x3CF8581A#32, 0x4041C743#32, 0x3F161F88#32],
    ![0xBE831354#32, 0x3FAAF3C3#32, 0xBFE9FA30#32],
    ![0xBEBAD27B#32, 0xBF8991C9#32, 0x3F91CDD6#32],
    ![0x3EF4C9AA#32, 0xBF5AB63C#32, 0x3FA92BC9#32],
    ![0x3E1FEE84#32, 0x3F2D408A#32, 0xBEF78827#32],
    ![0xBF93F3AE#32, 0x3F34AE0E#32, 0xBF83BD15#32],
    ![0xBFD4849A#32, 0x3F636C6D#32, 0x3F417747#32],
    ![0x3F115367#32, 0xBDEAFD24#32, 0x3F51080A#32],
    ![0xBF39900C#32, 0x3F86F7D7#32, 0xBF792973#32],
    ![0xBF4DF061#32, 0x3F7AC269#32, 0x3E3B19CD#32],
    ![0xBF1BFB67#32, 0x3DAD3717#32, 0xBF32C487#32],
    ![0xBF5637EE#32, 0xBF17C171#32, 0xBF9D8D3C#32],
    ![0xC031C11A#32, 0x3D993A53#32, 0x3D4DD423#32],
    ![0xBF0A8E2E#32, 0x3F62A37A#32, 0x3E7BADFC#32],
    ![0xBF80774C#32, 0x3EE937A7#32, 0xC00C31EA#32],
    ![0xBFE0E728#32, 0xBF152BF0#32, 0xBFCD0D66#32],
    ![0xBE2B837B#32, 0xBF2B4C21#32, 0xBDE6B594#32],
    ![0xBE8588F5#32, 0x3F8B06FC#32, 0x3F8747C1#32],
    ![0x3F4FB21F#32, 0x3F5058CB#32, 0xBF878397#32],
    ![0xBE5D8D5B#32, 0xBEF94779#32, 0x3F616730#32],
    ![0xBF36E7CA#32, 0xBEB191FF#32, 0x3E8BCFF0#32],
    ![0x3F168EC1#32, 0xBFD54EE6#32, 0xBF0DF852#32],
    ![0xBEA1FAE2#32, 0xBE9ECF45#32, 0xBF832C53#32],
    ![0xBEC34DB2#32, 0x3F048B32#32, 0xBF0A7516#32],
    ![0xBF627134#32, 0x3F552383#32, 0xC0024F79#32],
    ![0xBF4FF320#32, 0x3E488C4E#32, 0xBF2DE42F#32],
    ![0xBD93FC66#32, 0x3F05C04F#32, 0xBF890290#32],
    ![0xBF3CB346#32, 0xBF4386D3#32, 0x3F42ED03#32],
    ![0x3FDEC0CD#32, 0xBEB6051C#32, 0xBFC0E0EB#32],
    ![0x3D8E1C7D#32, 0x3E87C4A7#32, 0x3FA6650D#32],
    ![0xBE85F587#32, 0x3E097D1B#32, 0x3E8E49AB#32],
    ![0x3F0A45A9#32, 0x3F8BC5DB#32, 0xBFB9BD6F#32],
    ![0xBD39C21B#32, 0xBDDB909C#32, 0xBF0E3078#32],
    ![0x3F291B5B#32, 0x3F31210B#32, 0x3F705D8C#32],
    ![0x3FAF06A5#32, 0x3F1695BE#32, 0x3FD26BE4#32],
    ![0x3F858BEE#32, 0x3E89AC27#32, 0x3F5D2769#32],
    ![0x3DA8D1C5#32, 0xBF7AE652#32, 0xBF82A865#32],
    ![0xBE53A21E#32, 0xBECE4E2E#32, 0x400C498B#32],
    ![0x3F148910#32, 0x3E2B21F9#32, 0x3F2B999B#32],
    ![0xBE73409E#32, 0x3F70EC13#32, 0x3FFF0B22#32],
    ![0x403036E2#32, 0x4016A2E3#32, 0x3F32EB7B#32],
    ![0x3FAE8FAB#32, 0xBF481A8B#32, 0x3FD74676#32],
    ![0xBED9160E#32, 0x3EDE99B5#32, 0xBF346D00#32],
    ![0xBFA135BD#32, 0xBFA9196B#32, 0x3F56BCB1#32],
    ![0x3E274DFC#32, 0xBEFB8E54#32, 0xBFA8FBBF#32],
    ![0xBF675760#32, 0xBF8C4BDF#32, 0xBE35AA4A#32],
    ![0x3F0C52E4#32, 0xBE7F9E24#32, 0x3FC2078E#32],
    ![0x3DA46C56#32, 0xBF8997FF#32, 0x3E5FEA8E#32],
    ![0xBF0BC5C7#32, 0xBF07EF4F#32, 0x3F9A5D42#32],
    ![0x3F8E1010#32, 0x3FBFDA73#32, 0xBD927483#32],
    ![0x3E3F4C36#32, 0xBF4A4687#32, 0xBE2EDB6E#32],
    ![0x3F6A555A#32, 0xBFDF1F40#32, 0xBFEAEEAB#32],
    ![0xBF8F0090#32, 0xBFCF8421#32, 0xBD1ACE5F#32],
    ![0xBF6C190D#32, 0x3E8376E0#32, 0xBFDB6C74#32],
    ![0xBE5B8989#32, 0xBD35B8A6#32, 0x3F028A84#32],
    ![0x3FB65757#32, 0x3EBBEE1A#32, 0xBFA0D55B#32],
    ![0x3F1C6010#32, 0xC01810FA#32, 0xBE1C90B3#32],
    ![0x3F2AA798#32, 0x3F87D40C#32, 0x3FACB5C0#32],
    ![0x3F5E65A4#32, 0x3F638DD2#32, 0xBED9C64F#32],
    ![0xBFE865DD#32, 0x3F3FF40C#32, 0xBF5F4839#32],
    ![0x3F5E1EE0#32, 0xBD1A53C5#32, 0x3FA96778#32],
    ![0xBE4409A9#32, 0x3FB06096#32, 0xBFB186A7#32],
    ![0xBE12219C#32, 0xC00778E1#32, 0xBE7479F0#32],
    ![0xBF63238B#32, 0xBFF16E94#32, 0x3E7F48EE#32],
    ![0xBFA60B59#32, 0xBC136D3E#32, 0x3DE579DF#32],
    ![0xBEF234F5#32, 0xBEB81EFE#32, 0xBF1F2B88#32],
    ![0xBF8716EB#32, 0xBF91DC25#32, 0x3FAA71E0#32],
    ![0x3D649042#32, 0xBFEA8901#32, 0x3FA1EFD2#32],
    ![0x3F5416BF#32, 0x3E21EA12#32, 0x3F623EF7#32],
    ![0xBF903D4C#32, 0x3ED56FDD#32, 0x3DE2B756#32],
    ![0xBF45EAA6#32, 0x3DAAE894#32, 0xBF48E695#32],
    ![0x3F5CC1B1#32, 0x3F817B2D#32, 0xBFC84AD5#32],
    ![0x3EC7C54C#32, 0xBD831FD5#32, 0x3FAD4074#32],
    ![0xBDFDB1B8#32, 0xBFEEC319#32, 0xBE086677#32],
    ![0xBFC5D27F#32, 0x3F8CBD25#32, 0x3F4FD1F2#32],
    ![0x3F38743A#32, 0x3F7964ED#32, 0x3F1EB1F7#32],
    ![0x3F02FF3A#32, 0x3EECA0B7#32, 0xBFBB0926#32],
    ![0xBEFE3BF2#32, 0x3F0AA72D#32, 0xBE4184DE#32],
    ![0xC043D510#32, 0x3F39CC02#32, 0xBE6D1277#32],
    ![0xBED92181#32, 0x3DCA80C7#32, 0xBECDD2A3#32],
    ![0xBE8F613A#32, 0x3E91DC2B#32, 0xBF4021E8#32],
    ![0x3EC6DCD8#32, 0x3EAFD4FA#32, 0x3F35B234#32],
    ![0xBF9A37DA#32, 0xBF387EED#32, 0x3F885610#32],
    ![0xBF516606#32, 0x3F8C3E11#32, 0x3E022C64#32],
    ![0xBF9428C3#32, 0xBF689031#32, 0x3F7575B3#32],
    ![0xBE274F4C#32, 0xBF3B4553#32, 0xBF6ABE6D#32],
    ![0xBE628A0C#32, 0x3F8B05FA#32, 0x3F34E4D5#32],
    ![0xBF0EF72C#32, 0xBFE4C8FC#32, 0xBFC0EA85#32],
    ![0xBE29EF59#32, 0xBFB4E85F#32, 0x3D2D2895#32],
    ![0xBE0685F0#32, 0x3F8F42B3#32, 0xBEF5A5EF#32],
    ![0xBEE643FD#32, 0xBEF9262F#32, 0x3F547F73#32],
    ![0x3DC202EB#32, 0x3DCF84CA#32, 0xBF87B2EC#32],
    ![0x3F2392E0#32, 0x400F7288#32, 0x3F1ACEF5#32],
    ![0x3FA92659#32, 0xBFFAB44F#32, 0xBFFC14F9#32],
    ![0xBEB84263#32, 0xBF14DE44#32, 0xBF0403DA#32],
    ![0x3DDE5F40#32, 0x3F9B506C#32, 0xBF6A027F#32],
    ![0xBFADDAD0#32, 0x3ECCCD26#32, 0x3FC09294#32],
    ![0xBED96AFF#32, 0xBF59BBD8#32, 0xBF3EB816#32],
    ![0xBF51BA04#32, 0x400AE034#32, 0xBF3452F8#32],
    ![0x3EE29F99#32, 0xBF88B30A#32, 0x3F9CE80A#32],
    ![0x3F034A63#32, 0x3AF31D1A#32, 0x3EF875E8#32],
    ![0xBD79B3BC#32, 0xBEC1249D#32, 0xBDE82635#32],
    ![0x3E4B0A0C#32, 0xBEDD4840#32, 0x3E969212#32],
    ![0x3F592B79#32, 0x3EF08AAA#32, 0xBF0E7076#32],
    ![0x3F33E5FF#32, 0xC0432B04#32, 0xBD024FAE#32],
    ![0xBF3181F6#32, 0x3E10F491#32, 0xBF1659F5#32],
    ![0x4011A24F#32, 0x3EFB212D#32, 0x3F917970#32],
    ![0x3EC9A6FD#32, 0x3E0B8207#32, 0x3EF8B012#32],
    ![0xBF209BAD#32, 0x3F3F1663#32, 0x3ECB7E19#32],
    ![0x3F969F62#32, 0x3F053BE0#32, 0x3F81DB0E#32],
    ![0xBEDB4925#32, 0x3E3DEB74#32, 0xBF457E32#32],
    ![0x3F3BAA66#32, 0x3FB2571D#32, 0xBF9640BB#32],
    ![0x3E92533E#32, 0xBCB5D5DF#32, 0x3F7092C9#32],
    ![0xBEEBF36D#32, 0xBBC56CD2#32, 0xBE69DDC2#32],
    ![0x3F37C76D#32, 0x3F818930#32, 0xBF2618F8#32],
    ![0x3D69564C#32, 0xBEEC2358#32, 0x3E05E741#32],
    ![0xBF7C8470#32, 0x3FA9C485#32, 0xBD19D2E7#32],
    ![0xBFE4BD2F#32, 0xBF75EDF0#32, 0x3E96159A#32],
    ![0x3E4D0359#32, 0xBF2F1177#32, 0x3E94EC2D#32],
    ![0xBFFC7296#32, 0x3FFE6D2A#32, 0x3FCC99C3#32],
    ![0x3C8A67C7#32, 0xBF7AD88C#32, 0xBEB38E53#32],
    ![0xBE3487DF#32, 0xBF919261#32, 0x3E50822D#32],
    ![0x3F4CD4C2#32, 0x3D3F0F28#32, 0xBFF17515#32],
    ![0x3FD1F335#32, 0xBEDD0298#32, 0x3ED2CC0D#32],
    ![0xBF5EBB9F#32, 0xBFF8B42D#32, 0x3EDFFBF2#32],
    ![0x3F146DCA#32, 0x3FD09595#32, 0x3F5A68F7#32],
    ![0x3EFE9298#32, 0x3EFB04B1#32, 0x3F88E31C#32],
    ![0xBF279D46#32, 0x40083068#32, 0xBE88892E#32],
    ![0xBF32C334#32, 0x3F0E9FC9#32, 0x3DA4DCB6#32],
    ![0xBE98B4FA#32, 0x3EE9EA69#32, 0x3FA73B54#32],
    ![0xBA330C34#32, 0x3FB314DC#32, 0xBE85F798#32],
    ![0xBEC418DD#32, 0x3F2DDC35#32, 0x3ED21C20#32],
    ![0x3EF8FCB8#32, 0x3DF42D70#32, 0xC0112C98#32],
    ![0xBFD05692#32, 0xBF33FE81#32, 0xBE824E46#32],
    ![0x3D99188D#32, 0x3ECDC8A3#32, 0xBCCC5491#32],
    ![0x3E88D31C#32, 0xBEA86D35#32, 0xBED440E1#32],
    ![0xBF7D0240#32, 0xBFAE1EFC#32, 0xBE2FFAF2#32],
    ![0xBFE772B5#32, 0x3F056C91#32, 0x3FBEC8C4#32],
    ![0xBFCA61D4#32, 0x3EE5A8DE#32, 0xBFB7C139#32],
    ![0x3FFAEE5E#32, 0xBF015463#32, 0xBF4F0403#32],
    ![0xBDE6D6D9#32, 0x3F5E7C5B#32, 0xC035580A#32],
    ![0xBEE9951C#32, 0x3F33B5D5#32, 0x3F555F1A#32],
    ![0xBE7442E3#32, 0x3F20CB86#32, 0xBCD1C4D2#32],
    ![0x3E31FB5A#32, 0x3FB90496#32, 0xBE460809#32],
    ![0x3E3B6987#32, 0x3DF8DC6D#32, 0xBF970B33#32],
    ![0x3F6B0283#32, 0xBF9030FB#32, 0xBF37C99D#32],
    ![0xBF8862E8#32, 0x3FA814D7#32, 0xBEDB70DC#32],
    ![0x3F83C176#32, 0xBE76D81B#32, 0x3F9C0A98#32],
    ![0x3F5A85DB#32, 0x3D4830BF#32, 0xBFDD3A8E#32],
    ![0xBF4C49B0#32, 0xBE90C100#32, 0xBFDFE283#32],
    ![0x3F364C75#32, 0x3D1E86CE#32, 0xBE9A265B#32],
    ![0x3F21A5D7#32, 0x3D3539C9#32, 0xBF11959A#32],
    ![0xBC30244A#32, 0xBF50624E#32, 0xBF62F7C8#32],
    ![0x3F94E392#32, 0x401AD35F#32, 0x3DEDDF50#32],
    ![0xBEE50E0D#32, 0x400EFC97#32, 0x3F0DD9C1#32],
    ![0x3FA3515F#32, 0x3E8BA2EF#32, 0x3E955FF1#32],
    ![0x3F2DDEEC#32, 0xBE7E6DEE#32, 0x3FB06222#32],
    ![0x3C505606#32, 0x3F9C3A30#32, 0x3EB3A72C#32],
    ![0xBF605E9C#32, 0x3DB977C4#32, 0xBF32EA25#32],
    ![0xBE7F3DD2#32, 0xBF925406#32, 0xBE81E367#32],
    ![0x40073048#32, 0xBF1997CA#32, 0xBF950325#32],
    ![0x3EE30C8F#32, 0x3F86E16A#32, 0x3F3F1FA7#32],
    ![0xBFA2E8E4#32, 0x3FE4E2E8#32, 0x3E2FECAD#32],
    ![0xC02E913C#32, 0x3F9D34A2#32, 0x3FAB3542#32],
    ![0xBFBEEC6E#32, 0x3ED53924#32, 0xBE21FB54#32],
    ![0xBEA14E6E#32, 0xBFB00C37#32, 0xBFC5A2CE#32],
    ![0xBE25E0E6#32, 0xBF629AF9#32, 0xBF4986B5#32],
    ![0xBE10CD34#32, 0x3F3CB142#32, 0xBF647F57#32],
    ![0xBF0BE96C#32, 0xBF07F48F#32, 0xBEF40689#32],
    ![0xBE858E30#32, 0x3FFA78DA#32, 0xBF636FD0#32],
    ![0x400F1A49#32, 0x3FBF4C60#32, 0x3D20E3AD#32],
    ![0x3CEC3B4D#32, 0xBFC94D42#32, 0xBFB4EFC3#32],
    ![0xBF462C4F#32, 0xBF969E6B#32, 0xBBE56CA7#32],
    ![0xBF203ED9#32, 0x3F62301F#32, 0x3F669976#32],
    ![0x3FAE5BEF#32, 0x3FA098D3#32, 0xBF57E0F5#32],
    ![0xBF0F84C6#32, 0xBF67CE84#32, 0x3E39F955#32],
    ![0xC023CB6F#32, 0xBF01DB93#32, 0x3EEAD7AA#32],
    ![0x3F3174EC#32, 0xBF897585#32, 0xBD922531#32],
    ![0x3F1B6AB8#32, 0x3E8F967D#32, 0xBE806C1C#32],
    ![0xBF07AE8C#32, 0xBFCD7477#32, 0xBE124BA1#32],
    ![0xBEB1F32D#32, 0xBEEAB2BF#32, 0x3F3D88B2#32],
    ![0x3F48E1E2#32, 0xBD7A61F4#32, 0xBFA4D3A4#32],
    ![0x3F5D7197#32, 0xBEE96486#32, 0xBF3A2984#32],
    ![0xBF55B217#32, 0xBED1C838#32, 0xBFC4F9D8#32],
    ![0x3F246DBF#32, 0xBF5DF6C9#32, 0xBFB30003#32],
    ![0xBF73E0D4#32, 0xBFD5D621#32, 0x3EE3771B#32],
    ![0x3F2F22A5#32, 0x3F1591C7#32, 0x3F53F163#32],
    ![0xBF54C41F#32, 0x3F26544A#32, 0x3E533836#32],
    ![0x3D0E73E7#32, 0x3FA8DB15#32, 0xBEA09D88#32],
    ![0x3D4E6747#32, 0x3F1CB5E2#32, 0x3EF5DCED#32],
    ![0x3FC64286#32, 0x3DF49295#32, 0x3F98D73E#32],
    ![0xBF647C64#32, 0x3F3454F0#32, 0x3EC01411#32],
    ![0xBEC19C1D#32, 0x3FA1F97A#32, 0xBE90E767#32],
    ![0x3F52696C#32, 0xBEA44DCF#32, 0xBFE4C1D3#32],
    ![0xC0380BE5#32, 0x3FEFC2F6#32, 0x3FACFF79#32],
    ![0x3F09FEFC#32, 0x3F135C96#32, 0x3E422174#32],
    ![0xBF3BBECF#32, 0xBF5BE7D5#32, 0x3F65861D#32],
    ![0xBF00A352#32, 0x3EA2D55B#32, 0xB92B4FF7#32],
    ![0xBF188425#32, 0xBFD7EBC0#32, 0x3FAB25D1#32],
    ![0xBF25C01B#32, 0xBF95F446#32, 0xBEDA6CB5#32],
    ![0x3F2AB17E#32, 0xBF2E1E70#32, 0xBFBD7EC4#32],
    ![0x3ED9DB14#32, 0x3E1F0D2F#32, 0x3E7F2561#32],
    ![0x3E371272#32, 0xC00AF45D#32, 0x3FD00F06#32],
    ![0xBF855613#32, 0xBEDC09D4#32, 0x3EC4C69E#32],
    ![0x3D64FC36#32, 0xBF445726#32, 0xBEE6043F#32],
    ![0xBE8157AD#32, 0x3DCA2C65#32, 0xBF1D7EFB#32],
    ![0xBACE7949#32, 0x3F2E6204#32, 0xBE86B4BE#32],
    ![0x3F2881A1#32, 0x3FE95F75#32, 0xBF5BD8B6#32],
    ![0x3EE5267D#32, 0x3FBD267F#32, 0x3FE2814C#32],
    ![0xBE226691#32, 0xBE00EA6D#32, 0x400B3E5E#32],
    ![0xBF760336#32, 0xBF1F1128#32, 0xBEC31B11#32],
    ![0x3F1BA27E#32, 0x3F68D7FC#32, 0x3ECA06FE#32],
    ![0xBE6319BE#32, 0x3E65C192#32, 0x3FB40E9A#32],
    ![0x3E69B44F#32, 0x3D33F61D#32, 0x3F659DBE#32],
    ![0xBF9CD0EF#32, 0x3F4ADF49#32, 0x3F6715D3#32],
    ![0x3F1C8E1E#32, 0xBEBD0AE0#32, 0x3E24898E#32],
    ![0x3F4FEEB3#32, 0x3EDF93AA#32, 0x3DFAB0B9#32],
    ![0x3F921F37#32, 0x3EAEE908#32, 0xBF07B84D#32],
    ![0x3EC425DE#32, 0x3F28CF9B#32, 0x3E672DEB#32],
    ![0x3F0589BB#32, 0xBF664F6F#32, 0x3F981AAD#32],
    ![0xBF35C085#32, 0x3FD72934#32, 0xBD627B3F#32],
    ![0xBEC338E3#32, 0x3F7EDD06#32, 0x3E4B5895#32],
    ![0x3DA7F796#32, 0xBEDE822F#32, 0xBFAE2653#32],
    ![0xBEDF3023#32, 0x3FAB222E#32, 0xBFA4D26D#32],
    ![0x3FC002E3#32, 0xBF11299E#32, 0xBF84D7CE#32],
    ![0x3F10FB0C#32, 0x3F5BB91A#32, 0x3DF6DC50#32],
    ![0x3F019450#32, 0x3F772687#32, 0xBE094CC6#32],
    ![0x3F968D6C#32, 0x3E94E2C7#32, 0xBF8975D1#32],
    ![0x3FC60493#32, 0xBDC30568#32, 0x3FA80671#32],
    ![0x3F5CE3DF#32, 0xBFF417EC#32, 0xBF8C9573#32],
    ![0xBF0689DA#32, 0x3F8D7CC4#32, 0x3F891D26#32],
    ![0xBF2373BE#32, 0xBE618B36#32, 0x3E69154A#32],
    ![0x3E8039A6#32, 0xBFD85606#32, 0xBEE18576#32],
    ![0xBD3D1741#32, 0xBE2241AE#32, 0x3E1C55B2#32],
    ![0x3F52356A#32, 0xBDC5266E#32, 0xBFFB4BDA#32],
    ![0xBDD61E56#32, 0x3F6856C0#32, 0x3F23E50D#32],
    ![0x3FDD0049#32, 0x3EA5BD53#32, 0x3FD198C9#32],
    ![0x3EFADB9D#32, 0x3FD5C5D4#32, 0xBE084E71#32],
    ![0x3F49365A#32, 0x3F23D97E#32, 0xBEBAA1F8#32],
    ![0xBF806694#32, 0x4034A7E3#32, 0x3FE56ED9#32],
    ![0x3EB3CA8A#32, 0xBE0E26A6#32, 0x3EC71AC4#32],
    ![0x3F7A7EBD#32, 0x3FD78BA8#32, 0xBF35B610#32],
    ![0xBF8EBFAE#32, 0xBD7B9A9E#32, 0x3EBB84EC#32],
    ![0x3D2B53BF#32, 0x3F1268F2#32, 0x3FE4ED15#32],
    ![0xBF17E67F#32, 0xBF2D95A3#32, 0xC0076009#32],
    ![0xBFA21C18#32, 0x3F39A0EC#32, 0x3F0E4F31#32],
    ![0x3F3F1D1D#32, 0xBEAA77D8#32, 0x3F86B9B6#32],
    ![0xBE2E66C1#32, 0x3E39B304#32, 0x4008333C#32],
    ![0x3E38B2C8#32, 0x3FD34936#32, 0xBECA760B#32],
    ![0xC00A66C4#32, 0x3FBEFC53#32, 0xBEE75264#32],
    ![0x3E5797E6#32, 0xBD8D442C#32, 0x400B56D6#32],
    ![0xBEF433A5#32, 0xC01E50DD#32, 0x3EF0AA4A#32],
    ![0xBEB71FAC#32, 0x3F63F9D6#32, 0xBBE669D5#32],
    ![0x3E89D728#32, 0x3E91AA49#32, 0xBE91016A#32],
    ![0xBF207B77#32, 0xBF73591B#32, 0xBF155693#32],
    ![0xBFABEC4C#32, 0x3FEE0254#32, 0x3F805992#32],
    ![0xBF9ED157#32, 0xBFDEAC02#32, 0xBF958F54#32],
    ![0xBE83EA85#32, 0xC0009FC6#32, 0xBFE5F06E#32],
    ![0x3F96A51E#32, 0x3FC17609#32, 0xBFB1106B#32],
    ![0xBFF2CFED#32, 0xBD9CA718#32, 0xBFAC2870#32],
    ![0xBF8FBED6#32, 0xBFB23099#32, 0xBEAC1C97#32],
    ![0xBF23B67D#32, 0x3F53345C#32, 0x3F202011#32],
    ![0x3F9B900A#32, 0x3F37FD63#32, 0xBF0A47B1#32],
    ![0xBF768257#32, 0x3F7960ED#32, 0x3F138E54#32],
    ![0xBDF8CAAD#32, 0xBE683992#32, 0xBF374205#32],
    ![0x3F3D2324#32, 0x3FE67A7A#32, 0xBFCA01DA#32],
    ![0x3F2E4024#32, 0xBF28F685#32, 0x3D2385DC#32],
    ![0x3F1A3B1F#32, 0x3ECDA85D#32, 0xBFABBEED#32],
    ![0x3E73D8F4#32, 0xBF4294DC#32, 0xBF8B2B46#32],
    ![0x3BC86F9F#32, 0x3B7325FC#32, 0xBFCA5E67#32],
    ![0xC00E4FB5#32, 0xBF36A27B#32, 0x3E190A9A#32],
    ![0x3FA9D96A#32, 0xBFBB9A40#32, 0xBF851D7A#32],
    ![0xBFBA277E#32, 0xBD9D4B74#32, 0xBF7C016B#32],
    ![0x3E053465#32, 0xBEB761EF#32, 0x3E886018#32],
    ![0x3F98341A#32, 0x3F48DEAF#32, 0x3FD57299#32],
    ![0x3E272E13#32, 0x3E987AFA#32, 0x3FCEF3B3#32],
    ![0xBE26FE16#32, 0xBEA83CA1#32, 0x3FE05C36#32],
    ![0x3FE5A945#32, 0x3EFB074B#32, 0x3E42CF91#32],
    ![0x3E95AF1D#32, 0x3C3102C3#32, 0xC00633A6#32],
    ![0xBE1F03A1#32, 0x3F64AAA7#32, 0xBB0F43C2#32],
    ![0x3F6D5B6A#32, 0xBE6AA5BA#32, 0xBF2C365A#32],
    ![0x3EFFEFCC#32, 0xBF272444#32, 0xBE86CFC9#32],
    ![0xBFB22ACB#32, 0x3E8F292A#32, 0x3F5A2F31#32],
    ![0xBD4EE951#32, 0x3F80246C#32, 0x3FE86A36#32],
    ![0x3EAF685A#32, 0xBE1BA5F8#32, 0xBF339E9F#32],
    ![0xBB52150D#32, 0xBF0FF9E8#32, 0xBE8D3C6F#32],
    ![0xBE9F7419#32, 0x3F01FA86#32, 0x4012F15B#32],
    ![0xBEC337D5#32, 0xBF73FA4D#32, 0x3EF6ED2D#32],
    ![0xBF450761#32, 0xBEF612C1#32, 0x3CF0C1DA#32],
    ![0xBF41D553#32, 0xC02CA024#32, 0x3F6DE7F1#32],
    ![0xBFB5BC62#32, 0x3E821A31#32, 0xBF17E240#32],
    ![0x3F1DAB58#32, 0x3EAD58BE#32, 0xBF03C880#32],
    ![0xBF5F5038#32, 0x3F802A90#32, 0x3F3259B7#32],
    ![0x3FE7410A#32, 0x3F196EDA#32, 0x3FA07FF7#32],
    ![0xBFD2A100#32, 0x3FA2A070#32, 0x3FC4C787#32],
    ![0x3D686DBF#32, 0xBEDE7A9C#32, 0xBEB0BFE2#32],
    ![0xBE9AD45C#32, 0x3E846D9D#32, 0xBF16D141#32],
    ![0xBF8B6381#32, 0xBF9AC724#32, 0x3FC5352A#32],
    ![0x3F901022#32, 0x3EBB831F#32, 0xBE9D231A#32],
    ![0xBF1FC593#32, 0x3E605438#32, 0xBF909322#32],
    ![0x3FE32EA7#32, 0xBDB2D13C#32, 0x3D9DE054#32],
    ![0xBED74B9C#32, 0xBF1B9CBB#32, 0xBF23A417#32],
    ![0xBFD502F8#32, 0x3F0E1586#32, 0x3F2A23B7#32],
    ![0xBD38927E#32, 0x3E0DFB2F#32, 0x3E411BCE#32],
    ![0xBFBF6598#32, 0x3EAAD1E0#32, 0xBEA5DC77#32],
    ![0xBF0D53A8#32, 0x3EC2FCE5#32, 0x3E3C77AA#32],
    ![0xBECA8E02#32, 0x3E22E073#32, 0xBEB61A6F#32],
    ![0xBE0E45E2#32, 0x3D81762D#32, 0x3F1AA469#32],
    ![0x3EA968AD#32, 0x3E44C401#32, 0x3F3A0233#32],
    ![0xBFEB43ED#32, 0x3F62816F#32, 0x3EE34B93#32],
    ![0x3FE38F50#32, 0x3EE24188#32, 0x3E9254CC#32],
    ![0xBE1E11C1#32, 0x3FD68F41#32, 0x3F745AC2#32],
    ![0x3FA33F8A#32, 0x4010837E#32, 0xBE0FA5B8#32],
    ![0xBF8F5C05#32, 0xBDA190D3#32, 0x3F67F61D#32],
    ![0x3FBF0BD3#32, 0x3F1F533A#32, 0xBFB47BBD#32],
    ![0x3FEABAE5#32, 0x3F4AE294#32, 0xC0393EE2#32],
    ![0xBEC050A5#32, 0xBD817915#32, 0x3ED4782D#32],
    ![0x3F129744#32, 0x3EDCF84E#32, 0xBF68183B#32],
    ![0xBFAA2884#32, 0x3F0B8951#32, 0xBE69C3DE#32],
    ![0xBE2A0044#32, 0xBFC0054A#32, 0xBF181B7F#32],
    ![0xBF6CAAF1#32, 0x3E5051A4#32, 0x3EFEC697#32],
    ![0x3FB3898A#32, 0x3F276CE4#32, 0x3F4A6912#32],
    ![0x3B4F369C#32, 0x3F5FA605#32, 0x3E6F4A74#32],
    ![0x3EE4B1F9#32, 0x3F329F90#32, 0x3E03B588#32],
    ![0x3F8D48AA#32, 0xBF27B1EC#32, 0xBF313AB6#32],
    ![0xBFD1BABD#32, 0xBDD62C32#32, 0xBFD16974#32],
    ![0x40140B69#32, 0xBD1B58A6#32, 0xBE948062#32],
    ![0x3F60CF1B#32, 0x3F8CE19A#32, 0xBFC56BB3#32],
    ![0x3F6E2ABF#32, 0x3F5F3086#32, 0xBE1F4742#32],
    ![0x3E825090#32, 0x3F52B8EF#32, 0xBF30204D#32],
    ![0x3D5833FE#32, 0x3F2512EC#32, 0x3FB5231A#32],
    ![0xBC62577E#32, 0x3FFAB236#32, 0xBDAC9083#32],
    ![0xBEAE6C23#32, 0xBFA43019#32, 0xBD85FDC5#32],
    ![0xBEB957BE#32, 0xBFD4ACBE#32, 0x3EAAFF61#32],
    ![0x3F650EB9#32, 0xBE853569#32, 0x3E2C2638#32],
    ![0x3EA5C84D#32, 0xBE50B17C#32, 0xBE92BE94#32],
    ![0xBF9EE9DC#32, 0x3F881816#32, 0x3F6A9DDC#32],
    ![0xBF4F209B#32, 0x3EA99A7D#32, 0x3FB0BD7A#32],
    ![0x3E3FC7C4#32, 0x3FC404A9#32, 0x3F912173#32],
    ![0x3FA38648#32, 0x3F0EEC8A#32, 0x3F4C77F3#32],
    ![0x3E39E77F#32, 0x3F862998#32, 0x3CFCCA05#32],
    ![0xBEB58CD9#32, 0x3DAF482D#32, 0x3FCF1652#32],
    ![0xBFB321B9#32, 0x3F887779#32, 0xBF2600DA#32],
    ![0xBFEB99A6#32, 0xBF410C46#32, 0x3FC0434B#32],
    ![0x3F843633#32, 0xBF067EB9#32, 0xBF5D4B19#32],
    ![0xBEDD8E0D#32, 0xBF248C05#32, 0xBE26C5A6#32],
    ![0x3E7B84F9#32, 0xBF849D74#32, 0xC00EFD82#32],
    ![0xBE7ACBFC#32, 0xBE87F8E3#32, 0xBFC50F64#32],
    ![0xBF4FF0C1#32, 0xBF50F7B0#32, 0x3F5056C7#32],
    ![0x3F976A19#32, 0xBF507C61#32, 0x3FA47A56#32],
    ![0x3F05F7F7#32, 0x3D6E1211#32, 0xBC86208B#32],
    ![0x3EC96B46#32, 0x3F599275#32, 0x3F1A69FF#32],
    ![0xBEF1040A#32, 0xBE550D51#32, 0x3E977EAF#32],
    ![0x3F595B48#32, 0xC003D4A4#32, 0x3FADF416#32],
    ![0xBF18E0D6#32, 0x3F9599B4#32, 0xBEF8CE48#32],
    ![0x3FCD819F#32, 0xBFD14E55#32, 0xC0273234#32],
    ![0x3DD49CF8#32, 0xBDD36EF5#32, 0xBDB7E4FE#32],
    ![0x3F7850E2#32, 0x3ED1D0E3#32, 0x3F2403B4#32],
    ![0xBF2FA6A0#32, 0xBF792DD2#32, 0x3F7DF3D1#32],
    ![0x3F4DBC8D#32, 0x3FBF2523#32, 0xBE798401#32],
    ![0xBF849573#32, 0x3E9475D3#32, 0x3F70EF57#32],
    ![0x3F1D6CA8#32, 0x3E9AE1C9#32, 0x3F73C54B#32],
    ![0x3D72187E#32, 0xBFBCE626#32, 0xBFA36AE4#32],
    ![0x4007DDF0#32, 0x3ED6238F#32, 0x3E85B79F#32],
    ![0x3F89584C#32, 0x3F14CFA6#32, 0x3F14451E#32],
    ![0xBEBB671F#32, 0x3F587E35#32, 0x40018889#32],
    ![0xBFC98429#32, 0xC00170C1#32, 0x3EC04904#32],
    ![0xBFF2F728#32, 0x3E865E73#32, 0xBBB92CFB#32],
    ![0x3F54EEE8#32, 0x3F83C99E#32, 0xBEC49286#32],
    ![0xBDD47D3B#32, 0x3FA90BF0#32, 0xBE2CBC2F#32],
    ![0xBFB3A532#32, 0xBFA70C5F#32, 0xBF68AEB4#32],
    ![0xBF31FECA#32, 0xC0082CCD#32, 0xBF05BA4E#32],
    ![0xBDF7E2D5#32, 0xBE22773A#32, 0x3FC16E3D#32],
    ![0xC006C31D#32, 0xBC714038#32, 0x3FAEB7D3#32],
    ![0xBFDFD93F#32, 0xBFBF34B6#32, 0xBD126B40#32],
    ![0xBE2FE1E8#32, 0x3F26A5E6#32, 0x3FC3F4F2#32],
    ![0xBCCA2C51#32, 0x3F58F28F#32, 0xBFB3534F#32],
    ![0xBF4A694B#32, 0x3E35EB2F#32, 0xBEBD6061#32],
    ![0x3E80F6E7#32, 0xBED036E1#32, 0xBFC98BD7#32],
    ![0xBFA0B5DF#32, 0x40254463#32, 0x3F9B6956#32],
    ![0x3F8F66A8#32, 0xBF1D8EB1#32, 0xBEBBF580#32],
    ![0xBFA86E8B#32, 0x3F8FBD05#32, 0xBF6B76FC#32],
    ![0x3F7ED143#32, 0xBE8B981A#32, 0xBE3D0FF6#32],
    ![0xBF8B2782#32, 0x3E5CAAF7#32, 0xBFF218D2#32],
    ![0x3FC8F6D3#32, 0x3F5E5AE1#32, 0x3E579DFC#32],
    ![0x3FCAD319#32, 0x3FFF06A5#32, 0xBED7DBC9#32],
    ![0xBEF6B905#32, 0xBFB73767#32, 0xC009C9B3#32],
    ![0xBFA62FC2#32, 0x3F9A1407#32, 0x3ECC55B3#32],
    ![0xC0083677#32, 0x3EEFF701#32, 0x3F263A20#32],
    ![0x402176E1#32, 0xBECF79A0#32, 0x3C32F31C#32],
    ![0xBF059665#32, 0x3DE9E4AE#32, 0xBF9149F7#32],
    ![0xBF0E0AD2#32, 0x3F842743#32, 0x3E8CD7E4#32],
    ![0xBF1E2996#32, 0xBF6B0405#32, 0x3D6A5E8E#32],
    ![0xBF91581C#32, 0x3E935224#32, 0xBE5591B9#32],
    ![0x3E49C6B5#32, 0xBF6D3D28#32, 0x3ED76AE9#32],
    ![0x3F40391A#32, 0xBEB0F5D8#32, 0xBD924E2F#32],
    ![0xBFC219BE#32, 0xBF038966#32, 0x3F4DE6DE#32],
    ![0xBF427B6D#32, 0x3F97F023#32, 0x3F487DAF#32],
    ![0xBC15111E#32, 0xBEF4E984#32, 0xBEA2E47F#32],
    ![0xBF33F2AC#32, 0x3F78486D#32, 0x3D898FA5#32],
    ![0x3FC8C73A#32, 0xBFAC4799#32, 0x3F1A547C#32],
    ![0x3F34EDF5#32, 0x3DE3CA8F#32, 0xBE1FD702#32],
    ![0x3F122B28#32, 0x3D95DCAA#32, 0x3E461FB2#32],
    ![0x3EB4FE82#32, 0xBF9061A1#32, 0x3F18E38B#32],
    ![0x3D269672#32, 0x3DD269BE#32, 0x3F8A4EC1#32],
    ![0x3EC9F2CC#32, 0xBF81615B#32, 0xBE9179C7#32],
    ![0xBF56B9C0#32, 0x3E3B2917#32, 0x40156777#32],
    ![0xBF9148A1#32, 0x3F3A636D#32, 0xBC641E7D#32],
    ![0xBF224CF5#32, 0xBF983113#32, 0x3EF2B072#32],
    ![0xBE9AFB4F#32, 0xBE53EDD4#32, 0x3F0DFEB9#32],
    ![0xBF990DA7#32, 0xBE902C14#32, 0x3DA28BE2#32],
    ![0xBF6BCDFA#32, 0xBF0B5756#32, 0x3ECF269E#32],
    ![0x3F92AA8D#32, 0x3F972629#32, 0x3E80F2A8#32],
    ![0xC01A3336#32, 0xBF96924E#32, 0x3F515345#32],
    ![0x3EF5C70C#32, 0x3F6B7D13#32, 0xBE9DD207#32],
    ![0xC0053FFB#32, 0xBF43E745#32, 0x3CB19D91#32],
    ![0x3FBA272C#32, 0xBE38C54B#32, 0x3FBD6F96#32],
    ![0x3E056DE8#32, 0x3E096D75#32, 0xBEADCEA8#32],
    ![0x3FA0B0F2#32, 0xBF89A6D4#32, 0xBEC3848B#32],
    ![0x3F0C2BD8#32, 0x3FE53C96#32, 0x3F632CF5#32],
    ![0x3F540752#32, 0x40011517#32, 0x3EC11C9B#32],
    ![0xBF961C53#32, 0xBE3FF3D1#32, 0xBF601C39#32],
    ![0xBFD401E9#32, 0x3F3C107A#32, 0x3D84A771#32],
    ![0xBE8EC6E1#32, 0x3EE95077#32, 0x3FC0F5F0#32],
    ![0x3F90AF6F#32, 0x3D07A1A8#32, 0x3E918E45#32],
    ![0xBFCE8EAA#32, 0x3F90BB6F#32, 0xBF9B8647#32],
    ![0xBF198442#32, 0x3F0C4EB5#32, 0xBE8959C9#32],
    ![0x3EC3100F#32, 0xBFAF78BA#32, 0xBF901773#32],
    ![0xBF9C1D24#32, 0x401ED6D1#32, 0xBDA05596#32],
    ![0x40078E0C#32, 0x3E7EAE33#32, 0x3EEEA810#32],
    ![0x40282958#32, 0x3FCBE37C#32, 0xBE944B5E#32],
    ![0xBF680A0E#32, 0xC0076F51#32, 0x3ED97C4B#32],
    ![0x3F2730E8#32, 0xBEDB1610#32, 0xBF8B16E0#32],
    ![0xBFA7F567#32, 0xBE0F61C4#32, 0x402DB23E#32],
    ![0x3F83D650#32, 0xBF4C46AD#32, 0x3F968C5E#32],
    ![0x3F204CBA#32, 0x3D8834CC#32, 0xBF9B1A9F#32],
    ![0x3E763855#32, 0x3FCA5F1B#32, 0x3F70F2D9#32],
    ![0x3F686468#32, 0x3F9AB8FE#32, 0xBEAB5248#32],
    ![0xC01E3488#32, 0x3F56B7CA#32, 0xBD4C121D#32],
    ![0xC0081322#32, 0xBF082D94#32, 0xBEA86C8B#32],
    ![0xC04CCBEB#32, 0x3FDE7A40#32, 0xBF3DC258#32],
    ![0xBE182202#32, 0xBE99D71B#32, 0x3EF6FE1D#32],
    ![0x3EDBB881#32, 0xBF660455#32, 0xBE91EC4D#32],
    ![0x3FC0067A#32, 0xBFCEDCF9#32, 0xBFAEA6D0#32],
    ![0xBF2D567E#32, 0xBEED851B#32, 0x3FE1A531#32],
    ![0xBF2624C4#32, 0x3E329B48#32, 0xBED16D09#32],
    ![0xBFFA8C06#32, 0x3E872E89#32, 0xBEF346FE#32],
    ![0x3CA8A77D#32, 0xBF0E9767#32, 0x3F91FB44#32],
    ![0xBE82E061#32, 0x3F85AE12#32, 0xBFA97C38#32],
    ![0x3F89A4F9#32, 0x3F736D86#32, 0x3EF5F822#32],
    ![0x3F82861E#32, 0x3F25513D#32, 0x3F18E30E#32],
    ![0x3FB27707#32, 0x40115ED5#32, 0xBEB35010#32],
    ![0xBFD877B5#32, 0x3FB52951#32, 0xBFA92085#32],
    ![0x3FEBEF12#32, 0xBFD3CC70#32, 0xBF540F1C#32],
    ![0x3EFF8B85#32, 0xBEBA260C#32, 0xBEC75D1C#32],
    ![0x3F0BE8A4#32, 0x3F4E8BEA#32, 0xBDC2D21A#32],
    ![0x3FEE6CD6#32, 0xBF63C9C5#32, 0xBF32A298#32],
    ![0x3E5FF38A#32, 0x3EBA2F07#32, 0x3E84FB95#32],
    ![0x3F0C21CB#32, 0x3E1CBCA6#32, 0x3F0642ED#32],
    ![0xBE56C25D#32, 0x3D36C5E8#32, 0x3E52193A#32],
    ![0x3FC316BC#32, 0x40029008#32, 0x3F378681#32],
    ![0x3F8C83CC#32, 0x3EBE2BD2#32, 0x3DD176BC#32],
    ![0x3EED0DB0#32, 0x3F37ADA9#32, 0x3F955C4D#32],
    ![0xBDF50E34#32, 0x3D84FB46#32, 0x3F423D14#32],
    ![0xBEB0B8D1#32, 0xBEF87142#32, 0x3F58EABB#32],
    ![0xBDE97E1B#32, 0x3E91F2D8#32, 0xBEC6FCAC#32],
    ![0x3F190523#32, 0x3FA7164B#32, 0xBF90CFE2#32],
    ![0x3EDCEDFC#32, 0x3F15F9E9#32, 0xBEB783A5#32],
    ![0xBFD50D89#32, 0xBF980F43#32, 0xBF59DEB0#32],
    ![0xBF1371D6#32, 0x3FF5F598#32, 0x400D739A#32],
    ![0x3F8228A2#32, 0x3F0B8F5C#32, 0xBFD054EA#32],
    ![0xBDB503A1#32, 0xBEFA480D#32, 0xBFB6EA73#32],
    ![0xBE72DB2E#32, 0xBF3C7BEC#32, 0xBEFBBB89#32],
    ![0xBE0ED4D0#32, 0xC0067AA6#32, 0xBFDF12EA#32],
    ![0x3ECEFA6A#32, 0xBFA39C39#32, 0xBE7DBCC7#32],
    ![0xBDE79186#32, 0x3D3DCA84#32, 0x3F9F3BEF#32],
    ![0xBEA0D6D7#32, 0x3E962944#32, 0x3DFF0058#32],
    ![0x3E27A143#32, 0x4000C5C2#32, 0xBFEC9149#32],
    ![0xBF0A7124#32, 0xBFB7F1FB#32, 0x3EFE45E3#32],
    ![0x3FB326D8#32, 0x3F869E2F#32, 0x3F768431#32],
    ![0x3F480611#32, 0xBFA0ECB1#32, 0x3E102039#32],
    ![0xBF99B2EC#32, 0xBF00ED21#32, 0x3D294FDF#32],
    ![0x3F110B18#32, 0x3F78CEF4#32, 0xBEF2D61D#32],
    ![0x3E7096A5#32, 0x3F83A066#32, 0xBEC3E81B#32],
    ![0xBB4772D8#32, 0xBF86F6C6#32, 0x3FC67636#32],
    ![0xBDE5E54F#32, 0x3F25A6B8#32, 0x3F2C592A#32],
    ![0x3F86BD7E#32, 0xBD876FD4#32, 0xBF407E11#32],
    ![0xBB7AC1A6#32, 0xBF1D6727#32, 0xBF62BB4A#32],
    ![0xBF539F5E#32, 0x3FE5A58C#32, 0x3F5CFDAC#32],
    ![0xBFDC2B12#32, 0x3F01662D#32, 0xBE879A9B#32],
    ![0xBF07CEBB#32, 0xBE94448B#32, 0x3E828341#32],
    ![0xBFE94725#32, 0xBF54CA17#32, 0x40219BCE#32],
    ![0x3DD855AF#32, 0x3FAC8048#32, 0xBF9F505A#32],
    ![0xBF6B2C5C#32, 0x3F97D458#32, 0xBF0D6269#32],
    ![0xBF4549D6#32, 0xBF9A250A#32, 0x3E15707F#32],
    ![0x3F2D2537#32, 0x3ECEF614#32, 0xBE1606F8#32],
    ![0xBF93A01F#32, 0x3F2C525C#32, 0x3E16FCCA#32],
    ![0x3F1DF072#32, 0xBFA4C38F#32, 0x3FF83A60#32],
    ![0x3FCFFD47#32, 0xBC1B6337#32, 0xC0116382#32],
    ![0xBFE6933C#32, 0x3F41A0E6#32, 0xBDCD4027#32],
    ![0xBF55CB02#32, 0xBE5B9DD1#32, 0x3F548579#32],
    ![0x3F01D9B7#32, 0x3FC522F2#32, 0x3D1DF1DC#32],
    ![0x3F18E259#32, 0xBC65B218#32, 0x3E9A3D1F#32],
    ![0xBF6382B3#32, 0xBF5F2918#32, 0x3DBF2552#32],
    ![0x3F50E67E#32, 0x3FCBA616#32, 0xBF962EA9#32],
    ![0x3D27B974#32, 0xBFBE660A#32, 0xBE80942B#32],
    ![0x3CF2B8A6#32, 0xBF11C611#32, 0xBE5B47F9#32],
    ![0x3F9FA991#32, 0x3FA93F8F#32, 0xBF0F4CF1#32],
    ![0xBEEB7FF2#32, 0x3EC5EC26#32, 0x3FBB5D03#32],
    ![0xBCD9BAC6#32, 0x3F89366A#32, 0xBF17251F#32],
    ![0x3E2682DA#32, 0x401BB8BA#32, 0x3E906E1E#32],
    ![0xBF2B30B2#32, 0xBF0A064B#32, 0xBE9BC2F4#32],
    ![0x3F58461B#32, 0xBF96AB3B#32, 0xB905B683#32],
    ![0x3D8B5FCE#32, 0xBF42385E#32, 0xC0161B13#32],
    ![0xBF8F890A#32, 0x3FD52B5A#32, 0x3FBD4AA5#32],
    ![0x3F1861E7#32, 0x3F58292E#32, 0x3F800537#32],
    ![0x3E2F4A5A#32, 0x3EB45F5D#32, 0x3FA5C722#32],
    ![0xBE82A5C9#32, 0xBF033CC6#32, 0xBDB172DD#32],
    ![0x3F6F92D4#32, 0xBFC08F9E#32, 0x3FAFB594#32],
    ![0xBF904A7E#32, 0x3F0DF4B8#32, 0xBEFAC8EA#32],
    ![0xBE6EEEA6#32, 0xBF653376#32, 0x3EEBA253#32],
    ![0xBF6C44E7#32, 0x3F3256C0#32, 0xBFA94848#32],
    ![0x3ED43D03#32, 0x40014B3C#32, 0xBE9DE255#32],
    ![0x3F4C8069#32, 0xBD915010#32, 0xBF4A21F5#32],
    ![0x3F2F2CB9#32, 0x3F0B14FC#32, 0xBDEA17DA#32],
    ![0xBFE31F38#32, 0xBF70AB42#32, 0x3E8FF65A#32],
    ![0x3E8E9614#32, 0x3EC799D1#32, 0x3F308D47#32],
    ![0x3F0C1181#32, 0x3D0796AE#32, 0x3ED295BE#32],
    ![0xBEC0655D#32, 0x3F646B1E#32, 0x3EF58769#32],
    ![0x3D85C09F#32, 0xBF0AEC25#32, 0xBFF0D00C#32],
    ![0x3F2D1166#32, 0x3F9DEA3A#32, 0xBF29D82B#32],
    ![0xBC76E432#32, 0x3E19F985#32, 0x3D693CE1#32],
    ![0x3F026EAE#32, 0xBDFFE25C#32, 0x3EF72573#32],
    ![0xBCFAB067#32, 0x3F8831A3#32, 0x3EA26317#32],
    ![0x3E386E00#32, 0xBE87D33C#32, 0x3F48DA0C#32],
    ![0xBDD2B296#32, 0xBFCD4B08#32, 0x403E09F1#32],
    ![0xBE224135#32, 0xBF50581A#32, 0xBF5EEA4C#32],
    ![0xBF6584D8#32, 0xBFD0A9B6#32, 0xBFE02970#32],
    ![0x400028A0#32, 0x3ECF7429#32, 0x3EADCF22#32],
    ![0x3B2308A7#32, 0xC00D0DF6#32, 0x3E93EBE7#32],
    ![0x3F99C987#32, 0xBF83BF3B#32, 0xBE3C99BA#32],
    ![0x3E6B632B#32, 0xBD9723F5#32, 0x3F7D50C9#32],
    ![0xBE30E86C#32, 0xBFF77A98#32, 0x3EECA2D9#32],
    ![0xBED9A419#32, 0xBE3B8908#32, 0x3F894D6E#32],
    ![0x3F7295A7#32, 0xBF9EA556#32, 0xBF132A09#32],
    ![0x3F3BFF24#32, 0x3F95582E#32, 0xBEEA82CE#32],
    ![0xBE1E6317#32, 0xBF011B94#32, 0x3F00A19A#32],
    ![0x3FF377FB#32, 0xBD46AA08#32, 0x3C2A93D1#32],
    ![0x3FA8D71C#32, 0x3E18997D#32, 0x3DB3F2AF#32],
    ![0x3DE767A9#32, 0x3F928AE5#32, 0xBF85A54B#32],
    ![0xBF120F0D#32, 0xBF815A0B#32, 0x3EE42A98#32],
    ![0x3EB995A9#32, 0x4006BDF7#32, 0x3EBEF832#32],
    ![0x3F2BFFF1#32, 0x3F43C66F#32, 0xBF896A78#32],
    ![0x3E3E8E83#32, 0xBEED0657#32, 0x3EFB3DC2#32],
    ![0xBFB2CF69#32, 0xBFF56A1F#32, 0x3FE32A1E#32],
    ![0x3D59E54E#32, 0x3F85F094#32, 0x3F5ED2AF#32],
    ![0x3F39C906#32, 0xBE5AA5AF#32, 0xBF251BD5#32],
    ![0xBF805237#32, 0x3ED29FB8#32, 0x3EC83EBE#32],
    ![0xBDBC5E8A#32, 0x3EE75EDC#32, 0x3FC21441#32],
    ![0xC0132D5A#32, 0xBF88A731#32, 0x3ED666B9#32],
    ![0x3FD0EC5B#32, 0xBDD4CD91#32, 0xBDAC14F0#32],
    ![0x3E878605#32, 0x403C31FC#32, 0xBFB50A72#32],
    ![0x3DC72311#32, 0xBF07DFDC#32, 0xBFB19D22#32],
    ![0xBF138751#32, 0x3F9F36F2#32, 0x3FD18F10#32],
    ![0xBF242979#32, 0x3F3B54FA#32, 0xBF210ACB#32],
    ![0xBF95322C#32, 0xBE613730#32, 0x3F3CF986#32],
    ![0xBECCF238#32, 0xBFC08AC1#32, 0x3EED3C20#32],
    ![0x3C97DD0E#32, 0xBFD3018B#32, 0x3FA3AEEC#32],
    ![0xBF2DF889#32, 0xBD680D8F#32, 0xBE194F51#32],
    ![0x3D28F811#32, 0x3BCA8309#32, 0x3FD62EC4#32],
    ![0x3F342F14#32, 0x3FB796EF#32, 0x3C6DE77D#32],
    ![0xBF4AAECB#32, 0x3E08A399#32, 0x3D605FAA#32],
    ![0x3F98796D#32, 0xBEF7A453#32, 0x3FAC97DD#32],
    ![0xBF827289#32, 0xBF16B3C4#32, 0x3F7B29A3#32],
    ![0xBE040A7A#32, 0xBEF48894#32, 0xC0352A1C#32],
    ![0xC028632D#32, 0xBF94C943#32, 0x3F998DCF#32],
    ![0xBF90A672#32, 0x4009EECA#32, 0xBD4A01D1#32],
    ![0xBF89888A#32, 0x3E541128#32, 0x3EC2A0D9#32],
    ![0xBE1E6274#32, 0xC00E3B52#32, 0x3F446461#32],
    ![0xBEE68975#32, 0x3F3FD5BA#32, 0xBD4572D9#32],
    ![0xBE036868#32, 0x3E121FFD#32, 0x3FA65097#32],
    ![0xBF9BC93E#32, 0x3E3B029D#32, 0x3F0665B7#32],
    ![0x3F3B1608#32, 0xBED9D4CC#32, 0x3E1FF3FD#32],
    ![0xBF51EB72#32, 0x3E838E8E#32, 0xBF9921A7#32],
    ![0xBDB90CB8#32, 0x3F065AA2#32, 0x3F440451#32],
    ![0x3E3502EB#32, 0x3F8D9DEB#32, 0x3F5A3652#32],
    ![0xBF1670B2#32, 0xBF820FCA#32, 0x3EB8D83D#32],
    ![0xBF1F2AA0#32, 0x3E48CFB3#32, 0xBFF5ECA2#32],
    ![0x3E8F7CB4#32, 0xBF54D5B5#32, 0x3FAC0C05#32],
    ![0x3F4B8728#32, 0xBF05A8A4#32, 0x3FA45008#32],
    ![0xBF3C66A3#32, 0xBF1AE465#32, 0xBF02E755#32],
    ![0xBFE34467#32, 0x3ECE0A08#32, 0x3FFA1859#32],
    ![0xBD50D955#32, 0x3E66DB90#32, 0x3F965139#32],
    ![0x3F586F88#32, 0xBD1BF8E0#32, 0x3F98A003#32],
    ![0x40148B26#32, 0x3E87BC57#32, 0x3F845874#32],
    ![0xBE17F961#32, 0x3EBEA20D#32, 0x40164E68#32],
    ![0x3F73541B#32, 0x3FADA462#32, 0x3F944F11#32],
    ![0xBE507263#32, 0x3F825989#32, 0x3F453D99#32],
    ![0xBEA736EC#32, 0xBF873986#32, 0x3F87A37B#32],
    ![0x3F32D9EF#32, 0xBF4A6404#32, 0xBEB52458#32],
    ![0xBF91E511#32, 0x3E9C638F#32, 0x3F257D4C#32],
    ![0xBD1AA27A#32, 0x3F9488D9#32, 0x3F438940#32],
    ![0x3EBACD7A#32, 0x3F96E9EB#32, 0x3E9FF59A#32],
    ![0x3F262783#32, 0xBF35B183#32, 0xBE44B2CF#32],
    ![0xBD5AE621#32, 0x3F61B6B3#32, 0x3FFFCF1A#32],
    ![0x3DD596A2#32, 0xBF0AAE38#32, 0x3F14BA04#32],
    ![0xBE466CFF#32, 0x3EFAC4EB#32, 0xBEE6A648#32],
    ![0xBF5ABC6A#32, 0x3F29798A#32, 0x3E26BDC0#32],
    ![0x3FA43167#32, 0x3F9ECED1#32, 0x3ED66519#32],
    ![0x3DDE65B5#32, 0x3F1393B1#32, 0xBE3D5D92#32],
    ![0xBF9B2175#32, 0xBFF6A407#32, 0xBF0D7559#32],
    ![0x3F86BA87#32, 0x3EA92146#32, 0x3E08B7AB#32],
    ![0xBEB9F120#32, 0x3FDDB316#32, 0xBEB474EE#32],
    ![0xBF34453E#32, 0x3F42EC99#32, 0x3EC00031#32],
    ![0xBF9F35C4#32, 0x3ED2E1E2#32, 0x3F442FDB#32],
    ![0xBE88CCE1#32, 0xBE4FA866#32, 0x3DE5B5C7#32],
    ![0xBEE3EFE2#32, 0xBFAC4D69#32, 0x3F1ADE27#32],
    ![0xBEC2B20D#32, 0x3EF1784C#32, 0xBEA2D65E#32],
    ![0xBE9EFC1C#32, 0x3E3CB28C#32, 0xBFC422DF#32],
    ![0xBD9CA3A4#32, 0xBFA9A54A#32, 0xBF067617#32],
    ![0x3F564EBE#32, 0x3D4FBC4D#32, 0x3FB51CD0#32],
    ![0xBF1BFE8F#32, 0xBF307BB4#32, 0xC0097D66#32],
    ![0xBF7CAB36#32, 0xBF8246EB#32, 0xBEA704EF#32],
    ![0xC0174BAE#32, 0x3F8EA8C3#32, 0x3F851D21#32],
    ![0x3E9DD710#32, 0x3E211D9B#32, 0x3FB3FFCE#32],
    ![0xBDC056D1#32, 0x3FC84C8B#32, 0x3FDC1D00#32],
    ![0x3F885BC3#32, 0x3FC56978#32, 0xBD57B290#32],
    ![0x3FB5483B#32, 0x3FD9B2AD#32, 0x3DE3C740#32],
    ![0x3D994073#32, 0xBE19CB0F#32, 0x3F04EA4E#32],
    ![0xBF9DDB61#32, 0x3F4F90D8#32, 0x3F747CE6#32],
    ![0x3CDD5E01#32, 0x3DA80F52#32, 0x3F86F441#32],
    ![0xBE11CA52#32, 0x3F1AEAC0#32, 0x3F7EBD5F#32],
    ![0xBCE08E87#32, 0x3FADB07A#32, 0x3F196A3C#32],
    ![0x3F4CB50C#32, 0xBF14F6BD#32, 0xBF6691C5#32],
    ![0x3F4E1760#32, 0xBF628DE8#32, 0x3ECFC161#32],
    ![0x3FD58D46#32, 0x3F948348#32, 0xBE38822E#32],
    ![0x3F80D5A9#32, 0x3F35FBC3#32, 0xBF75A353#32],
    ![0x4031BEA8#32, 0xBF05F446#32, 0xBCF5AA8A#32],
    ![0x3E88DE08#32, 0x3F755F71#32, 0xBF846CE4#32],
    ![0x3FC5D1BC#32, 0x3F2A86D4#32, 0x3FC6A184#32],
    ![0x3FD4543B#32, 0xBFC323E4#32, 0x3FD59BE4#32],
    ![0x3F22D3D3#32, 0xBF8D7F23#32, 0xC02E25E7#32],
    ![0xBF8B044B#32, 0x3F5B7389#32, 0xBF6582E8#32],
    ![0x3FE76F52#32, 0xBF8337A6#32, 0xBF9567FE#32],
    ![0xBF53378A#32, 0xBF2C14E4#32, 0x3F9D3353#32],
    ![0x3E1E52F4#32, 0x3D49FAC2#32, 0xBF992CE5#32],
    ![0xBFCA5C4B#32, 0x3F9874B6#32, 0x3F0A5673#32],
    ![0xBE30502B#32, 0xBF3550B7#32, 0x3F8A42A5#32],
    ![0xBFA9DDE8#32, 0xBDFBCD16#32, 0xBFD83A65#32],
    ![0x3F5606B7#32, 0x3FC50B67#32, 0x3EC8B5BD#32],
    ![0x3E3B74EB#32, 0x3D546758#32, 0x3F5384D8#32],
    ![0x3F49ADB6#32, 0x3ED9D305#32, 0x3D816794#32],
    ![0xBF02E7F6#32, 0xBF1E9253#32, 0x3F43BD12#32],
    ![0x3FA1C1E4#32, 0x3F170527#32, 0xBF5FDB22#32],
    ![0xBFBDDF81#32, 0x3F62D9C6#32, 0xBF7DC65B#32],
    ![0x3F89DD76#32, 0x400589DD#32, 0xBF500DAF#32],
    ![0x3C050178#32, 0xBFB71604#32, 0x3F922FA4#32],
    ![0xBF6E4F04#32, 0x3EF14A35#32, 0xBEDBBFA7#32],
    ![0xBF55AC82#32, 0x3DBF1636#32, 0x3F8B623D#32],
    ![0x3EA59B51#32, 0x3F35F747#32, 0xBD6511B5#32],
    ![0xBDEBEBE8#32, 0xBFB82BD4#32, 0xBEC60260#32],
    ![0xBF880F39#32, 0xBFE3306F#32, 0x3E52E85D#32],
    ![0x3FEEB293#32, 0xC0216B9F#32, 0xBFAC3A08#32],
    ![0xBF185FA5#32, 0xBF823DF6#32, 0xBDAD5BCD#32],
    ![0x3F12A1EC#32, 0x3E3F9408#32, 0xBFA83A01#32],
    ![0xBFF6BABB#32, 0x3F95543C#32, 0xBFC538DF#32],
    ![0xBE881B89#32, 0x3CF43B78#32, 0xBD841EF0#32],
    ![0x3DA42F82#32, 0x3EE0E3E9#32, 0xBDD1ACAE#32],
    ![0x3E702BE2#32, 0xBF179A53#32, 0xBEE3DDCE#32],
    ![0xBF915AB4#32, 0xBFC3CB3F#32, 0xBF64153F#32],
    ![0x3E5A57E9#32, 0x3FA95D5D#32, 0xBFA779CE#32],
    ![0x400EE7E5#32, 0x3EE7E90D#32, 0xBE050310#32],
    ![0xBF817E72#32, 0xBE94287C#32, 0x3FC1B222#32],
    ![0x3D12EAB2#32, 0xBD462052#32, 0xBFA1DB3E#32],
    ![0xBFE281BE#32, 0xBF7A2AAC#32, 0x3EF01C4B#32],
    ![0x3E8E0D4C#32, 0x3DCE47D0#32, 0xBF58813E#32],
    ![0xBFB42654#32, 0xBE749867#32, 0x3F17F76A#32],
    ![0x3EBA5712#32, 0xBF89E002#32, 0x3EEF9BBF#32],
    ![0xBF41EF20#32, 0x3FDA50FC#32, 0xBE3B5382#32],
    ![0xBF7CA7B5#32, 0x3F6CF5AA#32, 0xC014C4D1#32],
    ![0xBF94E816#32, 0xBF924036#32, 0xBF738038#32],
    ![0x3E23E1E5#32, 0x3FA7D7E2#32, 0x3F7114CC#32],
    ![0xBF3590EA#32, 0x3ECA2FAE#32, 0x3FDB491A#32],
    ![0xC002B639#32, 0x3E3C3DBF#32, 0xBECAE981#32],
    ![0xBF0D0CB4#32, 0xBE955943#32, 0xBE087E7E#32],
    ![0x3EC1D110#32, 0x3F17D814#32, 0x3EBCEB74#32],
    ![0xBFA19EA7#32, 0xBF6BA6BF#32, 0x3FA1612E#32],
    ![0x3EF6BF54#32, 0x3F662135#32, 0xC0174279#32],
    ![0xBFE7E2EE#32, 0xBFA0426F#32, 0x3F93C993#32],
    ![0xBED4E278#32, 0xBF157F53#32, 0xC028CC62#32],
    ![0xBF5F9EDA#32, 0x3F2FB373#32, 0xBE0D778C#32],
    ![0xBF16E44F#32, 0x3F528178#32, 0xBFFCA335#32],
    ![0xBFDA092F#32, 0x3E63EBFB#32, 0x3FAA740E#32],
    ![0xBFA7B255#32, 0x3F00DF01#32, 0xBF0AE14D#32],
    ![0x3EC0D6EE#32, 0xBFBA8509#32, 0xBF255DEB#32],
    ![0xC0113E72#32, 0x3FD5C154#32, 0xBF091D64#32],
    ![0x3EC56711#32, 0x3D13FE4B#32, 0x3F4EB87A#32],
    ![0xBF439BFB#32, 0xBF89930F#32, 0x3ED4B2E1#32],
    ![0x3F0D65DE#32, 0xC0101F06#32, 0x3F90AF9E#32],
    ![0x3F286E27#32, 0xBF9AC79A#32, 0x3D4D2929#32],
    ![0x3F70A610#32, 0xC0010CEA#32, 0xBB16AAC6#32],
    ![0xBF852852#32, 0x3E77CD69#32, 0x3FE8CA05#32],
    ![0xBE434CC2#32, 0xBF666F60#32, 0x3FE832AA#32],
    ![0xBECC7CD4#32, 0x3F8A4470#32, 0x3F95BE6C#32],
    ![0x3F51B663#32, 0xBFC767C7#32, 0x3FAF8A1B#32],
    ![0xBEA745B6#32, 0x3E91A330#32, 0x3E80D8BF#32],
    ![0xBFA9C561#32, 0x3FE7521F#32, 0xBF7A2EC5#32],
    ![0xBEB39952#32, 0xBEF5AE8C#32, 0x3F8EF042#32],
    ![0xC005A8B0#32, 0xBEA523C1#32, 0xBF7EDD3C#32],
    ![0xBFD47005#32, 0xBF37F07E#32, 0xBFA56050#32],
    ![0x3F8C52AF#32, 0x3FC11795#32, 0xBF63D6EC#32],
    ![0x40094D11#32, 0x3DAEE751#32, 0xBE8DEA46#32],
    ![0x3E842B5D#32, 0xC038406D#32, 0x3FA70779#32],
    ![0x3FDC3D13#32, 0x3E198BB8#32, 0xBF4B8DA6#32],
    ![0x3EB7477C#32, 0x3F5D102E#32, 0xBF504AF6#32],
    ![0x401ABCAB#32, 0xBE7CD510#32, 0x3EB8AD6F#32],
    ![0xBEAB3648#32, 0xBE59ACE0#32, 0xBBCC92B1#32],
    ![0x3EC302EC#32, 0x3F3EAC44#32, 0x3DD009DB#32],
    ![0x3D80D182#32, 0xC0046753#32, 0xBFB02017#32],
    ![0xBFA87E1F#32, 0x3F0F3FA5#32, 0x3F640FF7#32],
    ![0x3D5D82A5#32, 0xBF283B9A#32, 0xBEDDB6BD#32],
    ![0xBF2FCB95#32, 0xBE03ED91#32, 0x3E993433#32],
    ![0x3F896003#32, 0xC0084524#32, 0xBE9CEA14#32],
    ![0x3E6A4FF9#32, 0xBE2D6BF2#32, 0x3D83E53E#32],
    ![0x3EC2CADE#32, 0xBF8229C5#32, 0x3DCE78A1#32],
    ![0x3EAAA7A4#32, 0xBF29779A#32, 0x3F9FA216#32],
    ![0xBE9D78CA#32, 0x3F407813#32, 0xBD922F16#32],
    ![0x3F540B2F#32, 0x3F45D1D8#32, 0x3F569E99#32],
    ![0x402AE31E#32, 0xBFF17E2F#32, 0x3F1CB2E8#32],
    ![0x3F7E6D95#32, 0xBF171078#32, 0x3EC04781#32],
    ![0x3E21139C#32, 0x3F05E873#32, 0x3FBD07FF#32],
    ![0xBEC01A8D#32, 0xBE84E92B#32, 0x40046C8C#32],
    ![0x3F1906DE#32, 0x4018650B#32, 0x3D2DE924#32],
    ![0x3EE8D9F5#32, 0x3E44B0C6#32, 0xBF8F22F7#32],
    ![0xBFEA62A5#32, 0x3ECFC8DD#32, 0x3EE9118F#32],
    ![0xBF01E6CC#32, 0xBF5BCDB9#32, 0x3F5DB5B1#32],
    ![0xBFAC060A#32, 0xBEA63543#32, 0x3F55398F#32],
    ![0x400B8DA9#32, 0x3FA16939#32, 0x3D82C878#32],
    ![0x3F3FF73C#32, 0x3F443275#32, 0x3FB079C0#32],
    ![0xBCFC27F3#32, 0xBF984D9E#32, 0x3F604C8B#32],
    ![0xBE90BD6A#32, 0xBF9573F5#32, 0xC02945A3#32],
    ![0xBEB5A856#32, 0x3F64E598#32, 0xBFB9C5E8#32],
    ![0x3E62EF28#32, 0x3F69E896#32, 0x3E0C63D8#32],
    ![0x3F5C20CC#32, 0xBEE970BB#32, 0xBDAB5705#32],
    ![0x3F48E82B#32, 0x3F02B355#32, 0xBECE156F#32],
    ![0x3EDCEF9D#32, 0x3F812CE3#32, 0xBF7779AE#32],
    ![0xBEDA07C8#32, 0xBF79C7FF#32, 0xC01AE830#32],
    ![0x404D561E#32, 0xBEF01B3A#32, 0xBF4248F3#32],
    ![0xBE0F3392#32, 0xBEF1E851#32, 0x3F8C8AA6#32],
    ![0x3E1265C8#32, 0x3F9A66FD#32, 0xBDA08676#32],
    ![0xBFB2593F#32, 0x3FA519A1#32, 0x3E82F459#32],
    ![0xBE4A44F1#32, 0x3FA8FEFC#32, 0xBE820DFF#32],
    ![0x3EDB5BE2#32, 0x3EC02E5E#32, 0xBF3AD139#32],
    ![0x3F629C52#32, 0x3F4B652F#32, 0x3F1014B7#32],
    ![0xBF835609#32, 0xBEC621D1#32, 0xBFF732D6#32],
    ![0x3E948339#32, 0x3F9E1931#32, 0x3E471379#32],
    ![0xBEC90A72#32, 0x3FBCBBF0#32, 0xBE283B15#32],
    ![0xBF6FD701#32, 0xBFC15190#32, 0x3F82D315#32],
    ![0x3D34D42B#32, 0x3F0C7448#32, 0xBF07F900#32],
    ![0xBE915C8A#32, 0xBE8501E1#32, 0xBEFC93EE#32],
    ![0x3FC18F3C#32, 0xBEE56F8E#32, 0xBF7BCBAF#32],
    ![0x3EC06CB3#32, 0xBF7CF893#32, 0xBFDE7407#32],
    ![0x401264B9#32, 0x3FCE8126#32, 0x3FF8075B#32],
    ![0x3E2F38A0#32, 0xBE6E7F2C#32, 0x3CF8EE93#32],
    ![0x3EDB1B52#32, 0x3EE3DEFE#32, 0xBAE15A13#32],
    ![0xBF5EE8D6#32, 0xBEC69083#32, 0x3CB9EED9#32],
    ![0x3D703522#32, 0x3F6E624F#32, 0x3F19EC48#32],
    ![0xBDEA2B68#32, 0xBF7BA784#32, 0x3F4FA603#32],
    ![0x3FA69AE0#32, 0x3F1BCD78#32, 0x3F9BED27#32],
    ![0x404EC72E#32, 0x3CBCD822#32, 0x3F21C5D5#32],
    ![0x3F407959#32, 0xBF27F781#32, 0xBDB53AD7#32],
    ![0xBE3B938D#32, 0xBF8C708C#32, 0xBEAAAEBE#32],
    ![0xBF187F3C#32, 0x3FB68E35#32, 0x3F3DE326#32],
    ![0x3E54CFE1#32, 0x3F507956#32, 0x3FF02F29#32],
    ![0x3F9457CC#32, 0x3FB23040#32, 0x3E99ACB7#32],
    ![0x3F8918EE#32, 0xBE98FC45#32, 0x3F76465A#32],
    ![0xC009BE07#32, 0xBF463F0C#32, 0xBF27D1DE#32],
    ![0xC012166A#32, 0xBEDD3549#32, 0x3FA5B578#32],
    ![0xBF8196FA#32, 0xBF755FEC#32, 0xBF676413#32],
    ![0xBFD41CCA#32, 0x3F7641E1#32, 0x3FCFCFC1#32],
    ![0x3FE4E5F6#32, 0x3E881667#32, 0x3E1DFCCA#32],
    ![0x3F8C2286#32, 0x3ED83190#32, 0xC0110CF9#32],
    ![0xBFC63E4F#32, 0xBFC355D7#32, 0xBE29134C#32],
    ![0xBF9F4C87#32, 0x40090906#32, 0x3F4AD53B#32],
    ![0x3F39137D#32, 0x3F9071AC#32, 0x3F8910C0#32],
    ![0x3F236FF6#32, 0x3F0327E2#32, 0xBF9A9BD8#32],
    ![0xBE755B25#32, 0x3F7B5A04#32, 0x3ED7A1A3#32],
    ![0xBE9AC637#32, 0xBF28126A#32, 0xC0059577#32],
    ![0x3DB68D3C#32, 0x3E99DD84#32, 0xBF69BEA4#32],
    ![0xBF4C16ED#32, 0x3F6B00E7#32, 0xBFDD9159#32],
    ![0xC0174B1E#32, 0x3F252E0D#32, 0xC03B1020#32],
    ![0xBFEA2194#32, 0x3F663455#32, 0x3EA55CD7#32],
    ![0xBF362EFF#32, 0xBFA1DC4F#32, 0xBFDB3C42#32],
    ![0xBFA4A827#32, 0x3EC07CCC#32, 0x3FDA64C9#32],
    ![0xBF13D6C9#32, 0x3FE68AFA#32, 0xBF925E2C#32],
    ![0xBF0DD25E#32, 0xBF1F4954#32, 0x3F313BBE#32],
    ![0xBF910BFA#32, 0x3EAF0EB1#32, 0xBFCDDB5F#32],
    ![0x3FFB7FA0#32, 0x3F924DC9#32, 0xBF489BEF#32],
    ![0xBF3FAFF0#32, 0xBDC1D0F5#32, 0x3F3098E0#32],
    ![0xBFDF854E#32, 0x3F477E33#32, 0x3E99AC1A#32],
    ![0x3F7C9AB7#32, 0xBE06A3CE#32, 0xBE4D9873#32],
    ![0x3F35AA50#32, 0x3F20F2F1#32, 0xBDE9CFA2#32],
    ![0x3F3D3481#32, 0xBEFAB95E#32, 0xBFE3A775#32],
    ![0xBF1F1414#32, 0x3E1EC033#32, 0x3FB4C4D8#32],
    ![0x3E804B64#32, 0xBFE5117C#32, 0x3E3D4D6F#32],
    ![0x3B7EBDDB#32, 0xBF8868E7#32, 0xBF0CFDEF#32],
    ![0x3ECAE295#32, 0x3F042645#32, 0x3F38512B#32],
    ![0xBEFBA292#32, 0xBDE93DC5#32, 0xBF0608A4#32],
    ![0x3D3C03B4#32, 0x3F67C526#32, 0x3F5B0C47#32],
    ![0xBF4DB420#32, 0x3F642895#32, 0xBE0BC389#32],
    ![0xBE09B715#32, 0xBF596FA1#32, 0xBEE12EE7#32],
    ![0xBE7D42D0#32, 0x3DCABE55#32, 0x3E2214AB#32],
    ![0xBEFE4C34#32, 0xBF9BE88E#32, 0xBFABEDA7#32],
    ![0x3D15DB7E#32, 0x3DABB8E2#32, 0xBFD8C229#32],
    ![0x3ECB5AAA#32, 0xBFE24D19#32, 0xBEDD2598#32],
    ![0xBF56C53F#32, 0x3F875E49#32, 0xBE9E41A2#32],
    ![0xBECC54D3#32, 0x3E8E83CC#32, 0xBF5A3FF0#32],
    ![0xBFED97D4#32, 0x3F264A60#32, 0x3F0FB981#32],
    ![0xBE1FC7DD#32, 0xBEEDF650#32, 0xBFD4C9A6#32],
    ![0x3E97E940#32, 0xBC80E172#32, 0xBF714BC1#32],
    ![0x3F20B232#32, 0x3F6AFF89#32, 0xBEAB6827#32],
    ![0xBFC0165F#32, 0x3F075C03#32, 0xBDFB1E07#32],
    ![0xBF2761EB#32, 0xBE8621E9#32, 0x3F3AB8C7#32],
    ![0x3E06618E#32, 0xBFD8BA7A#32, 0xC0267BA9#32],
    ![0xBFAC6095#32, 0xBEDB58BB#32, 0xBF03E44B#32],
    ![0xBF0FDB90#32, 0x401834C5#32, 0x3E8EC8A6#32],
    ![0xC0133C98#32, 0x3E9E7223#32, 0xBF27E965#32],
    ![0x3FA1F847#32, 0x3F264193#32, 0xBF3AE293#32],
    ![0x3F22AF65#32, 0x3E645302#32, 0x40052191#32],
    ![0x3E8AD144#32, 0x3CE16862#32, 0xBFA3DC38#32],
    ![0x3E13A8C5#32, 0x3FC0C20E#32, 0xBE1B13DA#32],
    ![0xBD69134B#32, 0x3FD7ED1E#32, 0x3E18E7D3#32],
    ![0xBC93408C#32, 0xBF6A9307#32, 0x3F479ACE#32],
    ![0x3FBB0C62#32, 0x3EAEF6A6#32, 0xBF1D9EC3#32],
    ![0x3EE0ECF8#32, 0x3F17CA8A#32, 0x3EC5E2D3#32],
    ![0xBEA8539D#32, 0xBFB3315F#32, 0x3D0650A5#32],
    ![0xBEF23329#32, 0x3DA1EBBE#32, 0xBF3ABF27#32],
    ![0x3FC01048#32, 0xBDA39A98#32, 0x3F6A00AA#32],
    ![0xBEA8F86F#32, 0x3E0894F9#32, 0x3F1BDB53#32],
    ![0xBF9D2D01#32, 0xBE845051#32, 0x3EB744E5#32],
    ![0xBF0DEB8D#32, 0x4011D917#32, 0xBDFE09A9#32],
    ![0xBDF67B30#32, 0xBECE19BA#32, 0x3ED2C88E#32],
    ![0xBFD0F7A8#32, 0x3FAC162B#32, 0x3F86A911#32],
    ![0x3E113E8C#32, 0x3EA91901#32, 0x3F2A9A12#32],
    ![0xBF07E1D3#32, 0xBFA84CD2#32, 0x3D990978#32],
    ![0x3E2ABAF4#32, 0x3F273793#32, 0xBE4AC482#32],
    ![0x3EF8524F#32, 0x3F6DA736#32, 0x3FAF9A9D#32],
    ![0xBFD761BA#32, 0xBF8F6CB4#32, 0x3DF1F89E#32],
    ![0xBEBB02BF#32, 0xBEA4FA16#32, 0x3F99641E#32],
    ![0x3EC52140#32, 0xBFC14A36#32, 0x3DD28F8B#32],
    ![0xBF3647FA#32, 0x3DB3EAF9#32, 0xBE15BD2D#32],
    ![0x3FDA79DF#32, 0x3E923DFD#32, 0xBFA591D5#32],
    ![0x3F913FD1#32, 0x3EEDA22E#32, 0x3F6006B9#32],
    ![0xBF403B6C#32, 0xBF164E77#32, 0x3FABFD67#32],
    ![0xBF5C229F#32, 0xBE8026EC#32, 0x3F5252B2#32],
    ![0xBD6546BD#32, 0x3FDFACE9#32, 0x3FC4E468#32],
    ![0x3FBD249F#32, 0xBF8DF636#32, 0xBFA12431#32],
    ![0xBEB6BBDA#32, 0xBF117194#32, 0x3F0FB861#32],
    ![0xBF4428C2#32, 0x3F088D0D#32, 0xC04F8DEA#32],
    ![0x3F6205F9#32, 0x3E17B3A5#32, 0xBF9C965A#32],
    ![0xBE2DD8E6#32, 0x3F8969B7#32, 0x3F571630#32],
    ![0x3DF9BA07#32, 0x3F618903#32, 0x3F93EFDA#32],
    ![0x3FE64C90#32, 0xBDB4B485#32, 0xBD8282D9#32],
    ![0xBF8E6DAB#32, 0x3EABCC78#32, 0x3FCBBB96#32],
    ![0x3F542854#32, 0xBF750C96#32, 0x3FF13D61#32],
    ![0xBF45214A#32, 0xBF6E5B14#32, 0xBCFAC839#32],
    ![0xBE8CC95A#32, 0xC00B496A#32, 0x3F14B246#32],
    ![0xBE67A830#32, 0xBF201799#32, 0xBF609D52#32],
    ![0x3FCDEFEB#32, 0x3F08D10C#32, 0x3E3C3DE8#32],
    ![0x3F1B96CE#32, 0x3EBEEF6D#32, 0x3F86A6FE#32],
    ![0xBE422B4D#32, 0x3EDCD52E#32, 0xBF2A266B#32],
    ![0x404233A6#32, 0xBE7D9883#32, 0x3F13D395#32],
    ![0xBF58FBCB#32, 0xBF96C5AD#32, 0x3F808114#32],
    ![0xBF3C2794#32, 0x3F5A5AC5#32, 0xBF915156#32],
    ![0x3E2C662D#32, 0xBFB2DC4C#32, 0xC00BBF2F#32],
    ![0xBF902074#32, 0xBF81375C#32, 0xBEBB4285#32],
    ![0xBF37F744#32, 0xBEA05A8E#32, 0x3EA45E9D#32],
    ![0x3EE61DA9#32, 0x4019250B#32, 0xBE7628A6#32],
    ![0x3FD15FB1#32, 0x3E8AE40A#32, 0x3F65A510#32],
    ![0x3FAE05C6#32, 0x3DAC1E72#32, 0xBF40F800#32],
    ![0x3E83E130#32, 0x3FEAEA26#32, 0x3CBAAD66#32],
    ![0xBF34F083#32, 0xBE4C847D#32, 0x3ED2B42E#32],
    ![0xBE9A180D#32, 0x3F19AE55#32, 0x3F9BD99A#32],
    ![0xBFFEA272#32, 0xBC3BB10A#32, 0x3F977F28#32],
    ![0xBEBB31F1#32, 0xBF6564EA#32, 0x3E3FEDDF#32],
    ![0xBE21096C#32, 0xBEC0D52F#32, 0x3F9FF3BF#32],
    ![0xBFD73C7E#32, 0xBFD72531#32, 0x3F5A9267#32],
    ![0x3ED6E3B8#32, 0x3F1519AF#32, 0x3E835D9E#32],
    ![0xBF8FBA1B#32, 0x3F09E67D#32, 0x3E8688D0#32],
    ![0x3F762949#32, 0x3F4C67EB#32, 0x3F4B63EC#32],
    ![0x3F328C47#32, 0xBEEAA700#32, 0x3ED93F39#32],
    ![0xBF50A970#32, 0x3FB62674#32, 0x3FE9BF22#32],
    ![0xBE495343#32, 0xBE7459B3#32, 0xBEDB6259#32],
    ![0x3F18F795#32, 0x3F99497D#32, 0xBF7753F8#32],
    ![0x3E63E4D7#32, 0x3EB7FE4C#32, 0xBF0978B2#32],
    ![0xBF81722F#32, 0x3F842507#32, 0xC00AA5FE#32],
    ![0xBF327E4E#32, 0x3F9EE79A#32, 0xBE97D96E#32],
    ![0x3FA20414#32, 0x3F296947#32, 0x3F16F3EF#32],
    ![0x3F3C5AA2#32, 0xBF7D0F54#32, 0x3FA7CAAD#32],
    ![0xBF7773BD#32, 0xC00D6EC9#32, 0xBF81305F#32],
    ![0xBF80BB84#32, 0xBF13992A#32, 0xBEBB8532#32],
    ![0xBFCF74EF#32, 0x3F825996#32, 0x4007E98D#32],
    ![0xBF9DC696#32, 0xBF525760#32, 0xBF4FCC82#32],
    ![0x3EFD4BAD#32, 0x3F639103#32, 0xBEF2031D#32],
    ![0x3FC6D185#32, 0x3D0860E4#32, 0xBF5DEDB0#32],
    ![0x3EC36A7C#32, 0xBF9BD13C#32, 0x3E7C3606#32],
    ![0xBFA55985#32, 0xBF6D423F#32, 0xBDE41767#32],
    ![0xBECC92CC#32, 0x3F975AD3#32, 0xBF94F10C#32],
    ![0x3F106D7E#32, 0xBED7F08C#32, 0x3F117D78#32],
    ![0xBF30CDB8#32, 0x3EE7286C#32, 0x3D39888D#32],
    ![0x3F755550#32, 0x3FA3C517#32, 0x3F8F060A#32],
    ![0xBF1BC7F1#32, 0x3FB4EDEA#32, 0x3C2F23F9#32],
    ![0x3FFDC90F#32, 0x3F12C663#32, 0xBCD4E371#32],
    ![0x3F26D0C6#32, 0x3F2932A5#32, 0xBE487FCE#32],
    ![0xBE97537F#32, 0x3F5F768C#32, 0xBE5D39F6#32],
    ![0x3E599F89#32, 0x3FA0A85C#32, 0xBFCC2295#32],
    ![0xBD1B171D#32, 0x3F11BD1F#32, 0xBCC31E63#32],
    ![0x3EF4C7F3#32, 0xBF245D0F#32, 0xBFFA5C15#32],
    ![0xBFA485C0#32, 0xBFBAF74D#32, 0xBD85F319#32],
    ![0xBF295BB7#32, 0x3F564BF6#32, 0xBF20EAA5#32],
    ![0xBE008028#32, 0x3F1B9115#32, 0x3F7EB2E7#32],
    ![0x3DA6A1DB#32, 0x3F9E423A#32, 0xBF96F2A4#32],
    ![0x3E3DA673#32, 0xBF8778DB#32, 0xBF529D63#32],
    ![0x3FD36B02#32, 0x3E0BD98E#32, 0x3EE216BD#32],
    ![0x3F6A095B#32, 0xBEA236CC#32, 0xBEA04C28#32],
    ![0xBF40C6DD#32, 0xBE9E49BA#32, 0xBE85F14F#32],
    ![0x3F55868F#32, 0x3F6450B3#32, 0x3EBA1678#32],
    ![0x3F3F73C3#32, 0xBE5AA854#32, 0xBF216DFC#32],
    ![0xBFEE0654#32, 0xC019A28E#32, 0x3F1DB0DD#32],
    ![0x3E8DA94D#32, 0xBD73A291#32, 0xBEFED19B#32],
    ![0x3EFCEE56#32, 0x3E014B30#32, 0xBF8281C7#32],
    ![0x3EC4D298#32, 0xBF57057C#32, 0x3F8CF088#32],
    ![0xBF202CF0#32, 0x40004E31#32, 0xBF2608F9#32],
    ![0x3F88143F#32, 0xBE185058#32, 0x3F87F9A7#32],
    ![0xBEFB39E4#32, 0x3EBB9799#32, 0xBF1C4472#32],
    ![0x3F0BD27F#32, 0x3EBCE879#32, 0xBF5A33F7#32],
    ![0xBF1A5828#32, 0xBFC3D187#32, 0x3F5D106F#32],
    ![0xBECDF3C2#32, 0xBF8E2A01#32, 0x3EFB2D97#32],
    ![0x3F85D8A7#32, 0x3F4D8FE8#32, 0xBDEE8110#32],
    ![0x3D9A601D#32, 0xBF0D3419#32, 0x3EBE4D19#32],
    ![0x3F5A9F20#32, 0x38CEF417#32, 0xBD35E3EE#32],
    ![0x3F2DF83A#32, 0x3F06556C#32, 0x3F8E92AB#32],
    ![0xBFA56616#32, 0x3F8AA39C#32, 0xBE53E08B#32],
    ![0x3E922F6D#32, 0x3F40DABF#32, 0xBEE833CF#32],
    ![0x3FAAE8C8#32, 0x4006D24B#32, 0xBF50E656#32],
    ![0xBE72878E#32, 0xBF79AEFA#32, 0xBFCBA241#32],
    ![0xBF3B4A4B#32, 0x3F2F3E18#32, 0xBF671AAA#32],
    ![0xBF5842F7#32, 0x3FC55EF2#32, 0x3FA3E23B#32],
    ![0x3FC50D84#32, 0xBF67F471#32, 0xBDD1F988#32],
    ![0xBF6B5CD0#32, 0xBEFDFB5A#32, 0xBFA3E3A5#32],
    ![0x3E2DFF28#32, 0xBE7C5CD4#32, 0x3F3E072E#32],
    ![0xBE8D4488#32, 0x3F289282#32, 0xBF06024F#32],
    ![0x3E8E63B7#32, 0xBFA8B025#32, 0x3E4434A1#32],
    ![0x3E5620AB#32, 0xBFE3BFB6#32, 0x3D2A0AC7#32],
    ![0xBEA95811#32, 0xBFACAADE#32, 0x3F086C23#32],
    ![0x3FAB066E#32, 0x3D85B4D8#32, 0xBD67B14B#32],
    ![0x3F00F92A#32, 0xBFAEFE29#32, 0xBEBBB411#32],
    ![0xBF8D91B0#32, 0x3E984DDD#32, 0x3E88A4CD#32],
    ![0x3F19389B#32, 0xBEFCAF95#32, 0x3F48781E#32],
    ![0x3ECC111F#32, 0xBFBA771C#32, 0x3F41DF60#32],
    ![0xBFAD6794#32, 0xBDC66A31#32, 0xBF15422C#32],
    ![0xBEAA0C84#32, 0xBF304848#32, 0xC000D3FD#32],
    ![0x3F099700#32, 0x3C127331#32, 0x3F05E59F#32],
    ![0xBF8D2A30#32, 0x3DD07129#32, 0x3F82E925#32],
    ![0x3F27044B#32, 0xBF1E45C4#32, 0x401E97BD#32],
    ![0xBF0D2529#32, 0x3EA157F6#32, 0x3FE42DB8#32],
    ![0x3FC0BEAE#32, 0xBF037082#32, 0x3E685759#32],
    ![0x3F7EF979#32, 0xBF3FE718#32, 0xBE90EAFD#32],
    ![0xBF6D79ED#32, 0xBECF2C40#32, 0xBEB112C8#32],
    ![0x3F81BEBB#32, 0xC0057974#32, 0xBE9EB6FB#32],
    ![0xBF2DF9A5#32, 0x3DB4F749#32, 0x401541A3#32],
    ![0xBF619C3A#32, 0xBEDBDC62#32, 0xBF5425AB#32],
    ![0xBE4E5673#32, 0xBE34AD58#32, 0x3EB3EDF2#32],
    ![0xBE9F581A#32, 0xBF073659#32, 0x3DA47523#32],
    ![0xBFB3CBF4#32, 0xBF734B8A#32, 0xBE89EDC2#32],
    ![0x3D0BBAF5#32, 0x3FF3CEA3#32, 0x3EE8B37A#32],
    ![0x3E8EFAFB#32, 0xBFA861B5#32, 0x3E0AB831#32],
    ![0x3FD8FB6F#32, 0xBFB39D55#32, 0x3F9D9374#32],
    ![0x3E7339F9#32, 0x3EDBC8A7#32, 0x3E658704#32],
    ![0xBF758B08#32, 0xBF0B5228#32, 0xBF2A0710#32],
    ![0xBF8B2B38#32, 0x3F9B196E#32, 0xBE959FC3#32],
    ![0xBF7755A1#32, 0xBF083DEF#32, 0xC02A6A1B#32],
    ![0x3FB0F66B#32, 0xBF632739#32, 0xBE92E7D6#32],
    ![0x3F330F6A#32, 0xBF93C8C4#32, 0xBEA4E790#32],
    ![0x3F80FC8D#32, 0xBFD2E241#32, 0x3F7FD6BF#32],
    ![0x3F5E512B#32, 0xBFBF13E7#32, 0x4004712C#32],
    ![0x3E4E46D2#32, 0xBEAEF577#32, 0x3FFCEFEA#32],
    ![0xBF91CC4F#32, 0x3F5D5E52#32, 0x3F3E55B5#32],
    ![0x3F0A7A9A#32, 0xBDC73567#32, 0x3F7C6895#32],
    ![0x3EAA3A59#32, 0x3F7EEFED#32, 0x3F36EC4D#32],
    ![0x3E77790A#32, 0xBE5E4C75#32, 0xBE520D07#32],
    ![0xBD550A06#32, 0x3E7F5A24#32, 0xBF0FD2F0#32],
    ![0xBFB3ED16#32, 0x3FC34ED4#32, 0xBE9D9390#32],
    ![0x3FE24BC4#32, 0xBE15968A#32, 0xC00D37E6#32],
    ![0xBF4FE56D#32, 0xBF31F7FB#32, 0xBF77E7C8#32],
    ![0xBF17D2BE#32, 0xBF5498E6#32, 0x3FB7293C#32],
    ![0x3EC5E693#32, 0xBF17681E#32, 0xBF546F1B#32],
    ![0x3DEE2714#32, 0x3F8B95B9#32, 0x3F0F7817#32],
    ![0xBF7B3A8C#32, 0xBFA76FAB#32, 0xBF4610D6#32],
    ![0xBF82312A#32, 0xC01215AF#32, 0xBF805C1A#32],
    ![0xBFC9DE0F#32, 0x3FCC35AE#32, 0xBF552F04#32],
    ![0x3F0A0B6C#32, 0x3F6234A8#32, 0xBDD712D2#32],
    ![0xBD76ED0C#32, 0xBFE8DBCF#32, 0x3F51ADBB#32],
    ![0x3F254C8F#32, 0xBF7F5F6B#32, 0x3E82CA62#32],
    ![0xBEFB855C#32, 0x3FE77396#32, 0xBF7509AC#32],
    ![0xBF64272A#32, 0x3EF6C2C4#32, 0x3F247838#32],
    ![0x3FCC5533#32, 0x3F91198E#32, 0x3F887F76#32],
    ![0x3F8C6A11#32, 0xBEADA71E#32, 0xBF078E1E#32],
    ![0xBE0B8CBE#32, 0xBF2C2212#32, 0x3FD689E8#32],
    ![0x3F108F35#32, 0xBEE5693A#32, 0xBE2BA356#32],
    ![0x4023E9DC#32, 0x3F1F816A#32, 0x3E3E760B#32],
    ![0xBFA43BC7#32, 0xBF5334C9#32, 0xBE74A468#32],
    ![0x3EEABCD3#32, 0x3EEF790F#32, 0x400723F2#32],
    ![0xBF262C8D#32, 0xBE324FEE#32, 0xBFAD50DF#32],
    ![0xBFE78F68#32, 0x3F6D8E36#32, 0x3F0C4CC5#32],
    ![0x3F405352#32, 0x3EA40D98#32, 0xBF922800#32],
    ![0xBEA2370B#32, 0x3F5127EC#32, 0xBF6214E9#32],
    ![0xBBB48B53#32, 0x3FAFC394#32, 0xBF41D28F#32],
    ![0x3F833830#32, 0x3F86165A#32, 0xBE18A01A#32],
    ![0x3FE87FA7#32, 0xBFF94308#32, 0x3F4FF0FC#32],
    ![0xBF1BFA0E#32, 0xBF9B803C#32, 0xBF5718E8#32],
    ![0x3EFED1B7#32, 0x3F7B5F36#32, 0xBFF34967#32],
    ![0x3EB09457#32, 0xBF30E0C4#32, 0xBF811990#32],
    ![0xBFAD6D77#32, 0xBB833E4F#32, 0x3ECD15E2#32],
    ![0x3FB42E7E#32, 0xBEEA0DD3#32, 0xBF8ABDC5#32],
    ![0x3CFB22D2#32, 0x3F786179#32, 0xBFC13E07#32],
    ![0xBF2E6A08#32, 0x3F87888A#32, 0x3E46FD70#32],
    ![0xBFF2605C#32, 0xBCE6D5E5#32, 0xBE920D2D#32],
    ![0x3F33C3A3#32, 0x3FC6F30D#32, 0x3F7E22B1#32],
    ![0x3F2D8DA4#32, 0x3DD520A7#32, 0xBF9F626F#32],
    ![0xBF5EF20D#32, 0x3CBC7E80#32, 0x3ED1E915#32],
    ![0x3DF77B64#32, 0xBF5CA5D2#32, 0xBE9F33A4#32],
    ![0xBEFC1032#32, 0x3E9855AE#32, 0x3EF6C89D#32],
    ![0xBF6BAFC1#32, 0xBEA9B316#32, 0xBEA020CE#32],
    ![0xBD10A633#32, 0x3DA6EF31#32, 0xBC3797F2#32],
    ![0xBD0E87CF#32, 0x3FA35338#32, 0x3F088FA0#32],
    ![0xBFA0343F#32, 0xBFEC4320#32, 0xBF7F712A#32],
    ![0xBF49394D#32, 0x3EEA6F8F#32, 0xBEB961A9#32],
    ![0x3D143165#32, 0x3F02BFB7#32, 0xBFD9C0AB#32],
    ![0x3CD78B4B#32, 0x3FCF991D#32, 0x3F0ACD8D#32],
    ![0x3F371901#32, 0x3FEA6CAC#32, 0xBF7B3319#32],
    ![0x3EDE1008#32, 0xBF1C4722#32, 0x3ECAB8B0#32],
    ![0xBE9E09EE#32, 0x3F0E7E37#32, 0x3F793CBE#32],
    ![0x3E965A56#32, 0x3F007EB3#32, 0x3FF13653#32],
    ![0x3DE5940A#32, 0x3FE33F51#32, 0xBE7FA852#32],
    ![0x400F5179#32, 0x4033B987#32, 0x3F2EED09#32],
    ![0xBF2672A9#32, 0x3E861571#32, 0xBE8A0387#32],
    ![0xBF8CBFC0#32, 0xBFEC768F#32, 0x3F9037F8#32],
    ![0x3EF35EEA#32, 0xBF5856CD#32, 0x3F32F528#32],
    ![0x3FC350E7#32, 0xBF4A6375#32, 0x3F9791D3#32],
    ![0x3E12C878#32, 0xBEC6E095#32, 0x3DEFAFD5#32],
    ![0xBF06FF2D#32, 0xBE8E48A1#32, 0x3E5E7872#32],
    ![0x3FB05C91#32, 0xBF663A22#32, 0x3F7A41F5#32],
    ![0x3FC16D61#32, 0x3F1F4ED4#32, 0x3F7B5615#32],
    ![0xBF0C212B#32, 0xBF86C3E8#32, 0x3DB3E0E8#32],
    ![0x3EB71EA6#32, 0x3E8F7C8A#32, 0xBFB09F48#32],
    ![0x3F8B1706#32, 0xBF82C0F8#32, 0x3DB8C4E8#32],
    ![0xBF1D2E88#32, 0x3F7A361D#32, 0x3FA348FE#32],
    ![0xBF385649#32, 0x3B4847E7#32, 0xBF922421#32],
    ![0xBDABF61F#32, 0xC0102E1E#32, 0x4022B17A#32],
    ![0x3FD59D50#32, 0x3F923EA5#32, 0xBF416656#32],
    ![0x3EFF4CB5#32, 0x3FBF0629#32, 0xC043652D#32],
    ![0x3F1AD34E#32, 0x3F6A2B63#32, 0x3FE3D906#32],
    ![0xBDC47A66#32, 0xBFA9BA8D#32, 0x3F180425#32],
    ![0x3E45ACDA#32, 0xBFD68E1D#32, 0xBD96D6D4#32],
    ![0x3E472796#32, 0x3F5B9086#32, 0x3F3ABCD1#32],
    ![0x3FCF99A7#32, 0xBDE67DC4#32, 0x3E59124A#32],
    ![0xBD073BED#32, 0xBFF5AE8D#32, 0x3EAFA787#32],
    ![0xBF2D3713#32, 0x3F62206F#32, 0xC00872CF#32],
    ![0x3EF65591#32, 0x3F912AD6#32, 0xBF311464#32],
    ![0x3CF31ED7#32, 0x3D9A26C5#32, 0xBFCE5BED#32],
    ![0xBED7FBCF#32, 0x3E298732#32, 0x3ED0BC0B#32],
    ![0x3F59FBB6#32, 0xBF3FC76E#32, 0xBFEB9548#32],
    ![0x3FBA6D9E#32, 0xBF3DDAE9#32, 0x3D01F08A#32],
    ![0x3E66A0AA#32, 0xBF66FDE0#32, 0xBEDC7D0F#32],
    ![0xBEE9BAB3#32, 0x3F9F5CAA#32, 0xBEEFA2AD#32],
    ![0xBEBB35CA#32, 0xBFD5F0C0#32, 0xC02489B0#32],
    ![0xBD69507E#32, 0x3F12552A#32, 0x3E30EEE7#32],
    ![0xBF90FAB7#32, 0xBF31FB92#32, 0xC01B2DCF#32],
    ![0xBF70296B#32, 0xBEDC1976#32, 0x3FA9097F#32],
    ![0xBF5FE272#32, 0xBF2C0FA9#32, 0xBC478A45#32],
    ![0xBDBCF984#32, 0xBF68D685#32, 0x3FB2D123#32],
    ![0xBFBD75D6#32, 0xBF80BDBD#32, 0x3ED912BD#32],
    ![0x3FCCF572#32, 0xBF9E2F11#32, 0x3EB6CE12#32],
    ![0x3E49E588#32, 0x3FEDDAA9#32, 0x3E6E34ED#32],
    ![0xBFA3B3C5#32, 0x3E81C7C2#32, 0x3ED6BB22#32],
    ![0x3FB87F31#32, 0xBEE7D87D#32, 0xBE3CBD05#32],
    ![0x3FC087E5#32, 0xBF0688BA#32, 0xBF5F85ED#32],
    ![0x3EBE282D#32, 0xBFBB0E06#32, 0xBF491924#32],
    ![0xBEFEB2F9#32, 0xC0028E5E#32, 0x3FB13254#32],
    ![0xBF597EAE#32, 0xBF8E2D73#32, 0x3F06DEC4#32],
    ![0xBD898379#32, 0x3F2DAA5A#32, 0xBDE66B02#32],
    ![0x3FC94849#32, 0x3E9C47C8#32, 0xBED9B12C#32],
    ![0xBFF4DB1C#32, 0xBEDE41AB#32, 0x3FE47A6E#32],
    ![0xBEC4EFA1#32, 0x3F8EA4BC#32, 0xBD729AE9#32],
    ![0xBEF69DF9#32, 0xBEB482E4#32, 0x3FAAF9A5#32],
    ![0xC0277FC6#32, 0xBF95AA23#32, 0xBF48A9C5#32],
    ![0x3F01B06E#32, 0xC02B7833#32, 0xBE7F6C49#32],
    ![0xBF8625A2#32, 0xBF9DF893#32, 0xBFFA9457#32],
    ![0x3DA1BDB3#32, 0x3EBBFB4D#32, 0xBF1AF959#32],
    ![0xBF9D3DC8#32, 0xBFEFBBFB#32, 0x3F8A4015#32],
    ![0xBEC25B6A#32, 0x3F9FC3F8#32, 0x3F659961#32],
    ![0x3F460CBA#32, 0x3FBFCF3F#32, 0xBF2CBC33#32],
    ![0x3D4281D7#32, 0xBF42D2FE#32, 0x3EBB2BF9#32],
    ![0xBFD52EFA#32, 0x3F93AEE9#32, 0x3FF8604B#32],
    ![0xBF90A7C4#32, 0xBF07D2CF#32, 0x3F3CE20B#32],
    ![0xBD816CD6#32, 0xBF36753B#32, 0xBFA5A4EB#32],
    ![0x3D94CFBF#32, 0x3FC71D10#32, 0xBFEF2AEB#32],
    ![0x3E9912B2#32, 0xBF87EC15#32, 0xBF847505#32],
    ![0xBEECEA66#32, 0xBEC66B50#32, 0x3E77721B#32],
    ![0x3F8B86A9#32, 0xBE0B2439#32, 0x3F976159#32],
    ![0x3E184918#32, 0xBFAF166E#32, 0xBD1BB2A3#32],
    ![0x3FBEADD7#32, 0xBE99965E#32, 0xC0085543#32],
    ![0x3F00E87E#32, 0x3E3F673C#32, 0x3EA80D52#32],
    ![0xBFAF3CA9#32, 0xBF106B3B#32, 0x3DB95BC4#32],
    ![0xBFE8B80A#32, 0x3F886648#32, 0x3F712AAD#32],
    ![0x3FA39E25#32, 0x3D4D37E8#32, 0x3F02D387#32],
    ![0x40035354#32, 0xBD5B2EED#32, 0x3E987CF1#32],
    ![0xBF906132#32, 0xBFF1D5F1#32, 0xBFDBF047#32],
    ![0xBF8E271F#32, 0x40031BDB#32, 0x3FFE6A79#32],
    ![0x400B2B8A#32, 0xBF514C38#32, 0xBF884D14#32],
    ![0x3EB832A7#32, 0x3D066DCC#32, 0x3F014F4E#32],
    ![0x3FB9C68A#32, 0x3FC653CF#32, 0x3F9DFC87#32],
    ![0x3F6B76E3#32, 0xBF65A102#32, 0x3FD8D625#32],
    ![0xBDB5A75B#32, 0x3DC5E51D#32, 0xBF69E1C3#32],
    ![0xBFE32B5C#32, 0x3F2EBE94#32, 0x3EB60F9A#32],
    ![0xBF20F191#32, 0xBE66853A#32, 0x3F544B18#32],
    ![0x3FCA794C#32, 0xBF8247F8#32, 0x3F78B40C#32],
    ![0x3F0CC87E#32, 0x3F5EB40D#32, 0xBF16B612#32],
    ![0x3EFA9DCC#32, 0xBEE9E94E#32, 0xBEAB7C93#32],
    ![0x3F5A4D5B#32, 0x3F28009F#32, 0x3E48D2A7#32],
    ![0xBE6028B3#32, 0xBE493B9F#32, 0xBF29CCBA#32],
    ![0x3EEEE3AA#32, 0x3F5938C1#32, 0xBF8F256B#32],
    ![0xC0042B03#32, 0x3DBB8B7F#32, 0xBF02D64F#32],
    ![0x3EFD71F6#32, 0xBF129D11#32, 0x3FC7AEF2#32],
    ![0x3E140107#32, 0x3F19EF43#32, 0x3CA540E2#32],
    ![0xBFAA1711#32, 0x3F65D6CC#32, 0x3E92EA63#32],
    ![0x3F5D0954#32, 0xBE4660CA#32, 0x3E196589#32],
    ![0xBEEC1BFA#32, 0x3EEE5614#32, 0xBEE1B770#32],
    ![0xBFA415B8#32, 0xBEC204B7#32, 0x3F8976C8#32],
    ![0x3F1D5315#32, 0xBFA2A6D6#32, 0xBF7CC293#32],
    ![0x3EF089E1#32, 0xBF8961EB#32, 0x3E54377D#32],
    ![0x3F581BE5#32, 0xBF91746D#32, 0x3F03773F#32],
    ![0x3F00C216#32, 0xBFEC1689#32, 0x3E843A05#32],
    ![0xBF8085F3#32, 0xBF0945D6#32, 0x3E2CFDB2#32],
    ![0xBF427992#32, 0x3F796CB2#32, 0xBE0B8E01#32],
    ![0xBF12BDBF#32, 0x3F7C93EE#32, 0xBFA0EEFB#32],
    ![0x3FDE0983#32, 0x3DF4F8D3#32, 0x3E8B9F8F#32],
    ![0x3F3B8827#32, 0xBCCF978A#32, 0xBDE02BAB#32],
    ![0xBE80C883#32, 0x3DC0C20F#32, 0xBF1E61DD#32],
    ![0xBF15C4E1#32, 0x3FA94375#32, 0xBDEA5531#32],
    ![0xBEF98215#32, 0xBCD4EB99#32, 0xBEF44E98#32],
    ![0xBEE7DCDE#32, 0x3FC7B544#32, 0x3E105771#32],
    ![0xBF954F8C#32, 0x3F385062#32, 0xBD869365#32],
    ![0x3F9ECD2B#32, 0xBE9EE653#32, 0xBEE3DC2A#32],
    ![0xBF276994#32, 0x3FB64350#32, 0xBF99B189#32],
    ![0xBFCFFC5F#32, 0x3D82D0F2#32, 0x3EB5C12C#32],
    ![0xBE99BC05#32, 0xBEDE82BE#32, 0x3F556404#32],
    ![0x4001C16A#32, 0x3F421222#32, 0xBEA4C476#32],
    ![0xBD3FF127#32, 0x3FBCC1D5#32, 0xBEBB9177#32],
    ![0xBEEEA76E#32, 0x3F1D7B7E#32, 0xBE703112#32],
    ![0xBEBE148D#32, 0x3EE5F6ED#32, 0xBEDB6A29#32],
    ![0xBF1AD22B#32, 0x3F8A080F#32, 0xBEAC0DE1#32],
    ![0xBFF4866F#32, 0x3E0E5086#32, 0x3F70ABBA#32],
    ![0x3F922C55#32, 0x3FC37DE5#32, 0x3ED5EDB3#32],
    ![0x3FAEC698#32, 0x3EC33B24#32, 0xBF9D4192#32],
    ![0xBFE3E8CF#32, 0xBF8C21A9#32, 0x3E56329A#32],
    ![0x3F6BF942#32, 0xBFCA29FF#32, 0xBF1E4459#32],
    ![0x3F014E8C#32, 0x3FC66E3C#32, 0xBF91F9DE#32],
    ![0xBEB32D56#32, 0xBF72FC77#32, 0x3F2289EB#32],
    ![0xBEC7F2CC#32, 0x3EA5ADED#32, 0x3FF64261#32],
    ![0x3F0DBC53#32, 0x3F3587BD#32, 0x3F482C0D#32],
    ![0xBF1C92AF#32, 0xBE701BBE#32, 0x3DA7EDD6#32],
    ![0x3F2B832D#32, 0x3EBA5F3C#32, 0xBF8FE669#32],
    ![0x3DE4DF60#32, 0xBEB5CE60#32, 0xBFE5AD4F#32],
    ![0x3FFAB79B#32, 0xBEE9F90B#32, 0x3FE03F4C#32],
    ![0xBE8CD010#32, 0xBE88CEA0#32, 0x3E20FF4F#32],
    ![0x3F12D386#32, 0xBF588C47#32, 0x3ED2532B#32],
    ![0xBF3E876F#32, 0xBF67F545#32, 0xBF912D1F#32],
    ![0xBFB2BFC7#32, 0xBF91500C#32, 0x3F0B40CC#32],
    ![0xBF7C8C35#32, 0x3F3E5BF4#32, 0x3F2543F2#32],
    ![0xBE42D9F8#32, 0xBF334043#32, 0xBF074E26#32],
    ![0xBF2006BE#32, 0x3EE2B1E9#32, 0x3F90A274#32],
    ![0x3F83BBE6#32, 0xBF2279B1#32, 0x4018D364#32],
    ![0xBEED822F#32, 0x3F8D3F65#32, 0xBF400E15#32],
    ![0xBFE9E103#32, 0xBF9EDC51#32, 0x3FFE6BF5#32],
    ![0x3F6749C9#32, 0x3FB13867#32, 0x3FDC9592#32],
    ![0xBD53FAF1#32, 0x3F9DF124#32, 0xBF1C9731#32],
    ![0xBF1C8460#32, 0x3F2E6A0C#32, 0x3EE76E43#32],
    ![0xBF1FAA12#32, 0x3F91DE6C#32, 0x3F650AE0#32],
    ![0xBF0CBA5C#32, 0x3F56AA98#32, 0x3F956A22#32],
    ![0x3F173165#32, 0x3D5AFB4F#32, 0x3E8BFF81#32],
    ![0xBF1EBB9C#32, 0xBD16091D#32, 0x3FAF9F0E#32],
    ![0xBEA3C49A#32, 0x3F37A7EF#32, 0xBF9EDA33#32],
    ![0x3F31BC58#32, 0xBF29EA53#32, 0xBF15898C#32],
    ![0xBEFDB6E2#32, 0xBE114693#32, 0x3F3A88DB#32],
    ![0x3DB0941E#32, 0xBE968BCB#32, 0xBF3160EB#32],
    ![0x3F6B3468#32, 0x3F1B5315#32, 0x3F1B86AC#32],
    ![0xBFE808DD#32, 0xBC657AF2#32, 0xC00FB2E2#32],
    ![0x3E9CE2F5#32, 0xBF270915#32, 0xBE746A8B#32],
    ![0x3ED4ABF6#32, 0x3F31C239#32, 0xBF28A330#32],
    ![0xBE4AF8EA#32, 0xBF8709BF#32, 0x3DA79FB6#32],
    ![0x3EC8F1CD#32, 0xBFD2030D#32, 0xBF355EEF#32],
    ![0xBF54689C#32, 0xBFD4B24F#32, 0x3F50CF0D#32],
    ![0x3FB2759C#32, 0xBFF1F710#32, 0x3FFB2DB4#32],
    ![0xBE96A661#32, 0x3F84C989#32, 0xBF9BD1D4#32],
    ![0x3F3F4570#32, 0xBF1B7F32#32, 0x3EF0F545#32],
    ![0x3FBBD928#32, 0xBF59DB1D#32, 0xBE272A75#32],
    ![0xBFAC95BE#32, 0xBF94DF93#32, 0xBFAA320B#32],
    ![0xBFA717FB#32, 0x3F412AB6#32, 0x3E646CC9#32],
    ![0xC00C56E3#32, 0x3E6C74E6#32, 0xBF532EC2#32],
    ![0xBF4AC890#32, 0x3F4BB9E4#32, 0xBFEBA553#32],
    ![0x3E0A37D0#32, 0x3E2C894B#32, 0x3EB43C07#32],
    ![0x3F9F0206#32, 0x3FB66BE8#32, 0x3F08A2E8#32],
    ![0xBF81D9A4#32, 0x3B1E3260#32, 0xBF62991E#32],
    ![0xBF231BF9#32, 0xBF8761B0#32, 0x3ECCBD75#32],
    ![0xBFA46051#32, 0x3F2F11C6#32, 0x3E3D0421#32],
    ![0xBF4EA4DB#32, 0x3F966946#32, 0xBF2B3831#32],
    ![0x3EE2EDCC#32, 0xBEAD44DA#32, 0xBF32D0B3#32],
    ![0x3FDC82E7#32, 0x3E98A6F3#32, 0xBFB0D156#32],
    ![0x4031EFF7#32, 0xBE850E08#32, 0x3FB090F0#32],
    ![0xBEBEEDB9#32, 0x3F82938F#32, 0x3EDB35DB#32],
    ![0xBEEB8E0C#32, 0x3F0A2AA8#32, 0x3DE857CB#32],
    ![0xBEAC4E9D#32, 0x3FA1FE3B#32, 0x3F905D5D#32],
    ![0xBF885BE4#32, 0xBFCA60CC#32, 0xBFDA251E#32],
    ![0xBE19A242#32, 0xBF70F63E#32, 0xBEDA95E3#32],
    ![0xBCE44DAF#32, 0xBF5C69A7#32, 0x3F461F5B#32],
    ![0x3F1F822E#32, 0x3F727196#32, 0x3EEB7738#32],
    ![0xBF094D0C#32, 0xBEA3A741#32, 0x3EC3B5DB#32],
    ![0x3DC4DF87#32, 0x40233E44#32, 0x3F03B4A8#32],
    ![0xBF252FDE#32, 0xBEE5EC4B#32, 0xBF4CDC83#32],
    ![0xBFBEF57C#32, 0xC0037A78#32, 0xBD57F474#32],
    ![0x3F4737A9#32, 0xBF062A17#32, 0xBE5BB658#32],
    ![0x3E18FF6E#32, 0xBF3451EA#32, 0x3EC4FA48#32],
    ![0x3FA21E83#32, 0x3E43A44E#32, 0xBF7DA310#32],
    ![0xBE078080#32, 0x3F4D0AAA#32, 0x3F2B14DE#32],
    ![0xBEBDC48B#32, 0xBE80BF2D#32, 0x3F2FDD38#32],
    ![0x3FC268DD#32, 0x3E7964BD#32, 0x3FB05658#32],
    ![0xBF37B8E4#32, 0x3EF3CB62#32, 0x3E92E5A8#32],
    ![0x3DB101E0#32, 0xBF647697#32, 0xBF0BBD01#32],
    ![0xBD365255#32, 0x3E2E74C8#32, 0xC02AFC55#32],
    ![0xBD96738C#32, 0x3DBAA4B4#32, 0x3E8CB85F#32],
    ![0x3ECFF384#32, 0xBEB788FC#32, 0xC0318E55#32],
    ![0x3F885EE8#32, 0x3F41A777#32, 0xBF6BD1E6#32],
    ![0xBF2D6217#32, 0xBF3AC535#32, 0xBEF8AE29#32],
    ![0x3F7FC7B6#32, 0x3F87FF02#32, 0x3EBB9A32#32],
    ![0x3EF8A056#32, 0xBF8D7FC0#32, 0xBFB401C4#32],
    ![0x3EEE564C#32, 0x400AF5AF#32, 0xBEF12DB1#32],
    ![0xBEA4A2ED#32, 0x3F70D99A#32, 0x3E9E0A33#32],
    ![0xC053B9B3#32, 0x3E000596#32, 0x3F09E94B#32],
    ![0xBC95F01A#32, 0x3F085766#32, 0xBFA45201#32],
    ![0xBEE6EC38#32, 0xBF821384#32, 0xBC781248#32],
    ![0x3DAAC973#32, 0x3F806591#32, 0x3F1675C1#32],
    ![0x3C924A8B#32, 0x3FDEBD55#32, 0xBF18AE0F#32],
    ![0xBF2B9C31#32, 0x3F16B7E7#32, 0xBF956C68#32],
    ![0xBF34DA3D#32, 0xBF199789#32, 0x3FF6774D#32],
    ![0xBEB3B55B#32, 0xBFA811AC#32, 0xBECB5F0E#32],
    ![0xBFEBC4CE#32, 0x4018D56E#32, 0x3F5760D7#32],
    ![0x3F2D01DF#32, 0xC01E24C3#32, 0x3F4452F5#32],
    ![0xBD162877#32, 0x3F513DCC#32, 0xBFD6683F#32],
    ![0x3F555BDC#32, 0xBEC90F39#32, 0x3F118723#32],
    ![0x3F8EEA98#32, 0xBE636B28#32, 0x3FB874D8#32],
    ![0xBFA4FE6F#32, 0xBF51E805#32, 0xBF48043F#32],
    ![0x3EF057C3#32, 0xBE176A09#32, 0x3F4C970B#32],
    ![0x3E433478#32, 0xBE352CE2#32, 0x3F525994#32],
    ![0xBF0E028D#32, 0x3F37F200#32, 0xBFAFEBF7#32],
    ![0xBE290421#32, 0x3E43282E#32, 0xBFA12E36#32],
    ![0x3EF680A8#32, 0xBF91F918#32, 0x3F255AB2#32],
    ![0x3DA842E1#32, 0xBF4DAA72#32, 0x3F354AFF#32],
    ![0x3F19D6F5#32, 0x3F8CED2C#32, 0xBD8708FE#32],
    ![0xBE39E8CF#32, 0x40198A04#32, 0xBF6CF9E3#32],
    ![0xBF801581#32, 0xBFC184A8#32, 0xBF493AA9#32],
    ![0xBF0C785E#32, 0xBE9435CD#32, 0xBF8F728F#32],
    ![0xBFCDC6CB#32, 0xBEF99735#32, 0xBF7D87A1#32],
    ![0xBF1828DC#32, 0x3FE4D01E#32, 0x4029CE70#32],
    ![0x3EC392EF#32, 0xBE2F551F#32, 0xBF8A24C5#32],
    ![0xBF28F6A4#32, 0xBF2F3F79#32, 0x3F9A24CE#32],
    ![0xBF996387#32, 0xBEB97650#32, 0xBF8E43FF#32],
    ![0x3EDE5A17#32, 0x3DFE00BE#32, 0xBF84DB42#32],
    ![0x3E5101AA#32, 0x3F720F39#32, 0x3DDC796C#32],
    ![0xC004BB5D#32, 0x3E8C67CE#32, 0xBF5B9778#32],
    ![0x3F8E0138#32, 0x3EECE4EE#32, 0x3B843032#32],
    ![0xBF2F91B0#32, 0x3EF7DC88#32, 0xBF28ABEB#32],
    ![0x3E526110#32, 0x3EB77174#32, 0xBEC7DE83#32],
    ![0x3F72F990#32, 0x3FA4669A#32, 0x3F8B065E#32],
    ![0x3F84C1F9#32, 0x3F23D44C#32, 0xBEF33EB5#32],
    ![0xBF0D3F22#32, 0x3F4E5F05#32, 0x3E979636#32],
    ![0xBF498522#32, 0xBFD3413D#32, 0x3ECF88F3#32],
    ![0xBF8B16AA#32, 0xBE16965D#32, 0xBD1A105C#32],
    ![0x3FA8BD8E#32, 0x3F0D7207#32, 0x3FF05502#32],
    ![0x3F87E363#32, 0xBDFF3B50#32, 0xBF8A5FC3#32],
    ![0xBFA4101C#32, 0x3F3B58DF#32, 0xBEFF2085#32],
    ![0x3E62384B#32, 0xBFC35F49#32, 0xBF84402D#32],
    ![0xBF92BE12#32, 0x3E4A5651#32, 0xBD37D5FE#32],
    ![0xBF930F60#32, 0xBF8E2119#32, 0x3F09EFD1#32],
    ![0xBE88A08F#32, 0xBF6D9BA2#32, 0xBE80AA51#32],
    ![0xBF9EF14F#32, 0x3F2642E1#32, 0x3DBA3695#32],
    ![0xBF6AB39A#32, 0xBD5E4B9F#32, 0x3F877C96#32],
    ![0xBE883DC8#32, 0x3ECAC202#32, 0x3E87D3E8#32],
    ![0xBF2B8F71#32, 0x3F6B1560#32, 0xBE96BD33#32],
    ![0x3FDD0353#32, 0x3BEFBAF3#32, 0xC00CDCEB#32],
    ![0x3DE55E99#32, 0x3F9BCC50#32, 0xBF42AC5E#32],
    ![0xBE6B0597#32, 0x3F960C0F#32, 0x3F895239#32],
    ![0xBE167C8C#32, 0xBE5D5C84#32, 0x3FAC88A2#32],
    ![0x3D64F3BD#32, 0x3F1F6B23#32, 0x3F9E405B#32],
    ![0x3F4BE449#32, 0xBFEF672A#32, 0xBEE2BBCA#32],
    ![0xBF42916F#32, 0x3F5EC052#32, 0x3E777CC0#32],
    ![0x3EBB20A1#32, 0x400FF925#32, 0xC02BF589#32],
    ![0x3DC23FFB#32, 0x3F851A3D#32, 0xBF4C9B6C#32],
    ![0xBFE488E9#32, 0x3E0E19F3#32, 0xBF5B933A#32],
    ![0x3E834D8D#32, 0x3E06323C#32, 0xBF838BFB#32],
    ![0x3FB94515#32, 0xBF532F24#32, 0x3EC588E7#32],
    ![0xBF90A760#32, 0x3FDD6860#32, 0xC00FB320#32],
    ![0x3EEFA1D4#32, 0xBE66EDD7#32, 0xBF6DD83D#32],
    ![0xBEB6CD2D#32, 0x3F78F670#32, 0x3F21C41C#32],
    ![0xBF48E5E3#32, 0x3FE5621B#32, 0xBE91763A#32],
    ![0xBECE97CF#32, 0xBFC1DB1B#32, 0x3FC425DE#32],
    ![0xBDB18D20#32, 0x3F169281#32, 0xBC3D290F#32],
    ![0x3EE17EE2#32, 0x3FD9409B#32, 0xBFA00876#32],
    ![0xBF034537#32, 0x3F5EA4FD#32, 0xBFD6D581#32],
    ![0xBC0809EC#32, 0x3EEEBC03#32, 0xBF6F097F#32],
    ![0x405277BB#32, 0x3F294AC4#32, 0xBAAE6591#32],
    ![0xBF7D6F32#32, 0x3F85CD34#32, 0x3E42042F#32],
    ![0xBED1BF89#32, 0xBD42D701#32, 0xBFCFC1EA#32],
    ![0x3C5B89D9#32, 0x3E2E9B54#32, 0xBFD1AE08#32],
    ![0x3F84A7EA#32, 0x3F111335#32, 0x3FD42805#32],
    ![0x3F93673C#32, 0xC0231672#32, 0xBF52AED5#32],
    ![0xBEA92196#32, 0xBFB21B5F#32, 0xBE7F5B50#32],
    ![0x3F35C5A0#32, 0x3F431644#32, 0x3F8D22B7#32],
    ![0x3CE32075#32, 0x3E6BC927#32, 0x3FAC899B#32],
    ![0x3FC403F7#32, 0x3D39FAB8#32, 0x3F5EF947#32],
    ![0xBF948593#32, 0x3FC08503#32, 0x3F8AA7A3#32],
    ![0x3DF9F028#32, 0x3F50C872#32, 0xBD8228BE#32],
    ![0x3F061A67#32, 0xBEC4DBD9#32, 0xBE1B27F9#32],
    ![0x3F827EDF#32, 0x3FF9ABCC#32, 0xBF5E03CA#32],
    ![0xBE8DAA95#32, 0x3FA682FF#32, 0xBF0281FC#32],
    ![0x3F80685B#32, 0x3EEA0CEE#32, 0x3F01C8F8#32],
    ![0x3F61DAB3#32, 0x3F6A7E7B#32, 0xBFA5989E#32],
    ![0x3E1F4AB5#32, 0x3F037BEA#32, 0x3F9D9777#32],
    ![0x3F5E56BC#32, 0xBC957541#32, 0x3FCAB66D#32],
    ![0xBFA7FB6D#32, 0xBFB4E653#32, 0xBED80545#32],
    ![0x3F1DCA08#32, 0xBEBB6B5B#32, 0x3E8714BE#32],
    ![0x3FFB970F#32, 0x3E2FA295#32, 0xBFB7FB87#32],
    ![0xBF734CBE#32, 0xBEA8CE21#32, 0x3D5557AE#32],
    ![0xBF18B8B5#32, 0xBE8ABCE4#32, 0xBF868A04#32],
    ![0x3E281F04#32, 0x3FB2D241#32, 0xBF9A4F99#32],
    ![0x3F14A87D#32, 0x400DA6E8#32, 0xBE8B75D6#32],
    ![0x40111365#32, 0x3FA02724#32, 0x3F0FC48E#32],
    ![0xBF073C68#32, 0xBF808CB2#32, 0x3F93482A#32],
    ![0xBF7E9A06#32, 0xBEB3C47A#32, 0xBF3FFE34#32],
    ![0xBDED576E#32, 0xBF985ACC#32, 0x3E149BDB#32],
    ![0x3F691D00#32, 0x3F23F995#32, 0xBF8CF393#32],
    ![0xBF905073#32, 0x3E8076E2#32, 0xBF1489DD#32],
    ![0xBEFF6D8E#32, 0x3FD3FC23#32, 0xBEABE80C#32],
    ![0xBF70F7DD#32, 0x3EDFF989#32, 0x3DD9EBB0#32],
    ![0xBEE3A259#32, 0xBF9280A6#32, 0xBD0A8D85#32],
    ![0x3F745DC1#32, 0x3FDEED5F#32, 0xBF1418E1#32],
    ![0x3EA0538A#32, 0xBF873B0C#32, 0xBB269690#32],
    ![0xBF805E67#32, 0xBF190D34#32, 0x3F9DCC85#32],
    ![0xBF1D0A75#32, 0xBECC293C#32, 0x3FB5F5B8#32],
    ![0x3F737B87#32, 0x3F0276EA#32, 0xBE10F8CD#32],
    ![0xBEE1FB0A#32, 0xBEC5B14E#32, 0x3FCD4B4C#32],
    ![0x3F37CEF3#32, 0xBDAE5D30#32, 0x3FC2D3E6#32],
    ![0x3CA83248#32, 0x3FDFC566#32, 0x3ECB09F2#32],
    ![0xBF86837C#32, 0xBF7EDFE0#32, 0x3E6C13F6#32],
    ![0xBF26B353#32, 0xBFC352EE#32, 0xBF2587F4#32],
    ![0x3D38FA28#32, 0xBFC4908D#32, 0xBF9610AE#32],
    ![0xBF89AF68#32, 0xBF9DA5C4#32, 0x3F8D56E9#32],
    ![0x3EC0E5D0#32, 0xBF8ACE31#32, 0x3F422887#32],
    ![0x3FD987F9#32, 0x3F42EA09#32, 0x3E82CC2B#32],
    ![0xBE9F9475#32, 0x3EDB0489#32, 0x3EC3F8E6#32],
    ![0x3E55A054#32, 0x3F96AA66#32, 0x3F191CDB#32],
    ![0xBF5EA1B1#32, 0x3F02D2BA#32, 0xBE87748F#32],
    ![0xBE031AEE#32, 0x3F8E32CC#32, 0xBFD16DD2#32],
    ![0x3DF23BA9#32, 0x3FE0C562#32, 0xBEA1DCFD#32],
    ![0x3FDDE7E9#32, 0xBFA6F070#32, 0x3FBB9725#32],
    ![0x3F638FA0#32, 0xBEBB9CFC#32, 0x3F13E802#32],
    ![0x3F62CC2C#32, 0xBF3428B0#32, 0x3F49ACB2#32],
    ![0x3E00E241#32, 0xBF1D093A#32, 0xBF57B2F9#32],
    ![0x3D8A05B9#32, 0x3F8238A9#32, 0xBEB37F36#32],
    ![0xBF86C11E#32, 0xBCA77049#32, 0x3F2C9176#32],
    ![0xBF7A4D91#32, 0x400C7F9E#32, 0xBEABA444#32],
    ![0x3F131DEC#32, 0xBF8DEFA9#32, 0xBE99F356#32],
    ![0xC0348B30#32, 0xBDED935D#32, 0x3E7AC26C#32],
    ![0x3FD159B0#32, 0xBCFC07F9#32, 0xBEC173F1#32],
    ![0x3F8542E7#32, 0x3E19C8E0#32, 0x3EF5FA4A#32],
    ![0x3EAE415F#32, 0x3F602FFA#32, 0xBE914EB7#32],
    ![0x3F38BE47#32, 0x3EE8D32E#32, 0xBED17715#32],
    ![0x3EBD17E5#32, 0x3D80FC5D#32, 0xBF31E038#32],
    ![0xBD678056#32, 0x3E80798D#32, 0x3F4AAD17#32],
    ![0x3E5142C5#32, 0x3F1C349A#32, 0xBDFDD88F#32],
    ![0xBE94DA0E#32, 0x3F485BBB#32, 0xC0208CEC#32],
    ![0x3DC1F97B#32, 0xBFC2E5B2#32, 0x3EA4003B#32],
    ![0xBEDDAA6E#32, 0x3F794358#32, 0xBF809E41#32],
    ![0xBF78A792#32, 0x3F2542B1#32, 0x3DDE89F4#32],
    ![0xBF9F7C7E#32, 0xBF767E3A#32, 0x3F8F75A1#32],
    ![0xBEA01F72#32, 0x3FADEEA3#32, 0x3F4060E2#32],
    ![0x3FB4B85F#32, 0xBEE2CECC#32, 0x3E8DB08B#32],
    ![0x3CEB84DE#32, 0x3EB42C9C#32, 0xBD7363CA#32],
    ![0x3E90D71E#32, 0xBF76DC38#32, 0xBF89E279#32],
    ![0x3E026F70#32, 0xBF8FECD1#32, 0x3EBBE8D4#32],
    ![0x3F8FF042#32, 0x3F292CBF#32, 0xBF5B93B5#32],
    ![0xBE230EFA#32, 0xBF1D927C#32, 0xBF05FC33#32],
    ![0xBF1E680E#32, 0xBF00012A#32, 0xBF90833D#32],
    ![0x3F008524#32, 0xBEA5E4E3#32, 0xBF654AE9#32],
    ![0x4002AA28#32, 0xBD5BE269#32, 0xBEA5A377#32],
    ![0x3E116946#32, 0xBDC84816#32, 0xBF263535#32],
    ![0x3E7DB538#32, 0xBF8D5FCD#32, 0xBDF77200#32],
    ![0x3F24F759#32, 0x3E57B0BA#32, 0xBE0C8F37#32],
    ![0xBF13A6E1#32, 0xBF9391F5#32, 0xBFE5378E#32],
    ![0x3F47F7AB#32, 0xBE34104C#32, 0x3FA9DDD9#32],
    ![0xC00B8719#32, 0x3F62082D#32, 0xBFAA153E#32],
    ![0x3E9430AC#32, 0x3F24657D#32, 0x3DC90C4F#32],
    ![0x3F989096#32, 0xBF14228E#32, 0x3F7184CC#32],
    ![0x3E607E1A#32, 0x40189073#32, 0xC03F741A#32],
    ![0x3ECAD724#32, 0x3CCABAEB#32, 0x3F453F6B#32],
    ![0xBEDED55C#32, 0x3EF0BC2D#32, 0x3F71343A#32],
    ![0x3EDA5467#32, 0xBF06C533#32, 0xBFB1DD94#32],
    ![0xC035FEBF#32, 0x3F0F813B#32, 0x3FB92970#32],
    ![0x3FD0295A#32, 0x3F9E4B96#32, 0xBFC578CC#32],
    ![0x3F3B794E#32, 0x3B943514#32, 0x3F31353F#32],
    ![0xBE412BF4#32, 0x3F9ACAFE#32, 0x3E5131A7#32],
    ![0xBF1CF878#32, 0x3FA6205B#32, 0xBE2A0044#32],
    ![0xBF08D208#32, 0x3FD7E763#32, 0x400086A2#32],
    ![0xC0013B38#32, 0x3F67F63B#32, 0xBFA09478#32],
    ![0xBF36151E#32, 0xBFC78BFC#32, 0xBF33BDFD#32],
    ![0xBE1A317D#32, 0xBF692512#32, 0xC007AD5D#32],
    ![0x3E9D2B01#32, 0x3F64220F#32, 0x3F7365AE#32],
    ![0xC00F0500#32, 0x3ED3E89B#32, 0xBF010780#32],
    ![0x3F7F3F13#32, 0xBE6CD6B1#32, 0x3EE70F93#32],
    ![0x3F0E1DB8#32, 0xBF4C7C31#32, 0x3F0BB431#32],
    ![0xBEC5E169#32, 0x3F9F3EC1#32, 0x3F598903#32],
    ![0x3FAF606B#32, 0x3F772D06#32, 0x3F1BC787#32],
    ![0x3FDB1F84#32, 0xBF108654#32, 0xBEADD68A#32],
    ![0xBE12A3A1#32, 0x3F5ABE09#32, 0xBEB8AD56#32],
    ![0xBFEA5145#32, 0x3EC59F7A#32, 0xBFDBE0B0#32],
    ![0xBED1968E#32, 0xBF0B9AAF#32, 0x3F28A32D#32],
    ![0x3F4F7FD8#32, 0x3EA38A0D#32, 0x3F490589#32],
    ![0x3F57C885#32, 0x3F81B539#32, 0x3EDC4C21#32],
    ![0xBF55DB29#32, 0xBFA2196F#32, 0x3F9218E8#32],
    ![0x40031B57#32, 0x3F8A341F#32, 0xBF0E37B7#32],
    ![0x3F2AF690#32, 0xBFE0CF63#32, 0x400E8785#32],
    ![0xBFB2C879#32, 0x3EAA70D4#32, 0x3F6F6026#32],
    ![0x3F7C6CE3#32, 0x3EF63A90#32, 0x40288993#32],
    ![0xBE9B208A#32, 0xBED2D706#32, 0x3E1D8E4A#32],
    ![0x3E8481D3#32, 0xBF659DAA#32, 0x3DCFA0FA#32],
    ![0xBF532812#32, 0x3F4BABFE#32, 0xBE1BAF15#32],
    ![0xBED0A9E4#32, 0xBF78B35E#32, 0xBED022AC#32],
    ![0xBF577320#32, 0x3ED3B008#32, 0xBED9D2D2#32],
    ![0xBF838C88#32, 0x3FA60711#32, 0xBE52F83F#32],
    ![0x3E21E145#32, 0x3FD04678#32, 0xBDA04C51#32],
    ![0xBECE3775#32, 0xBF759241#32, 0x3F4BFBCA#32],
    ![0x3F48969E#32, 0xBDC9F744#32, 0xBED00EC3#32],
    ![0x3EA20F3E#32, 0xBF9BD165#32, 0xBDCF6588#32],
    ![0xBEF47BA1#32, 0x3EFCA3BF#32, 0x3F17A121#32],
    ![0xBF6C6568#32, 0xBEE915E1#32, 0x3F8AF1D5#32],
    ![0xC0135462#32, 0xBF501E86#32, 0xBE523F6D#32],
    ![0x3F89B3A4#32, 0xBDAD3B19#32, 0x3DC787A6#32],
    ![0x3FA13941#32, 0xBE41453C#32, 0x3DCB7D76#32],
    ![0xBD440ECF#32, 0x3E96ED0A#32, 0x4017169C#32],
    ![0x3FA34EBC#32, 0x3F1000C7#32, 0xBE36BCC5#32],
    ![0x3F31B95A#32, 0xBF164AB8#32, 0x3FBB135C#32],
    ![0x3E8E9B9D#32, 0x3D910E04#32, 0xBF6F2C2F#32],
    ![0xBCB35B89#32, 0x3F1C014F#32, 0xBE398D27#32],
    ![0xBEB7CAE5#32, 0xBE9F9813#32, 0xBE2C1809#32],
    ![0xBF0D5BBA#32, 0xBF1742C7#32, 0xBF815F97#32],
    ![0xBDE17307#32, 0x3F66C8A0#32, 0xBECBB0B0#32],
    ![0xBE4F5B7A#32, 0xBF2401A0#32, 0xBF0760EE#32],
    ![0x3ECB222E#32, 0x3E8927BF#32, 0xBE4C7008#32],
    ![0x3E70A335#32, 0xBFDC7CA9#32, 0x3F87BD8D#32],
    ![0x3EE211C6#32, 0xBF939E6C#32, 0x3E861956#32],
    ![0x3D0E62F8#32, 0xBF290C1F#32, 0xBFE8A400#32],
    ![0x3ECE9B03#32, 0xBFAE26E3#32, 0xBFA897EA#32],
    ![0xBFB0F9E5#32, 0xBD6197BC#32, 0xC0360B07#32],
    ![0xC0086E71#32, 0x3EDADCEB#32, 0xBE360553#32],
    ![0x3FB46E58#32, 0xBD14C2B9#32, 0x3F5795EC#32],
    ![0x3FD38EC7#32, 0xBFC721CF#32, 0xBE8BD48D#32],
    ![0xBF0CE5F6#32, 0xBF234A24#32, 0x3E00FD93#32],
    ![0x3F90D54C#32, 0xBFCC65C0#32, 0x3E1A3923#32],
    ![0xBE688668#32, 0x3F4840CA#32, 0x3F0F5B9C#32],
    ![0x3F4A97B5#32, 0xBE35667F#32, 0xBF96580C#32],
    ![0xBF2A0C10#32, 0x3E95D465#32, 0xBD8231B0#32],
    ![0xBF1B76B8#32, 0xBF264764#32, 0x3F88702F#32],
    ![0xBE8A9392#32, 0xBFA4BAE2#32, 0x3FCF2965#32],
    ![0xBFCE1A7D#32, 0x3F909509#32, 0xBF510877#32],
    ![0xBEE36B74#32, 0x3F5E8AE5#32, 0xBF691EF7#32],
    ![0xBED0A1B8#32, 0xBF14F734#32, 0xBED860A5#32],
    ![0x3F24A125#32, 0x3EC886D7#32, 0x3C254527#32],
    ![0x3FE5BF69#32, 0x3EDDAA95#32, 0x3F4072C8#32],
    ![0xBF860D6A#32, 0x3CAAE8C3#32, 0xBFE15BF5#32],
    ![0xBFBD8BBE#32, 0xBF5A636E#32, 0xBF0D648E#32],
    ![0xBE58B992#32, 0x3E579A4D#32, 0xBE1F88E8#32],
    ![0x3F5E98A4#32, 0xBFA26DE3#32, 0x3EA40BFC#32],
    ![0x3F8EBFE5#32, 0xBE5D4812#32, 0xBF5D17B3#32],
    ![0xBF89A2FA#32, 0xBF1D3662#32, 0x3E919C03#32],
    ![0xBD1988E8#32, 0xBF107225#32, 0xBFEA2382#32],
    ![0x400663E9#32, 0x3F0A4284#32, 0x3D4A47EE#32],
    ![0x3F3ECA9C#32, 0x3F922040#32, 0x4006C2D2#32],
    ![0xBF7F25D1#32, 0x3E2DE358#32, 0xBF6A279E#32],
    ![0x40304EFF#32, 0xBE42851B#32, 0xBF5CBE36#32],
    ![0x3F33D3CD#32, 0x3F96762F#32, 0x3D874A3A#32],
    ![0x3F981398#32, 0xBF9117E3#32, 0xBF8789CC#32],
    ![0x3F983499#32, 0xBF960887#32, 0x3F284AA2#32],
    ![0xBEA20ECF#32, 0x3EBCAD27#32, 0xBF1EDCF6#32],
    ![0xBF399C88#32, 0x401F6EB7#32, 0x3DD1AC48#32],
    ![0x3D64A6DA#32, 0x3F9480A2#32, 0xBEC86041#32],
    ![0x3F5AC275#32, 0x3F34EBEC#32, 0x3FE04A1D#32],
    ![0x3F81CE09#32, 0x3E44D2D9#32, 0xBF267375#32],
    ![0x3D3E67F9#32, 0x3EBAEABE#32, 0xBD22FC0B#32],
    ![0x3F8D1C0C#32, 0x3DC19657#32, 0x3FA209F2#32],
    ![0xBF3C9CE7#32, 0xBFA6124B#32, 0xBF291D12#32],
    ![0x3FB2D7A2#32, 0xBDB8A4E6#32, 0xBF7CC697#32],
    ![0xBF5A694B#32, 0x3F73853B#32, 0xBF4C08E8#32],
    ![0x3FDB4E28#32, 0x3F22BD8F#32, 0xBF932DEE#32],
    ![0xBE97DBE3#32, 0xBE1FE916#32, 0x3F422AE8#32],
    ![0xBF2943C2#32, 0x3EE6697E#32, 0x3EDA81A9#32],
    ![0x3D3D4B7B#32, 0x3F4A59BB#32, 0xBF46A143#32],
    ![0x3E96F026#32, 0x3FB65B57#32, 0xBFA959FE#32],
    ![0xBDF5CA9C#32, 0x3FAF3F06#32, 0x3EC11ED5#32],
    ![0x3F36F155#32, 0x3E67EDA8#32, 0xBF5F4597#32],
    ![0x3F17B2B9#32, 0xBF55EB8A#32, 0xBF85012F#32],
    ![0xBED51AE2#32, 0x3EE4C3E3#32, 0xBF706BFB#32],
    ![0x3F9C3318#32, 0xBF0EA369#32, 0x3E660DE2#32],
    ![0x3EBB00D9#32, 0xBDB1BC75#32, 0xBF1A97CD#32],
    ![0x3FA7622F#32, 0xBF687795#32, 0xBE18DCDB#32],
    ![0x3FEEDC77#32, 0x3E6E1A0C#32, 0xBF45B654#32],
    ![0xBF0099BA#32, 0x3F67623B#32, 0xBFA5DD3C#32],
    ![0x3DB060DA#32, 0xBED1DABF#32, 0x3D56E444#32],
    ![0xBF7719D9#32, 0x3E6CFF48#32, 0x3FB6082D#32],
    ![0xBD80F510#32, 0xBF90EA48#32, 0x3F6F6F8E#32],
    ![0xBEB1BE17#32, 0x3F91E60D#32, 0xBEC8A35D#32],
    ![0xBF46DF72#32, 0x3EA79A8D#32, 0xBE927C59#32],
    ![0xBE583284#32, 0x3F8C8E3E#32, 0x3F1460C6#32],
    ![0xBFFC7D9D#32, 0xBF88C800#32, 0xBF558875#32],
    ![0x3DE9EFE1#32, 0x3E942C8D#32, 0x3E023800#32],
    ![0x3C2DED22#32, 0x3F372635#32, 0x3FC1E31B#32],
    ![0xBECCFD96#32, 0x3E1E46D4#32, 0x3C1693C8#32],
    ![0x3F9EE6FD#32, 0x3F7F2B80#32, 0xBF189675#32],
    ![0x3ECCDE15#32, 0xBDFB4CC0#32, 0xBE8D2984#32],
    ![0x3F2A4366#32, 0xBEC58643#32, 0x3FB13FAF#32],
    ![0xBEEB36A3#32, 0xBDC3E8AA#32, 0x3F19C58D#32],
    ![0x3F760D75#32, 0x3F34D3F1#32, 0xBE87BECA#32],
    ![0x3FC7507A#32, 0x3F9A1B59#32, 0xBF06E92C#32],
    ![0x40158E1D#32, 0x3F2979E8#32, 0x3FFA1978#32],
    ![0xC01911D2#32, 0xBFACFC68#32, 0x3F200934#32],
    ![0x40022CD3#32, 0x3F3564CA#32, 0xBFB31FD9#32],
    ![0xBF90250D#32, 0x3E87BE14#32, 0x3DEAAD6D#32],
    ![0x3F535093#32, 0xBE9E790F#32, 0xBF05B018#32],
    ![0x3F1747C2#32, 0x3F074285#32, 0xBE4BDB3F#32],
    ![0xBF9D2A32#32, 0x3F2AE429#32, 0x3F18C26D#32],
    ![0x3FF14C5E#32, 0xBDC326ED#32, 0xBF0CCC26#32],
    ![0x3F0A8AB3#32, 0xBF1388C5#32, 0x3F66E03D#32],
    ![0xBF264196#32, 0xBFB8BD2F#32, 0xBF57D8A7#32],
    ![0xBE3DA945#32, 0x3F05DC3D#32, 0x3E8EF1D2#32],
    ![0xBFB3CC5F#32, 0xBF8DED25#32, 0xBF6666DD#32],
    ![0xC001C071#32, 0xBFE51D3F#32, 0x3D13C3A9#32],
    ![0xBFA45B06#32, 0xBF4FFD27#32, 0xBE9DAA5A#32],
    ![0x3F821922#32, 0xBF15C704#32, 0x3FA6EB46#32],
    ![0xBF8C5CC0#32, 0x3FD3735B#32, 0xBFFF7B07#32],
    ![0x3F607AD8#32, 0x3D1C943E#32, 0xBF2B0D8F#32],
    ![0xBFBB834D#32, 0xBFE50382#32, 0xBE628684#32],
    ![0x3EADE381#32, 0x3F85A045#32, 0x3F2AD37A#32],
    ![0xBE97AD8F#32, 0x3F8792AD#32, 0x3F908745#32],
    ![0x4046317E#32, 0x3EB231E5#32, 0xBDB3EED4#32],
    ![0xBFBA720B#32, 0xBF906D36#32, 0x3D706FD2#32],
    ![0xC00469D3#32, 0xBF834EB5#32, 0x3F929FF2#32],
    ![0x3FD0AA51#32, 0x3FF9C86F#32, 0xBF911CD8#32],
    ![0xBF1431A2#32, 0x3F0E6FB9#32, 0xBFC45173#32],
    ![0xBF3991A7#32, 0xBF7F2C8E#32, 0x3F22F635#32],
    ![0x3F281DF2#32, 0x3F9AE3AE#32, 0x401D14E8#32],
    ![0x3ED51D77#32, 0x3CEADAF9#32, 0xBF5ECBB8#32],
    ![0x3F2CE829#32, 0x3F4B4FF2#32, 0x3FBDA628#32],
    ![0xBF5186C0#32, 0xBE077885#32, 0xBF2735C4#32],
    ![0xBE21B76E#32, 0xBF97AEF1#32, 0x3ED8A6D2#32],
    ![0x3EDE66EB#32, 0x3F035F4C#32, 0xBFD35DB2#32],
    ![0x3F78B3FB#32, 0xBFF4C259#32, 0x3EF64F19#32],
    ![0x3F1E2ABC#32, 0xBF0A11D8#32, 0xBF6342FE#32],
    ![0xBE7BE6DB#32, 0x3F9C1D16#32, 0x3DF85F98#32],
    ![0xBF847C2D#32, 0xBFB6DEE7#32, 0xBE31E878#32],
    ![0xBEF2CBB9#32, 0x3E8E4530#32, 0x4010035C#32],
    ![0x3EF6FEF4#32, 0xBF81A35F#32, 0x3F4BF488#32],
    ![0x3DEFD054#32, 0xC00A5390#32, 0xBE65BD08#32],
    ![0x3F7366C0#32, 0x3F21810A#32, 0xBEABA676#32],
    ![0xBE4F3660#32, 0x3F8AA109#32, 0xC0352F37#32],
    ![0x3EA93114#32, 0xBF429049#32, 0xBE940BB2#32],
    ![0xBE7AA3A1#32, 0xBFD04C61#32, 0xBC0BB4B1#32],
    ![0xBE272076#32, 0xBF18E2CE#32, 0x3F17B6C9#32],
    ![0x3EB25D22#32, 0x3E6BEEA4#32, 0x3D428EB3#32],
    ![0xBF7AFA56#32, 0x3F98E430#32, 0x3E11821F#32],
    ![0xBA9169F1#32, 0x3E97FC32#32, 0x3F1DF8B0#32],
    ![0xBF80D17E#32, 0xBF689B8D#32, 0xBE5CD0C4#32],
    ![0xBF440EF7#32, 0x3F99D432#32, 0xBFC05B29#32],
    ![0x3FF09CF3#32, 0xBDF5A288#32, 0xBDA9A9D7#32],
    ![0xC000701A#32, 0xBE74CBAA#32, 0x3EAE0AB7#32],
    ![0x3E95EC3A#32, 0xBF1E1781#32, 0xBE757082#32],
    ![0xBF407B1A#32, 0x3F8C40B1#32, 0x3F3C1AB6#32],
    ![0x3F2BC0D7#32, 0xBD9C3F66#32, 0x3DDBCC68#32],
    ![0xBDA6254A#32, 0xBF98D768#32, 0x3F45EB8F#32],
    ![0x3FC49C62#32, 0xBF89E3D2#32, 0x3F8A14FC#32],
    ![0x3F011418#32, 0xBEAF28F4#32, 0xBFAA0563#32],
    ![0x3F209558#32, 0x4009BF97#32, 0xBFC8687F#32],
    ![0x3F519302#32, 0x3E2EB87F#32, 0x400133A6#32],
    ![0xBF2071EA#32, 0x3F2FEC06#32, 0x3FD14B42#32],
    ![0x3EB054E9#32, 0xBCA16926#32, 0x3EEDBF19#32],
    ![0x3F5CACBB#32, 0x3FB75CC9#32, 0xBE58F1F7#32],
    ![0x3F9F43A9#32, 0x3EC00836#32, 0xBF598035#32],
    ![0x3F5A32AF#32, 0xBF1737F5#32, 0x3FCE6BC9#32],
    ![0x3E789C91#32, 0x3C2CE5EB#32, 0xBFE3ED8A#32],
    ![0x3F9F52FE#32, 0x3E00FA06#32, 0x3FEB1432#32],
    ![0x3F45E2DE#32, 0xC009333A#32, 0xBE7E0062#32],
    ![0xBE81B746#32, 0xBED7BDE9#32, 0xBF9EA9F6#32],
    ![0xBEDD5D5C#32, 0xBFA18E8F#32, 0xBE7662C8#32],
    ![0x3F675A3F#32, 0xBEB105B0#32, 0x3F31145B#32],
    ![0x3F61BC03#32, 0x3F5DF55F#32, 0x3FC5FAA2#32],
    ![0xBEC076B9#32, 0x3FBDD166#32, 0x3ED7A157#32],
    ![0xBEB37D14#32, 0xBF2BA442#32, 0x3F9564F2#32],
    ![0xBF3F6A7A#32, 0xBEF4D3C9#32, 0xBFBBCFF9#32],
    ![0x3F323196#32, 0xBF34D523#32, 0x3F35C8AD#32],
    ![0xBF2C5464#32, 0xBFA13AE4#32, 0x3F83A2D0#32],
    ![0xBF60C350#32, 0xBE530652#32, 0xBE15D6AB#32],
    ![0xBF3B2F3F#32, 0xBEADE915#32, 0x3EECE595#32],
    ![0x3E4760E8#32, 0x3DF4DB79#32, 0xBFFEF615#32],
    ![0xBF014793#32, 0xBEA9768D#32, 0x3E137AF1#32],
    ![0x3FABBB09#32, 0x3F740E56#32, 0xBF2BC2EA#32],
    ![0xBE9259A1#32, 0xBF8DFC28#32, 0x3F5D13E0#32],
    ![0x3F35856B#32, 0x3F60A674#32, 0x3FA87148#32],
    ![0xBF120DD4#32, 0xBF714AED#32, 0x3FEC227A#32],
    ![0xBEA9D2C8#32, 0xBE42DC0C#32, 0x3E1E43E5#32],
    ![0x3EC6FA53#32, 0x3F72B4ED#32, 0x40036F11#32],
    ![0xBDF8EE80#32, 0x3F995DB2#32, 0x3F35050A#32],
    ![0x3D9E46C7#32, 0xBC106E2F#32, 0x3EEC5A15#32],
    ![0xBF95D318#32, 0x3D1A5D56#32, 0xC00A68E5#32],
    ![0xBF2FEAD1#32, 0xBF8F8FFB#32, 0xBFB27481#32],
    ![0xBF2BBD65#32, 0xBF5CB765#32, 0x3EF1C414#32],
    ![0xBF5EF09F#32, 0x3E3CF762#32, 0xBFC5BA5D#32],
    ![0xBE9B31D9#32, 0x3EB13785#32, 0x3F5C662D#32],
    ![0xBF053B1A#32, 0x3FE4EB0B#32, 0xC001CD9A#32],
    ![0x3F192AE3#32, 0xBF1D8ED0#32, 0xBEA12205#32],
    ![0xBEB054B0#32, 0xBFB2EA6B#32, 0xBF5A90EE#32],
    ![0x3F8D0C5B#32, 0x3F8E69C4#32, 0x3EEA021C#32],
    ![0x3F358CE5#32, 0x3F2FD771#32, 0x4010952E#32],
    ![0xBFBF444F#32, 0xBED94DA4#32, 0xBF1EFEAE#32],
    ![0xBF952107#32, 0xBF8DC28E#32, 0x3F2643BF#32],
    ![0x3F9C3EAF#32, 0x3FB597DD#32, 0x3FE303B5#32],
    ![0xBF9CE0D3#32, 0xBEABD038#32, 0x3F0A6C41#32],
    ![0x3F9EB236#32, 0xC0068E38#32, 0x3FCDD9FE#32],
    ![0xBF47A5D6#32, 0x3F2555D8#32, 0x3FCB8288#32],
    ![0xBEF19A3E#32, 0x3F197B34#32, 0xBF754F27#32],
    ![0xBF3FE86A#32, 0xBFB8540D#32, 0x3ED68536#32],
    ![0x3F94E15C#32, 0x3F3BCF82#32, 0x3DFB2EAF#32],
    ![0x401870F9#32, 0x3EAA1AFB#32, 0xC034EB83#32],
    ![0xBF7F360C#32, 0xBE09A367#32, 0x3F20A0EF#32],
    ![0xC03EC873#32, 0x400919AA#32, 0xBF224BBC#32],
    ![0xBE449E0F#32, 0x3F818988#32, 0xBF907813#32],
    ![0x3F536B33#32, 0x3F36751D#32, 0xBF2A4425#32],
    ![0x3EBD6E28#32, 0xBEB64DCC#32, 0x3FCAF3CC#32],
    ![0x3E45A149#32, 0x3E3866E9#32, 0xBF3309E7#32],
    ![0x3E5C6E6E#32, 0x3F0E7434#32, 0xBF87AF98#32],
    ![0x3F0AF441#32, 0xBFD3F99C#32, 0x3F846065#32],
    ![0x3F52C52A#32, 0x3D12A336#32, 0x3F1E7406#32],
    ![0x3F31CC84#32, 0x3BBE0487#32, 0xBE43C13A#32],
    ![0xBF3F437D#32, 0x4004D01A#32, 0xBE532A69#32],
    ![0xBF048E1D#32, 0xBF888B8B#32, 0x3FC5B940#32],
    ![0x3FBFDB70#32, 0xBD657621#32, 0xBF3B0793#32],
    ![0x401CECB9#32, 0x3ED2FED3#32, 0x3F15376F#32],
    ![0xBF7F4AE8#32, 0x3F62D7CE#32, 0x3EFBCC68#32],
    ![0x3EE0E724#32, 0xBE0E7465#32, 0xBF10CB57#32],
    ![0xBD079818#32, 0xBFCCC2FE#32, 0xC01C2AD7#32],
    ![0xBFD6B2C6#32, 0x3FCBBC5A#32, 0xC0109233#32],
    ![0x3F371357#32, 0x3F580AAC#32, 0xBE66DF60#32],
    ![0x3F00E8F6#32, 0xBFD53A3A#32, 0xBFC5030F#32],
    ![0xBF19D325#32, 0xBEA8312E#32, 0x3EB4EEB5#32],
    ![0x3F866C07#32, 0x3D9ACB6C#32, 0x3F8E2A4D#32],
    ![0x3F8C6391#32, 0xBEB3EFF8#32, 0x3F5AF41B#32],
    ![0x3DB5CAFC#32, 0xBF580517#32, 0xBECCD1E2#32],
    ![0xBEA9AF67#32, 0xBF757687#32, 0x3EAF4CD1#32],
    ![0x3E3EF29F#32, 0xBCF1E791#32, 0xC02473BA#32],
    ![0xBEC66738#32, 0xBEDFB65E#32, 0xBF8219CC#32],
    ![0xBFD8096F#32, 0x3F8D392F#32, 0xBEFB4EF7#32],
    ![0x3EF8F4D5#32, 0x3DAC8F7D#32, 0x3FBE31BA#32],
    ![0xBF23CB27#32, 0x3F7F7536#32, 0x3EC1B66E#32],
    ![0xBFE0E0F8#32, 0xBEB937D6#32, 0x3E15669A#32],
    ![0x3EE9F448#32, 0x3FF86343#32, 0xBF270A4A#32],
    ![0xBFD61999#32, 0xBF8E3E96#32, 0x3EA4DC88#32],
    ![0x3F08A125#32, 0x3F3D0574#32, 0xBF8A4FDE#32],
    ![0x3F8788CC#32, 0xBE69038F#32, 0x3F926AE4#32],
    ![0xBEE9BCCB#32, 0x3DAFC57F#32, 0x3FA4F3B5#32],
    ![0x3D881241#32, 0x3F5F6855#32, 0xBF91142A#32],
    ![0xBF41C4F8#32, 0x401250FE#32, 0xBEE8DCAB#32],
    ![0x3FA45889#32, 0xBFF5CB7F#32, 0x3F80A6BB#32],
    ![0xBFEBB7E2#32, 0x3F948005#32, 0xBE18C19C#32],
    ![0x3EDF57C9#32, 0x3E9128D1#32, 0xBF554079#32],
    ![0xBFAC1B55#32, 0x3FE96B3B#32, 0x3FE8824F#32],
    ![0x3D3E4BBD#32, 0x3F03CB93#32, 0x3E8D4639#32],
    ![0xBE7F1282#32, 0xBDCD5FF6#32, 0xBF58DB68#32],
    ![0x3DED66CE#32, 0x3E30138D#32, 0xBE81BC55#32],
    ![0xBF0B4636#32, 0xBF1EF9EF#32, 0xBD083BBE#32],
    ![0xBEC73E45#32, 0x3E29BD47#32, 0x3D3FBF20#32],
    ![0xBFD98B25#32, 0xBED581D4#32, 0xBEF14FC9#32],
    ![0xBF5B8063#32, 0xBF9671B9#32, 0xBF4CB65B#32],
    ![0xBF970E18#32, 0xBD7310ED#32, 0xBFCE5665#32],
    ![0x401A70BB#32, 0x3F6F16A0#32, 0x3FBB001D#32],
    ![0xBF6858BD#32, 0x3F098BC2#32, 0xBEB3ED43#32],
    ![0xBF2D32E4#32, 0xBFF53994#32, 0xBFFBD92C#32],
    ![0x3F206F8A#32, 0xBF859F4D#32, 0x3F2ED17D#32],
    ![0xBFC93218#32, 0x3FFFA9D9#32, 0xBF7DEB47#32],
    ![0x3F7C4A4E#32, 0x40096706#32, 0xBE78D877#32],
    ![0xBE042971#32, 0xBFA5F8B5#32, 0x3F54FE7D#32],
    ![0x3F42E7AE#32, 0x3F418F90#32, 0xBE893658#32],
    ![0xBF840E11#32, 0x3FB11854#32, 0xBF05C6A6#32],
    ![0x3FC05A6B#32, 0xBEE380A1#32, 0xBFD2F61D#32],
    ![0xBED7F612#32, 0x3F0D7F5F#32, 0xBECE1FCC#32],
    ![0xC006F293#32, 0xBF75F6D9#32, 0x3F6FD89F#32],
    ![0xBF63E793#32, 0xBEAD3909#32, 0x3F9599AF#32],
    ![0xBFB08C7D#32, 0xBF4D74D0#32, 0xBF480322#32],
    ![0xBFDA036C#32, 0x3F432C07#32, 0x3F042667#32],
    ![0x3D3A30FB#32, 0xBF4B67B2#32, 0xBF6A3502#32],
    ![0x3F607033#32, 0xBE9EFFAF#32, 0x3F125713#32],
    ![0xBE1EACA9#32, 0x3D1F3BBB#32, 0xBF89F70C#32],
    ![0x3F3D6570#32, 0x3F824EB8#32, 0xBF62A377#32],
    ![0x3F823CE7#32, 0xBED128A6#32, 0xBE7902AA#32],
    ![0xBF5B2445#32, 0xBFACC975#32, 0x3EF41CB9#32],
    ![0xBD2D83B0#32, 0xBF929D33#32, 0xBF2FAAB1#32],
    ![0xBD45691F#32, 0xBD57D473#32, 0xBF26EE6E#32],
    ![0x3E1FC6DF#32, 0x3F40549E#32, 0x3F05B06B#32],
    ![0xBF9543F8#32, 0x3D9AE82C#32, 0x3FB17ABB#32],
    ![0x3F09A85A#32, 0xBF8CF48C#32, 0xBFB787AC#32],
    ![0xBD2759A7#32, 0x3ED42575#32, 0xBDD69892#32],
    ![0xBDAF723D#32, 0xBE82A39A#32, 0x3F81AF94#32],
    ![0xBDF1A957#32, 0x3E34E9EF#32, 0xBDDF139C#32],
    ![0xC0456E95#32, 0x3F320F1D#32, 0x3F95EE15#32],
    ![0x3FD92F55#32, 0x3D3D3493#32, 0x3F18775E#32],
    ![0x3DC87649#32, 0x3E4A235B#32, 0xBEE41A87#32],
    ![0xBFD9D134#32, 0x3F290B3B#32, 0x3D996F45#32],
    ![0xBF55C909#32, 0xBE60746F#32, 0xBF42F441#32],
    ![0xBF52F204#32, 0x3F22FBA6#32, 0xBFF5A1E5#32],
    ![0x3E0C7CE8#32, 0xBF3D5B91#32, 0x3F9F102D#32],
    ![0xBD310955#32, 0xBF050C67#32, 0x3F9B20B6#32],
    ![0xBE346D38#32, 0xBF3BD6F3#32, 0x3F573C28#32],
    ![0x3EC149F2#32, 0x3F4A0578#32, 0x3DBB3FFA#32],
    ![0xBDFBDBC3#32, 0x3EB86BB2#32, 0xBE0B87AE#32],
    ![0x40017315#32, 0xBF02F0B5#32, 0xBECA7A5B#32],
    ![0xBF1E0B1C#32, 0x3EDC24DE#32, 0xBECD25BB#32],
    ![0x3F9DD4D0#32, 0x3FA71CEF#32, 0xBDB361EB#32],
    ![0x3F1F1362#32, 0xBE77232F#32, 0xBF6B9D3E#32],
    ![0x3F8C8B2B#32, 0x40073054#32, 0x3E911E4C#32],
    ![0xBF845BDF#32, 0xBF06B426#32, 0xBF995E11#32],
    ![0x3F7F6C2A#32, 0x3F2FDFF9#32, 0x3FA40849#32],
    ![0x3F75B35A#32, 0x3EAD43E1#32, 0xBFFF1503#32],
    ![0x3E5DC3C2#32, 0xBF3EE21F#32, 0x3FC2C301#32],
    ![0xBED54700#32, 0xBD57C837#32, 0x3F95C04A#32],
    ![0xC0025793#32, 0xBF23F43B#32, 0xBDB31CE0#32],
    ![0x3F3B613C#32, 0x3F0078E6#32, 0xBF478318#32],
    ![0x3E2DC984#32, 0xBFD7E8B5#32, 0x3D7C8FA1#32],
    ![0xBE2F2CFB#32, 0x40172B9D#32, 0x3FF32240#32],
    ![0xBF06A5D3#32, 0x3D000FA8#32, 0xBFDCE14C#32],
    ![0x3F5D2590#32, 0x3D2ABBA5#32, 0xBFD06E73#32],
    ![0xBE94D64C#32, 0xBEE4D4D4#32, 0xBFB754A0#32],
    ![0xBFD9F16D#32, 0xBEA97039#32, 0x3F87CF0C#32],
    ![0x3F64811A#32, 0x4004F343#32, 0xBF063753#32],
    ![0xBE5EAA9C#32, 0x40089675#32, 0x3E3A9EBE#32],
    ![0xBDA38886#32, 0xBF2F888D#32, 0x3FA50A1D#32],
    ![0x3F414328#32, 0x40180B55#32, 0xC0145452#32],
    ![0x3E92B141#32, 0xBF39F1EB#32, 0x3EB409D2#32],
    ![0x3E5B553D#32, 0x3E683C95#32, 0x3F32ED62#32],
    ![0xBF44A780#32, 0x3EEC4CA8#32, 0xBEC6EB03#32],
    ![0x3F990C4E#32, 0x3F01D6C6#32, 0xBEE30285#32],
    ![0xBE8E6CFA#32, 0x3F3978EA#32, 0xBF224468#32],
    ![0x3F38E3D8#32, 0x3F2DAF28#32, 0x3FC9847C#32],
    ![0xBF870D5E#32, 0xBEA94E58#32, 0x3F011774#32],
    ![0xBC23EF9B#32, 0xBE1C40F9#32, 0xBF0F69B6#32],
    ![0x3F823A85#32, 0x3E4760E8#32, 0xBEE4C97D#32],
    ![0xBF0588FA#32, 0xBEA19715#32, 0xBD7A4422#32],
    ![0xBF730AA8#32, 0x3F478F64#32, 0xBF059000#32],
    ![0xBED9EF00#32, 0x3FFB07AD#32, 0x3E2AAECC#32],
    ![0x3FBFC775#32, 0x3F47623F#32, 0xBF6A3BD2#32],
    ![0xBFA7372D#32, 0xBEFADD95#32, 0x3FB7334C#32],
    ![0xBF9A3EC0#32, 0xBF91C32C#32, 0x3EEE3C1C#32],
    ![0x3F3FA70A#32, 0x3F875FCC#32, 0xBE7CFE40#32],
    ![0x3F049704#32, 0x3F830FDB#32, 0x3F7CD9E7#32],
    ![0xBE66CF8C#32, 0xBD575D38#32, 0x3DDE0819#32],
    ![0x3ED3D150#32, 0xBEDCB502#32, 0x4010FDA1#32],
    ![0xBBC122E6#32, 0xBEE6C85B#32, 0xBF1EE571#32],
    ![0x3F136EA8#32, 0xC03B7AB6#32, 0x3EDCE31B#32],
    ![0xBF1A0747#32, 0xBF80D970#32, 0xBE00187E#32],
    ![0xC01A7F76#32, 0xBFDC150A#32, 0x3FD9A4FF#32],
    ![0x3E205246#32, 0x3B6B41A0#32, 0x3FAB23AE#32],
    ![0xBF3CAACD#32, 0xBCFE15FD#32, 0xBF394AE9#32],
    ![0xBD3B10C6#32, 0x3EC82B0B#32, 0x3FAA2B54#32],
    ![0xBFDF4B47#32, 0xBF807E96#32, 0x3E36EECB#32],
    ![0x3F8757E6#32, 0x3DE01146#32, 0xBEF2B6FF#32],
    ![0x3F005C1E#32, 0x3F54309C#32, 0x3DC37E5B#32],
    ![0x3F21E8D2#32, 0x3ED2F821#32, 0x3F92E2DD#32],
    ![0x3F7B1B38#32, 0xBD1FBE04#32, 0x3F04C5BD#32],
    ![0x3F91491F#32, 0xBF556A6E#32, 0xC01D9C7D#32],
    ![0xBF873556#32, 0xBEF30E5A#32, 0xC0124002#32],
    ![0xBE2D1592#32, 0xBF8228EC#32, 0xBF665565#32],
    ![0x3F57A4E3#32, 0x3D63AEA0#32, 0xBF194216#32],
    ![0xBED464F3#32, 0xBED0789D#32, 0xBEF63EC3#32],
    ![0xBF20CA58#32, 0x3F6EA568#32, 0xBE63A107#32],
    ![0xBF766970#32, 0xBFD2E488#32, 0xBF572AC7#32],
    ![0x3F5485B2#32, 0xBF712ECE#32, 0xBFBA9BB2#32],
    ![0xBF0CB76B#32, 0xBF5678B7#32, 0xBFA0E484#32],
    ![0xBF8FB10F#32, 0xBF71FB26#32, 0x3FB0BF96#32],
    ![0xBE246278#32, 0xBE9E40E5#32, 0xBFCB7D64#32],
    ![0xBF5D5031#32, 0xBED64D2D#32, 0x40130EB8#32],
    ![0x3F4E2225#32, 0x3F7FC811#32, 0x3E4DBE4A#32],
    ![0xBE18230A#32, 0x3FA54A89#32, 0x3DA292CC#32],
    ![0xC00DC0A9#32, 0x3F8DBF5C#32, 0x3E21E051#32],
    ![0x3E7A0149#32, 0xBFEA5B5D#32, 0xBEE4E4E3#32],
    ![0xBFAB7EB9#32, 0xC013E408#32, 0x3F60266F#32],
    ![0xBCAF8052#32, 0x3EF27765#32, 0x3D89BDA6#32],
    ![0xBED53D43#32, 0xBF9D7545#32, 0xBEDE30E2#32],
    ![0x3FA39293#32, 0x3F907615#32, 0xBF263A80#32],
    ![0x3F44CCB6#32, 0xBF5D6812#32, 0x3F7AB787#32],
    ![0x3F0A9B34#32, 0xC008509F#32, 0xBF798A6F#32],
    ![0x3EE66BCB#32, 0x3EC7AF53#32, 0xBF360A05#32],
    ![0x3F3071C2#32, 0x3E45EB44#32, 0x3EF1138D#32],
    ![0x3F964BC8#32, 0x3DFD62B4#32, 0xBE17D5D2#32],
    ![0xBFBA3C0E#32, 0xC0190DD0#32, 0xBF18F074#32],
    ![0xBFB23022#32, 0x3E9FCCEE#32, 0x3E3369AF#32],
    ![0xBF744A97#32, 0x3FC9A8CB#32, 0xBF874D6F#32],
    ![0xBFE8B314#32, 0xBF6496B4#32, 0xBFF8A818#32],
    ![0xBEC16E2E#32, 0xBF9320C6#32, 0x3B5D9158#32],
    ![0xBF7379C1#32, 0x3E616603#32, 0x3E3ECC86#32],
    ![0xBFC23256#32, 0xBF9203C6#32, 0xC0335982#32],
    ![0xBE143E17#32, 0xBEB40EAD#32, 0xBF5F71CE#32],
    ![0xBDEEA8F7#32, 0xBE8DB3F1#32, 0x3F903611#32],
    ![0x3F837315#32, 0x3F479AFD#32, 0xBF58B47A#32],
    ![0xBF009136#32, 0xBFA9F8F3#32, 0xBF9EF7E9#32],
    ![0xBDC69C16#32, 0xBFA1CBB2#32, 0xC008C130#32],
    ![0x3F978512#32, 0x3FBBB26A#32, 0x3E5F44FB#32],
    ![0x3E8D951E#32, 0x3EC81DDA#32, 0x3F15CEB8#32],
    ![0xBF5BDE1E#32, 0x3D961628#32, 0xBF9FD030#32],
    ![0x3F8FBEA8#32, 0xBFE5C5E9#32, 0xBFB3E320#32],
    ![0xBEC89E3F#32, 0xBF1BC980#32, 0x3F690E44#32],
    ![0x3FA191C3#32, 0x3C62AC19#32, 0xBE539513#32],
    ![0x3FC32DED#32, 0x3E63DE03#32, 0x3F8AD6AF#32],
    ![0x3F18F96E#32, 0x3C218DD7#32, 0xBFF74FBE#32],
    ![0x3ED846C2#32, 0x3FEB23A4#32, 0xBE4D518E#32],
    ![0x3F0D8D16#32, 0xBE433046#32, 0xBED02AC1#32],
    ![0xBEB6DB13#32, 0xBF4592A8#32, 0x3F0790E1#32],
    ![0xBF49523D#32, 0xBEC059F9#32, 0x3F9F6557#32],
    ![0xBF330A6E#32, 0xBE581735#32, 0xBE16116B#32],
    ![0x3F34E278#32, 0xC00C0D10#32, 0xBF867537#32],
    ![0x3F265908#32, 0xBCB58784#32, 0x3E0075DA#32],
    ![0xBF2B5444#32, 0x3BB200D8#32, 0xBF9EDFFA#32],
    ![0xBFAABED4#32, 0xBF920F9A#32, 0xBED252A4#32],
    ![0xBE602E78#32, 0xBE47F51E#32, 0x3EC72190#32],
    ![0x3FC5571C#32, 0xBF6716A7#32, 0xBF86F282#32],
    ![0xBF489D80#32, 0xBF399A4A#32, 0xBED26792#32],
    ![0xBEF8ED67#32, 0x3F0A33B2#32, 0xBF75D3A7#32],
    ![0xBF51B660#32, 0x3F58E4D7#32, 0xBF234F1C#32],
    ![0x3F816C40#32, 0xBF8B86E3#32, 0xBEE43080#32],
    ![0xBF642502#32, 0x3EEBC5E6#32, 0x3FAAC954#32],
    ![0xBFA4551B#32, 0x3F4DF4F7#32, 0x3FE5AF58#32],
    ![0x3F47BA0C#32, 0x3FDD78AF#32, 0x3F9D0B8D#32],
    ![0x3F1BEDE7#32, 0xBFC48DF9#32, 0x3ECF56A6#32],
    ![0xBFD60850#32, 0xBF9E7B53#32, 0x3F89AA75#32],
    ![0x3F03B9CD#32, 0xBF99C7BA#32, 0xBD021D86#32],
    ![0xBD7FAB4B#32, 0x3E7363E0#32, 0x3EF48CFC#32],
    ![0xBE6301E5#32, 0x3F8F74E1#32, 0xBF838C98#32],
    ![0x3E81582E#32, 0x3F064019#32, 0xBE908E6B#32],
    ![0x3F8E7B27#32, 0xBF3CA05F#32, 0x3E0E3018#32],
    ![0xBF29E579#32, 0x3F35FB75#32, 0x3F691158#32],
    ![0xBEED7062#32, 0xBF2867D7#32, 0x3F10B465#32],
    ![0x3ED7D0CF#32, 0xBFC162E9#32, 0xBF967B78#32],
    ![0xBF2880D7#32, 0x3F220657#32, 0x3F83E528#32],
    ![0xBD2BAE38#32, 0x3E41C793#32, 0xBF56D799#32],
    ![0xBEDCF1E0#32, 0x3E9EF9A0#32, 0x3E46B613#32],
    ![0x3D0DA2C9#32, 0x3F57C2EF#32, 0xBED31907#32],
    ![0x4014C33E#32, 0x3F2E28B1#32, 0x3F087494#32],
    ![0xBF7DB5E1#32, 0xBCE764D6#32, 0xBFD697EE#32],
    ![0x3F113E60#32, 0xBF900C08#32, 0x3E72F409#32],
    ![0xBFC007F1#32, 0x3F7994A6#32, 0xBF0AB779#32],
    ![0xBECDD6EC#32, 0xBE048BDC#32, 0xBF9F87F6#32],
    ![0x400355BD#32, 0xBFA5619E#32, 0x3F8D46B0#32],
    ![0x3E90A094#32, 0x3CF58CC2#32, 0x3E8C34B0#32],
    ![0xBF8F35D1#32, 0x3F1B8111#32, 0xBF610923#32],
    ![0xC00B8841#32, 0xBF85731D#32, 0x3F951045#32],
    ![0x3DBC5D84#32, 0xBE52456D#32, 0x3F75AF4A#32],
    ![0xBEB027A3#32, 0xBF0CA0AB#32, 0x3EDF62E5#32],
    ![0x3E1A3FB6#32, 0x401825A4#32, 0x3FC91B98#32],
    ![0x3EF6F09C#32, 0xBD77AE6A#32, 0x3F318E80#32],
    ![0x3EEA14DA#32, 0x3D92539A#32, 0xC0004F04#32],
    ![0x3F91FE22#32, 0xBF23CF62#32, 0xBF959D43#32],
    ![0xBEEA7FF0#32, 0xBFE18C80#32, 0xBF172490#32],
    ![0x3D12E2DC#32, 0x3EF83867#32, 0xBCE3E45D#32],
    ![0xBFE026F1#32, 0xBF76595A#32, 0xBE61C579#32],
    ![0x3F93168C#32, 0x3DC17CB1#32, 0x3F5CDF35#32],
    ![0xBE235175#32, 0xBEBBB674#32, 0x3F42D0D5#32],
    ![0x3DE63E77#32, 0x3FA551FA#32, 0x3E33E8F6#32],
    ![0x3F063B3E#32, 0xBE53AA5C#32, 0x3DD11816#32],
    ![0x3E8E5C06#32, 0x3F46921E#32, 0xBF2FA192#32],
    ![0xBF477160#32, 0xBF1149A3#32, 0xBE833940#32],
    ![0x3F173E9D#32, 0x3E1A79A0#32, 0x3DB1F6E0#32],
    ![0xBEB16E05#32, 0x3EF76AF2#32, 0xBEE155FE#32],
    ![0xBDFA9D63#32, 0x3E3FCE25#32, 0x3F57B711#32],
    ![0x3E9940A7#32, 0x3F3BB452#32, 0xBEBB325B#32],
    ![0xBFA8BDF7#32, 0xBF4A39DF#32, 0x3E21329F#32],
    ![0x3FA33A82#32, 0xBE824AF5#32, 0x3F9D3C5C#32],
    ![0x3F139E55#32, 0xBF9C7F0A#32, 0x3F44AD7A#32],
    ![0x3F4B7476#32, 0x3EBAE2D4#32, 0x3F84E34E#32],
    ![0xBFC63EBB#32, 0xBF06A732#32, 0x3F89E61A#32],
    ![0xBFB0FE87#32, 0x3FC4C735#32, 0x3EC12BD4#32],
    ![0xBE830A25#32, 0xBE85E88F#32, 0xBEC1C00B#32],
    ![0xBF95D23D#32, 0xBFA6D8E9#32, 0x3F5D87BE#32],
    ![0x3F87E6CB#32, 0xBF1D9287#32, 0xBFA7C9CE#32],
    ![0xBE902E71#32, 0xBFA3E8F4#32, 0xBFC2C1FE#32],
    ![0x3FF03872#32, 0xBEEB0508#32, 0xBF43ED85#32],
    ![0xBF1D9E1A#32, 0xBF428C42#32, 0xBF7A146B#32],
    ![0x3FBC1A35#32, 0xBE074F46#32, 0xBFA53F8D#32],
    ![0xBF3D23ED#32, 0xBF22378E#32, 0xBF637E4F#32],
    ![0x3ED7AD69#32, 0xBF3D67AA#32, 0x3DF0FA51#32],
    ![0xBF90B7EC#32, 0x3F6AA1C2#32, 0xBED7E8F9#32],
    ![0x3EB9F721#32, 0x3F02D096#32, 0xBDB9C770#32],
    ![0xBDFF310C#32, 0x3E0A7B15#32, 0x3F5D5B14#32],
    ![0xBE32BEB7#32, 0x3F47579C#32, 0xBFB88D5A#32],
    ![0x3FA715A2#32, 0x3F96DC11#32, 0xBE74944B#32],
    ![0x3DECC093#32, 0x3D318C95#32, 0x3F97BC60#32],
    ![0x3EC147C1#32, 0xBF47ACF2#32, 0xBF435649#32],
    ![0x3BE19247#32, 0xBC957541#32, 0x4011277E#32],
    ![0xBF8B2C5F#32, 0x4003C28B#32, 0xBC549BA2#32],
    ![0xBF357C9E#32, 0x3F1DF00B#32, 0x3CE0B8D8#32],
    ![0x3E1E5A91#32, 0xBD27D9E9#32, 0xBE92F11A#32],
    ![0x3FA69E0D#32, 0x3FB20857#32, 0x3D9AA9A4#32],
    ![0xBF8DEF34#32, 0x3F3584B7#32, 0xBF799D7E#32],
    ![0x3F04D7E2#32, 0xBE60C258#32, 0x3F36E361#32],
    ![0xBFA4BA08#32, 0x3F64AD20#32, 0xBD645156#32],
    ![0xBF7444BC#32, 0xBE011DE8#32, 0x3F96B6DA#32],
    ![0xBD86B84A#32, 0xBF757B75#32, 0x3EBB20AB#32],
    ![0x3E1BF8E6#32, 0x3DC1136A#32, 0x3F0CF299#32],
    ![0xBE913E14#32, 0xBE00A478#32, 0xBFFE9A3B#32],
    ![0x3DF2BB4D#32, 0x400D8EAE#32, 0x40059934#32],
    ![0x3E9C8145#32, 0x3FBF1ED7#32, 0x3F1F8DD4#32],
    ![0xBDF16DB5#32, 0x3F8F4D62#32, 0x3F5E2BEB#32],
    ![0xBFDC2904#32, 0x3F70B88E#32, 0xBCEC5370#32],
    ![0xBFA55168#32, 0xBDC7B1C1#32, 0xBF050E72#32],
    ![0xBF85E710#32, 0xBD5A4DF4#32, 0xBF71DA12#32],
    ![0x3E632B5E#32, 0x3F674EEF#32, 0x3F5042D1#32],
    ![0xBEC98C2E#32, 0xBF2F46B9#32, 0xBEF8222E#32],
    ![0x3E599FF0#32, 0x3D459DFB#32, 0x3DABE977#32],
    ![0xBE95F060#32, 0x3F96C387#32, 0xBFBCE1B3#32],
    ![0x3C6EAB08#32, 0x3F40936F#32, 0xBF17A8E8#32],
    ![0xBD88C8F0#32, 0x3E17D958#32, 0xBE68A936#32],
    ![0x3F9B5E40#32, 0xC024175B#32, 0xC00D50B1#32],
    ![0x4003CF31#32, 0x3EE586DF#32, 0x3EC75DC5#32],
    ![0xBF170F3C#32, 0x3F27E20C#32, 0x3DF3CCE1#32],
    ![0xBF996065#32, 0xBF8C96FC#32, 0xBF4B4419#32],
    ![0x3F61ED92#32, 0x3F46582C#32, 0x3EAE6430#32],
    ![0x3F033B8F#32, 0xBF9374BD#32, 0x3EC0D222#32],
    ![0x3F5BBE82#32, 0xBF810E2F#32, 0xBF29DBEE#32],
    ![0xBF0D9F31#32, 0xBE9300BB#32, 0xBED8C47C#32],
    ![0x3F8CD81C#32, 0x3E21A526#32, 0xBFB4801B#32],
    ![0x3FE2C3EB#32, 0xBF82B4F2#32, 0x3FA3AED0#32],
    ![0xC0332028#32, 0xBFF90191#32, 0xBE43727D#32],
    ![0xBF381619#32, 0xBF045F30#32, 0xBFE532FB#32],
    ![0xBF4EDC19#32, 0x3F453ABA#32, 0xBDFA2ACC#32],
    ![0x3F520F82#32, 0xBFA87FD7#32, 0xBFB22917#32],
    ![0x3EFF9F65#32, 0xBC6B393B#32, 0xBFB33090#32],
    ![0x3E1FF253#32, 0x3F0C2E1F#32, 0x3ED022F4#32],
    ![0x3F8A7FAF#32, 0x3D8672F9#32, 0xBFA56177#32],
    ![0x3E774DA6#32, 0xBE4DAD26#32, 0x3E069EF3#32],
    ![0xBFC41A9A#32, 0x3EDA2A55#32, 0x3E1004C5#32],
    ![0xBFA8ABE0#32, 0x40338085#32, 0x3F205E4F#32],
    ![0x3ECA5DCC#32, 0xBF95C401#32, 0xBF057B12#32],
    ![0xBF51E3BF#32, 0xBF868F2B#32, 0x3F654AB8#32],
    ![0x3F603DEB#32, 0xBE5CDF99#32, 0x3F109E70#32],
    ![0xBF710F87#32, 0x3F826731#32, 0xBED1A34B#32],
    ![0xBF6FA63E#32, 0x3F38F9BB#32, 0xBF5C8BE7#32],
    ![0x3FFE6AC1#32, 0xBF5F0FC1#32, 0x3F455A4C#32],
    ![0xBF105CE1#32, 0xBC7C3938#32, 0x3FC317D4#32],
    ![0x3FDAB8F6#32, 0x3C1FDEAE#32, 0xBED52A59#32],
    ![0x3E4F2BC8#32, 0x3CA9C0EB#32, 0xBF2ABCAA#32],
    ![0xBF553ACB#32, 0x3E77B211#32, 0xBF7FFB75#32],
    ![0x3FAEB62F#32, 0xBF875508#32, 0xBEFA8415#32],
    ![0x3F456085#32, 0x3FB24A18#32, 0xBF874C25#32],
    ![0x3F70725B#32, 0x3E48A87F#32, 0xBF2765CB#32],
    ![0xBD093137#32, 0x3E92A357#32, 0x3FDBF6B1#32],
    ![0xBF3CCCCC#32, 0x3F50244A#32, 0xBF2C3953#32],
    ![0xBFCD5D6F#32, 0x3E681669#32, 0x3F764049#32],
    ![0x3F46FFB8#32, 0x3F3D9DAA#32, 0x3F7B6106#32],
    ![0x3FAD9745#32, 0x3EF5D4FA#32, 0xBF3E7F3E#32],
    ![0x3C296AC4#32, 0xBF72823B#32, 0xBF876757#32],
    ![0x3FB42587#32, 0xBC94FC4B#32, 0x3F93D26C#32],
    ![0x3EE33452#32, 0xBE1F5B7A#32, 0x3FAC12DB#32],
    ![0x3E49EFD6#32, 0x3F3A312E#32, 0xBF970075#32],
    ![0xBFE345E1#32, 0xBDC036B8#32, 0x3F460B2B#32],
    ![0x3F36CDF3#32, 0xBF9D6A8D#32, 0xBF16BE4B#32],
    ![0xBF0862BD#32, 0x3EC380F1#32, 0xBFC2368A#32],
    ![0xBCA3E052#32, 0x3F8AB2DB#32, 0x3E3EFFC5#32],
    ![0xC00DFC97#32, 0x3E45F514#32, 0x3F8E1528#32],
    ![0x3FBFB826#32, 0x3DF29D53#32, 0x3FB02F9B#32],
    ![0xBFDC6E2B#32, 0xBF234D2A#32, 0xBECF6F34#32],
    ![0x3FE8E102#32, 0xBD7399C9#32, 0xBF562C7C#32],
    ![0x3F5A9E6B#32, 0xBF378EED#32, 0x3E892314#32],
    ![0x3F919876#32, 0xBDABC71C#32, 0xBF66398C#32],
    ![0xBFD0CB3D#32, 0x3FB12410#32, 0x3FC28D5A#32],
    ![0xBF213D1E#32, 0x3F4E9266#32, 0xBEB012E8#32],
    ![0xBEB759F6#32, 0x3FD14BD0#32, 0x3F7F50F9#32],
    ![0xBEF1BE04#32, 0x3DC389FE#32, 0x3EE7BCB3#32],
    ![0xBFA2AE5E#32, 0xBE8922BB#32, 0xBDFE36A6#32],
    ![0x3E458171#32, 0xBF9C5A4E#32, 0x3EF8E033#32],
    ![0x3FD06D8C#32, 0xBEABDA40#32, 0x3EE3A494#32],
    ![0xBE88B542#32, 0x3EEC2330#32, 0x3F1D83A1#32],
    ![0xBDC98E1B#32, 0xBDB08039#32, 0x3FC6E20C#32],
    ![0xBF6D665B#32, 0x3F1A0C9E#32, 0x3D84A953#32],
    ![0xBE3A519B#32, 0xBE82636E#32, 0x3F709569#32],
    ![0x3F31B0CD#32, 0xBE567DBE#32, 0xBFEACB2F#32],
    ![0x3F2B10E7#32, 0x3ED07F5C#32, 0xBFA0864C#32],
    ![0xBED6FC76#32, 0xBEC5C2A5#32, 0xBDEC3421#32],
    ![0xBF292F83#32, 0xBF64AAD8#32, 0x3E8D4728#32],
    ![0xBFBDDA44#32, 0xBEDC38E9#32, 0x3EC3F381#32],
    ![0x3E761E49#32, 0x3F31636A#32, 0x3F4B3E9D#32],
    ![0x3FFC3010#32, 0xBFD925DB#32, 0xBE8BDC84#32],
    ![0x3F3842E2#32, 0x3D3BC9AC#32, 0x3F8CDB69#32],
    ![0xBD8FFBE0#32, 0xBF8D07F6#32, 0x3FD840A9#32],
    ![0xC0023990#32, 0xBF21F8B7#32, 0xBFBB9FF5#32],
    ![0x40003B83#32, 0x3F115E38#32, 0x3FA39AED#32],
    ![0x3FCB07D7#32, 0xBF93AA19#32, 0x3D1BED1E#32],
    ![0xBDCB7767#32, 0xBF1A0CCB#32, 0x3F508C01#32],
    ![0x3F0F1921#32, 0xBC85B4BE#32, 0x3F1659BC#32],
    ![0xBE7801B7#32, 0x3F82A184#32, 0x4007E424#32],
    ![0xBF2789BE#32, 0xBF1CCB21#32, 0xBE72559C#32],
    ![0xBEAEFE84#32, 0x3EB4357C#32, 0x3F93CD15#32],
    ![0x3EA1D0D3#32, 0xC0066604#32, 0xBE9E1C6A#32],
    ![0x3F575675#32, 0xBFC32DA1#32, 0x3F512426#32],
    ![0x3EB620F7#32, 0x3FB7456A#32, 0xBF3D23A5#32],
    ![0xBF4AC82B#32, 0xC00B477B#32, 0xBF360241#32],
    ![0xBF495207#32, 0xBDB0261F#32, 0xBF7AEC8E#32],
    ![0xBCC9DE95#32, 0xC01104BE#32, 0xBFD47D09#32],
    ![0xBDFB1190#32, 0x3F496E1D#32, 0xBFCBB469#32],
    ![0xBE1AA2A1#32, 0x3EE62AF7#32, 0x3DBA8D95#32],
    ![0x3F349374#32, 0x3FCF34F8#32, 0x3F02D1BF#32],
    ![0x3F7EAEEA#32, 0x3ED0B0DA#32, 0xC0097289#32],
    ![0xBF5E6AE2#32, 0xBFC6A1CA#32, 0x3D5FA4F4#32],
    ![0x3FBCC7FE#32, 0x3EA0136B#32, 0x3E8F0A75#32],
    ![0x3FC5B871#32, 0xBE67ABCD#32, 0xBF9E9CFB#32],
    ![0x3F13F51B#32, 0xBF6171E2#32, 0x3FB30064#32],
    ![0xBF5ED5C9#32, 0xBF2067AA#32, 0xBFAB8734#32],
    ![0xBFC0CE12#32, 0xBF529499#32, 0x3EB9C62E#32],
    ![0xBF11C796#32, 0xBF869DB0#32, 0xBE2CE81F#32],
    ![0xBD8AB16D#32, 0x3DB3B87E#32, 0xBF6FD783#32],
    ![0x3E83CC60#32, 0x3DC7AC02#32, 0x3E519470#32],
    ![0x3FA33C9A#32, 0xBF55848C#32, 0xBE96892E#32],
    ![0xBEF6365D#32, 0xBE8F2D6A#32, 0x3CBF418F#32],
    ![0xBF8228F3#32, 0x3E6F5E6B#32, 0x3EF35DF2#32],
    ![0x3F7A1DD7#32, 0x3E9676CC#32, 0xBFDC1B4E#32],
    ![0x3E0B1472#32, 0xBF5C6297#32, 0x3E887A44#32],
    ![0x3F07390A#32, 0xBF5A8114#32, 0xBE96B7ED#32],
    ![0x3F87D7DD#32, 0xBE1B68F4#32, 0x3F21E73D#32],
    ![0xBFDB6029#32, 0x3F1E28C5#32, 0x3F2D8178#32],
    ![0xBFD61BAA#32, 0xBDA791F5#32, 0x3F8F9305#32],
    ![0xBE0295EF#32, 0x3E7D59B7#32, 0x3F9A521E#32],
    ![0x3F821542#32, 0x3FE89F55#32, 0x3D373EFA#32],
    ![0x3FFB300F#32, 0xBD47A1DB#32, 0x3F14C54E#32],
    ![0xBFFA785A#32, 0x3FFB05EF#32, 0xBF914E56#32],
    ![0x3F9CAA51#32, 0xBFEB3B05#32, 0x3FE70932#32],
    ![0xBE986B66#32, 0x3F2BD965#32, 0xBFD66283#32],
    ![0xBE8DE814#32, 0xBF4A5763#32, 0xBF6C50FD#32],
    ![0xBF669E87#32, 0xBECB0FAF#32, 0xBDD4EC47#32] ]
noncomputable def arg1 {F : FTy → Type} [FloatOps F] : FVec F (⟨2, ![10000, 3]⟩ : Shape) .f32 := fun i => FloatOps.ofBits .f32 (arg1_words (i 0) (i 1))

noncomputable def arg2_words : Fin 128 → Fin 3 → Fin 3 → BitVec 32 :=
  ![
    ![
      ![0xBF1F37B2#32, 0x3F1FF329#32, 0x3FD74E51#32],
      ![0xBF4ED9ED#32, 0xC017701C#32, 0x3F655CBD#32],
      ![0x3FBB3D47#32, 0xBF187492#32, 0x3F9AC834#32] ],
    ![
      ![0x3FBCE57F#32, 0xBFDF43CB#32, 0xBEF0BB52#32],
      ![0xBF45C5C4#32, 0xBF786BEC#32, 0x40062749#32],
      ![0x3E6F379E#32, 0x3F0BA9DB#32, 0xBF785B9F#32] ],
    ![
      ![0x3F4DEA1D#32, 0x3F08E080#32, 0x3FC7673B#32],
      ![0xBEC120CA#32, 0xBF7071C5#32, 0xBF039BD6#32],
      ![0xC011D571#32, 0xBFC510AC#32, 0x3F425E85#32] ],
    ![
      ![0x3ED0BAE5#32, 0xBF01AD75#32, 0x3F8975E4#32],
      ![0xBF715DBE#32, 0xBFFAF84E#32, 0x3F12F13C#32],
      ![0x3FA6971C#32, 0x401A3C5D#32, 0xBFB5AEBA#32] ],
    ![
      ![0x3EEF5392#32, 0x3EF55CED#32, 0xBE777399#32],
      ![0xBEC25FD4#32, 0xBFF3AE60#32, 0xBFD79860#32],
      ![0x3F0DB5A9#32, 0x3E7F93EC#32, 0x3F9A598D#32] ],
    ![
      ![0xBE205250#32, 0xBD2EE06D#32, 0xBDFB7A88#32],
      ![0x3ED28F19#32, 0x3EABE7DC#32, 0x3F09F01C#32],
      ![0x3F147AB3#32, 0xBF982482#32, 0x402E7FFA#32] ],
    ![
      ![0x3F0BC321#32, 0x3E610F57#32, 0xBEE8BB24#32],
      ![0xC02064BB#32, 0x3E20D164#32, 0x3F2EF6A9#32],
      ![0xBF60E5E0#32, 0xBF3059E1#32, 0x3F612721#32] ],
    ![
      ![0xBE06CD35#32, 0x3D9C728A#32, 0xBF4F5492#32],
      ![0x3F4A02CC#32, 0xBF3E35D0#32, 0xBF3B3BA0#32],
      ![0x3E05F995#32, 0x3C8A9628#32, 0xBF0550A1#32] ],
    ![
      ![0xBEE4013A#32, 0x3E8C24E9#32, 0xBED3EC20#32],
      ![0x3F8023E7#32, 0x3F8E57D7#32, 0x3F9118B3#32],
      ![0x3EA4F3B6#32, 0x3F4B405C#32, 0xBE8ACB46#32] ],
    ![
      ![0x3FA0F7A6#32, 0xBED175E4#32, 0xBF3AA5DB#32],
      ![0x3F31C7E1#32, 0xBFA3158A#32, 0x3F5196C9#32],
      ![0xBE728DAD#32, 0xBDCC2F9C#32, 0xBEEF784C#32] ],
    ![
      ![0x3F0AEE79#32, 0x3E61FEA9#32, 0x3ED948D2#32],
      ![0x3DA32B3E#32, 0xBF807552#32, 0x3FC89CE1#32],
      ![0xBF281DC3#32, 0x3F1F556A#32, 0xBF9DA94D#32] ],
    ![
      ![0x3EFC2A90#32, 0x401CC5C2#32, 0x3E9703BD#32],
      ![0xBF5EF332#32, 0xBFBA8178#32, 0x3F7A4641#32],
      ![0x3ED0D89A#32, 0xBDFB8779#32, 0xBFDD24BB#32] ],
    ![
      ![0x3F837290#32, 0x3F1E2370#32, 0x3E909FC3#32],
      ![0x3E7A12CC#32, 0xBFB496EE#32, 0xBF1B2CAE#32],
      ![0xBF57279A#32, 0xBE44BB2F#32, 0xBE2537DB#32] ],
    ![
      ![0xBE324334#32, 0x3F4464C7#32, 0xBF378008#32],
      ![0x3CED6294#32, 0xBE1B7D00#32, 0xBEDCB43C#32],
      ![0xBF5FD71B#32, 0x3FB42E70#32, 0xBF8FB698#32] ],
    ![
      ![0xBFBF98FB#32, 0xBEAD5473#32, 0xBF6F01B6#32],
      ![0xBF1FBBBF#32, 0x3F875903#32, 0xBDC9F02E#32],
      ![0xBECE174F#32, 0xBF05E4EA#32, 0xBF5CE186#32] ],
    ![
      ![0x3DBD1223#32, 0x3F078C49#32, 0x3FB407E3#32],
      ![0x3F682DDF#32, 0xBFC7B6F8#32, 0x3E7E0006#32],
      ![0xBF8938F6#32, 0xBF1D7720#32, 0x3F70208E#32] ],
    ![
      ![0xBEA4AE6F#32, 0x3F16098E#32, 0xBFA52C6F#32],
      ![0xBF5448C9#32, 0xBF2DCFE4#32, 0x3F2911FA#32],
      ![0xBF7CC838#32, 0xBF14FA02#32, 0xBF610B55#32] ],
    ![
      ![0xBBDDA659#32, 0x3DFAEBEA#32, 0xBC9810C3#32],
      ![0x3F1D4644#32, 0x3F0AB14B#32, 0xBE9F8063#32],
      ![0x3F3EDA9C#32, 0xBF461B68#32, 0xBED3619C#32] ],
    ![
      ![0xBF734D53#32, 0xBEB5A05E#32, 0x3E24795E#32],
      ![0x3FB1B183#32, 0x3F98C14C#32, 0xBFF02C92#32],
      ![0x3F50F465#32, 0x3F923276#32, 0xBE88B52D#32] ],
    ![
      ![0xBF1DEA77#32, 0x3F2A5D97#32, 0xBF83AE9F#32],
      ![0x3E9C1771#32, 0x3EE67696#32, 0xBFBBA9BC#32],
      ![0x3EAA5330#32, 0xBF1F2F4E#32, 0xBEDEF4D6#32] ],
    ![
      ![0x3EC51463#32, 0x3ED79BFE#32, 0xBE469763#32],
      ![0xBE76921D#32, 0x3ED831FD#32, 0xBDD520E3#32],
      ![0xBEBCD8E7#32, 0x3E6F8713#32, 0xC0077207#32] ],
    ![
      ![0x3DF872AF#32, 0xBF8C497F#32, 0xBE40C489#32],
      ![0xBEE1E65E#32, 0xBF37ADB9#32, 0xBF18C37E#32],
      ![0x3F310443#32, 0x3CE404A6#32, 0xBEF65888#32] ],
    ![
      ![0x3F9A427C#32, 0xBF9693DE#32, 0x3F8AF8FA#32],
      ![0x3B4997CC#32, 0xBE8F1724#32, 0xBEE90947#32],
      ![0x3F8114F2#32, 0xBE36D322#32, 0xBED81092#32] ],
    ![
      ![0xC0226724#32, 0xBE981A62#32, 0xBE92A4E9#32],
      ![0x3DAD2022#32, 0xBF66B364#32, 0x3F6BE20D#32],
      ![0x3F347828#32, 0x3F04EE79#32, 0xBF3387A1#32] ],
    ![
      ![0x3E4CC4C6#32, 0xBFB6EF52#32, 0x3EBCA856#32],
      ![0x3EEDA7C2#32, 0xBFFC6A2C#32, 0x3E70951F#32],
      ![0x3E84E89F#32, 0xBEBC6DC2#32, 0x3FFBEA0A#32] ],
    ![
      ![0x3DE826EA#32, 0xBF37273C#32, 0x3F849AAE#32],
      ![0xBF83D2A0#32, 0x3E9A5F6D#32, 0x3EE185E0#32],
      ![0x3C3AD28F#32, 0xBFB363F5#32, 0xBFEC2BC0#32] ],
    ![
      ![0x3D73A8B0#32, 0x3F5489F3#32, 0xBE818E64#32],
      ![0xBF8C9E6B#32, 0xBF8CCA06#32, 0xBF72F700#32],
      ![0x3F2F34DD#32, 0x4005B36B#32, 0x3E7791A5#32] ],
    ![
      ![0x3E0C21D2#32, 0xBE1BBF53#32, 0x3E5F6525#32],
      ![0x3F345524#32, 0xBF3D6611#32, 0xBF02F937#32],
      ![0xBDA4EE8D#32, 0xBE676C79#32, 0x3F49236C#32] ],
    ![
      ![0x3F096E1F#32, 0xBED39519#32, 0xBE2060E7#32],
      ![0x3EBB1896#32, 0x3EA9B17E#32, 0x3E21361D#32],
      ![0xBF7EC3F0#32, 0xBE2CF0C9#32, 0x4006E33D#32] ],
    ![
      ![0x3DE9A7A7#32, 0x3F2F13C7#32, 0x3E421A47#32],
      ![0x3FCDA581#32, 0xBF1980F5#32, 0x3F3E6E29#32],
      ![0x3FD3D90D#32, 0xBF863387#32, 0xBE51A3AD#32] ],
    ![
      ![0x3FB9F346#32, 0x3EDB4698#32, 0xBE9F2609#32],
      ![0xC0220C29#32, 0xBE574641#32, 0xBE8A8D08#32],
      ![0x3FA3C38A#32, 0x3FA720AC#32, 0xBE2FCC34#32] ],
    ![
      ![0x3FC3B070#32, 0x3F006EEE#32, 0x3F64B49A#32],
      ![0x3EAA6F41#32, 0xBFB6F054#32, 0x3F418663#32],
      ![0x3FAE0102#32, 0xBFC0EBB6#32, 0xBFD46165#32] ],
    ![
      ![0x3E25FCCC#32, 0xBFC18273#32, 0x3EB46A7D#32],
      ![0x3F9F2D19#32, 0x3FE93B03#32, 0xBE65CEDD#32],
      ![0xBF4F9C18#32, 0xBE90E3F0#32, 0xBEA80B66#32] ],
    ![
      ![0x3F9C81D7#32, 0x3F852476#32, 0x3E6AD03B#32],
      ![0x3E180351#32, 0xBF797BC2#32, 0xBEFC3B63#32],
      ![0xBEF8E86C#32, 0xBE029A47#32, 0x3EFA1E24#32] ],
    ![
      ![0x3FBF3CCC#32, 0x3EDB3D46#32, 0xBEF3BFB0#32],
      ![0xBF7CED38#32, 0x3E649355#32, 0x3F9BBA3F#32],
      ![0x3D1FF87F#32, 0xBF04C338#32, 0xBFA4316A#32] ],
    ![
      ![0x3F32892E#32, 0xBF39B902#32, 0x3FB6FE2F#32],
      ![0xBD479CD5#32, 0xC00CE155#32, 0x3F7C39DC#32],
      ![0x3F93041E#32, 0xBFAD9AB8#32, 0x3F08BE36#32] ],
    ![
      ![0x3EA62F36#32, 0xBF665C62#32, 0xBCD2C494#32],
      ![0x3F022912#32, 0xBF6F2736#32, 0x3CDDDF26#32],
      ![0xBE942DD6#32, 0x3EE2C7DC#32, 0xBE9DFE8E#32] ],
    ![
      ![0xBD52D5E7#32, 0x3F876AEE#32, 0x3EF8F8C1#32],
      ![0xBFD7FA4D#32, 0xC003D50C#32, 0xBF4D0CF9#32],
      ![0x3F08D8CC#32, 0xC001F8A2#32, 0x3FD9E0F9#32] ],
    ![
      ![0x3F020811#32, 0x3F913F25#32, 0x3DD606C9#32],
      ![0x3DA19C39#32, 0x3FD71EDD#32, 0xBDD7DB33#32],
      ![0xBF3213C3#32, 0xBF2D7998#32, 0xBDE1027E#32] ],
    ![
      ![0xBF43BEA1#32, 0xBECFECD2#32, 0x3F824FD6#32],
      ![0x3F289BD9#32, 0x3E21F51A#32, 0xBF06F2C2#32],
      ![0xBED8CB2B#32, 0x3F935E5D#32, 0x3ECDC857#32] ],
    ![
      ![0x3EBF8E61#32, 0x3FB120B9#32, 0xBFB5F122#32],
      ![0xBEC07617#32, 0xBF45AD70#32, 0xBE3AEE6E#32],
      ![0xC011685B#32, 0xBF4A334B#32, 0xC00BAC67#32] ],
    ![
      ![0xBEAFC3A2#32, 0xBE295296#32, 0xBE53ED82#32],
      ![0xBE9B546B#32, 0x3E20563D#32, 0x3F39D009#32],
      ![0xBD2251C4#32, 0x3D788E13#32, 0x3EBF35ED#32] ],
    ![
      ![0xBF8FF67F#32, 0x3EEB4B09#32, 0x3FC72CDD#32],
      ![0xBF604A15#32, 0xBF0780BD#32, 0x3EBC4CA2#32],
      ![0xBFC00B2B#32, 0xBEAB8B48#32, 0x3E78BFD1#32] ],
    ![
      ![0x3F000D39#32, 0xBED0CA11#32, 0x3F9CD0E7#32],
      ![0xBEE407D7#32, 0xBE42D8DA#32, 0x3FAD64AD#32],
      ![0x3F5CC05B#32, 0x3FB165F3#32, 0x3E9F0A8E#32] ],
    ![
      ![0xBE454409#32, 0xBE0D87FF#32, 0xBC12ED66#32],
      ![0xBF4E53D2#32, 0x3F8A7D02#32, 0xBF601A17#32],
      ![0xC01B25AB#32, 0xBFA56535#32, 0xBF1110FD#32] ],
    ![
      ![0x3ECE82A1#32, 0xBDA31489#32, 0x3EDD4EFB#32],
      ![0x3F565DC8#32, 0x3F883B78#32, 0x3F2070A3#32],
      ![0xBCDD163B#32, 0xC0081CE8#32, 0x3FE64D80#32] ],
    ![
      ![0xBFAF8FDD#32, 0xBEC4A909#32, 0xBE03E80B#32],
      ![0x3FA3F225#32, 0x3E139FBE#32, 0xBF9CA915#32],
      ![0x3F768E79#32, 0x3F27F0A5#32, 0x3EF46037#32] ],
    ![
      ![0x3F71B6A0#32, 0xBE4D058D#32, 0xBE857455#32],
      ![0x3EF8C0C7#32, 0xBF64EE42#32, 0x3F364F4E#32],
      ![0x3E722E56#32, 0x3F22E87E#32, 0xBEE7099D#32] ],
    ![
      ![0x3E875CEF#32, 0xBFC0D1CF#32, 0xBE981E46#32],
      ![0xBF6950E1#32, 0x3E64B61C#32, 0xBDA396D3#32],
      ![0xBF8792C5#32, 0x3F9587E5#32, 0xBE009994#32] ],
    ![
      ![0x3F78C2BD#32, 0x3E9FD04D#32, 0xBC473148#32],
      ![0x3FE39BD3#32, 0xBF00918C#32, 0xBEF9471F#32],
      ![0xBF2A4C99#32, 0xBE7CEDF0#32, 0xBE09B90F#32] ],
    ![
      ![0xBE7EF9A1#32, 0xBF25F137#32, 0x3EE5DF0E#32],
      ![0x3EB2DA01#32, 0xBF3D35E3#32, 0xBF1496DD#32],
      ![0x3F228EB0#32, 0xBDB808DB#32, 0xBF290D9A#32] ],
    ![
      ![0x3FA9CE57#32, 0xC007C504#32, 0x3E3D83C7#32],
      ![0x3EBE2EB7#32, 0xBF3BC0F5#32, 0x3D92F6F4#32],
      ![0xBEE545B9#32, 0x3F4D2AC9#32, 0x3F075519#32] ],
    ![
      ![0x3FBB33BF#32, 0xBF52E56B#32, 0x3EA00584#32],
      ![0xC03AED2F#32, 0x3FADBFF2#32, 0xBFFFCD45#32],
      ![0x3FD68C57#32, 0xC0192201#32, 0xBE036C47#32] ],
    ![
      ![0xBE8B45D6#32, 0x3F708941#32, 0x3F6B6089#32],
      ![0xBECFE3B8#32, 0x3ED69FB7#32, 0xBEB557C2#32],
      ![0x3E3CE82A#32, 0xBECE8DF2#32, 0xBFCF2CE6#32] ],
    ![
      ![0x3EB9B14F#32, 0xBF796233#32, 0x3F21F8F1#32],
      ![0x3FE9BF63#32, 0x3FE29E7A#32, 0x3F95934F#32],
      ![0xBED5FD7F#32, 0xBF1B746F#32, 0xBE554BD6#32] ],
    ![
      ![0x3F6A195C#32, 0xBFB2584A#32, 0xC00D6724#32],
      ![0x3EE29043#32, 0x3EAE4431#32, 0xBF01612F#32],
      ![0xBEB2A8DD#32, 0xBF8880FD#32, 0x403DFB14#32] ],
    ![
      ![0xBF421C40#32, 0x3E453167#32, 0x3F750AB5#32],
      ![0x3F7346F8#32, 0x3E3949BE#32, 0xBF197D95#32],
      ![0x3FA7C9AF#32, 0x3E89763A#32, 0x3F605531#32] ],
    ![
      ![0xBF7071DC#32, 0x3F83D70F#32, 0x3F310E16#32],
      ![0x3F959C79#32, 0xBF69B0F0#32, 0x3D3D68F6#32],
      ![0x3F371969#32, 0xBF97EB14#32, 0xBE9D7FDA#32] ],
    ![
      ![0x3F2C4F8F#32, 0x3F9DEE90#32, 0xBF5ACA7E#32],
      ![0x3FD6350B#32, 0x3F114D9B#32, 0xBE91641F#32],
      ![0x3F66F5F4#32, 0x3FAF7219#32, 0x3BE792DF#32] ],
    ![
      ![0x3EE7182A#32, 0x3EA1D45D#32, 0x3EA6C579#32],
      ![0x3EBB677A#32, 0xBEEAD58E#32, 0x3FA31031#32],
      ![0x3DDA2141#32, 0xBF4FA348#32, 0xBE9F95FA#32] ],
    ![
      ![0xBF1BF6F2#32, 0xBF5EC715#32, 0x3FF58472#32],
      ![0x3D29BCB0#32, 0xBF4807F1#32, 0xBE1AC9C4#32],
      ![0xBF964D18#32, 0x3ED22684#32, 0x3F03C0A4#32] ],
    ![
      ![0x3F8E9E6E#32, 0xBFFABDC5#32, 0x3F966869#32],
      ![0xBDC50B0B#32, 0xBEB719F3#32, 0xBFC56315#32],
      ![0xBE3F8EF8#32, 0x3FB687BD#32, 0xBFE81C6B#32] ],
    ![
      ![0x3E7A3DD0#32, 0x3EB8079E#32, 0x3F89B3BF#32],
      ![0xBFA93FC8#32, 0xBF3DB99B#32, 0x3E59DEFF#32],
      ![0xBFDD2B00#32, 0x3EB50C65#32, 0xBEF0468D#32] ],
    ![
      ![0x3F48C22F#32, 0xBF4D60D7#32, 0x3EC2B84E#32],
      ![0x3EA451EA#32, 0x3F3D4BB8#32, 0x3F969535#32],
      ![0xBD944C09#32, 0xBF56A76F#32, 0xBF54FFDC#32] ],
    ![
      ![0xBDB4ACF8#32, 0x3F881F77#32, 0xBE4EE682#32],
      ![0xBF605232#32, 0xBE19FFA9#32, 0xBF7B60E2#32],
      ![0xBE3D45BF#32, 0x3EE800D3#32, 0x3F129675#32] ],
    ![
      ![0xBF242EA4#32, 0x3F1C90F2#32, 0xBCF138A8#32],
      ![0xBE6DE658#32, 0xBF010CB8#32, 0x3E98E087#32],
      ![0x3EB14295#32, 0xBD489B90#32, 0xBF9FFC49#32] ],
    ![
      ![0xBF1AB981#32, 0xBF7CA314#32, 0xBF524D7E#32],
      ![0x3EAAB00B#32, 0xBBCF9E45#32, 0x3FFDBF7C#32],
      ![0xBF838E29#32, 0x3E9A6FBD#32, 0xBF15C63A#32] ],
    ![
      ![0x3EA19CB3#32, 0xBF45EA17#32, 0xBF23ED30#32],
      ![0x3D072805#32, 0xBD4DEEF7#32, 0xBF9174DF#32],
      ![0xBFD33C32#32, 0x4009773B#32, 0x3F96C936#32] ],
    ![
      ![0xBFC04B25#32, 0xBD3BC38E#32, 0xBF3EB8D7#32],
      ![0xBEE3A317#32, 0x3F67088B#32, 0x400E2F35#32],
      ![0x3F2BDE0E#32, 0x3F00506B#32, 0x3F6F61F7#32] ],
    ![
      ![0x3FA0E0AA#32, 0x3FD6C112#32, 0x3F355135#32],
      ![0x3FE4B750#32, 0xBEC86A26#32, 0xBF42F060#32],
      ![0xBFA0E906#32, 0x3FAEE26A#32, 0x3D8AA063#32] ],
    ![
      ![0x3E6F807A#32, 0x3F8A888C#32, 0xBE91F076#32],
      ![0x3F676A3F#32, 0x3F98BC5A#32, 0xBFB5EA55#32],
      ![0x3D43BD69#32, 0xBFAB7920#32, 0x3F0E0025#32] ],
    ![
      ![0xBE5A8281#32, 0xBFA6CD76#32, 0xBFB43830#32],
      ![0x3F780B15#32, 0xBFACA7E0#32, 0xBFA2D056#32],
      ![0x3FE1F6F7#32, 0xBDC9C50B#32, 0x3E8FBDAE#32] ],
    ![
      ![0x3DE5E9CE#32, 0x3FB629E0#32, 0xBEB4866F#32],
      ![0xBEB3BE9A#32, 0xBFA056A9#32, 0xBE26BA0F#32],
      ![0xBF4C79A2#32, 0x3EA26698#32, 0x3E24B9F5#32] ],
    ![
      ![0x3E520096#32, 0x3F185D9A#32, 0xBEE197E4#32],
      ![0x3FCB8D7D#32, 0x3EFCB70A#32, 0xBF4C909F#32],
      ![0xBF70BCEF#32, 0x3FBE9757#32, 0xBE71EA7A#32] ],
    ![
      ![0xBF2F90F9#32, 0xBEBFB872#32, 0x3E868D50#32],
      ![0x3FC97B9F#32, 0x3EB83529#32, 0x3FD6B199#32],
      ![0xBF7F49C8#32, 0x3F5EF75B#32, 0xBF80054D#32] ],
    ![
      ![0xBF132D9E#32, 0xBF75E3C6#32, 0x3F0F567C#32],
      ![0xBF824161#32, 0xBD3BE4CE#32, 0xBF39AF94#32],
      ![0xBCC49FE3#32, 0xBE54A71A#32, 0x3D9DB893#32] ],
    ![
      ![0x3FC833E1#32, 0xBF8FDF31#32, 0xBF6ED0A6#32],
      ![0xBFD29037#32, 0x3F379EE4#32, 0x3E934E78#32],
      ![0xBE100D31#32, 0x3F4DF7CF#32, 0x3F5FB053#32] ],
    ![
      ![0x3DC806AE#32, 0x3F8E2571#32, 0xC004A5DC#32],
      ![0x3E3727DD#32, 0xBFBF270F#32, 0xBE770DD0#32],
      ![0xBF7053B2#32, 0xBF0BCEB6#32, 0x4026D934#32] ],
    ![
      ![0x3E6C9DC4#32, 0x3FC6882C#32, 0xBF9A81F3#32],
      ![0x3DB13B46#32, 0xBF8E1E98#32, 0x3F62AC75#32],
      ![0xBE167DBD#32, 0xBD49690A#32, 0xBDB42B61#32] ],
    ![
      ![0xBFAD7713#32, 0xBFCE891E#32, 0x3F282312#32],
      ![0x3E530072#32, 0x3F185D2E#32, 0x3F49A962#32],
      ![0x3EE47D5A#32, 0x3E3A44AB#32, 0x3F70DFF1#32] ],
    ![
      ![0xBF92A38F#32, 0xBFC34D10#32, 0x3F0EFA18#32],
      ![0xBF95ACAE#32, 0x3F48188A#32, 0x3ECC6CF0#32],
      ![0x3FE985D7#32, 0xBF51CAF9#32, 0xBEF164F9#32] ],
    ![
      ![0x3FE22D6C#32, 0x3EC2070D#32, 0xBE89F9D2#32],
      ![0xBE36E4F7#32, 0xBFE76C54#32, 0xBF6C3601#32],
      ![0x3E590899#32, 0x3FD71D75#32, 0xBEC503FF#32] ],
    ![
      ![0x3EF8AE44#32, 0xBFE58B3F#32, 0xBF0DF329#32],
      ![0x3F6DCAED#32, 0x4011D96B#32, 0x3F5B22EE#32],
      ![0xBFE3C81A#32, 0xBFA8B4AC#32, 0xBF538E39#32] ],
    ![
      ![0x3EFFD96F#32, 0xBE84AC4A#32, 0xBF9F8517#32],
      ![0xBF40A8FD#32, 0x403C68EB#32, 0xC0234367#32],
      ![0xBFDE7C17#32, 0x3F438E42#32, 0x3F997F7A#32] ],
    ![
      ![0xBF066964#32, 0x3F12CC93#32, 0x3DB51D80#32],
      ![0xBFEF16C9#32, 0xBE85726E#32, 0xBF876B73#32],
      ![0xBFB4D9AD#32, 0x3FE190C8#32, 0x3DAE6BBB#32] ],
    ![
      ![0xBE6F012A#32, 0xBEEE391F#32, 0x3F1211A5#32],
      ![0x3F347C06#32, 0xBF5D7119#32, 0x3F4240B5#32],
      ![0xBC9FA35D#32, 0xBF507E35#32, 0x3FE3F365#32] ],
    ![
      ![0x3EEAC079#32, 0x3F321BBC#32, 0xBF34A6E1#32],
      ![0x3E5BD501#32, 0x3FB05AD8#32, 0x3F8011B2#32],
      ![0xBF2D3E8F#32, 0xBEE45790#32, 0x3FBFC612#32] ],
    ![
      ![0xBFBFBFD5#32, 0xBF515820#32, 0x3F372098#32],
      ![0xBF5581B1#32, 0x3ED7031D#32, 0xBDBCC72A#32],
      ![0xBFAC2CAD#32, 0xBF775510#32, 0x3F4DDCBF#32] ],
    ![
      ![0xBE29B59D#32, 0xBE84B899#32, 0xBF577DB4#32],
      ![0x3E135E0D#32, 0x3F964786#32, 0xBF1506E8#32],
      ![0x3F382F8E#32, 0xBFBA461C#32, 0x3F763507#32] ],
    ![
      ![0x3CB31465#32, 0xC007BDEB#32, 0x401EBDBB#32],
      ![0x3EAAB952#32, 0x3F6F251B#32, 0xBF96FF4E#32],
      ![0xBDB38AA6#32, 0xBF07FC51#32, 0xBEB961C8#32] ],
    ![
      ![0xBF2BF4BD#32, 0x3F7FC8DF#32, 0xBF2FD11C#32],
      ![0x3E60D52A#32, 0x3FEFA581#32, 0xBDDD2AEE#32],
      ![0x400CC668#32, 0x3F25159A#32, 0x3F9609A1#32] ],
    ![
      ![0xBF8F9894#32, 0x3F33C853#32, 0x3FB1921E#32],
      ![0x3D5C16F8#32, 0x3F1E939E#32, 0xBE044775#32],
      ![0x3FCA2676#32, 0xBFBF7CFF#32, 0xBEC3BDC2#32] ],
    ![
      ![0x3E9AB78F#32, 0x3F21B1D3#32, 0x3FD25AB2#32],
      ![0x3EB3185F#32, 0x3F385F96#32, 0xBF5B5AD6#32],
      ![0xBF05C59E#32, 0xBEAB9DA1#32, 0xBFD55470#32] ],
    ![
      ![0x3F319560#32, 0xBE9B92AD#32, 0x3F9420AD#32],
      ![0xBF94CFED#32, 0xBF3ADFF7#32, 0xC01D5B4B#32],
      ![0x3F49FD12#32, 0xBE74AF35#32, 0xBFFA6BDE#32] ],
    ![
      ![0xBFA1AF27#32, 0x3FB20302#32, 0x3F49A3D4#32],
      ![0xBE82E7DE#32, 0xBF8AA7DB#32, 0x3FC9EF92#32],
      ![0xBEF710EC#32, 0x3FDB150C#32, 0x401A7C9F#32] ],
    ![
      ![0xBFB7212F#32, 0x3FE5350C#32, 0xBDB0506C#32],
      ![0xBF63BDF0#32, 0x3EB67415#32, 0x3F8796CB#32],
      ![0xBF911D70#32, 0xBECA4927#32, 0x3F52A268#32] ],
    ![
      ![0xBDDF7111#32, 0x3E55C06F#32, 0x400BC170#32],
      ![0xBF9FB21B#32, 0xBF7F446F#32, 0xBF3344CA#32],
      ![0xBD8D2837#32, 0xBEF0C69C#32, 0x3D4D91A2#32] ],
    ![
      ![0x3E8D587D#32, 0xBF341311#32, 0x3E1A3C3A#32],
      ![0xBF6FD24B#32, 0xBFAB988A#32, 0x3E1802C4#32],
      ![0x3E697A43#32, 0xBDFC4CCA#32, 0xBF8B7400#32] ],
    ![
      ![0x3F13D7EE#32, 0x3E11E452#32, 0xBF42E506#32],
      ![0x3E5B2831#32, 0x3E9EFA9B#32, 0xBE20DE98#32],
      ![0x3EE194EE#32, 0x3F744F35#32, 0x3F7D1370#32] ],
    ![
      ![0x3F37E153#32, 0x3EC09104#32, 0xBFD628DF#32],
      ![0x3F56A3DC#32, 0x3F0B9673#32, 0xBFBF771E#32],
      ![0xBF429DC0#32, 0xBF63B82E#32, 0x3ED6A249#32] ],
    ![
      ![0xBF0A327B#32, 0x3F48850D#32, 0xBF8B1A44#32],
      ![0x3F4D3290#32, 0xBF41A4C5#32, 0xBFA346C6#32],
      ![0xBE1EF678#32, 0x3E30A1F0#32, 0xC00733D2#32] ],
    ![
      ![0x3E8A47B4#32, 0x3E2E9CAE#32, 0x3F96ED8C#32],
      ![0x3EE0C82D#32, 0xBFE4DE2F#32, 0x3FA640D6#32],
      ![0xBF101939#32, 0xBF80338F#32, 0xBF6806E7#32] ],
    ![
      ![0x3F1ADCF9#32, 0xBE41BEEC#32, 0xBF97C98D#32],
      ![0x3F3BEE59#32, 0x3DE550BA#32, 0x3E638A57#32],
      ![0x3F466AC4#32, 0xBEE6DDBC#32, 0x3DA074C7#32] ],
    ![
      ![0x3EAC3BC7#32, 0xBDA9B9E0#32, 0x3F20F5AF#32],
      ![0xBF67069F#32, 0x3EEC5740#32, 0xBE15CDB8#32],
      ![0x3F8A4B99#32, 0xBEED0260#32, 0x40357241#32] ],
    ![
      ![0xBE684630#32, 0x3FA935D3#32, 0xBFB6A4D0#32],
      ![0x3E842F74#32, 0x3E4C82EE#32, 0x3FB33C65#32],
      ![0xBF66B499#32, 0x3F813AB1#32, 0x3EB54564#32] ],
    ![
      ![0x3F2CE740#32, 0x3E6F1B48#32, 0x3D58C220#32],
      ![0xBF3EBCA4#32, 0xBEA99674#32, 0xBF08DE24#32],
      ![0x3EFD93CB#32, 0x3FD55DE3#32, 0x3F0DCFB6#32] ],
    ![
      ![0xBF9F5B14#32, 0xBFC104B3#32, 0xBFBF2A59#32],
      ![0x3FE9C096#32, 0x3F86C730#32, 0xBDE382E9#32],
      ![0x3E69055E#32, 0x3E8F6567#32, 0x3E31DF47#32] ],
    ![
      ![0xBFE8BF3F#32, 0x3F1D6134#32, 0xBF7420AD#32],
      ![0xBD7F8A55#32, 0xBE45C5CB#32, 0x3F980F83#32],
      ![0xBEFAEDA9#32, 0xBE591A06#32, 0x3E53452D#32] ],
    ![
      ![0x3F35BA29#32, 0x3E09A9EC#32, 0xBEBD2A5E#32],
      ![0xBF017DB6#32, 0x3E92A957#32, 0x3F51140B#32],
      ![0x3E74A270#32, 0xBF868630#32, 0xBF693619#32] ],
    ![
      ![0x3ED37F52#32, 0xBF7EB717#32, 0x3EEBB8B4#32],
      ![0xBF40805A#32, 0x3E54BCAC#32, 0xBE9C6B37#32],
      ![0x3F011D64#32, 0xBFBE5461#32, 0xBDA46BC9#32] ],
    ![
      ![0xBC1A7B58#32, 0x3D964EB6#32, 0x3EDD42C4#32],
      ![0x3FB7A5C1#32, 0xBE468132#32, 0x3EE075F1#32],
      ![0xBEA4D5D3#32, 0xBF24FCC8#32, 0x3FEA5AB6#32] ],
    ![
      ![0xBC311DB6#32, 0xBDE06B81#32, 0xBF41BCD5#32],
      ![0xBE3519CB#32, 0xBEEA80F0#32, 0x3DFF653B#32],
      ![0x3FA83C69#32, 0xBF981B71#32, 0xBFB74A95#32] ],
    ![
      ![0x3F3E393C#32, 0x40039E84#32, 0xBFB73F80#32],
      ![0x3E546F1E#32, 0xBF52C235#32, 0xBF8FC1B8#32],
      ![0x3FB7DEF8#32, 0x3F050C0E#32, 0xBF1767E7#32] ],
    ![
      ![0xBFFD1CFC#32, 0x3FB839FD#32, 0xBEBFFEE9#32],
      ![0x3DD32553#32, 0x3F59A001#32, 0x400B0C6A#32],
      ![0xBFCB6681#32, 0x3FFD9812#32, 0x3F0176A5#32] ],
    ![
      ![0x3F00E045#32, 0xBFC66976#32, 0xBEF9D0A4#32],
      ![0xBDEC21AF#32, 0x3EEF49DF#32, 0x3F3B1900#32],
      ![0x3E8FF99D#32, 0xBFC7B6C5#32, 0x3F9A1115#32] ],
    ![
      ![0xBF49306B#32, 0xC0209ED2#32, 0xBFDED3AB#32],
      ![0x3F81BD39#32, 0x3E94AEEE#32, 0xBE8250D3#32],
      ![0x3D176AF1#32, 0xBF413C7A#32, 0x3F8F21E4#32] ],
    ![
      ![0x3EEFDD01#32, 0x3F6621DB#32, 0xBF8F594E#32],
      ![0xBF2311A2#32, 0xBF9466AF#32, 0x3DB46829#32],
      ![0xBF282C7C#32, 0x3F3C6C7A#32, 0xBFC8AB3F#32] ],
    ![
      ![0x3EFCD2C6#32, 0x3F33B790#32, 0xBDF9E5D2#32],
      ![0xBEE92B37#32, 0x3E46100F#32, 0x400CAD25#32],
      ![0xBFACFEB4#32, 0x3FC273B1#32, 0xBE8771E2#32] ],
    ![
      ![0xBF756F0F#32, 0x3FB41006#32, 0x3F963E43#32],
      ![0xBE98EC96#32, 0xBF8C582C#32, 0xBEC5A6B6#32],
      ![0x3F31146E#32, 0xBE23D776#32, 0x3F439415#32] ],
    ![
      ![0xBF1FD605#32, 0x3E2A4EDB#32, 0xBF87FB81#32],
      ![0x3F195A11#32, 0x3D9AC911#32, 0x3E735B17#32],
      ![0x3F360301#32, 0xBF07C2C9#32, 0x3F467D5B#32] ],
    ![
      ![0xBD41CB1F#32, 0x3F8FF4B8#32, 0xBF07B400#32],
      ![0xBCDFC68C#32, 0xBE55B025#32, 0xBFEAC1B6#32],
      ![0xBF0F9D5D#32, 0xBFBDF8B3#32, 0xBF626A22#32] ],
    ![
      ![0x3D8A8794#32, 0x3CA3DAFD#32, 0xBF1BCC96#32],
      ![0x3DD672B1#32, 0x3FD393EC#32, 0x3F0C1ABD#32],
      ![0x3E18C708#32, 0xBE5E9E94#32, 0x3E2156C9#32] ],
    ![
      ![0x3F03F62C#32, 0xBEDF7905#32, 0x3F3CAC47#32],
      ![0xBF8914DF#32, 0x3F881D46#32, 0x3F162F00#32],
      ![0xBFA86985#32, 0x401B8917#32, 0x3F975370#32] ],
    ![
      ![0x3F05F87B#32, 0xBED7A787#32, 0x3F3032BA#32],
      ![0x3F2BF8B4#32, 0xBEF591CD#32, 0x3D42CFF3#32],
      ![0xBFDE1BCB#32, 0x3DB3CA6B#32, 0xBFB6C7C5#32] ],
    ![
      ![0x3E75A25D#32, 0x3EBE3502#32, 0xBE4361E5#32],
      ![0x3E12C577#32, 0xBEBA096E#32, 0xBF1B8716#32],
      ![0x40312F6F#32, 0x3ED4DC40#32, 0x3EA664AE#32] ],
    ![
      ![0x3D31B9BE#32, 0xBEB91563#32, 0xBEA97A87#32],
      ![0x3FC4EEAA#32, 0xBF3B33EC#32, 0x3F11657D#32],
      ![0xBEF07E70#32, 0xBF1066A9#32, 0x3F28ACA3#32] ],
    ![
      ![0xBEDD41AB#32, 0x3F95487B#32, 0x3EF94D9F#32],
      ![0x3EC99AAC#32, 0xBF7C306C#32, 0x3F88069E#32],
      ![0xBDB5C269#32, 0xBEE7D625#32, 0xBDC0CD50#32] ],
    ![
      ![0xBEC94406#32, 0x3E1EAB6E#32, 0xBECB3544#32],
      ![0x3E4831C2#32, 0x3DBF71CB#32, 0x3EA3F393#32],
      ![0x3F0EF6BF#32, 0xBE1EB5EF#32, 0x3D24E7E4#32] ] ]
noncomputable def arg2 {F : FTy → Type} [FloatOps F] : FVec F (⟨3, ![128, 3, 3]⟩ : Shape) .f32 := fun i => FloatOps.ofBits .f32 (arg2_words (i 0) (i 1) (i 2))

noncomputable def arg3_words : Fin 10000 → BitVec 32 :=
  ![0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 0#32, 0#32, 0#32, 0#32, 0#32, 0#32,
    0#32, 0#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 1#32, 1#32, 1#32, 1#32, 1#32, 1#32,
    1#32, 1#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 2#32, 2#32, 2#32,
    2#32, 2#32, 2#32, 2#32, 2#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 3#32, 3#32, 3#32, 3#32, 3#32,
    3#32, 3#32, 3#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 4#32, 4#32, 4#32,
    4#32, 4#32, 4#32, 4#32, 4#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 5#32, 5#32, 5#32, 5#32, 5#32,
    5#32, 5#32, 5#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 6#32, 6#32, 6#32, 6#32, 6#32,
    6#32, 6#32, 6#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 7#32, 7#32, 7#32, 7#32, 7#32,
    7#32, 7#32, 7#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 8#32, 8#32, 8#32, 8#32, 8#32, 8#32, 8#32,
    8#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 9#32, 9#32, 9#32, 9#32,
    9#32, 9#32, 9#32, 9#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 10#32, 10#32, 10#32,
    10#32, 10#32, 10#32, 10#32, 10#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 11#32, 11#32, 11#32, 11#32, 11#32, 11#32, 11#32,
    11#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 12#32, 12#32, 12#32,
    12#32, 12#32, 12#32, 12#32, 12#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 13#32, 13#32, 13#32, 13#32, 13#32, 13#32,
    13#32, 13#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    14#32, 14#32, 14#32, 14#32, 14#32, 14#32, 14#32, 14#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 15#32, 15#32, 15#32,
    15#32, 15#32, 15#32, 15#32, 15#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 16#32, 16#32, 16#32, 16#32, 16#32, 16#32,
    16#32, 16#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 17#32, 17#32, 17#32, 17#32, 17#32,
    17#32, 17#32, 17#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    18#32, 18#32, 18#32, 18#32, 18#32, 18#32, 18#32, 18#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 19#32, 19#32,
    19#32, 19#32, 19#32, 19#32, 19#32, 19#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 20#32, 20#32, 20#32, 20#32,
    20#32, 20#32, 20#32, 20#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 21#32, 21#32, 21#32, 21#32, 21#32,
    21#32, 21#32, 21#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 22#32,
    22#32, 22#32, 22#32, 22#32, 22#32, 22#32, 22#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 23#32, 23#32, 23#32, 23#32, 23#32, 23#32, 23#32,
    23#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 24#32, 24#32, 24#32, 24#32, 24#32,
    24#32, 24#32, 24#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 25#32,
    25#32, 25#32, 25#32, 25#32, 25#32, 25#32, 25#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 26#32, 26#32, 26#32, 26#32,
    26#32, 26#32, 26#32, 26#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    27#32, 27#32, 27#32, 27#32, 27#32, 27#32, 27#32, 27#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    28#32, 28#32, 28#32, 28#32, 28#32, 28#32, 28#32, 28#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 29#32, 29#32, 29#32, 29#32,
    29#32, 29#32, 29#32, 29#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    30#32, 30#32, 30#32, 30#32, 30#32, 30#32, 30#32, 30#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 31#32, 31#32, 31#32, 31#32,
    31#32, 31#32, 31#32, 31#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 32#32, 32#32,
    32#32, 32#32, 32#32, 32#32, 32#32, 32#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    33#32, 33#32, 33#32, 33#32, 33#32, 33#32, 33#32, 33#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 34#32, 34#32, 34#32, 34#32, 34#32,
    34#32, 34#32, 34#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 35#32, 35#32,
    35#32, 35#32, 35#32, 35#32, 35#32, 35#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 36#32, 36#32, 36#32, 36#32, 36#32, 36#32,
    36#32, 36#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 37#32, 37#32, 37#32, 37#32, 37#32, 37#32,
    37#32, 37#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 38#32, 38#32, 38#32,
    38#32, 38#32, 38#32, 38#32, 38#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    39#32, 39#32, 39#32, 39#32, 39#32, 39#32, 39#32, 39#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 40#32, 40#32,
    40#32, 40#32, 40#32, 40#32, 40#32, 40#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    41#32, 41#32, 41#32, 41#32, 41#32, 41#32, 41#32, 41#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 42#32, 42#32, 42#32, 42#32, 42#32, 42#32,
    42#32, 42#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 43#32, 43#32, 43#32, 43#32,
    43#32, 43#32, 43#32, 43#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 44#32, 44#32, 44#32, 44#32,
    44#32, 44#32, 44#32, 44#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 45#32, 45#32,
    45#32, 45#32, 45#32, 45#32, 45#32, 45#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 46#32, 46#32, 46#32, 46#32,
    46#32, 46#32, 46#32, 46#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    47#32, 47#32, 47#32, 47#32, 47#32, 47#32, 47#32, 47#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 48#32,
    48#32, 48#32, 48#32, 48#32, 48#32, 48#32, 48#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 49#32, 49#32, 49#32,
    49#32, 49#32, 49#32, 49#32, 49#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 50#32,
    50#32, 50#32, 50#32, 50#32, 50#32, 50#32, 50#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 51#32, 51#32, 51#32, 51#32, 51#32,
    51#32, 51#32, 51#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 52#32, 52#32, 52#32,
    52#32, 52#32, 52#32, 52#32, 52#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 53#32, 53#32, 53#32, 53#32,
    53#32, 53#32, 53#32, 53#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 54#32, 54#32,
    54#32, 54#32, 54#32, 54#32, 54#32, 54#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 55#32, 55#32, 55#32, 55#32, 55#32, 55#32, 55#32,
    55#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 56#32, 56#32, 56#32, 56#32, 56#32, 56#32,
    56#32, 56#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 57#32, 57#32, 57#32,
    57#32, 57#32, 57#32, 57#32, 57#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 58#32, 58#32, 58#32, 58#32,
    58#32, 58#32, 58#32, 58#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 59#32, 59#32, 59#32, 59#32, 59#32, 59#32,
    59#32, 59#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 60#32, 60#32, 60#32, 60#32, 60#32,
    60#32, 60#32, 60#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 61#32, 61#32, 61#32, 61#32, 61#32, 61#32, 61#32,
    61#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 62#32, 62#32, 62#32,
    62#32, 62#32, 62#32, 62#32, 62#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 63#32, 63#32, 63#32, 63#32,
    63#32, 63#32, 63#32, 63#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 64#32, 64#32, 64#32, 64#32, 64#32,
    64#32, 64#32, 64#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 65#32, 65#32, 65#32, 65#32, 65#32, 65#32,
    65#32, 65#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 66#32, 66#32, 66#32, 66#32, 66#32, 66#32, 66#32,
    66#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 67#32, 67#32, 67#32, 67#32, 67#32, 67#32, 67#32,
    67#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 68#32, 68#32, 68#32, 68#32,
    68#32, 68#32, 68#32, 68#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 69#32, 69#32, 69#32, 69#32, 69#32, 69#32, 69#32,
    69#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 70#32, 70#32,
    70#32, 70#32, 70#32, 70#32, 70#32, 70#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 71#32, 71#32, 71#32, 71#32, 71#32, 71#32,
    71#32, 71#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 72#32, 72#32,
    72#32, 72#32, 72#32, 72#32, 72#32, 72#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 73#32, 73#32, 73#32, 73#32, 73#32, 73#32, 73#32,
    73#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 74#32, 74#32,
    74#32, 74#32, 74#32, 74#32, 74#32, 74#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 75#32, 75#32, 75#32, 75#32, 75#32,
    75#32, 75#32, 75#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 76#32,
    76#32, 76#32, 76#32, 76#32, 76#32, 76#32, 76#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 77#32, 77#32, 77#32, 77#32, 77#32,
    77#32, 77#32, 77#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 78#32,
    78#32, 78#32, 78#32, 78#32, 78#32, 78#32, 78#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 79#32, 79#32, 79#32, 79#32, 79#32, 79#32, 79#32,
    79#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 80#32, 80#32, 80#32, 80#32,
    80#32, 80#32, 80#32, 80#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 81#32, 81#32, 81#32, 81#32, 81#32, 81#32,
    81#32, 81#32, 82#32, 82#32, 82#32, 82#32, 82#32, 82#32,
    82#32, 82#32, 82#32, 82#32, 82#32, 82#32, 82#32, 82#32,
    82#32, 82#32, 82#32, 82#32, 82#32, 82#32, 82#32, 82#32,
    82#32, 82#32, 82#32, 82#32, 82#32, 82#32, 82#32, 82#32,
    82#32, 82#32, 82#32, 82#32, 82#32, 82#32, 82#32, 82#32,
    82#32, 82#32, 82#32, 82#32, 82#32, 82#32, 82#32, 82#32,
    82#32, 82#32, 82#32, 82#32, 82#32, 82#32, 82#32, 82#32,
    82#32, 82#32, 82#32, 82#32, 82#32, 82#32, 82#32, 82#32,
    82#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 83#32, 83#32, 83#32, 83#32, 83#32, 83#32, 83#32,
    83#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 84#32, 84#32, 84#32, 84#32, 84#32, 84#32, 84#32,
    84#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 85#32,
    85#32, 85#32, 85#32, 85#32, 85#32, 85#32, 85#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 86#32, 86#32, 86#32, 86#32, 86#32, 86#32,
    86#32, 86#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 87#32, 87#32,
    87#32, 87#32, 87#32, 87#32, 87#32, 87#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 88#32, 88#32, 88#32, 88#32, 88#32, 88#32,
    88#32, 88#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 89#32, 89#32,
    89#32, 89#32, 89#32, 89#32, 89#32, 89#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 90#32, 90#32, 90#32,
    90#32, 90#32, 90#32, 90#32, 90#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 91#32,
    91#32, 91#32, 91#32, 91#32, 91#32, 91#32, 91#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 92#32, 92#32, 92#32, 92#32, 92#32, 92#32, 92#32,
    92#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 93#32, 93#32, 93#32, 93#32, 93#32,
    93#32, 93#32, 93#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 94#32, 94#32, 94#32, 94#32, 94#32, 94#32,
    94#32, 94#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    95#32, 95#32, 95#32, 95#32, 95#32, 95#32, 95#32, 95#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 96#32, 96#32, 96#32, 96#32, 96#32, 96#32, 96#32,
    96#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 97#32, 97#32, 97#32, 97#32,
    97#32, 97#32, 97#32, 97#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 98#32, 98#32, 98#32, 98#32, 98#32, 98#32, 98#32,
    98#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 99#32, 99#32, 99#32, 99#32,
    99#32, 99#32, 99#32, 99#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 100#32, 100#32, 100#32, 100#32, 100#32, 100#32, 100#32,
    100#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 101#32, 101#32, 101#32,
    101#32, 101#32, 101#32, 101#32, 101#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 102#32, 102#32, 102#32,
    102#32, 102#32, 102#32, 102#32, 102#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 103#32, 103#32, 103#32,
    103#32, 103#32, 103#32, 103#32, 103#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 104#32, 104#32,
    104#32, 104#32, 104#32, 104#32, 104#32, 104#32, 105#32, 105#32,
    105#32, 105#32, 105#32, 105#32, 105#32, 105#32, 105#32, 105#32,
    105#32, 105#32, 105#32, 105#32, 105#32, 105#32, 105#32, 105#32,
    105#32, 105#32, 105#32, 105#32, 105#32, 105#32, 105#32, 105#32,
    105#32, 105#32, 105#32, 105#32, 105#32, 105#32, 105#32, 105#32,
    105#32, 105#32, 105#32, 105#32, 105#32, 105#32, 105#32, 105#32,
    105#32, 105#32, 105#32, 105#32, 105#32, 105#32, 105#32, 105#32,
    105#32, 105#32, 105#32, 105#32, 105#32, 105#32, 105#32, 105#32,
    105#32, 105#32, 105#32, 105#32, 105#32, 106#32, 106#32, 106#32,
    106#32, 106#32, 106#32, 106#32, 106#32, 106#32, 106#32, 106#32,
    106#32, 106#32, 106#32, 106#32, 106#32, 106#32, 106#32, 106#32,
    106#32, 106#32, 106#32, 106#32, 106#32, 106#32, 106#32, 106#32,
    106#32, 106#32, 106#32, 106#32, 106#32, 106#32, 106#32, 106#32,
    106#32, 106#32, 106#32, 106#32, 106#32, 106#32, 106#32, 106#32,
    106#32, 106#32, 106#32, 106#32, 106#32, 106#32, 106#32, 106#32,
    106#32, 106#32, 106#32, 106#32, 106#32, 106#32, 106#32, 106#32,
    106#32, 106#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 107#32, 107#32, 107#32,
    107#32, 107#32, 107#32, 107#32, 107#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 108#32, 108#32, 108#32,
    108#32, 108#32, 108#32, 108#32, 108#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 109#32, 109#32, 109#32, 109#32, 109#32,
    109#32, 109#32, 109#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 110#32, 110#32, 110#32, 110#32, 110#32,
    110#32, 110#32, 110#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 111#32, 111#32, 111#32, 111#32, 111#32, 111#32,
    111#32, 111#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 112#32, 112#32,
    112#32, 112#32, 112#32, 112#32, 112#32, 112#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 113#32, 113#32, 113#32, 113#32,
    113#32, 113#32, 113#32, 113#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 114#32, 114#32, 114#32, 114#32,
    114#32, 114#32, 114#32, 114#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 115#32, 115#32, 115#32,
    115#32, 115#32, 115#32, 115#32, 115#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 116#32, 116#32, 116#32, 116#32, 116#32, 116#32,
    116#32, 116#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 117#32, 117#32, 117#32, 117#32, 117#32, 117#32, 117#32,
    117#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 118#32, 118#32, 118#32, 118#32, 118#32, 118#32, 118#32,
    118#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 119#32,
    119#32, 119#32, 119#32, 119#32, 119#32, 119#32, 119#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 120#32, 120#32, 120#32, 120#32, 120#32,
    120#32, 120#32, 120#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 121#32, 121#32, 121#32, 121#32, 121#32, 121#32,
    121#32, 121#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 122#32,
    122#32, 122#32, 122#32, 122#32, 122#32, 122#32, 122#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 123#32, 123#32, 123#32, 123#32,
    123#32, 123#32, 123#32, 123#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 124#32, 124#32,
    124#32, 124#32, 124#32, 124#32, 124#32, 124#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 125#32, 125#32,
    125#32, 125#32, 125#32, 125#32, 125#32, 125#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    126#32, 126#32, 126#32, 126#32, 126#32, 126#32, 126#32, 126#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32,
    127#32, 127#32, 127#32, 127#32, 127#32, 127#32, 127#32, 127#32]
noncomputable def arg3 : IVec (⟨1, ![10000]⟩ : Shape) 32 := fun i => arg3_words (i 0)

noncomputable def arg4_words : Fin 118 → Fin 128 → BitVec 32 :=
  ![
    ![0x3DDB5BDB#32, 0xBDB6FC62#32, 0x3CC238E2#32, 0x3D49C334#32, 0x3D6EEAC6#32, 0xBD630F0C#32, 0x3E24CB20#32, 0xBD3341B4#32,
      0xBDDB94BB#32, 0x3DAAAD5E#32, 0x3DE77F9B#32, 0x3DCEF178#32, 0x3C3A60C5#32, 0x3E4CE1E9#32, 0x3D0C47E0#32, 0xBDCDE150#32,
      0xBE111989#32, 0x3D262866#32, 0xBD6A567E#32, 0xBCA63D1E#32, 0x3D31DF0B#32, 0xBE22DA3B#32, 0xBD2AE660#32, 0x3D102658#32,
      0xBBB7E418#32, 0x3BD11EE0#32, 0x3DCE2664#32, 0x3D3C840B#32, 0x3CA5B784#32, 0x3E213B34#32, 0xBE85F4B6#32, 0xBDC43519#32,
      0x3C9AD648#32, 0xBE50F94E#32, 0xBD8451E2#32, 0xBDC3ABAF#32, 0x3D7A4DD2#32, 0x3DD78A86#32, 0xBDC060C1#32, 0x3E39B40F#32,
      0x3D10FB0E#32, 0x3CB176DA#32, 0xBE1271D1#32, 0x3DB00954#32, 0xBE07B983#32, 0x3C3D332E#32, 0x3DB3656E#32, 0xBD5FF03E#32,
      0x3CE083E5#32, 0xBD8766DF#32, 0x3E14859A#32, 0xBDA56795#32, 0xBDA470EA#32, 0x3DB33724#32, 0xBDD3605D#32, 0x3E04C65F#32,
      0xBD5733D2#32, 0x3DF9BD05#32, 0xBDDFC9B3#32, 0xBC804557#32, 0x3D0303BA#32, 0xBCB52CE5#32, 0x3DC26A41#32, 0x3A577E1F#32,
      0xBC3ECCF5#32, 0x3CD239D1#32, 0x3E14AE3E#32, 0x3CDDA538#32, 0x3E6AB324#32, 0xBE289C79#32, 0x3D2786C4#32, 0xBCFF9214#32,
      0x3E2AF01F#32, 0x3E261CC1#32, 0xBDB8860A#32, 0xBD464EC6#32, 0x3E25F86D#32, 0xBDC00157#32, 0xBD59E47F#32, 0xBD54AACB#32,
      0x3D4B4681#32, 0x3E32C8E3#32, 0xBD712DB5#32, 0x3D1CEAB2#32, 0xBE45A34F#32, 0xBCB3FA73#32, 0x3CF14BDE#32, 0xBDCAE071#32,
      0xBDCAA553#32, 0xBCC8650A#32, 0xBD891658#32, 0xBC1C1EF2#32, 0x3DE78372#32, 0xBD65465E#32, 0x3D9F7433#32, 0xBDA15696#32,
      0x3CDEFBCD#32, 0x3DFDA019#32, 0xBE4CC119#32, 0x3D0F7F4B#32, 0xBC9E57FF#32, 0x3D16EBB4#32, 0x3C5CF99C#32, 0x3C45C921#32,
      0xBE5AA088#32, 0x3DA21772#32, 0xBB9A6BB7#32, 0x3BE82E58#32, 0x3C238C90#32, 0x3D762CD4#32, 0xBD08DA2F#32, 0x3BA6D446#32,
      0x3D379822#32, 0xBC8F458E#32, 0x3DE0D1C5#32, 0x3D8A57F1#32, 0x3DBD054D#32, 0x3DA075A0#32, 0x3C7C5500#32, 0x3DBBA6E0#32,
      0x3D818F81#32, 0xBDAB420B#32, 0x3B887167#32, 0x3D262EFC#32, 0x3D10D98C#32, 0x3D6E147E#32, 0xBCB10C8C#32, 0xBBC0E35A#32],
    ![0x3CB77BE5#32, 0xBDC9BC97#32, 0x3D867DD3#32, 0xBDB7AEBE#32, 0x3DA188FF#32, 0x3E508126#32, 0x3BBC4BF9#32, 0xBD8F883D#32,
      0xBDA5622A#32, 0xBDA00E2A#32, 0x3DFC8B52#32, 0xBDCF1482#32, 0x3E1F2B0E#32, 0xBD8FF63A#32, 0x3C82BC14#32, 0x3E0E85EE#32,
      0xBD2FE159#32, 0x3E262907#32, 0x3DBC6035#32, 0x3D8C01A3#32, 0x3DA264E8#32, 0x3DA13FCD#32, 0x3E08B910#32, 0xBE0F8564#32,
      0xBC821E87#32, 0x3C33FF06#32, 0xBD448B33#32, 0xBE2DA758#32, 0xBE968437#32, 0x3D8569D4#32, 0x3D8D8662#32, 0x3CA25333#32,
      0xBCB7DDAC#32, 0x3DEEF8AD#32, 0xBCCA801C#32, 0xBDAD5E05#32, 0x3DF8B459#32, 0x3D02FDD0#32, 0xBBB9A760#32, 0x3D6E0BBB#32,
      0x3DE8BF64#32, 0x3D0F1E31#32, 0xBE04AE77#32, 0x3DC8E88C#32, 0xBE261BE4#32, 0x3DBE61B7#32, 0xBDE8911C#32, 0x3DAC369C#32,
      0xBCE04FD4#32, 0xBB285C22#32, 0x3CEE2EDA#32, 0x3C99087D#32, 0x3E20D3F0#32, 0x3E115E96#32, 0x3DAF46D2#32, 0x3C9F87DA#32,
      0xBCE7742E#32, 0xBD3268C3#32, 0xBDE39BE5#32, 0x3BCB5DC1#32, 0xBCFBC80D#32, 0xBA49554F#32, 0xBD85BA4F#32, 0xBD0CD4E9#32,
      0x3DB5FCC5#32, 0xBCB25268#32, 0xBDF8DE7E#32, 0x3D83889B#32, 0x3DB4D0A2#32, 0x3E15875A#32, 0x3CDCC42B#32, 0xBD0F8C06#32,
      0xBD9F465C#32, 0x3E3763AE#32, 0x3CFF6EDC#32, 0x3E00B349#32, 0x3DCB56EE#32, 0xBD63E3A2#32, 0xBD738092#32, 0x3D8A76BC#32,
      0x3CA31062#32, 0xBD239072#32, 0x3E112ED3#32, 0x3DBC956B#32, 0x3D557BA6#32, 0x3E87A50D#32, 0x3DBDDD88#32, 0xBCB062BC#32,
      0xBCDE88CC#32, 0x3D92A0D3#32, 0xBD280AE0#32, 0x3CB66A01#32, 0xBE2A4CFC#32, 0xBCB95011#32, 0x3DC61C37#32, 0x3E01AAA4#32,
      0xBD610537#32, 0x3B81128C#32, 0x3E392FF1#32, 0x3D653DA4#32, 0xBD15E5DD#32, 0xBD37BE40#32, 0xBE465465#32, 0x3D10FC6C#32,
      0x3D65AAA1#32, 0x3D0EC82E#32, 0x3E2DD63C#32, 0x3C947F15#32, 0xBCECC7D4#32, 0xBC86E40B#32, 0xBC7D4906#32, 0xBD86E694#32,
      0xBDD06DBF#32, 0xBE691955#32, 0xBDD1B884#32, 0xBDCE82FD#32, 0xBDA04F17#32, 0x3DAB24D1#32, 0x3D14E2D5#32, 0x3D5F3B46#32,
      0xBC12F403#32, 0x3D91FBB6#32, 0xBE8C0A93#32, 0x3DED66DE#32, 0x3E0D5E7D#32, 0xBCEC3694#32, 0x3DF95A31#32, 0xBE03D26E#32],
    ![0x3C78C46F#32, 0x3DD7B7E1#32, 0x3A2434BF#32, 0xBDABD38F#32, 0x3DEC4A88#32, 0x3D81EE8A#32, 0xBD4DA845#32, 0x3DD6D3CE#32,
      0xBD125EF5#32, 0xBDCDB207#32, 0x3D35E3B4#32, 0x3D9ED347#32, 0xBC8CF775#32, 0xBE132B0F#32, 0x3D232E0E#32, 0x3DEB760B#32,
      0x3D8878BC#32, 0x3D8E6655#32, 0xBE17AF51#32, 0x3D40039C#32, 0xBC310273#32, 0xBDFCDDA2#32, 0xBE22A3B9#32, 0x3C5453E0#32,
      0x3CEAE738#32, 0x3E13FB31#32, 0xBDD955F8#32, 0xBE17F53F#32, 0xBDF9416A#32, 0x3D91BAC2#32, 0x3DA604F5#32, 0xBE1CBB89#32,
      0xBD34BDD8#32, 0xBDCF5576#32, 0xBE48BB74#32, 0xBCB506A8#32, 0xBD4BA672#32, 0xBCB6857B#32, 0x3DA00D74#32, 0x3D3141BF#32,
      0x3D838E6B#32, 0x3E09AF69#32, 0x3D4F9871#32, 0x3D677130#32, 0xBE0E74A0#32, 0x3DA571C7#32, 0x3DD686A5#32, 0xBCBF8780#32,
      0x3C0395ED#32, 0xBE01C3BA#32, 0xBD7B9F68#32, 0xBD16ACAA#32, 0xBDC6CFDC#32, 0x3DCF8312#32, 0x3E144EFD#32, 0xBD3637D4#32,
      0x3DCDF76E#32, 0x3D21B2AE#32, 0xBD834D13#32, 0xBD5C3403#32, 0x3D1C4FB6#32, 0x3D49C74C#32, 0x3D0CEE71#32, 0xBCA6DF25#32,
      0x3E42FB30#32, 0x3D991DF3#32, 0xBE849D49#32, 0xBE08BCD6#32, 0xBE19F15F#32, 0xBE28980C#32, 0xBE12C5BF#32, 0xBDD8141A#32,
      0x3BAD0124#32, 0x3D78F7A6#32, 0x3D7E61FA#32, 0xBD368DFA#32, 0x3CBC5957#32, 0xBCCB4AF1#32, 0xBDE3EDB5#32, 0x3C34B6A1#32,
      0xBDD8DFA3#32, 0x3D7E93A1#32, 0x3CB679CE#32, 0x3E4EDC28#32, 0x3D5CC0D9#32, 0xBE09D7F4#32, 0xBE0010D2#32, 0xBE3F55EA#32,
      0x3D389AB4#32, 0xBD839748#32, 0x3D9F84CD#32, 0xBDE94EBC#32, 0x3CF37DD5#32, 0xBD7114EE#32, 0x3E182115#32, 0x3D47343B#32,
      0xBD891CAD#32, 0x3DF4228C#32, 0xBCDF3536#32, 0xBD9F225A#32, 0x3E39B343#32, 0xBD9B8089#32, 0xBE3A4309#32, 0xBD277834#32,
      0xBE5AF846#32, 0x3D723C24#32, 0xBD2EB56D#32, 0x3E1426F7#32, 0xBE1BC308#32, 0x3BFA8C38#32, 0xBE1E9630#32, 0xBD2D2328#32,
      0xBDFDC130#32, 0x3DFE10E2#32, 0xBBC96E07#32, 0xBDD815A0#32, 0xBC739D7A#32, 0x3E1BF0D7#32, 0x3D88E6F9#32, 0x3C3469D1#32,
      0x3C37DD90#32, 0x3DF0B85B#32, 0x3CAA86B2#32, 0xBE1E37E3#32, 0x3D399855#32, 0x3D8B9DEB#32, 0x3C02CEF6#32, 0xBD5E0583#32],
    ![0x3DE437BB#32, 0x3D6EF3A0#32, 0xBDF01179#32, 0xBD917853#32, 0x3DC1A9BD#32, 0xBC641C7D#32, 0x3C7785DF#32, 0xBD23C0F7#32,
      0x3D0A0487#32, 0x3E0042C0#32, 0xBD7535A4#32, 0xBE3F10DF#32, 0xBE10719F#32, 0xBE469334#32, 0xBDA3CFF8#32, 0xBDC0C5B7#32,
      0xBD68074A#32, 0x3E370B6F#32, 0x3E02414C#32, 0x3D3D2BFC#32, 0xBD303812#32, 0xBD993417#32, 0xBB967390#32, 0xBDF83769#32,
      0x3D0D7F54#32, 0xBC0AA51B#32, 0xBE25BBF0#32, 0x3DCCF74C#32, 0xBD834612#32, 0xBCBF4D4C#32, 0xBE3229BE#32, 0xBD25BD33#32,
      0xBDD95E8B#32, 0xBC408603#32, 0x3D8A95B4#32, 0xBE2D75D3#32, 0x3D6A025A#32, 0x3D51FEA4#32, 0x3D665181#32, 0xBE11A7BB#32,
      0xBD972686#32, 0x3D236A37#32, 0x3D7ECC45#32, 0xBD868CCE#32, 0x3BDBC658#32, 0xBBDEA979#32, 0xBD96489B#32, 0x3BDE102E#32,
      0xBDB1CBA9#32, 0xBB3A0D04#32, 0xBCFBA0D4#32, 0xBE61B18F#32, 0xBDE612E0#32, 0xBDD37390#32, 0x3D61FC71#32, 0x3D1F4762#32,
      0xBDCA9D77#32, 0xBDAB5EA8#32, 0xBDB47594#32, 0x3E1D9036#32, 0x3C0EF02B#32, 0xBCECDF95#32, 0x3DB1A2EC#32, 0xBD8B43AB#32,
      0xBB814C68#32, 0xBCE01291#32, 0x3D634C50#32, 0xBD6B9E6F#32, 0xBDADDE7B#32, 0x3C7B528E#32, 0x3E3F176C#32, 0xBDA211B1#32,
      0xBE02C206#32, 0x3CDAB3FF#32, 0xBDDA9F47#32, 0x3CC1C3D4#32, 0xBD89C4D4#32, 0x3D201207#32, 0x3DE59066#32, 0x3D8EB0FA#32,
      0x3D46474C#32, 0x3B03FA8D#32, 0x3DC5A8C2#32, 0xBD6F679C#32, 0xBC61835D#32, 0x3CCC3566#32, 0x3D8A99DC#32, 0xBDC727E4#32,
      0x3E04CD8D#32, 0xBD005D3D#32, 0x3CA20A2B#32, 0x3E038807#32, 0xBD9983DA#32, 0x3D690687#32, 0xBCFA8403#32, 0x3C0AE6BD#32,
      0x3D99DCD1#32, 0xBB45415B#32, 0x3CE9CB65#32, 0xBC7D807D#32, 0x3CF45FB8#32, 0xBD329284#32, 0x3DA287C2#32, 0x3D0C03E8#32,
      0x3DE8E6A7#32, 0xBD3CB7E7#32, 0xBC56F908#32, 0xBE6A9F16#32, 0x3D846E5E#32, 0x3D34F137#32, 0x3DE90D5D#32, 0x3DDB7250#32,
      0x3C8B3AD4#32, 0x3E6F98A9#32, 0x3E054FB7#32, 0x3C50292D#32, 0x3D9D24B3#32, 0xBD899752#32, 0xBDC7FF84#32, 0xBE20D48A#32,
      0x3D738B9B#32, 0x3DEBFEE9#32, 0x3D88835D#32, 0xBDD06ACD#32, 0xBDF2878B#32, 0x3CE7A76F#32, 0xBBE463DA#32, 0x3D9AE3A8#32],
    ![0x3CD0634C#32, 0x3C8D168A#32, 0xBD8D559D#32, 0xBD182A9D#32, 0x3DFFBC4D#32, 0x3E461AEF#32, 0x3DA968DD#32, 0xBA311C4D#32,
      0x3D56E523#32, 0xBDAEED36#32, 0x3D74F38A#32, 0x3D31D780#32, 0xBDD1278F#32, 0xBCFCEF95#32, 0xBD3A6BD6#32, 0x3DA36A57#32,
      0xBE0BB8C2#32, 0x3A546D89#32, 0xBC932C24#32, 0x3DE3C940#32, 0xBCAD1E0F#32, 0xBE2A5D41#32, 0xBD8DD7AC#32, 0x3DF316B6#32,
      0x3C22D9BA#32, 0x3BA4F7BD#32, 0xBD8D32AA#32, 0x3B26ED54#32, 0x3E0D1E2B#32, 0xBD68373A#32, 0x3DEA2F23#32, 0x3DCA0BC6#32,
      0x3DF25B3F#32, 0xBD1A3CB7#32, 0x3CF649D5#32, 0xBE03D782#32, 0x3D6E1C72#32, 0x3CA56C68#32, 0x3E8F04D8#32, 0x3E135BCF#32,
      0x3C6AEB8A#32, 0xBE393B80#32, 0x3DBB58C4#32, 0x3D4ACEE6#32, 0xBD8BD309#32, 0xBD97623D#32, 0xBD817D92#32, 0xBDA1DC06#32,
      0xBD97167A#32, 0xBDC9ACB8#32, 0x3D9F72D1#32, 0xBB2DE9B1#32, 0x3B49234B#32, 0xBC1B0F4B#32, 0xBDEC9B20#32, 0x3D0C2FB3#32,
      0x3D4ED21E#32, 0xBD7CD6BD#32, 0xBE343C6A#32, 0x3D690DE5#32, 0x3D813655#32, 0x3DCAE4AD#32, 0x3E08CE52#32, 0x3D08C00C#32,
      0xBD9479FE#32, 0x3CAB7B26#32, 0xBDA76117#32, 0x3D2075C3#32, 0xBDF6EE13#32, 0xBD82C5D6#32, 0xBCAEC1FA#32, 0x3E4C7897#32,
      0x3DB1E244#32, 0x3DC16A73#32, 0x3DA11A3A#32, 0x3D8844B5#32, 0x3C9DBF5B#32, 0xBD667040#32, 0xBE1E2E65#32, 0x3C376D66#32,
      0xBD3BC7FD#32, 0x3E23275C#32, 0xBD5EDEC2#32, 0x3D100192#32, 0x3B1E8D4E#32, 0x3C47761C#32, 0xBD75445E#32, 0x3C8514E9#32,
      0xBE1BB2E3#32, 0x3CEABB41#32, 0xBD356B28#32, 0x3D03D6E1#32, 0x3D96034D#32, 0x3B33E22C#32, 0x3DA20750#32, 0xBE0A05B3#32,
      0xBD19C99E#32, 0x3B48CF40#32, 0x3E10BF8E#32, 0x3DBE1F90#32, 0xBCE994D5#32, 0xBE1E4C1B#32, 0x3D92F241#32, 0x3C6ED400#32,
      0xBA56BF0C#32, 0x3E3DA225#32, 0xBC322BC1#32, 0x3D486A6A#32, 0x3D448317#32, 0x3DDEC200#32, 0x3E210E12#32, 0x3D6156F0#32,
      0xBD15AF3F#32, 0x3CDC93DF#32, 0xBD074C6B#32, 0x3AADA456#32, 0xBDC35BE2#32, 0xBC8E90A8#32, 0xBDB49116#32, 0xBD74C75B#32,
      0xBBE99C99#32, 0x3D610B78#32, 0x3C5488AA#32, 0x3DE3D724#32, 0x3D51E4AC#32, 0x3E60E711#32, 0x3D3A1CFD#32, 0xBD783CBA#32],
    ![0xBC7AE827#32, 0xBD73AA76#32, 0x3D3CC8C9#32, 0xBCA66201#32, 0x3D1573F8#32, 0xBD857D5A#32, 0x3DBF9D37#32, 0x3CC39ED5#32,
      0xBDCBE6FC#32, 0x3C812C77#32, 0x3DE51F92#32, 0xBDB0661C#32, 0x3D9B62E7#32, 0x3C5B55B0#32, 0x3DC48080#32, 0x3CBC0003#32,
      0x3D216578#32, 0x3DF2EBAE#32, 0x3D1EC250#32, 0x3CD3CD5F#32, 0xBCB11331#32, 0xBDBC5FF6#32, 0xBC1B7E4A#32, 0x3AABAF16#32,
      0xBD18CC1A#32, 0x3D886F4A#32, 0x3DA74E27#32, 0x3E84DC53#32, 0x3D86936C#32, 0xBD8A622B#32, 0xBE1C09FA#32, 0x3D99520A#32,
      0x3E28E690#32, 0x3D3E2D79#32, 0x3E2B89C0#32, 0xBE238300#32, 0x3D9B0E2E#32, 0xBD9D6634#32, 0xBCA2F55D#32, 0xBE159B3F#32,
      0x3E243EB7#32, 0xBDEEE491#32, 0xBC023F4C#32, 0xBD2B7BFE#32, 0xBE0CBFF8#32, 0x3D77A4D3#32, 0xBD408A26#32, 0xBE56B1E9#32,
      0xBC51E5FE#32, 0xBDD78293#32, 0x3E08AA15#32, 0xBE189EC4#32, 0xBB90B498#32, 0xBDED6FD8#32, 0xBD5AA5B4#32, 0x3E45E8E7#32,
      0xBD336BC9#32, 0x3D5C27F5#32, 0x3C0C3951#32, 0x3DA8D49A#32, 0xBD8F9396#32, 0xBD118452#32, 0xBD93931E#32, 0xBDB0B158#32,
      0xBD833C9B#32, 0x3CDEC809#32, 0xBDB32F66#32, 0xBD8346B2#32, 0xBD34BF25#32, 0x3C8BF564#32, 0x3D41AAB3#32, 0xBDCE94E0#32,
      0xBC3C742F#32, 0x3DABDF71#32, 0x3D245B05#32, 0xBD1CF486#32, 0xBD752FAA#32, 0x3DCF0F25#32, 0x3DE80A34#32, 0x3CC02BE0#32,
      0xBD79CACE#32, 0xBD87D92F#32, 0xBDF184AF#32, 0xBD7EE2E7#32, 0x3B032549#32, 0xBBFCFFA1#32, 0x3CC7FC13#32, 0xBE0BC1D8#32,
      0x3CD32F83#32, 0xBD9F3918#32, 0xBD99DDFE#32, 0x3C2D3752#32, 0x3DAE6993#32, 0xBD929A28#32, 0xBB56823F#32, 0x3D29E535#32,
      0x3C5A25D6#32, 0xBB2285AD#32, 0xBDBD402F#32, 0xBDCA1842#32, 0xBE2C673C#32, 0x3C9CD52C#32, 0x3DC2C3B9#32, 0x3D09887B#32,
      0x3CC748C8#32, 0x3CD932FB#32, 0x3DCD993D#32, 0xBD85F4D8#32, 0x3D957208#32, 0x3DEFD9EE#32, 0xBB26D33F#32, 0x3DB4D246#32,
      0x3D941C6E#32, 0xBE9571AF#32, 0xBD748B84#32, 0x3DA8C6DC#32, 0x3D9B8637#32, 0xBD0877DE#32, 0xBDFBB4FA#32, 0xBD88A589#32,
      0x3C075802#32, 0x3C40BE40#32, 0x3DC80A79#32, 0x3E3119F2#32, 0xBD25ABB2#32, 0x3CDF1447#32, 0x3DFF5575#32, 0x3D015391#32],
    ![0xBD4E66D9#32, 0xBDBF4FC5#32, 0xBD122074#32, 0xBD7DCCE6#32, 0x3D67B2E0#32, 0xBC66000A#32, 0x3E184009#32, 0xBD66169C#32,
      0x3D436E64#32, 0xBDE5CD84#32, 0xBD7EEACD#32, 0xBDF3B077#32, 0xBC8C6300#32, 0xBCCD8EDD#32, 0x3E238D2C#32, 0x3A3B7833#32,
      0xBD8B692B#32, 0x3CC577FC#32, 0xBDAF5CBE#32, 0xBE046399#32, 0x3CBE4EA0#32, 0x3BFC4468#32, 0x3C91A5F4#32, 0x3C8D89E8#32,
      0x3D6567EA#32, 0x3DBB5DF0#32, 0xBDE56800#32, 0xBDEA7638#32, 0xBD098A68#32, 0xBD473832#32, 0xBD779E8B#32, 0x3CC8D4A7#32,
      0x3C11EB4E#32, 0xBDA0085B#32, 0xBD0F33B8#32, 0x3CDA4CA5#32, 0x3E05386C#32, 0x3DC134C8#32, 0xBD48A8B9#32, 0xBCBAD8DF#32,
      0x3BDEABE8#32, 0x3E19F481#32, 0x3D4F2549#32, 0x3CE7E2F1#32, 0xBD97887A#32, 0x3B0AE644#32, 0xBCAC0FAB#32, 0xBC2EF990#32,
      0x3DFA9043#32, 0x3D2C3BC3#32, 0xBCE0006C#32, 0xBD9848C9#32, 0x3E18AAF2#32, 0x3C76614D#32, 0xBDCE565D#32, 0xBD599CDD#32,
      0x3E4F019E#32, 0xBE38CD63#32, 0xBCC2F1AD#32, 0x3E296CC0#32, 0xBD5DB1C3#32, 0xBE304EFB#32, 0xBDDEC933#32, 0x3CAB5F72#32,
      0xBD743808#32, 0x3D8CCA6E#32, 0x3DD5DC3A#32, 0x3D89723D#32, 0x3CB205F8#32, 0xBCCC57E5#32, 0x3D0AEC82#32, 0xBCC35C56#32,
      0x3E2C536B#32, 0xBDC66192#32, 0x3D684DBC#32, 0x3DF2262B#32, 0xBBDFECB8#32, 0x3D2E1946#32, 0xBD994351#32, 0x3BE1ED9B#32,
      0x3DBA7E54#32, 0xBE82698A#32, 0x3BB6F990#32, 0xBE2B8B18#32, 0x3D3D986A#32, 0xBDD53484#32, 0xBD994DBC#32, 0xBD3741B9#32,
      0xBE37C174#32, 0x3C6FFA16#32, 0xBD199173#32, 0xBD67911A#32, 0xBDB6B45C#32, 0x3D39B283#32, 0x3E240B0F#32, 0x3D209776#32,
      0x3D86736E#32, 0xBC865037#32, 0xBE289756#32, 0x3E3269CF#32, 0x3D960045#32, 0x3C2F2A10#32, 0xBDF5E41A#32, 0xBD469F92#32,
      0xBCEE772C#32, 0x3DC755EE#32, 0x3DA13F84#32, 0xBCBED1B1#32, 0x3D876076#32, 0xBE4AB991#32, 0x3DE86D48#32, 0xBD13740A#32,
      0xBDBF20BB#32, 0xBD1AC839#32, 0x3D80B505#32, 0x3E10B263#32, 0x3D82FE26#32, 0x3B63609E#32, 0x3DA4BF4B#32, 0x3BFE229A#32,
      0xBDBACAF2#32, 0x3CF974F3#32, 0x3DBFBB5E#32, 0xBE1FB211#32, 0xBE5D23F4#32, 0xBDBB8F4C#32, 0xBE0E295B#32, 0xBDDFE1CD#32],
    ![0xBD7E26D4#32, 0x3C8B2D47#32, 0x3B5E2FF0#32, 0x3C92D927#32, 0xBD01A124#32, 0xBC48DB65#32, 0xBDF1824C#32, 0x3E3CBDC4#32,
      0x3BE951BA#32, 0xBD84A48D#32, 0x3C4F09B5#32, 0x3D845A88#32, 0xBC83C135#32, 0x3D5C049F#32, 0xBD89A118#32, 0x3D02C9CC#32,
      0x3D3B78B5#32, 0x3E364CA7#32, 0xBDA9EAA4#32, 0xBE447734#32, 0x3D12442A#32, 0x3D5DEED9#32, 0xBCB4B12A#32, 0xBD6F9996#32,
      0x3DB6589D#32, 0xBDEFD101#32, 0xBE01B15D#32, 0x3CB4282E#32, 0xBBCDB1AB#32, 0xBE3855D0#32, 0x3DF82C8D#32, 0x3D9BABD3#32,
      0x3C06CD94#32, 0x3D3490A3#32, 0xBC5CCD95#32, 0x3C8BA818#32, 0x3DB6F3C8#32, 0xBE16B809#32, 0xBE36CB11#32, 0xBDDF52E7#32,
      0x3CD3AA45#32, 0x3DFA54AC#32, 0x3C996479#32, 0x3DED3455#32, 0xBD986BCA#32, 0xBE0E0D30#32, 0x3E086F53#32, 0xBE1C89D6#32,
      0x3CF76314#32, 0xBE081EFB#32, 0xBDD1DA7A#32, 0xBD8D94B7#32, 0xBC78B242#32, 0xBD1F63D1#32, 0x3DDA3B85#32, 0x3DC5757D#32,
      0xBDCA2A4D#32, 0x3D8C4B2C#32, 0x3CE80EDA#32, 0x3DEE9586#32, 0xBDB5D290#32, 0xBD9B32DE#32, 0x3D3934AA#32, 0x3D878406#32,
      0x3D96E1F6#32, 0xBCC2E0FB#32, 0x3C0919D9#32, 0xBD743F9A#32, 0xBE2304FA#32, 0x3D4D0FD4#32, 0xBD2CD020#32, 0x3DF66220#32,
      0xBDB1ADCB#32, 0x3C6CEC47#32, 0x3D88FB01#32, 0xBDAABCB2#32, 0x3D2058D7#32, 0x3E0D68F3#32, 0x3E1BB675#32, 0xBD663C61#32,
      0x3D895FED#32, 0xBD6BA348#32, 0xBE05347B#32, 0xBE44D00F#32, 0xBDB716B8#32, 0xBDD5301D#32, 0x3BB1F997#32, 0x3D75476A#32,
      0xBE1113B7#32, 0xBD926A23#32, 0xBC922777#32, 0xBD6D6FBA#32, 0xBD642619#32, 0x3D1FA3DE#32, 0x3D021931#32, 0x3BEF47FE#32,
      0x3E1469DB#32, 0x3C3A8DA5#32, 0xBD4F93B1#32, 0x3CD02A01#32, 0xBDB25496#32, 0x3E0BEA1D#32, 0x3D2774BF#32, 0xBCCDD04E#32,
      0xBE01C243#32, 0xBD225269#32, 0x3E47A3D1#32, 0xBCB0B552#32, 0x3DA2593F#32, 0xBD83692E#32, 0x3C238C37#32, 0x3CA22828#32,
      0x3E7CAC6F#32, 0xBCCBCA42#32, 0xBC65C33A#32, 0xBD0B8DF5#32, 0xBE0DAC24#32, 0x3DCE2AEE#32, 0x3CB63B23#32, 0x3D208162#32,
      0xBE3FA295#32, 0x3D527AC6#32, 0x3D1B39BC#32, 0x3E4690CA#32, 0x3C576BAA#32, 0x3D4A143B#32, 0x3DD0E1D8#32, 0xBDA80385#32],
    ![0xBAD4ACCC#32, 0x3E14E3E5#32, 0xBDC6DFC2#32, 0xBCFDFE7B#32, 0xBD8421C4#32, 0xBD971A50#32, 0xBDFD515C#32, 0x3E799E34#32,
      0xBD6065BF#32, 0xBD84D4C8#32, 0xBCDF7B03#32, 0xBE3331EE#32, 0xBCD033DC#32, 0xBD40BA39#32, 0x3DC015D8#32, 0x3D9DB795#32,
      0x3D3B7BF1#32, 0xBD071A76#32, 0xBD2E0E71#32, 0xBD9492E9#32, 0x3D873A40#32, 0x3D6111FD#32, 0x3E11075B#32, 0x3D00A2FB#32,
      0xBD6B778F#32, 0x3E008A6D#32, 0xBDFCEDF3#32, 0x3E1AEA9D#32, 0x3E062DC9#32, 0xBC98B74F#32, 0xBCD69CA2#32, 0x3E251594#32,
      0x3D4CF649#32, 0xBDB4942A#32, 0x3E078DF9#32, 0xBE0E34C8#32, 0xBCF7F682#32, 0x3C791C28#32, 0x3DB0ECD8#32, 0xBBFF2EA5#32,
      0xBB64A510#32, 0xBE3D0A91#32, 0x3CA21D3D#32, 0xBBB85AB0#32, 0xBDB352F1#32, 0x3D63F9E1#32, 0xBCED0840#32, 0x3BEA80ED#32,
      0x3D262456#32, 0x3DC34309#32, 0xBD2FD92F#32, 0x3C9A75B9#32, 0xBDA2639A#32, 0x3D13C665#32, 0xBD554F26#32, 0x3D98BCB7#32,
      0xBCC54918#32, 0xBD1147FB#32, 0x3CCFF30D#32, 0xBD1F8C9A#32, 0xBC83655C#32, 0x3DF99059#32, 0xBDB7AA3A#32, 0x3DE9666C#32,
      0x3E1AAAB3#32, 0x3DBEE197#32, 0x3D89866E#32, 0x3D769DD0#32, 0x3E18E8A9#32, 0x3E4AAE53#32, 0x3C400748#32, 0xBE2899F9#32,
      0x3E078006#32, 0xBD4D72A9#32, 0x3D0FC06C#32, 0x3E11AADD#32, 0xBD11D243#32, 0x3D50DDF2#32, 0xBDD593DC#32, 0x3D90FCE9#32,
      0xBD3B4231#32, 0x3C7D37A5#32, 0x3D47258B#32, 0x3E091B7A#32, 0x3E454445#32, 0x3D984C40#32, 0x3E37B602#32, 0x3D2EFC4B#32,
      0xBD2CDB0D#32, 0xBDB2C007#32, 0x3C37CF9E#32, 0x3D12312A#32, 0xBE025A56#32, 0xBD015C54#32, 0x3D2F2B23#32, 0xBE138CB1#32,
      0xBD609136#32, 0xBD385946#32, 0xBD2A2B79#32, 0xBCCABF36#32, 0xBBAFF0EB#32, 0xBE187C47#32, 0x3CBAF77A#32, 0x3D3845EB#32,
      0x3D5DD3EE#32, 0x3CF686FD#32, 0x3D81F7EC#32, 0x3D788294#32, 0x3D1780A0#32, 0x3DCA9534#32, 0x3E829398#32, 0xBDBC1F08#32,
      0x3DC1AD4F#32, 0xBC776243#32, 0x3CCE2488#32, 0x3D949122#32, 0x3E56801D#32, 0x3DA6C58D#32, 0x3D8CA291#32, 0x3DC1FEF3#32,
      0x3E196775#32, 0x3CDDFDD6#32, 0xBD984AFF#32, 0xBD38FFE7#32, 0x3DFD0309#32, 0xBD7E2AEA#32, 0x3D23AAA3#32, 0xBD00C125#32],
    ![0xBD5CF76A#32, 0x3B466AF4#32, 0x3D3D945C#32, 0x3E04235A#32, 0xBB7AE290#32, 0xBDBCF43F#32, 0xBBFD0AF8#32, 0xBBACAB45#32,
      0xBD752665#32, 0xBCFBD652#32, 0xBE09DD0A#32, 0x3DB169E6#32, 0xBE022723#32, 0x3C6656B6#32, 0xBD3A2AF3#32, 0x3E29F7B2#32,
      0xBDB685AF#32, 0x3D9FFA38#32, 0xBDBAC03F#32, 0xBE088E1C#32, 0x3D87E851#32, 0x3CFB2E74#32, 0x3BC9F8E8#32, 0x3D861966#32,
      0x3D83E09D#32, 0x3D193B36#32, 0xBE10EFE2#32, 0x3C0308FB#32, 0xBD9A337D#32, 0x3D3B04F0#32, 0x3D86D4E0#32, 0xBE4FD3D9#32,
      0x3C4923BE#32, 0xBD98B1A7#32, 0xBD5E0FCD#32, 0xBD176CAA#32, 0xBE2B4BE0#32, 0x3E49CC52#32, 0xBD1A08C9#32, 0x3E0AAF91#32,
      0xBDBB4C2E#32, 0x3B83813D#32, 0x3CE64921#32, 0x3CCE5689#32, 0xBCF96C63#32, 0xBC323655#32, 0x3BA2A7E8#32, 0x3D785050#32,
      0x3DF392A1#32, 0xBD1B650C#32, 0x3D14412C#32, 0x3D7EC9A9#32, 0x3D4A8EBF#32, 0xBE752A62#32, 0xBDEC575C#32, 0xBDA6F9B7#32,
      0x3B477401#32, 0x3E527E16#32, 0xBDE24465#32, 0xBD59B3CC#32, 0x3DE5036D#32, 0xBE4CBAEB#32, 0xBE15E152#32, 0x3C9B65A4#32,
      0xBDF73B2C#32, 0xBD981045#32, 0xBD5F3A5D#32, 0x3CB3E224#32, 0x3C06FB1A#32, 0xBE547CC7#32, 0x3D267989#32, 0x3D7165E7#32,
      0xBDD1940B#32, 0x3D0D9C45#32, 0xBD56B68B#32, 0xBD5BCB45#32, 0x3D437D09#32, 0xBD74D349#32, 0xBD927D31#32, 0xBC8DD373#32,
      0xBDE9A841#32, 0x3CC123FF#32, 0x3DFA9BDA#32, 0xBC299E82#32, 0x3D3A7EFC#32, 0x3D7AAD7E#32, 0xBAB6A6BD#32, 0x3DCA20A7#32,
      0x3CA23D88#32, 0xBE086002#32, 0xBD4404F1#32, 0xBDD57B1E#32, 0x3DA65844#32, 0x3D98460E#32, 0x3D69C90C#32, 0x3D98C3E2#32,
      0x3BC5D068#32, 0xBD1E91D3#32, 0x3CD6883D#32, 0x3BCCF3A9#32, 0x3D42EEB1#32, 0xBA4FA856#32, 0xBE0E4C05#32, 0x3DE0F339#32,
      0xBD8ED020#32, 0x3D898223#32, 0xBDB195EB#32, 0xBE80423E#32, 0xBE13DA3C#32, 0x3D8EE473#32, 0xBD9F05B2#32, 0x3D00C150#32,
      0x3B6819B9#32, 0xBD4B5376#32, 0xBD8C06EE#32, 0x3D7E2660#32, 0xBD84C7F8#32, 0x3E58438C#32, 0x3E253982#32, 0xBD31F31C#32,
      0xBD876BB1#32, 0x3E00BD58#32, 0xBE2FD1EF#32, 0x3C1DC1E4#32, 0xBE0BAA56#32, 0xBE1A2E88#32, 0x3C72476B#32, 0x3C9BB2F4#32],
    ![0x3D8EA7AF#32, 0xBD62362F#32, 0x3DC8F2AE#32, 0x3E27FCAA#32, 0xBD8C9509#32, 0xBD0973A8#32, 0x3DC7A785#32, 0xBD1D7FC0#32,
      0xBD4ADD30#32, 0xBE3D559E#32, 0x3C07F395#32, 0xBD8BBE5C#32, 0x3DAAB6AF#32, 0xBD864A1B#32, 0xBD8B1C1E#32, 0xBC15FDF4#32,
      0x3DE0EBE9#32, 0x3E17D89A#32, 0xBCBDFC4E#32, 0x3D04174F#32, 0xBE5BF04E#32, 0x3D525A47#32, 0xBD3BCBD8#32, 0x3D9CBC95#32,
      0xBDD7B44F#32, 0xBE46F82D#32, 0xBE921EAD#32, 0x3C1EB93C#32, 0x3D9B247E#32, 0xBD0BF3FA#32, 0x3D397260#32, 0x3D891474#32,
      0xBE12DAEC#32, 0x3D61F967#32, 0x3DEE6578#32, 0x3D9B73F1#32, 0x3D128F20#32, 0x3E2FBA54#32, 0x3D8A9452#32, 0xBE60552A#32,
      0xBDD2AE2D#32, 0xBB4E4E7E#32, 0x3B86A4D1#32, 0x3D91713B#32, 0xBCF78C24#32, 0xBD85055B#32, 0xBDC7A4A6#32, 0x3DF35387#32,
      0xBD34467D#32, 0x3D06BF65#32, 0xBD3B37AF#32, 0x3C97D06D#32, 0x3CB40FAB#32, 0x3CB48F3C#32, 0xBD341C8D#32, 0x3DFF1B67#32,
      0x3BDA4735#32, 0xBC493D2E#32, 0x3D207738#32, 0x3E2D6963#32, 0xBB2D5506#32, 0x3CFDAA33#32, 0xBD5D0EC6#32, 0x3D512EA3#32,
      0x3DDF598D#32, 0x3D7BD00C#32, 0xBE4D91A3#32, 0x3D9CA4DA#32, 0xBDDC0753#32, 0x3E13589B#32, 0xBE260D5B#32, 0xBD27F357#32,
      0x3D68D4ED#32, 0x3DA90490#32, 0xBDE9FD06#32, 0xBD76263D#32, 0xBDE7FB27#32, 0x3CAB7CEC#32, 0x3E074979#32, 0xBE498A3E#32,
      0x3AC91906#32, 0xBE04850A#32, 0x3CDC35A7#32, 0xBD078A97#32, 0x3D76A2DA#32, 0xBDB08C55#32, 0xBD26CE97#32, 0xBDFF4A9E#32,
      0x3E0FDC6F#32, 0xBCCA1903#32, 0x3CBEAEFE#32, 0x3E0E5E23#32, 0x3DFAA5F6#32, 0x3D460785#32, 0x3DA3E96B#32, 0xBE4F2675#32,
      0x3D2C680C#32, 0xBDDE6221#32, 0x3E2D9D06#32, 0xBE2DE0B9#32, 0x3DDEFACA#32, 0xBD7A7F11#32, 0x3DFD7F2E#32, 0xBCD0CD1E#32,
      0xBD9047C2#32, 0xBC98AEE3#32, 0xBD82CD85#32, 0x3BE6C124#32, 0x3DF159D6#32, 0x3CEFC7B2#32, 0x3D9AB798#32, 0xBD101B97#32,
      0xBDB81BCB#32, 0xBCA16334#32, 0x3DFA213C#32, 0x3DAED087#32, 0x3D761AA0#32, 0xBD680052#32, 0x3C940B83#32, 0x3DAC3E19#32,
      0x3E2AC4F9#32, 0xBD0EC1E0#32, 0xBD57699A#32, 0xBE79E8DA#32, 0x3D1D2267#32, 0x3CAE2012#32, 0xBD9C1E35#32, 0xBE00C884#32],
    ![0x3C89344A#32, 0xBB53A7AE#32, 0xBDD973AA#32, 0xBCE77C1C#32, 0x3CBA40FE#32, 0xBD06D9D1#32, 0x3D5BF7F0#32, 0x3DF59281#32,
      0x3D437766#32, 0xBBCD0383#32, 0x3D438CE9#32, 0xBCC21292#32, 0xBE144BBE#32, 0xBD2C195D#32, 0xBC48AADA#32, 0xBC5E1C4D#32,
      0xBDF99B7D#32, 0x3C93C9C3#32, 0xBD7099D1#32, 0xBCE4BCAB#32, 0x3D8E4E09#32, 0x3D628191#32, 0xBDA3A2CD#32, 0xBE3A6535#32,
      0xBDE922B8#32, 0x3C85559A#32, 0x3B0271B7#32, 0x3D363028#32, 0x3D158C36#32, 0xBCC153E6#32, 0xBE45D172#32, 0xBCBBCD0C#32,
      0xBDB5DF67#32, 0xBDDA2899#32, 0x3C1FFAF7#32, 0x3DBD52CC#32, 0x3E483405#32, 0x3D30C6C2#32, 0xBC0F0301#32, 0x3D556F1F#32,
      0xBC08BF4F#32, 0x3E3D1856#32, 0x3D35ABCA#32, 0x3CC396F5#32, 0xBDE224EF#32, 0x3CA3EF1A#32, 0xBCB1FE77#32, 0xBE002465#32,
      0x3DD88AB6#32, 0x3DAAA3F6#32, 0xBD203EF7#32, 0x3E01090E#32, 0x3D74D503#32, 0xBE048077#32, 0x3D2B38C9#32, 0xBDC9FDA0#32,
      0xBE784060#32, 0xBE11B8F1#32, 0xBD07EE06#32, 0xBD6882D8#32, 0x3C81F1E1#32, 0x3E70DCFC#32, 0x3DE2AA27#32, 0x3D21E25F#32,
      0x3D547F4A#32, 0xBDB79D38#32, 0xBE2F8EFB#32, 0x3CD83F05#32, 0xBC9C3376#32, 0x3D4C57BA#32, 0xBD057FF5#32, 0x3DBC0536#32,
      0xBCEA016B#32, 0xBC81F5D5#32, 0x3E2C7151#32, 0xBDE161C6#32, 0xBD867AB1#32, 0x3C96C842#32, 0xBD8B53ED#32, 0xBCCC84CA#32,
      0x3E1D8BD0#32, 0x3E0835B1#32, 0xBCA13978#32, 0x3D188556#32, 0x3D739EF9#32, 0xBC89F311#32, 0x3B419DC6#32, 0xBD9DAD03#32,
      0x3DEB007A#32, 0xBD973468#32, 0xBE06C2EA#32, 0x3DD6C543#32, 0xBDE5E70D#32, 0xBC9C7C32#32, 0xBDE75D42#32, 0xBD5B5DB5#32,
      0x3E016566#32, 0xB852C3C8#32, 0x3DC7CCB9#32, 0xBD1F91F6#32, 0x3D4B1926#32, 0x3CEA7898#32, 0xBD73593F#32, 0x3E288F2D#32,
      0x3C2339D2#32, 0xBD37822B#32, 0x3E1DD829#32, 0xBCC2E3F6#32, 0x3C8D83BE#32, 0x3E1A32D5#32, 0x3E1E5142#32, 0xBD783421#32,
      0x3DADAF77#32, 0x3E17EE56#32, 0x3D15B232#32, 0x3D852536#32, 0x3D7D150A#32, 0x3DF40154#32, 0xBC3671D1#32, 0x3C002B22#32,
      0x3DFCC237#32, 0xBD0CDFE4#32, 0x3C6BF51E#32, 0xBCC660A6#32, 0x3BD913BC#32, 0xBD9404BE#32, 0x3DB1D3CC#32, 0x3DED408E#32],
    ![0x3D5EAD99#32, 0xBD1CD76D#32, 0x3E073739#32, 0xBDC9AAD2#32, 0xBD951DD4#32, 0x3E213AFD#32, 0xBD293690#32, 0xBE304C49#32,
      0x3D984B02#32, 0x3D02442D#32, 0x3B90278F#32, 0x3DBD2767#32, 0x3DD9C272#32, 0xBD94A651#32, 0x3E166D9F#32, 0xBDADFD6C#32,
      0xBE09744C#32, 0x3D3566BC#32, 0xBE53C3D9#32, 0x3CFE54A9#32, 0xBE78ED17#32, 0x3E419700#32, 0xBD90DDF3#32, 0x3CBB8681#32,
      0x3D7A1841#32, 0x3DC14845#32, 0x3D42B5EF#32, 0xBE374BAB#32, 0xBC481F0F#32, 0xBDDD3BD5#32, 0x3DBBF3E6#32, 0x3C81061E#32,
      0x3DD21305#32, 0xBA5B63F2#32, 0x3D2DDFF8#32, 0xBC9559FE#32, 0xBE0D0B76#32, 0x3E6D26D7#32, 0xBD0AF3CF#32, 0x3CB9B4C2#32,
      0x3CBBB675#32, 0xBD7D9AD7#32, 0x3CF4BD0C#32, 0x3D812987#32, 0x3D8E2729#32, 0x3D2E0FEF#32, 0xBCEF702D#32, 0xBD6B6DEC#32,
      0x3DB7204E#32, 0x3D83D076#32, 0xBD9AE9A2#32, 0xBD99DAF9#32, 0xBC64BB36#32, 0xBD85726A#32, 0xBD6F66D7#32, 0x3E790726#32,
      0xBD0350DF#32, 0x3DFF28CF#32, 0x3DF1DE8D#32, 0x3DEEDE50#32, 0xBC576F75#32, 0x3A2EF8F0#32, 0x3D3AC4B0#32, 0xBCBD666E#32,
      0x3DA1F81B#32, 0x3B81E530#32, 0xBCCFFA16#32, 0xBE811D4F#32, 0xBBF78347#32, 0x3E30CD71#32, 0xBD95881B#32, 0xBC57B79A#32,
      0x3D56CF2F#32, 0x3D6F91D6#32, 0x3D9F2821#32, 0x3BAC7AD9#32, 0xBAA948C2#32, 0xBAF62A63#32, 0xBE00F5C5#32, 0xBD5F428C#32,
      0x3E007DE5#32, 0xBE1E4383#32, 0x3DB8EE7D#32, 0x3DD16E1A#32, 0x3D9080CC#32, 0xBDE3FA47#32, 0xBE472E16#32, 0xBD0B0B85#32,
      0xBC2B62E6#32, 0xBD6E998C#32, 0xBE11EA2F#32, 0x3E3AB08C#32, 0x3B9E9208#32, 0xBE330685#32, 0xBDEAF665#32, 0x3DEAB6A1#32,
      0xBD8FB30D#32, 0x3D1C04A9#32, 0xBD83BA6A#32, 0x3CF5F227#32, 0x3D16F0AC#32, 0xBC23D3E2#32, 0xBDA8CCFD#32, 0x3DD89DD9#32,
      0x3DC606C7#32, 0x39895FDA#32, 0x3C74A82F#32, 0x3CAC42BC#32, 0xBE318634#32, 0x3D7FA573#32, 0x3D5A13F8#32, 0xBC84BECF#32,
      0xBD8190ED#32, 0x3D60BFBA#32, 0x3BB1FFD4#32, 0x3C8D78A5#32, 0xBD9EA989#32, 0xBD15A978#32, 0x3DD45064#32, 0xBE57F30B#32,
      0x3E43D145#32, 0x3E1E561B#32, 0x3DAD9804#32, 0x3E107F0F#32, 0xBD832BDA#32, 0x3D5D29E3#32, 0xBD71C9C1#32, 0xBE2BEFBD#32],
    ![0xBC5604A1#32, 0xBD919FA1#32, 0x3CADE704#32, 0xBDCBB886#32, 0xBCE78DF2#32, 0x3D918434#32, 0xBCBA0978#32, 0x3D2905A6#32,
      0xBE40B673#32, 0xBD56AEFA#32, 0xBDCBDDDF#32, 0xBD2E50A7#32, 0x3CAFA8DA#32, 0x3CF89071#32, 0x3CE50FA4#32, 0x3D4866A0#32,
      0x3B14CCAA#32, 0xBD95160B#32, 0xBC5F7A1D#32, 0xBE3495D1#32, 0x3DBECCE3#32, 0x3E01A4FC#32, 0xBC97271B#32, 0x3DB0844A#32,
      0x3C8EF020#32, 0xBD16A90C#32, 0xBD3BBDFF#32, 0x3DAAD56C#32, 0xBD46BF1F#32, 0x3DAD5A98#32, 0x3D8686A0#32, 0xBD555FBE#32,
      0xBD13E73E#32, 0xBCDDE0D4#32, 0xBD923211#32, 0x3D42172C#32, 0x3D329856#32, 0x3CC10BDA#32, 0xBD05A4A9#32, 0xBD9F718D#32,
      0xBE11E757#32, 0x3D8EEB23#32, 0xBE0521EF#32, 0xBCAB62CB#32, 0x3E0057E3#32, 0x3D5D3408#32, 0xBCFE633B#32, 0x3D632719#32,
      0xBBDE4A61#32, 0x3E64EE1F#32, 0xBDB5CB14#32, 0xBD518AB0#32, 0xBD8B7FFB#32, 0xBDAD91FD#32, 0x3E054060#32, 0x3BB0EC11#32,
      0xBD6DA1D9#32, 0x3DB64A53#32, 0xBC351067#32, 0x3A83FF92#32, 0xBC3E2792#32, 0xBDE48271#32, 0x3CAD0204#32, 0xBD8A11EB#32,
      0xBB8FEAB0#32, 0xBD3B1024#32, 0x3D7D18CA#32, 0xBD0AF955#32, 0xBDEAA80F#32, 0x3D93179D#32, 0x3D7D9343#32, 0xBD1292C7#32,
      0xBDF6CCCD#32, 0xBD36E26A#32, 0xBCC7EF61#32, 0xBDDF1496#32, 0x3BDB5E76#32, 0xBDB20C58#32, 0x3B324918#32, 0x3D7B2CF9#32,
      0x3E1CA2DE#32, 0x3D8365C6#32, 0x3D1089D9#32, 0x3DFF02B5#32, 0x3C985CB9#32, 0x3C8AA029#32, 0xBE398F0A#32, 0x3E076640#32,
      0x3C97CA12#32, 0x3D699209#32, 0xBC643B10#32, 0x3D7DF6B5#32, 0xBE58875A#32, 0x3D483581#32, 0xBCAEE3B2#32, 0x3E032811#32,
      0xBD99EB22#32, 0x3DFA60FF#32, 0xBC8A4E0D#32, 0xBD8C5FE8#32, 0x3E32ECEC#32, 0x3D262286#32, 0x3CB5401B#32, 0xBCB0ADBC#32,
      0x3CC61D6E#32, 0xBE378455#32, 0xBC91825C#32, 0x3E822DB9#32, 0x3D42ABE9#32, 0xBE0A2A1E#32, 0xBD2FEF05#32, 0x3DCBCF37#32,
      0x3DB40B8E#32, 0x3D3F294D#32, 0x3C73AA0B#32, 0xBD01A009#32, 0xBD3159BB#32, 0x3E0ABDB0#32, 0xBD40AB92#32, 0x3D5F3799#32,
      0x3E1CCDA1#32, 0x3CBB8709#32, 0xBD1C1D38#32, 0xBDE9670E#32, 0x3DC146EC#32, 0xBBB328C0#32, 0xBD2CDAC3#32, 0x3BE612A5#32],
    ![0x3D8C2452#32, 0xBD7C0B86#32, 0x3E1D4A54#32, 0xBD8A6CD6#32, 0x3CA6A75E#32, 0x3CC91798#32, 0xBE26B08D#32, 0xBBB83D54#32,
      0xBD579952#32, 0xBCFAA5AA#32, 0x3C5F590B#32, 0x3CCA575A#32, 0xBD5AD2F6#32, 0x3DADE893#32, 0x3E6FE994#32, 0xBD45ADAA#32,
      0x3CBCFCD9#32, 0x3E4ED759#32, 0x3DAFBF3B#32, 0xBBCD2F37#32, 0x3D963E87#32, 0xBE0F771A#32, 0x3C962ED6#32, 0xBDE029D1#32,
      0x3DD1B753#32, 0xBE070224#32, 0xBCBAD012#32, 0xBBD646E9#32, 0xBD95546F#32, 0xBDC531C4#32, 0xBCCB65BE#32, 0xBDF14B74#32,
      0xBC848DC6#32, 0xBD71E46F#32, 0xBE07ACBA#32, 0xBD6FA7CF#32, 0xBDAA712E#32, 0xBA0A3DFC#32, 0xBCF5F5A7#32, 0x3E0C1359#32,
      0xBCD7E937#32, 0xBDAB92E9#32, 0xBD32D4CD#32, 0xBC2B17E2#32, 0x3E2B0B08#32, 0xBD9EE08D#32, 0x3DAF8B19#32, 0x3D2768F0#32,
      0xBDFF071C#32, 0x3B8021E2#32, 0x3E1EA3CF#32, 0xBC11A968#32, 0xBD636534#32, 0x3D5336DC#32, 0x3D32C312#32, 0x3DEB39AB#32,
      0xBE1F842A#32, 0x3D2DDA5B#32, 0x3D98FF03#32, 0xBD23F34E#32, 0x3DF69075#32, 0xBBB2BAF3#32, 0xBC40C2BA#32, 0x3E0DEA3F#32,
      0x3D3AAA79#32, 0xBC8EDF0F#32, 0xBC1CE1F0#32, 0x3E492537#32, 0x3B3AD105#32, 0xBDC09DB1#32, 0x3C37AA11#32, 0xBC182A8C#32,
      0x3DF01F73#32, 0xBDBDDC22#32, 0xBDE9B904#32, 0x3E18AC0B#32, 0x3E1656AA#32, 0x3D030E25#32, 0x3D141E67#32, 0xBE1823DB#32,
      0xBD94D839#32, 0x3D3EB8FE#32, 0xBDA362BB#32, 0xBDF2A535#32, 0xBD2D5C89#32, 0xBE1AF288#32, 0xBC7495C4#32, 0xBD77FC30#32,
      0xBD0380EE#32, 0xBB80184C#32, 0xBC887EA1#32, 0xBE049AB0#32, 0xBD91C517#32, 0x3D58EBD8#32, 0x3B8661D4#32, 0x3C7F6A34#32,
      0x3DA8FB79#32, 0xBCFA049E#32, 0x3DD7909F#32, 0x3D66C69C#32, 0xBC0BBB4E#32, 0xBD153CA3#32, 0x3E17124F#32, 0x39FE4F56#32,
      0x3DFEDAB3#32, 0x3D61467D#32, 0x3C864DAB#32, 0xBDF904FC#32, 0x3D884584#32, 0xBD71AAC3#32, 0xBD1101D7#32, 0xBD1BF90D#32,
      0xBDE78B4E#32, 0x3D446662#32, 0xBDC6546C#32, 0xBC203E34#32, 0xBDA3F28A#32, 0xBD05AE2F#32, 0xBDB5DA71#32, 0x3DA4F6CE#32,
      0x3B9E1A57#32, 0x3DA85EE8#32, 0x3D0C2D71#32, 0xBCD05F41#32, 0x3DBD653B#32, 0xBE1EDE65#32, 0x3D6D31A4#32, 0xBC4C5F75#32],
    ![0x3E654BDF#32, 0x3D05DD12#32, 0x3D177FD8#32, 0xBE4B6266#32, 0xBE1D1276#32, 0xBE414127#32, 0x3DAA4D61#32, 0x3D380091#32,
      0x3C3B7CEC#32, 0xBD8872EF#32, 0x3E0E4B43#32, 0xBBC0DA56#32, 0x3E003F99#32, 0x3D05BAB3#32, 0x3DF9A54F#32, 0x3C89F02A#32,
      0x3CEB0561#32, 0xBD59436B#32, 0x3E002E99#32, 0x3DA965FE#32, 0x3B280DE2#32, 0xBD278368#32, 0x3D9FC1F6#32, 0x3E43DC1F#32,
      0x3C71BE73#32, 0xBCAA1BAC#32, 0xBE1A94AC#32, 0xBB91771D#32, 0x3D8996C4#32, 0x3CB3D8E2#32, 0x3D24C6E3#32, 0x3DFE03C3#32,
      0xBDEADA40#32, 0x3D487ED8#32, 0xBCF353C0#32, 0xBDAC2AF4#32, 0x3E27DD5D#32, 0x3D6C3099#32, 0x3E2B21AC#32, 0xBCDE1F3D#32,
      0x3DE9E351#32, 0xBD1B4EA0#32, 0x3E3367C7#32, 0x3E0DAD9A#32, 0xBE52CD1A#32, 0xBD001EF4#32, 0xBDAC7ADE#32, 0xBD373199#32,
      0x3B9D8374#32, 0x3C1E1034#32, 0xBE0BD29B#32, 0x3C8C186D#32, 0xBD4DC8EF#32, 0x3D8CF96D#32, 0x3D6E634E#32, 0xBDABAB88#32,
      0xBDD9A33A#32, 0xBBC20C7C#32, 0x3CF24670#32, 0xBE0B0EA4#32, 0xBD1D9FEB#32, 0xBDA97410#32, 0xBD06FB6D#32, 0x3DB48EA2#32,
      0xBD58712D#32, 0xBDEF8A6E#32, 0x3C95AD46#32, 0xBD1D1E1C#32, 0x3D4C3E47#32, 0xBD9E211F#32, 0x3D387CE3#32, 0x3D7E3A5B#32,
      0x3DDDD5D8#32, 0xBD8F62A7#32, 0x3CEFF05A#32, 0x3D93D268#32, 0x3C2B166F#32, 0xBCC4732B#32, 0xBD6A79A1#32, 0x3DC7D35A#32,
      0xBCCC6019#32, 0xBD129EB2#32, 0xBDBFE64F#32, 0xBCA51DF6#32, 0x3C4136E2#32, 0x3DA635DD#32, 0xBCC513E7#32, 0xBD18E740#32,
      0xBD2B360D#32, 0x3DD0AA39#32, 0xBD7C53A9#32, 0x3CB12119#32, 0xBB25F868#32, 0x3DF15A45#32, 0xBCF98668#32, 0xBCC979BB#32,
      0xBC4182CA#32, 0x3E4885E0#32, 0x3B91B4E9#32, 0xBDB3DC53#32, 0xBDF47B7C#32, 0x3E2C7451#32, 0xBDAB8CB1#32, 0xBC192CB2#32,
      0xBD025D16#32, 0xBC70D62D#32, 0x3CFF7081#32, 0xBD5DA636#32, 0x3E11D584#32, 0xBDFD7162#32, 0xBE015047#32, 0x3D7D0418#32,
      0xBD512AB8#32, 0x3B29D343#32, 0x3D5D77E0#32, 0xBE0FC3D4#32, 0xBDA93EBE#32, 0xBCC8CA49#32, 0xBD17711A#32, 0xBD810AFA#32,
      0x3C966D91#32, 0x3DB15561#32, 0x3C413E71#32, 0xBCD30739#32, 0xBDBFE190#32, 0xBD2A5100#32, 0xBB7A41D1#32, 0x3D9B4A3D#32],
    ![0xBCA1C705#32, 0x3DE1C0AC#32, 0x3D0CD19D#32, 0xBD8AFA59#32, 0x3C1089C5#32, 0xBE13D566#32, 0xBDB09A6B#32, 0x3D82BFB8#32,
      0x3BCF9D85#32, 0x3D94768A#32, 0xBD181B11#32, 0x3DBD4DAC#32, 0xBD428DE0#32, 0x3DBC7B90#32, 0xBCA56668#32, 0x3DCECFED#32,
      0xBD7C029E#32, 0xBD1173FA#32, 0x3E36CAE7#32, 0xBD53D938#32, 0xBDED0AE7#32, 0x3DB06C2D#32, 0x3D7C180E#32, 0x3DAFCEC0#32,
      0x3E82F7CC#32, 0xBC32FC8C#32, 0xBC4184FF#32, 0xBDC6CE7F#32, 0x3D5995C4#32, 0x3C7B93B8#32, 0x3D6CA252#32, 0xBE2898F0#32,
      0x3DE07E1C#32, 0x3DFC047B#32, 0x3E27CACB#32, 0x3E2934A1#32, 0x3E11E937#32, 0x3E0E9B21#32, 0x3B419A14#32, 0x3C6A5E1D#32,
      0x3DCE34F4#32, 0x3D2AF88D#32, 0xBD8F587B#32, 0x3E466B65#32, 0x3DE25E1B#32, 0x3C3F06D1#32, 0x3E1FCEB2#32, 0xBE75F93F#32,
      0xBDA3084C#32, 0xBD588334#32, 0x3DD1742C#32, 0x3CB11DF4#32, 0xBDF1D122#32, 0x3E06518D#32, 0xBDAFB800#32, 0xBC959CE3#32,
      0xBDCC4BD7#32, 0xBC4FC568#32, 0x3D46E1C5#32, 0xBB8993A4#32, 0x3C6DAACB#32, 0x3DC2FF34#32, 0xBD4AAA38#32, 0xBE3B403F#32,
      0x3E2361F2#32, 0x3C7F8F30#32, 0x3D286DCD#32, 0xBD93390F#32, 0xBCB095F5#32, 0x3CAF123F#32, 0x3BE3DC97#32, 0xBD58DF78#32,
      0x3C8F34C9#32, 0x3D6E6C6E#32, 0xBE29C2B0#32, 0x3E1E7EBE#32, 0xBD2B63B7#32, 0xBD0A2D72#32, 0xBE1A2C73#32, 0xBDBE1ACC#32,
      0xBDB988C9#32, 0x3C8E9362#32, 0xBC276FD6#32, 0x3D14C0C9#32, 0xBCE41C13#32, 0xBD8E070A#32, 0x3BF372B7#32, 0xBE158D0C#32,
      0xBD98EB95#32, 0xBD70C75B#32, 0xBE154F72#32, 0xBE0CB2D4#32, 0x3AFD9322#32, 0x3D129432#32, 0xBD0273C7#32, 0x3D348516#32,
      0xBE1FBEBA#32, 0x3E0BEC5A#32, 0x3D88783B#32, 0xBD4AD3B7#32, 0xBD208B61#32, 0x3E9F79EE#32, 0xBD2EDADF#32, 0xBD961B1A#32,
      0xBDBDF2D2#32, 0xBDDDE1FF#32, 0xBD2F9450#32, 0xBE335B26#32, 0xBD85BC9B#32, 0xBD52A519#32, 0x3CF5F0C1#32, 0xBD8AF6D5#32,
      0xBD07F876#32, 0xBD3BE911#32, 0x3E07998D#32, 0xBDEB229A#32, 0x3DCC8CD5#32, 0xBE07EC55#32, 0x3D1D8BBA#32, 0x3D2C97B2#32,
      0x3D1B0152#32, 0x3BD128D1#32, 0x3D53EAAB#32, 0xBDD3094E#32, 0x3E04F0A3#32, 0xBDFBB222#32, 0x3E0A5FDA#32, 0x3E4E864D#32],
    ![0xBD2CBA47#32, 0xBD9186B8#32, 0xBDCE0E99#32, 0xBD93A4D5#32, 0x3AAB0E78#32, 0x3D011765#32, 0x3C5CC344#32, 0xBE04AC54#32,
      0x3D875BCB#32, 0xBCDE74EA#32, 0x3DEAACE5#32, 0x3DA2DF5D#32, 0xBD47DBCE#32, 0x3CE0F7B0#32, 0xBE1AA1D2#32, 0x3C1E753E#32,
      0xBD350295#32, 0x3DC30E07#32, 0x3E020333#32, 0xBD51AC38#32, 0x3D538BC6#32, 0x3CC73496#32, 0xBD3B8A06#32, 0x3DFF906E#32,
      0xBDCC629E#32, 0xBDB1FE1A#32, 0x3D3CAB4C#32, 0x3DF4F077#32, 0xBC960371#32, 0xBDA0B263#32, 0xBCA917D0#32, 0xBD09E62A#32,
      0x3E1D43CD#32, 0xBD845BE3#32, 0xBCBA3500#32, 0x3C95A8EB#32, 0xBC9B82B8#32, 0xBE42C0E3#32, 0x3E744109#32, 0xBD2EA208#32,
      0xBDD8DD60#32, 0xBCA539DA#32, 0x3D4B0013#32, 0x3D1407DF#32, 0x3DBEAD91#32, 0xBDB97DA4#32, 0xBD225156#32, 0xBDD8060D#32,
      0xBDAE9A4D#32, 0x3D540C8D#32, 0x3C3A156F#32, 0x3D6037BC#32, 0xBE032D82#32, 0xBD0AF089#32, 0x3CB2EBA0#32, 0x3E0DBF87#32,
      0x3DE89CBD#32, 0x3C82AA37#32, 0xBC83E9FA#32, 0xBD99E238#32, 0x3BE3A8C1#32, 0xBC9C2616#32, 0x3CA09C0B#32, 0xBD939C2D#32,
      0x3E13AF48#32, 0x3D3E764D#32, 0xBE079CA5#32, 0x3D986F6A#32, 0x3D2A47E1#32, 0xBC4B6579#32, 0xBC258F7D#32, 0x3E35BEC5#32,
      0xBB88C85E#32, 0x3D03757C#32, 0xBCA114E1#32, 0xBCE9C20B#32, 0xBE01AFA1#32, 0x3D719ABD#32, 0xBD921D36#32, 0xBD4865D7#32,
      0x3CDE414F#32, 0x3DBF67A0#32, 0xBE0A7491#32, 0x3D64D4AE#32, 0x3DE7DFC0#32, 0xBDADB2D5#32, 0xBDBA72BE#32, 0x3E8532A4#32,
      0xBDBC30CE#32, 0xBD89D750#32, 0x3D19A6D8#32, 0x3DB661A4#32, 0x3DD4F101#32, 0xBD7649B2#32, 0xBDD1F95B#32, 0xBC706CC7#32,
      0x3DA2F380#32, 0xBDA254E9#32, 0x3D6DAEEB#32, 0x3E218D6C#32, 0xBC7BECEE#32, 0x3C811F5A#32, 0xBC87C583#32, 0x3DC2168A#32,
      0x3C7C2078#32, 0x3DB23DAE#32, 0x3CBCCC37#32, 0x3B1FD004#32, 0xBD614E44#32, 0x3B0F9E5D#32, 0x3D2E9820#32, 0xBE372ED0#32,
      0xBE22ED01#32, 0x3D4004EC#32, 0xBC4A7118#32, 0xBDA1901B#32, 0xBC843C93#32, 0x3D4A5A3F#32, 0x3CCF8424#32, 0x3E1EE97C#32,
      0xBC97A53F#32, 0x3DA04619#32, 0x3B871512#32, 0x3E26B975#32, 0xBD71F547#32, 0xBCEC0192#32, 0x3B08CCEE#32, 0xBD10B37F#32],
    ![0xBD0506BE#32, 0xBE02746E#32, 0xBB857C95#32, 0xBD379838#32, 0xBD518924#32, 0x3C982771#32, 0x3D0EA251#32, 0x3E17EB6E#32,
      0xBD7ADF29#32, 0x3E01582D#32, 0x3DA857AA#32, 0xBC7CE537#32, 0x3DF94F77#32, 0x3BCB8765#32, 0xBBE907C7#32, 0xBCC7B6AD#32,
      0xBD027511#32, 0x3E375ABE#32, 0xBD3DFC10#32, 0x3BE3C270#32, 0xBD3DA5F4#32, 0x3C953B6F#32, 0x3DD6BC6F#32, 0xBD842079#32,
      0x3D12D352#32, 0x3D465D4B#32, 0x3E306B2F#32, 0x3D5B17E9#32, 0xBD2D926F#32, 0xBB39D43B#32, 0xBD946D54#32, 0x3D6DE2E6#32,
      0xBD4E8B94#32, 0x3DBB7B40#32, 0x3D61ACE4#32, 0xBE1F2433#32, 0x3DDE2515#32, 0xB91A3912#32, 0xBCF96B4A#32, 0x3D1D0FE8#32,
      0xBD9E9078#32, 0xBD859412#32, 0xBE0AE80E#32, 0x3D13C83B#32, 0x3D17F8BA#32, 0x3D4EE44B#32, 0x3E1C8C50#32, 0x3DF1C4A5#32,
      0x3DFD9C2E#32, 0x3E1F08BF#32, 0xBC94553B#32, 0x3DFBFA0E#32, 0x3D37A3A2#32, 0x3DBE70C0#32, 0xBD5ED0FE#32, 0x3D800FD7#32,
      0x3E19AC2A#32, 0x3C859F6F#32, 0xBC46A23C#32, 0xBD494E88#32, 0xBE10D002#32, 0xBD4E70F8#32, 0xBE23BC14#32, 0xBDEF5FD2#32,
      0x3E213BDC#32, 0xBD10183D#32, 0xB9BC384A#32, 0x3D30993D#32, 0x3D5DE6BA#32, 0x3E05DFD7#32, 0xBDD150AC#32, 0x3D8BD1E8#32,
      0x3DB77906#32, 0x3E1107BB#32, 0xBC8F8F19#32, 0xBD5EDE49#32, 0x3D986918#32, 0x3CE8E303#32, 0x3C639D1C#32, 0x3CEB36F9#32,
      0x3D882128#32, 0xBC3B03B6#32, 0x3CC0407D#32, 0x3D1C52CB#32, 0x3E14D1A8#32, 0xBD7D37A3#32, 0xBE372A00#32, 0xBDA69778#32,
      0xBD9502BE#32, 0x3D04C760#32, 0x3D83FCE0#32, 0x3CD62B60#32, 0x3DCE26DC#32, 0xBA8A61DF#32, 0xBD911BA1#32, 0x3E2D27E2#32,
      0x3D8AE42A#32, 0xBCB6E68D#32, 0x3DAC55E5#32, 0xBC7FA59B#32, 0x3C7A213B#32, 0xBD251658#32, 0x3D9596C1#32, 0x3CCC106A#32,
      0x3DE27960#32, 0xBDB75E64#32, 0xBD926422#32, 0xBD983946#32, 0xBD915DEB#32, 0x3D9B4CF8#32, 0x3DE583D0#32, 0xBD86CBAF#32,
      0x3D22AEA1#32, 0x3DA6F3BE#32, 0x3C007EDA#32, 0x3CF68D5F#32, 0x3C1C8CDB#32, 0x3DCB5242#32, 0x3E192793#32, 0xBDBE58C6#32,
      0x3E002156#32, 0x3DA38E48#32, 0xBE05B47F#32, 0xBCCE875F#32, 0x3DDD2413#32, 0x3C9813E5#32, 0xBC91ABBD#32, 0x3DE36FDA#32],
    ![0xBC9B43F6#32, 0x3E282293#32, 0xBCCB6F42#32, 0xBD42C0B1#32, 0x3E05D04A#32, 0x3D031DA6#32, 0x3DEE957D#32, 0xBDC17E63#32,
      0x3D442E87#32, 0x3CBA82B5#32, 0xBE50425A#32, 0x3E379E01#32, 0xBD7CDE26#32, 0x3C963BBA#32, 0x3BB71288#32, 0x3CB7A061#32,
      0xBD8DCBBF#32, 0xBD367948#32, 0xBDCE9CD2#32, 0xBD911E68#32, 0xBE198D24#32, 0x3DA3C035#32, 0xBE016EA9#32, 0xBDB33E09#32,
      0xBD7F31B1#32, 0xBBC85A5B#32, 0xBE07C7FE#32, 0xBC830996#32, 0x3DD3BCC3#32, 0x3DB80165#32, 0x3E0ADDCC#32, 0x3D09519C#32,
      0x3D172AA7#32, 0x3E4C6D3A#32, 0xBCA67591#32, 0xBE52408A#32, 0xBD64C8B3#32, 0xBDA970B1#32, 0x3D41C2BA#32, 0x3B9CCEFD#32,
      0x3CFA4A42#32, 0x3E5185B6#32, 0xBDCA36FB#32, 0xBDD6A496#32, 0xBB82F828#32, 0xBD9A0296#32, 0xBE15ED81#32, 0xBD1754A6#32,
      0x3D082FE4#32, 0x3CB3C741#32, 0xBE32EB8A#32, 0xB9E6F7A9#32, 0xBD082ECC#32, 0x3DCDE47E#32, 0xBD8A0F54#32, 0xBE01E9AC#32,
      0x3B863116#32, 0x3C9A1869#32, 0x3DD2485C#32, 0x3D666FD7#32, 0x3DC00415#32, 0xBD32F60C#32, 0xBCC9C344#32, 0x3C6C1D6B#32,
      0x3E8358C2#32, 0xBE41B753#32, 0xBD6E81F8#32, 0x3DD3CE52#32, 0xBD5B56FA#32, 0xBD473C46#32, 0xBD47D104#32, 0xBE361CD0#32,
      0xBD7F4518#32, 0x3D949A20#32, 0xBC66ECC6#32, 0xBE247520#32, 0xBD1BC5F0#32, 0x3DE40332#32, 0x3BC605D5#32, 0x3DA901D9#32,
      0xBE88A9A2#32, 0x3D09F437#32, 0x3C46B6A9#32, 0x3D74C80C#32, 0xBD2FB288#32, 0xBD3F8181#32, 0x3DD6AC0C#32, 0xBD9B5001#32,
      0xBE6600CC#32, 0x3DC1A0E4#32, 0x3DAA6C33#32, 0xBDA0AC50#32, 0x3DA8A852#32, 0x3CD66895#32, 0x3D68E934#32, 0x3C0941B3#32,
      0x3DF08943#32, 0x3D0B297C#32, 0x3D9A583E#32, 0x3D148A5A#32, 0x3D77D0B4#32, 0xBE28E5AF#32, 0xBD766C09#32, 0xBCA558F0#32,
      0x3E2A48A7#32, 0xBDB28573#32, 0x3D2C7CE4#32, 0xBDC865C8#32, 0x3D90B253#32, 0xBD93F365#32, 0x3DAD6B37#32, 0xBE32AF26#32,
      0xBD4F02C1#32, 0x39ED90CD#32, 0xBDDF6A2F#32, 0x3D30016E#32, 0xBA947D43#32, 0x3CF8717F#32, 0x3E2E7476#32, 0x3DB6F86C#32,
      0x3E1AE12F#32, 0xBE45BC33#32, 0x3D7A09D9#32, 0x3DE90CD7#32, 0x3DD3E11B#32, 0x3D79010E#32, 0xBCBB5C3B#32, 0x3E000A72#32],
    ![0xBD2E3F00#32, 0x3D99E95F#32, 0x3CE2967A#32, 0x3CC50DE8#32, 0x3C66E758#32, 0x3CF1F663#32, 0x3D9B09CA#32, 0xBDD57FBA#32,
      0x3CA313B0#32, 0xBC17547B#32, 0x3DCF35E1#32, 0xBC294967#32, 0x3BC2457A#32, 0x3CADF841#32, 0xBD483133#32, 0x3DD722FE#32,
      0xBDD31E6B#32, 0xBDFF5C9F#32, 0xBD99C4C4#32, 0x3D0BF185#32, 0x3E07DEAA#32, 0x3E330669#32, 0xBC428671#32, 0xBD9B333C#32,
      0x3E0EA5DF#32, 0xBDCE7FBA#32, 0x3DB1D211#32, 0x3D9277C8#32, 0xBD33493A#32, 0x3D982FC1#32, 0xBDC9D0C3#32, 0x3D69A934#32,
      0xBDBC79BF#32, 0xBDBC3E25#32, 0xBDE58E6C#32, 0x3D6FDF53#32, 0x3DD3B927#32, 0x3D8E8E48#32, 0xBD0B4DA0#32, 0x3D2D4AB9#32,
      0x3DB0B7C8#32, 0xBD274432#32, 0xBD509376#32, 0xBC6D9414#32, 0x3D32253D#32, 0xBE4C240F#32, 0xBDEB95CA#32, 0xBD6F2F8E#32,
      0xBAF92409#32, 0x3DC90C02#32, 0xBE1FA9AE#32, 0x3D66ECEA#32, 0xBE73299C#32, 0xBCCA11F5#32, 0xBDB7CABC#32, 0xBCD8F9F4#32,
      0x3D9BE7EE#32, 0x3D7A6299#32, 0x3C4519FE#32, 0xBE2B47B4#32, 0x3E31C44C#32, 0x3C56D4D7#32, 0xBDB6BA34#32, 0x3DF4DED5#32,
      0xBD8D3B42#32, 0xBCBF26DE#32, 0xBC732F5D#32, 0xBD85FFAC#32, 0x3BF2216B#32, 0x3CD67C2B#32, 0xBB31A47E#32, 0xBC98E4E3#32,
      0xBDD5653A#32, 0xBDDBF81B#32, 0xBCE84F7C#32, 0x3C9096FA#32, 0x3AAA9BFF#32, 0x3C1FEAD7#32, 0xBE17673A#32, 0xBD9D68F1#32,
      0x3E0DAEDC#32, 0xBD3659AC#32, 0x3DE4B248#32, 0x3D7D6D39#32, 0x3CA89E39#32, 0x3D958E9C#32, 0x3E1FC871#32, 0xBDE50CB2#32,
      0x3CA69547#32, 0x3DB3F7D0#32, 0xBC8EC8AF#32, 0xBDE4E43E#32, 0xBE68F422#32, 0x3C8871D1#32, 0x3D60C4DE#32, 0x3DC535D0#32,
      0xBD94C89B#32, 0xBC5063F0#32, 0xBDBDA347#32, 0xBE029577#32, 0x3C1E1CD8#32, 0x3D0A870E#32, 0x3DDE1B72#32, 0xBD66B4D9#32,
      0xBD2E4572#32, 0x3CCD473B#32, 0xBD335DF7#32, 0x3E0B3BA0#32, 0xBD39E3BD#32, 0xBE39F5D3#32, 0xBD62FDF9#32, 0xBE00EEEF#32,
      0xBDA1AA02#32, 0xBACE7547#32, 0xBDE5D9AC#32, 0xBCE70758#32, 0x3D80AACE#32, 0x3D64BD57#32, 0x3E4E6C6B#32, 0x3D03F62F#32,
      0xBDDACF3E#32, 0xBCF6A075#32, 0x3E7B32B6#32, 0xBC46A3FA#32, 0xBB8D7E2F#32, 0xB8B66580#32, 0xBDD7BA63#32, 0xBDE7986F#32],
    ![0x3DA5F40C#32, 0x3CF6E7E0#32, 0xBB8AA687#32, 0x3D10C65B#32, 0xBCA58298#32, 0x3E033CF1#32, 0xBE350305#32, 0xBD62E6B3#32,
      0x3DF8F24E#32, 0x3CD64420#32, 0x3E0DADBD#32, 0x3CB9B3DF#32, 0xBD807647#32, 0x3E404F04#32, 0xBCB3C4DB#32, 0xBC4B9AAE#32,
      0x3DDBBFF5#32, 0x3B7B7D89#32, 0x3B9EFEA4#32, 0xBCFC4FA6#32, 0x3B053475#32, 0xBE03992E#32, 0x3D8363E0#32, 0x3E1DFD5C#32,
      0xBD88BDD3#32, 0xBD37685B#32, 0xBE4E5BE6#32, 0x3E112496#32, 0xBA9032CC#32, 0x3E251926#32, 0x3C2377AC#32, 0x3CFF1FEE#32,
      0x3D4B83A9#32, 0xBB9486C3#32, 0x3DC11E81#32, 0x3BECDEA7#32, 0xBD0CDF1E#32, 0x3D3C429E#32, 0x3BC66E1F#32, 0x3D9BFE7C#32,
      0xBD4A42A5#32, 0x3C830638#32, 0xBE01C036#32, 0xBDB0240B#32, 0x3DB14C49#32, 0x3EA6F02B#32, 0x3D4322CA#32, 0x3A9D5E60#32,
      0x3E3C744C#32, 0xBDB7B71E#32, 0x3DA2E9E2#32, 0x3C40DB55#32, 0xBDA7646E#32, 0x3DA4429F#32, 0x3CDD4DA5#32, 0x3BB5A06B#32,
      0x3C11895B#32, 0x3D96707E#32, 0x3BC55F55#32, 0xBD79E37B#32, 0xBDC4F33B#32, 0xBB4D6E89#32, 0xBE006A24#32, 0x3D9A885F#32,
      0x3E150E60#32, 0xBC0CFC85#32, 0x3B9E2181#32, 0xBDB97D99#32, 0x3AE9EC99#32, 0xBD5EEA3C#32, 0x3E09CC29#32, 0x3CF40A1E#32,
      0x3B3F0553#32, 0xBE0887AA#32, 0x3E0A9C73#32, 0xB9786649#32, 0x3D9F672A#32, 0xBD97A965#32, 0xBDEFEB6A#32, 0xBCB6D3C6#32,
      0x3C75DB13#32, 0xBC9545C2#32, 0x3DDEF35B#32, 0xBE0C8E7A#32, 0x3B1B4E4F#32, 0x3E066543#32, 0x3C265272#32, 0x3D964F4A#32,
      0x3D36CA9E#32, 0x3E214B19#32, 0xBDFE39CB#32, 0x3CB6F45C#32, 0x3D00A9D5#32, 0x3D9C2D9F#32, 0x3DFA3B76#32, 0xBD619898#32,
      0x3E3B6567#32, 0x3DA9D3DA#32, 0xBD18EC7C#32, 0xBC90FF7B#32, 0x3D87838F#32, 0x3D853D12#32, 0xBD786EA3#32, 0x3BE0D0C2#32,
      0xBDAC343D#32, 0x3DB55D86#32, 0x3DFFC7B3#32, 0xBB699AAD#32, 0x3CE72DE3#32, 0x3C742BEB#32, 0xBE0C3AEE#32, 0xBD8974AE#32,
      0xBE05B25D#32, 0xBD3803FF#32, 0x3D2AD7A9#32, 0xBD15E3EE#32, 0x3DEDEA7B#32, 0x3D39B2A4#32, 0xBD9B0294#32, 0xBDEC0474#32,
      0xBC3B1492#32, 0xBD770B01#32, 0x3DBA5C72#32, 0xBD5B85EC#32, 0xBD929738#32, 0x3E7BEF06#32, 0x3D153782#32, 0x3D0EB8EF#32],
    ![0x3C3FFC1D#32, 0xBD2EE0D1#32, 0x3D3B2CC7#32, 0xBD0C200B#32, 0xBC3D87E7#32, 0x3E4168C2#32, 0x3CCB5D28#32, 0xBD4EC1BE#32,
      0x3D91C948#32, 0x3E979834#32, 0x3DD64D24#32, 0x3D64B08C#32, 0x3DDE1DD7#32, 0xBD7C78A8#32, 0xBDA817C6#32, 0xBE2003AB#32,
      0x3CAFD3B5#32, 0x3D90932A#32, 0x3D65B655#32, 0xBE4318C4#32, 0x3DAF3935#32, 0xBE10CA24#32, 0xBE29E0B8#32, 0xBE9A78D4#32,
      0xBD14D90F#32, 0x3D89651D#32, 0xBDE398F9#32, 0xBD5C3D84#32, 0xBD51179C#32, 0x3DCA19CE#32, 0x3D148387#32, 0x3E0CBF7F#32,
      0x3D8FC425#32, 0x3D484F56#32, 0x3E195162#32, 0xBC0460CA#32, 0xBD308E69#32, 0x3D73FBCA#32, 0xBDC58254#32, 0xBD4B0531#32,
      0x3E41198E#32, 0xBDFB8CBF#32, 0x3E1FEBB3#32, 0x3D235840#32, 0xBDF6708B#32, 0xBE1B8B90#32, 0x3C57AE75#32, 0xBDC356F8#32,
      0x3DD987E0#32, 0x3D8914DE#32, 0xBD1F1D7E#32, 0xBDC02E1A#32, 0x3C4AF8E7#32, 0x3BE5AB32#32, 0xBD4CAEED#32, 0xBDB97693#32,
      0x3D3C82DD#32, 0x3D1232A8#32, 0xBE0C4719#32, 0x3D4CFC55#32, 0xBC63FB3A#32, 0x3BCAB400#32, 0x3CEF3AA2#32, 0x3B7C83E6#32,
      0xBE1D4720#32, 0x3DC7D69D#32, 0x3E00B3C3#32, 0x3D8FBBBC#32, 0xBD057D90#32, 0x3E11767A#32, 0x3A846C7D#32, 0x3D0147D1#32,
      0x3D8A2A68#32, 0x3E6ED459#32, 0x3D835650#32, 0xBBF25B68#32, 0xBDDC1534#32, 0x3B811B18#32, 0x3D71DEC9#32, 0x3C96ED57#32,
      0x3C7A848B#32, 0x3D7AF90F#32, 0xBD1BB2D6#32, 0x3D852EB9#32, 0xBDF7904A#32, 0xBCF13D52#32, 0xBDD77614#32, 0xBD07BBB4#32,
      0x3D0BD162#32, 0x3D9414E8#32, 0x3D2B964D#32, 0xBC9A4ED0#32, 0x3D9E4A79#32, 0x3CB82920#32, 0xBD904195#32, 0x3D04165C#32,
      0xBDAF1DEC#32, 0x3E1A73C0#32, 0xBDB82BCF#32, 0x3CAB3BCF#32, 0x3DB0812E#32, 0x3CAE59C7#32, 0x3D5C31BC#32, 0xBBACFA52#32,
      0x3C6BA035#32, 0xBD858176#32, 0xBD006FFA#32, 0x3D2382FE#32, 0xBD00B248#32, 0x3C571676#32, 0x3D1B3730#32, 0xBDD07522#32,
      0x3DAD52BD#32, 0x3DA8920E#32, 0xBD9F65D1#32, 0x3B9053AE#32, 0xBCED5653#32, 0xBCB6C0C4#32, 0x3DCE76E2#32, 0xBA91722F#32,
      0x3BC985BB#32, 0xBC0BABC8#32, 0xBD962F5C#32, 0x3D835E79#32, 0x3DCAAB0B#32, 0xBD9D4545#32, 0x3CA767A1#32, 0x3DA81524#32],
    ![0xBCE9B0DA#32, 0x3B986F49#32, 0xBA817193#32, 0x3D41A067#32, 0x3E092EA8#32, 0x3E12E0C2#32, 0xBD689E8B#32, 0xBDA5BADF#32,
      0xBCF6D6AE#32, 0x3D4A501D#32, 0x3E0C1127#32, 0x3E3C79D5#32, 0xBDA8F328#32, 0xBCE1DAD7#32, 0xBD92ADC6#32, 0x3DB69544#32,
      0x3DC23336#32, 0xBD54B628#32, 0x3CC5AFA1#32, 0xBC9B48F9#32, 0x3CB0115C#32, 0x3D9806A4#32, 0xBD65D622#32, 0x3D1E9403#32,
      0x3D1AC976#32, 0x3BF03492#32, 0x3CCF41FF#32, 0x3DC325D3#32, 0xBD7DD20A#32, 0x3C885E77#32, 0x3CD2F8EA#32, 0x3E0BCFC1#32,
      0x3D816E67#32, 0x3D228799#32, 0xBDD8526D#32, 0xBDC7DDC8#32, 0xBD57C71B#32, 0xBE3BE9C1#32, 0xBCF4C70D#32, 0x3D26D501#32,
      0xBB7DA2F9#32, 0x3AF60415#32, 0x3C40EBBA#32, 0x3E031B5A#32, 0xBE15E668#32, 0xBDD8FDF0#32, 0xBD173B6C#32, 0x3E273EC2#32,
      0x3D9F9C7E#32, 0xBC86E645#32, 0x3D736362#32, 0xBDE68650#32, 0x3CC9F8D0#32, 0x3CDABE2B#32, 0xBDCA4123#32, 0x3E1C5446#32,
      0x3E3992C5#32, 0xBC39828B#32, 0x3DC04AE1#32, 0xBDC226BA#32, 0x3C012E4A#32, 0xBD2141B5#32, 0xBDDB956A#32, 0xBD0A6E43#32,
      0xBCAFD102#32, 0x3DC2344B#32, 0x3D4627A3#32, 0xBD50C860#32, 0x3D8014FB#32, 0x3E525554#32, 0x3DC80E52#32, 0xBC8B9AA2#32,
      0x3C8EA4A7#32, 0xBD93DD5C#32, 0xBE229F94#32, 0xBE33611A#32, 0x3D7FE268#32, 0xBD1E81C2#32, 0xBD676FD0#32, 0x3E2C93CB#32,
      0x3DA1DF1A#32, 0x3C682251#32, 0x3E3B6CCA#32, 0x3D9849B1#32, 0xBD94F98F#32, 0x3DD97657#32, 0xBDBBA89D#32, 0x3E25937F#32,
      0xBE22FAC1#32, 0x3D564D70#32, 0x3DA63E69#32, 0xBDBB8956#32, 0xBCBC7BA7#32, 0x3DB8B2B4#32, 0x3DAE282B#32, 0x3E3AD919#32,
      0x3D68E9A8#32, 0x3BB02280#32, 0x3D65F61B#32, 0xBDB1D3EB#32, 0x3E26F2C5#32, 0xBCC47692#32, 0x3D7D1176#32, 0xBDDCE673#32,
      0xBE469872#32, 0xBB006A2C#32, 0x3C454C08#32, 0xBDB14EAE#32, 0x3BC57812#32, 0x3DDFBFE1#32, 0x3E148E82#32, 0x3E8394B0#32,
      0x3D99C695#32, 0x3CC75A68#32, 0xBD89C981#32, 0x3C55563A#32, 0xBC0E056F#32, 0xBD71C200#32, 0x3D8E42BD#32, 0x3CE8BB61#32,
      0xBDABB4F1#32, 0xBC9175AB#32, 0xBDD6D489#32, 0xBD64CA0C#32, 0xBE0C4023#32, 0xBD8DF07F#32, 0x3DB4BF97#32, 0xBD6BC8FA#32],
    ![0xBCFDBDC5#32, 0xBE07234B#32, 0x3D45C1CC#32, 0xBDD63436#32, 0x3E1695BB#32, 0xBBFA7406#32, 0x3D517165#32, 0xBE066315#32,
      0xBE00A195#32, 0x3CBD6647#32, 0xBDFB84B3#32, 0xBE012FC9#32, 0x3D1BF4AB#32, 0x3D351759#32, 0xBDEF8FD5#32, 0x3E7982D8#32,
      0x3DA2C409#32, 0xB7080785#32, 0xBD543377#32, 0xBE385B79#32, 0x3D7AC62B#32, 0x3E5060E6#32, 0x3D5DFB34#32, 0xBDC8D3EF#32,
      0x3C57F447#32, 0xBE498E35#32, 0xBD262778#32, 0x3D7F951F#32, 0xBDCB31AD#32, 0x3CEB92BD#32, 0x3E14EA99#32, 0xBD5A0A9D#32,
      0xBCEE75F4#32, 0x3B430A19#32, 0xBD1A5FF0#32, 0x3D2DB8EF#32, 0xBDAFD56D#32, 0x3D2C74C1#32, 0x3E31058B#32, 0xBDF4CEFE#32,
      0x3D366CC1#32, 0x3E139877#32, 0xBD48DF68#32, 0x3DF792BB#32, 0xBD01D417#32, 0x3BE90594#32, 0x3DF20006#32, 0x3E1F7F90#32,
      0xBC9D6700#32, 0xBE4B51A0#32, 0x3E009F3A#32, 0xBD09BD9E#32, 0x3CCB8756#32, 0xBDD36F4B#32, 0x3E12270C#32, 0xBDA6FAC1#32,
      0xBD5481D8#32, 0xBDD15FD3#32, 0x3DD1A39F#32, 0x3DE37524#32, 0xBC98DBE1#32, 0xBC044CBF#32, 0xBE22E762#32, 0xBDCEC24D#32,
      0x3C93CBD1#32, 0xBC989819#32, 0xBDE80CBE#32, 0xBD9120E8#32, 0xBDF5DF8D#32, 0xBDBFE0B0#32, 0xBD22C0A0#32, 0x3D9CF33D#32,
      0xBCEDD764#32, 0x3BD572AB#32, 0xBD98B9E8#32, 0x3C1E3A6E#32, 0xBE21817B#32, 0x3DA0F1EA#32, 0x3DA528AD#32, 0xBC1A87F0#32,
      0xBD9E7FEA#32, 0x3D407DB4#32, 0xBDDE017C#32, 0x3E0C5146#32, 0x3CEACD7D#32, 0x3DCCEEC0#32, 0xBD8D2FB0#32, 0x39CB53C0#32,
      0x3DA3228E#32, 0xBC16E547#32, 0x3DD8A3FD#32, 0xBE02F03A#32, 0xBD888030#32, 0xBCFB520A#32, 0xBC084DA8#32, 0xBDFD8370#32,
      0x3D99F6E1#32, 0xBCA19E4A#32, 0x3E3C8C0A#32, 0xBD26A3D0#32, 0xBCFBF242#32, 0xBE0A7FEA#32, 0x3C2E3E81#32, 0x3E24FE46#32,
      0xBC7114D0#32, 0xBDEE05A8#32, 0x3E004AEC#32, 0x3BEF2AD4#32, 0xBE1A2323#32, 0xBE16C2DC#32, 0x3CFF5E4D#32, 0x3E024E19#32,
      0x3D72B5CD#32, 0xBC13A720#32, 0x3C4D569E#32, 0x3CCAE032#32, 0x3E0A2DA7#32, 0xBDB7DA6A#32, 0xBD01A097#32, 0x3C8F83F8#32,
      0xBC475C19#32, 0x3E3A3880#32, 0x3D8EB4B9#32, 0x3B846AC1#32, 0x3E0DE9C8#32, 0xBDC6077E#32, 0xBD2DA25F#32, 0xBDBC145A#32],
    ![0x3D66817A#32, 0x3D661C03#32, 0x3E216ECC#32, 0x3DF63A4F#32, 0xBD82901B#32, 0x3CCAFE1A#32, 0xBDA1471D#32, 0xBD49B7DD#32,
      0xBE0CAE93#32, 0x3D83F948#32, 0x3DDD2BEB#32, 0x3DC27165#32, 0x3E14AF25#32, 0x3D288905#32, 0xBCEE3E1A#32, 0x3DDAF718#32,
      0xBD547790#32, 0x3D999A92#32, 0xBCBF4180#32, 0xBCF28AB1#32, 0x3DE2DAE1#32, 0x3D8A486D#32, 0xBE55A0FD#32, 0x3DBEBBC8#32,
      0xBD7A9A66#32, 0xBE57AF8C#32, 0xBDAC26AC#32, 0x3B40A895#32, 0xBE191705#32, 0xBDEB09D8#32, 0xBBF49AEF#32, 0xBD563F96#32,
      0xBE029C96#32, 0x3D1B469B#32, 0xBDBF319C#32, 0xBD57FD1B#32, 0xBB834B13#32, 0x3E37D049#32, 0xBD877BE5#32, 0x3DC4B746#32,
      0x3CAE6D92#32, 0x3D66FB5C#32, 0x3D821C2A#32, 0xBD53F402#32, 0xBDF8EBF1#32, 0xBD2C7AA2#32, 0xBE386274#32, 0x3C4C7066#32,
      0x3D13AACC#32, 0xBCF15494#32, 0x3D35E3BD#32, 0x3CDE0191#32, 0xBD80679F#32, 0xBD2DE4B5#32, 0x3C908877#32, 0xBDA1C38E#32,
      0xBDA15D29#32, 0xBD0A61A4#32, 0xBE492DD2#32, 0xBBB6A588#32, 0xBD79B0A8#32, 0xBDD5423D#32, 0xBD3B2DFF#32, 0x3C821BEB#32,
      0xBD61B154#32, 0xBC132F9A#32, 0x3DC9504F#32, 0x3DE6FB7C#32, 0xBDFB6A8C#32, 0x3C8C9963#32, 0xBDDA6D0B#32, 0xBD458B38#32,
      0xBD5CCEF9#32, 0xBD3C0852#32, 0x3D22FE22#32, 0xBE46122D#32, 0xBCDFDFBF#32, 0xBD1ADFEA#32, 0x3E058641#32, 0xBC2253A2#32,
      0x3DBEFFF6#32, 0xBCA57C27#32, 0x3E28A79A#32, 0xBD938F94#32, 0xBD8446B8#32, 0x3D8D3C73#32, 0x3CD760D3#32, 0xBE3308ED#32,
      0xBD6FAA08#32, 0xBD242C49#32, 0x3CB5C5F5#32, 0x3C9084E1#32, 0x3DD61BC8#32, 0x3E2590DD#32, 0x3E333EBD#32, 0x3D1A9AF6#32,
      0xBE10882D#32, 0xBCA900FA#32, 0x3E0DE9EF#32, 0xBD29BC43#32, 0x3D833795#32, 0xBDF9A37E#32, 0x3DF9C59F#32, 0xBD9B82CE#32,
      0xBD1F4DAD#32, 0x3BB492E0#32, 0xBDDC2DB9#32, 0xBD202109#32, 0x3C9C7838#32, 0xBD4B0598#32, 0x3D1B9148#32, 0x3C47B3CD#32,
      0xBDA2B8B9#32, 0xBDAF050B#32, 0x3E012B3A#32, 0x3C65E2CC#32, 0x3CEA2613#32, 0xBD8D948B#32, 0xBDCE79AF#32, 0x3D8E5A0A#32,
      0x3E500A98#32, 0xBDA9917D#32, 0x3D4E9299#32, 0x3E4818E1#32, 0x3CB0EBE7#32, 0xBDA7B973#32, 0xBC7481AA#32, 0xBDBEFD47#32],
    ![0xBE45DAD5#32, 0x3D0F3DDE#32, 0xBE21E372#32, 0x3E150F82#32, 0x3DFE133D#32, 0xBCFB7385#32, 0x3BB3AD53#32, 0x3C740359#32,
      0x3DF2E590#32, 0xBD5D7C59#32, 0x3E4A5EB7#32, 0xBB1DF2E2#32, 0xBD56D817#32, 0xBC9A6F18#32, 0xBDAD4E95#32, 0xBAC622A9#32,
      0xBCDE20AE#32, 0xBDF8E875#32, 0xBE080E90#32, 0xBB47699D#32, 0xBBEEB733#32, 0xBCCA034E#32, 0x3DD64668#32, 0x3D7A7275#32,
      0xBE7B11BC#32, 0x3CBF1CA8#32, 0xBDB21968#32, 0xBCDD35A6#32, 0xBD780174#32, 0xBDC12718#32, 0xBADE4BCE#32, 0xBD45B5B4#32,
      0xBC108679#32, 0xBC9A230C#32, 0xBD12FA3D#32, 0x3E062905#32, 0xBC08A363#32, 0xBCD5ABD9#32, 0xBD73B170#32, 0x3E2E51FA#32,
      0x3D6A2DDC#32, 0x3D301B54#32, 0xBDAFFA83#32, 0x3D722FA1#32, 0xBDA5BA11#32, 0x3C9DC5D7#32, 0x3CEB4573#32, 0x3B5244CC#32,
      0xBC9D0AE8#32, 0x3D96FD8F#32, 0xBB6AE134#32, 0x3E1DA767#32, 0xBC91CE5C#32, 0xBCFD4361#32, 0x3C9ED4B4#32, 0x3D3B1781#32,
      0xBD8BEF7C#32, 0x3DB0E10A#32, 0x3D503F07#32, 0xBE068803#32, 0xBD4C1839#32, 0xBCA27A9C#32, 0x3D4C194E#32, 0x3DA6C63B#32,
      0xBE01FFAD#32, 0x3C40C304#32, 0xBCE91F9D#32, 0x39B147D7#32, 0x3DBBDA8A#32, 0x3E30E945#32, 0xBB17C277#32, 0x3E9EF7C7#32,
      0xBE01306E#32, 0x3E368194#32, 0xBD1C2CEE#32, 0x3DA09D0F#32, 0x3D8046B3#32, 0x3DA5D0D9#32, 0xBD45E76B#32, 0x3D9F1F36#32,
      0xBDA9A87D#32, 0x3D081294#32, 0x3DA48937#32, 0xBD0749DC#32, 0x3D941794#32, 0x3E0C22B5#32, 0x3D843437#32, 0xBDA10B17#32,
      0xBCE5C7F3#32, 0x3DB2DC38#32, 0xBD56A523#32, 0x3D723CEB#32, 0x3CD188F9#32, 0x3DD69ABC#32, 0xBD5F8C39#32, 0xBDD2E7F1#32,
      0xBD2E0862#32, 0xBD204560#32, 0x3D17226E#32, 0xBBE920C7#32, 0xBD81FF1A#32, 0xBD95BE17#32, 0x3E25989F#32, 0xBD5B0840#32,
      0xBD8FE956#32, 0xBDDA1B38#32, 0x3E35FB9C#32, 0x3DB0AAC2#32, 0xBC8DD5F9#32, 0xBD4C6C31#32, 0x3E1B7C4E#32, 0x3D58EEDF#32,
      0x3DD3F7FC#32, 0xBBE9BCC6#32, 0xBDCA454C#32, 0xBC852A18#32, 0xBDDE9091#32, 0xBCA64FBC#32, 0x3DD6AE07#32, 0x3CD83DB2#32,
      0xBD6C8930#32, 0x3D3A37A5#32, 0x3DAED678#32, 0xBC4BE06D#32, 0x3D59F3DA#32, 0xBDD20A94#32, 0xBD496902#32, 0x3C0159F1#32],
    ![0xBC1F4893#32, 0x3D2034D1#32, 0xBB08714D#32, 0x3DD34B29#32, 0xBE060BCA#32, 0xBD03C5C2#32, 0x3E0D54E1#32, 0xBBEFEEC7#32,
      0x3DCE2E49#32, 0xBE109E0E#32, 0xBDF1CDFB#32, 0x3DBBB48E#32, 0xBE4DFC82#32, 0x3E6EB46F#32, 0x3C59BB44#32, 0x3DD5FCE7#32,
      0xBC81F17F#32, 0x3CAB2F35#32, 0xBC3AED29#32, 0xBB0134D1#32, 0x3D37CEFF#32, 0x3BEFEEE5#32, 0xBDEC1955#32, 0x3D7B5E3F#32,
      0xBDFA034B#32, 0xBE16FE0A#32, 0x3B85D100#32, 0x3BD8391D#32, 0xBBD06CE2#32, 0xBD499319#32, 0x3C1C606D#32, 0xBCBC23B1#32,
      0xBCE139E3#32, 0x3DBB4674#32, 0xBD61419C#32, 0xBE2C3B61#32, 0x3DE45291#32, 0x3DA59057#32, 0x3D8946F8#32, 0xBE1DD216#32,
      0x3D59E4F7#32, 0xBDC2CBD5#32, 0xBDEFE914#32, 0x3D974F58#32, 0xBC8F0B68#32, 0x3D7019A5#32, 0xBDAA2281#32, 0xBE0D7C7B#32,
      0x3DC52B6C#32, 0xBD0D0EE0#32, 0x3D1B2900#32, 0x3CCD30C8#32, 0x3DBB2A79#32, 0x3CF2ED62#32, 0x3CADF1EB#32, 0x3D59E222#32,
      0x3D861A66#32, 0x3D6A0B57#32, 0xBCF974CD#32, 0xBD4A46D7#32, 0x3D29DC04#32, 0x3DB6C710#32, 0xBA96600B#32, 0xBD9ED94A#32,
      0x3CF6BBC1#32, 0x3D3BE192#32, 0x3D69F77A#32, 0xBD8DB885#32, 0xBD5222AA#32, 0xBD188B8C#32, 0xBE06A4A1#32, 0xBE366FE8#32,
      0xBDEA5AA8#32, 0xBD369D8C#32, 0xBD691496#32, 0x3D188A07#32, 0xBD4F6C17#32, 0x3BFCA107#32, 0x3E056A9C#32, 0x3E063BE4#32,
      0x3DA6B6CC#32, 0x3CD3124B#32, 0x3E0CC954#32, 0x3D0646B5#32, 0x3D9388EC#32, 0x3B7D9FF8#32, 0x3DB8D594#32, 0x3D512296#32,
      0xBD108945#32, 0x3D4C5025#32, 0xBE26BFE2#32, 0xBE2C6170#32, 0xBDE37D9A#32, 0x3E1F3514#32, 0xBD7C659A#32, 0x3D5B804E#32,
      0x3E06D601#32, 0xBD3ED156#32, 0xBDD7D5AD#32, 0x3D55C6CD#32, 0x3E178090#32, 0x3D81C728#32, 0x3CDE1420#32, 0xBA46A106#32,
      0xBDA5D328#32, 0x3D72A517#32, 0xBDCD1969#32, 0x3DBF573D#32, 0x3B19D3C0#32, 0x3CDAD900#32, 0xBDCFD43D#32, 0xBC33D951#32,
      0xBD93414D#32, 0xBD402C2E#32, 0x3D00CD4C#32, 0xBE192D48#32, 0xBD2E1BD3#32, 0xBC8781F9#32, 0x3C261BA8#32, 0x3DBA67F0#32,
      0x3DBA4BA4#32, 0x3D627BCC#32, 0xBE5E7345#32, 0x3D4A8C84#32, 0xBD9127EA#32, 0x3D32D186#32, 0x3E158DBA#32, 0x3D8681AD#32],
    ![0xBDA6D61D#32, 0x3E1BE56D#32, 0xBDC1946B#32, 0xBE51822C#32, 0xBC9C8F79#32, 0xBE8F3422#32, 0x3C0F00DD#32, 0xBD6CCD30#32,
      0x3DAFDF9F#32, 0xBE00D4B2#32, 0xBB2A1248#32, 0xBD54AE72#32, 0xBD51526B#32, 0x3E17D057#32, 0xBD25DE26#32, 0xBCDF3027#32,
      0xBCD84810#32, 0xBD830D11#32, 0x3D2DF74B#32, 0xBDCCDCC7#32, 0xBE2D5DE6#32, 0xBC620AF0#32, 0x3DD2AE8A#32, 0x3D33473E#32,
      0x3C89803E#32, 0xBC73E37E#32, 0xBDF0FCA2#32, 0xBC266D8C#32, 0xBDEAD34C#32, 0x3CAACDA8#32, 0xBCBF08D9#32, 0xBE0AE011#32,
      0xBE0CBBAF#32, 0x3E2477B9#32, 0xBDE7902F#32, 0xBD79DB38#32, 0x3D036C69#32, 0x3D7D20B5#32, 0x3E1A5149#32, 0x3DA196F8#32,
      0x3CE31F21#32, 0x3D29ADD2#32, 0x3B6F02A7#32, 0x3D28FC2C#32, 0x3D02890C#32, 0xBD6CA2F7#32, 0x3D280F6C#32, 0x3DC1B9C8#32,
      0x3D6F62E6#32, 0xBCE9A7F5#32, 0xBC373B21#32, 0xBD88564F#32, 0xBCFDA5F6#32, 0xBD00F7E2#32, 0xB972DC86#32, 0x3C83630C#32,
      0xBD71EE1D#32, 0xBE136ADA#32, 0xBDA038D2#32, 0x3CD160EC#32, 0xBDEBABB2#32, 0x3D8F07E2#32, 0x3DF9F8F4#32, 0x3D810CDD#32,
      0xBB079607#32, 0xBC9BDF5C#32, 0x3DAA1E55#32, 0x3D5DA421#32, 0xBDD2A62E#32, 0xBDB79DC1#32, 0x3E0934E5#32, 0xBE935E7B#32,
      0x3E05DD8C#32, 0x3C0DD9EB#32, 0xBC3B76F0#32, 0xBD8E2464#32, 0x3DE03E37#32, 0x3DB56A94#32, 0x3D5304E3#32, 0x3D2F85AA#32,
      0xBC55C410#32, 0x3DD826CE#32, 0x3E49DFDF#32, 0x3D9D557F#32, 0x3E079FE3#32, 0x3CD53781#32, 0x3DA27AC1#32, 0xBD73EB19#32,
      0xBC2DE07C#32, 0x3D24C6EC#32, 0xBDE87309#32, 0xBD116B1E#32, 0x3DF3C39B#32, 0x3D8F1389#32, 0x3D8129ED#32, 0x3D8B72D4#32,
      0xBC99D6D3#32, 0xBDBF0F59#32, 0xBCB017DA#32, 0x3D112475#32, 0x3D223019#32, 0x3D1DABEE#32, 0x3C477782#32, 0x3D112C81#32,
      0xBD49F5D8#32, 0x3E5AFCEF#32, 0xBC88FC4E#32, 0xBD95C124#32, 0xBDA11F45#32, 0xBD22C787#32, 0x3DA9D0DC#32, 0xBCBA83FD#32,
      0x3DBB06E9#32, 0x3C14DED1#32, 0x3DFC1A05#32, 0x3D83E2B1#32, 0x3C671F07#32, 0x3DB77313#32, 0xBD7674B8#32, 0xBDBE5916#32,
      0xBD4E12BC#32, 0xBD953A9F#32, 0xBE1A723F#32, 0x3C0988F4#32, 0x3B7FACB6#32, 0x3D7B229B#32, 0xBE7A80BF#32, 0x3D965B58#32],
    ![0x3E2E593A#32, 0xBDE4B5EB#32, 0xBD829237#32, 0x3D8668CA#32, 0xBD411493#32, 0xBD9E3BD7#32, 0x3DC017BD#32, 0xBD177E3C#32,
      0xBD777903#32, 0x3D76FF83#32, 0xBDCB6F13#32, 0xBDF422A0#32, 0xBD6FAB0F#32, 0x3D5D0340#32, 0x3D6DF76A#32, 0x3E44A03E#32,
      0xBDFB28D9#32, 0x3DF1885F#32, 0x3DB450EA#32, 0xBD19AD58#32, 0x3DB13DC5#32, 0xBBD770A6#32, 0xBB994895#32, 0x3D88AD45#32,
      0xBD9370DD#32, 0xBE040892#32, 0x3D7AD0BE#32, 0xBE2113FC#32, 0x3CADB847#32, 0x3DC38B36#32, 0x3D10F263#32, 0xBDE0F5E1#32,
      0x3DBD39E7#32, 0x3AF1A528#32, 0x3D31C8ED#32, 0xBD8C6514#32, 0xBE312B76#32, 0xBD17C1C1#32, 0x3C536934#32, 0xBD1ED216#32,
      0xBD017964#32, 0xBD683EC2#32, 0xBD770880#32, 0xBD30441B#32, 0xBE35F203#32, 0x3D8950D7#32, 0xBD779A6E#32, 0xBCE7495E#32,
      0x3D804D2B#32, 0xBDA4BD56#32, 0xBC12BF80#32, 0x3CD9C56C#32, 0xBD68E783#32, 0x3D7FB576#32, 0x3E218540#32, 0xBDEDD23C#32,
      0xBBBDAF75#32, 0x3D6B3875#32, 0xBDDE5C16#32, 0x3D28B57C#32, 0xBD973793#32, 0x3D1AF25A#32, 0xBE16A943#32, 0x3D8D534A#32,
      0xBDFE89C0#32, 0x3D130DAC#32, 0xBD12CE6C#32, 0xBE0DFAC5#32, 0x3C8C8E96#32, 0xBDF6ADA1#32, 0xBD246F1C#32, 0xBE1AD31B#32,
      0x3E0E9F91#32, 0xBD2307AE#32, 0x3D9B4BC2#32, 0x3CD2620E#32, 0xBB7D2BCE#32, 0x3E00E339#32, 0xBD94EA6D#32, 0x3E13680C#32,
      0xBAC8D08E#32, 0xBD4F452A#32, 0xBCFC79D0#32, 0xBDCA6B36#32, 0xBD23DC3A#32, 0xBDCABFC2#32, 0xBDB62CED#32, 0xBE23D783#32,
      0x3D3BB586#32, 0x3CF2B024#32, 0x3E0A4AEB#32, 0xBD06D99B#32, 0x3E0E5487#32, 0x3DC6F398#32, 0xBD1D53E1#32, 0xBDD1220F#32,
      0x3C132896#32, 0xBD019BE8#32, 0xBCD0918A#32, 0xBE4BB867#32, 0xBD461448#32, 0x3D28009C#32, 0x3E12E29A#32, 0xBBCE0617#32,
      0xBDE530A6#32, 0xBD5C4AA1#32, 0x3B4ACF59#32, 0x3E06220D#32, 0xBD58986E#32, 0xBD5EB302#32, 0x3D915292#32, 0x3D9ACE66#32,
      0x3E42A7D6#32, 0xBD87EE67#32, 0x3DA9ABC5#32, 0xBD1874DA#32, 0xBD02C0E5#32, 0x3DE770EF#32, 0xBD612DC8#32, 0xBC1D337E#32,
      0xBC689A84#32, 0xBEB9DAF8#32, 0xBD794A68#32, 0xBE2787E8#32, 0x3C1DD613#32, 0xBBA17F4E#32, 0x3D0B2B36#32, 0xBDBB00A5#32],
    ![0x3D6D58FF#32, 0x3DDF84B8#32, 0xBE0CD045#32, 0x3DBAB88E#32, 0xBDF86CD6#32, 0x3C96F748#32, 0x3DA37BAB#32, 0xBCB7D1E8#32,
      0x3E23EE61#32, 0xBE0B6AAA#32, 0xBDE421B2#32, 0xBCEBA3BA#32, 0xBD7BCAD6#32, 0xBB3E10D5#32, 0x3E45E132#32, 0xBD6D90B8#32,
      0xBD636AF2#32, 0xBDBA61F4#32, 0x3E3974DF#32, 0x3D9B342D#32, 0x3DFEEB2C#32, 0x3D334BDC#32, 0x3D398A02#32, 0xBE2A8526#32,
      0xBE04063F#32, 0xBE686E73#32, 0x3D2BA2D7#32, 0x3DAE4A5E#32, 0x3DD06115#32, 0xBD6190EE#32, 0x3BECA5B7#32, 0x3C4872B1#32,
      0x3DA8A068#32, 0xBD2F2C3E#32, 0x3A78006B#32, 0xBE2F9AB4#32, 0xBCAEAA65#32, 0x3DA766F5#32, 0xBD6F19D4#32, 0xBC0F7548#32,
      0xB98B2F34#32, 0x3D99B283#32, 0x3BAAB25F#32, 0x3DA0239A#32, 0xBDACB770#32, 0x3DD7E1CC#32, 0x3DEA265E#32, 0x3E040090#32,
      0x3ADCF212#32, 0xBDB6229F#32, 0xBE2A4799#32, 0x3DE4A997#32, 0xBD02F1E9#32, 0x3D9E38AB#32, 0x3DC67F99#32, 0x3D927CA7#32,
      0xBCD5D2F1#32, 0xBDA2F0F4#32, 0x3E00DB83#32, 0xBD73BEDF#32, 0x3DFA0873#32, 0x3D577283#32, 0xBC25125E#32, 0x3D0364C7#32,
      0x3DE7B0E6#32, 0xBDE19ED9#32, 0x39E41716#32, 0x3D78B8EE#32, 0x3D67621B#32, 0xBDE580EC#32, 0x3E097F6A#32, 0xBE2CBB85#32,
      0x3D66ECCF#32, 0xBD66AE75#32, 0xBD5F018F#32, 0x3D9B50D7#32, 0xBBDC2DA6#32, 0xBDB5B6B2#32, 0x3DFA86FB#32, 0xBD1E6013#32,
      0x3C9A467A#32, 0xBDBF8712#32, 0xBDF7A38F#32, 0xBD9F660A#32, 0xBD97AD01#32, 0xBD1E029F#32, 0x3D429D94#32, 0x3E454876#32,
      0x3D842D30#32, 0x3D9427B8#32, 0x3E0337A9#32, 0xBE0D210D#32, 0xBD02585F#32, 0x3C65AE09#32, 0xBD310C7D#32, 0x3DFD26CB#32,
      0xBDC21EFB#32, 0x3DC69281#32, 0x3D2EE58E#32, 0x3DB3C6AD#32, 0xBD6C5211#32, 0x3C82D67D#32, 0x3D07818F#32, 0x3DA882F0#32,
      0xBDE2A424#32, 0x3D46C76D#32, 0x3CC868D6#32, 0x3DF1786B#32, 0x3E1B4ECB#32, 0xBD858FB2#32, 0xBDF9090D#32, 0xBE6C94DF#32,
      0xBD84C9F7#32, 0xBBE887CA#32, 0xBDACCBE8#32, 0xBE4F1D32#32, 0x3D05731B#32, 0xBCF65C7B#32, 0xBC91EDFC#32, 0x3E7B11DD#32,
      0xBCCA98BF#32, 0x3C8CECEC#32, 0x3CBD83B1#32, 0x3DFA513A#32, 0x3CB93934#32, 0x3DB1670C#32, 0xBCE147E1#32, 0xBDFE307D#32],
    ![0x3E51143B#32, 0x3D89C0DE#32, 0x3E182F62#32, 0x3E1DCB22#32, 0x3E08C687#32, 0xBD62FF98#32, 0x3D930B37#32, 0xBDEF9B2E#32,
      0xBD31C1F3#32, 0xBB32777E#32, 0x3C94698D#32, 0x3DCB7637#32, 0xBCE56D70#32, 0xBCDA1224#32, 0x3D7E57FA#32, 0xBC13AA05#32,
      0x3DB6DAA3#32, 0xBE333EC2#32, 0xBD46A8DA#32, 0xBCABFDBA#32, 0xBD604809#32, 0x3D9ADF94#32, 0x3DB67866#32, 0xBE1F7196#32,
      0x3E4B0FCA#32, 0xBDE08A06#32, 0x3CE380A0#32, 0x3D8FE96D#32, 0xBD7C3C65#32, 0x3D5E794F#32, 0xBD0BDB89#32, 0xBE37F226#32,
      0xBC9A4453#32, 0xBDB60725#32, 0x3DE24F14#32, 0xBCDAE22E#32, 0x3BD80E8A#32, 0x3C51AA2C#32, 0x3DE22725#32, 0x3E268FC1#32,
      0x3E5289F5#32, 0x3D6DD97F#32, 0xBE174369#32, 0xBDF378AD#32, 0xBCDACA88#32, 0x3C88821E#32, 0x3E2C5CBC#32, 0xBCD3ED17#32,
      0xBE56A592#32, 0xBD081DCD#32, 0xBE576370#32, 0xBD1B928D#32, 0x3DDAFFFB#32, 0xBC914A97#32, 0x3C70EFD4#32, 0x3DABF887#32,
      0x3C62D24A#32, 0xBD26BD39#32, 0xBDCA4B6D#32, 0xBCCDA831#32, 0xBCBBB3A3#32, 0x3D793D37#32, 0xBC453E3E#32, 0xBE11F2B6#32,
      0x3DD7017D#32, 0x3DAEED51#32, 0x3D4759E0#32, 0xBD84410F#32, 0xBE59B89A#32, 0xBE5F98DA#32, 0xBE04D66E#32, 0xBC80C46A#32,
      0xBD8BEDF7#32, 0x3D28E3E1#32, 0x3C9CEC3A#32, 0x3D26B6E8#32, 0x3D73124E#32, 0xBD1CEE43#32, 0x3D877584#32, 0x3E73AAC0#32,
      0xBC8389CC#32, 0x3CE964AF#32, 0xBB4595DB#32, 0xBD96FB4E#32, 0x3DD483D7#32, 0xBD6BDB01#32, 0xBD71655B#32, 0xBBB83329#32,
      0x3C49B5D6#32, 0x3D9F190E#32, 0x3CA879D9#32, 0xBE68C72A#32, 0x3D459BF2#32, 0xBDD15E0E#32, 0x3DF89967#32, 0xBD6129B0#32,
      0x3D60BE5A#32, 0xBC6CD482#32, 0x3DE7A76A#32, 0xBE4F8D1F#32, 0xBE025A1C#32, 0x3D676F3D#32, 0xBAAE851C#32, 0xBE0827DD#32,
      0x3B833F69#32, 0x3C24E27C#32, 0x3DE137DE#32, 0x3E08B4F0#32, 0xBE22A8B4#32, 0xBD6D4E02#32, 0xBA9B64FC#32, 0x3BB04104#32,
      0xBCAA7D7E#32, 0x3D2F1203#32, 0xBE43E935#32, 0xBDCF6EF1#32, 0x3D8CFBC6#32, 0xBE21C24D#32, 0x3CA0E438#32, 0x3C90DD5F#32,
      0xBE0A3ADD#32, 0xBDA82465#32, 0xBD12AB33#32, 0xBE0FD646#32, 0x3D535B08#32, 0xBE30E52E#32, 0xBD13A1A9#32, 0xBDF99626#32],
    ![0xBDB56677#32, 0xBDD8E117#32, 0xBE3C696C#32, 0x3DD0AFAD#32, 0x3E3CB3A8#32, 0xBE2E11D0#32, 0x3C013A73#32, 0xBB9F6A34#32,
      0x3D9C497A#32, 0x3CC4F9C9#32, 0xBD02A03F#32, 0x3E295CF3#32, 0x3D9418C5#32, 0x3DA56623#32, 0x3E1CD1E4#32, 0xBD9975D0#32,
      0x3E52AF7B#32, 0xBE63E13B#32, 0x3DD23ACB#32, 0x3CACCBD4#32, 0xBD6C934D#32, 0x3DB1DCF4#32, 0xBD41BA9E#32, 0xBCEDB8F3#32,
      0xBD78FC02#32, 0xBCD8F9B6#32, 0x3E1A17D2#32, 0x3E2B0DE9#32, 0xBD309764#32, 0xBC2C92B2#32, 0x3D6DD34D#32, 0x3D7DC3F3#32,
      0xBD7DB38B#32, 0xBE196283#32, 0x3D27A461#32, 0xBD3EEE1F#32, 0xBD0F4D44#32, 0x3E28B4A6#32, 0xBD239F80#32, 0x3D5A041E#32,
      0x3CBB64B5#32, 0x3DA12FBC#32, 0xBE135382#32, 0x3E9313E7#32, 0xBD8941A4#32, 0xBE3E263B#32, 0x3E07731F#32, 0xBD7A0C2A#32,
      0xBDA8EB89#32, 0xBE45E2BD#32, 0x3DCB0CC9#32, 0xBC9D2333#32, 0xBCA237D5#32, 0xBC1012E9#32, 0x3DC26222#32, 0xBC02CC78#32,
      0x3D7F66A3#32, 0xBC47F799#32, 0x3DB1CB4A#32, 0x3DAA5529#32, 0xBDDFB00F#32, 0x3DE87B31#32, 0xBE19AC7A#32, 0x3E2DB5DB#32,
      0x3E22CEDE#32, 0x3D8C1620#32, 0xBD164290#32, 0x3D057218#32, 0x3D792388#32, 0x3C0B3C5E#32, 0x3C847523#32, 0xBE29302A#32,
      0xBC3AF1CF#32, 0xBDDC0305#32, 0xBE25699F#32, 0xBDA99743#32, 0x3D923B81#32, 0xBE17C262#32, 0x3DA1C13B#32, 0xBE830D80#32,
      0x3D0CBD33#32, 0x3DA33EAF#32, 0x3D3B4CE9#32, 0x3D884F1B#32, 0xBC94026D#32, 0xBD2B49B8#32, 0x3D04FBEC#32, 0xBDF95CC2#32,
      0x3DD88999#32, 0x3D45A785#32, 0x3DC68815#32, 0x3C63CC05#32, 0xBCF3ECCA#32, 0x3E108449#32, 0xBD9EB26A#32, 0xBDEE18D3#32,
      0xBD82426A#32, 0x3DF9A484#32, 0xBD2A5FEA#32, 0x3CFA211C#32, 0xBD50FB04#32, 0xBDAE6533#32, 0x3CE72E5F#32, 0xBE317CA6#32,
      0x3D6FD805#32, 0x3C5616BF#32, 0xBCB23960#32, 0x3D8DC880#32, 0xBE27EEE4#32, 0xBDEB06A5#32, 0xBD4EBC37#32, 0xBD67449A#32,
      0x3D900E7D#32, 0x3DF75EFB#32, 0x3E0FE080#32, 0x3E189D69#32, 0x3D608E44#32, 0xBCC9F04B#32, 0xBCA76174#32, 0xBD361107#32,
      0x3C1A87C3#32, 0xBC9CBC45#32, 0xBCBD1B2F#32, 0x3E16DFDD#32, 0x3D48222C#32, 0xBD58D47B#32, 0xBD5074B5#32, 0x3D5F6658#32],
    ![0x3D0CA6F1#32, 0xBB0D8D19#32, 0xBC9F7E45#32, 0x3CB41B5C#32, 0xBCEB25AF#32, 0xBC6084E9#32, 0xBCE3DCDA#32, 0xBD1E969E#32,
      0x3D536634#32, 0x3DB1661B#32, 0xBDF8A6BC#32, 0x3DAE9F6F#32, 0x3DD5808E#32, 0xBDBB51ED#32, 0x3E100A99#32, 0xBE012D2A#32,
      0x3DBE500C#32, 0xBD91404B#32, 0x3D8C1097#32, 0xBD0F9C7F#32, 0xBDBDD920#32, 0xBE4E6F12#32, 0xBDB88C40#32, 0xBDCF0D42#32,
      0xBD9A0170#32, 0x3E406945#32, 0x3D0683E7#32, 0x3D7A9507#32, 0x3D9F9324#32, 0x3C348A95#32, 0x3D5265DF#32, 0x3D0B612A#32,
      0x3DD61BEA#32, 0xBDF6F99B#32, 0x3E104673#32, 0x3D8CD54B#32, 0xBDE8F9BA#32, 0xBD97B5E0#32, 0x3CB91BB7#32, 0x3C1731DE#32,
      0xBB957057#32, 0xBCBBBD37#32, 0xBDFEAC24#32, 0xBD8B29ED#32, 0x3DD7CD9D#32, 0xBDD083A6#32, 0x3DAF7FEE#32, 0x3DA6CCF3#32,
      0xBE201D83#32, 0xBD985850#32, 0xBD88B5C8#32, 0xBD8ACA34#32, 0xBD9AA6AF#32, 0x3C993921#32, 0xBE198F12#32, 0xBA96AACF#32,
      0x3DFA9DB2#32, 0xBD2FFF8D#32, 0xBD8352C5#32, 0xBC812E30#32, 0xBD917ABC#32, 0x3BF377D0#32, 0x3D9ECF89#32, 0xBB932A99#32,
      0x3D6E44CE#32, 0xBD7AD8E5#32, 0x3D38E99A#32, 0x3E288B79#32, 0x3CA8732A#32, 0xBDCD0C6E#32, 0xBD5671A9#32, 0x3E4C45EB#32,
      0xBD8E8174#32, 0x3D949CA0#32, 0xBD304C46#32, 0x3DE7DF2B#32, 0x3A38D488#32, 0x3DC58DAE#32, 0x3E36ECED#32, 0xBDA437A1#32,
      0x3E11CD48#32, 0xBDCBFE35#32, 0xBCB39BF6#32, 0x3CC3D896#32, 0x3E43FBE3#32, 0x3D9E92D8#32, 0xBE15738A#32, 0x3C55A253#32,
      0x3D78E45B#32, 0xBC88C7A4#32, 0x3C942209#32, 0x3DAB9BC2#32, 0x3E1ED6E2#32, 0xBCE0A1F5#32, 0xBB986F2B#32, 0x3E09B4E1#32,
      0xBD85EA1D#32, 0xBE1AB45B#32, 0xBE36775D#32, 0x3D41394B#32, 0x3DAD40CF#32, 0xBD23C433#32, 0xBD53C241#32, 0xBD351192#32,
      0x3CDBB7A9#32, 0x3DFEC605#32, 0xBD8FBC22#32, 0xBD93BAB0#32, 0x3C2DB5EA#32, 0x3DA9CD98#32, 0xBDFA9BCB#32, 0xBD9CFC29#32,
      0xBDA04B97#32, 0x3B867B78#32, 0xBCD36FFB#32, 0xBCFF21E7#32, 0xBDD1699B#32, 0xBD9BF872#32, 0xBD4FACE4#32, 0xBDCF3299#32,
      0xBB892EEE#32, 0x3E1F2BCD#32, 0x3D82AB5D#32, 0x3D81925B#32, 0x3D13C35F#32, 0xBB6F32E8#32, 0xBD145294#32, 0x3DC1DD07#32],
    ![0x3D9FC3E1#32, 0x3E2151B4#32, 0xBD808F5E#32, 0xBCE2D11C#32, 0xBC8ED115#32, 0x3BD2627B#32, 0x3B3318DD#32, 0xBC556E86#32,
      0xBD0660E1#32, 0x3DDCEE08#32, 0xBDB856AD#32, 0x3D627608#32, 0x3DCD3148#32, 0xBE10EA9D#32, 0xBE0DF71F#32, 0xBBCFE1A2#32,
      0xBD00E0D2#32, 0x3D0CA59C#32, 0xBDE82459#32, 0x3E478834#32, 0xBDA9ADE6#32, 0x3D80D4B0#32, 0x3E782B3E#32, 0xBD57FA40#32,
      0xBDB77EB1#32, 0xBCB82098#32, 0xBC90FAE7#32, 0x3CFC3C97#32, 0x3CAF3537#32, 0x3C1B21CB#32, 0xBD1492B1#32, 0x3C18C06F#32,
      0x3C4401AE#32, 0xBD1A881F#32, 0x3D740649#32, 0xBDE64F52#32, 0xBB6C3A37#32, 0x3C4E3D6F#32, 0xBDAC65BF#32, 0x3E52F7DB#32,
      0x3E1187D4#32, 0x3DBE362E#32, 0xBD935BDC#32, 0xBCBE41AD#32, 0xBCB99AA0#32, 0xBDF333C0#32, 0xBD1FFED3#32, 0x3E510EEA#32,
      0xBD86A029#32, 0xBCB26657#32, 0xBDB69DAD#32, 0xBA8335E1#32, 0xBCF60C59#32, 0x3E0979C2#32, 0x3E122A74#32, 0x3E5A0722#32,
      0xBDB91535#32, 0xBDA9F703#32, 0xBCA2E503#32, 0x3D79CFE4#32, 0x3E88DFB1#32, 0x3DF8F5B8#32, 0xBA8F8455#32, 0x3D7175F9#32,
      0xBCC90703#32, 0xBCBDEA50#32, 0xBE3D2463#32, 0xBD1EE9A2#32, 0x3D3BCA85#32, 0xBBCC7631#32, 0xBD6CE90C#32, 0x3E4C7EF6#32,
      0xBD39FB62#32, 0xBD0F1F6A#32, 0xBCA63F3F#32, 0xBD815B81#32, 0x3DD2CF96#32, 0xBD204A25#32, 0x3A144316#32, 0xBD14D1C3#32,
      0x3DC09013#32, 0xBDC053C5#32, 0xBDCC06BA#32, 0x3CF739CD#32, 0x3D91751C#32, 0x3CF21E2C#32, 0xBD80116E#32, 0xBCC9DA97#32,
      0x3C93C34B#32, 0x3D15E283#32, 0xBD8D652D#32, 0xBDB9EC43#32, 0x3CB11CE2#32, 0xBE06D969#32, 0x3DDF353A#32, 0xBD9264AE#32,
      0x3C0DF8FA#32, 0x3D759175#32, 0xBD231074#32, 0x3D29BCD4#32, 0xBD939605#32, 0x3E36E86E#32, 0x3D951D13#32, 0x3BE51803#32,
      0x3E190B2E#32, 0xBD33D1DA#32, 0x3C9B5A26#32, 0xBD34DC7E#32, 0x3C8813EF#32, 0x3C8F348C#32, 0x3B70EF77#32, 0xBE22E4EA#32,
      0xBC5B83EB#32, 0xBCBF2D12#32, 0xBDDE7866#32, 0x3BC644F6#32, 0x3D709872#32, 0x3D9AA714#32, 0x3DD42B52#32, 0xBE143BB9#32,
      0x3D280670#32, 0x3D3A392C#32, 0x3D3D05B6#32, 0xBC14A2EF#32, 0x3D868275#32, 0xBD154976#32, 0x3D60B903#32, 0xBD485D79#32],
    ![0xBE344A76#32, 0xBD9329BF#32, 0xBD91E0B6#32, 0x3BFD3B7C#32, 0xBD4F42C9#32, 0xBE0AF3FF#32, 0x3E05A18C#32, 0x3E1462CA#32,
      0x3E0F684F#32, 0x3DAE5B9E#32, 0x3D8B7DDD#32, 0x3E2EE764#32, 0x3E499C14#32, 0xBD6A0C95#32, 0xBDFD77F0#32, 0x3D3E429A#32,
      0xBD4897D9#32, 0xBD08B072#32, 0xBC82C868#32, 0xBD39CC7B#32, 0xBE899ACD#32, 0x3D25FB57#32, 0x3D65B23D#32, 0x3D2A442D#32,
      0x3ADA9A03#32, 0x3D7FD38D#32, 0xBD0FFE9D#32, 0x3D4F22AB#32, 0xBC340F5A#32, 0x3CD01C67#32, 0x3D9DFAE7#32, 0x3D2384AC#32,
      0x3D9569CC#32, 0x3D16766C#32, 0x3D15E013#32, 0xBD6CA590#32, 0x3DC227FC#32, 0xBCA7FEA1#32, 0xBDF998F5#32, 0xBDCCF55A#32,
      0xBD2358E6#32, 0x3D89D934#32, 0xBDBB5D98#32, 0xBD801684#32, 0xBE421CF8#32, 0x3D168DB2#32, 0x3C6F11ED#32, 0x3D91ED81#32,
      0x3D7C918A#32, 0x3E4DABC0#32, 0x3DEF01E3#32, 0xBD1A9200#32, 0x3E44E2EC#32, 0x3D77C693#32, 0xBDA677C0#32, 0x3D7E8081#32,
      0xBDBE9F62#32, 0x3DD02380#32, 0xBD308DAB#32, 0xBD00B493#32, 0x3DA929F4#32, 0xBD8C2B41#32, 0x3B8E29B5#32, 0x3D80411E#32,
      0x3D65942B#32, 0x3D903DF8#32, 0x3D8C3150#32, 0x3E873093#32, 0xBCA09AD5#32, 0xBDA6A80D#32, 0xBD6BCAA8#32, 0xBDDE6B09#32,
      0x3C4C812B#32, 0xBD2547B0#32, 0xBDCFE3AF#32, 0x3DD04907#32, 0x3D1FA3DE#32, 0x3E2528B4#32, 0x3D0BEC44#32, 0x3DC05B1D#32,
      0xBE16DCFA#32, 0x3D48A762#32, 0xBB4036C4#32, 0x3E0F6C47#32, 0x3E56E9C4#32, 0x3D5DD444#32, 0xBDB3B8E0#32, 0xBE6FB656#32,
      0xBCEF486E#32, 0x3C1038FC#32, 0xBD9FD847#32, 0x3E3DB9C8#32, 0x3D9B1463#32, 0x3D36709C#32, 0xBE18E41B#32, 0x3CA34913#32,
      0xBD0991FE#32, 0x3DA0498C#32, 0x3CF662C7#32, 0xBD886CDD#32, 0xBD6E0A71#32, 0x3CD6F1CB#32, 0xBA4937C5#32, 0xBBE225B9#32,
      0x3BE161D7#32, 0xBDAA0964#32, 0xBCF89E3B#32, 0xBE383AF5#32, 0x3D978551#32, 0xBD162FDC#32, 0xBB2EF1C8#32, 0x3D8B77AA#32,
      0x3E25DE54#32, 0xBD33C448#32, 0xBDA45B58#32, 0xBC9F7177#32, 0x3D35585B#32, 0x3D237FC2#32, 0xBCB5C3CA#32, 0x3C03285D#32,
      0xBE388B4D#32, 0x3D21D4FF#32, 0xBC9E9490#32, 0xBD013C64#32, 0xBD298F0A#32, 0xBD8754BB#32, 0xBD230C2E#32, 0x3DA85B42#32],
    ![0x3D8ED99B#32, 0xBE1F21B6#32, 0x3B53C6DA#32, 0xBDC2570E#32, 0x3DFAA664#32, 0x3DF972FD#32, 0x3DD7DF78#32, 0x3C1A02D9#32,
      0xBD2308DB#32, 0xBE141453#32, 0xBD824837#32, 0xBD9F8F41#32, 0x3D43BEF9#32, 0x3D88604D#32, 0x3E047CA9#32, 0xBE40CBAE#32,
      0xBE103185#32, 0x3D2926BA#32, 0x3D3F7FB0#32, 0xB9C73D0C#32, 0x3E1CD4D2#32, 0xBB7D36E5#32, 0xBCA42F75#32, 0x3DC999B9#32,
      0xBE05C6E7#32, 0x3B45DCBB#32, 0xBD4CB73F#32, 0xBBA38742#32, 0x3BFF9CC4#32, 0x3D99087E#32, 0x3BF1E488#32, 0xBDF15A7A#32,
      0x3E05AF61#32, 0x3C4E7A3A#32, 0xBE0555AA#32, 0x3E00E1DD#32, 0xBE329C35#32, 0x3DB13C27#32, 0xBDCCA316#32, 0x3E339673#32,
      0xBD503CEF#32, 0xBAB09522#32, 0xBB96025A#32, 0x3D91A86D#32, 0xBD3BE24F#32, 0x3CB9620D#32, 0x3E2E23BC#32, 0x3D90275E#32,
      0xBCE8D6FF#32, 0x3D1A1104#32, 0xBE344797#32, 0x3DCC1D48#32, 0x3E3794DE#32, 0x3DBF76EA#32, 0x3D40B6EC#32, 0x3E152BE8#32,
      0xBD0AD4C1#32, 0x3DCF5F01#32, 0xBBC4D1ED#32, 0xBE0BBD74#32, 0xBD80A89C#32, 0xBD7236FD#32, 0xBD5CE9A6#32, 0xBDA3F9AE#32,
      0x3DC93121#32, 0xBD47B240#32, 0x3DA8283F#32, 0x3EA3A89B#32, 0xBAB1E8D6#32, 0xBD85B73E#32, 0xBDC9CC45#32, 0xBE01B0D8#32,
      0xBD9EF2D1#32, 0x3D5EAA44#32, 0xBE6404A7#32, 0xBDC8AF99#32, 0xBD8BCBC7#32, 0x3D6DCC5E#32, 0x3E82667A#32, 0x3E20AD45#32,
      0xBC14F6C2#32, 0x3DC06C07#32, 0x3E49DB03#32, 0xBE40E951#32, 0x3C3CCD15#32, 0x3D84FE14#32, 0xBCCB8CFD#32, 0x3E4FE336#32,
      0xBD0A02F9#32, 0x3E0511D9#32, 0xBD6BF36C#32, 0xB6295F90#32, 0x3CB31ED6#32, 0x3CCB5F6E#32, 0xBDA5724A#32, 0xBE73A1E8#32,
      0x3D0E2953#32, 0xBC1E223D#32, 0xBCFCB0BA#32, 0x3D8521B6#32, 0x3DC713D2#32, 0x3D87B2BA#32, 0x3D294712#32, 0x3CF046A6#32,
      0x3C27E9AE#32, 0xBB42EF14#32, 0x3B21DAA0#32, 0x3CE7A144#32, 0xBB15DDBB#32, 0xBD3C760A#32, 0x3C8281FC#32, 0xBBFAD9E9#32,
      0x3DD9CF9B#32, 0x3D7EC6E6#32, 0xBE201215#32, 0xBE173C91#32, 0xBD4F860F#32, 0x3E0485FB#32, 0xBC9B5BC4#32, 0xBDC23291#32,
      0xBDC032AE#32, 0x3DAAA37B#32, 0xBD61DCE9#32, 0xBC314F98#32, 0x3C476AF1#32, 0x3DAB1BCD#32, 0xBD8837EE#32, 0x3D97AE68#32],
    ![0xBD3C96C9#32, 0x3CA91943#32, 0x3D9B56A1#32, 0x3D0D9EAF#32, 0xBDE815F1#32, 0xBD23A186#32, 0x3DFA492F#32, 0x3E119047#32,
      0x3DE9CEFD#32, 0x3DF7A59E#32, 0x3D32A181#32, 0x3CCC67E9#32, 0x3DB64EBE#32, 0xBCD40142#32, 0xBBEFB774#32, 0xBE54E23F#32,
      0xBDABDDCF#32, 0x3D98C850#32, 0xBD108847#32, 0x3C3D9161#32, 0x3C502A93#32, 0xBD4098C6#32, 0x3D9B5620#32, 0xBDAE9EC7#32,
      0xBD984097#32, 0x3DB67C5D#32, 0xBD82F1FD#32, 0x3DD79C19#32, 0xBC9B0326#32, 0xBE5611BD#32, 0xBE3FDABE#32, 0x3CD881BE#32,
      0x3E41459B#32, 0x3D809153#32, 0x3D848849#32, 0x3D150A30#32, 0x3DD71161#32, 0xBDE762D4#32, 0xBD192B2F#32, 0xBD0D3CBA#32,
      0xBC23A822#32, 0xBD7B4ADA#32, 0x3C840F07#32, 0x3CE401C8#32, 0x3C69BDC9#32, 0x3BC8F56D#32, 0x3D66B887#32, 0xBCA1BA17#32,
      0x3DC72467#32, 0x3E2B078C#32, 0x3CF121CA#32, 0x3DCDA29C#32, 0x3DA5F511#32, 0x3DC4DFEF#32, 0xBC90D578#32, 0xBCC5EED5#32,
      0x3D6206A9#32, 0xBD100B15#32, 0x3E310A0B#32, 0xBDBC9B4C#32, 0xBE4B83DD#32, 0xBE0AC9A7#32, 0xBCB4C390#32, 0xBE2DD47A#32,
      0xBCBADCAE#32, 0xBD90380D#32, 0x3DE232FD#32, 0x3DE0C6C1#32, 0x3C18136A#32, 0x3DD435D0#32, 0x3D9D38A9#32, 0xBDD53731#32,
      0x3CA36925#32, 0x3D128867#32, 0xBD561E68#32, 0xBDB7FAA1#32, 0xBE77C6E1#32, 0x3CCCCC38#32, 0xBDB83A67#32, 0x3DBF3794#32,
      0xBD9AD3C4#32, 0x3C6F24DA#32, 0x3E054D1B#32, 0xBD4E6EB8#32, 0x3E4B320C#32, 0x3E3248DB#32, 0xBDB17809#32, 0xBC490AC7#32,
      0x3D856D63#32, 0xBD8E4384#32, 0x3DF8555A#32, 0xBDEF36D5#32, 0xBD289EEE#32, 0xBD8D44A7#32, 0x3D46E9F7#32, 0xBC3C78B9#32,
      0x3DDA42C8#32, 0x3D20BBA0#32, 0xBDBB136E#32, 0x3CEE2FC4#32, 0x3DFF0758#32, 0xBDF99D38#32, 0xBCEA2696#32, 0xBCB34DCD#32,
      0x3E52C80B#32, 0xBD9D496A#32, 0xBBC25216#32, 0xBDC46EE3#32, 0xBC877FB1#32, 0xBBDD33CB#32, 0x3C936535#32, 0x3DAC4C43#32,
      0x3D593EB4#32, 0xBD09B858#32, 0xBE17A0B8#32, 0xBA09DDFD#32, 0x3E3584F3#32, 0xBC9D0E9F#32, 0x3CEC9CF3#32, 0xBE14C504#32,
      0xBC1E815F#32, 0x3DFFA29D#32, 0x3E49C5C2#32, 0xBC75BF12#32, 0xBD8F96D8#32, 0xBDF3CA2D#32, 0xBD844BAA#32, 0xBCD17181#32],
    ![0x3BCAD8C7#32, 0xBD09136F#32, 0xBE46990B#32, 0x3D67662E#32, 0xBD003D55#32, 0x3E51C1D0#32, 0xBE0BB91B#32, 0x3D4B7050#32,
      0x3C31FDCC#32, 0xBD9DB80B#32, 0xBDA3E34F#32, 0x3DB65558#32, 0x3D726E77#32, 0x3D715D70#32, 0x3E02B205#32, 0x3DC4102B#32,
      0xBE053DF9#32, 0xBD89D580#32, 0x3D4579A3#32, 0xBD0EF6CE#32, 0xBD3575C7#32, 0x3DFFAC60#32, 0x3CAA8749#32, 0xBD8C0135#32,
      0xBCEE1F1F#32, 0x3D774BC7#32, 0x3DB2A40B#32, 0xBD8DD7BA#32, 0xBD38308C#32, 0x3DC0ABE0#32, 0xBD8210FA#32, 0x3DAC0F7C#32,
      0xBDF7D0A8#32, 0x3D3C370D#32, 0x3DBCD968#32, 0x3DFE4596#32, 0xBD4CF026#32, 0xBC97AA03#32, 0xBE0551A5#32, 0xBE514964#32,
      0xBE05477E#32, 0xBD3C533C#32, 0x3DF70743#32, 0xBDEC5774#32, 0xBCDC4574#32, 0xBB7FD94B#32, 0x3D765807#32, 0xBD872E83#32,
      0xBC477C57#32, 0x3B024053#32, 0xBC15F7EC#32, 0xBE087856#32, 0x3D9DF075#32, 0xBD1BF6B2#32, 0x3DB6FE32#32, 0xBBC1D149#32,
      0x3D4AA634#32, 0xBC6F79DB#32, 0xBC83DE33#32, 0xBCC034C8#32, 0xBC05E59D#32, 0x3DBB0B0F#32, 0x3DECBE61#32, 0xBC4C3E81#32,
      0xBD879814#32, 0x3D11398C#32, 0xBBC1929F#32, 0xBC0A5918#32, 0x3E2CCD04#32, 0x3DDB8D0B#32, 0xBD9FD81D#32, 0xBD85951C#32,
      0xBDE48FE2#32, 0x3E11DCD7#32, 0xBDBB63D5#32, 0x3DF77D0D#32, 0xBDB31A7A#32, 0x3DA016B2#32, 0xBB4789F1#32, 0xBD3DA0EA#32,
      0x3C775BE4#32, 0xBCB47B15#32, 0xBD9F074C#32, 0xBE0AA738#32, 0xBE5062EE#32, 0xBB6428D3#32, 0xBE80266A#32, 0x3DECC774#32,
      0x3E1DA37E#32, 0xBDB1BBE5#32, 0xBDE32097#32, 0x3D8A5DE8#32, 0x3D91A6CC#32, 0x3D985154#32, 0x3E2E681D#32, 0xBE69110F#32,
      0xBD05BFFF#32, 0x3C9E5010#32, 0xBAC0906A#32, 0x3E1B827D#32, 0xBAC53CCC#32, 0xBD0BE333#32, 0xBD28A8A0#32, 0x3CBD1EC7#32,
      0x3AB0D0AC#32, 0xBDDCAD13#32, 0xBE1760FF#32, 0x3D25DE94#32, 0x3DB14043#32, 0x3D2CFEFE#32, 0x3CFF7321#32, 0x3C862C25#32,
      0xBD1AA1A0#32, 0x3E15DE3A#32, 0xBE20D61E#32, 0x3DB2E4F3#32, 0x3B7EF1A3#32, 0xBE58B281#32, 0x3E428FC8#32, 0xBD58F92B#32,
      0xBDD8643A#32, 0xBD726369#32, 0x3D88D80D#32, 0x3C8E60C2#32, 0x3D8E23CD#32, 0x3C49517D#32, 0x3D2EA68B#32, 0xBDF813BE#32],
    ![0x3D84C54D#32, 0x3D535D89#32, 0xBD0B0964#32, 0xBD483C7D#32, 0x3D5EDD8B#32, 0x3E1B1477#32, 0xBD972AEC#32, 0x3D8C14D0#32,
      0xBDA320C9#32, 0xBDD8CE50#32, 0x399010F9#32, 0x3D521F3F#32, 0x3E5E0542#32, 0xBD73D19B#32, 0x3D1EC351#32, 0xBDBD2439#32,
      0x3D898D77#32, 0x3DAE6E88#32, 0xBE81D360#32, 0xBE3E3FDA#32, 0x3DCC8442#32, 0xBD1D2723#32, 0x3D92CDAA#32, 0xBD36F962#32,
      0x3E2354B4#32, 0x3D40B666#32, 0xBCBD4ABE#32, 0xBD42FC64#32, 0xBBBE55B1#32, 0xBC0E9D40#32, 0x3D0A4673#32, 0xBD3960AE#32,
      0x3C585C9A#32, 0x3C16C83B#32, 0xBDBA04DA#32, 0xBDDCEAB0#32, 0x3C7F1936#32, 0x3DDEF644#32, 0xBDE55E54#32, 0x3DAB521B#32,
      0xBE36109B#32, 0xBDA4D754#32, 0x3DB366CA#32, 0x3D49CACB#32, 0x3CA01C2D#32, 0x3E03BDF4#32, 0x3E08D1F1#32, 0x3DE1028A#32,
      0xBC89A50C#32, 0x3D4F1E2B#32, 0x3D9D8F33#32, 0x3CC3107D#32, 0xBD56AF14#32, 0xBE27E75A#32, 0x3C99E248#32, 0xBC93C044#32,
      0x3E0E3B24#32, 0x3D7AC381#32, 0x3D109C81#32, 0x3DB3A61C#32, 0xBCBF739B#32, 0xBDE2D0D8#32, 0xBD120488#32, 0x3DC61266#32,
      0xBC2B2E69#32, 0x3BFC1F97#32, 0x3D21ECAE#32, 0x3C5FF430#32, 0xBE1CE119#32, 0x3DA66BD4#32, 0x3D161A1D#32, 0x3DEE50F1#32,
      0xBD59AC81#32, 0xBDBD6FAA#32, 0x3DCFE2EF#32, 0x3D2F4642#32, 0x3CD691CA#32, 0x3C416E7C#32, 0xBDB2D9FD#32, 0x3DBA0999#32,
      0xBD04D5E9#32, 0xBC29F1C2#32, 0x3AE00FB2#32, 0x3E3927F4#32, 0xBDC1799F#32, 0xBDD39866#32, 0x3DE2EE6D#32, 0x3E06ADA3#32,
      0xBCBCD3BF#32, 0x3DA09114#32, 0xBD5F1060#32, 0xBD14E7E6#32, 0x3E07B683#32, 0xBCDF26CF#32, 0xBE4B45BF#32, 0x3D96BE37#32,
      0x3E11F378#32, 0xBCA09A99#32, 0xBE068C6C#32, 0xBE046078#32, 0xBD7EC2A4#32, 0x3E1D960C#32, 0xBE1629BA#32, 0xBD737A6B#32,
      0x3DE5A35A#32, 0xBDF49445#32, 0xBC3FF908#32, 0x3E49532F#32, 0x3DB7329C#32, 0x3DC9EF13#32, 0xBD8D1D62#32, 0xBD077955#32,
      0xBD817231#32, 0xBD38CDCF#32, 0xBD77EAD3#32, 0xBE28FAFE#32, 0x3DDC688F#32, 0xBCEF7EAD#32, 0xBDC67FA3#32, 0xBD3C309A#32,
      0x3BBDEB73#32, 0xBE1A7799#32, 0xBB25CB28#32, 0x3C859B55#32, 0x3D0EB62E#32, 0xBDB64368#32, 0x3E17CA2C#32, 0xBD97CBE8#32],
    ![0xBDA0FF36#32, 0xBCE250EC#32, 0xBD51BA5B#32, 0xBD7F9D15#32, 0x3CBA90DF#32, 0x3D8B28BE#32, 0xBDD9E2C2#32, 0x3C080B74#32,
      0x3B72DA6F#32, 0x3C251788#32, 0x3E1CD4F7#32, 0x3D0B4767#32, 0xBE0A13F2#32, 0x3D3811D2#32, 0xBD58029C#32, 0xBD24AD0B#32,
      0x3DB6D14F#32, 0xBBABB7E4#32, 0x3E0A5DA7#32, 0xBDC82C9A#32, 0xBE2DA2D3#32, 0x3DDBB01E#32, 0x3E24C18E#32, 0x3DF26F9F#32,
      0xBCEE7398#32, 0xBC53AB54#32, 0x3E4F7B30#32, 0xBD7CDF42#32, 0x3D2C8277#32, 0x3D0F9647#32, 0xBD9DDB36#32, 0xBDCB7B48#32,
      0xBD578EA7#32, 0x3D0D4D33#32, 0xBD86AF7A#32, 0x3C473B1A#32, 0xBD814D5D#32, 0x3DB31CD0#32, 0xBD9E37D6#32, 0x3D334F72#32,
      0xBD133A12#32, 0xBCDE9FE2#32, 0xBCB1F8F4#32, 0x3DA324F3#32, 0x3D8257C6#32, 0x3BB8F09E#32, 0xBC8FD7D4#32, 0x3AED4817#32,
      0x3CE0383A#32, 0x3E0F2D9C#32, 0xBD00477A#32, 0x3D3222A1#32, 0xBDD103A6#32, 0xBDC48C02#32, 0x3D1E4D60#32, 0x3D14EC28#32,
      0x3D762667#32, 0xBDE97A76#32, 0x3DCBD478#32, 0xBDD2B336#32, 0x3BEC1A5F#32, 0xBDAC6CD3#32, 0x3CB5B81F#32, 0xBD1EDEFA#32,
      0x3DC42650#32, 0xBE1B159A#32, 0x3A350B56#32, 0x3E69B657#32, 0xBDD07EF0#32, 0xBCA142CC#32, 0x3DEA3092#32, 0xBD815305#32,
      0x3E5400F1#32, 0xBDF08A52#32, 0xBE133B38#32, 0xBE326BD1#32, 0x3C9B96AB#32, 0xBB93E209#32, 0x3D0F4803#32, 0x3CF349EF#32,
      0xBE394C82#32, 0xBD96185A#32, 0x3D630A30#32, 0x3D88002A#32, 0xBDBBB676#32, 0xBD864C77#32, 0xBDB0D116#32, 0x3D1EDFD0#32,
      0xBD9C4547#32, 0xBD9DCA0E#32, 0xBD03B82C#32, 0x3D9917FF#32, 0xBD792DF3#32, 0xBE5F7B18#32, 0xBD6740D0#32, 0xBDCAB356#32,
      0xBC93CF7E#32, 0x3E0C96B4#32, 0xBB65CD1A#32, 0xBD7E1821#32, 0xBD6937BF#32, 0xBC2176EA#32, 0x3CB956ED#32, 0x3D9AC530#32,
      0x3D270818#32, 0x3BC838F0#32, 0x3D84694B#32, 0x3D5009F5#32, 0x3D938E55#32, 0x3D5C2D0D#32, 0x3D100FB9#32, 0x3DF4E580#32,
      0x3CA10EF3#32, 0xBB989122#32, 0xBD0658AD#32, 0xBDAA51B9#32, 0x3D7E3792#32, 0xBC71D586#32, 0xBD03C138#32, 0x3C3F5D94#32,
      0xBDE23EC4#32, 0x3D04774A#32, 0xBD5716F9#32, 0xBDE15FCB#32, 0x3DB372B8#32, 0xBBEEFB42#32, 0xBD91F597#32, 0x3DCEEBF0#32],
    ![0x3D985FB8#32, 0x3DF62475#32, 0xBDEA9C64#32, 0x3D532C28#32, 0x3D42B4D8#32, 0xBCB00FF7#32, 0xBC0DFA13#32, 0x3DA8784B#32,
      0x3D7486E6#32, 0xBE24342D#32, 0xBAB8A9D7#32, 0x3CB3AD24#32, 0xBDDB5CFA#32, 0x3D5674F8#32, 0x3C51CE0D#32, 0x3D73336F#32,
      0x3D94D621#32, 0xBCCD165B#32, 0x3C996AE5#32, 0x3CA0BA15#32, 0x3D853ECF#32, 0xBC88C004#32, 0x3D292FF2#32, 0x3E103487#32,
      0xBC1FB637#32, 0x3C1D329F#32, 0x3D8CD1BA#32, 0x3E2D2B9F#32, 0x3E01C8DA#32, 0x3D8915FA#32, 0x3E4E8768#32, 0x3D990707#32,
      0x3D4D7BF9#32, 0x3DB674BB#32, 0x3DC955AC#32, 0xBD0CEB44#32, 0xBD33D066#32, 0x3D4BEFBB#32, 0x3E1A0B3B#32, 0x3CFE19FD#32,
      0x3D9CA62D#32, 0x3D467ED0#32, 0x3DE7243A#32, 0xBC751A38#32, 0x3BA98FD9#32, 0xBD5D3ED6#32, 0x3DA5E2BB#32, 0x3DC3D0F7#32,
      0x3CD13DD9#32, 0x3C766A4E#32, 0xBCFCD6A0#32, 0x3E1F4ED2#32, 0xBD3525DF#32, 0x3D3085FD#32, 0x3E43FE43#32, 0xBD3E3664#32,
      0x3DB8DC3A#32, 0xBCF0E167#32, 0xBD29DE85#32, 0x3D67975B#32, 0xBDC6FE9B#32, 0x3DA1D662#32, 0x3E008F2D#32, 0x3C50E0C0#32,
      0xBE04FA52#32, 0x3DD246FC#32, 0x3CAE4223#32, 0xBD05D709#32, 0xBDB93649#32, 0xBE35F8E3#32, 0x3DB9278C#32, 0x3D830B59#32,
      0xBD5885FE#32, 0xBDF24D12#32, 0xBBE9AF94#32, 0xBD9773D3#32, 0xBE1F38E0#32, 0x3D1094C6#32, 0x3E1CEE84#32, 0xBE41C964#32,
      0x3E40999B#32, 0xBD4CA79A#32, 0x3D65A6E1#32, 0x3D6D052F#32, 0x3CFE4249#32, 0x3C9D1204#32, 0xBC6E09F2#32, 0xBDD4854C#32,
      0x3D6AD0FB#32, 0xBD0A193E#32, 0x3E1A4C0F#32, 0xBDCE8084#32, 0xBE0D5A64#32, 0x3DE6D365#32, 0xBDB29A2E#32, 0x3D9A228F#32,
      0x3C3B619A#32, 0x3D45AADD#32, 0xBE2EAD1E#32, 0x3D8D1811#32, 0xBE36667A#32, 0x3E4E3F3C#32, 0xBCB4A990#32, 0x3C2F9653#32,
      0x3D6D4D41#32, 0x3D32D9CA#32, 0xBD2C5C5E#32, 0xBE1F158B#32, 0x3D38F619#32, 0xBCB566DA#32, 0x3DE2F89C#32, 0xBCC653FC#32,
      0xBC00E261#32, 0x3DF20EC8#32, 0xBDC9B38C#32, 0x3C59B535#32, 0xBDEC2A12#32, 0xBE1192AB#32, 0x3CE3252A#32, 0x3DCB5F29#32,
      0x3DDE9E82#32, 0xBDB70F3D#32, 0x3D5C9F8B#32, 0xBD842B21#32, 0xBE1ACFCD#32, 0xBBAD5A78#32, 0xBC8EEE64#32, 0x3DF42550#32],
    ![0x3DB8EE65#32, 0x3DE11402#32, 0x3CB4E288#32, 0xBC8D3D52#32, 0x3BDEF3A1#32, 0xBE216680#32, 0xBDC0819C#32, 0x3E1E9CDB#32,
      0xBD8CC924#32, 0x3D643A56#32, 0x3E04E315#32, 0xBD0939BD#32, 0xBC31827B#32, 0x3E0FDC3A#32, 0x3DE7FB2C#32, 0x3D578E31#32,
      0xBE5662A2#32, 0xBDEE800F#32, 0x3D3A630D#32, 0x3DCF204F#32, 0x3C804D17#32, 0x3D65B570#32, 0xBD8CB3B9#32, 0xBE025554#32,
      0xBCFCE238#32, 0xBCB33AD0#32, 0xBD422FC2#32, 0xBD9CEA26#32, 0xBE7BB82E#32, 0x3E234FD2#32, 0x3CE3DBF9#32, 0x3CB3D0FD#32,
      0x3CEDDB7D#32, 0x3E5DB063#32, 0xBC7C751E#32, 0x3CA67A07#32, 0x3B746045#32, 0x3CDF7FEC#32, 0xBCB28754#32, 0xB96AE681#32,
      0x3D9F69DE#32, 0x3D15313D#32, 0xBDE1ACB0#32, 0xBE33F4A1#32, 0x3D001837#32, 0xBECCD2FB#32, 0x3D91C4F7#32, 0xBDB3C59B#32,
      0x3C6B5772#32, 0xBDCEE4A8#32, 0xBD44D229#32, 0x3A3E42A3#32, 0x3D92FF45#32, 0xBD18A1C6#32, 0x3D98C7DA#32, 0x3D1A7F3A#32,
      0x3DF45869#32, 0x3CEFE638#32, 0xBE305C22#32, 0xBE33ECF5#32, 0xBD2C76CA#32, 0xBD116214#32, 0x3BBCDB51#32, 0xBD69A8AA#32,
      0xBDACBA66#32, 0xBD903C84#32, 0xBD2E85D7#32, 0x3CA2328C#32, 0x3AB76649#32, 0x3C3C52C2#32, 0xBD42CFC1#32, 0x3E2A9A8D#32,
      0xBC642E94#32, 0xBD3153DD#32, 0xBD4C10D7#32, 0x3E693C4C#32, 0x3E10AB1A#32, 0xBDDB98EE#32, 0xBD136FBD#32, 0x3D250A86#32,
      0xBD800DAB#32, 0xBC949BDF#32, 0xBD90AF78#32, 0x3C02728A#32, 0xBD02D20D#32, 0xBE0B1A50#32, 0x3CB4AE86#32, 0x3D2BDAF8#32,
      0x3DED1AB9#32, 0x3CD0D622#32, 0xBE021E4B#32, 0x3D439BBA#32, 0xBD579676#32, 0x3CF459EF#32, 0x3D8059AE#32, 0x3D95974F#32,
      0xBE118F32#32, 0xBDAD07DF#32, 0x3E058678#32, 0xBE1C6445#32, 0xBCF8E265#32, 0xBD88D10F#32, 0xBC6DDAA4#32, 0xBD6AD7BB#32,
      0x3DCB8CAD#32, 0xBD23DA02#32, 0xBC88A781#32, 0xBDC8F40A#32, 0xBD0806DE#32, 0xBE864C28#32, 0x3DB51929#32, 0x3E01E2EA#32,
      0xBE2484FD#32, 0xBD3352BA#32, 0xBDCAD16B#32, 0x3D0E92FC#32, 0x3E45CD5E#32, 0x3CBAB056#32, 0xBE5CD665#32, 0x3BCC010C#32,
      0x3D2CD330#32, 0x3B6B06D8#32, 0x3E1FDB88#32, 0x3E15FBB3#32, 0x3D42989A#32, 0xBD90AAF1#32, 0x3BA093F3#32, 0xBC3F4DEF#32],
    ![0xBE2C975C#32, 0xBD9A1453#32, 0xBD20DC1D#32, 0x3D3880FB#32, 0x3DE2E025#32, 0xBE017DBC#32, 0xBD208520#32, 0x3D927646#32,
      0x3CD39BFD#32, 0xBD2B3999#32, 0xBD05A37E#32, 0x3D03D6B9#32, 0x3CBEA0B3#32, 0xBD638B81#32, 0xBDBD04B8#32, 0x3DA11205#32,
      0x3E2E8AC8#32, 0x3BA7B172#32, 0x3B9FC30D#32, 0xBCC76C98#32, 0xBE01A4F0#32, 0xBD941266#32, 0x39ADB433#32, 0x3CC92B44#32,
      0x3E21BE3B#32, 0xBE1058DF#32, 0x3E2B11DF#32, 0xBD4978BF#32, 0xBD9EA7E9#32, 0x3B8473C3#32, 0xBD8BA695#32, 0xBDB12453#32,
      0xBD54BA01#32, 0x3D994982#32, 0xBB739D20#32, 0xBD369050#32, 0x3C975E0D#32, 0x3DB29714#32, 0xBCF04348#32, 0x3D7E95F3#32,
      0xBDD52E4F#32, 0x3DE53C1B#32, 0x3E1B63E1#32, 0x3CAB3C39#32, 0xBCA83FCC#32, 0x3D314310#32, 0x3E2A51AF#32, 0x3E2E66B8#32,
      0x3E2AEB4F#32, 0x3DC36345#32, 0xBD8863D1#32, 0x3D53BC1F#32, 0x3DCA79E2#32, 0x3D3FAA9D#32, 0x3CA4E948#32, 0xBD90522F#32,
      0xBD828F8A#32, 0x3D923D10#32, 0x3D967D06#32, 0x3DB35735#32, 0x3D962D31#32, 0x3E647163#32, 0x3E00E7E4#32, 0x3D9078BB#32,
      0xBE543336#32, 0x3E1A182D#32, 0xBDB46AAD#32, 0xBD4C84BF#32, 0xBBE31FA4#32, 0x3E6A14F2#32, 0xBE018D81#32, 0x3B134108#32,
      0xBD24F4B3#32, 0xBD7CE50B#32, 0x3D484190#32, 0xBD40C4BE#32, 0xBCE497F1#32, 0x3DFAA449#32, 0x3D1A2052#32, 0xBE08DE81#32,
      0x3DAA0B40#32, 0xBD74F741#32, 0xBCDEFBC6#32, 0xBB72DB98#32, 0xBE41A6C7#32, 0x3DDB291D#32, 0xBD234762#32, 0x3D718423#32,
      0x3E0116AD#32, 0xBD8C070B#32, 0x3CCAAE6F#32, 0x3D9ECF1A#32, 0xBCC97D9D#32, 0xBDDA5914#32, 0xBD81A19D#32, 0xBE2A751F#32,
      0x3D27A894#32, 0x3BAB8A79#32, 0xBD7C6BFD#32, 0x3D7E1961#32, 0x3D2966A8#32, 0xBC836C28#32, 0xBE349BA3#32, 0xBCF725DE#32,
      0x3CE17574#32, 0x3D17FE1C#32, 0xBC943CB5#32, 0xBC9BEDFA#32, 0xBE3F60D5#32, 0xBDDAAF37#32, 0xBDC98BA4#32, 0x3D8FAA7F#32,
      0x3CA7CFD1#32, 0xBD6FDD29#32, 0x3D0EDE2F#32, 0xBDB30470#32, 0xBDCCC9DB#32, 0xBE64E69E#32, 0xBD52BFB2#32, 0x3D9B74EA#32,
      0x3CB8CDC6#32, 0xBB28B2F0#32, 0x3DCA5D15#32, 0x3DBCBA13#32, 0xBCA4D64B#32, 0x3E1AE732#32, 0x3DA9524D#32, 0xBC2DDA8F#32],
    ![0x3D0A77D1#32, 0xBCD447B6#32, 0x3E1D6337#32, 0x3E1BB3F2#32, 0xBE145C6E#32, 0x3CF6E755#32, 0x3DCD59FE#32, 0x3D3D407D#32,
      0xBC08C5AE#32, 0xBD1D039F#32, 0xBE0B05D5#32, 0x3D420C35#32, 0x3C36593D#32, 0xBDC6D15E#32, 0xBD9B2A5E#32, 0xBDC5E3E6#32,
      0xBD65222E#32, 0xBE189136#32, 0x3DA8E893#32, 0xBDBBFE89#32, 0x3E251C65#32, 0x3B625273#32, 0xBDDD0F26#32, 0xBDDFD7AD#32,
      0x3DEDA293#32, 0x3E291564#32, 0x3DF3D43F#32, 0xBCF94FCF#32, 0xBE3158EB#32, 0x3D57974B#32, 0x3D04FFEA#32, 0x3DCB76DC#32,
      0x3DBDC384#32, 0x3D9FE8CC#32, 0x3D105B69#32, 0xBCDD8C8E#32, 0x3D3056D8#32, 0xBD35C0D3#32, 0x3D3B1FF4#32, 0xBC025FD6#32,
      0xBD163AA2#32, 0x3DF873FF#32, 0xBDBB1F57#32, 0xBD86EEBD#32, 0x3CEEC1ED#32, 0x3DBB47C0#32, 0xBD5D6A26#32, 0xBD802453#32,
      0xBD9EC879#32, 0xBDD5BD8D#32, 0xBBD9B944#32, 0xBE2B184B#32, 0xBE3785C6#32, 0xBC0DC185#32, 0x3D16D00D#32, 0xBCAFACCB#32,
      0xBC80B216#32, 0xBC52BF80#32, 0x3DC09A8A#32, 0xBCC45658#32, 0x3E0C64BE#32, 0xBD2B78EC#32, 0x3DA42D66#32, 0x3E5E1E5B#32,
      0xBD624657#32, 0x3E219C8F#32, 0x3D48AD55#32, 0x3DCA6759#32, 0xBE516939#32, 0x3E2365A3#32, 0x3C39C467#32, 0xBDFAEC9E#32,
      0xBD809D6B#32, 0x3C9D1232#32, 0xBDC455F4#32, 0x3C9FF2B3#32, 0xBDB9F96C#32, 0x3E104D69#32, 0xBD35A735#32, 0x3D11F41A#32,
      0xBD17C3E2#32, 0x3DA9CA42#32, 0xBDAC3EF1#32, 0x3E03BBB2#32, 0xBD6D5656#32, 0xBE0BD06B#32, 0xBE35526C#32, 0x3D8F2B02#32,
      0xBD52A8A2#32, 0x3DDD0CB4#32, 0x3BA0DB96#32, 0x3D9A242B#32, 0x3CD5C3A8#32, 0xBE4A8009#32, 0x3C252C31#32, 0x3D52BA0D#32,
      0xBD407C04#32, 0xBD9BF48C#32, 0x3E3E68CB#32, 0x3D7CE5C0#32, 0xBCCB0375#32, 0xBB0BDDED#32, 0xBE831BFD#32, 0xBD30A49D#32,
      0xBDA91950#32, 0x3DDA1C6B#32, 0x3CFDF2D8#32, 0xBE5F3C81#32, 0xBDCDC6FC#32, 0xBD949FA9#32, 0xBD33578A#32, 0xBE0B1FD2#32,
      0xBC8A0E84#32, 0xBCE02D76#32, 0x3CA7F761#32, 0xBE60D16C#32, 0x3D88DBE1#32, 0x3C63EA22#32, 0x3DFED32E#32, 0xBC95D7E6#32,
      0xBD3EA7EF#32, 0x3C61D0E6#32, 0xBCA38788#32, 0xBB7200A9#32, 0xBADD9B7B#32, 0xBCEEE286#32, 0xBD5602F5#32, 0x3ADAF2A2#32],
    ![0x3DED71E7#32, 0x3D14A97E#32, 0xBC97433D#32, 0xBD8B772E#32, 0x3CC8301F#32, 0xBCC2C55D#32, 0x3B1B0299#32, 0x3DF6E122#32,
      0xBE2C767D#32, 0xBDCC4C76#32, 0xBE4459A1#32, 0xBD1E1893#32, 0x3CC6571F#32, 0x3E25F224#32, 0xBE081D3F#32, 0x3C635468#32,
      0xBC04134D#32, 0x3B0667E4#32, 0xBDCB0056#32, 0x3D60120D#32, 0x3C67F91B#32, 0xBDAB2F11#32, 0x3D92D337#32, 0x3DEC2ED4#32,
      0xBE47C1E8#32, 0xBCCB19C5#32, 0x3D001558#32, 0xBDD32ECF#32, 0xBDC09D56#32, 0xBE04AB61#32, 0x3E784AAB#32, 0xBD66A59F#32,
      0xBD5F4420#32, 0xBD1683EF#32, 0x3D0CD3A0#32, 0x3C1DB504#32, 0xBDAC5953#32, 0x3BF3AA47#32, 0xBD250BC7#32, 0xBDD5D6A6#32,
      0xBE242C30#32, 0xBE714F5D#32, 0x3BFC23FC#32, 0x3DB5A40E#32, 0x3DFF19A4#32, 0xBD16A2AC#32, 0x3E1E119C#32, 0x3D3D7303#32,
      0xBD9D9A66#32, 0x3D001699#32, 0x3D7D366D#32, 0xBDD92B0F#32, 0x3DA4978D#32, 0xBD5D5E78#32, 0xBE2EBFA2#32, 0x3DD3F1ED#32,
      0xBC82F454#32, 0xBD583968#32, 0xBD592A6D#32, 0x3C5C5DEC#32, 0xBE276CB6#32, 0xBD8B9FE2#32, 0xBDB5B756#32, 0x3D50A90E#32,
      0xBD32B7B8#32, 0xBABE04AE#32, 0x3D3FCFAC#32, 0x3CCA3D29#32, 0x3D910A99#32, 0x3D08A518#32, 0xBD9D9E68#32, 0xBD5C85AE#32,
      0xBDD7BB5A#32, 0x3DF2A5D2#32, 0x3CC6A7FB#32, 0x3CA77C7F#32, 0x3DE8BDA9#32, 0x3E028C46#32, 0x3C0EAE75#32, 0xBDD8E626#32,
      0xBD610D86#32, 0xBDF4C471#32, 0xBD95AFA9#32, 0x3DD111E1#32, 0x3CDB5A71#32, 0x3B0E1DD2#32, 0x3DF724E0#32, 0xBDA9CFF1#32,
      0xBD0B4FD2#32, 0x3C9A7CCA#32, 0x3E017C8A#32, 0x3C83D329#32, 0xBDF005DD#32, 0xBDB8CCAE#32, 0xBE85BAFE#32, 0x3C804869#32,
      0x3D9846F3#32, 0x3E0E65BC#32, 0xBC1EEF02#32, 0xBD45C2D8#32, 0x3D90B4D2#32, 0xBDA4C7D3#32, 0x3D99DF8E#32, 0x3E53D1AA#32,
      0x3C6B03F2#32, 0x3D3AC1D2#32, 0x3CD82D66#32, 0x3D840F07#32, 0x3DD2F0F1#32, 0x3CE8FC4C#32, 0x3E0DB845#32, 0x3D5DEC9F#32,
      0xBD72AAC0#32, 0xBC3370A0#32, 0xBDEE0ECE#32, 0x3E11D672#32, 0xBCEBBBD6#32, 0xBE2EDAEB#32, 0xBD5A6286#32, 0x3C9D6122#32,
      0x3DC91E8F#32, 0x3E927790#32, 0xBD06CB3E#32, 0xBDC56A4D#32, 0xBE225DD9#32, 0xBE055FD8#32, 0xBDDAA31D#32, 0x3DA31726#32],
    ![0x3D899404#32, 0x3CBCEF45#32, 0xBDCA79C3#32, 0x3DE13B1D#32, 0xBDB0B1B5#32, 0x3DC9FDEC#32, 0x3C8C26A3#32, 0xBE0A69B1#32,
      0x3DB83A8D#32, 0x3D26E45D#32, 0xBE056533#32, 0xBD2AB2C4#32, 0xBD5B3DC5#32, 0xBDD1C017#32, 0x3C534788#32, 0x3DA2CD6B#32,
      0xBDA33236#32, 0xBDADC9C9#32, 0xBC2D216D#32, 0x3DC67A00#32, 0x3D800CD7#32, 0x3BFA89E6#32, 0xBCFBB746#32, 0x3DA2C859#32,
      0xBBDC4F33#32, 0x3D361461#32, 0xBD43FB64#32, 0x3D9080DB#32, 0xBE67066E#32, 0xBD829AA1#32, 0x3DA80A6F#32, 0xBD9BAEC2#32,
      0xBDB32915#32, 0x3CC28AC3#32, 0x3E31BA30#32, 0x3C46D59E#32, 0x3D4C2618#32, 0x3DF74610#32, 0x3D4F8F9D#32, 0xBD0DD1A6#32,
      0x3E05CCD0#32, 0x3E1214B0#32, 0xBDA0F3B6#32, 0x3D851850#32, 0x3D3DC273#32, 0x3E72471D#32, 0xBDA005A0#32, 0x3D742E95#32,
      0xBDB255AC#32, 0xBD98F72F#32, 0x3D9EB407#32, 0xBDCFE10F#32, 0xBC8228E4#32, 0xBD28F85E#32, 0x3D99EEC9#32, 0x3CD5B7A6#32,
      0xBD7A4845#32, 0xBE7C6982#32, 0xBCBC1E64#32, 0x3E5D474F#32, 0x3CC73D6E#32, 0xBCC3AA8F#32, 0xBCA37AE4#32, 0x3DCA2092#32,
      0x3D365934#32, 0xBDF313B6#32, 0xBE2CAC80#32, 0x3C21D768#32, 0x3E058083#32, 0x3D07B0B4#32, 0xBD3E9F61#32, 0x3DE7244A#32,
      0x3D0F0AC1#32, 0x3C2C5017#32, 0x3DBC11C0#32, 0x3D95247C#32, 0xBD37891D#32, 0xBDC79B7B#32, 0x3D89A089#32, 0xBE10EBFB#32,
      0xBDF46F7C#32, 0xBD198633#32, 0xBE0A04FC#32, 0x3E19E338#32, 0xBCDE981C#32, 0x3D080F0B#32, 0x3D0B8BA9#32, 0xBD969547#32,
      0x3CB4BC00#32, 0x3E3B7B03#32, 0x3D963C9B#32, 0xBD824F5C#32, 0xBE423518#32, 0x3E0716F9#32, 0xBB86FCF0#32, 0x3DDD3EAA#32,
      0xBDC04807#32, 0x3E1D222D#32, 0x3D289997#32, 0xBDA34712#32, 0x3CD1554A#32, 0xBD87C57B#32, 0x3D80A6DF#32, 0xBE21E7EA#32,
      0xBBDFF2F8#32, 0x3D2C2F37#32, 0x3C87C622#32, 0x3CA47A91#32, 0x3E239512#32, 0xBDBF1C5E#32, 0x3D70621E#32, 0xBCADE29A#32,
      0x3D8485FB#32, 0xBC08BD92#32, 0xBDE1CB95#32, 0xBB22DB16#32, 0xBD9F74AA#32, 0x3DA5194F#32, 0xBD647D67#32, 0x3CECFE56#32,
      0x3CB55126#32, 0xBD9CB6F4#32, 0xBDE77FB1#32, 0x3CBB6E3A#32, 0xBDCA2D25#32, 0xBDE44A6B#32, 0xBD181EB9#32, 0x3DDA173B#32],
    ![0xBC0AEFD6#32, 0xBCF54D94#32, 0xBE0A6D41#32, 0xBD7C5A85#32, 0xBE059E26#32, 0xBB363DDB#32, 0xBE20C6C3#32, 0xBD382B26#32,
      0xBD4719A8#32, 0x3D437E4A#32, 0x3C7F7E56#32, 0x3D84465C#32, 0xBBCD8BBD#32, 0xBDA41616#32, 0x3DEBF683#32, 0xBC9330F7#32,
      0xBD966FD4#32, 0xBE73836D#32, 0xBD9E22A9#32, 0x3D877B01#32, 0x3E6D77C3#32, 0xBCF84244#32, 0xBD8C76A5#32, 0xBDBEB192#32,
      0x3DD8C50C#32, 0x3CD83DE1#32, 0xBCA700AB#32, 0xBD9BAD65#32, 0xBD0C73E1#32, 0x3E8F0F53#32, 0xBD11D7DC#32, 0xBE32E80D#32,
      0xBD6F2673#32, 0x39A99BA6#32, 0xBE11833B#32, 0xBE0CC7EE#32, 0xBDBAF31C#32, 0x3D32E28A#32, 0x3D54EB24#32, 0x3BF73A3C#32,
      0xBD03959F#32, 0x3DFF929A#32, 0x3CA0228B#32, 0x3C65A25D#32, 0xBDE9C13A#32, 0x3DBB3D6D#32, 0xBCC8F02D#32, 0x3D93BB21#32,
      0xBD3A7883#32, 0x3E813252#32, 0x3C517E5D#32, 0xBDC7124C#32, 0xBD104E5B#32, 0x3E3BE983#32, 0xBE0D7A7F#32, 0xBDC053F7#32,
      0xBD270CE2#32, 0xBD49ADD1#32, 0xBC82A4AF#32, 0xBCF6A524#32, 0x3E16E3FE#32, 0x3D4C44A9#32, 0xBDF84964#32, 0x3D8051E5#32,
      0xBDCA82B3#32, 0x3D00B5E8#32, 0x3C423A6C#32, 0xBC182858#32, 0x3E0AC0C7#32, 0x3D87A9DE#32, 0xBCC7B13D#32, 0xBD9A0E72#32,
      0x3E0C5759#32, 0x3B06FE62#32, 0x3E092523#32, 0xBD920453#32, 0xBA03D125#32, 0x3C8AA7E8#32, 0xBD10E11B#32, 0xBD383406#32,
      0x3D48B7C4#32, 0x3D5287D1#32, 0xBD0CA06E#32, 0xBDA0F277#32, 0xBD9A782F#32, 0xBC427C17#32, 0x3C9CBD8A#32, 0x3DC4A46A#32,
      0xBD847E7E#32, 0xBC1C6B81#32, 0x3DB155E4#32, 0xBE0E1D16#32, 0x3C3BB945#32, 0x3DB7BA94#32, 0x3BB916C4#32, 0xBE275A6E#32,
      0xBD7CA26C#32, 0x3CDF633C#32, 0x3D43FB9C#32, 0x3C98E9CE#32, 0x3DBCE75F#32, 0x3E094BE9#32, 0xBC15A436#32, 0xBE4E65A2#32,
      0xBDFEB96E#32, 0xBE12B001#32, 0xBD02019C#32, 0xBD990A69#32, 0xBD1A6A8A#32, 0xBDFD223B#32, 0xBB9362F7#32, 0xBA4B2C10#32,
      0xBDD5146E#32, 0x3D999B3C#32, 0xBD97CDD2#32, 0x3E0DE6FA#32, 0x3E23D5A3#32, 0xBDEAD2B3#32, 0x3DE98953#32, 0x3CAD5125#32,
      0x3D6B0CAB#32, 0x3E9EE9F5#32, 0xBE5D4B1D#32, 0xBE2F2B21#32, 0x3CC145EA#32, 0xBC7613F4#32, 0x3D9A640B#32, 0x3CB8C2E5#32],
    ![0x3CC57E40#32, 0x3E011547#32, 0xBDD108AB#32, 0xBD4CBB29#32, 0x3D976A6A#32, 0xBD03C0A2#32, 0x3BA3FF15#32, 0x3DBF9AC0#32,
      0x3D6C56F7#32, 0x3DFEEDF7#32, 0xBDA41016#32, 0x3D3ED4D4#32, 0x3D7DFA5C#32, 0xBDA0BD60#32, 0xBD137D41#32, 0x3E0AADB8#32,
      0xBC386439#32, 0xBD18F792#32, 0x3D2059C1#32, 0x3C2F053D#32, 0x3D7E3B28#32, 0xBE4FE383#32, 0x3C4464D0#32, 0x3C47E508#32,
      0xBE561E1A#32, 0xBE0899B0#32, 0xBCEEFE3F#32, 0xBC188F53#32, 0xBC8F22AA#32, 0x3D85D6CF#32, 0xBC95F015#32, 0xBD179527#32,
      0xBDA338C8#32, 0xBD140CC7#32, 0xBC9963BC#32, 0xBCB32B73#32, 0xBDF2ECF5#32, 0x3DF6FCBF#32, 0xBD31E70F#32, 0xBC241BD8#32,
      0x3D010B31#32, 0x3DDD3CF7#32, 0xBDABEFA4#32, 0x3BEF2720#32, 0xBD605641#32, 0x3D08E936#32, 0x3BE6E027#32, 0x3BF0912B#32,
      0x3DADABF1#32, 0x3E09E2E3#32, 0xBD302AD8#32, 0xBDCC1720#32, 0x3DB85509#32, 0xBD2B121D#32, 0x3D0B1F2B#32, 0x3DF8D9A8#32,
      0xBD0E7795#32, 0xBD872E6A#32, 0x3DECF89B#32, 0x3E0167E1#32, 0xBC9F491D#32, 0xBD66FF44#32, 0x3E5E83B2#32, 0xBCA01703#32,
      0xBB4A97B5#32, 0x3D2C18F6#32, 0xBCC2772C#32, 0x3D10A148#32, 0x3E5329E8#32, 0x3D84D82D#32, 0x3DC43282#32, 0xBC9A5DE5#32,
      0x3E3420E2#32, 0x3E637165#32, 0x3DF5F851#32, 0x3DAD641F#32, 0x3CA16D7F#32, 0x3DF1127F#32, 0xBDABEA4E#32, 0x3B75A6D2#32,
      0x3C248549#32, 0x3D03575B#32, 0x3A97F796#32, 0x3B062F1D#32, 0xBB5EC72F#32, 0xBD9C0DA1#32, 0xBCD48CAE#32, 0xBD419947#32,
      0xBD40663A#32, 0x3DE5C051#32, 0x3E023A11#32, 0xBDEE3CDC#32, 0x3D83C103#32, 0x3D0D0E8C#32, 0xBD8B9BF4#32, 0x3B0A3A15#32,
      0xBC883428#32, 0xBD0FD53A#32, 0x3DDED747#32, 0x3D8B0F63#32, 0xBE1B15EE#32, 0xBB74B930#32, 0x3D3B86CF#32, 0x3CAC7166#32,
      0x3DED3A38#32, 0xBB046AF4#32, 0x3DA00CB9#32, 0x3C5E6DC6#32, 0x3D32FD23#32, 0x3E0A7EEE#32, 0xBD8EB966#32, 0xBDD13228#32,
      0xBC8DBDE6#32, 0xBC4F72D4#32, 0xBC5B952E#32, 0xBD75FEE0#32, 0x3DB4F9C3#32, 0x3CE430D2#32, 0x3E3BDF51#32, 0xBDCC4BBC#32,
      0xBCE686C2#32, 0x3D84ABD3#32, 0xBDB39075#32, 0x3D35985B#32, 0x3CFE423A#32, 0xBD0DC50D#32, 0x3D74CB2F#32, 0x3CF10A79#32],
    ![0x3E3AABFC#32, 0x3D8C5716#32, 0x3DDE5C82#32, 0x3D896C4C#32, 0x3E3C6FB8#32, 0x3E150CBE#32, 0x3E4AA848#32, 0xBE014CD3#32,
      0xBC06F880#32, 0x3DA5C0F9#32, 0x3DB2E7EA#32, 0x3B246E5C#32, 0xBC081188#32, 0xBDB13565#32, 0xBD43DF56#32, 0x3D03C42D#32,
      0x3D8D9DDD#32, 0x3D50B713#32, 0x3E18F3E5#32, 0x3D986641#32, 0xBE1BE659#32, 0x3D2DB11C#32, 0xBE13C1CD#32, 0x3D32940D#32,
      0xBD47B719#32, 0xBD169D04#32, 0xBE01514B#32, 0xBCAACE56#32, 0xBCF5B06C#32, 0x3DE70AA3#32, 0xBC989146#32, 0x3D23AA7B#32,
      0x3E0C2ACF#32, 0x3D9A2764#32, 0x3C980D6B#32, 0xBCE69922#32, 0xBD049388#32, 0x3DC9C3D7#32, 0x3DA9F633#32, 0x3E14DEF9#32,
      0xBDBD65F0#32, 0xBE025C87#32, 0x3DAC8287#32, 0x3E00F549#32, 0xBE0D98A2#32, 0xBDC4F103#32, 0x3C9C515F#32, 0x3D4F4E8D#32,
      0x3DFED42F#32, 0xBD873967#32, 0x3D833E8C#32, 0xBD15CFAB#32, 0x3E0F4123#32, 0xBD647A91#32, 0x3E2ACDB7#32, 0x3C57AECF#32,
      0x3DDC34B2#32, 0xBDA641FF#32, 0x3CE35980#32, 0x3C562427#32, 0xBDE005A2#32, 0x3E704D64#32, 0xBE1CEE62#32, 0x3D114346#32,
      0x3DBE52B0#32, 0xBD9A7877#32, 0x3D833F4C#32, 0x3DDFFD87#32, 0x3CF4ED07#32, 0xBDE3EE36#32, 0xBCB5BE43#32, 0x3D96FEC6#32,
      0x3C23748A#32, 0xBDA4662E#32, 0x3D2B968F#32, 0xBE01484C#32, 0xBCCA2668#32, 0xBD82DF52#32, 0x3E6779AD#32, 0xBCC82F05#32,
      0x3DD83500#32, 0x3D4654E0#32, 0x3D8EDE69#32, 0xBB90B2FA#32, 0x3D3EF491#32, 0x3E43BF60#32, 0x3CE302D1#32, 0x3E0E70CC#32,
      0xBD976793#32, 0xBDD433CF#32, 0x3D816076#32, 0xBD0286AD#32, 0xB93744E6#32, 0x3BB43CA6#32, 0xBCB39F48#32, 0xBCC4D7FA#32,
      0x3DE5DB05#32, 0xBB7812EB#32, 0x3A8A42F3#32, 0x3E37919B#32, 0xBCC2A584#32, 0xBD87D2E7#32, 0xBD09B84F#32, 0x3E103B32#32,
      0xBDB07C4D#32, 0x3D5A85EB#32, 0x3D832139#32, 0x3E5AD903#32, 0x3E1CADE8#32, 0x3CB582CA#32, 0xBCDAFF99#32, 0x3E347303#32,
      0xBD00C210#32, 0x3D098240#32, 0x3D6444CC#32, 0x3D30A71C#32, 0xBE01841B#32, 0x3E5B0EF1#32, 0x3E076602#32, 0x3DC8A85F#32,
      0xBCB22BBB#32, 0xBCE38D84#32, 0x3E3C9A9A#32, 0x3D519123#32, 0xBC8A0017#32, 0x3CD4493F#32, 0xBDAEE204#32, 0x3E535DCB#32],
    ![0xBDEF50C6#32, 0xBE247587#32, 0x3D150F16#32, 0xBDB3269C#32, 0x3D6D8772#32, 0x3E0D79C0#32, 0xBDE90FBC#32, 0x3C93A621#32,
      0x3D9A26F8#32, 0xBD9FB570#32, 0x3D45A5F9#32, 0xBE1D1A20#32, 0xBDD5E892#32, 0xBE108D15#32, 0x3D6B1C4A#32, 0x3E1DFC3E#32,
      0x3E048ABA#32, 0xBBED0A49#32, 0xBD8C4E9C#32, 0x3D512572#32, 0xBDDCE994#32, 0x3D70D220#32, 0x3CE2B875#32, 0x3DA44B3E#32,
      0xBD78363E#32, 0xBDECAD65#32, 0xBDBA2DB9#32, 0xBD933382#32, 0xBC315C41#32, 0x3DDAAF7C#32, 0x3D9125E2#32, 0xBD1960F9#32,
      0x3D0BFE21#32, 0x3D182480#32, 0xBE2C1BE3#32, 0xBD5FCE37#32, 0xBE0A0085#32, 0x3E7237D2#32, 0xBD12CD5D#32, 0xBDAE6683#32,
      0x3DA7A184#32, 0x3D1B4EAD#32, 0x3D0BE1DB#32, 0xBD53ED74#32, 0x3E17F25A#32, 0xBDC8C33A#32, 0x3C97E28E#32, 0x3D75388C#32,
      0x3DC98706#32, 0xBB04C397#32, 0xBD44C5C1#32, 0xBE023F0F#32, 0xBD736022#32, 0xBE24A753#32, 0xBCC59545#32, 0xBD827254#32,
      0x3D9565EA#32, 0xBE44F434#32, 0xBD2DAF9D#32, 0xBD1F99FA#32, 0xBDFDC75B#32, 0xBDA7B0C1#32, 0x3D5DB52B#32, 0xBDC59F8C#32,
      0x3E40C09F#32, 0x3E0DE2C4#32, 0x3C6B5EEC#32, 0xBDAB3F14#32, 0x3DB4D56E#32, 0x3CDA19C1#32, 0xBE3D091C#32, 0x3D626F7F#32,
      0xBE0FC7A9#32, 0xBD8B4FF7#32, 0x3D7B689D#32, 0x3BC29B80#32, 0xBD6AEAFB#32, 0x3E0F686D#32, 0xBD7D0FEE#32, 0x3D6D1574#32,
      0x3E06A0CD#32, 0xBD599E32#32, 0x3DA2E0D5#32, 0x3C51D457#32, 0xBDAFF300#32, 0xBD2C74D6#32, 0x3D5AE6E1#32, 0xBC5E1F38#32,
      0x3DFBA312#32, 0xBC5E6CC9#32, 0x3DA7D889#32, 0x3DF67556#32, 0xBC6338EC#32, 0x3D66EA06#32, 0xBD85828F#32, 0xBD8460D4#32,
      0xBD67208A#32, 0xBE20735C#32, 0x3E10EC5D#32, 0xBE598D15#32, 0xBD51BE4C#32, 0x3BED4C5E#32, 0xBB8C8229#32, 0x3E8C8660#32,
      0x3E56A2BC#32, 0xBB01D2B1#32, 0x3E0A591F#32, 0x3E1E04C3#32, 0x3DADBB48#32, 0x3E0FE647#32, 0x3CDFFFD8#32, 0xBD8A0C38#32,
      0x3D02890C#32, 0x3CE85B7E#32, 0xBDB513BB#32, 0x3CDFB2FC#32, 0x3DF3C4BC#32, 0xBD736872#32, 0x3D5C0983#32, 0xBB36D213#32,
      0xBD9C5FF6#32, 0xBD3A2467#32, 0xBD34BB32#32, 0xBD3D13BA#32, 0xBC44E303#32, 0xBDB26F6A#32, 0x3D7D5DB8#32, 0xBD33EAFF#32],
    ![0x3D9A67C1#32, 0xBE2D9415#32, 0xBDF39AF5#32, 0xBDCA70BB#32, 0xBDB38281#32, 0xBDBC3550#32, 0xBCE4B02A#32, 0xBDB0D636#32,
      0xBB5C5D45#32, 0xBB5A6748#32, 0x3E121523#32, 0x3DA90876#32, 0xBD043561#32, 0x3E013B58#32, 0x3D39CD9B#32, 0x3C51E755#32,
      0x3DD28EAA#32, 0xBDCD71D2#32, 0xBC8CF0C3#32, 0xBCF2EDB7#32, 0xBD987AD3#32, 0xBE01F8D0#32, 0x3D36B4E2#32, 0xBD720FD8#32,
      0x3C55D630#32, 0xBD92C35E#32, 0xBB5DCCE1#32, 0xBE0076BB#32, 0x3DA246A6#32, 0xBDF5C8B3#32, 0xBE072DC7#32, 0xBD6BA8EE#32,
      0xBBDA2160#32, 0xBD547081#32, 0x3DC4EF23#32, 0x3D3B2D11#32, 0x3E13603D#32, 0x3E320D0F#32, 0x3C96E937#32, 0xBDA59D04#32,
      0xBE258F6E#32, 0xBD9197EF#32, 0x3DC20F0B#32, 0xBCCB7632#32, 0xBD289555#32, 0xBE098522#32, 0x3DCBCAA3#32, 0x3C17A94E#32,
      0xBDA5CC8D#32, 0xBD258B46#32, 0x3CA1DFB9#32, 0x3DB01B43#32, 0x3CAEAAE6#32, 0xBC34CE0B#32, 0xBD957862#32, 0xBD8C62E4#32,
      0xBC8FB1B3#32, 0xBDA783D5#32, 0x3CEBB0AA#32, 0x3D8E746A#32, 0xBCC89563#32, 0xBE34F7B8#32, 0x3DD7DCF9#32, 0xBDCDF70D#32,
      0xBE2034D9#32, 0x3DB766BD#32, 0x3D4B9F5C#32, 0xBC39567C#32, 0x3CBA9DD6#32, 0x3D8FE9B7#32, 0x3DDE7282#32, 0xBDC94443#32,
      0xBE8A25F6#32, 0x3E1FC9B7#32, 0xBDE40B20#32, 0xBCB85DEF#32, 0xBD24C559#32, 0xBDF3ED6E#32, 0x3D0653BD#32, 0xBD77C8BD#32,
      0x3D941D13#32, 0x3BB4603F#32, 0x3E166A12#32, 0xBD430A02#32, 0xBD39DA74#32, 0xBDF297C0#32, 0x3D22DB6D#32, 0x3C48E1F9#32,
      0xBE4BF42C#32, 0x3CDBA4E1#32, 0x3DCB795C#32, 0x3D41F7D4#32, 0x3DA49DE3#32, 0xBD8D33DE#32, 0x3E42156E#32, 0xBDE95982#32,
      0x3D684946#32, 0x3E1A23FA#32, 0x3D52B323#32, 0xBDA2C7B6#32, 0xBC848A41#32, 0x3D936018#32, 0xBBA11CA3#32, 0xBE508D1A#32,
      0xBD66F4E6#32, 0xBCAB2ABB#32, 0x3C70F462#32, 0xBD8C4877#32, 0xBBFC175D#32, 0xBDB264B3#32, 0xBCA495F3#32, 0xBCE9F62A#32,
      0xBC5127A4#32, 0x3C176648#32, 0xBE05FFC3#32, 0x3E0D7593#32, 0xBDAC86CB#32, 0x3E42B5D3#32, 0x3D962508#32, 0x3D427C8F#32,
      0xBD4266C3#32, 0x3D432BAA#32, 0xBD8CF4B5#32, 0xBD006C28#32, 0x3DE69E7E#32, 0xBD889D18#32, 0xBCADF0D2#32, 0x3C35D2A7#32],
    ![0xBCA4605F#32, 0xBDD3D6E6#32, 0xBCABF9B3#32, 0xBDEE402A#32, 0x3E06E2F8#32, 0xBE280CED#32, 0xBD2E694C#32, 0xBDBC9EEB#32,
      0x3D1C4DAB#32, 0x3C74BAE2#32, 0xBE071BF5#32, 0x3CB32DD8#32, 0xBE00EECD#32, 0x3D953E44#32, 0xBE280A22#32, 0xBE433AC4#32,
      0xBDCDE57A#32, 0xBD34603B#32, 0xBDBE17A2#32, 0x3C67AD73#32, 0xBDB12453#32, 0xBC96CBA4#32, 0x3DBE0383#32, 0x3E41532F#32,
      0xBD87DE15#32, 0x3DE41F24#32, 0x3C60EAB2#32, 0xBC9CE31E#32, 0xBDC21150#32, 0x3B83D6B3#32, 0xBE0BC66A#32, 0xBD8C1F4D#32,
      0x3D69865C#32, 0xBD3F1B71#32, 0xBD07D950#32, 0x3E12EAD6#32, 0x3BAF066D#32, 0x3C11DF5D#32, 0xBCB3B965#32, 0xBD7846AF#32,
      0xBD90CD36#32, 0xBD944D54#32, 0xBDE276A0#32, 0x3D948C27#32, 0x3CEC3021#32, 0x3C38E65D#32, 0xBCC38D05#32, 0xBDBDAFF5#32,
      0x3C8BB8F1#32, 0xBDB9A385#32, 0x3E0C3A22#32, 0xBD310687#32, 0xBC78F3DE#32, 0xBE09EC5C#32, 0xBD80E03F#32, 0x3D8DE477#32,
      0xBC66F331#32, 0x3DDBF76A#32, 0x3D1D82A1#32, 0x3B1B638B#32, 0x3E799B16#32, 0xBCE356FE#32, 0xBD1C34F2#32, 0x3BE0F941#32,
      0xBDEF0284#32, 0x3DA26F40#32, 0xBDE0A576#32, 0xBD56F403#32, 0xBDB5E5C4#32, 0xBD6816C4#32, 0x3DDEF48D#32, 0xBE03F161#32,
      0x3D13A9EE#32, 0x3E4C20B6#32, 0x3DB70A71#32, 0x3DBA1659#32, 0x3C1B134B#32, 0x3CD5FF69#32, 0xBDBB96FC#32, 0xBDB4C954#32,
      0x3DA3A142#32, 0xBE625BFF#32, 0xBD1E4ED9#32, 0xBCE746E3#32, 0xBDBCB112#32, 0xBCDFF375#32, 0xBD3FF3DE#32, 0xBDB2B0DE#32,
      0xBE179307#32, 0xBCE87C51#32, 0xBD24FBE8#32, 0xBD6E90C5#32, 0xBDBC3C1A#32, 0x3DDEC912#32, 0x3CB2AED0#32, 0x3E7402F1#32,
      0xBD45043D#32, 0xBDB5674F#32, 0x3E394775#32, 0xBC7E44F9#32, 0x3C19612C#32, 0xBCB375FA#32, 0xBDC0F186#32, 0xBDC3AF4B#32,
      0xBC41E3EC#32, 0xBCB4321F#32, 0x3CC64BF2#32, 0xBE3CC5EE#32, 0x3DFD7898#32, 0xBD074350#32, 0x3D1AF888#32, 0xBE408120#32,
      0xBE1EE92A#32, 0xBD8C5638#32, 0x3C5FA8F3#32, 0x3B6CBAD9#32, 0xBD62AB49#32, 0xBDB3B972#32, 0xBD1B58DD#32, 0x3D929690#32,
      0xBDB0806A#32, 0x3D9FAC08#32, 0xBD3D2D0B#32, 0x3B893FAD#32, 0xBE0886B7#32, 0xBDADA0AA#32, 0xBE1FFF02#32, 0xBE0C7DDE#32],
    ![0x3D900ACE#32, 0xBD997A12#32, 0xBBD58120#32, 0x3D907096#32, 0xBDED6C5E#32, 0x3D4551DE#32, 0xBD6490A3#32, 0xBCC70478#32,
      0xBD2AF6BE#32, 0x3BF700D0#32, 0xBD9BDFE6#32, 0xBC9E884D#32, 0xBE1CCAB6#32, 0xBD0F9B98#32, 0xBD910231#32, 0xBDBBF722#32,
      0x3E2652AF#32, 0x3CC4382F#32, 0xBD8B2277#32, 0xBDD28703#32, 0xBDD8947D#32, 0x3DD474ED#32, 0xBD95ED8F#32, 0x3DEC47B8#32,
      0x3B9DE8A9#32, 0x3AF0C033#32, 0x3DCBBEF9#32, 0xBDD335F0#32, 0xBC38CE3E#32, 0x3E0621FE#32, 0x3D93B35E#32, 0x3CA4056E#32,
      0x3E357ED2#32, 0xBDAA0CF8#32, 0x3D8E3F14#32, 0x3DDDAC74#32, 0xBE4D4556#32, 0xBDDCD619#32, 0xBE029B9B#32, 0xBDF8F130#32,
      0x3E2AD1F7#32, 0xBE40C67E#32, 0xBBDEED09#32, 0x3E022265#32, 0x3D57F050#32, 0x3DB5DB2A#32, 0x3BACBE91#32, 0xBD15B99C#32,
      0xBDA46272#32, 0xBD941D7F#32, 0xBE1E23D1#32, 0xBDD112A5#32, 0x3E159689#32, 0x3D3C0B1D#32, 0x3E0324AC#32, 0x3E0419A0#32,
      0x3DB61889#32, 0xBD63F325#32, 0x3D2EDE64#32, 0x3DBDB6A3#32, 0x3CE6F39B#32, 0x3C043371#32, 0x3D9EA501#32, 0xBD27A5F5#32,
      0xBD45D13D#32, 0x3CDFB4F8#32, 0xBDCF278A#32, 0xBE008700#32, 0xBD197C05#32, 0xBD5C7F97#32, 0xBE81243B#32, 0xBE0AC479#32,
      0x3DAFDEE8#32, 0x3DAFE486#32, 0xBDBCF2CC#32, 0xBD529ABD#32, 0x3DD906AF#32, 0xBDAAA9DB#32, 0x3E5AA7B3#32, 0xBC971972#32,
      0x3D0EFF11#32, 0x3CF120B3#32, 0x3DC6F020#32, 0xBC5EA092#32, 0x3D3BC751#32, 0xBE20EB96#32, 0xBC8FB5EE#32, 0xBE121F1A#32,
      0x3D9F2155#32, 0xBE4F51AF#32, 0x3BF5469A#32, 0x3D9D4362#32, 0xBCD58CCD#32, 0xBD4059C8#32, 0xBDF00095#32, 0x3DE6ECC6#32,
      0x3DA3C9CD#32, 0xBCA07C08#32, 0xBC330202#32, 0xBE337BCC#32, 0xBD7F1186#32, 0xBC5BD2A2#32, 0x3E1436D2#32, 0x3D3D3A5F#32,
      0xBC66917B#32, 0x3D50BD4C#32, 0x3DE0DBC8#32, 0xBB0229EF#32, 0x3B06E7C3#32, 0xBCCD17E7#32, 0x3DA9B4EF#32, 0xBE05DC6F#32,
      0xBE051AE2#32, 0x3DC97083#32, 0xBCE3636E#32, 0x3D0E64A3#32, 0x3DCA6209#32, 0xBD478759#32, 0x3DC54512#32, 0x3BE42E82#32,
      0x3D770A7C#32, 0x3E1124D7#32, 0x3E843C7C#32, 0x3D09686C#32, 0x3E088A7A#32, 0x3D279C9B#32, 0xBC409C76#32, 0x3D00545C#32],
    ![0x3D53B904#32, 0x3E28C087#32, 0xBD6606B2#32, 0xBD1575A3#32, 0x3D0261A3#32, 0xBBBD1B04#32, 0xBE144266#32, 0x3C191876#32,
      0xBD91EDA2#32, 0x3C78FB88#32, 0xBE602F0B#32, 0xBDDEC456#32, 0xBE20CF1A#32, 0xBDFF9827#32, 0xBDFC2420#32, 0xBDAF31B5#32,
      0xBD8D0F66#32, 0xBD5B1E01#32, 0xBE7A28C4#32, 0xBDBC617B#32, 0xBDBDAE66#32, 0x3DD3AAA9#32, 0xBCC88D15#32, 0x3D1D4B0E#32,
      0xBE15D810#32, 0xBDC80041#32, 0x3D17CED8#32, 0xBC060007#32, 0xBCA5EE18#32, 0xBD9E421E#32, 0x3CFB3AA6#32, 0xBD00E82A#32,
      0xBDC3EAC6#32, 0xBD7C705C#32, 0xBD9CE586#32, 0xBDAA8060#32, 0x3CD6777A#32, 0xBDFA06BC#32, 0xBDCF8517#32, 0xBC6D4C97#32,
      0x3E1DE00C#32, 0x3C8DED6E#32, 0xBD8BEF29#32, 0x3DBA09C9#32, 0xBDBD1D12#32, 0x3DAC631B#32, 0xBD8CEAF1#32, 0x3B489423#32,
      0x3E0EB133#32, 0xBE27D650#32, 0xBD9266B5#32, 0xBE27EBB0#32, 0x3CE53B32#32, 0x3DDD7C27#32, 0x3D413593#32, 0x3D451657#32,
      0xBE03685C#32, 0xBDEA253B#32, 0x3D17D4A9#32, 0xBD848475#32, 0x3D5E925F#32, 0xBDC64FB6#32, 0xBE225EF6#32, 0x3D7CDDF3#32,
      0xBC849B99#32, 0x3D8035E7#32, 0xBDB74433#32, 0x3E19E694#32, 0xBD5E1296#32, 0xBDD0767C#32, 0xBD8F47EC#32, 0x3D00F41A#32,
      0xBCC0014B#32, 0xBCD9C0D2#32, 0xBD941E7F#32, 0xBE70F14B#32, 0xBCD25393#32, 0x3D33F9C0#32, 0xBD44BDFE#32, 0xBE0CD6B7#32,
      0x3DC4AB2B#32, 0xBDDC5696#32, 0xBC91359C#32, 0x3CEAEADB#32, 0x3C589E5B#32, 0x3C20E05C#32, 0xBC8697AA#32, 0xBDA9BF32#32,
      0xBD835981#32, 0xBD1A1E94#32, 0x3D69BB61#32, 0xBE28769C#32, 0xBD1D47E5#32, 0x3DCCB96F#32, 0x3E6992B5#32, 0x3C232BA9#32,
      0xBE9BA368#32, 0x3D184C55#32, 0xBD5EBE8C#32, 0xBDFCB329#32, 0x3DC9DA65#32, 0xBB77EABD#32, 0x3ADACAF1#32, 0xBDF8F399#32,
      0x3E225C6F#32, 0x3D80EA87#32, 0xBD723F37#32, 0xBC18A791#32, 0x3DFF4DAA#32, 0x3CFDBAED#32, 0xBD1025E4#32, 0x3D4FE19E#32,
      0x3E5B6FF8#32, 0xBC78FD1C#32, 0xBD35207E#32, 0xBD825DBD#32, 0x3DA491EA#32, 0xBCA79029#32, 0x3E199EFD#32, 0x3C005EC6#32,
      0xBE177F57#32, 0xBD89F533#32, 0x3DB49AE8#32, 0xBB3C6C31#32, 0xBD125B12#32, 0xBDF68283#32, 0x3D405457#32, 0x3E22E036#32],
    ![0x3DF66B45#32, 0x3D793003#32, 0xBD11568D#32, 0xBE8393BB#32, 0x3C127505#32, 0xBD184C52#32, 0x3C239B6C#32, 0xBD793445#32,
      0xBDCC27B0#32, 0xBD944D4A#32, 0x3D885F4F#32, 0xBD9E99F0#32, 0x3E0A7F2F#32, 0x3E0F6884#32, 0x3E222C4E#32, 0x3CC7A99F#32,
      0xBDB99ACF#32, 0x3E82144B#32, 0xBDA8D8A8#32, 0x3D4E1443#32, 0x3E046B31#32, 0x3CAA1194#32, 0x3CFE4B05#32, 0x3E0F06B0#32,
      0x3DFB10FD#32, 0xBDB60A93#32, 0xBDCC9FCA#32, 0xBD93A9B1#32, 0xBDDA9765#32, 0x3DD2A819#32, 0xBCE7767B#32, 0x3D06314A#32,
      0x3C1226E3#32, 0xBB1C0297#32, 0xBD9E2CE3#32, 0xBDE4FEB5#32, 0x3CAABC6E#32, 0x3DB7B3AC#32, 0xBDDDA32C#32, 0xBC2AE4CA#32,
      0xBD88C1D3#32, 0x3D28BD0B#32, 0xBDCB073D#32, 0x3D4D0140#32, 0x3E0B0720#32, 0x3E02DA3A#32, 0xBD2FB9A3#32, 0x3D16037A#32,
      0xBDDC0A74#32, 0xBE141F0C#32, 0xBCF21545#32, 0x3E0F113F#32, 0x3DA9FD52#32, 0x3CEE70A6#32, 0xBD987A39#32, 0x3E23484A#32,
      0xBD0CF9F7#32, 0x3D0F132F#32, 0xBD8B7AEB#32, 0xBD1A7787#32, 0x3D1D5109#32, 0x3CEC365D#32, 0xBD06E732#32, 0x3C74E2FB#32,
      0xBD1002CC#32, 0x3CC9B3A2#32, 0x3D465473#32, 0xBDC2CF1B#32, 0x3D899B7A#32, 0x3D31B522#32, 0x3C6B87CD#32, 0xBC986258#32,
      0xBCC3AE6E#32, 0xBD8FE4A5#32, 0x3D1E98DE#32, 0xBD5A2D39#32, 0xBDB43486#32, 0xBDD2F14D#32, 0x3DA77560#32, 0x3DE16C37#32,
      0x3D7ECA2B#32, 0x3C9426F9#32, 0xBDEB3042#32, 0xBCA5F742#32, 0xBE3A940E#32, 0xBD9DCF8B#32, 0xBD033F6F#32, 0xBD4B4E4C#32,
      0xBE05FA2E#32, 0x3E1F586C#32, 0x3D089F84#32, 0xBDBB50AC#32, 0x3E8CC4E5#32, 0x3D9E030A#32, 0x3D784D30#32, 0x3D66A8BB#32,
      0xBC406EA1#32, 0xBCE9FB11#32, 0x3D9781D0#32, 0xBD426530#32, 0x3D6BA904#32, 0xBD25B90A#32, 0x3CA9CB85#32, 0xBDBA93E9#32,
      0x3D2D6960#32, 0x3DB98E7C#32, 0xBCB7CD36#32, 0xBDBE8D35#32, 0xBBFD2AEE#32, 0xBD433E9C#32, 0xBBD52CEC#32, 0x3D0656E7#32,
      0x3D808EAA#32, 0x3D13CD07#32, 0xBDD8E303#32, 0x3C722EA4#32, 0x3D97FB38#32, 0xBDC25239#32, 0x3DAA6971#32, 0xBDBFDD7A#32,
      0x3CDFFBB0#32, 0xBDC37B2D#32, 0x3DC2A0BF#32, 0x3D9661FA#32, 0x3D7F392F#32, 0x3CC64C7E#32, 0xBC343185#32, 0x3DD5CA12#32],
    ![0xBD695333#32, 0x3B507179#32, 0xBD81B4ED#32, 0x3C9D65AC#32, 0xBD9F17E4#32, 0xBDE845E1#32, 0x3D9DCF39#32, 0x3B6E22A3#32,
      0xBE4C48D3#32, 0xBD386CF1#32, 0xBDE0743F#32, 0xBCE0D3A7#32, 0x3DC54578#32, 0x3E6AFB11#32, 0x3D2692B0#32, 0xBDB9F263#32,
      0xBE06FB48#32, 0x3DA4E56B#32, 0x3D8F16BB#32, 0x3C49A512#32, 0xBE139930#32, 0xBD923BCA#32, 0xBC45F7DC#32, 0x3D9027EE#32,
      0xBDACD99D#32, 0xBE6DD2DA#32, 0x3E086512#32, 0x3E3EEF34#32, 0x3E1B58F7#32, 0x3DD937CF#32, 0x3CDCF57C#32, 0xBDEA1405#32,
      0xBE50F835#32, 0xBDC1CEA0#32, 0xBB8E49B4#32, 0x3D646CE4#32, 0x3DC133B5#32, 0xBCE2F98D#32, 0xBC148791#32, 0xBE0382B5#32,
      0xBD2CC5A7#32, 0xBCD93F86#32, 0xBD482C40#32, 0xBD88D94C#32, 0xBDEB7C3B#32, 0x3E127B79#32, 0xBD1E3D1C#32, 0xBE1F400C#32,
      0x3D34EBF1#32, 0x3DD1CEF8#32, 0x3DF8059D#32, 0x3CFE1F8A#32, 0x3C1B3B4F#32, 0xBE36A08F#32, 0xBDC06BFE#32, 0xBD4AC327#32,
      0xBDECD188#32, 0xBD1F91B6#32, 0xBDB58A15#32, 0x3D400F12#32, 0xBD0F499B#32, 0x3C9B0A21#32, 0x3D623D7D#32, 0xBB172C6D#32,
      0x3D9A997D#32, 0xBCD3549D#32, 0xBE0F2491#32, 0x3DEA01E7#32, 0x3DF3258C#32, 0x3DF528F5#32, 0xBC1EFFB7#32, 0xBDB66729#32,
      0xBCFF545E#32, 0xBDE9562E#32, 0x3D8019D0#32, 0xBE4B986B#32, 0x3D17D010#32, 0xBD9F8A98#32, 0xBD9147AC#32, 0x3E33E138#32,
      0x3D8C63C6#32, 0xBE8F1266#32, 0xBE499F06#32, 0x3D487E02#32, 0xBDD70F5F#32, 0x3D687F66#32, 0x3DFDCCEF#32, 0x3DBFDE61#32,
      0x3D51FCE2#32, 0xBD97951C#32, 0x3D69C823#32, 0x3D87FB61#32, 0xBC2E4832#32, 0xBE15791E#32, 0x3C8D9BEF#32, 0x3D4DCD57#32,
      0xBE0F2D01#32, 0x3DCDA6B2#32, 0xBC3334C8#32, 0xBC67EDD7#32, 0xBDCD2ED6#32, 0xBD486089#32, 0x3D53875A#32, 0x3D22579D#32,
      0x3D83D87E#32, 0x3CE30919#32, 0xBE4C2711#32, 0x3DAD8DC6#32, 0xBD85934B#32, 0x3D2E93B2#32, 0xBD159E64#32, 0xBD18A791#32,
      0xBE247A9C#32, 0x3D23BEF5#32, 0xBCBD55C2#32, 0x3D8386CD#32, 0xBE2CEA54#32, 0xBDD1DBDF#32, 0x3D314242#32, 0x3DA32FF1#32,
      0xBBBBB3B9#32, 0xBD82C973#32, 0x3C761964#32, 0x3CE55F82#32, 0x3B3C6494#32, 0xBE0CF03B#32, 0xBDE779FC#32, 0x3C934366#32],
    ![0xBBC01AE2#32, 0x3CFA5CF7#32, 0x3DF979E0#32, 0xBAF96B21#32, 0xBDFE2076#32, 0x3E52CA3E#32, 0xBE05BF30#32, 0xBD2FD0F3#32,
      0x3D26A3A3#32, 0x3B748A4E#32, 0xBDE1D978#32, 0xBD5BE6F6#32, 0xBC9D1DF4#32, 0xBDC08F87#32, 0x3B2050D1#32, 0x3D69E447#32,
      0x3B8BC33C#32, 0x3E062782#32, 0x3D6D739D#32, 0xBAB5761B#32, 0xBE3DC353#32, 0xBB91D1E7#32, 0xBD3AE3A7#32, 0x3DF88366#32,
      0x3DE76BF1#32, 0x3DA96ECE#32, 0xBD0523A9#32, 0x3CBBBD9A#32, 0xBDF21889#32, 0xBD95B4A5#32, 0xBC86347E#32, 0xBAC1DF82#32,
      0x3E13CB0E#32, 0x3DDD160C#32, 0xBDEC0CD1#32, 0xBD2808C7#32, 0x3D1B51E9#32, 0x3DF6BE72#32, 0x3E384000#32, 0x3CE16DD9#32,
      0xBD894929#32, 0xBDF54179#32, 0xBD8FBE81#32, 0x3D88B7E3#32, 0x3E120A57#32, 0x3D2BB55E#32, 0x3E1BC200#32, 0xBA9BCA84#32,
      0xBE37B2A9#32, 0x3D0B61C7#32, 0x3DB970BD#32, 0xBCFD8F11#32, 0x3D4CCCA1#32, 0xBC12F0C5#32, 0x3D906703#32, 0x3DDEB62D#32,
      0x3BBB7B6E#32, 0x3D7D3D26#32, 0xBD49316E#32, 0xBA52518C#32, 0xBC879E4B#32, 0xBE10486B#32, 0xB962FF3F#32, 0xBE2386D4#32,
      0x3E1FBDF4#32, 0xBE47B668#32, 0x3D447B22#32, 0xBE64AE88#32, 0xBD3958A5#32, 0xBCFB8582#32, 0x3CE0B5B4#32, 0xBC26C5E3#32,
      0x3AD661EA#32, 0x3C61DBDA#32, 0x3DB76AA5#32, 0xBC32CDF4#32, 0x3DFE5C17#32, 0xBC7A6E06#32, 0x3D92090C#32, 0xBE1E2B1F#32,
      0xBC2F131E#32, 0x3CD9F1ED#32, 0xBDFC692F#32, 0xBD895DB6#32, 0x3CC68DC3#32, 0x3D65B070#32, 0x3D499140#32, 0x3E0C959C#32,
      0x3DD409C3#32, 0xBDEF5D2C#32, 0xBC72228B#32, 0xBDFF5928#32, 0x3A6014D6#32, 0xBDAE60C7#32, 0x3E3E84B9#32, 0x3DB00CFD#32,
      0x3CEA02A9#32, 0xBD62E9D8#32, 0x3E2E12FB#32, 0xBDAEF21C#32, 0x3CFB11CB#32, 0xBD7E3E1A#32, 0xBE036323#32, 0x3BB9CF7B#32,
      0xBD775A87#32, 0x3D376C5E#32, 0xBB24FEA2#32, 0x3E1604DB#32, 0x3D9D1B4D#32, 0x3DD1ACBA#32, 0x3D282769#32, 0xBD644522#32,
      0x3DA3195F#32, 0x3E0B3413#32, 0x3BF6E932#32, 0x3E1A4193#32, 0xBD2C30AA#32, 0xBDE0857A#32, 0xBD7063F8#32, 0x3D112F94#32,
      0x3B2274D2#32, 0xBD92CEA7#32, 0x3C48EBDE#32, 0x3E01116D#32, 0xBD30A99C#32, 0xBDB6072D#32, 0xBD67553E#32, 0x3CE74481#32],
    ![0x3D7B56EF#32, 0xBDCAE79A#32, 0x3E1AC636#32, 0xBE1027FF#32, 0x3E05786F#32, 0x3E1F3726#32, 0x3E2D409B#32, 0xBE2D2240#32,
      0xBDC55385#32, 0x3D1AE331#32, 0xBD3F389A#32, 0xBD00922F#32, 0x3CF01A2B#32, 0x3D902864#32, 0x3DB0B376#32, 0x3CDFE195#32,
      0x3CDFEB69#32, 0x3D2847E8#32, 0x3DED91A8#32, 0xBB828D72#32, 0x3D4CDDC6#32, 0x3AEA63B1#32, 0x3D578387#32, 0x3DA6EDA3#32,
      0xBD9A32C4#32, 0xBBDD1E0C#32, 0xBD7F400E#32, 0x3DB801E8#32, 0xBC81B4E7#32, 0xBCC2142E#32, 0x3E0F91D6#32, 0xBC84A1DD#32,
      0xBDCA6950#32, 0xBD179FA1#32, 0x3D704E4A#32, 0xBE0693DB#32, 0x3B36F050#32, 0xBC8AAEBE#32, 0xBD1ADA74#32, 0xBDF4E631#32,
      0xBD9A2308#32, 0xBD17F64D#32, 0xBE6C6914#32, 0x3C808BD6#32, 0xBB7F87FF#32, 0xBD5D52D0#32, 0x3E63F85B#32, 0xBE008BEA#32,
      0xBDAFF0A3#32, 0xBCE06B15#32, 0x3E2581AB#32, 0x3BCF9444#32, 0x3D649A1E#32, 0x3C9336EE#32, 0x3CE689E0#32, 0xBC912CEA#32,
      0xBCDE2F25#32, 0x3D079274#32, 0xBE139F94#32, 0x3D905EA0#32, 0xBD7D08C6#32, 0x3D8012E9#32, 0xBC4BC693#32, 0x3D52E202#32,
      0xBBB0DCB2#32, 0xBC2C6A48#32, 0x3D193D5F#32, 0x3D7162AE#32, 0x3D3DA886#32, 0xBCF0C76B#32, 0x3E04470F#32, 0xBD9D584A#32,
      0xBD64D1AE#32, 0x3DC615A6#32, 0xBE186449#32, 0xBD2EA1C6#32, 0x3D2C329A#32, 0xBDFEDC26#32, 0x3D7E5A2F#32, 0x3C5F8FFC#32,
      0x3D91ED3B#32, 0x3CAEA84A#32, 0x3D3DC98E#32, 0x3D329135#32, 0xBC9AAC7B#32, 0x3D940CA9#32, 0xBDBEF0A1#32, 0x3D9DFD33#32,
      0xBA52D0ED#32, 0x3D69C2EE#32, 0xBE0AE324#32, 0xBC559663#32, 0x3D66F4E2#32, 0xBD206FC8#32, 0x3D98523A#32, 0xBDE7E6DE#32,
      0x3D46C0EC#32, 0x3DD8DA97#32, 0xBDB25C81#32, 0xBCBA2D55#32, 0x3E080BDC#32, 0xBE064DAD#32, 0x3E0998BD#32, 0xBDCB68B9#32,
      0xBDDF0AA8#32, 0x3DAE6164#32, 0xBDABF6B3#32, 0x3D28D994#32, 0x3C8DFE48#32, 0x3DA7B163#32, 0x3D027DC7#32, 0xBDE6C318#32,
      0x3C2EB2A6#32, 0xBD83735F#32, 0x3DC7DCF7#32, 0x3D93CEEA#32, 0xBD9CFC58#32, 0xBD144B71#32, 0xBDB26C2A#32, 0xBA4F1858#32,
      0xBDD3968F#32, 0xBE2A7259#32, 0x3D5F4978#32, 0xBD8E9C80#32, 0xBD91E8B6#32, 0x3E21405F#32, 0xBCC5B404#32, 0xBC2F9E47#32],
    ![0x3C8CC5C3#32, 0xBE318EE8#32, 0x3C652343#32, 0x3BF255F7#32, 0xBD275FC1#32, 0x3DA953E2#32, 0x3DCF9A92#32, 0xBD2CCC07#32,
      0x3D9AD9C0#32, 0xBD8A70B0#32, 0xBC57CB8B#32, 0x3CD3D57A#32, 0x3E31186F#32, 0x3E0215A6#32, 0xBD18C8E9#32, 0xBD0AD46B#32,
      0x3D0B7352#32, 0xBD079678#32, 0x3E0B04F0#32, 0xBCF3CE06#32, 0xBD372B2B#32, 0xBD857DE2#32, 0xBD4B7A00#32, 0x3D3D77E2#32,
      0x3C94B123#32, 0x3D6785FA#32, 0xBD5B83AA#32, 0x3D382CEC#32, 0xBC039ABB#32, 0xBDC074FB#32, 0xBD14E56F#32, 0x3DB88535#32,
      0x3C0E9AFE#32, 0xBDE33405#32, 0xBDD3A914#32, 0xBDCA83E2#32, 0x3DD15109#32, 0x3D1408DE#32, 0xBE3FC6E9#32, 0x3DA871FA#32,
      0xB934EEC7#32, 0x3D1C7303#32, 0xBE00EB21#32, 0x3D7478C5#32, 0xBE2C2C28#32, 0x3D8B9487#32, 0x3BEB9032#32, 0xBDB3F892#32,
      0xBBB90CB5#32, 0xBDF200DD#32, 0xBD998899#32, 0xBCACBD2B#32, 0x3DB56158#32, 0xBC1B644F#32, 0xBD9938EC#32, 0x3DE87AD2#32,
      0x3C583B44#32, 0xBCAAB21A#32, 0xBD8253F0#32, 0x3DAF883A#32, 0xBD323572#32, 0xBDDC0CAE#32, 0x3DDAED72#32, 0xBDB9FE31#32,
      0xBD868A04#32, 0x3DCC1FED#32, 0x3DCF0F67#32, 0x3DDC54B9#32, 0xBD2234E4#32, 0x3DBCFE51#32, 0x3D67FBCF#32, 0x3C8E4B64#32,
      0xBD784602#32, 0x3C898639#32, 0x3D85054B#32, 0xBDBA039B#32, 0xBD80E3CC#32, 0x3D154CC1#32, 0x3DDD0D63#32, 0x3CAD541C#32,
      0xBB28CF8F#32, 0x3E7CC44F#32, 0x3DDB1F07#32, 0x3DA307BD#32, 0x3DBD685E#32, 0xBC78471F#32, 0x3DBD41EC#32, 0xBD237298#32,
      0xBDFFCE18#32, 0xBDC9B99F#32, 0x3CB72A9B#32, 0x3D746568#32, 0xBCDD2338#32, 0xBD9A7C95#32, 0xBBAD5DB5#32, 0xBD0DD5AD#32,
      0x3D97A102#32, 0x3DA0E09F#32, 0x3D646389#32, 0x3E2A6072#32, 0xBE17AC43#32, 0x3C05D896#32, 0xBDBDD16F#32, 0x3D8F656A#32,
      0x3CBF1779#32, 0x3E2CBCF9#32, 0xBDA76568#32, 0x3E4FC620#32, 0xBD8159A4#32, 0xBC77D94F#32, 0x3D97AAD2#32, 0x3D92B6F5#32,
      0x3D8E174F#32, 0x3D0971F1#32, 0x3DB516AB#32, 0xBDCB4296#32, 0xBD04D450#32, 0x3D70BB1A#32, 0x3DD9DBF2#32, 0xBE7EDA5C#32,
      0xBB594E82#32, 0x3D39ED2C#32, 0xBD7020D6#32, 0x3E35206C#32, 0x3D972F30#32, 0xBD2AFD2B#32, 0x3A874EF4#32, 0xBD41923B#32],
    ![0xBD72D5BB#32, 0xBC4725FC#32, 0xBD13D099#32, 0x3E0F6AF8#32, 0x3D931E56#32, 0x3CC59875#32, 0x3BB52532#32, 0x3CA7F300#32,
      0x3DBD60F5#32, 0x3D83C35E#32, 0x3C808AAB#32, 0xBE290429#32, 0x3CB4214C#32, 0xBDC2C092#32, 0x3D885B39#32, 0xBD2EB46E#32,
      0x3D71FD15#32, 0xBC86F33A#32, 0x3DAE7D5C#32, 0xBB925898#32, 0x3E07CC80#32, 0x3D35E4E8#32, 0x3CCD70C7#32, 0xBCEFB05D#32,
      0x3C5D954D#32, 0xBE524B35#32, 0x3DAD5349#32, 0x3DC5FE82#32, 0x3E07C324#32, 0xBE43C653#32, 0x3B38D596#32, 0xBC017CDC#32,
      0xBE0181F0#32, 0x3CFC0D21#32, 0xBC13575D#32, 0xBDA82515#32, 0xBE137FFB#32, 0xBCA9255C#32, 0xBD688DFF#32, 0x3DC72E13#32,
      0x3D4A8627#32, 0xBD214F7C#32, 0x3D6FE0D1#32, 0xBDF6100E#32, 0x3E641DE6#32, 0xBE5249E8#32, 0x3DA742BC#32, 0xBBBB7DA0#32,
      0x3C2CB791#32, 0xBE09C98C#32, 0xBD92AD67#32, 0x3CB2B72D#32, 0xBE0ACC46#32, 0xBD3A917C#32, 0x3D7BA684#32, 0x3E339F20#32,
      0xBD6EA993#32, 0x3D85D28A#32, 0x3CE87F0F#32, 0x3E507A13#32, 0x3DFA2E90#32, 0x3D096BA8#32, 0xBD6EBA99#32, 0x3DC9D3B7#32,
      0xBE1D885B#32, 0x3DAD5CED#32, 0xBCF46595#32, 0xBD9F956C#32, 0x3E519BBB#32, 0xBD31B990#32, 0xBE32E838#32, 0x3DF7FFC0#32,
      0x3DACAC31#32, 0x3D14417C#32, 0xBD2E1AF6#32, 0x3D4C77F8#32, 0xBD7FA23D#32, 0x3D09BD8A#32, 0xBC629C73#32, 0x3E1101F7#32,
      0xBE087623#32, 0x3E095AAA#32, 0xBC6A3785#32, 0xBD979388#32, 0x3D0CF683#32, 0xBDBD42F5#32, 0xBD1BD3AB#32, 0x3D72A0B1#32,
      0xBCF9082B#32, 0xBC4FDA42#32, 0x3CE5D0CE#32, 0x3CA85035#32, 0x3D92DDCD#32, 0xBD80F935#32, 0xBE20B8E8#32, 0x3C6A51BD#32,
      0xBD349616#32, 0x3DDF25DC#32, 0xBC9DC52A#32, 0xBDB41D6A#32, 0xBDF7DBF2#32, 0x3D311C71#32, 0x3D895697#32, 0xBDDC9DEA#32,
      0x3D090B97#32, 0x3D14B8FD#32, 0xBAE34FF0#32, 0x3D0A8967#32, 0x3CE6D1EE#32, 0x3D1E061B#32, 0xBD7B9A08#32, 0xBCB82EDC#32,
      0x3E8E961F#32, 0x3DC02D56#32, 0xBD186B87#32, 0xBDA83E23#32, 0xBDE5BFAA#32, 0xBD1FB21C#32, 0xBE1C74D0#32, 0xBE5A9987#32,
      0xBD01DEFD#32, 0xBDD8720D#32, 0xBDD1DF5B#32, 0x3D6F27FD#32, 0x3E34F8CD#32, 0x3E230D9F#32, 0xBE2138A4#32, 0xBD9C4EDB#32],
    ![0xBDA35A9C#32, 0xBDEA51BA#32, 0xBD833219#32, 0x3D71810F#32, 0xBC120FFE#32, 0x3E0963CC#32, 0xBCE0E365#32, 0xBC7F2445#32,
      0xBB4163D4#32, 0x3D301249#32, 0xBD421187#32, 0x3D10E75D#32, 0x3DAB3539#32, 0xBCCBD180#32, 0xBD5B949D#32, 0x3CC3FBAC#32,
      0x3CB3BA50#32, 0x3D5CCB3A#32, 0xBD06A3AD#32, 0x3CCCEE08#32, 0x3A84AFE0#32, 0xBC9E07BC#32, 0x3DACD23E#32, 0xBDB4D846#32,
      0x3E10577D#32, 0x3D08EFFD#32, 0xBE0D0B99#32, 0x3DC4C8C7#32, 0xBCF7F8C2#32, 0x3B9A5408#32, 0xBD8DB97D#32, 0x3E4D2360#32,
      0x3BC32B19#32, 0x3DDE4FDF#32, 0x3D502747#32, 0xBDDDCC86#32, 0xBD5F33CD#32, 0x3E36EC99#32, 0x3E05C874#32, 0x3C514D34#32,
      0x3B1262FC#32, 0xBD911953#32, 0x3B95A7AC#32, 0x3D2F72E7#32, 0x3DA05511#32, 0x3DA47448#32, 0xBD0167AD#32, 0x3ADA733E#32,
      0x3C31A476#32, 0xBA8ABF1A#32, 0x3D52D301#32, 0xBBFAECA9#32, 0xBDCB5D5F#32, 0xBC9E8577#32, 0xBD1186AE#32, 0xBD5D2563#32,
      0x3C61FC2D#32, 0x3E47AFD6#32, 0x3DA96CD6#32, 0x3D4C8355#32, 0xBDE28FAE#32, 0x3DB95E02#32, 0xBDD5FAE2#32, 0xBC339C14#32,
      0x3C7D2905#32, 0x3E299FB8#32, 0xBDA4923D#32, 0xBDD6904B#32, 0xBD92FB9C#32, 0xBE066AFF#32, 0xBC6754E6#32, 0xBBA7A601#32,
      0xBDC6D450#32, 0x3DABAAFE#32, 0x3D82EB3A#32, 0xBCA415E0#32, 0xBDF618CE#32, 0xBC8E095A#32, 0x3B6BBCD3#32, 0x3D065244#32,
      0x3C85A61D#32, 0x3D94EE19#32, 0xBD96027A#32, 0x3C81E3F3#32, 0x3D03EB2E#32, 0x3D825484#32, 0xBD0C4D6B#32, 0x3CC1A660#32,
      0x3E063678#32, 0xBDEF5AFA#32, 0x3D777E79#32, 0xBD61D8CD#32, 0xBD97DB57#32, 0x3D55D518#32, 0x3D90265D#32, 0x3D05E812#32,
      0xBE1968B1#32, 0xBD314A02#32, 0x3D33B7CA#32, 0xBD559BF0#32, 0xBD023C72#32, 0xBD16E500#32, 0x3E0CABF7#32, 0x3D9E9534#32,
      0x3CD8BED2#32, 0xBDA3D7AC#32, 0x3DBE1CB9#32, 0xBDC7FCAE#32, 0x3D904D8E#32, 0x3C90B13F#32, 0x3DADD1C8#32, 0x3D82A92E#32,
      0xBE3A7171#32, 0x3D4727DC#32, 0x3D273A0E#32, 0x3DA7F53F#32, 0xBCE7498D#32, 0xBD59BB54#32, 0xBE28BDB9#32, 0x3C2F56C8#32,
      0x3D17188D#32, 0xBD3FE054#32, 0xBE28666B#32, 0xBC2B8509#32, 0xBE18C205#32, 0xBCF49C8D#32, 0xBE48D805#32, 0x3D6E989D#32],
    ![0xBD328148#32, 0x3DD9F6F1#32, 0x3CD3D0BD#32, 0x3DE4516F#32, 0xBD7E7026#32, 0x3CFE849B#32, 0x3C199382#32, 0x3D01CE13#32,
      0x3D75B927#32, 0x3CEC9C76#32, 0xBC074F24#32, 0xBE02DAC3#32, 0x3A62FAF9#32, 0xBE2D7DD3#32, 0xBD9E5EED#32, 0x3C703A5A#32,
      0xBDCCA533#32, 0x3D607343#32, 0x3E1FBE13#32, 0xBA77381B#32, 0x3DFD8D8B#32, 0x3DC0FA85#32, 0x3BE771F4#32, 0x3D8A915F#32,
      0xBD8C5B39#32, 0x3B503D4C#32, 0xBE014139#32, 0xBD7D6774#32, 0x3D869C94#32, 0xBDD0B091#32, 0x3EA1EFF6#32, 0xBD33B027#32,
      0xBCD6BF2E#32, 0x3DF57F2E#32, 0x3CE5CE45#32, 0x3D55471E#32, 0x3C936B71#32, 0x3C049514#32, 0xBBBC2B06#32, 0x3B181641#32,
      0x3D0F106D#32, 0xBE33BFA9#32, 0x3D1C67CA#32, 0x3CA28140#32, 0xBD680F62#32, 0x3D20C477#32, 0xBD3C0488#32, 0x3C1D2E36#32,
      0xBD5243E2#32, 0x3D5D8B61#32, 0x3D976BE3#32, 0xBD9B5A15#32, 0xBC8E8D8B#32, 0x3DA3A301#32, 0x3D038E50#32, 0xBE553C4C#32,
      0xBE14CF03#32, 0x3D5004E3#32, 0x3D0A37DC#32, 0x3DA15F69#32, 0x3D6B010A#32, 0x3E0DEC21#32, 0xBDC5358E#32, 0xBDBA29D2#32,
      0x3DC340CA#32, 0x3DA16019#32, 0xBC9273E4#32, 0xBD75D305#32, 0xBC0E46AD#32, 0x3CA4111F#32, 0xBE4D6077#32, 0x3DB677EA#32,
      0xBE348C0E#32, 0x3D6A5F78#32, 0x3DFBB1BB#32, 0xBCDCF2FB#32, 0x3C66115E#32, 0x3DC30E14#32, 0x3CD75AB4#32, 0x3C9AFFB4#32,
      0xBE2CBF77#32, 0x3CD48378#32, 0xBCF7C1A8#32, 0xBE4BD6EC#32, 0x3E4A4F6B#32, 0x3CB05F61#32, 0x3D9609AB#32, 0x3DD9BC29#32,
      0x3BF88AE3#32, 0xBDBDBE30#32, 0x3DACE09A#32, 0x3CA8F3E0#32, 0x3E060BB9#32, 0xBD20FA9A#32, 0xBCF49C2F#32, 0xBD885DF4#32,
      0xBD86735D#32, 0x3E0F76A1#32, 0xBDF2DEA3#32, 0xBCF76AA8#32, 0xBD88AC28#32, 0x3DCF1B7B#32, 0x3E08F29E#32, 0xBDB46950#32,
      0xBBC6A4D0#32, 0x3DA55768#32, 0xBDBD9287#32, 0x3DA0C510#32, 0xBE5102A6#32, 0x3C8D725D#32, 0x3D503FDE#32, 0xBACF9D9C#32,
      0x3D46158F#32, 0xBC8B776C#32, 0xBDD3D314#32, 0xBD80FBA6#32, 0x3DBACDB7#32, 0xBDD2B46B#32, 0x3D3EDC2D#32, 0xBD9DD51B#32,
      0x3D45BA4A#32, 0xBC60E0D7#32, 0xBE2A057F#32, 0x3E01D29F#32, 0xBB8EA055#32, 0x3D331C49#32, 0xBE3C4DA8#32, 0x3D3ED938#32],
    ![0xBC948894#32, 0xBAD7508C#32, 0x3DE785DE#32, 0x3D59085D#32, 0x3DAED104#32, 0x3D4C074F#32, 0xBE54519A#32, 0x3DD2654E#32,
      0xBE279D1D#32, 0x3D8E5C6F#32, 0xBE1FACD3#32, 0x3D4CAF72#32, 0x3D9EF2C5#32, 0xBDB46743#32, 0xBD6B1DAD#32, 0xBE0C80BD#32,
      0xBDF7872C#32, 0xBC999161#32, 0x3B130FA3#32, 0xBD0959F2#32, 0x3D606836#32, 0xBD9B15FF#32, 0xBCE7F18B#32, 0x3D9D4418#32,
      0x3CF561EC#32, 0xBD17C62A#32, 0xBE22BF49#32, 0x3C979253#32, 0xBCCAB539#32, 0x3E2ED97E#32, 0x3CE6B753#32, 0x3D9EF82E#32,
      0x3D4DC6D0#32, 0xBD01E572#32, 0x3DE65E26#32, 0xBD81CA2F#32, 0xBD34A272#32, 0x3D7947F2#32, 0x3D5BAAD9#32, 0x3CEFDF4D#32,
      0xBC9FD72D#32, 0xBCB067B5#32, 0x3CF87ED6#32, 0x3C3A5D48#32, 0xBC070EF9#32, 0xBE132AE3#32, 0xBCC2B0BA#32, 0xBC5AB589#32,
      0x3AFC53B3#32, 0xBB92A9EA#32, 0xBE090899#32, 0x3E7C8D98#32, 0x3DA61701#32, 0xBD50DD90#32, 0xBB82D50D#32, 0x3D3511D0#32,
      0xBCEB2F80#32, 0xBDBCA687#32, 0x3E3F3BD6#32, 0x3E9BCC73#32, 0x3D7695F4#32, 0x3C566AC7#32, 0x3DACC8C3#32, 0xBD12D3CE#32,
      0x3D8D7323#32, 0x3D9DE9A9#32, 0xBD810A36#32, 0x3CA05BE7#32, 0x3AFD34F7#32, 0xBE16F402#32, 0x3DA01CE0#32, 0xBD0D53D6#32,
      0xBDD67A7A#32, 0xBE04904C#32, 0x3C46907C#32, 0xBC67655D#32, 0x3D1D0E6C#32, 0xBD907C66#32, 0x3DAF362F#32, 0xBD032892#32,
      0xBCC64352#32, 0x3E6CC149#32, 0xBD93804C#32, 0x3DADF2AF#32, 0xBD72CF7B#32, 0x3C00068B#32, 0x3D266494#32, 0x3D68780A#32,
      0xBD9FAD49#32, 0xBD98ABE9#32, 0xBD9C8AEB#32, 0xBE1DFC4B#32, 0x3D86C9A6#32, 0xBD216212#32, 0x3E5900D4#32, 0x3DF3F83F#32,
      0x3DE72CE2#32, 0xBC3681BE#32, 0x3D930519#32, 0xBE0305E7#32, 0xBD9CDA15#32, 0xBBBD27BD#32, 0x3C10A87C#32, 0x3D7C35F4#32,
      0x3DB0ECE9#32, 0x3C1A24F2#32, 0x3D8C0190#32, 0x3D37E0CB#32, 0x3D84D636#32, 0xBD03E632#32, 0xBD9F5CF4#32, 0x3C1A6E3F#32,
      0xBD19A5FA#32, 0x3C05EB1E#32, 0x3D88B758#32, 0xBCF4A9EC#32, 0xBE040526#32, 0xBBCAAE1C#32, 0x3DEF085C#32, 0xBD7BB330#32,
      0xBCFC6C84#32, 0xBD906C0D#32, 0xBC94AEA3#32, 0xBD71D408#32, 0xBD4AB99E#32, 0xBDD2CFB5#32, 0x3CCD1775#32, 0xBBB9FCE9#32],
    ![0x3DAE6175#32, 0x3E20E7F4#32, 0x3D75EAC5#32, 0xBE771E76#32, 0x3CDAA3A3#32, 0x3D0C3842#32, 0x3D29ADCA#32, 0x3E192F83#32,
      0xBC4B0BF0#32, 0xBDCBFEB3#32, 0xBD3CAA56#32, 0xBDDCA18D#32, 0xBC22C257#32, 0xBE7878BE#32, 0x3D820369#32, 0x3B5CA2C8#32,
      0x3DE830A5#32, 0xBE21D688#32, 0xBDBCD1BB#32, 0xBE143F9F#32, 0x3D6D7DD9#32, 0x3D5A529D#32, 0x3D66ACF0#32, 0x3CAEEE55#32,
      0x3A8C47E0#32, 0x3D8D961E#32, 0xBDD1E53A#32, 0x3C11D3A8#32, 0x3D8FB4C7#32, 0xBD70AA76#32, 0x3D3C4313#32, 0x3E7265BE#32,
      0xBE4CA4AD#32, 0xBB92877E#32, 0xBDE56DE5#32, 0xBDAB389B#32, 0xBB08D23D#32, 0x3C55668A#32, 0xBE11DFAB#32, 0xBC9E0FA2#32,
      0x3D68F039#32, 0x3D89A49F#32, 0xBDDD28F9#32, 0x3DAD1BA5#32, 0x3E054AA4#32, 0x3DB79916#32, 0xBC25ADAC#32, 0x3E020C16#32,
      0x3CA4DBA3#32, 0xBC99F282#32, 0x3D58F8D9#32, 0x3DFFA72B#32, 0x3C305177#32, 0xBE7C5928#32, 0xBD9D84A9#32, 0xBD9AE1CF#32,
      0x3C9B9F81#32, 0xBAA43156#32, 0x3E48E9EF#32, 0x3CFEDB63#32, 0x3DB39015#32, 0x3DFF4464#32, 0x3BC794F9#32, 0x3D1141F9#32,
      0x3D43AC53#32, 0x3D96ADDA#32, 0x3DD981C1#32, 0x3D87E4F9#32, 0xBDD4160A#32, 0xBD245A05#32, 0x3D2AB804#32, 0xBDD063D7#32,
      0xBD9C61EE#32, 0xBD5CE908#32, 0x3DBDF0E3#32, 0xBCC562A5#32, 0xBDFC1035#32, 0x3CE73E75#32, 0xBE0175EB#32, 0x3AAA109C#32,
      0x3D892E3B#32, 0x3D53B1E4#32, 0x3D4F3AD9#32, 0xBDC7358B#32, 0x3B439D63#32, 0xBBBA363F#32, 0xBD5119C3#32, 0x3E126DD3#32,
      0xBD1C5E47#32, 0xBDB50028#32, 0x3CBA988A#32, 0xBD277F8E#32, 0xBC69039B#32, 0xBD3784E6#32, 0x3C48CA75#32, 0x3DBCACAE#32,
      0xBDB8347A#32, 0xBD2F1CF3#32, 0xBD027F92#32, 0xBD8DC215#32, 0xBDEFDC79#32, 0x3E40B461#32, 0xBD77DE1D#32, 0x3C429A65#32,
      0xBDF3CB36#32, 0x3C26D3FD#32, 0xBDF37E64#32, 0x3D519E54#32, 0x3D02BB00#32, 0x3D39D829#32, 0xBE11D9D2#32, 0x3C94A6C8#32,
      0x3DB285B6#32, 0xBDE61F72#32, 0xBD483756#32, 0xBDC001BF#32, 0xBD0CA3E4#32, 0x3D7B239D#32, 0xBE02B111#32, 0x3DB69E68#32,
      0xBCEED417#32, 0x3CBCC94C#32, 0x3E138CB4#32, 0x3CF30114#32, 0xBD39E523#32, 0x39D1BB0A#32, 0x3DC1B1EF#32, 0xBC950894#32],
    ![0xBD1ABC94#32, 0x3DD1EF5E#32, 0xBDAC9E48#32, 0x3D6DE8AB#32, 0x3D054477#32, 0xBE5F9352#32, 0x3D3EE7B6#32, 0x3DC377BB#32,
      0x3C9AE14D#32, 0x3DFB114E#32, 0xBDE2B89E#32, 0x3DB82491#32, 0xBC242E10#32, 0x3E5B44A1#32, 0x3D309FAC#32, 0xBDDDC296#32,
      0x3E03C60E#32, 0xBE077796#32, 0xBC3BC424#32, 0xBC0947AB#32, 0xBE57A21E#32, 0xBD86FAF7#32, 0x3D93F644#32, 0xBDC47DFF#32,
      0x3E2196A3#32, 0x3D9B5DB8#32, 0x3D515CF7#32, 0xBD9C3D0B#32, 0x3D33AFDF#32, 0xBE5BFA48#32, 0x3BC5F6CD#32, 0xBD4A44DF#32,
      0xBCC4AF54#32, 0xBCC3D5B1#32, 0x3BDDE474#32, 0x3E1BBE1A#32, 0x3D0D7AA8#32, 0x3C8A040C#32, 0xBD288B5B#32, 0x3D8BF112#32,
      0x3D80BD94#32, 0x3DA50BCF#32, 0xBDD14583#32, 0x3E2D2214#32, 0xBBDA8CBB#32, 0x3D45BFA7#32, 0x3C7B27BD#32, 0xBE2E6804#32,
      0x3E2D235D#32, 0x3CFFD177#32, 0xBDC99790#32, 0x3D79C579#32, 0x3D866D2E#32, 0x3E019811#32, 0xBDBCA5EA#32, 0x3E6DD9E5#32,
      0xBD8C7AF3#32, 0xBB074B3E#32, 0x3DA1F975#32, 0x3E0EA844#32, 0x3B418210#32, 0x3CB3CD6D#32, 0xBE0B2711#32, 0xBE5C4D64#32,
      0x3DFC2799#32, 0x3E9195B3#32, 0x3BD3C128#32, 0xBB1D0682#32, 0xBDE9FDA5#32, 0xBD1D2D6E#32, 0x3D1BAFA7#32, 0x3D6E80ED#32,
      0xBDA31115#32, 0x3DCF3568#32, 0x3C718047#32, 0x3DAADA4B#32, 0xBBAD3EBC#32, 0x3D6360E4#32, 0x3AFCA405#32, 0x3DC599EB#32,
      0x3D8A0B18#32, 0x3D778B3C#32, 0x3D7BD262#32, 0xBE169630#32, 0x3E25EE9D#32, 0x3B048331#32, 0xBE023002#32, 0xBD2B985D#32,
      0xBD8DE90C#32, 0xBDF4E40B#32, 0xBD1AD6A1#32, 0x3C8CDDC6#32, 0xBC5DBA91#32, 0xBC9E52FC#32, 0xBE37DF7A#32, 0xBE095F22#32,
      0x3E298A26#32, 0xBD843020#32, 0xBE5DC09A#32, 0xBCC670F3#32, 0xBE15D6AF#32, 0xBD8D5357#32, 0xBE271234#32, 0xBD762FC5#32,
      0x3C4412E6#32, 0x3D88AE35#32, 0x3CA0B5A8#32, 0xBE3B13C8#32, 0x3E696085#32, 0x3E037CB0#32, 0xBDDD2BAB#32, 0xBDCC6AF4#32,
      0x3C59CD58#32, 0x3C0261BF#32, 0x3DE9CB63#32, 0xBC0BD951#32, 0x3DF37818#32, 0x3C28982C#32, 0xBC2C9B68#32, 0x3DC0ED20#32,
      0x3CB9202B#32, 0xBDEA61BF#32, 0xBD8118A7#32, 0xBE173360#32, 0xBABDCF25#32, 0xBDB1513D#32, 0xBCBFFEDA#32, 0x3DDA3EE6#32],
    ![0xBD1B3C7B#32, 0x3D39C21C#32, 0x3D5C6C83#32, 0x3E3B92CD#32, 0xBD0930DD#32, 0xBD291B6A#32, 0x3C9EDD15#32, 0x3D42B1F9#32,
      0x3D903DB4#32, 0xBDC09E02#32, 0xBE37EAA5#32, 0x3D6F6A8E#32, 0x3D4F6AA9#32, 0xBCFA510C#32, 0xBD9C54BB#32, 0xBD9AF308#32,
      0x3D092B94#32, 0x3D26A456#32, 0xBE2B3828#32, 0xBC5A4DA6#32, 0xBE279204#32, 0xBDC6B4DA#32, 0x3DC22B9C#32, 0xBE1581F7#32,
      0xBC987799#32, 0xBE0E7E98#32, 0x3E4A09BB#32, 0xBD1C54B1#32, 0xBD49260E#32, 0xBDDB4DA0#32, 0xBC99A4A4#32, 0xBDF3D530#32,
      0xBDE95DA2#32, 0x3D26522C#32, 0x3D42501E#32, 0xBE8D4930#32, 0x3B2B64EF#32, 0x3E042491#32, 0xBDC4E537#32, 0xBD6EB098#32,
      0xBE03E66E#32, 0x3D395363#32, 0x3DA8B1A9#32, 0x3D0362DA#32, 0x3DCDD43D#32, 0xBE38C5B5#32, 0xBD2712E6#32, 0xBE1F78AB#32,
      0xBDCB6618#32, 0xBD26DAC7#32, 0xBDA547FB#32, 0xBD71F547#32, 0x3D4ED509#32, 0xBD2D27CD#32, 0x3E24F777#32, 0x3B80B879#32,
      0xBBB5D5B2#32, 0x3C74D0BE#32, 0x3DE265A5#32, 0x3E0B7C73#32, 0xBD52315B#32, 0xBE9D8873#32, 0x3C06C46D#32, 0xBE02DDB6#32,
      0xBE10CB14#32, 0x3D76A3B4#32, 0x3D8394A9#32, 0x3DF54EFF#32, 0x3D2758DD#32, 0x3D254FC4#32, 0x3D65D486#32, 0xBD8D33B3#32,
      0x3CC3EE31#32, 0x3CEE3D97#32, 0xBDBC51C8#32, 0x3CA5B5FB#32, 0xBCDE1E09#32, 0x3DBC806A#32, 0x3DC81ABB#32, 0x3E332B68#32,
      0x3DB7FC39#32, 0x3C2A55CA#32, 0x3D9894DD#32, 0xBDDC1417#32, 0x3CD9F4DF#32, 0xBCFAFB72#32, 0x3D8FAC24#32, 0x3DD0D05E#32,
      0xBDB8619D#32, 0xBD4A84E7#32, 0x3CBF0E4D#32, 0xBC6EA644#32, 0xBE1C1711#32, 0x3E17A898#32, 0xBD6700F8#32, 0xBBCE9A59#32,
      0xBDBCBB79#32, 0x3E527EC7#32, 0x3DEF8C86#32, 0x3C7FCF19#32, 0x3D54298A#32, 0xBDD8A426#32, 0x3D86BE5C#32, 0xBC07BBB0#32,
      0x3D93E13B#32, 0x3D7ED595#32, 0x3DA724EC#32, 0xBDFEBE25#32, 0xBDD73007#32, 0xBD9FB169#32, 0xBABBC76D#32, 0x3BFD561E#32,
      0xBDB8C302#32, 0xBDD689F5#32, 0x3DA819D3#32, 0xBD3907A6#32, 0x3DFFB4AB#32, 0x3DA4C656#32, 0xBD954D72#32, 0x3D164E19#32,
      0x3CE89706#32, 0x3C0E0FCD#32, 0x3E51C86B#32, 0xBD20E39A#32, 0xBDBD044A#32, 0x3DFA4F9D#32, 0xBE462BA4#32, 0xBE041C6F#32],
    ![0x3D8DEC4B#32, 0x3DA21F9B#32, 0xBDADD461#32, 0x3DF2E6DB#32, 0x3DB560FB#32, 0x3D2AC0C7#32, 0x3D1B2EC6#32, 0xBDDD7289#32,
      0xBD0798BF#32, 0xBD871A20#32, 0xBC5790E9#32, 0xBDE82CEF#32, 0x3DBFCF1D#32, 0xBC613F93#32, 0x3E405A67#32, 0x3D3D7043#32,
      0x3DD32F0A#32, 0xBD6A078C#32, 0xBD8BFB1C#32, 0xBE0F0F29#32, 0xBD3790AF#32, 0x3D503996#32, 0xBD78DDA1#32, 0xBE05A94E#32,
      0xBD4CFB8C#32, 0xBB46E766#32, 0x3E0F10CB#32, 0xBE228092#32, 0x3DADC1F7#32, 0x3E95F953#32, 0x3DE6E214#32, 0xBD3BF9D3#32,
      0x38F470C2#32, 0x3E230212#32, 0xBD1D46CB#32, 0xBE14D542#32, 0xBE40093B#32, 0xBC18AC16#32, 0x3E3E8EC9#32, 0xBE0A8F3E#32,
      0x3E09CF1A#32, 0xBDA033CA#32, 0x3D85AFB5#32, 0x3DBD1E63#32, 0x3D6FB425#32, 0x3C2249B6#32, 0x3C49901F#32, 0x3CF49BD9#32,
      0x3E7940FC#32, 0xBD6B429A#32, 0xBD598CD1#32, 0x3DDA85E0#32, 0xBD5CCA14#32, 0x3DF56026#32, 0x3E4F07D1#32, 0x3D7D45C8#32,
      0x3CA4E1BA#32, 0xBD2E041C#32, 0x3CC50112#32, 0x3C8051B8#32, 0xBDB2D16C#32, 0xBBA2E11B#32, 0x3E46F969#32, 0xBC0A504A#32,
      0xBE00CE47#32, 0x3D059719#32, 0x3DFA049F#32, 0xBDBDC2E2#32, 0x3D9F3D29#32, 0xBD1FB5DE#32, 0xBD234A8C#32, 0xBC766FA0#32,
      0x3CDF9A34#32, 0x3C726D2B#32, 0xBD722858#32, 0xBD30C3AE#32, 0x3DF8E7D3#32, 0x3DF72EEC#32, 0xBC9055BA#32, 0xBDA54898#32,
      0xBE2D2EE2#32, 0xBC0D026E#32, 0x3E240A25#32, 0xBDA50943#32, 0x3D68DD22#32, 0xBE50D8DC#32, 0xBCEEEEF4#32, 0xBE0E54C3#32,
      0x3D2CDD70#32, 0xBD2B15EA#32, 0x3D7BE249#32, 0x3BD80CEC#32, 0x3DAF86DF#32, 0xBD67B619#32, 0x3CE15180#32, 0x3DFC3E13#32,
      0x3C82D2FA#32, 0xBD21D8AD#32, 0x3D1F6CC2#32, 0xBDD990C2#32, 0x3BD90A06#32, 0x3CC0D5CA#32, 0xBCFF1B03#32, 0x3DD3ACCD#32,
      0x3DDFA496#32, 0x3D9A57E2#32, 0x3E3D71CD#32, 0xBDAAF926#32, 0x3D14B261#32, 0xBE2F2E37#32, 0xBE2A3358#32, 0xBD980F03#32,
      0xBD674256#32, 0xBD44F024#32, 0x3C9B1B56#32, 0x3D3DF366#32, 0xBD6D8C64#32, 0x3DA0D838#32, 0xBCDE5A96#32, 0x3D00B6BC#32,
      0x39AB443D#32, 0xBD3ABA1B#32, 0xBE484CD7#32, 0x3D47D933#32, 0xBD8156ED#32, 0xBD23743E#32, 0x3DDD0DA6#32, 0xBD26EC0D#32],
    ![0xBBC2B973#32, 0xBC877009#32, 0xBD3B9955#32, 0xBD15DCE8#32, 0x3CB73D62#32, 0xBE0867B1#32, 0xBC8BBADA#32, 0xBD8F6130#32,
      0xBB918EE9#32, 0x3D6238FE#32, 0x3CC97702#32, 0xBE0255D9#32, 0x3DDD6291#32, 0xBDE3774D#32, 0xBD751169#32, 0x3DBEB49C#32,
      0x3E50FA2E#32, 0x3DB5D429#32, 0x3C7FA9A5#32, 0xBC10EA44#32, 0x3B8BC8C8#32, 0xBDD39751#32, 0x3DAAB6B4#32, 0x3E46EF30#32,
      0x3DEBAFA0#32, 0xBCF277EB#32, 0xBDF4F7EF#32, 0xBCAACBCB#32, 0x3D53700F#32, 0xBDBAF54E#32, 0xBDBDEB6B#32, 0xBD887899#32,
      0xBC48A23D#32, 0x3CA28333#32, 0x3C50155F#32, 0x3D90FAD6#32, 0xBDB10F01#32, 0xBCDCB721#32, 0x3D9E8137#32, 0xBD08568C#32,
      0x3C14B7BE#32, 0x3DBAF6F1#32, 0xBE0970DA#32, 0xBD0E8197#32, 0xBDBBFF13#32, 0x3E5DF51C#32, 0xBDA63DF0#32, 0xBD2514D3#32,
      0x3B83B021#32, 0x3E8BDB53#32, 0x3A9350CD#32, 0xBCB40026#32, 0xBC4AE34D#32, 0xBDA22DA0#32, 0xBE04406F#32, 0xBD369263#32,
      0x3E5FF8FE#32, 0xBBDFC138#32, 0xBD8CAB5C#32, 0x3D27B2A4#32, 0x3C8D2827#32, 0xBD8A2258#32, 0xBD31BDC2#32, 0x3B3B0094#32,
      0xBD9F950D#32, 0xBD5AF869#32, 0x3DBC3318#32, 0x3DBFB96F#32, 0x3D0F6D87#32, 0x3D6C4133#32, 0x3CF4BBE5#32, 0xBE025A9E#32,
      0x3D9FF6D0#32, 0x3E5C2493#32, 0xBDDAC315#32, 0x3AB0A45D#32, 0xBD81BDC2#32, 0xBD5F8854#32, 0xBC5353F0#32, 0x3D57D5F9#32,
      0xBA72A95B#32, 0x3DC809A7#32, 0x3E046FDE#32, 0x3D8ABAA2#32, 0x3D17F0D1#32, 0x3D050B65#32, 0x3D50CFD2#32, 0xBD362471#32,
      0x3E131F9C#32, 0xBDB5D47D#32, 0x3D8FFFE9#32, 0xBDA6C1A9#32, 0x3C40E8F0#32, 0xBC21C808#32, 0x3D3B3BC9#32, 0xBD1074B1#32,
      0xBE0A0D54#32, 0xBC93D16F#32, 0x3E1DBF48#32, 0x3D977EB0#32, 0xBC811F16#32, 0x3C07325C#32, 0xBDE4AC87#32, 0x3BCB84DA#32,
      0xBD15EB84#32, 0xBDD9F1CA#32, 0x3CBD2FA1#32, 0xBDB172EA#32, 0x3DF67723#32, 0x3B89DCFC#32, 0xBDAD0D74#32, 0x3D4CDB4E#32,
      0x3DD05BAB#32, 0x3DCFED65#32, 0xBCA026D2#32, 0x3DFAA65A#32, 0x3D86FC2F#32, 0x3E1A78CE#32, 0xBD8CA032#32, 0x3C47F67F#32,
      0xBD6006D9#32, 0x3DD88802#32, 0x3E115E54#32, 0x3D161FFB#32, 0xBCE094B1#32, 0x3D4AEB92#32, 0xBD793E62#32, 0x3D2E416B#32],
    ![0x3E35F5C1#32, 0x3DD116D2#32, 0x3DB32A39#32, 0xBE03A58C#32, 0xBE1502D0#32, 0x3D0DBAB2#32, 0xBD7E18AD#32, 0x3E0C9327#32,
      0xBDCC7EE0#32, 0xBD3BE50D#32, 0x3D4E3BAF#32, 0x3E0BA452#32, 0x3DDB142D#32, 0x3D721432#32, 0x3CD06151#32, 0xBDFE72E7#32,
      0x3D7F2FAC#32, 0xBC4A5FDC#32, 0xBD914766#32, 0xBE30B862#32, 0xBCF4888C#32, 0x3CD2E794#32, 0xBD61403C#32, 0x3E0E7939#32,
      0xBD6BCA85#32, 0x3DA33BAF#32, 0x3D74DE05#32, 0x3AE5024C#32, 0xBC072379#32, 0xBE24E7D3#32, 0x3D111749#32, 0x3D41F93E#32,
      0xBE310611#32, 0x3E43373C#32, 0x3E80BB8B#32, 0x3C19DE8D#32, 0x3E08D11D#32, 0xBC91463D#32, 0xBD875C03#32, 0xBDE7D2EE#32,
      0x3E0257A9#32, 0xBE429BF6#32, 0x3DD74B40#32, 0x3CCEE890#32, 0xBE0A4A66#32, 0xBE3F983B#32, 0x3CA37DEE#32, 0x3CB0B41A#32,
      0x3D9C13AD#32, 0x3DA94F3D#32, 0xBC0B180A#32, 0xBDBAE6DA#32, 0x3DA80BF5#32, 0x3C858CA0#32, 0xBD4DAD4B#32, 0xBC85868F#32,
      0xBD01F133#32, 0xBCA7AC7C#32, 0xBCE15358#32, 0xBCE6AA6B#32, 0xBDEE17B6#32, 0x3CB8A9CF#32, 0x3DC2BA95#32, 0x3CEDB396#32,
      0xBBB262A6#32, 0xBCD8598F#32, 0x3D56948A#32, 0x3DD3AD44#32, 0xBCD70F52#32, 0xBD94955B#32, 0x3D40C83F#32, 0xBDC9C806#32,
      0x3E2E04B7#32, 0x3DAED905#32, 0xBD02094B#32, 0x3E02B84C#32, 0x3DACCBF2#32, 0x3D9FB126#32, 0x3D34A8EE#32, 0xBE5689C3#32,
      0xBE16033A#32, 0xBD67E7FE#32, 0x3BCA9CE1#32, 0x3D968D5F#32, 0x3E213CB3#32, 0xBD18F10E#32, 0x3E82077B#32, 0x3D60CED2#32,
      0x3D7C2E6B#32, 0xBDE4A5CF#32, 0x3E510E27#32, 0x3D91332F#32, 0x3DFAA32B#32, 0xBE7173E8#32, 0xBD933327#32, 0x3BC69483#32,
      0x3DA5341B#32, 0xBE0B1280#32, 0xBD265196#32, 0x3C898D17#32, 0xBDACABF1#32, 0x3E68DB09#32, 0x3DB501C4#32, 0xBD897D42#32,
      0xBD895411#32, 0xBD262DE3#32, 0x3D4EA216#32, 0x3DA3356E#32, 0xBD9116BA#32, 0xBD838C25#32, 0x3ACAF823#32, 0xBDCF1B8D#32,
      0x3DD04F9C#32, 0x3CA72CCD#32, 0x3DD12888#32, 0xBD3B2283#32, 0xBDE358B3#32, 0x3D8D3F7D#32, 0xBCFE63A9#32, 0x3BE90E9D#32,
      0x3B7C46EC#32, 0x3DB48C7D#32, 0xBC27BCCF#32, 0xBDC067CC#32, 0xBC9BB146#32, 0x3DE58283#32, 0x3DEA06AB#32, 0xBE06497C#32],
    ![0x3CFD1D82#32, 0x3DE8AA62#32, 0xBDB8EEF3#32, 0x3E35CE6A#32, 0x3DA06D5B#32, 0x3E050AB9#32, 0x3DE1894A#32, 0x3D472A72#32,
      0x3D743C7D#32, 0xBD1044AC#32, 0x3E3995F9#32, 0xBD236CCC#32, 0x3DA2E04F#32, 0xBDD27CB6#32, 0xBCC1AAB3#32, 0xBC0707C9#32,
      0x3DFE52AA#32, 0xBD6D7404#32, 0xBD11ED66#32, 0xBCB93969#32, 0x3C18C269#32, 0xBD4CA9D9#32, 0x3BDC4FC7#32, 0xBCB66370#32,
      0xBD9CA7A6#32, 0x3C2D418B#32, 0xBD7F8189#32, 0x3D8D9A2C#32, 0x3A7904B7#32, 0x3C9C18AD#32, 0x3E24B351#32, 0xBD68485B#32,
      0xBC728F3C#32, 0x3D057A63#32, 0x3E792C16#32, 0xBD15A0B3#32, 0xBCF27265#32, 0xBC31CB36#32, 0x3DE5357D#32, 0xBE049D71#32,
      0xBE61CBF0#32, 0xBD52A891#32, 0xBDBCE2B7#32, 0x3DC5F863#32, 0x3D1B5BFD#32, 0x3C8AD77E#32, 0xBDFDA6F6#32, 0x3E37B1AD#32,
      0xBCF63B9D#32, 0x3D137DD5#32, 0xBD084B20#32, 0x3D855A70#32, 0x3D638B36#32, 0xBDD6A18F#32, 0xBDA7DFAF#32, 0xBB7A31A8#32,
      0xBD90486B#32, 0xBDA2972F#32, 0x3DC00655#32, 0x3D94DB12#32, 0xBE30FE95#32, 0xBE8D98ED#32, 0xBDB54954#32, 0xBE84B183#32,
      0xBDBBE464#32, 0x3D82C7E2#32, 0x3D99F292#32, 0x3CF2C578#32, 0xBD3CCE45#32, 0xBDA2499B#32, 0x3E13E430#32, 0xBDF2DF6E#32,
      0xBD110EB2#32, 0xBB29196E#32, 0xBD973098#32, 0x3D92926D#32, 0x3C4FE8C2#32, 0x3E236A14#32, 0x3DB39FC6#32, 0xBB5DEA71#32,
      0xBD86C39A#32, 0xBDAD618A#32, 0x3D8A3625#32, 0xBD8F469A#32, 0xBB09D785#32, 0x3D4B99FC#32, 0xBCB9716A#32, 0x3D968F60#32,
      0xBD307181#32, 0x3E32CAAC#32, 0xBE708239#32, 0xBB8CC04C#32, 0x3CF46330#32, 0xBDEEB342#32, 0x3E35C93B#32, 0xBDEB99EA#32,
      0x3DC5F1B9#32, 0x3BDA6194#32, 0xBC5F88D1#32, 0x3DA76808#32, 0x3DC29394#32, 0xBD9AB7D3#32, 0x3BD56B7E#32, 0x3CB4D679#32,
      0xBC1CF357#32, 0x3CA9903C#32, 0xBD4407AE#32, 0xBD35B421#32, 0x3CCD4ED5#32, 0x3DD5A232#32, 0xBDBCED45#32, 0x3D1DB90D#32,
      0xBD0539FA#32, 0xBDD161B7#32, 0xBC4393E6#32, 0xBD4A1A79#32, 0x3DBB4051#32, 0x3D47402B#32, 0x3DBB5459#32, 0x3E209FED#32,
      0x3DAABB08#32, 0xBDD0A020#32, 0xBDBE7624#32, 0x3D1F2872#32, 0x3DCBEA22#32, 0x3E04DFC9#32, 0xBD458BE9#32, 0xBD8981E9#32],
    ![0xBDEC29DA#32, 0x3E4C351B#32, 0xBD318632#32, 0xBD468C38#32, 0x3DF7A030#32, 0xBD0512F6#32, 0xBE0A6EE3#32, 0x3DD55ED0#32,
      0xBD05A736#32, 0xBDC1C1CF#32, 0xBC303EEF#32, 0x3C9BF340#32, 0xBD000345#32, 0x3D769D4F#32, 0xBDD92FBA#32, 0xBE001D88#32,
      0x3DB5BE6B#32, 0xBC8D634D#32, 0xBC84D75B#32, 0x3DEEFBED#32, 0xBD5FB944#32, 0xBC414DF8#32, 0xBD40913F#32, 0x3CE93096#32,
      0xBDE6912A#32, 0xBDCBFB34#32, 0x3DBE9A42#32, 0x3D7AA0BF#32, 0xBD862CE0#32, 0xBD8C913E#32, 0xBBC76A14#32, 0xBE06CC1D#32,
      0xBD0D5E63#32, 0x3DEA9B28#32, 0xBCE70389#32, 0xBC579302#32, 0xBDBFAD6D#32, 0x3E27053A#32, 0x3CF96E60#32, 0xBC9FE0AB#32,
      0xBC7F73C0#32, 0xBE240C20#32, 0x3CD2B513#32, 0xBDFE85BC#32, 0xBD259E5B#32, 0xBE8EDC97#32, 0x3D26C6C0#32, 0xBDFB6326#32,
      0xBE12F7F8#32, 0x3E0C7FB2#32, 0x3E0BF4E2#32, 0xBC5F1F21#32, 0xBC9B28FA#32, 0xBB8159CD#32, 0xBD505085#32, 0x3CE2848C#32,
      0xBCB2EA96#32, 0xBD8C116C#32, 0x3CCC5D03#32, 0xBD5F801E#32, 0xBD36FAC7#32, 0xBAEABEA0#32, 0x3D32589E#32, 0x3E78338F#32,
      0x3D1F3BE7#32, 0xBD871D42#32, 0xBB446DDF#32, 0x3E2F362E#32, 0x3C35F138#32, 0x3D07C4B5#32, 0xBD403952#32, 0x3D7068E6#32,
      0xBE857AB1#32, 0x3DDFBCA5#32, 0xBDA81DFF#32, 0xBDE18A19#32, 0xBC706DB6#32, 0xBE189E02#32, 0x3D03AD7D#32, 0xBCBA740C#32,
      0xBBB245FD#32, 0x3C5E8E8D#32, 0x3E3673EA#32, 0xBD234CF4#32, 0xBD9710A7#32, 0x3D184DBE#32, 0x3AD9BD61#32, 0x3B7A256A#32,
      0xBCCA5988#32, 0xBD11F633#32, 0xBE17D13B#32, 0xBB44C94B#32, 0xBD85587B#32, 0xBC77DBE2#32, 0xBCBD795D#32, 0xBDA9FFE9#32,
      0xBDE639E2#32, 0xBCDBED06#32, 0xBC3A035B#32, 0x3DD4C37B#32, 0x3DA178AC#32, 0xBCC79FAE#32, 0x3DE34BB7#32, 0x3CFBF2C7#32,
      0xBD54B6AA#32, 0x3DC6AD6E#32, 0xBCE1FB0E#32, 0xBB9F56CC#32, 0xBD4731FE#32, 0x3E131541#32, 0xBD06143D#32, 0xBC89F62D#32,
      0xBC1D8A09#32, 0xBD23C8AA#32, 0x3D26D754#32, 0xBD0A4764#32, 0xBD92D16C#32, 0x3E2D7560#32, 0xBD251FCF#32, 0xBCE8AE87#32,
      0x3D08E436#32, 0xBDDE3E3A#32, 0xBDEF32DC#32, 0xBD5A8A8A#32, 0xBDB3CA0E#32, 0x3D744BCA#32, 0x3CD11B40#32, 0x3C9BCBB4#32],
    ![0x3D3104BD#32, 0x3D0A7ADE#32, 0x3D5A03F2#32, 0xBDAD5FFF#32, 0xBDFFF802#32, 0x3DD2AED5#32, 0xBD28CD10#32, 0xBCD5F1CF#32,
      0x3DA0C9C1#32, 0xBCA9AF26#32, 0xBDC1A87B#32, 0x3BF8C326#32, 0xBCFF5D5A#32, 0x3D44D0EB#32, 0xBDABFAFC#32, 0xBCCE4EC8#32,
      0xBE10A238#32, 0xBCCA2B5F#32, 0xBDF6C9BD#32, 0x3E16301A#32, 0x3D213087#32, 0x3D4EEE38#32, 0x3D8E83D4#32, 0xBC09697F#32,
      0x3C9367CB#32, 0xBD8C386A#32, 0xBDD90577#32, 0xBCFD06E5#32, 0xBDADD794#32, 0x3DEBBF32#32, 0xBE002707#32, 0xBDC480A2#32,
      0xBD402C1E#32, 0x3CAA6311#32, 0xBD9EBE26#32, 0xBDDF5CBB#32, 0x3DBBF7A5#32, 0x3DD593F4#32, 0xBE0F8A53#32, 0xBD583849#32,
      0x3DE88C32#32, 0xBD934C47#32, 0xBDB76D88#32, 0xBDACCEB3#32, 0x3DEB0943#32, 0xBDC7732E#32, 0xBE09A842#32, 0x3D645EB8#32,
      0x3DC6A727#32, 0x3CAFDDE7#32, 0x3E00EA64#32, 0x3CA478CC#32, 0x3BF89762#32, 0xBE415F54#32, 0xBE419173#32, 0x3D6839DC#32,
      0xBDBD3AA0#32, 0xBD2B6907#32, 0xBDCCF888#32, 0xBD96B648#32, 0xBB066BD1#32, 0x3A13F58D#32, 0x3CD34C02#32, 0xBD3789DE#32,
      0x3C2D8C91#32, 0xBC749FB6#32, 0x3CEF2C40#32, 0x3D4AD11A#32, 0xBE8A45CD#32, 0x3DE1BA7E#32, 0xBDF90A27#32, 0xBD35A860#32,
      0x3C8DF5C5#32, 0x3D48BEF3#32, 0x3CCF8703#32, 0xBDA9964A#32, 0xBDC2D2D2#32, 0x3D1B89B6#32, 0xBE069A03#32, 0xBDE562C6#32,
      0x3E198711#32, 0xBAD22696#32, 0x3D307992#32, 0xBDD553CC#32, 0xBC16A1E9#32, 0x3CCF8B55#32, 0xBD541C0A#32, 0x3E37E461#32,
      0xBE2E301D#32, 0xBDCBF1C6#32, 0xBDCA08DC#32, 0x3E17AB76#32, 0xBE0E3FDB#32, 0x3CFE48A2#32, 0x3DF3FE01#32, 0xBD5B4476#32,
      0xBE2A22DF#32, 0x3B8857C4#32, 0xBDBDF797#32, 0x3C27AC43#32, 0xBDD564DF#32, 0xBB9E59C5#32, 0xBD608941#32, 0x3E2FB568#32,
      0x3D8A96A5#32, 0xBC3EB5B1#32, 0xBD608654#32, 0x3D8C6DB0#32, 0x3D0A8765#32, 0xBCFA1B59#32, 0x3D64FAED#32, 0xBB62F62B#32,
      0xBC96D678#32, 0x3D8C3026#32, 0xBCA0DCFC#32, 0x3C9C4E4F#32, 0x3DCAEE04#32, 0xBC22A2A9#32, 0xBDBFAE4C#32, 0x3CA8F495#32,
      0x3D836ADD#32, 0xBD25D47D#32, 0x3DC120B2#32, 0xBD85151F#32, 0xBC867723#32, 0xBC61CED9#32, 0x3B45B9A5#32, 0xBC8BFA3B#32],
    ![0xBD8C7857#32, 0xBDCD5EA9#32, 0x3DD3B2DF#32, 0xBDB9D54B#32, 0xBCC395BC#32, 0x3D9AA153#32, 0x3C9D0B4B#32, 0x3DC4B936#32,
      0x3E0F50F9#32, 0x3E039758#32, 0x3D9BB960#32, 0x3D929249#32, 0x3C8D899D#32, 0x3C9B3717#32, 0x3D82346F#32, 0x3D8BDA73#32,
      0xBDDAECFA#32, 0x3D98B579#32, 0x3DCCBFFD#32, 0xBD49FE4E#32, 0x3C7D9237#32, 0x3E2E7124#32, 0xBD833E5F#32, 0x3C08B0C5#32,
      0xBDDFF28E#32, 0x3DC1DE39#32, 0x3C57C0C1#32, 0x3DA07575#32, 0xBC87FF9F#32, 0xBD81E9BD#32, 0xBE12353E#32, 0x3E0FFBE8#32,
      0xBD68B150#32, 0x3D84039E#32, 0x3E0B2AAD#32, 0x3DE68C36#32, 0xBE5645D7#32, 0x3E43E4BD#32, 0x3DFBFB91#32, 0x3C8E2F7E#32,
      0x3B1E1795#32, 0xBD27EB27#32, 0xBD49F61E#32, 0xBCC01B36#32, 0xBD94D3DF#32, 0x3BF16B77#32, 0xBE5A45D3#32, 0x3D1AF027#32,
      0x3D8A2F5E#32, 0x3D034169#32, 0x3C8C3241#32, 0xBDA48C3F#32, 0x3D21556A#32, 0x3DFC3D9D#32, 0xBDA10725#32, 0x3D819EA6#32,
      0x3D25FEB4#32, 0xBCDFB92A#32, 0x3E2011F1#32, 0xBD627314#32, 0x3DAC31C6#32, 0xBD871A1C#32, 0xBD163ACA#32, 0x3D630043#32,
      0xBE34192A#32, 0x3E256224#32, 0xBD4136E7#32, 0x3B9280E8#32, 0xBD225E98#32, 0xBDED17B7#32, 0xBCEABFC5#32, 0xBD80F2EC#32,
      0xBDD8CE95#32, 0x3C4CD5F1#32, 0xBE078769#32, 0xBCD9B95D#32, 0xBD776A8D#32, 0x3CC6708F#32, 0x3E3ACF7B#32, 0x3CD2D4BE#32,
      0x3D2B9CCB#32, 0xBD389788#32, 0xBC5F1B0B#32, 0x3DF42236#32, 0xBBE761DF#32, 0x3C7EE55D#32, 0xBDBC2E5A#32, 0x3E078C49#32,
      0x3DF48984#32, 0x3DDEDB8A#32, 0x3DF7319F#32, 0x3D9E5EC0#32, 0x3E22427E#32, 0xBD9B2330#32, 0xBD1B71BC#32, 0x3DE367F1#32,
      0x3CEF65E2#32, 0xBD8183D4#32, 0xBDFC0BDE#32, 0xBD8F0D1F#32, 0xBD8D9A9B#32, 0xBD7EEA43#32, 0xBCF54CF8#32, 0xBDAF24B6#32,
      0x3CFC4070#32, 0xBD376273#32, 0xBDF99450#32, 0xBD6B2324#32, 0xBD8293AE#32, 0xBD6C396B#32, 0xBD2D9AB4#32, 0x3E0CF8AF#32,
      0xBCF5AA47#32, 0xBB006B8F#32, 0xBD288075#32, 0x3DF6BA33#32, 0x3E383276#32, 0xBDC204E3#32, 0xBDF2FC92#32, 0x3D52AB1C#32,
      0x3CD72F51#32, 0xBD2FE31E#32, 0x3D12D1A4#32, 0xBC0D42DB#32, 0xBDBC7727#32, 0xBDAD7848#32, 0xBDBE192A#32, 0xBAF098F7#32],
    ![0x3B98E948#32, 0xBD9251ED#32, 0xBD8DEB44#32, 0x3E02DBF2#32, 0x3DAE0DE8#32, 0x3CAB117C#32, 0x3C9613C6#32, 0x3C892418#32,
      0xBD1C2DC8#32, 0x3D13D489#32, 0xBCBFAD56#32, 0x3D114257#32, 0x3D401BBF#32, 0x3C710C57#32, 0x3D86C0C3#32, 0x3D364DD2#32,
      0x3B8E9221#32, 0xBDBF63E6#32, 0x3DB3095E#32, 0xBCEDC80D#32, 0x3A0C281C#32, 0xBB164610#32, 0xBC44E44A#32, 0xBE529B91#32,
      0x3DA92F8B#32, 0xBDCBA822#32, 0xBDB71197#32, 0x3E3AD70B#32, 0x3D3CA912#32, 0xBD9785FC#32, 0xBD8D7805#32, 0x3D981791#32,
      0x3D5393E9#32, 0xBCE0AF3A#32, 0xBD016B78#32, 0x3D6A424A#32, 0x3DC12AE3#32, 0x3C869E16#32, 0x3C57AF47#32, 0xBD852767#32,
      0x3D56489F#32, 0xBE0ECE7D#32, 0x3B358D42#32, 0x3D264D4F#32, 0xBD9333AF#32, 0x3E0689FA#32, 0x3D1C193F#32, 0x3D5B1984#32,
      0x3BF5296F#32, 0x3A0DD9F0#32, 0x3D9AF181#32, 0xBE121CD7#32, 0x3D22E6EC#32, 0x3CD9D89B#32, 0x3CD4D80D#32, 0x3D81965B#32,
      0x3E41BBE5#32, 0xBCE9795C#32, 0xBE0D465D#32, 0x3B85F208#32, 0xBBEA7024#32, 0x3D912C21#32, 0x3E0036A2#32, 0xBD588488#32,
      0x3BA39A53#32, 0x3D8CF813#32, 0x3D7FCB6C#32, 0x3D1684F2#32, 0x3D5B08F5#32, 0x3D2F517A#32, 0x3CB1060E#32, 0x3BE83334#32,
      0xBD5CA232#32, 0x3C1BDAAF#32, 0x3DEC042E#32, 0x3C266295#32, 0x3D932081#32, 0xBC9E6004#32, 0xBE495B43#32, 0xBD4F33C1#32,
      0xBBF250C2#32, 0x3E069269#32, 0x3C54DE15#32, 0x3D25FE01#32, 0xBDC98BEA#32, 0x3C219B4C#32, 0x3DEB25A9#32, 0x3E428BF6#32,
      0xBDB8D301#32, 0x3D496A30#32, 0xBE22173F#32, 0x3BAFAE3C#32, 0xBC2AA8C1#32, 0xBD2150E0#32, 0xBE03CD4F#32, 0xBBA61932#32,
      0xBE3F6A69#32, 0xBD6E1738#32, 0xBD2A85DE#32, 0x3A92DC7E#32, 0x3CDAFAFE#32, 0x39E3A4A0#32, 0x3A9AB436#32, 0x3E14F6F5#32,
      0x3DE55E67#32, 0x3E55A876#32, 0xBE1FE2B1#32, 0xBBE59DE3#32, 0x3CB6F119#32, 0xBE17BFB9#32, 0xBD6847CA#32, 0x3DE3EFA9#32,
      0xBD0F8B50#32, 0xBA166499#32, 0xBDCDAE66#32, 0xBDFF0062#32, 0xBDD1CF03#32, 0x3E2EB4BA#32, 0xBD2835D3#32, 0x3DD7419E#32,
      0x3DA3190A#32, 0xBE10B037#32, 0x3C1B752F#32, 0xBD0A7C8D#32, 0xBD285C21#32, 0xBC686BEF#32, 0x3AC3F678#32, 0xBE044FC7#32],
    ![0x3D06138B#32, 0xBCE35DD2#32, 0xBCB44B0E#32, 0x3D237EE8#32, 0xBDBB31D4#32, 0x3BE80CCA#32, 0xBDAB4544#32, 0xBCFD5BBA#32,
      0x3E0C35DC#32, 0x3BD256EB#32, 0xBC7A8A55#32, 0x3DC58571#32, 0xBDB340D3#32, 0x3DF639DF#32, 0xBDECF24D#32, 0x3DE9EA22#32,
      0xBD526826#32, 0xBCFFEAFB#32, 0xBBC0FDF2#32, 0xBD71B01B#32, 0x3CA8AD5E#32, 0x3B9904C7#32, 0xBE05E57C#32, 0x3D09171E#32,
      0xBC078A39#32, 0xBDF65570#32, 0x3D8E4D6B#32, 0x3D99E58D#32, 0xBDBEF838#32, 0xBE086758#32, 0xBD9DDA4A#32, 0xBD227227#32,
      0x3DC6664C#32, 0xBE0D9EA8#32, 0x3E1E6002#32, 0x3D809F5B#32, 0xBDB6AF97#32, 0xBDC086CE#32, 0xBD8B3C73#32, 0x3D881CD5#32,
      0xBC9E3BCE#32, 0xBE453D27#32, 0xBDA10D40#32, 0xBE17AD22#32, 0xBD6861FB#32, 0x3D894297#32, 0xBCE261D3#32, 0x3D800387#32,
      0x3D84FCE0#32, 0x3D7B89C3#32, 0xBD88223C#32, 0xBDA6FE05#32, 0x3CD8DFB6#32, 0x3CA1135F#32, 0xBD3643AA#32, 0xBDAE0226#32,
      0xBDABF2D5#32, 0x3E17E5A5#32, 0x3DE4AE3A#32, 0x3D3A0BC9#32, 0xBDBE3B3B#32, 0x3DC14544#32, 0xBDE51447#32, 0xBBA1562D#32,
      0xBD7FFF15#32, 0x3D81C3B0#32, 0xBE8A008C#32, 0x3CEC481D#32, 0xBDA6DEED#32, 0xBD438B25#32, 0x3E01AAA4#32, 0x3DF609BF#32,
      0x3D925782#32, 0xBDA60E22#32, 0xBE01D474#32, 0xBC61764A#32, 0xBE082D68#32, 0x3DB30684#32, 0xBE0BE5C9#32, 0x3D6EE895#32,
      0x3CE8E049#32, 0x3DC5343F#32, 0x3C1B6997#32, 0x3D70B517#32, 0x3D2CDCE4#32, 0xBE0893AC#32, 0xBBB41802#32, 0x3D7F4597#32,
      0x3D0E6901#32, 0xBD07DABB#32, 0x3CB642DC#32, 0xBE4C5352#32, 0xBDE74228#32, 0x3CF9F5D6#32, 0x3DB63895#32, 0x3D73E98D#32,
      0xBD16A34B#32, 0xBD883C29#32, 0x3C96C951#32, 0x3C119569#32, 0xBD41AE91#32, 0xBD8262CB#32, 0xBCA362CC#32, 0x3B080934#32,
      0xBC0D313F#32, 0x3DB11254#32, 0xBDB14719#32, 0x3E1605A0#32, 0x3E014A30#32, 0xBBB0DA27#32, 0x3DB7B7F7#32, 0x3D65EC34#32,
      0x3CE9E5F8#32, 0xBD9CDA63#32, 0xBB0FD425#32, 0xBD835588#32, 0xBD7B35DA#32, 0x3DB99E48#32, 0xBDCC55AC#32, 0xBD29D90F#32,
      0x3DBDBF65#32, 0x3D247445#32, 0x3C303096#32, 0x3C80A8B1#32, 0xBD92E61C#32, 0xBDA1E21C#32, 0xBDD2583A#32, 0x3C8836C4#32],
    ![0x3DDA1FF7#32, 0x3E22C0C7#32, 0x3D998EC7#32, 0x3DA98458#32, 0x3E348982#32, 0x3C25CCB8#32, 0x3BE3DB6F#32, 0xBDD46710#32,
      0x3D8E4920#32, 0xBE10B5D6#32, 0xBC815214#32, 0x3D9FC646#32, 0x3C60A97C#32, 0x3D9F3DA7#32, 0x3D20E89C#32, 0x3BE7A945#32,
      0x3D0A405F#32, 0xBD9FA6C3#32, 0xBE33919A#32, 0xBC3D3715#32, 0x3D1E2B4C#32, 0xBDE41514#32, 0xBD36B6C9#32, 0xBCD9700D#32,
      0xBD4CEEEA#32, 0x3DDDBFEC#32, 0x3E2E64CD#32, 0x3DA2FD4F#32, 0xBDF13F65#32, 0xBD2B2FD9#32, 0x3E1D9E18#32, 0x3C0608C5#32,
      0xBDD0682A#32, 0x3D9B828D#32, 0xBD8D228E#32, 0x3D21C868#32, 0x3E3BC8B1#32, 0xBC1222A8#32, 0xBC2A5886#32, 0x3A17E1D0#32,
      0xBD8D8E24#32, 0xBD968B6F#32, 0x3C7047CB#32, 0xBDAC1609#32, 0xBE0F29FB#32, 0x3D9FB7E2#32, 0x3E3F20FD#32, 0x3CEAD16B#32,
      0xBE25700C#32, 0xBCF4649C#32, 0xBBF4C49B#32, 0x3D3DD781#32, 0x3D1D4808#32, 0x3CDAACC8#32, 0x3E424401#32, 0x3D3D24A7#32,
      0x3B8071CC#32, 0x3D3B28C3#32, 0x3DFF74B9#32, 0xBCFD9ED0#32, 0xBC18D5D4#32, 0x3D34F03F#32, 0xBDFD4B62#32, 0xBCDDE82D#32,
      0x3E2F4586#32, 0xBD0EC980#32, 0xBB61C0BE#32, 0x3DDA3A3E#32, 0x3E191198#32, 0xBD113A67#32, 0x3DE7D634#32, 0x3DDA30C1#32,
      0x3E38B526#32, 0x3DFBF89C#32, 0x3D0CFB47#32, 0xBD6EB373#32, 0x3D1D090B#32, 0x3BBC6E6B#32, 0x3D24DBA4#32, 0xBD6716B9#32,
      0xBB204333#32, 0x3C0F7A71#32, 0xBC3D3984#32, 0x3E1A64A2#32, 0xBE044529#32, 0xBDF0C7A9#32, 0x3D40BD7E#32, 0xBD041AF3#32,
      0x3D88CC22#32, 0x3E3A2886#32, 0x3CCEF86E#32, 0xBE107562#32, 0x3DF83418#32, 0x3E2BD178#32, 0xBE3F4100#32, 0x3C274088#32,
      0x3CB73603#32, 0x3E1CC840#32, 0x3DCA84F1#32, 0x3DCD3EEB#32, 0xBD13B3A1#32, 0xBD02E9A4#32, 0xBDDC5BE5#32, 0xBE137ED3#32,
      0x3DA22844#32, 0xBDBF9C2B#32, 0x3D74A940#32, 0xBCAB3BB8#32, 0xBCE8953C#32, 0xBD0F0130#32, 0x3DCD0332#32, 0xBD87C4A7#32,
      0xBD03AF19#32, 0x3DA721F9#32, 0xBD4E799C#32, 0x3C78F841#32, 0x3C093F09#32, 0xBD3446F1#32, 0x3DB754C1#32, 0x3E09586A#32,
      0x3DF434FE#32, 0xBDB4F443#32, 0x3D8314CF#32, 0xBCDAF200#32, 0xBCB80E0E#32, 0x3D3C8DC7#32, 0xBDF3CCFA#32, 0xBD818A1D#32],
    ![0x3D1E9638#32, 0x3C9C7372#32, 0xBD59E4AB#32, 0x3DA5C920#32, 0x3D72ACCB#32, 0x3E195656#32, 0x3E5B941A#32, 0x3D410D31#32,
      0xBC8BB790#32, 0xBD2FE734#32, 0x3DABCF4F#32, 0xBE070ADA#32, 0xBDFFACF1#32, 0xBAD16692#32, 0x3C891155#32, 0x3CAEF6FC#32,
      0xBD6A8AB5#32, 0x3DD2241D#32, 0xBE63CB06#32, 0xBCAD83D1#32, 0xBE51622D#32, 0xBDE3637B#32, 0x3D3D0005#32, 0x3E11E94F#32,
      0x3B17D2DA#32, 0xBE16516D#32, 0xBC0CDCE1#32, 0x3D9DD554#32, 0xBD3415BC#32, 0x3BDC3704#32, 0x3DF99EBA#32, 0xBD946AF8#32,
      0x3E5ACEDF#32, 0xBD07260E#32, 0xBE17D7FB#32, 0xBDDAD29B#32, 0xBE20D92E#32, 0xBD72640E#32, 0xBD71309D#32, 0xBD744E31#32,
      0xBBC665EB#32, 0xBC928FB2#32, 0xBD928EC9#32, 0x3DB87768#32, 0xBD8E7AC2#32, 0xBD4726A7#32, 0x3C4E2B07#32, 0xBD8D762B#32,
      0xBDDE2D9D#32, 0x3D5F8217#32, 0xBCF79547#32, 0xBDE7152C#32, 0xBBEDA861#32, 0x3D7734F7#32, 0x3E0945FA#32, 0xBD90137B#32,
      0xBC9F0A96#32, 0x3DB5E2E2#32, 0x3D63AFEF#32, 0xBC658687#32, 0x3DCCF849#32, 0x3DD1BA23#32, 0x3B8E4B6F#32, 0x3C0ADD1F#32,
      0xBDE8D928#32, 0xBD4AE8B0#32, 0x3E26CCAA#32, 0xBE7C8F90#32, 0x3D26AF80#32, 0xBCCBD61A#32, 0xBBF6D52C#32, 0xBCEFE184#32,
      0x3D92A191#32, 0xBE2B703C#32, 0x3DE037FC#32, 0x3D0B40EC#32, 0xBE14D943#32, 0xBDB07408#32, 0xBCF1B57F#32, 0x3C5519F8#32,
      0x3DEE9DAF#32, 0x3DC506CE#32, 0x3DB9D240#32, 0xBC5C4AA0#32, 0xBDAF1007#32, 0x3DFB0EC9#32, 0xBCB0EED6#32, 0x3D995214#32,
      0xBD81355A#32, 0xBC4F7E20#32, 0x3E0C6FF6#32, 0x3CA88079#32, 0x3DB858BD#32, 0x3DCFF274#32, 0x3D29DF7E#32, 0xBD1AC040#32,
      0x3E0E8267#32, 0xBD8234CF#32, 0x3D9CC0A8#32, 0xBDBCC7DF#32, 0xBD0FABC1#32, 0xBD21E617#32, 0xBD7EBD80#32, 0x3D85E631#32,
      0xBD4C4B86#32, 0x3D9B70E2#32, 0x3C251EBA#32, 0xBD9F648E#32, 0xBC95896B#32, 0x3D930898#32, 0x3DC629E0#32, 0xBD854ECC#32,
      0xBDC9B832#32, 0xBE8A31DB#32, 0x3D2DF64D#32, 0xBB8BD299#32, 0x3DC03DEB#32, 0x3C4DCBA6#32, 0xBDF69895#32, 0xBCFCEB12#32,
      0x3E3C94F2#32, 0xBDAC2898#32, 0xBD2B35AA#32, 0x3B96DC57#32, 0xBE28E222#32, 0x3E75D297#32, 0xBD000E7C#32, 0x3D07F34E#32],
    ![0x3D813F94#32, 0xBD90B5AA#32, 0xBE153923#32, 0xBDDFC383#32, 0x3C19ADF3#32, 0x3DEE6C15#32, 0x3D258971#32, 0x3D50982F#32,
      0x3D07B475#32, 0x3E32DE61#32, 0x3E0E7933#32, 0xBD24FB7E#32, 0xBD5C054A#32, 0x3D13F2C8#32, 0xBD7F8107#32, 0xBB9846F8#32,
      0xBD74A608#32, 0xBCF88063#32, 0xBD85AE4E#32, 0x3D2DA4DB#32, 0xBCF65CE8#32, 0xBE67C99C#32, 0x3BAB4DB0#32, 0xBD286E9C#32,
      0x3E0EFF14#32, 0x3CF67C36#32, 0xBDF33EA5#32, 0x3DD0E970#32, 0x3D1AD399#32, 0x3D978787#32, 0xBDADFF85#32, 0xBE1B301B#32,
      0x3D998A93#32, 0xBCA4299B#32, 0x3C5ECD4E#32, 0x3D755698#32, 0xBD9ADAC7#32, 0x3E14452B#32, 0xBE1C16B9#32, 0xBD5AEB4C#32,
      0xBC890538#32, 0x3C033AAA#32, 0xBD79EAFF#32, 0x3D337A89#32, 0x3D171906#32, 0xBDD57C79#32, 0xBC225B68#32, 0x3E4143F4#32,
      0xBE12A47D#32, 0xBC96D9D3#32, 0xBE051C72#32, 0x3D82D864#32, 0x3D48CFB1#32, 0x3CCDB976#32, 0x3E29FCD2#32, 0x3E087045#32,
      0xBCEF26D3#32, 0x3E36BA3B#32, 0x3DA42CDA#32, 0xBD0A8D47#32, 0xBC4E896C#32, 0xBB2E9399#32, 0xBCC30C48#32, 0x3C70C09E#32,
      0x3DA6A5BD#32, 0x3DE4E85B#32, 0xBD9C0B6B#32, 0xBD0AE170#32, 0xBE2270AD#32, 0x3E8FB10A#32, 0x3D1A9D48#32, 0x3D18942B#32,
      0xBE83C416#32, 0x3D23A69C#32, 0xBE2C9D55#32, 0xBD2CC759#32, 0x3C9CF76C#32, 0x3E0EAE64#32, 0xBD8A5528#32, 0xBAF928A8#32,
      0xBE418686#32, 0x3D957287#32, 0x3E2C7C5A#32, 0xBDC2881F#32, 0xBC9D6D6D#32, 0x3E0CA067#32, 0xBDAF53E1#32, 0x3C7405CE#32,
      0x3D9371C1#32, 0x3DDF7DB3#32, 0x3DE30C6F#32, 0x3D5EADCE#32, 0x3E4E0944#32, 0xBC8BAE4A#32, 0xBDB6C242#32, 0xBCAE16FA#32,
      0x3D53C6AA#32, 0xBD76FCD0#32, 0x3D825F72#32, 0x3D912822#32, 0xBDA060A1#32, 0x3D001C11#32, 0xBDDCD5E5#32, 0x3DA03318#32,
      0xBD54CD64#32, 0x3D3A5F56#32, 0x3D7323A0#32, 0x3DD07989#32, 0x3E549A52#32, 0x3E3EE2DE#32, 0xBD6DA570#32, 0xBD535788#32,
      0x3C5A8103#32, 0xBA976195#32, 0x3E165BD6#32, 0xBC80D4A0#32, 0xBBC97144#32, 0xBD35AD43#32, 0x3D85BC7C#32, 0x3E810974#32,
      0x3CE2E8AF#32, 0x3E27607C#32, 0x3E6AEC93#32, 0xBD3A6AF4#32, 0xBC91921D#32, 0xBB85B82C#32, 0x3DE98100#32, 0x3D79B0AC#32],
    ![0x3E153DD2#32, 0x3DA88D63#32, 0xBC395F6F#32, 0xBBCB645B#32, 0xBD980900#32, 0x3DAB562A#32, 0xBE0BC3E1#32, 0x3DBAB8FD#32,
      0x3DB176DC#32, 0x3E37D2A7#32, 0xBD514A93#32, 0x3DB9B9D5#32, 0x3E06E1D8#32, 0x3E133BD6#32, 0x3C0F421D#32, 0x3D89ED94#32,
      0x3DC6B998#32, 0x3D99C204#32, 0x3CBE9146#32, 0xBCC2ADAF#32, 0xBE03171D#32, 0xBC9B1610#32, 0xBE219BDA#32, 0x3E0887B2#32,
      0x3E37A638#32, 0x3D126343#32, 0xBCB9FCDC#32, 0xBC8DE54D#32, 0x3CFCFBB2#32, 0x3CCF96E4#32, 0x3D56A153#32, 0x3DBD5E42#32,
      0xBE256153#32, 0xBE0280E9#32, 0xBE0862A8#32, 0xBD482373#32, 0x3C147EB3#32, 0xBCDA1E68#32, 0x3E0EEFA3#32, 0x3DA25A2F#32,
      0x3C18236A#32, 0x3E49E6BB#32, 0xBD3900C9#32, 0xBD8F2F5A#32, 0x3DE82961#32, 0xBD903097#32, 0xBDB8ECDE#32, 0xBCAFEA25#32,
      0x3C20C65F#32, 0x3AA1BFF0#32, 0xBD57A701#32, 0x3A0E3DA0#32, 0x3E0E09AC#32, 0x3DE3CAA2#32, 0x3DC4E9B6#32, 0x3D8D1A87#32,
      0x3DB96326#32, 0xBDD8913F#32, 0xBDA12391#32, 0xBD892A93#32, 0x3DA81606#32, 0x3D6C7851#32, 0xBBF09D52#32, 0xBB8D3BE3#32,
      0xBE0B2B76#32, 0xBE1A1386#32, 0x3DC449FC#32, 0xBD61559C#32, 0x3DAF252C#32, 0x3E17AF55#32, 0xBE044FA4#32, 0x3DBAC9E6#32,
      0xBCD44AD7#32, 0xBC09E256#32, 0x3D98DB09#32, 0x3DFBE7F3#32, 0x3D6C563A#32, 0xBC68AB73#32, 0x3D4D7C0B#32, 0x3D8E5359#32,
      0xBDC97891#32, 0xBC7C6265#32, 0xBD601A5C#32, 0x3B973070#32, 0xBC8E0203#32, 0x3E592464#32, 0xBC25E387#32, 0x3D87919B#32,
      0x3DAC77C5#32, 0xBDC8B524#32, 0x3B93C5BC#32, 0x3BFBA4DC#32, 0xBD21DCD9#32, 0xBD456C9D#32, 0xBD4A77F1#32, 0x3E08FC50#32,
      0xBD9A6C1A#32, 0x3D470D6F#32, 0x3DE47134#32, 0x3C962F4F#32, 0xBD703B5E#32, 0x3D8D0247#32, 0xBD7A6D42#32, 0x3D58CE22#32,
      0xBD10E8C6#32, 0x3A88C11B#32, 0xBD86FEE6#32, 0xBD89DCDA#32, 0xBDAC2F88#32, 0xBD8A18D1#32, 0x3D0A3121#32, 0x3D92D65B#32,
      0xBDC1DF69#32, 0x3BD80B13#32, 0x3CF8B577#32, 0x3D695524#32, 0x3CE658E8#32, 0xBC635A12#32, 0x3E62C1B8#32, 0x3CBF3420#32,
      0x3E518E3D#32, 0x3D721329#32, 0x3E811406#32, 0x3B083CE7#32, 0xBD15D4B3#32, 0x3C3E93E8#32, 0x3D3402B6#32, 0x3C55B730#32],
    ![0xBD3FB0FF#32, 0xBC872E60#32, 0xBD4DA168#32, 0xBE1E7F59#32, 0xBDA36FDA#32, 0x3C8C12DB#32, 0x3BC7D494#32, 0x3DD82454#32,
      0xBDF10B9F#32, 0x3DA943B2#32, 0x3D35BB77#32, 0xBB88F9CD#32, 0xBDDC92E7#32, 0x3D497FFC#32, 0xBD3A9BC9#32, 0xBDEFA0D0#32,
      0xBC8F2D1D#32, 0x3DB319F0#32, 0xBE1DB857#32, 0x3D287211#32, 0xBD442F1C#32, 0x3D61261D#32, 0x3C73CC2E#32, 0xBDEB76D1#32,
      0xBDE3E65D#32, 0x3DB47C39#32, 0x3DDAF2D9#32, 0x3DD85E1C#32, 0xBA18BE6A#32, 0xBC40D1F8#32, 0x3D792DF8#32, 0xBBAC65B3#32,
      0xBE6E8302#32, 0x3DE1C369#32, 0x3D92EEC3#32, 0x3CBA649D#32, 0x3E5B1074#32, 0xBC2ACBF0#32, 0xBBC26459#32, 0x3CC7AE1A#32,
      0x3D9F8263#32, 0x3CBB275E#32, 0xBCD6535A#32, 0xBBE619B3#32, 0xBDECDB0E#32, 0x3BD875B9#32, 0x3DBF0A02#32, 0x3D923240#32,
      0x3D4DF663#32, 0x3D8C7D92#32, 0xBD6EBB21#32, 0x3D7BCEAC#32, 0xBDEE0663#32, 0x3E3C0879#32, 0xBDF08318#32, 0x3DCBC67A#32,
      0x3CCD800B#32, 0xBDA120C8#32, 0x3E3582B0#32, 0x3DD82407#32, 0xBC541362#32, 0xBE22CE15#32, 0xBAAAAB3B#32, 0x3E75D2CF#32,
      0x3E0E80CB#32, 0xBDEDF774#32, 0x3D2C719E#32, 0x3C718749#32, 0x3DEED53C#32, 0x3D8EE90F#32, 0x3D059B66#32, 0x3D107EFB#32,
      0x3E3E5790#32, 0xBDF98C35#32, 0xBDC6D8A8#32, 0x3D773D6F#32, 0x3DA30C80#32, 0xBDAEBAC8#32, 0x3C9DC47C#32, 0xBD8FE618#32,
      0xBB50E013#32, 0x3D61A781#32, 0xBBF042CE#32, 0xBCB1D5F4#32, 0xBDA2E2BA#32, 0x3D8221AC#32, 0xBD8E6C80#32, 0xBDB42D42#32,
      0xBD8CB647#32, 0xBE26D179#32, 0x3DB2E26C#32, 0x3E565081#32, 0x3E0E7D56#32, 0xBDD46E98#32, 0xBD957AC0#32, 0x3D252AD8#32,
      0xBDE21A5F#32, 0xBD753681#32, 0xBDB28CA6#32, 0xBE07CFF4#32, 0x3DB9E268#32, 0x3DEA7A2A#32, 0xBD50AF18#32, 0x3D8F3361#32,
      0x3D06F64F#32, 0xBD722970#32, 0xBDC8EA1E#32, 0xBD070DAB#32, 0xBCCF03C8#32, 0xBDB0089B#32, 0x3CEC93DC#32, 0xBE3730F4#32,
      0xBD11718D#32, 0xBDB83A01#32, 0x3E3770C1#32, 0x3B04F023#32, 0xBD844CA0#32, 0x3C244984#32, 0xBCDFEAD7#32, 0xBDEFD30B#32,
      0xBD33F4F5#32, 0x3DA9AB0E#32, 0xBD211CC2#32, 0xBD92E4CE#32, 0xBD416B8A#32, 0x3D4A4DBE#32, 0x3B67A7A5#32, 0x3BAF5B7B#32],
    ![0x3C0CD6CC#32, 0xBACDD0F6#32, 0xBDC6C28F#32, 0xBB0FB8E8#32, 0xBE86A9BA#32, 0x3DDD8AD8#32, 0x3C78816E#32, 0xBD0EDF99#32,
      0xBCCEBC34#32, 0x3CADB074#32, 0xBD318F17#32, 0x3D292222#32, 0xBE3FB4B5#32, 0x3C505FCD#32, 0x3DD73E5A#32, 0xBD5CA2B6#32,
      0xBE5ADDDD#32, 0xBD660431#32, 0x3DEE6C66#32, 0xBE4D1344#32, 0x3D025111#32, 0xBE32AF69#32, 0x3D2FB242#32, 0x3E752604#32,
      0x3CA98DB0#32, 0xBDA52754#32, 0xBD433824#32, 0x3D89EC8F#32, 0xBE0C62E5#32, 0xBDDABB05#32, 0x38C462CD#32, 0xBDBDDA4B#32,
      0x3E0049AF#32, 0xBCA199EB#32, 0x3D02FFE6#32, 0xBDE7A9D2#32, 0xBD8BF41F#32, 0x3DE61662#32, 0xBE0FA137#32, 0xBD6B1770#32,
      0xBD8A62F6#32, 0xBD715C0A#32, 0xBC204F42#32, 0x3D60C3B1#32, 0xBD8C3120#32, 0xBDEF0AC2#32, 0x3E4A673E#32, 0xBD562340#32,
      0xBE07463B#32, 0x3DAE3C39#32, 0xBC3B7D37#32, 0xBD82850E#32, 0xBDA74F60#32, 0x3E058636#32, 0x3DA86D75#32, 0xBE026D32#32,
      0x3DFE8A33#32, 0xBE31553D#32, 0x3C15854F#32, 0xBCC6DC28#32, 0xBD82AEDB#32, 0x3DC05772#32, 0x3B9429C6#32, 0xBD12BD86#32,
      0xBDBD0815#32, 0x3DB7F605#32, 0xBDA14851#32, 0xBCF0D19F#32, 0x3DDE12B2#32, 0x3D1BF8F9#32, 0xBE1F9499#32, 0x3DD2FBE2#32,
      0x3DA2814C#32, 0x3BE8D26F#32, 0x3CC42A19#32, 0xBE007E99#32, 0x3D17293F#32, 0xBD767BD5#32, 0xBC4A91B1#32, 0x3C009464#32,
      0x3C951E40#32, 0x3D93B0F9#32, 0xBC35ED70#32, 0xBD806E59#32, 0x3D2037C1#32, 0x3D976B78#32, 0x3C2A7E34#32, 0x3CCBF393#32,
      0x3D8E9D9F#32, 0x3E3FB340#32, 0x3C22617F#32, 0x3E0D46B5#32, 0xBE62BE01#32, 0xBBD65D20#32, 0x3BDB3F3A#32, 0xBCB12ACB#32,
      0x3D57D886#32, 0x3D59D8CB#32, 0x3D54FC76#32, 0xBD1BDA03#32, 0xBD42CF31#32, 0x3CF2EC1C#32, 0xBDD56CA6#32, 0xBCC6E3FB#32,
      0xBDEE904D#32, 0x3E8017FA#32, 0x3C9FB4FC#32, 0x3CE9FD47#32, 0xBD8F290A#32, 0x3D56B310#32, 0xBD7F5D38#32, 0xBCC23480#32,
      0x3D3B5950#32, 0xBDF881D5#32, 0x3DB9CCDC#32, 0xBB07ECCF#32, 0xBD767739#32, 0x3DD99E4E#32, 0x3E2F5753#32, 0xBCB602B0#32,
      0xBE1671F0#32, 0x3E765A36#32, 0x3E295914#32, 0xBBD19B6E#32, 0x3D6127E8#32, 0x3E4EBDD6#32, 0xBD20697F#32, 0x3B299565#32],
    ![0xBE0232C7#32, 0x3D2BFF0A#32, 0x3DDB5824#32, 0xBE19B0A5#32, 0x3D6A3688#32, 0xBD9769E7#32, 0xBC62028A#32, 0x3CA614B8#32,
      0x3D14962B#32, 0xBE445D2B#32, 0xBD77A617#32, 0xBDACE8BF#32, 0xBE3E2FAC#32, 0x3C591A64#32, 0xBE072D01#32, 0xBD8EB35E#32,
      0xBD49545A#32, 0xBDA020C1#32, 0x3D72634C#32, 0xBDAC507A#32, 0xBDD81794#32, 0xBB7E9EB9#32, 0x3D8D5C62#32, 0xBDB53CEC#32,
      0x3DB2506D#32, 0x3DDE66F7#32, 0x3E13BA61#32, 0x3D9FBB45#32, 0xBD56FA4A#32, 0xBD03E77C#32, 0xBDC6EF7B#32, 0x3CFFD34D#32,
      0x3DC99573#32, 0x3CCCCD79#32, 0xBDD2DB0E#32, 0x3DECB6CD#32, 0xBE5AA569#32, 0x3E27DB5D#32, 0x39B20F36#32, 0x3DDD31C5#32,
      0x3D898397#32, 0xBDF5A681#32, 0xBE3A1183#32, 0xBC8F8E73#32, 0xBDA8CBFA#32, 0x3D74A12C#32, 0xBE0B972E#32, 0xBD5F51AB#32,
      0x3D7BFB18#32, 0xBD30CEF2#32, 0xBBA16108#32, 0x3DBBCB9F#32, 0xBC457619#32, 0x3E13DFB9#32, 0xBDED1427#32, 0xBD1DA8DB#32,
      0x3E1BFE55#32, 0x3C443252#32, 0x3E6A53C7#32, 0x3E35BF8F#32, 0x3B8D0B7D#32, 0x3CCC7A19#32, 0x3DB93537#32, 0x3DBC9C9F#32,
      0x3DCA835B#32, 0xBD1148D9#32, 0xBDB4F1C1#32, 0xBD54883D#32, 0x3D9B2D31#32, 0xBE06507C#32, 0x3D3EA944#32, 0x3CF3A749#32,
      0xBDE71B87#32, 0x3D98F618#32, 0xBD86C3B2#32, 0xBDD8B77E#32, 0x3BB5148F#32, 0xBCDC3178#32, 0x3DE47D8F#32, 0x3D8046B7#32,
      0xBDE22220#32, 0xBBCD3327#32, 0xBDC6EBB3#32, 0x3DCFA373#32, 0xBD053BD2#32, 0x3DA98135#32, 0x3E207397#32, 0xBDC6E0C9#32,
      0x3DC153C7#32, 0x3CFD41C3#32, 0x3C982B08#32, 0x3DEAD701#32, 0xB8D5D633#32, 0xBE152BD2#32, 0x3D9CA6C9#32, 0xBE32E128#32,
      0x3DFB53FA#32, 0xBD9501B2#32, 0x3E0B76AC#32, 0xBD832EB3#32, 0xBDD28EEC#32, 0x3DCC4E14#32, 0xBDE1E8C8#32, 0x3DD374CD#32,
      0x3D6E3E92#32, 0xBB0BCB00#32, 0xBE1F38E0#32, 0x3D028A8D#32, 0x3E1AC74A#32, 0x3C93BAC4#32, 0x3C56A763#32, 0xBC63CA73#32,
      0xBD87682A#32, 0xBD3F681A#32, 0x3E6CBE6A#32, 0x3CAA297C#32, 0xBD3DEF18#32, 0xBDC47E14#32, 0xBD1EB4F7#32, 0xBC446108#32,
      0xBD61B3E0#32, 0xBE20B812#32, 0xBDE2DE0D#32, 0xBD388C61#32, 0xBC0143C5#32, 0x3CB93AFC#32, 0xBC90603F#32, 0xBD37A741#32],
    ![0x3E06C04D#32, 0xBCE75BB0#32, 0x3DA31D51#32, 0x3C624B67#32, 0xBDD487B1#32, 0x3DD82144#32, 0xBDB20D7D#32, 0x3B9E60D1#32,
      0x3D394D1B#32, 0xBD663C6A#32, 0x3CA44347#32, 0xBD0A5F2D#32, 0xBDA6C8D8#32, 0xBC0970AF#32, 0xBE2C6DE0#32, 0x3D9F2A2C#32,
      0x3E104462#32, 0xBE466766#32, 0xBC41A071#32, 0xBCA3E746#32, 0x3D156566#32, 0xBD846F43#32, 0xBC7CFE60#32, 0x3D0B0544#32,
      0xBC612517#32, 0x3DE78566#32, 0x3DDE6A80#32, 0xBC49C0B9#32, 0xBD9791A4#32, 0x3E596D8C#32, 0xBB6AFC74#32, 0x3C7349D8#32,
      0x3D04EB42#32, 0xBC5DF42D#32, 0xBE2ADC9A#32, 0x3E377015#32, 0x3CD0C371#32, 0x3C81D6E4#32, 0xBDC854CF#32, 0x3B912A12#32,
      0xBDC34E18#32, 0x3E138C30#32, 0xBD694528#32, 0xBB9B8FC6#32, 0xBE92DF70#32, 0xBB6DEBE8#32, 0x3D9492B9#32, 0xBBF11CDF#32,
      0xBD4D73E5#32, 0x3BC09DDF#32, 0xBD171A59#32, 0x3DCD2E03#32, 0xBE63DDBF#32, 0xBD87353E#32, 0x3DAE4E47#32, 0x3CFFD6F7#32,
      0x3DBEB7C4#32, 0xBDF8F97F#32, 0xBD3644B2#32, 0x3C3496E7#32, 0xBC375EEC#32, 0x3A5B7B06#32, 0xBB4F3828#32, 0xBD3C38FF#32,
      0x3B502720#32, 0x3D2B352C#32, 0x3DB54730#32, 0x3DA8FAEE#32, 0xBDD0647F#32, 0x3D3E37F3#32, 0x3DFF244E#32, 0xBCFA9340#32,
      0x3DCAE0A3#32, 0xBD0B8924#32, 0xBD8A5689#32, 0x3DA0C26E#32, 0x3CECD3FA#32, 0x3D273A57#32, 0x3CBCCB9F#32, 0xBCCA4C70#32,
      0xBC94004F#32, 0x3DA2F795#32, 0x3DAF66AA#32, 0x3D5BF376#32, 0xBD2AF6D9#32, 0xBDE1E875#32, 0xBC067C16#32, 0x3D191737#32,
      0xBCF544E1#32, 0x3E0129E6#32, 0x3CD40459#32, 0x3AEF36EB#32, 0xBE126035#32, 0x3E4609F1#32, 0x3BDC430D#32, 0x3D3697CA#32,
      0xBCE3754D#32, 0xBD422623#32, 0x3E3A627D#32, 0x3E1FA1AB#32, 0x3C231918#32, 0x3DFA9E5C#32, 0xBE1C467D#32, 0x3C6A62CA#32,
      0xBD5477A3#32, 0x3DC48D43#32, 0xBD9CBD3F#32, 0x3C4B9631#32, 0x3CB8DA9E#32, 0xBCC094BC#32, 0x3C94B6D7#32, 0x3DB2C44B#32,
      0xBC652946#32, 0xBE203352#32, 0x3E4DE3ED#32, 0xBD737209#32, 0xBC9ECD99#32, 0x3D341B9A#32, 0xBD93C61F#32, 0x3D2D22A8#32,
      0xBDD65A97#32, 0xBCBCFF51#32, 0xBCCD0F95#32, 0xBE32B4A0#32, 0xBE031256#32, 0xBBD3A9EA#32, 0x3DD50F6C#32, 0xBC9CF052#32],
    ![0xBCF314EA#32, 0xBD8DC543#32, 0xBDEAB836#32, 0xBD454CB2#32, 0x3E2D5000#32, 0x3DB34536#32, 0x3D718C52#32, 0x3D8AE4C0#32,
      0x3CC9F67C#32, 0x3DDA1109#32, 0xBE10D562#32, 0xBE03733E#32, 0x3C29E00E#32, 0x3DCA7F6D#32, 0x3D8E50DF#32, 0x3BC012AC#32,
      0xBD4EAB26#32, 0xBDB32827#32, 0xBD9B74B4#32, 0xBDC02FAD#32, 0xBAD4E7E1#32, 0xBC8D2A1F#32, 0xBE0BDCB4#32, 0xBCA06908#32,
      0xBCF5FF71#32, 0xBD78C8DE#32, 0xBD9E4354#32, 0x3C93DD58#32, 0xBD3FE147#32, 0x3E063A34#32, 0xBD9FA184#32, 0xBDFDA7E5#32,
      0xBBBFF4BB#32, 0xBCFDA70F#32, 0xBDE5E2ED#32, 0x3C1B5335#32, 0xBC677D2E#32, 0xB9FFAC3D#32, 0xBDC670E0#32, 0x3D82D16D#32,
      0x3E243504#32, 0x3D1AE40B#32, 0xBD5DBA4C#32, 0xBCB082CE#32, 0xBACE1E80#32, 0x3D114F84#32, 0xBC854D8B#32, 0xBD770108#32,
      0xBD29332D#32, 0x3E0A4FAF#32, 0x3D6D85F9#32, 0xBD7C3345#32, 0xBD72FB5A#32, 0xBB51942A#32, 0xBDB91CE3#32, 0x3E0199B3#32,
      0x3E30C27B#32, 0x3DD4DB57#32, 0x3DE98F81#32, 0xBE15DB9B#32, 0xBD2DD10A#32, 0xBE101DCF#32, 0xBD921C81#32, 0xBDDE9420#32,
      0x3CADDBE1#32, 0xBDD5C7C8#32, 0x3C73A976#32, 0xBE621BE4#32, 0xBE194DBE#32, 0xBCEA660A#32, 0x3DA5499E#32, 0x3E675BE0#32,
      0xBE15CB4A#32, 0xBC00A596#32, 0xBE03F5B7#32, 0x3D0597B7#32, 0x3E195D5A#32, 0x3D849CBF#32, 0xBDB694FB#32, 0x3E227175#32,
      0xBE324E72#32, 0xBD468D60#32, 0x3C5E29C7#32, 0xBDE40C07#32, 0xBC263E12#32, 0x3CF559F4#32, 0x3D49FACB#32, 0x3DCEBA36#32,
      0xBC8B7CD1#32, 0x3DE5CF5A#32, 0xBE3B50B2#32, 0x3DE3EF47#32, 0x3DD0B912#32, 0x3D8FA31D#32, 0xBD07FB6A#32, 0xBDCB984B#32,
      0xBE106273#32, 0x3DFBE085#32, 0xBDE40A68#32, 0xBE289531#32, 0x3DA1CDB2#32, 0xBDA1A598#32, 0x3D5D66F3#32, 0xBD9C95FF#32,
      0x3DBA42B0#32, 0x3D772DAB#32, 0x3D8E26DF#32, 0x3DC6380E#32, 0xBD8C04DC#32, 0x3D1A9779#32, 0xBD1EC6CE#32, 0xBD946EB9#32,
      0xBD630868#32, 0x3DC18918#32, 0x3DD71A87#32, 0xBD10AB55#32, 0x3E3F34E4#32, 0x3D94002D#32, 0xBAD938E8#32, 0xBD9DA898#32,
      0xBD356C53#32, 0xBD940F02#32, 0x3B97BCEB#32, 0xBB335F46#32, 0x3D75A62C#32, 0xBA36B304#32, 0x3DB25C39#32, 0x3E0F3515#32],
    ![0x3D40E15E#32, 0x3D8FE8D8#32, 0xBE594CC0#32, 0x3BBB791D#32, 0x3D1E5602#32, 0x3C29DC74#32, 0xBC022E63#32, 0x3C7FEE1E#32,
      0x3CAC56C0#32, 0x3DF327E7#32, 0xBDACBB09#32, 0xBE2A9A0D#32, 0x3DEC66DA#32, 0xBBB9C61F#32, 0xBD196FA4#32, 0xBDA20D45#32,
      0xBE034CC5#32, 0xBD3E8C03#32, 0xBD200D17#32, 0x3E115B7D#32, 0x3D31038D#32, 0x3DC5CC7A#32, 0x3DEF8033#32, 0x3B1524D8#32,
      0xBDD5E7B8#32, 0x3E025D2D#32, 0x3DE9CE98#32, 0x3E1AB8B2#32, 0xBD57EF8B#32, 0x3D8B8EF9#32, 0xBC3EC7B9#32, 0x3CEF2840#32,
      0xBB2CE373#32, 0xBE5A2B8E#32, 0xBDBB86F7#32, 0xBE03B20A#32, 0x3D917EC4#32, 0x3C0D3F53#32, 0xBC6874B1#32, 0xBDB50797#32,
      0xBC68BBAE#32, 0x3E25E91D#32, 0xBE0DCC74#32, 0x3D2DE108#32, 0x3CBC5121#32, 0x3CCB4DC9#32, 0xBE245549#32, 0x3C1DC1A9#32,
      0x3DB97A6E#32, 0xBC63A912#32, 0xBCA3B489#32, 0xBDF4DD78#32, 0x3C7FE4C1#32, 0xBE13786D#32, 0xBDCB7529#32, 0x3C931688#32,
      0x3D5CE27A#32, 0x3DF67C02#32, 0xBCAA6B61#32, 0x3D6621E3#32, 0xBD739A4B#32, 0x3DC1412B#32, 0xBE1AFE26#32, 0xBDB86934#32,
      0xBC9631DE#32, 0xBDB1BB77#32, 0xBC2C9A1F#32, 0xBD3D0219#32, 0xBB45D345#32, 0x3C7E16EC#32, 0xBDCA2A40#32, 0xBD63EB2E#32,
      0x3CEAE800#32, 0x3C2BD322#32, 0xBD160BFB#32, 0x3D98BBBC#32, 0xBCC7602A#32, 0x3DB1D1F9#32, 0xBD97EED6#32, 0xBD5FE4ED#32,
      0xBDCB138F#32, 0x3C27DEFF#32, 0x3D375C21#32, 0xBC7B7884#32, 0xBCAD514A#32, 0xBD4CF0EA#32, 0xBE35282B#32, 0x3C85E6D0#32,
      0xBDB41D8B#32, 0xBCD5F06C#32, 0x3DFCBDA9#32, 0xBD439567#32, 0xBBEB80CC#32, 0x3DCB6FFC#32, 0xBD434342#32, 0x3D83553F#32,
      0x3E71FB5B#32, 0x3DB190B2#32, 0x3E59AADA#32, 0xBE055059#32, 0xBCF1028E#32, 0xBDD0FB18#32, 0xBDB7B74C#32, 0xBD3B0869#32,
      0xBDAE6EBE#32, 0x3D72C7D6#32, 0xBCFFC325#32, 0xBD2EAE23#32, 0xBD2241ED#32, 0x3D5055BE#32, 0xBC02CF98#32, 0x3D0FF46B#32,
      0xBC36BDD6#32, 0xBDF47826#32, 0x3DDA2D35#32, 0xBD5D174D#32, 0x3E46B94B#32, 0x3DDDCF28#32, 0xBC80E6C6#32, 0x3D2152A9#32,
      0xBDF21BE3#32, 0x3C308475#32, 0x3D94E35C#32, 0xBD5C44E2#32, 0xBD8A1D31#32, 0xBCAC5026#32, 0x3DD38C6D#32, 0x3C64F5DC#32],
    ![0xBC987B4F#32, 0x3DE56FD9#32, 0x3B6B5910#32, 0xBDFB97B5#32, 0x3DDBA796#32, 0x3D4B02AD#32, 0x3D803D80#32, 0xBD677730#32,
      0xBDC83CEB#32, 0x3D77423A#32, 0xBCB0D0D5#32, 0xBE1499F6#32, 0xBD317C8F#32, 0x3CA87D29#32, 0xBD91326C#32, 0xBDCE3DBE#32,
      0xBE3F216A#32, 0xBCCC19B8#32, 0xBDC8C8AB#32, 0x3E206EAE#32, 0xBE3F8031#32, 0x3C7828C7#32, 0x3C67EC80#32, 0xBD9CB078#32,
      0xBD658398#32, 0x3D71F188#32, 0x3E0210E7#32, 0xBD6017C8#32, 0x3D04D833#32, 0x3D81B15B#32, 0x3CD7B6B4#32, 0xBD42BA76#32,
      0xBC1253ED#32, 0x3E0FC1DC#32, 0x3B379AB0#32, 0x3E009681#32, 0x3DB628AF#32, 0xBD3457FC#32, 0xBD9C744A#32, 0xBD3EBA19#32,
      0x3C0ED3C7#32, 0xBCFC4FC5#32, 0x3D698195#32, 0x3CC7EA08#32, 0x3D64697E#32, 0x3D44EAD3#32, 0x3DE5FCAA#32, 0xBB9E9E65#32,
      0xBE421301#32, 0x3CC7CB8E#32, 0x3DDFE65E#32, 0x3D68CE77#32, 0x3D5811F5#32, 0xBD094D67#32, 0xBDBF5526#32, 0x3D08B401#32,
      0xBCB41779#32, 0xBDC6089E#32, 0xBD0999E9#32, 0xBCECD985#32, 0xBC44D690#32, 0x3E430356#32, 0x3DE487D7#32, 0x3BFD5C5F#32,
      0x3CC53FA1#32, 0xBC352D92#32, 0x3C731B8E#32, 0xBD9430E6#32, 0xBDB15B69#32, 0xBD05C9F2#32, 0x3E13D898#32, 0x3DEF2B5F#32,
      0x3C2CD13C#32, 0x3C95FFA5#32, 0xBD9082FF#32, 0x3E155093#32, 0xBD11F348#32, 0x3D4C2BEF#32, 0xBDE7C62F#32, 0x3DCA867C#32,
      0xBE0B2FDC#32, 0xBE121DA3#32, 0xBD9659D3#32, 0xBDAC8403#32, 0xBDF3DA64#32, 0x3D136C1D#32, 0xBDD7EA7B#32, 0x3D99FEB5#32,
      0xBDB3D036#32, 0xBDD3CFAB#32, 0xBD199C4B#32, 0x3CAFB825#32, 0xBD5563A2#32, 0xBDE46A0A#32, 0xBD1DB543#32, 0xBB42CF37#32,
      0xBC6500C6#32, 0xBD8A0BFE#32, 0x3C90F0C4#32, 0xBD4AA84A#32, 0x3E466A23#32, 0x3D4672C3#32, 0xBCBA8AB7#32, 0xBE23A05F#32,
      0x3CF1BB1D#32, 0xBA885006#32, 0xBDCA8BBD#32, 0x3DEFE882#32, 0xBDD6FB01#32, 0x3D61FE60#32, 0x3B957CED#32, 0xBCAE24D7#32,
      0x3C8B8A0C#32, 0x3D8AD433#32, 0x3D0D2336#32, 0xBE0559B4#32, 0xBE7E2A48#32, 0x3D32B751#32, 0xBC981AFD#32, 0xBD636709#32,
      0x3CD5275C#32, 0x3CED7B35#32, 0xBDE3C368#32, 0x3B3F46E5#32, 0xBDDB5828#32, 0x3C0CA70F#32, 0x3DA4A149#32, 0xBDC12804#32],
    ![0xBC8D8520#32, 0x3AC1DF0C#32, 0xBD414EA8#32, 0x3CB1F78F#32, 0x3C921B0A#32, 0xBD7291E0#32, 0xBE8FD7C3#32, 0x3DA9690F#32,
      0x3DE24163#32, 0x3A18B093#32, 0xBC27B884#32, 0x3D0CE174#32, 0x3DE8AA73#32, 0xBD2E4017#32, 0x3DF50EBC#32, 0xBD6420D2#32,
      0xBCF41D1D#32, 0xBD825249#32, 0xBDA96F81#32, 0xBE003F23#32, 0xBC93D307#32, 0xBC93AF26#32, 0x3CF951CC#32, 0x3D533937#32,
      0x3DF4B639#32, 0xBDBE9E4F#32, 0x3C492BA9#32, 0xBCBBD005#32, 0xBD6B753F#32, 0xBD6E60ED#32, 0x3AC78ED7#32, 0x3C3F5C6B#32,
      0x3D775DB1#32, 0x3D003E8A#32, 0xBDEB8019#32, 0x3D35F217#32, 0x3C026FC3#32, 0x3DC99B27#32, 0x3B25FD40#32, 0x3E1D9A30#32,
      0xBC3CD18F#32, 0x3D7E1174#32, 0xBC571BE3#32, 0x3C59114D#32, 0x3CB8561D#32, 0xBC63D27E#32, 0x3DF8C631#32, 0x3D50C86C#32,
      0x3E069825#32, 0xBCB4C4DF#32, 0xBDA9C31E#32, 0x3D777D36#32, 0x3D4A195D#32, 0xBC4FBBDB#32, 0xBE78806E#32, 0x3DD10152#32,
      0xBBB98A02#32, 0xBB0349FC#32, 0x3E280C06#32, 0xBE312096#32, 0xBC17FC9F#32, 0xBCF58D90#32, 0x3B690D1E#32, 0x3C0B8D98#32,
      0xBDB2025C#32, 0xBD52D481#32, 0x3CFC66DE#32, 0x3D8C3735#32, 0xBDE68B67#32, 0x3D2CE7EB#32, 0xBDFB2F81#32, 0xBB9ECCD8#32,
      0xBC71C941#32, 0xBBA3AA62#32, 0xBDB2BCE4#32, 0xBD800BF6#32, 0xBD66BFD8#32, 0x3CFB7CD1#32, 0xBDA18FC0#32, 0xBDAEB184#32,
      0xBE1CB95A#32, 0x3E1FEC56#32, 0x3DF31127#32, 0x3DD7D480#32, 0x3D7AE01C#32, 0x3DD6014C#32, 0xBD86BB1D#32, 0xBCDC0951#32,
      0xBA9208A5#32, 0x3D36779E#32, 0x3D754D0C#32, 0xBC9292CF#32, 0x3D682ACB#32, 0x3DF18FD7#32, 0x3DB5ACC6#32, 0xBB92BE04#32,
      0x3B1D8C29#32, 0xBE202FFD#32, 0x3C9A1A1F#32, 0xBCDF8B79#32, 0x3D2CC7B7#32, 0xBE071FB0#32, 0xBD8B68F2#32, 0xBCDC3D45#32,
      0x3DAC398A#32, 0xBE5FD007#32, 0xBDFB419F#32, 0x3B694D51#32, 0x3DDDF27F#32, 0x3D34AE4E#32, 0x3C53F91B#32, 0xBDDA12CC#32,
      0xBDD8D653#32, 0xBE26A94A#32, 0xBDF79873#32, 0x3E07D8A2#32, 0xBD6DE80D#32, 0x3D20772F#32, 0x3E0CD790#32, 0x3D499063#32,
      0xBC259F46#32, 0xBC3EA0A3#32, 0xBE2BE6B1#32, 0x3D8D42FA#32, 0x3E0683D5#32, 0x3D8F6BF7#32, 0x3D59218F#32, 0x3D6AF146#32],
    ![0xBD864902#32, 0xBDBC419B#32, 0xBE5CDD76#32, 0xBE24250F#32, 0x3B8B1071#32, 0xBDB69F56#32, 0x3B88B49E#32, 0x3C648F63#32,
      0xBDEAB4EB#32, 0xBE3DFFCD#32, 0xBB53EFBA#32, 0xBCE52122#32, 0x3CBC9149#32, 0xBDC0DD26#32, 0xBCB1A44F#32, 0xBD0095F9#32,
      0xBC32FB09#32, 0x3D8EE9E9#32, 0xBA50A8F2#32, 0xBC9A581F#32, 0x3BB18ADD#32, 0xBCF70464#32, 0x3D26C753#32, 0xBD5A6A69#32,
      0x3E01D747#32, 0xBD2FAC3B#32, 0x3BD034CC#32, 0xBDF11772#32, 0xBD4E509B#32, 0x3D94FC21#32, 0xBD503BA8#32, 0xBD8485EF#32,
      0xBCAD96F4#32, 0xBD4D5C13#32, 0x3E09C187#32, 0xBDF37BE5#32, 0xBDA39F66#32, 0xBD82E3AB#32, 0x3CACD062#32, 0xBDCF6D93#32,
      0x3DCD4DBB#32, 0x3D09E9D2#32, 0xBDB3E078#32, 0xBCA1DD91#32, 0x3DE4C051#32, 0xBC261536#32, 0xBD6B6874#32, 0xBD0AD684#32,
      0x3D0F2DFF#32, 0xBC98E93F#32, 0x3E1A534D#32, 0x3D0011ED#32, 0x3CDC23D5#32, 0x3DBDE4A6#32, 0x3C0E881A#32, 0x3CEA48C3#32,
      0x3DFE814C#32, 0x3E2175F4#32, 0xBDF98B46#32, 0xBC7B7D8D#32, 0xBDE5D765#32, 0xBE0F4A88#32, 0xBE1E16A8#32, 0x3D6539CB#32,
      0x3D820064#32, 0xBE09B331#32, 0x3DF3B556#32, 0xBD375817#32, 0xBE3826B8#32, 0x3D323E4C#32, 0xBE3F1D40#32, 0x3D24811E#32,
      0xBD46ED21#32, 0x3BDCA8A0#32, 0xBD807B6D#32, 0x3D94311C#32, 0xBA3A09C0#32, 0xBE174DD8#32, 0xBC1C072B#32, 0x3C1285D4#32,
      0xBCFBFA9D#32, 0x3D976791#32, 0x3C528D1C#32, 0xBCB1227D#32, 0xBE49B67D#32, 0xBD0246FB#32, 0xBD886CF4#32, 0xBE5EE2A8#32,
      0x3DD7D886#32, 0x3D565C9F#32, 0x3D913B3E#32, 0xBC3914AF#32, 0xBC32BC4B#32, 0xBD18587F#32, 0xBD2D86FC#32, 0x3D3B005F#32,
      0xBC824211#32, 0x3BA7C67B#32, 0xBD128352#32, 0x3C1A9449#32, 0xBD0792D6#32, 0xBC9B396B#32, 0x3CE2E35F#32, 0xBD9F3120#32,
      0xBDF07978#32, 0x3D07C86D#32, 0xBE3E885D#32, 0x3D3D9800#32, 0xBDFB9965#32, 0xBB560A2D#32, 0x3D56D22C#32, 0xBCB653E1#32,
      0x3D85E892#32, 0xBC7B61F1#32, 0xBD97930E#32, 0x3E03A048#32, 0x3DBF6C8E#32, 0xBD947F57#32, 0xBD46CE88#32, 0x3D8AF522#32,
      0xBE94953A#32, 0x3CCC6D8A#32, 0x3D4538C4#32, 0xBC6D2C78#32, 0xBCF685DC#32, 0xBE82E7D0#32, 0x3DB605CE#32, 0x3D977E7C#32],
    ![0xBC9C2E47#32, 0x3D3D1D76#32, 0x3DCE06FE#32, 0x3D0B5C6F#32, 0x3D91215D#32, 0x3D0B9C47#32, 0xBE712389#32, 0xBE1F23E6#32,
      0x3D2A8675#32, 0xBD545D9A#32, 0x3D7F837B#32, 0x3E0D5CEF#32, 0xBE124050#32, 0x3D4D92CE#32, 0xBC9AEE1E#32, 0x3E15B77C#32,
      0xBBCB3E31#32, 0x3E06C54E#32, 0xBD22D85F#32, 0xBDA0564C#32, 0x3BFCF5C9#32, 0x3C89DB1B#32, 0x3CAD8564#32, 0xBE31F2ED#32,
      0x3DD8EA21#32, 0x3D7C079C#32, 0xBE81370B#32, 0x3D57D51F#32, 0x3D295001#32, 0xBCD63393#32, 0x3E27ECD4#32, 0x3CA8415E#32,
      0x3D2B1B5E#32, 0xBB84D9BD#32, 0xBD68E251#32, 0xBD73A127#32, 0x3AFF8FD5#32, 0x3D53428F#32, 0x3D77D9D5#32, 0x3DD3B2D9#32,
      0x3E313035#32, 0x3D30A29B#32, 0xBD174CDD#32, 0xBC0BF4E4#32, 0x3D18BFE0#32, 0x3E74ADAF#32, 0x3E5C84CE#32, 0x3D84EFDC#32,
      0x3C39034F#32, 0x3D81D204#32, 0x3E07CDED#32, 0xBD249D56#32, 0xBE39415D#32, 0xBD08181B#32, 0xBD04A204#32, 0xBCFE22EF#32,
      0xBE711FBE#32, 0x3DB68284#32, 0x3CB089E4#32, 0x3D7E9516#32, 0xBD337A11#32, 0x3D4AE29B#32, 0x3E3E0C6D#32, 0x3D4E72E5#32,
      0xBD91786C#32, 0xBCCCA5F1#32, 0x3DFA3D7C#32, 0x3E5409E8#32, 0xBDCF361A#32, 0x3D85EEAC#32, 0x3D26A94D#32, 0xBD92D69E#32,
      0x3D896BFF#32, 0xBDB2D143#32, 0xBD2A36A5#32, 0x3C1C8E03#32, 0x3CD7AF5D#32, 0xBE3F3654#32, 0xBC10C47A#32, 0x3D8BE931#32,
      0x3D07E6F6#32, 0xBC923AA1#32, 0xBCB0B44F#32, 0x3E37E0AA#32, 0xBE055CCD#32, 0xBC29747A#32, 0xBD6426E4#32, 0xBCAA5378#32,
      0x3E327539#32, 0xBD8C9526#32, 0xBE10B37F#32, 0x3D83A89B#32, 0x3DB3EDD4#32, 0x3C117285#32, 0xBE1D4DA7#32, 0x3DE0FA6D#32,
      0x3DD436A1#32, 0xBDC7C8BE#32, 0x3DB5F2EB#32, 0xBC0537FD#32, 0xBE2E0AF5#32, 0x3DB823D8#32, 0x3B2BB5BA#32, 0xBD5F5497#32,
      0xBD8B1729#32, 0x3D6EB027#32, 0x3D1E3130#32, 0xBDE91295#32, 0xBD994E74#32, 0x3DEEDCED#32, 0x3DEA4054#32, 0x3E05A26F#32,
      0xBE004C7E#32, 0xBE2C3977#32, 0xBD9A2108#32, 0x3D9C4D47#32, 0x3CC1DDD4#32, 0x3D51BFA9#32, 0xBC8C05BC#32, 0xBC94EB1A#32,
      0xBD2AA977#32, 0xBDE2B8E8#32, 0xBD03574F#32, 0xBDA4F758#32, 0xBD405FF5#32, 0xBDFDE67B#32, 0x3CDDCB1D#32, 0xBD0AEB71#32],
    ![0x3D4C7701#32, 0x3C7320EF#32, 0x3CEE2F38#32, 0xBDA36A70#32, 0xBC32BE26#32, 0x3DA45890#32, 0xBE4A8D02#32, 0x3CE5B2F5#32,
      0x3E01C517#32, 0xBD51FD01#32, 0xBD5C999A#32, 0x3DA43BF5#32, 0xBDC31A16#32, 0x3DCE0085#32, 0xBE046258#32, 0xBE11393A#32,
      0xBE1A247B#32, 0x3D08CDE9#32, 0xBDB35FE8#32, 0xBD92C1A1#32, 0xBE087527#32, 0x3D332E9A#32, 0x3E2FF5C3#32, 0x3DAB3209#32,
      0xBC6D06BC#32, 0x3DEE6FB5#32, 0x3DE31BB0#32, 0xBE2DE5D2#32, 0xBD89765A#32, 0xBDB02994#32, 0xBCF4C250#32, 0xBE25A741#32,
      0xBC8CBB0D#32, 0xBDFCAFB6#32, 0xBE0A9CCD#32, 0x3D1074B5#32, 0x3D219E51#32, 0xBC7132F7#32, 0xBDF30ED1#32, 0xBD87E7B6#32,
      0x3E1EA739#32, 0x3C9C780B#32, 0x3D3D03AE#32, 0xBDBEF83E#32, 0xBDA6513D#32, 0x3BFF94A9#32, 0xBDA6CC1B#32, 0xBD2D5474#32,
      0x3D8D25C1#32, 0x3CB25E4D#32, 0xBD62A92D#32, 0x3DD96062#32, 0x3CAE6DDE#32, 0xBE09B49F#32, 0x3D9C9312#32, 0x3DE57543#32,
      0xBD4DEDAA#32, 0x3D036987#32, 0xBE43178B#32, 0x3E53323D#32, 0xBDD93CD6#32, 0xBDAC2517#32, 0x3D7AD47F#32, 0xBD502001#32,
      0xBCF418EB#32, 0x3E06105C#32, 0x3D1F280B#32, 0x3CEA418F#32, 0xBC869319#32, 0x3CD008BE#32, 0xBD95D01B#32, 0x3E343BAD#32,
      0x3CF93B60#32, 0xBE078041#32, 0xBBBD575C#32, 0xBBD2737C#32, 0xBE6BF6C2#32, 0xBD428A16#32, 0x3CDA9F00#32, 0xBD507DAE#32,
      0xBDC1142E#32, 0xBD501863#32, 0x3BFD405A#32, 0xBCF3E0EE#32, 0x3D5A8222#32, 0x3D93641C#32, 0x3D5EE7E2#32, 0xBD1596CF#32,
      0xBD3D68B0#32, 0xBB908FA2#32, 0xBC749314#32, 0x3E062EC2#32, 0x3D9863B3#32, 0xBC32004C#32, 0x3DF38BB9#32, 0x3E725ABF#32,
      0xBD286546#32, 0x3D0C0A55#32, 0xBD5A3245#32, 0x3E226BCB#32, 0xBD5F9008#32, 0xBDEA2920#32, 0x3D77526D#32, 0xBA3C9392#32,
      0x3D3E25BC#32, 0x3E25A863#32, 0x3E07294A#32, 0xBC9FB942#32, 0x3BE901E1#32, 0xBC188752#32, 0xBD5287F7#32, 0x3D357EDC#32,
      0xBE6FB8E1#32, 0x3CF36891#32, 0xBD8EC237#32, 0xBDDF01F2#32, 0xBD1A5314#32, 0xBDFB3C54#32, 0x3D600DEB#32, 0x3BBFE733#32,
      0xBD9FB2C1#32, 0xBD0F2A3B#32, 0x3CA55CAF#32, 0xBACC5C02#32, 0x3D0F605A#32, 0x3E0D6970#32, 0x3C7276A2#32, 0xBE1B2EA7#32],
    ![0xBDC5B4F6#32, 0xBD8960FB#32, 0x3D763876#32, 0x3DFA2A51#32, 0xBD7A57B0#32, 0x3BE205AE#32, 0x3BB0DCCF#32, 0x3D149C87#32,
      0xBD16DC09#32, 0x3DF1B8F4#32, 0xBCD900CF#32, 0x3E179638#32, 0x3DC7D72C#32, 0x3BC79483#32, 0xBD1A15DD#32, 0xBC9AE419#32,
      0x3BE8375D#32, 0x3D27D2C6#32, 0xBD60C4CF#32, 0xBD30681B#32, 0xBD146AB3#32, 0x3E2C7333#32, 0x3E28623D#32, 0xBD7AAF72#32,
      0xBC0CA7CF#32, 0xBCB2A242#32, 0x3D2479DA#32, 0x3E708221#32, 0x3DAEB40E#32, 0x3D844757#32, 0x3BFFB515#32, 0x3D015276#32,
      0xBBB1FECA#32, 0xBD8631D1#32, 0x3D6336F9#32, 0xBD5443EB#32, 0x3DDA6AE2#32, 0x3DBFAE81#32, 0x3D926C28#32, 0xBD3EC263#32,
      0xBDCC0929#32, 0xBD79F111#32, 0xBDB914C3#32, 0xBDC49230#32, 0xBD709622#32, 0x3BBAC09F#32, 0x3D917549#32, 0x3DB25911#32,
      0x3D9C9F4A#32, 0x3D25A163#32, 0xBD36269E#32, 0x3DB70359#32, 0x3E6BC261#32, 0xBDF28D07#32, 0x3D69B45A#32, 0xBD6FF4D1#32,
      0x3C02968F#32, 0x3DB5A22C#32, 0xBD0C5682#32, 0xBDA40E30#32, 0xBE0BB865#32, 0x3D9F248B#32, 0x3D260804#32, 0xBDAE719F#32,
      0x3DDB2E96#32, 0x3C8264E2#32, 0xBDBE600B#32, 0xBDD59532#32, 0xBC29AB0C#32, 0xBE2C8B07#32, 0xBD6F9465#32, 0x3DA094B4#32,
      0x3DFAD57F#32, 0xBD0E8790#32, 0xBD549190#32, 0xBC629879#32, 0x3DB82BFA#32, 0xBE793799#32, 0xBD3C561C#32, 0xBCA524D0#32,
      0x3DE13213#32, 0xBC40A95F#32, 0x3C7073BA#32, 0x3D187D29#32, 0x3DB49506#32, 0xBDEAE591#32, 0x3DAA3D22#32, 0x3D06DB8F#32,
      0xBD575D4F#32, 0x3C7A11CB#32, 0xBDA6C892#32, 0xBE62D8FB#32, 0xBD663CD6#32, 0x3DC9DFDF#32, 0x3D8201B5#32, 0xBD03A740#32,
      0x3D24E57B#32, 0xBDAF4C13#32, 0x3CA0C697#32, 0xBD99ED15#32, 0x3DFF5898#32, 0x3D97C2A0#32, 0xB9941538#32, 0xBD8FA46B#32,
      0xBDFD0F31#32, 0xBB6A879C#32, 0xBC859193#32, 0xBE3846D8#32, 0xBD6E0D8B#32, 0xBE28571A#32, 0xBD8B50F8#32, 0xBCA2861F#32,
      0x3D30735B#32, 0x36690FB4#32, 0xBBD3A2F8#32, 0xBAAD21B7#32, 0x3D202DA7#32, 0xBC872848#32, 0x3D914476#32, 0xBCDC0727#32,
      0xBC421523#32, 0xBB82280D#32, 0x3D0B7D33#32, 0x3E4FF23D#32, 0x3D9913C2#32, 0xBE33658E#32, 0x3D986228#32, 0xBDF13B34#32],
    ![0x3CAD1748#32, 0xBD789C04#32, 0xBE2B38E9#32, 0xBE628E80#32, 0xBCCFE641#32, 0x3D849F13#32, 0xBCE7C14A#32, 0xBD10ED88#32,
      0x3B7931FD#32, 0x3CE44D06#32, 0xBC90C9E4#32, 0x3D78A49A#32, 0xBD1FC720#32, 0x3C1E0569#32, 0x3D425219#32, 0xBD9E1B9B#32,
      0xBD5B9759#32, 0xBDCEF545#32, 0xBD10A067#32, 0xBE3EBC05#32, 0xBCA14C4C#32, 0xBD6029A4#32, 0x3D825E7B#32, 0x3CD0C921#32,
      0xBD3EC160#32, 0xB9E487B2#32, 0x3DE1894A#32, 0xBE2F5AD7#32, 0xBD1F25D1#32, 0x3D85EC69#32, 0x3D77B219#32, 0xBD05BE6E#32,
      0x3E8E1492#32, 0xBB663417#32, 0xBD94DE08#32, 0xBD2E4E6F#32, 0x3DEE364F#32, 0xBE01CBDC#32, 0x3EAB180A#32, 0xBD6D74A6#32,
      0xBB39A4AC#32, 0x3DA77C13#32, 0xBDFAE41F#32, 0x3DAC08F2#32, 0x3D5F7E72#32, 0x3E012DC0#32, 0xBDC144E9#32, 0x3D66232B#32,
      0xBC14DBDC#32, 0x3D708396#32, 0x3E0D86F7#32, 0x3DE70BCE#32, 0xBD56756C#32, 0xBDEBF66D#32, 0x3DC7916A#32, 0xBE38D3FF#32,
      0x3CE42F01#32, 0x3D09BF43#32, 0x3DEBC83C#32, 0xBC15FEA6#32, 0x3D513796#32, 0x3E05566B#32, 0x3DA5D4D3#32, 0xBC302473#32,
      0xBDA76AD9#32, 0xBB827CD1#32, 0x3A34C709#32, 0x3DFA2F9A#32, 0x3C8C6136#32, 0xBC9A639B#32, 0xBD87409A#32, 0xBE4782F5#32,
      0xBD48175D#32, 0x3E09AAFD#32, 0x3C7CF2F6#32, 0xBE1B62D3#32, 0x3D620C75#32, 0x3AC46AC9#32, 0xBD49D35D#32, 0xBE0836D8#32,
      0x3DF44202#32, 0xBDD3C0DD#32, 0xBDAC8A85#32, 0x3DD34BB4#32, 0xBC3B9813#32, 0xBDEF1A3B#32, 0x3D139A5B#32, 0x3B69E0A6#32,
      0xBDEC0A4B#32, 0x3DC1023C#32, 0xBC42E1A9#32, 0x3D5C03B4#32, 0xBDCCF6AD#32, 0x3E234F3E#32, 0x3E4285B6#32, 0xBDD2B6D7#32,
      0x3DD1AFD4#32, 0x3DA232F0#32, 0x3C66FDFD#32, 0xBDFEF89C#32, 0x3D1C5667#32, 0xBCCF83ED#32, 0x3CB08067#32, 0x3DF145FB#32,
      0xBD437DAF#32, 0xBE4BB11C#32, 0xBC6D0448#32, 0xBD202317#32, 0x3D75AB46#32, 0x3D6A74F5#32, 0xBD45EFBC#32, 0xBDB6E19E#32,
      0x3D346B71#32, 0x3C7F2EC0#32, 0xBDE7B138#32, 0xBCA539BC#32, 0x3DF9786B#32, 0x3D82D9E2#32, 0x3E2E05B4#32, 0xBE0249A1#32,
      0x3D6FEF55#32, 0xBD37565F#32, 0x3D4F1233#32, 0xBD1B305C#32, 0x3D317832#32, 0x3D7DE3BF#32, 0xBD8B8E60#32, 0xBE1A02E4#32],
    ![0xBDD29220#32, 0xBE110AC9#32, 0x3DD1BCF2#32, 0xBE1A3981#32, 0x3D9D2C35#32, 0x3D28F765#32, 0xBD6E4903#32, 0x3D86E244#32,
      0xBD0532DC#32, 0x3D85928A#32, 0x3D0DEECD#32, 0x3BE0B575#32, 0x3DA31C84#32, 0xBDF9D386#32, 0xBB46A384#32, 0xBCE73C6D#32,
      0xBC278070#32, 0x3DE813A7#32, 0x3D0D4189#32, 0xBDE12EE8#32, 0x3C3B88C9#32, 0xBE210694#32, 0x3E6B9E40#32, 0xBE167C8E#32,
      0x3DD815ED#32, 0xBD04F3C6#32, 0x3C4356A6#32, 0x3C2224EC#32, 0xBCB152E2#32, 0xBD824AC7#32, 0xBDD9DA30#32, 0x3D39C122#32,
      0x3D27C0AE#32, 0xBE53EE60#32, 0xBDDBAC15#32, 0x3DF72B7D#32, 0xBC39A38F#32, 0xBE75BC3C#32, 0xBD6737F6#32, 0x3E00ECD5#32,
      0x3C5BB4F5#32, 0x3D7012C2#32, 0xBADBF0F9#32, 0xBC2D1F74#32, 0x3DC68D2E#32, 0xBD1E24FA#32, 0x3BEFC99F#32, 0x3C2DB81E#32,
      0xBC4714A3#32, 0x3E3E2276#32, 0x3CDBDCBE#32, 0xBDB0B277#32, 0xBE0CFDAA#32, 0x3DBF0F63#32, 0x3D18B905#32, 0x3E0707F7#32,
      0x3D2E4938#32, 0x3D33E8D1#32, 0xBDA14598#32, 0xBA19821B#32, 0x3D49A8B5#32, 0x3DFDE8BF#32, 0xBDC7101B#32, 0x3D7AE205#32,
      0x3D718D62#32, 0x3D4E2F39#32, 0x3D1AA629#32, 0x3E5D8131#32, 0xBD2C26F7#32, 0xBDDE28E1#32, 0xBD8C81DC#32, 0xBCF9F11E#32,
      0x3E29C370#32, 0xBD332B73#32, 0x3D31F2E7#32, 0x3DB7A5FF#32, 0xBDE1AFCA#32, 0xBD84F71E#32, 0x3DB8BE0E#32, 0xBD9C5AFA#32,
      0xBD8D69E7#32, 0x3BA7E149#32, 0x3E17851A#32, 0x3E238A5A#32, 0xBD0E7D20#32, 0xBE378C8A#32, 0x3D2C639F#32, 0x3DA24C25#32,
      0xBE000395#32, 0x3D777935#32, 0xBDF3F906#32, 0x3D826CC8#32, 0x3D2EEDC7#32, 0x3D9C4559#32, 0xBD617968#32, 0xBDA5BF23#32,
      0xBDB537D1#32, 0xBD4CAEB1#32, 0x3CCDFB08#32, 0xBD5E4EC3#32, 0x3DF90FC4#32, 0xBBE50E2E#32, 0xBDEB5379#32, 0xBC1650DC#32,
      0x3E6C0613#32, 0xBD81162D#32, 0xBD02AAB8#32, 0x3E1AD43B#32, 0x3CD7E1BB#32, 0x3B7EC0AB#32, 0x3D893611#32, 0x3D247FB9#32,
      0x3C7B9F88#32, 0x3D71953E#32, 0xBA282B2A#32, 0xBE4B035C#32, 0xBC87483B#32, 0x3D709B35#32, 0xBE0AB354#32, 0xBCA484A3#32,
      0xBD9D09C9#32, 0x3D2E83EE#32, 0x3E157A1C#32, 0xBD71BC4C#32, 0xBD085D4B#32, 0xBD525048#32, 0xBDA3673F#32, 0x3E10555F#32],
    ![0x3D6970AA#32, 0xBBEA472D#32, 0xBE12E852#32, 0xBD00AA4D#32, 0xBC9973D1#32, 0xBD099C22#32, 0x3C4E4C92#32, 0x3D15235C#32,
      0xBDCD3681#32, 0xBCE43001#32, 0xBE2E891F#32, 0x3E569BB4#32, 0xBC4FB1D7#32, 0xBC34A454#32, 0x3D84029B#32, 0xBDBD3612#32,
      0x3D479BE6#32, 0xBDEA5133#32, 0x3DC9DFF2#32, 0x3E5258B8#32, 0x3C29B8B1#32, 0xBC283AE3#32, 0x3D210E5E#32, 0xBE263E44#32,
      0xBDBA35CC#32, 0x3E087D69#32, 0x3B627429#32, 0x3E12121F#32, 0x3DD128FC#32, 0xBD9C1120#32, 0xBC482EE3#32, 0x3D4820A5#32,
      0xBE238A34#32, 0x3D749A28#32, 0xBD5E0678#32, 0xBE021995#32, 0xBD7BDD5E#32, 0xBCCF3591#32, 0xBDC7E106#32, 0x3CBA3E4F#32,
      0xBDA4FE33#32, 0xBCFFB5C3#32, 0x3D68794D#32, 0x3C82BB33#32, 0xBCA83D7E#32, 0x3CC4D645#32, 0xBE70E474#32, 0xBCD3B732#32,
      0x3E0E5B39#32, 0x3D37FBDB#32, 0xBDB6564D#32, 0x3DCBE060#32, 0xBDE16FD4#32, 0x3D3B9889#32, 0xBE4031BB#32, 0xBDF1110B#32,
      0xBD2740F2#32, 0xBE1493BE#32, 0x3DBA0B33#32, 0xBD61FFE9#32, 0x3E2DC6E2#32, 0xBDA134A2#32, 0xBE0B0DE5#32, 0x3E5C803C#32,
      0x3CFAD6E5#32, 0xBDB635F1#32, 0xBE0C9F9F#32, 0xBE274B95#32, 0x3DDB8DF2#32, 0xBE160C4A#32, 0xBC63DAC8#32, 0x3E076F3D#32,
      0xBE2CBE92#32, 0xBD854090#32, 0x3E37F798#32, 0x3DBD5B4D#32, 0x3D5804CE#32, 0x3A230D60#32, 0xBD85F223#32, 0xBDC60028#32,
      0x3D65C327#32, 0xBCD7ADC8#32, 0xBE2312D9#32, 0xBDD191C4#32, 0x3D29649E#32, 0x3E3A359C#32, 0xBD825375#32, 0x3D806B9C#32,
      0x3BC8EEB7#32, 0xBB90BCE9#32, 0xBDBEFB46#32, 0xBD8A3205#32, 0x3D3C3D39#32, 0x3D78BE4F#32, 0xBDA76078#32, 0xBD5D475E#32,
      0xBE7AFB42#32, 0xBD52A599#32, 0xBD82AAF8#32, 0xBE1A16CA#32, 0x3DAA7782#32, 0xBD54191B#32, 0xBCA8D560#32, 0x3D3E54AF#32,
      0x3E63E7BA#32, 0x3C87449F#32, 0x3E21B9A5#32, 0x3DD0EF41#32, 0x3D396E91#32, 0xBDA9966B#32, 0xBCDC8A93#32, 0xBCF8FBAD#32,
      0xBD76E4A6#32, 0xBD4D1CA7#32, 0xBCE717BA#32, 0x3E120DD5#32, 0x3C39DFB8#32, 0xBCB633DC#32, 0xBDD43F9A#32, 0xBDEC5CC5#32,
      0xBDE36F09#32, 0x3DB3E186#32, 0xBD6DDD3F#32, 0x3DE3428F#32, 0x3E28E2D5#32, 0xBDB2525B#32, 0x3DDC2960#32, 0xBD34480B#32],
    ![0xBC3AB3F5#32, 0xBD17CACA#32, 0xBC130C5C#32, 0xBCBD2D19#32, 0x3D8A391F#32, 0x3D5A1702#32, 0x3D136F93#32, 0x3D889E9F#32,
      0x3D7E5AB1#32, 0x3B5A5845#32, 0xBE0292E4#32, 0xBDA07AA5#32, 0xBD780640#32, 0xBD65B06B#32, 0xBE474CDA#32, 0xBD586082#32,
      0xBE1BC6CA#32, 0xBD59AF92#32, 0xBD8E8274#32, 0xBBCC0AA5#32, 0xBDC748E9#32, 0xBBFFD7EE#32, 0x3D8C75AB#32, 0x3D01A29F#32,
      0xBE4245A8#32, 0xBCA1A945#32, 0x3D60183E#32, 0x3D99BE8F#32, 0xBC06E66D#32, 0xBC8F8AA2#32, 0xBC06E223#32, 0xBDCF4E6B#32,
      0xBCC0B20F#32, 0xBC490010#32, 0xBD82EE71#32, 0xBE48AE70#32, 0x3D99A29D#32, 0x3C214872#32, 0x3DA5FF4E#32, 0x3B3AC57B#32,
      0x3D8AC00F#32, 0xBDA7EC13#32, 0x3D8F6753#32, 0xBDB3F746#32, 0x3D8C8964#32, 0x3DD16C29#32, 0xBDC773F1#32, 0x3DD0F746#32,
      0xBD8CB3DF#32, 0xBE09F2B5#32, 0xBD94903D#32, 0xBD9E533A#32, 0xBD6EEB90#32, 0x3AA934E9#32, 0x3D29DBEB#32, 0xBD82E1BA#32,
      0xBDB99CCD#32, 0x3DBAE268#32, 0x3E1F7CC2#32, 0x3D04E76B#32, 0x3DA7889D#32, 0x3CAC3CC1#32, 0xBAFF870F#32, 0xBD32513F#32,
      0x3DCD6871#32, 0x3DBCFFE5#32, 0xBD9BD0C2#32, 0x3D640F7C#32, 0xBD9A701D#32, 0x3D2C8AEB#32, 0xBE4A168B#32, 0x3C962DE6#32,
      0xBDABD0C4#32, 0x3DAA2D3E#32, 0x3D910345#32, 0xBE063651#32, 0x3D944CA5#32, 0x3DD005E8#32, 0x3BAD3FC7#32, 0xBE2480CC#32,
      0xBCAE0839#32, 0x3CFF027A#32, 0x3BD07B92#32, 0xBD20AAA5#32, 0xBC73A76A#32, 0xBDA1C954#32, 0xBCEA449E#32, 0xBE7E2975#32,
      0x3909F0BA#32, 0xBC999152#32, 0x3CA18CC7#32, 0xBD80EA02#32, 0xBC8F79C6#32, 0x3DED5350#32, 0xBD8300A4#32, 0xBCA1FB07#32,
      0xBE0B3CA5#32, 0xBD1DA03B#32, 0x3C888FD7#32, 0x3E12827E#32, 0x3E34B60A#32, 0xBE091650#32, 0xBBC55CAC#32, 0xBE279F5B#32,
      0xBCDF88DF#32, 0x3CB9FFFD#32, 0x3CA62407#32, 0x3D251055#32, 0xBD2978CC#32, 0xBD9D7EB1#32, 0xBE2B2E25#32, 0x3C3EE2FE#32,
      0x3D90C363#32, 0xBD16817F#32, 0xBD2CE664#32, 0x3D0FF3D4#32, 0x3DEE3537#32, 0x3DECA060#32, 0xBDD2F7FD#32, 0x3D7FE64B#32,
      0xBE213F95#32, 0xBDC016BB#32, 0xBCBA05E7#32, 0xBDB784A3#32, 0xBD1EF700#32, 0xBD1FD4DA#32, 0xBD4200CC#32, 0x3D07A761#32],
    ![0xBD76B533#32, 0x3D9A6481#32, 0xBD599A51#32, 0x3D7D3820#32, 0xBC110389#32, 0x3DCC4C0F#32, 0xBDD870E8#32, 0x3D832F92#32,
      0xBD493CC5#32, 0x3D8FD1FA#32, 0xBB21D1A0#32, 0xBC7E2978#32, 0x3D52F614#32, 0x3D0F3423#32, 0xBD0821CE#32, 0x3DB124B6#32,
      0xBDB44737#32, 0x3D87D157#32, 0x3DFED1B6#32, 0xBB8FD95C#32, 0xBE026842#32, 0xBE20C96B#32, 0x3D291CDE#32, 0xBE0000A0#32,
      0x3D960542#32, 0xBDB13730#32, 0x3CCF484A#32, 0x3CC0A545#32, 0xBDBA8BD8#32, 0xBD98655E#32, 0xBE1F23DE#32, 0xBD483463#32,
      0xBDFC02B5#32, 0x3D006FDF#32, 0xBDDDE58C#32, 0x3DC21CF5#32, 0xBE46365C#32, 0x3D07B0E3#32, 0xBE2BABBA#32, 0xBE23C9AD#32,
      0xBD067446#32, 0xBE1DA354#32, 0xBD0D613C#32, 0x3DA21A73#32, 0x3D089BA4#32, 0x3C99D5CB#32, 0xBBEA7276#32, 0x3D9A6CB2#32,
      0xBDBFD968#32, 0xBDA6B067#32, 0x3CC90D9E#32, 0xBD2DD112#32, 0x3E8AFBFD#32, 0xBDA1F6ED#32, 0x3D7D117F#32, 0x3D4A332B#32,
      0x3C3BED5E#32, 0xBBB32422#32, 0x3DFD7130#32, 0xBD62EFCA#32, 0x3C39FA59#32, 0x3D6E9AC2#32, 0xBD8129E6#32, 0x3B7C9D4D#32,
      0x3E0EE6DA#32, 0xBD2D381E#32, 0x3DE9FF31#32, 0xBD7CEC4E#32, 0xBDCC34BA#32, 0xBC170654#32, 0xBDBF0D41#32, 0xBA15B538#32,
      0xBD95334A#32, 0x3C855161#32, 0x3DE456E5#32, 0xBDAFB82E#32, 0x3E2535D3#32, 0x3DC68A51#32, 0xBDB1A957#32, 0xBDA78331#32,
      0x3D37BC06#32, 0x3DECE408#32, 0x3DBC763D#32, 0x3DBA314E#32, 0x3E234046#32, 0xBD62995A#32, 0xBCF6530C#32, 0xBD379B14#32,
      0xBE1D39E8#32, 0x3819F10E#32, 0x3E44F4B0#32, 0xBE45C8B5#32, 0x3D555FA8#32, 0x3D782979#32, 0xBDFBAC79#32, 0xBD6AAA25#32,
      0x3CE2B3B0#32, 0xBE0E9BE9#32, 0xBDCA716C#32, 0x3CE2B3EE#32, 0x3E309478#32, 0x3CE38C55#32, 0x3D6E5D86#32, 0xBD189AA2#32,
      0x3DA0C060#32, 0x3D9BD5D2#32, 0xBDEF0930#32, 0x3CB2EB54#32, 0x3E05BBEC#32, 0xBDB5C726#32, 0x3DE8FA0E#32, 0xBE188EDD#32,
      0xBE3447D0#32, 0x3D3D9B6E#32, 0x3D6B7555#32, 0xBD433523#32, 0x3D2C4880#32, 0xBC3FE80D#32, 0x3C4BCC39#32, 0x3D3751D0#32,
      0x3E5B2772#32, 0xBBA9FB70#32, 0xBD78EFF5#32, 0x3DA7ABA6#32, 0xBDB9FAC4#32, 0x3D3D7C67#32, 0xBD2F2D4E#32, 0xBDE51E88#32],
    ![0x3D1DCA47#32, 0xBCE1FE11#32, 0x3E10E4BA#32, 0x3DFC2BEF#32, 0xBD126DCB#32, 0x3DBB0F30#32, 0xBD84F2F9#32, 0x3CFAA756#32,
      0xBC4DA672#32, 0x3DDE11D5#32, 0xBE3AF65E#32, 0xBE2138EB#32, 0xBCAFAD81#32, 0x3DA14A54#32, 0xBE1085AD#32, 0xBCB44D14#32,
      0x3AD32E26#32, 0x3CDF187E#32, 0x3DBFFEE0#32, 0x3DC8D306#32, 0x3E0468AE#32, 0x3D5EC08E#32, 0x3DEE1B26#32, 0xBDE7E469#32,
      0x3D085FCD#32, 0x3D85DD0C#32, 0xBCCEBB8C#32, 0x3C15B8E9#32, 0x3B63C2FE#32, 0xBC24D679#32, 0xBD02AF2A#32, 0xBDC91AA4#32,
      0xBDBDC989#32, 0xBDD0212F#32, 0xBCB72F64#32, 0xBE02D97F#32, 0xBD38F2D3#32, 0xBE2B7626#32, 0x38636FCD#32, 0xBE0EF15A#32,
      0xBCCF0B46#32, 0xBE295B68#32, 0xBCE14048#32, 0xBDD92F8F#32, 0xBD81CCE8#32, 0xBE36F0D6#32, 0x3D5074A9#32, 0x3E00EB81#32,
      0x3DA6C0F7#32, 0x3D530A04#32, 0x3D3487CF#32, 0x3DC177CE#32, 0xBDA7EBD2#32, 0x3DB26B30#32, 0xBD015429#32, 0x3E2AEA44#32,
      0x3D4C29DF#32, 0x3D254EE1#32, 0x3C37B78D#32, 0x3DCB80B8#32, 0xBDF96D17#32, 0x3DADBCB4#32, 0x3E043318#32, 0x3BC992AF#32,
      0x3D2D0D1E#32, 0xBD94B76B#32, 0xBD7C8BB6#32, 0x3D1742A9#32, 0xBDCD5843#32, 0xBD92043A#32, 0x3E0D88A2#32, 0xBD123915#32,
      0xBBA430A6#32, 0xBD3023DE#32, 0x3CBBAD5C#32, 0x3DFA6370#32, 0x3DCEE27C#32, 0xBD728111#32, 0x3E22EEE1#32, 0xBC978DF0#32,
      0x3E18AC2D#32, 0x3D3FB87E#32, 0x3A930B93#32, 0xBD610F6A#32, 0x3DD72FE9#32, 0xBBCE14A8#32, 0x3CD941D6#32, 0x3D837A47#32,
      0xBD9E3E2E#32, 0xBD3FD806#32, 0x3CFEF306#32, 0x3D670FF5#32, 0xBD2AD537#32, 0x39D259CE#32, 0xBE2D7DA1#32, 0xBE329073#32,
      0x3D7EB673#32, 0x3BD49D62#32, 0x3DAE47CE#32, 0x3BBF0072#32, 0x3E0D4638#32, 0x3DF7DD8A#32, 0x3DA0DEF5#32, 0x3DBEF544#32,
      0x3E32FBC8#32, 0x3D0D2259#32, 0x3DB18325#32, 0x3DD979AD#32, 0x3E078B31#32, 0xBD98FA92#32, 0x3E1C0B36#32, 0x3C498E7D#32,
      0x3B96F199#32, 0xBE0C5585#32, 0xBC2C46A0#32, 0xBC59C271#32, 0xBD5ED007#32, 0x3D827DFE#32, 0xBD575576#32, 0xBE2536C9#32,
      0xBDF3B7AE#32, 0x3E10C973#32, 0xBD308B82#32, 0xBD7BC13E#32, 0x3E44BE81#32, 0x3D6FB9E7#32, 0xBC5E2044#32, 0x3C07E643#32],
    ![0xBBCD5262#32, 0x3E098AD9#32, 0x3D8E748C#32, 0xBDAC63D6#32, 0xBD9B26D9#32, 0xBD5D5732#32, 0xBE133982#32, 0x3E4078A2#32,
      0x3E01FB7E#32, 0x3D05E109#32, 0xBD8CA898#32, 0x3CC67174#32, 0xBCD405DF#32, 0xBDC13B02#32, 0xBD974FA1#32, 0x3CA5D5E5#32,
      0x3B4EC38E#32, 0xBE54E373#32, 0x3E1A6A1F#32, 0x3CAC997D#32, 0xBD2EAC25#32, 0x3D6CAA41#32, 0x3D339651#32, 0xBDE43453#32,
      0x3DDA9815#32, 0xBC4BE11F#32, 0xBD82C88E#32, 0xBD401267#32, 0xBD498AC7#32, 0xBE01EBF3#32, 0x3BDEBFCD#32, 0x3DA8BD65#32,
      0xBE16135A#32, 0x3B3F355A#32, 0x3DE6BFE1#32, 0xBD3DAE44#32, 0xBDAF8326#32, 0xBD297C15#32, 0xBE0E1A64#32, 0x3D0AFA9D#32,
      0xBE3640CC#32, 0xBDEE880E#32, 0xBD384C4E#32, 0xBD9D7A11#32, 0xBDAA1D32#32, 0xBD9E4940#32, 0x3CC01A6A#32, 0x3E4BB161#32,
      0x3DD237C3#32, 0x3DAC253B#32, 0x3E38F7A9#32, 0xBE0A5EE8#32, 0x3DF1978B#32, 0x3DC8DD4D#32, 0x3D17C104#32, 0xBE10ACA8#32,
      0x3D1208FF#32, 0xBE2A2205#32, 0x3D90C649#32, 0xBCB709B9#32, 0xBD5F4CFD#32, 0x3E7ECDAC#32, 0x3CD107A6#32, 0x3DCDD0C8#32,
      0xBC459673#32, 0xBDB44017#32, 0x3E10E7A4#32, 0x3DB0D169#32, 0x3E27DE75#32, 0x3DC4D4B0#32, 0x3DBDAF2C#32, 0xBCC3E09D#32,
      0x3D5AB3FD#32, 0xBD1D1D4A#32, 0xBDD9A32C#32, 0xBE268D94#32, 0xBB23CC15#32, 0xBDDB3EE0#32, 0xBDC25BD8#32, 0xBD4CCC8B#32,
      0x3E5EEEE1#32, 0xBD912DEC#32, 0x3D9EF9CF#32, 0x3CBF27CB#32, 0xBBD44A38#32, 0x3E702E9C#32, 0x3BACC2BA#32, 0x3C894FCB#32,
      0xBE283B3E#32, 0xBE03EE5C#32, 0xBCAD9E01#32, 0x3E03A524#32, 0x3E03F939#32, 0x3E3186A5#32, 0xBD93B08A#32, 0x3DC49B90#32,
      0xBD8E029D#32, 0x3BFE4F10#32, 0x3DFFF8DC#32, 0xBDCC2D07#32, 0x3D365E22#32, 0x3DB2AEEA#32, 0x3DCC15E6#32, 0x3CCF40BE#32,
      0x3CAF8BCF#32, 0x3D89ABEE#32, 0x3DCDD8FA#32, 0x3E3278A4#32, 0xBD343711#32, 0x3C8838E0#32, 0xBC4D178E#32, 0x3D33903E#32,
      0xBDEFB02E#32, 0x3BCD26C8#32, 0x3E0B430D#32, 0xBDD066B4#32, 0x3DA6BF88#32, 0x3D0456E5#32, 0x3DF761C0#32, 0xBDA18B4B#32,
      0x3CA325D2#32, 0x3E31AF1B#32, 0x3CE281C6#32, 0x3D7C759B#32, 0x3D5CEB8D#32, 0xBBD15894#32, 0x3D961EF9#32, 0x3D514696#32],
    ![0xBC66C5A9#32, 0xBE025F91#32, 0x3C505534#32, 0x3D01E2E4#32, 0xBE2EE963#32, 0xBC878821#32, 0x3C96EEFB#32, 0xBD0C468E#32,
      0xBE00C049#32, 0xBD36B021#32, 0xBE619333#32, 0x3DDA6795#32, 0x3CED0EA6#32, 0xBD74C5CB#32, 0x3CB951D1#32, 0x3D8FC8D5#32,
      0x3C921AF9#32, 0x3D8315D6#32, 0xBD2CE7A5#32, 0xBD682388#32, 0xBE92336B#32, 0xBE46430F#32, 0xBDAB5B7D#32, 0x3D949AE9#32,
      0x3CA0543B#32, 0xBC1C5A39#32, 0x3DEE4972#32, 0xBD55221B#32, 0xBE0C5197#32, 0x3C2A3330#32, 0xBDE7BA07#32, 0xBC16530F#32,
      0xBB573059#32, 0xBE2860F1#32, 0xBC008617#32, 0xBC82424E#32, 0x3D3C3404#32, 0xBE3FC691#32, 0x3DBAE694#32, 0x3D8A794A#32,
      0x3C40D0BE#32, 0x3DE6A71C#32, 0x3D1C03F0#32, 0xBD061614#32, 0x3DD90A20#32, 0x3DAF89F0#32, 0xBD8B06C4#32, 0xBDC9E21B#32,
      0x3D0F7E8E#32, 0x3E181A7B#32, 0xBD0F9CAE#32, 0xBD9A4068#32, 0x3D9560CC#32, 0xBCD19D26#32, 0xBD347C99#32, 0x3D7FB522#32,
      0x3D51F4CD#32, 0xBE26A92F#32, 0x3E190739#32, 0xBCAD5C50#32, 0xBCBED656#32, 0xBD90F168#32, 0x3CF9D1D3#32, 0xBCF5FDCF#32,
      0xB9F6E3BF#32, 0xBE0ACD56#32, 0x3E1A22CC#32, 0x3DC0A4E7#32, 0xBDFD46BA#32, 0x3B540181#32, 0x3CC6DDEA#32, 0x3E19D146#32,
      0xBDE787E0#32, 0x3DC06950#32, 0xBE09E07B#32, 0xBCF44CF6#32, 0xBD396382#32, 0xBD9D36E0#32, 0xBC929039#32, 0x3E086069#32,
      0xBDF46497#32, 0x3E8ABA32#32, 0xBD8D88FE#32, 0x3DC13000#32, 0xBDA48485#32, 0x3DE73BA1#32, 0xBB42C422#32, 0x3D4F3788#32,
      0x3DA246F2#32, 0xBCDF5A0A#32, 0x3C56A153#32, 0xBDCF1C86#32, 0xBD0FA23B#32, 0xBD007D3E#32, 0xBE3A7FAC#32, 0xBD3A9F89#32,
      0x3CE811D1#32, 0x3D0DFCBC#32, 0xBDE44DB9#32, 0xBA8190F6#32, 0xBD2F6463#32, 0xBD3C8700#32, 0x3BF9B46B#32, 0xBE1253C4#32,
      0x3D9DBD40#32, 0xBE0F1333#32, 0x3D28C68B#32, 0x3D21184A#32, 0x3D8A64C2#32, 0xBC6D855D#32, 0xBD089C74#32, 0x3CE8B86B#32,
      0x3C4C417A#32, 0x3CBE07C2#32, 0x3E77FAF2#32, 0x3B1BD3BA#32, 0x3D0EFE8A#32, 0xBD2EA1BD#32, 0xBE27D067#32, 0x3CBDAC3E#32,
      0xBC92638B#32, 0x3DD1627A#32, 0xBCA7446C#32, 0x3D9FADF9#32, 0xBDBA6443#32, 0xBCA2101B#32, 0xBDB3A830#32, 0xBE456343#32],
    ![0xBE0FCAF0#32, 0x3E1EAEFC#32, 0x3C25172E#32, 0xBC911EDD#32, 0x3D22BFA9#32, 0x3D654584#32, 0xBC91BD50#32, 0x3CBB36B8#32,
      0x3E0990A9#32, 0xBD9D8D7E#32, 0x3D39837F#32, 0x3E17258A#32, 0x3DBFD112#32, 0xBCDC2DFA#32, 0x3D17634C#32, 0x3DD72632#32,
      0xBE82FAF6#32, 0x3D62B992#32, 0x3BA7EE76#32, 0xBBB931B3#32, 0xBDA47569#32, 0x3D17E154#32, 0x3E1920AA#32, 0xBC83A6D8#32,
      0x3C163A30#32, 0x3E3B5779#32, 0xBB50653D#32, 0xBC21C7AE#32, 0x3D961E4D#32, 0x3DAC3A39#32, 0xBE07839A#32, 0x3DB2EEAE#32,
      0xBCCE54A6#32, 0x3DA5FBB7#32, 0xBE5F7015#32, 0xBD29CE5D#32, 0xBD150211#32, 0xBDD886F6#32, 0x3DB266A0#32, 0xBD95B6EF#32,
      0x3E060C50#32, 0xBD81C18E#32, 0x3C974FB0#32, 0x3E2ABA4C#32, 0xBD1BDDE0#32, 0xBD3549E6#32, 0x3D94AA48#32, 0x3D13220E#32,
      0xBC10A9B4#32, 0x3D50419E#32, 0xBBC6D1E8#32, 0x3D4DCC2C#32, 0xBDC8EF4E#32, 0x3D2BD1CF#32, 0xBCC14817#32, 0x3C78E066#32,
      0xBDA06B2B#32, 0x3C035FBA#32, 0x3D2B1617#32, 0x3DF76495#32, 0x3DC2122E#32, 0x3D566511#32, 0x3D66B604#32, 0xBD2CD040#32,
      0xBD7C25C7#32, 0xBD9FFCD1#32, 0xBE5338D9#32, 0x3D08EF9D#32, 0x3D9BF93A#32, 0x3CD728B6#32, 0x3DBDF839#32, 0x3E7385C0#32,
      0x3C2AA26E#32, 0xBE166977#32, 0x3DE739B3#32, 0x3CE31776#32, 0xBE149EE2#32, 0x3D4BACD5#32, 0xBC1CAEAB#32, 0xBC96E1C5#32,
      0x3CD109A1#32, 0xBE4BF285#32, 0x3D9A625F#32, 0x3CC24436#32, 0xBD121EEE#32, 0xBCC380BC#32, 0x3C6BD42E#32, 0xBA93B31C#32,
      0xBD5E96D0#32, 0xBE26A938#32, 0xBCEEC6EE#32, 0x3CB9A1CC#32, 0xBD5FACFD#32, 0xBE1C5442#32, 0x3E1D250B#32, 0x3BEDFD37#32,
      0x3CB83875#32, 0xBD8EA6EC#32, 0x3DBB382A#32, 0xBC8A744D#32, 0x3D9DCB60#32, 0x3DD08E4B#32, 0xBCAB1019#32, 0xBB278325#32,
      0x3DD25E65#32, 0xBE3D0D44#32, 0xBC2F9C31#32, 0x3E3A6B00#32, 0x3DD143F2#32, 0x3CE077F4#32, 0xBDD8CAB3#32, 0xBD9AC8D0#32,
      0xBBCDD8C2#32, 0x3D594666#32, 0xBD3D9F9B#32, 0xBE118AD4#32, 0xBD615B9C#32, 0xBE074519#32, 0x3DBD7B62#32, 0x3C62A5D6#32,
      0xBB34A116#32, 0xBC8C3593#32, 0x3DDB668F#32, 0x3C72D3CA#32, 0x3DD5E685#32, 0x3D4F012A#32, 0x3DA1A431#32, 0x3DB31AFB#32],
    ![0xBD32E522#32, 0x3D1550C7#32, 0x3C3D4FCB#32, 0xBDA69D18#32, 0xBDDD80FD#32, 0xBC1CECD8#32, 0xBDB475AC#32, 0x3E3326C1#32,
      0xBE15AA73#32, 0x3CAA8A5D#32, 0xBE144E60#32, 0x3D2B43A8#32, 0xBCD7CE69#32, 0xBE007A74#32, 0xBD8A6A87#32, 0xBC9455D1#32,
      0xBDE8F7A0#32, 0xBCA51BE4#32, 0x3C461D27#32, 0x3CA763F6#32, 0x3D7702CC#32, 0xBDE1C28C#32, 0xBE038784#32, 0x3C415F5D#32,
      0xBC588A99#32, 0x3C2CD283#32, 0xBDEA97CA#32, 0xBB24CA78#32, 0x3BE51F6B#32, 0xBE2580C6#32, 0x3C75CCD0#32, 0x3DAA4C87#32,
      0x3CD87351#32, 0x3C287B25#32, 0x3D25BBF3#32, 0xBCA5C55F#32, 0x3A8589B9#32, 0x3C49B39F#32, 0x3D2720E1#32, 0xBD48BD00#32,
      0x3D459215#32, 0x3CA066E0#32, 0xBD110B28#32, 0x3D59FA55#32, 0xBCE1F7DC#32, 0xBDCBE4D5#32, 0xBE0567E9#32, 0xBDFBE767#32,
      0x3BD9DC17#32, 0xBDB751E5#32, 0xBDCA7F14#32, 0xBCFFB11E#32, 0xBDE0950B#32, 0xBD480B93#32, 0x3D7A5B5F#32, 0x3E19A72F#32,
      0xBB91207B#32, 0xBDE6EB81#32, 0xBD849472#32, 0xBD252C92#32, 0x3DFBCBCA#32, 0x3D7577EC#32, 0x3BACD14A#32, 0xBD75F886#32,
      0xBD481D68#32, 0xBD0AEC76#32, 0xBD8F9F44#32, 0x3E4E1431#32, 0xBC52E1A4#32, 0x3A852AA5#32, 0x3E13C8D0#32, 0xBDD2A0E5#32,
      0x3C4DD31A#32, 0xBE05A98E#32, 0x3DFEAA5D#32, 0xBCB804D7#32, 0x3E310FE3#32, 0x3D44231A#32, 0x3D8FEB6D#32, 0xBC96EA40#32,
      0x3E11D49C#32, 0xBD5ECDD3#32, 0x3D9B4356#32, 0xBE81A1DD#32, 0xBDC7E8E6#32, 0x3C0F1BC1#32, 0x3CEC3F16#32, 0x3D893B2A#32,
      0xBD979F21#32, 0x3D76277A#32, 0x3DE6B57A#32, 0xBDD58309#32, 0x3E04FBAD#32, 0xBDDD0753#32, 0x3D64555D#32, 0x3DEFDA0F#32,
      0xBDE8ED61#32, 0x3C68AB45#32, 0xBC5158CC#32, 0xBD380760#32, 0x3D756A22#32, 0xBCE74361#32, 0xBDDECCAC#32, 0xBD7D6EFB#32,
      0xBE1C46A2#32, 0xBDD350F6#32, 0x3D9C2678#32, 0x3D14D2B7#32, 0xBC466D64#32, 0x3D2DEA7E#32, 0xBD417A60#32, 0xBA00061E#32,
      0xBDC8BD48#32, 0x3CA127DA#32, 0xBAF1CE3D#32, 0xBD98E47D#32, 0x3B2E17A1#32, 0x3D96C350#32, 0x3E2E0F56#32, 0xBBB5155E#32,
      0x3DBC9C98#32, 0xBC970BBB#32, 0xBD811290#32, 0x3D6348EC#32, 0xBCFDA940#32, 0xBE2C94ED#32, 0xBD2390CB#32, 0x3DADA86A#32],
    ![0xBD4EF907#32, 0xBCD786A8#32, 0x3E276A25#32, 0xBD2B7BCD#32, 0x3E4888DC#32, 0xBCA5A76A#32, 0x3B543188#32, 0xBC805273#32,
      0x3DD9C8BF#32, 0xBE416B74#32, 0x3DA3B9C0#32, 0xBDAEB16E#32, 0xBD2412F2#32, 0xBC482E4E#32, 0xBCBD074B#32, 0x3E3917EF#32,
      0x3D11937F#32, 0x3D09D6D3#32, 0xBDAC42DB#32, 0xBC083FC2#32, 0xBDCDF762#32, 0xBDDFBAD9#32, 0x3D9DF158#32, 0xBC9EF21C#32,
      0x3E1635D3#32, 0x3E0679E0#32, 0xBBA986F5#32, 0xBDE438D5#32, 0x3D7D26D0#32, 0xBDE0DA81#32, 0xBDA31BF1#32, 0x3C0B53C6#32,
      0xBD9D07FE#32, 0xBC5C6C70#32, 0xBC03A5DA#32, 0xBDA69598#32, 0x387E51CD#32, 0x3D7BC813#32, 0xBD14F261#32, 0x3E35F4F6#32,
      0xBD085B2A#32, 0xBE14F806#32, 0xBD1A0A4B#32, 0x3D3C15BC#32, 0x3D14FD47#32, 0xBE7F3BE2#32, 0x3D076329#32, 0xBD08FB6E#32,
      0xBE124C1D#32, 0x3D96BDFE#32, 0xBDEEAA6D#32, 0x3D2C8F67#32, 0x3C2CDCBB#32, 0xBE4B0419#32, 0xBE09ED29#32, 0xBD107B9C#32,
      0x3DF500B4#32, 0x3CBF0EB7#32, 0x3E125E01#32, 0x3D12168D#32, 0x3CBA7AFB#32, 0xBC915BED#32, 0xBCF0C0DE#32, 0xBDE9FB58#32,
      0x3C26125E#32, 0x3D48AB09#32, 0xBDC4D033#32, 0x3C78C86B#32, 0xBE6AD4DF#32, 0x3DBC961A#32, 0x3DDC4EE5#32, 0xBDCEC70B#32,
      0xBDD06493#32, 0xBDBC8BA7#32, 0xBD713B7A#32, 0x3D9139EB#32, 0xBDA03B5D#32, 0x3D3F7304#32, 0xBCA3E957#32, 0x3CB1C21E#32,
      0x3CA95268#32, 0xBBB7902D#32, 0xBDC7063D#32, 0xBD62D58D#32, 0xBC796E36#32, 0xBD265C24#32, 0x3E2F851F#32, 0xBE082016#32,
      0xBDECA8C3#32, 0x3DAE1B8E#32, 0x3D122C51#32, 0x3E3B15ED#32, 0x3D0B00B2#32, 0x3DB8538D#32, 0xBCA58541#32, 0xBDBB9AF6#32,
      0x3E221AAD#32, 0xBDE4192F#32, 0x3CF60BD5#32, 0x3DA0C892#32, 0x3C862874#32, 0x3D7D9E2E#32, 0x3D589884#32, 0x3B35A631#32,
      0x3D6AC788#32, 0xBD68C92D#32, 0xBD173B4C#32, 0xBDABFA7C#32, 0xBC10FA43#32, 0x3D85A929#32, 0xBCF1C0D9#32, 0x3D7739E6#32,
      0x3C515520#32, 0x3DA835D1#32, 0x3E06FA73#32, 0x3D450C31#32, 0x3E214862#32, 0xBC2FD2AB#32, 0x3D06147F#32, 0xBE031A21#32,
      0x3D16F835#32, 0xBCE6C932#32, 0xBCB66E40#32, 0xBE0DA62B#32, 0xBDE480E2#32, 0x3E240204#32, 0x3C8CB328#32, 0x3CFDFF4D#32],
    ![0x3E61CFD1#32, 0x3D4B9D20#32, 0x3C353F4B#32, 0xBDD52E48#32, 0x3E0BBC6D#32, 0x3DEF8983#32, 0x3D051597#32, 0x3C6DCA94#32,
      0x3DE93B59#32, 0xBD84E367#32, 0x3CFCF624#32, 0x3D6C7165#32, 0xBD4C2FFF#32, 0x3E4EA4EF#32, 0xBB290C81#32, 0x3CFC97BE#32,
      0x3E14C030#32, 0x3DE20C9E#32, 0xBD10450C#32, 0xB9B9D368#32, 0x3DAC285D#32, 0xBD3DF35A#32, 0x3C4808C5#32, 0xBD9F3CD8#32,
      0xBD33F762#32, 0xBD2EBC7E#32, 0xBC010FC5#32, 0x3D3F3FD7#32, 0xBD18F731#32, 0xBE0F0415#32, 0xBB0E82B0#32, 0xBC443FE0#32,
      0x3CA57223#32, 0x3DEDA7A6#32, 0x3E342C9C#32, 0xBD6C0E82#32, 0xBD73298B#32, 0x3CA248FC#32, 0x3DA02BDB#32, 0xBD812F8A#32,
      0x3DE8E5E2#32, 0xBE0C6D59#32, 0x3DD02107#32, 0x3C2BA0DA#32, 0xBD81A238#32, 0xBB5E1E28#32, 0x3D76AB08#32, 0x3D8593A3#32,
      0xBBF1D914#32, 0xBC9D7829#32, 0x3E14EC47#32, 0xBDA209D9#32, 0x3DAF129C#32, 0xBD194D86#32, 0x3E03129D#32, 0x39F38D05#32,
      0xBDDD6B9B#32, 0x3D311994#32, 0xBD78F415#32, 0xBB50C6AC#32, 0xBD8D9FD8#32, 0x3CD62467#32, 0x3DBD8F63#32, 0x3D8836EE#32,
      0x3D856D5A#32, 0xBDB5F284#32, 0x3E4DFFAF#32, 0x3D74A47C#32, 0x3E4B1FF2#32, 0x3E6C1BCD#32, 0xBD3E63A3#32, 0xBD7FB433#32,
      0x3E20F358#32, 0x3C2CEBF1#32, 0xBD153BE5#32, 0x3BA1C44A#32, 0x3E1674F2#32, 0xBD58D4B7#32, 0x3C19DA06#32, 0xBD613EEC#32,
      0x3D3F6015#32, 0x3C8E3BF1#32, 0xBD82399A#32, 0x3C4F6F09#32, 0xBDA32068#32, 0x3CC9A865#32, 0x3E2BD8B9#32, 0x3D4867B1#32,
      0xBD94B229#32, 0xBD02D03E#32, 0x3D025591#32, 0x3DE1938D#32, 0xBDE52D5C#32, 0xBE08E5F5#32, 0xBD633718#32, 0xBDCE46BA#32,
      0x3D7643A4#32, 0x3CAF3879#32, 0xBE06F8D6#32, 0xBBF28E1A#32, 0xBD30AD99#32, 0xBCC225B5#32, 0x3DD264E6#32, 0x3CF7F38F#32,
      0xBE08B8C9#32, 0x3C72EEC9#32, 0x3C8CA0AA#32, 0xBDFCD695#32, 0x3D893A5C#32, 0x3C11A61A#32, 0xBE0D4CB9#32, 0x3E08B5E4#32,
      0xBC8C4411#32, 0x3E3835EC#32, 0xBE4CE7EB#32, 0xBD20770B#32, 0xBDAFA615#32, 0xBD4231C4#32, 0x3D4ECC48#32, 0x3BAAC3F1#32,
      0xBD4C9607#32, 0x3E1F5738#32, 0x3CC8A45D#32, 0x3CD4E073#32, 0xBC1329EC#32, 0xBDBD8C14#32, 0xBD090609#32, 0xBD119E14#32],
    ![0x3DA83716#32, 0xBDC59144#32, 0xBDCDAEAE#32, 0xBD8FF842#32, 0x3D664082#32, 0x3C864E15#32, 0xBD9F3961#32, 0x3E16C638#32,
      0x3D8E4599#32, 0xBCE049AD#32, 0xBD3EF9E6#32, 0xBD03C2D0#32, 0x3D76238B#32, 0xBD373473#32, 0x3D2E58A0#32, 0x3D0690B0#32,
      0xBD6F6AE5#32, 0xBD858377#32, 0xBCF9A1B5#32, 0xBD8ABDC9#32, 0x3DC98A2B#32, 0x3E363F52#32, 0xBE3DC9F1#32, 0x3DE943D7#32,
      0x3DB400A3#32, 0xBC8DB4AF#32, 0x3D9334CB#32, 0x3CCF8547#32, 0xBB3A0DF1#32, 0x3D6301B7#32, 0x3D8526DC#32, 0x3D4C6577#32,
      0x3E0E820A#32, 0xBE467DC0#32, 0xBC0FC115#32, 0x3E29C882#32, 0xBE930688#32, 0x3C99AEBD#32, 0x3E03F0FC#32, 0x3E312AA4#32,
      0x3DC2E541#32, 0x3D8628AF#32, 0x3DC2AC7F#32, 0x3DC58F8D#32, 0x3DF6A419#32, 0x3C830584#32, 0x3D6637A2#32, 0xBDD68366#32,
      0xBD3F5A8F#32, 0xBE28142A#32, 0xBCECC557#32, 0xBDDDEEBD#32, 0xBDC588C0#32, 0x3C7B7CC9#32, 0x3BB7886F#32, 0xBE591964#32,
      0x3DDB29A2#32, 0x3D4A8B72#32, 0x3DA83DA2#32, 0xBDA09506#32, 0xBE57C9C2#32, 0x3D6CC39D#32, 0x3D6A52A9#32, 0xBCAD3335#32,
      0xBE359005#32, 0xBD4A1E2C#32, 0xBD3E3619#32, 0x3D1C5F5E#32, 0x3C465E16#32, 0xBC0F6DC0#32, 0xBE0AD07F#32, 0x3D2F8D83#32,
      0xBDEAB8EE#32, 0x3D874D6D#32, 0xBDC9EFE8#32, 0xBD994F0A#32, 0xBE082BEF#32, 0x3DE353C5#32, 0x3DF3B4F9#32, 0xBE1EB546#32,
      0xBD30AA51#32, 0xBE22F245#32, 0xBCF425C0#32, 0x3E12D3E6#32, 0xBDE50E0F#32, 0x3D33F95E#32, 0x3CA5C695#32, 0xBD94E976#32,
      0xBD8F657C#32, 0xBD281319#32, 0x3D0072ED#32, 0xBBA57C0C#32, 0xBD5AC7DE#32, 0x3D748091#32, 0xBDCE9F15#32, 0x3DFC6858#32,
      0x3B829443#32, 0x3D526E22#32, 0xBC51CD87#32, 0x3D52D8B3#32, 0x3D821BDA#32, 0xBDD76087#32, 0xBE03957A#32, 0x3B81AAFB#32,
      0x3DCC0073#32, 0x3DDCE918#32, 0xBCFCA0ED#32, 0xBC22A057#32, 0xBDA154B1#32, 0xBDE19C0B#32, 0x3D56C9D3#32, 0xBA464A41#32,
      0x3B66E8E7#32, 0x3DD08682#32, 0xBC079716#32, 0xBD863004#32, 0xBD642CC7#32, 0x3D84D83B#32, 0x3C79A431#32, 0xBD89A77E#32,
      0x3E0280E6#32, 0x3E3DB576#32, 0xBE66700E#32, 0x3DC4C4A1#32, 0x3CA50FEE#32, 0x3D758941#32, 0xBD230348#32, 0x3C5EF0E1#32],
    ![0xBE010061#32, 0x3DA801D1#32, 0x3B2E4556#32, 0xBCBEE371#32, 0x3E1447EE#32, 0xBC2C412A#32, 0xBDA0F4D4#32, 0xBE2F8977#32,
      0x3C39F7E7#32, 0xBCA5B497#32, 0x3C010C79#32, 0x3E14A5B8#32, 0xBDE9BEDB#32, 0x3DB06912#32, 0xBD3C6F91#32, 0x3D8D3098#32,
      0x3DFADD88#32, 0x3D87925F#32, 0xBDA4D382#32, 0x3E12F5D8#32, 0xBD747CE0#32, 0x3D9F5409#32, 0xBC841C79#32, 0xBE80ABB7#32,
      0x3DD0D4B6#32, 0x3C78FEAF#32, 0xBD84ADF4#32, 0x3E1082A7#32, 0x3E1DFBB7#32, 0xBE0BE721#32, 0xBDACECAC#32, 0xBDE368E1#32,
      0xBC12D902#32, 0xBE00C6C2#32, 0xBE875A1F#32, 0xBD8CFFA8#32, 0xBDBD6678#32, 0x3D40C09E#32, 0x3D9AD89F#32, 0x3DDFBCBB#32,
      0xBD00DCD8#32, 0xBC1EB94A#32, 0x3C3A841D#32, 0xBD27F316#32, 0x3DFE7004#32, 0xBD82E22F#32, 0x3DB69E21#32, 0xBD99521B#32,
      0xBD48A820#32, 0xBE0143FE#32, 0xBD5914E1#32, 0xBC7DF0D5#32, 0x3E171791#32, 0xBCCD604A#32, 0x3D9D9708#32, 0xBD84CA30#32,
      0xBDE0744E#32, 0xBD8ABAD0#32, 0xBDA5A95D#32, 0xBC3EFC2C#32, 0x39D08899#32, 0x3D4D5328#32, 0x3D95B4A3#32, 0xBD24071F#32,
      0x3D37DED8#32, 0xBB67D34B#32, 0xBCF435FA#32, 0xBE2672BE#32, 0x3C7730A0#32, 0xBDA7B668#32, 0x3D6ADBF4#32, 0x3DB381FD#32,
      0xBD6CAE8F#32, 0x3C3D0522#32, 0xBCCA32B9#32, 0x3D309CF8#32, 0x3CD15D53#32, 0x3D7CE3FA#32, 0xBE383F94#32, 0xBDEC1B8A#32,
      0xBD8F875E#32, 0xBDAC83E0#32, 0x3E764023#32, 0x3E4D4538#32, 0x3B2A97F1#32, 0x3CE0790C#32, 0x3E189EEF#32, 0xBDE77274#32,
      0x3D6A1D63#32, 0x3C61A973#32, 0xBBEBBCFB#32, 0xBE15D9B2#32, 0x3D0B3CC0#32, 0x3C4384F4#32, 0xBDB8FA14#32, 0x3D9B6101#32,
      0x3D8C6445#32, 0x3DD2FC2F#32, 0xBD4D01AA#32, 0x3E022116#32, 0x3C80817A#32, 0x3D6A4AAF#32, 0xBD7A661B#32, 0xBD31BFFC#32,
      0xBC6F763B#32, 0xBDEEB23A#32, 0xBCA2F6D7#32, 0xBD5283E3#32, 0xBD8B6C8C#32, 0x3D0C1A28#32, 0x3C9C7C2B#32, 0x3E12F7EE#32,
      0xBD8A10EF#32, 0x3B35C6F9#32, 0xBC637BAD#32, 0x3D4C8EA0#32, 0x3CAE5CAF#32, 0xBE49E7FC#32, 0x3DA564EE#32, 0xBDEDA426#32,
      0xBDB8FB3F#32, 0x3B92FFBE#32, 0xBD8A0F76#32, 0xBD3AE50F#32, 0xBE19FBF0#32, 0xBD3A6871#32, 0xBBBB14AA#32, 0x3CD5568D#32],
    ![0x3D2DDBCD#32, 0xBD8111D0#32, 0xBCC3830F#32, 0x3D023A13#32, 0xBC9DCDE4#32, 0x3DAEF64C#32, 0x3D6C6B53#32, 0x3D9E1D6C#32,
      0xBE07EF11#32, 0xBDC7E5CF#32, 0x3D87961B#32, 0x3D8AA11E#32, 0x3CFB7ABF#32, 0xBD9796C3#32, 0x3E01A09F#32, 0xBE179521#32,
      0xBE09404E#32, 0x3DE6D294#32, 0x3D2A13DA#32, 0x3E4CEA57#32, 0xBD38E624#32, 0xBC3B4E98#32, 0x3D4BA25C#32, 0x3DD3A99B#32,
      0xBC388B2B#32, 0x3CE2441A#32, 0xBDBAC2C0#32, 0xBE2988D3#32, 0x3E03F3F0#32, 0xBBE6405A#32, 0xBD40C606#32, 0xBD9E7C51#32,
      0xBE083267#32, 0xBE0B5CAE#32, 0xBDE66F9B#32, 0xBDD5F88E#32, 0x3C30ED5D#32, 0xBE5C1DEB#32, 0x3D0BDC6A#32, 0xBD96678A#32,
      0xBDD4CF3E#32, 0xBD9E388F#32, 0xBD2B2AD3#32, 0x3D97F949#32, 0x3C17EAD3#32, 0xBD1504B7#32, 0xBD2EAE5D#32, 0x3E3357E9#32,
      0xBB83EC86#32, 0x3DE5C387#32, 0x3DC2869D#32, 0x3D187DE9#32, 0xBDDFD7B4#32, 0xBD8C598D#32, 0xBD8BFBC2#32, 0xBD352607#32,
      0xBD2321F8#32, 0xBC90C4AA#32, 0xBCA0D6CB#32, 0x3DC73C5E#32, 0x3DE59E1C#32, 0x3E055A75#32, 0xBD5CAAB0#32, 0xBDC386E7#32,
      0x3E21F42A#32, 0xBBD1F5A5#32, 0x3DF69BDB#32, 0x3C0E410E#32, 0x3DC84EC9#32, 0x3D936F21#32, 0x3E0C2B4F#32, 0xBBF3D022#32,
      0xBD16673A#32, 0xBDA403C3#32, 0x3D4592DF#32, 0x3D88CF19#32, 0x3D5F7570#32, 0xBDA2657B#32, 0xBE1FADA4#32, 0x3B2E3A42#32,
      0x3D6D7F8A#32, 0xBDB04C34#32, 0x3D429715#32, 0x3DAC30DA#32, 0xBB7EF9B9#32, 0xBB7FECB1#32, 0xBDD0BF21#32, 0xBC8AD0A7#32,
      0x3D1E9F74#32, 0x3D1FDBCF#32, 0xBE2391B5#32, 0xBDCB14D0#32, 0x3DF8B436#32, 0xBCFED35B#32, 0xBE79175D#32, 0xBC252DC2#32,
      0x3E0111DA#32, 0xBD8A827B#32, 0xBDC06B82#32, 0xBD2606FD#32, 0x3E367975#32, 0xBCE75B06#32, 0x3D70EFB3#32, 0xBE164458#32,
      0xBC19861C#32, 0x3E00D91C#32, 0xBDAD46CD#32, 0xBD0BE91A#32, 0xBB6E7601#32, 0x3CF49FFC#32, 0x3DD09BA6#32, 0x3DDC3015#32,
      0xBD86AD81#32, 0xBE0B5099#32, 0xBD9218F6#32, 0xBD0C600F#32, 0xBDA86984#32, 0xBE0027F5#32, 0xBD61A075#32, 0xBD997DAF#32,
      0xBD953256#32, 0x3E4E964B#32, 0x3D9E216B#32, 0x3B86F8AA#32, 0x3C6D2566#32, 0xBD8A16E5#32, 0x3DE2F1D2#32, 0xBD870888#32],
    ![0xBCCA9576#32, 0x3E0A5263#32, 0xBC33BADF#32, 0x3CCA507A#32, 0x3CE17781#32, 0xBD7BCEBB#32, 0xBCF41ED1#32, 0xBC726DD0#32,
      0xBE219505#32, 0x3D8D7149#32, 0x3D40F454#32, 0x3C04CCCA#32, 0x3D50CCC4#32, 0xBE6F20D4#32, 0x3BF08C4F#32, 0xBD7D15A3#32,
      0x3D8CED42#32, 0x3CB3F8FE#32, 0xBDB2F7A1#32, 0x3D864DCC#32, 0xBD7FE130#32, 0xBE2949ED#32, 0xBCA61F73#32, 0xBD4E52F2#32,
      0x3DABDF16#32, 0xBD47C1A4#32, 0xBCE6E37D#32, 0xBDD33067#32, 0xBE20C4F2#32, 0xBD3940C1#32, 0x3DABBB97#32, 0x3D2BB664#32,
      0xBCDCF7BD#32, 0xBDDC0372#32, 0xBCD819A9#32, 0x3C4DCA42#32, 0x3C08FE45#32, 0xBE0BDE75#32, 0xBD5D2BEE#32, 0x3CB17A4A#32,
      0xBD1FABEE#32, 0x3D04D133#32, 0xBC759287#32, 0xBD3C16EB#32, 0x3D1D2FFD#32, 0x3CBA796E#32, 0x3DBC44D9#32, 0x3D4BE3C0#32,
      0x3A66907E#32, 0xBCC91C1D#32, 0x3CE0B0E2#32, 0xBBA4C3DC#32, 0xBE12DBF0#32, 0xBD57515B#32, 0xBCC18FA1#32, 0xBD897F1A#32,
      0xBDFAEC34#32, 0x3E01667E#32, 0x3D9D8C12#32, 0x3C9BC6C1#32, 0xBE3A0B4B#32, 0x3D54330A#32, 0xBCC839C6#32, 0x3D3F380F#32,
      0xBCCAEAA2#32, 0xBCBEF94D#32, 0xBDD732D2#32, 0xBC6A02F9#32, 0xBCC13292#32, 0x3D62C01C#32, 0xBDFFA558#32, 0x3DAF4DD2#32,
      0x3D0F8587#32, 0x3DC91BD3#32, 0xBD37DC53#32, 0x3D19DA58#32, 0x3DF978FA#32, 0x3B2A145B#32, 0xBD82BB2E#32, 0xBDF34EEF#32,
      0xBE277A9C#32, 0x3DF09BB1#32, 0x3CAD565C#32, 0xBD67C41C#32, 0xBE3F129C#32, 0xBDBEDB65#32, 0x3D95727E#32, 0x3DBF20F0#32,
      0xBD7CE9ED#32, 0xBDB499F0#32, 0xBCF99B7E#32, 0xBB894169#32, 0xBD94642B#32, 0xBD031D1D#32, 0xBB76D522#32, 0xBCB6BE17#32,
      0x3D58EBC6#32, 0xBD22DFE1#32, 0xBD90C4BC#32, 0xBCB11B9C#32, 0x3DA33C5B#32, 0x3DAA8125#32, 0x3CD0162A#32, 0x3CCD1DBE#32,
      0xBD041E90#32, 0x3E0BE19D#32, 0x3DB88472#32, 0xBC2F8FE0#32, 0xBCFD70AA#32, 0xBCF48B38#32, 0xBDBC7C26#32, 0xBD515E54#32,
      0x3C8138EF#32, 0x3D8A5443#32, 0x3D0881CC#32, 0x3B9E4E19#32, 0xBDB8F3CC#32, 0x3CA5E27C#32, 0xBE2E4E2B#32, 0x3E12DC44#32,
      0xBCC58EC3#32, 0xBD67FEB8#32, 0x3D7E639B#32, 0x3CCDC993#32, 0xBA7A2D05#32, 0xBB5D3CCB#32, 0xBD28B772#32, 0x3E23B58C#32],
    ![0x3D15251B#32, 0x3E1EC235#32, 0xBE362854#32, 0x3D2076D6#32, 0xBB31BA32#32, 0x3CF3D359#32, 0x3E0546F0#32, 0x3D49C289#32,
      0x3D9DE840#32, 0x3C1724C4#32, 0xBD646881#32, 0x3BA0B060#32, 0x3D517751#32, 0x3DCD5EDB#32, 0x3D5AC242#32, 0xBC3B100A#32,
      0xBDAFCD79#32, 0xBB15FFE5#32, 0xBD60E419#32, 0xBCDC1B22#32, 0xBD74164F#32, 0xBCB61086#32, 0xBDC9E43C#32, 0xBC1E688B#32,
      0xBDE73AFF#32, 0xBDB3E827#32, 0x3DC582B8#32, 0x3C1D6DE7#32, 0x3D9B0258#32, 0x3D303879#32, 0x3DA6D898#32, 0x3D83D531#32,
      0x3CE510E8#32, 0xBD96F595#32, 0xBD20B1E8#32, 0x3DF192B9#32, 0xBD83D9B7#32, 0xBD94BC89#32, 0xBD696FFB#32, 0xBDC691D6#32,
      0x3DD6DD5B#32, 0xBAAB4E9F#32, 0x3D3923BE#32, 0xBCFC7898#32, 0x3DA59C49#32, 0xBD995DA2#32, 0xBC2C3289#32, 0x3E36B462#32,
      0xBE0A12B4#32, 0x3E35B776#32, 0xBCEE3931#32, 0x3E277945#32, 0xBB2C2961#32, 0x3D4E62C9#32, 0xBD5B9F35#32, 0xBD04F5E4#32,
      0x3C1BE684#32, 0xBC0C087A#32, 0xBDF3A05F#32, 0x3D7D7B11#32, 0x3D1A915C#32, 0xBDC28E55#32, 0xBD28D327#32, 0xBD4904CE#32,
      0xBDC35BF5#32, 0x3D7896E7#32, 0xBD23DF16#32, 0x3E1AD5E6#32, 0x3DD98F40#32, 0x3C49778E#32, 0xBDD83871#32, 0xBD2F0764#32,
      0xBCC6C9D1#32, 0x3DDE802B#32, 0x3B63AE35#32, 0xBAB53669#32, 0xBD8CBF4E#32, 0xBC87AF78#32, 0xBE239C88#32, 0x3BB72E45#32,
      0x3D247CB5#32, 0xBDAF3E90#32, 0xBE210937#32, 0xBE37421D#32, 0xBDDABB2A#32, 0x3CACB2A8#32, 0xBD114293#32, 0x3DF26F30#32,
      0x3C87F095#32, 0xBDD6A916#32, 0xBD590F80#32, 0x3D333A63#32, 0x3C12DC13#32, 0xBB8BEDDA#32, 0xBCA496E5#32, 0xBD72B61A#32,
      0xBC7981A0#32, 0x3DCE0323#32, 0xBD412060#32, 0xBCAEE40D#32, 0xBD17B31D#32, 0xBCFBA9BD#32, 0x3E047590#32, 0xBE0B75F9#32,
      0xBD9850BD#32, 0xBC9D1F22#32, 0xBE189143#32, 0x3D9B6C76#32, 0x3C459A58#32, 0xBCF6229D#32, 0x3CF123BC#32, 0xBC153AD1#32,
      0xBDB811B6#32, 0x3D8458AF#32, 0x3D5B79BD#32, 0x3DF70A53#32, 0xBDE56528#32, 0xBD85D693#32, 0xBD1F3E21#32, 0xBE2E3666#32,
      0x3CAF2B33#32, 0xBC1B3FC7#32, 0xBD0C27D6#32, 0xBB0B2034#32, 0xBE45C390#32, 0x3BAEFF42#32, 0x3C02B89B#32, 0xBE0999E5#32],
    ![0x3E3545FA#32, 0xBC88A9BC#32, 0x3CBFD714#32, 0x3DC0C18B#32, 0x3D8BC235#32, 0x3B8709FC#32, 0x3D4937F6#32, 0xB9FC1FFB#32,
      0x3E0FFFA3#32, 0xBC9856CD#32, 0xBC5C964E#32, 0x3D08A767#32, 0xBD6FF7C9#32, 0xBD74E673#32, 0xBDCA6DF4#32, 0x3E14725C#32,
      0xBCBD9039#32, 0xBDDFF4A9#32, 0x3D4EB4E3#32, 0x3CAD3D5D#32, 0x3D80BEAF#32, 0x3E252576#32, 0xBD78BC6D#32, 0xBCC56DED#32,
      0x3DEF2BA8#32, 0x3DA32B4D#32, 0x3C589E78#32, 0x3D4C015C#32, 0xBD091E40#32, 0xBDD07F48#32, 0xBD745166#32, 0xBDB232F7#32,
      0xBE17BEAB#32, 0xBD4AF227#32, 0x3E076A57#32, 0xBC5D9A9C#32, 0x3E1B4389#32, 0xBDE2D660#32, 0x3D61DCE5#32, 0xBE2AA395#32,
      0xBD605542#32, 0xBDDF3CAF#32, 0x3E14BB03#32, 0x3CD87AC6#32, 0xBDE981F1#32, 0xB9CF41D9#32, 0x3DF40F2B#32, 0xBD229D74#32,
      0xBD71126C#32, 0xBC51F9CA#32, 0x3B31AD08#32, 0x3DDD4053#32, 0x3D85088C#32, 0xBDD7DC51#32, 0xBD67B72E#32, 0xBC4ADBF7#32,
      0xBE0A2687#32, 0xBD28DF35#32, 0x3D914918#32, 0xBDE7F4F9#32, 0x3D6664D4#32, 0xBDB37CAB#32, 0xBDCC940A#32, 0x3D876D60#32,
      0x3C2B8730#32, 0x3D3ED86F#32, 0x3B58272D#32, 0xBC806411#32, 0x3DA50811#32, 0xBD914562#32, 0xBD0BCC6D#32, 0x3DA8A4E7#32,
      0xBDE6741B#32, 0xBDE4BC53#32, 0x3C2629EE#32, 0x3D9A9410#32, 0x3DD5DAAB#32, 0x3DBB22D9#32, 0xBD8D1A62#32, 0xBD6DE761#32,
      0x3C78E859#32, 0x3D010CD7#32, 0xBD2F2BA2#32, 0x3D95F330#32, 0xBC815B9F#32, 0x3D49DA5E#32, 0x3DE00E44#32, 0x3C347B40#32,
      0x3DA18005#32, 0x3DE9AE9D#32, 0x3DA7B955#32, 0x3D8DB5DA#32, 0xBD51D81E#32, 0x3DA21EDF#32, 0xBCB86847#32, 0xBDE3C3DB#32,
      0xBDC9F2DF#32, 0x3DC4CCF3#32, 0x3DD033EC#32, 0xBD18DD5B#32, 0xBD787605#32, 0xBDDC4D3F#32, 0xBDC9C478#32, 0xBC0F21B8#32,
      0xBDC76520#32, 0x3CD722D2#32, 0xBCA7F74B#32, 0x3E11D9FB#32, 0x3D705E70#32, 0x3D7135A8#32, 0x3D3EBE5E#32, 0xBE08744F#32,
      0xBDC6CA6E#32, 0xBDBD723F#32, 0x3DE4B64B#32, 0xBC989AED#32, 0xBD5D84AE#32, 0xBD47DC01#32, 0x3D401D21#32, 0xBD18C41E#32,
      0x3CDAF227#32, 0xBD5D9374#32, 0xBDFA7097#32, 0x3E13DEBD#32, 0x3DD6DA9F#32, 0xBD778358#32, 0x3CC28F2D#32, 0x3D8B21C1#32],
    ![0xBDF1552D#32, 0xBD95255D#32, 0x3D74E0B4#32, 0xBD50B596#32, 0xBDEA967C#32, 0x3CB64630#32, 0xBE07F1C1#32, 0xBA5387B1#32,
      0x3DADAAEE#32, 0xBDE92B4E#32, 0xBE1058EB#32, 0x3D2DB00D#32, 0x3DA9274D#32, 0x3CF8A90C#32, 0xBD97671A#32, 0xBD057186#32,
      0xBD1F93B3#32, 0x3E05F051#32, 0x3C0378DB#32, 0xBD8E8C33#32, 0xBCD7A362#32, 0xBB838FE8#32, 0xBDF5CD65#32, 0x3D93FCEB#32,
      0xBD2102C2#32, 0xBD6DEA7B#32, 0xBDCDF7E9#32, 0x3D818C67#32, 0xBE44EFFB#32, 0x3C9920ED#32, 0x3E29BFAD#32, 0xBD5EB86F#32,
      0xBD01DAA4#32, 0xBD7F024D#32, 0xBDD7D3B4#32, 0x3DC408F5#32, 0xBE0C16FD#32, 0xBE483559#32, 0xBE0C5CB6#32, 0xBDB3E97F#32,
      0xBDC038E8#32, 0x3CAEB1E4#32, 0x3D18C55B#32, 0xBDA02884#32, 0xBE1A4AF9#32, 0xBDB415F2#32, 0x3B9C18E9#32, 0x3D895080#32,
      0xBCE3B55E#32, 0x3D00D02C#32, 0xBBD99440#32, 0x3E218658#32, 0x3DF87EA6#32, 0x3DE5170A#32, 0x3E09F9AA#32, 0xBB94B95B#32,
      0xBB92B69F#32, 0xBE06B0CB#32, 0x3D138735#32, 0xBDA13884#32, 0x3E023CD2#32, 0xBE19CEC7#32, 0x3D057D16#32, 0x3C9A694A#32,
      0xBD3AA951#32, 0xBDF0CE9B#32, 0xBC5E4146#32, 0x3DAF2D6E#32, 0x3E12F6E9#32, 0x3D4B2CCB#32, 0x3DEA64E3#32, 0x3E4F8B20#32,
      0x3D50F94A#32, 0xBD97CD58#32, 0x3D27BB3D#32, 0x3C8C3431#32, 0x3D761B7B#32, 0xBD11135C#32, 0x3DCD2228#32, 0x3C95C6FC#32,
      0xBD27ABF1#32, 0xBD39159B#32, 0xBE138955#32, 0xBE0DCE9A#32, 0xBD4998A8#32, 0x3BD86F04#32, 0x3D66643B#32, 0xBC626991#32,
      0x3D05465E#32, 0xBDB1D7BD#32, 0xBE20C9CA#32, 0xBD8F9B83#32, 0xBD34F4D4#32, 0xBDA45F32#32, 0x3CFEE7AB#32, 0x3D962A3A#32,
      0xBE2CE57A#32, 0xBD6F4540#32, 0x3CB74558#32, 0x3E24DFE2#32, 0xBDC3EC22#32, 0xBD9871BE#32, 0xBD50BE30#32, 0x3CAED322#32,
      0xBD841D24#32, 0x3DE49C32#32, 0x3D8EB0D8#32, 0x3E02086C#32, 0xBDC96EFE#32, 0x3D9D70AD#32, 0x3D8B49DF#32, 0x3DA7FB86#32,
      0xBC0E73C3#32, 0x3DBDE713#32, 0xBDA358F8#32, 0x3DE51344#32, 0x3D6AB0B4#32, 0xBCFC5C58#32, 0xBE43BC9B#32, 0xBAAFD16F#32,
      0xBD7A924E#32, 0xBD84BCA9#32, 0x3E0D669E#32, 0xBD5F3B29#32, 0xBCF6EF16#32, 0x3DFDABE7#32, 0x3E6C9853#32, 0x3D7D7E54#32],
    ![0x3E14E4FF#32, 0x3C706757#32, 0xBE652AA7#32, 0x3DC79E25#32, 0x3D88F6B4#32, 0x3D2D2061#32, 0xBD2C3709#32, 0x3DF56544#32,
      0x3DF68C27#32, 0xBE14EA5B#32, 0xBDB56A62#32, 0xBDF6E483#32, 0x3CB709C0#32, 0xBDE6AE79#32, 0x3D6F771E#32, 0x3E19337A#32,
      0xBD68FA0C#32, 0xBC015384#32, 0x3D8C009C#32, 0xBB5E5D6D#32, 0xBDB2C3E0#32, 0x3DABD509#32, 0x3DA1BC06#32, 0x3CDD65EB#32,
      0xBD9AA335#32, 0xBDD7D62D#32, 0x3D6970BD#32, 0x3E1A68FD#32, 0xBDABB2AC#32, 0xBD8F3014#32, 0xBCA26B9C#32, 0xBCDE76AA#32,
      0x3E65B695#32, 0xBCD279D6#32, 0x3CC0C61E#32, 0xBA5DD3EE#32, 0x3C9D8291#32, 0x3D3F1646#32, 0xBB6E887C#32, 0xBDAFEC9A#32,
      0xBCBCEC26#32, 0xBD5E03F7#32, 0xBD189799#32, 0x3D315A4B#32, 0x3CE52732#32, 0x3DA45AAD#32, 0x3CA91239#32, 0x3E5D85DB#32,
      0xBCB42EEC#32, 0x3E0FDAF9#32, 0x3D8AE4C0#32, 0x3D8E35D7#32, 0xBE17C780#32, 0xBDBCB3C1#32, 0x3CD6D149#32, 0x3DCAEDC3#32,
      0xBDB66A75#32, 0x3D12313A#32, 0xBD884022#32, 0x3DC08BB5#32, 0xBDB93E40#32, 0x3DDE478C#32, 0xBB633998#32, 0xBD17FAE7#32,
      0xBD8E5A08#32, 0x3CFA4EB3#32, 0x3D98F134#32, 0xBE18D6DD#32, 0xBD24E1EA#32, 0x3DD99621#32, 0x3DE126A0#32, 0x3D0C6418#32,
      0x3C81D127#32, 0xBCB50253#32, 0xBC1E36A8#32, 0x3E8D7956#32, 0x3D2016CC#32, 0x3D52F729#32, 0xBDA831DB#32, 0x3DB0F2C6#32,
      0x3DF6CB25#32, 0x3E2B49A4#32, 0x3E3E7CC5#32, 0x3D21CBEA#32, 0xBDB9AA38#32, 0x3E3FF1A0#32, 0xBE38F4AB#32, 0x3C4AB885#32,
      0x3E494B26#32, 0xBDB5673A#32, 0xBD6260E7#32, 0xBDA7C323#32, 0xBE17BB23#32, 0xBDF0C9D0#32, 0xBE026C0D#32, 0x3DAC1560#32,
      0xBBBB8842#32, 0x3BFF921C#32, 0xBD851288#32, 0xBDF7A566#32, 0x3D9E2B4D#32, 0x3D313589#32, 0x3CD63452#32, 0xBDEDB5DF#32,
      0xBE2CE31D#32, 0xBDB07025#32, 0x3DE11145#32, 0x3D9803E2#32, 0x3E35BC22#32, 0x3D8A4B04#32, 0xBD8D36A8#32, 0xBDADB7D0#32,
      0x3D5372DB#32, 0x3CF08788#32, 0x3D087EB1#32, 0x3D22A5B3#32, 0xBD072DC7#32, 0xBD8B52D8#32, 0x3D6949ED#32, 0x3D0D97F8#32,
      0x3DA3E23E#32, 0x3E6FCC35#32, 0x3DB2DF2E#32, 0xBD09628D#32, 0xBD0B8866#32, 0xBCF6783A#32, 0x3E5C8AD1#32, 0xBDAF7C28#32],
    ![0xBD763757#32, 0xBDA14782#32, 0xBC404214#32, 0xBE057EC5#32, 0xBD16C419#32, 0x3E24A48E#32, 0xBD6E5DD4#32, 0x3E06CAA9#32,
      0x3D08F9F7#32, 0xBDB25380#32, 0x3DA280B5#32, 0x3CA96D27#32, 0xBDCEB40B#32, 0x3E274207#32, 0x3C77CCF9#32, 0xBE20EFCD#32,
      0xBC7E6725#32, 0x3E001D1A#32, 0xBDC73D20#32, 0x3D9093EB#32, 0xBD5B75CB#32, 0x3D99618A#32, 0x3BB35C30#32, 0xBCAE6155#32,
      0xBD06A40B#32, 0xBDD15F5E#32, 0xBA832808#32, 0x3DC1B5DD#32, 0xBE53CE1D#32, 0x3B83A8F7#32, 0xBCDF7B6F#32, 0xBE3FF400#32,
      0xBB255233#32, 0xBE2DCF9F#32, 0xBCCEA78A#32, 0x3CE9F5F4#32, 0xBDA87E16#32, 0x3E47BD61#32, 0xBBFB780D#32, 0x3C9778D5#32,
      0x3DBBF905#32, 0x3D8A17AD#32, 0x3E3AE65F#32, 0x3E46171F#32, 0x3D128573#32, 0xBDD53724#32, 0x3D64C6E0#32, 0xBC393772#32,
      0x3DA3FEE9#32, 0xBD6DCD60#32, 0xBD5C2364#32, 0xBDCD3B1F#32, 0x3C6CC704#32, 0xBD105C7B#32, 0x3D964549#32, 0xBC7CDC8E#32,
      0xBCCDBEE2#32, 0xBD3935DA#32, 0x3BDAD932#32, 0xBDA37220#32, 0xBD7D127D#32, 0x3D133A86#32, 0xBDBDD906#32, 0x3D15AA0B#32,
      0x3DE8782C#32, 0x3D8F3DB7#32, 0x3B3E07D5#32, 0xBC1B2D73#32, 0x3B4BB463#32, 0xBDC122C0#32, 0xBD0B177F#32, 0x3DBB9A3C#32,
      0xBE1ADEB2#32, 0xBD7DB978#32, 0xBD7E6079#32, 0xBD257FAC#32, 0x3E42F29E#32, 0x3C698187#32, 0xBDE56B06#32, 0xBD6FC5B6#32,
      0x3DDED77A#32, 0xBBBBB85A#32, 0x3D223EAF#32, 0x3CD92ACE#32, 0xBD309773#32, 0xBCD5B808#32, 0x3CE528F5#32, 0x3D960C99#32,
      0xBD81C864#32, 0x3D5B29D5#32, 0xBC8489E7#32, 0xBDE1BD85#32, 0x3CAC54F9#32, 0xBBC488D9#32, 0x3CAB340E#32, 0xBC203CED#32,
      0x3D8C491A#32, 0x3E2B9006#32, 0x3D639728#32, 0x3D7EBACE#32, 0xBD2042F1#32, 0xBE054B19#32, 0xBC750171#32, 0x3D531AD1#32,
      0x3B205D49#32, 0x3E25B5D5#32, 0x3BCF3696#32, 0xBD134AA9#32, 0xBD4A2377#32, 0xBBB27D76#32, 0xBDF025C3#32, 0x3D8CA589#32,
      0xBE002BEB#32, 0x3D218E89#32, 0x3DB5287E#32, 0x3DBD1B6E#32, 0xBC7C9B25#32, 0xBB15473B#32, 0xBE3418E5#32, 0x3D9F77D4#32,
      0xBD74D01F#32, 0xBC59CCF0#32, 0xBDA090A2#32, 0x3D9D32FB#32, 0xBDBD6B8E#32, 0xBE0FAEC3#32, 0x3B99BDD9#32, 0x3DA40FB2#32],
    ![0xBD121629#32, 0x3DC824F6#32, 0x3DB0A824#32, 0xBCB91044#32, 0xBE37002A#32, 0xBBB8E318#32, 0x3DAD4C4A#32, 0xBDD7F226#32,
      0xBE87C8E9#32, 0x3D86D392#32, 0xBB1F2F1F#32, 0x3B7B26B2#32, 0xBCEC299D#32, 0x3DA58CC8#32, 0x3CDB0D87#32, 0x3D77675A#32,
      0x3D634E12#32, 0xBD9562C8#32, 0x3E3635A7#32, 0xBD4FBA16#32, 0xBD18CF45#32, 0xBD613481#32, 0xBD8F3DC2#32, 0x3DF830DF#32,
      0x3C534DD3#32, 0x3DD50DE3#32, 0x3E4C2815#32, 0xBCC07B0B#32, 0x3B6DC309#32, 0xBD450D91#32, 0x3E0A64CA#32, 0xBE365AC3#32,
      0xBD443ADD#32, 0x3DFCFA07#32, 0x3D98FC49#32, 0xBDE0C962#32, 0x3E5FA8C7#32, 0x3D3EA555#32, 0x3DC60FED#32, 0xBDAB13EF#32,
      0xBDA2F3BC#32, 0x3D4BA1DC#32, 0xBE30F139#32, 0xBA3A360E#32, 0x3DCAFB34#32, 0xBCEFED0B#32, 0xBE325B66#32, 0x3D8FB3A3#32,
      0xBBAAFD9B#32, 0x3DF2E3C7#32, 0xBC5FD31E#32, 0xBD7B6ED4#32, 0xBD287A05#32, 0xBD7126E1#32, 0x3D934530#32, 0xBD9369CC#32,
      0xBBE4DA57#32, 0x3D40C1F6#32, 0xBDC9698D#32, 0xBE74A2EA#32, 0xBB8748ED#32, 0xBD72BEF0#32, 0xBD20C784#32, 0x3DD5D09F#32,
      0x3C8A788F#32, 0xBDE33EEF#32, 0x3CD0A21C#32, 0xBDBB3515#32, 0x3D165F28#32, 0xBDD6A5EE#32, 0x3D971CA2#32, 0x3D8A50E1#32,
      0x3DA535E7#32, 0xBD557A37#32, 0x3D85F8B2#32, 0xBD6475EB#32, 0x3E0F5EDD#32, 0x3D16AF56#32, 0xBD898EAB#32, 0x3D152EFE#32,
      0x3E19DE85#32, 0xBD9650B5#32, 0xBE24A91E#32, 0x3DF08818#32, 0xBE7D3321#32, 0x3BBAD230#32, 0xBE21AD4A#32, 0x3C43B4C5#32,
      0xBDF41DF6#32, 0x3D141FA6#32, 0x3E1C3BE8#32, 0xBDFA8893#32, 0xBD8E26F6#32, 0x3CFA9AB9#32, 0xBD8D1DC9#32, 0x3CA3F038#32,
      0xBDFB51B7#32, 0xBC578F46#32, 0x3DD8597C#32, 0xBDAF147C#32, 0xBE5E7DC9#32, 0xBE2CA2ED#32, 0xBE3F540C#32, 0xBDA750BA#32,
      0x3A2C14A9#32, 0x3D63E4A8#32, 0x3BCB91CD#32, 0x3DD11BBB#32, 0xBD9F690D#32, 0x3DA136B2#32, 0x3DCA9060#32, 0x3CF18064#32,
      0x3C82AC71#32, 0x3D769C6B#32, 0x3DFA8BCE#32, 0x3D07A502#32, 0x3CAF87B8#32, 0x3D13C220#32, 0x3E3ADB0D#32, 0x3E0FB9A7#32,
      0x3D82A236#32, 0xBDD0C88E#32, 0x3B02CD94#32, 0xBD9BAD2D#32, 0x3C160890#32, 0xBE401FF2#32, 0xBD0EA70B#32, 0xBE14D804#32],
    ![0x3D76F893#32, 0x3D18A593#32, 0xBE05E92E#32, 0xBDDA0D6C#32, 0x3C112F85#32, 0x3CB1A3AF#32, 0x3C8338B4#32, 0x3C06C0D5#32,
      0x3DA741A0#32, 0x3D8AE3C4#32, 0xBE38C282#32, 0x3DBD995C#32, 0xBDCBC114#32, 0xBD5FBF30#32, 0xBD3C467E#32, 0xBC43947D#32,
      0x3D800BE1#32, 0x3D60D655#32, 0x3E054D7B#32, 0xBC5A69DC#32, 0x3D9621D9#32, 0xBD9C03E7#32, 0x3D52D71E#32, 0x3E97D516#32,
      0xBD03884A#32, 0xBDC8E331#32, 0xBD2EE1E8#32, 0xBDE64E52#32, 0xBDC12828#32, 0xBD282AED#32, 0x3D728520#32, 0xBD505691#32,
      0x3CCC5139#32, 0xBE0FC10A#32, 0x3CBD1126#32, 0x3DC8449E#32, 0x3DA1EE2E#32, 0xBE3451BC#32, 0xBE047E02#32, 0xBD68FD03#32,
      0xBCAC75A2#32, 0x3E38DF28#32, 0x3D96A646#32, 0x399095E4#32, 0xBE30391D#32, 0xBD9FE493#32, 0x3DCA6BBB#32, 0x3E1015D1#32,
      0x3D8C02A5#32, 0xBD4C5F3B#32, 0xBDA43F58#32, 0xBC82A059#32, 0x3DC6D074#32, 0xBCE31FE0#32, 0xBCB54854#32, 0xBE51ACF6#32,
      0xBD9C9823#32, 0x3E50AF72#32, 0xBE426293#32, 0x3E1F5944#32, 0xBC807F2A#32, 0xBD93DD20#32, 0x3E3113A2#32, 0x3D4C977B#32,
      0xBDC01B76#32, 0xBB8B8020#32, 0x3D40F918#32, 0x3C14A1F3#32, 0xBE381FB9#32, 0xBC3DFD5B#32, 0x3D77DC4D#32, 0x3D206D8D#32,
      0xBDD97F62#32, 0x3D4DE1F8#32, 0x3D94FBA7#32, 0x3D41B519#32, 0xBC7E072E#32, 0x3D8A34F8#32, 0xBD5DA9A2#32, 0xBD05D2C3#32,
      0x3D0F7DC0#32, 0x3E449F0A#32, 0xBCC944A4#32, 0x3DCDC490#32, 0x3CCA09EA#32, 0xBDF8BCA4#32, 0x3D71E4F2#32, 0xBD1D9E56#32,
      0xBE351FAC#32, 0x3DD189B4#32, 0x3D608A83#32, 0x3D0F00FE#32, 0x3D9694DE#32, 0x3C086308#32, 0x3DFED248#32, 0x3D954EEB#32,
      0x3D18A109#32, 0x3D967AFC#32, 0x3D531F66#32, 0x3E263F60#32, 0x3D50CA4F#32, 0xBCCB6228#32, 0xBCD5F002#32, 0x3E1B4DED#32,
      0x3DF94CC4#32, 0x3C169075#32, 0xBCC32ED2#32, 0x3D4AAA92#32, 0x3DA93BBB#32, 0xBCF4360A#32, 0xBC9781DF#32, 0xBE02C90B#32,
      0x3C7A1BBC#32, 0x3E8BFDA4#32, 0x3D5A9464#32, 0xBDAC215A#32, 0x3DB21678#32, 0xBE326611#32, 0xBD8A4913#32, 0xBD6CB448#32,
      0xBDC2AEBE#32, 0xBD34CD8B#32, 0xBD4D5E48#32, 0x3CD02F93#32, 0xBC0417B4#32, 0x3D94814C#32, 0xBD5AFC8B#32, 0xBDCC7CFA#32],
    ![0x3E0A2E54#32, 0xBD2BBD52#32, 0xBB95EE7B#32, 0x3D76E53E#32, 0x3D1CECB5#32, 0x3E051797#32, 0x3E097895#32, 0x3C85D6D0#32,
      0xBCBD26CA#32, 0xBCD9CEF3#32, 0xBE10295D#32, 0x3E0A69F5#32, 0xBD825F2E#32, 0xBD1C5634#32, 0xBC045AC3#32, 0x3C144872#32,
      0xBE52FD5E#32, 0x3C023973#32, 0xBD66E5F0#32, 0xBC7E7F7C#32, 0xBDA43CF0#32, 0x3DDB0C72#32, 0x3D120032#32, 0x3C8FB17E#32,
      0xBDD2E614#32, 0xBD8AD5F3#32, 0x3DC4586D#32, 0x3D9546A7#32, 0xBE1C1A4D#32, 0xBD1ABF5E#32, 0xBD94CE42#32, 0x3E75967C#32,
      0x3E0A4407#32, 0xBD9F843D#32, 0x3DBD1447#32, 0xBDD5D9C7#32, 0x3D275A3C#32, 0xBC81AE49#32, 0x3DC29EC8#32, 0xBD874434#32,
      0xBCA7CF32#32, 0x3C66FF28#32, 0xBDEBB34B#32, 0xBC252549#32, 0x3A31E0E8#32, 0xBDAD1591#32, 0xBD4FF288#32, 0xBCFF3073#32,
      0xBD8743FF#32, 0x3D793D78#32, 0xBE0413FB#32, 0xBD6BB499#32, 0x3DCF4B19#32, 0x3D0B5CDE#32, 0x3D26963F#32, 0xBD94B82F#32,
      0xBD3BD42B#32, 0x3D982586#32, 0xBD75A88B#32, 0x39B36694#32, 0x3DFBDA15#32, 0xBDCF2540#32, 0xBDCC44B3#32, 0xBD97C66D#32,
      0xBE16F26C#32, 0xBE2E322F#32, 0xBD4D4FBB#32, 0xBB8CC613#32, 0xBCB1B694#32, 0xBDD2715C#32, 0x3E24D00B#32, 0x3DFD73EF#32,
      0xBD4FD8A6#32, 0xBD9F5DA7#32, 0xBCB3DF43#32, 0xBE25E5E0#32, 0x3E858F1E#32, 0xBE085BBD#32, 0x3D98C36D#32, 0x3C6556DA#32,
      0x3C0B5280#32, 0x3D80E14B#32, 0xBE40E951#32, 0xBC9357A8#32, 0xBD92D172#32, 0x3DE08E2C#32, 0xBD2FE3F5#32, 0x3D6A826D#32,
      0xBD0605D4#32, 0x3DCD138F#32, 0x3C1B550E#32, 0x3D66B604#32, 0xBD04A044#32, 0xBD92DF2D#32, 0xBD04A58C#32, 0xBE027020#32,
      0x3DA8AA99#32, 0x3D06FD42#32, 0x3DFFD5D2#32, 0x3D0FFF5E#32, 0x3D3817BD#32, 0xBD94CA01#32, 0xBBF64FCF#32, 0x3DADB67B#32,
      0xBD87DF9D#32, 0xBE31785D#32, 0x3DF8196A#32, 0xBD6F320E#32, 0x3AAB258B#32, 0xBD97A81E#32, 0xBCE68B69#32, 0xBDD1D495#32,
      0xBC8BDB3E#32, 0x3D4A4B84#32, 0xBDCA3FC7#32, 0xBD922A82#32, 0xBD562893#32, 0x3D19CF9E#32, 0xBE024B99#32, 0x3D5FD3E0#32,
      0xBD72A90C#32, 0x3DE1DA93#32, 0xBD201534#32, 0xBD83F8F5#32, 0x3B880D9D#32, 0xBC844ECB#32, 0x3D534FD4#32, 0xBE087614#32],
    ![0xBD041488#32, 0x3DB82279#32, 0x3DAE6BF8#32, 0xBD82E622#32, 0x3D9BD0AB#32, 0x3D207A4F#32, 0xBE137B3A#32, 0x3D8CF5AB#32,
      0x3D1227BF#32, 0x3DC41DFC#32, 0x3DAADB7D#32, 0x3D48C14F#32, 0x3E06F212#32, 0xBC58E2F4#32, 0xBDB17FA2#32, 0x3D7AC17D#32,
      0xBCCBD7B7#32, 0xBB9C16F2#32, 0xB95C6447#32, 0xBE55EC90#32, 0xBD7183D8#32, 0xBD84FDAE#32, 0x3D63FA43#32, 0x3DA12BF9#32,
      0x3D96AC07#32, 0xBCEC8EBD#32, 0x3E0934F5#32, 0xBE6D3FE2#32, 0x3DAF03F7#32, 0xBD991EB8#32, 0x3C057CBC#32, 0x3DE25B69#32,
      0xBDB582D0#32, 0x3CEB5752#32, 0x3E745870#32, 0xBE5CAA6C#32, 0xBE06EA8D#32, 0x3DD336FA#32, 0x3C36B156#32, 0xBC88096A#32,
      0xBE2278AC#32, 0x3DB1EA2A#32, 0x3DC0C356#32, 0x3E213EB9#32, 0x3C211703#32, 0x3DA190B8#32, 0xBC83D114#32, 0xBE39BB5F#32,
      0xBE3EBBCD#32, 0xBC3ADB9A#32, 0xBCDA938A#32, 0x3D2A0BDF#32, 0x3CCABF3D#32, 0xBDCAC0CE#32, 0xBD5A17F2#32, 0x3DE1CEBA#32,
      0x3D163FF4#32, 0xBD4BEF2F#32, 0xBE2A9FE8#32, 0xBD59DFEF#32, 0xBD3A9D5A#32, 0xBC0841BA#32, 0x3CFD69AD#32, 0xBE2E4F15#32,
      0x3C7A69A3#32, 0xBCF35E05#32, 0xBD1D04C9#32, 0xB8B6EA6A#32, 0x3E028D85#32, 0x3E014B72#32, 0x3CDC4966#32, 0x3D06FC85#32,
      0xBDD07AB7#32, 0x3CDE8877#32, 0xBE12DAE5#32, 0x3D03AFE9#32, 0xBD14472D#32, 0x3E22D64D#32, 0xBDCE3B3B#32, 0xBAB6E847#32,
      0x3D8DBF87#32, 0x3D656140#32, 0x3D5B7494#32, 0x3D2E07F2#32, 0xBD8739E3#32, 0xBD3DB07E#32, 0x3DBEB607#32, 0x3D83C91C#32,
      0x3BCB51F7#32, 0xBDE3BA7D#32, 0xBCFA2B23#32, 0x3DA58B26#32, 0x3DC83E89#32, 0xBDB5CF66#32, 0xBDD3B978#32, 0x3D00440A#32,
      0x3DE9DD3F#32, 0x3D37AC56#32, 0xBD0384EB#32, 0x3CCD54D2#32, 0x3D232B0C#32, 0x3DF6A376#32, 0xBBABCA26#32, 0xBBC6D526#32,
      0x3D77BBF1#32, 0xBDA18F2A#32, 0xBDAE9A8C#32, 0x3D76C225#32, 0x3D23D8A0#32, 0x3D313E4C#32, 0x3DAD5024#32, 0x3B31D183#32,
      0xBDAF6CE2#32, 0xBDB64665#32, 0x3DDF42F3#32, 0xBDD61363#32, 0xBDE5077B#32, 0xBD926346#32, 0x3CC81D0E#32, 0x3DFA78DD#32,
      0xBE602492#32, 0xBE13A2B4#32, 0xBC6A054F#32, 0xBD64FC32#32, 0x3D72954E#32, 0xBD55AFEB#32, 0xBDFBF810#32, 0x3DB76EB4#32],
    ![0x3C3A0BC7#32, 0x3DFF5F91#32, 0x3DC0360A#32, 0xBE4E7DEB#32, 0xBDD68A02#32, 0xBC06D402#32, 0x3D925CCF#32, 0x3D48DD4A#32,
      0xBDECB10B#32, 0xBDB1F445#32, 0xBD024161#32, 0x3D48EEBF#32, 0x3E193505#32, 0xBDEB816D#32, 0xBC80710F#32, 0x3E121536#32,
      0xBDDCF4A9#32, 0xBDB4C009#32, 0xBC3E84BB#32, 0xBCCBD1AE#32, 0x3D07A80D#32, 0xBC459AA3#32, 0xBDEA280A#32, 0xBB4616B0#32,
      0x3D9E3F4C#32, 0x3E2A08BD#32, 0x3D528434#32, 0x3E80E9C5#32, 0xBDFF9616#32, 0x3D256A79#32, 0x3D5C5DF0#32, 0x3DDF146C#32,
      0xBDDF24E9#32, 0xBD796C37#32, 0x3D6AC8B9#32, 0x3DBAB635#32, 0x3CAB8A4E#32, 0xBDC0DF70#32, 0xBD327089#32, 0xBD034399#32,
      0xBE1E51DC#32, 0xBD869EBA#32, 0x3D94F9A5#32, 0x3D51B22A#32, 0x3D91F11F#32, 0xBD61D0BB#32, 0x3D953F72#32, 0x3CDC782D#32,
      0x3C852A2E#32, 0x3D77E124#32, 0xBD2B24EA#32, 0xBC9BF356#32, 0x3DBC668F#32, 0xBE4CAB72#32, 0x3C0A13FC#32, 0xBD92FB51#32,
      0xBE2A774E#32, 0xBE2ABE85#32, 0xBC1F72B0#32, 0xBDA1E798#32, 0x3D43DB20#32, 0xBE8F6194#32, 0xBC807771#32, 0x3E707F83#32,
      0xBD4BDB96#32, 0x3D1CBA32#32, 0xBD892C23#32, 0x3E042CA3#32, 0xBCAD9602#32, 0x3DF38F3F#32, 0xBC93503F#32, 0x3E348AA3#32,
      0xBD59ABED#32, 0x3E46D7D0#32, 0xBC8C83EE#32, 0x3D1B83FE#32, 0xBDCE8DEA#32, 0xBD50758C#32, 0x3D0ADD29#32, 0x3D9DFFED#32,
      0x3E381264#32, 0xBDEA70F7#32, 0x3C9D6844#32, 0xBD983361#32, 0x3D2024F0#32, 0xBD81840C#32, 0xBDC0DA0E#32, 0x3DA98BFD#32,
      0x3DCD703E#32, 0xBDDDE0CF#32, 0xBDD2C541#32, 0xBD0918EB#32, 0xBC66A1D3#32, 0xBDCCCE14#32, 0x3D79C579#32, 0x3CA53D4F#32,
      0x3CF66103#32, 0x3CEDB0DC#32, 0x3D1207B0#32, 0x3D9828F1#32, 0xBE072AE4#32, 0xBD0214AD#32, 0x3BD53047#32, 0xBD486264#32,
      0x3E11580E#32, 0xBD712FBA#32, 0xBE2395D5#32, 0xBE47A4A9#32, 0xBDEFA5AA#32, 0x3E1D5A26#32, 0x3D9ED356#32, 0x3C9807C4#32,
      0xBD3E9F36#32, 0x3E04F7C7#32, 0x3CF3AC45#32, 0xBDA0A413#32, 0x3BEFD9D5#32, 0x3D9DCB1B#32, 0x3D94F941#32, 0xBDDF8726#32,
      0x3EA7473E#32, 0x3D094E90#32, 0x3E0E727E#32, 0x3D9F8BE7#32, 0x3C183529#32, 0xBD257034#32, 0xBC69A83F#32, 0x3D8EBCE3#32] ]
noncomputable def arg4 {F : FTy → Type} [FloatOps F] : FVec F (⟨2, ![118, 128]⟩ : Shape) .f32 := fun i => FloatOps.ofBits .f32 (arg4_words (i 0) (i 1))

noncomputable def arg5_words : Fin 128 → BitVec 32 :=
  ![0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32]
noncomputable def arg5 {F : FTy → Type} [FloatOps F] : FVec F (⟨1, ![128]⟩ : Shape) .f32 := fun i => FloatOps.ofBits .f32 (arg5_words (i 0))

noncomputable def arg6_words : Fin 64 → Fin 128 → BitVec 32 :=
  ![
    ![0xBC002F6F#32, 0xBE3B1081#32, 0xBDE4CC9D#32, 0xBC524067#32, 0x3D986204#32, 0x3D10D99B#32, 0xBE97A8AC#32, 0xBDD6831F#32,
      0x3E0B4462#32, 0x3DAE987D#32, 0xBCCDC4F6#32, 0xBDB37F5D#32, 0x3CAE8302#32, 0x3A19B853#32, 0x3E0E56D2#32, 0xBE0E98B4#32,
      0xBE00C4EB#32, 0xBC6ACA0B#32, 0x3DC783EF#32, 0x3E140AA2#32, 0xBCBE0FAD#32, 0xBE36F844#32, 0xBE221ACA#32, 0x3D6742EE#32,
      0x3CC64CF5#32, 0xBDE094EB#32, 0xBE81652E#32, 0x3D9477DF#32, 0x3DADB797#32, 0x3D1EFB99#32, 0xBCD72E64#32, 0x3E49B7BE#32,
      0x3E2B27A2#32, 0x3DFC146B#32, 0x3DBF24B3#32, 0x3D9FDD6E#32, 0xBBCB5BD7#32, 0x3E026515#32, 0x3E9C341D#32, 0xBDA5D733#32,
      0x3C3EB911#32, 0x3D81AA5A#32, 0x3E0A2B36#32, 0x3E34F0BC#32, 0x3CFD6D42#32, 0x3DEBC67B#32, 0x3C6A616A#32, 0xBDA960D0#32,
      0x3CA65EA9#32, 0xBD9D598D#32, 0xBD8352EF#32, 0xBE2253B4#32, 0x3DBB2E00#32, 0xBE223314#32, 0xBD2C33F7#32, 0xBCB3DC83#32,
      0xBD9A5949#32, 0xBCA5CFFE#32, 0xBE53BB83#32, 0xBD0732DB#32, 0x3DD36321#32, 0xBD6F0B61#32, 0xBE41176A#32, 0xBDF1248E#32,
      0x3E90D63B#32, 0xBD8AD0E1#32, 0x3D65455C#32, 0x3D4C6C4E#32, 0x3C8AF7C0#32, 0x3D0849B1#32, 0x3B0FFD65#32, 0x3E23F88E#32,
      0xBE1C3A1D#32, 0xBE06629F#32, 0x3DABAFFE#32, 0xBCBAC6D7#32, 0x3D746252#32, 0x3E28AC79#32, 0xBE0592FF#32, 0xBE6FC8E1#32,
      0xBDE53668#32, 0xBE1E489B#32, 0xBBF212B0#32, 0x3DAF3600#32, 0xBC121075#32, 0xBE32F723#32, 0xBD416BDD#32, 0x3D83EDDA#32,
      0x3D1845A2#32, 0x3E0CE879#32, 0x3D9FF4E0#32, 0xBD8A1A22#32, 0xBE29883F#32, 0xBAE19DFC#32, 0x3BCE75B6#32, 0xBEA99957#32,
      0xBD0359E0#32, 0xBD3EEC37#32, 0xBD0352A1#32, 0x3DF87EB2#32, 0xBC6A3D39#32, 0x3E2C7957#32, 0xBDEEEFF2#32, 0xBE28E007#32,
      0xBEAAE96B#32, 0xBD92E8BA#32, 0x3D91FF0C#32, 0xBC6CEB66#32, 0xBE5F5202#32, 0xBE0D025C#32, 0xBCEBE890#32, 0x3E0E8874#32,
      0xBE4A2061#32, 0xBD4595BF#32, 0xBE092985#32, 0xBE0AEFAC#32, 0xBE09B22E#32, 0x3D033525#32, 0xBC5878E6#32, 0xBE6DB409#32,
      0xBCBF5FC8#32, 0x3C969351#32, 0xBD5C930E#32, 0xBE400BCD#32, 0xBC3D50AE#32, 0x3DF6A879#32, 0x3E75F110#32, 0x3E28790E#32],
    ![0x3DD997C4#32, 0x3BE38A8A#32, 0x3D3F8E61#32, 0xBDB1A46E#32, 0x3DAC9D4E#32, 0xBDABD802#32, 0xBDEDABEE#32, 0xBE022FEE#32,
      0x3D7BE0D3#32, 0x3D5246FC#32, 0xBDC2713C#32, 0xBE52D5E4#32, 0xBDDD78E4#32, 0x3E4017B5#32, 0x3E46C823#32, 0xBE89632D#32,
      0x3DA13992#32, 0xBE4FE0EF#32, 0x3CBEBB8A#32, 0xBDE4A90E#32, 0x3E57D479#32, 0x3DF31357#32, 0x3E29CF17#32, 0xBDACA281#32,
      0xBBA544DE#32, 0x3E77E161#32, 0x3E0C6B1B#32, 0x3D7AB86D#32, 0x3E2B821F#32, 0x3E180D22#32, 0x3E10BF47#32, 0xBD3AE90C#32,
      0xBDCBC7A3#32, 0x3CCD588B#32, 0xBD5EFF6E#32, 0xBCA1F379#32, 0xBDEAEA45#32, 0x3E69CE70#32, 0xBCEBDBC6#32, 0xBCE1E437#32,
      0x3E50D9F6#32, 0x3D821C9D#32, 0xBDAE4BBC#32, 0x3D7CB5CC#32, 0x3D694A36#32, 0x3DDF62E9#32, 0xBE02FA92#32, 0xBE83C4CE#32,
      0x3B83D20F#32, 0x3B00A778#32, 0xBD13D762#32, 0x3E891CEA#32, 0x3E73D811#32, 0x3DFF2F5E#32, 0x3CB16F13#32, 0xBD914120#32,
      0x3E2248AB#32, 0xBC850209#32, 0xBDFAFF35#32, 0xBC294EAA#32, 0x3DB96FCD#32, 0xBE1B22DD#32, 0x3CBBB4CE#32, 0xBD884DA3#32,
      0xBDF874EE#32, 0xBE7551D5#32, 0xBE0F45EA#32, 0xBE49C596#32, 0x3D523A3F#32, 0xBD16E5BC#32, 0x3D6485E0#32, 0xBCBADB12#32,
      0xBE0DA7A5#32, 0x3CFBABF6#32, 0xBD061773#32, 0xBE085A7F#32, 0x3DACDC9A#32, 0x3E2E0A68#32, 0xBD81AC13#32, 0x3CE6B9A7#32,
      0xBD919C82#32, 0xBDF4735D#32, 0xBE3FB15F#32, 0xBEA133E4#32, 0x3DFB4F3D#32, 0x3D808230#32, 0xBE03D1D3#32, 0xBE50C62A#32,
      0xBE3E3641#32, 0xBCF6DEE2#32, 0x3C5DA7FA#32, 0xBE8B9B42#32, 0x3C93774D#32, 0xBD555D59#32, 0x3D14056D#32, 0x3E3A5E54#32,
      0x3CC6EB65#32, 0x3D99AC0F#32, 0x3CE07ABA#32, 0x3D37CFB9#32, 0x3E2DC35E#32, 0xBD26DFC3#32, 0x3E4FF755#32, 0xBD5A8211#32,
      0x3D2D2AAB#32, 0xBD871807#32, 0xBBF683E4#32, 0xBD3112FD#32, 0xBD52BEF1#32, 0x3E292F4D#32, 0xBE17DA18#32, 0x3DE2DB4F#32,
      0x3E875A25#32, 0xBE652D7C#32, 0x3D8FFD21#32, 0x3DA6712C#32, 0xBDEFA846#32, 0x3E2E64EC#32, 0x3E7293BF#32, 0x3C46AB98#32,
      0xBD81E576#32, 0xBC5E91EB#32, 0x3C043DF1#32, 0x3DA61476#32, 0xBD6E84DA#32, 0xBAB1DC3B#32, 0x3E3E5529#32, 0x3E39C81D#32],
    ![0x3DEFE369#32, 0xBDCE970D#32, 0xBDAC5D9F#32, 0x3D4DC6E5#32, 0x3CEE3B5E#32, 0xBD3C70E7#32, 0x3D018843#32, 0xBDA97C5B#32,
      0xBE453D04#32, 0xBD54D9B7#32, 0xBD6CC3B1#32, 0x3D388082#32, 0xBDD573F8#32, 0x3D9A77C4#32, 0x3D36DEDB#32, 0x3DFA51D0#32,
      0xBA8F8A12#32, 0xBCE8912D#32, 0xBDB1A8E4#32, 0x3E46BC1A#32, 0x3DB95813#32, 0xBDCB674B#32, 0xBDC76467#32, 0xBB145B37#32,
      0x3DEFE2D5#32, 0x3CB2D89B#32, 0xBDAC9311#32, 0xBE1778A8#32, 0xBD9D561A#32, 0xBEA76129#32, 0xBD997099#32, 0x3D46C341#32,
      0xBE1386CA#32, 0xBCA0B76B#32, 0xBE4FCB80#32, 0x3D432C05#32, 0xBD697BBB#32, 0xBD8DFD29#32, 0xBE149E59#32, 0x3E5340B9#32,
      0xBD6D47E0#32, 0x3E0935AA#32, 0xBD4B82B3#32, 0x3E29F324#32, 0xBD64332E#32, 0x3DEA0791#32, 0xBC932084#32, 0xBD0E8DAB#32,
      0x3D642F65#32, 0x3D26B6FB#32, 0xBC1F4246#32, 0x3E2C69A3#32, 0xBD8A4725#32, 0x3DECB799#32, 0xBEEE0795#32, 0x3EAEF108#32,
      0xBE180FE1#32, 0x3DF91F1D#32, 0x3D2DC720#32, 0x3D88A373#32, 0xBE50778D#32, 0xBDCB77C8#32, 0x3D755824#32, 0xBCFEB3BC#32,
      0x3DC034A2#32, 0xBD381034#32, 0xBE0A34C7#32, 0x3D89C822#32, 0xBCF75C88#32, 0x3E382930#32, 0xBD37D255#32, 0xBC3498D7#32,
      0x3CFFCD21#32, 0x3B3EC06E#32, 0x3DA479D4#32, 0x3DAA485B#32, 0xBE438F5D#32, 0xBC9C1C34#32, 0x3CD97DF8#32, 0xBD89FFCB#32,
      0x3DCDF5E8#32, 0x3DC7E702#32, 0xBE28B36F#32, 0x3E2F9E62#32, 0xBDA9A960#32, 0xBE7B6FCF#32, 0xBD6BABB4#32, 0xBDF4F3C1#32,
      0x3CDD065D#32, 0xBCBDBF6E#32, 0xBD19D52D#32, 0x3DB56ABA#32, 0xBE08EC1A#32, 0x3DB78813#32, 0x3CEEC1DB#32, 0xBD1BF83F#32,
      0x3B8C6351#32, 0xBAB632BB#32, 0xBB3EC8E4#32, 0x3E3EA804#32, 0x3E50FCDF#32, 0xBE2BFDC7#32, 0xBD50CB84#32, 0x3B99296E#32,
      0xBCFAEDCF#32, 0xBDD44918#32, 0xBC8F8E4D#32, 0xBD5EDB79#32, 0xBD109146#32, 0xBDC4A3E4#32, 0x3B7D1903#32, 0xBC6682D0#32,
      0x3DEDDB91#32, 0x3DE82F06#32, 0x3C5F44DC#32, 0x3D811D0F#32, 0xBC131622#32, 0x3DDCD797#32, 0x3DB24700#32, 0x3D9F85CB#32,
      0x3CB265D7#32, 0x3DC5D8B6#32, 0xBDAC6A3A#32, 0xBE4F57DD#32, 0x3DF4155E#32, 0xBD8F6352#32, 0xBE72DB98#32, 0xBE8A665C#32],
    ![0xBE36F5CB#32, 0xBCAE4A62#32, 0xBBBC1159#32, 0x3E40AE32#32, 0xBDC6629A#32, 0x3E2B91A6#32, 0x3E0BE297#32, 0x3DEAA9DE#32,
      0x3E293B63#32, 0x3DCC22BA#32, 0xBE8AE299#32, 0xBD2FC2A2#32, 0xBDB0BC26#32, 0xBE579DA2#32, 0xBC2C544B#32, 0xBDC37A8F#32,
      0xBE0A1A68#32, 0x3E1EBEC5#32, 0x3E120A47#32, 0xBD3FA143#32, 0xBD7ED1B0#32, 0xBE2C5F1A#32, 0xBD4B89D2#32, 0xBE75966A#32,
      0x3DED37D8#32, 0xBE049633#32, 0xBE22BB53#32, 0xBDFD581D#32, 0x3BFC8D6F#32, 0xBE0CE5EF#32, 0x3E01664B#32, 0x3CFD2713#32,
      0xBE03490B#32, 0x3D900D94#32, 0x3DF6AEE3#32, 0x3E1E3108#32, 0x3E524D3F#32, 0x3D0FCB1F#32, 0xBE704CA6#32, 0xBD3B1067#32,
      0xBD7F8A90#32, 0x3DCBF647#32, 0x3C3ADE48#32, 0x3E257DB1#32, 0xBDD2DC28#32, 0xBB941C8C#32, 0xBD51BCF0#32, 0x3E45D8C0#32,
      0xBB0FEF4A#32, 0xBD7D880A#32, 0x3D8579BC#32, 0x3E5EB6E1#32, 0xBCACAF27#32, 0xBEAA491E#32, 0xBD37B6CE#32, 0x3D839879#32,
      0x3D9B6250#32, 0x3E032F90#32, 0x3E2F2C89#32, 0x3C7E9AD2#32, 0x3DDF49DF#32, 0x3CA7A6E6#32, 0xBD370572#32, 0x3E044040#32,
      0xBE0C85E1#32, 0x3DCB3CA7#32, 0x3E03916C#32, 0x3DC9BCD3#32, 0xBE1B6709#32, 0x3C499A4E#32, 0x3D876039#32, 0x3C918CE2#32,
      0xBDDD1EAA#32, 0x3E82173C#32, 0x3C5534F8#32, 0x3DEFAF01#32, 0xBE8012E5#32, 0x3DE37893#32, 0xBC5141E7#32, 0xBD963739#32,
      0xBD21B047#32, 0xBDDE7DFF#32, 0xBE839CF5#32, 0xBD9285E2#32, 0xBD18D7F2#32, 0xBDE6375F#32, 0xBE20E3FA#32, 0xBD995DAF#32,
      0x3E2894BB#32, 0xBD9260D7#32, 0x3DE3FFDE#32, 0xBD02F944#32, 0x3E085A31#32, 0x3DFBDF34#32, 0xBC6F235D#32, 0xBDDA1B4E#32,
      0x3DC79C07#32, 0x3DF3BAD9#32, 0x3D901F3E#32, 0xBD90327C#32, 0x3E31DE50#32, 0xBDB55EAF#32, 0xBD84026B#32, 0xBCF3B2E2#32,
      0x3E856541#32, 0xBE050477#32, 0x3E1FAE69#32, 0xBE04269B#32, 0xBCE5A37E#32, 0xBCDA6D95#32, 0xBD15B248#32, 0x3DA15118#32,
      0x3D66444F#32, 0x3E831D40#32, 0xBD892B56#32, 0xBDE26DD1#32, 0xBE0B782A#32, 0x3E55D959#32, 0x3C939CD1#32, 0xBCC3D914#32,
      0x3E0E3E2E#32, 0xBCC60287#32, 0x3DB5E3DD#32, 0xBE14679B#32, 0xBE2ED63B#32, 0x3B0508B3#32, 0xBCC70B0C#32, 0x3CD65627#32],
    ![0xBC45D849#32, 0xBD2114BB#32, 0xBD88E4D9#32, 0x39DFB3CB#32, 0xBE1CB39B#32, 0xBD854D72#32, 0xBE462B04#32, 0x3D322DBC#32,
      0x3D23A6FC#32, 0xBD72295B#32, 0x3D9B3106#32, 0x3DEB6ADF#32, 0xBE3E5849#32, 0xBE0E8209#32, 0x3D880DA0#32, 0x3BBF565C#32,
      0xBDAD07BD#32, 0xBE0DD763#32, 0xBBC5ABA0#32, 0xBDECD59E#32, 0xBE3702AA#32, 0x3D9E1308#32, 0xBDA5C17C#32, 0x3DA0F559#32,
      0x3E03FA21#32, 0x3DDD5DD0#32, 0xBDD37763#32, 0x3DB4EBB3#32, 0x3C84FBFE#32, 0x3E3E5A12#32, 0xBDA701A4#32, 0x3BFA8E0F#32,
      0xBBA49EFC#32, 0xBDF3CD92#32, 0xBDFA0C2D#32, 0x3C979392#32, 0xBD0E5965#32, 0xBA8D0D5E#32, 0x3C0745D5#32, 0x3CB7633D#32,
      0xBD116704#32, 0xBD88A977#32, 0xBE925AD9#32, 0x3CF3A320#32, 0xBD831D61#32, 0xBCD95E1F#32, 0xBD9BFC82#32, 0x3E93DF7A#32,
      0x3D93D0B0#32, 0x3E4125D2#32, 0xBE27E7EE#32, 0xBD5FAFFE#32, 0xB915F504#32, 0x3D5EAE69#32, 0x3D920F2D#32, 0xBDFF0BAC#32,
      0xBC83F850#32, 0x3C3FB3E1#32, 0xBD14E4AE#32, 0x3E186766#32, 0x3E5584F7#32, 0x3E5C389A#32, 0xBE222167#32, 0x3D67E445#32,
      0xBDD25155#32, 0xBDA15260#32, 0xBCE10463#32, 0x3D17DE28#32, 0x3CA41D16#32, 0xBE8A19EF#32, 0x3D0A5FD5#32, 0x3E7C76BB#32,
      0x3CDF3E13#32, 0xBDE6DD39#32, 0x3D93DB55#32, 0x3D016A2D#32, 0x3D344286#32, 0xBE3B50C5#32, 0x3D25AE2D#32, 0xBD056262#32,
      0xBB91D1EE#32, 0xBD64B278#32, 0xBC96F9E7#32, 0x3C95EE39#32, 0x3EA9B7A9#32, 0xBEDC1BA7#32, 0x3CB8837F#32, 0xB75A8BEF#32,
      0xBDAAB534#32, 0x3DA851F3#32, 0x3DC9E3F1#32, 0x3D507062#32, 0xBE88C65F#32, 0xBE74415C#32, 0xBCC1EDA7#32, 0xBE214B53#32,
      0x3CE79084#32, 0xBDCF91DD#32, 0x3D911706#32, 0x3DB19D72#32, 0x3E4B51D6#32, 0xBC0ACC97#32, 0x3CA692BA#32, 0xBE10FB7F#32,
      0x3D76162A#32, 0xBE475EB8#32, 0x3D016B64#32, 0xBDE772F3#32, 0x3D9905FA#32, 0xBD1C52EC#32, 0x3CC34F07#32, 0x3E171B71#32,
      0xBED57CAF#32, 0x3DD94458#32, 0x3D0CA357#32, 0x3D5A480D#32, 0x3BB5C3C9#32, 0xBD175D3C#32, 0x3DAEBF2C#32, 0xBDAF785F#32,
      0x3E02B1E3#32, 0x3CF76A9A#32, 0xBD15F5FA#32, 0xBD343ED7#32, 0xBD3917FA#32, 0x3D4BAC4D#32, 0x3E086B4F#32, 0xBE87226B#32],
    ![0xBD8F9B0C#32, 0xBC82C57A#32, 0xBD0F6756#32, 0xBCADF2F6#32, 0x3D28D057#32, 0xBE2BBF2B#32, 0x3D2ADB47#32, 0x3E083277#32,
      0x3E070DC6#32, 0x3C7A725F#32, 0xBE266E97#32, 0x3CD164B0#32, 0xBD98645E#32, 0xBDF3C68B#32, 0x3E9AF2B0#32, 0xBDE5F823#32,
      0xBE7AB10B#32, 0x3CB7C1BA#32, 0x3E111A04#32, 0x3DAE1300#32, 0x3CD2E300#32, 0xBD5B4701#32, 0xBDA34310#32, 0xBDC60226#32,
      0xBDD73C34#32, 0x3DE1D78C#32, 0xBCD939C0#32, 0x3C837E3E#32, 0x3DC2157A#32, 0xBCF6C2E7#32, 0xBC83CB0D#32, 0x3DED9B13#32,
      0xBD9A2E08#32, 0xBC7F7AF1#32, 0xBC0E9FDC#32, 0xBE510B74#32, 0x3D6D1EA6#32, 0x3D8A5B2A#32, 0x3E90B518#32, 0x3DA30F3F#32,
      0xBDD4F1C6#32, 0xBD73092D#32, 0xBE2FEB62#32, 0xBE135B29#32, 0xBDD6F116#32, 0x3E25D99E#32, 0xBE39987B#32, 0xBDA8650C#32,
      0xBE39CE87#32, 0x3D3B2CFB#32, 0x3D03E864#32, 0xBD9FCA31#32, 0xBD7093BD#32, 0xBCA7CC69#32, 0x3E5D65CC#32, 0x3E9BD5B3#32,
      0x3E21C61D#32, 0x3E12DFB4#32, 0x3DC66BBE#32, 0xBE2CEBD2#32, 0x3DCF0C11#32, 0x3E6FD0C7#32, 0xBD574252#32, 0xBCD27211#32,
      0xBCB3178F#32, 0xBD59F822#32, 0xBD951D9F#32, 0x3E16EE19#32, 0xBB99D428#32, 0xBE3054A9#32, 0x3D009F81#32, 0xBD51CE5A#32,
      0xBE2378D4#32, 0x3DE6B405#32, 0xBBC816DF#32, 0x3D9F1126#32, 0x3D460CB1#32, 0xBE2E0DE6#32, 0x3D830F98#32, 0xBE7970AE#32,
      0x3EA3A98B#32, 0xBE0DDA56#32, 0x3CDC72ED#32, 0xBD9E4D37#32, 0xBD1BAE5C#32, 0xBE166BBE#32, 0x3D03CAEB#32, 0xBB980880#32,
      0xBDE6B374#32, 0xBE32005E#32, 0x3E5EBD1D#32, 0x3DA96442#32, 0xBE05F93A#32, 0x3E1A660E#32, 0x3DA1FABC#32, 0x3DB09BF5#32,
      0x3DAB8391#32, 0x3D2291F6#32, 0x3DDE72B3#32, 0x3E454FBF#32, 0x3CCEA807#32, 0x3E4CD2C0#32, 0xBDBA8FBD#32, 0x3B8DFEA5#32,
      0xBC8BECA5#32, 0x3D60E70F#32, 0xBE43D9ED#32, 0x3D8E71F6#32, 0xBE10DF8F#32, 0xBD421663#32, 0x3CB61994#32, 0x3D8B470A#32,
      0xBD41B986#32, 0x3DC5D20E#32, 0x3D6A6213#32, 0xBDD27947#32, 0xBE324FD7#32, 0xBE1C1BF7#32, 0xBE308C36#32, 0xBD7F9029#32,
      0xBD5A9FAB#32, 0x3E79E474#32, 0xBDF91756#32, 0x3DD0F506#32, 0x3DE2E72B#32, 0xBD5B0DA8#32, 0xBDC45186#32, 0x3E02B72A#32],
    ![0xBE090475#32, 0x3DECC51D#32, 0xBDEBCB95#32, 0xBDDBE63F#32, 0xBD8545AA#32, 0xBE225980#32, 0xBD044817#32, 0xBDAB4451#32,
      0x3D583D61#32, 0x3DE4B4CE#32, 0x3E6680A9#32, 0xBE054CA5#32, 0xBCE186E0#32, 0x3E9478B7#32, 0xBE337BF8#32, 0x39B5B24E#32,
      0xBE0D4B93#32, 0x3DF9DA5D#32, 0xBD84B0C8#32, 0x3DA8DC3E#32, 0x3C842F17#32, 0x3D61F3DA#32, 0xBC3ACD36#32, 0xBDD4CC5D#32,
      0xBEA5006B#32, 0x3E175ED3#32, 0x3E05A0BB#32, 0x3E32EBFE#32, 0x3D2BCD42#32, 0xBE3917C8#32, 0x3E39F0F8#32, 0xBE61AF08#32,
      0xBD6BE017#32, 0xBC063D83#32, 0x3E786C45#32, 0x3DFA2D05#32, 0xBE1543C2#32, 0x3DA9F49F#32, 0x3D7F8429#32, 0xBD3BB34F#32,
      0xBE0CC94A#32, 0xBD85042D#32, 0x3E05A9CB#32, 0x3E21EB2E#32, 0x3D073A6B#32, 0x3DB99155#32, 0x3DCBA289#32, 0xBC510155#32,
      0x3DE8154B#32, 0xBC12E407#32, 0x3E51114E#32, 0x3E74BCA7#32, 0x3BE3F49B#32, 0xBE16FADD#32, 0xBDB6F041#32, 0x3CE0BE22#32,
      0xBC67C4C4#32, 0xBDB07984#32, 0xBD943F2D#32, 0x3D6B4027#32, 0xBC935CBF#32, 0x3D316245#32, 0xBC801727#32, 0xBE5E4112#32,
      0x3E519DEA#32, 0xBC99673E#32, 0xBDCE2639#32, 0xBE017EBE#32, 0xBE7ABF1C#32, 0x3E09091A#32, 0x3DAD86D0#32, 0x3DB7F414#32,
      0x3BA018CC#32, 0x3E70FAB6#32, 0x3D1E9FC8#32, 0x3C19BE4B#32, 0xBE4EF3C1#32, 0xBE0034EB#32, 0xBE246433#32, 0xBD964B8F#32,
      0xBD68BE65#32, 0x3D32C630#32, 0xBDDCBC5E#32, 0xBDB58CA1#32, 0x3BBCEBCF#32, 0x3E05836E#32, 0x3D82113A#32, 0xBD42F86A#32,
      0xBDCF67BE#32, 0x3CBBA121#32, 0x3D565E8E#32, 0x3D25BF38#32, 0x3C93C450#32, 0xBCBF4E52#32, 0xBDB69BCA#32, 0xBDAF48E0#32,
      0xBDDD6448#32, 0x3D2532EB#32, 0x3DD4932F#32, 0x3D7626DF#32, 0xBB24C8DA#32, 0x3DD70664#32, 0xBE81F984#32, 0xBE1F210A#32,
      0xBBC8B9AD#32, 0x3D9F694F#32, 0xBDC42A3F#32, 0x3B87BBFD#32, 0xBCA21478#32, 0x3E52885A#32, 0xBE015B6A#32, 0xBE4D4CD8#32,
      0xBE300CD3#32, 0x3BBE5BBD#32, 0x3CE51E08#32, 0xBCEB5F30#32, 0x3E217002#32, 0x3D5A8565#32, 0x3D215E2D#32, 0x3DBD4104#32,
      0x3CCCC92C#32, 0x3DD59301#32, 0xBD28A604#32, 0xBD542116#32, 0xBC6F2D26#32, 0xBD71AF42#32, 0x3D669572#32, 0xBDDE69F2#32],
    ![0xBC7BD03D#32, 0xBE1D067E#32, 0xBE8A7ECC#32, 0x3E222995#32, 0xBCA991F4#32, 0x3E57A2C0#32, 0x3D85354F#32, 0x3E70355E#32,
      0x3C2F7484#32, 0x3D83907F#32, 0xBBF0A193#32, 0xBD3EBFB6#32, 0xBE69B93E#32, 0x3E80A38D#32, 0xBE1B427A#32, 0x3D60AC9E#32,
      0xBE57CD98#32, 0xBDBB1101#32, 0xBDA969F9#32, 0x3CE99D79#32, 0xBD7E675D#32, 0x3E3DFA54#32, 0x3E3282F7#32, 0x3D9B294E#32,
      0x3C907F3C#32, 0x3D8C5E5D#32, 0xBE1A0259#32, 0x3E45C201#32, 0xBDB8FC91#32, 0xBD9822C9#32, 0xBD2952C6#32, 0x3D64A6C3#32,
      0x3E7CA55F#32, 0xBE240C31#32, 0xBB78354E#32, 0x3D4ACC8D#32, 0x3D0F90D3#32, 0xBDC75826#32, 0xBE569FEB#32, 0xBE4FBE72#32,
      0xBDD96FBE#32, 0xBDCFC12A#32, 0x3D98F96E#32, 0x3CEBCCC7#32, 0x3D1E406C#32, 0xBE0899DA#32, 0x3E1CC9E6#32, 0xBC8E02FA#32,
      0xBC90CEB6#32, 0xBE11E379#32, 0xBDE79FA6#32, 0x3C95995A#32, 0x3D2CEB58#32, 0x3E2A4E8A#32, 0xBD4E69CA#32, 0xBDA6D51F#32,
      0x3E5C348F#32, 0x3E8E3CE8#32, 0xBD0E46B6#32, 0xBE4FFF62#32, 0x3C22749F#32, 0x3BB1C91C#32, 0xBC3D4D37#32, 0xBE601172#32,
      0xBD0237BE#32, 0xBB99407A#32, 0xBE3A6310#32, 0xBD4E9AC8#32, 0xBCE7F759#32, 0x3DEDAB0A#32, 0x3E1DA284#32, 0xBC89FD1E#32,
      0xBE8C5458#32, 0x3D347FD4#32, 0x3E712FE9#32, 0xBD316514#32, 0xBDBF2D9C#32, 0xBDE55B51#32, 0xB8A32570#32, 0xBC23DECE#32,
      0x3D618B87#32, 0x3DFA3DA0#32, 0xBD28F8C4#32, 0x3C749AA0#32, 0xBE4D768F#32, 0xBCA759EE#32, 0x3C8F86FC#32, 0x3A852D56#32,
      0x3DE82760#32, 0xBD503895#32, 0xBDBB6152#32, 0xBD4260AC#32, 0x3D6F151A#32, 0x3E55E1E4#32, 0xBD756E63#32, 0x3D0A1768#32,
      0xBCE53A58#32, 0xBE213851#32, 0xBD939043#32, 0x3E494065#32, 0x3E48D171#32, 0x3D308BE6#32, 0xBD8DDC9F#32, 0x3DCF1D09#32,
      0xBDF17E44#32, 0xBE3A2F71#32, 0xBC3F908D#32, 0xBDC028FE#32, 0x3E29A132#32, 0x3E0FD911#32, 0x3E8F04D9#32, 0x3E4927F2#32,
      0x3D51AD48#32, 0xBDFFE740#32, 0x3DED69AF#32, 0x3DC6FBF6#32, 0x3E24FC78#32, 0x3E60258E#32, 0x3BD20930#32, 0x3DD5A657#32,
      0x3DFF6402#32, 0xBC160DC1#32, 0xB99C62A6#32, 0x3C919CB5#32, 0x3DA37C8B#32, 0xBE39CF09#32, 0x3C02B1B5#32, 0xBD300551#32],
    ![0xBD83A207#32, 0xBD2424DE#32, 0x3D969D1F#32, 0xBE80D12B#32, 0xBE73D537#32, 0x3B663F21#32, 0xBDC08F8D#32, 0xBD529B9C#32,
      0x3CD9D605#32, 0x3E4D9821#32, 0xBD9E4002#32, 0x3DAB0B2C#32, 0x3E885BA3#32, 0x3C01992F#32, 0xBEA8E227#32, 0x3E08CB18#32,
      0xBD1F7875#32, 0x3A16C5D2#32, 0xBDD35949#32, 0x3E5CD364#32, 0x3E5CE917#32, 0x3DB42187#32, 0x3DCC23AC#32, 0x3DFD9D12#32,
      0x3D71BFCA#32, 0x3D43976F#32, 0x3BE67067#32, 0x3E0E4548#32, 0xBDBA7A7F#32, 0x3D5E22D6#32, 0x3E706E24#32, 0xBD7CA458#32,
      0xBD2150F1#32, 0xBE09A215#32, 0x3D7ADBD7#32, 0xBDA9B2B1#32, 0xBE43A874#32, 0x3D558822#32, 0xBDB3049A#32, 0x3D91738D#32,
      0x3DABF0AE#32, 0x3DB864A3#32, 0x3E9AB3C3#32, 0xBD165CC4#32, 0xBC9FC19A#32, 0xBD299D7D#32, 0x3CD43369#32, 0x3C2438C8#32,
      0xBE1DA090#32, 0x3D0C734F#32, 0x3E31A8BD#32, 0xBD37B66E#32, 0x3DA62490#32, 0xBE69F2CD#32, 0x3E376184#32, 0x3DDF802E#32,
      0x3DA8E857#32, 0x3D1BE19F#32, 0xBE0B5049#32, 0x3D28330F#32, 0xBBAAFC17#32, 0x3DC63498#32, 0xBBC12F39#32, 0xBD92EB5C#32,
      0xBD849253#32, 0xBE9B3346#32, 0xBE09F575#32, 0x3D700435#32, 0xBDA06016#32, 0x3DB3FCE9#32, 0xBDB4B046#32, 0xBDF0C6EC#32,
      0xBDEC3BD2#32, 0xBDA0FB53#32, 0xBDA81306#32, 0xBE0369C4#32, 0xBDFF8160#32, 0x3C24CA7A#32, 0x3D1A2727#32, 0x3E4ACE5A#32,
      0xBC5232DC#32, 0x3DA13256#32, 0x3D88607E#32, 0xBDA0D1D6#32, 0x3E3ED60E#32, 0x3DCACF4E#32, 0xBE31E26A#32, 0xBDB815E5#32,
      0xBD652D2C#32, 0x3D94727E#32, 0x3DDD03D0#32, 0xBDCC68C5#32, 0xBD1AE560#32, 0x3D18D3F5#32, 0xBC12EE14#32, 0xBDDE0FDB#32,
      0xBD726A25#32, 0xBA890358#32, 0xBE9A63EA#32, 0x3D26032A#32, 0x3E257FB2#32, 0xBDC3161F#32, 0x3E601945#32, 0x3B6703F9#32,
      0x3E2C22CA#32, 0x3DCA0033#32, 0x3DA03CD6#32, 0x3DC62856#32, 0x3DF234CE#32, 0x3DA6E0C2#32, 0x3CFCFEF0#32, 0x3DCA6BE1#32,
      0x3DCF46BF#32, 0x3D913618#32, 0xBDC5678C#32, 0xBE24926A#32, 0x3E1481D7#32, 0xBE0B6B75#32, 0xBB6B2544#32, 0xBDA000B8#32,
      0xBDBDF617#32, 0x3D27732D#32, 0x3E707B2B#32, 0x3D514311#32, 0x3982E0DE#32, 0x3CB8E69E#32, 0xBD09A03C#32, 0x3E8A29E7#32],
    ![0x3E208EAC#32, 0x3D166F26#32, 0xBDD7346C#32, 0xBD9C79CE#32, 0x3D9B1791#32, 0x3BDECEA3#32, 0xBDB0B202#32, 0xBD918038#32,
      0xBDCE302B#32, 0xBA03AA18#32, 0x3CD24B8C#32, 0x3E6100D3#32, 0x3E0B59DB#32, 0xBE16DF37#32, 0x3DB8A90B#32, 0xBDAF4913#32,
      0x3DDC541D#32, 0xBDC92902#32, 0xBC7FAAC8#32, 0x3BF25795#32, 0x3E2E9DD0#32, 0x3DF41790#32, 0x3D1C6A2B#32, 0x3E287A39#32,
      0x3CD64288#32, 0xBE8F856A#32, 0xBE31ADB4#32, 0x3C3D3ED1#32, 0x3E3777B6#32, 0x3D849C1F#32, 0xBD1596C5#32, 0xBE1DC165#32,
      0x3C62DAF6#32, 0x3E6670AB#32, 0xBE0F04B2#32, 0xBDAAD936#32, 0xBCBD44CA#32, 0x3E38A9AE#32, 0x3E6584A1#32, 0xBDF79F26#32,
      0xBC2344C8#32, 0xBB9FC94E#32, 0xBDECA076#32, 0xBDAFF98D#32, 0x3DF026F1#32, 0xBCF753BE#32, 0x3D3B163E#32, 0x3E7BF808#32,
      0x3E9B60F5#32, 0xBE59982E#32, 0x3E0BE062#32, 0x3D1E6AF3#32, 0xBD808D49#32, 0xBE166D7B#32, 0xBE99F2D8#32, 0x3E4D11A9#32,
      0x3D3FAEAF#32, 0xBA1970E3#32, 0xBE9151A1#32, 0x3E254888#32, 0xBE85A15D#32, 0x3D810D34#32, 0x3C8B6517#32, 0x3D6A52DB#32,
      0xBD0D0B7E#32, 0xBD33EA2C#32, 0x3B1139E7#32, 0xBCEA880F#32, 0xBD5C66C2#32, 0x3E2941AC#32, 0xBE5CBA10#32, 0xBD65D0EA#32,
      0x3CC0BF29#32, 0xBBF2835E#32, 0xBBDB23A1#32, 0xBDBED59C#32, 0x3E583B65#32, 0xBC218378#32, 0xBEB71B5F#32, 0xBE0B4600#32,
      0x3D758773#32, 0x3E81CED7#32, 0xBDA6381B#32, 0x3D8D239A#32, 0xBDC2BDCE#32, 0x3E263C83#32, 0xBDE4CF09#32, 0x3DF04BAE#32,
      0xBCAE8F9B#32, 0x3C25CF3C#32, 0xBC3C3E73#32, 0x3DAB3C3F#32, 0xBB6E380B#32, 0xBE437C70#32, 0x3E4B5491#32, 0xBE29013F#32,
      0x3D542560#32, 0xBCC67BC4#32, 0xBDA490D0#32, 0x3DF7B7BE#32, 0x3C78294D#32, 0x3C2283B6#32, 0xBD315347#32, 0xBE08CE8E#32,
      0x3D5B9136#32, 0x3D46D981#32, 0x3E0CF0F6#32, 0xBD07ADA2#32, 0xBD39D012#32, 0x3D490B7C#32, 0x3BC4FF91#32, 0x3E035B29#32,
      0x3D9A30FB#32, 0x3D8EA197#32, 0x3E6729F8#32, 0x3DFAF77D#32, 0xBE15F9F3#32, 0xBDA4E27D#32, 0x3DB62969#32, 0x3DC0305A#32,
      0x3D8D495C#32, 0xBBE375AB#32, 0xBD7C8C75#32, 0x3C9B5B20#32, 0x3D790A1F#32, 0x3D888636#32, 0xBD4451FA#32, 0xBE1F356D#32],
    ![0x3D42FA3E#32, 0xBC8A3A10#32, 0xBDF50E6A#32, 0x3DFF1B41#32, 0x3E047F43#32, 0x3DCC417E#32, 0xBD80436B#32, 0x3DC90049#32,
      0xBDC9859D#32, 0x3D7D78BE#32, 0x3C115115#32, 0x3DE7B4E4#32, 0x3E101BBE#32, 0xBD2CEE79#32, 0xBDF198C4#32, 0x3E276F21#32,
      0x3CA1288D#32, 0xBD639006#32, 0xBD42096C#32, 0xBDDAFE89#32, 0xBC0E8073#32, 0xBDCE4EA5#32, 0xBDD0CFBF#32, 0xBD61B4A2#32,
      0xBE09C0D6#32, 0xBCE32DA9#32, 0xBD686F32#32, 0xBDF9FFE8#32, 0x3D61B5D4#32, 0xBBE7F7E9#32, 0x3D3B5027#32, 0x3D1ADFA7#32,
      0xBDAB17AC#32, 0x3E61101F#32, 0x3E9398A0#32, 0xBE921965#32, 0xBDA12946#32, 0x3E5BDD5E#32, 0x3E2737FE#32, 0x3E3EE242#32,
      0x3E3B5F79#32, 0x3DB90B47#32, 0xBDED8970#32, 0xBD1624D4#32, 0x3E80F67F#32, 0xBDD542C5#32, 0xBDE40993#32, 0xBD02B9C6#32,
      0x3D85627E#32, 0x3DA39F08#32, 0x3E7111E3#32, 0xBD7200B5#32, 0x3DE08686#32, 0x3DDB6500#32, 0xBE89DD8F#32, 0xBDE7BAA8#32,
      0xBC205752#32, 0xBDF6F82F#32, 0xBCF82C11#32, 0xBE96572C#32, 0xBE29971B#32, 0x3DA29534#32, 0x3D56A1FC#32, 0x3D80BE38#32,
      0xBE1ACC1F#32, 0xBCB4233C#32, 0xBC407A11#32, 0x3C1BCA1B#32, 0x3EA985F4#32, 0x3C350C83#32, 0x3C3E3003#32, 0xBC6A3023#32,
      0xBCB51E3F#32, 0x3E019153#32, 0xBD1883A3#32, 0x3E79D454#32, 0xBB73D81B#32, 0xBE385DF8#32, 0xBD3EF838#32, 0xBE261B2F#32,
      0xBD992241#32, 0x3DD1EB05#32, 0x3CD7B217#32, 0xBDD722EB#32, 0x3D8A9052#32, 0x3CFE3110#32, 0x3D2037D1#32, 0x3E581C6A#32,
      0xBDEB6A5A#32, 0x3D8D6BAA#32, 0x3E70CA63#32, 0x3C942BC5#32, 0x3CD19E85#32, 0x3E3A5919#32, 0xBDE022B0#32, 0x3E286664#32,
      0xBD242337#32, 0x3DF7F6D3#32, 0xBE2F0DB2#32, 0x3DC9DB19#32, 0xBE071603#32, 0xBD04433C#32, 0xBD771720#32, 0x3DA0C358#32,
      0x3E0C1E96#32, 0xBD84DE48#32, 0xBDBB5424#32, 0xBD4A8AA0#32, 0xBCCD6A92#32, 0x3DCAAC94#32, 0xBBED490A#32, 0x3E42511B#32,
      0xBE86DC22#32, 0x3E24DCF0#32, 0xBAAB2E9C#32, 0xBCAB5764#32, 0xBBDF9CA4#32, 0x3D0EB7D5#32, 0x3D9F10F5#32, 0x3DDF4442#32,
      0xBD9461E6#32, 0x3D812A45#32, 0xBE3C8C95#32, 0x3E7B7812#32, 0x3D7E932D#32, 0xBCDFDBFE#32, 0xBC2791A5#32, 0x3BE8F09D#32],
    ![0x3DA5513D#32, 0x3D1D4BCF#32, 0xBD0670A1#32, 0xBE83ADC4#32, 0xBE503A51#32, 0xBC65B007#32, 0xBD9F004B#32, 0x3C1DFABB#32,
      0xBE16CA6B#32, 0xBD83C971#32, 0x3E879585#32, 0xBCBE6D51#32, 0x3D0D0412#32, 0x3D43537C#32, 0x3E415871#32, 0x3DB7828E#32,
      0xBE9E6EFF#32, 0xBE0E0629#32, 0x3DAC7FAA#32, 0x3B1DB0C2#32, 0xBD5D34A4#32, 0xBDC19167#32, 0xBE52FF1B#32, 0xBE553D5C#32,
      0xBC858C20#32, 0xBE4118F9#32, 0x3E1B4BC9#32, 0x3E0F605A#32, 0x3DD5FAC0#32, 0x3BE03D77#32, 0xBE67A422#32, 0x3E7B0D0A#32,
      0xBD79ABCD#32, 0xBDCE856B#32, 0xBDD975B1#32, 0x3D43DFC9#32, 0x3D85D125#32, 0x3D448C18#32, 0xBE49447F#32, 0x3E25D270#32,
      0x3EA9ECF5#32, 0xBDDF2668#32, 0x3D43E71E#32, 0x3DCFCA0C#32, 0xBD3737EE#32, 0x3E076D20#32, 0xBD8DAD11#32, 0xBD4D0978#32,
      0x3DAB9178#32, 0x3D99492C#32, 0xBE4CFEC8#32, 0xBE0B3C45#32, 0x3D535DB6#32, 0xBC2FDBBF#32, 0xBD294A0A#32, 0xBCA6EDBC#32,
      0xBC171A88#32, 0xBD230E91#32, 0x3DAC47E0#32, 0x3D37BA01#32, 0xBD99EAD1#32, 0xBDBBB441#32, 0xBD386FC4#32, 0xBDE8F8A6#32,
      0x3E61D464#32, 0x3D180664#32, 0x3D92E67A#32, 0x3D90E003#32, 0x3C0E912D#32, 0x3DB1544F#32, 0x3C4782ED#32, 0xBD67576B#32,
      0x3D3A5667#32, 0x3E19331D#32, 0x3DB3D7D6#32, 0x3B644B7E#32, 0x3E86AF12#32, 0x3D10D369#32, 0x3C9BF006#32, 0x3E8562D9#32,
      0x3D8361AA#32, 0x3CE522C5#32, 0xBDA826DF#32, 0x3DA8D8FA#32, 0xBD98B520#32, 0xBE22025D#32, 0x3DE8A7DA#32, 0x3D8ABAEE#32,
      0xBE5D6658#32, 0xBE18AAE2#32, 0x3CCBDECE#32, 0xBDB6685A#32, 0xBD941219#32, 0x3EDFE49A#32, 0x3CA15AAC#32, 0x3E3E79A8#32,
      0xBD820154#32, 0xBC7B971A#32, 0xBDFDE40A#32, 0xBE960545#32, 0x3DDE12D6#32, 0xBC4371B0#32, 0x3D580EAA#32, 0xBD3C17D0#32,
      0x3AF09CA5#32, 0x3E10099B#32, 0xBE4ACA6D#32, 0x3DB6FE8D#32, 0x3DE96B64#32, 0x3DC6DAC0#32, 0xBE07E16A#32, 0x3D41FF23#32,
      0x3E8FAD10#32, 0x3E15A667#32, 0x3D65E6B9#32, 0xBE315A2C#32, 0x3D5609A9#32, 0x3E180AFE#32, 0x3D8E5FE6#32, 0xBE89F702#32,
      0xBD4ABA27#32, 0x3D96A357#32, 0x3D1E9B8E#32, 0x3DE0BE5F#32, 0x3E28980A#32, 0x3DA54CC7#32, 0xBE35678D#32, 0x3E50D700#32],
    ![0xBDBC0877#32, 0x3CD6B3E9#32, 0x3DAE50B6#32, 0xBBAEA668#32, 0x3E2CEC13#32, 0xBD247A19#32, 0xBD976853#32, 0x3E0A5AF5#32,
      0xBD59836F#32, 0xBE25CD8E#32, 0xBC9EB351#32, 0xBD378C74#32, 0x3C803CB1#32, 0xBE181F40#32, 0xBD8B76AD#32, 0x3E311FD4#32,
      0xBD9B1E84#32, 0x3DAE53A5#32, 0x3E61621D#32, 0x3C7B6017#32, 0x3D11BFD2#32, 0xBD1275DD#32, 0x3E5FB1DD#32, 0xBE5ADA73#32,
      0x3E24A76D#32, 0xBDADB8A3#32, 0xBD99128B#32, 0xBEA8E952#32, 0x3CA8A2D2#32, 0x3D48B572#32, 0x3DC0BC1D#32, 0xBDD06183#32,
      0x3CD0862E#32, 0x3D0DB3C2#32, 0xBDA84725#32, 0x3DF38FEA#32, 0xBD2975EF#32, 0x3DA4A0B6#32, 0xBE2647FE#32, 0x3D8C51FB#32,
      0xBE5F8A63#32, 0x3E3F6469#32, 0x3E79BFD1#32, 0x3DB01A6F#32, 0xBD20899D#32, 0xBBDF3656#32, 0xBD38291B#32, 0x3A2BAB07#32,
      0xBB9E43DB#32, 0xBDB28DB2#32, 0xBDC7CAF3#32, 0x3E0E9CC6#32, 0xBB812771#32, 0x3CC7125A#32, 0x3C97B5C9#32, 0xBE2E5EF1#32,
      0xBD8C0671#32, 0xBD7F21F2#32, 0xBCE13556#32, 0xBE362837#32, 0x3E4A217E#32, 0xBDAD5633#32, 0x3C03CD62#32, 0xBC89A667#32,
      0xBC94639D#32, 0xBE81E4CC#32, 0x3E28F51C#32, 0xBDC5D621#32, 0xBD299CA9#32, 0x3E933F98#32, 0xBE3C9791#32, 0x3BA64F93#32,
      0xBCCB69B8#32, 0xBE47E3E6#32, 0x3D027556#32, 0xBC778EE1#32, 0xBCBBA29A#32, 0x3E7480F1#32, 0xBE8EB80D#32, 0xBD3BA57C#32,
      0x3D6361D5#32, 0x3D70879A#32, 0xBDA23597#32, 0xBE3192D3#32, 0xBD7CF779#32, 0x3CE4AEB8#32, 0xBD165F24#32, 0x3E491C3A#32,
      0x3E6F0B1C#32, 0xBE5A4ACD#32, 0xBE3E29BD#32, 0xBCA1974E#32, 0xBDF6062C#32, 0xBE9FE172#32, 0xBAE1C4D7#32, 0x3C67D44B#32,
      0x3E1C2456#32, 0x3E6A3F85#32, 0xBD81CA3F#32, 0x3DC37D2B#32, 0xBD9EF740#32, 0x3DAC18DA#32, 0x3C087850#32, 0xBE0BFE66#32,
      0xBCAFCD50#32, 0xBD8D2048#32, 0x3E1B77E9#32, 0x3B4DD2A4#32, 0xBDE2F9ED#32, 0x3E883D47#32, 0xBB2DB622#32, 0x3BA4AC50#32,
      0x3E1A68FE#32, 0xBC753256#32, 0x3E01E8D6#32, 0xBE893029#32, 0xBD766451#32, 0x3DC68DA7#32, 0xBC8D1C5D#32, 0x3E0A5F15#32,
      0x3DA38995#32, 0xBE00889F#32, 0x3E107FB6#32, 0x3C046FDE#32, 0x3E0BB368#32, 0x3DA5C147#32, 0xBD0AA25B#32, 0x3CF1F7CF#32],
    ![0xBD2030C3#32, 0x3E8C2700#32, 0x3C082592#32, 0xBE0F9248#32, 0xBDEC27BD#32, 0x3E079712#32, 0xBE09A8ED#32, 0x3D1E6A93#32,
      0xBE493A8C#32, 0xBE0B2832#32, 0x3D9647F6#32, 0xBDE76D7A#32, 0xBDE08902#32, 0x3C80DD0B#32, 0xBE5E0FE0#32, 0xBE3D235B#32,
      0x3E599441#32, 0x3D7C632A#32, 0x3E0ECDB3#32, 0xBD07F2B9#32, 0x3E3131BE#32, 0x3DE8AFC9#32, 0x3D03C732#32, 0xBD2970D9#32,
      0x3EAA099A#32, 0x3D816D85#32, 0x3E8550FF#32, 0x3E1F5B38#32, 0xBE264C5E#32, 0xBC694B7C#32, 0x3CB71221#32, 0xBE7C73F5#32,
      0x3E17FE90#32, 0xBCD0AB17#32, 0x3DD3C631#32, 0xBE01305F#32, 0xBC188F2B#32, 0x3E1DE40A#32, 0x3C8750D1#32, 0xBE5F34C9#32,
      0x3E1D6E0B#32, 0x3E990F4D#32, 0x3DAF861B#32, 0xBC75689D#32, 0xBC2C65E7#32, 0xBDB90AE1#32, 0x3E5B5CFD#32, 0x3C6EFDBF#32,
      0x3E884125#32, 0x3DB8377E#32, 0x3E10F142#32, 0xBD816763#32, 0x3D9DCB06#32, 0x3A9AE682#32, 0xBD59E61F#32, 0x3CB0CA40#32,
      0x3E028BBC#32, 0x3D94ECD2#32, 0x3D9A5E59#32, 0xBDF5C27B#32, 0x3E584F6E#32, 0xBE17A091#32, 0xBAF22E60#32, 0xBC421478#32,
      0x3DF9DD7E#32, 0x3D408330#32, 0x3E7E8E4D#32, 0x3C38B4DD#32, 0xBE0035C3#32, 0x3D04B492#32, 0xBE223ED1#32, 0x3CEE5BCC#32,
      0x3DC8FAF5#32, 0x3D802C63#32, 0x3DC4C5F3#32, 0x3C6D7397#32, 0xBE50D0DD#32, 0x3DE0EC40#32, 0x3C221D16#32, 0xBE4D9107#32,
      0xBE6BCD75#32, 0xBDC428C2#32, 0xBE58674F#32, 0xBDEED5C5#32, 0xBDD62649#32, 0xBCAD62E2#32, 0x3D67F1E6#32, 0x3E240F68#32,
      0x3DC2DE77#32, 0xBE872026#32, 0xBE250B56#32, 0xBDB0DEA7#32, 0xBE07E185#32, 0xBD879B75#32, 0x3E95224A#32, 0xBE26AAC4#32,
      0x3D906272#32, 0xBC78FE99#32, 0x3C205E9F#32, 0x3E086517#32, 0x3D7D4AD6#32, 0xBE481B31#32, 0xBCEEF501#32, 0x3E6BC015#32,
      0x3C2A1FD2#32, 0x3D891614#32, 0xBDED2A63#32, 0xBE08A71C#32, 0xBD020309#32, 0x3E1B1C82#32, 0xBE6E4E25#32, 0x3CF1F46C#32,
      0x3DA1731D#32, 0x3E617CF1#32, 0x3DD577F9#32, 0x3E012D1E#32, 0x3D8CEFA2#32, 0x3EA1319E#32, 0x3D2AB7A9#32, 0x3D5D31C7#32,
      0x3D3CFBCE#32, 0xBC4F4100#32, 0xBCD15CA5#32, 0x3E757A95#32, 0x3E740FA2#32, 0xBD2CBBCE#32, 0x3E42E296#32, 0xBE21A8A6#32],
    ![0x3DEEC749#32, 0x3E079776#32, 0xBC550E76#32, 0xBC53FAD1#32, 0xBE1EFB72#32, 0x3E407FF2#32, 0x3D057E29#32, 0xBDC160FD#32,
      0xBD5048A0#32, 0x3E1B31E6#32, 0xBDA02107#32, 0x3E164233#32, 0x3E7EBE42#32, 0x3D2AB9FB#32, 0x3D12B356#32, 0xBDDA906A#32,
      0xBDF07BD9#32, 0xBE79E1DA#32, 0x3D4EF97A#32, 0xBBDDDA08#32, 0xBD97BF57#32, 0x3E09679B#32, 0x3E1420B8#32, 0xBE01A2D9#32,
      0xBD9E3211#32, 0xBD2FAEE7#32, 0x3D31E781#32, 0xBE14C812#32, 0xBC274723#32, 0xBE48B754#32, 0x3B369B00#32, 0xBDBCD3DE#32,
      0xBE538ECD#32, 0x3B0A93A6#32, 0xBE0178AF#32, 0x3E2273C6#32, 0xBCFC5861#32, 0xBE2FD95D#32, 0x3BF418BE#32, 0xBBE865BE#32,
      0xBE46C12F#32, 0xBE8EAE85#32, 0x3D98217D#32, 0xBD2A8DB4#32, 0x3D5A9A1D#32, 0x3D941E97#32, 0x3C756DE8#32, 0xBE0C4241#32,
      0xBC87D652#32, 0xBBB04C89#32, 0xBE334752#32, 0x3E543087#32, 0x3E7F2750#32, 0xBE1C8F9B#32, 0xBDCA7520#32, 0x3D19C711#32,
      0xBE962580#32, 0xBCBE9194#32, 0xBE041AF6#32, 0xBD83AFFA#32, 0xBC89249F#32, 0x3CE25DEF#32, 0xBDF48FBB#32, 0xBC9AE688#32,
      0xBE8F9BF5#32, 0x3D56B940#32, 0xBE582A88#32, 0x3E263A1F#32, 0x3DA6C97D#32, 0xBDCC47BA#32, 0xBE5932E8#32, 0x3D60F5AE#32,
      0xBDC701B8#32, 0xBD4EF4B1#32, 0xBCC30C10#32, 0xBDC9B09B#32, 0x3D09A57D#32, 0x3DDB4534#32, 0x3DB1F381#32, 0xBDFDECB1#32,
      0xBD4B4BC5#32, 0xBDB2D8AB#32, 0x3E2715D0#32, 0x3E7CD07C#32, 0x3C8B0FF1#32, 0xBE04EC50#32, 0xBC3BCF37#32, 0x3DC33B2A#32,
      0x3DE5CD99#32, 0x3DD8E08E#32, 0x3E4F7EB7#32, 0xBE3E00CE#32, 0x3E14FB36#32, 0x3DA6C03D#32, 0x3D0FCA06#32, 0xBC158E5B#32,
      0x3DC1E8F5#32, 0x3E2E069C#32, 0x3D55D2C8#32, 0x3C40408E#32, 0x3C6EDC77#32, 0x3E36744F#32, 0x3CDD698D#32, 0xBDF2CE2D#32,
      0xBDB3098E#32, 0xBD05D6AF#32, 0x3D8C25D2#32, 0xBE06BA0A#32, 0x3D2F3F66#32, 0x3D35B31E#32, 0x3BAE17DE#32, 0xBDBB5340#32,
      0x3D3BC644#32, 0xBE575007#32, 0x3E021C6F#32, 0x3C403951#32, 0xBE943314#32, 0xBD3DADA3#32, 0xBC6F8787#32, 0x3BE4A77B#32,
      0x3C3290FE#32, 0x3E3393AE#32, 0xBDA86CAE#32, 0x3D9DFC4B#32, 0x3DD3ACD4#32, 0xBD952693#32, 0xBE7151AA#32, 0x3C64E20F#32],
    ![0xBDB8E575#32, 0x3E12349F#32, 0x3BE83592#32, 0xBDF9D6A0#32, 0x3D879AF3#32, 0xBDF60267#32, 0xBDB84096#32, 0xBE21C060#32,
      0x3CB11D56#32, 0x3E47F18B#32, 0x3DEBBD6A#32, 0xBD3C1C56#32, 0xBD0073FE#32, 0x3E2DEF60#32, 0xBD6CC479#32, 0xBDC8D115#32,
      0x3E6DACD2#32, 0x3DAF85B6#32, 0xBDC37BCB#32, 0xBDB33A3B#32, 0x3E29CBE3#32, 0xBD940843#32, 0x3D99F89A#32, 0x3E7C74F2#32,
      0x3DB9F868#32, 0xB98BC766#32, 0xBE04F77F#32, 0x3E6C3995#32, 0x3DEEC561#32, 0xBE00A729#32, 0xBD9C8A2F#32, 0x3D06BA99#32,
      0x3DA955D4#32, 0xBDA4CCA3#32, 0x3D5A1FE7#32, 0x3D131862#32, 0xBD856787#32, 0x3E2D49DB#32, 0x3E1B2BA2#32, 0xBE307314#32,
      0x3E842483#32, 0x3D6EF772#32, 0x3DFE5483#32, 0x3E067404#32, 0x3B5E7459#32, 0x3CD76090#32, 0x3D7DDE5C#32, 0x3CF49CF5#32,
      0xBE589EF3#32, 0xBE88A999#32, 0xBE21F66A#32, 0x3D24B011#32, 0x3DB03F48#32, 0xBC5D488E#32, 0x3E952706#32, 0x3C9238FE#32,
      0xBE16E19D#32, 0xBEFC68A5#32, 0x3DD486D4#32, 0xBD734A1C#32, 0xBE00BECC#32, 0xBDB8D342#32, 0xBCCDFEAD#32, 0x3C12926E#32,
      0x3A92D3B4#32, 0xBD55998A#32, 0x3C89C47C#32, 0xBD68540F#32, 0x3E003895#32, 0xBDD9D9BD#32, 0x3E44A9BB#32, 0xBD3AA9F6#32,
      0x3E7FD61B#32, 0x3D8C224B#32, 0x3B77F82E#32, 0xBDA9EC8D#32, 0x3C4F5DBD#32, 0x3E76B02A#32, 0x3D867D29#32, 0x3CD2B98E#32,
      0xBD3A5777#32, 0x3DC7DD05#32, 0x3E26D56B#32, 0xBD3CA9E8#32, 0x3E4F56F8#32, 0xBD9989D7#32, 0xBD3FAC3A#32, 0x3D54BB34#32,
      0x3CD848AA#32, 0x3D26F12C#32, 0xBDB5E517#32, 0xBE0580A7#32, 0x3E5565B4#32, 0xBC76773E#32, 0x3D63E3ED#32, 0x3E02E99F#32,
      0x3CB935EC#32, 0xBDE3D9C7#32, 0x3D376CBC#32, 0x3DFF642B#32, 0xBD889AAE#32, 0x3A267F84#32, 0xBAC1DC52#32, 0x3B82DA15#32,
      0xBE25C6AB#32, 0x3C8F1E41#32, 0xBEAC3CAC#32, 0x3CF19D31#32, 0xBD3254EA#32, 0x3D1E9492#32, 0xBDECBE56#32, 0x3CF3F2AA#32,
      0xBCBB0B42#32, 0xBE72C104#32, 0xBE9C89B2#32, 0xBD57A6A0#32, 0x3E32F5EE#32, 0xBD3323B7#32, 0x3D8B3E01#32, 0x3DE088C2#32,
      0x3D167458#32, 0xBD88AAC2#32, 0xBDDE891D#32, 0xBD63C8CB#32, 0xBE2DDA52#32, 0x3C8791D9#32, 0xBD4D6EFD#32, 0xBCC4F547#32],
    ![0x3E552F6C#32, 0xBE2D1682#32, 0xBD8DC543#32, 0xBDA6ABD7#32, 0xBE1CE193#32, 0xBDA46CB9#32, 0x3E078B79#32, 0x3E2E0373#32,
      0xBD7600DD#32, 0x3DCA9E8A#32, 0xBC69A536#32, 0x3DCAE046#32, 0xBD5BF5FC#32, 0xBE19A994#32, 0xBE1060EC#32, 0x3D5F1B0D#32,
      0x3E59643B#32, 0xBDBAA1BF#32, 0x3E22E7F3#32, 0x3E329F6A#32, 0xBD709B2D#32, 0x3B7441BD#32, 0xBE18EC5F#32, 0x3E0AA726#32,
      0x3D604FD3#32, 0xBD9A3471#32, 0x3D701750#32, 0x3DAE480B#32, 0xBE579538#32, 0x3BBE6E8F#32, 0xBE2EC668#32, 0x3E5E3768#32,
      0xBE497D21#32, 0x3DC960A3#32, 0xBDA4CF87#32, 0x3DB164BC#32, 0xBDA7D4FF#32, 0x3E37C2BF#32, 0x3C37079A#32, 0x3DD27DAF#32,
      0xBD954FD2#32, 0x3E369809#32, 0x3D6094B0#32, 0xBD89A48B#32, 0xBE018B21#32, 0xBDC44B96#32, 0xBE0515B0#32, 0x3D4C16CE#32,
      0x3E1721EE#32, 0xBD3F5689#32, 0xBCF2EBDC#32, 0x3DF0C896#32, 0xBC4BC399#32, 0xBD1B1F30#32, 0xBD3ED718#32, 0x3C8D6C5A#32,
      0x3BCFECEE#32, 0xBD58965A#32, 0x3E218210#32, 0x3A21064A#32, 0x3E068FB0#32, 0xBE980CC7#32, 0x3CEE7F74#32, 0x3C0DD003#32,
      0x3D58CAA1#32, 0xBD3FC75D#32, 0x3CD7EF08#32, 0x3C505AF5#32, 0x3D59C516#32, 0x3DFCACD3#32, 0xBE70EA72#32, 0x3D584D87#32,
      0x3D1042F5#32, 0x3D7AF2B7#32, 0xBABC9DEE#32, 0x3A48BAD2#32, 0x3E611E75#32, 0xBCAC6950#32, 0xBE6AED07#32, 0xBD611764#32,
      0x3D18CC8B#32, 0xBD82B7C9#32, 0xBBC2A29F#32, 0x3DAAE101#32, 0x3DE8CF2A#32, 0xBC355909#32, 0x3D761AFF#32, 0xBC048045#32,
      0x3E95F843#32, 0x3DBFA0BE#32, 0x3E5CEB21#32, 0xBE624F04#32, 0xBE2A42F2#32, 0x3E1375AF#32, 0xBE4D2CEF#32, 0x3E050400#32,
      0x3DCB4764#32, 0xBD7BC72A#32, 0x3C9F44AE#32, 0x3D47EF2F#32, 0x3D13C1D8#32, 0x3E334784#32, 0xBE9D6E54#32, 0xBD64BCF1#32,
      0x3DB9CA46#32, 0xBDD96322#32, 0x3DC85BDD#32, 0x3D089BA1#32, 0x3E05A802#32, 0xBDB25530#32, 0xBD8DC185#32, 0x3D795A3B#32,
      0x3CD3751B#32, 0x3DF437C7#32, 0x3C0205F8#32, 0x3B3E6A8F#32, 0xBD81BE11#32, 0x3D24A694#32, 0xBD1FB4E6#32, 0x3DCA37B2#32,
      0x3DAB4581#32, 0x3D822A67#32, 0x3E132F49#32, 0xBDA2A29B#32, 0x3DBAF70A#32, 0x3E343344#32, 0x3CD0EFD4#32, 0x3E55C8E9#32],
    ![0xBE01A957#32, 0x3E0BF4CB#32, 0xBE47EC30#32, 0x3D4A1E68#32, 0x3DAEE49A#32, 0x3E159F18#32, 0x3DB06C2B#32, 0x3D2D02B0#32,
      0xBD99A53F#32, 0xBDBCAA29#32, 0x3E407B36#32, 0x3C410EB1#32, 0x3D652E27#32, 0x3DD65386#32, 0xBD177646#32, 0xBDB5A4E9#32,
      0xBB96903F#32, 0x3DEE21A0#32, 0x3D06D021#32, 0x3E801A87#32, 0xBC986779#32, 0xBE45434D#32, 0x3E6828F8#32, 0x3E5501C8#32,
      0x3D997BCA#32, 0xBE103EC7#32, 0x3D3F4081#32, 0x3E4452DD#32, 0xBDAB1377#32, 0x3D47A6EA#32, 0x3D03AA01#32, 0xBE3F7C00#32,
      0x3D15304A#32, 0xBDCAE12D#32, 0x3DBC0E25#32, 0x3E0C6CBF#32, 0x3DCF744F#32, 0x3E16B8F3#32, 0xBCF37A64#32, 0x3D473E2B#32,
      0x3E52ED27#32, 0xBD9E2977#32, 0xBD1A1C07#32, 0x3D9AD60F#32, 0xBE4988DD#32, 0xBB719A75#32, 0x3CB6192E#32, 0x3C2E5C52#32,
      0xBE514C18#32, 0xBE2501D4#32, 0x3D6B84FA#32, 0x3DB03417#32, 0x3E66F456#32, 0x3DD92F12#32, 0x3E7F420A#32, 0x3DF64467#32,
      0xBD40A8B4#32, 0x3D1038E5#32, 0x3D4B4F5A#32, 0xBDD89CD5#32, 0xBD8B4BA9#32, 0xBE184E83#32, 0x3D81746B#32, 0x3ED01AB7#32,
      0xBE1A42C2#32, 0x3D4F8A0D#32, 0xBC960EA6#32, 0xBDFE262C#32, 0xBE55AB2C#32, 0xBE57BD8A#32, 0x3E9A9F28#32, 0x3C715FE8#32,
      0xBD178A9D#32, 0x3DE3AF3B#32, 0x3E2246CA#32, 0x3E87AED2#32, 0x3CBF1C4F#32, 0xBBB1EDF6#32, 0x3DAC66B9#32, 0xBC838435#32,
      0xBDF078FB#32, 0xBE3A7E6A#32, 0x3DFDBCF7#32, 0xBE04546E#32, 0xBDE97709#32, 0xBE42C702#32, 0xBE1C36F6#32, 0xBDEBE284#32,
      0xBD80576C#32, 0xBD44C8EA#32, 0xBDBEF4FA#32, 0xBE401FAB#32, 0x3DA25623#32, 0x3D871040#32, 0xBC1F104E#32, 0xBE63EA7B#32,
      0xBC58B359#32, 0x3CC91849#32, 0xBE2C0604#32, 0xBDF66B86#32, 0x3CC585C1#32, 0x3DFFD7E0#32, 0xBDF2D28A#32, 0xBE076D2F#32,
      0xBC5439AA#32, 0x3DFF4E14#32, 0x3DD0E3CE#32, 0x3D154C92#32, 0x3B6803C2#32, 0x3D1AABAC#32, 0x3ECD56F7#32, 0x3C41FCA1#32,
      0x3E085CC8#32, 0xBC220752#32, 0x3E46E939#32, 0x3EA2EFB9#32, 0xBDF0D068#32, 0x3C4967ED#32, 0xBC8503B1#32, 0xBD4F2951#32,
      0x3BA2BB9A#32, 0xBCC14D4A#32, 0xBDE59569#32, 0x3E114F97#32, 0x3E4E02A6#32, 0x3DAFDE95#32, 0xBD121FC7#32, 0xBD58B085#32],
    ![0x3AE2EFC8#32, 0x3D4C4C1D#32, 0xBC23DFBF#32, 0x3C7795E7#32, 0x3D56729B#32, 0x3E223D6D#32, 0xBBF02D70#32, 0x3E2848AD#32,
      0x3E1D3752#32, 0xBC7F51BB#32, 0xBDF0E217#32, 0xBDDA29DB#32, 0xBC568C9A#32, 0x3B04E63B#32, 0x3E4AE710#32, 0x3E27A962#32,
      0xBD61270D#32, 0x3DC7CAB9#32, 0x3C3FBFD7#32, 0x3DAA8883#32, 0x3E34F673#32, 0x3A34AD2A#32, 0x3C4780E1#32, 0x3D28CC94#32,
      0x3E187CC0#32, 0xBD65B7EA#32, 0x3E73EF29#32, 0x3D2D8F1F#32, 0x3D5E7ECE#32, 0xBCB42299#32, 0x3D165CF4#32, 0x3D9CB881#32,
      0xBE0F8B5F#32, 0xBE65988E#32, 0x3E11F1B6#32, 0x3D12D315#32, 0xBD459807#32, 0x3DD0E05F#32, 0xBD293841#32, 0x3C80F9B4#32,
      0xBE352288#32, 0x3E12C485#32, 0xBBB068C3#32, 0x3E41171F#32, 0x39863F26#32, 0x3E30CA82#32, 0x3D38BC47#32, 0xBD9F0C07#32,
      0xBD7BE850#32, 0xBC73BD2F#32, 0xBD072703#32, 0x3CD2B364#32, 0xBDDB7B5A#32, 0xBCECE660#32, 0xBD1A34C8#32, 0x3E3A47A5#32,
      0x3CE2F781#32, 0xBE84A816#32, 0xBCBFC262#32, 0xBE00E6FE#32, 0x3E063555#32, 0x3E8C3948#32, 0xBE1F3C3D#32, 0xBE504CD2#32,
      0x3CED4E4B#32, 0xBC7B8FAD#32, 0xBD60B60B#32, 0xBC7DBD67#32, 0x3D95C74F#32, 0x3D708E14#32, 0xBDBDC192#32, 0x3DE4EFFE#32,
      0xBD3A8050#32, 0xBD7A30CB#32, 0xBD86287F#32, 0x3CCD2E82#32, 0x3DCFF0C5#32, 0x3E663762#32, 0xBD99C259#32, 0xBE092618#32,
      0x3DCBFBB0#32, 0x3E579509#32, 0x3D8E63A6#32, 0xBE11C0DF#32, 0x3CA8CBB6#32, 0xBDAE99E3#32, 0xBD3B3B86#32, 0x3B9BBA52#32,
      0xBD2A50D9#32, 0x3D8E3FD5#32, 0xBD876293#32, 0x3DC17F11#32, 0x3E298D6A#32, 0x3E02E8B7#32, 0x3C36BA36#32, 0x3BC0C057#32,
      0xBC05B293#32, 0x3DF44AEA#32, 0xBD89B65A#32, 0x3D4B2807#32, 0xBD3592C6#32, 0xBE1F67A0#32, 0x3DBBC9E4#32, 0xBDDB3C83#32,
      0xBC5C6461#32, 0xBD00FC05#32, 0xBDB9EE80#32, 0xBE57F88F#32, 0xBE3FDDA7#32, 0xBE6E2CE2#32, 0xBD9E7E3B#32, 0x3E1949C0#32,
      0x3DA39687#32, 0x3E11F7E3#32, 0xBDE634E1#32, 0xBB07F69A#32, 0xBE985286#32, 0xBE1EEA27#32, 0xBE1D8116#32, 0xBDA9A96C#32,
      0xBDA26917#32, 0xBAE698BB#32, 0xBD3EF2F8#32, 0xBCA920CB#32, 0x3BFB4DDC#32, 0xBCCE3D30#32, 0x3D92B7A9#32, 0xBE406C28#32],
    ![0xBE445DA4#32, 0x3E86076B#32, 0x3C845680#32, 0x3DCFC9EF#32, 0xBD680B85#32, 0xBE4C7CD1#32, 0xBA348B53#32, 0x3E4D2273#32,
      0xBC6756DF#32, 0xBD30ACE3#32, 0xBE8A2160#32, 0x3D8D206F#32, 0xBE0E58AC#32, 0x3DAE8B46#32, 0xBE17F417#32, 0x3D5B4C0C#32,
      0xBE2ABC35#32, 0x3C91A10F#32, 0x3DC0DE92#32, 0xBD0C470B#32, 0xBD951B70#32, 0x3E4B9962#32, 0xBE1323BB#32, 0x3BF0C6C3#32,
      0x3CFA9539#32, 0xBE489423#32, 0xBDC59B86#32, 0xBD7E735F#32, 0xBD4CFB98#32, 0x3E043640#32, 0x3D0746FE#32, 0x3DC72421#32,
      0xBE279A3B#32, 0xBCB3E542#32, 0x3B91D126#32, 0x3D849ACC#32, 0xBE0809CD#32, 0x3E68AC28#32, 0x3D715A0D#32, 0xBDA557C9#32,
      0x3DA9BA57#32, 0xBD0AFB38#32, 0xBDA2DEEA#32, 0xBDD4ABB2#32, 0xBDF529D2#32, 0x3E3349C9#32, 0x3E80BAF3#32, 0x3CFD964A#32,
      0x3D3F9BD2#32, 0xBD9A84FB#32, 0xBDAF0EB8#32, 0x3DFEB252#32, 0x3D8742B9#32, 0x3D75EB9C#32, 0x3DBF80D8#32, 0x3E9A115C#32,
      0xBDEB8297#32, 0xBE1F2606#32, 0x3DD44CC2#32, 0x3DB08298#32, 0x3DC06A7D#32, 0x3E21CCA5#32, 0x3A6812B7#32, 0x3E373B96#32,
      0x3D352087#32, 0xBE0A2B26#32, 0xBE546146#32, 0xBC57A254#32, 0x3D41C005#32, 0xBCB6517D#32, 0x3DCC7015#32, 0x3DD90C69#32,
      0xBD96B9CD#32, 0x3DF379B7#32, 0x3D1CFC00#32, 0x3D025E65#32, 0x3DC77762#32, 0x3DB9B00E#32, 0xBDA4468E#32, 0xBE053D2B#32,
      0x3E29E581#32, 0xBCAB638C#32, 0x3B1484E5#32, 0xBCA9F2AF#32, 0x3E53C561#32, 0xBC9240A0#32, 0x3DAC8D80#32, 0xBE77A3C7#32,
      0xBE3CC7E3#32, 0xBD62A718#32, 0xBD91750F#32, 0xBE5B6716#32, 0x3DD0B9CE#32, 0xBD3C9016#32, 0x3DBAEFEE#32, 0x3D8ABD21#32,
      0x3DEC857F#32, 0xBDC20840#32, 0xBD4C7ADF#32, 0x3E40B611#32, 0xBD38F1EE#32, 0xBE76DC78#32, 0x3E014D82#32, 0xBE0C15E5#32,
      0xBC495637#32, 0xBDBCA152#32, 0xBCB89046#32, 0xBE66B53D#32, 0xBDB21B06#32, 0xBCFA9298#32, 0xBE735759#32, 0x3E0C9AD3#32,
      0xBE2C3386#32, 0xBE6358ED#32, 0x3C73FC88#32, 0x3E6742AF#32, 0xBE09BC04#32, 0xBC382993#32, 0x3E653E71#32, 0x3D85C5A1#32,
      0xBDD6EB59#32, 0x3D17B383#32, 0x3EDCFB1B#32, 0x3E9A0DE5#32, 0xBDF8B1AE#32, 0x3E722193#32, 0xBDF7485A#32, 0x3E4B7F8E#32],
    ![0x3DDA6C4C#32, 0xBD80C0C9#32, 0xBC25F20C#32, 0x3DB23E56#32, 0x3E8A70F2#32, 0xBE059CB4#32, 0x3B6CFEE6#32, 0xBD759444#32,
      0xBD7551EB#32, 0x3DD7C0BA#32, 0xBD9ACD04#32, 0x3D72A5ED#32, 0xBDE55C14#32, 0xBD40F422#32, 0x3D0D5DE7#32, 0xBE2A37C9#32,
      0x3CC3F48F#32, 0xBD379D48#32, 0xBD9FEDFB#32, 0x3DE64FEC#32, 0x3D538741#32, 0xBC0B9C05#32, 0x3E4A0AD8#32, 0xBC446F3B#32,
      0x3BDBA834#32, 0xBDF7CED0#32, 0x3DC10F25#32, 0x3DA1041F#32, 0x3D8DD2C4#32, 0xBDF83D99#32, 0x3D22E9F5#32, 0xBD5F3BE5#32,
      0x3E13DA12#32, 0x3E80CD2E#32, 0x3D7EDDDC#32, 0x3E59AE2F#32, 0x3DC7C76E#32, 0x3E462340#32, 0xBE3D6E76#32, 0x3E54558C#32,
      0x3C824401#32, 0x3E0FF674#32, 0xBDA1A978#32, 0x3D34C885#32, 0x3E0A97BE#32, 0x3E370D82#32, 0x3E6C18FC#32, 0x3E7B1311#32,
      0x3D9F25FB#32, 0xBD152190#32, 0xBD9DC2EA#32, 0x3E26CF0F#32, 0x3D8B209A#32, 0x3D868CEC#32, 0xBB5A8F49#32, 0x3C488F29#32,
      0xBD1CD395#32, 0x3E522131#32, 0x3E281CE9#32, 0xBE5D6785#32, 0xBD810ECA#32, 0xBE13F995#32, 0xBD900493#32, 0x3CC0EA4B#32,
      0xBDD5FF98#32, 0xBD9EB9CF#32, 0xBD8EAB8E#32, 0x3DA5B7A5#32, 0x3DB8D3C0#32, 0xBC6029C8#32, 0xBE0ADEFF#32, 0xBD8ED99B#32,
      0xBDE7E8DE#32, 0x3DB5482D#32, 0xBDAC0B3F#32, 0x3D8EE4C3#32, 0xBD81EA07#32, 0x3E243A81#32, 0xBC0DA6A2#32, 0xBE30356C#32,
      0xBDA25449#32, 0xBDC6DC2A#32, 0xBC0CEFD7#32, 0x3DB2B73F#32, 0xBD7E19BE#32, 0xBDF807D0#32, 0xBE02C243#32, 0xBC149E2F#32,
      0x3A240CDA#32, 0xBE2CDD5C#32, 0x3D9E332C#32, 0x3DD7B8F6#32, 0xBE0F780A#32, 0xBDF69FEC#32, 0x3D97BEAD#32, 0xBE561C7F#32,
      0x3E2F8FE0#32, 0xBE8A688A#32, 0xBDCA483E#32, 0xBDE8C9B4#32, 0xBD44CAA4#32, 0xBD9147C6#32, 0x3E34C7AF#32, 0x3AB82635#32,
      0xBB3F0AB5#32, 0xBDC85B96#32, 0xBD158527#32, 0xBA86C54E#32, 0xBE89E43D#32, 0xBE06D5B1#32, 0xBBD515A1#32, 0x3E926A7C#32,
      0x3D3E61C9#32, 0xBD38D052#32, 0x3DDCCAED#32, 0xBE0B35F0#32, 0x3D95B2F9#32, 0x3E08A238#32, 0x3DB014A0#32, 0xBD8383F2#32,
      0x3D9047F5#32, 0xBDC33923#32, 0x3D87BD29#32, 0x3D94E4A8#32, 0x3D0B1BFE#32, 0x3B86EE56#32, 0xBE3E7EFC#32, 0xBDB43AFA#32],
    ![0x3C9B3CC7#32, 0x3C4ED197#32, 0x3DD1724B#32, 0x3CA3B026#32, 0xBDA0EB26#32, 0xBC4DC5D5#32, 0x3E143119#32, 0xBE16A3C2#32,
      0xBDAE6A22#32, 0x3B7C51A4#32, 0x3D0AE108#32, 0xBDE679EC#32, 0x3E338AA4#32, 0xBDB8CF5D#32, 0xBE179ADB#32, 0x3D31C0FB#32,
      0x3DBA8FA6#32, 0xBE048244#32, 0xBE06868B#32, 0xBCA54BC6#32, 0x3CA58A45#32, 0x3DB94D6A#32, 0x3D841A80#32, 0xBD81C41F#32,
      0xBCDB8803#32, 0xBD060BC7#32, 0x3DC49D4F#32, 0x3DEF614C#32, 0xBE7676C6#32, 0xBDBE068C#32, 0xBD090538#32, 0xBC2078A1#32,
      0x3DBF1F93#32, 0xBE840F11#32, 0x3D4CDAD1#32, 0x3D745C39#32, 0x3D52206C#32, 0xBE13DE1B#32, 0xBD44C726#32, 0x3E65D4E7#32,
      0xBB567CCA#32, 0xBD55833D#32, 0x3D505637#32, 0x3D7F1973#32, 0x3DD547AA#32, 0x3E0CD25A#32, 0x3E6B069C#32, 0x3E8638C0#32,
      0xBE829A2C#32, 0xBD38B1AF#32, 0x3D8953D2#32, 0xBE59854B#32, 0xBE13C968#32, 0x3DBDD41E#32, 0x3E015327#32, 0x3E338002#32,
      0xBDC67A31#32, 0xBD83DB1A#32, 0x3E3CDE9A#32, 0xBD812496#32, 0x3DA15433#32, 0x3DA1B5DC#32, 0xBC74DCD1#32, 0x3E051759#32,
      0xBE15AFA1#32, 0xBE00117F#32, 0xBD1EB4ED#32, 0xBBCAC1CF#32, 0xBD3FF95D#32, 0xBDBF3D0A#32, 0xBE38138D#32, 0x3E6144FA#32,
      0xBCA0FE8E#32, 0x3B2322B6#32, 0xBDA62B19#32, 0x3CC9F36D#32, 0x3D53CE12#32, 0xBDE1F798#32, 0xBE917BDA#32, 0x3D8C9FF4#32,
      0x3E8FE6AA#32, 0xBD503074#32, 0x3E37617D#32, 0xBD17A74B#32, 0xBE4C8397#32, 0x3E0672AC#32, 0xBDF45D58#32, 0x3DD68D93#32,
      0x3CA3A68C#32, 0x3DE58B62#32, 0xBDC0AB70#32, 0x3E17ABE9#32, 0xBE4FFCE4#32, 0xBD558CC3#32, 0xBE2F60C8#32, 0xBD97F298#32,
      0xBE12CD57#32, 0xBDF9BE8A#32, 0xBD158A58#32, 0xBD55AF14#32, 0xBCC6F3FA#32, 0x3E027834#32, 0xBDD1A9AA#32, 0x3D89470B#32,
      0xBDCF28E6#32, 0x3C714AC4#32, 0x3DACA1F4#32, 0x3D8C5677#32, 0xBE155AF5#32, 0x3C8619D2#32, 0xBE25F6D3#32, 0x3E02C4C6#32,
      0xBEA4B8D1#32, 0xBE12E37B#32, 0xBDC0DFDD#32, 0x3C21E045#32, 0x3CFB7130#32, 0x3D38A448#32, 0x3DB6F005#32, 0xBD0DF955#32,
      0xBE9EE63A#32, 0x3D8ACC94#32, 0xBE14C53E#32, 0x3DAE02B0#32, 0x3EBEC47D#32, 0x3E0C048D#32, 0x3D8449D3#32, 0x3DD21B6A#32],
    ![0x3D133FE6#32, 0x3CEA30EE#32, 0xBE0BAAF3#32, 0xBE24F24D#32, 0x3E2A2AC9#32, 0xBDB6EB81#32, 0x3D53213C#32, 0xBC29EE11#32,
      0x3E301E84#32, 0x3D7B6509#32, 0x3D1DF308#32, 0xBD95689D#32, 0x3DCE1B38#32, 0x3E02E0A3#32, 0x3CDF2FF5#32, 0xBDEB88EF#32,
      0xBDF75970#32, 0xBE458B60#32, 0xBE13B39F#32, 0x3D4A2909#32, 0xBD16C083#32, 0x3D0704D8#32, 0xBC886C51#32, 0xBC9C4671#32,
      0xBD474A2F#32, 0xBDFF2130#32, 0x3DD0AA22#32, 0x3DBF59BD#32, 0x3DF71C8D#32, 0x3D3506A4#32, 0x3D830F81#32, 0x3DE0B1C4#32,
      0x3DDC643F#32, 0xBDE9EF7F#32, 0xBDEA646E#32, 0x3E5E1AEE#32, 0xBDF7632F#32, 0x3CDFFAAE#32, 0x3A28D69C#32, 0xBD958005#32,
      0xBD5D3786#32, 0xBE42E163#32, 0xBDDA039A#32, 0xBDD251C6#32, 0xBE016FB0#32, 0x3D9FDD44#32, 0xBE86D85A#32, 0x3D396D2D#32,
      0x3D2EC826#32, 0xBC43CE39#32, 0x3DA1B525#32, 0xBE04B65D#32, 0xBC098584#32, 0x3E23BE8B#32, 0xBD7BA0E3#32, 0xBE34366B#32,
      0xBE2AD85E#32, 0x3CBCDBF9#32, 0x3D5CD678#32, 0x3C215CE3#32, 0xBE7C89E2#32, 0x3E86EB97#32, 0x3D2EF8C5#32, 0x3EAA791F#32,
      0xBE66AB9A#32, 0x3DDB6EAC#32, 0xBC65976D#32, 0xBD82CE1E#32, 0xBE079467#32, 0x3DDDD10C#32, 0x3DCC7152#32, 0xBD58B065#32,
      0x3C162E82#32, 0x3DB7C9B5#32, 0xBDE71DDE#32, 0x3DCABBFC#32, 0x3BD0C062#32, 0xBE756114#32, 0x3D77BC2D#32, 0x3E4F21D9#32,
      0x3D9D9057#32, 0xBE04C665#32, 0xBA60D506#32, 0x3E542D20#32, 0xBDCF4170#32, 0xBD984EF4#32, 0xBDF2C839#32, 0xBE84B46D#32,
      0xBE493531#32, 0x3E8B52CD#32, 0x3D9144F4#32, 0xBE346326#32, 0xBE4FD429#32, 0x3DCCF53C#32, 0x3C03A91E#32, 0x3D484EEF#32,
      0x3D4E499E#32, 0x3D92C7A2#32, 0x3CD5C13B#32, 0xBCB6E7AC#32, 0x3CFDBCBD#32, 0xBE048A26#32, 0xBDAA710F#32, 0x3D140925#32,
      0xBE03FC1F#32, 0xBDDCBD96#32, 0x3E414A33#32, 0xBDB49026#32, 0x3DC09DD5#32, 0x3CF3EB01#32, 0xBDAA79E8#32, 0x3CEB3620#32,
      0x3DFB6703#32, 0x3D89FE27#32, 0xBD922DF4#32, 0x3C6E287E#32, 0x3C8ED0BC#32, 0xBC8851D6#32, 0xBE3C5ADC#32, 0xBDAF379F#32,
      0xBDC7355E#32, 0x3D94F818#32, 0x3E011210#32, 0xBC4BCBA1#32, 0x3CAEF6D0#32, 0x3D9B0816#32, 0xBDBD9475#32, 0xBC45133A#32],
    ![0xBDA941B0#32, 0x3CD3A066#32, 0xBCD1BF6F#32, 0x3D37913C#32, 0x3E1FFD06#32, 0xBDBD9B55#32, 0x3D24FB2E#32, 0x3E060F68#32,
      0x3DCDCFEB#32, 0x3E178A29#32, 0xBE00D596#32, 0xBE93504C#32, 0x3D3F493E#32, 0xBD8F6306#32, 0xBE036E65#32, 0x3D8CFBB0#32,
      0xBE29D153#32, 0xBD05B4C3#32, 0x3C6A68D3#32, 0xBE3503D3#32, 0x3DDE28A9#32, 0xBD21ED75#32, 0xBC981FDF#32, 0xBDF98B50#32,
      0x3DFF27F7#32, 0x3D81AE4A#32, 0xBED2A9B5#32, 0xBDA735FC#32, 0x3D9D877D#32, 0x3D77DB7B#32, 0x3E25BF0B#32, 0xBD21BC61#32,
      0xBE0B54C4#32, 0x3DFA174F#32, 0xBDE4A4A6#32, 0xBE9C954D#32, 0x3C6ABEC4#32, 0xBE0AFFCE#32, 0x3D33E7BD#32, 0x3D406C47#32,
      0xBCACEBC7#32, 0x3D868FC1#32, 0xBDF4B00F#32, 0xBE240A58#32, 0xBE379828#32, 0xBE012B17#32, 0x3D20DD32#32, 0xBD671A86#32,
      0x3BA5F5E2#32, 0xBDD9A54C#32, 0x3D30838C#32, 0x3DFB5F4F#32, 0x3DB16DAD#32, 0xBD486E80#32, 0xBD8A2CC0#32, 0x3C2C7654#32,
      0x3D682697#32, 0x3D0EDFBC#32, 0x3E6521B0#32, 0xBD7C5059#32, 0x3DB1B7FB#32, 0xBE258435#32, 0xBCD240DE#32, 0xBE7C00D6#32,
      0xBD03E75C#32, 0xBD4A5366#32, 0xBD2581D5#32, 0x3E555288#32, 0x3C7B4FFE#32, 0x3CD2E967#32, 0xBDC1DBED#32, 0xBD00FAD8#32,
      0x3E7670A0#32, 0x3BF07113#32, 0xBD1B4047#32, 0xBD857ADE#32, 0xBE44E0EF#32, 0x3D400740#32, 0xBE39A69A#32, 0x3D3ABBC5#32,
      0x3E09CD69#32, 0xBDE132D1#32, 0xBDC85E9D#32, 0xBD2C8323#32, 0x3E875794#32, 0x3E07AFA2#32, 0x3E8160AA#32, 0xBD9E2632#32,
      0xBE3633E4#32, 0xBE142E06#32, 0xBE5C715A#32, 0xBE35C922#32, 0x3E1530C1#32, 0x3CC58E22#32, 0x3C93A25B#32, 0x3D301F44#32,
      0xBD71F3EA#32, 0xBC20DC6C#32, 0xBE6A1356#32, 0x3D67A9B1#32, 0xBDC8DF47#32, 0xBCD2D10A#32, 0x3D8B0103#32, 0xBD6C3A90#32,
      0x3E9FC9CE#32, 0xBC1E13A2#32, 0xBE7A3B28#32, 0x3DCECC6D#32, 0xBDA89116#32, 0x3E0FAA81#32, 0x3DE40743#32, 0x3979937C#32,
      0x3B549104#32, 0xBDA06C24#32, 0xBDD99366#32, 0x3BF5C443#32, 0xBD96975C#32, 0xBD89A1F6#32, 0xBE322095#32, 0x3E78758B#32,
      0xBE3BEBBE#32, 0xBD1152E0#32, 0xBD42D32F#32, 0xBD2663E0#32, 0xBBA8384D#32, 0xBDF0B71D#32, 0x3E37222E#32, 0x3DB611CE#32],
    ![0x3DEEEB1E#32, 0xBDBF861D#32, 0xBD20A843#32, 0x3D9BB940#32, 0xBD5EB29C#32, 0x3CB5C366#32, 0x3E2A752D#32, 0x3C7E3342#32,
      0xBDE8FA0B#32, 0x3DC8069A#32, 0xBD040A05#32, 0xBCBF39C2#32, 0x3D95C6E4#32, 0x3E9DD7EC#32, 0x3CF2E7DF#32, 0xBDDFFFA4#32,
      0x3D9BAA98#32, 0x3D69367C#32, 0xBD95225A#32, 0xBD7A4B72#32, 0xBD9A2EEC#32, 0xBDDE3E41#32, 0xBDA1AE0E#32, 0xBC311E93#32,
      0x3E14D899#32, 0xBD820D78#32, 0x3DC21C64#32, 0x3DAEA31E#32, 0xBE23453A#32, 0xBE19839B#32, 0xBD8E7AB4#32, 0x3CD11D94#32,
      0x3E015E4F#32, 0xBE071730#32, 0xBDCA55CF#32, 0x3CA47F15#32, 0xBE09EBE3#32, 0x3E135582#32, 0x3BE1714C#32, 0x3E089E33#32,
      0xBD711006#32, 0x3DEF06CA#32, 0x3E3A1260#32, 0xBC18E3D8#32, 0x3DD1B8D2#32, 0x3D01B6E5#32, 0x3E079B1A#32, 0x3A2BDD29#32,
      0xBD99E703#32, 0xBD5ACD48#32, 0x3DAE344A#32, 0x3E00B1E1#32, 0x3D5EFD36#32, 0xBD7D07B8#32, 0xBE3F29B0#32, 0x3E3679FE#32,
      0x3CC397C8#32, 0x3CB6CEA3#32, 0xBD7E3727#32, 0xBD59B925#32, 0xBE434E21#32, 0xBD054732#32, 0xBDF2A267#32, 0xBD3E320D#32,
      0xBDEA28F4#32, 0x3D77BACE#32, 0xBE6BF712#32, 0x3D4D9C9C#32, 0x3DDA8A2C#32, 0xBD12681D#32, 0xBD683696#32, 0xBCBEFFE4#32,
      0x3CCDAE78#32, 0x3DBBC20D#32, 0x3E7A0AE0#32, 0xBD3A821D#32, 0xBDEE9EFB#32, 0xBE5B10E0#32, 0x3E8A4588#32, 0x3E72E8C7#32,
      0xBDCDF6D9#32, 0xBDD172B1#32, 0x3D32FB4E#32, 0x3C5D5D1F#32, 0x3D3F0A77#32, 0xBDC451F2#32, 0xBD4981E4#32, 0x3DC0FFD9#32,
      0x3CBD50B5#32, 0xBE3E0684#32, 0x3E4D349A#32, 0x3D835D87#32, 0xBD502AE1#32, 0xBD0A776A#32, 0xBE6A6D38#32, 0xBE481E0C#32,
      0xBA2E7931#32, 0x3E1CC6C4#32, 0xBE0AD531#32, 0x3D63BA12#32, 0xBD0C6A82#32, 0xBC1AD658#32, 0x3DC862BB#32, 0x3DB30DDD#32,
      0x3E979B2E#32, 0xBE1A22B8#32, 0x3B961D05#32, 0x3D979119#32, 0x3E12F58E#32, 0xBCE05457#32, 0x3E0C2A56#32, 0x3E2F558F#32,
      0x3E67CCAF#32, 0x3E34FA3A#32, 0x3C166349#32, 0x3D46180C#32, 0xBE5D5336#32, 0xBD9F3F8F#32, 0xBD31F4AC#32, 0xBE890244#32,
      0x3DE689F8#32, 0xBDCCE1EF#32, 0x3BF6486A#32, 0xBDBBB042#32, 0xBD64AB5F#32, 0x3DB67EF0#32, 0x3C443ABD#32, 0x3D9DBFF8#32],
    ![0xBCAE5EBA#32, 0x3DF55AA2#32, 0x3E1D1046#32, 0x3DC6AC57#32, 0x3D39EACA#32, 0x3E3FE68D#32, 0x3D8595EA#32, 0xBE17FEBB#32,
      0xBE3143CF#32, 0x3E7597A0#32, 0x3CA656A4#32, 0x3E87B1ED#32, 0xBD0B71BB#32, 0x3DA86701#32, 0x3E17FE4F#32, 0xBE464245#32,
      0xBD4AB4C4#32, 0xBE1A002B#32, 0xBBD68DD2#32, 0x3C504BD7#32, 0xBC07CCC8#32, 0xBCD91C81#32, 0xBDD37154#32, 0x3BF5AF8C#32,
      0x3DCFF5C1#32, 0xBCFEBA9B#32, 0xBCF247AD#32, 0xBBB6AE3B#32, 0x3C15D42F#32, 0xBC852B46#32, 0x3E15D827#32, 0xBE25B867#32,
      0xBCE216DC#32, 0xBE5528A1#32, 0xBCA9C172#32, 0xBE34A7EA#32, 0x3D26FEE3#32, 0xBDA44DAD#32, 0x3D463BF8#32, 0x3E31B6E6#32,
      0xBB31FFA9#32, 0x3C2654FE#32, 0x3DD596B2#32, 0xBBFD7CCD#32, 0x3CCD6755#32, 0xBB442648#32, 0x3BC15787#32, 0x3D12D592#32,
      0x3E2C93CF#32, 0x3CF5B03C#32, 0xBB496F01#32, 0xBC94B75D#32, 0x3DBC0B4C#32, 0x3D971418#32, 0xBE5FFBEF#32, 0x3D49D13B#32,
      0xBE511E26#32, 0xBCC2C8D2#32, 0x3E544C7B#32, 0xBDA46593#32, 0x3A238A81#32, 0x3E761386#32, 0x3DE72E8B#32, 0x3B032C62#32,
      0xBD9DD6B7#32, 0x3E178BC4#32, 0xBD73D3C7#32, 0xBE152326#32, 0xBD03073A#32, 0x3C382980#32, 0x3D445FA8#32, 0x3D132B68#32,
      0xBC84C9DF#32, 0xBC2B9547#32, 0xBD120164#32, 0xBE764C72#32, 0x3CAF6D01#32, 0xBD8D85F4#32, 0xBDF36EAE#32, 0x3D43EDD1#32,
      0x3E28422B#32, 0xBDB379A1#32, 0x3D037771#32, 0xBD6DA87A#32, 0xBE51A844#32, 0xBD69CED3#32, 0x3CE81CEB#32, 0xBD02845E#32,
      0xBD7BAD44#32, 0x3E0CB62C#32, 0x3D0CFF45#32, 0xBCA5DCB1#32, 0x3E2ED7B1#32, 0x3DCA60FC#32, 0xBB893409#32, 0xBDDE2A04#32,
      0xBD141120#32, 0xBE3AD36D#32, 0xBE178A2C#32, 0x3D0F0B8E#32, 0x3DD2AAE4#32, 0xBCC8A741#32, 0x3E423A95#32, 0x3D6DB7FD#32,
      0x3DC30BC4#32, 0xBE8E4CD0#32, 0x3D899C5C#32, 0x3C2E663A#32, 0x3CCD9640#32, 0xBE93CFFD#32, 0x3E3A6ABC#32, 0xBC3FD436#32,
      0x3DB95FD7#32, 0xBD8EFDB8#32, 0x3D8E4FA7#32, 0xBE2EE9CC#32, 0x3EAD33E4#32, 0x3DBD72C8#32, 0x3CAC7D23#32, 0x3DE479DF#32,
      0x3DA04664#32, 0x3B05838B#32, 0xBD9BD32F#32, 0x3DCB805D#32, 0x3B2CE155#32, 0x3C8F1C5B#32, 0xBD9D7019#32, 0xBB015E2A#32],
    ![0xBDB7EF6D#32, 0x3CF80A4F#32, 0x3DA01E0B#32, 0xBE2A565B#32, 0x3D91C391#32, 0xBABA1AF0#32, 0xBDD8008B#32, 0xBD21B12F#32,
      0x3BEEA180#32, 0xBCEB7D6D#32, 0x3DDB9783#32, 0xBDCA1564#32, 0xBB92CEF3#32, 0x3E31491C#32, 0xBD480D17#32, 0x3DAC96D1#32,
      0xBCB5D9E0#32, 0x3DE313F2#32, 0xBD0050FD#32, 0xBDEFF340#32, 0xBE31C230#32, 0xBE67E5D0#32, 0xBE2C4E9F#32, 0xBD2BBF90#32,
      0x3E1FD103#32, 0x3C4F74E4#32, 0x3D980E5A#32, 0x3D3540D8#32, 0xBC136614#32, 0x3D8B67FE#32, 0x3CFC3035#32, 0x3BA9F160#32,
      0xBD50AEBF#32, 0x3E37450F#32, 0xBDB43F78#32, 0x3DC49991#32, 0x3E5A9E41#32, 0xBD07D0AF#32, 0x3C3173E2#32, 0xBDEC74EA#32,
      0x3DC6D283#32, 0xBC97533A#32, 0xBDE9F731#32, 0xBE061357#32, 0xBD72F128#32, 0xBE090682#32, 0x3D04CC64#32, 0x3E1BF5AA#32,
      0xBE14A400#32, 0x3C500E1C#32, 0xBD67BF31#32, 0xBD645FD3#32, 0xBCFEC530#32, 0xBDAFDB33#32, 0x3E31789B#32, 0xBDE11F28#32,
      0x3D8B21B1#32, 0xBDC2CB2D#32, 0x3D26C3E8#32, 0xBE1DECFB#32, 0x3D897963#32, 0xBC33FE66#32, 0x3E16822F#32, 0x3DA709A0#32,
      0xBC5FA23E#32, 0xBE70015A#32, 0xBE65DB03#32, 0xBD54D184#32, 0xBE060F84#32, 0xBE1AEEBA#32, 0xBDABD72C#32, 0x3E40BFD7#32,
      0x3D697373#32, 0xBE147331#32, 0x3E44F766#32, 0xBDABDA0B#32, 0xBE2B7B56#32, 0x3DBB0555#32, 0x3C59DBC7#32, 0xBE41B295#32,
      0xBC8863EF#32, 0xBD984FC6#32, 0x3DE692D8#32, 0x3DAB2602#32, 0x3D382291#32, 0x3DE268C9#32, 0x3E24F15F#32, 0x3E93AB89#32,
      0xBB445A4F#32, 0x3E6B609B#32, 0xBD27EEEC#32, 0xBCDDFC04#32, 0xBE46D2E0#32, 0xBDF88D3D#32, 0x3DC704D5#32, 0xBE35C777#32,
      0x3C1170F7#32, 0xBBD2DFA1#32, 0xBDBD106B#32, 0xBE1A8FF3#32, 0x3DE08C4B#32, 0xBE237EFB#32, 0x3C2FA931#32, 0x3DAF2117#32,
      0xBD77AB77#32, 0x3C96628B#32, 0x3D14447C#32, 0x3DF7C1BA#32, 0xBE1CFD34#32, 0x3B366014#32, 0xBDA846F9#32, 0x3DFA75BE#32,
      0x3C2539EB#32, 0xBCA28AE6#32, 0x3CB2ABE8#32, 0xBDC3E265#32, 0xBE4BF806#32, 0xBDA37618#32, 0x3E3CBAEA#32, 0xBCA19C8A#32,
      0x3DFA7241#32, 0xBE1C8FE5#32, 0x3E1C3EE9#32, 0x3DDBEE13#32, 0x3D977D7F#32, 0xBE9E89AF#32, 0xBD15528E#32, 0xBE1AA74E#32],
    ![0xBD62BB17#32, 0xBE2F1954#32, 0x3E477AD0#32, 0xBEAF9441#32, 0x3DFEA714#32, 0xBD1D1B42#32, 0xBE07E93F#32, 0x3DB625C8#32,
      0x3D8C4F9D#32, 0x3D182FA7#32, 0x3E25E1F7#32, 0x3DB39CD5#32, 0x3DE1EC97#32, 0x3E1F38B5#32, 0x3D490B24#32, 0xBDC59638#32,
      0x3E486E15#32, 0xBDFB89F6#32, 0x3E388D9C#32, 0xBE46ABC8#32, 0xBE2A1E79#32, 0xBB87023E#32, 0x3D68415F#32, 0x3D930CE6#32,
      0xBCF4B865#32, 0x3D11AE1F#32, 0x3E09886E#32, 0xBDF9E841#32, 0xBCC62848#32, 0xBDF07E28#32, 0xBCF7001B#32, 0xBD954623#32,
      0xBDE110A1#32, 0x3DD78626#32, 0x3D18C3F1#32, 0xBB0F6B0C#32, 0xBE6EE78E#32, 0xBDA9F86A#32, 0xBDF2DAFB#32, 0x3DC2F1C0#32,
      0x3E730791#32, 0x3DEF4822#32, 0xBDB80BE1#32, 0x3DF16D74#32, 0x3D08B6A8#32, 0xBD06BE6F#32, 0xBCBD8B64#32, 0x3D04958B#32,
      0xBDC03DBB#32, 0xBE134223#32, 0xBE0A8B62#32, 0xBDDDB6B4#32, 0x3E3E0F1C#32, 0xBD717931#32, 0xBDE8ED97#32, 0x3E8AFCC4#32,
      0xBE05748B#32, 0xBD4EFAFC#32, 0xBE1BA33D#32, 0xBD981C92#32, 0xBE631DE5#32, 0x3CF768C1#32, 0x3CE64F71#32, 0x3DD9E374#32,
      0xBDF3E4D8#32, 0x3E2B51E0#32, 0xBDCCAEFE#32, 0xBE330C33#32, 0x3DD4D714#32, 0xBDD8AA9D#32, 0x3C1A94BF#32, 0x3DE330CC#32,
      0xBC306D83#32, 0x3DB5A0E5#32, 0x3D9958B5#32, 0xBD8AF35C#32, 0x3D07D60F#32, 0x3CC80EF1#32, 0x3D04E753#32, 0xBD02C181#32,
      0xBE216423#32, 0x3E1FB10D#32, 0x3E0C313D#32, 0xBDC28E3F#32, 0x3DEE875B#32, 0x3CED0E68#32, 0xBE14BB5B#32, 0x3E652C32#32,
      0xBE818934#32, 0x3E30A28B#32, 0x3E25B85D#32, 0x3E7AF6FF#32, 0x3E69E400#32, 0x3E6C58F3#32, 0xBE8B0213#32, 0x3D7DA4C1#32,
      0x3D65736D#32, 0x3E01979F#32, 0xBE26FC11#32, 0x3C2CEAFE#32, 0xBD56FD0F#32, 0xBD3CA597#32, 0x3D853827#32, 0xBE0256DD#32,
      0x3CA936AC#32, 0xBD784285#32, 0x3E11A59B#32, 0xBD09F813#32, 0xBE550372#32, 0xBCE58A30#32, 0x3D62A9CA#32, 0xBE11465F#32,
      0x3E29B94B#32, 0xBC7A595B#32, 0xBD01E4FB#32, 0x3E248043#32, 0x3E3E7D7C#32, 0x3DFB98ED#32, 0x3DDA3AE2#32, 0xBDEAE273#32,
      0xBE52BE24#32, 0xBD9C07C7#32, 0xBD649C5B#32, 0x3CCC2EA1#32, 0xBDE4A748#32, 0xBEAD342D#32, 0x3D3A59C0#32, 0x3DC575CC#32],
    ![0xBE3432C6#32, 0xBDA4CB18#32, 0xB93E7E78#32, 0x3C868961#32, 0x3CB85EB7#32, 0xBE4650AD#32, 0xBD116962#32, 0x3D477651#32,
      0x3E29FEAF#32, 0xBE0EA7A4#32, 0xBD17E210#32, 0xBED7F6F3#32, 0xBDD1EC9F#32, 0x3E23EF2B#32, 0xBCF669A3#32, 0x3DD12101#32,
      0x3DBB8784#32, 0x3E2BE62A#32, 0xB7018FB4#32, 0xBE0C68DC#32, 0xBDD2188C#32, 0xBDD1936E#32, 0x3E344385#32, 0xBE4D78B0#32,
      0xBE357D0C#32, 0xBB74C1F2#32, 0x3E270579#32, 0xBBDDC915#32, 0x3D03CB1E#32, 0x3D89D38A#32, 0x3B6EB981#32, 0xBDA6D3BE#32,
      0x3CABA084#32, 0x3CC215A6#32, 0xBB9AF12D#32, 0x3DFC7A01#32, 0x3E25CDE8#32, 0xBD40B107#32, 0xBD7350A5#32, 0xBE1188DD#32,
      0x3E5E2B9D#32, 0xBDE84EC7#32, 0x3DBFF8DF#32, 0x3DED599D#32, 0xBDEE47F5#32, 0xBD2FB497#32, 0x3D8CD741#32, 0xBE14805F#32,
      0x3DF12593#32, 0x3E016AAF#32, 0x3E47CB0A#32, 0xBD9CF04B#32, 0x3D85FF16#32, 0x3E8EBE9C#32, 0xBD862800#32, 0x3EA170A1#32,
      0x3DA0D8B7#32, 0xBD74A507#32, 0xBDF31660#32, 0x3D046B4E#32, 0x3C938131#32, 0x3DE6BD7C#32, 0x3DBAF653#32, 0xBD6D7D29#32,
      0xBCE84374#32, 0xBCB32369#32, 0x3BC095AF#32, 0xBDFE0F21#32, 0x3DD92B05#32, 0xBD90CAA6#32, 0xBDEBCFC4#32, 0x3C9DF3AC#32,
      0x3E2991DD#32, 0xBE3E6D81#32, 0x3DD8DA62#32, 0xBD86CB80#32, 0x3E0E58BC#32, 0xBD1E9B89#32, 0xBD5178EB#32, 0xBB29DF51#32,
      0xBDB44E0D#32, 0x3E141F1D#32, 0x3D8D115D#32, 0xBDAA60A8#32, 0xBCC38EF7#32, 0x3D7815A7#32, 0x3D5B9023#32, 0xBC8873E6#32,
      0x3D66377D#32, 0xBD5DC4EE#32, 0xBD78A16C#32, 0x3DDB2E16#32, 0x3E58DB21#32, 0x3E005123#32, 0xBBBC3A70#32, 0xBD4BC91C#32,
      0xBE3A870C#32, 0x3BD2333A#32, 0x3B1037AF#32, 0xBB4E7871#32, 0xBDFEF36A#32, 0x3DC78DC6#32, 0x3E02E569#32, 0x3E1060E0#32,
      0x3BEE8630#32, 0x3DB27468#32, 0x3D227609#32, 0x3DD8A49B#32, 0xBE60DC12#32, 0xBDD0D3E0#32, 0xBE3C0A8C#32, 0x3D5B4221#32,
      0xBC4A5DBF#32, 0xBCBA83DC#32, 0xBCBF46D4#32, 0x3C4D54DA#32, 0xBE372602#32, 0xBC761126#32, 0xBDDBF43B#32, 0xBDBB510B#32,
      0x3BFC7402#32, 0xBD8073C8#32, 0xBD8BF19C#32, 0xBE3B310D#32, 0x3E056931#32, 0x3DE692B3#32, 0x3D946468#32, 0xBE749974#32],
    ![0x3DD7F6F7#32, 0x3D2B0EFF#32, 0x3A3E8960#32, 0x3DB0968A#32, 0xBDB97E3F#32, 0x3DF53C85#32, 0xBD7A2AF7#32, 0xBD9ED81F#32,
      0x3E6D0DF4#32, 0xBC896DD0#32, 0xBE1AD5D3#32, 0x3E2D5B77#32, 0x3DFA2583#32, 0x3E00D482#32, 0xBC80B1F9#32, 0xBDF80D63#32,
      0xBDF0EB63#32, 0x3CD454A0#32, 0x3D81219D#32, 0xBD7F52D0#32, 0x3D15C5CC#32, 0x3E0C5CFD#32, 0x3E54FDB7#32, 0x3E26DE9A#32,
      0xBE063DC2#32, 0xBE21EBBD#32, 0xBD7655F0#32, 0x3E039ECA#32, 0x3E81ED93#32, 0xBE25FD61#32, 0x3E061B7D#32, 0x3B9C7A38#32,
      0x3D8AA8B9#32, 0xBE9307F8#32, 0xBCD2AFAC#32, 0x3E00401A#32, 0x3E7A3068#32, 0xBE24DA20#32, 0x3D580605#32, 0x3DDFA79B#32,
      0x3E4B1EA7#32, 0xBD3FD44E#32, 0xBDBA4C23#32, 0x3E023FCF#32, 0xBE2FB720#32, 0xBE4C3B5D#32, 0x3E91FF8E#32, 0xBCE5BC4F#32,
      0x3D340591#32, 0x3D39DD86#32, 0xBE638E94#32, 0x3D409F03#32, 0x3E3822A2#32, 0xBD46E87B#32, 0xBCE1B273#32, 0xBBA250D4#32,
      0x3D37C04E#32, 0xBE835122#32, 0x3DF6CFE4#32, 0x3DC622FF#32, 0xBD70F35F#32, 0x3E1202A8#32, 0xBE3DE553#32, 0x3DC3DB5F#32,
      0xBE691110#32, 0xBCBEE71B#32, 0xBDE39144#32, 0x3C8681CB#32, 0x3DA34171#32, 0xBE12B5E9#32, 0xBDC86375#32, 0xBE8F5B2E#32,
      0x3D3BA31E#32, 0x3D4580D7#32, 0x3DA80CDE#32, 0x3EB28A78#32, 0xBE318367#32, 0xBDA85B96#32, 0x3E95C72E#32, 0x3DD2E7F0#32,
      0x3E675CE6#32, 0xBD5624C7#32, 0xBD894440#32, 0xBDE25577#32, 0xBDADC32B#32, 0xBC9C7DD7#32, 0x3D1159C9#32, 0xBDD1371B#32,
      0xBCA47533#32, 0xBD409EB4#32, 0xBDAA95B4#32, 0x3D848135#32, 0xBD85E016#32, 0xBCDE865C#32, 0x3E0C8EDB#32, 0x3D5AD275#32,
      0xBE4D95CB#32, 0x3C76256C#32, 0x3C024B32#32, 0x3DDCB5C4#32, 0xBD9E974E#32, 0xBCB6333E#32, 0x3DF87633#32, 0xBDEEE805#32,
      0xBB7EA4EF#32, 0xBE95BA97#32, 0x3CE3DFDB#32, 0x38B64C67#32, 0x3E0C9E3A#32, 0xBCEB328B#32, 0x3E1589CB#32, 0x3DFA08DA#32,
      0xBE0CDB94#32, 0xBDD1FC3F#32, 0x3E233873#32, 0x3D953137#32, 0xBCB2939B#32, 0xBE4C1994#32, 0xBE64BE58#32, 0x3AAAE408#32,
      0x3E045B90#32, 0xBD94A1E0#32, 0x3CFC99FE#32, 0xBD670A44#32, 0x3E04020B#32, 0x3E4CE8C8#32, 0xBE0DEF1D#32, 0xBD3366ED#32],
    ![0x3E2CDCB7#32, 0x3D13EDDD#32, 0xBE42FD86#32, 0x3D4CAF54#32, 0x3D8EF2E8#32, 0xBCC06410#32, 0x3E404271#32, 0xBD7D06A7#32,
      0xBD3E8E17#32, 0x3DB2012C#32, 0xBE1560CC#32, 0xBDBE52E1#32, 0xBD5D876C#32, 0x3CD669ED#32, 0x3E22D9BD#32, 0xBE58798C#32,
      0x3E37DF9B#32, 0xBDD7D42A#32, 0x3C65EC54#32, 0x3E2392CB#32, 0xBE5664E6#32, 0xBD173688#32, 0x3E7DE21B#32, 0xBCB7B5BE#32,
      0xBE0785B7#32, 0x3C4B2706#32, 0xBD75F43F#32, 0xBE71FC7E#32, 0x3E4AA2B3#32, 0x3D8A21D9#32, 0x3E428A77#32, 0x3B487DFC#32,
      0xBD1B412E#32, 0xBDB614F1#32, 0xBDB5270E#32, 0x3E6DB3AE#32, 0xBE009B07#32, 0xBE787CDB#32, 0x3CA5D0AB#32, 0x3E13DB73#32,
      0xBD8C3B77#32, 0x3E60A53F#32, 0x3E7EC580#32, 0x3D9BF55A#32, 0x3D0C2298#32, 0x3D82B3EA#32, 0x3E28787A#32, 0x3E3ED39F#32,
      0xBD9C347E#32, 0x3E087E2F#32, 0x3E64D717#32, 0x3D4B0553#32, 0x3C7CED19#32, 0x3E1FF362#32, 0xBE32F439#32, 0xBE4362F7#32,
      0xBE65A47F#32, 0x3E0C2756#32, 0x3D3E38E0#32, 0x3E000E49#32, 0xBD22E11F#32, 0x3CFFD157#32, 0xBE510BF8#32, 0xBE2CE599#32,
      0x3E41A916#32, 0xBE0768A5#32, 0xBD9A6B71#32, 0xBD9B4C26#32, 0x3E9B9624#32, 0xBDD7AF09#32, 0xBD7D335A#32, 0xBD7CA0C2#32,
      0xBE21D3C0#32, 0xBE2ABFDA#32, 0xBD09FACC#32, 0xBAAAD09B#32, 0x3BC81E8C#32, 0xBE0815E8#32, 0xBE6B0317#32, 0x3E5260D1#32,
      0x3DBD948B#32, 0xBDB0E74D#32, 0x3DA1174A#32, 0x3D9CB67F#32, 0xBDD0D4EF#32, 0x3D1DECEA#32, 0xBDAC85A0#32, 0x3DBD3F93#32,
      0x3E03DE2F#32, 0x3DBC5A39#32, 0x3EBB9DA7#32, 0xBD952B15#32, 0xBC3667DF#32, 0x3E11B131#32, 0x3D903739#32, 0xBD8E2308#32,
      0xBD5A3C3C#32, 0x3DDD78FE#32, 0x3DE85865#32, 0xBDC95022#32, 0xBC3BC6E1#32, 0x3D841FCE#32, 0x3C01D2F3#32, 0xBE24C79E#32,
      0x3DB41FA5#32, 0xBC67299F#32, 0xBC3F7DAD#32, 0x3D12E22F#32, 0xBD347A59#32, 0xBE845198#32, 0xBD8258C7#32, 0x3D5BA124#32,
      0x3BE0A8C6#32, 0xBB4FCCD2#32, 0x3E37FDB0#32, 0xBE57CD46#32, 0xBE59ECF8#32, 0xBC66C2FB#32, 0x3DA9212D#32, 0x3D1653C0#32,
      0xBE39CE87#32, 0x3D866853#32, 0xBE41E013#32, 0xBCE9FF87#32, 0x3E1A1C3C#32, 0x3DDF2E25#32, 0xBC8F41A7#32, 0xBE787BD4#32],
    ![0x3D5F58FE#32, 0xBE40EDC9#32, 0xBDF9C5D2#32, 0x3DBD6064#32, 0x3D118717#32, 0x3A941D57#32, 0xBBBB5486#32, 0x3D52644E#32,
      0xBD48B002#32, 0xBE611FB9#32, 0xBD9B99AB#32, 0x3D4FA081#32, 0x3E37AC41#32, 0xBDC2CBC5#32, 0x3E01DAFE#32, 0x3D8E1CD5#32,
      0xBD96DC2E#32, 0xBE13B962#32, 0x3D0FC0FA#32, 0x3E67C2B3#32, 0x3D49A022#32, 0x3EC56895#32, 0x3D29A711#32, 0xBE0CD6D4#32,
      0xBD8102FB#32, 0x3E834700#32, 0xBDA9B68C#32, 0x3D029889#32, 0x3D7CF6EC#32, 0x3E45B068#32, 0x3DAB630D#32, 0xBC9FD64B#32,
      0xBDFF2FC4#32, 0x3D1A4330#32, 0xBD6AA72C#32, 0x3DEDE7EA#32, 0x3C26620A#32, 0x3DE67F75#32, 0x3D60B48D#32, 0x3C95142F#32,
      0x3DFAE971#32, 0xBCAF69CA#32, 0x3DA83025#32, 0x3D68E7B9#32, 0x3E3F76EC#32, 0x3E068E66#32, 0xBDA1E19C#32, 0x3CB20B56#32,
      0xBD70BA7E#32, 0x3DD6C5AE#32, 0x3E2D4270#32, 0x3E25166A#32, 0xBC96BEE8#32, 0xBE537230#32, 0x3DDF0100#32, 0x3CA2DB60#32,
      0xBDB0DB3F#32, 0x3E089941#32, 0x3BEE2171#32, 0x3D2DA705#32, 0x3E033F4F#32, 0xBE6D1088#32, 0x3DC5EF4E#32, 0x3CF59DB2#32,
      0xBD4A30E4#32, 0xBDA18ABB#32, 0xBDE0686B#32, 0x3E5B4F00#32, 0x3E01F664#32, 0xBD6E48C9#32, 0xBD844471#32, 0xBDAD9C31#32,
      0xBDB2284C#32, 0xBE8C389A#32, 0xBDDAAE73#32, 0xBD14AE4D#32, 0x3E1703C4#32, 0x3D15B825#32, 0x3DBF40C2#32, 0x3CA09338#32,
      0xBD1F11CF#32, 0xBBA1F5E5#32, 0x3C32B877#32, 0x3EA23BDE#32, 0x3DBFF06A#32, 0xBE5978E4#32, 0x3CCA6D00#32, 0xBDFC1E8C#32,
      0x3DFEB381#32, 0x3D47CA75#32, 0xBB6F935C#32, 0x3E374D61#32, 0xBC890D12#32, 0x3E9B8F2F#32, 0x3D95F8B3#32, 0xBE029688#32,
      0x3E92F8AC#32, 0x3D38B60C#32, 0x3CDAA516#32, 0xBD2B995D#32, 0xBE5898C3#32, 0x3C8AE9AE#32, 0xBCAD0A5E#32, 0x3D0120A0#32,
      0xBDD64A48#32, 0x3E45035D#32, 0xBD9F1F1A#32, 0x3D093973#32, 0xBCAB5750#32, 0x3DEE5FAE#32, 0xBE05B267#32, 0xBD576116#32,
      0xBD2B4FF6#32, 0xBDD76E1C#32, 0x3E3F5C45#32, 0x3D888007#32, 0xBD10DDBE#32, 0x3CD8D0ED#32, 0xBDBD39F9#32, 0x3E8B6AF9#32,
      0xBDF6F9C6#32, 0x3E43A314#32, 0xBE951859#32, 0x3D545D60#32, 0xBD1CCEFC#32, 0x3C257992#32, 0xBD774DB3#32, 0x3E1B715D#32],
    ![0x3DF760A3#32, 0xBDC325CE#32, 0x3D294E9D#32, 0xBDB37D8F#32, 0xBD7B4670#32, 0xBE90762F#32, 0x3C2E6DEE#32, 0xBD6125B7#32,
      0x3E540EEF#32, 0xBDB4C015#32, 0xBDAB198F#32, 0xBD47C9AC#32, 0xBC9B16C8#32, 0x3D575259#32, 0x3DB796C3#32, 0xBDE87997#32,
      0x3DA48EAD#32, 0xBDBF9D27#32, 0xBE8E9250#32, 0xBDFE0B40#32, 0xBDB6EEF2#32, 0xBDC9DC6C#32, 0x3DE1D72C#32, 0x3E3D50EF#32,
      0x3DB4E434#32, 0x3DAF5727#32, 0xBE173336#32, 0x3D815818#32, 0x3DDA2BD8#32, 0xBE269DA7#32, 0xBC990AA4#32, 0xBE517303#32,
      0xBE67D887#32, 0xBE79D7B7#32, 0xBD8BF5A8#32, 0xBE2E1181#32, 0xBE2B4984#32, 0xBE0F72C6#32, 0x3D2C14F3#32, 0x3DC8B816#32,
      0xBE0EB7B8#32, 0x3D4EB7BC#32, 0xBDECFC15#32, 0x3CD361BE#32, 0x3DDDE127#32, 0x3DF23204#32, 0xBE29D96C#32, 0xBD5471ED#32,
      0x3CF8BC1C#32, 0x3E0680FA#32, 0xBE3A77D1#32, 0xBD6B81D1#32, 0x3A7BB223#32, 0x3E307364#32, 0xBD1F7FBC#32, 0xBE0B6F80#32,
      0xBE0A6419#32, 0x3D8E0863#32, 0x3E0929FF#32, 0xBE169A9E#32, 0x3E08BC62#32, 0xBE6E0DD8#32, 0x3C24A900#32, 0xBDF8F1EE#32,
      0xBE65ED09#32, 0x3C376B53#32, 0x3E105360#32, 0x3DA78F05#32, 0x3E6F716F#32, 0x3E51F275#32, 0x3C81D781#32, 0x3E5306FB#32,
      0xBCDF8B73#32, 0x3DB4D2DD#32, 0xBDC94925#32, 0xBDBB9350#32, 0x3BE28340#32, 0x3C57160C#32, 0xBE0B21BA#32, 0xBE75DD24#32,
      0x3D06C2CB#32, 0xBC1A4E21#32, 0x3E64CF40#32, 0xBE106192#32, 0xBE363C8D#32, 0xBE3FBD7C#32, 0xBE04F8A3#32, 0x3E2FF9FB#32,
      0xBE1A6B93#32, 0x3DAC0FD8#32, 0xBE452460#32, 0x3D02966E#32, 0xBDC58DF7#32, 0x3D879895#32, 0xBE195FFE#32, 0x3E314059#32,
      0x3CE309A5#32, 0xBE59B0D2#32, 0xBE1F31D7#32, 0x3D36A837#32, 0x3EA60B56#32, 0xBE36ECCB#32, 0x3DE96686#32, 0xBE275E19#32,
      0x3E01BCAF#32, 0x3D70668A#32, 0x3DC93512#32, 0x3C889860#32, 0x3C717884#32, 0x3DB75757#32, 0xBE4AF815#32, 0x3E8B1EA3#32,
      0xBE373428#32, 0x3C03EA44#32, 0xBE061DA6#32, 0x3EB79EA5#32, 0x3C2641F9#32, 0xBE2E3B6F#32, 0xBE0DB478#32, 0x3CB51339#32,
      0x3BDD7EE0#32, 0xBE08769F#32, 0xBD51EC16#32, 0x3D42A5A6#32, 0xBBDDEE1E#32, 0xBE8A2F29#32, 0xBC12341D#32, 0x3DA5571A#32],
    ![0x3D99231C#32, 0x3E56885A#32, 0xBDDC0CDB#32, 0xBDAE0A6C#32, 0x3DD96476#32, 0xBCE14C4A#32, 0x3C83FF62#32, 0x3D6210BC#32,
      0x3E1D1C75#32, 0x3D4F6E81#32, 0x3EA4FF8B#32, 0xBDD2E638#32, 0x3E483172#32, 0xBE00B624#32, 0x3E268F53#32, 0xBD34612D#32,
      0x3E216892#32, 0xBDDBEDCF#32, 0xBB937E87#32, 0x3EE1606A#32, 0xBE8349AA#32, 0x3DC2B7BB#32, 0xBDAFE316#32, 0xBDAC0166#32,
      0x3DBC47F9#32, 0xBC368B6C#32, 0xBDD18BCB#32, 0xBDBFEF5D#32, 0xBE8C8FF6#32, 0xBE25BF6B#32, 0xBD7B6AB5#32, 0xBE13D742#32,
      0xBE09D8FE#32, 0xBD99AA50#32, 0x3AB2B5B1#32, 0xBB99A06C#32, 0x3E509E99#32, 0xBE318793#32, 0x3D4D79A1#32, 0x3DEB3E8E#32,
      0x3D8C2D5F#32, 0x3E4370B3#32, 0x3DC32D20#32, 0xBEA32086#32, 0x3E05BCAB#32, 0xBE4235FC#32, 0x3E02656A#32, 0xBDDA3CFB#32,
      0xBE017A01#32, 0xBDAEF71E#32, 0xBDA0C49E#32, 0xBE0D9568#32, 0xBD79260C#32, 0x3DC52270#32, 0x3C2EF0C0#32, 0xBE070AAF#32,
      0xBDFDC16F#32, 0xBDD47BA0#32, 0x3E5A2E37#32, 0x3E4228D1#32, 0xBCE4243B#32, 0xBCEC4407#32, 0x3DA3F7E0#32, 0x3E50D596#32,
      0x3CB87D5D#32, 0xBC4727B6#32, 0x3E01635B#32, 0xBE913835#32, 0xBE456398#32, 0xBDC95926#32, 0x3DCB97BC#32, 0xBE4175BE#32,
      0xBB9E9C48#32, 0xBD426D2C#32, 0xBCF23DED#32, 0x3DAF1FB4#32, 0x3E72D5DF#32, 0xBDAE74AE#32, 0xBD49D8D4#32, 0xBDF72AB1#32,
      0x3D4E865E#32, 0xBD6065E1#32, 0x3D7D27E9#32, 0x3DDA6EA2#32, 0x3D96B41A#32, 0xBC5F1BA5#32, 0x3D84B059#32, 0xBCB2B1D4#32,
      0xBD9A0723#32, 0x3DDCAF2C#32, 0x3E69DEB2#32, 0xBDAED291#32, 0xBDFE6EC8#32, 0xBDD1A88B#32, 0x3E190566#32, 0xBD68A8A4#32,
      0x3DC9EFDD#32, 0x3DFD8140#32, 0x3D8DD519#32, 0xBCB9A9FA#32, 0xBCF153B3#32, 0x3E18065A#32, 0xBBB49185#32, 0x3C7E144F#32,
      0xBE7ACE43#32, 0xBD14DE19#32, 0xBC619A97#32, 0x3E2744BB#32, 0x3CBE92FA#32, 0xBE3828D9#32, 0xBE025AB6#32, 0xBBCC226C#32,
      0x3E1E0FF0#32, 0x3E3D90CE#32, 0x3D16263E#32, 0x3E2175A6#32, 0xBD68B7B6#32, 0x3DFFA97D#32, 0xBE379FA3#32, 0xBE02ADEC#32,
      0x3E2B0FF2#32, 0x3E73801E#32, 0x3D99629F#32, 0x3D871A05#32, 0xBE8A6926#32, 0x3C8BCECC#32, 0x3DC4BEBC#32, 0x3A8AD4F7#32],
    ![0xBE34EBE8#32, 0xBBA5C983#32, 0x3E5B12FA#32, 0xBCC5A7DF#32, 0xBE4AD7D2#32, 0x3D17161C#32, 0x3CE28223#32, 0xBE19D6F7#32,
      0x3D57284B#32, 0x3D6C5B20#32, 0xBDD35FC3#32, 0xBCE70B3E#32, 0x3E105E23#32, 0x3DA58B26#32, 0x3DD0E60C#32, 0x3DAFA90B#32,
      0x3B9DB5A8#32, 0xBD1899BF#32, 0xBE6038EB#32, 0x3D8CCC06#32, 0xBDA15915#32, 0x3D9AA7CC#32, 0x3DFE2C1D#32, 0x3D857B59#32,
      0x3D5B0CB0#32, 0xBE1D659C#32, 0x3E4D41D7#32, 0x3E01DFA4#32, 0x3D14D427#32, 0xBBDAD621#32, 0x3E5BA1DF#32, 0x3DD54AFC#32,
      0x3E3B826F#32, 0x3C298134#32, 0xBD7F1C0B#32, 0x3D76F31E#32, 0xBD3F70C9#32, 0xBE05C003#32, 0xBDE6E4A4#32, 0x3C52CDC1#32,
      0x3E272EA3#32, 0xBDBBD21B#32, 0xBD2C26DE#32, 0x3D8449A0#32, 0xBC90F932#32, 0xBDC5D72A#32, 0x3E97FE19#32, 0x3DB5FE3D#32,
      0xBBFAB9D9#32, 0xBDB19A37#32, 0x3E3F1EB8#32, 0x3E872A45#32, 0xBAD166A3#32, 0xBE50A051#32, 0xBC9D4763#32, 0x3E0BCC00#32,
      0xBDA34C10#32, 0xBE118600#32, 0xBC032321#32, 0x3C55D5F4#32, 0x3D25FE5F#32, 0x3E0D3128#32, 0xBE5699B0#32, 0x3E0B9ADF#32,
      0xBDDF3FF1#32, 0x3DC02E3F#32, 0x3DE0763C#32, 0xBE95F9D3#32, 0x3E26DE01#32, 0xBD8D470B#32, 0x3E30855A#32, 0xBE4E0358#32,
      0xBDCA9F41#32, 0x3E0EDB3A#32, 0x3D3C91C9#32, 0xBDEBF9B0#32, 0x3E8BF628#32, 0x3D8D3698#32, 0x3D991030#32, 0xBD9932DB#32,
      0x3E5B7043#32, 0x3E17D50F#32, 0xBB480EB7#32, 0x3D4084D4#32, 0xBDF914A8#32, 0xBC75BFBA#32, 0xBDBBE1D3#32, 0x3CF08AF9#32,
      0xBE11CA1F#32, 0x3E501F65#32, 0xBBBD40F8#32, 0x3E239403#32, 0xBD099347#32, 0xBD7F4A29#32, 0xBD901695#32, 0x3CE293CD#32,
      0x3DAA348C#32, 0xBE00AD01#32, 0xBD1C4801#32, 0xBE0C2890#32, 0x3E0F84F0#32, 0x3D892D05#32, 0x3D95E861#32, 0xBDDB3C49#32,
      0xBE5B27EF#32, 0x3D279C6A#32, 0x3DA5B02F#32, 0xBDF6A964#32, 0x3BB2F4A0#32, 0x3BE8E0EE#32, 0xBDA73909#32, 0x3D2F2627#32,
      0xBC5BCDE6#32, 0xBE526D9D#32, 0xBD9F0DBD#32, 0x3E119CDB#32, 0x3CA6E150#32, 0x3E713964#32, 0x3D577FCA#32, 0x3DBD7E79#32,
      0x3DD9BE96#32, 0x3E4DC7BC#32, 0x3DC37C96#32, 0xBCB715D5#32, 0xBE52B82E#32, 0x3E657F8C#32, 0xBCEC3000#32, 0x3D24B749#32],
    ![0x3DED67E7#32, 0x3E1EEF58#32, 0x3E0EDABB#32, 0x3C7185C4#32, 0xBE1C9FCA#32, 0xBDF104DB#32, 0x3CB5F114#32, 0xBD906BAB#32,
      0xBD65B0F3#32, 0xBD97115A#32, 0x3D6DB8B0#32, 0x3C8C60FF#32, 0x3C00ACC7#32, 0x3E194E86#32, 0xBDE91323#32, 0xBE22FAC4#32,
      0x3E844112#32, 0xBE76C2A5#32, 0xBE12C95A#32, 0xBC15EE2F#32, 0x3DD0539E#32, 0x3E2EB918#32, 0xBE73508D#32, 0xBC2DC8C3#32,
      0x3D7C111A#32, 0x3D9F86EF#32, 0x3D9513C5#32, 0xBB26132B#32, 0x3E1342D9#32, 0xBDBA91D6#32, 0x3E4EE335#32, 0xBE2F27E1#32,
      0xBE2E5D49#32, 0x3DEE8B48#32, 0x3E971EDF#32, 0x3A8DFC21#32, 0xBE634B2E#32, 0xBDB75713#32, 0xBE0E8D8F#32, 0xBCEF401D#32,
      0x3D721A4E#32, 0x3E0D3596#32, 0xBD8A4306#32, 0x3D746102#32, 0x3E3AA012#32, 0xBD2B318F#32, 0xBE27E99F#32, 0x3D8B6A66#32,
      0x3D84B35F#32, 0x3E798F35#32, 0x3D7CF19D#32, 0x3DE63A6A#32, 0xBDE1DB0F#32, 0xBDDC74C7#32, 0x3D861552#32, 0x3D2741D8#32,
      0x3E32B127#32, 0xBD8D3E7E#32, 0xBC57515C#32, 0xBE502750#32, 0x3D949A31#32, 0x3D4B09E6#32, 0xBE797FEA#32, 0x3DFE19DF#32,
      0xBE5B6BE6#32, 0x3D997972#32, 0x3E369367#32, 0xBC088595#32, 0xBDE6FA69#32, 0x3C913CCE#32, 0x3E82D0BC#32, 0x3D7B078E#32,
      0xBDC6BD5F#32, 0xBC82F52D#32, 0x3D6FCC91#32, 0xBE26F275#32, 0x3CD6DEFD#32, 0x3E341306#32, 0x3CA87B5B#32, 0x3DA66CDD#32,
      0xBCC7E9C9#32, 0x3E5C4FEE#32, 0x3DEBF8ED#32, 0x3B092F08#32, 0xBE08EE15#32, 0xBD34FEB1#32, 0xBD807D9F#32, 0xBE2CF574#32,
      0xBD1BFB08#32, 0x3DDEC7BB#32, 0x3D84DBF6#32, 0xBD87A145#32, 0x3D1C406F#32, 0xBE5277E7#32, 0xBDBA2901#32, 0x3E478D37#32,
      0xBDE54F53#32, 0xBE183D2B#32, 0xBDA8B9FC#32, 0xBD16036D#32, 0x3D3C994A#32, 0x3D34EC55#32, 0xBD50954B#32, 0xBDE768C4#32,
      0xBDB55F44#32, 0x3E055B11#32, 0xBE13CEF1#32, 0xBE478A2B#32, 0x3E43BB26#32, 0x3D99FE84#32, 0xBD8E268E#32, 0xBE12BC80#32,
      0x3DF536F0#32, 0xBDDE984A#32, 0xBD9089E4#32, 0x3DE005AA#32, 0xBE0628FB#32, 0xBE257576#32, 0xBDCB6B44#32, 0x3D8AF6F5#32,
      0x3E02C1A4#32, 0x3D805E9B#32, 0xBD883E8B#32, 0xBB4E5879#32, 0x3D4D193C#32, 0x3E03969A#32, 0xBCADA683#32, 0x3E57B434#32],
    ![0xBD1936B7#32, 0xBC9B48C8#32, 0x3D8EE0D9#32, 0xBDC1F64C#32, 0xBD914D0A#32, 0x3E6A5588#32, 0xBE4710C5#32, 0xBD362607#32,
      0xBE684AC2#32, 0xBD68F379#32, 0xBDB72D26#32, 0x3E4951DD#32, 0xBDA7FAE7#32, 0x3D93B6C7#32, 0xBD560F3C#32, 0x3CEC543D#32,
      0xBDF076CA#32, 0xBDD3EA0F#32, 0xBE2D58A8#32, 0x3E631007#32, 0xBE4631B5#32, 0x3E9B2BCF#32, 0xBDDB76B7#32, 0xBDE20E77#32,
      0x3E1A9E4A#32, 0xBD8666AC#32, 0x3E05EA62#32, 0x3BDF0359#32, 0x3E196F81#32, 0x3E101CD8#32, 0xBB800113#32, 0x3DE145B2#32,
      0xBE86B47A#32, 0x3CFF9C68#32, 0x3E80AF1C#32, 0xBC1E8A95#32, 0xBC0736FF#32, 0x3E3F9E95#32, 0x3D9710C3#32, 0x3DF26456#32,
      0x3D706DAC#32, 0xBE97F4B2#32, 0xBDA5AA48#32, 0x3E07A555#32, 0x3D17EF3A#32, 0x3D3EE151#32, 0xBD6C5D1C#32, 0xBDB22560#32,
      0x3CC8D7EC#32, 0xBE3BD9B8#32, 0xBD21E088#32, 0x3CF2840D#32, 0xBDEF9C8E#32, 0x3D150544#32, 0xBE16DB4C#32, 0x3DD763C4#32,
      0x3E2AD8BD#32, 0x3E3DDC9A#32, 0xBD9FD079#32, 0x3DCD2FD6#32, 0x3C6F883D#32, 0x3E342CAC#32, 0x3E48E1D8#32, 0xBE0CF02E#32,
      0xBCBA4D27#32, 0x3DDA5BD5#32, 0x3DE4F227#32, 0xBB9C71E9#32, 0xBD8A9FC6#32, 0xBD6D4859#32, 0xBD609807#32, 0x3DBB8ABD#32,
      0xBD457B00#32, 0x3C6A59B0#32, 0x3E964AA0#32, 0xBE168322#32, 0x3E0BD045#32, 0x3D4401CB#32, 0x3DEA7887#32, 0x3E7ADE97#32,
      0x3D2DF4CF#32, 0xBD1D32A9#32, 0x3E9BF009#32, 0xBDA9B109#32, 0xBCA2CFE9#32, 0x3C10823C#32, 0xBC5FA798#32, 0xBDBEA43D#32,
      0x3D8B9EED#32, 0xBC3759C9#32, 0xBD82CF4E#32, 0x3DDF71D1#32, 0xBE02B257#32, 0xBE8BB2B6#32, 0xBD08D1B5#32, 0x3D04F33C#32,
      0xBDA7E4D4#32, 0x3E267BA0#32, 0x3D6F149F#32, 0xBDA2DB95#32, 0x3BAA54C9#32, 0xBD53EB7C#32, 0xBDB24C67#32, 0xBD083FCF#32,
      0x3DCBFA21#32, 0x3E52A778#32, 0xBD91F6E1#32, 0x3D69CEC2#32, 0x3E0C1D7B#32, 0xBDDEC12B#32, 0x3E4B0DFA#32, 0xBD418741#32,
      0xBEB91C6F#32, 0x3E12E45C#32, 0xBE31F783#32, 0xBB8250EF#32, 0x3CFD336E#32, 0x3D121B50#32, 0x3E56D435#32, 0xBEB3BBF0#32,
      0x3E21072D#32, 0x3DE7F634#32, 0xBD13C7F3#32, 0x3DBBEAA1#32, 0xBDEB286A#32, 0xBB98E088#32, 0xBD7B509A#32, 0x3DBEEFEA#32],
    ![0x3E891DD8#32, 0x3D58F472#32, 0x3E1746D6#32, 0x3DA8CBCF#32, 0xBD003BDB#32, 0xBD4D06CC#32, 0x3E4E9E9A#32, 0x3B850316#32,
      0xBDAD7EB9#32, 0x3D489578#32, 0xBC9D71F3#32, 0xBD53DC99#32, 0xBE980292#32, 0x3D90C15B#32, 0xBE7327FD#32, 0x3E1B8EBA#32,
      0xBE24F614#32, 0xBE23D883#32, 0x3E62B775#32, 0xBCEE4DEB#32, 0x3DD719E5#32, 0x3D2A5B6D#32, 0xBD60A4E1#32, 0x3D974033#32,
      0x3E1DCE42#32, 0x3AA90CC3#32, 0xBDC3B507#32, 0x3D6132B9#32, 0xBD2B05E8#32, 0xBD64F514#32, 0x3E5EC31F#32, 0xBD3A86ED#32,
      0x3E07D842#32, 0xBD4F5B03#32, 0xBD1DBD5F#32, 0xBD6EFE97#32, 0x3DEA47BF#32, 0xBB54320B#32, 0x3D5DB303#32, 0xBAB9A29D#32,
      0xBD16F06A#32, 0xBB9CC7D3#32, 0xBC87C948#32, 0xBCC122DC#32, 0x3E58A5F0#32, 0x3DEA3287#32, 0x3E0AD76C#32, 0xBDFBF157#32,
      0xBD6F3631#32, 0xBD4DCF07#32, 0x3DCCF7E8#32, 0x3E8FC1E8#32, 0xBD25F340#32, 0xBCD4E122#32, 0xBCDF6341#32, 0xBD4FBE35#32,
      0xBE2F77DE#32, 0x3E12774A#32, 0x3DAF8B09#32, 0x3D288A6A#32, 0x3D103939#32, 0x3C8BC262#32, 0xBD6955D5#32, 0x3D875A9E#32,
      0xBCA64D50#32, 0xBDA39D69#32, 0x3E63FA92#32, 0x3E3BCC8A#32, 0xBDC7300A#32, 0xBDC809DB#32, 0xBDEA272B#32, 0xBCFB3ABC#32,
      0x3DCB6CC9#32, 0xBE9DAE62#32, 0xBD52CB9B#32, 0xBE42D2B3#32, 0x3CA4AE4B#32, 0xBDFABA8D#32, 0x3E2F2EA2#32, 0x3E812EF3#32,
      0x3DACAB90#32, 0x3B6852BF#32, 0xBDB60494#32, 0x3E331B39#32, 0x3DDE6188#32, 0x3C1D29BE#32, 0x3E29C62B#32, 0x3E08E7DD#32,
      0x3DC9267D#32, 0xBE1A0AFE#32, 0x3E629209#32, 0xBE827F29#32, 0xBE007EFE#32, 0x3DECD3FB#32, 0x3DA40FCC#32, 0x3E8D8F04#32,
      0x3DA55886#32, 0x3D97B1A1#32, 0xBD6835B7#32, 0x3E021F42#32, 0x3D19914F#32, 0xBDC9E9A6#32, 0xBE511119#32, 0xBDE81D31#32,
      0x3C44A8C1#32, 0x3C9F6F19#32, 0x3E11F9EA#32, 0xBDEA6E58#32, 0x3E46273D#32, 0xBE29AF9D#32, 0x3CBBA545#32, 0x3C93E4ED#32,
      0xBC879D6C#32, 0xBD1BF5B3#32, 0xBDB1E52E#32, 0xBD771342#32, 0x3E1499B5#32, 0xBDA22EDE#32, 0xB9ABB80A#32, 0x3CDBB51A#32,
      0xBD91DEC2#32, 0x3E050A45#32, 0xBE0D3139#32, 0x3DB5B6A2#32, 0x3DC9E004#32, 0xBD887E5E#32, 0xBE0E18A5#32, 0xBD332278#32],
    ![0x3E2A7415#32, 0xBB8447C5#32, 0x3E3D878C#32, 0xBDE5A969#32, 0x3CB3DDD3#32, 0x3E81F1D7#32, 0x3DF459C5#32, 0x3DC26668#32,
      0xBCEBF0B1#32, 0xBE2C0116#32, 0x3D454272#32, 0x3D66DEA0#32, 0xBCC704E6#32, 0xBD836E18#32, 0x3D0B7C32#32, 0x3CF79A44#32,
      0x3D2F60E0#32, 0xBD2AFE69#32, 0xBE43104E#32, 0x3E3137D2#32, 0x3D320EF3#32, 0xBA372B1D#32, 0x3E38A2CD#32, 0xBE0461A4#32,
      0xBDCC4C5D#32, 0xBEAF1C34#32, 0xBCC2BCC7#32, 0xBD092F86#32, 0xBE66836A#32, 0x3D15FAA8#32, 0xBC217E20#32, 0xBD936C44#32,
      0xBD8EF03D#32, 0xBE0350A2#32, 0x3DBCD9AA#32, 0x3D9A1849#32, 0x3D2E9FC1#32, 0xBD856D12#32, 0x3C83EDD8#32, 0xBE4CDA22#32,
      0x3DD00A2F#32, 0x3D9B93E8#32, 0x3CEC6845#32, 0xBB46D7CE#32, 0x3D087599#32, 0x3DA3FE70#32, 0x3D9B61D7#32, 0x3D80EBF6#32,
      0x3DA283B7#32, 0xBED1F19B#32, 0x3D9FB6D6#32, 0x3DA7A9C2#32, 0xBE0027CF#32, 0xBD6D0FCE#32, 0xBDBB1B16#32, 0x3CDA59C0#32,
      0xBDAD240B#32, 0x3E171550#32, 0xBC81BA68#32, 0xBDD1930C#32, 0xBD99108D#32, 0x3D97B3C7#32, 0x3CCD3BB2#32, 0x3D9D9538#32,
      0x3DD8E00C#32, 0xBD9059A5#32, 0x37D2A295#32, 0xBDCA73DE#32, 0xBD5892CD#32, 0xBD45BECD#32, 0x3D631768#32, 0x3DF058C5#32,
      0x3DA2055C#32, 0xBDC72621#32, 0x3E221967#32, 0xBE0274F0#32, 0xBE667474#32, 0xBD447E1E#32, 0xBE18F44A#32, 0x3D6B4B34#32,
      0x3EABFD09#32, 0x3E813DD6#32, 0xBDC35E05#32, 0xBDDEC232#32, 0xBDD15B15#32, 0x3E0A5BE8#32, 0xBCE3EA94#32, 0xBE0D0B7C#32,
      0x3DECBB14#32, 0xBD1A11FD#32, 0x3D04BC83#32, 0xBD87FBE9#32, 0x3E16B350#32, 0x3E3A79C1#32, 0x3D242A54#32, 0xBE809A4F#32,
      0x3C9C4F6F#32, 0xBDE874C6#32, 0x3D2CEEA9#32, 0xBDFE15DD#32, 0xBD28DCDA#32, 0xBA2A8C04#32, 0x3E749E2A#32, 0xBE40397A#32,
      0xBE6168EC#32, 0xBDD87865#32, 0x3CA48928#32, 0x3E4C74FA#32, 0x3ECFF609#32, 0xBEAA168E#32, 0xBE19B6E4#32, 0xBE6747A0#32,
      0xBD20AE50#32, 0x3DB3B28D#32, 0x3DE8714B#32, 0xBE1FF739#32, 0xBDE5C43D#32, 0xBD8F093B#32, 0xBD5CE6C8#32, 0xBE284EBB#32,
      0x3DD204A7#32, 0x3D5CB06F#32, 0xBDDC3A52#32, 0x3E1E4256#32, 0x3CA50D0A#32, 0x3B3793D9#32, 0x3D899F9A#32, 0x3E457370#32],
    ![0x3C8DB638#32, 0xBD8FFAC8#32, 0xBD7B86C4#32, 0xBD54EFEA#32, 0x3E94CFA9#32, 0x3DC6B114#32, 0x3DE3B4D9#32, 0x3CE11DCA#32,
      0xBDE66DE1#32, 0xBD64F853#32, 0x3CCEB6D1#32, 0x3E45C364#32, 0xBE655019#32, 0xBEAFFA60#32, 0x3E22EC9E#32, 0x3E192053#32,
      0xBDBDB25F#32, 0x3D3617F3#32, 0x3D165C8B#32, 0x3E39648F#32, 0xBD8BD16A#32, 0xBD1B9DF4#32, 0xBD441C88#32, 0xBD3308A7#32,
      0x3CFC7DF9#32, 0xBE805608#32, 0xBD4AC199#32, 0xBE4AC732#32, 0xBD2739CF#32, 0x3E46467C#32, 0xBD93FA3D#32, 0xBD77D6B2#32,
      0x3E4CC746#32, 0x3EA473A9#32, 0xBD86C116#32, 0x3CE677DA#32, 0x3D0685BC#32, 0xBE9E093F#32, 0x3DBE5776#32, 0x3E5332E4#32,
      0x3CF3D99A#32, 0xBDE4DC25#32, 0x3CBBD3E0#32, 0x3D1B605F#32, 0x3D527A41#32, 0x3DB587B5#32, 0xBE0CA420#32, 0xBCFD4A40#32,
      0x3BDB8C47#32, 0xBD060B9E#32, 0xBD95B9F5#32, 0xBD7F6343#32, 0x3DA8FF1B#32, 0x3E1B2B9D#32, 0xBDFE65BD#32, 0x3D4E497D#32,
      0xBD42646B#32, 0xBD0A2A12#32, 0xBE5D6AC1#32, 0x3E257D15#32, 0x3E06F21B#32, 0xBBD3A9FF#32, 0xBC63051F#32, 0xBD1ECF5A#32,
      0xBE31758C#32, 0xBCC49587#32, 0x3E7C1537#32, 0x3DBC8771#32, 0xBDBEA8D0#32, 0xBD593075#32, 0xBCB55658#32, 0xBCFB008A#32,
      0xBE07475A#32, 0x3E036872#32, 0xBE42A28B#32, 0xBDCFBA08#32, 0xBCEC9E9C#32, 0x3D9B43B1#32, 0x3D00F72F#32, 0xBD1C7211#32,
      0x3D81F739#32, 0xBB9C5B55#32, 0x3E417895#32, 0x3D7B2861#32, 0xBD3419E1#32, 0x3DD194F9#32, 0xBDA37CC0#32, 0x3D64C35F#32,
      0x3E0606DA#32, 0xBC6A8B9A#32, 0xBDBC4ABC#32, 0xBC6FCE5C#32, 0xBCE60810#32, 0xBE563950#32, 0xBD7B3EE2#32, 0xBE262192#32,
      0x3E0FB3F4#32, 0x3E1ED175#32, 0xBE2A1975#32, 0x3E596BE6#32, 0x3E1F4C02#32, 0xBD99AA02#32, 0x3B854F93#32, 0x3D74B2CA#32,
      0xBBDFE6B0#32, 0x3C893219#32, 0x3D3D4996#32, 0xBDDB1028#32, 0xBE0B7A62#32, 0x3E3D0E26#32, 0xBE4CF766#32, 0x3D9C0F31#32,
      0x3C3E0BD4#32, 0x3D0580EA#32, 0x3D750934#32, 0xBD03A5B1#32, 0xBE31F770#32, 0xBCD3F76E#32, 0xBE005168#32, 0x3E103C7E#32,
      0xBECD640A#32, 0xBE04BBAE#32, 0xBD837336#32, 0x3E13438D#32, 0xBE2107CB#32, 0xBE4FC34E#32, 0x3D3EC05B#32, 0x3D943FC5#32],
    ![0x3C462789#32, 0xBE190FCB#32, 0xBBEEFF2E#32, 0xBBAA767F#32, 0x3C5A3103#32, 0x3D80BD3E#32, 0xBDFF5FD7#32, 0xBD4BD3C0#32,
      0xBE4ABE21#32, 0xBD73F91C#32, 0xBE3C3FA4#32, 0x3CDCAC17#32, 0x3DF574D8#32, 0xBE0884B5#32, 0x3CCA2DA8#32, 0x3DD58E59#32,
      0x3E8144E8#32, 0x3D57E0F2#32, 0x3BEBC4A5#32, 0xBE5E64DE#32, 0x3E33AC1B#32, 0x3E7330D3#32, 0x3D19ED20#32, 0xBDAF804C#32,
      0xBAD5BFAC#32, 0x3DA0455D#32, 0x3E61AFFD#32, 0x3E2D14DC#32, 0xBE38E9A5#32, 0xBCFA7E2D#32, 0xBE02F10C#32, 0xBE008074#32,
      0xBE377A21#32, 0x3CC83D56#32, 0xBDD15DBB#32, 0xBD231E44#32, 0xBDE82494#32, 0xBB9C95F7#32, 0xBDB04181#32, 0x3DA9B332#32,
      0x3DEBF13A#32, 0x3C09742A#32, 0xBD00B08A#32, 0xB9FD0C35#32, 0x3DDF3BD0#32, 0x3D31C23A#32, 0x3D9E6C13#32, 0xBD993D90#32,
      0xBD0BC22D#32, 0x3E20CC8B#32, 0xBDD03FCE#32, 0x3D0963FF#32, 0xBAB6E234#32, 0x3DE3EDC3#32, 0xBE08FCE3#32, 0xBE249F49#32,
      0x3DAD8B72#32, 0xBB296ABC#32, 0x3D996A18#32, 0x3E0844C9#32, 0x3D9FDC68#32, 0xBCCA8221#32, 0x3E25FC65#32, 0x3E5EF0E5#32,
      0x3D727ED8#32, 0x3C2293BD#32, 0xBDB5940A#32, 0xBE0AA67C#32, 0x3CCA0E45#32, 0x3DB8D117#32, 0x3EA12FC1#32, 0xBE520503#32,
      0x3E0166D0#32, 0x3B951A5A#32, 0xBE542B67#32, 0x3D8117BD#32, 0xBE7BB199#32, 0xBCBDB512#32, 0xBE072199#32, 0x3DE28CD9#32,
      0xBE7A8EE3#32, 0xB9B06133#32, 0xBDAFE061#32, 0x3E2321C4#32, 0x3D7D232E#32, 0x3E27AAFA#32, 0x3DB9EE84#32, 0x3E0DD09E#32,
      0xBDBA5BA0#32, 0x3E66C0B2#32, 0x3E91924A#32, 0xBBD4A09B#32, 0xBD3C5164#32, 0x3E343595#32, 0x3D229C4E#32, 0x3DC0E993#32,
      0xBE2C7657#32, 0xBD70A7B0#32, 0x3DB16F1F#32, 0x3D974596#32, 0xBE3DF9CB#32, 0xBE3C5970#32, 0x3D3B20F5#32, 0xBD93DB10#32,
      0xBD9FEDB9#32, 0xBC8BE6A2#32, 0x3D415103#32, 0x3DB6402A#32, 0xBE2FD32D#32, 0xBDC9736A#32, 0x3D7BFD28#32, 0x3D274CB5#32,
      0xBB862A3E#32, 0xBDAFF39A#32, 0xBE2E728A#32, 0xBDBA144B#32, 0x3BDA2733#32, 0x3CF47968#32, 0xBDB87EBE#32, 0x3DDB44F2#32,
      0xBC6215B0#32, 0x3E9C14D2#32, 0x3E07335C#32, 0xBB392372#32, 0x3C9DB7E7#32, 0x3D2A348F#32, 0x3DA549DB#32, 0x3DA70765#32],
    ![0x3B3DFA5A#32, 0xBD5EA853#32, 0x3CB5929F#32, 0x3D77FB2F#32, 0x3E7D0A27#32, 0xBE455B86#32, 0x3C71B3FE#32, 0x3B231DB3#32,
      0x3DA1D700#32, 0x3CA9426D#32, 0xBD0B6C68#32, 0xBC2F9780#32, 0xBD339B9D#32, 0x3D695FE5#32, 0xBE2BDACF#32, 0x3E5597CB#32,
      0xBE38CF47#32, 0x3E69C879#32, 0x3CCBFE48#32, 0xBE3BA097#32, 0xBCC46144#32, 0xBE7E2250#32, 0x3DAEB749#32, 0xBDB34069#32,
      0x3E1ED0F9#32, 0xBD18F822#32, 0x3D4B58CD#32, 0xBD042F98#32, 0xBDE88B9A#32, 0x3BBA4923#32, 0x3C453ACF#32, 0xBC6736DD#32,
      0x3CA1002F#32, 0x3E28DA67#32, 0xBDD6A3E6#32, 0xBCCF4AC3#32, 0xBD2C4D75#32, 0x3E226320#32, 0x3DA7B852#32, 0xBD64FB85#32,
      0x3D5A8110#32, 0x3C38D90B#32, 0xBE1921A7#32, 0xBD81DFF0#32, 0xBDAD8FBF#32, 0x3E31D537#32, 0x3E7E721A#32, 0xBE011EAD#32,
      0xBC8EEC4E#32, 0x3D7FDADA#32, 0x3D6FC5B4#32, 0xBD9792B1#32, 0xBE06FFFA#32, 0x3DCE253D#32, 0x3DC2CA90#32, 0xBDFDAA6D#32,
      0xBDC98AEE#32, 0x3E3A67E8#32, 0xBD9C82F6#32, 0xBCED38D9#32, 0x3C5821DD#32, 0xBB468BF5#32, 0x3DB90C44#32, 0x3C4BCB14#32,
      0xBDD4ADF1#32, 0x3DA8D57F#32, 0x3D6E7720#32, 0x3D4C5353#32, 0x3D66AB6B#32, 0x3D11FC26#32, 0x3D99383C#32, 0xBDCECA7B#32,
      0xBDE13ED8#32, 0x3D8721EB#32, 0x3D9838BD#32, 0x3DED7458#32, 0x3CA27DEE#32, 0x3DC00CCC#32, 0x3D4153F3#32, 0xBD84557F#32,
      0xBDBD183F#32, 0x3C8DEF66#32, 0xBDA1404B#32, 0x3C18E87A#32, 0xBE0819F9#32, 0x3DA769C3#32, 0x3D33442D#32, 0xBD699F0F#32,
      0x3E20CE03#32, 0x3BBEA7F6#32, 0xBDB0BFE1#32, 0x3DBDA8AA#32, 0xBD5525F1#32, 0xBAA33119#32, 0xBC95DE59#32, 0xBB9113EF#32,
      0xBD31330C#32, 0x3D548AD5#32, 0x3DEC27ED#32, 0x3DC88A22#32, 0x3E4A090B#32, 0x3D35B3BE#32, 0xBD30E4B7#32, 0xBE612A58#32,
      0xBDE50F01#32, 0x3DAC7F91#32, 0x3CEECB85#32, 0x3C7AE47E#32, 0xBD67F350#32, 0x3D424AA4#32, 0xBC9E140E#32, 0x3DDBA03A#32,
      0xBD0C667B#32, 0xBDFEBD6B#32, 0xBEBABC99#32, 0x3D2F0AC9#32, 0x3DF9CB5B#32, 0xBD84FD9C#32, 0x3CE11B8A#32, 0xBB8C405C#32,
      0x3E578C97#32, 0xBE39CC82#32, 0x3DA1FB55#32, 0xBC45A8E9#32, 0x3DC095FB#32, 0x3E4D4685#32, 0x3C223C0C#32, 0x3E2A8D98#32],
    ![0x3C5E157F#32, 0xBDD0669C#32, 0x3DBD9B99#32, 0xBD8F276E#32, 0x3E141777#32, 0xBDD9FD78#32, 0xBCCB9504#32, 0xBDD1D3B0#32,
      0x3C22DE8D#32, 0xBC051D6C#32, 0xBE24A3AC#32, 0xBC85EF97#32, 0xBE0C0673#32, 0xBCE3AED5#32, 0x3DAF0AFE#32, 0x3CDB6E90#32,
      0x3CF5FCD3#32, 0xBE4FB482#32, 0xBDA556EB#32, 0xBD91A577#32, 0x3DFB49A7#32, 0xBE0479E2#32, 0xBDC29322#32, 0x3D8D9C71#32,
      0x3D777E18#32, 0x3E264D38#32, 0x3C41D8BF#32, 0xBDF1610A#32, 0x3CC7F632#32, 0xBC09FD52#32, 0x3D39E664#32, 0x3DDB48A6#32,
      0x3E3121FF#32, 0x3DD9CE80#32, 0xBD9030DB#32, 0x3E2DA934#32, 0x3E0F4DD6#32, 0x3E906F47#32, 0x3E0F21B6#32, 0x3D5E83C1#32,
      0x3D91F6EA#32, 0xBDEB7570#32, 0x3DA89F6D#32, 0xBDE373F2#32, 0x3DA60FAD#32, 0x3E15D3EF#32, 0x3EC9BE4B#32, 0xBD700EDB#32,
      0x3BEFA0FD#32, 0x3E8D79CC#32, 0xBD0A0777#32, 0x3E3EBAF9#32, 0x3D86300E#32, 0x3CC7BEB5#32, 0x3DC0492C#32, 0xBE1DD25B#32,
      0x3D562CB5#32, 0xBE605BC8#32, 0x3DEB501F#32, 0x3BF5E3A6#32, 0x3BC3A7C4#32, 0x3D0DFA89#32, 0x3B6041BC#32, 0x3C0F87BD#32,
      0xBDD52461#32, 0x3CAF51E7#32, 0xBEBC387A#32, 0x3DB1F064#32, 0xBE32C053#32, 0x3D73901E#32, 0x3D8EBF14#32, 0x3D35EC84#32,
      0x3E1E4E48#32, 0xBE2E4E1B#32, 0xBCFCA518#32, 0xBD192DB5#32, 0x3DE55E49#32, 0x3E0532F5#32, 0x3D8D1D2C#32, 0x3E395AE3#32,
      0x3D0195B1#32, 0xBB976C5A#32, 0xBD458E3D#32, 0x3E0A91FE#32, 0x3D1BC53B#32, 0x3C4482FA#32, 0x3E2C0774#32, 0x3D85DC5E#32,
      0xBDF67F39#32, 0x3E97B58C#32, 0xBD01519D#32, 0xBDB78180#32, 0xBE219C8D#32, 0x3DF92813#32, 0xBD34A8B2#32, 0xBCD3FDE9#32,
      0x3CB8F822#32, 0x3D9A9EEF#32, 0xBE28F4EF#32, 0xBAC3AFD7#32, 0xBE49F828#32, 0x3E0C6CDC#32, 0xBC91234A#32, 0x3DDA5996#32,
      0xBD20FFBE#32, 0xBDC633C4#32, 0xBE5F495B#32, 0x3E33E800#32, 0xBDBAE131#32, 0x3D9ED276#32, 0x3E2CDD6C#32, 0x3E550791#32,
      0xBDEE9D6A#32, 0xBE8B9D38#32, 0x3AEEF8BD#32, 0xBD6DF459#32, 0xBD8EA904#32, 0x3DA17E69#32, 0xBE4258DF#32, 0x3D1D8AC2#32,
      0x3E736428#32, 0xBD868EAA#32, 0x3DBE3EA1#32, 0x3DD3755E#32, 0xBD5C3FBD#32, 0x3DE429FA#32, 0xBDDDD6AF#32, 0xBDA73186#32],
    ![0x3BCCC476#32, 0x3D186EE7#32, 0x3E5C2B3A#32, 0x3CB7025F#32, 0x3DAEFA59#32, 0xBC2EDE1F#32, 0x3D9AD3C7#32, 0x3DC4378E#32,
      0x3D6D1446#32, 0x3E23E4B2#32, 0xBD8C3799#32, 0xBD86D4E1#32, 0x3D9A0F3F#32, 0xBDDD2C3B#32, 0x3DE7DD41#32, 0xBD6A36D3#32,
      0xBAB3BD87#32, 0xBE316FCA#32, 0x3DB883F7#32, 0x3D8E9C54#32, 0xBE204615#32, 0x3C597CEE#32, 0xBDED4138#32, 0x3DADA2B0#32,
      0x3E2180F0#32, 0xBE372829#32, 0xBD83F4A4#32, 0xBDF3E365#32, 0x3D6AF26D#32, 0xBD573C6B#32, 0xBDA40E3A#32, 0x3E285757#32,
      0x3DCA6DB2#32, 0xB9D7A4D3#32, 0xBD8E7CD5#32, 0x3D63F664#32, 0x3CEEA74C#32, 0x3DC86166#32, 0x3D9611EE#32, 0xBE84882F#32,
      0xBC84D201#32, 0x3D5DAD20#32, 0xBE1DA247#32, 0x3DF2569C#32, 0x3DB19B6E#32, 0x3E07FF87#32, 0x3E56E089#32, 0xBC7E45A6#32,
      0xBE82F3B5#32, 0x3D7BC62B#32, 0xBDF2FF6A#32, 0xBE0D95E5#32, 0xBD49C01B#32, 0xBDC94BD1#32, 0x3E0FAAD1#32, 0x3D2177E7#32,
      0xBD26F3B6#32, 0xBDB9A998#32, 0x3E1C82BA#32, 0xBD3D0765#32, 0xBC87BE23#32, 0xBDB7A356#32, 0x3E012300#32, 0x3D128178#32,
      0xBDBFC61C#32, 0xBDA5CA28#32, 0x3D930D56#32, 0x3D458741#32, 0xBC3FEBD1#32, 0x3CD169E1#32, 0xBD1A5CDD#32, 0x3E065B6E#32,
      0x3DA16DB6#32, 0xBD965118#32, 0x3D93C798#32, 0x3E5B51E5#32, 0x3E9E9A47#32, 0x3DB4A1DE#32, 0x3C980E03#32, 0xBE833857#32,
      0xBD951D69#32, 0xBD87150E#32, 0x3DD1AE48#32, 0xBE692301#32, 0x3E195DA7#32, 0xBDA1321C#32, 0xBD5AFB34#32, 0x3D9841E0#32,
      0x3DC12807#32, 0xBB48C844#32, 0xBDA1EDB5#32, 0xBC5CA10C#32, 0xBCB35082#32, 0x3D7B0981#32, 0x3DA68EA5#32, 0xBE47A680#32,
      0x3E2DBF8E#32, 0xBD686362#32, 0x3DD3075F#32, 0xBCD7B317#32, 0x3D9A54B1#32, 0xBE03A419#32, 0x3CE5F442#32, 0xBC02A9C7#32,
      0xBDB5AD8D#32, 0xBD9D1A52#32, 0x3E4DA34C#32, 0x3D849F3C#32, 0xBDF53703#32, 0x3DFAB8F4#32, 0x3D120135#32, 0xBDE8655D#32,
      0xBDE49C40#32, 0x3CC152BF#32, 0x3C8290C3#32, 0x3DB50164#32, 0x3E3DA836#32, 0x3C6DDBAF#32, 0x3CCD9536#32, 0x3DC2FF20#32,
      0xBDFCFCC2#32, 0xBD3F5ABD#32, 0xBC284AA9#32, 0xBBCB79A5#32, 0xBB3A9C29#32, 0xBD854CF9#32, 0xBDAACE6C#32, 0xBC129191#32],
    ![0x3E2F5662#32, 0x3D98D663#32, 0xBE14C3C8#32, 0x3D445030#32, 0x3DD82121#32, 0x3E2B78A1#32, 0x3C8F1D62#32, 0x3DE4679D#32,
      0xBD221906#32, 0xBD807F72#32, 0xBC801AF1#32, 0xBE0B11B2#32, 0x3DA0B89D#32, 0x3E909A45#32, 0xBE3A7FEA#32, 0xBCE0E9D3#32,
      0x3E3769BD#32, 0xBDB140C7#32, 0xBD085A06#32, 0xBDFDA29D#32, 0x3DBEAC36#32, 0x3D9EED6E#32, 0xBDB1F5C3#32, 0x3DA0A889#32,
      0xBDEC7BCB#32, 0x3E2DF0D5#32, 0xBD3394D3#32, 0xBD78A645#32, 0xBD3429B7#32, 0x3D29E23D#32, 0xBC847416#32, 0xBD110EDE#32,
      0x3E13BE57#32, 0x3D5CC300#32, 0xBDF474B9#32, 0xBB6A9AB7#32, 0x3D477564#32, 0x3D21FEC6#32, 0x3D5084C4#32, 0x3DEA9B2D#32,
      0x3BBA5BF4#32, 0x3DA9B5A2#32, 0x3E0BAB67#32, 0x3D8402EC#32, 0x3CF12CEB#32, 0xBE1FDAEE#32, 0x3E0881E6#32, 0x3CF8D819#32,
      0xBDF17AE9#32, 0xBCA89B3C#32, 0xBD275837#32, 0x3DAF6303#32, 0xBD371085#32, 0x3D87EB8E#32, 0xBEB76B1F#32, 0xBDE459E6#32,
      0xBCEB4DBC#32, 0xBD364493#32, 0xBD9C3126#32, 0xBD599C6C#32, 0x3E2058FD#32, 0xBE98A705#32, 0x3D03C218#32, 0x3E435CB3#32,
      0x3E181B7E#32, 0x3DB6808E#32, 0x3D2A2E59#32, 0x3D302C3B#32, 0x3E174C54#32, 0xBE174D8F#32, 0xBD881150#32, 0x3C73B0F3#32,
      0x3E0EF7A9#32, 0x3E7CD518#32, 0xBE1A29D5#32, 0xBD51E2CD#32, 0x3DAE3393#32, 0xBE27611C#32, 0xBE298FF3#32, 0xBCE2CFB9#32,
      0x3D763793#32, 0xBE89C712#32, 0x3E087323#32, 0x3DDE7320#32, 0xBE14F2CD#32, 0x3E36A93E#32, 0x3E14E44D#32, 0xBE453FEE#32,
      0xBDF4C99C#32, 0x3CD270FC#32, 0x3E197E7E#32, 0x3E729E20#32, 0xBD6254A3#32, 0x3CBA0174#32, 0xBD959359#32, 0x3CEF9742#32,
      0xBC0F74F9#32, 0x3DA62C33#32, 0x3D465670#32, 0x3CBFC7B0#32, 0x3DE2DC1F#32, 0xBDC202AC#32, 0xBD4A1C7A#32, 0x3D8D59E5#32,
      0xBE04B0AF#32, 0x3E992445#32, 0xBDBC36FF#32, 0x3E070E7D#32, 0xBD82682A#32, 0x3DC1EA34#32, 0x3BB6E132#32, 0xBE27740C#32,
      0xBDC9D5CB#32, 0xBD24C705#32, 0x3D45C1D3#32, 0xBD1BBBD1#32, 0x3C767245#32, 0xBD84571B#32, 0xBC388CD5#32, 0x3E0E5643#32,
      0xBE1B9066#32, 0xBDD982D7#32, 0xBE33046A#32, 0x3E35BB98#32, 0xBD469D4F#32, 0x3E1EE197#32, 0xBD2890F9#32, 0x3E5CB24A#32],
    ![0xBD20F37B#32, 0x3E035641#32, 0xBDC84053#32, 0x3E7EFE98#32, 0xBDE7E0E7#32, 0xBDC3736D#32, 0x3D9C00DB#32, 0xBE4DD7A0#32,
      0xBE3F4941#32, 0xBD1E2BF1#32, 0x3DF22836#32, 0x3D2EAC60#32, 0x3E3DFA7C#32, 0xBE3DE9B6#32, 0xBBB19031#32, 0xBDC93649#32,
      0x3E714FF5#32, 0x3C607CC3#32, 0x3DD69B26#32, 0x3DBDCA81#32, 0x3E0EE39A#32, 0x3DFD0B9D#32, 0xBD8BD5DE#32, 0x3DBF1E55#32,
      0xBE8B5459#32, 0xBE758556#32, 0xBD0F81C6#32, 0x3E3F7082#32, 0x3D55052B#32, 0xBC8053F1#32, 0x3C8C9C25#32, 0x3C3F0ABA#32,
      0x3C6C1EEC#32, 0x3DC78CC5#32, 0x3C8F2CBA#32, 0xBCB924C2#32, 0x3E16CA5A#32, 0x3DD9E517#32, 0x3DCB3DB2#32, 0x3DFB6F74#32,
      0x3D7E02C5#32, 0x3D24A12C#32, 0x3D97F1F4#32, 0xBDEE9A34#32, 0x3E3BB2E6#32, 0xBDD764F4#32, 0xBCCDBE69#32, 0x3E08C2B6#32,
      0x3D971E71#32, 0xBD3CB256#32, 0x3DB42463#32, 0xBD907048#32, 0x3D946451#32, 0x3D6B3A46#32, 0x3D8CEF8B#32, 0xBDA986D7#32,
      0xBE0436A4#32, 0xBCA97535#32, 0xBE0FD1EF#32, 0xBDF57DE2#32, 0x3E29965D#32, 0xBD9D44D5#32, 0xBD6F5CC5#32, 0x3DAFE1C8#32,
      0xBE639379#32, 0xBD8BAF8D#32, 0xBE90F677#32, 0xBDD7706C#32, 0x3E25B1C8#32, 0x3C445762#32, 0x3D898707#32, 0x3E4E80B7#32,
      0xBE28D4DA#32, 0xBD4207F4#32, 0x3E68CE50#32, 0x3E2140B5#32, 0x3E95F438#32, 0x3D99BAF3#32, 0xBE089055#32, 0xBC078BF0#32,
      0xBDF265EB#32, 0x3BA128FA#32, 0xBDE616E6#32, 0x3E243FE6#32, 0xBCD16948#32, 0x3E0EBBE2#32, 0xBDA99A02#32, 0x3DDE462E#32,
      0xBDDB3378#32, 0x3E51A0DE#32, 0xBD069337#32, 0x3D1FDE9D#32, 0x3C7C080A#32, 0xBDBA60DC#32, 0x3E063006#32, 0x3E1ACD4A#32,
      0x3E812C53#32, 0x3DC618E1#32, 0xBD18CB9F#32, 0x3E63199F#32, 0x3CC75FA0#32, 0xBDDF9325#32, 0xBDD1152D#32, 0xBE5F5A43#32,
      0x3E2BB0AF#32, 0x3DF68C43#32, 0x3E1CCBB3#32, 0x3D053207#32, 0xBB493AFA#32, 0xBCF77021#32, 0x3DB60A71#32, 0xBE2DA383#32,
      0xBC2D70B6#32, 0xBCE660FE#32, 0x3D420E6A#32, 0x3C57BBEE#32, 0xBE1315DC#32, 0xBDF204D4#32, 0x3E11466B#32, 0xBDBE92B2#32,
      0x3C50A24B#32, 0x3E107FC4#32, 0xBD7490C9#32, 0x3E4656DE#32, 0xBE043405#32, 0xBE34F5E7#32, 0x3EA9303E#32, 0xBC8A3EA6#32],
    ![0xBBE4665C#32, 0x3DCE1071#32, 0xBEB9D566#32, 0xBDB33B4F#32, 0xBE1FABE7#32, 0xBECF53F4#32, 0xBE4B6893#32, 0xBDDB4F71#32,
      0xBD2B987F#32, 0xBBCF11CA#32, 0x3D83D05C#32, 0xBDA6F9DD#32, 0x3E7C9238#32, 0xBCF227B1#32, 0xBE3C5F5E#32, 0xBDA907EE#32,
      0xBDDDA129#32, 0xBD77CC4F#32, 0xBDE625A8#32, 0xBE1F15C2#32, 0xBE4EA40E#32, 0xBE2DDE5D#32, 0x3D39F206#32, 0xBD0CBDCD#32,
      0x3D963DAE#32, 0xBBA82940#32, 0xBDA36F85#32, 0xBDEF85F2#32, 0xBDF6228D#32, 0x3D954AA8#32, 0xBCEE3182#32, 0x3E315A6A#32,
      0x3D090765#32, 0x3E067CFF#32, 0xBE123523#32, 0xBDFA2CD2#32, 0xBDA676B9#32, 0xBE499571#32, 0xBD4EA808#32, 0x3E024F85#32,
      0x3D7F8742#32, 0xBD2C309C#32, 0xBC070B08#32, 0xBBBF926E#32, 0x3DFAC116#32, 0x3D1A79D3#32, 0xBE13E583#32, 0x3DCA99CD#32,
      0xBDE59C95#32, 0x3E0C6B4E#32, 0x3D40D574#32, 0x3D370859#32, 0xBD64FCC6#32, 0x3DB3A109#32, 0xBE8C53B2#32, 0xBC8F98FC#32,
      0xBD3CCB32#32, 0xBE75FB44#32, 0x3BA2088C#32, 0xBE535D8D#32, 0x3C6F0943#32, 0xBD66A628#32, 0x3D949E5D#32, 0x3E450B90#32,
      0xBE28D272#32, 0x3DA3C817#32, 0xBCA9D154#32, 0xBE1A2DE6#32, 0x3DD90810#32, 0x3DB38469#32, 0x3D7C99E1#32, 0xBDD210DE#32,
      0xBDB06D60#32, 0xBCC7103C#32, 0xBDF76216#32, 0xBD5E7637#32, 0xBDB9BD08#32, 0x3E222A90#32, 0xBE615654#32, 0xBCAFE182#32,
      0x3DA1A14E#32, 0xBDA5F3FE#32, 0x3DDCE65E#32, 0x3CAA8BD9#32, 0x3E1E7D6C#32, 0x3D40C29F#32, 0x3BECFE31#32, 0xBDBE07E3#32,
      0x3CC820EA#32, 0x3DE2A294#32, 0x3E1033C6#32, 0xBBB71E34#32, 0xBE1B330D#32, 0xBC4808CE#32, 0xBDE6E4AB#32, 0xBD933ABE#32,
      0x3E1C0947#32, 0x3DDA9DCB#32, 0x3E82628B#32, 0x3DB10C7F#32, 0x3D43119D#32, 0xBD513F84#32, 0xBE393243#32, 0xBC0FF5C0#32,
      0x3E4CAEA5#32, 0x3CE2392C#32, 0x3C086D7A#32, 0xBE2CDD63#32, 0xBDD80850#32, 0x3E34C01F#32, 0xBE04D811#32, 0xBDCEFB7D#32,
      0x3D96736E#32, 0x3D23655F#32, 0xBD7F8134#32, 0xBD885D70#32, 0x3DEAB4EC#32, 0x3DA7C178#32, 0xBE1D9216#32, 0xBD1FBC2C#32,
      0xBD7D20F2#32, 0x3D23A7BA#32, 0xBE10D473#32, 0x3D2C3EA4#32, 0x3DC3C250#32, 0x3DCFDEE1#32, 0xBD12BF12#32, 0x3D2E13E3#32],
    ![0x3CC584A1#32, 0x3DD30233#32, 0xBD355837#32, 0xBD8762D3#32, 0xBDAE6151#32, 0xBE2652A0#32, 0xBD202F72#32, 0x3D38744E#32,
      0xBD137B07#32, 0xBD60BA0D#32, 0x3DCD3FBD#32, 0x3D39BDD1#32, 0xBE84B8C2#32, 0xBCC55744#32, 0xBD39FBE0#32, 0x3E58C8A1#32,
      0xBE38C9A6#32, 0xBD58C9E2#32, 0x3D95F007#32, 0xBCC0C37F#32, 0xBE101DFF#32, 0x3CDCCE66#32, 0xBDC63D54#32, 0x3E7835B2#32,
      0x3CE17676#32, 0x3D0B20DF#32, 0x3DCCFEDE#32, 0x3B9A01C7#32, 0x3DC375EE#32, 0xBDC076F2#32, 0xBDD1F84D#32, 0x3E483BCD#32,
      0x3E2506DA#32, 0xBD92F4F7#32, 0x3D84ACBD#32, 0xBE31E6D0#32, 0xBD296E71#32, 0xBDC59711#32, 0x3D5E63D1#32, 0x3D2F4FA3#32,
      0x3E8474B7#32, 0x3DC7046F#32, 0x3D22415C#32, 0xBE0A282B#32, 0xBDC58C92#32, 0xBE3146E6#32, 0xBCD5E66A#32, 0x3D5713C1#32,
      0x3E30AC3C#32, 0xBD463934#32, 0xBD308332#32, 0xBD58F4AF#32, 0x3DA62F38#32, 0x3E07F73A#32, 0x3E3F3143#32, 0xBE2171D2#32,
      0xBCB96AE9#32, 0x3D925380#32, 0x3D9C1E0D#32, 0xBD249D67#32, 0xBDA76AF6#32, 0xBE1CD1CF#32, 0xBD98B4C0#32, 0x3D825D40#32,
      0x3E455DCB#32, 0x3B098949#32, 0xBD9FEFE9#32, 0xBDCF195B#32, 0x3D9FD41A#32, 0x3E8258EA#32, 0xBBA98285#32, 0x3C5F6397#32,
      0x3DAEB4CA#32, 0x3DE0E8BB#32, 0xBD9AF4C3#32, 0xBE67353F#32, 0xBE03E0C6#32, 0x3CA4B373#32, 0xBE81011B#32, 0x3DE14C4D#32,
      0xBDA09CF6#32, 0xBCBAD396#32, 0xBE36AAB9#32, 0xBD8A80EA#32, 0xBDF7049A#32, 0xBE7EA4B5#32, 0xBAF96236#32, 0x3C0B064C#32,
      0xBCFBD49C#32, 0x3BC50031#32, 0x3E297443#32, 0xBD42AE8E#32, 0xBD2974F1#32, 0xBDBDDBF9#32, 0x3DA47741#32, 0xBC780EDE#32,
      0x3DD90A90#32, 0xBD91F642#32, 0xBDA9281A#32, 0x3D38AD50#32, 0x3E06AB29#32, 0xBDB5921F#32, 0xBE17121A#32, 0x3C155014#32,
      0xBE381B98#32, 0x3D86FA82#32, 0x3BC2790E#32, 0xBD4A64AD#32, 0xBD0F78A6#32, 0xBD6DB1FD#32, 0x3C9CF0E0#32, 0xBE04A557#32,
      0xBD926E90#32, 0x3DF26232#32, 0xBDAB5AD4#32, 0xBCA7058C#32, 0xBC38927E#32, 0x3D698891#32, 0xBCB95766#32, 0x3DACB8EA#32,
      0x3B843CF4#32, 0xBB9F7A99#32, 0x3E2CAF86#32, 0x3E7C48F9#32, 0xBCC63EDF#32, 0xBCE0E8F1#32, 0x3E1A46E2#32, 0x3DDBCA25#32],
    ![0xBD71F78E#32, 0x3D526021#32, 0x3D3E5C35#32, 0xBD05650F#32, 0xBD01FEFC#32, 0x3D20919E#32, 0x3DDA37EC#32, 0x3E768C92#32,
      0x3E5165D0#32, 0x3E10CF4C#32, 0x3E57A370#32, 0xBD48CC8F#32, 0xBE259CF0#32, 0xBD92F35F#32, 0x3C5AB029#32, 0x3CBAA55A#32,
      0x3DA91ADE#32, 0x3D962F4E#32, 0x3E3C2E2B#32, 0x3D48F7DA#32, 0xBDE30E11#32, 0x3D911F8E#32, 0x3D8C01A1#32, 0xBD841BD5#32,
      0x3D7F81CF#32, 0x3D4265B4#32, 0x3CE4CBF4#32, 0x3DC10DDE#32, 0x3D02602D#32, 0x3DF0AE88#32, 0xBCA4DF60#32, 0xBD3B10C7#32,
      0x3DE670B8#32, 0x3E02FCD6#32, 0x3DF1EFEE#32, 0xBDEB1080#32, 0x3DCB45B9#32, 0xBB591E0E#32, 0xBDB6E172#32, 0xBE7443E6#32,
      0x3D9EE2F5#32, 0xBD4A3752#32, 0x3B0A0924#32, 0x3C47BB70#32, 0x3DEDAC7D#32, 0xBE8ADFF7#32, 0xBAC0231F#32, 0x3DD5C6F8#32,
      0x3E53DA67#32, 0xB96AF293#32, 0x3D8C7207#32, 0x3DA4105A#32, 0x3EADEE82#32, 0xBE1EEC60#32, 0x3D9FB756#32, 0xBD605E4B#32,
      0x3D801B13#32, 0x3E0138E2#32, 0xBCEB7F0A#32, 0xBE8BC59C#32, 0xBD100F25#32, 0xBDC7CF55#32, 0xBA803711#32, 0xBDB6300E#32,
      0xBE1B6934#32, 0x3E94B8AE#32, 0xBD9DA11C#32, 0x3DAE61F2#32, 0xBE2C9BFC#32, 0x3D9F66FB#32, 0x3E1534D0#32, 0x3DB1BB92#32,
      0xBDCB3392#32, 0x3E0FEC5A#32, 0xBE224E96#32, 0xBDD60EC2#32, 0x3E148CE1#32, 0xBC8F0FD2#32, 0xBE8D57CF#32, 0x3E2B22FE#32,
      0x3DE8DB93#32, 0x3C28E543#32, 0x3DF82F02#32, 0x3DE9DB82#32, 0x3D9028B9#32, 0x3E2209FE#32, 0xBD464B70#32, 0x3A94B8C2#32,
      0x3E265FE7#32, 0x3DB6ACE0#32, 0x3E644F9E#32, 0xBC870A5E#32, 0x3D8C1D79#32, 0x3D0D9117#32, 0x3D974519#32, 0xBB6BCE87#32,
      0x3CBE97AD#32, 0xBDEC566A#32, 0xBD7CA111#32, 0xBD89A40B#32, 0xBCE7B04C#32, 0x3D669503#32, 0xBDD797CE#32, 0xBE3ADFDF#32,
      0x3E812DA3#32, 0x3E570B4D#32, 0x3C56B6BE#32, 0x3D8B66CF#32, 0x3D27EFDA#32, 0xBDE5876B#32, 0xBE04B8B6#32, 0xBE466494#32,
      0x3E19D64A#32, 0xBE6ABCA8#32, 0x3D811741#32, 0xBD599A27#32, 0xBDF40A2E#32, 0x3CCA8F82#32, 0x3E3DEE8E#32, 0x3DA87944#32,
      0xBE39B7E7#32, 0xBD951234#32, 0xBDE9BD7B#32, 0x3DB702C6#32, 0xBD3738A4#32, 0xBD395B98#32, 0xBE0AADDD#32, 0x3D624768#32],
    ![0xBBEF82B3#32, 0x3BFAF6E9#32, 0xBD835E08#32, 0xBC531BCB#32, 0xBD8013C8#32, 0x3D57BCA5#32, 0x3D99AF0F#32, 0xBE556DE6#32,
      0xBD9ADC8F#32, 0xBD36ED32#32, 0xBD3BB760#32, 0x3DE773EA#32, 0xBDB75D68#32, 0xBDB184B9#32, 0x3E51B727#32, 0x3D6DCA3A#32,
      0xBE6E34CB#32, 0xBDCA9490#32, 0x3D81E3D9#32, 0x3E0B721C#32, 0xBD5B2E0F#32, 0xBEB025E6#32, 0x3DA97BF4#32, 0x3E633609#32,
      0x3E5B6534#32, 0xBD904493#32, 0x3E019732#32, 0xBC112649#32, 0xBEB9BD91#32, 0xBE37D66B#32, 0xBDB597F6#32, 0x3D893221#32,
      0x3D859B13#32, 0x3D8CFD4E#32, 0xBDA370B1#32, 0x3E88DB2C#32, 0x3E049C75#32, 0xBD23B199#32, 0xBE5F8692#32, 0xBDC87D9E#32,
      0xBD00F227#32, 0x3E0E7984#32, 0xBDA1DC7D#32, 0x3E2D2EB2#32, 0x3C255FF4#32, 0xBC7D6A5E#32, 0xBE783525#32, 0x3E0A572B#32,
      0xBD9FA5C5#32, 0xBD81BE44#32, 0x3CB1C955#32, 0x3DDED6DC#32, 0x3C615643#32, 0xBC8937FD#32, 0xBC78DF31#32, 0x3E4DD1DD#32,
      0xBD7AD2FB#32, 0x3E90DA5A#32, 0x3E2CD0DF#32, 0xBE10BF4E#32, 0xBDFBF1C0#32, 0xBD67953D#32, 0xBCD8A777#32, 0xBD2BA734#32,
      0x3D6C59FE#32, 0x3E92B59F#32, 0xBD22ECE7#32, 0x3C7557D0#32, 0x3E04F2D6#32, 0xBC35FC4B#32, 0x3CA6968A#32, 0x3EA2327F#32,
      0xBCCA98BC#32, 0x3E55BC0A#32, 0xBE4B4F1E#32, 0x3D94357C#32, 0x3DDBB727#32, 0xBD4369EC#32, 0xBE374938#32, 0x3D1036BC#32,
      0xBB255C26#32, 0xBE2EC6DC#32, 0xBE29927D#32, 0xBD390F87#32, 0x3E85C2AB#32, 0x3DDBD6E2#32, 0xBD74A259#32, 0xBE21E273#32,
      0x3D9580AA#32, 0xBD9BB140#32, 0x3D3F7292#32, 0x3D061E86#32, 0x3D64B708#32, 0xBDE12DC6#32, 0x3A5278F8#32, 0xBE33D91C#32,
      0xBDEBF7FA#32, 0x3DDABC02#32, 0xBE3058C9#32, 0x3D04F5F2#32, 0xBCCD39BD#32, 0xBBB1321A#32, 0x3C36AF5D#32, 0xBD997DE3#32,
      0x3D8DEAC4#32, 0x3E2927EA#32, 0xBE917C5E#32, 0xBD47D841#32, 0x3CDEF635#32, 0xBDD1BC82#32, 0x3D9116C0#32, 0x3D4FBD4C#32,
      0x3D9869FE#32, 0x3D36738A#32, 0x3D96B53E#32, 0xBC1809A2#32, 0xBE053037#32, 0xBDE7A27A#32, 0xBDBA005F#32, 0x3E885169#32,
      0xBD077A47#32, 0x3DC98BCC#32, 0xBE4DF554#32, 0xBBADF3F5#32, 0xBE433ABA#32, 0xBDB1CB3B#32, 0xBDE5A6F3#32, 0x3D14CC10#32],
    ![0xBCDBB040#32, 0x3CA4FA79#32, 0xBC9CF257#32, 0xBC46D838#32, 0x3DADD62A#32, 0x3E12DE36#32, 0xBD2BDC07#32, 0x3E068AFA#32,
      0x3DC984BA#32, 0xBBFDD5A5#32, 0x3E071A65#32, 0x3D15309E#32, 0x3BA90F95#32, 0x3E4DF7DA#32, 0xBCA24EEE#32, 0x3D27E62E#32,
      0x3C7DA3BF#32, 0x3DB0BCD5#32, 0xBE07E63C#32, 0x3B85B849#32, 0x3E32643A#32, 0xBDF02E69#32, 0xBD71B376#32, 0xBE649321#32,
      0xBE14CD89#32, 0xBE28680E#32, 0x3E2243EC#32, 0x3DF36292#32, 0xBD1CD544#32, 0xBD240A50#32, 0x3B925AC9#32, 0xBBD4813A#32,
      0xBE0A5046#32, 0x3DC1C797#32, 0x3BF2D522#32, 0xBB7F09E1#32, 0xBD0BB554#32, 0x3E4A024F#32, 0x3D2D1430#32, 0xBE0C2C6E#32,
      0x3D96AF2B#32, 0xBD736FE8#32, 0xBDE94744#32, 0x3D1FDCCD#32, 0x3DAC92C3#32, 0x3CE599A6#32, 0x3D12F749#32, 0xBDDAE3D5#32,
      0x3DB3E8D5#32, 0x3E2132B3#32, 0x3E227F30#32, 0xBC4CE10C#32, 0xBDD57C3A#32, 0xBE1446C3#32, 0x3DF10CCE#32, 0xBD471603#32,
      0xBD73AF27#32, 0xBB9F42C9#32, 0x3CABFEE5#32, 0x3D23E1B9#32, 0x3DD77BF6#32, 0x3D0D7F82#32, 0xBE7843FA#32, 0x3D903D4F#32,
      0x3DE5EE29#32, 0x3E75202B#32, 0xBD90A597#32, 0x3DB9D667#32, 0x3D4C6570#32, 0x3E8FEB35#32, 0x3D4ED4C2#32, 0x3D9657C3#32,
      0xBD97A9F0#32, 0x3E30060D#32, 0xBD196AA8#32, 0xBE968017#32, 0xBD9F62D5#32, 0xBE09D018#32, 0xBE810380#32, 0x3D3D7082#32,
      0xBD428920#32, 0x3E616871#32, 0x3D63D04B#32, 0x3DA8043E#32, 0xBCAC50AF#32, 0xBCA01E0F#32, 0x3D17277E#32, 0xBE610964#32,
      0x3E837E54#32, 0xBE426892#32, 0xBE27BB63#32, 0xBCF5787C#32, 0x3C95EF55#32, 0xBDAABDBD#32, 0xBE562314#32, 0xBDAE39C9#32,
      0xBDCE22C2#32, 0x3D99A14C#32, 0xBB983BEB#32, 0x3E1B9266#32, 0x3E3A2405#32, 0x3E1C990D#32, 0xBD29D14B#32, 0xBE70BBF2#32,
      0xBD33BB9A#32, 0xBD4F0214#32, 0x3DFA2171#32, 0xBE1462C2#32, 0xBE8B5E5B#32, 0x3E140149#32, 0x3CE0FA3C#32, 0xBE6ABD9B#32,
      0x3DAAB819#32, 0x3DF226DD#32, 0xBD73C25C#32, 0xBC79B0F3#32, 0x3D3044B5#32, 0xBDC4418D#32, 0xBD872223#32, 0xBD5C3C0C#32,
      0xBD80FEA6#32, 0x3CA80D50#32, 0x3CD900D4#32, 0xBE430E40#32, 0x3DB76E88#32, 0x3BA9FCFA#32, 0x3D924BF0#32, 0xBD3E29A9#32],
    ![0x3E307358#32, 0x3AF14C21#32, 0x3E3D24EC#32, 0xBE48DCF7#32, 0xBCA24D1B#32, 0xBE05E474#32, 0x3BD226AF#32, 0x3C817A2B#32,
      0x3CA42A05#32, 0x3CB66266#32, 0x3E059446#32, 0xBD450775#32, 0xBCFCC2E5#32, 0x3E1DF510#32, 0x3CB1537C#32, 0xBE127E54#32,
      0xBDD1D37E#32, 0xBE073057#32, 0x3DDEE60C#32, 0xBDAC26F5#32, 0xBBD2D316#32, 0xBD46B324#32, 0x3DDD98E4#32, 0x3BB60000#32,
      0x3E8C8F39#32, 0x3763A217#32, 0x3E191E9E#32, 0xBD8700AA#32, 0x3DED44E0#32, 0xBE8576DE#32, 0x3CE6BA9E#32, 0xBDAEDDA5#32,
      0xBE503700#32, 0x3CB6F7B5#32, 0xBE935D2F#32, 0x3CE6EC5A#32, 0x3E36817C#32, 0xBE909AEE#32, 0x3C8A5E27#32, 0x3C7244FA#32,
      0xBD858045#32, 0xBEA8B088#32, 0x3E0B8B0B#32, 0xBE743A49#32, 0x3D2E34E0#32, 0x3DE0C96E#32, 0xBEAAE547#32, 0x3C38ACAF#32,
      0xBC86B6C5#32, 0x3CADD5FE#32, 0xBDB86686#32, 0xBD788F43#32, 0xBC4AB7CC#32, 0x3DD197D3#32, 0xBD8646D9#32, 0xBCCB7C54#32,
      0x3E2FFA16#32, 0xBD9BB1CB#32, 0x3E9CF0FA#32, 0x3DE9D732#32, 0x3D165634#32, 0xBE13581A#32, 0x3D8AD8C3#32, 0x3DAAD81A#32,
      0x3D00B903#32, 0x3D55A77D#32, 0xBD9A7E6D#32, 0x3E569072#32, 0x3DD7FB94#32, 0xBDFF6ADC#32, 0xBEABC1D2#32, 0x3E0E1F5E#32,
      0xBE2497D4#32, 0xBE6026CF#32, 0x3DC03AB5#32, 0xBD228E3C#32, 0xBE4521B8#32, 0x3CD7BC6B#32, 0x3D6818D5#32, 0x3D927F98#32,
      0x3E023B74#32, 0x3BA72520#32, 0x3D799555#32, 0x3D20ADAD#32, 0x3BCCB88A#32, 0xBD8F6040#32, 0xBBD27BDD#32, 0xBBE102AF#32,
      0x3DE2BBE2#32, 0x3DBAA1A1#32, 0xBD78E316#32, 0xBD422759#32, 0xBDC56685#32, 0x3D1B87BE#32, 0x3D85AC7D#32, 0x3DDB1855#32,
      0xBD0EED1D#32, 0xBDDEECBB#32, 0xBD74D55D#32, 0xBD7BAE74#32, 0xBDF9C0E9#32, 0x3DAAF5EE#32, 0xBBA10835#32, 0xBDE781ED#32,
      0x3E1B98B5#32, 0xBD0E138B#32, 0x3DB278AD#32, 0xBE4F74D4#32, 0x3E226C7F#32, 0x3D1EED36#32, 0xBC2E700D#32, 0xBD1E2236#32,
      0x3DA19358#32, 0xBC529F36#32, 0x3E11EE99#32, 0x3E1BBC51#32, 0xBBBDD284#32, 0xBD159BEC#32, 0x3CC064FB#32, 0xBE1C6678#32,
      0xBD5CCDF0#32, 0xBE5C3642#32, 0x3DC9B1B7#32, 0x3DCDD908#32, 0xBD7A8CD2#32, 0x3D15C182#32, 0xBDD5A1CC#32, 0x3E45C796#32],
    ![0x3DF02E5C#32, 0xBE2B0B58#32, 0x3CE6CBD0#32, 0xBE2D5769#32, 0xBE0B1294#32, 0xBE58C2DC#32, 0xBE901E28#32, 0x3E517DBF#32,
      0x3D3434C7#32, 0x3DB26533#32, 0xBD733741#32, 0x3E9C341D#32, 0x3D4DC617#32, 0xBD7DEC83#32, 0x3D96BB41#32, 0x3BD0D92D#32,
      0x3E3244C0#32, 0xBDB2162E#32, 0xBE28FDC8#32, 0x3D6CE9CF#32, 0x3E33A7E2#32, 0x3E0004E8#32, 0xBC6F5743#32, 0x3CB193F9#32,
      0x3CC5B352#32, 0x3E1C33E1#32, 0x3E4E8A1C#32, 0xBBA100FE#32, 0xBE6A5C9F#32, 0x3DDF9918#32, 0x3D46B846#32, 0x3E908790#32,
      0x3E2CAC6A#32, 0x3E211981#32, 0xBDC87B62#32, 0xBDBC02D9#32, 0xBDAA1B85#32, 0x3EA4DA27#32, 0x3D0EEC33#32, 0xBA9BF0D9#32,
      0x3D478799#32, 0x3D07A842#32, 0x3E4BBC85#32, 0x3DCB9C17#32, 0xBD06BC68#32, 0xBE467390#32, 0xBE0F0D4F#32, 0xBDAE0AD8#32,
      0x3E44B80E#32, 0xBDA6BB81#32, 0x3D9F43FD#32, 0x3BCA66AC#32, 0x3B5A3554#32, 0x3D9389DE#32, 0x3CF1393E#32, 0x3E39F2A7#32,
      0x3D800509#32, 0xBB1CB15B#32, 0x3A8F1B26#32, 0xBC878BCD#32, 0xBC5448F0#32, 0xBE06D7EC#32, 0x3DC046F6#32, 0x3D812B5B#32,
      0xBE220062#32, 0xBC2AC5E9#32, 0x3E026CC0#32, 0xBD4DB25E#32, 0xBDE61496#32, 0xBCD6CEC7#32, 0xBDCB0E54#32, 0xBE36518D#32,
      0xBD423D53#32, 0x3C9177FE#32, 0x3D96379B#32, 0x3D3944F3#32, 0xBC8B6C7B#32, 0x3C7BC404#32, 0xBE11F89C#32, 0x3DA712A9#32,
      0xBE809CB5#32, 0xBE08F958#32, 0x3D6A038A#32, 0xBE3F7896#32, 0x3D818F7B#32, 0xBE81524D#32, 0x3E184580#32, 0xBD05B3B6#32,
      0x3D0A8BD4#32, 0x3D738425#32, 0xBDE68A76#32, 0xBCB7F48E#32, 0xBDAD493F#32, 0xBD9EA7C6#32, 0xBDFD2061#32, 0xBE261B97#32,
      0xBDD2FAD1#32, 0x3E7B3144#32, 0xBD970FE3#32, 0xBE19A2BD#32, 0x3E1F19C7#32, 0x3DD10010#32, 0xBDF233FE#32, 0xBD9165E3#32,
      0xBD9BA2B1#32, 0x3D8627DB#32, 0xBE012764#32, 0xBDEEB9B8#32, 0xBE20678E#32, 0xBE3B519A#32, 0xBE6516E1#32, 0xBC8E29F8#32,
      0xBE14A422#32, 0x3D117BE1#32, 0xBEAF1D37#32, 0x3D2AB08B#32, 0x3D595972#32, 0x3E0B93EE#32, 0x3E1B31A1#32, 0x3E458B29#32,
      0x3A2A19F7#32, 0x3CB5BB70#32, 0xBE5ED166#32, 0x3DE6E9A7#32, 0xBE3D7B14#32, 0xBBE8FD04#32, 0x3D06860E#32, 0xBD9D9E5D#32],
    ![0xBB8C1478#32, 0x3C33F3A0#32, 0x3D2AA025#32, 0x3CFF20C6#32, 0xBAA92DFA#32, 0x3D8718CD#32, 0xBDC72F60#32, 0x3D37D0A4#32,
      0x3E7D3045#32, 0xBDE4D0A4#32, 0x3DD24CBD#32, 0xBE18030D#32, 0xBD21444F#32, 0xBD1C93F7#32, 0xBE122640#32, 0x3DAD9734#32,
      0x3C0E903C#32, 0xBB7A7B1C#32, 0xBC88F6DC#32, 0x3B2EED56#32, 0xBCDC31A1#32, 0x3E11B545#32, 0xBE9F497E#32, 0xBE19395C#32,
      0x3DA3184B#32, 0xBDD31A89#32, 0x3B1C2FED#32, 0x3E920EA2#32, 0x3D00AA4C#32, 0xBC3DAF15#32, 0xBC87AFC1#32, 0xBDB66021#32,
      0x3CD84A6D#32, 0x3E2FEAA5#32, 0xBE40405F#32, 0xBDA4EFFB#32, 0xBDD08276#32, 0xBDF22ED0#32, 0x3E2C7E89#32, 0x3CAF4F0A#32,
      0xBDD601AD#32, 0x3D2F32C6#32, 0x3E92288F#32, 0x3DF3F1CD#32, 0xBDDD8B76#32, 0xBCDDABBE#32, 0xBA839A62#32, 0x3CC1ED60#32,
      0xBDA53E94#32, 0xBE24C935#32, 0x3D015950#32, 0xBE778E9B#32, 0x3DC7916A#32, 0x3D39EABE#32, 0xBCCA302C#32, 0xBD26AFD9#32,
      0x3E47DB2B#32, 0x3C6BE028#32, 0xBE072033#32, 0xBDE0C8FC#32, 0xBD4073DE#32, 0x3D600FBA#32, 0xBC7AB1E8#32, 0x3B25EB5D#32,
      0xBDA631F1#32, 0x3E2584C7#32, 0xBE3446CE#32, 0xBB221F8A#32, 0x3DD0B85D#32, 0xBD8C26AB#32, 0xBAB07844#32, 0x3E124F89#32,
      0x3D33DC73#32, 0xBDA30BB5#32, 0xBE57FF38#32, 0x3DF427FB#32, 0x3D5FB588#32, 0x3DC3B2DE#32, 0xBE008CA8#32, 0x3E0A4058#32,
      0x3DAB36E1#32, 0xBDCE5AEB#32, 0x3C1A152D#32, 0x3CEF644C#32, 0xBCD6E2F5#32, 0xBD9118D4#32, 0xBD7BF6DC#32, 0xBDCD5F84#32,
      0xBD650CEE#32, 0x3BEDB6BC#32, 0x3DFDD1BE#32, 0xBD14B263#32, 0x3CF907B4#32, 0x3D444380#32, 0xBD0BBDB4#32, 0xBE2E2CDE#32,
      0xBC4B9DF9#32, 0xBD69D3F5#32, 0xBDDB720E#32, 0x3CCFAEBF#32, 0x3E5D8CE7#32, 0xBCC1E826#32, 0xBC17B453#32, 0xBD7C99E6#32,
      0x3E012C6F#32, 0xBCB36A5C#32, 0x3E010318#32, 0xBDE11B27#32, 0xBCB6CEEB#32, 0x3D89DE8B#32, 0xBE5958E8#32, 0x3E798542#32,
      0xBD6AD2B8#32, 0xBDB5D80F#32, 0x3DCBF44A#32, 0x3DEF97B9#32, 0x3DE54D9E#32, 0xBE507FBF#32, 0xBD8ECC1B#32, 0xBD5BA3EA#32,
      0x3E2554C7#32, 0x3E7FDD79#32, 0xBE2A2AE9#32, 0xBDE9C36B#32, 0xBE3E9632#32, 0xBC067D42#32, 0xBD9D6044#32, 0xBE6C1EF6#32],
    ![0x3D19C854#32, 0x3E64EC98#32, 0x3E343366#32, 0xBE193554#32, 0x3E357D46#32, 0xBDC0DE4D#32, 0x3D2CBA40#32, 0x3D85CF64#32,
      0x3E05BC66#32, 0x3D99641E#32, 0x3DAF699A#32, 0x3D4E9FA6#32, 0x3DE3B96F#32, 0xBD6B3A57#32, 0x3D113F68#32, 0x3DCB1F6F#32,
      0xBD31B645#32, 0xBE6ECFB5#32, 0x3D3112E3#32, 0x3D028654#32, 0xBE5D44F1#32, 0xBD8D1AFE#32, 0xBCEBEEC3#32, 0x3E953FFF#32,
      0xBD3E8027#32, 0xBE538FDF#32, 0x3D9A13F1#32, 0xBC4AF809#32, 0xBCB3A3DF#32, 0xBE007038#32, 0xBD4EA9B1#32, 0x3E4BFC03#32,
      0x3D5CE07C#32, 0xBD342D01#32, 0x3B4C2900#32, 0x3DEE8B77#32, 0x3E0AFC5A#32, 0xBD793A82#32, 0xB99FDF02#32, 0x3D1B6A42#32,
      0xBE5E572F#32, 0x3CF0A404#32, 0x3DF085C9#32, 0xBED4AABC#32, 0xBC20D4E0#32, 0xBE359463#32, 0xBDBE1AA5#32, 0xBE316E05#32,
      0xBD8FDC46#32, 0x3E17FF37#32, 0x3E0FD87F#32, 0x3DC45B58#32, 0x3C9C8568#32, 0xBDE42740#32, 0xBD0C1A1E#32, 0xBC91C51B#32,
      0xBD47AC8E#32, 0x3DAFFF05#32, 0x3DA1C756#32, 0x3DF03DF7#32, 0x3DF408D8#32, 0xBDBA1DA1#32, 0xBE5300DC#32, 0x3E8CED12#32,
      0x3DBE039D#32, 0xBD246E39#32, 0xBD27938D#32, 0xBD19DD5F#32, 0x3DA7C5E9#32, 0xBDD1A499#32, 0xBB83751B#32, 0x3DDD6230#32,
      0xBE9944CD#32, 0x3E5B8D51#32, 0xBE3CC1EE#32, 0x3E5ABABB#32, 0x3D18ACF8#32, 0x3DE4E0EB#32, 0x3DEDE6A4#32, 0xBD4414B3#32,
      0x3E477621#32, 0x3ADCD4C1#32, 0xBA69FCC5#32, 0x3B80403E#32, 0xBD26B23F#32, 0xBBA74272#32, 0xBDC966D7#32, 0x3E303D1E#32,
      0x3D4559D1#32, 0x3D9E1FC3#32, 0xBDBC20E2#32, 0xBDDA1A84#32, 0x3E4EAC0B#32, 0x3C93B8AE#32, 0xBDA8E5E3#32, 0x3E83FC82#32,
      0xBE25C86A#32, 0xBE703F9A#32, 0xBDFD4632#32, 0xBE24C33E#32, 0x3D82EFFC#32, 0x3C26D3D7#32, 0x3DF721D2#32, 0x3DD65329#32,
      0x3E5BD21D#32, 0xBD5BB299#32, 0xBD80445F#32, 0xBD9F61CE#32, 0xBD825CC0#32, 0xBD9080A2#32, 0xBE1E0FED#32, 0x3C785947#32,
      0x3E0A6D6F#32, 0xBD32AE86#32, 0xBDDA5B49#32, 0x3C041CD2#32, 0x3D89261B#32, 0xBCBE400D#32, 0xBD897217#32, 0xBE5B4AC6#32,
      0x3CEB35CE#32, 0xBD8BC3AA#32, 0xBC4D297A#32, 0x3E4C4137#32, 0xBE80255E#32, 0x3D19D087#32, 0x3DD38475#32, 0xBD1A13F4#32],
    ![0x3DD7F501#32, 0xBE8029BB#32, 0x3CFFD087#32, 0xBB42121A#32, 0x3E82A3FB#32, 0x3D82B25A#32, 0xBE39C613#32, 0xBDF0B0B7#32,
      0x3D8D9C8E#32, 0xBC9E7553#32, 0xBD7417D4#32, 0x3B54FE16#32, 0x3D4A98AA#32, 0xBD420AE6#32, 0xBD5158FA#32, 0x3E244848#32,
      0x3D258BA3#32, 0x3D164E26#32, 0xBD0BC114#32, 0x3E20F509#32, 0xBD895D5F#32, 0xBD7627C5#32, 0xBE3B1591#32, 0x3E6B7554#32,
      0x3E1C9D66#32, 0xBD07DC33#32, 0x3CDA41CC#32, 0x3DC1EBC5#32, 0xBD979D19#32, 0xBDC91B69#32, 0x3B55EE2E#32, 0x3E2AC4D3#32,
      0x3E02FBCC#32, 0x3D8E4479#32, 0x3EA0EBB3#32, 0x3DAB73D0#32, 0x3C951653#32, 0xBE19ADB5#32, 0x3DFD78A4#32, 0x3E711E5B#32,
      0x3C048032#32, 0x3DB5D4BF#32, 0x3D7D4173#32, 0xB8B2E419#32, 0xBDE04DB4#32, 0xBDA13203#32, 0x3D82F636#32, 0x3E752B14#32,
      0xBD5034E1#32, 0xBE300AC7#32, 0xBD48A052#32, 0x3EA2599F#32, 0x3CB25F51#32, 0xBD995B99#32, 0xBCA6CFA6#32, 0xBDA61026#32,
      0x3DA8F804#32, 0xBCC22E7D#32, 0x3D62138C#32, 0x3DB88E46#32, 0xBE0A3937#32, 0x3DAE2D10#32, 0x3E6483DF#32, 0xBB92A7C2#32,
      0x3D9AA3EB#32, 0x3E3E15D7#32, 0x3DA116AA#32, 0x3D760A82#32, 0xBE8BD88D#32, 0xBBA444AC#32, 0x3CA2FE33#32, 0xBD2C1FB3#32,
      0xBCBF5E95#32, 0x3DDFF21D#32, 0xBC8E7AB7#32, 0xBDD7B402#32, 0xBD2E082A#32, 0x3E32A724#32, 0x3D8045AC#32, 0x3E6B8E71#32,
      0xBD1A8FDB#32, 0x3C9CD3DE#32, 0x3C7FFBDB#32, 0xBDBD94DD#32, 0xBE82DA4A#32, 0xBDE4B08F#32, 0xBC9D141B#32, 0x3C5529F3#32,
      0x3C394F05#32, 0x3E5326A2#32, 0xBDCA1BC1#32, 0xBD9DA4A3#32, 0x3E64DBFA#32, 0x3E0E398D#32, 0x3DDAA442#32, 0x3DA1F60C#32,
      0xBD3BC486#32, 0x3E1ED485#32, 0xBD54AEB7#32, 0xBB1AE5EE#32, 0xBD0DDC99#32, 0x3D9EA64A#32, 0xBCBA6B41#32, 0x3C24A950#32,
      0x3D4A032E#32, 0x3D7968A7#32, 0xBE0A4826#32, 0x3D173BB5#32, 0x3E56B83B#32, 0x3DE55E94#32, 0xBDBB1B9F#32, 0x3C492116#32,
      0x3D700C1F#32, 0x3D4D4D5A#32, 0xBD6FD41A#32, 0xBC6B6446#32, 0xBDE84D11#32, 0x3D8C8BD8#32, 0xBDE5EE0E#32, 0x3EA18FD3#32,
      0xBC50BD9E#32, 0x3E40BC20#32, 0x3CF586E2#32, 0xBED32EB6#32, 0xBDB38CD7#32, 0xBCF27E9E#32, 0xBCA197DD#32, 0x3D9406DB#32],
    ![0xBE7FE6AD#32, 0x3D3143B4#32, 0xBD98EA45#32, 0xBDBA96FF#32, 0x3DF7888A#32, 0x3D22A89F#32, 0x3D3F314E#32, 0x3DCB193C#32,
      0xBD3A93B1#32, 0xBBAA7770#32, 0xBE25F664#32, 0x3E195DA7#32, 0x3DDC179C#32, 0x3E59A7C8#32, 0xBD3A4014#32, 0xBDBA1FCC#32,
      0x3D8660E8#32, 0x3DE667E7#32, 0x3DA4D83D#32, 0x3E006D5C#32, 0x3E2ADB51#32, 0xBD8E09AE#32, 0xBDD0BEBB#32, 0x3D4C7363#32,
      0x3CC6F99A#32, 0x3D6A3D96#32, 0x3E204429#32, 0xBD804915#32, 0xBD88565F#32, 0x3D158D79#32, 0x3DD55759#32, 0xBC034A5F#32,
      0x3D8D778C#32, 0x3E060F16#32, 0xBDC15FBE#32, 0xBE5BA6FA#32, 0x3E3705F6#32, 0xBD8348E1#32, 0x3E023DE3#32, 0xBD97CA2C#32,
      0xBD2EF8D4#32, 0x3D723372#32, 0x3DBC3B87#32, 0x3CF6A8E5#32, 0x3BEC409F#32, 0xBDA76235#32, 0xBDA9911C#32, 0x3D6BE01D#32,
      0x3E1C49B3#32, 0xBB153735#32, 0x3E0E2F83#32, 0x3D668865#32, 0xBCE23586#32, 0x3DA0E00A#32, 0xBD1D841F#32, 0xBD9451D8#32,
      0x3D8BDAC0#32, 0xBC05112E#32, 0x3E1BE4C3#32, 0x3E40471B#32, 0xBDC84C14#32, 0x3D9D9D0C#32, 0x3D5378E1#32, 0xBE96398F#32,
      0x3A9BBCD5#32, 0xBDA2588C#32, 0x3E10FEC3#32, 0xBC91503C#32, 0x3D01B688#32, 0x3DA51CC8#32, 0x3E3DB391#32, 0xBD8D1D23#32,
      0xBE923759#32, 0x3D4BE18B#32, 0xBDCFBC19#32, 0xBD030500#32, 0x3CFE1963#32, 0x3CCEBC7F#32, 0xBD46C650#32, 0x3E21AE99#32,
      0xBD9727F7#32, 0xBE569AED#32, 0x3E454BB4#32, 0x3C868073#32, 0xBBB34E7B#32, 0xBE12C0D8#32, 0x3D112584#32, 0x3E084C00#32,
      0xBE15C855#32, 0x3DACC0E8#32, 0x3E0A4F05#32, 0x3C94A021#32, 0x3DB0A7BC#32, 0x3DF1C999#32, 0x39A25930#32, 0xBD3C5695#32,
      0x3DF6E211#32, 0x3D487A3D#32, 0x3D5D57D6#32, 0xBD6AC912#32, 0xBCAE72FE#32, 0x3E69C486#32, 0x3D1EC5E2#32, 0x3DE87BCD#32,
      0xBAA1DD6F#32, 0x3B65CA87#32, 0xBE2E1F2F#32, 0xBD0CFBE9#32, 0x3E0B0E42#32, 0xBD7CDC37#32, 0xBE954F5B#32, 0xBDCF39AA#32,
      0xBC3233F9#32, 0xBCEEBCFD#32, 0x3E36013B#32, 0x3D8DCF17#32, 0x3DD21C50#32, 0x3E694EB2#32, 0xBD453265#32, 0x3DA420D3#32,
      0xBDA5440F#32, 0x3E27E182#32, 0x3DB5453B#32, 0xBD948CE0#32, 0x3E685945#32, 0x3D838CE0#32, 0xBE2CD477#32, 0x3C940BCA#32],
    ![0x3EAB3E6B#32, 0xBDC0AADE#32, 0xBD60463C#32, 0x3D8582C0#32, 0x3E10EF58#32, 0x3D99F20E#32, 0x3DD4FF1A#32, 0x3E0A5083#32,
      0xBE253D2A#32, 0xBCEEEF4B#32, 0xBE2A64DD#32, 0xBCAA0320#32, 0x3D940FAE#32, 0xBC89C7D8#32, 0x3E855D64#32, 0x3D44557F#32,
      0x3E09E494#32, 0xBD433519#32, 0xBD9CDB5B#32, 0x3B80A671#32, 0xBE73B412#32, 0xBDACF568#32, 0xBDE95B8E#32, 0x3E0F87CD#32,
      0x3DF136DB#32, 0x3D0F5109#32, 0xBD7FBA70#32, 0xBD9915A1#32, 0xBE59DF2A#32, 0xBE827B90#32, 0x3DE51A91#32, 0x3D12EDF0#32,
      0xBE1FD6D4#32, 0xBD821C44#32, 0xBE186A12#32, 0x3E4C3032#32, 0xBC9EFA1E#32, 0xBCD0B89A#32, 0x3E05FAFA#32, 0xBD4D949A#32,
      0xBE0F4505#32, 0x3D5CF211#32, 0x3DE53084#32, 0xBD78C4C4#32, 0x3E3EC445#32, 0xBD554807#32, 0xBE588303#32, 0x3D6E19B8#32,
      0x3D0C9C8D#32, 0x3DC70B01#32, 0x3E283C63#32, 0x3E0A709A#32, 0xBE1C6800#32, 0x3DED277C#32, 0x3D32E59D#32, 0xBE73F1B8#32,
      0x3D5E12EA#32, 0xBE23FD5E#32, 0x3D5B7983#32, 0x3DF8B101#32, 0xBB6D2070#32, 0x3DA7FAB3#32, 0xBD175672#32, 0x3E23A8FA#32,
      0xBD1D1C3E#32, 0x3E0EAECF#32, 0x3E4E383E#32, 0xBC5D3206#32, 0x3D0A4A77#32, 0x3D185713#32, 0xBD8AC4DA#32, 0xBE6BDE59#32,
      0x3D7B986D#32, 0x3D3816B3#32, 0x3E07E1C5#32, 0xBEAE7096#32, 0x3D242371#32, 0x3E2E04B5#32, 0xBD8FEB4C#32, 0xBC838F2F#32,
      0x3DCFFE9B#32, 0x3D2CFA10#32, 0xBD9BAF57#32, 0xBDFCE6DF#32, 0xBD51C257#32, 0xBDEF14C4#32, 0xBCE2A675#32, 0x3D1647CF#32,
      0xBD843D65#32, 0xBC7E0213#32, 0xBD00FBB1#32, 0x3D944251#32, 0x3D4DFDF9#32, 0x3B0FE634#32, 0x3DC45396#32, 0xBE300154#32,
      0x3DB3517D#32, 0x3DEAD1D3#32, 0xBD786B87#32, 0xBDB8A7FD#32, 0xBD8EA65C#32, 0x3D9D02C3#32, 0x3D407E90#32, 0xBC3B1D21#32,
      0x3D2768EE#32, 0x3EA56669#32, 0x3BFD5ABD#32, 0x3D205C23#32, 0x3DC04CB4#32, 0x3D58FB9A#32, 0xBDD6B9E4#32, 0xBD56F62C#32,
      0x3CD9A897#32, 0x3E803581#32, 0xBCC52248#32, 0xBDD0F42A#32, 0x3DFD9497#32, 0xBC8F9C3A#32, 0x3D31556C#32, 0xBD05DAE6#32,
      0x3DEC45B3#32, 0xBE36907E#32, 0xBCA6F5AC#32, 0x3B7DF976#32, 0x3D1EC204#32, 0x3E278F77#32, 0x3E387A68#32, 0xBD0DD367#32],
    ![0xBCA7C7BA#32, 0xBDCBDB1B#32, 0x3E023E93#32, 0x3DC90278#32, 0x3DFD2BAB#32, 0xBD9D7D0A#32, 0xBCB84782#32, 0x3D605706#32,
      0xBD03D838#32, 0xBE11BE31#32, 0xBEA30AA0#32, 0xBDEEE9B4#32, 0xBDF7C644#32, 0x3E7D8898#32, 0x3C0B308A#32, 0xBDF34C5E#32,
      0xBD4C1804#32, 0xBE85DBD2#32, 0xBD93CD2F#32, 0xBE0294E7#32, 0xBDB18CDE#32, 0xBDD8A5E1#32, 0xBE502954#32, 0x3CD87B36#32,
      0xBE502F10#32, 0xBE29C342#32, 0x3D792A43#32, 0xBE5E463E#32, 0x3E31F5EE#32, 0x3E6424E6#32, 0xBD443C25#32, 0x3D48AF70#32,
      0x3E1D2601#32, 0xBDFAE0A8#32, 0xBE4E5FB3#32, 0x3E33E9F2#32, 0xBE844236#32, 0xBC6D83EA#32, 0xBD8E6FE4#32, 0x3D503202#32,
      0xBD380AD1#32, 0xBE2CFB9A#32, 0xBD543DA3#32, 0xBE170408#32, 0x3E0710A3#32, 0xBE168593#32, 0xBDBEE9A7#32, 0xBC0959DD#32,
      0x3E82411C#32, 0xBD7FFDD8#32, 0x3D6D37DB#32, 0xBE5EC0BE#32, 0x3D8E945A#32, 0xBE0B1F88#32, 0x3E86C458#32, 0xBE8003A4#32,
      0x3BD8CD6B#32, 0x3E161BED#32, 0x3E041FCE#32, 0x3D0B0349#32, 0x3CC69148#32, 0xBB751735#32, 0xBE030270#32, 0xBE5858F7#32,
      0xBE4DE28D#32, 0xBE1730F7#32, 0xBE083607#32, 0x3DE70DC9#32, 0x3DC8CF4F#32, 0x3D092314#32, 0x3A8D3116#32, 0xBDA7FEBE#32,
      0xBD9EC0A5#32, 0x3B4641AD#32, 0x3E2AF6BA#32, 0xBDD42C6E#32, 0xBDF79035#32, 0x3D91A728#32, 0xBDB92CCF#32, 0xBE352250#32,
      0x3E5E96F8#32, 0x3DF0B887#32, 0xBE4774E4#32, 0x3CE89919#32, 0xBE57E58B#32, 0xBD1099DF#32, 0x3B94992D#32, 0x3DC7B00A#32,
      0xBC85332C#32, 0x3DA3A1BF#32, 0xBD914600#32, 0x3E1745E0#32, 0x3DE4ED73#32, 0xB9F8CC51#32, 0xBD3AB1E9#32, 0x3E10EC26#32,
      0x3D36D289#32, 0x3E64A2E2#32, 0xBE1EBF10#32, 0xBD42A09E#32, 0xBCAED447#32, 0x3DC37546#32, 0xBCC965CA#32, 0xBE177963#32,
      0xBCD05A3C#32, 0xBE3AB668#32, 0xBE9C2468#32, 0x3DB9E578#32, 0xBEA085A2#32, 0x3E4C0081#32, 0xBDEE545D#32, 0x3DE34149#32,
      0x3D68A8E1#32, 0x3E3BEECE#32, 0x3D82F535#32, 0x3DC9AA6C#32, 0x3C4D73B8#32, 0x3ECFBEAC#32, 0xBE59D7DF#32, 0xBD988F8E#32,
      0x3CF25ACF#32, 0xBA9595FA#32, 0xBDAE1CE2#32, 0x3E876AE3#32, 0xBC21EBFA#32, 0x3E3F206B#32, 0xBDC33E94#32, 0xBE4A6996#32],
    ![0xBCCB5862#32, 0x3E09D093#32, 0x3D14AD38#32, 0xBE0BA797#32, 0xBC2B84ED#32, 0xBCC75440#32, 0x3CB30680#32, 0xBE510593#32,
      0xBDAAC942#32, 0xBDDBBEBF#32, 0xBE3B4D15#32, 0x3E2D6CF6#32, 0x3D845995#32, 0x3D1FEA9F#32, 0x3E55ADF3#32, 0x3E68EAE6#32,
      0xBE0598EB#32, 0x3D816D35#32, 0xBE0CA229#32, 0x3DD3AF2C#32, 0xBC2757CC#32, 0xBE5B500A#32, 0x3DB9F52B#32, 0x3E5C237E#32,
      0xBE442FA2#32, 0x3E619DBC#32, 0x3DBED4DE#32, 0x3DC56D7D#32, 0xBD09A47F#32, 0x3D505EFB#32, 0x3C1856B0#32, 0x3D8ACEA4#32,
      0xBDA66908#32, 0x3E182396#32, 0xBC9D6597#32, 0x3DD5C59D#32, 0xBE7EFF21#32, 0x3E28F7A9#32, 0xBD67EFE0#32, 0xBDA1383F#32,
      0xBDE30BA1#32, 0x3E4C2FEA#32, 0x3DCF3288#32, 0x3D216A91#32, 0xBD8CA835#32, 0xBC812139#32, 0x3DE48ECF#32, 0x3E7BFF0A#32,
      0xBD5688A5#32, 0x3DC1F13A#32, 0xBD01F7F3#32, 0x3E074327#32, 0x3E0ACCE6#32, 0xBDEDDC31#32, 0x3B9EDD59#32, 0xBE0A66E0#32,
      0x3CE72A62#32, 0x3DE50765#32, 0xBD37C261#32, 0xBE007C30#32, 0x3DC41355#32, 0x3D0A5C95#32, 0x3CEE2CF6#32, 0xBDF3ECEB#32,
      0xBC60B7F1#32, 0x3DE03D56#32, 0x3E0B1586#32, 0x3D9BB332#32, 0xBD56D98F#32, 0xBE1A7687#32, 0xBE1A406F#32, 0xBDE0C62B#32,
      0x3D5BE58E#32, 0xBD0DB5FA#32, 0xB98E944C#32, 0xBD97C1D7#32, 0x3DFADA06#32, 0xBD6DB42B#32, 0xBD027163#32, 0x3D0FE5E5#32,
      0xBC6CB4AA#32, 0x3D783280#32, 0xBD8248DD#32, 0x3D7C990B#32, 0x3C6816AD#32, 0xBDA01D32#32, 0x3E000D45#32, 0xBDFBF3FA#32,
      0x3D944E97#32, 0x3CAC35A2#32, 0xBBD9A7A6#32, 0xBC3C352B#32, 0x3D346E5E#32, 0x3E1B9D32#32, 0x3CA8E613#32, 0xBD7A50C8#32,
      0x3D448CFA#32, 0x3E36E602#32, 0xBCF7ADAB#32, 0xBE68FB57#32, 0x3BED9435#32, 0x3C77D3C3#32, 0x3E6261C9#32, 0xBE6F65A4#32,
      0x3DDB7049#32, 0xBDACAA26#32, 0x3E069859#32, 0xBE68D07E#32, 0xBD815324#32, 0xBD96F20E#32, 0xBE9695A9#32, 0xBC41B360#32,
      0xBD0014E5#32, 0xBDC13ADD#32, 0x3D0EB307#32, 0xBDC552B2#32, 0x3E7C3368#32, 0x3CAD881E#32, 0xBDC5A887#32, 0xBDD65783#32,
      0xBDBE9AC8#32, 0x3E281E4E#32, 0xBE0A4012#32, 0x3E0A6395#32, 0xBDE7C413#32, 0x3D9A2423#32, 0xBE0ECD45#32, 0x3E95B96A#32],
    ![0x3DB611CE#32, 0xBD50E0A0#32, 0x3E0B4410#32, 0x3C46A10C#32, 0x3C9D4B3B#32, 0xBD4E1648#32, 0x3E28E4D4#32, 0x3DAFD15E#32,
      0xBDD2C6E9#32, 0xBD8E56B9#32, 0x3E03F315#32, 0x3CE655A1#32, 0xBE3B5ACC#32, 0xBAE6C71C#32, 0x3DDD3E1D#32, 0x3DA089DA#32,
      0xBDA1AB30#32, 0x3D62DB79#32, 0x3CEFAA03#32, 0xBC8F4C03#32, 0xBDCBC6FD#32, 0xBE8424E6#32, 0x3E025511#32, 0x3E09E9EA#32,
      0x3DD3E0B2#32, 0xBE576E50#32, 0xBE2B3AC8#32, 0xBDA67E3F#32, 0xBDB6FDC2#32, 0xBE617CC8#32, 0xBE14A74D#32, 0xBE63AA75#32,
      0xBE0A6BF9#32, 0x3D0411C6#32, 0x3E0D6F8C#32, 0x3DBCE441#32, 0x3DADE516#32, 0x3D96911C#32, 0xBEB0DD67#32, 0xBC7ED201#32,
      0xBE6404C8#32, 0x3B4F324D#32, 0x3CD0F48D#32, 0x3E0DC191#32, 0xBC326DD8#32, 0x3E5F2909#32, 0x3D130AAC#32, 0x3D275E9A#32,
      0xBDEAE602#32, 0x3CC49B50#32, 0x3E2F5863#32, 0xBE30C49A#32, 0xBE8C115C#32, 0xBE565FED#32, 0x3E304622#32, 0xBD5B973E#32,
      0x3E18A886#32, 0x3CDF78A4#32, 0xBE36B3FE#32, 0x3DD23644#32, 0xBDAD360A#32, 0xBE9D4869#32, 0xBD81335A#32, 0xBEC583B5#32,
      0xBE01084A#32, 0x3E495732#32, 0xBD40FAB0#32, 0x3D2661E9#32, 0xBDCC8AA9#32, 0xBDB977E8#32, 0xBD23E63D#32, 0xBDE93201#32,
      0x3CC384E0#32, 0x3DB7A229#32, 0x3E4E0EA1#32, 0x3E181043#32, 0xBE0B5818#32, 0xBA18672E#32, 0xBDE241D8#32, 0xBB9B44E5#32,
      0x3D3D0D7F#32, 0xBD9845EF#32, 0xBE091B13#32, 0x3D77D159#32, 0xBCE0488B#32, 0x3C80A904#32, 0xBE059ADD#32, 0x3E1429C5#32,
      0x3C8ABDE2#32, 0xBD927021#32, 0xBDBE8497#32, 0xBE810023#32, 0xBD21FA0E#32, 0x3E26799E#32, 0xBB859554#32, 0x3D264F2A#32,
      0xBCC22B9E#32, 0x3E37CE40#32, 0x3E0DC286#32, 0x3DFF5C72#32, 0xBD310D6C#32, 0xBCD8167B#32, 0xBDB71C21#32, 0x3BB176A1#32,
      0xBC7EFEFF#32, 0xBCC8FDBC#32, 0x3CE76E87#32, 0xBD942E8D#32, 0x3E815C2B#32, 0xBC92C414#32, 0xBE75E8CB#32, 0xBE18E89D#32,
      0x3DA12440#32, 0x3CC7E6A0#32, 0x3C282165#32, 0xBB53BC31#32, 0xBDFC77AA#32, 0xBD809C1A#32, 0x3D58D24D#32, 0xBCE2CAEA#32,
      0x3C4F2FEA#32, 0xBE214A9C#32, 0x3CD26444#32, 0x3D90502D#32, 0x3D98AA97#32, 0x3C83454D#32, 0x3DE751AE#32, 0x3DF82CEA#32],
    ![0x3DB08DD3#32, 0xBE19C614#32, 0x3DB6C754#32, 0x3DABC484#32, 0x3D45FD3E#32, 0x3DD00D7B#32, 0xBE02D3DE#32, 0x3DB6A90F#32,
      0xBE1E6571#32, 0xBE4BAF45#32, 0x3CA37E02#32, 0xBCCEBBFA#32, 0x3DD4E966#32, 0x3EA4E6DB#32, 0xBDB30D3A#32, 0xBD1F575D#32,
      0x3DB29DC4#32, 0x3D722906#32, 0x3E1A4818#32, 0x3D8DAEE2#32, 0x3C7DEEBD#32, 0x3D8BD10A#32, 0x3DAEAE83#32, 0xBD91B80B#32,
      0xBDFB256A#32, 0xBE2608B6#32, 0xBE2FE0DD#32, 0x3E15C583#32, 0x3C5DEC0D#32, 0xBD765D1A#32, 0x3E25090E#32, 0x3DACC77F#32,
      0xBE09202F#32, 0x39850350#32, 0x3D3FBD83#32, 0x3D909659#32, 0xBDB4BF80#32, 0xBB0DFE47#32, 0xBD8A081A#32, 0xBCBA36C5#32,
      0xBD89D5D6#32, 0x3D95C1B4#32, 0x3E2C6459#32, 0x3E55DFC1#32, 0xBD1DA786#32, 0x3D4BB5B7#32, 0x3D7F56EB#32, 0xBD950B38#32,
      0x3E2410DB#32, 0x3C9E18C5#32, 0xBDC48571#32, 0x3CD5C33C#32, 0xBDF2DD39#32, 0xBD800BF8#32, 0x3D7C8605#32, 0xBE35B73C#32,
      0xBE0F11F8#32, 0x3C857D64#32, 0x3C141DEF#32, 0x3D81BBD9#32, 0xBCA25546#32, 0x3D07E7BF#32, 0x3D6CE4B5#32, 0x3DA847A5#32,
      0x3DBAE79A#32, 0xBE32D0DD#32, 0xBD5B06EA#32, 0x3D74F44D#32, 0xBE3298C4#32, 0x3CFA71DE#32, 0xBCCA063E#32, 0xBCFF1174#32,
      0x3D337B90#32, 0x3E6F5EB1#32, 0x3E2E87CE#32, 0xBE22E184#32, 0x3CB652F5#32, 0x3D26B152#32, 0x3DCCE046#32, 0xBDAA3149#32,
      0x3E0E2CA0#32, 0x3CD51AA4#32, 0xBD36BB3A#32, 0x3E74173B#32, 0xBDF21F8E#32, 0xBDF448B6#32, 0x3D37611F#32, 0x3E03AEF6#32,
      0x3E021CE4#32, 0x3DC41036#32, 0xBE3ED3B1#32, 0x3BB0EBB2#32, 0x3C83D9A0#32, 0x3DEC648E#32, 0x3E4EC436#32, 0x3ADE65DA#32,
      0xBCA7A7BB#32, 0xBD9E12C9#32, 0x3E4DF891#32, 0x3DBC517F#32, 0xBD942719#32, 0xBE1F05EE#32, 0x3DE1E80E#32, 0x3E430912#32,
      0xBD288C2B#32, 0xBE0A2930#32, 0x3D572C0E#32, 0x3E9F3020#32, 0xBE2A557B#32, 0x3DF83052#32, 0x3CC2D2EA#32, 0x3D1368AE#32,
      0x3E83990B#32, 0xBDC240FC#32, 0x3E0DFB96#32, 0xBE748CC2#32, 0x3B84F096#32, 0xBC20FA47#32, 0x3DE3AE35#32, 0xBC813298#32,
      0x3CDB329D#32, 0x3CE8A97E#32, 0x3ECBFD3C#32, 0xBE7E913C#32, 0xBE474FA2#32, 0x3DEF09F0#32, 0xBE0ED0E3#32, 0xBDFB3381#32],
    ![0xBE078268#32, 0xBDBF9E29#32, 0x3E0D3897#32, 0xBD0ABBCA#32, 0x3DADB012#32, 0xBDE4EE23#32, 0xBBFB5810#32, 0xBC9252FD#32,
      0xBC964F94#32, 0x3D9087AC#32, 0xBE02A7AC#32, 0xBE5165E7#32, 0xBD5F463B#32, 0x3D8199E1#32, 0xBE3815E5#32, 0x3D0316DF#32,
      0x3DA1D496#32, 0x3E319CE4#32, 0x3B540FE0#32, 0xBCDADED2#32, 0x3C47BEE5#32, 0x3E2C7796#32, 0xBDD8C535#32, 0x3DE13FDF#32,
      0x3D99A4EE#32, 0xBDF2DC4D#32, 0xBD9337B1#32, 0xBD3BBFAA#32, 0x3D0EF59B#32, 0xBE0828FD#32, 0x3C32A0E0#32, 0x3D968560#32,
      0x3E31F508#32, 0xBE874E66#32, 0xBDFB4DC9#32, 0xBBACC876#32, 0xBD4C6554#32, 0xBD8DD3A5#32, 0xBDBCF3FB#32, 0xBE432846#32,
      0xBCAE1BCF#32, 0x3DB25068#32, 0xBE4B5BBE#32, 0xBC86BACD#32, 0xBDF1213A#32, 0x3DDDCD41#32, 0x3E2262CB#32, 0x3BAFC3F4#32,
      0x3EAC9513#32, 0x3D0D21F9#32, 0xBE3CE62E#32, 0x3D1B1702#32, 0xBE9A3807#32, 0x3D5D6066#32, 0xBDD02991#32, 0x3E689AE4#32,
      0xBE7603E7#32, 0x3E84DBE1#32, 0x3D84C964#32, 0x3E02D064#32, 0x3DBCA5EE#32, 0xBD8D91C6#32, 0xBCE7B308#32, 0x3E0F0B81#32,
      0xBDABCCA0#32, 0x3E1A7734#32, 0x3E39CEA1#32, 0x3E134CF2#32, 0x3E1B2F87#32, 0x3D2E9F2D#32, 0x3D838E8D#32, 0xBCEFD4B9#32,
      0xBCAF2756#32, 0x3E54EB14#32, 0xBE07A123#32, 0xBCEE05F7#32, 0xBD3555E1#32, 0x3EC3E4B5#32, 0xBE1976FD#32, 0xBE510C90#32,
      0x3D94F579#32, 0x3DB67F04#32, 0x3D6F8682#32, 0x3D743906#32, 0x3DC109DD#32, 0x3B0FFE05#32, 0x3ECAC740#32, 0x3D0440BE#32,
      0x3D6699C6#32, 0xBE2EBDCE#32, 0x3CEB13C9#32, 0x3B9FA426#32, 0x3E7521A3#32, 0xBD3BB5D2#32, 0xBDADD1E9#32, 0x3E25DD05#32,
      0xBE23E160#32, 0x3D12F064#32, 0xBD96FE3F#32, 0x3E438855#32, 0x3D5C8989#32, 0x3C13BB9A#32, 0xBDECDCDA#32, 0x3E0047EA#32,
      0xBE38EE9F#32, 0x3E4879E6#32, 0x3E549678#32, 0x3CACDDAD#32, 0x3D24A67F#32, 0x3CC035C8#32, 0xBD9BA9B0#32, 0x3E8FF109#32,
      0x3D0BF060#32, 0x3C99F306#32, 0x3D52FDAD#32, 0x3D6D68FF#32, 0x3BBF9104#32, 0x3E0667FC#32, 0xBCEDCE71#32, 0xBD785E19#32,
      0xBBA513A3#32, 0x3DC9DDF6#32, 0xBE9034CF#32, 0xBE4CB14C#32, 0xBDA6EBDD#32, 0x3B15164D#32, 0xBC042629#32, 0x3DCD488C#32],
    ![0xBD99657D#32, 0x3D61689E#32, 0xBE67985B#32, 0xBCABDB43#32, 0x3D8C589A#32, 0x3EA38E90#32, 0x3E32EE90#32, 0xBD2B31CE#32,
      0x3D9B595E#32, 0xBD14762D#32, 0x3DF4A46E#32, 0xBDAA88D7#32, 0x3C9DCC83#32, 0x3DDF953E#32, 0xBDB75058#32, 0x3DE1074F#32,
      0x3E0700EC#32, 0x3D14DD2E#32, 0xBE461405#32, 0xBD750228#32, 0xBCBD8D8B#32, 0xBDEEC0AD#32, 0x3D344292#32, 0x3E1E0145#32,
      0x3C5B1D30#32, 0xBE32C5A5#32, 0xBE13B3D6#32, 0x3E23BD03#32, 0xBE0E781F#32, 0xBEEC1D45#32, 0xBDC17473#32, 0xBDA8BFE5#32,
      0x3B874DF3#32, 0xBCCAF845#32, 0xBD7CE638#32, 0x3DA630E4#32, 0xBD556221#32, 0x3E5ECE41#32, 0x3E1518D1#32, 0x3D8212FD#32,
      0xBDB052DB#32, 0xBCF0DCE9#32, 0x3E75A3A8#32, 0xBABAE23A#32, 0xBCA43E5F#32, 0xBD3BCADA#32, 0x3D52F20B#32, 0x3D082838#32,
      0xBD085B7C#32, 0xBDD3B449#32, 0x3E36AE34#32, 0x3CA8737F#32, 0x3B4A3426#32, 0x3D3CB04C#32, 0xBE8474BC#32, 0x3D83E476#32,
      0xBE457B91#32, 0xBE797670#32, 0x3CE50CEE#32, 0xBDC9D952#32, 0x3DF0EC50#32, 0x3E915D05#32, 0xBDC45B0A#32, 0x3D0025C5#32,
      0x3E5D6E3C#32, 0x3CDDDCB3#32, 0x3E218D13#32, 0xBD49042E#32, 0xBE4497CF#32, 0x3D0CFC57#32, 0xBD95D2C1#32, 0xBC925C2B#32,
      0xBD690706#32, 0xBE1CFAD7#32, 0x3E130882#32, 0x3D93F85F#32, 0x3C9960A1#32, 0xBBE4C340#32, 0xBDED2812#32, 0x3D8F1499#32,
      0x3DC423C6#32, 0xBDF4D42A#32, 0x3D843F8D#32, 0xBE28EA33#32, 0xBDA3F2CA#32, 0x3E8DE60D#32, 0xBE18372B#32, 0xBE2B11C7#32,
      0xBDEE858F#32, 0x3D3B76EF#32, 0x3CC0A9DE#32, 0x3C8AADFE#32, 0xBE5625EF#32, 0xBD27F6D1#32, 0x3DC0020F#32, 0xBE04DF85#32,
      0x3E23340F#32, 0x3E29B9E1#32, 0x3BF3E869#32, 0xBD943F57#32, 0x3E02FA04#32, 0xBE32E683#32, 0x39CE5A05#32, 0xBD665197#32,
      0x3E333491#32, 0xBCFF8189#32, 0x3DE3172A#32, 0xBCD93624#32, 0x3C088052#32, 0x3D868427#32, 0xBCB5C610#32, 0xBC24ADF4#32,
      0xBDDCEFC9#32, 0xBD833AA1#32, 0xBE4C6BBF#32, 0x3C521E76#32, 0xBE0B4CDF#32, 0x3DDB5711#32, 0x3D0B79D7#32, 0x3D1282B2#32,
      0xBE2FAF23#32, 0x3E840D1B#32, 0x3DE46965#32, 0xBC21D7DC#32, 0xBD6649F7#32, 0xBDBCA488#32, 0x3D3946D5#32, 0xBE0ED4E6#32] ]
noncomputable def arg6 {F : FTy → Type} [FloatOps F] : FVec F (⟨2, ![64, 128]⟩ : Shape) .f32 := fun i => FloatOps.ofBits .f32 (arg6_words (i 0) (i 1))

noncomputable def arg7_words : Fin 128 → BitVec 32 :=
  ![0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32]
noncomputable def arg7 {F : FTy → Type} [FloatOps F] : FVec F (⟨1, ![128]⟩ : Shape) .f32 := fun i => FloatOps.ofBits .f32 (arg7_words (i 0))

noncomputable def arg8_words : Fin 9 → Fin 128 → BitVec 32 :=
  ![
    ![0xBE5C73E4#32, 0xBF024DA2#32, 0x3E5A1AA4#32, 0xBF76F8E7#32, 0xBEDA97E3#32, 0xBE01AFCC#32, 0x3E9035CC#32, 0x3D449A6C#32,
      0xBD8DDA06#32, 0xBE043FB8#32, 0xBEA41EAE#32, 0xBE7420AF#32, 0x3F31A722#32, 0xBDB24D60#32, 0xBE400E83#32, 0x3ECB142F#32,
      0xBE8182FD#32, 0xBE2A6C16#32, 0xBE4BC970#32, 0xBE9195D1#32, 0x3DAE3147#32, 0x3E0B6E2E#32, 0xBD2C695B#32, 0xBC3E237E#32,
      0x3B689EAC#32, 0x3EA88AB4#32, 0x3E1F03B0#32, 0x3E3636F2#32, 0x3E1DF5DC#32, 0xBE1DF7B4#32, 0xBF5EEC36#32, 0x3E854E78#32,
      0xBDD1CD7E#32, 0xBF10CC2A#32, 0x3D8DA98C#32, 0xBE29DCFE#32, 0xBBF70CE8#32, 0x3EEDD73C#32, 0xBEB14302#32, 0x3ED6A6CA#32,
      0x3EAB531A#32, 0xBEED3FE6#32, 0x3EDEEB4F#32, 0xBE2ED422#32, 0xBE42CCE6#32, 0x3E1D9049#32, 0x3E3E3488#32, 0xBE45D79E#32,
      0xBC7F5FAF#32, 0xBE38F7A7#32, 0x3E0750B2#32, 0x3E26342A#32, 0x3DAC3E5F#32, 0x3EB0355A#32, 0x3E70CA5C#32, 0x3E6B7EA8#32,
      0xBEE66994#32, 0x3E969906#32, 0xBE8E1F1B#32, 0x3E6586C6#32, 0xBD4A6188#32, 0xBE994C2A#32, 0x3E94C408#32, 0x3EE08FD8#32,
      0x3EB26742#32, 0xBE1334E8#32, 0x3EEB5F8C#32, 0x3F01BFD2#32, 0xBE27F88E#32, 0x3F2366C7#32, 0xBD741D6E#32, 0x3DD92BCE#32,
      0xBDD8D42B#32, 0xBE20F62E#32, 0x3F38BEB6#32, 0xBEFE9B10#32, 0x3ED508BC#32, 0xBCA64276#32, 0xBE40A8B2#32, 0xBDFD726B#32,
      0xBE1DBD87#32, 0x3DDA7A37#32, 0xBD279015#32, 0x3EDB4427#32, 0x3EAF4F4E#32, 0x3EE8A9A8#32, 0x3F080ABC#32, 0x3EC1B7CC#32,
      0x3DB6CFCE#32, 0x3EB7F79B#32, 0xBE6F0073#32, 0x3E7E235A#32, 0xBEEE2DB3#32, 0x3EF08273#32, 0x3E273464#32, 0x3D886169#32,
      0xBE431094#32, 0xBD3667CA#32, 0x3DCC34D4#32, 0xBD04988A#32, 0xBEE3DDCF#32, 0x3CA3B6E6#32, 0xBF1467B6#32, 0x3E073E5C#32,
      0x3D924725#32, 0xBDAA5F93#32, 0x3DBF45F7#32, 0xBE3C7E5A#32, 0xBF38530C#32, 0xBF1EC394#32, 0x3E9AC6CA#32, 0xBE8EE7D0#32,
      0x3EADA3CB#32, 0xBF353E98#32, 0x3EA3288D#32, 0x3E4CA02E#32, 0xBD2BFF23#32, 0xBF26E8F0#32, 0x3E18E6E1#32, 0x3F063A66#32,
      0x3E20A5D2#32, 0xBEABF3EE#32, 0xBEA5EFC4#32, 0x3EC912BC#32, 0xBF136575#32, 0x3DA343EF#32, 0x3D638A33#32, 0xBD1E884F#32],
    ![0x3E1F81A9#32, 0xBD12A460#32, 0xBD1DE3A6#32, 0x3EBE399C#32, 0x3EBA47FB#32, 0xBF2DE350#32, 0x3D5B0050#32, 0x3D1347AC#32,
      0x3F09A3CF#32, 0x3D2C0330#32, 0x3F3FC9B8#32, 0xBE878A56#32, 0x3EBEBE5F#32, 0xBE6D7283#32, 0x3E0AAC12#32, 0xBE1679B8#32,
      0xBE9545F9#32, 0xBE66C18F#32, 0x3ED4026B#32, 0xBE7CC4FA#32, 0xBE87BAC0#32, 0xBEC9F000#32, 0xBE8EEAD0#32, 0x3F1FAD9E#32,
      0xBEA185A4#32, 0xBF4567BB#32, 0xBD5F989B#32, 0xBE9C0A78#32, 0x3ECCBB10#32, 0xBEAE1D47#32, 0x3E86D964#32, 0xBF016C60#32,
      0x3F01270B#32, 0x3E37CCC7#32, 0xBCFBBF22#32, 0x3E618CDF#32, 0xBEAF31D3#32, 0x3E46F3E7#32, 0xBE8A3929#32, 0xBE281C28#32,
      0x3E248F6C#32, 0xBE7A15CA#32, 0x3F0D5F1D#32, 0x3ED1E63A#32, 0x3D16DE2C#32, 0xBEFD176A#32, 0x3EA2B9E6#32, 0x3EA9C9C0#32,
      0xBE2D59FE#32, 0xBED4E213#32, 0x3E14B984#32, 0xBCD59600#32, 0x3CC894EF#32, 0x3CAF758E#32, 0x3F28BDB2#32, 0xBE8F9F4C#32,
      0x3E36ABC0#32, 0xBDC98847#32, 0xBEA05820#32, 0xBE86BE4B#32, 0x3EE6E3AE#32, 0xBC9308BD#32, 0xBEE095F2#32, 0x3DF6113C#32,
      0xBD901522#32, 0xBECC41A2#32, 0x3E543F30#32, 0xBDA961A9#32, 0x3F8EA042#32, 0x3DC902F3#32, 0x3EEF00D6#32, 0x3CED96F6#32,
      0xBED3F40F#32, 0x3E0E6213#32, 0xBCA97D1E#32, 0xBF202F7E#32, 0xBE86D0E0#32, 0x3E1AE8DC#32, 0x3E3BE387#32, 0xBE2D722B#32,
      0xBEB73DB8#32, 0xBE86D4ED#32, 0xBE719E70#32, 0xBE05873E#32, 0x3CADB9CE#32, 0x3E0EFD08#32, 0xBE6370DF#32, 0xBDBC80B3#32,
      0xBEECE4D6#32, 0x3C9812F9#32, 0xBDFADA48#32, 0x3DC78034#32, 0x3EA75780#32, 0xBD79BFC8#32, 0x3EA8F096#32, 0x3F3023B4#32,
      0x3E24308A#32, 0x3E37722A#32, 0x3E276435#32, 0xBEB1D3D3#32, 0x3F225FBE#32, 0xBE96001E#32, 0x3EAC0A64#32, 0x3E120D86#32,
      0x3DAAF4E4#32, 0xBE1725E6#32, 0xBDA30A40#32, 0x3D168B42#32, 0xBDDFA744#32, 0x3EE35FB8#32, 0xBDC7853F#32, 0xBEC984B6#32,
      0x3D3A2EAA#32, 0xBDC7CF43#32, 0x3E31EAFF#32, 0x3F376A7A#32, 0xBE581E7C#32, 0x3EA0E8C4#32, 0x3E5C9052#32, 0x3EB6508A#32,
      0xBD993179#32, 0xBEE3F11B#32, 0xBE9B6C55#32, 0x3F106144#32, 0xBE6682CC#32, 0x3DF133FE#32, 0x3E3A3B62#32, 0xBE22A130#32],
    ![0x3ED59C8E#32, 0x3C27E2D6#32, 0xBE8D5F44#32, 0xBF023DF6#32, 0xBE0803F8#32, 0x3EF9B676#32, 0xBE83E250#32, 0xBE1806A4#32,
      0xBDA87830#32, 0x3E88C470#32, 0xBE5248C6#32, 0xBE778E04#32, 0x3F0C095A#32, 0xBE49A1A0#32, 0x3EE99FDF#32, 0xBC84EA07#32,
      0x3E097484#32, 0xBE6BCC0B#32, 0x3D84E78A#32, 0xBE6B9DD7#32, 0x3E8D661E#32, 0x3E827812#32, 0x3DA7DFB6#32, 0x3D1DFB0C#32,
      0x3E951B6B#32, 0x3E117D72#32, 0xBEF9B8EA#32, 0x3ED63B0A#32, 0x3E41A0EE#32, 0xBE539FB8#32, 0x3E424FD7#32, 0xBE9BBB00#32,
      0x3ED25D6F#32, 0xBEEB238A#32, 0xBED3AD13#32, 0x3EB859AF#32, 0x3D99C98C#32, 0x3D39C89E#32, 0x3F30D852#32, 0x3E5C4F37#32,
      0xBEA832BE#32, 0x3E2B251C#32, 0xBDD31DCB#32, 0x3E5096C6#32, 0xBC62E162#32, 0xBE91E2A1#32, 0xBE649952#32, 0x3EF9A3CE#32,
      0xBEB6DE9F#32, 0x3D7008A2#32, 0xBDAFCBC3#32, 0xBF04AF71#32, 0xBDC390D4#32, 0xBE1DEA4E#32, 0x3CBA21B3#32, 0x3E5466BA#32,
      0x3F022E69#32, 0x3EA24104#32, 0x3DB0C4CE#32, 0xBF056DA4#32, 0xBE3D3B0C#32, 0x3E051472#32, 0xBEDFBDB2#32, 0x3E3CB096#32,
      0x3ED2CE86#32, 0xBE8FB28E#32, 0x3E5A0083#32, 0xBE548210#32, 0x3DF7839E#32, 0x3DF73956#32, 0x3E01A91B#32, 0xBE2A9ABB#32,
      0x3E9529AB#32, 0x3E2E1FA0#32, 0x3E8A5BE8#32, 0xBDE0FD2B#32, 0x3E35E947#32, 0xBF021B4A#32, 0xBEF6F6B8#32, 0x3F2A5A60#32,
      0x3F2CBF37#32, 0xBDCE499C#32, 0x3EB64CEF#32, 0x3E3DB4FE#32, 0x3E811503#32, 0x3E40C49B#32, 0xBDA7A6B0#32, 0x3E9479BC#32,
      0xBE468234#32, 0x3E94F50E#32, 0xBDE6A182#32, 0x3E205BF3#32, 0x3C1AE2AB#32, 0x3E14F825#32, 0x3F3615DE#32, 0xBCAD33F4#32,
      0x3C27F6E6#32, 0x3E5837FE#32, 0xBEBE399E#32, 0xBEFDC2D8#32, 0xBE3DE272#32, 0xBDDC4253#32, 0xBB88C046#32, 0xBD4D1AC8#32,
      0xBE70AE42#32, 0x3F0A8D11#32, 0x3C1E5B36#32, 0xBE4C8D9A#32, 0xBF601E88#32, 0xBEEC6E96#32, 0xBE300083#32, 0xBCAD0D3C#32,
      0x3E9BFC2A#32, 0x3E6C90E8#32, 0x3E617008#32, 0x3E813ECA#32, 0xBECE55FC#32, 0xBEDA68DE#32, 0x3D94E21F#32, 0x3F18FA7D#32,
      0xBECA955F#32, 0xBDEC7F90#32, 0x3EE5C034#32, 0x3F0C9269#32, 0x3E8E4BE6#32, 0x3E6153C7#32, 0x3EA797B4#32, 0xBD9F50DA#32],
    ![0x3E83E9AE#32, 0x3D04713E#32, 0xBEC3D8D6#32, 0x3EF481D6#32, 0x3EE88992#32, 0x3EC3D28C#32, 0x3E1DD3A8#32, 0xBED5E0D6#32,
      0xBC162B78#32, 0xBE866012#32, 0x3F337D0E#32, 0x3EA7D9D4#32, 0x3ED4DEBE#32, 0x3E801CFC#32, 0x3E783ECA#32, 0x3F027A44#32,
      0xBE01A617#32, 0x3D6C6466#32, 0x3DAE4F7C#32, 0x3EC10DAA#32, 0xBD74FC17#32, 0xBD9A3764#32, 0xBE9710E6#32, 0xBDB0D977#32,
      0xBE21447D#32, 0x3E86CDC3#32, 0x3E843B4B#32, 0x3E3DF18E#32, 0x3ED70CB0#32, 0x3DA73CCE#32, 0x3F361A82#32, 0xBE42676F#32,
      0x3ED419C2#32, 0x3DF0A438#32, 0xBECD549E#32, 0xBC5FCAB6#32, 0xBEB1162B#32, 0xBF631323#32, 0x3F163298#32, 0xBE8B52E8#32,
      0xBE7CDA0A#32, 0x3D872896#32, 0xBE3A88AF#32, 0xBDB1CECB#32, 0x3E94A83A#32, 0xBDC26A63#32, 0xBEB1B2D0#32, 0xBC310D2A#32,
      0x3D021208#32, 0xBE465E28#32, 0xBD020E84#32, 0x3F27287F#32, 0xBD46313B#32, 0xBE3D1720#32, 0xBF26A402#32, 0xBE9CA37B#32,
      0x3E211C4F#32, 0xBE64542A#32, 0xBE9471EE#32, 0xBD66FB73#32, 0xBEAC4C70#32, 0xBE314C9F#32, 0xBD987BD8#32, 0x3EC9036E#32,
      0x3EBFB138#32, 0xBEF26432#32, 0x3B68E834#32, 0xBEC9753F#32, 0x3F0D0B22#32, 0x3D1A9A76#32, 0xBCD600A6#32, 0xBC80D466#32,
      0xBD928D8C#32, 0xBE83A65F#32, 0x3C54B3FB#32, 0x3E102BFA#32, 0x3BF5DF9F#32, 0x3E82BE64#32, 0x3D495D4C#32, 0xBF50B798#32,
      0xBF2C23E2#32, 0xBE725CFB#32, 0xBD554964#32, 0x3CA37ED2#32, 0x3EB0E37A#32, 0x3DF89AC3#32, 0xBE59C786#32, 0xBDD160F0#32,
      0xBDA92133#32, 0xBCEEC02F#32, 0xBEC23EC7#32, 0x3D818BB2#32, 0x3EC5990A#32, 0x3B641030#32, 0xBE60D352#32, 0xBE12C636#32,
      0x3ECCDEC6#32, 0xBEE17632#32, 0x3E1DB10D#32, 0x3C97C7DE#32, 0x3F05431E#32, 0xBEEDB4FA#32, 0xBF2A7875#32, 0x3D3C54B2#32,
      0x3E4A7E5F#32, 0x3E66E73F#32, 0x3EEDC9F8#32, 0xBE9B61AE#32, 0xBDC4B31E#32, 0x3EA08E1E#32, 0x3E13B3F6#32, 0x3F0A422E#32,
      0xBEB0C5FF#32, 0x3CAF4F74#32, 0xBEFF7973#32, 0x3E2DA11A#32, 0xBDF1DBEB#32, 0xBDF5D988#32, 0xBE3DAD63#32, 0xBE366396#32,
      0x3D7BCDD8#32, 0xBE4BBA56#32, 0xBED94D72#32, 0x3F0D1EE6#32, 0xBDE40F8C#32, 0xBE2E7792#32, 0x3DBB9C52#32, 0xBEC737BB#32],
    ![0xBDFE144C#32, 0x3B4299CE#32, 0xBCAFD444#32, 0x3E2FE4BC#32, 0xBEDF2FD7#32, 0x3E7B9ED4#32, 0x3EA3408E#32, 0xBECD643B#32,
      0xBDCD36D8#32, 0x3B5D8AB0#32, 0xBD3DA93C#32, 0xBE6A136C#32, 0x3E666A27#32, 0x3E83C19E#32, 0x3E86EB0A#32, 0x3E2B8407#32,
      0xBEDBD5AB#32, 0x3E9B9A8D#32, 0xBE849D28#32, 0x3E7689BB#32, 0xBE02811F#32, 0xBEAD968E#32, 0xBE76B23A#32, 0xBD63879C#32,
      0x3F0CC1D5#32, 0x3E17607A#32, 0xBEB3C4D7#32, 0x3ED77320#32, 0xBE99B39A#32, 0x3F01F922#32, 0x3D3C9E2F#32, 0x3F36A198#32,
      0x3E082824#32, 0xBE117D60#32, 0xBE5A208E#32, 0x3E0BFF18#32, 0x3EC8F957#32, 0x3DC11B20#32, 0x3DC20F54#32, 0xBE891328#32,
      0xBF1E26A0#32, 0x3E9D0B44#32, 0xBEEB51FC#32, 0xBE95FB2E#32, 0x3EF4220F#32, 0x3F5A69AB#32, 0x3D0BF505#32, 0x3E3AA652#32,
      0xBEF5A076#32, 0x3DE57938#32, 0xBD65C838#32, 0xBEBF3FD0#32, 0xBEE3527C#32, 0xBF0E4BD6#32, 0x3DC7CEA2#32, 0xBCFC562C#32,
      0xBDDEAD80#32, 0xBCC069E8#32, 0x3E55BF5B#32, 0xBDA36F70#32, 0x3E53E2EF#32, 0x3E850EA2#32, 0x3F05799B#32, 0x3E90057A#32,
      0x3F037B9A#32, 0x3E90C00E#32, 0x3E9C7C80#32, 0xBE8765A6#32, 0x3DC7AC68#32, 0xBE79B8D4#32, 0x3DFC4BFA#32, 0xBC98E62C#32,
      0xBE8D5F01#32, 0xBE8318A2#32, 0x3E9135D1#32, 0x3E27837C#32, 0xBDF8DA06#32, 0xBDAC9A2A#32, 0x3E57C092#32, 0xBF473478#32,
      0x3DFD333A#32, 0xBEB1337E#32, 0x3DF8D064#32, 0xBE4FA544#32, 0xBF00E455#32, 0xBEFB77DA#32, 0x3EAC377C#32, 0xBEE53B0A#32,
      0x3EAAF08B#32, 0xBB97A104#32, 0x3ECD0220#32, 0x3F304A5A#32, 0x3E240368#32, 0x3D2A3454#32, 0x3DE3AD14#32, 0x3F27786A#32,
      0xBDFE9073#32, 0xBDC8FE9E#32, 0x3F21A444#32, 0x3DFBC4E8#32, 0x3CDAE2AE#32, 0x3E2B717C#32, 0x3E5E5BFB#32, 0xBE02D24A#32,
      0x3E9A68B6#32, 0x3E8163A2#32, 0xBE2E5FFA#32, 0xBCBCA56F#32, 0x3F0266DE#32, 0x3EECD51E#32, 0x3E34FF9C#32, 0xBE25A7C6#32,
      0x3B107C7E#32, 0x3C56C6F6#32, 0xBE81AFAC#32, 0xBED81628#32, 0x3E8A053C#32, 0xBF62293B#32, 0xBE6F7658#32, 0xBEE85184#32,
      0xBE2935EC#32, 0xBD6D7D87#32, 0xBE6DF91C#32, 0x3F050E7E#32, 0x3EB9059E#32, 0x3E497B08#32, 0xBE34117B#32, 0xBD36DCC3#32],
    ![0xBE98E4BC#32, 0xBF488CC8#32, 0xBE90E6DB#32, 0xBE79C40F#32, 0x3E1B629A#32, 0x3DCFF214#32, 0xBD3A17BB#32, 0x3E65748A#32,
      0xBF037DA6#32, 0xBD210743#32, 0xBEAAF4DF#32, 0xBE21C352#32, 0xBD20C9A2#32, 0xBF4A7D22#32, 0xBE65374C#32, 0x3E993AB1#32,
      0xBE741C93#32, 0x3F525B2B#32, 0xBEE838CC#32, 0xBDA90350#32, 0xBE15F649#32, 0x3F4EFC12#32, 0xBE709B02#32, 0xBE279A63#32,
      0x3D1D7AAA#32, 0xBE9A4D67#32, 0x3E6311DB#32, 0xBE96DC38#32, 0xBE8FA16B#32, 0x3E53FD4F#32, 0x3EA0BA19#32, 0x3C967024#32,
      0x3CD1A68E#32, 0xBF0BE074#32, 0xBEA412CE#32, 0x3D8070C4#32, 0xBE1A6428#32, 0xBD9D6FB4#32, 0x3E99A59C#32, 0xBF25601C#32,
      0xBE9FFF9F#32, 0xBEC6343A#32, 0xBEECB63C#32, 0x3E58BB06#32, 0x3E5B1A57#32, 0xBDE49F78#32, 0xBDCCE026#32, 0xBE8B627D#32,
      0xBD11301C#32, 0xBEA54A54#32, 0x3D390658#32, 0xBEC3CC1B#32, 0xBF0459F7#32, 0x3F007DB4#32, 0x3E8CD5CB#32, 0xBE8241E6#32,
      0x3EC214E7#32, 0x3E307820#32, 0xBE310D22#32, 0x3EB8C8CE#32, 0xBED504E2#32, 0x3EAE504E#32, 0x3EE52C9C#32, 0xBECD04CE#32,
      0x3EC5CC7A#32, 0xBD985CA1#32, 0x3EAA34AC#32, 0x3E076104#32, 0xBEAE2DE2#32, 0xBC941D4A#32, 0x3EFD9118#32, 0xBC614BCC#32,
      0xBEACA2CA#32, 0x3DCAA758#32, 0xBE917C6E#32, 0xBE14E8CB#32, 0xBD506C9C#32, 0x3DAAA44A#32, 0x3EC65037#32, 0xBF1781B5#32,
      0xBE5C92CF#32, 0x3E7DE7B2#32, 0x3DF6E4C2#32, 0xBEC871AC#32, 0x3E2E8E87#32, 0xBE515E1C#32, 0x3E0A69F4#32, 0xBE6E8D6E#32,
      0x3EB681EE#32, 0x3E39CF8C#32, 0x3F48E11A#32, 0xBE65672B#32, 0xBDFD4E73#32, 0xBBCFBEC8#32, 0xBEC6F2A4#32, 0x3E562A7B#32,
      0x3E2D3346#32, 0x3E4B987A#32, 0xBE7B91EE#32, 0x3EF123F3#32, 0x3F194934#32, 0x3E24FF3B#32, 0xBD79F56C#32, 0x3DEF0BBB#32,
      0xBEE92FAA#32, 0x3E54D9C6#32, 0xBE5120B3#32, 0xBD9F1F52#32, 0xBD8E6F81#32, 0xBEAB1C27#32, 0xBE1E1122#32, 0xBE42510E#32,
      0xBDCF0132#32, 0xBE8B3796#32, 0x3E3DDBFF#32, 0x3EF90D9A#32, 0xBE83E08E#32, 0xBE1E0CBF#32, 0x3E234797#32, 0x3E126126#32,
      0x3DD092B3#32, 0xBDBB6F48#32, 0x3E85144C#32, 0x3DF48812#32, 0xBE1909A6#32, 0x3E6D1AB0#32, 0xBF1322D0#32, 0x3D945F45#32],
    ![0x3EBDE3C2#32, 0x3D5AF1B8#32, 0xBF1C19B1#32, 0x3D80F0AA#32, 0xBDAE97D0#32, 0xBF502CD3#32, 0x3E0FFCA0#32, 0x3CF652DC#32,
      0xBECC2727#32, 0x3C4DAF7F#32, 0xBE060EA2#32, 0x3EB24C68#32, 0xBEE9DFC2#32, 0xBD4F8CEE#32, 0xBED376D4#32, 0x3DC2150B#32,
      0xBD01ACF2#32, 0xBDD631BC#32, 0x3D7A285A#32, 0xBE8F094C#32, 0x3D8A76A1#32, 0xBE9A69D8#32, 0x3F29077F#32, 0xBE7BC3AF#32,
      0xBE1174E2#32, 0x3E23FA61#32, 0xBEE542FB#32, 0x3DEEF677#32, 0x3CBDC000#32, 0x3EA495BB#32, 0x3EE62B8E#32, 0x3E4F7FCC#32,
      0x3E4FD47B#32, 0xBEADDAEA#32, 0x3C8F5CFE#32, 0x3AA77DA7#32, 0x3E99ED9C#32, 0x3D99C740#32, 0x3E16707E#32, 0xBE75F132#32,
      0xBC988AF5#32, 0x3D1D100E#32, 0xBF1A288A#32, 0xBD0FBD0A#32, 0x3F0D7642#32, 0x3F1D7AF9#32, 0x3F04BC0D#32, 0x3EA55314#32,
      0x3DC3E4B4#32, 0x3D49B7AF#32, 0x3ED3EA8A#32, 0xBDCAC556#32, 0xBDD1E843#32, 0x3ECFCFDA#32, 0x3EEDDFDC#32, 0xBE972ECB#32,
      0x3E2476BB#32, 0xBE25BB4F#32, 0x3E0497B5#32, 0x3ECB8B93#32, 0x3E0BD3BA#32, 0x3D55029C#32, 0x3E94AA66#32, 0x3DA01346#32,
      0xBDDBAF23#32, 0xBE61C02F#32, 0x3EF1702C#32, 0xBEAA07B7#32, 0x3D313722#32, 0xBE408B4E#32, 0xBE3EA147#32, 0xBE3ACF94#32,
      0xBF2FD0C3#32, 0xBDD544A6#32, 0xBF0C5473#32, 0x3E7720F4#32, 0xBE5287BC#32, 0x3F06F8C6#32, 0x3E5C7838#32, 0xBCAB0124#32,
      0xBCAACDDF#32, 0x3E233912#32, 0xBF160EEE#32, 0x3EDBF72F#32, 0xBE83B988#32, 0xBC9A4754#32, 0x3DDB9C93#32, 0x3E11CA62#32,
      0x3E1189EA#32, 0x3E5FF852#32, 0xBE3A4A08#32, 0x3F1526D7#32, 0x3F10CEB0#32, 0x3E6D6FC4#32, 0xBDC23C38#32, 0xBEA726C3#32,
      0xBF16B35E#32, 0xBF0150C4#32, 0xBDF7E3A3#32, 0x3E2E0292#32, 0x3F073562#32, 0x3F279FFC#32, 0x3E0642E4#32, 0xBED41416#32,
      0x3D941A3E#32, 0xBE84C088#32, 0xBE9C0438#32, 0xBE4FB766#32, 0xBE5955DB#32, 0xBE700610#32, 0x3EF1054B#32, 0xBE223C84#32,
      0xBEAB09BF#32, 0x3D395E93#32, 0x3DB467CB#32, 0x3F27A59A#32, 0x3EFC820E#32, 0x3E1D032C#32, 0x3ED50CB0#32, 0x3F325D4C#32,
      0x3DE0DFB3#32, 0xBDBCAD5A#32, 0x3E3B8AEE#32, 0x3E649ACE#32, 0x3DB4133A#32, 0xBE46638A#32, 0x3E20C1CB#32, 0x3E862366#32],
    ![0xBED02212#32, 0xBE3FECA7#32, 0xBE4099E0#32, 0x3DDAB274#32, 0x3EA380A2#32, 0x3F147598#32, 0xBD9679F8#32, 0xBD9351DA#32,
      0xBE1392FA#32, 0x3E0BF4A5#32, 0x3ED71C9B#32, 0x3F2C5683#32, 0xBE1E3096#32, 0xBE357D34#32, 0x3E81AFDE#32, 0x3EBA5552#32,
      0x3DF4D7CF#32, 0x3E850B98#32, 0x3EE8E02A#32, 0xBE9FD0EA#32, 0xBD8C5BE3#32, 0x3F116DAC#32, 0x3E6E1F6C#32, 0x3F4644F8#32,
      0x3E43B3F4#32, 0x3E895CF0#32, 0xBEC052F0#32, 0x3E9E7FDE#32, 0x3F00728D#32, 0x3E57885E#32, 0xBE82093C#32, 0xBE0ECAD3#32,
      0xBE7C52B8#32, 0xBDAD5036#32, 0x3EEA42E2#32, 0x3B0D4B51#32, 0xBE80759E#32, 0xBE22B0DF#32, 0x3EF4C670#32, 0x3C4A3788#32,
      0x3E86C41E#32, 0xBEBAC21C#32, 0xBE86F40A#32, 0xBF0180AD#32, 0xBE74AEEE#32, 0xBEE69594#32, 0xBCC1A1B7#32, 0xBEFB77E3#32,
      0xBF0B8C43#32, 0xBE1C8647#32, 0x3E8A2D28#32, 0x3D8DDEA5#32, 0xBDE971C0#32, 0xBF25EDB4#32, 0x3DDC4633#32, 0xBD1C4043#32,
      0xBDDD8EEB#32, 0x3F26A23A#32, 0x3E520A8E#32, 0xBE6EDE63#32, 0xBF330F3B#32, 0x3D283BFB#32, 0x3EA37B62#32, 0x3C95CAE0#32,
      0xBDBA9818#32, 0xBD927CEE#32, 0x3EED6334#32, 0xBE43F8FC#32, 0xBF22B09C#32, 0xBE4A7EE3#32, 0xBE6C5012#32, 0xBF261554#32,
      0xBEA2A147#32, 0x3E5503FE#32, 0x3E5762EC#32, 0x3D64840B#32, 0x3EC925CB#32, 0xBF22CC02#32, 0xBDF848A8#32, 0x3E591AC8#32,
      0x3EF1F7E8#32, 0xBE89564E#32, 0xBE4AB0B6#32, 0xBE6F9726#32, 0x3E72260C#32, 0x3EA40EC5#32, 0x3DE5B520#32, 0xBE34BBCF#32,
      0x3E64613F#32, 0x3E6878B7#32, 0x3C885CE8#32, 0x3DCAC3E3#32, 0xBCAD31DC#32, 0x3C9D5A56#32, 0x3E3285B4#32, 0x3E4F4AAB#32,
      0x3E457B18#32, 0x3D8F01FE#32, 0xBDAF1F7B#32, 0x3E6EB87C#32, 0xBE81BEC7#32, 0x3DBE6FA2#32, 0xBEA8D5A0#32, 0x3EF70103#32,
      0x3EA63C26#32, 0x3F280686#32, 0xBEE4EB67#32, 0xBF106647#32, 0xBE857B37#32, 0x3EDB601F#32, 0x3B76F142#32, 0xBECB6978#32,
      0x3EB802CF#32, 0xBEE6DF66#32, 0x3EBA903E#32, 0xBECB12D8#32, 0x3D82FB70#32, 0x3F143740#32, 0x3E11F34A#32, 0xBEEC4BE7#32,
      0xBEE37F80#32, 0xBE70CD28#32, 0x3CCE24E2#32, 0x3DAD2BE3#32, 0x3EBE16DA#32, 0xBE982A68#32, 0xBE6BB242#32, 0x3EB4BD82#32],
    ![0xBC2B708E#32, 0x3EE53C80#32, 0xBF102D52#32, 0xBECD077C#32, 0x3E604324#32, 0xBE8611C2#32, 0xBE0A20B4#32, 0x3E24C954#32,
      0xBE81B988#32, 0x3EA85E18#32, 0x3DDCF653#32, 0xBD2B882C#32, 0x3DA676E9#32, 0x3E06EAFA#32, 0xBE948484#32, 0xBE173EC9#32,
      0xBBF21338#32, 0x3E894D58#32, 0x3DAA95B0#32, 0xBD87E6F8#32, 0xBDF4E660#32, 0xBE9525AD#32, 0xBED379BA#32, 0xBED6BF57#32,
      0x3E56D600#32, 0xBDECA6D4#32, 0x3E85A5C4#32, 0x3E2A8692#32, 0x3E71BE0F#32, 0x3E07822F#32, 0x3E7CB347#32, 0xBE897B18#32,
      0x3D575EAE#32, 0x3E09AB66#32, 0xBF3E8E6F#32, 0xBF136DE8#32, 0xBDAF85EB#32, 0xBED74C2E#32, 0xBE600F8E#32, 0xBE95A7B2#32,
      0x3F094A5A#32, 0x3F23DCE4#32, 0xBF72D1AA#32, 0xBE9066BA#32, 0x3EA22396#32, 0xBF1A4370#32, 0x3F3013E4#32, 0xBE8C8918#32,
      0xBDC74CE6#32, 0x3E7BE3BF#32, 0x3E639D7E#32, 0x3F0B9113#32, 0xBEE28F6C#32, 0x3D72B756#32, 0xB7E08D56#32, 0xBEBA9BF3#32,
      0xBE2FBB6E#32, 0xBE6105B4#32, 0xBCDFD24E#32, 0x3E8E8592#32, 0xBE3A7578#32, 0x3D0F16BD#32, 0x3D9B3D6E#32, 0x3D2CC05F#32,
      0x3E6F1252#32, 0x3ECD75E4#32, 0x3E293576#32, 0xBD8D2408#32, 0x3DA1416D#32, 0xBE11D803#32, 0x3D3371A4#32, 0x3E1448A8#32,
      0xBDFAA427#32, 0xBE55B3DF#32, 0x3E70A22F#32, 0xBDC5B34A#32, 0x3EBDB4DA#32, 0xBEF7B0B6#32, 0xBC0A587E#32, 0xBD71865C#32,
      0xBE23963B#32, 0xBF3269CF#32, 0xBD53D597#32, 0x3E33E9C4#32, 0x3E5103E4#32, 0x3CF953CC#32, 0x3E103632#32, 0x3E2009C6#32,
      0xBF524BFC#32, 0xBEA2F2C2#32, 0x3EC16E3A#32, 0xBE3B03E0#32, 0xBF10416B#32, 0x3F0CF4AA#32, 0x3EB181F4#32, 0x3ED14812#32,
      0x3F3EE6A2#32, 0xBE8E00CC#32, 0xBED21F5B#32, 0x3E320C9E#32, 0xBEAB8B1C#32, 0xBECC8873#32, 0xBD24E569#32, 0xBE491F1E#32,
      0x3EC79A20#32, 0x3EEB3FDF#32, 0xBDFDE817#32, 0xBE25178C#32, 0xBD481502#32, 0x3ECA2B03#32, 0xBEB8EAD3#32, 0xBE14E2BC#32,
      0x3D03CDC2#32, 0xBEA31AE4#32, 0xBD292269#32, 0xBE323BE7#32, 0xBE55C813#32, 0xBF4A4AEB#32, 0x3E2929DC#32, 0x3D86A604#32,
      0x3EF10277#32, 0xBEDA5A98#32, 0x3E7C0FE2#32, 0x3E37E264#32, 0x3D5A7C48#32, 0xBEB5269F#32, 0x3F059A6E#32, 0x3EC7E590#32] ]
noncomputable def arg8 {F : FTy → Type} [FloatOps F] : FVec F (⟨2, ![9, 128]⟩ : Shape) .f32 := fun i => FloatOps.ofBits .f32 (arg8_words (i 0) (i 1))

noncomputable def arg9_words : Fin 128 → BitVec 32 :=
  ![0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32]
noncomputable def arg9 {F : FTy → Type} [FloatOps F] : FVec F (⟨1, ![128]⟩ : Shape) .f32 := fun i => FloatOps.ofBits .f32 (arg9_words (i 0))

noncomputable def arg10_words : Fin 4 → Fin 1 → Fin 128 → BitVec 32 :=
  ![
    ![
      ![0x3DC2D1B6#32, 0xBD3231B5#32, 0x3D402B57#32, 0x3FA11176#32, 0x3F0F69A2#32, 0x3FC78A0D#32, 0xBEC3BD2A#32, 0xBFC18D50#32,
        0x3F8BD453#32, 0xBDE21B37#32, 0x3FE806F8#32, 0x3DD4FA10#32, 0x3FE7DEC3#32, 0xBE2EE7AB#32, 0xC012F93F#32, 0xBF75D3F0#32,
        0xBEF4CA4D#32, 0xBE90510A#32, 0x3E2CF546#32, 0xBF84F40C#32, 0xBF424A92#32, 0xBF1E8AB5#32, 0x3FA95396#32, 0xBF15901E#32,
        0xBE1CB6BE#32, 0xBED57EF8#32, 0xBE89C81C#32, 0xBB925C93#32, 0x3FC6E08A#32, 0x3FB5DEFA#32, 0x3B9A67CA#32, 0xBE81B4F9#32,
        0x3F1A84D3#32, 0xBFB7F30D#32, 0x3F1112E3#32, 0xC019EC39#32, 0x3F373DF6#32, 0x3F47A23E#32, 0xBF9F06C8#32, 0x3F18E4C3#32,
        0x3EBF14A0#32, 0x3CB7457D#32, 0xBF07D7ED#32, 0xBEEB31B9#32, 0xBD2DB26B#32, 0x3D3FAFC2#32, 0x3DFE63E2#32, 0x3E55F1E8#32,
        0x3EFBEC2E#32, 0xBF8DA945#32, 0xBEA9FC7F#32, 0xBFDD710E#32, 0x3F112469#32, 0x3DCDE74A#32, 0xBFBE8AC0#32, 0xBE926DA9#32,
        0xBFC53C2D#32, 0x3F5C53EA#32, 0x3E9A280E#32, 0xBEFBF550#32, 0x3EA295AB#32, 0xC00516B0#32, 0xBFA699ED#32, 0x3FB17A7A#32,
        0x3F234A15#32, 0x3FC37765#32, 0xBE080FEE#32, 0xBF2E60B2#32, 0xBFB0FC6A#32, 0xBEEE1E5F#32, 0x401AB3D9#32, 0xBE0163B5#32,
        0x3FF1E605#32, 0x3F029F59#32, 0x3FBFF68D#32, 0xBE60E302#32, 0xBDB96A51#32, 0x3E9E82DC#32, 0x3EF4F12F#32, 0xBF9A40A7#32,
        0xBF0D01CE#32, 0xBF8DBAC2#32, 0xC024EB67#32, 0xBFAB4CBC#32, 0xC0034B45#32, 0xBF1DAEBD#32, 0xBF5D2436#32, 0x3F170019#32,
        0xBE016377#32, 0xBF5D4847#32, 0x3F6C16AB#32, 0x3FA0F142#32, 0x3EB1105A#32, 0x3F5678D9#32, 0xBF23AFF5#32, 0xBF2CC2E9#32,
        0xBEA3775C#32, 0xBDFBEBB5#32, 0x3FB4D087#32, 0x3F66C9B7#32, 0x3FA7FFC5#32, 0xBF3CD59D#32, 0x3EE5E436#32, 0x4016CE64#32,
        0xBFD74D7D#32, 0x3E74747E#32, 0x3F650854#32, 0x3F5713FD#32, 0x3ECB32D6#32, 0x3F88C164#32, 0xBE3079BF#32, 0xBD7556DF#32,
        0x3F4B58DC#32, 0xBFC9E1FF#32, 0xBE84E36B#32, 0xBEBD9FEC#32, 0xBFE1E072#32, 0xBFE87F6D#32, 0xBF75AB8C#32, 0x40220FD9#32,
        0x3F967BDF#32, 0x3E9B428E#32, 0x3E8A1FA7#32, 0x3FA0CB8E#32, 0x3E8BD26A#32, 0x3F81F34B#32, 0xBE60828E#32, 0xBDE43FC3#32] ],
    ![
      ![0x3E9849F8#32, 0xBF7A77E7#32, 0x3DD509A7#32, 0xBF08A806#32, 0x3EF0C920#32, 0xBF6FB5FE#32, 0x3F7B89C1#32, 0xBF00E470#32,
        0x3FBD7274#32, 0x3EC47DEC#32, 0xBF0723B0#32, 0x3F95C235#32, 0xBF0FB172#32, 0xBF58F370#32, 0xBF2221A8#32, 0xBF248E1D#32,
        0x3EC7F245#32, 0x3F7E6251#32, 0xBF3B02F8#32, 0x3FA25C62#32, 0xBECB9FBC#32, 0xBF2C88FE#32, 0x3ECC4E1A#32, 0x3D2D988B#32,
        0xBFD2E52D#32, 0xBCD909FE#32, 0x3D68E4B1#32, 0x3E8E585C#32, 0x3E9AD495#32, 0x3FDF8FAE#32, 0x3FB35D67#32, 0x4017CE4B#32,
        0xBEFCF4FE#32, 0x3F0BCEED#32, 0xBFC93336#32, 0x3E95F491#32, 0xBF68CC21#32, 0xBC312A3F#32, 0x3F3DE82D#32, 0x400AF1C1#32,
        0xBF7F9FC5#32, 0x3EEF2688#32, 0xBD22A761#32, 0x3F57C72E#32, 0xC00B591D#32, 0xBF6B0F5E#32, 0xBEE50E39#32, 0xBF87B000#32,
        0x3F55502A#32, 0x3CD9870E#32, 0x3F9A295C#32, 0xBFE39287#32, 0xBF750CF4#32, 0xBEE84F6A#32, 0x3EB7A7C0#32, 0x3B73C669#32,
        0xBF223A18#32, 0xC01D07EF#32, 0x3EB9441C#32, 0xBF45B9B5#32, 0x3E68BA89#32, 0x3F4F76C3#32, 0xBDA0C36E#32, 0x3F40F591#32,
        0x3E8BE6AA#32, 0x3EDA0D8D#32, 0x3F783807#32, 0x3F1B9224#32, 0xBEADD9FB#32, 0x3FBA4780#32, 0xBF0F9CEE#32, 0xBDAA009E#32,
        0xBF801971#32, 0x3FBB407B#32, 0x3E87918A#32, 0xBD1E5298#32, 0x3F85F239#32, 0x3F498861#32, 0xBC982894#32, 0xBFB5A5AC#32,
        0x3EC310B0#32, 0xBF864629#32, 0xBEFA5D3C#32, 0xBFE9DD02#32, 0xBDA28C46#32, 0xBFE72A97#32, 0xBE94BF4C#32, 0xBF191230#32,
        0x3E9E9A08#32, 0xBFC4D60B#32, 0xBFB0AAA6#32, 0xBF737085#32, 0x3F48970B#32, 0x3E6BB09F#32, 0x3F9D40CB#32, 0xBF1497FA#32,
        0x3F9F1B2D#32, 0x3EA6FB0A#32, 0xBCB1E7D7#32, 0x3F104E63#32, 0xBF169C51#32, 0x3F95F667#32, 0x3F7D2C05#32, 0x3F51FBC5#32,
        0x3FF8EF27#32, 0x3FABC04F#32, 0x3E5C1134#32, 0xBF45B424#32, 0xBD5F8E84#32, 0xBF865504#32, 0x3F7F1FFC#32, 0x3F7F2927#32,
        0xBE5BDAD1#32, 0xBEDF8F40#32, 0xBF0FCF7A#32, 0x3F9F765A#32, 0x3F9F586F#32, 0x3F3B5B87#32, 0xBF9BA999#32, 0xBED17693#32,
        0xBF61337B#32, 0x3F29CAF5#32, 0x3EF090A8#32, 0x3F0997A8#32, 0xBE9BB19A#32, 0x3E2BC6F7#32, 0x3EB9AAC9#32, 0x3E0CC3C2#32] ],
    ![
      ![0x3D79CE41#32, 0xBEE9282B#32, 0xBCB6EB8B#32, 0x3F895A5E#32, 0x3DCDEE10#32, 0x3F5F108C#32, 0xBE1D3737#32, 0x3FD8BBFA#32,
        0x3F1777A4#32, 0x3F0C750E#32, 0xBFE31B7C#32, 0x3DCEBB8D#32, 0xBD1AA40A#32, 0xBF6B0137#32, 0x4002B387#32, 0x3F1F3CA6#32,
        0x3FA2BB34#32, 0x3F3D622C#32, 0x3E32F04F#32, 0x3FF43428#32, 0x3FCE0AA8#32, 0xC014FE7B#32, 0x3EC5C6D7#32, 0xBDA8EF15#32,
        0xBEC6100C#32, 0x3F816F88#32, 0x3F83EFDA#32, 0xBF640306#32, 0x3F4467CD#32, 0xBF6B64A4#32, 0xBFF73C63#32, 0x3F64BA08#32,
        0xBFB8A913#32, 0x3F856C94#32, 0x3FD7ED7B#32, 0x3F496BE5#32, 0x3FA77E50#32, 0x3EDFC9A7#32, 0x3F09858E#32, 0x3F8AD49F#32,
        0x3C848D3C#32, 0xBF1BFF02#32, 0xBFFA3446#32, 0x3F868990#32, 0xBE131718#32, 0x3FAE0373#32, 0xBF27455A#32, 0x3DD1A6C5#32,
        0xBF2419AC#32, 0xBF91CEAB#32, 0xBF3466A5#32, 0xBFFB8123#32, 0xBECFD85D#32, 0xBE968BD7#32, 0xBF8EA0CA#32, 0x3F8AA764#32,
        0xBFD2E715#32, 0xBEB2D25E#32, 0x4019C993#32, 0xBEF7CD02#32, 0x3EB6E81E#32, 0xBED62812#32, 0x3EB15EDC#32, 0xBF788424#32,
        0x3F6571F2#32, 0xBF4892DB#32, 0x3F3F956B#32, 0x3F365139#32, 0xBF349F52#32, 0xBF9C9D78#32, 0x3FF3BD28#32, 0x3D038722#32,
        0x3F9DCF99#32, 0x3F7144E4#32, 0x3E0E55AA#32, 0x3F54C074#32, 0xBF1AB800#32, 0xBF7BBDB6#32, 0xBE624B84#32, 0x3F1AB071#32,
        0x3E1A12F4#32, 0x3E95E0E7#32, 0x3F1A9758#32, 0xBBEEE9A4#32, 0x3E39D60E#32, 0x3CF6D7C9#32, 0xBF3DAF82#32, 0xBD3DCBED#32,
        0xBF05E85F#32, 0xBE89B140#32, 0x3F9B52B6#32, 0x3D8B51D3#32, 0x3EB04A3C#32, 0xBF2539A9#32, 0x3ED63426#32, 0xBEC16F9C#32,
        0x4018E138#32, 0xBFA71ABC#32, 0x3F91163D#32, 0xBF90E027#32, 0xBDD2C7B0#32, 0x3DE66519#32, 0x3E382E3A#32, 0x3F69D36C#32,
        0x402A54B1#32, 0xBFAF038B#32, 0x40298A09#32, 0x3FEA7C73#32, 0xBEB3818A#32, 0xBDC6BD25#32, 0xBF1A808A#32, 0x3F8F77D4#32,
        0x3D69D83A#32, 0x3F8E7E7B#32, 0x3DCC1472#32, 0x3E33E525#32, 0xBF1B8EA5#32, 0x3F96B902#32, 0xBF8D48B2#32, 0x401D181A#32,
        0xBDDC8BEF#32, 0xBE93A97D#32, 0x3F0EA744#32, 0x3F957EF7#32, 0xBF8C7532#32, 0xBFAEC465#32, 0xBE9DD885#32, 0x3FD4249D#32] ],
    ![
      ![0xBE9F678F#32, 0x3FB79F92#32, 0xBF1F4264#32, 0xBF1E6764#32, 0xBEE96342#32, 0x3F7ED328#32, 0x3FC69FC8#32, 0xBFA74552#32,
        0x3DD644B1#32, 0xBD22A57E#32, 0xBFCE93BD#32, 0xBCDE35F9#32, 0x4013EF9A#32, 0xBE60BA91#32, 0x3E75651B#32, 0x4006D55A#32,
        0xBF4F8851#32, 0xBDEA044D#32, 0x3E8BFA8B#32, 0xBE81594B#32, 0x3E11D586#32, 0xBE629BC9#32, 0xBC9C861B#32, 0x3F868393#32,
        0x3FD3F78B#32, 0xBFA7CEE5#32, 0xBF8F4505#32, 0xBEB28A5A#32, 0x3F5E66D8#32, 0x3F1270F3#32, 0x3F86EDEC#32, 0x3FAA516F#32,
        0xBEFCCCB0#32, 0x3FB0CF7E#32, 0xBEF55710#32, 0xBF695050#32, 0x3F3B2262#32, 0x3D6ADDA9#32, 0xBEF7DBE5#32, 0x3F9A3E0E#32,
        0x3FB758F5#32, 0xBEE1741D#32, 0x3F4F20AD#32, 0x3F035DE3#32, 0xBD7E5F76#32, 0xBF7AEB1B#32, 0x3F2A8F7A#32, 0x3F855081#32,
        0x3FCF4BA2#32, 0xBF814AF9#32, 0xBFD619C2#32, 0xBD325C5C#32, 0x3F8972D8#32, 0x3D5EA355#32, 0xBE432FB7#32, 0x3FD7938A#32,
        0x3DCD385B#32, 0xC0211C1E#32, 0xBE8C499C#32, 0x3EFF6B7F#32, 0x3EF0D683#32, 0xC0197400#32, 0xBE39D4E7#32, 0x3FB52B34#32,
        0x3C67C3AC#32, 0xBF8F8607#32, 0xBE5037C3#32, 0xBFD162FE#32, 0x3F7B4CFA#32, 0xBFFE643B#32, 0x3F546EB4#32, 0xBF63CC13#32,
        0x3D0968DC#32, 0x3FA851A0#32, 0xBF9D7355#32, 0x3F9FA2EB#32, 0x3EFA19F3#32, 0xBF7E28C4#32, 0x3E34A2CD#32, 0xBEC27562#32,
        0x3EEA6515#32, 0x3F46D960#32, 0x40283DC6#32, 0xBF089298#32, 0x3EE573B1#32, 0xBFB09F82#32, 0x3E6E53D6#32, 0xBF45A851#32,
        0xBF708BAD#32, 0xBEFF0905#32, 0x3F07C24C#32, 0xBFB9451F#32, 0x3C602F5B#32, 0x3F3D4C6A#32, 0x3F27E585#32, 0x3D316E29#32,
        0xBF836CC0#32, 0xBEFD74DD#32, 0x3FBCB785#32, 0xBE8A9207#32, 0xBF87DD10#32, 0x3F114506#32, 0xBCA1198D#32, 0x3FCF99FC#32,
        0x3FE0C28C#32, 0x3E59255C#32, 0xBE9D80A2#32, 0xBEABF4A5#32, 0x3EF76996#32, 0xBF1B0B15#32, 0xBF36EA58#32, 0x3E9E155F#32,
        0xBFB812F1#32, 0xBF769AE0#32, 0x3EDA2F9A#32, 0xBFF39FC0#32, 0xBEA516EC#32, 0x3F1FDF8D#32, 0xBFBF2449#32, 0xBF70C9F2#32,
        0xBFAC9F0D#32, 0x3FD7A176#32, 0xBF7B5A30#32, 0xBE094465#32, 0xBF0E593D#32, 0xBF985841#32, 0xBEC8D7CF#32, 0xBF24ECA8#32] ] ]
noncomputable def arg10 {F : FTy → Type} [FloatOps F] : FVec F (⟨3, ![4, 1, 128]⟩ : Shape) .f32 := fun i => FloatOps.ofBits .f32 (arg10_words (i 0) (i 1) (i 2))

noncomputable def arg11_words : Fin 4 → Fin 128 → BitVec 32 :=
  ![
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32] ]
noncomputable def arg11 {F : FTy → Type} [FloatOps F] : FVec F (⟨2, ![4, 128]⟩ : Shape) .f32 := fun i => FloatOps.ofBits .f32 (arg11_words (i 0) (i 1))

noncomputable def arg12_words : Fin 4 → Fin 128 → Fin 1 → BitVec 32 :=
  ![
    ![
      ![0xBD3A060A#32],
      ![0xBB42FD2E#32],
      ![0x3DEBA824#32],
      ![0xBCA74039#32],
      ![0xBE10291C#32],
      ![0xBB76DE20#32],
      ![0x3D1ACE06#32],
      ![0x3C462C3B#32],
      ![0xBDA9AB4E#32],
      ![0xBBAC833F#32],
      ![0x3C824BBA#32],
      ![0x3E15899C#32],
      ![0xBD5BC93D#32],
      ![0x3D3F43F9#32],
      ![0xBCD5C5DC#32],
      ![0xBD9C3B42#32],
      ![0xBBB4BCD7#32],
      ![0xBDB6708A#32],
      ![0xBCAFDB38#32],
      ![0xBDAAC7FC#32],
      ![0xBD061525#32],
      ![0x3DBBD444#32],
      ![0xBDA7C236#32],
      ![0x3C9F12AA#32],
      ![0x3DB041BA#32],
      ![0x3DCBBD38#32],
      ![0x3E13E201#32],
      ![0x3D1EE3F9#32],
      ![0xBC213355#32],
      ![0xBD8F31E9#32],
      ![0xBE0D2558#32],
      ![0x3DEAABF5#32],
      ![0x3E2ACAC9#32],
      ![0xBD37A3DF#32],
      ![0xBDC37877#32],
      ![0x3D85D33A#32],
      ![0xBD28E1D0#32],
      ![0x3E2146B6#32],
      ![0x3C17CCE6#32],
      ![0xBDACDACB#32],
      ![0x3D0CCD08#32],
      ![0x3C1B4EB1#32],
      ![0x3D7EECBF#32],
      ![0xBDA89F6E#32],
      ![0xBDC45BE1#32],
      ![0x3D68DB0E#32],
      ![0x3C06DDC1#32],
      ![0x3C65210F#32],
      ![0x3CB187BC#32],
      ![0x3DAC2976#32],
      ![0x3E15E644#32],
      ![0xBD29A7F5#32],
      ![0x3DC61E09#32],
      ![0x3D84D139#32],
      ![0x3D881980#32],
      ![0xBCD9B952#32],
      ![0xBCA76C07#32],
      ![0xBD80A8AA#32],
      ![0x3D70E253#32],
      ![0xBE176317#32],
      ![0xBE1ADA53#32],
      ![0x3C63A7A0#32],
      ![0x3DC08318#32],
      ![0x3D782FEA#32],
      ![0xBCDBA05A#32],
      ![0x3C010726#32],
      ![0xBC6EB3BA#32],
      ![0x3E0C2EF5#32],
      ![0x3DC284DA#32],
      ![0x3D6F6ACA#32],
      ![0xBCA0CCA9#32],
      ![0x3D7FD798#32],
      ![0x3E0AAC12#32],
      ![0xBCF1BC85#32],
      ![0xBC8F22AB#32],
      ![0xBD3B5E0D#32],
      ![0x3E0E04F7#32],
      ![0xBD2DF444#32],
      ![0xB9D82ADC#32],
      ![0xBC72B2D8#32],
      ![0x3E1F7AE2#32],
      ![0xBCBD1712#32],
      ![0xBD9B8A70#32],
      ![0xBD8DAB89#32],
      ![0x3DD83378#32],
      ![0xBDB066A6#32],
      ![0xBC888792#32],
      ![0xBDD954AB#32],
      ![0xBD13CBB0#32],
      ![0xBE14C535#32],
      ![0x3D85F2A6#32],
      ![0x3E17102D#32],
      ![0x3D4DCDF6#32],
      ![0xBDD27026#32],
      ![0x3D5AD84C#32],
      ![0xBD99422B#32],
      ![0x3D25DE0C#32],
      ![0x3E3F71A3#32],
      ![0xBC9415A2#32],
      ![0x3DE5F0D5#32],
      ![0x3E3CE82A#32],
      ![0x3CC704BF#32],
      ![0xBB62CB07#32],
      ![0x3E210C13#32],
      ![0x3D5E44E0#32],
      ![0xBD0D71F5#32],
      ![0x3D9F1EDE#32],
      ![0xBDCB9021#32],
      ![0x3DBDE304#32],
      ![0x3D0ACDA9#32],
      ![0x3DC437AB#32],
      ![0xBE084CF1#32],
      ![0x3D17C5C5#32],
      ![0x3D071167#32],
      ![0xBE0F3CFE#32],
      ![0xBC72225E#32],
      ![0xBC66109D#32],
      ![0x3D727AED#32],
      ![0xBD427117#32],
      ![0xBE1FF6B9#32],
      ![0x3E031171#32],
      ![0xBE0E1F96#32],
      ![0x3E0895B9#32],
      ![0xBDA4E167#32],
      ![0x3DC409CB#32],
      ![0xBCB4AE19#32],
      ![0x3C8E270C#32],
      ![0x3E6531B7#32] ],
    ![
      ![0xBDB05B0A#32],
      ![0x3E205DB9#32],
      ![0xBE06E500#32],
      ![0xBDB0BB15#32],
      ![0x3DA06234#32],
      ![0xBDA464E4#32],
      ![0xBD64B5EF#32],
      ![0x3D3E848D#32],
      ![0x3BB03CE4#32],
      ![0xBDAF2671#32],
      ![0xBD9618FE#32],
      ![0x3D432B6E#32],
      ![0x3DC20D22#32],
      ![0x3D212020#32],
      ![0xBD2838FB#32],
      ![0x3E09EB6A#32],
      ![0x3CD4F975#32],
      ![0xBDD32FD5#32],
      ![0x3CFD4845#32],
      ![0x3E638113#32],
      ![0x3DB2EFA8#32],
      ![0x3C112848#32],
      ![0xBD461CB7#32],
      ![0x3B9BD2DD#32],
      ![0x3DE8013C#32],
      ![0xBDEDDB97#32],
      ![0x3E1E53B0#32],
      ![0x3D9930F2#32],
      ![0x3D07AEB9#32],
      ![0xBD96CE64#32],
      ![0xBC9A6C9E#32],
      ![0x3D496296#32],
      ![0x3D041A1E#32],
      ![0x3DE39B8F#32],
      ![0xBD51F5C1#32],
      ![0x3C0C5D01#32],
      ![0x3D062B7F#32],
      ![0xBD187E6E#32],
      ![0x3E0D4778#32],
      ![0x3D336E15#32],
      ![0x3E33D856#32],
      ![0xBDD34FA7#32],
      ![0x3DD05F68#32],
      ![0xBD6670B5#32],
      ![0x3DAE590F#32],
      ![0x3DBBB1D7#32],
      ![0xBDD70C7A#32],
      ![0xBE117DE5#32],
      ![0x3E0C01BE#32],
      ![0xBD8E443C#32],
      ![0xBD4946BD#32],
      ![0xBCF4A74C#32],
      ![0xBBA377D9#32],
      ![0x3D9AD56B#32],
      ![0xBD09F4CF#32],
      ![0x3B4BFFD8#32],
      ![0x3CCA3E91#32],
      ![0xBC945CBB#32],
      ![0xBC7D4797#32],
      ![0x3E34800C#32],
      ![0xBC788545#32],
      ![0x3B86153E#32],
      ![0xBE13EAE2#32],
      ![0x3C83DFFE#32],
      ![0x3D19E920#32],
      ![0x3E0DE490#32],
      ![0x3D98BB38#32],
      ![0xBDC01159#32],
      ![0x3DDDAF4D#32],
      ![0x3CCC2140#32],
      ![0x3E022F9B#32],
      ![0x3B350EAC#32],
      ![0x3D3C6ABE#32],
      ![0xBA7E79A0#32],
      ![0x3E59D3F4#32],
      ![0x3BD0362F#32],
      ![0xBD2D55B0#32],
      ![0xBC9FE7BA#32],
      ![0xBD090A6E#32],
      ![0x3CB1DFC1#32],
      ![0x3D6777DB#32],
      ![0xBD6F174A#32],
      ![0x3D398C03#32],
      ![0x3C0B1D07#32],
      ![0x3DD6328E#32],
      ![0xBDD6E181#32],
      ![0xBCD03B04#32],
      ![0x3C84E5C7#32],
      ![0x3E47BC8F#32],
      ![0x3D28BC31#32],
      ![0xBD2EF687#32],
      ![0x3C8AAE8F#32],
      ![0xBDBF502D#32],
      ![0x3E6CC5A5#32],
      ![0xBC80D9DD#32],
      ![0x3D1C888D#32],
      ![0xBD2B0405#32],
      ![0xBD6C43D0#32],
      ![0x3C5B5CE5#32],
      ![0xBD450AAD#32],
      ![0xBB17DCE9#32],
      ![0x3DFD04FB#32],
      ![0x3E1AAE32#32],
      ![0x3DDE23C9#32],
      ![0x3DBF4656#32],
      ![0x3D591D22#32],
      ![0x3D6EF9ED#32],
      ![0xBDACA4F9#32],
      ![0x3C38AD1F#32],
      ![0xBD63F77E#32],
      ![0x3CA958A6#32],
      ![0xBA8DD566#32],
      ![0xBD3A83ED#32],
      ![0x3E54BD34#32],
      ![0x3D2C81B1#32],
      ![0xBD1EE9DE#32],
      ![0xBD562BD8#32],
      ![0xBE15C3B3#32],
      ![0x3C52C8AA#32],
      ![0x3B552DDF#32],
      ![0x3CC257AE#32],
      ![0x3D5A0B91#32],
      ![0xBDE0ADC0#32],
      ![0xBD4B1AEA#32],
      ![0x3D78A6F6#32],
      ![0xBCF4C536#32],
      ![0x3B9A41EF#32],
      ![0x3B92964A#32] ],
    ![
      ![0x3E1E7DD5#32],
      ![0xBDAA268B#32],
      ![0xBD37DA07#32],
      ![0xBC3B70A8#32],
      ![0xBDB3AB69#32],
      ![0x3DFF6148#32],
      ![0x3DA2AED1#32],
      ![0x3CC02AA2#32],
      ![0x3D4D36BE#32],
      ![0x3DAD37C7#32],
      ![0xBCA708DF#32],
      ![0xBD2E6BEB#32],
      ![0xBDE79353#32],
      ![0xBDDC57B4#32],
      ![0x3DA9075B#32],
      ![0xBCA929E2#32],
      ![0xBE24FDFC#32],
      ![0xBD4BB457#32],
      ![0x3D6152CA#32],
      ![0x3DE16CC9#32],
      ![0x3D9E7AE5#32],
      ![0x3E1F0490#32],
      ![0xBD25B6E9#32],
      ![0xBD1375CC#32],
      ![0x3DA6A406#32],
      ![0x3DD0F032#32],
      ![0x3E2111FC#32],
      ![0xBCC029B0#32],
      ![0x3DA7C7F7#32],
      ![0x3D87C4CD#32],
      ![0xBDA47574#32],
      ![0x3DA579C6#32],
      ![0x3D4A48C4#32],
      ![0xBAFECE73#32],
      ![0x3D05355A#32],
      ![0x3DF065E5#32],
      ![0x3D683A05#32],
      ![0xBE1DD07D#32],
      ![0xBDC2D042#32],
      ![0x3E7EB764#32],
      ![0x3DF21449#32],
      ![0xBCDAF14A#32],
      ![0x3D85BDCB#32],
      ![0x3C78FACF#32],
      ![0xBDA8BC06#32],
      ![0xBCC10409#32],
      ![0xBDA73BA8#32],
      ![0x3BCFE7FE#32],
      ![0x3B1CD3FD#32],
      ![0x3C58881C#32],
      ![0x3DBE7DA1#32],
      ![0x3C2E9D2A#32],
      ![0x3D886FCB#32],
      ![0xBDBA40CE#32],
      ![0x3DA3D0B4#32],
      ![0x3DB5F5CA#32],
      ![0x3D8E23D2#32],
      ![0x3D221E68#32],
      ![0xBD686CE7#32],
      ![0x3D8437F2#32],
      ![0x3AED1F06#32],
      ![0x3D741B46#32],
      ![0xBE107631#32],
      ![0x3D3B9E41#32],
      ![0x3DCF4FCE#32],
      ![0x3C3514C7#32],
      ![0x3A89EC54#32],
      ![0xBCEBE493#32],
      ![0xBE69E7EE#32],
      ![0x3D225FF0#32],
      ![0xBD6E92B5#32],
      ![0xBDC38FF0#32],
      ![0x3DA25DEC#32],
      ![0xBCFC4BBF#32],
      ![0xBD8FE892#32],
      ![0xBCBC706D#32],
      ![0x3DE27A1F#32],
      ![0xBC0374DB#32],
      ![0x3DE8DC92#32],
      ![0xBD85C647#32],
      ![0x3DE15305#32],
      ![0xBCAEB838#32],
      ![0xBDA6CEA8#32],
      ![0xBD45A59B#32],
      ![0x3E1414CE#32],
      ![0xBD9D9ECF#32],
      ![0x3D535114#32],
      ![0x3DE4D8E7#32],
      ![0x3DA897A2#32],
      ![0x3D4DD8BD#32],
      ![0x3D46A8D9#32],
      ![0x3E0526D6#32],
      ![0xBD8D34DF#32],
      ![0x3E2E674C#32],
      ![0x3DBC1EF0#32],
      ![0x3AF397BC#32],
      ![0xBC34D9A9#32],
      ![0x3DA9D982#32],
      ![0x3DA530AB#32],
      ![0x3DA355C9#32],
      ![0x3E3E91E6#32],
      ![0x3BA49E36#32],
      ![0x3D849119#32],
      ![0x3C5F7042#32],
      ![0x3D02C153#32],
      ![0xBDD274BF#32],
      ![0xBB50700A#32],
      ![0x3D07BA6D#32],
      ![0xBE051CF2#32],
      ![0xBCF03AA9#32],
      ![0xBDD60624#32],
      ![0xBDB10D6E#32],
      ![0xBD18E9FC#32],
      ![0x3DC060FD#32],
      ![0x3D0D2435#32],
      ![0x3DF1A27D#32],
      ![0xBDBDB0B2#32],
      ![0xBDBC598A#32],
      ![0xBCCFC217#32],
      ![0x3D398CEE#32],
      ![0xBE99E15B#32],
      ![0x3D6E79A5#32],
      ![0x3DF44E73#32],
      ![0xBDF694A7#32],
      ![0x3BB848EC#32],
      ![0xBE0B615D#32],
      ![0xBDCFD786#32],
      ![0xBE199245#32] ],
    ![
      ![0x3E1D1D59#32],
      ![0xBDD5512A#32],
      ![0x3E0336B3#32],
      ![0xBDE3AC66#32],
      ![0xBE0EA85D#32],
      ![0x3DBAD906#32],
      ![0x3D8AC7B6#32],
      ![0xBB103462#32],
      ![0x3C93D0F3#32],
      ![0x3D3BC7BA#32],
      ![0xBD0387E3#32],
      ![0xBD55305E#32],
      ![0x3E0013B3#32],
      ![0xBE18A757#32],
      ![0xBE08C8E8#32],
      ![0x3CCEE8F7#32],
      ![0xBD9F3C7D#32],
      ![0xBD8C0435#32],
      ![0x3DFA0365#32],
      ![0xBC74865B#32],
      ![0x3D9EFEF6#32],
      ![0xBC4CBA75#32],
      ![0xBD888060#32],
      ![0x3DAF64CF#32],
      ![0x3DC2320C#32],
      ![0xBD34D3B3#32],
      ![0xBD18104D#32],
      ![0xBD44438B#32],
      ![0xBDC1D43C#32],
      ![0x3D42F8D5#32],
      ![0xBE15E5F4#32],
      ![0xBD754864#32],
      ![0xBD281B56#32],
      ![0xBDE1B73C#32],
      ![0x3DCE5F00#32],
      ![0xBD4E50A2#32],
      ![0x3C9F7633#32],
      ![0xBBBCF343#32],
      ![0xBCDECCF7#32],
      ![0x3D922E77#32],
      ![0xBD394897#32],
      ![0x3DFE4B88#32],
      ![0xBC889B97#32],
      ![0xBD20CAF7#32],
      ![0x3D69220E#32],
      ![0x3C8DBDB0#32],
      ![0xBD930856#32],
      ![0x3D296252#32],
      ![0x3DB968D6#32],
      ![0x3D8AF228#32],
      ![0xBD8B3296#32],
      ![0xBDA94C16#32],
      ![0xBCCAE50F#32],
      ![0x3DA99081#32],
      ![0xBD2898DC#32],
      ![0xBCC0DCC8#32],
      ![0xBC93AD76#32],
      ![0xBE0362E0#32],
      ![0xBD1F9D59#32],
      ![0x3E0E0016#32],
      ![0x3DA28A24#32],
      ![0xBDD8DD5E#32],
      ![0x3C22210C#32],
      ![0xBCE11765#32],
      ![0xBDCD413E#32],
      ![0xBDBFE273#32],
      ![0x3DDED2F4#32],
      ![0x3E082DFB#32],
      ![0x3DBF7CF2#32],
      ![0xBD99B72C#32],
      ![0x3B5FDC0E#32],
      ![0xBB5A239A#32],
      ![0x3BC15390#32],
      ![0xBD2791FE#32],
      ![0xBCB87CB5#32],
      ![0x3D5B4DCC#32],
      ![0x3CE0BA6C#32],
      ![0x3DCD7C30#32],
      ![0x3DB16BE7#32],
      ![0x3D15264F#32],
      ![0xBD46B87A#32],
      ![0xBCB6F614#32],
      ![0x3E0CD27B#32],
      ![0x3C222AC0#32],
      ![0x3CA3D323#32],
      ![0x3E3502A7#32],
      ![0xBCEA2144#32],
      ![0xBD39E318#32],
      ![0xBD2F12D9#32],
      ![0x3D5BC0EC#32],
      ![0xBDA2FEB4#32],
      ![0xBDA784E5#32],
      ![0x3E26913D#32],
      ![0x3D61A555#32],
      ![0xBDE4F4E3#32],
      ![0x3DCF51CE#32],
      ![0xBBAF0AE9#32],
      ![0xBE0B006A#32],
      ![0xBE1135C7#32],
      ![0x399AD492#32],
      ![0x3CB2B32C#32],
      ![0x3E04355C#32],
      ![0xBD29C4FC#32],
      ![0x3DA51BF7#32],
      ![0xBE3CECB7#32],
      ![0xBD3D71EF#32],
      ![0x3D8720A1#32],
      ![0xBD9A5B4B#32],
      ![0xBC698018#32],
      ![0x3D743DD4#32],
      ![0xBD54BA33#32],
      ![0xBCC4B629#32],
      ![0x3C96F0FF#32],
      ![0x3E2E0EE5#32],
      ![0xBCCFAFDA#32],
      ![0x3DE54D60#32],
      ![0xBCB05EA9#32],
      ![0xBD6A7BE8#32],
      ![0x3D185F21#32],
      ![0x3E488F29#32],
      ![0xBC15CDF0#32],
      ![0xBD7FCB19#32],
      ![0x3D7B5A86#32],
      ![0x3D255E61#32],
      ![0xBC572D97#32],
      ![0xBDA4FFB6#32],
      ![0xBDAD634D#32],
      ![0xBE525DDD#32] ] ]
noncomputable def arg12 {F : FTy → Type} [FloatOps F] : FVec F (⟨3, ![4, 128, 1]⟩ : Shape) .f32 := fun i => FloatOps.ofBits .f32 (arg12_words (i 0) (i 1) (i 2))

noncomputable def arg13_words : Fin 4 → Fin 128 → BitVec 32 :=
  ![
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32] ]
noncomputable def arg13 {F : FTy → Type} [FloatOps F] : FVec F (⟨2, ![4, 128]⟩ : Shape) .f32 := fun i => FloatOps.ofBits .f32 (arg13_words (i 0) (i 1))

noncomputable def arg14_words : Fin 128 → Fin 1 → BitVec 32 :=
  ![
    ![0xBDA9B0F9#32],
    ![0xBE2C30E4#32],
    ![0xBC1DC9FE#32],
    ![0xBC888302#32],
    ![0xBDA7AB11#32],
    ![0xBDC1FC67#32],
    ![0x3CF75F65#32],
    ![0x3E6F07E5#32],
    ![0xBB584FCA#32],
    ![0xBE1A77AE#32],
    ![0x3BD68DDC#32],
    ![0x3DD8C601#32],
    ![0xBD9FECDE#32],
    ![0x3D953AC8#32],
    ![0x365C3A34#32],
    ![0x3B01EA90#32],
    ![0x3D843916#32],
    ![0x3E25D401#32],
    ![0x3E08DFD7#32],
    ![0xBCE1C325#32],
    ![0x3D65DD8C#32],
    ![0xBC37FC9D#32],
    ![0x3C4D460B#32],
    ![0x3E088957#32],
    ![0xBE000BD1#32],
    ![0xBDB6BE98#32],
    ![0xBBC7BB33#32],
    ![0x3D40F837#32],
    ![0x3D6C152B#32],
    ![0x3D86CE67#32],
    ![0xBD61C487#32],
    ![0x3D14D581#32],
    ![0xBD9B62E5#32],
    ![0x3D30162B#32],
    ![0x39A11356#32],
    ![0xBC69ACC2#32],
    ![0x3D8A98B5#32],
    ![0x3C6384BD#32],
    ![0x3ADC55C2#32],
    ![0x3E4C1E3F#32],
    ![0x3D18A8F9#32],
    ![0xBCA4304F#32],
    ![0xBD95AD7A#32],
    ![0x3D7C6279#32],
    ![0x3D195066#32],
    ![0xBD16BD79#32],
    ![0xBC8D8D71#32],
    ![0x3CE6579E#32],
    ![0xBCB261C8#32],
    ![0xBCC5CBED#32],
    ![0xBD0862DE#32],
    ![0xBD9AF5E1#32],
    ![0x3D0321E3#32],
    ![0xBDFAF561#32],
    ![0x3DF563B4#32],
    ![0xBB805443#32],
    ![0x3D476730#32],
    ![0x3D9A444D#32],
    ![0xBD0F6A84#32],
    ![0xBE304F9C#32],
    ![0x3A04B37A#32],
    ![0x3E0DF41F#32],
    ![0xBCF047C5#32],
    ![0x3CD42810#32],
    ![0xBA905FF1#32],
    ![0xBD3C4F34#32],
    ![0x3E0C3BC1#32],
    ![0x3CD00DF6#32],
    ![0xBCA8BDDA#32],
    ![0xBDCD5427#32],
    ![0x3D6417A1#32],
    ![0x3E1249F4#32],
    ![0xBD17BC22#32],
    ![0xBE48FA07#32],
    ![0x3DE5F15D#32],
    ![0x3C59CA89#32],
    ![0x3DCE7A67#32],
    ![0x3DF885F1#32],
    ![0x3C01D8CD#32],
    ![0xBE3525AA#32],
    ![0x3CD14927#32],
    ![0x3DB38CF3#32],
    ![0xBD7F5718#32],
    ![0x3DB49C74#32],
    ![0x3D653DDB#32],
    ![0x3D3947A1#32],
    ![0x3D259682#32],
    ![0x3E138E3B#32],
    ![0x3DABA15A#32],
    ![0x3E084F0B#32],
    ![0xBD32DA12#32],
    ![0x3E595E38#32],
    ![0x3D440DA6#32],
    ![0xBDB35A6C#32],
    ![0xBBD618AB#32],
    ![0x3B936261#32],
    ![0x3B098FDF#32],
    ![0x3DD55B8D#32],
    ![0x3E4D0904#32],
    ![0xBE0D4620#32],
    ![0x3D779E9D#32],
    ![0xBDCD292E#32],
    ![0x3C581D5B#32],
    ![0xBBED735B#32],
    ![0xBD24AE35#32],
    ![0xBD961A93#32],
    ![0x3E2A52D4#32],
    ![0x3DE3904D#32],
    ![0x3DCAA67F#32],
    ![0x3E260578#32],
    ![0x3DEF2195#32],
    ![0x3D174742#32],
    ![0xBD840592#32],
    ![0xBDC6EC9D#32],
    ![0x3CDEC81F#32],
    ![0x3DD0C14C#32],
    ![0xBD6C25CD#32],
    ![0xBD88BC27#32],
    ![0xBCEFD0FA#32],
    ![0xBD43AF9A#32],
    ![0xBDEDDCD6#32],
    ![0x3C5A8CB5#32],
    ![0x3C9699B6#32],
    ![0xBDFB5237#32],
    ![0x3C6F76F4#32],
    ![0x3DEA050D#32],
    ![0xBC7E19B8#32],
    ![0xBDB6139A#32] ]
noncomputable def arg14 {F : FTy → Type} [FloatOps F] : FVec F (⟨2, ![128, 1]⟩ : Shape) .f32 := fun i => FloatOps.ofBits .f32 (arg14_words (i 0) (i 1))

noncomputable def arg15_words : Fin 128 → Fin 9 → BitVec 32 :=
  ![
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32],
    ![0x00000000#32, 0x00000000#32, 0x00000000#32, 0x00000000#32, 0x00000000#32, 0x00000000#32, 0x00000000#32, 0x00000000#32,
      0x00000000#32] ]
noncomputable def arg15 {F : FTy → Type} [FloatOps F] : FVec F (⟨2, ![128, 9]⟩ : Shape) .f32 := fun i => FloatOps.ofBits .f32 (arg15_words (i 0) (i 1))

noncomputable def arg16_words : Fin 9 → BitVec 32 :=
  ![0x00000000#32, 0x00000000#32, 0x00000000#32, 0x00000000#32, 0x00000000#32, 0x00000000#32, 0x00000000#32, 0x00000000#32,
    0x00000000#32]
noncomputable def arg16 {F : FTy → Type} [FloatOps F] : FVec F (⟨1, ![9]⟩ : Shape) .f32 := fun i => FloatOps.ofBits .f32 (arg16_words (i 0))
-- ==== Post_is_positive.lean ====
abbrev S128 : Shape := ⟨1, ![128]⟩
abbrev S10000x3 : Shape := ⟨2, ![10000, 3]⟩
abbrev S10000x118 : Shape := ⟨2, ![10000, 118]⟩
abbrev S128x3x3 : Shape := ⟨3, ![128, 3, 3]⟩
abbrev S10000 : Shape := ⟨1, ![10000]⟩
abbrev S2x160000 : Shape := ⟨2, ![2, 160000]⟩
abbrev S118x128 : Shape := ⟨2, ![118, 128]⟩
abbrev S64x128 : Shape := ⟨2, ![64, 128]⟩
abbrev S9x128 : Shape := ⟨2, ![9, 128]⟩
abbrev S4x128x128 : Shape := ⟨3, ![4, 128, 128]⟩
abbrev S4x1x128 : Shape := ⟨3, ![4, 1, 128]⟩
abbrev S4x128 : Shape := ⟨2, ![4, 128]⟩
abbrev S4x128x1 : Shape := ⟨3, ![4, 128, 1]⟩
abbrev S4x256x128 : Shape := ⟨3, ![4, 256, 128]⟩
abbrev S128x1 : Shape := ⟨2, ![128, 1]⟩
abbrev S128x9 : Shape := ⟨2, ![128, 9]⟩
abbrev S9 : Shape := ⟨1, ![9]⟩
abbrev S_ : Shape := ⟨0, ![]⟩

class Facts : Prop where

variable [Facts]

def fn {F : FTy → Type} [FloatOps F] (main_arg0 : FVec F S128 .f32) (main_arg1 : FVec F S10000x3 .f32) (main_arg2 : FVec F S10000x118 .f32) (main_arg3 : FVec F S128x3x3 .f32) (main_arg4 : IVec S10000 32) (main_arg5 : IVec S2x160000 32) (main_arg6 : FVec F S118x128 .f32) (main_arg7 : FVec F S128 .f32) (main_arg8 : FVec F S64x128 .f32) (main_arg9 : FVec F S128 .f32) (main_arg10 : FVec F S9x128 .f32) (main_arg11 : FVec F S128 .f32) (main_arg12 : FVec F S4x128x128 .f32) (main_arg13 : FVec F S4x128x128 .f32) (main_arg14 : FVec F S4x1x128 .f32) (main_arg15 : FVec F S4x128 .f32) (main_arg16 : FVec F S4x128x1 .f32) (main_arg17 : FVec F S4x256x128 .f32) (main_arg18 : FVec F S4x128 .f32) (main_arg19 : FVec F S128x1 .f32) (main_arg20 : FVec F S128x9 .f32) (main_arg21 : FVec F S9 .f32) (main_arg22 : FVec F S_ .f32) : IVec S_ 1 :=
  let main_cst : FVec F S_ .f32 := constant S_ .f32 0x00000000#32
  let main_v0 : IVec S_ 1 := cmpf .ogt main_arg22 main_cst
  main_v0
-- ==== Post_is_zero.lean ====
abbrev S128 : Shape := ⟨1, ![128]⟩
abbrev S10000x3 : Shape := ⟨2, ![10000, 3]⟩
abbrev S10000x118 : Shape := ⟨2, ![10000, 118]⟩
abbrev S128x3x3 : Shape := ⟨3, ![128, 3, 3]⟩
abbrev S10000 : Shape := ⟨1, ![10000]⟩
abbrev S2x160000 : Shape := ⟨2, ![2, 160000]⟩
abbrev S118x128 : Shape := ⟨2, ![118, 128]⟩
abbrev S64x128 : Shape := ⟨2, ![64, 128]⟩
abbrev S9x128 : Shape := ⟨2, ![9, 128]⟩
abbrev S4x128x128 : Shape := ⟨3, ![4, 128, 128]⟩
abbrev S4x1x128 : Shape := ⟨3, ![4, 1, 128]⟩
abbrev S4x128 : Shape := ⟨2, ![4, 128]⟩
abbrev S4x128x1 : Shape := ⟨3, ![4, 128, 1]⟩
abbrev S4x256x128 : Shape := ⟨3, ![4, 256, 128]⟩
abbrev S128x1 : Shape := ⟨2, ![128, 1]⟩
abbrev S128x9 : Shape := ⟨2, ![128, 9]⟩
abbrev S9 : Shape := ⟨1, ![9]⟩
abbrev S_ : Shape := ⟨0, ![]⟩

class Facts : Prop where

variable [Facts]

def fn {F : FTy → Type} [FloatOps F] (main_arg0 : FVec F S128 .f32) (main_arg1 : FVec F S10000x3 .f32) (main_arg2 : FVec F S10000x118 .f32) (main_arg3 : FVec F S128x3x3 .f32) (main_arg4 : IVec S10000 32) (main_arg5 : IVec S2x160000 32) (main_arg6 : FVec F S118x128 .f32) (main_arg7 : FVec F S128 .f32) (main_arg8 : FVec F S64x128 .f32) (main_arg9 : FVec F S128 .f32) (main_arg10 : FVec F S9x128 .f32) (main_arg11 : FVec F S128 .f32) (main_arg12 : FVec F S4x128x128 .f32) (main_arg13 : FVec F S4x128x128 .f32) (main_arg14 : FVec F S4x1x128 .f32) (main_arg15 : FVec F S4x128 .f32) (main_arg16 : FVec F S4x128x1 .f32) (main_arg17 : FVec F S4x256x128 .f32) (main_arg18 : FVec F S4x128 .f32) (main_arg19 : FVec F S128x1 .f32) (main_arg20 : FVec F S128x9 .f32) (main_arg21 : FVec F S9 .f32) (main_arg22 : FVec F S_ .f32) : IVec S_ 1 :=
  let main_cst : FVec F S_ .f32 := constant S_ .f32 0x00000000#32
  let main_v0 : IVec S_ 1 := cmpf .oeq main_arg22 main_cst
  main_v0
-- ==== Pre_no_readout.lean ====
abbrev S128 : Shape := ⟨1, ![128]⟩
abbrev S10000x3 : Shape := ⟨2, ![10000, 3]⟩
abbrev S10000x118 : Shape := ⟨2, ![10000, 118]⟩
abbrev S128x3x3 : Shape := ⟨3, ![128, 3, 3]⟩
abbrev S10000 : Shape := ⟨1, ![10000]⟩
abbrev S2x160000 : Shape := ⟨2, ![2, 160000]⟩
abbrev S118x128 : Shape := ⟨2, ![118, 128]⟩
abbrev S64x128 : Shape := ⟨2, ![64, 128]⟩
abbrev S9x128 : Shape := ⟨2, ![9, 128]⟩
abbrev S4x128x128 : Shape := ⟨3, ![4, 128, 128]⟩
abbrev S4x1x128 : Shape := ⟨3, ![4, 1, 128]⟩
abbrev S4x128 : Shape := ⟨2, ![4, 128]⟩
abbrev S4x128x1 : Shape := ⟨3, ![4, 128, 1]⟩
abbrev S4x256x128 : Shape := ⟨3, ![4, 256, 128]⟩
abbrev S128x1 : Shape := ⟨2, ![128, 1]⟩
abbrev S128x9 : Shape := ⟨2, ![128, 9]⟩
abbrev S9 : Shape := ⟨1, ![9]⟩
abbrev S_ : Shape := ⟨0, ![]⟩

class Facts : Prop where
  bcast_S_S128x9 : S_.BroadcastsInDim S128x9 (![] : Fin 0 → Fin S128x9.rank)

variable [Facts]

def fn {F : FTy → Type} [FloatOps F] (main_arg0 : FVec F S128 .f32) (main_arg1 : FVec F S10000x3 .f32) (main_arg2 : FVec F S10000x118 .f32) (main_arg3 : FVec F S128x3x3 .f32) (main_arg4 : IVec S10000 32) (main_arg5 : IVec S2x160000 32) (main_arg6 : FVec F S118x128 .f32) (main_arg7 : FVec F S128 .f32) (main_arg8 : FVec F S64x128 .f32) (main_arg9 : FVec F S128 .f32) (main_arg10 : FVec F S9x128 .f32) (main_arg11 : FVec F S128 .f32) (main_arg12 : FVec F S4x128x128 .f32) (main_arg13 : FVec F S4x128x128 .f32) (main_arg14 : FVec F S4x1x128 .f32) (main_arg15 : FVec F S4x128 .f32) (main_arg16 : FVec F S4x128x1 .f32) (main_arg17 : FVec F S4x256x128 .f32) (main_arg18 : FVec F S4x128 .f32) (main_arg19 : FVec F S128x1 .f32) (main_arg20 : FVec F S128x9 .f32) (main_arg21 : FVec F S9 .f32) : IVec S128x9 1 :=
  let main_cst : FVec F S_ .f32 := constant S_ .f32 0x00000000#32
  let main_v0 : FVec F S128x9 .f32 := broadcastInDim S128x9 ![] bcast_S_S128x9 main_cst
  let main_v1 : IVec S128x9 1 := cmpf .oeq main_arg20 main_v0
  main_v1
-- ==== Kernel.lean ====
abbrev S128 : Shape := ⟨1, ![128]⟩
abbrev S10000x3 : Shape := ⟨2, ![10000, 3]⟩
abbrev S10000x118 : Shape := ⟨2, ![10000, 118]⟩
abbrev S128x3x3 : Shape := ⟨3, ![128, 3, 3]⟩
abbrev S10000 : Shape := ⟨1, ![10000]⟩
abbrev S2x160000 : Shape := ⟨2, ![2, 160000]⟩
abbrev S118x128 : Shape := ⟨2, ![118, 128]⟩
abbrev S64x128 : Shape := ⟨2, ![64, 128]⟩
abbrev S9x128 : Shape := ⟨2, ![9, 128]⟩
abbrev S4x128x128 : Shape := ⟨3, ![4, 128, 128]⟩
abbrev S4x1x128 : Shape := ⟨3, ![4, 1, 128]⟩
abbrev S4x128 : Shape := ⟨2, ![4, 128]⟩
abbrev S4x128x1 : Shape := ⟨3, ![4, 128, 1]⟩
abbrev S4x256x128 : Shape := ⟨3, ![4, 256, 128]⟩
abbrev S128x1 : Shape := ⟨2, ![128, 1]⟩
abbrev S128x9 : Shape := ⟨2, ![128, 9]⟩
abbrev S9 : Shape := ⟨1, ![9]⟩
abbrev S1x1 : Shape := ⟨2, ![1, 1]⟩
abbrev S_ : Shape := ⟨0, ![]⟩

abbrev nBuf : Space → Nat
  | .hbm => 24
  | .vmem => 1
  | .smem => 0
  | _ => 0

abbrev bufTy : (tb : Table) → Fin (tcTables nBuf tb) → BufTy
  | .hbm, ⟨0, _⟩ => ⟨S128, .f32⟩
  | .hbm, ⟨1, _⟩ => ⟨S10000x3, .f32⟩
  | .hbm, ⟨2, _⟩ => ⟨S10000x118, .f32⟩
  | .hbm, ⟨3, _⟩ => ⟨S128x3x3, .f32⟩
  | .hbm, ⟨4, _⟩ => ⟨S10000, .i32⟩
  | .hbm, ⟨5, _⟩ => ⟨S2x160000, .i32⟩
  | .hbm, ⟨6, _⟩ => ⟨S118x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S9x128, .f32⟩
  | .hbm, ⟨11, _⟩ => ⟨S128, .f32⟩
  | .hbm, ⟨12, _⟩ => ⟨S4x128x128, .f32⟩
  | .hbm, ⟨13, _⟩ => ⟨S4x128x128, .f32⟩
  | .hbm, ⟨14, _⟩ => ⟨S4x1x128, .f32⟩
  | .hbm, ⟨15, _⟩ => ⟨S4x128, .f32⟩
  | .hbm, ⟨16, _⟩ => ⟨S4x128x1, .f32⟩
  | .hbm, ⟨17, _⟩ => ⟨S4x256x128, .f32⟩
  | .hbm, ⟨18, _⟩ => ⟨S4x128, .f32⟩
  | .hbm, ⟨19, _⟩ => ⟨S128x1, .f32⟩
  | .hbm, ⟨20, _⟩ => ⟨S128x9, .f32⟩
  | .hbm, ⟨21, _⟩ => ⟨S9, .f32⟩
  | .hbm, ⟨22, _⟩ => ⟨S1x1, .f32⟩
  | .hbm, ⟨23, _⟩ => ⟨S_, .f32⟩
  | .local _ .vmem, ⟨0, _⟩ => ⟨S1x1, .f32⟩
  | _, _ => ⟨S128, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128 : Shape := ⟨1, ![128]⟩
abbrev S10000x3 : Shape := ⟨2, ![10000, 3]⟩
abbrev S10000x118 : Shape := ⟨2, ![10000, 118]⟩
abbrev S128x3x3 : Shape := ⟨3, ![128, 3, 3]⟩
abbrev S10000 : Shape := ⟨1, ![10000]⟩
abbrev S2x160000 : Shape := ⟨2, ![2, 160000]⟩
abbrev S118x128 : Shape := ⟨2, ![118, 128]⟩
abbrev S64x128 : Shape := ⟨2, ![64, 128]⟩
abbrev S9x128 : Shape := ⟨2, ![9, 128]⟩
abbrev S4x128x128 : Shape := ⟨3, ![4, 128, 128]⟩
abbrev S4x1x128 : Shape := ⟨3, ![4, 1, 128]⟩
abbrev S4x128 : Shape := ⟨2, ![4, 128]⟩
abbrev S4x128x1 : Shape := ⟨3, ![4, 128, 1]⟩
abbrev S4x256x128 : Shape := ⟨3, ![4, 256, 128]⟩
abbrev S128x1 : Shape := ⟨2, ![128, 1]⟩
abbrev S128x9 : Shape := ⟨2, ![128, 9]⟩
abbrev S9 : Shape := ⟨1, ![9]⟩
abbrev S1x160000 : Shape := ⟨2, ![1, 160000]⟩
abbrev S160000 : Shape := ⟨1, ![160000]⟩
abbrev S_ : Shape := ⟨0, ![]⟩
abbrev S10000x1 : Shape := ⟨2, ![10000, 1]⟩
abbrev S128x1x1 : Shape := ⟨3, ![128, 1, 1]⟩
abbrev S128x3 : Shape := ⟨2, ![128, 3]⟩
abbrev S32 : Shape := ⟨1, ![32]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S1x128 : Shape := ⟨2, ![1, 128]⟩
abbrev S10000x128 : Shape := ⟨2, ![10000, 128]⟩
abbrev S1x128x128 : Shape := ⟨3, ![1, 128, 128]⟩
abbrev S160000x1 : Shape := ⟨2, ![160000, 1]⟩
abbrev S160000x3 : Shape := ⟨2, ![160000, 3]⟩
abbrev S160000x128 : Shape := ⟨2, ![160000, 128]⟩
abbrev S1x1x128 : Shape := ⟨3, ![1, 1, 128]⟩
abbrev S10000x256 : Shape := ⟨2, ![10000, 256]⟩
abbrev S1x256x128 : Shape := ⟨3, ![1, 256, 128]⟩
abbrev S256x128 : Shape := ⟨2, ![256, 128]⟩
abbrev S1x128x1 : Shape := ⟨3, ![1, 128, 1]⟩
abbrev S1x9 : Shape := ⟨2, ![1, 9]⟩

abbrev nBuf : Space → Nat
  | .hbm => 753
  | .vmem => 0
  | .smem => 0
  | _ => 0

abbrev hbmTy0_0 (i : Nat) : BufTy := match i % 128 with
  | 0 => ⟨S128, .f32⟩
  | 1 => ⟨S10000x3, .f32⟩
  | 2 => ⟨S10000x118, .f32⟩
  | 3 => ⟨S128x3x3, .f32⟩
  | 4 => ⟨S10000, .i32⟩
  | 5 => ⟨S2x160000, .i32⟩
  | 6 => ⟨S118x128, .f32⟩
  | 7 => ⟨S128, .f32⟩
  | 8 => ⟨S64x128, .f32⟩
  | 9 => ⟨S128, .f32⟩
  | 10 => ⟨S9x128, .f32⟩
  | 11 => ⟨S128, .f32⟩
  | 12 => ⟨S4x128x128, .f32⟩
  | 13 => ⟨S4x128x128, .f32⟩
  | 14 => ⟨S4x1x128, .f32⟩
  | 15 => ⟨S4x128, .f32⟩
  | 16 => ⟨S4x128x1, .f32⟩
  | 17 => ⟨S4x256x128, .f32⟩
  | 18 => ⟨S4x128, .f32⟩
  | 19 => ⟨S128x1, .f32⟩
  | 20 => ⟨S128x9, .f32⟩
  | 21 => ⟨S9, .f32⟩
  | 22 => ⟨S128x3x3, .f32⟩
  | 23 => ⟨S10000x3, .f32⟩
  | 24 => ⟨S10000x3, .f32⟩
  | 25 => ⟨S1x160000, .i32⟩
  | 26 => ⟨S160000, .i32⟩
  | 27 => ⟨S1x160000, .i32⟩
  | 28 => ⟨S160000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S10000, .f32⟩
  | 38 => ⟨S128, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S128, .f32⟩
  | 54 => ⟨S128x1x1, .f32⟩
  | 55 => ⟨S128x3x3, .f32⟩
  | 56 => ⟨S128x3x3, .f32⟩
  | 57 => ⟨S_, .f32⟩
  | 58 => ⟨S128, .f32⟩
  | 59 => ⟨S128, .f32⟩
  | 60 => ⟨S128, .f32⟩
  | 61 => ⟨S128x1x1, .f32⟩
  | 62 => ⟨S128x3x3, .f32⟩
  | 63 => ⟨S128x3x3, .f32⟩
  | 64 => ⟨S128x3x3, .f32⟩
  | 65 => ⟨S_, .f32⟩
  | 66 => ⟨S10000, .f32⟩
  | 67 => ⟨S10000, .f32⟩
  | 68 => ⟨S10000, .f32⟩
  | 69 => ⟨S10000, .f32⟩
  | 70 => ⟨S_, .f32⟩
  | 71 => ⟨S10000, .f32⟩
  | 72 => ⟨S10000, .f32⟩
  | 73 => ⟨S_, .f32⟩
  | 74 => ⟨S10000, .f32⟩
  | 75 => ⟨S10000, .f32⟩
  | 76 => ⟨S10000, .f32⟩
  | 77 => ⟨S_, .f32⟩
  | 78 => ⟨S10000, .f32⟩
  | 79 => ⟨S10000, .f32⟩
  | 80 => ⟨S10000, .f32⟩
  | 81 => ⟨S10000x1, .f32⟩
  | 82 => ⟨S10000x3, .f32⟩
  | 83 => ⟨S10000x3, .f32⟩
  | 84 => ⟨S10000x3, .f32⟩
  | 85 => ⟨S10000x1, .f32⟩
  | 86 => ⟨S10000x3, .f32⟩
  | 87 => ⟨S10000x3, .f32⟩
  | 88 => ⟨S_, .f32⟩
  | 89 => ⟨S128x3, .f32⟩
  | 90 => ⟨S10000x1, .i32⟩
  | 91 => ⟨S128x3, .f32⟩
  | 92 => ⟨S_, .f32⟩
  | 93 => ⟨S10000, .f32⟩
  | 94 => ⟨S_, .f32⟩
  | 95 => ⟨S128, .f32⟩
  | 96 => ⟨S10000x1, .i32⟩
  | 97 => ⟨S128, .f32⟩
  | 98 => ⟨S_, .f32⟩
  | 99 => ⟨S128, .f32⟩
  | 100 => ⟨S128, .f32⟩
  | 101 => ⟨S128x1, .f32⟩
  | 102 => ⟨S128x3, .f32⟩
  | 103 => ⟨S128x3, .f32⟩
  | 104 => ⟨S_, .i32⟩
  | 105 => ⟨S10000, .i32⟩
  | 106 => ⟨S10000, .i1⟩
  | 107 => ⟨S_, .i32⟩
  | 108 => ⟨S10000, .i32⟩
  | 109 => ⟨S10000, .i32⟩
  | 110 => ⟨S10000, .i32⟩
  | 111 => ⟨S10000x1, .i32⟩
  | 112 => ⟨S10000x3, .f32⟩
  | 113 => ⟨S10000x3, .f32⟩
  | 114 => ⟨S10000x3, .f32⟩
  | 115 => ⟨S10000x1, .f32⟩
  | 116 => ⟨S10000x3, .f32⟩
  | 117 => ⟨S10000x3, .f32⟩
  | 118 => ⟨S_, .f32⟩
  | 119 => ⟨S128x3, .f32⟩
  | 120 => ⟨S10000x1, .i32⟩
  | 121 => ⟨S128x3, .f32⟩
  | 122 => ⟨S_, .f32⟩
  | 123 => ⟨S10000, .f32⟩
  | 124 => ⟨S_, .f32⟩
  | 125 => ⟨S128, .f32⟩
  | 126 => ⟨S10000x1, .i32⟩
  | 127 => ⟨S128, .f32⟩
  | _ => ⟨S128, .f32⟩

abbrev hbmTy0_1 (i : Nat) : BufTy := match i % 128 with
  | 0 => ⟨S_, .f32⟩
  | 1 => ⟨S128, .f32⟩
  | 2 => ⟨S128, .f32⟩
  | 3 => ⟨S128x1, .f32⟩
  | 4 => ⟨S128x3, .f32⟩
  | 5 => ⟨S128x3, .f32⟩
  | 6 => ⟨S_, .i32⟩
  | 7 => ⟨S10000, .i32⟩
  | 8 => ⟨S10000, .i1⟩
  | 9 => ⟨S_, .i32⟩
  | 10 => ⟨S10000, .i32⟩
  | 11 => ⟨S10000, .i32⟩
  | 12 => ⟨S10000, .i32⟩
  | 13 => ⟨S10000x1, .i32⟩
  | 14 => ⟨S10000x3, .f32⟩
  | 15 => ⟨S10000x3, .f32⟩
  | 16 => ⟨S_, .f32⟩
  | 17 => ⟨S_, .f32⟩
  | 18 => ⟨S_, .f32⟩
  | 19 => ⟨S32, .i32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S128x1, .f32⟩
  | 28 => ⟨S1x32, .f32⟩
  | 29 => ⟨S1x32, .f32⟩
  | 30 => ⟨S128x32, .f32⟩
  | 31 => ⟨S128x32, .f32⟩
  | 32 => ⟨S128x32, .f32⟩
  | 33 => ⟨S128x32, .f32⟩
  | 34 => ⟨S128x32, .f32⟩
  | 35 => ⟨S128x64, .f32⟩
  | 36 => ⟨S128x128, .f32⟩
  | 37 => ⟨S1x128, .f32⟩
  | 38 => ⟨S128x128, .f32⟩
  | 39 => ⟨S128x128, .f32⟩
  | 40 => ⟨S128x9, .f32⟩
  | 41 => ⟨S128x128, .f32⟩
  | 42 => ⟨S1x128, .f32⟩
  | 43 => ⟨S128x128, .f32⟩
  | 44 => ⟨S128x128, .f32⟩
  | 45 => ⟨S10000x128, .f32⟩
  | 46 => ⟨S1x128, .f32⟩
  | 47 => ⟨S10000x128, .f32⟩
  | 48 => ⟨S10000x128, .f32⟩
  | 49 => ⟨S_, .i32⟩
  | 50 => ⟨S10000, .i32⟩
  | 51 => ⟨S10000, .i1⟩
  | 52 => ⟨S_, .i32⟩
  | 53 => ⟨S10000, .i32⟩
  | 54 => ⟨S10000, .i32⟩
  | 55 => ⟨S10000, .i32⟩
  | 56 => ⟨S10000x1, .i32⟩
  | 57 => ⟨S10000x128, .f32⟩
  | 58 => ⟨S10000x128, .f32⟩
  | 59 => ⟨S_, .i32⟩
  | 60 => ⟨S10000, .i32⟩
  | 61 => ⟨S10000, .i1⟩
  | 62 => ⟨S_, .i32⟩
  | 63 => ⟨S10000, .i32⟩
  | 64 => ⟨S10000, .i32⟩
  | 65 => ⟨S10000, .i32⟩
  | 66 => ⟨S10000x1, .i32⟩
  | 67 => ⟨S10000x128, .f32⟩
  | 68 => ⟨S10000x128, .f32⟩
  | 69 => ⟨S1x128x128, .f32⟩
  | 70 => ⟨S128x128, .f32⟩
  | 71 => ⟨S10000x128, .f32⟩
  | 72 => ⟨S1x128x128, .f32⟩
  | 73 => ⟨S128x128, .f32⟩
  | 74 => ⟨S10000x128, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x3, .f32⟩
  | 84 => ⟨S_, .i32⟩
  | 85 => ⟨S160000, .i32⟩
  | 86 => ⟨S160000, .i1⟩
  | 87 => ⟨S_, .i32⟩
  | 88 => ⟨S160000, .i32⟩
  | 89 => ⟨S160000, .i32⟩
  | 90 => ⟨S160000, .i32⟩
  | 91 => ⟨S160000x1, .i32⟩
  | 92 => ⟨S160000x3, .f32⟩
  | 93 => ⟨S160000x3, .f32⟩
  | 94 => ⟨S160000x3, .f32⟩
  | 95 => ⟨S_, .f32⟩
  | 96 => ⟨S160000, .f32⟩
  | 97 => ⟨S160000x1, .f32⟩
  | 98 => ⟨S_, .f32⟩
  | 99 => ⟨S160000x1, .f32⟩
  | 100 => ⟨S160000x1, .f32⟩
  | 101 => ⟨S160000x1, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x128, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x128, .f32⟩
  | 120 => ⟨S160000x128, .f32⟩
  | 121 => ⟨S1x1x128, .f32⟩
  | 122 => ⟨S1x128, .f32⟩
  | 123 => ⟨S160000x128, .f32⟩
  | 124 => ⟨S160000x128, .f32⟩
  | 125 => ⟨S1x128, .f32⟩
  | 126 => ⟨S128, .f32⟩
  | 127 => ⟨S1x128, .f32⟩
  | _ => ⟨S128, .f32⟩

abbrev hbmTy0_2 (i : Nat) : BufTy := match i % 128 with
  | 0 => ⟨S160000x128, .f32⟩
  | 1 => ⟨S160000x128, .f32⟩
  | 2 => ⟨S160000x128, .f32⟩
  | 3 => ⟨S160000x128, .f32⟩
  | 4 => ⟨S_, .f32⟩
  | 5 => ⟨S160000x128, .f32⟩
  | 6 => ⟨S160000x128, .f32⟩
  | 7 => ⟨S_, .f32⟩
  | 8 => ⟨S160000x128, .f32⟩
  | 9 => ⟨S160000x128, .f32⟩
  | 10 => ⟨S160000x128, .f32⟩
  | 11 => ⟨S_, .f32⟩
  | 12 => ⟨S10000x128, .f32⟩
  | 13 => ⟨S160000x1, .i32⟩
  | 14 => ⟨S10000x128, .f32⟩
  | 15 => ⟨S10000x256, .f32⟩
  | 16 => ⟨S1x256x128, .f32⟩
  | 17 => ⟨S256x128, .f32⟩
  | 18 => ⟨S10000x128, .f32⟩
  | 19 => ⟨S1x128, .f32⟩
  | 20 => ⟨S128, .f32⟩
  | 21 => ⟨S1x128, .f32⟩
  | 22 => ⟨S10000x128, .f32⟩
  | 23 => ⟨S10000x128, .f32⟩
  | 24 => ⟨S10000x128, .f32⟩
  | 25 => ⟨S10000x128, .f32⟩
  | 26 => ⟨S_, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S10000x128, .f32⟩
  | 33 => ⟨S10000x128, .f32⟩
  | 34 => ⟨S1x128x1, .f32⟩
  | 35 => ⟨S128x1, .f32⟩
  | 36 => ⟨S160000x1, .f32⟩
  | 37 => ⟨S160000x1, .f32⟩
  | 38 => ⟨S_, .f32⟩
  | 39 => ⟨S160000x1, .f32⟩
  | 40 => ⟨S160000x1, .f32⟩
  | 41 => ⟨S160000x3, .f32⟩
  | 42 => ⟨S160000x3, .f32⟩
  | 43 => ⟨S160000x3, .f32⟩
  | 44 => ⟨S160000x3, .f32⟩
  | 45 => ⟨S_, .f32⟩
  | 46 => ⟨S10000x3, .f32⟩
  | 47 => ⟨S160000x1, .i32⟩
  | 48 => ⟨S10000x3, .f32⟩
  | 49 => ⟨S10000x3, .f32⟩
  | 50 => ⟨S1x128x128, .f32⟩
  | 51 => ⟨S128x128, .f32⟩
  | 52 => ⟨S10000x128, .f32⟩
  | 53 => ⟨S1x128x128, .f32⟩
  | 54 => ⟨S128x128, .f32⟩
  | 55 => ⟨S10000x128, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x3, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x3, .f32⟩
  | 74 => ⟨S160000x3, .f32⟩
  | 75 => ⟨S160000x3, .f32⟩
  | 76 => ⟨S_, .f32⟩
  | 77 => ⟨S160000, .f32⟩
  | 78 => ⟨S160000x1, .f32⟩
  | 79 => ⟨S_, .f32⟩
  | 80 => ⟨S160000x1, .f32⟩
  | 81 => ⟨S160000x1, .f32⟩
  | 82 => ⟨S160000x1, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x128, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x128, .f32⟩
  | 101 => ⟨S160000x128, .f32⟩
  | 102 => ⟨S1x1x128, .f32⟩
  | 103 => ⟨S1x128, .f32⟩
  | 104 => ⟨S160000x128, .f32⟩
  | 105 => ⟨S160000x128, .f32⟩
  | 106 => ⟨S1x128, .f32⟩
  | 107 => ⟨S128, .f32⟩
  | 108 => ⟨S1x128, .f32⟩
  | 109 => ⟨S160000x128, .f32⟩
  | 110 => ⟨S160000x128, .f32⟩
  | 111 => ⟨S160000x128, .f32⟩
  | 112 => ⟨S160000x128, .f32⟩
  | 113 => ⟨S_, .f32⟩
  | 114 => ⟨S160000x128, .f32⟩
  | 115 => ⟨S160000x128, .f32⟩
  | 116 => ⟨S_, .f32⟩
  | 117 => ⟨S160000x128, .f32⟩
  | 118 => ⟨S160000x128, .f32⟩
  | 119 => ⟨S160000x128, .f32⟩
  | 120 => ⟨S_, .f32⟩
  | 121 => ⟨S10000x128, .f32⟩
  | 122 => ⟨S160000x1, .i32⟩
  | 123 => ⟨S10000x128, .f32⟩
  | 124 => ⟨S10000x256, .f32⟩
  | 125 => ⟨S1x256x128, .f32⟩
  | 126 => ⟨S256x128, .f32⟩
  | 127 => ⟨S10000x128, .f32⟩
  | _ => ⟨S128, .f32⟩

abbrev hbmTy0_3 (i : Nat) : BufTy := match i % 128 with
  | 0 => ⟨S1x128, .f32⟩
  | 1 => ⟨S128, .f32⟩
  | 2 => ⟨S1x128, .f32⟩
  | 3 => ⟨S10000x128, .f32⟩
  | 4 => ⟨S10000x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S10000x128, .f32⟩
  | 14 => ⟨S10000x128, .f32⟩
  | 15 => ⟨S1x128x1, .f32⟩
  | 16 => ⟨S128x1, .f32⟩
  | 17 => ⟨S160000x1, .f32⟩
  | 18 => ⟨S160000x1, .f32⟩
  | 19 => ⟨S_, .f32⟩
  | 20 => ⟨S160000x1, .f32⟩
  | 21 => ⟨S160000x1, .f32⟩
  | 22 => ⟨S160000x3, .f32⟩
  | 23 => ⟨S160000x3, .f32⟩
  | 24 => ⟨S160000x3, .f32⟩
  | 25 => ⟨S160000x3, .f32⟩
  | 26 => ⟨S_, .f32⟩
  | 27 => ⟨S10000x3, .f32⟩
  | 28 => ⟨S160000x1, .i32⟩
  | 29 => ⟨S10000x3, .f32⟩
  | 30 => ⟨S10000x3, .f32⟩
  | 31 => ⟨S1x128x128, .f32⟩
  | 32 => ⟨S128x128, .f32⟩
  | 33 => ⟨S10000x128, .f32⟩
  | 34 => ⟨S1x128x128, .f32⟩
  | 35 => ⟨S128x128, .f32⟩
  | 36 => ⟨S10000x128, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x3, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x3, .f32⟩
  | 55 => ⟨S160000x3, .f32⟩
  | 56 => ⟨S160000x3, .f32⟩
  | 57 => ⟨S_, .f32⟩
  | 58 => ⟨S160000, .f32⟩
  | 59 => ⟨S160000x1, .f32⟩
  | 60 => ⟨S_, .f32⟩
  | 61 => ⟨S160000x1, .f32⟩
  | 62 => ⟨S160000x1, .f32⟩
  | 63 => ⟨S160000x1, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x128, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x128, .f32⟩
  | 82 => ⟨S160000x128, .f32⟩
  | 83 => ⟨S1x1x128, .f32⟩
  | 84 => ⟨S1x128, .f32⟩
  | 85 => ⟨S160000x128, .f32⟩
  | 86 => ⟨S160000x128, .f32⟩
  | 87 => ⟨S1x128, .f32⟩
  | 88 => ⟨S128, .f32⟩
  | 89 => ⟨S1x128, .f32⟩
  | 90 => ⟨S160000x128, .f32⟩
  | 91 => ⟨S160000x128, .f32⟩
  | 92 => ⟨S160000x128, .f32⟩
  | 93 => ⟨S160000x128, .f32⟩
  | 94 => ⟨S_, .f32⟩
  | 95 => ⟨S160000x128, .f32⟩
  | 96 => ⟨S160000x128, .f32⟩
  | 97 => ⟨S_, .f32⟩
  | 98 => ⟨S160000x128, .f32⟩
  | 99 => ⟨S160000x128, .f32⟩
  | 100 => ⟨S160000x128, .f32⟩
  | 101 => ⟨S_, .f32⟩
  | 102 => ⟨S10000x128, .f32⟩
  | 103 => ⟨S160000x1, .i32⟩
  | 104 => ⟨S10000x128, .f32⟩
  | 105 => ⟨S10000x256, .f32⟩
  | 106 => ⟨S1x256x128, .f32⟩
  | 107 => ⟨S256x128, .f32⟩
  | 108 => ⟨S10000x128, .f32⟩
  | 109 => ⟨S1x128, .f32⟩
  | 110 => ⟨S128, .f32⟩
  | 111 => ⟨S1x128, .f32⟩
  | 112 => ⟨S10000x128, .f32⟩
  | 113 => ⟨S10000x128, .f32⟩
  | 114 => ⟨S10000x128, .f32⟩
  | 115 => ⟨S10000x128, .f32⟩
  | 116 => ⟨S_, .f32⟩
  | 117 => ⟨S10000x128, .f32⟩
  | 118 => ⟨S10000x128, .f32⟩
  | 119 => ⟨S_, .f32⟩
  | 120 => ⟨S10000x128, .f32⟩
  | 121 => ⟨S10000x128, .f32⟩
  | 122 => ⟨S10000x128, .f32⟩
  | 123 => ⟨S10000x128, .f32⟩
  | 124 => ⟨S1x128x1, .f32⟩
  | 125 => ⟨S128x1, .f32⟩
  | 126 => ⟨S160000x1, .f32⟩
  | 127 => ⟨S160000x1, .f32⟩
  | _ => ⟨S128, .f32⟩

abbrev hbmTy0_4 (i : Nat) : BufTy := match i % 128 with
  | 0 => ⟨S_, .f32⟩
  | 1 => ⟨S160000x1, .f32⟩
  | 2 => ⟨S160000x1, .f32⟩
  | 3 => ⟨S160000x3, .f32⟩
  | 4 => ⟨S160000x3, .f32⟩
  | 5 => ⟨S160000x3, .f32⟩
  | 6 => ⟨S160000x3, .f32⟩
  | 7 => ⟨S_, .f32⟩
  | 8 => ⟨S10000x3, .f32⟩
  | 9 => ⟨S160000x1, .i32⟩
  | 10 => ⟨S10000x3, .f32⟩
  | 11 => ⟨S10000x3, .f32⟩
  | 12 => ⟨S1x128x128, .f32⟩
  | 13 => ⟨S128x128, .f32⟩
  | 14 => ⟨S10000x128, .f32⟩
  | 15 => ⟨S1x128x128, .f32⟩
  | 16 => ⟨S128x128, .f32⟩
  | 17 => ⟨S10000x128, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x3, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x3, .f32⟩
  | 36 => ⟨S160000x3, .f32⟩
  | 37 => ⟨S160000x3, .f32⟩
  | 38 => ⟨S_, .f32⟩
  | 39 => ⟨S160000, .f32⟩
  | 40 => ⟨S160000x1, .f32⟩
  | 41 => ⟨S_, .f32⟩
  | 42 => ⟨S160000x1, .f32⟩
  | 43 => ⟨S160000x1, .f32⟩
  | 44 => ⟨S160000x1, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x128, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x128, .f32⟩
  | 63 => ⟨S160000x128, .f32⟩
  | 64 => ⟨S1x1x128, .f32⟩
  | 65 => ⟨S1x128, .f32⟩
  | 66 => ⟨S160000x128, .f32⟩
  | 67 => ⟨S160000x128, .f32⟩
  | 68 => ⟨S1x128, .f32⟩
  | 69 => ⟨S128, .f32⟩
  | 70 => ⟨S1x128, .f32⟩
  | 71 => ⟨S160000x128, .f32⟩
  | 72 => ⟨S160000x128, .f32⟩
  | 73 => ⟨S160000x128, .f32⟩
  | 74 => ⟨S160000x128, .f32⟩
  | 75 => ⟨S_, .f32⟩
  | 76 => ⟨S160000x128, .f32⟩
  | 77 => ⟨S160000x128, .f32⟩
  | 78 => ⟨S_, .f32⟩
  | 79 => ⟨S160000x128, .f32⟩
  | 80 => ⟨S160000x128, .f32⟩
  | 81 => ⟨S160000x128, .f32⟩
  | 82 => ⟨S_, .f32⟩
  | 83 => ⟨S10000x128, .f32⟩
  | 84 => ⟨S160000x1, .i32⟩
  | 85 => ⟨S10000x128, .f32⟩
  | 86 => ⟨S10000x256, .f32⟩
  | 87 => ⟨S1x256x128, .f32⟩
  | 88 => ⟨S256x128, .f32⟩
  | 89 => ⟨S10000x128, .f32⟩
  | 90 => ⟨S1x128, .f32⟩
  | 91 => ⟨S128, .f32⟩
  | 92 => ⟨S1x128, .f32⟩
  | 93 => ⟨S10000x128, .f32⟩
  | 94 => ⟨S10000x128, .f32⟩
  | 95 => ⟨S10000x128, .f32⟩
  | 96 => ⟨S10000x128, .f32⟩
  | 97 => ⟨S_, .f32⟩
  | 98 => ⟨S10000x128, .f32⟩
  | 99 => ⟨S10000x128, .f32⟩
  | 100 => ⟨S_, .f32⟩
  | 101 => ⟨S10000x128, .f32⟩
  | 102 => ⟨S10000x128, .f32⟩
  | 103 => ⟨S10000x128, .f32⟩
  | 104 => ⟨S10000x128, .f32⟩
  | 105 => ⟨S1x128x1, .f32⟩
  | 106 => ⟨S128x1, .f32⟩
  | 107 => ⟨S160000x1, .f32⟩
  | 108 => ⟨S160000x1, .f32⟩
  | 109 => ⟨S_, .f32⟩
  | 110 => ⟨S160000x1, .f32⟩
  | 111 => ⟨S160000x1, .f32⟩
  | 112 => ⟨S160000x3, .f32⟩
  | 113 => ⟨S160000x3, .f32⟩
  | 114 => ⟨S160000x3, .f32⟩
  | 115 => ⟨S160000x3, .f32⟩
  | 116 => ⟨S_, .f32⟩
  | 117 => ⟨S10000x3, .f32⟩
  | 118 => ⟨S160000x1, .i32⟩
  | 119 => ⟨S10000x3, .f32⟩
  | 120 => ⟨S10000x3, .f32⟩
  | 121 => ⟨S10000x1, .f32⟩
  | 122 => ⟨S10000x3, .f32⟩
  | 123 => ⟨S10000x3, .f32⟩
  | 124 => ⟨S10000x3, .f32⟩
  | 125 => ⟨S_, .f32⟩
  | 126 => ⟨S128x128, .f32⟩
  | 127 => ⟨S10000x1, .i32⟩
  | _ => ⟨S128, .f32⟩

abbrev hbmTy0_5 (i : Nat) : BufTy := match i % 128 with
  | 0 => ⟨S128x128, .f32⟩
  | 1 => ⟨S_, .f32⟩
  | 2 => ⟨S10000, .f32⟩
  | 3 => ⟨S_, .f32⟩
  | 4 => ⟨S128, .f32⟩
  | 5 => ⟨S10000x1, .i32⟩
  | 6 => ⟨S128, .f32⟩
  | 7 => ⟨S_, .f32⟩
  | 8 => ⟨S128, .f32⟩
  | 9 => ⟨S128, .f32⟩
  | 10 => ⟨S128x1, .f32⟩
  | 11 => ⟨S128x128, .f32⟩
  | 12 => ⟨S128x128, .f32⟩
  | 13 => ⟨S128x9, .f32⟩
  | 14 => ⟨S1x9, .f32⟩
  | 15 => ⟨S128x9, .f32⟩
  | 16 => ⟨S128x9, .f32⟩
  | 17 => ⟨S128x3x3, .f32⟩
  | 18 => ⟨S_, .f32⟩
  | 19 => ⟨S128x3, .f32⟩
  | 20 => ⟨S10000x1, .i32⟩
  | 21 => ⟨S128x3, .f32⟩
  | 22 => ⟨S_, .f32⟩
  | 23 => ⟨S10000, .f32⟩
  | 24 => ⟨S_, .f32⟩
  | 25 => ⟨S128, .f32⟩
  | 26 => ⟨S10000x1, .i32⟩
  | 27 => ⟨S128, .f32⟩
  | 28 => ⟨S_, .f32⟩
  | 29 => ⟨S128, .f32⟩
  | 30 => ⟨S128, .f32⟩
  | 31 => ⟨S128x1, .f32⟩
  | 32 => ⟨S128x3, .f32⟩
  | 33 => ⟨S128x3, .f32⟩
  | 34 => ⟨S_, .i32⟩
  | 35 => ⟨S10000, .i32⟩
  | 36 => ⟨S10000, .i1⟩
  | 37 => ⟨S_, .i32⟩
  | 38 => ⟨S10000, .i32⟩
  | 39 => ⟨S10000, .i32⟩
  | 40 => ⟨S10000, .i32⟩
  | 41 => ⟨S10000x1, .i32⟩
  | 42 => ⟨S10000x3, .f32⟩
  | 43 => ⟨S10000x3, .f32⟩
  | 44 => ⟨S10000, .f32⟩
  | 45 => ⟨S10000, .f32⟩
  | 46 => ⟨S_, .f32⟩
  | 47 => ⟨S10000, .f32⟩
  | 48 => ⟨S10000, .f32⟩
  | 49 => ⟨S10000, .f32⟩
  | 50 => ⟨S10000, .f32⟩
  | 51 => ⟨S_, .f32⟩
  | 52 => ⟨S10000, .f32⟩
  | 53 => ⟨S10000, .f32⟩
  | 54 => ⟨S10000, .f32⟩
  | 55 => ⟨S10000x1, .f32⟩
  | 56 => ⟨S10000x3, .f32⟩
  | 57 => ⟨S10000x3, .f32⟩
  | 58 => ⟨S10000, .f32⟩
  | 59 => ⟨S10000x1, .f32⟩
  | 60 => ⟨S10000x3, .f32⟩
  | 61 => ⟨S10000x3, .f32⟩
  | 62 => ⟨S10000x3, .f32⟩
  | 63 => ⟨S_, .f32⟩
  | 64 => ⟨S128x3, .f32⟩
  | 65 => ⟨S10000x1, .i32⟩
  | 66 => ⟨S128x3, .f32⟩
  | 67 => ⟨S_, .f32⟩
  | 68 => ⟨S10000, .f32⟩
  | 69 => ⟨S_, .f32⟩
  | 70 => ⟨S128, .f32⟩
  | 71 => ⟨S10000x1, .i32⟩
  | 72 => ⟨S128, .f32⟩
  | 73 => ⟨S_, .f32⟩
  | 74 => ⟨S128, .f32⟩
  | 75 => ⟨S128, .f32⟩
  | 76 => ⟨S128x1, .f32⟩
  | 77 => ⟨S128x3, .f32⟩
  | 78 => ⟨S128x3, .f32⟩
  | 79 => ⟨S_, .i32⟩
  | 80 => ⟨S10000, .i32⟩
  | 81 => ⟨S10000, .i1⟩
  | 82 => ⟨S_, .i32⟩
  | 83 => ⟨S10000, .i32⟩
  | 84 => ⟨S10000, .i32⟩
  | 85 => ⟨S10000, .i32⟩
  | 86 => ⟨S10000x1, .i32⟩
  | 87 => ⟨S10000x3, .f32⟩
  | 88 => ⟨S10000x3, .f32⟩
  | 89 => ⟨S128x3x3, .f32⟩
  | 90 => ⟨S128x3x3, .f32⟩
  | 91 => ⟨S128x9, .f32⟩
  | 92 => ⟨S_, .f32⟩
  | 93 => ⟨S128, .f32⟩
  | 94 => ⟨S_, .f32⟩
  | 95 => ⟨S128, .f32⟩
  | 96 => ⟨S128, .f32⟩
  | 97 => ⟨S_, .f32⟩
  | 98 => ⟨S_, .f32⟩
  | 99 => ⟨S_, .f32⟩
  | 100 => ⟨S_, .f32⟩
  | 101 => ⟨S10000x3, .f32⟩
  | 102 => ⟨S10000x3, .f32⟩
  | 103 => ⟨S_, .f32⟩
  | 104 => ⟨S10000, .f32⟩
  | 105 => ⟨S_, .f32⟩
  | 106 => ⟨S10000, .f32⟩
  | 107 => ⟨S10000, .f32⟩
  | 108 => ⟨S_, .f32⟩
  | 109 => ⟨S_, .f32⟩
  | 110 => ⟨S_, .f32⟩
  | 111 => ⟨S_, .f32⟩
  | 112 => ⟨S_, .f32⟩
  | _ => ⟨S128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128, .f32⟩

abbrev bufTy : (tb : Table) → Fin (tcTables nBuf tb) → BufTy
  | .hbm, ⟨i, _⟩ => hbmTy i
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_cst_1 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩
abbrev main_v13 : Ref sig .tc := ⟨.hbm, 41, rfl⟩
abbrev main_cst_4 : Ref sig .tc := ⟨.hbm, 42, rfl⟩
abbrev main_v14 : Ref sig .tc := ⟨.hbm, 43, rfl⟩
abbrev main_v15 : Ref sig .tc := ⟨.hbm, 44, rfl⟩
abbrev main_cst_5 : Ref sig .tc := ⟨.hbm, 45, rfl⟩
abbrev main_v16 : Ref sig .tc := ⟨.hbm, 46, rfl⟩
abbrev main_v17 : Ref sig .tc := ⟨.hbm, 47, rfl⟩
abbrev main_cst_6 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_cst_10 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_13 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_15 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_16 : Ref sig .tc := ⟨.hbm, 104, rfl⟩
abbrev main_v64 : Ref sig .tc := ⟨.hbm, 105, rfl⟩
abbrev main_v65 : Ref sig .tc := ⟨.hbm, 106, rfl⟩
abbrev main_c_17 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_18 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_19 : Ref sig .tc := ⟨.hbm, 122, rfl⟩
abbrev main_v79 : Ref sig .tc := ⟨.hbm, 123, rfl⟩
abbrev main_cst_20 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_21 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_c_23 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_24 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_25 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_26 : Ref sig .tc := ⟨.hbm, 177, rfl⟩
abbrev main_v127 : Ref sig .tc := ⟨.hbm, 178, rfl⟩
abbrev main_v128 : Ref sig .tc := ⟨.hbm, 179, rfl⟩
abbrev main_c_27 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_28 : Ref sig .tc := ⟨.hbm, 187, rfl⟩
abbrev main_v135 : Ref sig .tc := ⟨.hbm, 188, rfl⟩
abbrev main_v136 : Ref sig .tc := ⟨.hbm, 189, rfl⟩
abbrev main_c_29 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_30 : Ref sig .tc := ⟨.hbm, 203, rfl⟩
abbrev main_v149 : Ref sig .tc := ⟨.hbm, 204, rfl⟩
abbrev main_v150 : Ref sig .tc := ⟨.hbm, 205, rfl⟩
abbrev main_c_31 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_c_32 : Ref sig .tc := ⟨.hbm, 212, rfl⟩
abbrev main_v156 : Ref sig .tc := ⟨.hbm, 213, rfl⟩
abbrev main_v157 : Ref sig .tc := ⟨.hbm, 214, rfl⟩
abbrev main_c_33 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_34 : Ref sig .tc := ⟨.hbm, 223, rfl⟩
abbrev main_v165 : Ref sig .tc := ⟨.hbm, 224, rfl⟩
abbrev main_v166 : Ref sig .tc := ⟨.hbm, 225, rfl⟩
abbrev main_cst_35 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_c_36 : Ref sig .tc := ⟨.hbm, 230, rfl⟩
abbrev main_v170 : Ref sig .tc := ⟨.hbm, 231, rfl⟩
abbrev main_v171 : Ref sig .tc := ⟨.hbm, 232, rfl⟩
abbrev main_c_37 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_c_38 : Ref sig .tc := ⟨.hbm, 239, rfl⟩
abbrev main_v177 : Ref sig .tc := ⟨.hbm, 240, rfl⟩
abbrev main_v178 : Ref sig .tc := ⟨.hbm, 241, rfl⟩
abbrev main_c_39 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_call0_v0 : Ref sig .tc := ⟨.hbm, 258, rfl⟩
abbrev main_call0_v1 : Ref sig .tc := ⟨.hbm, 259, rfl⟩
abbrev main_call0_cst : Ref sig .tc := ⟨.hbm, 260, rfl⟩
abbrev main_call0_v2 : Ref sig .tc := ⟨.hbm, 261, rfl⟩
abbrev main_call0_v3 : Ref sig .tc := ⟨.hbm, 262, rfl⟩
abbrev main_call0_cst_0 : Ref sig .tc := ⟨.hbm, 263, rfl⟩
abbrev main_call0_v4 : Ref sig .tc := ⟨.hbm, 264, rfl⟩
abbrev main_call0_v5 : Ref sig .tc := ⟨.hbm, 265, rfl⟩
abbrev main_v194 : Ref sig .tc := ⟨.hbm, 266, rfl⟩
abbrev main_cst_40 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_call1_v0 : Ref sig .tc := ⟨.hbm, 280, rfl⟩
abbrev main_call1_v1 : Ref sig .tc := ⟨.hbm, 281, rfl⟩
abbrev main_call1_cst : Ref sig .tc := ⟨.hbm, 282, rfl⟩
abbrev main_call1_v2 : Ref sig .tc := ⟨.hbm, 283, rfl⟩
abbrev main_call1_v3 : Ref sig .tc := ⟨.hbm, 284, rfl⟩
abbrev main_call1_cst_0 : Ref sig .tc := ⟨.hbm, 285, rfl⟩
abbrev main_call1_v4 : Ref sig .tc := ⟨.hbm, 286, rfl⟩
abbrev main_call1_v5 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_cst_41 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_42 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_c_43 : Ref sig .tc := ⟨.hbm, 312, rfl⟩
abbrev main_v229 : Ref sig .tc := ⟨.hbm, 313, rfl⟩
abbrev main_v230 : Ref sig .tc := ⟨.hbm, 314, rfl⟩
abbrev main_c_44 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_c_45 : Ref sig .tc := ⟨.hbm, 321, rfl⟩
abbrev main_v236 : Ref sig .tc := ⟨.hbm, 322, rfl⟩
abbrev main_v237 : Ref sig .tc := ⟨.hbm, 323, rfl⟩
abbrev main_c_46 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_cst_47 : Ref sig .tc := ⟨.hbm, 332, rfl⟩
abbrev main_v245 : Ref sig .tc := ⟨.hbm, 333, rfl⟩
abbrev main_v246 : Ref sig .tc := ⟨.hbm, 334, rfl⟩
abbrev main_cst_48 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_c_49 : Ref sig .tc := ⟨.hbm, 339, rfl⟩
abbrev main_v250 : Ref sig .tc := ⟨.hbm, 340, rfl⟩
abbrev main_v251 : Ref sig .tc := ⟨.hbm, 341, rfl⟩
abbrev main_c_50 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_c_51 : Ref sig .tc := ⟨.hbm, 348, rfl⟩
abbrev main_v257 : Ref sig .tc := ⟨.hbm, 349, rfl⟩
abbrev main_v258 : Ref sig .tc := ⟨.hbm, 350, rfl⟩
abbrev main_c_52 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_call2_v0 : Ref sig .tc := ⟨.hbm, 367, rfl⟩
abbrev main_call2_v1 : Ref sig .tc := ⟨.hbm, 368, rfl⟩
abbrev main_call2_cst : Ref sig .tc := ⟨.hbm, 369, rfl⟩
abbrev main_call2_v2 : Ref sig .tc := ⟨.hbm, 370, rfl⟩
abbrev main_call2_v3 : Ref sig .tc := ⟨.hbm, 371, rfl⟩
abbrev main_call2_cst_0 : Ref sig .tc := ⟨.hbm, 372, rfl⟩
abbrev main_call2_v4 : Ref sig .tc := ⟨.hbm, 373, rfl⟩
abbrev main_call2_v5 : Ref sig .tc := ⟨.hbm, 374, rfl⟩
abbrev main_v274 : Ref sig .tc := ⟨.hbm, 375, rfl⟩
abbrev main_cst_53 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_call3_v0 : Ref sig .tc := ⟨.hbm, 389, rfl⟩
abbrev main_call3_v1 : Ref sig .tc := ⟨.hbm, 390, rfl⟩
abbrev main_call3_cst : Ref sig .tc := ⟨.hbm, 391, rfl⟩
abbrev main_call3_v2 : Ref sig .tc := ⟨.hbm, 392, rfl⟩
abbrev main_call3_v3 : Ref sig .tc := ⟨.hbm, 393, rfl⟩
abbrev main_call3_cst_0 : Ref sig .tc := ⟨.hbm, 394, rfl⟩
abbrev main_call3_v4 : Ref sig .tc := ⟨.hbm, 395, rfl⟩
abbrev main_call3_v5 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_cst_54 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_cst_55 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_c_56 : Ref sig .tc := ⟨.hbm, 421, rfl⟩
abbrev main_v309 : Ref sig .tc := ⟨.hbm, 422, rfl⟩
abbrev main_v310 : Ref sig .tc := ⟨.hbm, 423, rfl⟩
abbrev main_c_57 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_c_58 : Ref sig .tc := ⟨.hbm, 430, rfl⟩
abbrev main_v316 : Ref sig .tc := ⟨.hbm, 431, rfl⟩
abbrev main_v317 : Ref sig .tc := ⟨.hbm, 432, rfl⟩
abbrev main_c_59 : Ref sig .tc := ⟨.hbm, 433, rfl⟩
abbrev main_v318 : Ref sig .tc := ⟨.hbm, 434, rfl⟩
abbrev main_v319 : Ref sig .tc := ⟨.hbm, 435, rfl⟩
abbrev main_v320 : Ref sig .tc := ⟨.hbm, 436, rfl⟩
abbrev main_v321 : Ref sig .tc := ⟨.hbm, 437, rfl⟩
abbrev main_v322 : Ref sig .tc := ⟨.hbm, 438, rfl⟩
abbrev main_v323 : Ref sig .tc := ⟨.hbm, 439, rfl⟩
abbrev main_v324 : Ref sig .tc := ⟨.hbm, 440, rfl⟩
abbrev main_cst_60 : Ref sig .tc := ⟨.hbm, 441, rfl⟩
abbrev main_v325 : Ref sig .tc := ⟨.hbm, 442, rfl⟩
abbrev main_v326 : Ref sig .tc := ⟨.hbm, 443, rfl⟩
abbrev main_cst_61 : Ref sig .tc := ⟨.hbm, 444, rfl⟩
abbrev main_v327 : Ref sig .tc := ⟨.hbm, 445, rfl⟩
abbrev main_v328 : Ref sig .tc := ⟨.hbm, 446, rfl⟩
abbrev main_v329 : Ref sig .tc := ⟨.hbm, 447, rfl⟩
abbrev main_c_62 : Ref sig .tc := ⟨.hbm, 448, rfl⟩
abbrev main_v330 : Ref sig .tc := ⟨.hbm, 449, rfl⟩
abbrev main_v331 : Ref sig .tc := ⟨.hbm, 450, rfl⟩
abbrev main_c_63 : Ref sig .tc := ⟨.hbm, 451, rfl⟩
abbrev main_v332 : Ref sig .tc := ⟨.hbm, 452, rfl⟩
abbrev main_v333 : Ref sig .tc := ⟨.hbm, 453, rfl⟩
abbrev main_v334 : Ref sig .tc := ⟨.hbm, 454, rfl⟩
abbrev main_v335 : Ref sig .tc := ⟨.hbm, 455, rfl⟩
abbrev main_v336 : Ref sig .tc := ⟨.hbm, 456, rfl⟩
abbrev main_c_64 : Ref sig .tc := ⟨.hbm, 457, rfl⟩
abbrev main_v337 : Ref sig .tc := ⟨.hbm, 458, rfl⟩
abbrev main_v338 : Ref sig .tc := ⟨.hbm, 459, rfl⟩
abbrev main_c_65 : Ref sig .tc := ⟨.hbm, 460, rfl⟩
abbrev main_v339 : Ref sig .tc := ⟨.hbm, 461, rfl⟩
abbrev main_v340 : Ref sig .tc := ⟨.hbm, 462, rfl⟩
abbrev main_v341 : Ref sig .tc := ⟨.hbm, 463, rfl⟩
abbrev main_v342 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_v352 : Ref sig .tc := ⟨.hbm, 474, rfl⟩
abbrev main_v353 : Ref sig .tc := ⟨.hbm, 475, rfl⟩
abbrev main_call4_v0 : Ref sig .tc := ⟨.hbm, 476, rfl⟩
abbrev main_call4_v1 : Ref sig .tc := ⟨.hbm, 477, rfl⟩
abbrev main_call4_cst : Ref sig .tc := ⟨.hbm, 478, rfl⟩
abbrev main_call4_v2 : Ref sig .tc := ⟨.hbm, 479, rfl⟩
abbrev main_call4_v3 : Ref sig .tc := ⟨.hbm, 480, rfl⟩
abbrev main_call4_cst_0 : Ref sig .tc := ⟨.hbm, 481, rfl⟩
abbrev main_call4_v4 : Ref sig .tc := ⟨.hbm, 482, rfl⟩
abbrev main_call4_v5 : Ref sig .tc := ⟨.hbm, 483, rfl⟩
abbrev main_v354 : Ref sig .tc := ⟨.hbm, 484, rfl⟩
abbrev main_cst_66 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_v365 : Ref sig .tc := ⟨.hbm, 496, rfl⟩
abbrev main_v366 : Ref sig .tc := ⟨.hbm, 497, rfl⟩
abbrev main_call5_v0 : Ref sig .tc := ⟨.hbm, 498, rfl⟩
abbrev main_call5_v1 : Ref sig .tc := ⟨.hbm, 499, rfl⟩
abbrev main_call5_cst : Ref sig .tc := ⟨.hbm, 500, rfl⟩
abbrev main_call5_v2 : Ref sig .tc := ⟨.hbm, 501, rfl⟩
abbrev main_call5_v3 : Ref sig .tc := ⟨.hbm, 502, rfl⟩
abbrev main_call5_cst_0 : Ref sig .tc := ⟨.hbm, 503, rfl⟩
abbrev main_call5_v4 : Ref sig .tc := ⟨.hbm, 504, rfl⟩
abbrev main_call5_v5 : Ref sig .tc := ⟨.hbm, 505, rfl⟩
abbrev main_v367 : Ref sig .tc := ⟨.hbm, 506, rfl⟩
abbrev main_v368 : Ref sig .tc := ⟨.hbm, 507, rfl⟩
abbrev main_v369 : Ref sig .tc := ⟨.hbm, 508, rfl⟩
abbrev main_v370 : Ref sig .tc := ⟨.hbm, 509, rfl⟩
abbrev main_v371 : Ref sig .tc := ⟨.hbm, 510, rfl⟩
abbrev main_v372 : Ref sig .tc := ⟨.hbm, 511, rfl⟩
abbrev main_cst_67 : Ref sig .tc := ⟨.hbm, 512, rfl⟩
abbrev main_v373 : Ref sig .tc := ⟨.hbm, 513, rfl⟩
abbrev main_v374 : Ref sig .tc := ⟨.hbm, 514, rfl⟩
abbrev main_v375 : Ref sig .tc := ⟨.hbm, 515, rfl⟩
abbrev main_v376 : Ref sig .tc := ⟨.hbm, 516, rfl⟩
abbrev main_v377 : Ref sig .tc := ⟨.hbm, 517, rfl⟩
abbrev main_v378 : Ref sig .tc := ⟨.hbm, 518, rfl⟩
abbrev main_cst_68 : Ref sig .tc := ⟨.hbm, 519, rfl⟩
abbrev main_v379 : Ref sig .tc := ⟨.hbm, 520, rfl⟩
abbrev main_v380 : Ref sig .tc := ⟨.hbm, 521, rfl⟩
abbrev main_v381 : Ref sig .tc := ⟨.hbm, 522, rfl⟩
abbrev main_v382 : Ref sig .tc := ⟨.hbm, 523, rfl⟩
abbrev main_v383 : Ref sig .tc := ⟨.hbm, 524, rfl⟩
abbrev main_v384 : Ref sig .tc := ⟨.hbm, 525, rfl⟩
abbrev main_v385 : Ref sig .tc := ⟨.hbm, 526, rfl⟩
abbrev main_v386 : Ref sig .tc := ⟨.hbm, 527, rfl⟩
abbrev main_v387 : Ref sig .tc := ⟨.hbm, 528, rfl⟩
abbrev main_v388 : Ref sig .tc := ⟨.hbm, 529, rfl⟩
abbrev main_c_69 : Ref sig .tc := ⟨.hbm, 530, rfl⟩
abbrev main_v389 : Ref sig .tc := ⟨.hbm, 531, rfl⟩
abbrev main_v390 : Ref sig .tc := ⟨.hbm, 532, rfl⟩
abbrev main_c_70 : Ref sig .tc := ⟨.hbm, 533, rfl⟩
abbrev main_v391 : Ref sig .tc := ⟨.hbm, 534, rfl⟩
abbrev main_v392 : Ref sig .tc := ⟨.hbm, 535, rfl⟩
abbrev main_v393 : Ref sig .tc := ⟨.hbm, 536, rfl⟩
abbrev main_v394 : Ref sig .tc := ⟨.hbm, 537, rfl⟩
abbrev main_v395 : Ref sig .tc := ⟨.hbm, 538, rfl⟩
abbrev main_c_71 : Ref sig .tc := ⟨.hbm, 539, rfl⟩
abbrev main_v396 : Ref sig .tc := ⟨.hbm, 540, rfl⟩
abbrev main_v397 : Ref sig .tc := ⟨.hbm, 541, rfl⟩
abbrev main_c_72 : Ref sig .tc := ⟨.hbm, 542, rfl⟩
abbrev main_v398 : Ref sig .tc := ⟨.hbm, 543, rfl⟩
abbrev main_v399 : Ref sig .tc := ⟨.hbm, 544, rfl⟩
abbrev main_v400 : Ref sig .tc := ⟨.hbm, 545, rfl⟩
abbrev main_v401 : Ref sig .tc := ⟨.hbm, 546, rfl⟩
abbrev main_v402 : Ref sig .tc := ⟨.hbm, 547, rfl⟩
abbrev main_v403 : Ref sig .tc := ⟨.hbm, 548, rfl⟩
abbrev main_v404 : Ref sig .tc := ⟨.hbm, 549, rfl⟩
abbrev main_cst_73 : Ref sig .tc := ⟨.hbm, 550, rfl⟩
abbrev main_v405 : Ref sig .tc := ⟨.hbm, 551, rfl⟩
abbrev main_v406 : Ref sig .tc := ⟨.hbm, 552, rfl⟩
abbrev main_cst_74 : Ref sig .tc := ⟨.hbm, 553, rfl⟩
abbrev main_v407 : Ref sig .tc := ⟨.hbm, 554, rfl⟩
abbrev main_v408 : Ref sig .tc := ⟨.hbm, 555, rfl⟩
abbrev main_v409 : Ref sig .tc := ⟨.hbm, 556, rfl⟩
abbrev main_c_75 : Ref sig .tc := ⟨.hbm, 557, rfl⟩
abbrev main_v410 : Ref sig .tc := ⟨.hbm, 558, rfl⟩
abbrev main_v411 : Ref sig .tc := ⟨.hbm, 559, rfl⟩
abbrev main_c_76 : Ref sig .tc := ⟨.hbm, 560, rfl⟩
abbrev main_v412 : Ref sig .tc := ⟨.hbm, 561, rfl⟩
abbrev main_v413 : Ref sig .tc := ⟨.hbm, 562, rfl⟩
abbrev main_v414 : Ref sig .tc := ⟨.hbm, 563, rfl⟩
abbrev main_v415 : Ref sig .tc := ⟨.hbm, 564, rfl⟩
abbrev main_v416 : Ref sig .tc := ⟨.hbm, 565, rfl⟩
abbrev main_c_77 : Ref sig .tc := ⟨.hbm, 566, rfl⟩
abbrev main_v417 : Ref sig .tc := ⟨.hbm, 567, rfl⟩
abbrev main_v418 : Ref sig .tc := ⟨.hbm, 568, rfl⟩
abbrev main_c_78 : Ref sig .tc := ⟨.hbm, 569, rfl⟩
abbrev main_v419 : Ref sig .tc := ⟨.hbm, 570, rfl⟩
abbrev main_v420 : Ref sig .tc := ⟨.hbm, 571, rfl⟩
abbrev main_v421 : Ref sig .tc := ⟨.hbm, 572, rfl⟩
abbrev main_v422 : Ref sig .tc := ⟨.hbm, 573, rfl⟩
abbrev main_v423 : Ref sig .tc := ⟨.hbm, 574, rfl⟩
abbrev main_v424 : Ref sig .tc := ⟨.hbm, 575, rfl⟩
abbrev main_v425 : Ref sig .tc := ⟨.hbm, 576, rfl⟩
abbrev main_v426 : Ref sig .tc := ⟨.hbm, 577, rfl⟩
abbrev main_v427 : Ref sig .tc := ⟨.hbm, 578, rfl⟩
abbrev main_v428 : Ref sig .tc := ⟨.hbm, 579, rfl⟩
abbrev main_v429 : Ref sig .tc := ⟨.hbm, 580, rfl⟩
abbrev main_v430 : Ref sig .tc := ⟨.hbm, 581, rfl⟩
abbrev main_v431 : Ref sig .tc := ⟨.hbm, 582, rfl⟩
abbrev main_v432 : Ref sig .tc := ⟨.hbm, 583, rfl⟩
abbrev main_v433 : Ref sig .tc := ⟨.hbm, 584, rfl⟩
abbrev main_call6_v0 : Ref sig .tc := ⟨.hbm, 585, rfl⟩
abbrev main_call6_v1 : Ref sig .tc := ⟨.hbm, 586, rfl⟩
abbrev main_call6_cst : Ref sig .tc := ⟨.hbm, 587, rfl⟩
abbrev main_call6_v2 : Ref sig .tc := ⟨.hbm, 588, rfl⟩
abbrev main_call6_v3 : Ref sig .tc := ⟨.hbm, 589, rfl⟩
abbrev main_call6_cst_0 : Ref sig .tc := ⟨.hbm, 590, rfl⟩
abbrev main_call6_v4 : Ref sig .tc := ⟨.hbm, 591, rfl⟩
abbrev main_call6_v5 : Ref sig .tc := ⟨.hbm, 592, rfl⟩
abbrev main_v434 : Ref sig .tc := ⟨.hbm, 593, rfl⟩
abbrev main_cst_79 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_v438 : Ref sig .tc := ⟨.hbm, 598, rfl⟩
abbrev main_v439 : Ref sig .tc := ⟨.hbm, 599, rfl⟩
abbrev main_v440 : Ref sig .tc := ⟨.hbm, 600, rfl⟩
abbrev main_v441 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_v446 : Ref sig .tc := ⟨.hbm, 606, rfl⟩
abbrev main_call7_v0 : Ref sig .tc := ⟨.hbm, 607, rfl⟩
abbrev main_call7_v1 : Ref sig .tc := ⟨.hbm, 608, rfl⟩
abbrev main_call7_cst : Ref sig .tc := ⟨.hbm, 609, rfl⟩
abbrev main_call7_v2 : Ref sig .tc := ⟨.hbm, 610, rfl⟩
abbrev main_call7_v3 : Ref sig .tc := ⟨.hbm, 611, rfl⟩
abbrev main_call7_cst_0 : Ref sig .tc := ⟨.hbm, 612, rfl⟩
abbrev main_call7_v4 : Ref sig .tc := ⟨.hbm, 613, rfl⟩
abbrev main_call7_v5 : Ref sig .tc := ⟨.hbm, 614, rfl⟩
abbrev main_v447 : Ref sig .tc := ⟨.hbm, 615, rfl⟩
abbrev main_v448 : Ref sig .tc := ⟨.hbm, 616, rfl⟩
abbrev main_v449 : Ref sig .tc := ⟨.hbm, 617, rfl⟩
abbrev main_v450 : Ref sig .tc := ⟨.hbm, 618, rfl⟩
abbrev main_v451 : Ref sig .tc := ⟨.hbm, 619, rfl⟩
abbrev main_v452 : Ref sig .tc := ⟨.hbm, 620, rfl⟩
abbrev main_cst_80 : Ref sig .tc := ⟨.hbm, 621, rfl⟩
abbrev main_v453 : Ref sig .tc := ⟨.hbm, 622, rfl⟩
abbrev main_v454 : Ref sig .tc := ⟨.hbm, 623, rfl⟩
abbrev main_v455 : Ref sig .tc := ⟨.hbm, 624, rfl⟩
abbrev main_v456 : Ref sig .tc := ⟨.hbm, 625, rfl⟩
abbrev main_v457 : Ref sig .tc := ⟨.hbm, 626, rfl⟩
abbrev main_v458 : Ref sig .tc := ⟨.hbm, 627, rfl⟩
abbrev main_cst_81 : Ref sig .tc := ⟨.hbm, 628, rfl⟩
abbrev main_v459 : Ref sig .tc := ⟨.hbm, 629, rfl⟩
abbrev main_v460 : Ref sig .tc := ⟨.hbm, 630, rfl⟩
abbrev main_v461 : Ref sig .tc := ⟨.hbm, 631, rfl⟩
abbrev main_v462 : Ref sig .tc := ⟨.hbm, 632, rfl⟩
abbrev main_v463 : Ref sig .tc := ⟨.hbm, 633, rfl⟩
abbrev main_v464 : Ref sig .tc := ⟨.hbm, 634, rfl⟩
abbrev main_v465 : Ref sig .tc := ⟨.hbm, 635, rfl⟩
abbrev main_v466 : Ref sig .tc := ⟨.hbm, 636, rfl⟩
abbrev main_cst_82 : Ref sig .tc := ⟨.hbm, 637, rfl⟩
abbrev main_v467 : Ref sig .tc := ⟨.hbm, 638, rfl⟩
abbrev main_v468 : Ref sig .tc := ⟨.hbm, 639, rfl⟩
abbrev main_v469 : Ref sig .tc := ⟨.hbm, 640, rfl⟩
abbrev main_cst_83 : Ref sig .tc := ⟨.hbm, 641, rfl⟩
abbrev main_v470 : Ref sig .tc := ⟨.hbm, 642, rfl⟩
abbrev main_cst_84 : Ref sig .tc := ⟨.hbm, 643, rfl⟩
abbrev main_v471 : Ref sig .tc := ⟨.hbm, 644, rfl⟩
abbrev main_v472 : Ref sig .tc := ⟨.hbm, 645, rfl⟩
abbrev main_v473 : Ref sig .tc := ⟨.hbm, 646, rfl⟩
abbrev main_cst_85 : Ref sig .tc := ⟨.hbm, 647, rfl⟩
abbrev main_v474 : Ref sig .tc := ⟨.hbm, 648, rfl⟩
abbrev main_v475 : Ref sig .tc := ⟨.hbm, 649, rfl⟩
abbrev main_v476 : Ref sig .tc := ⟨.hbm, 650, rfl⟩
abbrev main_v477 : Ref sig .tc := ⟨.hbm, 651, rfl⟩
abbrev main_v478 : Ref sig .tc := ⟨.hbm, 652, rfl⟩
abbrev main_v479 : Ref sig .tc := ⟨.hbm, 653, rfl⟩
abbrev main_v480 : Ref sig .tc := ⟨.hbm, 654, rfl⟩
abbrev main_v481 : Ref sig .tc := ⟨.hbm, 655, rfl⟩
abbrev main_v482 : Ref sig .tc := ⟨.hbm, 656, rfl⟩
abbrev main_v483 : Ref sig .tc := ⟨.hbm, 657, rfl⟩
abbrev main_cst_86 : Ref sig .tc := ⟨.hbm, 658, rfl⟩
abbrev main_v484 : Ref sig .tc := ⟨.hbm, 659, rfl⟩
abbrev main_v485 : Ref sig .tc := ⟨.hbm, 660, rfl⟩
abbrev main_v486 : Ref sig .tc := ⟨.hbm, 661, rfl⟩
abbrev main_cst_87 : Ref sig .tc := ⟨.hbm, 662, rfl⟩
abbrev main_v487 : Ref sig .tc := ⟨.hbm, 663, rfl⟩
abbrev main_cst_88 : Ref sig .tc := ⟨.hbm, 664, rfl⟩
abbrev main_v488 : Ref sig .tc := ⟨.hbm, 665, rfl⟩
abbrev main_v489 : Ref sig .tc := ⟨.hbm, 666, rfl⟩
abbrev main_v490 : Ref sig .tc := ⟨.hbm, 667, rfl⟩
abbrev main_cst_89 : Ref sig .tc := ⟨.hbm, 668, rfl⟩
abbrev main_v491 : Ref sig .tc := ⟨.hbm, 669, rfl⟩
abbrev main_v492 : Ref sig .tc := ⟨.hbm, 670, rfl⟩
abbrev main_v493 : Ref sig .tc := ⟨.hbm, 671, rfl⟩
abbrev main_v494 : Ref sig .tc := ⟨.hbm, 672, rfl⟩
abbrev main_v495 : Ref sig .tc := ⟨.hbm, 673, rfl⟩
abbrev main_c_90 : Ref sig .tc := ⟨.hbm, 674, rfl⟩
abbrev main_v496 : Ref sig .tc := ⟨.hbm, 675, rfl⟩
abbrev main_v497 : Ref sig .tc := ⟨.hbm, 676, rfl⟩
abbrev main_c_91 : Ref sig .tc := ⟨.hbm, 677, rfl⟩
abbrev main_v498 : Ref sig .tc := ⟨.hbm, 678, rfl⟩
abbrev main_v499 : Ref sig .tc := ⟨.hbm, 679, rfl⟩
abbrev main_v500 : Ref sig .tc := ⟨.hbm, 680, rfl⟩
abbrev main_v501 : Ref sig .tc := ⟨.hbm, 681, rfl⟩
abbrev main_v502 : Ref sig .tc := ⟨.hbm, 682, rfl⟩
abbrev main_v503 : Ref sig .tc := ⟨.hbm, 683, rfl⟩
abbrev main_v504 : Ref sig .tc := ⟨.hbm, 684, rfl⟩
abbrev main_v505 : Ref sig .tc := ⟨.hbm, 685, rfl⟩
abbrev main_cst_92 : Ref sig .tc := ⟨.hbm, 686, rfl⟩
abbrev main_v506 : Ref sig .tc := ⟨.hbm, 687, rfl⟩
abbrev main_v507 : Ref sig .tc := ⟨.hbm, 688, rfl⟩
abbrev main_v508 : Ref sig .tc := ⟨.hbm, 689, rfl⟩
abbrev main_v509 : Ref sig .tc := ⟨.hbm, 690, rfl⟩
abbrev main_cst_93 : Ref sig .tc := ⟨.hbm, 691, rfl⟩
abbrev main_v510 : Ref sig .tc := ⟨.hbm, 692, rfl⟩
abbrev main_v511 : Ref sig .tc := ⟨.hbm, 693, rfl⟩
abbrev main_v512 : Ref sig .tc := ⟨.hbm, 694, rfl⟩
abbrev main_v513 : Ref sig .tc := ⟨.hbm, 695, rfl⟩
abbrev main_v514 : Ref sig .tc := ⟨.hbm, 696, rfl⟩
abbrev main_v515 : Ref sig .tc := ⟨.hbm, 697, rfl⟩
abbrev main_v516 : Ref sig .tc := ⟨.hbm, 698, rfl⟩
abbrev main_v517 : Ref sig .tc := ⟨.hbm, 699, rfl⟩
abbrev main_v518 : Ref sig .tc := ⟨.hbm, 700, rfl⟩
abbrev main_v519 : Ref sig .tc := ⟨.hbm, 701, rfl⟩
abbrev main_v520 : Ref sig .tc := ⟨.hbm, 702, rfl⟩
abbrev main_cst_94 : Ref sig .tc := ⟨.hbm, 703, rfl⟩
abbrev main_v521 : Ref sig .tc := ⟨.hbm, 704, rfl⟩
abbrev main_v522 : Ref sig .tc := ⟨.hbm, 705, rfl⟩
abbrev main_v523 : Ref sig .tc := ⟨.hbm, 706, rfl⟩
abbrev main_cst_95 : Ref sig .tc := ⟨.hbm, 707, rfl⟩
abbrev main_v524 : Ref sig .tc := ⟨.hbm, 708, rfl⟩
abbrev main_cst_96 : Ref sig .tc := ⟨.hbm, 709, rfl⟩
abbrev main_v525 : Ref sig .tc := ⟨.hbm, 710, rfl⟩
abbrev main_v526 : Ref sig .tc := ⟨.hbm, 711, rfl⟩
abbrev main_v527 : Ref sig .tc := ⟨.hbm, 712, rfl⟩
abbrev main_cst_97 : Ref sig .tc := ⟨.hbm, 713, rfl⟩
abbrev main_v528 : Ref sig .tc := ⟨.hbm, 714, rfl⟩
abbrev main_v529 : Ref sig .tc := ⟨.hbm, 715, rfl⟩
abbrev main_v530 : Ref sig .tc := ⟨.hbm, 716, rfl⟩
abbrev main_v531 : Ref sig .tc := ⟨.hbm, 717, rfl⟩
abbrev main_v532 : Ref sig .tc := ⟨.hbm, 718, rfl⟩
abbrev main_c_98 : Ref sig .tc := ⟨.hbm, 719, rfl⟩
abbrev main_v533 : Ref sig .tc := ⟨.hbm, 720, rfl⟩
abbrev main_v534 : Ref sig .tc := ⟨.hbm, 721, rfl⟩
abbrev main_c_99 : Ref sig .tc := ⟨.hbm, 722, rfl⟩
abbrev main_v535 : Ref sig .tc := ⟨.hbm, 723, rfl⟩
abbrev main_v536 : Ref sig .tc := ⟨.hbm, 724, rfl⟩
abbrev main_v537 : Ref sig .tc := ⟨.hbm, 725, rfl⟩
abbrev main_v538 : Ref sig .tc := ⟨.hbm, 726, rfl⟩
abbrev main_v539 : Ref sig .tc := ⟨.hbm, 727, rfl⟩
abbrev main_v540 : Ref sig .tc := ⟨.hbm, 728, rfl⟩
abbrev main_v541 : Ref sig .tc := ⟨.hbm, 729, rfl⟩
abbrev main_v542 : Ref sig .tc := ⟨.hbm, 730, rfl⟩
abbrev main_v543 : Ref sig .tc := ⟨.hbm, 731, rfl⟩
abbrev main_cst_100 : Ref sig .tc := ⟨.hbm, 732, rfl⟩
abbrev main_v544 : Ref sig .tc := ⟨.hbm, 733, rfl⟩
abbrev main_cst_101 : Ref sig .tc := ⟨.hbm, 734, rfl⟩
abbrev main_v545 : Ref sig .tc := ⟨.hbm, 735, rfl⟩
abbrev main_v546 : Ref sig .tc := ⟨.hbm, 736, rfl⟩
abbrev main_cst_102 : Ref sig .tc := ⟨.hbm, 737, rfl⟩
abbrev main_v547 : Ref sig .tc := ⟨.hbm, 738, rfl⟩
abbrev main_cst_103 : Ref sig .tc := ⟨.hbm, 739, rfl⟩
abbrev main_v548 : Ref sig .tc := ⟨.hbm, 740, rfl⟩
abbrev main_v549 : Ref sig .tc := ⟨.hbm, 741, rfl⟩
abbrev main_v550 : Ref sig .tc := ⟨.hbm, 742, rfl⟩
abbrev main_cst_104 : Ref sig .tc := ⟨.hbm, 743, rfl⟩
abbrev main_v551 : Ref sig .tc := ⟨.hbm, 744, rfl⟩
abbrev main_cst_105 : Ref sig .tc := ⟨.hbm, 745, rfl⟩
abbrev main_v552 : Ref sig .tc := ⟨.hbm, 746, rfl⟩
abbrev main_v553 : Ref sig .tc := ⟨.hbm, 747, rfl⟩
abbrev main_cst_106 : Ref sig .tc := ⟨.hbm, 748, rfl⟩
abbrev main_v554 : Ref sig .tc := ⟨.hbm, 749, rfl⟩
abbrev main_cst_107 : Ref sig .tc := ⟨.hbm, 750, rfl⟩
abbrev main_v555 : Ref sig .tc := ⟨.hbm, 751, rfl⟩
abbrev main_v556 : Ref sig .tc := ⟨.hbm, 752, rfl⟩

abbrev nD : Nat := 1
abbrev τ : Topo := Topo.v7x

variable {F : FTy → Type} [FloatOps F]
-- ==== KernelAtIdeal.lean ====
abbrev S128 : Shape := ⟨1, ![128]⟩
abbrev S10000x3 : Shape := ⟨2, ![10000, 3]⟩
abbrev S128x3x3 : Shape := ⟨3, ![128, 3, 3]⟩
abbrev S10000 : Shape := ⟨1, ![10000]⟩
abbrev S118x128 : Shape := ⟨2, ![118, 128]⟩
abbrev S64x128 : Shape := ⟨2, ![64, 128]⟩
abbrev S9x128 : Shape := ⟨2, ![9, 128]⟩
abbrev S4x1x128 : Shape := ⟨3, ![4, 1, 128]⟩
abbrev S4x128 : Shape := ⟨2, ![4, 128]⟩
abbrev S4x128x1 : Shape := ⟨3, ![4, 128, 1]⟩
abbrev S128x1 : Shape := ⟨2, ![128, 1]⟩
abbrev S128x9 : Shape := ⟨2, ![128, 9]⟩
abbrev S9 : Shape := ⟨1, ![9]⟩
abbrev S160000 : Shape := ⟨1, ![160000]⟩
abbrev S_ : Shape := ⟨0, ![]⟩
abbrev S10000x118 : Shape := ⟨2, ![10000, 118]⟩
abbrev S4x256x128 : Shape := ⟨3, ![4, 256, 128]⟩
abbrev S1x160000 : Shape := ⟨2, ![1, 160000]⟩
abbrev S2x160000 : Shape := ⟨2, ![2, 160000]⟩
abbrev S4x128x128 : Shape := ⟨3, ![4, 128, 128]⟩
abbrev S1x1 : Shape := ⟨2, ![1, 1]⟩

abbrev nBuf : Space → Nat
  | .hbm => 48
  | .vmem => 1
  | .smem => 0
  | _ => 0

abbrev bufTy : (tb : Table) → Fin (tcTables nBuf tb) → BufTy
  | .hbm, ⟨0, _⟩ => ⟨S128, .f32⟩
  | .hbm, ⟨1, _⟩ => ⟨S10000x3, .f32⟩
  | .hbm, ⟨2, _⟩ => ⟨S128x3x3, .f32⟩
  | .hbm, ⟨3, _⟩ => ⟨S10000, .i32⟩
  | .hbm, ⟨4, _⟩ => ⟨S118x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S9x128, .f32⟩
  | .hbm, ⟨9, _⟩ => ⟨S128, .f32⟩
  | .hbm, ⟨10, _⟩ => ⟨S4x1x128, .f32⟩
  | .hbm, ⟨11, _⟩ => ⟨S4x128, .f32⟩
  | .hbm, ⟨12, _⟩ => ⟨S4x128x1, .f32⟩
  | .hbm, ⟨13, _⟩ => ⟨S4x128, .f32⟩
  | .hbm, ⟨14, _⟩ => ⟨S128x1, .f32⟩
  | .hbm, ⟨15, _⟩ => ⟨S128x9, .f32⟩
  | .hbm, ⟨16, _⟩ => ⟨S9, .f32⟩
  | .hbm, ⟨17, _⟩ => ⟨S160000, .i32⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S_, .i32⟩
  | .hbm, ⟨26, _⟩ => ⟨S160000, .i32⟩
  | .hbm, ⟨27, _⟩ => ⟨S160000, .i32⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S10000x118, .i32⟩
  | .hbm, ⟨32, _⟩ => ⟨S10000x118, .f32⟩
  | .hbm, ⟨33, _⟩ => ⟨S10000x118, .f32⟩
  | .hbm, ⟨34, _⟩ => ⟨S4x256x128, .i32⟩
  | .hbm, ⟨35, _⟩ => ⟨S4x256x128, .f32⟩
  | .hbm, ⟨36, _⟩ => ⟨S4x256x128, .f32⟩
  | .hbm, ⟨37, _⟩ => ⟨S_, .f32⟩
  | .hbm, ⟨38, _⟩ => ⟨S4x256x128, .f32⟩
  | .hbm, ⟨39, _⟩ => ⟨S4x256x128, .f32⟩
  | .hbm, ⟨40, _⟩ => ⟨S1x160000, .i32⟩
  | .hbm, ⟨41, _⟩ => ⟨S1x160000, .i32⟩
  | .hbm, ⟨42, _⟩ => ⟨S2x160000, .i32⟩
  | .hbm, ⟨43, _⟩ => ⟨S4x128x128, .f32⟩
  | .hbm, ⟨44, _⟩ => ⟨S4x128x128, .f32⟩
  | .hbm, ⟨45, _⟩ => ⟨S4x128x128, .f32⟩
  | .hbm, ⟨46, _⟩ => ⟨S1x1, .f32⟩
  | .hbm, ⟨47, _⟩ => ⟨S_, .f32⟩
  | .local _ .vmem, ⟨0, _⟩ => ⟨S1x1, .f32⟩
  | _, _ => ⟨S128, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceAtIdeal.lean ====
abbrev S128 : Shape := ⟨1, ![128]⟩
abbrev S10000x3 : Shape := ⟨2, ![10000, 3]⟩
abbrev S128x3x3 : Shape := ⟨3, ![128, 3, 3]⟩
abbrev S10000 : Shape := ⟨1, ![10000]⟩
abbrev S118x128 : Shape := ⟨2, ![118, 128]⟩
abbrev S64x128 : Shape := ⟨2, ![64, 128]⟩
abbrev S9x128 : Shape := ⟨2, ![9, 128]⟩
abbrev S4x1x128 : Shape := ⟨3, ![4, 1, 128]⟩
abbrev S4x128 : Shape := ⟨2, ![4, 128]⟩
abbrev S4x128x1 : Shape := ⟨3, ![4, 128, 1]⟩
abbrev S128x1 : Shape := ⟨2, ![128, 1]⟩
abbrev S128x9 : Shape := ⟨2, ![128, 9]⟩
abbrev S9 : Shape := ⟨1, ![9]⟩
abbrev S160000 : Shape := ⟨1, ![160000]⟩
abbrev S_ : Shape := ⟨0, ![]⟩
abbrev S10000x118 : Shape := ⟨2, ![10000, 118]⟩
abbrev S4x256x128 : Shape := ⟨3, ![4, 256, 128]⟩
abbrev S1x160000 : Shape := ⟨2, ![1, 160000]⟩
abbrev S2x160000 : Shape := ⟨2, ![2, 160000]⟩
abbrev S4x128x128 : Shape := ⟨3, ![4, 128, 128]⟩
abbrev S10000x1 : Shape := ⟨2, ![10000, 1]⟩
abbrev S128x1x1 : Shape := ⟨3, ![128, 1, 1]⟩
abbrev S128x3 : Shape := ⟨2, ![128, 3]⟩
abbrev S32 : Shape := ⟨1, ![32]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S1x128 : Shape := ⟨2, ![1, 128]⟩
abbrev S10000x128 : Shape := ⟨2, ![10000, 128]⟩
abbrev S1x128x128 : Shape := ⟨3, ![1, 128, 128]⟩
abbrev S160000x1 : Shape := ⟨2, ![160000, 1]⟩
abbrev S160000x3 : Shape := ⟨2, ![160000, 3]⟩
abbrev S160000x128 : Shape := ⟨2, ![160000, 128]⟩
abbrev S1x1x128 : Shape := ⟨3, ![1, 1, 128]⟩
abbrev S10000x256 : Shape := ⟨2, ![10000, 256]⟩
abbrev S1x256x128 : Shape := ⟨3, ![1, 256, 128]⟩
abbrev S256x128 : Shape := ⟨2, ![256, 128]⟩
abbrev S1x128x1 : Shape := ⟨3, ![1, 128, 1]⟩
abbrev S1x9 : Shape := ⟨2, ![1, 9]⟩

abbrev nBuf : Space → Nat
  | .hbm => 777
  | .vmem => 0
  | .smem => 0
  | _ => 0

abbrev hbmTy0_0 (i : Nat) : BufTy := match i % 128 with
  | 0 => ⟨S128, .f32⟩
  | 1 => ⟨S10000x3, .f32⟩
  | 2 => ⟨S128x3x3, .f32⟩
  | 3 => ⟨S10000, .i32⟩
  | 4 => ⟨S118x128, .f32⟩
  | 5 => ⟨S128, .f32⟩
  | 6 => ⟨S64x128, .f32⟩
  | 7 => ⟨S128, .f32⟩
  | 8 => ⟨S9x128, .f32⟩
  | 9 => ⟨S128, .f32⟩
  | 10 => ⟨S4x1x128, .f32⟩
  | 11 => ⟨S4x128, .f32⟩
  | 12 => ⟨S4x128x1, .f32⟩
  | 13 => ⟨S4x128, .f32⟩
  | 14 => ⟨S128x1, .f32⟩
  | 15 => ⟨S128x9, .f32⟩
  | 16 => ⟨S9, .f32⟩
  | 17 => ⟨S128x3x3, .f32⟩
  | 18 => ⟨S10000x3, .f32⟩
  | 19 => ⟨S10000x3, .f32⟩
  | 20 => ⟨S160000, .i32⟩
  | 21 => ⟨S_, .i32⟩
  | 22 => ⟨S160000, .i32⟩
  | 23 => ⟨S160000, .i32⟩
  | 24 => ⟨S_, .i32⟩
  | 25 => ⟨S160000, .i32⟩
  | 26 => ⟨S160000, .i32⟩
  | 27 => ⟨S160000, .i32⟩
  | 28 => ⟨S_, .i32⟩
  | 29 => ⟨S160000, .i32⟩
  | 30 => ⟨S160000, .i32⟩
  | 31 => ⟨S_, .i32⟩
  | 32 => ⟨S160000, .i32⟩
  | 33 => ⟨S160000, .i32⟩
  | 34 => ⟨S10000x118, .i32⟩
  | 35 => ⟨S10000x118, .f32⟩
  | 36 => ⟨S10000x118, .f32⟩
  | 37 => ⟨S4x256x128, .i32⟩
  | 38 => ⟨S4x256x128, .f32⟩
  | 39 => ⟨S4x256x128, .f32⟩
  | 40 => ⟨S_, .f32⟩
  | 41 => ⟨S4x256x128, .f32⟩
  | 42 => ⟨S4x256x128, .f32⟩
  | 43 => ⟨S1x160000, .i32⟩
  | 44 => ⟨S1x160000, .i32⟩
  | 45 => ⟨S2x160000, .i32⟩
  | 46 => ⟨S4x128x128, .f32⟩
  | 47 => ⟨S4x128x128, .f32⟩
  | 48 => ⟨S4x128x128, .f32⟩
  | 49 => ⟨S1x160000, .i32⟩
  | 50 => ⟨S160000, .i32⟩
  | 51 => ⟨S1x160000, .i32⟩
  | 52 => ⟨S160000, .i32⟩
  | 53 => ⟨S_, .i32⟩
  | 54 => ⟨S10000, .i32⟩
  | 55 => ⟨S10000, .i1⟩
  | 56 => ⟨S_, .i32⟩
  | 57 => ⟨S10000, .i32⟩
  | 58 => ⟨S10000, .i32⟩
  | 59 => ⟨S10000, .i32⟩
  | 60 => ⟨S10000x1, .i32⟩
  | 61 => ⟨S10000, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S_, .f32⟩
  | 73 => ⟨S128, .f32⟩
  | 74 => ⟨S128, .f32⟩
  | 75 => ⟨S128, .f32⟩
  | 76 => ⟨S128, .f32⟩
  | 77 => ⟨S128, .f32⟩
  | 78 => ⟨S128x1x1, .f32⟩
  | 79 => ⟨S128x3x3, .f32⟩
  | 80 => ⟨S128x3x3, .f32⟩
  | 81 => ⟨S_, .f32⟩
  | 82 => ⟨S128, .f32⟩
  | 83 => ⟨S128, .f32⟩
  | 84 => ⟨S128, .f32⟩
  | 85 => ⟨S128x1x1, .f32⟩
  | 86 => ⟨S128x3x3, .f32⟩
  | 87 => ⟨S128x3x3, .f32⟩
  | 88 => ⟨S128x3x3, .f32⟩
  | 89 => ⟨S_, .f32⟩
  | 90 => ⟨S10000, .f32⟩
  | 91 => ⟨S10000, .f32⟩
  | 92 => ⟨S10000, .f32⟩
  | 93 => ⟨S10000, .f32⟩
  | 94 => ⟨S_, .f32⟩
  | 95 => ⟨S10000, .f32⟩
  | 96 => ⟨S10000, .f32⟩
  | 97 => ⟨S_, .f32⟩
  | 98 => ⟨S10000, .f32⟩
  | 99 => ⟨S10000, .f32⟩
  | 100 => ⟨S10000, .f32⟩
  | 101 => ⟨S_, .f32⟩
  | 102 => ⟨S10000, .f32⟩
  | 103 => ⟨S10000, .f32⟩
  | 104 => ⟨S10000, .f32⟩
  | 105 => ⟨S10000x1, .f32⟩
  | 106 => ⟨S10000x3, .f32⟩
  | 107 => ⟨S10000x3, .f32⟩
  | 108 => ⟨S10000x3, .f32⟩
  | 109 => ⟨S10000x1, .f32⟩
  | 110 => ⟨S10000x3, .f32⟩
  | 111 => ⟨S10000x3, .f32⟩
  | 112 => ⟨S_, .f32⟩
  | 113 => ⟨S128x3, .f32⟩
  | 114 => ⟨S10000x1, .i32⟩
  | 115 => ⟨S128x3, .f32⟩
  | 116 => ⟨S_, .f32⟩
  | 117 => ⟨S10000, .f32⟩
  | 118 => ⟨S_, .f32⟩
  | 119 => ⟨S128, .f32⟩
  | 120 => ⟨S10000x1, .i32⟩
  | 121 => ⟨S128, .f32⟩
  | 122 => ⟨S_, .f32⟩
  | 123 => ⟨S128, .f32⟩
  | 124 => ⟨S128, .f32⟩
  | 125 => ⟨S128x1, .f32⟩
  | 126 => ⟨S128x3, .f32⟩
  | 127 => ⟨S128x3, .f32⟩
  | _ => ⟨S128, .f32⟩

abbrev hbmTy0_1 (i : Nat) : BufTy := match i % 128 with
  | 0 => ⟨S_, .i32⟩
  | 1 => ⟨S10000, .i32⟩
  | 2 => ⟨S10000, .i1⟩
  | 3 => ⟨S_, .i32⟩
  | 4 => ⟨S10000, .i32⟩
  | 5 => ⟨S10000, .i32⟩
  | 6 => ⟨S10000, .i32⟩
  | 7 => ⟨S10000x1, .i32⟩
  | 8 => ⟨S10000x3, .f32⟩
  | 9 => ⟨S10000x3, .f32⟩
  | 10 => ⟨S10000x3, .f32⟩
  | 11 => ⟨S10000x1, .f32⟩
  | 12 => ⟨S10000x3, .f32⟩
  | 13 => ⟨S10000x3, .f32⟩
  | 14 => ⟨S_, .f32⟩
  | 15 => ⟨S128x3, .f32⟩
  | 16 => ⟨S10000x1, .i32⟩
  | 17 => ⟨S128x3, .f32⟩
  | 18 => ⟨S_, .f32⟩
  | 19 => ⟨S10000, .f32⟩
  | 20 => ⟨S_, .f32⟩
  | 21 => ⟨S128, .f32⟩
  | 22 => ⟨S10000x1, .i32⟩
  | 23 => ⟨S128, .f32⟩
  | 24 => ⟨S_, .f32⟩
  | 25 => ⟨S128, .f32⟩
  | 26 => ⟨S128, .f32⟩
  | 27 => ⟨S128x1, .f32⟩
  | 28 => ⟨S128x3, .f32⟩
  | 29 => ⟨S128x3, .f32⟩
  | 30 => ⟨S_, .i32⟩
  | 31 => ⟨S10000, .i32⟩
  | 32 => ⟨S10000, .i1⟩
  | 33 => ⟨S_, .i32⟩
  | 34 => ⟨S10000, .i32⟩
  | 35 => ⟨S10000, .i32⟩
  | 36 => ⟨S10000, .i32⟩
  | 37 => ⟨S10000x1, .i32⟩
  | 38 => ⟨S10000x3, .f32⟩
  | 39 => ⟨S10000x3, .f32⟩
  | 40 => ⟨S_, .f32⟩
  | 41 => ⟨S_, .f32⟩
  | 42 => ⟨S_, .f32⟩
  | 43 => ⟨S32, .i32⟩
  | 44 => ⟨S32, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S128x1, .f32⟩
  | 52 => ⟨S1x32, .f32⟩
  | 53 => ⟨S1x32, .f32⟩
  | 54 => ⟨S128x32, .f32⟩
  | 55 => ⟨S128x32, .f32⟩
  | 56 => ⟨S128x32, .f32⟩
  | 57 => ⟨S128x32, .f32⟩
  | 58 => ⟨S128x32, .f32⟩
  | 59 => ⟨S128x64, .f32⟩
  | 60 => ⟨S128x128, .f32⟩
  | 61 => ⟨S1x128, .f32⟩
  | 62 => ⟨S128x128, .f32⟩
  | 63 => ⟨S128x128, .f32⟩
  | 64 => ⟨S128x9, .f32⟩
  | 65 => ⟨S128x128, .f32⟩
  | 66 => ⟨S1x128, .f32⟩
  | 67 => ⟨S128x128, .f32⟩
  | 68 => ⟨S128x128, .f32⟩
  | 69 => ⟨S10000x128, .f32⟩
  | 70 => ⟨S1x128, .f32⟩
  | 71 => ⟨S10000x128, .f32⟩
  | 72 => ⟨S10000x128, .f32⟩
  | 73 => ⟨S_, .i32⟩
  | 74 => ⟨S10000, .i32⟩
  | 75 => ⟨S10000, .i1⟩
  | 76 => ⟨S_, .i32⟩
  | 77 => ⟨S10000, .i32⟩
  | 78 => ⟨S10000, .i32⟩
  | 79 => ⟨S10000, .i32⟩
  | 80 => ⟨S10000x1, .i32⟩
  | 81 => ⟨S10000x128, .f32⟩
  | 82 => ⟨S10000x128, .f32⟩
  | 83 => ⟨S_, .i32⟩
  | 84 => ⟨S10000, .i32⟩
  | 85 => ⟨S10000, .i1⟩
  | 86 => ⟨S_, .i32⟩
  | 87 => ⟨S10000, .i32⟩
  | 88 => ⟨S10000, .i32⟩
  | 89 => ⟨S10000, .i32⟩
  | 90 => ⟨S10000x1, .i32⟩
  | 91 => ⟨S10000x128, .f32⟩
  | 92 => ⟨S10000x128, .f32⟩
  | 93 => ⟨S1x128x128, .f32⟩
  | 94 => ⟨S128x128, .f32⟩
  | 95 => ⟨S10000x128, .f32⟩
  | 96 => ⟨S1x128x128, .f32⟩
  | 97 => ⟨S128x128, .f32⟩
  | 98 => ⟨S10000x128, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x3, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x3, .f32⟩
  | 117 => ⟨S160000x3, .f32⟩
  | 118 => ⟨S160000x3, .f32⟩
  | 119 => ⟨S_, .f32⟩
  | 120 => ⟨S160000, .f32⟩
  | 121 => ⟨S160000x1, .f32⟩
  | 122 => ⟨S_, .f32⟩
  | 123 => ⟨S160000x1, .f32⟩
  | 124 => ⟨S160000x1, .f32⟩
  | 125 => ⟨S160000x1, .f32⟩
  | 126 => ⟨S_, .i32⟩
  | 127 => ⟨S160000, .i32⟩
  | _ => ⟨S128, .f32⟩

abbrev hbmTy0_2 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000x128, .f32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x128, .f32⟩
  | 16 => ⟨S160000x128, .f32⟩
  | 17 => ⟨S1x1x128, .f32⟩
  | 18 => ⟨S1x128, .f32⟩
  | 19 => ⟨S160000x128, .f32⟩
  | 20 => ⟨S160000x128, .f32⟩
  | 21 => ⟨S1x128, .f32⟩
  | 22 => ⟨S128, .f32⟩
  | 23 => ⟨S1x128, .f32⟩
  | 24 => ⟨S160000x128, .f32⟩
  | 25 => ⟨S160000x128, .f32⟩
  | 26 => ⟨S160000x128, .f32⟩
  | 27 => ⟨S160000x128, .f32⟩
  | 28 => ⟨S_, .f32⟩
  | 29 => ⟨S160000x128, .f32⟩
  | 30 => ⟨S160000x128, .f32⟩
  | 31 => ⟨S_, .f32⟩
  | 32 => ⟨S160000x128, .f32⟩
  | 33 => ⟨S160000x128, .f32⟩
  | 34 => ⟨S160000x128, .f32⟩
  | 35 => ⟨S_, .f32⟩
  | 36 => ⟨S10000x128, .f32⟩
  | 37 => ⟨S160000x1, .i32⟩
  | 38 => ⟨S10000x128, .f32⟩
  | 39 => ⟨S10000x256, .f32⟩
  | 40 => ⟨S1x256x128, .f32⟩
  | 41 => ⟨S256x128, .f32⟩
  | 42 => ⟨S10000x128, .f32⟩
  | 43 => ⟨S1x128, .f32⟩
  | 44 => ⟨S128, .f32⟩
  | 45 => ⟨S1x128, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S10000x128, .f32⟩
  | 58 => ⟨S1x128x1, .f32⟩
  | 59 => ⟨S128x1, .f32⟩
  | 60 => ⟨S160000x1, .f32⟩
  | 61 => ⟨S160000x1, .f32⟩
  | 62 => ⟨S_, .f32⟩
  | 63 => ⟨S160000x1, .f32⟩
  | 64 => ⟨S160000x1, .f32⟩
  | 65 => ⟨S160000x3, .f32⟩
  | 66 => ⟨S160000x3, .f32⟩
  | 67 => ⟨S160000x3, .f32⟩
  | 68 => ⟨S160000x3, .f32⟩
  | 69 => ⟨S_, .f32⟩
  | 70 => ⟨S10000x3, .f32⟩
  | 71 => ⟨S160000x1, .i32⟩
  | 72 => ⟨S10000x3, .f32⟩
  | 73 => ⟨S10000x3, .f32⟩
  | 74 => ⟨S1x128x128, .f32⟩
  | 75 => ⟨S128x128, .f32⟩
  | 76 => ⟨S10000x128, .f32⟩
  | 77 => ⟨S1x128x128, .f32⟩
  | 78 => ⟨S128x128, .f32⟩
  | 79 => ⟨S10000x128, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000x3, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000x3, .f32⟩
  | 98 => ⟨S160000x3, .f32⟩
  | 99 => ⟨S160000x3, .f32⟩
  | 100 => ⟨S_, .f32⟩
  | 101 => ⟨S160000, .f32⟩
  | 102 => ⟨S160000x1, .f32⟩
  | 103 => ⟨S_, .f32⟩
  | 104 => ⟨S160000x1, .f32⟩
  | 105 => ⟨S160000x1, .f32⟩
  | 106 => ⟨S160000x1, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x128, .f32⟩
  | 116 => ⟨S_, .i32⟩
  | 117 => ⟨S160000, .i32⟩
  | 118 => ⟨S160000, .i1⟩
  | 119 => ⟨S_, .i32⟩
  | 120 => ⟨S160000, .i32⟩
  | 121 => ⟨S160000, .i32⟩
  | 122 => ⟨S160000, .i32⟩
  | 123 => ⟨S160000x1, .i32⟩
  | 124 => ⟨S160000x128, .f32⟩
  | 125 => ⟨S160000x128, .f32⟩
  | 126 => ⟨S1x1x128, .f32⟩
  | 127 => ⟨S1x128, .f32⟩
  | _ => ⟨S128, .f32⟩

abbrev hbmTy0_3 (i : Nat) : BufTy := match i % 128 with
  | 0 => ⟨S160000x128, .f32⟩
  | 1 => ⟨S160000x128, .f32⟩
  | 2 => ⟨S1x128, .f32⟩
  | 3 => ⟨S128, .f32⟩
  | 4 => ⟨S1x128, .f32⟩
  | 5 => ⟨S160000x128, .f32⟩
  | 6 => ⟨S160000x128, .f32⟩
  | 7 => ⟨S160000x128, .f32⟩
  | 8 => ⟨S160000x128, .f32⟩
  | 9 => ⟨S_, .f32⟩
  | 10 => ⟨S160000x128, .f32⟩
  | 11 => ⟨S160000x128, .f32⟩
  | 12 => ⟨S_, .f32⟩
  | 13 => ⟨S160000x128, .f32⟩
  | 14 => ⟨S160000x128, .f32⟩
  | 15 => ⟨S160000x128, .f32⟩
  | 16 => ⟨S_, .f32⟩
  | 17 => ⟨S10000x128, .f32⟩
  | 18 => ⟨S160000x1, .i32⟩
  | 19 => ⟨S10000x128, .f32⟩
  | 20 => ⟨S10000x256, .f32⟩
  | 21 => ⟨S1x256x128, .f32⟩
  | 22 => ⟨S256x128, .f32⟩
  | 23 => ⟨S10000x128, .f32⟩
  | 24 => ⟨S1x128, .f32⟩
  | 25 => ⟨S128, .f32⟩
  | 26 => ⟨S1x128, .f32⟩
  | 27 => ⟨S10000x128, .f32⟩
  | 28 => ⟨S10000x128, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x128, .f32⟩
  | 38 => ⟨S10000x128, .f32⟩
  | 39 => ⟨S1x128x1, .f32⟩
  | 40 => ⟨S128x1, .f32⟩
  | 41 => ⟨S160000x1, .f32⟩
  | 42 => ⟨S160000x1, .f32⟩
  | 43 => ⟨S_, .f32⟩
  | 44 => ⟨S160000x1, .f32⟩
  | 45 => ⟨S160000x1, .f32⟩
  | 46 => ⟨S160000x3, .f32⟩
  | 47 => ⟨S160000x3, .f32⟩
  | 48 => ⟨S160000x3, .f32⟩
  | 49 => ⟨S160000x3, .f32⟩
  | 50 => ⟨S_, .f32⟩
  | 51 => ⟨S10000x3, .f32⟩
  | 52 => ⟨S160000x1, .i32⟩
  | 53 => ⟨S10000x3, .f32⟩
  | 54 => ⟨S10000x3, .f32⟩
  | 55 => ⟨S1x128x128, .f32⟩
  | 56 => ⟨S128x128, .f32⟩
  | 57 => ⟨S10000x128, .f32⟩
  | 58 => ⟨S1x128x128, .f32⟩
  | 59 => ⟨S128x128, .f32⟩
  | 60 => ⟨S10000x128, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x3, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x3, .f32⟩
  | 79 => ⟨S160000x3, .f32⟩
  | 80 => ⟨S160000x3, .f32⟩
  | 81 => ⟨S_, .f32⟩
  | 82 => ⟨S160000, .f32⟩
  | 83 => ⟨S160000x1, .f32⟩
  | 84 => ⟨S_, .f32⟩
  | 85 => ⟨S160000x1, .f32⟩
  | 86 => ⟨S160000x1, .f32⟩
  | 87 => ⟨S160000x1, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S160000x128, .f32⟩
  | 97 => ⟨S_, .i32⟩
  | 98 => ⟨S160000, .i32⟩
  | 99 => ⟨S160000, .i1⟩
  | 100 => ⟨S_, .i32⟩
  | 101 => ⟨S160000, .i32⟩
  | 102 => ⟨S160000, .i32⟩
  | 103 => ⟨S160000, .i32⟩
  | 104 => ⟨S160000x1, .i32⟩
  | 105 => ⟨S160000x128, .f32⟩
  | 106 => ⟨S160000x128, .f32⟩
  | 107 => ⟨S1x1x128, .f32⟩
  | 108 => ⟨S1x128, .f32⟩
  | 109 => ⟨S160000x128, .f32⟩
  | 110 => ⟨S160000x128, .f32⟩
  | 111 => ⟨S1x128, .f32⟩
  | 112 => ⟨S128, .f32⟩
  | 113 => ⟨S1x128, .f32⟩
  | 114 => ⟨S160000x128, .f32⟩
  | 115 => ⟨S160000x128, .f32⟩
  | 116 => ⟨S160000x128, .f32⟩
  | 117 => ⟨S160000x128, .f32⟩
  | 118 => ⟨S_, .f32⟩
  | 119 => ⟨S160000x128, .f32⟩
  | 120 => ⟨S160000x128, .f32⟩
  | 121 => ⟨S_, .f32⟩
  | 122 => ⟨S160000x128, .f32⟩
  | 123 => ⟨S160000x128, .f32⟩
  | 124 => ⟨S160000x128, .f32⟩
  | 125 => ⟨S_, .f32⟩
  | 126 => ⟨S10000x128, .f32⟩
  | 127 => ⟨S160000x1, .i32⟩
  | _ => ⟨S128, .f32⟩

abbrev hbmTy0_4 (i : Nat) : BufTy := match i % 128 with
  | 0 => ⟨S10000x128, .f32⟩
  | 1 => ⟨S10000x256, .f32⟩
  | 2 => ⟨S1x256x128, .f32⟩
  | 3 => ⟨S256x128, .f32⟩
  | 4 => ⟨S10000x128, .f32⟩
  | 5 => ⟨S1x128, .f32⟩
  | 6 => ⟨S128, .f32⟩
  | 7 => ⟨S1x128, .f32⟩
  | 8 => ⟨S10000x128, .f32⟩
  | 9 => ⟨S10000x128, .f32⟩
  | 10 => ⟨S10000x128, .f32⟩
  | 11 => ⟨S10000x128, .f32⟩
  | 12 => ⟨S_, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x128, .f32⟩
  | 19 => ⟨S10000x128, .f32⟩
  | 20 => ⟨S1x128x1, .f32⟩
  | 21 => ⟨S128x1, .f32⟩
  | 22 => ⟨S160000x1, .f32⟩
  | 23 => ⟨S160000x1, .f32⟩
  | 24 => ⟨S_, .f32⟩
  | 25 => ⟨S160000x1, .f32⟩
  | 26 => ⟨S160000x1, .f32⟩
  | 27 => ⟨S160000x3, .f32⟩
  | 28 => ⟨S160000x3, .f32⟩
  | 29 => ⟨S160000x3, .f32⟩
  | 30 => ⟨S160000x3, .f32⟩
  | 31 => ⟨S_, .f32⟩
  | 32 => ⟨S10000x3, .f32⟩
  | 33 => ⟨S160000x1, .i32⟩
  | 34 => ⟨S10000x3, .f32⟩
  | 35 => ⟨S10000x3, .f32⟩
  | 36 => ⟨S1x128x128, .f32⟩
  | 37 => ⟨S128x128, .f32⟩
  | 38 => ⟨S10000x128, .f32⟩
  | 39 => ⟨S1x128x128, .f32⟩
  | 40 => ⟨S128x128, .f32⟩
  | 41 => ⟨S10000x128, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x3, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000x3, .f32⟩
  | 60 => ⟨S160000x3, .f32⟩
  | 61 => ⟨S160000x3, .f32⟩
  | 62 => ⟨S_, .f32⟩
  | 63 => ⟨S160000, .f32⟩
  | 64 => ⟨S160000x1, .f32⟩
  | 65 => ⟨S_, .f32⟩
  | 66 => ⟨S160000x1, .f32⟩
  | 67 => ⟨S160000x1, .f32⟩
  | 68 => ⟨S160000x1, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x128, .f32⟩
  | 78 => ⟨S_, .i32⟩
  | 79 => ⟨S160000, .i32⟩
  | 80 => ⟨S160000, .i1⟩
  | 81 => ⟨S_, .i32⟩
  | 82 => ⟨S160000, .i32⟩
  | 83 => ⟨S160000, .i32⟩
  | 84 => ⟨S160000, .i32⟩
  | 85 => ⟨S160000x1, .i32⟩
  | 86 => ⟨S160000x128, .f32⟩
  | 87 => ⟨S160000x128, .f32⟩
  | 88 => ⟨S1x1x128, .f32⟩
  | 89 => ⟨S1x128, .f32⟩
  | 90 => ⟨S160000x128, .f32⟩
  | 91 => ⟨S160000x128, .f32⟩
  | 92 => ⟨S1x128, .f32⟩
  | 93 => ⟨S128, .f32⟩
  | 94 => ⟨S1x128, .f32⟩
  | 95 => ⟨S160000x128, .f32⟩
  | 96 => ⟨S160000x128, .f32⟩
  | 97 => ⟨S160000x128, .f32⟩
  | 98 => ⟨S160000x128, .f32⟩
  | 99 => ⟨S_, .f32⟩
  | 100 => ⟨S160000x128, .f32⟩
  | 101 => ⟨S160000x128, .f32⟩
  | 102 => ⟨S_, .f32⟩
  | 103 => ⟨S160000x128, .f32⟩
  | 104 => ⟨S160000x128, .f32⟩
  | 105 => ⟨S160000x128, .f32⟩
  | 106 => ⟨S_, .f32⟩
  | 107 => ⟨S10000x128, .f32⟩
  | 108 => ⟨S160000x1, .i32⟩
  | 109 => ⟨S10000x128, .f32⟩
  | 110 => ⟨S10000x256, .f32⟩
  | 111 => ⟨S1x256x128, .f32⟩
  | 112 => ⟨S256x128, .f32⟩
  | 113 => ⟨S10000x128, .f32⟩
  | 114 => ⟨S1x128, .f32⟩
  | 115 => ⟨S128, .f32⟩
  | 116 => ⟨S1x128, .f32⟩
  | 117 => ⟨S10000x128, .f32⟩
  | 118 => ⟨S10000x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S10000x128, .f32⟩
  | _ => ⟨S128, .f32⟩

abbrev hbmTy0_5 (i : Nat) : BufTy := match i % 128 with
  | 0 => ⟨S10000x128, .f32⟩
  | 1 => ⟨S1x128x1, .f32⟩
  | 2 => ⟨S128x1, .f32⟩
  | 3 => ⟨S160000x1, .f32⟩
  | 4 => ⟨S160000x1, .f32⟩
  | 5 => ⟨S_, .f32⟩
  | 6 => ⟨S160000x1, .f32⟩
  | 7 => ⟨S160000x1, .f32⟩
  | 8 => ⟨S160000x3, .f32⟩
  | 9 => ⟨S160000x3, .f32⟩
  | 10 => ⟨S160000x3, .f32⟩
  | 11 => ⟨S160000x3, .f32⟩
  | 12 => ⟨S_, .f32⟩
  | 13 => ⟨S10000x3, .f32⟩
  | 14 => ⟨S160000x1, .i32⟩
  | 15 => ⟨S10000x3, .f32⟩
  | 16 => ⟨S10000x3, .f32⟩
  | 17 => ⟨S10000x1, .f32⟩
  | 18 => ⟨S10000x3, .f32⟩
  | 19 => ⟨S10000x3, .f32⟩
  | 20 => ⟨S10000x3, .f32⟩
  | 21 => ⟨S_, .f32⟩
  | 22 => ⟨S128x128, .f32⟩
  | 23 => ⟨S10000x1, .i32⟩
  | 24 => ⟨S128x128, .f32⟩
  | 25 => ⟨S_, .f32⟩
  | 26 => ⟨S10000, .f32⟩
  | 27 => ⟨S_, .f32⟩
  | 28 => ⟨S128, .f32⟩
  | 29 => ⟨S10000x1, .i32⟩
  | 30 => ⟨S128, .f32⟩
  | 31 => ⟨S_, .f32⟩
  | 32 => ⟨S128, .f32⟩
  | 33 => ⟨S128, .f32⟩
  | 34 => ⟨S128x1, .f32⟩
  | 35 => ⟨S128x128, .f32⟩
  | 36 => ⟨S128x128, .f32⟩
  | 37 => ⟨S128x9, .f32⟩
  | 38 => ⟨S1x9, .f32⟩
  | 39 => ⟨S128x9, .f32⟩
  | 40 => ⟨S128x9, .f32⟩
  | 41 => ⟨S128x3x3, .f32⟩
  | 42 => ⟨S_, .f32⟩
  | 43 => ⟨S128x3, .f32⟩
  | 44 => ⟨S10000x1, .i32⟩
  | 45 => ⟨S128x3, .f32⟩
  | 46 => ⟨S_, .f32⟩
  | 47 => ⟨S10000, .f32⟩
  | 48 => ⟨S_, .f32⟩
  | 49 => ⟨S128, .f32⟩
  | 50 => ⟨S10000x1, .i32⟩
  | 51 => ⟨S128, .f32⟩
  | 52 => ⟨S_, .f32⟩
  | 53 => ⟨S128, .f32⟩
  | 54 => ⟨S128, .f32⟩
  | 55 => ⟨S128x1, .f32⟩
  | 56 => ⟨S128x3, .f32⟩
  | 57 => ⟨S128x3, .f32⟩
  | 58 => ⟨S_, .i32⟩
  | 59 => ⟨S10000, .i32⟩
  | 60 => ⟨S10000, .i1⟩
  | 61 => ⟨S_, .i32⟩
  | 62 => ⟨S10000, .i32⟩
  | 63 => ⟨S10000, .i32⟩
  | 64 => ⟨S10000, .i32⟩
  | 65 => ⟨S10000x1, .i32⟩
  | 66 => ⟨S10000x3, .f32⟩
  | 67 => ⟨S10000x3, .f32⟩
  | 68 => ⟨S10000, .f32⟩
  | 69 => ⟨S10000, .f32⟩
  | 70 => ⟨S_, .f32⟩
  | 71 => ⟨S10000, .f32⟩
  | 72 => ⟨S10000, .f32⟩
  | 73 => ⟨S10000, .f32⟩
  | 74 => ⟨S10000, .f32⟩
  | 75 => ⟨S_, .f32⟩
  | 76 => ⟨S10000, .f32⟩
  | 77 => ⟨S10000, .f32⟩
  | 78 => ⟨S10000, .f32⟩
  | 79 => ⟨S10000x1, .f32⟩
  | 80 => ⟨S10000x3, .f32⟩
  | 81 => ⟨S10000x3, .f32⟩
  | 82 => ⟨S10000, .f32⟩
  | 83 => ⟨S10000x1, .f32⟩
  | 84 => ⟨S10000x3, .f32⟩
  | 85 => ⟨S10000x3, .f32⟩
  | 86 => ⟨S10000x3, .f32⟩
  | 87 => ⟨S_, .f32⟩
  | 88 => ⟨S128x3, .f32⟩
  | 89 => ⟨S10000x1, .i32⟩
  | 90 => ⟨S128x3, .f32⟩
  | 91 => ⟨S_, .f32⟩
  | 92 => ⟨S10000, .f32⟩
  | 93 => ⟨S_, .f32⟩
  | 94 => ⟨S128, .f32⟩
  | 95 => ⟨S10000x1, .i32⟩
  | 96 => ⟨S128, .f32⟩
  | 97 => ⟨S_, .f32⟩
  | 98 => ⟨S128, .f32⟩
  | 99 => ⟨S128, .f32⟩
  | 100 => ⟨S128x1, .f32⟩
  | 101 => ⟨S128x3, .f32⟩
  | 102 => ⟨S128x3, .f32⟩
  | 103 => ⟨S_, .i32⟩
  | 104 => ⟨S10000, .i32⟩
  | 105 => ⟨S10000, .i1⟩
  | 106 => ⟨S_, .i32⟩
  | 107 => ⟨S10000, .i32⟩
  | 108 => ⟨S10000, .i32⟩
  | 109 => ⟨S10000, .i32⟩
  | 110 => ⟨S10000x1, .i32⟩
  | 111 => ⟨S10000x3, .f32⟩
  | 112 => ⟨S10000x3, .f32⟩
  | 113 => ⟨S128x3x3, .f32⟩
  | 114 => ⟨S128x3x3, .f32⟩
  | 115 => ⟨S128x9, .f32⟩
  | 116 => ⟨S_, .f32⟩
  | 117 => ⟨S128, .f32⟩
  | 118 => ⟨S_, .f32⟩
  | 119 => ⟨S128, .f32⟩
  | 120 => ⟨S128, .f32⟩
  | 121 => ⟨S_, .f32⟩
  | 122 => ⟨S_, .f32⟩
  | 123 => ⟨S_, .f32⟩
  | 124 => ⟨S_, .f32⟩
  | 125 => ⟨S10000x3, .f32⟩
  | 126 => ⟨S10000x3, .f32⟩
  | 127 => ⟨S_, .f32⟩
  | _ => ⟨S128, .f32⟩

abbrev hbmTy0_6 (i : Nat) : BufTy := match i % 128 with
  | 0 => ⟨S10000, .f32⟩
  | 1 => ⟨S_, .f32⟩
  | 2 => ⟨S10000, .f32⟩
  | 3 => ⟨S10000, .f32⟩
  | 4 => ⟨S_, .f32⟩
  | 5 => ⟨S_, .f32⟩
  | 6 => ⟨S_, .f32⟩
  | 7 => ⟨S_, .f32⟩
  | 8 => ⟨S_, .f32⟩
  | _ => ⟨S128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128, .f32⟩

abbrev bufTy : (tb : Table) → Fin (tcTables nBuf tb) → BufTy
  | .hbm, ⟨i, _⟩ => hbmTy i
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_3 : Ref sig .tc := ⟨.hbm, 28, rfl⟩
abbrev main_v6 : Ref sig .tc := ⟨.hbm, 29, rfl⟩
abbrev main_v7 : Ref sig .tc := ⟨.hbm, 30, rfl⟩
abbrev main_c_4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_cst_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_18 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_21 : Ref sig .tc := ⟨.hbm, 128, rfl⟩
abbrev main_v88 : Ref sig .tc := ⟨.hbm, 129, rfl⟩
abbrev main_v89 : Ref sig .tc := ⟨.hbm, 130, rfl⟩
abbrev main_c_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_23 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_v103 : Ref sig .tc := ⟨.hbm, 147, rfl⟩
abbrev main_cst_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_27 : Ref sig .tc := ⟨.hbm, 158, rfl⟩
abbrev main_v112 : Ref sig .tc := ⟨.hbm, 159, rfl⟩
abbrev main_v113 : Ref sig .tc := ⟨.hbm, 160, rfl⟩
abbrev main_c_28 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_29 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_30 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_31 : Ref sig .tc := ⟨.hbm, 201, rfl⟩
abbrev main_v151 : Ref sig .tc := ⟨.hbm, 202, rfl⟩
abbrev main_v152 : Ref sig .tc := ⟨.hbm, 203, rfl⟩
abbrev main_c_32 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_c_33 : Ref sig .tc := ⟨.hbm, 211, rfl⟩
abbrev main_v159 : Ref sig .tc := ⟨.hbm, 212, rfl⟩
abbrev main_v160 : Ref sig .tc := ⟨.hbm, 213, rfl⟩
abbrev main_c_34 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_c_35 : Ref sig .tc := ⟨.hbm, 227, rfl⟩
abbrev main_v173 : Ref sig .tc := ⟨.hbm, 228, rfl⟩
abbrev main_v174 : Ref sig .tc := ⟨.hbm, 229, rfl⟩
abbrev main_c_36 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_c_37 : Ref sig .tc := ⟨.hbm, 236, rfl⟩
abbrev main_v180 : Ref sig .tc := ⟨.hbm, 237, rfl⟩
abbrev main_v181 : Ref sig .tc := ⟨.hbm, 238, rfl⟩
abbrev main_c_38 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_39 : Ref sig .tc := ⟨.hbm, 247, rfl⟩
abbrev main_v189 : Ref sig .tc := ⟨.hbm, 248, rfl⟩
abbrev main_v190 : Ref sig .tc := ⟨.hbm, 249, rfl⟩
abbrev main_cst_40 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_c_41 : Ref sig .tc := ⟨.hbm, 254, rfl⟩
abbrev main_v194 : Ref sig .tc := ⟨.hbm, 255, rfl⟩
abbrev main_v195 : Ref sig .tc := ⟨.hbm, 256, rfl⟩
abbrev main_c_42 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_c_43 : Ref sig .tc := ⟨.hbm, 263, rfl⟩
abbrev main_v201 : Ref sig .tc := ⟨.hbm, 264, rfl⟩
abbrev main_v202 : Ref sig .tc := ⟨.hbm, 265, rfl⟩
abbrev main_c_44 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_call0_v0 : Ref sig .tc := ⟨.hbm, 282, rfl⟩
abbrev main_call0_v1 : Ref sig .tc := ⟨.hbm, 283, rfl⟩
abbrev main_call0_cst : Ref sig .tc := ⟨.hbm, 284, rfl⟩
abbrev main_call0_v2 : Ref sig .tc := ⟨.hbm, 285, rfl⟩
abbrev main_call0_v3 : Ref sig .tc := ⟨.hbm, 286, rfl⟩
abbrev main_call0_cst_0 : Ref sig .tc := ⟨.hbm, 287, rfl⟩
abbrev main_call0_v4 : Ref sig .tc := ⟨.hbm, 288, rfl⟩
abbrev main_call0_v5 : Ref sig .tc := ⟨.hbm, 289, rfl⟩
abbrev main_v218 : Ref sig .tc := ⟨.hbm, 290, rfl⟩
abbrev main_cst_45 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_call1_v0 : Ref sig .tc := ⟨.hbm, 304, rfl⟩
abbrev main_call1_v1 : Ref sig .tc := ⟨.hbm, 305, rfl⟩
abbrev main_call1_cst : Ref sig .tc := ⟨.hbm, 306, rfl⟩
abbrev main_call1_v2 : Ref sig .tc := ⟨.hbm, 307, rfl⟩
abbrev main_call1_v3 : Ref sig .tc := ⟨.hbm, 308, rfl⟩
abbrev main_call1_cst_0 : Ref sig .tc := ⟨.hbm, 309, rfl⟩
abbrev main_call1_v4 : Ref sig .tc := ⟨.hbm, 310, rfl⟩
abbrev main_call1_v5 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_46 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_cst_47 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_c_48 : Ref sig .tc := ⟨.hbm, 336, rfl⟩
abbrev main_v253 : Ref sig .tc := ⟨.hbm, 337, rfl⟩
abbrev main_v254 : Ref sig .tc := ⟨.hbm, 338, rfl⟩
abbrev main_c_49 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_c_50 : Ref sig .tc := ⟨.hbm, 345, rfl⟩
abbrev main_v260 : Ref sig .tc := ⟨.hbm, 346, rfl⟩
abbrev main_v261 : Ref sig .tc := ⟨.hbm, 347, rfl⟩
abbrev main_c_51 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_cst_52 : Ref sig .tc := ⟨.hbm, 356, rfl⟩
abbrev main_v269 : Ref sig .tc := ⟨.hbm, 357, rfl⟩
abbrev main_v270 : Ref sig .tc := ⟨.hbm, 358, rfl⟩
abbrev main_cst_53 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_c_54 : Ref sig .tc := ⟨.hbm, 363, rfl⟩
abbrev main_v274 : Ref sig .tc := ⟨.hbm, 364, rfl⟩
abbrev main_v275 : Ref sig .tc := ⟨.hbm, 365, rfl⟩
abbrev main_c_55 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_c_56 : Ref sig .tc := ⟨.hbm, 372, rfl⟩
abbrev main_v281 : Ref sig .tc := ⟨.hbm, 373, rfl⟩
abbrev main_v282 : Ref sig .tc := ⟨.hbm, 374, rfl⟩
abbrev main_c_57 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_call2_v0 : Ref sig .tc := ⟨.hbm, 391, rfl⟩
abbrev main_call2_v1 : Ref sig .tc := ⟨.hbm, 392, rfl⟩
abbrev main_call2_cst : Ref sig .tc := ⟨.hbm, 393, rfl⟩
abbrev main_call2_v2 : Ref sig .tc := ⟨.hbm, 394, rfl⟩
abbrev main_call2_v3 : Ref sig .tc := ⟨.hbm, 395, rfl⟩
abbrev main_call2_cst_0 : Ref sig .tc := ⟨.hbm, 396, rfl⟩
abbrev main_call2_v4 : Ref sig .tc := ⟨.hbm, 397, rfl⟩
abbrev main_call2_v5 : Ref sig .tc := ⟨.hbm, 398, rfl⟩
abbrev main_v298 : Ref sig .tc := ⟨.hbm, 399, rfl⟩
abbrev main_cst_58 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_v302 : Ref sig .tc := ⟨.hbm, 404, rfl⟩
abbrev main_v303 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_call3_v0 : Ref sig .tc := ⟨.hbm, 413, rfl⟩
abbrev main_call3_v1 : Ref sig .tc := ⟨.hbm, 414, rfl⟩
abbrev main_call3_cst : Ref sig .tc := ⟨.hbm, 415, rfl⟩
abbrev main_call3_v2 : Ref sig .tc := ⟨.hbm, 416, rfl⟩
abbrev main_call3_v3 : Ref sig .tc := ⟨.hbm, 417, rfl⟩
abbrev main_call3_cst_0 : Ref sig .tc := ⟨.hbm, 418, rfl⟩
abbrev main_call3_v4 : Ref sig .tc := ⟨.hbm, 419, rfl⟩
abbrev main_call3_v5 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_cst_59 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_cst_60 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_v330 : Ref sig .tc := ⟨.hbm, 442, rfl⟩
abbrev main_v331 : Ref sig .tc := ⟨.hbm, 443, rfl⟩
abbrev main_v332 : Ref sig .tc := ⟨.hbm, 444, rfl⟩
abbrev main_c_61 : Ref sig .tc := ⟨.hbm, 445, rfl⟩
abbrev main_v333 : Ref sig .tc := ⟨.hbm, 446, rfl⟩
abbrev main_v334 : Ref sig .tc := ⟨.hbm, 447, rfl⟩
abbrev main_c_62 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_v339 : Ref sig .tc := ⟨.hbm, 453, rfl⟩
abbrev main_c_63 : Ref sig .tc := ⟨.hbm, 454, rfl⟩
abbrev main_v340 : Ref sig .tc := ⟨.hbm, 455, rfl⟩
abbrev main_v341 : Ref sig .tc := ⟨.hbm, 456, rfl⟩
abbrev main_c_64 : Ref sig .tc := ⟨.hbm, 457, rfl⟩
abbrev main_v342 : Ref sig .tc := ⟨.hbm, 458, rfl⟩
abbrev main_v343 : Ref sig .tc := ⟨.hbm, 459, rfl⟩
abbrev main_v344 : Ref sig .tc := ⟨.hbm, 460, rfl⟩
abbrev main_v345 : Ref sig .tc := ⟨.hbm, 461, rfl⟩
abbrev main_v346 : Ref sig .tc := ⟨.hbm, 462, rfl⟩
abbrev main_v347 : Ref sig .tc := ⟨.hbm, 463, rfl⟩
abbrev main_v348 : Ref sig .tc := ⟨.hbm, 464, rfl⟩
abbrev main_cst_65 : Ref sig .tc := ⟨.hbm, 465, rfl⟩
abbrev main_v349 : Ref sig .tc := ⟨.hbm, 466, rfl⟩
abbrev main_v350 : Ref sig .tc := ⟨.hbm, 467, rfl⟩
abbrev main_cst_66 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_c_67 : Ref sig .tc := ⟨.hbm, 472, rfl⟩
abbrev main_v354 : Ref sig .tc := ⟨.hbm, 473, rfl⟩
abbrev main_v355 : Ref sig .tc := ⟨.hbm, 474, rfl⟩
abbrev main_c_68 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩
abbrev main_v360 : Ref sig .tc := ⟨.hbm, 480, rfl⟩
abbrev main_c_69 : Ref sig .tc := ⟨.hbm, 481, rfl⟩
abbrev main_v361 : Ref sig .tc := ⟨.hbm, 482, rfl⟩
abbrev main_v362 : Ref sig .tc := ⟨.hbm, 483, rfl⟩
abbrev main_c_70 : Ref sig .tc := ⟨.hbm, 484, rfl⟩
abbrev main_v363 : Ref sig .tc := ⟨.hbm, 485, rfl⟩
abbrev main_v364 : Ref sig .tc := ⟨.hbm, 486, rfl⟩
abbrev main_v365 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_call4_v0 : Ref sig .tc := ⟨.hbm, 500, rfl⟩
abbrev main_call4_v1 : Ref sig .tc := ⟨.hbm, 501, rfl⟩
abbrev main_call4_cst : Ref sig .tc := ⟨.hbm, 502, rfl⟩
abbrev main_call4_v2 : Ref sig .tc := ⟨.hbm, 503, rfl⟩
abbrev main_call4_v3 : Ref sig .tc := ⟨.hbm, 504, rfl⟩
abbrev main_call4_cst_0 : Ref sig .tc := ⟨.hbm, 505, rfl⟩
abbrev main_call4_v4 : Ref sig .tc := ⟨.hbm, 506, rfl⟩
abbrev main_call4_v5 : Ref sig .tc := ⟨.hbm, 507, rfl⟩
abbrev main_v378 : Ref sig .tc := ⟨.hbm, 508, rfl⟩
abbrev main_cst_71 : Ref sig .tc := ⟨.hbm, 509, rfl⟩
abbrev main_v379 : Ref sig .tc := ⟨.hbm, 510, rfl⟩
abbrev main_v380 : Ref sig .tc := ⟨.hbm, 511, rfl⟩
abbrev main_v381 : Ref sig .tc := ⟨.hbm, 512, rfl⟩
abbrev main_v382 : Ref sig .tc := ⟨.hbm, 513, rfl⟩
abbrev main_v383 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_v388 : Ref sig .tc := ⟨.hbm, 519, rfl⟩
abbrev main_v389 : Ref sig .tc := ⟨.hbm, 520, rfl⟩
abbrev main_v390 : Ref sig .tc := ⟨.hbm, 521, rfl⟩
abbrev main_call5_v0 : Ref sig .tc := ⟨.hbm, 522, rfl⟩
abbrev main_call5_v1 : Ref sig .tc := ⟨.hbm, 523, rfl⟩
abbrev main_call5_cst : Ref sig .tc := ⟨.hbm, 524, rfl⟩
abbrev main_call5_v2 : Ref sig .tc := ⟨.hbm, 525, rfl⟩
abbrev main_call5_v3 : Ref sig .tc := ⟨.hbm, 526, rfl⟩
abbrev main_call5_cst_0 : Ref sig .tc := ⟨.hbm, 527, rfl⟩
abbrev main_call5_v4 : Ref sig .tc := ⟨.hbm, 528, rfl⟩
abbrev main_call5_v5 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩
abbrev main_cst_72 : Ref sig .tc := ⟨.hbm, 536, rfl⟩
abbrev main_v397 : Ref sig .tc := ⟨.hbm, 537, rfl⟩
abbrev main_v398 : Ref sig .tc := ⟨.hbm, 538, rfl⟩
abbrev main_v399 : Ref sig .tc := ⟨.hbm, 539, rfl⟩
abbrev main_v400 : Ref sig .tc := ⟨.hbm, 540, rfl⟩
abbrev main_v401 : Ref sig .tc := ⟨.hbm, 541, rfl⟩
abbrev main_v402 : Ref sig .tc := ⟨.hbm, 542, rfl⟩
abbrev main_cst_73 : Ref sig .tc := ⟨.hbm, 543, rfl⟩
abbrev main_v403 : Ref sig .tc := ⟨.hbm, 544, rfl⟩
abbrev main_v404 : Ref sig .tc := ⟨.hbm, 545, rfl⟩
abbrev main_v405 : Ref sig .tc := ⟨.hbm, 546, rfl⟩
abbrev main_v406 : Ref sig .tc := ⟨.hbm, 547, rfl⟩
abbrev main_v407 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_c_74 : Ref sig .tc := ⟨.hbm, 554, rfl⟩
abbrev main_v413 : Ref sig .tc := ⟨.hbm, 555, rfl⟩
abbrev main_v414 : Ref sig .tc := ⟨.hbm, 556, rfl⟩
abbrev main_c_75 : Ref sig .tc := ⟨.hbm, 557, rfl⟩
abbrev main_v415 : Ref sig .tc := ⟨.hbm, 558, rfl⟩
abbrev main_v416 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_c_76 : Ref sig .tc := ⟨.hbm, 563, rfl⟩
abbrev main_v420 : Ref sig .tc := ⟨.hbm, 564, rfl⟩
abbrev main_v421 : Ref sig .tc := ⟨.hbm, 565, rfl⟩
abbrev main_c_77 : Ref sig .tc := ⟨.hbm, 566, rfl⟩
abbrev main_v422 : Ref sig .tc := ⟨.hbm, 567, rfl⟩
abbrev main_v423 : Ref sig .tc := ⟨.hbm, 568, rfl⟩
abbrev main_v424 : Ref sig .tc := ⟨.hbm, 569, rfl⟩
abbrev main_v425 : Ref sig .tc := ⟨.hbm, 570, rfl⟩
abbrev main_v426 : Ref sig .tc := ⟨.hbm, 571, rfl⟩
abbrev main_v427 : Ref sig .tc := ⟨.hbm, 572, rfl⟩
abbrev main_v428 : Ref sig .tc := ⟨.hbm, 573, rfl⟩
abbrev main_cst_78 : Ref sig .tc := ⟨.hbm, 574, rfl⟩
abbrev main_v429 : Ref sig .tc := ⟨.hbm, 575, rfl⟩
abbrev main_v430 : Ref sig .tc := ⟨.hbm, 576, rfl⟩
abbrev main_cst_79 : Ref sig .tc := ⟨.hbm, 577, rfl⟩
abbrev main_v431 : Ref sig .tc := ⟨.hbm, 578, rfl⟩
abbrev main_v432 : Ref sig .tc := ⟨.hbm, 579, rfl⟩
abbrev main_v433 : Ref sig .tc := ⟨.hbm, 580, rfl⟩
abbrev main_c_80 : Ref sig .tc := ⟨.hbm, 581, rfl⟩
abbrev main_v434 : Ref sig .tc := ⟨.hbm, 582, rfl⟩
abbrev main_v435 : Ref sig .tc := ⟨.hbm, 583, rfl⟩
abbrev main_c_81 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_v440 : Ref sig .tc := ⟨.hbm, 589, rfl⟩
abbrev main_c_82 : Ref sig .tc := ⟨.hbm, 590, rfl⟩
abbrev main_v441 : Ref sig .tc := ⟨.hbm, 591, rfl⟩
abbrev main_v442 : Ref sig .tc := ⟨.hbm, 592, rfl⟩
abbrev main_c_83 : Ref sig .tc := ⟨.hbm, 593, rfl⟩
abbrev main_v443 : Ref sig .tc := ⟨.hbm, 594, rfl⟩
abbrev main_v444 : Ref sig .tc := ⟨.hbm, 595, rfl⟩
abbrev main_v445 : Ref sig .tc := ⟨.hbm, 596, rfl⟩
abbrev main_v446 : Ref sig .tc := ⟨.hbm, 597, rfl⟩
abbrev main_v447 : Ref sig .tc := ⟨.hbm, 598, rfl⟩
abbrev main_v448 : Ref sig .tc := ⟨.hbm, 599, rfl⟩
abbrev main_v449 : Ref sig .tc := ⟨.hbm, 600, rfl⟩
abbrev main_v450 : Ref sig .tc := ⟨.hbm, 601, rfl⟩
abbrev main_v451 : Ref sig .tc := ⟨.hbm, 602, rfl⟩
abbrev main_v452 : Ref sig .tc := ⟨.hbm, 603, rfl⟩
abbrev main_v453 : Ref sig .tc := ⟨.hbm, 604, rfl⟩
abbrev main_v454 : Ref sig .tc := ⟨.hbm, 605, rfl⟩
abbrev main_v455 : Ref sig .tc := ⟨.hbm, 606, rfl⟩
abbrev main_v456 : Ref sig .tc := ⟨.hbm, 607, rfl⟩
abbrev main_v457 : Ref sig .tc := ⟨.hbm, 608, rfl⟩
abbrev main_call6_v0 : Ref sig .tc := ⟨.hbm, 609, rfl⟩
abbrev main_call6_v1 : Ref sig .tc := ⟨.hbm, 610, rfl⟩
abbrev main_call6_cst : Ref sig .tc := ⟨.hbm, 611, rfl⟩
abbrev main_call6_v2 : Ref sig .tc := ⟨.hbm, 612, rfl⟩
abbrev main_call6_v3 : Ref sig .tc := ⟨.hbm, 613, rfl⟩
abbrev main_call6_cst_0 : Ref sig .tc := ⟨.hbm, 614, rfl⟩
abbrev main_call6_v4 : Ref sig .tc := ⟨.hbm, 615, rfl⟩
abbrev main_call6_v5 : Ref sig .tc := ⟨.hbm, 616, rfl⟩
abbrev main_v458 : Ref sig .tc := ⟨.hbm, 617, rfl⟩
abbrev main_cst_84 : Ref sig .tc := ⟨.hbm, 618, rfl⟩
abbrev main_v459 : Ref sig .tc := ⟨.hbm, 619, rfl⟩
abbrev main_v460 : Ref sig .tc := ⟨.hbm, 620, rfl⟩
abbrev main_v461 : Ref sig .tc := ⟨.hbm, 621, rfl⟩
abbrev main_v462 : Ref sig .tc := ⟨.hbm, 622, rfl⟩
abbrev main_v463 : Ref sig .tc := ⟨.hbm, 623, rfl⟩
abbrev main_v464 : Ref sig .tc := ⟨.hbm, 624, rfl⟩
abbrev main_v465 : Ref sig .tc := ⟨.hbm, 625, rfl⟩
abbrev main_v466 : Ref sig .tc := ⟨.hbm, 626, rfl⟩
abbrev main_v467 : Ref sig .tc := ⟨.hbm, 627, rfl⟩
abbrev main_v468 : Ref sig .tc := ⟨.hbm, 628, rfl⟩
abbrev main_v469 : Ref sig .tc := ⟨.hbm, 629, rfl⟩
abbrev main_v470 : Ref sig .tc := ⟨.hbm, 630, rfl⟩
abbrev main_call7_v0 : Ref sig .tc := ⟨.hbm, 631, rfl⟩
abbrev main_call7_v1 : Ref sig .tc := ⟨.hbm, 632, rfl⟩
abbrev main_call7_cst : Ref sig .tc := ⟨.hbm, 633, rfl⟩
abbrev main_call7_v2 : Ref sig .tc := ⟨.hbm, 634, rfl⟩
abbrev main_call7_v3 : Ref sig .tc := ⟨.hbm, 635, rfl⟩
abbrev main_call7_cst_0 : Ref sig .tc := ⟨.hbm, 636, rfl⟩
abbrev main_call7_v4 : Ref sig .tc := ⟨.hbm, 637, rfl⟩
abbrev main_call7_v5 : Ref sig .tc := ⟨.hbm, 638, rfl⟩
abbrev main_v471 : Ref sig .tc := ⟨.hbm, 639, rfl⟩
abbrev main_v472 : Ref sig .tc := ⟨.hbm, 640, rfl⟩
abbrev main_v473 : Ref sig .tc := ⟨.hbm, 641, rfl⟩
abbrev main_v474 : Ref sig .tc := ⟨.hbm, 642, rfl⟩
abbrev main_v475 : Ref sig .tc := ⟨.hbm, 643, rfl⟩
abbrev main_v476 : Ref sig .tc := ⟨.hbm, 644, rfl⟩
abbrev main_cst_85 : Ref sig .tc := ⟨.hbm, 645, rfl⟩
abbrev main_v477 : Ref sig .tc := ⟨.hbm, 646, rfl⟩
abbrev main_v478 : Ref sig .tc := ⟨.hbm, 647, rfl⟩
abbrev main_v479 : Ref sig .tc := ⟨.hbm, 648, rfl⟩
abbrev main_v480 : Ref sig .tc := ⟨.hbm, 649, rfl⟩
abbrev main_v481 : Ref sig .tc := ⟨.hbm, 650, rfl⟩
abbrev main_v482 : Ref sig .tc := ⟨.hbm, 651, rfl⟩
abbrev main_cst_86 : Ref sig .tc := ⟨.hbm, 652, rfl⟩
abbrev main_v483 : Ref sig .tc := ⟨.hbm, 653, rfl⟩
abbrev main_v484 : Ref sig .tc := ⟨.hbm, 654, rfl⟩
abbrev main_v485 : Ref sig .tc := ⟨.hbm, 655, rfl⟩
abbrev main_v486 : Ref sig .tc := ⟨.hbm, 656, rfl⟩
abbrev main_v487 : Ref sig .tc := ⟨.hbm, 657, rfl⟩
abbrev main_v488 : Ref sig .tc := ⟨.hbm, 658, rfl⟩
abbrev main_v489 : Ref sig .tc := ⟨.hbm, 659, rfl⟩
abbrev main_v490 : Ref sig .tc := ⟨.hbm, 660, rfl⟩
abbrev main_cst_87 : Ref sig .tc := ⟨.hbm, 661, rfl⟩
abbrev main_v491 : Ref sig .tc := ⟨.hbm, 662, rfl⟩
abbrev main_v492 : Ref sig .tc := ⟨.hbm, 663, rfl⟩
abbrev main_v493 : Ref sig .tc := ⟨.hbm, 664, rfl⟩
abbrev main_cst_88 : Ref sig .tc := ⟨.hbm, 665, rfl⟩
abbrev main_v494 : Ref sig .tc := ⟨.hbm, 666, rfl⟩
abbrev main_cst_89 : Ref sig .tc := ⟨.hbm, 667, rfl⟩
abbrev main_v495 : Ref sig .tc := ⟨.hbm, 668, rfl⟩
abbrev main_v496 : Ref sig .tc := ⟨.hbm, 669, rfl⟩
abbrev main_v497 : Ref sig .tc := ⟨.hbm, 670, rfl⟩
abbrev main_cst_90 : Ref sig .tc := ⟨.hbm, 671, rfl⟩
abbrev main_v498 : Ref sig .tc := ⟨.hbm, 672, rfl⟩
abbrev main_v499 : Ref sig .tc := ⟨.hbm, 673, rfl⟩
abbrev main_v500 : Ref sig .tc := ⟨.hbm, 674, rfl⟩
abbrev main_v501 : Ref sig .tc := ⟨.hbm, 675, rfl⟩
abbrev main_v502 : Ref sig .tc := ⟨.hbm, 676, rfl⟩
abbrev main_v503 : Ref sig .tc := ⟨.hbm, 677, rfl⟩
abbrev main_v504 : Ref sig .tc := ⟨.hbm, 678, rfl⟩
abbrev main_v505 : Ref sig .tc := ⟨.hbm, 679, rfl⟩
abbrev main_v506 : Ref sig .tc := ⟨.hbm, 680, rfl⟩
abbrev main_v507 : Ref sig .tc := ⟨.hbm, 681, rfl⟩
abbrev main_cst_91 : Ref sig .tc := ⟨.hbm, 682, rfl⟩
abbrev main_v508 : Ref sig .tc := ⟨.hbm, 683, rfl⟩
abbrev main_v509 : Ref sig .tc := ⟨.hbm, 684, rfl⟩
abbrev main_v510 : Ref sig .tc := ⟨.hbm, 685, rfl⟩
abbrev main_cst_92 : Ref sig .tc := ⟨.hbm, 686, rfl⟩
abbrev main_v511 : Ref sig .tc := ⟨.hbm, 687, rfl⟩
abbrev main_cst_93 : Ref sig .tc := ⟨.hbm, 688, rfl⟩
abbrev main_v512 : Ref sig .tc := ⟨.hbm, 689, rfl⟩
abbrev main_v513 : Ref sig .tc := ⟨.hbm, 690, rfl⟩
abbrev main_v514 : Ref sig .tc := ⟨.hbm, 691, rfl⟩
abbrev main_cst_94 : Ref sig .tc := ⟨.hbm, 692, rfl⟩
abbrev main_v515 : Ref sig .tc := ⟨.hbm, 693, rfl⟩
abbrev main_v516 : Ref sig .tc := ⟨.hbm, 694, rfl⟩
abbrev main_v517 : Ref sig .tc := ⟨.hbm, 695, rfl⟩
abbrev main_v518 : Ref sig .tc := ⟨.hbm, 696, rfl⟩
abbrev main_v519 : Ref sig .tc := ⟨.hbm, 697, rfl⟩
abbrev main_c_95 : Ref sig .tc := ⟨.hbm, 698, rfl⟩
abbrev main_v520 : Ref sig .tc := ⟨.hbm, 699, rfl⟩
abbrev main_v521 : Ref sig .tc := ⟨.hbm, 700, rfl⟩
abbrev main_c_96 : Ref sig .tc := ⟨.hbm, 701, rfl⟩
abbrev main_v522 : Ref sig .tc := ⟨.hbm, 702, rfl⟩
abbrev main_v523 : Ref sig .tc := ⟨.hbm, 703, rfl⟩
abbrev main_v524 : Ref sig .tc := ⟨.hbm, 704, rfl⟩
abbrev main_v525 : Ref sig .tc := ⟨.hbm, 705, rfl⟩
abbrev main_v526 : Ref sig .tc := ⟨.hbm, 706, rfl⟩
abbrev main_v527 : Ref sig .tc := ⟨.hbm, 707, rfl⟩
abbrev main_v528 : Ref sig .tc := ⟨.hbm, 708, rfl⟩
abbrev main_v529 : Ref sig .tc := ⟨.hbm, 709, rfl⟩
abbrev main_cst_97 : Ref sig .tc := ⟨.hbm, 710, rfl⟩
abbrev main_v530 : Ref sig .tc := ⟨.hbm, 711, rfl⟩
abbrev main_v531 : Ref sig .tc := ⟨.hbm, 712, rfl⟩
abbrev main_v532 : Ref sig .tc := ⟨.hbm, 713, rfl⟩
abbrev main_v533 : Ref sig .tc := ⟨.hbm, 714, rfl⟩
abbrev main_cst_98 : Ref sig .tc := ⟨.hbm, 715, rfl⟩
abbrev main_v534 : Ref sig .tc := ⟨.hbm, 716, rfl⟩
abbrev main_v535 : Ref sig .tc := ⟨.hbm, 717, rfl⟩
abbrev main_v536 : Ref sig .tc := ⟨.hbm, 718, rfl⟩
abbrev main_v537 : Ref sig .tc := ⟨.hbm, 719, rfl⟩
abbrev main_v538 : Ref sig .tc := ⟨.hbm, 720, rfl⟩
abbrev main_v539 : Ref sig .tc := ⟨.hbm, 721, rfl⟩
abbrev main_v540 : Ref sig .tc := ⟨.hbm, 722, rfl⟩
abbrev main_v541 : Ref sig .tc := ⟨.hbm, 723, rfl⟩
abbrev main_v542 : Ref sig .tc := ⟨.hbm, 724, rfl⟩
abbrev main_v543 : Ref sig .tc := ⟨.hbm, 725, rfl⟩
abbrev main_v544 : Ref sig .tc := ⟨.hbm, 726, rfl⟩
abbrev main_cst_99 : Ref sig .tc := ⟨.hbm, 727, rfl⟩
abbrev main_v545 : Ref sig .tc := ⟨.hbm, 728, rfl⟩
abbrev main_v546 : Ref sig .tc := ⟨.hbm, 729, rfl⟩
abbrev main_v547 : Ref sig .tc := ⟨.hbm, 730, rfl⟩
abbrev main_cst_100 : Ref sig .tc := ⟨.hbm, 731, rfl⟩
abbrev main_v548 : Ref sig .tc := ⟨.hbm, 732, rfl⟩
abbrev main_cst_101 : Ref sig .tc := ⟨.hbm, 733, rfl⟩
abbrev main_v549 : Ref sig .tc := ⟨.hbm, 734, rfl⟩
abbrev main_v550 : Ref sig .tc := ⟨.hbm, 735, rfl⟩
abbrev main_v551 : Ref sig .tc := ⟨.hbm, 736, rfl⟩
abbrev main_cst_102 : Ref sig .tc := ⟨.hbm, 737, rfl⟩
abbrev main_v552 : Ref sig .tc := ⟨.hbm, 738, rfl⟩
abbrev main_v553 : Ref sig .tc := ⟨.hbm, 739, rfl⟩
abbrev main_v554 : Ref sig .tc := ⟨.hbm, 740, rfl⟩
abbrev main_v555 : Ref sig .tc := ⟨.hbm, 741, rfl⟩
abbrev main_v556 : Ref sig .tc := ⟨.hbm, 742, rfl⟩
abbrev main_c_103 : Ref sig .tc := ⟨.hbm, 743, rfl⟩
abbrev main_v557 : Ref sig .tc := ⟨.hbm, 744, rfl⟩
abbrev main_v558 : Ref sig .tc := ⟨.hbm, 745, rfl⟩
abbrev main_c_104 : Ref sig .tc := ⟨.hbm, 746, rfl⟩
abbrev main_v559 : Ref sig .tc := ⟨.hbm, 747, rfl⟩
abbrev main_v560 : Ref sig .tc := ⟨.hbm, 748, rfl⟩
abbrev main_v561 : Ref sig .tc := ⟨.hbm, 749, rfl⟩
abbrev main_v562 : Ref sig .tc := ⟨.hbm, 750, rfl⟩
abbrev main_v563 : Ref sig .tc := ⟨.hbm, 751, rfl⟩
abbrev main_v564 : Ref sig .tc := ⟨.hbm, 752, rfl⟩
abbrev main_v565 : Ref sig .tc := ⟨.hbm, 753, rfl⟩
abbrev main_v566 : Ref sig .tc := ⟨.hbm, 754, rfl⟩
abbrev main_v567 : Ref sig .tc := ⟨.hbm, 755, rfl⟩
abbrev main_cst_105 : Ref sig .tc := ⟨.hbm, 756, rfl⟩
abbrev main_v568 : Ref sig .tc := ⟨.hbm, 757, rfl⟩
abbrev main_cst_106 : Ref sig .tc := ⟨.hbm, 758, rfl⟩
abbrev main_v569 : Ref sig .tc := ⟨.hbm, 759, rfl⟩
abbrev main_v570 : Ref sig .tc := ⟨.hbm, 760, rfl⟩
abbrev main_cst_107 : Ref sig .tc := ⟨.hbm, 761, rfl⟩
abbrev main_v571 : Ref sig .tc := ⟨.hbm, 762, rfl⟩
abbrev main_cst_108 : Ref sig .tc := ⟨.hbm, 763, rfl⟩
abbrev main_v572 : Ref sig .tc := ⟨.hbm, 764, rfl⟩
abbrev main_v573 : Ref sig .tc := ⟨.hbm, 765, rfl⟩
abbrev main_v574 : Ref sig .tc := ⟨.hbm, 766, rfl⟩
abbrev main_cst_109 : Ref sig .tc := ⟨.hbm, 767, rfl⟩
abbrev main_v575 : Ref sig .tc := ⟨.hbm, 768, rfl⟩
abbrev main_cst_110 : Ref sig .tc := ⟨.hbm, 769, rfl⟩
abbrev main_v576 : Ref sig .tc := ⟨.hbm, 770, rfl⟩
abbrev main_v577 : Ref sig .tc := ⟨.hbm, 771, rfl⟩
abbrev main_cst_111 : Ref sig .tc := ⟨.hbm, 772, rfl⟩
abbrev main_v578 : Ref sig .tc := ⟨.hbm, 773, rfl⟩
abbrev main_cst_112 : Ref sig .tc := ⟨.hbm, 774, rfl⟩
abbrev main_v579 : Ref sig .tc := ⟨.hbm, 775, rfl⟩
abbrev main_v580 : Ref sig .tc := ⟨.hbm, 776, rfl⟩

abbrev nD : Nat := 1
abbrev τ : Topo := Topo.v7x

variable {F : FTy → Type} [FloatOps F]
-- ==== Proof.KernelIdealRun.lean ====
/- The launch of `KernelIdeal`, whose region has one output window and no input window: the proof data of the
   region, the run of the program, and the value of its result, which is zero whatever the arguments hold. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.Pipeline.ValueKit.Basic

@[expose] public section

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory of core `c` when its region is entered. -/
abbrev entered (c : Dev nD) : Valuation τ sig (Elt F) := StableHlo.after (List.flatten []) (fun b => m (c, b))

/-- The same memory, read at one buffer of the TensorCore. -/
abbrev enteredAt (c : Dev nD) (b : Ref sig .tc) : Buf (Elt F) ((c : Thread nD τ).loc b) :=
  entered m c (Proc.devRef .tc b)

/-- The line after the region allocates no buffer. -/
theorem tail_fresh : ∀ ops ∈ ([hostOps1] : List (List (HloOp τ sig (Elt F)))), ∀ op ∈ ops, op.fresh = ∅ := by
  intro ops hops op hop
  obtain rfl : ops = hostOps1 := by simpa using hops
  obtain rfl := List.mem_singleton.mp hop
  rfl

/-- The program is the lines before the region, the region, and the one line after it. -/
theorem main_around : Pipeline.HMainK (Ix := Unit) (Name := ℕ) (U := UR sig nD τ) (Lvl := ℕ) cfgs 0 defs₀
    Variants.none m (main (F := F)) (enteredAt m) (fun _ => Pipeline.chain ([hostOps1].map StableHlo.seq)) :=
  Pipeline.hmain_around cfgs 0 defs₀ Variants.none m main [] [hostOps1] (by simp only [List.Forall]) (by simp only [List.Forall]) main_chain

/-- The line after the region touches buffers of the program only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op (List.forall_iff_forall_mem.mp hostOps1_sub op hop)

/-- The line after the region does not write the array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  obtain rfl := List.mem_singleton.mp hop
  fin_cases w
  rw [StableHlo.reshape_writes, Finset.mem_singleton]
  exact StableHlo.devRef_ne_of_ne (by decide)

/-! ## The body -/

/-- The one cell the body stores. -/
abbrev whole : Rect S1x1 := Rect.unit (s := S1x1) ![0, 0] S1x1.size inb_S1x1_S1x1_0_0

/-- What the body leaves in its staging buffer: the stored zero. -/
def left : Vec F S1x1 .f32 := View.canon [⟨whole, k0_pay1 (F := F)⟩]

/-- The store covers the buffer. -/
theorem covered (p : Vec F S1x1 .f32) (y : S1x1.Idx) :
    ∃ pc ∈ ([⟨whole, p⟩] : List (View.Piece (Elt F) S1x1 .f32)), y ∈ pc.1.set :=
  View.cover_of_tiled [⟨whole, p⟩] S1x1.size (by rfl) y

set_option maxHeartbeats 1000000 in
/-- The body, from a staging buffer holding anything, ends with that buffer at `left`. -/
theorem body_runs (c : Dev nD) (E : Set ℕ) (a : Memref sig .tc .vmem S1x1 .f32) (ha : a.IsWhole) (K : PUnit → sProp 𝕄) :
    iprop((∃ d, owns (c : Thread nD τ) a fullShare d)
        ∗ (iprop(owns (c : Thread nD τ) a fullShare left) -∗ K ⟨⟩))
      ⊢ wp frame (wpE (defs₀ (F := F)) Variants.none c none) E (cc0_body a ha) K := by
  simp only [cc0_body_eq_skeleton]; unfold cc0_body_skel
  unfold owns
  iintro ⟨⟨%d0, %f0, -, H0⟩, Hk⟩
  sl_exec
  sl_step
  iapply Hk
  iexists _; isplitr
  swap; · iexact H0
  ipureintro
  exact View.read_writes_eq_canon _ _ _ (covered _)

/-- The proof data of the region on core `c`: its array as it finds it, its staging buffer at `left` after the body. -/
def data (_ : Fin 1) (c : Dev nD) : Dat τ (Elt F) Unit ℕ (UR sig nD τ) ℕ cfg0 c where
  A w := enteredAt m c (Pipeline.arrRef spec0 w)
  after w _ := match w with
    | ⟨0, _⟩ => left
  Φ _ := Pipeline.ΦA spec0 c
  q _ := fullShare
  owed _ := 0

theorem data_A (c : Dev nD) (w : Fin cfg0.W) : (data m 0 c).A w = enteredAt m c (Pipeline.arrRef spec0 w) := by
  dsimp only [data]

theorem data_after (c : Dev nD) (t : Fin cfg0.N) : (data m 0 c).after 0 t = left := by dsimp only [data]

/-- What the body is given at point `t`. -/
def given (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d)))

/-- What it returns there. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t))

/-- The body at any point, from what it is given to what it returns. -/
theorem body_at (c : Dev nD) (t : Fin cfg0.N) :
    given m c t ⊢ wp frame (wpE (defs₀ (F := F)) Variants.none c none) Set.univ (bodyAt0 t) (fun _ => returned m c t) := by
  unfold given returned bodyAt0
  rw [show (data m 0 c).Φ t.succ = (data m 0 c).Φ t.castSucc from rfl,
    show (data m 0 c).owesAt () t.succ = (data m 0 c).owesAt () t.castSucc from rfl,
    data_after]
  iintro ⟨HΦ, Ho, ⟨%d0, H0⟩⟩
  iapply (body_runs c Set.univ _ _ _)
  isplitl [H0]; · iexists _; iexact H0
  iintro ⟨H0⟩
  isplitl [HΦ]; · iexact HΦ
  isplitl [Ho]; · iexact Ho
  iexact H0

/-- The body of the region's table, at the slots of point `t`. -/
theorem table_row (t : Fin cfg0.N) :
    defs₀ (F := F) .tc cfg0.body (cfg0.bodyArgs t (cfg0.slots t)) = bodyAt0 t := by
  unfold defs₀; rw [Defs.onTc_tc]

/-- The region's obligation on its body. -/
theorem obligation (c : Dev nD) : BodyObligation (data (F := F) m 0 c) (defs₀ (F := F)) Variants.none () Set.univ := fun t => by
  rw [bigSep_W0, bigSep_W0, table_row]
  exact triple_restated (body_at m c t) rfl .rfl fun _ => .rfl

/-! ## The run -/

-- the implicit arguments are found by unifying the conclusions, which takes unfolding plain definitions in a
-- metavariable's type
set_option backward.isDefEq.respectTransparency.types false in
set_option maxHeartbeats 800000 in
/-- Every execution terminates; the region's array ends at what its write-back makes of it, every other buffer at
    what the program's last line leaves, every counter at zero. -/
theorem launched : θ_run defs (onTc (τ := τ) (main (F := F))) (s₀ m ρ) (fun r =>
    (Pipeline.FramePost cfgs (data m) 0 (Pipeline.afterTail₀ cfgs (data m) 0 (entered m) [hostOps1])) r
      ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := entered m) (opss := [hostOps1]) (hsub := tail_sub) (hfresh := tail_fresh)
    (hkeep := tail_keeps) (hmain := main_around m) (hA := data_A m) (hΦ := fun _ _ => rfl)

/-! ## The result -/

/-- The region's array is one block, so what is read of it there is the array. -/
theorem read_block (c : Dev nD) (f : Buf (Elt F) ((c : Thread nD τ).loc main_v0)) :
    (win0_0.blk t0_0).view.read (Elt F) f = f :=
  Memref.read_access_unit_zero (Elt F) main_v0
    (show (fun a => (win0_0.index t0_0) a * main_v0.ty.shape.size a) = fun _ => 0 from
      funext fun a => by fin_cases a <;> decide) (fun a => by fin_cases a <;> decide) f

/-- What is written back is what the body left. -/
theorem written (c : Dev nD) : (data (F := F) m 0 c).flushed 0 t0_0 = left := by
  show (cfg0.win 0).cut _ ((data (F := F) m 0 c).after 0 t0_0) = _
  rw [data_after]
  exact funext fun _ => rfl

/-- The region's array ends at what the body left. -/
theorem array_after (c : Dev nD) : (data (F := F) m 0 c).arrAt 0 cfg0.N = left := by
  have hw : ((cfg0.win 0).blk t0_0).view.read (Elt F) ((data (F := F) m 0 c).arrAt 0 cfg0.N)
      = (data (F := F) m 0 c).flushed 0 t0_0 := by
    rw [show cfg0.N = t0_0.val + 1 from rfl, (data m 0 c).arrAt_succ (0 : Fin 1) t0_0, flush0_0, if_pos rfl]
    exact View.read_write_univ _ _
  rw [written] at hw
  exact (read_block c _).symm.trans hw

/-- The cell the body left is the zero it stored. -/
theorem left_eq (i : S1x1.Idx) : left (F := F) i = FloatOps.ofBits .f32 0x00000000#32 := by
  unfold left
  rw [View.canon_cons_unit_lit _ _ _ (fun a => by fin_cases a <;> rfl)]
  rfl

/-- The last line copies the region's one cell into the scalar result. -/
theorem tail_result (c : Dev nD) :
    Pipeline.afterTail₀ cfgs (data (F := F) m) 0 (entered m) [hostOps1] c main_v1
      = fun _ => FloatOps.ofBits .f32 0x00000000#32 := by
  unfold Pipeline.afterTail₀
  show StableHlo.after hostOps1 _ (Proc.devRef .tc main_v1) = _
  rw [StableHlo.after_cons, StableHlo.after_nil, StableHlo.reshape_result]
  have h := Pipeline.withArrays_arr (cfgs 0).spec launch0.win.arr_inj c (entered m c)
    (fun w => (data (F := F) m 0 c).arrAt w (cfgs 0).N) 0
  funext i
  show shapeCast S_ (Pipeline.withArrays (cfgs 0).spec c (entered m c)
    (fun w => (data (F := F) m 0 c).arrAt w (cfgs 0).N) (Proc.devRef .tc main_v0)) shapeCasts_S1x1_S_ i = _
  rw [show Pipeline.withArrays (cfgs 0).spec c (entered m c)
    (fun w => (data (F := F) m 0 c).arrAt w (cfgs 0).N) (Proc.devRef .tc main_v0) = left from h.trans (array_after m c)]
  exact left_eq _

/-- A buffer that is neither the region's array nor the result is as launched after the last line. -/
theorem tail_untouched (c : Dev nD) (b : Ref sig .tc) (h0 : b ≠ main_v0) (h1 : b ≠ main_v1) :
    Pipeline.afterTail₀ cfgs (data (F := F) m) 0 (entered m) [hostOps1] c b = m ((c : Thread nD τ).loc b) := by
  unfold Pipeline.afterTail₀
  show StableHlo.after hostOps1 _ (Proc.devRef .tc b) = _
  rw [StableHlo.after_cons, StableHlo.after_nil, StableHlo.reshape_result_ne _ _ _ _ _ _ _ h1,
    Pipeline.withArrays_of_ne _ c (entered m c) _ b (fun w => by fin_cases w; exact fun e => h0 e.symm)]
  rfl

/-- THE RUN. Every execution from any memory terminates; every argument buffer is as launched, the result is zero,
    and every counter is zero. -/
theorem run : θ_run defs (onTc (τ := τ) (main (F := F))) ⟨m, fun _ => 0, ρ⟩ (fun r => (∀ c : Dev nD,
    (∀ b : Ref sig .tc, b.isScoped = false → b ≠ main_v0 → b ≠ main_v1 →
      r.2.mem ((c.tc : Thread nD τ).loc b) = m ((c.tc : Thread nD τ).loc b))
    ∧ r.2.mem ((c.tc : Thread nD τ).loc main_v1) = fun _ => FloatOps.ofBits .f32 0x00000000#32)
    ∧ r.2.sem = fun _ => 0) :=
  (θ_run defs _ _).mono (fun _ h => ⟨fun c =>
    ⟨fun b hs h0 h1 => ((h.1 c).2 b (Pipeline.mem_restRefs_of b hs (fun w => by
        fin_cases w; exact fun e => h0 e.symm))).trans (tail_untouched m c b h0 h1),
      ((h.1 c).2 main_v1 (Pipeline.mem_restRefs_of main_v1 (by decide) (by decide))).trans (tail_result m c)⟩, h.2⟩)
    (launched m ρ)

end Cert.KernelIdeal.Launched

end
-- ==== Proof.Loss.lean ====
/- The loss is a sum of two means of squares. Nothing here mentions a program: the facts are about sums, quotients and
   squares of extended reals, and about a mean of means of a nonnegative array. -/
module

public import Idealize.ShloMosaic.Lib.IdealHost
public import Idealize.ShloMosaic.PureOps.Ideal.Laws

@[expose] public section

noncomputable section

namespace Cert.Loss

open Idealize.ShloMosaic

/-- The square of an extended real is not negative. -/
theorem square_nonneg (x : EReal) : 0 ≤ x * x := by
  rcases le_total 0 x with h | h
  · exact mul_nonneg h h
  · have h' : 0 ≤ -x := EReal.neg_nonneg.mpr h
    have e : x * x = -x * -x := by rw [neg_mul_neg]
    rw [e]; exact mul_nonneg h' h'

/-- The square of an extended real other than zero is positive. -/
theorem square_pos {x : EReal} (hx : x ≠ 0) : 0 < x * x := by
  refine lt_of_le_of_ne (square_nonneg x) fun e => hx ?_
  rcases mul_eq_zero.mp e.symm with h | h <;> exact h

/-- A nonnegative value divided by a positive finite one is nonnegative. -/
theorem div_nonneg {x : EReal} {y : ℝ} (hx : 0 ≤ x) (hy : 0 < y) : 0 ≤ Ideal.div x (y : EReal) := by
  unfold Ideal.div
  rw [if_neg (by exact_mod_cast hy.ne'), ← EReal.coe_inv]
  exact mul_nonneg hx (by exact_mod_cast (inv_pos.mpr hy).le)

/-- A positive value divided by a positive finite one is positive. -/
theorem div_pos {x : EReal} {y : ℝ} (hx : 0 < x) (hy : 0 < y) : 0 < Ideal.div x (y : EReal) := by
  unfold Ideal.div
  rw [if_neg (by exact_mod_cast hy.ne'), ← EReal.coe_inv]
  exact EReal.mul_pos hx (by exact_mod_cast inv_pos.mpr hy)

section Sums

variable {s t u : Shape} {axes : List (Fin s.rank)}

/-- A host sum from zero of a nonnegative array is nonnegative everywhere. -/
theorem sum_nonneg (x : FVec Ideal s .f32) (h : s.ReducesTo axes t) (hu : 0 < u.numel) (hx : ∀ i, (0 : EReal) ≤ x i)
    (j : t.Idx) : (0 : EReal) ≤ Host.reduceAdd x (constant u .f32 0x00000000#32) h hu j := by
  rw [ValueIdx.hostReduceAdd_apply]
  show (0 : EReal) ≤ Ideal.ofBits .f32 0x00000000#32 + _
  rw [Ideal.ofBits_zero_f32, zero_add]
  exact Finset.sum_nonneg fun i _ => hx i

/-- And positive where one of the summed entries is positive. -/
theorem sum_pos (x : FVec Ideal s .f32) (h : s.ReducesTo axes t) (hu : 0 < u.numel) (hx : ∀ i, (0 : EReal) ≤ x i)
    (i : s.Idx) (hi : (0 : EReal) < x i) (j : t.Idx) (hj : h.drop i = j) :
    (0 : EReal) < Host.reduceAdd x (constant u .f32 0x00000000#32) h hu j := by
  rw [ValueIdx.hostReduceAdd_apply]
  show (0 : EReal) < Ideal.ofBits .f32 0x00000000#32 + _
  rw [Ideal.ofBits_zero_f32, zero_add]
  refine lt_of_lt_of_le hi ?_
  exact Finset.single_le_sum (f := fun i => (x i : EReal)) (fun i _ => hx i)
    (Finset.mem_filter.mpr ⟨Finset.mem_univ i, hj⟩)

end Sums

variable {s a b u : Shape} {axes : List (Fin s.rank)} {axes' : List (Fin a.rank)}

/-- A mean of means of a nonnegative array is nonnegative; the divisors are positive reals. -/
theorem mean_nonneg (x : FVec Ideal s .f32) (h : s.ReducesTo axes a) (h' : a.ReducesTo axes' b) (hu : 0 < u.numel)
    (n : FVec Ideal a .f32) (k : FVec Ideal b .f32) (y z : ℝ) (hy : 0 < y) (hz : 0 < z) (hn : ∀ i, n i = (y : EReal))
    (hk : ∀ j, k j = (z : EReal)) (hx : ∀ i, (0 : EReal) ≤ x i) (j : b.Idx) :
    (0 : EReal) ≤ Host.divf (Host.reduceAdd (Host.divf (Host.reduceAdd x (constant u .f32 0x00000000#32) h hu) n)
      (constant u .f32 0x00000000#32) h' hu) k j := by
  show (0 : EReal) ≤ Ideal.div _ (k j)
  rw [hk]
  refine div_nonneg (sum_nonneg _ _ _ (fun i => ?_) j) hz
  show (0 : EReal) ≤ Ideal.div _ (n i)
  rw [hn]
  exact div_nonneg (sum_nonneg _ _ _ hx i) hy

/-- And positive when one entry of the array is, the result being a scalar. -/
theorem mean_pos (x : FVec Ideal s .f32) (h : s.ReducesTo axes a) (h' : a.ReducesTo axes' b) (hu : 0 < u.numel)
    (hb : b.rank = 0) (n : FVec Ideal a .f32) (k : FVec Ideal b .f32) (y z : ℝ) (hy : 0 < y) (hz : 0 < z)
    (hn : ∀ i, n i = (y : EReal)) (hk : ∀ j, k j = (z : EReal)) (hx : ∀ i, (0 : EReal) ≤ x i) (i : s.Idx)
    (hi : (0 : EReal) < x i) (j : b.Idx) :
    (0 : EReal) < Host.divf (Host.reduceAdd (Host.divf (Host.reduceAdd x (constant u .f32 0x00000000#32) h hu) n)
      (constant u .f32 0x00000000#32) h' hu) k j := by
  show (0 : EReal) < Ideal.div _ (k j)
  rw [hk]
  refine div_pos (sum_pos _ _ _ (fun i => ?_) (h.drop i) ?_ j (funext fun c => absurd c.isLt (by omega))) hz
  · show (0 : EReal) ≤ Ideal.div _ (n i)
    rw [hn]
    exact div_nonneg (sum_nonneg _ _ _ hx i) hy
  · show (0 : EReal) < Ideal.div _ (n _)
    rw [hn]
    exact div_pos (sum_pos _ _ _ hx i hi _ rfl) hy

/-- The sum of two such means is positive when the second is of an array with a positive entry. -/
theorem loss_pos {s' a' : Shape} {axes₂ : List (Fin s'.rank)} {axes₂' : List (Fin a'.rank)}
    (x : FVec Ideal s .f32) (h : s.ReducesTo axes a) (h' : a.ReducesTo axes' b) (hu : 0 < u.numel)
    (n : FVec Ideal a .f32) (k : FVec Ideal b .f32) (y z : ℝ) (hy : 0 < y) (hz : 0 < z) (hn : ∀ i, n i = (y : EReal))
    (hk : ∀ j, k j = (z : EReal)) (hx : ∀ i, (0 : EReal) ≤ x i) (hb : b.rank = 0)
    (x' : FVec Ideal s' .f32) (h₂ : s'.ReducesTo axes₂ a') (h₂' : a'.ReducesTo axes₂' b)
    (n' : FVec Ideal a' .f32) (k' : FVec Ideal b .f32) (y' z' : ℝ) (hy' : 0 < y') (hz' : 0 < z')
    (hn' : ∀ i, n' i = (y' : EReal)) (hk' : ∀ j, k' j = (z' : EReal)) (hx' : ∀ i, (0 : EReal) ≤ x' i) (i : s'.Idx)
    (hi : (0 : EReal) < x' i) (j : b.Idx) :
    (0 : EReal) < addf
      (Host.divf (Host.reduceAdd (Host.divf (Host.reduceAdd x (constant u .f32 0x00000000#32) h hu) n)
        (constant u .f32 0x00000000#32) h' hu) k)
      (Host.divf (Host.reduceAdd (Host.divf (Host.reduceAdd x' (constant u .f32 0x00000000#32) h₂ hu) n')
        (constant u .f32 0x00000000#32) h₂' hu) k') j :=
  lt_of_lt_of_le (mean_pos x' h₂ h₂' hu hb n' k' y' z' hy' hz' hn' hk' hx' i hi j)
    (le_add_of_nonneg_left (mean_nonneg x h h' hu n k y z hy hz hn hk hx j))

/-- A matrix product with a zero right factor is zero, whatever the left factor holds: zero times an infinity is zero. -/
theorem product_zero {l r o : Shape} {φ : FTy} (d : DotDims l r o) (prec : Option ContractPrecision) (x : FVec Ideal l φ)
    (w : FVec Ideal r φ) (hw : ∀ i, w i = (0 : EReal)) (j : o.Idx) :
    Host.dotGeneral (F := Ideal) d prec x w j = (0 : EReal) := by
  simp only [Host.dotGeneral]
  rw [Ideal.dotGeneral_apply]
  exact Finset.sum_eq_zero fun k _ => by rw [hw]; exact mul_zero _

/-- The bit patterns of the four counts the means divide by. -/
theorem three : Ideal.ofBits .f32 0x40400000#32 = ((3 : ℝ) : EReal) := by
  simp [Ideal.ofBits, Ideal.ieee]; rw [← EReal.coe_mul]; norm_num

theorem nine : Ideal.ofBits .f32 0x41100000#32 = ((9 : ℝ) : EReal) := by
  simp [Ideal.ofBits, Ideal.ieee]; rw [← EReal.coe_mul]; norm_num

theorem onetwentyeight : Ideal.ofBits .f32 0x43000000#32 = ((128 : ℝ) : EReal) := by
  simp [Ideal.ofBits, Ideal.ieee]; rw [← EReal.coe_mul]; norm_num

theorem tenthousand : Ideal.ofBits .f32 0x461C4000#32 = ((10000 : ℝ) : EReal) := by
  simp [Ideal.ofBits, Ideal.ieee]; rw [← EReal.coe_mul]; norm_num

/-- No extended real equals both of two reals that differ. -/
theorem not_both (x : EReal) {y z : ℝ} (h : y ≠ z) : x - (y : EReal) ≠ 0 ∨ x - (z : EReal) ≠ 0 := by
  by_contra hc
  push Not at hc
  obtain ⟨hy, hz⟩ := hc
  induction x with
  | bot => simp at hy
  | top => simp at hy
  | coe r =>
    rw [← EReal.coe_sub] at hy hz
    have ey : r - y = 0 := by exact_mod_cast hy
    have ez : r - z = 0 := by exact_mod_cast hz
    exact h (by linarith)

/-- The two noise entries compared (the same cell entry of the first and of the second graph) are reals that differ. -/
theorem noise_first : Ideal.ofBits .f32 0x3F082D0C#32 = ((8924428 / 2 ^ 24 : ℝ) : EReal) := by
  simp [Ideal.ofBits, Ideal.ieee]; rw [← EReal.coe_mul]; norm_num

theorem noise_second : Ideal.ofBits .f32 0xBEA1A646#32 = ((-10593862 / 2 ^ 25 : ℝ) : EReal) := by
  simp [Ideal.ofBits, Ideal.ieee]; rw [← EReal.coe_mul, ← EReal.coe_neg]; norm_num

/-- So a prediction that both graphs share misses one of the two. -/
theorem misses (x : EReal) :
    x - Ideal.ofBits .f32 0x3F082D0C#32 ≠ 0 ∨ x - Ideal.ofBits .f32 0xBEA1A646#32 ≠ 0 := by
  rw [noise_first, noise_second]
  exact not_both x (by norm_num)

end Cert.Loss

end
-- ==== Proof.ReferenceIdealPositive.lean ====
/- The reference's result as the sum of two means of squares, when the weights of its cell readout are zero: every graph
   is then predicted the same cell noise, the bias, but the noise drawn for the first graph isn't that for the second. -/
module

public import proofs.«01_k».proof.Proof.Gen.ReferenceIdeal.Run
public import proofs.«01_k».proof.Proof.Loss
public import Idealize.ShloMosaic.Lib.Quiescent

@[expose] public section

noncomputable section

namespace Cert.ReferenceIdeal.Positive

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ) (c : Dev nD)

/-- The first cell entry of the first and of the second graph, as positions in the squared error's layout. -/
def first : S128x9.Idx := ValueIdx.ix2 0 0
def second : S128x9.Idx := ValueIdx.ix2 1 0

/-- The bias as it is added to the prediction: one row, the same for every graph. -/
abbrev bias (V : Valuation τ sig (Elt Ideal)) : FVec Ideal S128x9 .f32 :=
  broadcastInDim S128x9 ![0, 1] bcast_S1x9_S128x9_0_1 (broadcastInDim S1x9 ![1] bcast_S9_S1x9_1 (V (Proc.devRef .tc main_arg21)))

/-- Both graphs get the same bias there. -/
theorem bias_shared (V : Valuation τ sig (Elt Ideal)) : bias V second = bias V first := by
  refine congrArg (V (Proc.devRef .tc main_arg21)) (funext fun a => ?_)
  fin_cases a
  rfl

/-- The noise drawn for the two, as printed. -/
theorem noise_words : lit0 0 = 0x3F082D0C#32 ∧ lit0 9 = 0xBEA1A646#32 := ⟨rfl, rfl⟩

/-- With zero weights the cell error is the bias minus the noise. -/
theorem error_at (V : Valuation τ sig (Elt Ideal)) (hW : ∀ i, V (Proc.devRef .tc main_arg20) i = (0 : EReal))
    (i : S128x3x3.Idx) :
    res_main_v541 V i = bias V (Shape.reshapeEquiv shapeCasts_S128x9_S128x3x3 i) - Ideal.ofBits .f32 (lit0 (S128x3x3.rowMajor i)) := by
  unfold res_main_v541
  show ((_ : EReal) + bias V _) - _ = _
  refine congrArg₂ (fun x y : EReal => x - y) ?_ rfl
  exact (congrArg₂ (fun x y : EReal => x + y) (Loss.product_zero _ _ _ _ hW _) rfl).trans (zero_add _)

/-- The same in the layout the squares are averaged in: row-major positions are kept. -/
theorem error_eq (V : Valuation τ sig (Elt Ideal)) (hW : ∀ i, V (Proc.devRef .tc main_arg20) i = (0 : EReal))
    (k : S128x9.Idx) (n : Fin 1152) (hk : (S128x9.rowMajor k : ℕ) = n) (w : BitVec 32) (hw : lit0 n = w) :
    res_main_v541 V (Shape.reshapeEquiv shapeCasts_S128x3x3_S128x9 k) = bias V k - Ideal.ofBits .f32 w := by
  have hn : S128x3x3.rowMajor (Shape.reshapeEquiv shapeCasts_S128x3x3_S128x9 k) = n :=
    Fin.ext ((Shape.rowMajor_reshapeEquiv _ k).trans hk)
  have back : Shape.reshapeEquiv shapeCasts_S128x9_S128x3x3 (Shape.reshapeEquiv shapeCasts_S128x3x3_S128x9 k) = k := by
    rw [Shape.reshapeEquiv_reshapeEquiv, Shape.reshapeEquiv_self]
  exact (error_at V hW _).trans (congrArg₂ (fun (i : S128x9.Idx) (w : BitVec 32) => bias V i - Ideal.ofBits .f32 w) back
    ((congrArg lit0 hn).trans hw))

/-- With zero weights the result is positive. -/
theorem positive (hW : ∀ i, m ((c.tc : Thread nD τ).loc main_arg20) i = (0 : EReal)) (j : S_.Idx) :
    (0 : EReal) < (addf (Host.divf (Host.reduceAdd (Host.divf (Host.reduceAdd (mulf (res_main_v549 (launchContents m c)) (res_main_v549 (launchContents m c))) (constant S_ .f32 0x00000000#32) reducesTo_S10000x3_S10000_d1 h_S_) (broadcastInDim S10000 ![] bcast_S_S10000 (constant S_ .f32 0x40400000#32))) (constant S_ .f32 0x00000000#32) reducesTo_S10000_S_d0 h_S_) (constant S_ .f32 0x461C4000#32)) (Host.divf (Host.reduceAdd (Host.divf (Host.reduceAdd (shapeCast _ (mulf (res_main_v541 (launchContents m c)) (res_main_v541 (launchContents m c))) shapeCasts_S128x3x3_S128x9) (constant S_ .f32 0x00000000#32) reducesTo_S128x9_S128_d1 h_S_) (broadcastInDim S128 ![] bcast_S_S128 (constant S_ .f32 0x41100000#32))) (constant S_ .f32 0x00000000#32) reducesTo_S128_S_d0 h_S_) (constant S_ .f32 0x43000000#32)) : FVec Ideal S_ .f32) j := by
  obtain ⟨k, hk⟩ : ∃ k, res_main_v541 (launchContents m c) (Shape.reshapeEquiv shapeCasts_S128x3x3_S128x9 k) ≠ (0 : EReal) := by
    rcases Loss.misses (bias (launchContents m c) first) with h | h
    · exact ⟨first, ne_of_eq_of_ne (error_eq _ hW first 0 (by decide) _ noise_words.1) h⟩
    · exact ⟨second, ne_of_eq_of_ne (error_eq _ hW second 9 (by decide) _ noise_words.2) (by rw [bias_shared]; exact h)⟩
  refine Loss.loss_pos _ _ _ _ _ _ 3 10000 (by norm_num) (by norm_num) (fun _ => Loss.three) (fun _ => Loss.tenthousand)
    (fun i => Loss.square_nonneg _) rfl _ _ _ _ _ 9 128 (by norm_num) (by norm_num) (fun _ => Loss.nine)
    (fun _ => Loss.onetwentyeight) (fun i => Loss.square_nonneg _) k ?_ j
  exact Loss.square_pos hk

/-- Every run ends with the arguments unchanged, every counter at zero and, from a readout with zero weights, a positive result. -/
theorem runs (ρ : Dev nD → PrngReg) : θ_run defs (onTc (τ := τ) (main (F := Ideal))) ⟨m, fun _ => 0, ρ⟩ fun r =>
    (∀ c : Dev nD, ((∀ i, m ((c.tc : Thread nD τ).loc main_arg20) i = (0 : EReal)) →
        ∀ j, (0 : EReal) < r.2.mem ((c.tc : Thread nD τ).loc main_v556) j)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)))
    ∧ r.2.sem = fun _ => 0 := by
  refine (θ_run defs _ _).mono (fun r h => ⟨fun c => ⟨fun hW j => ?_, (h c).2⟩, sem_eq_zero_of_no_sems rfl _⟩) (Value.run m ρ)
  rw [(h c).1]
  exact positive m c hW j

end Cert.ReferenceIdeal.Positive

end
-- ==== Proof.KernelAtIdealRun.lean ====
/- The launch of `KernelAtIdeal`, whose region has one output window and no input window: the proof data of the
   region, the run of the program, and the value of its result, which is zero whatever the arguments hold. -/
module

public import proofs.«01_k».proof.Proof.Gen.KernelAtIdeal.Launch
public import proofs.«01_k».proof.Proof.Gen.KernelAtIdeal.Skeleton
public import proofs.«01_k».proof.Proof.Gen.KernelAtIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.Pipeline.ValueKit.Basic

@[expose] public section

noncomputable section

namespace Cert.KernelAtIdeal.Launched

open Cert.KernelAtIdeal Cert.KernelAtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory of core `c` when its region is entered. -/
abbrev entered (c : Dev nD) : Valuation τ sig (Elt F) := StableHlo.after (List.flatten [hostOps0]) (fun b => m (c, b))

/-- The same memory, read at one buffer of the TensorCore. -/
abbrev enteredAt (c : Dev nD) (b : Ref sig .tc) : Buf (Elt F) ((c : Thread nD τ).loc b) :=
  entered m c (Proc.devRef .tc b)

/-- The lines before the region allocate no buffer. -/
theorem lead_fresh : (hostOps0 : List (HloOp τ sig (Elt F))).Forall fun op => op.fresh = ∅ := by
  simp only [List.Forall]; repeat' constructor

/-- The line after the region allocates no buffer. -/
theorem tail_fresh : ∀ ops ∈ ([hostOps1] : List (List (HloOp τ sig (Elt F)))), ∀ op ∈ ops, op.fresh = ∅ := by
  intro ops hops op hop
  obtain rfl : ops = hostOps1 := by simpa using hops
  obtain rfl := List.mem_singleton.mp hop
  rfl

/-- The program is the lines before the region, the region, and the one line after it. -/
theorem main_around : Pipeline.HMainK (Ix := Unit) (Name := ℕ) (U := UR sig nD τ) (Lvl := ℕ) cfgs 0 defs₀
    Variants.none m (main (F := F)) (enteredAt m) (fun _ => Pipeline.chain ([hostOps1].map StableHlo.seq)) :=
  Pipeline.hmain_around cfgs 0 defs₀ Variants.none m main [hostOps0] [hostOps1] (by simp only [List.Forall]; exact hostOps0_sub) (by simp only [List.Forall]; exact lead_fresh) main_chain

/-- The line after the region touches buffers of the program only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op (List.forall_iff_forall_mem.mp hostOps1_sub op hop)

/-- The line after the region does not write the array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  obtain rfl := List.mem_singleton.mp hop
  fin_cases w
  rw [StableHlo.reshape_writes, Finset.mem_singleton]
  exact StableHlo.devRef_ne_of_ne (by decide)

/-! ## The body -/

/-- The one cell the body stores. -/
abbrev whole : Rect S1x1 := Rect.unit (s := S1x1) ![0, 0] S1x1.size inb_S1x1_S1x1_0_0

/-- What the body leaves in its staging buffer: the stored zero. -/
def left : Vec F S1x1 .f32 := View.canon [⟨whole, k0_pay1 (F := F)⟩]

/-- The store covers the buffer. -/
theorem covered (p : Vec F S1x1 .f32) (y : S1x1.Idx) :
    ∃ pc ∈ ([⟨whole, p⟩] : List (View.Piece (Elt F) S1x1 .f32)), y ∈ pc.1.set :=
  View.cover_of_tiled [⟨whole, p⟩] S1x1.size (by rfl) y

set_option maxHeartbeats 1000000 in
/-- The body, from a staging buffer holding anything, ends with that buffer at `left`. -/
theorem body_runs (c : Dev nD) (E : Set ℕ) (a : Memref sig .tc .vmem S1x1 .f32) (ha : a.IsWhole) (K : PUnit → sProp 𝕄) :
    iprop((∃ d, owns (c : Thread nD τ) a fullShare d)
        ∗ (iprop(owns (c : Thread nD τ) a fullShare left) -∗ K ⟨⟩))
      ⊢ wp frame (wpE (defs₀ (F := F)) Variants.none c none) E (cc0_body a ha) K := by
  simp only [cc0_body_eq_skeleton]; unfold cc0_body_skel
  unfold owns
  iintro ⟨⟨%d0, %f0, -, H0⟩, Hk⟩
  sl_exec
  sl_step
  iapply Hk
  iexists _; isplitr
  swap; · iexact H0
  ipureintro
  exact View.read_writes_eq_canon _ _ _ (covered _)

/-- The proof data of the region on core `c`: its array as it finds it, its staging buffer at `left` after the body. -/
def data (_ : Fin 1) (c : Dev nD) : Dat τ (Elt F) Unit ℕ (UR sig nD τ) ℕ cfg0 c where
  A w := enteredAt m c (Pipeline.arrRef spec0 w)
  after w _ := match w with
    | ⟨0, _⟩ => left
  Φ _ := Pipeline.ΦA spec0 c
  q _ := fullShare
  owed _ := 0

theorem data_A (c : Dev nD) (w : Fin cfg0.W) : (data m 0 c).A w = enteredAt m c (Pipeline.arrRef spec0 w) := by
  dsimp only [data]

theorem data_after (c : Dev nD) (t : Fin cfg0.N) : (data m 0 c).after 0 t = left := by dsimp only [data]

/-- What the body is given at point `t`. -/
def given (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d)))

/-- What it returns there. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t))

/-- The body at any point, from what it is given to what it returns. -/
theorem body_at (c : Dev nD) (t : Fin cfg0.N) :
    given m c t ⊢ wp frame (wpE (defs₀ (F := F)) Variants.none c none) Set.univ (bodyAt0 t) (fun _ => returned m c t) := by
  unfold given returned bodyAt0
  rw [show (data m 0 c).Φ t.succ = (data m 0 c).Φ t.castSucc from rfl,
    show (data m 0 c).owesAt () t.succ = (data m 0 c).owesAt () t.castSucc from rfl,
    data_after]
  iintro ⟨HΦ, Ho, ⟨%d0, H0⟩⟩
  iapply (body_runs c Set.univ _ _ _)
  isplitl [H0]; · iexists _; iexact H0
  iintro ⟨H0⟩
  isplitl [HΦ]; · iexact HΦ
  isplitl [Ho]; · iexact Ho
  iexact H0

/-- The body of the region's table, at the slots of point `t`. -/
theorem table_row (t : Fin cfg0.N) :
    defs₀ (F := F) .tc cfg0.body (cfg0.bodyArgs t (cfg0.slots t)) = bodyAt0 t := by
  unfold defs₀; rw [Defs.onTc_tc]

/-- The region's obligation on its body. -/
theorem obligation (c : Dev nD) : BodyObligation (data (F := F) m 0 c) (defs₀ (F := F)) Variants.none () Set.univ := fun t => by
  rw [bigSep_W0, bigSep_W0, table_row]
  exact triple_restated (body_at m c t) rfl .rfl fun _ => .rfl

/-! ## The run -/

-- the implicit arguments are found by unifying the conclusions, which takes unfolding plain definitions in a
-- metavariable's type
set_option backward.isDefEq.respectTransparency.types false in
set_option maxHeartbeats 800000 in
/-- Every execution terminates; the region's array ends at what its write-back makes of it, every other buffer at
    what the program's last line leaves, every counter at zero. -/
theorem launched : θ_run defs (onTc (τ := τ) (main (F := F))) (s₀ m ρ) (fun r =>
    (Pipeline.FramePost cfgs (data m) 0 (Pipeline.afterTail₀ cfgs (data m) 0 (entered m) [hostOps1])) r
      ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := entered m) (opss := [hostOps1]) (hsub := tail_sub) (hfresh := tail_fresh)
    (hkeep := tail_keeps) (hmain := main_around m) (hA := data_A m) (hΦ := fun _ _ => rfl)

/-! ## The result -/

/-- The region's array is one block, so what is read of it there is the array. -/
theorem read_block (c : Dev nD) (f : Buf (Elt F) ((c : Thread nD τ).loc main_v24)) :
    (win0_0.blk t0_0).view.read (Elt F) f = f :=
  Memref.read_access_unit_zero (Elt F) main_v24
    (show (fun a => (win0_0.index t0_0) a * main_v24.ty.shape.size a) = fun _ => 0 from
      funext fun a => by fin_cases a <;> decide) (fun a => by fin_cases a <;> decide) f

/-- What is written back is what the body left. -/
theorem written (c : Dev nD) : (data (F := F) m 0 c).flushed 0 t0_0 = left := by
  show (cfg0.win 0).cut _ ((data (F := F) m 0 c).after 0 t0_0) = _
  rw [data_after]
  exact funext fun _ => rfl

/-- The region's array ends at what the body left. -/
theorem array_after (c : Dev nD) : (data (F := F) m 0 c).arrAt 0 cfg0.N = left := by
  have hw : ((cfg0.win 0).blk t0_0).view.read (Elt F) ((data (F := F) m 0 c).arrAt 0 cfg0.N)
      = (data (F := F) m 0 c).flushed 0 t0_0 := by
    rw [show cfg0.N = t0_0.val + 1 from rfl, (data m 0 c).arrAt_succ (0 : Fin 1) t0_0, flush0_0, if_pos rfl]
    exact View.read_write_univ _ _
  rw [written] at hw
  exact (read_block c _).symm.trans hw

/-- The cell the body left is the zero it stored. -/
theorem left_eq (i : S1x1.Idx) : left (F := F) i = FloatOps.ofBits .f32 0x00000000#32 := by
  unfold left
  rw [View.canon_cons_unit_lit _ _ _ (fun a => by fin_cases a <;> rfl)]
  rfl

/-- The last line copies the region's one cell into the scalar result. -/
theorem tail_result (c : Dev nD) :
    Pipeline.afterTail₀ cfgs (data (F := F) m) 0 (entered m) [hostOps1] c main_v25
      = fun _ => FloatOps.ofBits .f32 0x00000000#32 := by
  unfold Pipeline.afterTail₀
  show StableHlo.after hostOps1 _ (Proc.devRef .tc main_v25) = _
  rw [StableHlo.after_cons, StableHlo.after_nil, StableHlo.reshape_result]
  have h := Pipeline.withArrays_arr (cfgs 0).spec launch0.win.arr_inj c (entered m c)
    (fun w => (data (F := F) m 0 c).arrAt w (cfgs 0).N) 0
  funext i
  show shapeCast S_ (Pipeline.withArrays (cfgs 0).spec c (entered m c)
    (fun w => (data (F := F) m 0 c).arrAt w (cfgs 0).N) (Proc.devRef .tc main_v24)) shapeCasts_S1x1_S_ i = _
  rw [show Pipeline.withArrays (cfgs 0).spec c (entered m c)
    (fun w => (data (F := F) m 0 c).arrAt w (cfgs 0).N) (Proc.devRef .tc main_v24) = left from h.trans (array_after m c)]
  exact left_eq _

/-- THE RUN. Every execution from any memory terminates with the result at zero. -/
theorem run : θ_run defs (onTc (τ := τ) (main (F := F))) ⟨m, fun _ => 0, ρ⟩ (fun r => ∀ c : Dev nD,
    r.2.mem ((c.tc : Thread nD τ).loc main_v25) = fun _ => FloatOps.ofBits .f32 0x00000000#32) :=
  (θ_run defs _ _).mono (fun _ h c =>
    ((h.1 c).2 main_v25 (Pipeline.mem_restRefs_of main_v25 (by decide) (by decide))).trans (tail_result m c)) (launched m ρ)

end Cert.KernelAtIdeal.Launched

end
-- ==== Proof.ReferenceAtIdealPositive.lean ====
/- The reference's result as the sum of two means of squares, when the weights of its cell readout are zero: every graph
   is then predicted the same cell noise, the bias, but the noise drawn for the first graph isn't that for the second. -/
module

public import proofs.«01_k».proof.Proof.Gen.ReferenceAtIdeal.Run
public import proofs.«01_k».proof.Proof.Loss
public import Idealize.ShloMosaic.Lib.Quiescent

@[expose] public section

noncomputable section

namespace Cert.ReferenceAtIdeal.Positive

open Cert.ReferenceAtIdeal Cert.ReferenceAtIdeal.Gen Cert.ReferenceAtIdeal.Value Idealize.ShloMosaic Idealize.ShloMosaic.TcCoe Idealize.SL.Sem Idealize.ShloMosaic.StableHlo

variable (m : (ℓ : Loc nD τ sig) → Buf (Elt Ideal) ℓ) (c : Dev nD)

/-- The first cell entry of the first and of the second graph, as positions in the squared error's layout. -/
def first : S128x9.Idx := ValueIdx.ix2 0 0
def second : S128x9.Idx := ValueIdx.ix2 1 0

/-- The bias as it is added to the prediction: one row, the same for every graph. -/
abbrev bias (V : Valuation τ sig (Elt Ideal)) : FVec Ideal S128x9 .f32 :=
  broadcastInDim S128x9 ![0, 1] bcast_S1x9_S128x9_0_1 (broadcastInDim S1x9 ![1] bcast_S9_S1x9_1 (V (Proc.devRef .tc main_arg16)))

/-- Both graphs get the same bias there. -/
theorem bias_shared (V : Valuation τ sig (Elt Ideal)) : bias V second = bias V first := by
  refine congrArg (V (Proc.devRef .tc main_arg16)) (funext fun a => ?_)
  fin_cases a
  rfl

/-- The noise drawn for the two, as printed. -/
theorem noise_words : lit0 0 = 0x3F082D0C#32 ∧ lit0 9 = 0xBEA1A646#32 := ⟨rfl, rfl⟩

/-- With zero weights the cell error is the bias minus the noise. -/
theorem error_at (V : Valuation τ sig (Elt Ideal)) (hW : ∀ i, V (Proc.devRef .tc main_arg15) i = (0 : EReal))
    (i : S128x3x3.Idx) :
    res_main_v565 V i = bias V (Shape.reshapeEquiv shapeCasts_S128x9_S128x3x3 i) - Ideal.ofBits .f32 (lit0 (S128x3x3.rowMajor i)) := by
  unfold res_main_v565
  show ((_ : EReal) + bias V _) - _ = _
  refine congrArg₂ (fun x y : EReal => x - y) ?_ rfl
  exact (congrArg₂ (fun x y : EReal => x + y) (Loss.product_zero _ _ _ _ hW _) rfl).trans (zero_add _)

/-- The same in the layout the squares are averaged in: row-major positions are kept. -/
theorem error_eq (V : Valuation τ sig (Elt Ideal)) (hW : ∀ i, V (Proc.devRef .tc main_arg15) i = (0 : EReal))
    (k : S128x9.Idx) (n : Fin 1152) (hk : (S128x9.rowMajor k : ℕ) = n) (w : BitVec 32) (hw : lit0 n = w) :
    res_main_v565 V (Shape.reshapeEquiv shapeCasts_S128x3x3_S128x9 k) = bias V k - Ideal.ofBits .f32 w := by
  have hn : S128x3x3.rowMajor (Shape.reshapeEquiv shapeCasts_S128x3x3_S128x9 k) = n :=
    Fin.ext ((Shape.rowMajor_reshapeEquiv _ k).trans hk)
  have back : Shape.reshapeEquiv shapeCasts_S128x9_S128x3x3 (Shape.reshapeEquiv shapeCasts_S128x3x3_S128x9 k) = k := by
    rw [Shape.reshapeEquiv_reshapeEquiv, Shape.reshapeEquiv_self]
  exact (error_at V hW _).trans (congrArg₂ (fun (i : S128x9.Idx) (w : BitVec 32) => bias V i - Ideal.ofBits .f32 w) back
    ((congrArg lit0 hn).trans hw))

/-- The result as a term of the arguments, device by device. -/
def value : FVec Ideal S_ .f32 := addf (Host.divf (Host.reduceAdd (Host.divf (Host.reduceAdd (mulf (res_main_v573 (launchContents m c)) (res_main_v573 (launchContents m c))) (constant S_ .f32 0x00000000#32) reducesTo_S10000x3_S10000_d1 h_S_) (broadcastInDim S10000 ![] bcast_S_S10000 (constant S_ .f32 0x40400000#32))) (constant S_ .f32 0x00000000#32) reducesTo_S10000_S_d0 h_S_) (constant S_ .f32 0x461C4000#32)) (Host.divf (Host.reduceAdd (Host.divf (Host.reduceAdd (shapeCast _ (mulf (res_main_v565 (launchContents m c)) (res_main_v565 (launchContents m c))) shapeCasts_S128x3x3_S128x9) (constant S_ .f32 0x00000000#32) reducesTo_S128x9_S128_d1 h_S_) (broadcastInDim S128 ![] bcast_S_S128 (constant S_ .f32 0x41100000#32))) (constant S_ .f32 0x00000000#32) reducesTo_S128_S_d0 h_S_) (constant S_ .f32 0x43000000#32))

/-- With zero weights the result is positive. -/
theorem positive (hW : ∀ i, m ((c.tc : Thread nD τ).loc main_arg15) i = (0 : EReal)) (j : S_.Idx) :
    (0 : EReal) < value m c j := by
  unfold value
  obtain ⟨k, hk⟩ : ∃ k, res_main_v565 (launchContents m c) (Shape.reshapeEquiv shapeCasts_S128x3x3_S128x9 k) ≠ (0 : EReal) := by
    rcases Loss.misses (bias (launchContents m c) first) with h | h
    · exact ⟨first, ne_of_eq_of_ne (error_eq _ hW first 0 (by decide) _ noise_words.1) h⟩
    · exact ⟨second, ne_of_eq_of_ne (error_eq _ hW second 9 (by decide) _ noise_words.2) (by rw [bias_shared]; exact h)⟩
  refine Loss.loss_pos _ _ _ _ _ _ 3 10000 (by norm_num) (by norm_num) (fun _ => Loss.three) (fun _ => Loss.tenthousand)
    (fun i => Loss.square_nonneg _) rfl _ _ _ _ _ 9 128 (by norm_num) (by norm_num) (fun _ => Loss.nine)
    (fun _ => Loss.onetwentyeight) (fun i => Loss.square_nonneg _) k ?_ j
  exact Loss.square_pos hk

/-- Every run, over whichever memory, ends with that value. -/
theorem runs (ρ : Dev nD → PrngReg) : θ_run defs (onTc (τ := τ) (main (F := Ideal))) ⟨m, fun _ => 0, ρ⟩ fun r =>
    ∀ c : Dev nD, r.2.mem ((c.tc : Thread nD τ).loc main_v580) = value m c := by
  exact (θ_run defs _ _).mono (fun r h c => (h c).1) (Value.run m ρ)

end Cert.ReferenceAtIdeal.Positive

end
-- ==== Proof.Disproof.lean ====
/- The value claim is false: at the recorded arrays the kernel's result is zero and the reference's is positive. The arrays
   have a lattice readout of zero weights, where the reference's result cannot be zero. -/
module

public import proofs.«01_k».proof.Defs
public import proofs.«01_k».proof.Proof.KernelAtIdealRun
public import proofs.«01_k».proof.Proof.ReferenceAtIdealPositive

@[expose] public section

noncomputable section

namespace Cert.Disproof

open Idealize.ShloMosaic Idealize.ShloMosaic.TcCoe Idealize.SL.Sem

set_option maxRecDepth 4096 in
/-- The lattice readout's weights, as recorded, are all the zero pattern. -/
theorem readout_words : Cx_KernelAtIdeal.arg15_words = fun _ _ => 0x00000000#32 := by
  have row : (![] : Fin 0 → BitVec 32) = fun _ => 0x00000000#32 := Subsingleton.elim _ _
  have rows : (![] : Fin 0 → Fin 9 → BitVec 32) = fun _ _ => 0x00000000#32 := Subsingleton.elim _ _
  simp only [Cx_KernelAtIdeal.arg15_words, row, rows, Matrix.vecCons_const]

/-- Read as extended reals, the weights are zero. -/
theorem readout_zero (i : (⟨2, ![128, 9]⟩ : Shape).Idx) : Cx_KernelAtIdeal.arg15 (F := Ideal) i = (0 : EReal) := by
  unfold Cx_KernelAtIdeal.arg15
  rw [readout_words]
  exact Ideal.ofBits_zero_f32

/-- The kernel's and the reference's results differ at the recorded arrays, in every run of both. -/
theorem differs : disproves_algebraic_KernelAtIdeal_ReferenceAtIdeal := by
  intro m g m' g' pinned agree
  refine ⟨trivial, fun c => ReferenceAtIdeal.Positive.value m' c, ?_, ReferenceAtIdeal.Positive.runs m' g'⟩
  refine (θ_run _ _ _).mono (fun r h all => ?_) (KernelAtIdeal.Launched.run m g)
  obtain ⟨-, -, -, -, -, -, -, -, -, -, -, -, -, -, -, hW, -⟩ := pinned 0
  obtain ⟨-, -, -, -, -, -, -, -, -, -, -, -, -, -, -, aW, -⟩ := agree 0
  have hpos := ReferenceAtIdeal.Positive.positive m' 0
    (fun i => (congrFun (aW.trans hW) i).trans (readout_zero i)) (fun a => a.elim0)
  have e := congrFun ((h 0).symm.trans (all 0)) (fun a => a.elim0)
  exact absurd (hpos.trans_eq (e.symm.trans Ideal.ofBits_zero_f32)) (lt_irrefl _)

end Cert.Disproof

end
-- ==== Proof.lean ====
/- The claims, assembled. Kernel and idealized kernel: the result is zero and nothing else changes. Reference: a sum of two
   means of squares, positive where the weights of its lattice readout are zero. The value claim: false, as Disproof.lean shows. -/
module

public import proofs.«01_k».proof.Defs
public import proofs.«01_k».proof.Proof.Gen.Pre_no_readout
public import proofs.«01_k».proof.Proof.Gen.Post_is_zero
public import proofs.«01_k».proof.Proof.Gen.Post_is_positive
public import proofs.«01_k».proof.Proof.Gen.ReferenceIdeal.Run
public import proofs.«01_k».proof.Proof.Gen.ReferenceAtIdeal.Run
public import proofs.«01_k».proof.Proof.KernelRun
public import proofs.«01_k».proof.Proof.KernelIdealRun
public import proofs.«01_k».proof.Proof.ReferenceIdealPositive
public import proofs.«01_k».proof.Proof.Disproof
public import Idealize.ShloMosaic.Adequacy
public import Idealize.ShloMosaic.Init

@[expose] public section

noncomputable section

namespace Cert.Proof

open Idealize.ShloMosaic Idealize.SL.Sem

/-- The kernel as printed leaves its arguments and every counter as they were. -/
theorem kernel_quiescent : quiescent_Kernel := fun m g _ =>
  (θ_run _ _ _).mono (fun r h => ⟨fun c => ⟨(h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide)⟩, h.2⟩) (Kernel.Launched.run m g)

/-- So does the idealized kernel. -/
theorem kernelIdeal_quiescent : quiescent_KernelIdeal := fun m g _ =>
  (θ_run _ _ _).mono (fun r h => ⟨fun c => ⟨(h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide)⟩, h.2⟩) (KernelIdeal.Launched.run m g)

/-- So does the reference. -/
theorem reference_quiescent : quiescent_ReferenceIdeal := fun m g _ =>
  (θ_run _ _ _).mono (fun r h => ⟨fun c => (h.1 c).2, h.2⟩) (ReferenceIdeal.Positive.runs m g)

/-- Also where those weights are zero. -/
theorem reference_quiescent_no_readout : quiescent_ReferenceIdeal_pre_no_readout := fun m g _ =>
  reference_quiescent m g trivial

/-- The comparison for equality answers one exactly at equal values. -/
theorem equal_bit (x y : EReal) : Ideal.cmp .oeq x y = 1#1 ↔ x = y := by
  unfold Ideal.cmp
  by_cases h : x = y <;> simp [h]

/-- The comparison "greater" answers one where the first value is greater. -/
theorem greater_bit {x y : EReal} (h : y < x) : Ideal.cmp .ogt x y = 1#1 := by
  unfold Ideal.cmp
  simp [h]

/-- An entry the precondition finds equal to the zero pattern is zero. -/
theorem entry_zero {x : EReal} (h : Ideal.cmp .oeq x (Ideal.ofBits .f32 0x00000000#32) = 1#1) : x = 0 :=
  ((equal_bit _ _).1 h).trans Ideal.ofBits_zero_f32

/-- The idealized kernel's result is zero, whatever its arguments. -/
theorem kernel_is_zero : holds_KernelIdeal_is_zero := fun m g _ =>
  (θ_run _ _ _).mono (fun r h c => by
    refine ⟨(h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), (h.1 c).1 _ rfl (by decide) (by decide), funext fun j => ?_⟩
    exact (equal_bit _ _).2 (congrFun (h.1 c).2 j)) (KernelIdeal.Launched.run m g)

/-- The reference's result is positive where the weights of its lattice readout are zero. -/
theorem reference_is_positive : holds_ReferenceIdeal_is_positive_pre_no_readout := fun m g pre =>
  (θ_run _ _ _).mono (fun r h c => by
    obtain ⟨hpos, a0, a1, a2, a3, a4, a5, a6, a7, a8, a9, a10, a11, a12, a13, a14, a15, a16, a17, a18, a19, a20, a21⟩ := h.1 c
    refine ⟨a0, a1, a2, a3, a4, a5, a6, a7, a8, a9, a10, a11, a12, a13, a14, a15, a16, a17, a18, a19, a20, a21, funext fun j => ?_⟩
    refine greater_bit ?_
    rw [show constant (F := Ideal) Post_is_positive.S_ .f32 0x00000000#32 j = (0 : EReal) from Ideal.ofBits_zero_f32]
    exact hpos (fun i => entry_zero (congrFun (pre c) i)) j) (ReferenceIdeal.Positive.runs m g)

theorem claim : Cert.Claim := ⟨Cert.Kernel.Gen.facts, Cert.KernelIdeal.Gen.facts, Cert.ReferenceIdeal.Gen.facts,
  Cert.KernelAtIdeal.Gen.facts, Cert.ReferenceAtIdeal.Gen.facts, Cert.Pre_no_readout.Gen.facts,
  Cert.Post_is_zero.Gen.facts, Cert.Post_is_positive.Gen.facts, kernel_quiescent, kernelIdeal_quiescent,
  reference_quiescent, reference_quiescent_no_readout, trivial, kernel_is_zero, reference_is_positive,
  Disproof.differs⟩

end Cert.Proof

end
